-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ preserves_Kernel_KernelIdeal
    ∧ algebraic_KernelIdeal_ReferenceIdeal (hKernelIdeal := hKernelIdeal) (hReferenceIdeal := hReferenceIdeal) (hPre_routed := hPre_routed)
-- ==== Pre_routed.lean ====
abbrev S8x32768 : Shape := ⟨2, ![8, 32768]⟩
abbrev S256x4x128 : Shape := ⟨3, ![256, 4, 128]⟩
abbrev S256x1x4 : Shape := ⟨3, ![256, 1, 4]⟩
abbrev S32768x3072 : Shape := ⟨2, ![32768, 3072]⟩
abbrev S249037x3072 : Shape := ⟨2, ![249037, 3072]⟩
abbrev S249037x24 : Shape := ⟨2, ![249037, 24]⟩
abbrev S32768x8 : Shape := ⟨2, ![32768, 8]⟩
abbrev S1x256x4x1x1 : Shape := ⟨5, ![1, 256, 4, 1, 1]⟩
abbrev S1x256x4x1x128 : Shape := ⟨5, ![1, 256, 4, 1, 128]⟩
abbrev S_ : Shape := ⟨0, ![]⟩
abbrev S1024x128 : Shape := ⟨2, ![1024, 128]⟩
abbrev S1024x1 : Shape := ⟨2, ![1024, 1]⟩
abbrev S1024x128x128 : Shape := ⟨3, ![1024, 128, 128]⟩
abbrev S1024x128x1 : Shape := ⟨3, ![1024, 128, 1]⟩
abbrev S1024x1024x128 : Shape := ⟨3, ![1024, 1024, 128]⟩
abbrev S1x1024x128 : Shape := ⟨3, ![1, 1024, 128]⟩
abbrev S8x256x4x32x1 : Shape := ⟨5, ![8, 256, 4, 32, 1]⟩
abbrev S1x1x1x1x128 : Shape := ⟨5, ![1, 1, 1, 1, 128]⟩
abbrev S8x256x4x32x128 : Shape := ⟨5, ![8, 256, 4, 32, 128]⟩

class Facts : Prop where
  shapeCasts_S256x1x4_S1x256x4x1x1 : S256x1x4.ShapeCasts S1x256x4x1x1
  shapeCasts_S256x4x128_S1x256x4x1x128 : S256x4x128.ShapeCasts S1x256x4x1x128
  bcast_S_S1x256x4x1x1 : S_.BroadcastsInDim S1x256x4x1x1 (![] : Fin 0 → Fin S1x256x4x1x1.rank)
  bcast_S1x256x4x1x1_S1x256x4x1x128_0_1_2_3_4 : S1x256x4x1x1.BroadcastsInDim S1x256x4x1x128 (![0, 1, 2, 3, 4] : Fin 5 → Fin S1x256x4x1x128.rank)
  bcast_S_S1x256x4x1x128 : S_.BroadcastsInDim S1x256x4x1x128 (![] : Fin 0 → Fin S1x256x4x1x128.rank)
  shapeCasts_S256x4x128_S1024x128 : S256x4x128.ShapeCasts S1024x128
  bcast_S_S1024x128 : S_.BroadcastsInDim S1024x128 (![] : Fin 0 → Fin S1024x128.rank)
  shapeCasts_S256x1x4_S1024x1 : S256x1x4.ShapeCasts S1024x1
  bcast_S1024x1_S1024x128_0_1 : S1024x1.BroadcastsInDim S1024x128 (![0, 1] : Fin 2 → Fin S1024x128.rank)
  bcast_S1024x128_S1024x128x1_0_1 : S1024x128.BroadcastsInDim S1024x128x1 (![0, 1] : Fin 2 → Fin S1024x128x1.rank)
  bcast_S1024x128x1_S1024x128x128_0_1_2 : S1024x128x1.BroadcastsInDim S1024x128x128 (![0, 1, 2] : Fin 3 → Fin S1024x128x128.rank)
  bcast_S_S1024x128x128 : S_.BroadcastsInDim S1024x128x128 (![] : Fin 0 → Fin S1024x128x128.rank)
  reducesTo_S1024x128x128_S1024x128_d1 : S1024x128x128.ReducesTo [1] S1024x128
  h_S_ : 0 < S_.numel
  bcast_S1024x128_S1x1024x128_1_2 : S1024x128.BroadcastsInDim S1x1024x128 (![1, 2] : Fin 2 → Fin S1x1024x128.rank)
  bcast_S1x1024x128_S1024x1024x128_0_1_2 : S1x1024x128.BroadcastsInDim S1024x1024x128 (![0, 1, 2] : Fin 3 → Fin S1024x1024x128.rank)
  bcast_S_S1024x1024x128 : S_.BroadcastsInDim S1024x1024x128 (![] : Fin 0 → Fin S1024x1024x128.rank)
  reducesTo_S1024x1024x128_S1024x128_d1 : S1024x1024x128.ReducesTo [1] S1024x128
  shapeCasts_S8x32768_S8x256x4x32x1 : S8x32768.ShapeCasts S8x256x4x32x1
  transposes_S32768x8_S8x32768_1_0 : S32768x8.Transposes [1, 0] S8x32768
  bcast_S_S8x256x4x32x1 : S_.BroadcastsInDim S8x256x4x32x1 (![] : Fin 0 → Fin S8x256x4x32x1.rank)
  shapeCasts_S1024x128_S1x256x4x1x128 : S1024x128.ShapeCasts S1x256x4x1x128
  bcast_S1x1x1x1x128_S8x256x4x32x128_0_1_2_3_4 : S1x1x1x1x128.BroadcastsInDim S8x256x4x32x128 (![0, 1, 2, 3, 4] : Fin 5 → Fin S8x256x4x32x128.rank)
  bcast_S8x256x4x32x1_S8x256x4x32x128_0_1_2_3_4 : S8x256x4x32x1.BroadcastsInDim S8x256x4x32x128 (![0, 1, 2, 3, 4] : Fin 5 → Fin S8x256x4x32x128.rank)
  bcast_S1x256x4x1x128_S8x256x4x32x128_0_1_2_3_4 : S1x256x4x1x128.BroadcastsInDim S8x256x4x32x128 (![0, 1, 2, 3, 4] : Fin 5 → Fin S8x256x4x32x128.rank)

variable [Facts]

def fn_where {F : FTy → Type} [FloatOps F] (arg0 : IVec S1024x128 1) (arg1 : IVec S1024x128 32) (arg2 : IVec S_ 32) : IVec S1024x128 32 :=
  let v0 : IVec S_ 32 := id arg2
  let v1 : IVec S1024x128 32 := broadcastInDim S1024x128 ![] bcast_S_S1024x128 v0
  let v2 : IVec S1024x128 32 := select arg0 arg1 v1
  v2

def fn_where_0 {F : FTy → Type} [FloatOps F] (arg0 : IVec S1024x128x128 1) (arg1 : IVec S1024x128x1 32) (arg2 : IVec S_ 32) : IVec S1024x128x128 32 :=
  let v0 : IVec S_ 32 := id arg2
  let v1 : IVec S1024x128x128 32 := broadcastInDim S1024x128x128 ![0, 1, 2] bcast_S1024x128x1_S1024x128x128_0_1_2 arg1
  let v2 : IVec S1024x128x128 32 := broadcastInDim S1024x128x128 ![] bcast_S_S1024x128x128 v0
  let v3 : IVec S1024x128x128 32 := select arg0 v1 v2
  v3

def fn_where_1 {F : FTy → Type} [FloatOps F] (arg0 : IVec S1024x1024x128 1) (arg1 : IVec S1x1024x128 32) (arg2 : IVec S_ 32) : IVec S1024x1024x128 32 :=
  let v0 : IVec S_ 32 := id arg2
  let v1 : IVec S1024x1024x128 32 := broadcastInDim S1024x1024x128 ![0, 1, 2] bcast_S1x1024x128_S1024x1024x128_0_1_2 arg1
  let v2 : IVec S1024x1024x128 32 := broadcastInDim S1024x1024x128 ![] bcast_S_S1024x1024x128 v0
  let v3 : IVec S1024x1024x128 32 := select arg0 v1 v2
  v3

def fn_part6 {F : FTy → Type} [FloatOps F] (main_v54 : FVec F S8x256x4x32x1 .f32) (main_v102 : IVec S8x256x4x32x128 1) (main_v111 : IVec S8x256x4x32x128 1) (main_v112 : FVec F S8x256x4x32x1 .f32) : IVec S8x256x4x32x128 1 :=
  let main_v113 : IVec S8x256x4x32x1 1 := cmpf .oeq main_v54 main_v112
  let main_v114 : IVec S8x256x4x32x128 1 := broadcastInDim S8x256x4x32x128 ![0, 1, 2, 3, 4] bcast_S8x256x4x32x1_S8x256x4x32x128_0_1_2_3_4 main_v113
  let main_v115 : IVec S8x256x4x32x128 1 := ori main_v114 main_v102
  let main_v116 : IVec S8x256x4x32x128 1 := andi main_v111 main_v115
  main_v116

def fn_part5 {F : FTy → Type} [FloatOps F] (main_v17 : IVec S1x256x4x1x128 1) (main_v53 : IVec S8x256x4x32x1 32) (main_v54 : FVec F S8x256x4x32x1 .f32) (main_v56 : IVec S8x256x4x32x1 32) (main_v87 : IVec S8x256x4x32x1 1) (main_v88 : IVec S8x256x4x32x128 1) (main_v90 : IVec S1x256x4x1x128 1) (main_v92 : IVec S1x256x4x1x128 32) : IVec S8x256x4x32x128 1 :=
  let main_c_26 : IVec S_ 32 := constantI S_ 32 5#32
  let main_v93 : IVec S8x256x4x32x1 32 := broadcastInDim S8x256x4x32x1 ![] bcast_S_S8x256x4x32x1 main_c_26
  let main_v94 : IVec S8x256x4x32x1 32 := Host.shrsi main_v56 main_v93
  let main_v95 : IVec S8x256x4x32x128 32 := broadcastInDim S8x256x4x32x128 ![0, 1, 2, 3, 4] bcast_S1x256x4x1x128_S8x256x4x32x128_0_1_2_3_4 main_v92
  let main_v96 : IVec S8x256x4x32x128 32 := broadcastInDim S8x256x4x32x128 ![0, 1, 2, 3, 4] bcast_S8x256x4x32x1_S8x256x4x32x128_0_1_2_3_4 main_v94
  let main_v97 : IVec S8x256x4x32x128 1 := cmpi .eq main_v95 main_v96
  let main_v98 : IVec S8x256x4x32x128 1 := broadcastInDim S8x256x4x32x128 ![0, 1, 2, 3, 4] bcast_S1x256x4x1x128_S8x256x4x32x128_0_1_2_3_4 main_v90
  let main_v99 : IVec S8x256x4x32x128 1 := andi main_v98 main_v97
  let main_v100 : IVec S8x256x4x32x128 1 := ori main_v88 main_v99
  let main_v101 : IVec S8x256x4x32x128 1 := broadcastInDim S8x256x4x32x128 ![0, 1, 2, 3, 4] bcast_S8x256x4x32x1_S8x256x4x32x128_0_1_2_3_4 main_v87
  let main_v102 : IVec S8x256x4x32x128 1 := andi main_v101 main_v100
  let main_c_27 : IVec S_ 32 := constantI S_ 32 0#32
  let main_v103 : IVec S8x256x4x32x1 32 := broadcastInDim S8x256x4x32x1 ![] bcast_S_S8x256x4x32x1 main_c_27
  let main_v104 : IVec S8x256x4x32x1 1 := cmpi .sge main_v53 main_v103
  let main_v105 : IVec S8x256x4x32x128 1 := broadcastInDim S8x256x4x32x128 ![0, 1, 2, 3, 4] bcast_S1x256x4x1x128_S8x256x4x32x128_0_1_2_3_4 main_v17
  let main_v106 : IVec S8x256x4x32x128 1 := broadcastInDim S8x256x4x32x128 ![0, 1, 2, 3, 4] bcast_S8x256x4x32x1_S8x256x4x32x128_0_1_2_3_4 main_v104
  let main_v107 : IVec S8x256x4x32x128 1 := andi main_v105 main_v106
  let main_c_28 : IVec S_ 32 := constantI S_ 32 102400#32
  let main_v108 : IVec S8x256x4x32x1 32 := broadcastInDim S8x256x4x32x1 ![] bcast_S_S8x256x4x32x1 main_c_28
  let main_v109 : IVec S8x256x4x32x1 1 := cmpi .sle main_v53 main_v108
  let main_v110 : IVec S8x256x4x32x128 1 := broadcastInDim S8x256x4x32x128 ![0, 1, 2, 3, 4] bcast_S8x256x4x32x1_S8x256x4x32x128_0_1_2_3_4 main_v109
  let main_v111 : IVec S8x256x4x32x128 1 := andi main_v107 main_v110
  let main_cst : FVec F S_ .f32 := constant S_ .f32 0x00000000#32
  let main_v112 : FVec F S8x256x4x32x1 .f32 := broadcastInDim S8x256x4x32x1 ![] bcast_S_S8x256x4x32x1 main_cst
  fn_part6 (F := F) main_v54 main_v102 main_v111 main_v112

def fn_part4 {F : FTy → Type} [FloatOps F] (main_v17 : IVec S1x256x4x1x128 1) (main_v53 : IVec S8x256x4x32x1 32) (main_v54 : FVec F S8x256x4x32x1 .f32) (main_v56 : IVec S8x256x4x32x1 32) (main_v58 : IVec S8x256x4x32x1 32) (main_v59 : IVec S1x256x4x1x128 32) (main_v70 : IVec S8x256x4x32x128 1) (main_v72 : IVec S8x256x4x32x1 1) (main_v74 : IVec S8x256x4x32x1 1) : IVec S8x256x4x32x128 1 :=
  let main_v75 : IVec S8x256x4x32x1 1 := andi main_v72 main_v74
  let main_c_20 : IVec S_ 32 := constantI S_ 32 102400#32
  let main_v76 : IVec S8x256x4x32x1 32 := broadcastInDim S8x256x4x32x1 ![] bcast_S_S8x256x4x32x1 main_c_20
  let main_v77 : IVec S8x256x4x32x1 1 := cmpi .slt main_v53 main_v76
  let main_v78 : IVec S8x256x4x32x1 1 := andi main_v75 main_v77
  let main_c_21 : IVec S_ 32 := constantI S_ 32 1600#32
  let main_v79 : IVec S8x256x4x32x1 32 := broadcastInDim S8x256x4x32x1 ![] bcast_S_S8x256x4x32x1 main_c_21
  let main_v80 : IVec S8x256x4x32x1 32 := muli main_v58 main_v79
  let main_c_22 : IVec S_ 32 := constantI S_ 32 63#32
  let main_v81 : IVec S8x256x4x32x1 32 := broadcastInDim S8x256x4x32x1 ![] bcast_S_S8x256x4x32x1 main_c_22
  let main_v82 : IVec S8x256x4x32x1 32 := andi main_v56 main_v81
  let main_c_23 : IVec S_ 32 := constantI S_ 32 25#32
  let main_v83 : IVec S8x256x4x32x1 32 := broadcastInDim S8x256x4x32x1 ![] bcast_S_S8x256x4x32x1 main_c_23
  let main_v84 : IVec S8x256x4x32x1 32 := muli main_v82 main_v83
  let main_v85 : IVec S8x256x4x32x1 32 := addi main_v80 main_v84
  let main_v86 : IVec S8x256x4x32x1 1 := cmpi .eq main_v53 main_v85
  let main_v87 : IVec S8x256x4x32x1 1 := andi main_v78 main_v86
  let main_v88 : IVec S8x256x4x32x128 1 := noti main_v70
  let main_c_24 : IVec S_ 32 := constantI S_ 32 0#32
  let main_v89 : IVec S1x256x4x1x128 32 := broadcastInDim S1x256x4x1x128 ![] bcast_S_S1x256x4x1x128 main_c_24
  let main_v90 : IVec S1x256x4x1x128 1 := cmpi .sge main_v59 main_v89
  let main_c_25 : IVec S_ 32 := constantI S_ 32 8191#32
  let main_v91 : IVec S1x256x4x1x128 32 := broadcastInDim S1x256x4x1x128 ![] bcast_S_S1x256x4x1x128 main_c_25
  let main_v92 : IVec S1x256x4x1x128 32 := andi main_v59 main_v91
  fn_part5 (F := F) main_v17 main_v53 main_v54 main_v56 main_v87 main_v88 main_v90 main_v92

def fn_part3 {F : FTy → Type} [FloatOps F] (main_v17 : IVec S1x256x4x1x128 1) (main_v52 : IVec S1024x128 32) (main_v53 : IVec S8x256x4x32x1 32) (main_v54 : FVec F S8x256x4x32x1 .f32) (main_v56 : IVec S8x256x4x32x1 32) : IVec S8x256x4x32x128 1 :=
  let main_c_14 : IVec S_ 32 := constantI S_ 32 1600#32
  let main_v57 : IVec S8x256x4x32x1 32 := broadcastInDim S8x256x4x32x1 ![] bcast_S_S8x256x4x32x1 main_c_14
  let main_v58 : IVec S8x256x4x32x1 32 := Host.divsi main_v53 main_v57
  let main_v59 : IVec S1x256x4x1x128 32 := shapeCast S1x256x4x1x128 main_v52 shapeCasts_S1024x128_S1x256x4x1x128
  let main_v60 : IVec S1x1x1x1x128 32 := iotaInDim S1x1x1x1x128 32 4
  let main_c_15 : IVec S_ 32 := constantI S_ 32 2#32
  let main_v61 : IVec S8x256x4x32x1 32 := broadcastInDim S8x256x4x32x1 ![] bcast_S_S8x256x4x32x1 main_c_15
  let main_v62 : IVec S8x256x4x32x1 32 := muli main_v58 main_v61
  let main_c_16 : IVec S_ 32 := constantI S_ 32 5#32
  let main_v63 : IVec S8x256x4x32x1 32 := broadcastInDim S8x256x4x32x1 ![] bcast_S_S8x256x4x32x1 main_c_16
  let main_v64 : IVec S8x256x4x32x1 32 := Host.shrsi main_v56 main_v63
  let main_c_17 : IVec S_ 32 := constantI S_ 32 1#32
  let main_v65 : IVec S8x256x4x32x1 32 := broadcastInDim S8x256x4x32x1 ![] bcast_S_S8x256x4x32x1 main_c_17
  let main_v66 : IVec S8x256x4x32x1 32 := andi main_v64 main_v65
  let main_v67 : IVec S8x256x4x32x1 32 := addi main_v62 main_v66
  let main_v68 : IVec S8x256x4x32x128 32 := broadcastInDim S8x256x4x32x128 ![0, 1, 2, 3, 4] bcast_S1x1x1x1x128_S8x256x4x32x128_0_1_2_3_4 main_v60
  let main_v69 : IVec S8x256x4x32x128 32 := broadcastInDim S8x256x4x32x128 ![0, 1, 2, 3, 4] bcast_S8x256x4x32x1_S8x256x4x32x128_0_1_2_3_4 main_v67
  let main_v70 : IVec S8x256x4x32x128 1 := cmpi .eq main_v68 main_v69
  let main_c_18 : IVec S_ 32 := constantI S_ 32 0#32
  let main_v71 : IVec S8x256x4x32x1 32 := broadcastInDim S8x256x4x32x1 ![] bcast_S_S8x256x4x32x1 main_c_18
  let main_v72 : IVec S8x256x4x32x1 1 := cmpi .sge main_v56 main_v71
  let main_c_19 : IVec S_ 32 := constantI S_ 32 249037#32
  let main_v73 : IVec S8x256x4x32x1 32 := broadcastInDim S8x256x4x32x1 ![] bcast_S_S8x256x4x32x1 main_c_19
  let main_v74 : IVec S8x256x4x32x1 1 := cmpi .slt main_v56 main_v73
  fn_part4 (F := F) main_v17 main_v53 main_v54 main_v56 main_v58 main_v59 main_v70 main_v72 main_v74

def fn_part2 {F : FTy → Type} [FloatOps F] (main_arg0 : IVec S8x32768 32) (main_arg1 : FVec F S8x32768 .f32) (main_arg7 : IVec S32768x8 32) (main_v17 : IVec S1x256x4x1x128 1) (main_v22 : IVec S1024x128 32) (main_v33 : IVec S1024x128 32) (main_v36 : IVec S1024x128 32) (main_c_9 : IVec S_ 32) : IVec S8x256x4x32x128 1 :=
  let main_v37 : IVec S1024x128 32 := broadcastInDim S1024x128 ![] bcast_S_S1024x128 main_c_9
  let main_v38 : IVec S1024x128 32 := muli main_v36 main_v37
  let main_v39 : IVec S1024x128 32 := addi main_v38 main_v22
  let main_v40 : IVec S1024x128x128 32 := iotaInDim S1024x128x128 32 2
  let main_v41 : IVec S1024x128x1 32 := broadcastInDim S1024x128x1 ![0, 1] bcast_S1024x128_S1024x128x1_0_1 main_v33
  let main_v42 : IVec S1024x128x128 32 := broadcastInDim S1024x128x128 ![0, 1, 2] bcast_S1024x128x1_S1024x128x128_0_1_2 main_v41
  let main_v43 : IVec S1024x128x128 1 := cmpi .eq main_v42 main_v40
  let main_v44 : IVec S1024x128x1 32 := broadcastInDim S1024x128x1 ![0, 1] bcast_S1024x128_S1024x128x1_0_1 main_v39
  let main_c_10 : IVec S_ 32 := constantI S_ 32 4294967295#32
  let main_v45 : IVec S1024x128x128 32 := fn_where_0 (F := F) main_v43 main_v44 main_c_10
  let main_c_11 : IVec S_ 32 := constantI S_ 32 2147483648#32
  let main_v46 : IVec S1024x128 32 := (fun x v => Host.reduce IntOp.maxsi x v reducesTo_S1024x128x128_S1024x128_d1 h_S_) main_v45 main_c_11
  let main_v47 : IVec S1024x1024x128 32 := iotaInDim S1024x1024x128 32 1
  let main_v48 : IVec S1024x1024x128 32 := iotaInDim S1024x1024x128 32 0
  let main_v49 : IVec S1024x1024x128 1 := cmpi .sle main_v47 main_v48
  let main_v50 : IVec S1x1024x128 32 := broadcastInDim S1x1024x128 ![1, 2] bcast_S1024x128_S1x1024x128_1_2 main_v46
  let main_c_12 : IVec S_ 32 := constantI S_ 32 4294967295#32
  let main_v51 : IVec S1024x1024x128 32 := fn_where_1 (F := F) main_v49 main_v50 main_c_12
  let main_c_13 : IVec S_ 32 := constantI S_ 32 2147483648#32
  let main_v52 : IVec S1024x128 32 := (fun x v => Host.reduce IntOp.maxsi x v reducesTo_S1024x1024x128_S1024x128_d1 h_S_) main_v51 main_c_13
  let main_v53 : IVec S8x256x4x32x1 32 := shapeCast S8x256x4x32x1 main_arg0 shapeCasts_S8x32768_S8x256x4x32x1
  let main_v54 : FVec F S8x256x4x32x1 .f32 := shapeCast S8x256x4x32x1 main_arg1 shapeCasts_S8x32768_S8x256x4x32x1
  let main_v55 : IVec S8x32768 32 := (transpose S8x32768 [1, 0] · transposes_S32768x8_S8x32768_1_0) main_arg7
  let main_v56 : IVec S8x256x4x32x1 32 := shapeCast S8x256x4x32x1 main_v55 shapeCasts_S8x32768_S8x256x4x32x1
  fn_part3 (F := F) main_v17 main_v52 main_v53 main_v54 main_v56

def fn_part1 {F : FTy → Type} [FloatOps F] (main_arg0 : IVec S8x32768 32) (main_arg1 : FVec F S8x32768 .f32) (main_arg3 : IVec S256x1x4 32) (main_arg7 : IVec S32768x8 32) (main_v17 : IVec S1x256x4x1x128 1) (main_v18 : IVec S1024x128 32) (main_v19 : IVec S1024x128 32) : IVec S8x256x4x32x128 1 :=
  let main_v20 : IVec S1024x128 32 := iotaInDim S1024x128 32 0
  let main_c_3 : IVec S_ 32 := constantI S_ 32 6#32
  let main_v21 : IVec S1024x128 32 := broadcastInDim S1024x128 ![] bcast_S_S1024x128 main_c_3
  let main_v22 : IVec S1024x128 32 := Host.shrsi main_v18 main_v21
  let main_v23 : IVec S1024x1 32 := shapeCast S1024x1 main_arg3 shapeCasts_S256x1x4_S1024x1
  let main_v24 : IVec S1024x128 32 := broadcastInDim S1024x128 ![0, 1] bcast_S1024x1_S1024x128_0_1 main_v23
  let main_v25 : IVec S1024x128 1 := cmpi .slt main_v19 main_v24
  let main_c_4 : IVec S_ 32 := constantI S_ 32 63#32
  let main_v26 : IVec S1024x128 32 := broadcastInDim S1024x128 ![] bcast_S_S1024x128 main_c_4
  let main_v27 : IVec S1024x128 32 := andi main_v18 main_v26
  let main_c_5 : IVec S_ 32 := constantI S_ 32 2#32
  let main_v28 : IVec S1024x128 32 := broadcastInDim S1024x128 ![] bcast_S_S1024x128 main_c_5
  let main_v29 : IVec S1024x128 32 := muli main_v27 main_v28
  let main_c_6 : IVec S_ 32 := constantI S_ 32 1#32
  let main_v30 : IVec S1024x128 32 := broadcastInDim S1024x128 ![] bcast_S_S1024x128 main_c_6
  let main_v31 : IVec S1024x128 32 := andi main_v22 main_v30
  let main_v32 : IVec S1024x128 32 := addi main_v29 main_v31
  let main_c_7 : IVec S_ 32 := constantI S_ 32 4294967295#32
  let main_v33 : IVec S1024x128 32 := fn_where (F := F) main_v25 main_v32 main_c_7
  let main_c_8 : IVec S_ 32 := constantI S_ 32 128#32
  let main_v34 : IVec S1024x128 32 := broadcastInDim S1024x128 ![] bcast_S_S1024x128 main_c_8
  let main_v35 : IVec S1024x128 32 := muli main_v20 main_v34
  let main_v36 : IVec S1024x128 32 := addi main_v35 main_v19
  let main_c_9 : IVec S_ 32 := constantI S_ 32 8192#32
  fn_part2 (F := F) main_arg0 main_arg1 main_arg7 main_v17 main_v22 main_v33 main_v36 main_c_9

def fn {F : FTy → Type} [FloatOps F] (main_arg0 : IVec S8x32768 32) (main_arg1 : FVec F S8x32768 .f32) (main_arg2 : IVec S256x4x128 32) (main_arg3 : IVec S256x1x4 32) (main_arg4 : FVec F S32768x3072 .bf16) (main_arg5 : FVec F S249037x3072 .fp8e4m3) (main_arg6 : FVec F S249037x24 .f32) (main_arg7 : IVec S32768x8 32) : IVec S8x256x4x32x128 1 :=
  let main_v0 : IVec S1x256x4x1x1 32 := shapeCast S1x256x4x1x1 main_arg3 shapeCasts_S256x1x4_S1x256x4x1x1
  let main_v1 : IVec S1x256x4x1x128 32 := shapeCast S1x256x4x1x128 main_arg2 shapeCasts_S256x4x128_S1x256x4x1x128
  let main_v2 : IVec S1x256x4x1x128 32 := iotaInDim S1x256x4x1x128 32 4
  let main_c : IVec S_ 32 := constantI S_ 32 0#32
  let main_v3 : IVec S1x256x4x1x1 32 := broadcastInDim S1x256x4x1x1 ![] bcast_S_S1x256x4x1x1 main_c
  let main_v4 : IVec S1x256x4x1x1 1 := cmpi .sge main_v0 main_v3
  let main_c_0 : IVec S_ 32 := constantI S_ 32 128#32
  let main_v5 : IVec S1x256x4x1x1 32 := broadcastInDim S1x256x4x1x1 ![] bcast_S_S1x256x4x1x1 main_c_0
  let main_v6 : IVec S1x256x4x1x1 1 := cmpi .sle main_v0 main_v5
  let main_v7 : IVec S1x256x4x1x1 1 := andi main_v4 main_v6
  let main_v8 : IVec S1x256x4x1x128 32 := broadcastInDim S1x256x4x1x128 ![0, 1, 2, 3, 4] bcast_S1x256x4x1x1_S1x256x4x1x128_0_1_2_3_4 main_v0
  let main_v9 : IVec S1x256x4x1x128 1 := cmpi .sge main_v2 main_v8
  let main_c_1 : IVec S_ 32 := constantI S_ 32 0#32
  let main_v10 : IVec S1x256x4x1x128 32 := broadcastInDim S1x256x4x1x128 ![] bcast_S_S1x256x4x1x128 main_c_1
  let main_v11 : IVec S1x256x4x1x128 1 := cmpi .sge main_v1 main_v10
  let main_c_2 : IVec S_ 32 := constantI S_ 32 498112#32
  let main_v12 : IVec S1x256x4x1x128 32 := broadcastInDim S1x256x4x1x128 ![] bcast_S_S1x256x4x1x128 main_c_2
  let main_v13 : IVec S1x256x4x1x128 1 := cmpi .slt main_v1 main_v12
  let main_v14 : IVec S1x256x4x1x128 1 := andi main_v11 main_v13
  let main_v15 : IVec S1x256x4x1x128 1 := ori main_v9 main_v14
  let main_v16 : IVec S1x256x4x1x128 1 := broadcastInDim S1x256x4x1x128 ![0, 1, 2, 3, 4] bcast_S1x256x4x1x1_S1x256x4x1x128_0_1_2_3_4 main_v7
  let main_v17 : IVec S1x256x4x1x128 1 := andi main_v16 main_v15
  let main_v18 : IVec S1024x128 32 := shapeCast S1024x128 main_arg2 shapeCasts_S256x4x128_S1024x128
  let main_v19 : IVec S1024x128 32 := iotaInDim S1024x128 32 1
  fn_part1 (F := F) main_arg0 main_arg1 main_arg3 main_arg7 main_v17 main_v18 main_v19
-- ==== Kernel.lean ====
abbrev S8x32768 : Shape := ⟨2, ![8, 32768]⟩
abbrev S256x4x128 : Shape := ⟨3, ![256, 4, 128]⟩
abbrev S256x1x4 : Shape := ⟨3, ![256, 1, 4]⟩
abbrev S32768x3072 : Shape := ⟨2, ![32768, 3072]⟩
abbrev S249037x3072 : Shape := ⟨2, ![249037, 3072]⟩
abbrev S249037x24 : Shape := ⟨2, ![249037, 24]⟩
abbrev S32768x8 : Shape := ⟨2, ![32768, 8]⟩
abbrev S13x3072 : Shape := ⟨2, ![13, 3072]⟩
abbrev S19x3072 : Shape := ⟨2, ![19, 3072]⟩
abbrev S32x3072 : Shape := ⟨2, ![32, 3072]⟩
abbrev S8x128 : Shape := ⟨2, ![8, 128]⟩
abbrev S1x4x128 : Shape := ⟨3, ![1, 4, 128]⟩
abbrev S1x1x4 : Shape := ⟨3, ![1, 1, 4]⟩
abbrev S128x3072 : Shape := ⟨2, ![128, 3072]⟩
abbrev S32x24 : Shape := ⟨2, ![32, 24]⟩
abbrev S102432x128 : Shape := ⟨2, ![102432, 128]⟩
abbrev S3200x128 : Shape := ⟨2, ![3200, 128]⟩
abbrev S16x32x3072 : Shape := ⟨3, ![16, 32, 3072]⟩
abbrev S16x32x24 : Shape := ⟨3, ![16, 32, 24]⟩
abbrev S16 : Shape := ⟨1, ![16]⟩
abbrev S4 : Shape := ⟨1, ![4]⟩
abbrev S1 : Shape := ⟨1, ![1]⟩
abbrev S32x128 : Shape := ⟨2, ![32, 128]⟩
abbrev S1x1x1 : Shape := ⟨3, ![1, 1, 1]⟩
abbrev S_ : Shape := ⟨0, ![]⟩
abbrev S1x32x3072 : Shape := ⟨3, ![1, 32, 3072]⟩
abbrev S1x32x24 : Shape := ⟨3, ![1, 32, 24]⟩
abbrev S1x32x128 : Shape := ⟨3, ![1, 32, 128]⟩
abbrev S1x8x24 : Shape := ⟨3, ![1, 8, 24]⟩
abbrev S8x24 : Shape := ⟨2, ![8, 24]⟩
abbrev S8x104 : Shape := ⟨2, ![8, 104]⟩
abbrev S1x1 : Shape := ⟨2, ![1, 1]⟩
abbrev S1x128 : Shape := ⟨2, ![1, 128]⟩
abbrev S8x128x1 : Shape := ⟨3, ![8, 128, 1]⟩
abbrev S16x128 : Shape := ⟨2, ![16, 128]⟩

abbrev nBuf : Space → Nat
  | .hbm => 12
  | .vmem => 10
  | .smem => 13
  | _ => 0

abbrev bufTy : (tb : Table) → Fin (tcTables nBuf tb) → BufTy
  | .hbm, ⟨0, _⟩ => ⟨S8x32768, .i32⟩
  | .hbm, ⟨1, _⟩ => ⟨S8x32768, .f32⟩
  | .hbm, ⟨2, _⟩ => ⟨S256x4x128, .i32⟩
  | .hbm, ⟨3, _⟩ => ⟨S256x1x4, .i32⟩
  | .hbm, ⟨4, _⟩ => ⟨S32768x3072, .bf16⟩
  | .hbm, ⟨5, _⟩ => ⟨S249037x3072, .fp8e4m3⟩
  | .hbm, ⟨6, _⟩ => ⟨S249037x24, .f32⟩
  | .hbm, ⟨7, _⟩ => ⟨S32768x8, .i32⟩
  | .hbm, ⟨8, _⟩ => ⟨S13x3072, .fp8e4m3⟩
  | .hbm, ⟨9, _⟩ => ⟨S19x3072, .fp8e4m3⟩
  | .hbm, ⟨10, _⟩ => ⟨S32x3072, .fp8e4m3⟩
  | .hbm, ⟨11, _⟩ => ⟨S32768x3072, .bf16⟩
  | .local _ .vmem, ⟨0, _⟩ => ⟨S128x3072, .bf16⟩
  | .local _ .vmem, ⟨1, _⟩ => ⟨S128x3072, .bf16⟩
  | .local _ .vmem, ⟨2, _⟩ => ⟨S32x3072, .fp8e4m3⟩
  | .local _ .vmem, ⟨3, _⟩ => ⟨S32x24, .f32⟩
  | .local _ .vmem, ⟨4, _⟩ => ⟨S128x3072, .bf16⟩
  | .local _ .vmem, ⟨5, _⟩ => ⟨S128x3072, .bf16⟩
  | .local _ .vmem, ⟨6, _⟩ => ⟨S102432x128, .f32⟩
  | .local _ .vmem, ⟨7, _⟩ => ⟨S3200x128, .f32⟩
  | .local _ .vmem, ⟨8, _⟩ => ⟨S16x32x3072, .fp8e4m3⟩
  | .local _ .vmem, ⟨9, _⟩ => ⟨S16x32x24, .f32⟩
  | .local _ .smem, ⟨0, _⟩ => ⟨S8x128, .i32⟩
  | .local _ .smem, ⟨1, _⟩ => ⟨S8x128, .i32⟩
  | .local _ .smem, ⟨2, _⟩ => ⟨S8x128, .f32⟩
  | .local _ .smem, ⟨3, _⟩ => ⟨S8x128, .f32⟩
  | .local _ .smem, ⟨4, _⟩ => ⟨S1x4x128, .i32⟩
  | .local _ .smem, ⟨5, _⟩ => ⟨S1x4x128, .i32⟩
  | .local _ .smem, ⟨6, _⟩ => ⟨S1x4x128, .i32⟩
  | .local _ .smem, ⟨7, _⟩ => ⟨S1x4x128, .i32⟩
  | .local _ .smem, ⟨8, _⟩ => ⟨S1x1x4, .i32⟩
  | .local _ .smem, ⟨9, _⟩ => ⟨S1x1x4, .i32⟩
  | .local _ .smem, ⟨10, _⟩ => ⟨S1x1x4, .i32⟩
  | .local _ .smem, ⟨11, _⟩ => ⟨S1x1x4, .i32⟩
  | .local _ .smem, ⟨12, _⟩ => ⟨S4, .i32⟩
  | _, _ => ⟨S8x32768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | .smem, ⟨10, _⟩ => true
  | .smem, ⟨11, _⟩ => true
  | .smem, ⟨12, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg6_0 : Ref sig .tc := ⟨.vmem, 0, rfl⟩
abbrev cc0_stg6_1 : Ref sig .tc := ⟨.vmem, 1, rfl⟩
abbrev cc0_stg7_0 : Ref sig .tc := ⟨.vmem, 2, rfl⟩
abbrev cc0_stg8_0 : Ref sig .tc := ⟨.vmem, 3, rfl⟩
abbrev cc0_stg9_0 : Ref sig .tc := ⟨.vmem, 4, rfl⟩
abbrev cc0_stg9_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_stg2_0 : Ref sig .tc := ⟨.smem, 4, rfl⟩
abbrev cc0_stg2_1 : Ref sig .tc := ⟨.smem, 5, rfl⟩
abbrev cc0_stg3_0 : Ref sig .tc := ⟨.smem, 6, rfl⟩
abbrev cc0_stg3_1 : Ref sig .tc := ⟨.smem, 7, rfl⟩
abbrev cc0_stg4_0 : Ref sig .tc := ⟨.smem, 8, rfl⟩
abbrev cc0_stg4_1 : Ref sig .tc := ⟨.smem, 9, rfl⟩
abbrev cc0_stg5_0 : Ref sig .tc := ⟨.smem, 10, rfl⟩
abbrev cc0_stg5_1 : Ref sig .tc := ⟨.smem, 11, rfl⟩
abbrev cc0_scratch6 : Ref sig .tc := ⟨.smem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![256], ![false]⟩

def k0_off1 (i : grid0.Coords) (arg20 : BitVec 32) : Fin 3 → Nat :=
  let c0_63 : Index := 0#32
  let c0_64 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_60 : BitVec 32 := 1#32
  let v68 : BitVec 32 := Scalar.subi v5 c1_i32_60
  let v69 : BitVec 32 := Scalar.minsi arg20 v68
  let c4_i32_61 : BitVec 32 := 4#32
  let v70 : BitVec 1 := Scalar.cmpi .slt v69 c4_i32_61
  let c0_i32_62 : BitVec 32 := 0#32
  let v71 : BitVec 32 := Scalar.select v70 v69 c0_i32_62
  let v72 : Index := Scalar.indexCast v71
  ![0, 0, v72.toNat]

def k0_off2 (i : grid0.Coords) (arg20 : BitVec 32) : Fin 3 → Nat :=
  let c0_67 : Index := 0#32
  let c0_68 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_60 : BitVec 32 := 1#32
  let v68 : BitVec 32 := Scalar.subi v5 c1_i32_60
  let v69 : BitVec 32 := Scalar.minsi arg20 v68
  let c4_i32_61 : BitVec 32 := 4#32
  let v70 : BitVec 1 := Scalar.cmpi .slt v69 c4_i32_61
  let c0_i32_66 : BitVec 32 := 0#32
  let c4_i32_65 : BitVec 32 := 4#32
  let v74 : BitVec 32 := Scalar.subi v69 c4_i32_65
  let v75 : BitVec 32 := Scalar.select v70 c0_i32_66 v74
  let v76 : Index := Scalar.indexCast v75
  ![0, 0, v76.toNat]

def k0_chk1 (i : grid0.Coords) (arg20 : BitVec 32) : Prop :=
  (∀ a, (k0_off1 i arg20) a + S1x1x1.size a ≤ S1x1x4.size a) ∧
  (∀ a, (k0_off2 i arg20) a + S1x1x1.size a ≤ S1x1x4.size a)
theorem k0_off1_inb : ∀ (i : grid0.Coords) (arg20 : BitVec 32) (k0_hw1 : k0_chk1 i arg20), ∀ a, (k0_off1 i arg20) a + S1x1x1.size a ≤ S1x1x4.size a := fun i arg20 k0_hw1 => k0_hw1.1
theorem k0_off2_inb : ∀ (i : grid0.Coords) (arg20 : BitVec 32) (k0_hw1 : k0_chk1 i arg20), ∀ a, (k0_off2 i arg20) a + S1x1x1.size a ≤ S1x1x4.size a := fun i arg20 k0_hw1 => k0_hw1.2

def k0_off3 (v67 : BitVec 32) (v68 : BitVec 32) : Fin 3 → Nat :=
  let c0_64 : Index := 0#32
  let c4_i32_62 : BitVec 32 := 4#32
  let v69 : BitVec 1 := Scalar.cmpi .slt v67 c4_i32_62
  let c0_i32_63 : BitVec 32 := 0#32
  let v70 : BitVec 32 := Scalar.select v69 v67 c0_i32_63
  let v71 : Index := Scalar.indexCast v70
  let v72 : Index := Scalar.indexCast v68
  ![0, v71.toNat, v72.toNat]

def k0_off4 (v67 : BitVec 32) (v68 : BitVec 32) : Fin 3 → Nat :=
  let c0_67 : Index := 0#32
  let c4_i32_62 : BitVec 32 := 4#32
  let v69 : BitVec 1 := Scalar.cmpi .slt v67 c4_i32_62
  let c0_i32_66 : BitVec 32 := 0#32
  let c4_i32_65 : BitVec 32 := 4#32
  let v74 : BitVec 32 := Scalar.subi v67 c4_i32_65
  let v75 : BitVec 32 := Scalar.select v69 c0_i32_66 v74
  let v76 : Index := Scalar.indexCast v75
  let v77 : Index := Scalar.indexCast v68
  ![0, v76.toNat, v77.toNat]

def k0_chk2 (v67 : BitVec 32) (v68 : BitVec 32) : Prop :=
  (∀ a, (k0_off3 v67 v68) a + S1x1x1.size a ≤ S1x4x128.size a) ∧
  (∀ a, (k0_off4 v67 v68) a + S1x1x1.size a ≤ S1x4x128.size a)
theorem k0_off3_inb : ∀ (v67 : BitVec 32) (v68 : BitVec 32) (k0_hw2 : k0_chk2 v67 v68), ∀ a, (k0_off3 v67 v68) a + S1x1x1.size a ≤ S1x4x128.size a := fun v67 v68 k0_hw2 => k0_hw2.1
theorem k0_off4_inb : ∀ (v67 : BitVec 32) (v68 : BitVec 32) (k0_hw2 : k0_chk2 v67 v68), ∀ a, (k0_off4 v67 v68) a + S1x1x1.size a ≤ S1x4x128.size a := fun v67 v68 k0_hw2 => k0_hw2.2

def k0_mult1 (v67 : BitVec 32) (v73 : BitVec 32) (v78 : BitVec 32) : BitVec 32 :=
  let c4_i32_62 : BitVec 32 := 4#32
  let v69 : BitVec 1 := Scalar.cmpi .slt v67 c4_i32_62
  let v79 : BitVec 32 := Scalar.select v69 v73 v78
  let c6_i32 : BitVec 32 := 6#32
  let v80 : BitVec 32 := Scalar.shrsi v79 c6_i32
  let c32_i32 : BitVec 32 := 32#32
  let v102 : BitVec 32 := Scalar.muli v80 c32_i32
  v102
def k0_cond3 (v67 : BitVec 32) (v73 : BitVec 32) (v78 : BitVec 32) : BitVec 1 :=
  let c4_i32_62 : BitVec 32 := 4#32
  let v69 : BitVec 1 := Scalar.cmpi .slt v67 c4_i32_62
  let v79 : BitVec 32 := Scalar.select v69 v73 v78
  let c6_i32 : BitVec 32 := 6#32
  let v80 : BitVec 32 := Scalar.shrsi v79 c6_i32
  let c7782_i32 : BitVec 32 := 7782#32
  let v83 : BitVec 1 := Scalar.cmpi .slt v80 c7782_i32
  let v84 : BitVec 32 := Scalar.extui v83
  let c0_i32_70 : BitVec 32 := 0#32
  let v85 : BitVec 1 := Scalar.cmpi .ne v84 c0_i32_70
  v85

def k0_off5 (v81 : BitVec 32) : Fin 1 → Nat :=
  let c16_i32_69 : BitVec 32 := 16#32
  let v82 : BitVec 32 := Scalar.remsi v81 c16_i32_69
  ![v82.toNat]

def k0_off6 (v81 : BitVec 32) : Fin 3 → Nat :=
  let c16_i32_69 : BitVec 32 := 16#32
  let v82 : BitVec 32 := Scalar.remsi v81 c16_i32_69
  let c0_i32_83 : BitVec 32 := 0#32
  let c0_i32_84 : BitVec 32 := 0#32
  ![v82.toNat, 0, 0]
def k0_off7 (v67 : BitVec 32) (v73 : BitVec 32) (v78 : BitVec 32) : Fin 2 → Nat :=
  let c4_i32_62 : BitVec 32 := 4#32
  let v69 : BitVec 1 := Scalar.cmpi .slt v67 c4_i32_62
  let v79 : BitVec 32 := Scalar.select v69 v73 v78
  let c6_i32 : BitVec 32 := 6#32
  let v80 : BitVec 32 := Scalar.shrsi v79 c6_i32
  let c32_i32 : BitVec 32 := 32#32
  let v102 : BitVec 32 := Scalar.muli v80 c32_i32
  let v103 : BitVec 32 := v102
  let c0_i32_85 : BitVec 32 := 0#32
  ![v103.toNat, 0]
def k0_off8 (v81 : BitVec 32) : Fin 3 → Nat :=
  let c16_i32_69 : BitVec 32 := 16#32
  let v82 : BitVec 32 := Scalar.remsi v81 c16_i32_69
  let c0_i32_86 : BitVec 32 := 0#32
  let c0_i32_87 : BitVec 32 := 0#32
  ![v82.toNat, 0, 0]

def k0_chk4 (v67 : BitVec 32) (v73 : BitVec 32) (v78 : BitVec 32) (v81 : BitVec 32) : Prop :=
  (∀ (k0_h3 : k0_cond3 v67 v73 v78 = 1#1), ∀ a, (k0_off5 v81) a + S1.size a ≤ S16.size a) ∧
  (∀ (k0_h3 : k0_cond3 v67 v73 v78 = 1#1), ∀ a, (k0_off6 v81) a + S1x32x3072.size a ≤ S16x32x3072.size a) ∧
  (∀ (k0_h3 : k0_cond3 v67 v73 v78 = 1#1), ∀ (hinb : ∀ a, (k0_off6 v81) a + S1x32x3072.size a ≤ S16x32x3072.size a), (Rect.unit (s := S16x32x3072) (k0_off6 v81) S1x32x3072.size hinb).WholeWords (EltTy.packing .fp8e4m3)) ∧
  (∀ (k0_h3 : k0_cond3 v67 v73 v78 = 1#1), ∀ a, (k0_off8 v81) a + S1x32x24.size a ≤ S16x32x24.size a)
theorem k0_off5_inb : ∀ (v67 : BitVec 32) (v73 : BitVec 32) (v78 : BitVec 32) (v81 : BitVec 32) (k0_hw4 : k0_chk4 v67 v73 v78 v81), ∀ (k0_h3 : k0_cond3 v67 v73 v78 = 1#1), ∀ a, (k0_off5 v81) a + S1.size a ≤ S16.size a := fun v67 v73 v78 v81 k0_hw4 k0_h3 => k0_hw4.1 k0_h3
theorem k0_off6_inb : ∀ (v67 : BitVec 32) (v73 : BitVec 32) (v78 : BitVec 32) (v81 : BitVec 32) (k0_hw4 : k0_chk4 v67 v73 v78 v81), ∀ (k0_h3 : k0_cond3 v67 v73 v78 = 1#1), ∀ a, (k0_off6 v81) a + S1x32x3072.size a ≤ S16x32x3072.size a := fun v67 v73 v78 v81 k0_hw4 k0_h3 => k0_hw4.2.1 k0_h3
theorem k0_off6_wordsfp8e4m3 : ∀ (v67 : BitVec 32) (v73 : BitVec 32) (v78 : BitVec 32) (v81 : BitVec 32) (k0_hw4 : k0_chk4 v67 v73 v78 v81), ∀ (k0_h3 : k0_cond3 v67 v73 v78 = 1#1), (Rect.unit (s := S16x32x3072) (k0_off6 v81) S1x32x3072.size (k0_off6_inb v67 v73 v78 v81 k0_hw4 k0_h3)).WholeWords (EltTy.packing .fp8e4m3) := fun v67 v73 v78 v81 k0_hw4 k0_h3 => k0_hw4.2.2.1 k0_h3 (k0_off6_inb v67 v73 v78 v81 k0_hw4 k0_h3)
theorem k0_off8_inb : ∀ (v67 : BitVec 32) (v73 : BitVec 32) (v78 : BitVec 32) (v81 : BitVec 32) (k0_hw4 : k0_chk4 v67 v73 v78 v81), ∀ (k0_h3 : k0_cond3 v67 v73 v78 = 1#1), ∀ a, (k0_off8 v81) a + S1x32x24.size a ≤ S16x32x24.size a := fun v67 v73 v78 v81 k0_hw4 k0_h3 => k0_hw4.2.2.2 k0_h3

def k0_off9 (v67 : BitVec 32) (v73 : BitVec 32) (v78 : BitVec 32) : Fin 2 → Nat :=
  let c4_i32_62 : BitVec 32 := 4#32
  let v69 : BitVec 1 := Scalar.cmpi .slt v67 c4_i32_62
  let v79 : BitVec 32 := Scalar.select v69 v73 v78
  let c6_i32 : BitVec 32 := 6#32
  let v80 : BitVec 32 := Scalar.shrsi v79 c6_i32
  let c32_i32 : BitVec 32 := 32#32
  let v102 : BitVec 32 := Scalar.muli v80 c32_i32
  let v103 : BitVec 32 := v102
  let c0_i32_88 : BitVec 32 := 0#32
  ![v103.toNat, 0]

def k0_chk3 (v67 : BitVec 32) (v73 : BitVec 32) (v78 : BitVec 32) : Prop :=
  (∀ (k0_h3 : k0_cond3 v67 v73 v78 = 1#1), 32 ∣ (k0_mult1 v67 v73 v78).toNat) ∧
  (∀ (k0_h3 : k0_cond3 v67 v73 v78 = 1#1), ∀ a, (k0_off7 v67 v73 v78) a + S32x3072.size a ≤ S249037x3072.size a) ∧
  (∀ (k0_h3 : k0_cond3 v67 v73 v78 = 1#1), ∀ (hinb : ∀ a, (k0_off7 v67 v73 v78) a + S32x3072.size a ≤ S249037x3072.size a), (Rect.unit (s := S249037x3072) (k0_off7 v67 v73 v78) S32x3072.size hinb).WholeWords (EltTy.packing .fp8e4m3)) ∧
  (∀ (k0_h3 : k0_cond3 v67 v73 v78 = 1#1), ∀ a, (k0_off9 v67 v73 v78) a + S32x24.size a ≤ S249037x24.size a)
theorem k0_mult1_dvd : ∀ (v67 : BitVec 32) (v73 : BitVec 32) (v78 : BitVec 32) (k0_hw3 : k0_chk3 v67 v73 v78), ∀ (k0_h3 : k0_cond3 v67 v73 v78 = 1#1), 32 ∣ (k0_mult1 v67 v73 v78).toNat := fun v67 v73 v78 k0_hw3 k0_h3 => k0_hw3.1 k0_h3
theorem k0_off7_inb : ∀ (v67 : BitVec 32) (v73 : BitVec 32) (v78 : BitVec 32) (k0_hw3 : k0_chk3 v67 v73 v78), ∀ (k0_h3 : k0_cond3 v67 v73 v78 = 1#1), ∀ a, (k0_off7 v67 v73 v78) a + S32x3072.size a ≤ S249037x3072.size a := fun v67 v73 v78 k0_hw3 k0_h3 => k0_hw3.2.1 k0_h3
theorem k0_off7_wordsfp8e4m3 : ∀ (v67 : BitVec 32) (v73 : BitVec 32) (v78 : BitVec 32) (k0_hw3 : k0_chk3 v67 v73 v78), ∀ (k0_h3 : k0_cond3 v67 v73 v78 = 1#1), (Rect.unit (s := S249037x3072) (k0_off7 v67 v73 v78) S32x3072.size (k0_off7_inb v67 v73 v78 k0_hw3 k0_h3)).WholeWords (EltTy.packing .fp8e4m3) := fun v67 v73 v78 k0_hw3 k0_h3 => k0_hw3.2.2.1 k0_h3 (k0_off7_inb v67 v73 v78 k0_hw3 k0_h3)
theorem k0_off9_inb : ∀ (v67 : BitVec 32) (v73 : BitVec 32) (v78 : BitVec 32) (k0_hw3 : k0_chk3 v67 v73 v78), ∀ (k0_h3 : k0_cond3 v67 v73 v78 = 1#1), ∀ a, (k0_off9 v67 v73 v78) a + S32x24.size a ≤ S249037x24.size a := fun v67 v73 v78 k0_hw3 k0_h3 => k0_hw3.2.2.2 k0_h3

def k0_off10 (i : grid0.Coords) (arg21 : BitVec 32) : Fin 3 → Nat :=
  let c0_86 : Index := 0#32
  let c0_87 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_83 : BitVec 32 := 1#32
  let v103 : BitVec 32 := Scalar.subi v5 c1_i32_83
  let v104 : BitVec 32 := Scalar.minsi arg21 v103
  let c4_i32_84 : BitVec 32 := 4#32
  let v105 : BitVec 1 := Scalar.cmpi .slt v104 c4_i32_84
  let c0_i32_85 : BitVec 32 := 0#32
  let v106 : BitVec 32 := Scalar.select v105 v104 c0_i32_85
  let v107 : Index := Scalar.indexCast v106
  ![0, 0, v107.toNat]

def k0_off11 (i : grid0.Coords) (arg21 : BitVec 32) : Fin 3 → Nat :=
  let c0_90 : Index := 0#32
  let c0_91 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_83 : BitVec 32 := 1#32
  let v103 : BitVec 32 := Scalar.subi v5 c1_i32_83
  let v104 : BitVec 32 := Scalar.minsi arg21 v103
  let c4_i32_84 : BitVec 32 := 4#32
  let v105 : BitVec 1 := Scalar.cmpi .slt v104 c4_i32_84
  let c0_i32_89 : BitVec 32 := 0#32
  let c4_i32_88 : BitVec 32 := 4#32
  let v109 : BitVec 32 := Scalar.subi v104 c4_i32_88
  let v110 : BitVec 32 := Scalar.select v105 c0_i32_89 v109
  let v111 : Index := Scalar.indexCast v110
  ![0, 0, v111.toNat]

def k0_chk5 (i : grid0.Coords) (arg21 : BitVec 32) : Prop :=
  (∀ a, (k0_off10 i arg21) a + S1x1x1.size a ≤ S1x1x4.size a) ∧
  (∀ a, (k0_off11 i arg21) a + S1x1x1.size a ≤ S1x1x4.size a)
theorem k0_off10_inb : ∀ (i : grid0.Coords) (arg21 : BitVec 32) (k0_hw5 : k0_chk5 i arg21), ∀ a, (k0_off10 i arg21) a + S1x1x1.size a ≤ S1x1x4.size a := fun i arg21 k0_hw5 => k0_hw5.1
theorem k0_off11_inb : ∀ (i : grid0.Coords) (arg21 : BitVec 32) (k0_hw5 : k0_chk5 i arg21), ∀ a, (k0_off11 i arg21) a + S1x1x1.size a ≤ S1x1x4.size a := fun i arg21 k0_hw5 => k0_hw5.2

@[reducible] def k0_t1_loop (v30 : BitVec 32) : Scf.Loop 32 :=
  let c0_i32_11 : BitVec 32 := 0#32
  let v31 : BitVec 32 := Scalar.subi v30 c0_i32_11
  let c1_i32_13 : BitVec 32 := 1#32
  let v33 : BitVec 32 := Scalar.divsi v31 c1_i32_13
  let v34 : BitVec 32 := Scalar.muli v33 c1_i32_13
  let v35 : BitVec 32 := Scalar.addi c0_i32_11 v34
  let c1_i32_14 : BitVec 32 := 1#32
  ⟨c0_i32_11, v35, c1_i32_14⟩

def k0_off12 (v30 : BitVec 32) (k0_t1 : Fin (k0_t1_loop v30).trips) : Fin 3 → Nat :=
  let c0_60 : Index := 0#32
  let c0_61 : Index := 0#32
  let c0_i32_11 : BitVec 32 := 0#32
  let c1_i32_14 : BitVec 32 := 1#32
  let arg20 : BitVec 32 := Scf.iv c0_i32_11 c1_i32_14 k0_t1
  let v67 : Index := Scalar.indexCast arg20
  ![0, 0, v67.toNat]
def k0_mult2 : BitVec 32 :=
  let c0_i32_391 : BitVec 32 := 0#32
  c0_i32_391
def k0_off13 (v71 : BitVec 32) : Fin 1 → Nat :=
  let c16_i32_63 : BitVec 32 := 16#32
  let v72 : BitVec 32 := Scalar.remsi v71 c16_i32_63
  ![v72.toNat]
def k0_cond4 (v68 : BitVec 32) : BitVec 1 :=
  let c6_i32 : BitVec 32 := 6#32
  let v69 : BitVec 32 := Scalar.shrsi v68 c6_i32
  let c7782_i32 : BitVec 32 := 7782#32
  let v73 : BitVec 1 := Scalar.cmpi .slt v69 c7782_i32
  let v74 : BitVec 32 := Scalar.extui v73
  let c0_i32_64 : BitVec 32 := 0#32
  let v75 : BitVec 1 := Scalar.cmpi .ne v74 c0_i32_64
  v75

def k0_off14 (v71 : BitVec 32) : Fin 3 → Nat :=
  let c16_i32_63 : BitVec 32 := 16#32
  let v72 : BitVec 32 := Scalar.remsi v71 c16_i32_63
  let c0_i32_392 : BitVec 32 := 0#32
  let c0_i32_393 : BitVec 32 := 0#32
  ![v72.toNat, 0, 0]
def k0_off15 (v71 : BitVec 32) : Fin 3 → Nat :=
  let c16_i32_63 : BitVec 32 := 16#32
  let v72 : BitVec 32 := Scalar.remsi v71 c16_i32_63
  let c0_i32_395 : BitVec 32 := 0#32
  let c0_i32_396 : BitVec 32 := 0#32
  ![v72.toNat, 0, 0]
def k0_off16 (v71 : BitVec 32) : Fin 3 → Nat :=
  let c16_i32_63 : BitVec 32 := 16#32
  let v72 : BitVec 32 := Scalar.remsi v71 c16_i32_63
  let v917 : Index := Scalar.indexCast v72
  let c0_393 : Index := 0#32
  let c0_394 : Index := 0#32
  ![v917.toNat, 0, 0]
def k0_cond5 (v68 : BitVec 32) : BitVec 1 :=
  let c6_i32 : BitVec 32 := 6#32
  let v69 : BitVec 32 := Scalar.shrsi v68 c6_i32
  let c7782_i32_65 : BitVec 32 := 7782#32
  let v76 : BitVec 1 := Scalar.cmpi .sge v69 c7782_i32_65
  let v77 : BitVec 32 := Scalar.extui v76
  let c0_i32_66 : BitVec 32 := 0#32
  let v78 : BitVec 1 := Scalar.cmpi .ne v77 c0_i32_66
  v78

def k0_off17 (v71 : BitVec 32) : Fin 3 → Nat :=
  let c16_i32_63 : BitVec 32 := 16#32
  let v72 : BitVec 32 := Scalar.remsi v71 c16_i32_63
  let v922 : Index := Scalar.indexCast v72
  let c0_397 : Index := 0#32
  let c0_398 : Index := 0#32
  ![v922.toNat, 0, 0]
def k0_off18 (v71 : BitVec 32) : Fin 3 → Nat :=
  let c16_i32_63 : BitVec 32 := 16#32
  let v72 : BitVec 32 := Scalar.remsi v71 c16_i32_63
  let v84 : Index := Scalar.indexCast v72
  let c0_68 : Index := 0#32
  let c0_69 : Index := 0#32
  ![v84.toNat, 0, 0]
def k0_off19 (v68 : BitVec 32) (c0_i32_70 : BitVec 32) (c0_i32_71 : BitVec 32) : Fin 2 → Nat :=
  let c63_i32 : BitVec 32 := 63#32
  let v70 : BitVec 32 := Scalar.andi v68 c63_i32
  let c64_i32 : BitVec 32 := 64#32
  let v79 : BitVec 32 := Scalar.muli v70 c64_i32
  let c6_i32 : BitVec 32 := 6#32
  let v69 : BitVec 32 := Scalar.shrsi v68 c6_i32
  let c1_i32_67 : BitVec 32 := 1#32
  let v80 : BitVec 32 := Scalar.andi v69 c1_i32_67
  let c32_i32 : BitVec 32 := 32#32
  let v81 : BitVec 32 := Scalar.muli v80 c32_i32
  let v82 : BitVec 32 := Scalar.addi v79 v81
  let c25_i32 : BitVec 32 := 25#32
  let v83 : BitVec 32 := Scalar.muli v82 c25_i32
  let v89 : BitVec 32 := Scalar.addi v83 c0_i32_70
  let v90 : BitVec 32 := Scalar.addi v89 c0_i32_71
  let v91 : Index := Scalar.indexCast v90
  let c0_72 : Index := 0#32
  ![v91.toNat, 0]

def k0_chk8 (v68 : BitVec 32) : Prop :=
  (∀ (r₁ : Fin 4) (r₂ : Fin 25), ∀ a, S8x128.size a = 0 ∨ (k0_off19 v68 (BitVec.ofNat 32 (200 * r₁.val)) (BitVec.ofNat 32 r₂.val)) a + (![25, 1] : Fin 2 → Nat) a * (S8x128.size a - 1) < S102432x128.size a)
theorem k0_off19_inb : ∀ (v68 : BitVec 32) (k0_hw8 : k0_chk8 v68), ∀ (r₁ : Fin 4) (r₂ : Fin 25), ∀ a, S8x128.size a = 0 ∨ (k0_off19 v68 (BitVec.ofNat 32 (200 * r₁.val)) (BitVec.ofNat 32 r₂.val)) a + (![25, 1] : Fin 2 → Nat) a * (S8x128.size a - 1) < S102432x128.size a := fun v68 k0_hw8 r₁ r₂ => k0_hw8 r₁ r₂

def k0_off20 (v71 : BitVec 32) : Fin 3 → Nat :=
  let c16_i32_63 : BitVec 32 := 16#32
  let v72 : BitVec 32 := Scalar.remsi v71 c16_i32_63
  let v116 : Index := Scalar.indexCast v72
  let c0_79 : Index := 0#32
  let c128 : Index := 128#32
  ![v116.toNat, 0, 128]
def k0_off21 (v71 : BitVec 32) : Fin 3 → Nat :=
  let c16_i32_63 : BitVec 32 := 16#32
  let v72 : BitVec 32 := Scalar.remsi v71 c16_i32_63
  let v148 : Index := Scalar.indexCast v72
  let c0_92 : Index := 0#32
  let c256 : Index := 256#32
  ![v148.toNat, 0, 256]
def k0_off22 (v71 : BitVec 32) : Fin 3 → Nat :=
  let c16_i32_63 : BitVec 32 := 16#32
  let v72 : BitVec 32 := Scalar.remsi v71 c16_i32_63
  let v180 : Index := Scalar.indexCast v72
  let c0_104 : Index := 0#32
  let c384 : Index := 384#32
  ![v180.toNat, 0, 384]
def k0_off23 (v71 : BitVec 32) : Fin 3 → Nat :=
  let c16_i32_63 : BitVec 32 := 16#32
  let v72 : BitVec 32 := Scalar.remsi v71 c16_i32_63
  let v212 : Index := Scalar.indexCast v72
  let c0_116 : Index := 0#32
  let c512 : Index := 512#32
  ![v212.toNat, 0, 512]
def k0_off24 (v71 : BitVec 32) : Fin 3 → Nat :=
  let c16_i32_63 : BitVec 32 := 16#32
  let v72 : BitVec 32 := Scalar.remsi v71 c16_i32_63
  let v244 : Index := Scalar.indexCast v72
  let c0_129 : Index := 0#32
  let c640 : Index := 640#32
  ![v244.toNat, 0, 640]
def k0_off25 (v71 : BitVec 32) : Fin 3 → Nat :=
  let c16_i32_63 : BitVec 32 := 16#32
  let v72 : BitVec 32 := Scalar.remsi v71 c16_i32_63
  let v276 : Index := Scalar.indexCast v72
  let c0_141 : Index := 0#32
  let c768 : Index := 768#32
  ![v276.toNat, 0, 768]
def k0_off26 (v71 : BitVec 32) : Fin 3 → Nat :=
  let c16_i32_63 : BitVec 32 := 16#32
  let v72 : BitVec 32 := Scalar.remsi v71 c16_i32_63
  let v308 : Index := Scalar.indexCast v72
  let c0_154 : Index := 0#32
  let c896 : Index := 896#32
  ![v308.toNat, 0, 896]
def k0_off27 (v71 : BitVec 32) : Fin 3 → Nat :=
  let c16_i32_63 : BitVec 32 := 16#32
  let v72 : BitVec 32 := Scalar.remsi v71 c16_i32_63
  let v340 : Index := Scalar.indexCast v72
  let c0_166 : Index := 0#32
  let c1024 : Index := 1024#32
  ![v340.toNat, 0, 1024]
def k0_off28 (v71 : BitVec 32) : Fin 3 → Nat :=
  let c16_i32_63 : BitVec 32 := 16#32
  let v72 : BitVec 32 := Scalar.remsi v71 c16_i32_63
  let v372 : Index := Scalar.indexCast v72
  let c0_179 : Index := 0#32
  let c1152 : Index := 1152#32
  ![v372.toNat, 0, 1152]
def k0_off29 (v71 : BitVec 32) : Fin 3 → Nat :=
  let c16_i32_63 : BitVec 32 := 16#32
  let v72 : BitVec 32 := Scalar.remsi v71 c16_i32_63
  let v404 : Index := Scalar.indexCast v72
  let c0_191 : Index := 0#32
  let c1280 : Index := 1280#32
  ![v404.toNat, 0, 1280]
def k0_off30 (v71 : BitVec 32) : Fin 3 → Nat :=
  let c16_i32_63 : BitVec 32 := 16#32
  let v72 : BitVec 32 := Scalar.remsi v71 c16_i32_63
  let v436 : Index := Scalar.indexCast v72
  let c0_203 : Index := 0#32
  let c1408 : Index := 1408#32
  ![v436.toNat, 0, 1408]
def k0_off31 (v71 : BitVec 32) : Fin 3 → Nat :=
  let c16_i32_63 : BitVec 32 := 16#32
  let v72 : BitVec 32 := Scalar.remsi v71 c16_i32_63
  let v468 : Index := Scalar.indexCast v72
  let c0_215 : Index := 0#32
  let c1536 : Index := 1536#32
  ![v468.toNat, 0, 1536]
def k0_off32 (v71 : BitVec 32) : Fin 3 → Nat :=
  let c16_i32_63 : BitVec 32 := 16#32
  let v72 : BitVec 32 := Scalar.remsi v71 c16_i32_63
  let v500 : Index := Scalar.indexCast v72
  let c0_227 : Index := 0#32
  let c1664 : Index := 1664#32
  ![v500.toNat, 0, 1664]
def k0_off33 (v71 : BitVec 32) : Fin 3 → Nat :=
  let c16_i32_63 : BitVec 32 := 16#32
  let v72 : BitVec 32 := Scalar.remsi v71 c16_i32_63
  let v532 : Index := Scalar.indexCast v72
  let c0_239 : Index := 0#32
  let c1792 : Index := 1792#32
  ![v532.toNat, 0, 1792]
def k0_off34 (v71 : BitVec 32) : Fin 3 → Nat :=
  let c16_i32_63 : BitVec 32 := 16#32
  let v72 : BitVec 32 := Scalar.remsi v71 c16_i32_63
  let v564 : Index := Scalar.indexCast v72
  let c0_251 : Index := 0#32
  let c1920 : Index := 1920#32
  ![v564.toNat, 0, 1920]
def k0_off35 (v71 : BitVec 32) : Fin 3 → Nat :=
  let c16_i32_63 : BitVec 32 := 16#32
  let v72 : BitVec 32 := Scalar.remsi v71 c16_i32_63
  let v596 : Index := Scalar.indexCast v72
  let c0_263 : Index := 0#32
  let c2048 : Index := 2048#32
  ![v596.toNat, 0, 2048]
def k0_off36 (v71 : BitVec 32) : Fin 3 → Nat :=
  let c16_i32_63 : BitVec 32 := 16#32
  let v72 : BitVec 32 := Scalar.remsi v71 c16_i32_63
  let v628 : Index := Scalar.indexCast v72
  let c0_276 : Index := 0#32
  let c2176 : Index := 2176#32
  ![v628.toNat, 0, 2176]
def k0_off37 (v71 : BitVec 32) : Fin 3 → Nat :=
  let c16_i32_63 : BitVec 32 := 16#32
  let v72 : BitVec 32 := Scalar.remsi v71 c16_i32_63
  let v660 : Index := Scalar.indexCast v72
  let c0_288 : Index := 0#32
  let c2304 : Index := 2304#32
  ![v660.toNat, 0, 2304]
def k0_off38 (v71 : BitVec 32) : Fin 3 → Nat :=
  let c16_i32_63 : BitVec 32 := 16#32
  let v72 : BitVec 32 := Scalar.remsi v71 c16_i32_63
  let v692 : Index := Scalar.indexCast v72
  let c0_300 : Index := 0#32
  let c2432 : Index := 2432#32
  ![v692.toNat, 0, 2432]
def k0_off39 (v71 : BitVec 32) : Fin 3 → Nat :=
  let c16_i32_63 : BitVec 32 := 16#32
  let v72 : BitVec 32 := Scalar.remsi v71 c16_i32_63
  let v724 : Index := Scalar.indexCast v72
  let c0_312 : Index := 0#32
  let c2560 : Index := 2560#32
  ![v724.toNat, 0, 2560]
def k0_off40 (v71 : BitVec 32) : Fin 3 → Nat :=
  let c16_i32_63 : BitVec 32 := 16#32
  let v72 : BitVec 32 := Scalar.remsi v71 c16_i32_63
  let v756 : Index := Scalar.indexCast v72
  let c0_324 : Index := 0#32
  let c2688 : Index := 2688#32
  ![v756.toNat, 0, 2688]
def k0_off41 (v71 : BitVec 32) : Fin 3 → Nat :=
  let c16_i32_63 : BitVec 32 := 16#32
  let v72 : BitVec 32 := Scalar.remsi v71 c16_i32_63
  let v788 : Index := Scalar.indexCast v72
  let c0_336 : Index := 0#32
  let c2816 : Index := 2816#32
  ![v788.toNat, 0, 2816]
def k0_off42 (v71 : BitVec 32) : Fin 3 → Nat :=
  let c16_i32_63 : BitVec 32 := 16#32
  let v72 : BitVec 32 := Scalar.remsi v71 c16_i32_63
  let v820 : Index := Scalar.indexCast v72
  let c0_348 : Index := 0#32
  let c2944 : Index := 2944#32
  ![v820.toNat, 0, 2944]
def k0_off43 (v71 : BitVec 32) : Fin 3 → Nat :=
  let c16_i32_63 : BitVec 32 := 16#32
  let v72 : BitVec 32 := Scalar.remsi v71 c16_i32_63
  let v852 : Index := Scalar.indexCast v72
  let c0_360 : Index := 0#32
  let c0_361 : Index := 0#32
  ![v852.toNat, 0, 0]
def k0_off44 (v71 : BitVec 32) : Fin 3 → Nat :=
  let c16_i32_63 : BitVec 32 := 16#32
  let v72 : BitVec 32 := Scalar.remsi v71 c16_i32_63
  let v864 : Index := Scalar.indexCast v72
  let c8 : Index := 8#32
  let c0_365 : Index := 0#32
  ![v864.toNat, 8, 0]
def k0_off45 (v71 : BitVec 32) : Fin 3 → Nat :=
  let c16_i32_63 : BitVec 32 := 16#32
  let v72 : BitVec 32 := Scalar.remsi v71 c16_i32_63
  let v876 : Index := Scalar.indexCast v72
  let c16 : Index := 16#32
  let c0_370 : Index := 0#32
  ![v876.toNat, 16, 0]
def k0_off46 (v71 : BitVec 32) : Fin 3 → Nat :=
  let c16_i32_63 : BitVec 32 := 16#32
  let v72 : BitVec 32 := Scalar.remsi v71 c16_i32_63
  let v888 : Index := Scalar.indexCast v72
  let c24 : Index := 24#32
  let c0_375 : Index := 0#32
  ![v888.toNat, 24, 0]

def k0_chk7_0 (v68 : BitVec 32) (v71 : BitVec 32) : Prop :=
  (∀ (k0_h4 : k0_cond4 v68 = 1#1), ∀ a, (k0_off13 v71) a + S1.size a ≤ S16.size a) ∧
  (∀ (k0_h4 : k0_cond4 v68 = 1#1), ∀ a, (k0_off14 v71) a + S1x32x3072.size a ≤ S16x32x3072.size a) ∧
  (∀ (k0_h4 : k0_cond4 v68 = 1#1), ∀ (hinb : ∀ a, (k0_off14 v71) a + S1x32x3072.size a ≤ S16x32x3072.size a), (Rect.unit (s := S16x32x3072) (k0_off14 v71) S1x32x3072.size hinb).WholeWords (EltTy.packing .fp8e4m3)) ∧
  (∀ (k0_h4 : k0_cond4 v68 = 1#1), ∀ a, (k0_off15 v71) a + S1x32x24.size a ≤ S16x32x24.size a) ∧
  (∀ (k0_h5 : k0_cond5 v68 = 1#1), ∀ a, (k0_off16 v71) a + S1x32x3072.size a ≤ S16x32x3072.size a) ∧
  (∀ (k0_h5 : k0_cond5 v68 = 1#1), ∀ (hinb : ∀ a, (k0_off16 v71) a + S1x32x3072.size a ≤ S16x32x3072.size a), (Rect.unit (s := S16x32x3072) (k0_off16 v71) S1x32x3072.size hinb).PackedRows (EltTy.packing .fp8e4m3)) ∧
  (∀ (k0_h5 : k0_cond5 v68 = 1#1), ∀ a, (k0_off17 v71) a + S1x32x24.size a ≤ S16x32x24.size a) ∧
  (∀ a, (k0_off18 v71) a + S1x32x128.size a ≤ S16x32x3072.size a) ∧
  (∀ a, (k0_off20 v71) a + S1x32x128.size a ≤ S16x32x3072.size a) ∧
  (∀ a, (k0_off21 v71) a + S1x32x128.size a ≤ S16x32x3072.size a) ∧
  (∀ a, (k0_off22 v71) a + S1x32x128.size a ≤ S16x32x3072.size a) ∧
  (∀ a, (k0_off23 v71) a + S1x32x128.size a ≤ S16x32x3072.size a) ∧
  (∀ a, (k0_off24 v71) a + S1x32x128.size a ≤ S16x32x3072.size a) ∧
  (∀ a, (k0_off25 v71) a + S1x32x128.size a ≤ S16x32x3072.size a) ∧
  (∀ a, (k0_off26 v71) a + S1x32x128.size a ≤ S16x32x3072.size a) ∧
  (∀ a, (k0_off27 v71) a + S1x32x128.size a ≤ S16x32x3072.size a) ∧
  (∀ a, (k0_off28 v71) a + S1x32x128.size a ≤ S16x32x3072.size a) ∧
  (∀ a, (k0_off29 v71) a + S1x32x128.size a ≤ S16x32x3072.size a) ∧
  (∀ a, (k0_off30 v71) a + S1x32x128.size a ≤ S16x32x3072.size a) ∧
  (∀ a, (k0_off31 v71) a + S1x32x128.size a ≤ S16x32x3072.size a) ∧
  (∀ a, (k0_off32 v71) a + S1x32x128.size a ≤ S16x32x3072.size a) ∧
  (∀ a, (k0_off33 v71) a + S1x32x128.size a ≤ S16x32x3072.size a) ∧
  (∀ a, (k0_off34 v71) a + S1x32x128.size a ≤ S16x32x3072.size a) ∧
  (∀ a, (k0_off35 v71) a + S1x32x128.size a ≤ S16x32x3072.size a) ∧
  (∀ a, (k0_off36 v71) a + S1x32x128.size a ≤ S16x32x3072.size a) ∧
  (∀ a, (k0_off37 v71) a + S1x32x128.size a ≤ S16x32x3072.size a) ∧
  (∀ a, (k0_off38 v71) a + S1x32x128.size a ≤ S16x32x3072.size a) ∧
  (∀ a, (k0_off39 v71) a + S1x32x128.size a ≤ S16x32x3072.size a) ∧
  (∀ a, (k0_off40 v71) a + S1x32x128.size a ≤ S16x32x3072.size a) ∧
  (∀ a, (k0_off41 v71) a + S1x32x128.size a ≤ S16x32x3072.size a) ∧
  (∀ a, (k0_off42 v71) a + S1x32x128.size a ≤ S16x32x3072.size a) ∧
  (∀ a, (k0_off43 v71) a + S1x8x24.size a ≤ S16x32x24.size a)
def k0_chk7_1 (v68 : BitVec 32) (v71 : BitVec 32) : Prop :=
  (∀ a, (k0_off44 v71) a + S1x8x24.size a ≤ S16x32x24.size a) ∧
  (∀ a, (k0_off45 v71) a + S1x8x24.size a ≤ S16x32x24.size a) ∧
  (∀ a, (k0_off46 v71) a + S1x8x24.size a ≤ S16x32x24.size a)
def k0_chk7 (v68 : BitVec 32) (v71 : BitVec 32) : Prop :=
  k0_chk7_0 v68 v71 ∧
  k0_chk7_1 v68 v71
theorem k0_off13_inb : ∀ (v68 : BitVec 32) (v71 : BitVec 32) (k0_hw7 : k0_chk7 v68 v71), ∀ (k0_h4 : k0_cond4 v68 = 1#1), ∀ a, (k0_off13 v71) a + S1.size a ≤ S16.size a := fun v68 v71 k0_hw7 k0_h4 => k0_hw7.1.1 k0_h4
theorem k0_off14_inb : ∀ (v68 : BitVec 32) (v71 : BitVec 32) (k0_hw7 : k0_chk7 v68 v71), ∀ (k0_h4 : k0_cond4 v68 = 1#1), ∀ a, (k0_off14 v71) a + S1x32x3072.size a ≤ S16x32x3072.size a := fun v68 v71 k0_hw7 k0_h4 => k0_hw7.1.2.1 k0_h4
theorem k0_off14_wordsfp8e4m3 : ∀ (v68 : BitVec 32) (v71 : BitVec 32) (k0_hw7 : k0_chk7 v68 v71), ∀ (k0_h4 : k0_cond4 v68 = 1#1), (Rect.unit (s := S16x32x3072) (k0_off14 v71) S1x32x3072.size (k0_off14_inb v68 v71 k0_hw7 k0_h4)).WholeWords (EltTy.packing .fp8e4m3) := fun v68 v71 k0_hw7 k0_h4 => k0_hw7.1.2.2.1 k0_h4 (k0_off14_inb v68 v71 k0_hw7 k0_h4)
theorem k0_off15_inb : ∀ (v68 : BitVec 32) (v71 : BitVec 32) (k0_hw7 : k0_chk7 v68 v71), ∀ (k0_h4 : k0_cond4 v68 = 1#1), ∀ a, (k0_off15 v71) a + S1x32x24.size a ≤ S16x32x24.size a := fun v68 v71 k0_hw7 k0_h4 => k0_hw7.1.2.2.2.1 k0_h4
theorem k0_off16_inb : ∀ (v68 : BitVec 32) (v71 : BitVec 32) (k0_hw7 : k0_chk7 v68 v71), ∀ (k0_h5 : k0_cond5 v68 = 1#1), ∀ a, (k0_off16 v71) a + S1x32x3072.size a ≤ S16x32x3072.size a := fun v68 v71 k0_hw7 k0_h5 => k0_hw7.1.2.2.2.2.1 k0_h5
theorem k0_off16_packedfp8e4m3 : ∀ (v68 : BitVec 32) (v71 : BitVec 32) (k0_hw7 : k0_chk7 v68 v71), ∀ (k0_h5 : k0_cond5 v68 = 1#1), (Rect.unit (s := S16x32x3072) (k0_off16 v71) S1x32x3072.size (k0_off16_inb v68 v71 k0_hw7 k0_h5)).PackedRows (EltTy.packing .fp8e4m3) := fun v68 v71 k0_hw7 k0_h5 => k0_hw7.1.2.2.2.2.2.1 k0_h5 (k0_off16_inb v68 v71 k0_hw7 k0_h5)
theorem k0_off17_inb : ∀ (v68 : BitVec 32) (v71 : BitVec 32) (k0_hw7 : k0_chk7 v68 v71), ∀ (k0_h5 : k0_cond5 v68 = 1#1), ∀ a, (k0_off17 v71) a + S1x32x24.size a ≤ S16x32x24.size a := fun v68 v71 k0_hw7 k0_h5 => k0_hw7.1.2.2.2.2.2.2.1 k0_h5
theorem k0_off18_inb : ∀ (v68 : BitVec 32) (v71 : BitVec 32) (k0_hw7 : k0_chk7 v68 v71), ∀ a, (k0_off18 v71) a + S1x32x128.size a ≤ S16x32x3072.size a := fun v68 v71 k0_hw7 => k0_hw7.1.2.2.2.2.2.2.2.1
theorem k0_off20_inb : ∀ (v68 : BitVec 32) (v71 : BitVec 32) (k0_hw7 : k0_chk7 v68 v71), ∀ a, (k0_off20 v71) a + S1x32x128.size a ≤ S16x32x3072.size a := fun v68 v71 k0_hw7 => k0_hw7.1.2.2.2.2.2.2.2.2.1
theorem k0_off21_inb : ∀ (v68 : BitVec 32) (v71 : BitVec 32) (k0_hw7 : k0_chk7 v68 v71), ∀ a, (k0_off21 v71) a + S1x32x128.size a ≤ S16x32x3072.size a := fun v68 v71 k0_hw7 => k0_hw7.1.2.2.2.2.2.2.2.2.2.1
theorem k0_off22_inb : ∀ (v68 : BitVec 32) (v71 : BitVec 32) (k0_hw7 : k0_chk7 v68 v71), ∀ a, (k0_off22 v71) a + S1x32x128.size a ≤ S16x32x3072.size a := fun v68 v71 k0_hw7 => k0_hw7.1.2.2.2.2.2.2.2.2.2.2.1
theorem k0_off23_inb : ∀ (v68 : BitVec 32) (v71 : BitVec 32) (k0_hw7 : k0_chk7 v68 v71), ∀ a, (k0_off23 v71) a + S1x32x128.size a ≤ S16x32x3072.size a := fun v68 v71 k0_hw7 => k0_hw7.1.2.2.2.2.2.2.2.2.2.2.2.1
theorem k0_off24_inb : ∀ (v68 : BitVec 32) (v71 : BitVec 32) (k0_hw7 : k0_chk7 v68 v71), ∀ a, (k0_off24 v71) a + S1x32x128.size a ≤ S16x32x3072.size a := fun v68 v71 k0_hw7 => k0_hw7.1.2.2.2.2.2.2.2.2.2.2.2.2.1
theorem k0_off25_inb : ∀ (v68 : BitVec 32) (v71 : BitVec 32) (k0_hw7 : k0_chk7 v68 v71), ∀ a, (k0_off25 v71) a + S1x32x128.size a ≤ S16x32x3072.size a := fun v68 v71 k0_hw7 => k0_hw7.1.2.2.2.2.2.2.2.2.2.2.2.2.2.1
theorem k0_off26_inb : ∀ (v68 : BitVec 32) (v71 : BitVec 32) (k0_hw7 : k0_chk7 v68 v71), ∀ a, (k0_off26 v71) a + S1x32x128.size a ≤ S16x32x3072.size a := fun v68 v71 k0_hw7 => k0_hw7.1.2.2.2.2.2.2.2.2.2.2.2.2.2.2.1
theorem k0_off27_inb : ∀ (v68 : BitVec 32) (v71 : BitVec 32) (k0_hw7 : k0_chk7 v68 v71), ∀ a, (k0_off27 v71) a + S1x32x128.size a ≤ S16x32x3072.size a := fun v68 v71 k0_hw7 => k0_hw7.1.2.2.2.2.2.2.2.2.2.2.2.2.2.2.2.1
theorem k0_off28_inb : ∀ (v68 : BitVec 32) (v71 : BitVec 32) (k0_hw7 : k0_chk7 v68 v71), ∀ a, (k0_off28 v71) a + S1x32x128.size a ≤ S16x32x3072.size a := fun v68 v71 k0_hw7 => k0_hw7.1.2.2.2.2.2.2.2.2.2.2.2.2.2.2.2.2.1
theorem k0_off29_inb : ∀ (v68 : BitVec 32) (v71 : BitVec 32) (k0_hw7 : k0_chk7 v68 v71), ∀ a, (k0_off29 v71) a + S1x32x128.size a ≤ S16x32x3072.size a := fun v68 v71 k0_hw7 => k0_hw7.1.2.2.2.2.2.2.2.2.2.2.2.2.2.2.2.2.2.1
theorem k0_off30_inb : ∀ (v68 : BitVec 32) (v71 : BitVec 32) (k0_hw7 : k0_chk7 v68 v71), ∀ a, (k0_off30 v71) a + S1x32x128.size a ≤ S16x32x3072.size a := fun v68 v71 k0_hw7 => k0_hw7.1.2.2.2.2.2.2.2.2.2.2.2.2.2.2.2.2.2.2.1
theorem k0_off31_inb : ∀ (v68 : BitVec 32) (v71 : BitVec 32) (k0_hw7 : k0_chk7 v68 v71), ∀ a, (k0_off31 v71) a + S1x32x128.size a ≤ S16x32x3072.size a := fun v68 v71 k0_hw7 => k0_hw7.1.2.2.2.2.2.2.2.2.2.2.2.2.2.2.2.2.2.2.2.1
theorem k0_off32_inb : ∀ (v68 : BitVec 32) (v71 : BitVec 32) (k0_hw7 : k0_chk7 v68 v71), ∀ a, (k0_off32 v71) a + S1x32x128.size a ≤ S16x32x3072.size a := fun v68 v71 k0_hw7 => k0_hw7.1.2.2.2.2.2.2.2.2.2.2.2.2.2.2.2.2.2.2.2.2.1
theorem k0_off33_inb : ∀ (v68 : BitVec 32) (v71 : BitVec 32) (k0_hw7 : k0_chk7 v68 v71), ∀ a, (k0_off33 v71) a + S1x32x128.size a ≤ S16x32x3072.size a := fun v68 v71 k0_hw7 => k0_hw7.1.2.2.2.2.2.2.2.2.2.2.2.2.2.2.2.2.2.2.2.2.2.1
theorem k0_off34_inb : ∀ (v68 : BitVec 32) (v71 : BitVec 32) (k0_hw7 : k0_chk7 v68 v71), ∀ a, (k0_off34 v71) a + S1x32x128.size a ≤ S16x32x3072.size a := fun v68 v71 k0_hw7 => k0_hw7.1.2.2.2.2.2.2.2.2.2.2.2.2.2.2.2.2.2.2.2.2.2.2.1
theorem k0_off35_inb : ∀ (v68 : BitVec 32) (v71 : BitVec 32) (k0_hw7 : k0_chk7 v68 v71), ∀ a, (k0_off35 v71) a + S1x32x128.size a ≤ S16x32x3072.size a := fun v68 v71 k0_hw7 => k0_hw7.1.2.2.2.2.2.2.2.2.2.2.2.2.2.2.2.2.2.2.2.2.2.2.2.1
theorem k0_off36_inb : ∀ (v68 : BitVec 32) (v71 : BitVec 32) (k0_hw7 : k0_chk7 v68 v71), ∀ a, (k0_off36 v71) a + S1x32x128.size a ≤ S16x32x3072.size a := fun v68 v71 k0_hw7 => k0_hw7.1.2.2.2.2.2.2.2.2.2.2.2.2.2.2.2.2.2.2.2.2.2.2.2.2.1
theorem k0_off37_inb : ∀ (v68 : BitVec 32) (v71 : BitVec 32) (k0_hw7 : k0_chk7 v68 v71), ∀ a, (k0_off37 v71) a + S1x32x128.size a ≤ S16x32x3072.size a := fun v68 v71 k0_hw7 => k0_hw7.1.2.2.2.2.2.2.2.2.2.2.2.2.2.2.2.2.2.2.2.2.2.2.2.2.2.1
theorem k0_off38_inb : ∀ (v68 : BitVec 32) (v71 : BitVec 32) (k0_hw7 : k0_chk7 v68 v71), ∀ a, (k0_off38 v71) a + S1x32x128.size a ≤ S16x32x3072.size a := fun v68 v71 k0_hw7 => k0_hw7.1.2.2.2.2.2.2.2.2.2.2.2.2.2.2.2.2.2.2.2.2.2.2.2.2.2.2.1
theorem k0_off39_inb : ∀ (v68 : BitVec 32) (v71 : BitVec 32) (k0_hw7 : k0_chk7 v68 v71), ∀ a, (k0_off39 v71) a + S1x32x128.size a ≤ S16x32x3072.size a := fun v68 v71 k0_hw7 => k0_hw7.1.2.2.2.2.2.2.2.2.2.2.2.2.2.2.2.2.2.2.2.2.2.2.2.2.2.2.2.1
theorem k0_off40_inb : ∀ (v68 : BitVec 32) (v71 : BitVec 32) (k0_hw7 : k0_chk7 v68 v71), ∀ a, (k0_off40 v71) a + S1x32x128.size a ≤ S16x32x3072.size a := fun v68 v71 k0_hw7 => k0_hw7.1.2.2.2.2.2.2.2.2.2.2.2.2.2.2.2.2.2.2.2.2.2.2.2.2.2.2.2.2.1
theorem k0_off41_inb : ∀ (v68 : BitVec 32) (v71 : BitVec 32) (k0_hw7 : k0_chk7 v68 v71), ∀ a, (k0_off41 v71) a + S1x32x128.size a ≤ S16x32x3072.size a := fun v68 v71 k0_hw7 => k0_hw7.1.2.2.2.2.2.2.2.2.2.2.2.2.2.2.2.2.2.2.2.2.2.2.2.2.2.2.2.2.2.1
theorem k0_off42_inb : ∀ (v68 : BitVec 32) (v71 : BitVec 32) (k0_hw7 : k0_chk7 v68 v71), ∀ a, (k0_off42 v71) a + S1x32x128.size a ≤ S16x32x3072.size a := fun v68 v71 k0_hw7 => k0_hw7.1.2.2.2.2.2.2.2.2.2.2.2.2.2.2.2.2.2.2.2.2.2.2.2.2.2.2.2.2.2.2.1
theorem k0_off43_inb : ∀ (v68 : BitVec 32) (v71 : BitVec 32) (k0_hw7 : k0_chk7 v68 v71), ∀ a, (k0_off43 v71) a + S1x8x24.size a ≤ S16x32x24.size a := fun v68 v71 k0_hw7 => k0_hw7.1.2.2.2.2.2.2.2.2.2.2.2.2.2.2.2.2.2.2.2.2.2.2.2.2.2.2.2.2.2.2.2
theorem k0_off44_inb : ∀ (v68 : BitVec 32) (v71 : BitVec 32) (k0_hw7 : k0_chk7 v68 v71), ∀ a, (k0_off44 v71) a + S1x8x24.size a ≤ S16x32x24.size a := fun v68 v71 k0_hw7 => k0_hw7.2.1
theorem k0_off45_inb : ∀ (v68 : BitVec 32) (v71 : BitVec 32) (k0_hw7 : k0_chk7 v68 v71), ∀ a, (k0_off45 v71) a + S1x8x24.size a ≤ S16x32x24.size a := fun v68 v71 k0_hw7 => k0_hw7.2.2.1
theorem k0_off46_inb : ∀ (v68 : BitVec 32) (v71 : BitVec 32) (k0_hw7 : k0_chk7 v68 v71), ∀ a, (k0_off46 v71) a + S1x8x24.size a ≤ S16x32x24.size a := fun v68 v71 k0_hw7 => k0_hw7.2.2.2

def k0_off47 (i : grid0.Coords) (arg22 : BitVec 32) : Fin 3 → Nat :=
  let c0_394 : Index := 0#32
  let c0_395 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_391 : BitVec 32 := 1#32
  let v916 : BitVec 32 := Scalar.subi v5 c1_i32_391
  let v917 : BitVec 32 := Scalar.minsi arg22 v916
  let c4_i32_392 : BitVec 32 := 4#32
  let v918 : BitVec 1 := Scalar.cmpi .slt v917 c4_i32_392
  let c0_i32_393 : BitVec 32 := 0#32
  let v919 : BitVec 32 := Scalar.select v918 v917 c0_i32_393
  let v920 : Index := Scalar.indexCast v919
  ![0, 0, v920.toNat]

def k0_off48 (i : grid0.Coords) (arg22 : BitVec 32) : Fin 3 → Nat :=
  let c0_398 : Index := 0#32
  let c0_399 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_391 : BitVec 32 := 1#32
  let v916 : BitVec 32 := Scalar.subi v5 c1_i32_391
  let v917 : BitVec 32 := Scalar.minsi arg22 v916
  let c4_i32_392 : BitVec 32 := 4#32
  let v918 : BitVec 1 := Scalar.cmpi .slt v917 c4_i32_392
  let c0_i32_397 : BitVec 32 := 0#32
  let c4_i32_396 : BitVec 32 := 4#32
  let v922 : BitVec 32 := Scalar.subi v917 c4_i32_396
  let v923 : BitVec 32 := Scalar.select v918 c0_i32_397 v922
  let v924 : Index := Scalar.indexCast v923
  ![0, 0, v924.toNat]

def k0_chk9 (i : grid0.Coords) (arg22 : BitVec 32) : Prop :=
  (∀ a, (k0_off47 i arg22) a + S1x1x1.size a ≤ S1x1x4.size a) ∧
  (∀ a, (k0_off48 i arg22) a + S1x1x1.size a ≤ S1x1x4.size a)
theorem k0_off47_inb : ∀ (i : grid0.Coords) (arg22 : BitVec 32) (k0_hw9 : k0_chk9 i arg22), ∀ a, (k0_off47 i arg22) a + S1x1x1.size a ≤ S1x1x4.size a := fun i arg22 k0_hw9 => k0_hw9.1
theorem k0_off48_inb : ∀ (i : grid0.Coords) (arg22 : BitVec 32) (k0_hw9 : k0_chk9 i arg22), ∀ a, (k0_off48 i arg22) a + S1x1x1.size a ≤ S1x1x4.size a := fun i arg22 k0_hw9 => k0_hw9.2

def k0_off49 (v915 : BitVec 32) (v916 : BitVec 32) : Fin 3 → Nat :=
  let c0_395 : Index := 0#32
  let c4_i32_393 : BitVec 32 := 4#32
  let v917 : BitVec 1 := Scalar.cmpi .slt v915 c4_i32_393
  let c0_i32_394 : BitVec 32 := 0#32
  let v918 : BitVec 32 := Scalar.select v917 v915 c0_i32_394
  let v919 : Index := Scalar.indexCast v918
  let v920 : Index := Scalar.indexCast v916
  ![0, v919.toNat, v920.toNat]

def k0_off50 (v915 : BitVec 32) (v916 : BitVec 32) : Fin 3 → Nat :=
  let c0_398 : Index := 0#32
  let c4_i32_393 : BitVec 32 := 4#32
  let v917 : BitVec 1 := Scalar.cmpi .slt v915 c4_i32_393
  let c0_i32_397 : BitVec 32 := 0#32
  let c4_i32_396 : BitVec 32 := 4#32
  let v922 : BitVec 32 := Scalar.subi v915 c4_i32_396
  let v923 : BitVec 32 := Scalar.select v917 c0_i32_397 v922
  let v924 : Index := Scalar.indexCast v923
  let v925 : Index := Scalar.indexCast v916
  ![0, v924.toNat, v925.toNat]

def k0_chk10 (v915 : BitVec 32) (v916 : BitVec 32) : Prop :=
  (∀ a, (k0_off49 v915 v916) a + S1x1x1.size a ≤ S1x4x128.size a) ∧
  (∀ a, (k0_off50 v915 v916) a + S1x1x1.size a ≤ S1x4x128.size a)
theorem k0_off49_inb : ∀ (v915 : BitVec 32) (v916 : BitVec 32) (k0_hw10 : k0_chk10 v915 v916), ∀ a, (k0_off49 v915 v916) a + S1x1x1.size a ≤ S1x4x128.size a := fun v915 v916 k0_hw10 => k0_hw10.1
theorem k0_off50_inb : ∀ (v915 : BitVec 32) (v916 : BitVec 32) (k0_hw10 : k0_chk10 v915 v916), ∀ a, (k0_off50 v915 v916) a + S1x1x1.size a ≤ S1x4x128.size a := fun v915 v916 k0_hw10 => k0_hw10.2

def k0_mult3 (v915 : BitVec 32) (v921 : BitVec 32) (v926 : BitVec 32) : BitVec 32 :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  v950
def k0_cond6 (v915 : BitVec 32) (v921 : BitVec 32) (v926 : BitVec 32) : BitVec 1 :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c7782_i32_402 : BitVec 32 := 7782#32
  let v931 : BitVec 1 := Scalar.cmpi .slt v928 c7782_i32_402
  let v932 : BitVec 32 := Scalar.extui v931
  let c0_i32_403 : BitVec 32 := 0#32
  let v933 : BitVec 1 := Scalar.cmpi .ne v932 c0_i32_403
  v933

def k0_off51 (v929 : BitVec 32) : Fin 1 → Nat :=
  let c16_i32_401 : BitVec 32 := 16#32
  let v930 : BitVec 32 := Scalar.remsi v929 c16_i32_401
  ![v930.toNat]

def k0_off52 (v929 : BitVec 32) : Fin 3 → Nat :=
  let c16_i32_401 : BitVec 32 := 16#32
  let v930 : BitVec 32 := Scalar.remsi v929 c16_i32_401
  let c0_i32_417 : BitVec 32 := 0#32
  let c0_i32_418 : BitVec 32 := 0#32
  ![v930.toNat, 0, 0]
def k0_off53 (v915 : BitVec 32) (v921 : BitVec 32) (v926 : BitVec 32) : Fin 2 → Nat :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  let v951 : BitVec 32 := v950
  let c0_i32_419 : BitVec 32 := 0#32
  ![v951.toNat, 0]
def k0_off54 (v929 : BitVec 32) : Fin 3 → Nat :=
  let c16_i32_401 : BitVec 32 := 16#32
  let v930 : BitVec 32 := Scalar.remsi v929 c16_i32_401
  let c0_i32_420 : BitVec 32 := 0#32
  let c0_i32_421 : BitVec 32 := 0#32
  ![v930.toNat, 0, 0]

def k0_chk12 (v915 : BitVec 32) (v921 : BitVec 32) (v926 : BitVec 32) (v929 : BitVec 32) : Prop :=
  (∀ (k0_h6 : k0_cond6 v915 v921 v926 = 1#1), ∀ a, (k0_off51 v929) a + S1.size a ≤ S16.size a) ∧
  (∀ (k0_h6 : k0_cond6 v915 v921 v926 = 1#1), ∀ a, (k0_off52 v929) a + S1x32x3072.size a ≤ S16x32x3072.size a) ∧
  (∀ (k0_h6 : k0_cond6 v915 v921 v926 = 1#1), ∀ (hinb : ∀ a, (k0_off52 v929) a + S1x32x3072.size a ≤ S16x32x3072.size a), (Rect.unit (s := S16x32x3072) (k0_off52 v929) S1x32x3072.size hinb).WholeWords (EltTy.packing .fp8e4m3)) ∧
  (∀ (k0_h6 : k0_cond6 v915 v921 v926 = 1#1), ∀ a, (k0_off54 v929) a + S1x32x24.size a ≤ S16x32x24.size a)
theorem k0_off51_inb : ∀ (v915 : BitVec 32) (v921 : BitVec 32) (v926 : BitVec 32) (v929 : BitVec 32) (k0_hw12 : k0_chk12 v915 v921 v926 v929), ∀ (k0_h6 : k0_cond6 v915 v921 v926 = 1#1), ∀ a, (k0_off51 v929) a + S1.size a ≤ S16.size a := fun v915 v921 v926 v929 k0_hw12 k0_h6 => k0_hw12.1 k0_h6
theorem k0_off52_inb : ∀ (v915 : BitVec 32) (v921 : BitVec 32) (v926 : BitVec 32) (v929 : BitVec 32) (k0_hw12 : k0_chk12 v915 v921 v926 v929), ∀ (k0_h6 : k0_cond6 v915 v921 v926 = 1#1), ∀ a, (k0_off52 v929) a + S1x32x3072.size a ≤ S16x32x3072.size a := fun v915 v921 v926 v929 k0_hw12 k0_h6 => k0_hw12.2.1 k0_h6
theorem k0_off52_wordsfp8e4m3 : ∀ (v915 : BitVec 32) (v921 : BitVec 32) (v926 : BitVec 32) (v929 : BitVec 32) (k0_hw12 : k0_chk12 v915 v921 v926 v929), ∀ (k0_h6 : k0_cond6 v915 v921 v926 = 1#1), (Rect.unit (s := S16x32x3072) (k0_off52 v929) S1x32x3072.size (k0_off52_inb v915 v921 v926 v929 k0_hw12 k0_h6)).WholeWords (EltTy.packing .fp8e4m3) := fun v915 v921 v926 v929 k0_hw12 k0_h6 => k0_hw12.2.2.1 k0_h6 (k0_off52_inb v915 v921 v926 v929 k0_hw12 k0_h6)
theorem k0_off54_inb : ∀ (v915 : BitVec 32) (v921 : BitVec 32) (v926 : BitVec 32) (v929 : BitVec 32) (k0_hw12 : k0_chk12 v915 v921 v926 v929), ∀ (k0_h6 : k0_cond6 v915 v921 v926 = 1#1), ∀ a, (k0_off54 v929) a + S1x32x24.size a ≤ S16x32x24.size a := fun v915 v921 v926 v929 k0_hw12 k0_h6 => k0_hw12.2.2.2 k0_h6

def k0_off55 (v915 : BitVec 32) (v921 : BitVec 32) (v926 : BitVec 32) : Fin 2 → Nat :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  let v951 : BitVec 32 := v950
  let c0_i32_422 : BitVec 32 := 0#32
  ![v951.toNat, 0]

def k0_chk11 (v915 : BitVec 32) (v921 : BitVec 32) (v926 : BitVec 32) : Prop :=
  (∀ (k0_h6 : k0_cond6 v915 v921 v926 = 1#1), 32 ∣ (k0_mult3 v915 v921 v926).toNat) ∧
  (∀ (k0_h6 : k0_cond6 v915 v921 v926 = 1#1), ∀ a, (k0_off53 v915 v921 v926) a + S32x3072.size a ≤ S249037x3072.size a) ∧
  (∀ (k0_h6 : k0_cond6 v915 v921 v926 = 1#1), ∀ (hinb : ∀ a, (k0_off53 v915 v921 v926) a + S32x3072.size a ≤ S249037x3072.size a), (Rect.unit (s := S249037x3072) (k0_off53 v915 v921 v926) S32x3072.size hinb).WholeWords (EltTy.packing .fp8e4m3)) ∧
  (∀ (k0_h6 : k0_cond6 v915 v921 v926 = 1#1), ∀ a, (k0_off55 v915 v921 v926) a + S32x24.size a ≤ S249037x24.size a)
theorem k0_mult3_dvd : ∀ (v915 : BitVec 32) (v921 : BitVec 32) (v926 : BitVec 32) (k0_hw11 : k0_chk11 v915 v921 v926), ∀ (k0_h6 : k0_cond6 v915 v921 v926 = 1#1), 32 ∣ (k0_mult3 v915 v921 v926).toNat := fun v915 v921 v926 k0_hw11 k0_h6 => k0_hw11.1 k0_h6
theorem k0_off53_inb : ∀ (v915 : BitVec 32) (v921 : BitVec 32) (v926 : BitVec 32) (k0_hw11 : k0_chk11 v915 v921 v926), ∀ (k0_h6 : k0_cond6 v915 v921 v926 = 1#1), ∀ a, (k0_off53 v915 v921 v926) a + S32x3072.size a ≤ S249037x3072.size a := fun v915 v921 v926 k0_hw11 k0_h6 => k0_hw11.2.1 k0_h6
theorem k0_off53_wordsfp8e4m3 : ∀ (v915 : BitVec 32) (v921 : BitVec 32) (v926 : BitVec 32) (k0_hw11 : k0_chk11 v915 v921 v926), ∀ (k0_h6 : k0_cond6 v915 v921 v926 = 1#1), (Rect.unit (s := S249037x3072) (k0_off53 v915 v921 v926) S32x3072.size (k0_off53_inb v915 v921 v926 k0_hw11 k0_h6)).WholeWords (EltTy.packing .fp8e4m3) := fun v915 v921 v926 k0_hw11 k0_h6 => k0_hw11.2.2.1 k0_h6 (k0_off53_inb v915 v921 v926 k0_hw11 k0_h6)
theorem k0_off55_inb : ∀ (v915 : BitVec 32) (v921 : BitVec 32) (v926 : BitVec 32) (k0_hw11 : k0_chk11 v915 v921 v926), ∀ (k0_h6 : k0_cond6 v915 v921 v926 = 1#1), ∀ a, (k0_off55 v915 v921 v926) a + S32x24.size a ≤ S249037x24.size a := fun v915 v921 v926 k0_hw11 k0_h6 => k0_hw11.2.2.2 k0_h6

def k0_off56 (i : grid0.Coords) (arg23 : BitVec 32) : Fin 3 → Nat :=
  let c0_419 : Index := 0#32
  let c0_420 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_416 : BitVec 32 := 1#32
  let v951 : BitVec 32 := Scalar.subi v5 c1_i32_416
  let v952 : BitVec 32 := Scalar.minsi arg23 v951
  let c4_i32_417 : BitVec 32 := 4#32
  let v953 : BitVec 1 := Scalar.cmpi .slt v952 c4_i32_417
  let c0_i32_418 : BitVec 32 := 0#32
  let v954 : BitVec 32 := Scalar.select v953 v952 c0_i32_418
  let v955 : Index := Scalar.indexCast v954
  ![0, 0, v955.toNat]

def k0_off57 (i : grid0.Coords) (arg23 : BitVec 32) : Fin 3 → Nat :=
  let c0_423 : Index := 0#32
  let c0_424 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_416 : BitVec 32 := 1#32
  let v951 : BitVec 32 := Scalar.subi v5 c1_i32_416
  let v952 : BitVec 32 := Scalar.minsi arg23 v951
  let c4_i32_417 : BitVec 32 := 4#32
  let v953 : BitVec 1 := Scalar.cmpi .slt v952 c4_i32_417
  let c0_i32_422 : BitVec 32 := 0#32
  let c4_i32_421 : BitVec 32 := 4#32
  let v957 : BitVec 32 := Scalar.subi v952 c4_i32_421
  let v958 : BitVec 32 := Scalar.select v953 c0_i32_422 v957
  let v959 : Index := Scalar.indexCast v958
  ![0, 0, v959.toNat]

def k0_chk13 (i : grid0.Coords) (arg23 : BitVec 32) : Prop :=
  (∀ a, (k0_off56 i arg23) a + S1x1x1.size a ≤ S1x1x4.size a) ∧
  (∀ a, (k0_off57 i arg23) a + S1x1x1.size a ≤ S1x1x4.size a)
theorem k0_off56_inb : ∀ (i : grid0.Coords) (arg23 : BitVec 32) (k0_hw13 : k0_chk13 i arg23), ∀ a, (k0_off56 i arg23) a + S1x1x1.size a ≤ S1x1x4.size a := fun i arg23 k0_hw13 => k0_hw13.1
theorem k0_off57_inb : ∀ (i : grid0.Coords) (arg23 : BitVec 32) (k0_hw13 : k0_chk13 i arg23), ∀ a, (k0_off57 i arg23) a + S1x1x1.size a ≤ S1x1x4.size a := fun i arg23 k0_hw13 => k0_hw13.2

@[reducible] def k0_t2_loop (v30 : BitVec 32) : Scf.Loop 32 :=
  let c0_i32_11 : BitVec 32 := 0#32
  let v31 : BitVec 32 := Scalar.subi v30 c0_i32_11
  let c1_i32_13 : BitVec 32 := 1#32
  let v33 : BitVec 32 := Scalar.divsi v31 c1_i32_13
  let v34 : BitVec 32 := Scalar.muli v33 c1_i32_13
  let v35 : BitVec 32 := Scalar.addi c0_i32_11 v34
  let v32 : BitVec 32 := Scalar.addi c0_i32_11 v31
  let c1_i32_15 : BitVec 32 := 1#32
  ⟨v35, v32, c1_i32_15⟩
def k0_off58 (v30 : BitVec 32) (k0_t2 : Fin (k0_t2_loop v30).trips) : Fin 3 → Nat :=
  let c0_60 : Index := 0#32
  let c0_61 : Index := 0#32
  let c0_i32_11 : BitVec 32 := 0#32
  let v31 : BitVec 32 := Scalar.subi v30 c0_i32_11
  let c1_i32_13 : BitVec 32 := 1#32
  let v33 : BitVec 32 := Scalar.divsi v31 c1_i32_13
  let v34 : BitVec 32 := Scalar.muli v33 c1_i32_13
  let v35 : BitVec 32 := Scalar.addi c0_i32_11 v34
  let c1_i32_15 : BitVec 32 := 1#32
  let arg20 : BitVec 32 := Scf.iv v35 c1_i32_15 k0_t2
  let v67 : Index := Scalar.indexCast arg20
  ![0, 0, v67.toNat]

def k0_chk6 (v30 : BitVec 32) : Prop :=
  ((k0_t1_loop v30).OK) ∧
  (∀ k0_t1 : Fin (k0_t1_loop v30).trips, ∀ a, (k0_off12 v30 k0_t1) a + S1x1x1.size a ≤ S1x4x128.size a) ∧
  ((k0_t2_loop v30).OK) ∧
  (∀ k0_t2 : Fin (k0_t2_loop v30).trips, ∀ a, (k0_off58 v30 k0_t2) a + S1x1x1.size a ≤ S1x4x128.size a)
theorem k0_t1_ok : ∀ (v30 : BitVec 32) (k0_hw6 : k0_chk6 v30), (k0_t1_loop v30).OK := fun v30 k0_hw6 => k0_hw6.1
theorem k0_off12_inb : ∀ (v30 : BitVec 32) (k0_hw6 : k0_chk6 v30) (k0_t1 : Fin (k0_t1_loop v30).trips), ∀ a, (k0_off12 v30 k0_t1) a + S1x1x1.size a ≤ S1x4x128.size a := fun v30 k0_hw6 k0_t1 => k0_hw6.2.1 k0_t1
theorem k0_t2_ok : ∀ (v30 : BitVec 32) (k0_hw6 : k0_chk6 v30), (k0_t2_loop v30).OK := fun v30 k0_hw6 => k0_hw6.2.2.1
theorem k0_off58_inb : ∀ (v30 : BitVec 32) (k0_hw6 : k0_chk6 v30) (k0_t2 : Fin (k0_t2_loop v30).trips), ∀ a, (k0_off58 v30 k0_t2) a + S1x1x1.size a ≤ S1x4x128.size a := fun v30 k0_hw6 k0_t2 => k0_hw6.2.2.2 k0_t2

def k0_mult4 : BitVec 32 :=
  let c0_i32_391 : BitVec 32 := 0#32
  c0_i32_391
def k0_off59 (v71 : BitVec 32) : Fin 1 → Nat :=
  let c16_i32_63 : BitVec 32 := 16#32
  let v72 : BitVec 32 := Scalar.remsi v71 c16_i32_63
  ![v72.toNat]
def k0_cond7 (v68 : BitVec 32) : BitVec 1 :=
  let c6_i32 : BitVec 32 := 6#32
  let v69 : BitVec 32 := Scalar.shrsi v68 c6_i32
  let c7782_i32 : BitVec 32 := 7782#32
  let v73 : BitVec 1 := Scalar.cmpi .slt v69 c7782_i32
  let v74 : BitVec 32 := Scalar.extui v73
  let c0_i32_64 : BitVec 32 := 0#32
  let v75 : BitVec 1 := Scalar.cmpi .ne v74 c0_i32_64
  v75

def k0_off60 (v71 : BitVec 32) : Fin 3 → Nat :=
  let c16_i32_63 : BitVec 32 := 16#32
  let v72 : BitVec 32 := Scalar.remsi v71 c16_i32_63
  let c0_i32_392 : BitVec 32 := 0#32
  let c0_i32_393 : BitVec 32 := 0#32
  ![v72.toNat, 0, 0]
def k0_off61 (v71 : BitVec 32) : Fin 3 → Nat :=
  let c16_i32_63 : BitVec 32 := 16#32
  let v72 : BitVec 32 := Scalar.remsi v71 c16_i32_63
  let c0_i32_395 : BitVec 32 := 0#32
  let c0_i32_396 : BitVec 32 := 0#32
  ![v72.toNat, 0, 0]
def k0_off62 (v71 : BitVec 32) : Fin 3 → Nat :=
  let c16_i32_63 : BitVec 32 := 16#32
  let v72 : BitVec 32 := Scalar.remsi v71 c16_i32_63
  let v917 : Index := Scalar.indexCast v72
  let c0_393 : Index := 0#32
  let c0_394 : Index := 0#32
  ![v917.toNat, 0, 0]
def k0_cond8 (v68 : BitVec 32) : BitVec 1 :=
  let c6_i32 : BitVec 32 := 6#32
  let v69 : BitVec 32 := Scalar.shrsi v68 c6_i32
  let c7782_i32_65 : BitVec 32 := 7782#32
  let v76 : BitVec 1 := Scalar.cmpi .sge v69 c7782_i32_65
  let v77 : BitVec 32 := Scalar.extui v76
  let c0_i32_66 : BitVec 32 := 0#32
  let v78 : BitVec 1 := Scalar.cmpi .ne v77 c0_i32_66
  v78

def k0_off63 (v71 : BitVec 32) : Fin 3 → Nat :=
  let c16_i32_63 : BitVec 32 := 16#32
  let v72 : BitVec 32 := Scalar.remsi v71 c16_i32_63
  let v922 : Index := Scalar.indexCast v72
  let c0_397 : Index := 0#32
  let c0_398 : Index := 0#32
  ![v922.toNat, 0, 0]
def k0_off64 (v71 : BitVec 32) : Fin 3 → Nat :=
  let c16_i32_63 : BitVec 32 := 16#32
  let v72 : BitVec 32 := Scalar.remsi v71 c16_i32_63
  let v84 : Index := Scalar.indexCast v72
  let c0_68 : Index := 0#32
  let c0_69 : Index := 0#32
  ![v84.toNat, 0, 0]
def k0_off65 (v68 : BitVec 32) (c0_i32_70 : BitVec 32) (c0_i32_71 : BitVec 32) : Fin 2 → Nat :=
  let c63_i32 : BitVec 32 := 63#32
  let v70 : BitVec 32 := Scalar.andi v68 c63_i32
  let c64_i32 : BitVec 32 := 64#32
  let v79 : BitVec 32 := Scalar.muli v70 c64_i32
  let c6_i32 : BitVec 32 := 6#32
  let v69 : BitVec 32 := Scalar.shrsi v68 c6_i32
  let c1_i32_67 : BitVec 32 := 1#32
  let v80 : BitVec 32 := Scalar.andi v69 c1_i32_67
  let c32_i32 : BitVec 32 := 32#32
  let v81 : BitVec 32 := Scalar.muli v80 c32_i32
  let v82 : BitVec 32 := Scalar.addi v79 v81
  let c25_i32 : BitVec 32 := 25#32
  let v83 : BitVec 32 := Scalar.muli v82 c25_i32
  let v89 : BitVec 32 := Scalar.addi v83 c0_i32_70
  let v90 : BitVec 32 := Scalar.addi v89 c0_i32_71
  let v91 : Index := Scalar.indexCast v90
  let c0_72 : Index := 0#32
  ![v91.toNat, 0]

def k0_chk15 (v68 : BitVec 32) : Prop :=
  (∀ (r₁ : Fin 4) (r₂ : Fin 25), ∀ a, S8x128.size a = 0 ∨ (k0_off65 v68 (BitVec.ofNat 32 (200 * r₁.val)) (BitVec.ofNat 32 r₂.val)) a + (![25, 1] : Fin 2 → Nat) a * (S8x128.size a - 1) < S102432x128.size a)
theorem k0_off65_inb : ∀ (v68 : BitVec 32) (k0_hw15 : k0_chk15 v68), ∀ (r₁ : Fin 4) (r₂ : Fin 25), ∀ a, S8x128.size a = 0 ∨ (k0_off65 v68 (BitVec.ofNat 32 (200 * r₁.val)) (BitVec.ofNat 32 r₂.val)) a + (![25, 1] : Fin 2 → Nat) a * (S8x128.size a - 1) < S102432x128.size a := fun v68 k0_hw15 r₁ r₂ => k0_hw15 r₁ r₂

def k0_off66 (v71 : BitVec 32) : Fin 3 → Nat :=
  let c16_i32_63 : BitVec 32 := 16#32
  let v72 : BitVec 32 := Scalar.remsi v71 c16_i32_63
  let v116 : Index := Scalar.indexCast v72
  let c0_79 : Index := 0#32
  let c128 : Index := 128#32
  ![v116.toNat, 0, 128]
def k0_off67 (v71 : BitVec 32) : Fin 3 → Nat :=
  let c16_i32_63 : BitVec 32 := 16#32
  let v72 : BitVec 32 := Scalar.remsi v71 c16_i32_63
  let v148 : Index := Scalar.indexCast v72
  let c0_92 : Index := 0#32
  let c256 : Index := 256#32
  ![v148.toNat, 0, 256]
def k0_off68 (v71 : BitVec 32) : Fin 3 → Nat :=
  let c16_i32_63 : BitVec 32 := 16#32
  let v72 : BitVec 32 := Scalar.remsi v71 c16_i32_63
  let v180 : Index := Scalar.indexCast v72
  let c0_104 : Index := 0#32
  let c384 : Index := 384#32
  ![v180.toNat, 0, 384]
def k0_off69 (v71 : BitVec 32) : Fin 3 → Nat :=
  let c16_i32_63 : BitVec 32 := 16#32
  let v72 : BitVec 32 := Scalar.remsi v71 c16_i32_63
  let v212 : Index := Scalar.indexCast v72
  let c0_116 : Index := 0#32
  let c512 : Index := 512#32
  ![v212.toNat, 0, 512]
def k0_off70 (v71 : BitVec 32) : Fin 3 → Nat :=
  let c16_i32_63 : BitVec 32 := 16#32
  let v72 : BitVec 32 := Scalar.remsi v71 c16_i32_63
  let v244 : Index := Scalar.indexCast v72
  let c0_129 : Index := 0#32
  let c640 : Index := 640#32
  ![v244.toNat, 0, 640]
def k0_off71 (v71 : BitVec 32) : Fin 3 → Nat :=
  let c16_i32_63 : BitVec 32 := 16#32
  let v72 : BitVec 32 := Scalar.remsi v71 c16_i32_63
  let v276 : Index := Scalar.indexCast v72
  let c0_141 : Index := 0#32
  let c768 : Index := 768#32
  ![v276.toNat, 0, 768]
def k0_off72 (v71 : BitVec 32) : Fin 3 → Nat :=
  let c16_i32_63 : BitVec 32 := 16#32
  let v72 : BitVec 32 := Scalar.remsi v71 c16_i32_63
  let v308 : Index := Scalar.indexCast v72
  let c0_154 : Index := 0#32
  let c896 : Index := 896#32
  ![v308.toNat, 0, 896]
def k0_off73 (v71 : BitVec 32) : Fin 3 → Nat :=
  let c16_i32_63 : BitVec 32 := 16#32
  let v72 : BitVec 32 := Scalar.remsi v71 c16_i32_63
  let v340 : Index := Scalar.indexCast v72
  let c0_166 : Index := 0#32
  let c1024 : Index := 1024#32
  ![v340.toNat, 0, 1024]
def k0_off74 (v71 : BitVec 32) : Fin 3 → Nat :=
  let c16_i32_63 : BitVec 32 := 16#32
  let v72 : BitVec 32 := Scalar.remsi v71 c16_i32_63
  let v372 : Index := Scalar.indexCast v72
  let c0_179 : Index := 0#32
  let c1152 : Index := 1152#32
  ![v372.toNat, 0, 1152]
def k0_off75 (v71 : BitVec 32) : Fin 3 → Nat :=
  let c16_i32_63 : BitVec 32 := 16#32
  let v72 : BitVec 32 := Scalar.remsi v71 c16_i32_63
  let v404 : Index := Scalar.indexCast v72
  let c0_191 : Index := 0#32
  let c1280 : Index := 1280#32
  ![v404.toNat, 0, 1280]
def k0_off76 (v71 : BitVec 32) : Fin 3 → Nat :=
  let c16_i32_63 : BitVec 32 := 16#32
  let v72 : BitVec 32 := Scalar.remsi v71 c16_i32_63
  let v436 : Index := Scalar.indexCast v72
  let c0_203 : Index := 0#32
  let c1408 : Index := 1408#32
  ![v436.toNat, 0, 1408]
def k0_off77 (v71 : BitVec 32) : Fin 3 → Nat :=
  let c16_i32_63 : BitVec 32 := 16#32
  let v72 : BitVec 32 := Scalar.remsi v71 c16_i32_63
  let v468 : Index := Scalar.indexCast v72
  let c0_215 : Index := 0#32
  let c1536 : Index := 1536#32
  ![v468.toNat, 0, 1536]
def k0_off78 (v71 : BitVec 32) : Fin 3 → Nat :=
  let c16_i32_63 : BitVec 32 := 16#32
  let v72 : BitVec 32 := Scalar.remsi v71 c16_i32_63
  let v500 : Index := Scalar.indexCast v72
  let c0_227 : Index := 0#32
  let c1664 : Index := 1664#32
  ![v500.toNat, 0, 1664]
def k0_off79 (v71 : BitVec 32) : Fin 3 → Nat :=
  let c16_i32_63 : BitVec 32 := 16#32
  let v72 : BitVec 32 := Scalar.remsi v71 c16_i32_63
  let v532 : Index := Scalar.indexCast v72
  let c0_239 : Index := 0#32
  let c1792 : Index := 1792#32
  ![v532.toNat, 0, 1792]
def k0_off80 (v71 : BitVec 32) : Fin 3 → Nat :=
  let c16_i32_63 : BitVec 32 := 16#32
  let v72 : BitVec 32 := Scalar.remsi v71 c16_i32_63
  let v564 : Index := Scalar.indexCast v72
  let c0_251 : Index := 0#32
  let c1920 : Index := 1920#32
  ![v564.toNat, 0, 1920]
def k0_off81 (v71 : BitVec 32) : Fin 3 → Nat :=
  let c16_i32_63 : BitVec 32 := 16#32
  let v72 : BitVec 32 := Scalar.remsi v71 c16_i32_63
  let v596 : Index := Scalar.indexCast v72
  let c0_263 : Index := 0#32
  let c2048 : Index := 2048#32
  ![v596.toNat, 0, 2048]
def k0_off82 (v71 : BitVec 32) : Fin 3 → Nat :=
  let c16_i32_63 : BitVec 32 := 16#32
  let v72 : BitVec 32 := Scalar.remsi v71 c16_i32_63
  let v628 : Index := Scalar.indexCast v72
  let c0_276 : Index := 0#32
  let c2176 : Index := 2176#32
  ![v628.toNat, 0, 2176]
def k0_off83 (v71 : BitVec 32) : Fin 3 → Nat :=
  let c16_i32_63 : BitVec 32 := 16#32
  let v72 : BitVec 32 := Scalar.remsi v71 c16_i32_63
  let v660 : Index := Scalar.indexCast v72
  let c0_288 : Index := 0#32
  let c2304 : Index := 2304#32
  ![v660.toNat, 0, 2304]
def k0_off84 (v71 : BitVec 32) : Fin 3 → Nat :=
  let c16_i32_63 : BitVec 32 := 16#32
  let v72 : BitVec 32 := Scalar.remsi v71 c16_i32_63
  let v692 : Index := Scalar.indexCast v72
  let c0_300 : Index := 0#32
  let c2432 : Index := 2432#32
  ![v692.toNat, 0, 2432]
def k0_off85 (v71 : BitVec 32) : Fin 3 → Nat :=
  let c16_i32_63 : BitVec 32 := 16#32
  let v72 : BitVec 32 := Scalar.remsi v71 c16_i32_63
  let v724 : Index := Scalar.indexCast v72
  let c0_312 : Index := 0#32
  let c2560 : Index := 2560#32
  ![v724.toNat, 0, 2560]
def k0_off86 (v71 : BitVec 32) : Fin 3 → Nat :=
  let c16_i32_63 : BitVec 32 := 16#32
  let v72 : BitVec 32 := Scalar.remsi v71 c16_i32_63
  let v756 : Index := Scalar.indexCast v72
  let c0_324 : Index := 0#32
  let c2688 : Index := 2688#32
  ![v756.toNat, 0, 2688]
def k0_off87 (v71 : BitVec 32) : Fin 3 → Nat :=
  let c16_i32_63 : BitVec 32 := 16#32
  let v72 : BitVec 32 := Scalar.remsi v71 c16_i32_63
  let v788 : Index := Scalar.indexCast v72
  let c0_336 : Index := 0#32
  let c2816 : Index := 2816#32
  ![v788.toNat, 0, 2816]
def k0_off88 (v71 : BitVec 32) : Fin 3 → Nat :=
  let c16_i32_63 : BitVec 32 := 16#32
  let v72 : BitVec 32 := Scalar.remsi v71 c16_i32_63
  let v820 : Index := Scalar.indexCast v72
  let c0_348 : Index := 0#32
  let c2944 : Index := 2944#32
  ![v820.toNat, 0, 2944]
def k0_off89 (v71 : BitVec 32) : Fin 3 → Nat :=
  let c16_i32_63 : BitVec 32 := 16#32
  let v72 : BitVec 32 := Scalar.remsi v71 c16_i32_63
  let v852 : Index := Scalar.indexCast v72
  let c0_360 : Index := 0#32
  let c0_361 : Index := 0#32
  ![v852.toNat, 0, 0]
def k0_off90 (v71 : BitVec 32) : Fin 3 → Nat :=
  let c16_i32_63 : BitVec 32 := 16#32
  let v72 : BitVec 32 := Scalar.remsi v71 c16_i32_63
  let v864 : Index := Scalar.indexCast v72
  let c8 : Index := 8#32
  let c0_365 : Index := 0#32
  ![v864.toNat, 8, 0]
def k0_off91 (v71 : BitVec 32) : Fin 3 → Nat :=
  let c16_i32_63 : BitVec 32 := 16#32
  let v72 : BitVec 32 := Scalar.remsi v71 c16_i32_63
  let v876 : Index := Scalar.indexCast v72
  let c16 : Index := 16#32
  let c0_370 : Index := 0#32
  ![v876.toNat, 16, 0]
def k0_off92 (v71 : BitVec 32) : Fin 3 → Nat :=
  let c16_i32_63 : BitVec 32 := 16#32
  let v72 : BitVec 32 := Scalar.remsi v71 c16_i32_63
  let v888 : Index := Scalar.indexCast v72
  let c24 : Index := 24#32
  let c0_375 : Index := 0#32
  ![v888.toNat, 24, 0]

def k0_chk14_0 (v68 : BitVec 32) (v71 : BitVec 32) : Prop :=
  (∀ (k0_h7 : k0_cond7 v68 = 1#1), ∀ a, (k0_off59 v71) a + S1.size a ≤ S16.size a) ∧
  (∀ (k0_h7 : k0_cond7 v68 = 1#1), ∀ a, (k0_off60 v71) a + S1x32x3072.size a ≤ S16x32x3072.size a) ∧
  (∀ (k0_h7 : k0_cond7 v68 = 1#1), ∀ (hinb : ∀ a, (k0_off60 v71) a + S1x32x3072.size a ≤ S16x32x3072.size a), (Rect.unit (s := S16x32x3072) (k0_off60 v71) S1x32x3072.size hinb).WholeWords (EltTy.packing .fp8e4m3)) ∧
  (∀ (k0_h7 : k0_cond7 v68 = 1#1), ∀ a, (k0_off61 v71) a + S1x32x24.size a ≤ S16x32x24.size a) ∧
  (∀ (k0_h8 : k0_cond8 v68 = 1#1), ∀ a, (k0_off62 v71) a + S1x32x3072.size a ≤ S16x32x3072.size a) ∧
  (∀ (k0_h8 : k0_cond8 v68 = 1#1), ∀ (hinb : ∀ a, (k0_off62 v71) a + S1x32x3072.size a ≤ S16x32x3072.size a), (Rect.unit (s := S16x32x3072) (k0_off62 v71) S1x32x3072.size hinb).PackedRows (EltTy.packing .fp8e4m3)) ∧
  (∀ (k0_h8 : k0_cond8 v68 = 1#1), ∀ a, (k0_off63 v71) a + S1x32x24.size a ≤ S16x32x24.size a) ∧
  (∀ a, (k0_off64 v71) a + S1x32x128.size a ≤ S16x32x3072.size a) ∧
  (∀ a, (k0_off66 v71) a + S1x32x128.size a ≤ S16x32x3072.size a) ∧
  (∀ a, (k0_off67 v71) a + S1x32x128.size a ≤ S16x32x3072.size a) ∧
  (∀ a, (k0_off68 v71) a + S1x32x128.size a ≤ S16x32x3072.size a) ∧
  (∀ a, (k0_off69 v71) a + S1x32x128.size a ≤ S16x32x3072.size a) ∧
  (∀ a, (k0_off70 v71) a + S1x32x128.size a ≤ S16x32x3072.size a) ∧
  (∀ a, (k0_off71 v71) a + S1x32x128.size a ≤ S16x32x3072.size a) ∧
  (∀ a, (k0_off72 v71) a + S1x32x128.size a ≤ S16x32x3072.size a) ∧
  (∀ a, (k0_off73 v71) a + S1x32x128.size a ≤ S16x32x3072.size a) ∧
  (∀ a, (k0_off74 v71) a + S1x32x128.size a ≤ S16x32x3072.size a) ∧
  (∀ a, (k0_off75 v71) a + S1x32x128.size a ≤ S16x32x3072.size a) ∧
  (∀ a, (k0_off76 v71) a + S1x32x128.size a ≤ S16x32x3072.size a) ∧
  (∀ a, (k0_off77 v71) a + S1x32x128.size a ≤ S16x32x3072.size a) ∧
  (∀ a, (k0_off78 v71) a + S1x32x128.size a ≤ S16x32x3072.size a) ∧
  (∀ a, (k0_off79 v71) a + S1x32x128.size a ≤ S16x32x3072.size a) ∧
  (∀ a, (k0_off80 v71) a + S1x32x128.size a ≤ S16x32x3072.size a) ∧
  (∀ a, (k0_off81 v71) a + S1x32x128.size a ≤ S16x32x3072.size a) ∧
  (∀ a, (k0_off82 v71) a + S1x32x128.size a ≤ S16x32x3072.size a) ∧
  (∀ a, (k0_off83 v71) a + S1x32x128.size a ≤ S16x32x3072.size a) ∧
  (∀ a, (k0_off84 v71) a + S1x32x128.size a ≤ S16x32x3072.size a) ∧
  (∀ a, (k0_off85 v71) a + S1x32x128.size a ≤ S16x32x3072.size a) ∧
  (∀ a, (k0_off86 v71) a + S1x32x128.size a ≤ S16x32x3072.size a) ∧
  (∀ a, (k0_off87 v71) a + S1x32x128.size a ≤ S16x32x3072.size a) ∧
  (∀ a, (k0_off88 v71) a + S1x32x128.size a ≤ S16x32x3072.size a) ∧
  (∀ a, (k0_off89 v71) a + S1x8x24.size a ≤ S16x32x24.size a)
def k0_chk14_1 (v68 : BitVec 32) (v71 : BitVec 32) : Prop :=
  (∀ a, (k0_off90 v71) a + S1x8x24.size a ≤ S16x32x24.size a) ∧
  (∀ a, (k0_off91 v71) a + S1x8x24.size a ≤ S16x32x24.size a) ∧
  (∀ a, (k0_off92 v71) a + S1x8x24.size a ≤ S16x32x24.size a)
def k0_chk14 (v68 : BitVec 32) (v71 : BitVec 32) : Prop :=
  k0_chk14_0 v68 v71 ∧
  k0_chk14_1 v68 v71
theorem k0_off59_inb : ∀ (v68 : BitVec 32) (v71 : BitVec 32) (k0_hw14 : k0_chk14 v68 v71), ∀ (k0_h7 : k0_cond7 v68 = 1#1), ∀ a, (k0_off59 v71) a + S1.size a ≤ S16.size a := fun v68 v71 k0_hw14 k0_h7 => k0_hw14.1.1 k0_h7
theorem k0_off60_inb : ∀ (v68 : BitVec 32) (v71 : BitVec 32) (k0_hw14 : k0_chk14 v68 v71), ∀ (k0_h7 : k0_cond7 v68 = 1#1), ∀ a, (k0_off60 v71) a + S1x32x3072.size a ≤ S16x32x3072.size a := fun v68 v71 k0_hw14 k0_h7 => k0_hw14.1.2.1 k0_h7
theorem k0_off60_wordsfp8e4m3 : ∀ (v68 : BitVec 32) (v71 : BitVec 32) (k0_hw14 : k0_chk14 v68 v71), ∀ (k0_h7 : k0_cond7 v68 = 1#1), (Rect.unit (s := S16x32x3072) (k0_off60 v71) S1x32x3072.size (k0_off60_inb v68 v71 k0_hw14 k0_h7)).WholeWords (EltTy.packing .fp8e4m3) := fun v68 v71 k0_hw14 k0_h7 => k0_hw14.1.2.2.1 k0_h7 (k0_off60_inb v68 v71 k0_hw14 k0_h7)
theorem k0_off61_inb : ∀ (v68 : BitVec 32) (v71 : BitVec 32) (k0_hw14 : k0_chk14 v68 v71), ∀ (k0_h7 : k0_cond7 v68 = 1#1), ∀ a, (k0_off61 v71) a + S1x32x24.size a ≤ S16x32x24.size a := fun v68 v71 k0_hw14 k0_h7 => k0_hw14.1.2.2.2.1 k0_h7
theorem k0_off62_inb : ∀ (v68 : BitVec 32) (v71 : BitVec 32) (k0_hw14 : k0_chk14 v68 v71), ∀ (k0_h8 : k0_cond8 v68 = 1#1), ∀ a, (k0_off62 v71) a + S1x32x3072.size a ≤ S16x32x3072.size a := fun v68 v71 k0_hw14 k0_h8 => k0_hw14.1.2.2.2.2.1 k0_h8
theorem k0_off62_packedfp8e4m3 : ∀ (v68 : BitVec 32) (v71 : BitVec 32) (k0_hw14 : k0_chk14 v68 v71), ∀ (k0_h8 : k0_cond8 v68 = 1#1), (Rect.unit (s := S16x32x3072) (k0_off62 v71) S1x32x3072.size (k0_off62_inb v68 v71 k0_hw14 k0_h8)).PackedRows (EltTy.packing .fp8e4m3) := fun v68 v71 k0_hw14 k0_h8 => k0_hw14.1.2.2.2.2.2.1 k0_h8 (k0_off62_inb v68 v71 k0_hw14 k0_h8)
theorem k0_off63_inb : ∀ (v68 : BitVec 32) (v71 : BitVec 32) (k0_hw14 : k0_chk14 v68 v71), ∀ (k0_h8 : k0_cond8 v68 = 1#1), ∀ a, (k0_off63 v71) a + S1x32x24.size a ≤ S16x32x24.size a := fun v68 v71 k0_hw14 k0_h8 => k0_hw14.1.2.2.2.2.2.2.1 k0_h8
theorem k0_off64_inb : ∀ (v68 : BitVec 32) (v71 : BitVec 32) (k0_hw14 : k0_chk14 v68 v71), ∀ a, (k0_off64 v71) a + S1x32x128.size a ≤ S16x32x3072.size a := fun v68 v71 k0_hw14 => k0_hw14.1.2.2.2.2.2.2.2.1
theorem k0_off66_inb : ∀ (v68 : BitVec 32) (v71 : BitVec 32) (k0_hw14 : k0_chk14 v68 v71), ∀ a, (k0_off66 v71) a + S1x32x128.size a ≤ S16x32x3072.size a := fun v68 v71 k0_hw14 => k0_hw14.1.2.2.2.2.2.2.2.2.1
theorem k0_off67_inb : ∀ (v68 : BitVec 32) (v71 : BitVec 32) (k0_hw14 : k0_chk14 v68 v71), ∀ a, (k0_off67 v71) a + S1x32x128.size a ≤ S16x32x3072.size a := fun v68 v71 k0_hw14 => k0_hw14.1.2.2.2.2.2.2.2.2.2.1
theorem k0_off68_inb : ∀ (v68 : BitVec 32) (v71 : BitVec 32) (k0_hw14 : k0_chk14 v68 v71), ∀ a, (k0_off68 v71) a + S1x32x128.size a ≤ S16x32x3072.size a := fun v68 v71 k0_hw14 => k0_hw14.1.2.2.2.2.2.2.2.2.2.2.1
theorem k0_off69_inb : ∀ (v68 : BitVec 32) (v71 : BitVec 32) (k0_hw14 : k0_chk14 v68 v71), ∀ a, (k0_off69 v71) a + S1x32x128.size a ≤ S16x32x3072.size a := fun v68 v71 k0_hw14 => k0_hw14.1.2.2.2.2.2.2.2.2.2.2.2.1
theorem k0_off70_inb : ∀ (v68 : BitVec 32) (v71 : BitVec 32) (k0_hw14 : k0_chk14 v68 v71), ∀ a, (k0_off70 v71) a + S1x32x128.size a ≤ S16x32x3072.size a := fun v68 v71 k0_hw14 => k0_hw14.1.2.2.2.2.2.2.2.2.2.2.2.2.1
theorem k0_off71_inb : ∀ (v68 : BitVec 32) (v71 : BitVec 32) (k0_hw14 : k0_chk14 v68 v71), ∀ a, (k0_off71 v71) a + S1x32x128.size a ≤ S16x32x3072.size a := fun v68 v71 k0_hw14 => k0_hw14.1.2.2.2.2.2.2.2.2.2.2.2.2.2.1
theorem k0_off72_inb : ∀ (v68 : BitVec 32) (v71 : BitVec 32) (k0_hw14 : k0_chk14 v68 v71), ∀ a, (k0_off72 v71) a + S1x32x128.size a ≤ S16x32x3072.size a := fun v68 v71 k0_hw14 => k0_hw14.1.2.2.2.2.2.2.2.2.2.2.2.2.2.2.1
theorem k0_off73_inb : ∀ (v68 : BitVec 32) (v71 : BitVec 32) (k0_hw14 : k0_chk14 v68 v71), ∀ a, (k0_off73 v71) a + S1x32x128.size a ≤ S16x32x3072.size a := fun v68 v71 k0_hw14 => k0_hw14.1.2.2.2.2.2.2.2.2.2.2.2.2.2.2.2.1
theorem k0_off74_inb : ∀ (v68 : BitVec 32) (v71 : BitVec 32) (k0_hw14 : k0_chk14 v68 v71), ∀ a, (k0_off74 v71) a + S1x32x128.size a ≤ S16x32x3072.size a := fun v68 v71 k0_hw14 => k0_hw14.1.2.2.2.2.2.2.2.2.2.2.2.2.2.2.2.2.1
theorem k0_off75_inb : ∀ (v68 : BitVec 32) (v71 : BitVec 32) (k0_hw14 : k0_chk14 v68 v71), ∀ a, (k0_off75 v71) a + S1x32x128.size a ≤ S16x32x3072.size a := fun v68 v71 k0_hw14 => k0_hw14.1.2.2.2.2.2.2.2.2.2.2.2.2.2.2.2.2.2.1
theorem k0_off76_inb : ∀ (v68 : BitVec 32) (v71 : BitVec 32) (k0_hw14 : k0_chk14 v68 v71), ∀ a, (k0_off76 v71) a + S1x32x128.size a ≤ S16x32x3072.size a := fun v68 v71 k0_hw14 => k0_hw14.1.2.2.2.2.2.2.2.2.2.2.2.2.2.2.2.2.2.2.1
theorem k0_off77_inb : ∀ (v68 : BitVec 32) (v71 : BitVec 32) (k0_hw14 : k0_chk14 v68 v71), ∀ a, (k0_off77 v71) a + S1x32x128.size a ≤ S16x32x3072.size a := fun v68 v71 k0_hw14 => k0_hw14.1.2.2.2.2.2.2.2.2.2.2.2.2.2.2.2.2.2.2.2.1
theorem k0_off78_inb : ∀ (v68 : BitVec 32) (v71 : BitVec 32) (k0_hw14 : k0_chk14 v68 v71), ∀ a, (k0_off78 v71) a + S1x32x128.size a ≤ S16x32x3072.size a := fun v68 v71 k0_hw14 => k0_hw14.1.2.2.2.2.2.2.2.2.2.2.2.2.2.2.2.2.2.2.2.2.1
theorem k0_off79_inb : ∀ (v68 : BitVec 32) (v71 : BitVec 32) (k0_hw14 : k0_chk14 v68 v71), ∀ a, (k0_off79 v71) a + S1x32x128.size a ≤ S16x32x3072.size a := fun v68 v71 k0_hw14 => k0_hw14.1.2.2.2.2.2.2.2.2.2.2.2.2.2.2.2.2.2.2.2.2.2.1
theorem k0_off80_inb : ∀ (v68 : BitVec 32) (v71 : BitVec 32) (k0_hw14 : k0_chk14 v68 v71), ∀ a, (k0_off80 v71) a + S1x32x128.size a ≤ S16x32x3072.size a := fun v68 v71 k0_hw14 => k0_hw14.1.2.2.2.2.2.2.2.2.2.2.2.2.2.2.2.2.2.2.2.2.2.2.1
theorem k0_off81_inb : ∀ (v68 : BitVec 32) (v71 : BitVec 32) (k0_hw14 : k0_chk14 v68 v71), ∀ a, (k0_off81 v71) a + S1x32x128.size a ≤ S16x32x3072.size a := fun v68 v71 k0_hw14 => k0_hw14.1.2.2.2.2.2.2.2.2.2.2.2.2.2.2.2.2.2.2.2.2.2.2.2.1
theorem k0_off82_inb : ∀ (v68 : BitVec 32) (v71 : BitVec 32) (k0_hw14 : k0_chk14 v68 v71), ∀ a, (k0_off82 v71) a + S1x32x128.size a ≤ S16x32x3072.size a := fun v68 v71 k0_hw14 => k0_hw14.1.2.2.2.2.2.2.2.2.2.2.2.2.2.2.2.2.2.2.2.2.2.2.2.2.1
theorem k0_off83_inb : ∀ (v68 : BitVec 32) (v71 : BitVec 32) (k0_hw14 : k0_chk14 v68 v71), ∀ a, (k0_off83 v71) a + S1x32x128.size a ≤ S16x32x3072.size a := fun v68 v71 k0_hw14 => k0_hw14.1.2.2.2.2.2.2.2.2.2.2.2.2.2.2.2.2.2.2.2.2.2.2.2.2.2.1
theorem k0_off84_inb : ∀ (v68 : BitVec 32) (v71 : BitVec 32) (k0_hw14 : k0_chk14 v68 v71), ∀ a, (k0_off84 v71) a + S1x32x128.size a ≤ S16x32x3072.size a := fun v68 v71 k0_hw14 => k0_hw14.1.2.2.2.2.2.2.2.2.2.2.2.2.2.2.2.2.2.2.2.2.2.2.2.2.2.2.1
theorem k0_off85_inb : ∀ (v68 : BitVec 32) (v71 : BitVec 32) (k0_hw14 : k0_chk14 v68 v71), ∀ a, (k0_off85 v71) a + S1x32x128.size a ≤ S16x32x3072.size a := fun v68 v71 k0_hw14 => k0_hw14.1.2.2.2.2.2.2.2.2.2.2.2.2.2.2.2.2.2.2.2.2.2.2.2.2.2.2.2.1
theorem k0_off86_inb : ∀ (v68 : BitVec 32) (v71 : BitVec 32) (k0_hw14 : k0_chk14 v68 v71), ∀ a, (k0_off86 v71) a + S1x32x128.size a ≤ S16x32x3072.size a := fun v68 v71 k0_hw14 => k0_hw14.1.2.2.2.2.2.2.2.2.2.2.2.2.2.2.2.2.2.2.2.2.2.2.2.2.2.2.2.2.1
theorem k0_off87_inb : ∀ (v68 : BitVec 32) (v71 : BitVec 32) (k0_hw14 : k0_chk14 v68 v71), ∀ a, (k0_off87 v71) a + S1x32x128.size a ≤ S16x32x3072.size a := fun v68 v71 k0_hw14 => k0_hw14.1.2.2.2.2.2.2.2.2.2.2.2.2.2.2.2.2.2.2.2.2.2.2.2.2.2.2.2.2.2.1
theorem k0_off88_inb : ∀ (v68 : BitVec 32) (v71 : BitVec 32) (k0_hw14 : k0_chk14 v68 v71), ∀ a, (k0_off88 v71) a + S1x32x128.size a ≤ S16x32x3072.size a := fun v68 v71 k0_hw14 => k0_hw14.1.2.2.2.2.2.2.2.2.2.2.2.2.2.2.2.2.2.2.2.2.2.2.2.2.2.2.2.2.2.2.1
theorem k0_off89_inb : ∀ (v68 : BitVec 32) (v71 : BitVec 32) (k0_hw14 : k0_chk14 v68 v71), ∀ a, (k0_off89 v71) a + S1x8x24.size a ≤ S16x32x24.size a := fun v68 v71 k0_hw14 => k0_hw14.1.2.2.2.2.2.2.2.2.2.2.2.2.2.2.2.2.2.2.2.2.2.2.2.2.2.2.2.2.2.2.2
theorem k0_off90_inb : ∀ (v68 : BitVec 32) (v71 : BitVec 32) (k0_hw14 : k0_chk14 v68 v71), ∀ a, (k0_off90 v71) a + S1x8x24.size a ≤ S16x32x24.size a := fun v68 v71 k0_hw14 => k0_hw14.2.1
theorem k0_off91_inb : ∀ (v68 : BitVec 32) (v71 : BitVec 32) (k0_hw14 : k0_chk14 v68 v71), ∀ a, (k0_off91 v71) a + S1x8x24.size a ≤ S16x32x24.size a := fun v68 v71 k0_hw14 => k0_hw14.2.2.1
theorem k0_off92_inb : ∀ (v68 : BitVec 32) (v71 : BitVec 32) (k0_hw14 : k0_chk14 v68 v71), ∀ a, (k0_off92 v71) a + S1x8x24.size a ≤ S16x32x24.size a := fun v68 v71 k0_hw14 => k0_hw14.2.2.2

def k0_off93 (i : grid0.Coords) (arg22 : BitVec 32) : Fin 3 → Nat :=
  let c0_394 : Index := 0#32
  let c0_395 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_391 : BitVec 32 := 1#32
  let v916 : BitVec 32 := Scalar.subi v5 c1_i32_391
  let v917 : BitVec 32 := Scalar.minsi arg22 v916
  let c4_i32_392 : BitVec 32 := 4#32
  let v918 : BitVec 1 := Scalar.cmpi .slt v917 c4_i32_392
  let c0_i32_393 : BitVec 32 := 0#32
  let v919 : BitVec 32 := Scalar.select v918 v917 c0_i32_393
  let v920 : Index := Scalar.indexCast v919
  ![0, 0, v920.toNat]

def k0_off94 (i : grid0.Coords) (arg22 : BitVec 32) : Fin 3 → Nat :=
  let c0_398 : Index := 0#32
  let c0_399 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_391 : BitVec 32 := 1#32
  let v916 : BitVec 32 := Scalar.subi v5 c1_i32_391
  let v917 : BitVec 32 := Scalar.minsi arg22 v916
  let c4_i32_392 : BitVec 32 := 4#32
  let v918 : BitVec 1 := Scalar.cmpi .slt v917 c4_i32_392
  let c0_i32_397 : BitVec 32 := 0#32
  let c4_i32_396 : BitVec 32 := 4#32
  let v922 : BitVec 32 := Scalar.subi v917 c4_i32_396
  let v923 : BitVec 32 := Scalar.select v918 c0_i32_397 v922
  let v924 : Index := Scalar.indexCast v923
  ![0, 0, v924.toNat]

def k0_chk16 (i : grid0.Coords) (arg22 : BitVec 32) : Prop :=
  (∀ a, (k0_off93 i arg22) a + S1x1x1.size a ≤ S1x1x4.size a) ∧
  (∀ a, (k0_off94 i arg22) a + S1x1x1.size a ≤ S1x1x4.size a)
theorem k0_off93_inb : ∀ (i : grid0.Coords) (arg22 : BitVec 32) (k0_hw16 : k0_chk16 i arg22), ∀ a, (k0_off93 i arg22) a + S1x1x1.size a ≤ S1x1x4.size a := fun i arg22 k0_hw16 => k0_hw16.1
theorem k0_off94_inb : ∀ (i : grid0.Coords) (arg22 : BitVec 32) (k0_hw16 : k0_chk16 i arg22), ∀ a, (k0_off94 i arg22) a + S1x1x1.size a ≤ S1x1x4.size a := fun i arg22 k0_hw16 => k0_hw16.2

def k0_off95 (v915 : BitVec 32) (v916 : BitVec 32) : Fin 3 → Nat :=
  let c0_395 : Index := 0#32
  let c4_i32_393 : BitVec 32 := 4#32
  let v917 : BitVec 1 := Scalar.cmpi .slt v915 c4_i32_393
  let c0_i32_394 : BitVec 32 := 0#32
  let v918 : BitVec 32 := Scalar.select v917 v915 c0_i32_394
  let v919 : Index := Scalar.indexCast v918
  let v920 : Index := Scalar.indexCast v916
  ![0, v919.toNat, v920.toNat]

def k0_off96 (v915 : BitVec 32) (v916 : BitVec 32) : Fin 3 → Nat :=
  let c0_398 : Index := 0#32
  let c4_i32_393 : BitVec 32 := 4#32
  let v917 : BitVec 1 := Scalar.cmpi .slt v915 c4_i32_393
  let c0_i32_397 : BitVec 32 := 0#32
  let c4_i32_396 : BitVec 32 := 4#32
  let v922 : BitVec 32 := Scalar.subi v915 c4_i32_396
  let v923 : BitVec 32 := Scalar.select v917 c0_i32_397 v922
  let v924 : Index := Scalar.indexCast v923
  let v925 : Index := Scalar.indexCast v916
  ![0, v924.toNat, v925.toNat]

def k0_chk17 (v915 : BitVec 32) (v916 : BitVec 32) : Prop :=
  (∀ a, (k0_off95 v915 v916) a + S1x1x1.size a ≤ S1x4x128.size a) ∧
  (∀ a, (k0_off96 v915 v916) a + S1x1x1.size a ≤ S1x4x128.size a)
theorem k0_off95_inb : ∀ (v915 : BitVec 32) (v916 : BitVec 32) (k0_hw17 : k0_chk17 v915 v916), ∀ a, (k0_off95 v915 v916) a + S1x1x1.size a ≤ S1x4x128.size a := fun v915 v916 k0_hw17 => k0_hw17.1
theorem k0_off96_inb : ∀ (v915 : BitVec 32) (v916 : BitVec 32) (k0_hw17 : k0_chk17 v915 v916), ∀ a, (k0_off96 v915 v916) a + S1x1x1.size a ≤ S1x4x128.size a := fun v915 v916 k0_hw17 => k0_hw17.2

def k0_mult5 (v915 : BitVec 32) (v921 : BitVec 32) (v926 : BitVec 32) : BitVec 32 :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  v950
def k0_cond9 (v915 : BitVec 32) (v921 : BitVec 32) (v926 : BitVec 32) : BitVec 1 :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c7782_i32_402 : BitVec 32 := 7782#32
  let v931 : BitVec 1 := Scalar.cmpi .slt v928 c7782_i32_402
  let v932 : BitVec 32 := Scalar.extui v931
  let c0_i32_403 : BitVec 32 := 0#32
  let v933 : BitVec 1 := Scalar.cmpi .ne v932 c0_i32_403
  v933

def k0_off97 (v929 : BitVec 32) : Fin 1 → Nat :=
  let c16_i32_401 : BitVec 32 := 16#32
  let v930 : BitVec 32 := Scalar.remsi v929 c16_i32_401
  ![v930.toNat]

def k0_off98 (v929 : BitVec 32) : Fin 3 → Nat :=
  let c16_i32_401 : BitVec 32 := 16#32
  let v930 : BitVec 32 := Scalar.remsi v929 c16_i32_401
  let c0_i32_417 : BitVec 32 := 0#32
  let c0_i32_418 : BitVec 32 := 0#32
  ![v930.toNat, 0, 0]
def k0_off99 (v915 : BitVec 32) (v921 : BitVec 32) (v926 : BitVec 32) : Fin 2 → Nat :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  let v951 : BitVec 32 := v950
  let c0_i32_419 : BitVec 32 := 0#32
  ![v951.toNat, 0]
def k0_off100 (v929 : BitVec 32) : Fin 3 → Nat :=
  let c16_i32_401 : BitVec 32 := 16#32
  let v930 : BitVec 32 := Scalar.remsi v929 c16_i32_401
  let c0_i32_420 : BitVec 32 := 0#32
  let c0_i32_421 : BitVec 32 := 0#32
  ![v930.toNat, 0, 0]

def k0_chk19 (v915 : BitVec 32) (v921 : BitVec 32) (v926 : BitVec 32) (v929 : BitVec 32) : Prop :=
  (∀ (k0_h9 : k0_cond9 v915 v921 v926 = 1#1), ∀ a, (k0_off97 v929) a + S1.size a ≤ S16.size a) ∧
  (∀ (k0_h9 : k0_cond9 v915 v921 v926 = 1#1), ∀ a, (k0_off98 v929) a + S1x32x3072.size a ≤ S16x32x3072.size a) ∧
  (∀ (k0_h9 : k0_cond9 v915 v921 v926 = 1#1), ∀ (hinb : ∀ a, (k0_off98 v929) a + S1x32x3072.size a ≤ S16x32x3072.size a), (Rect.unit (s := S16x32x3072) (k0_off98 v929) S1x32x3072.size hinb).WholeWords (EltTy.packing .fp8e4m3)) ∧
  (∀ (k0_h9 : k0_cond9 v915 v921 v926 = 1#1), ∀ a, (k0_off100 v929) a + S1x32x24.size a ≤ S16x32x24.size a)
theorem k0_off97_inb : ∀ (v915 : BitVec 32) (v921 : BitVec 32) (v926 : BitVec 32) (v929 : BitVec 32) (k0_hw19 : k0_chk19 v915 v921 v926 v929), ∀ (k0_h9 : k0_cond9 v915 v921 v926 = 1#1), ∀ a, (k0_off97 v929) a + S1.size a ≤ S16.size a := fun v915 v921 v926 v929 k0_hw19 k0_h9 => k0_hw19.1 k0_h9
theorem k0_off98_inb : ∀ (v915 : BitVec 32) (v921 : BitVec 32) (v926 : BitVec 32) (v929 : BitVec 32) (k0_hw19 : k0_chk19 v915 v921 v926 v929), ∀ (k0_h9 : k0_cond9 v915 v921 v926 = 1#1), ∀ a, (k0_off98 v929) a + S1x32x3072.size a ≤ S16x32x3072.size a := fun v915 v921 v926 v929 k0_hw19 k0_h9 => k0_hw19.2.1 k0_h9
theorem k0_off98_wordsfp8e4m3 : ∀ (v915 : BitVec 32) (v921 : BitVec 32) (v926 : BitVec 32) (v929 : BitVec 32) (k0_hw19 : k0_chk19 v915 v921 v926 v929), ∀ (k0_h9 : k0_cond9 v915 v921 v926 = 1#1), (Rect.unit (s := S16x32x3072) (k0_off98 v929) S1x32x3072.size (k0_off98_inb v915 v921 v926 v929 k0_hw19 k0_h9)).WholeWords (EltTy.packing .fp8e4m3) := fun v915 v921 v926 v929 k0_hw19 k0_h9 => k0_hw19.2.2.1 k0_h9 (k0_off98_inb v915 v921 v926 v929 k0_hw19 k0_h9)
theorem k0_off100_inb : ∀ (v915 : BitVec 32) (v921 : BitVec 32) (v926 : BitVec 32) (v929 : BitVec 32) (k0_hw19 : k0_chk19 v915 v921 v926 v929), ∀ (k0_h9 : k0_cond9 v915 v921 v926 = 1#1), ∀ a, (k0_off100 v929) a + S1x32x24.size a ≤ S16x32x24.size a := fun v915 v921 v926 v929 k0_hw19 k0_h9 => k0_hw19.2.2.2 k0_h9

def k0_off101 (v915 : BitVec 32) (v921 : BitVec 32) (v926 : BitVec 32) : Fin 2 → Nat :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  let v951 : BitVec 32 := v950
  let c0_i32_422 : BitVec 32 := 0#32
  ![v951.toNat, 0]

def k0_chk18 (v915 : BitVec 32) (v921 : BitVec 32) (v926 : BitVec 32) : Prop :=
  (∀ (k0_h9 : k0_cond9 v915 v921 v926 = 1#1), 32 ∣ (k0_mult5 v915 v921 v926).toNat) ∧
  (∀ (k0_h9 : k0_cond9 v915 v921 v926 = 1#1), ∀ a, (k0_off99 v915 v921 v926) a + S32x3072.size a ≤ S249037x3072.size a) ∧
  (∀ (k0_h9 : k0_cond9 v915 v921 v926 = 1#1), ∀ (hinb : ∀ a, (k0_off99 v915 v921 v926) a + S32x3072.size a ≤ S249037x3072.size a), (Rect.unit (s := S249037x3072) (k0_off99 v915 v921 v926) S32x3072.size hinb).WholeWords (EltTy.packing .fp8e4m3)) ∧
  (∀ (k0_h9 : k0_cond9 v915 v921 v926 = 1#1), ∀ a, (k0_off101 v915 v921 v926) a + S32x24.size a ≤ S249037x24.size a)
theorem k0_mult5_dvd : ∀ (v915 : BitVec 32) (v921 : BitVec 32) (v926 : BitVec 32) (k0_hw18 : k0_chk18 v915 v921 v926), ∀ (k0_h9 : k0_cond9 v915 v921 v926 = 1#1), 32 ∣ (k0_mult5 v915 v921 v926).toNat := fun v915 v921 v926 k0_hw18 k0_h9 => k0_hw18.1 k0_h9
theorem k0_off99_inb : ∀ (v915 : BitVec 32) (v921 : BitVec 32) (v926 : BitVec 32) (k0_hw18 : k0_chk18 v915 v921 v926), ∀ (k0_h9 : k0_cond9 v915 v921 v926 = 1#1), ∀ a, (k0_off99 v915 v921 v926) a + S32x3072.size a ≤ S249037x3072.size a := fun v915 v921 v926 k0_hw18 k0_h9 => k0_hw18.2.1 k0_h9
theorem k0_off99_wordsfp8e4m3 : ∀ (v915 : BitVec 32) (v921 : BitVec 32) (v926 : BitVec 32) (k0_hw18 : k0_chk18 v915 v921 v926), ∀ (k0_h9 : k0_cond9 v915 v921 v926 = 1#1), (Rect.unit (s := S249037x3072) (k0_off99 v915 v921 v926) S32x3072.size (k0_off99_inb v915 v921 v926 k0_hw18 k0_h9)).WholeWords (EltTy.packing .fp8e4m3) := fun v915 v921 v926 k0_hw18 k0_h9 => k0_hw18.2.2.1 k0_h9 (k0_off99_inb v915 v921 v926 k0_hw18 k0_h9)
theorem k0_off101_inb : ∀ (v915 : BitVec 32) (v921 : BitVec 32) (v926 : BitVec 32) (k0_hw18 : k0_chk18 v915 v921 v926), ∀ (k0_h9 : k0_cond9 v915 v921 v926 = 1#1), ∀ a, (k0_off101 v915 v921 v926) a + S32x24.size a ≤ S249037x24.size a := fun v915 v921 v926 k0_hw18 k0_h9 => k0_hw18.2.2.2 k0_h9

def k0_off102 (i : grid0.Coords) (arg23 : BitVec 32) : Fin 3 → Nat :=
  let c0_419 : Index := 0#32
  let c0_420 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_416 : BitVec 32 := 1#32
  let v951 : BitVec 32 := Scalar.subi v5 c1_i32_416
  let v952 : BitVec 32 := Scalar.minsi arg23 v951
  let c4_i32_417 : BitVec 32 := 4#32
  let v953 : BitVec 1 := Scalar.cmpi .slt v952 c4_i32_417
  let c0_i32_418 : BitVec 32 := 0#32
  let v954 : BitVec 32 := Scalar.select v953 v952 c0_i32_418
  let v955 : Index := Scalar.indexCast v954
  ![0, 0, v955.toNat]

def k0_off103 (i : grid0.Coords) (arg23 : BitVec 32) : Fin 3 → Nat :=
  let c0_423 : Index := 0#32
  let c0_424 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_416 : BitVec 32 := 1#32
  let v951 : BitVec 32 := Scalar.subi v5 c1_i32_416
  let v952 : BitVec 32 := Scalar.minsi arg23 v951
  let c4_i32_417 : BitVec 32 := 4#32
  let v953 : BitVec 1 := Scalar.cmpi .slt v952 c4_i32_417
  let c0_i32_422 : BitVec 32 := 0#32
  let c4_i32_421 : BitVec 32 := 4#32
  let v957 : BitVec 32 := Scalar.subi v952 c4_i32_421
  let v958 : BitVec 32 := Scalar.select v953 c0_i32_422 v957
  let v959 : Index := Scalar.indexCast v958
  ![0, 0, v959.toNat]

def k0_chk20 (i : grid0.Coords) (arg23 : BitVec 32) : Prop :=
  (∀ a, (k0_off102 i arg23) a + S1x1x1.size a ≤ S1x1x4.size a) ∧
  (∀ a, (k0_off103 i arg23) a + S1x1x1.size a ≤ S1x1x4.size a)
theorem k0_off102_inb : ∀ (i : grid0.Coords) (arg23 : BitVec 32) (k0_hw20 : k0_chk20 i arg23), ∀ a, (k0_off102 i arg23) a + S1x1x1.size a ≤ S1x1x4.size a := fun i arg23 k0_hw20 => k0_hw20.1
theorem k0_off103_inb : ∀ (i : grid0.Coords) (arg23 : BitVec 32) (k0_hw20 : k0_chk20 i arg23), ∀ a, (k0_off103 i arg23) a + S1x1x1.size a ≤ S1x1x4.size a := fun i arg23 k0_hw20 => k0_hw20.2

@[reducible] def k0_t3_loop : Scf.Loop 32 :=
  let c0_i32_16 : BitVec 32 := 0#32
  let c4_i32_17 : BitVec 32 := 4#32
  let v38 : BitVec 32 := Scalar.addi c0_i32_16 c4_i32_17
  let c1_i32_18 : BitVec 32 := 1#32
  ⟨c0_i32_16, v38, c1_i32_18⟩
def k0_off104 (k0_t3 : Fin k0_t3_loop.trips) : Fin 2 → Nat :=
  let c0_63 : Index := 0#32
  let c0_i32_61 : BitVec 32 := 0#32
  let c0_i32_16 : BitVec 32 := 0#32
  let c1_i32_18 : BitVec 32 := 1#32
  let arg20 : BitVec 32 := Scf.iv c0_i32_16 c1_i32_18 k0_t3
  let c8_i32_60 : BitVec 32 := 8#32
  let v67 : BitVec 32 := Scalar.muli arg20 c8_i32_60
  let v68 : BitVec 32 := Scalar.addi c0_i32_61 v67
  let c0_i32_62 : BitVec 32 := 0#32
  let v69 : BitVec 32 := Scalar.addi v68 c0_i32_62
  let v70 : Index := Scalar.indexCast v69
  ![0, v70.toNat]
def k0_off105 (v71 : BitVec 32) : Fin 2 → Nat :=
  let c24_i32 : BitVec 32 := 24#32
  let v72 : BitVec 32 := Scalar.addi v71 c24_i32
  let v73 : Index := Scalar.indexCast v72
  let c0_64 : Index := 0#32
  ![v73.toNat, 0]

def k0_off106 (k0_t3 : Fin k0_t3_loop.trips) : Fin 2 → Nat :=
  let c0_65 : Index := 0#32
  let c0_i32_61 : BitVec 32 := 0#32
  let c0_i32_16 : BitVec 32 := 0#32
  let c1_i32_18 : BitVec 32 := 1#32
  let arg20 : BitVec 32 := Scf.iv c0_i32_16 c1_i32_18 k0_t3
  let c8_i32_60 : BitVec 32 := 8#32
  let v67 : BitVec 32 := Scalar.muli arg20 c8_i32_60
  let v68 : BitVec 32 := Scalar.addi c0_i32_61 v67
  let c0_i32_62 : BitVec 32 := 0#32
  let v69 : BitVec 32 := Scalar.addi v68 c0_i32_62
  let v75 : Index := Scalar.indexCast v69
  ![0, v75.toNat]
def k0_off107 (v71 : BitVec 32) (c0_i32_67 : BitVec 32) : Fin 2 → Nat :=
  let v89 : BitVec 32 := Scalar.addi v71 c0_i32_67
  let v90 : Index := Scalar.indexCast v89
  let c0_68 : Index := 0#32
  ![v90.toNat, 0]

def k0_chk21 (v71 : BitVec 32) : Prop :=
  (∀ a, (k0_off105 v71) a + S1x128.size a ≤ S102432x128.size a) ∧
  (∀ (r : Fin 3), ∀ a, (k0_off107 v71 (BitVec.ofNat 32 (8 * r.val))) a + S8x128.size a ≤ S102432x128.size a)
theorem k0_off105_inb : ∀ (v71 : BitVec 32) (k0_hw21 : k0_chk21 v71), ∀ a, (k0_off105 v71) a + S1x128.size a ≤ S102432x128.size a := fun v71 k0_hw21 => k0_hw21.1
theorem k0_off107_inb : ∀ (v71 : BitVec 32) (k0_hw21 : k0_chk21 v71), ∀ (r : Fin 3), ∀ a, (k0_off107 v71 (BitVec.ofNat 32 (8 * r.val))) a + S8x128.size a ≤ S102432x128.size a := fun v71 k0_hw21 r => k0_hw21.2 r

def k0_off108 (k0_t3 : Fin k0_t3_loop.trips) : Fin 2 → Nat :=
  let c1_77 : Index := 1#32
  let c0_i32_61 : BitVec 32 := 0#32
  let c0_i32_16 : BitVec 32 := 0#32
  let c1_i32_18 : BitVec 32 := 1#32
  let arg20 : BitVec 32 := Scf.iv c0_i32_16 c1_i32_18 k0_t3
  let c8_i32_60 : BitVec 32 := 8#32
  let v67 : BitVec 32 := Scalar.muli arg20 c8_i32_60
  let v68 : BitVec 32 := Scalar.addi c0_i32_61 v67
  let c0_i32_62 : BitVec 32 := 0#32
  let v69 : BitVec 32 := Scalar.addi v68 c0_i32_62
  let v117 : Index := Scalar.indexCast v69
  ![1, v117.toNat]
def k0_off109 (v118 : BitVec 32) : Fin 2 → Nat :=
  let c24_i32_78 : BitVec 32 := 24#32
  let v119 : BitVec 32 := Scalar.addi v118 c24_i32_78
  let v120 : Index := Scalar.indexCast v119
  let c0_79 : Index := 0#32
  ![v120.toNat, 0]

def k0_off110 (k0_t3 : Fin k0_t3_loop.trips) : Fin 2 → Nat :=
  let c1_80 : Index := 1#32
  let c0_i32_61 : BitVec 32 := 0#32
  let c0_i32_16 : BitVec 32 := 0#32
  let c1_i32_18 : BitVec 32 := 1#32
  let arg20 : BitVec 32 := Scf.iv c0_i32_16 c1_i32_18 k0_t3
  let c8_i32_60 : BitVec 32 := 8#32
  let v67 : BitVec 32 := Scalar.muli arg20 c8_i32_60
  let v68 : BitVec 32 := Scalar.addi c0_i32_61 v67
  let c0_i32_62 : BitVec 32 := 0#32
  let v69 : BitVec 32 := Scalar.addi v68 c0_i32_62
  let v122 : Index := Scalar.indexCast v69
  ![1, v122.toNat]
def k0_off111 (v118 : BitVec 32) (c0_i32_83 : BitVec 32) : Fin 2 → Nat :=
  let v136 : BitVec 32 := Scalar.addi v118 c0_i32_83
  let v137 : Index := Scalar.indexCast v136
  let c0_84 : Index := 0#32
  ![v137.toNat, 0]

def k0_chk22 (v118 : BitVec 32) : Prop :=
  (∀ a, (k0_off109 v118) a + S1x128.size a ≤ S102432x128.size a) ∧
  (∀ (r : Fin 3), ∀ a, (k0_off111 v118 (BitVec.ofNat 32 (8 * r.val))) a + S8x128.size a ≤ S102432x128.size a)
theorem k0_off109_inb : ∀ (v118 : BitVec 32) (k0_hw22 : k0_chk22 v118), ∀ a, (k0_off109 v118) a + S1x128.size a ≤ S102432x128.size a := fun v118 k0_hw22 => k0_hw22.1
theorem k0_off111_inb : ∀ (v118 : BitVec 32) (k0_hw22 : k0_chk22 v118), ∀ (r : Fin 3), ∀ a, (k0_off111 v118 (BitVec.ofNat 32 (8 * r.val))) a + S8x128.size a ≤ S102432x128.size a := fun v118 k0_hw22 r => k0_hw22.2 r

def k0_off112 (k0_t3 : Fin k0_t3_loop.trips) : Fin 2 → Nat :=
  let c2_93 : Index := 2#32
  let c0_i32_61 : BitVec 32 := 0#32
  let c0_i32_16 : BitVec 32 := 0#32
  let c1_i32_18 : BitVec 32 := 1#32
  let arg20 : BitVec 32 := Scf.iv c0_i32_16 c1_i32_18 k0_t3
  let c8_i32_60 : BitVec 32 := 8#32
  let v67 : BitVec 32 := Scalar.muli arg20 c8_i32_60
  let v68 : BitVec 32 := Scalar.addi c0_i32_61 v67
  let c0_i32_62 : BitVec 32 := 0#32
  let v69 : BitVec 32 := Scalar.addi v68 c0_i32_62
  let v167 : Index := Scalar.indexCast v69
  ![2, v167.toNat]
def k0_off113 (v168 : BitVec 32) : Fin 2 → Nat :=
  let c24_i32_94 : BitVec 32 := 24#32
  let v169 : BitVec 32 := Scalar.addi v168 c24_i32_94
  let v170 : Index := Scalar.indexCast v169
  let c0_95 : Index := 0#32
  ![v170.toNat, 0]

def k0_off114 (k0_t3 : Fin k0_t3_loop.trips) : Fin 2 → Nat :=
  let c2_96 : Index := 2#32
  let c0_i32_61 : BitVec 32 := 0#32
  let c0_i32_16 : BitVec 32 := 0#32
  let c1_i32_18 : BitVec 32 := 1#32
  let arg20 : BitVec 32 := Scf.iv c0_i32_16 c1_i32_18 k0_t3
  let c8_i32_60 : BitVec 32 := 8#32
  let v67 : BitVec 32 := Scalar.muli arg20 c8_i32_60
  let v68 : BitVec 32 := Scalar.addi c0_i32_61 v67
  let c0_i32_62 : BitVec 32 := 0#32
  let v69 : BitVec 32 := Scalar.addi v68 c0_i32_62
  let v172 : Index := Scalar.indexCast v69
  ![2, v172.toNat]
def k0_off115 (v168 : BitVec 32) (c0_i32_99 : BitVec 32) : Fin 2 → Nat :=
  let v186 : BitVec 32 := Scalar.addi v168 c0_i32_99
  let v187 : Index := Scalar.indexCast v186
  let c0_100 : Index := 0#32
  ![v187.toNat, 0]

def k0_chk23 (v168 : BitVec 32) : Prop :=
  (∀ a, (k0_off113 v168) a + S1x128.size a ≤ S102432x128.size a) ∧
  (∀ (r : Fin 3), ∀ a, (k0_off115 v168 (BitVec.ofNat 32 (8 * r.val))) a + S8x128.size a ≤ S102432x128.size a)
theorem k0_off113_inb : ∀ (v168 : BitVec 32) (k0_hw23 : k0_chk23 v168), ∀ a, (k0_off113 v168) a + S1x128.size a ≤ S102432x128.size a := fun v168 k0_hw23 => k0_hw23.1
theorem k0_off115_inb : ∀ (v168 : BitVec 32) (k0_hw23 : k0_chk23 v168), ∀ (r : Fin 3), ∀ a, (k0_off115 v168 (BitVec.ofNat 32 (8 * r.val))) a + S8x128.size a ≤ S102432x128.size a := fun v168 k0_hw23 r => k0_hw23.2 r

def k0_off116 (k0_t3 : Fin k0_t3_loop.trips) : Fin 2 → Nat :=
  let c3_109 : Index := 3#32
  let c0_i32_61 : BitVec 32 := 0#32
  let c0_i32_16 : BitVec 32 := 0#32
  let c1_i32_18 : BitVec 32 := 1#32
  let arg20 : BitVec 32 := Scf.iv c0_i32_16 c1_i32_18 k0_t3
  let c8_i32_60 : BitVec 32 := 8#32
  let v67 : BitVec 32 := Scalar.muli arg20 c8_i32_60
  let v68 : BitVec 32 := Scalar.addi c0_i32_61 v67
  let c0_i32_62 : BitVec 32 := 0#32
  let v69 : BitVec 32 := Scalar.addi v68 c0_i32_62
  let v217 : Index := Scalar.indexCast v69
  ![3, v217.toNat]
def k0_off117 (v218 : BitVec 32) : Fin 2 → Nat :=
  let c24_i32_110 : BitVec 32 := 24#32
  let v219 : BitVec 32 := Scalar.addi v218 c24_i32_110
  let v220 : Index := Scalar.indexCast v219
  let c0_111 : Index := 0#32
  ![v220.toNat, 0]

def k0_off118 (k0_t3 : Fin k0_t3_loop.trips) : Fin 2 → Nat :=
  let c3_112 : Index := 3#32
  let c0_i32_61 : BitVec 32 := 0#32
  let c0_i32_16 : BitVec 32 := 0#32
  let c1_i32_18 : BitVec 32 := 1#32
  let arg20 : BitVec 32 := Scf.iv c0_i32_16 c1_i32_18 k0_t3
  let c8_i32_60 : BitVec 32 := 8#32
  let v67 : BitVec 32 := Scalar.muli arg20 c8_i32_60
  let v68 : BitVec 32 := Scalar.addi c0_i32_61 v67
  let c0_i32_62 : BitVec 32 := 0#32
  let v69 : BitVec 32 := Scalar.addi v68 c0_i32_62
  let v222 : Index := Scalar.indexCast v69
  ![3, v222.toNat]
def k0_off119 (v218 : BitVec 32) (c0_i32_115 : BitVec 32) : Fin 2 → Nat :=
  let v236 : BitVec 32 := Scalar.addi v218 c0_i32_115
  let v237 : Index := Scalar.indexCast v236
  let c0_116 : Index := 0#32
  ![v237.toNat, 0]

def k0_chk24 (v218 : BitVec 32) : Prop :=
  (∀ a, (k0_off117 v218) a + S1x128.size a ≤ S102432x128.size a) ∧
  (∀ (r : Fin 3), ∀ a, (k0_off119 v218 (BitVec.ofNat 32 (8 * r.val))) a + S8x128.size a ≤ S102432x128.size a)
theorem k0_off117_inb : ∀ (v218 : BitVec 32) (k0_hw24 : k0_chk24 v218), ∀ a, (k0_off117 v218) a + S1x128.size a ≤ S102432x128.size a := fun v218 k0_hw24 => k0_hw24.1
theorem k0_off119_inb : ∀ (v218 : BitVec 32) (k0_hw24 : k0_chk24 v218), ∀ (r : Fin 3), ∀ a, (k0_off119 v218 (BitVec.ofNat 32 (8 * r.val))) a + S8x128.size a ≤ S102432x128.size a := fun v218 k0_hw24 r => k0_hw24.2 r

def k0_off120 (k0_t3 : Fin k0_t3_loop.trips) : Fin 2 → Nat :=
  let c4 : Index := 4#32
  let c0_i32_61 : BitVec 32 := 0#32
  let c0_i32_16 : BitVec 32 := 0#32
  let c1_i32_18 : BitVec 32 := 1#32
  let arg20 : BitVec 32 := Scf.iv c0_i32_16 c1_i32_18 k0_t3
  let c8_i32_60 : BitVec 32 := 8#32
  let v67 : BitVec 32 := Scalar.muli arg20 c8_i32_60
  let v68 : BitVec 32 := Scalar.addi c0_i32_61 v67
  let c0_i32_62 : BitVec 32 := 0#32
  let v69 : BitVec 32 := Scalar.addi v68 c0_i32_62
  let v267 : Index := Scalar.indexCast v69
  ![4, v267.toNat]
def k0_off121 (v268 : BitVec 32) : Fin 2 → Nat :=
  let c24_i32_125 : BitVec 32 := 24#32
  let v269 : BitVec 32 := Scalar.addi v268 c24_i32_125
  let v270 : Index := Scalar.indexCast v269
  let c0_126 : Index := 0#32
  ![v270.toNat, 0]

def k0_off122 (k0_t3 : Fin k0_t3_loop.trips) : Fin 2 → Nat :=
  let c4_127 : Index := 4#32
  let c0_i32_61 : BitVec 32 := 0#32
  let c0_i32_16 : BitVec 32 := 0#32
  let c1_i32_18 : BitVec 32 := 1#32
  let arg20 : BitVec 32 := Scf.iv c0_i32_16 c1_i32_18 k0_t3
  let c8_i32_60 : BitVec 32 := 8#32
  let v67 : BitVec 32 := Scalar.muli arg20 c8_i32_60
  let v68 : BitVec 32 := Scalar.addi c0_i32_61 v67
  let c0_i32_62 : BitVec 32 := 0#32
  let v69 : BitVec 32 := Scalar.addi v68 c0_i32_62
  let v272 : Index := Scalar.indexCast v69
  ![4, v272.toNat]
def k0_off123 (v268 : BitVec 32) (c0_i32_130 : BitVec 32) : Fin 2 → Nat :=
  let v286 : BitVec 32 := Scalar.addi v268 c0_i32_130
  let v287 : Index := Scalar.indexCast v286
  let c0_131 : Index := 0#32
  ![v287.toNat, 0]

def k0_chk25 (v268 : BitVec 32) : Prop :=
  (∀ a, (k0_off121 v268) a + S1x128.size a ≤ S102432x128.size a) ∧
  (∀ (r : Fin 3), ∀ a, (k0_off123 v268 (BitVec.ofNat 32 (8 * r.val))) a + S8x128.size a ≤ S102432x128.size a)
theorem k0_off121_inb : ∀ (v268 : BitVec 32) (k0_hw25 : k0_chk25 v268), ∀ a, (k0_off121 v268) a + S1x128.size a ≤ S102432x128.size a := fun v268 k0_hw25 => k0_hw25.1
theorem k0_off123_inb : ∀ (v268 : BitVec 32) (k0_hw25 : k0_chk25 v268), ∀ (r : Fin 3), ∀ a, (k0_off123 v268 (BitVec.ofNat 32 (8 * r.val))) a + S8x128.size a ≤ S102432x128.size a := fun v268 k0_hw25 r => k0_hw25.2 r

def k0_off124 (k0_t3 : Fin k0_t3_loop.trips) : Fin 2 → Nat :=
  let c5 : Index := 5#32
  let c0_i32_61 : BitVec 32 := 0#32
  let c0_i32_16 : BitVec 32 := 0#32
  let c1_i32_18 : BitVec 32 := 1#32
  let arg20 : BitVec 32 := Scf.iv c0_i32_16 c1_i32_18 k0_t3
  let c8_i32_60 : BitVec 32 := 8#32
  let v67 : BitVec 32 := Scalar.muli arg20 c8_i32_60
  let v68 : BitVec 32 := Scalar.addi c0_i32_61 v67
  let c0_i32_62 : BitVec 32 := 0#32
  let v69 : BitVec 32 := Scalar.addi v68 c0_i32_62
  let v317 : Index := Scalar.indexCast v69
  ![5, v317.toNat]
def k0_off125 (v318 : BitVec 32) : Fin 2 → Nat :=
  let c24_i32_140 : BitVec 32 := 24#32
  let v319 : BitVec 32 := Scalar.addi v318 c24_i32_140
  let v320 : Index := Scalar.indexCast v319
  let c0_141 : Index := 0#32
  ![v320.toNat, 0]

def k0_off126 (k0_t3 : Fin k0_t3_loop.trips) : Fin 2 → Nat :=
  let c5_142 : Index := 5#32
  let c0_i32_61 : BitVec 32 := 0#32
  let c0_i32_16 : BitVec 32 := 0#32
  let c1_i32_18 : BitVec 32 := 1#32
  let arg20 : BitVec 32 := Scf.iv c0_i32_16 c1_i32_18 k0_t3
  let c8_i32_60 : BitVec 32 := 8#32
  let v67 : BitVec 32 := Scalar.muli arg20 c8_i32_60
  let v68 : BitVec 32 := Scalar.addi c0_i32_61 v67
  let c0_i32_62 : BitVec 32 := 0#32
  let v69 : BitVec 32 := Scalar.addi v68 c0_i32_62
  let v322 : Index := Scalar.indexCast v69
  ![5, v322.toNat]
def k0_off127 (v318 : BitVec 32) (c0_i32_145 : BitVec 32) : Fin 2 → Nat :=
  let v336 : BitVec 32 := Scalar.addi v318 c0_i32_145
  let v337 : Index := Scalar.indexCast v336
  let c0_146 : Index := 0#32
  ![v337.toNat, 0]

def k0_chk26 (v318 : BitVec 32) : Prop :=
  (∀ a, (k0_off125 v318) a + S1x128.size a ≤ S102432x128.size a) ∧
  (∀ (r : Fin 3), ∀ a, (k0_off127 v318 (BitVec.ofNat 32 (8 * r.val))) a + S8x128.size a ≤ S102432x128.size a)
theorem k0_off125_inb : ∀ (v318 : BitVec 32) (k0_hw26 : k0_chk26 v318), ∀ a, (k0_off125 v318) a + S1x128.size a ≤ S102432x128.size a := fun v318 k0_hw26 => k0_hw26.1
theorem k0_off127_inb : ∀ (v318 : BitVec 32) (k0_hw26 : k0_chk26 v318), ∀ (r : Fin 3), ∀ a, (k0_off127 v318 (BitVec.ofNat 32 (8 * r.val))) a + S8x128.size a ≤ S102432x128.size a := fun v318 k0_hw26 r => k0_hw26.2 r

def k0_off128 (k0_t3 : Fin k0_t3_loop.trips) : Fin 2 → Nat :=
  let c6 : Index := 6#32
  let c0_i32_61 : BitVec 32 := 0#32
  let c0_i32_16 : BitVec 32 := 0#32
  let c1_i32_18 : BitVec 32 := 1#32
  let arg20 : BitVec 32 := Scf.iv c0_i32_16 c1_i32_18 k0_t3
  let c8_i32_60 : BitVec 32 := 8#32
  let v67 : BitVec 32 := Scalar.muli arg20 c8_i32_60
  let v68 : BitVec 32 := Scalar.addi c0_i32_61 v67
  let c0_i32_62 : BitVec 32 := 0#32
  let v69 : BitVec 32 := Scalar.addi v68 c0_i32_62
  let v367 : Index := Scalar.indexCast v69
  ![6, v367.toNat]
def k0_off129 (v368 : BitVec 32) : Fin 2 → Nat :=
  let c24_i32_155 : BitVec 32 := 24#32
  let v369 : BitVec 32 := Scalar.addi v368 c24_i32_155
  let v370 : Index := Scalar.indexCast v369
  let c0_156 : Index := 0#32
  ![v370.toNat, 0]

def k0_off130 (k0_t3 : Fin k0_t3_loop.trips) : Fin 2 → Nat :=
  let c6_157 : Index := 6#32
  let c0_i32_61 : BitVec 32 := 0#32
  let c0_i32_16 : BitVec 32 := 0#32
  let c1_i32_18 : BitVec 32 := 1#32
  let arg20 : BitVec 32 := Scf.iv c0_i32_16 c1_i32_18 k0_t3
  let c8_i32_60 : BitVec 32 := 8#32
  let v67 : BitVec 32 := Scalar.muli arg20 c8_i32_60
  let v68 : BitVec 32 := Scalar.addi c0_i32_61 v67
  let c0_i32_62 : BitVec 32 := 0#32
  let v69 : BitVec 32 := Scalar.addi v68 c0_i32_62
  let v372 : Index := Scalar.indexCast v69
  ![6, v372.toNat]
def k0_off131 (v368 : BitVec 32) (c0_i32_160 : BitVec 32) : Fin 2 → Nat :=
  let v386 : BitVec 32 := Scalar.addi v368 c0_i32_160
  let v387 : Index := Scalar.indexCast v386
  let c0_161 : Index := 0#32
  ![v387.toNat, 0]

def k0_chk27 (v368 : BitVec 32) : Prop :=
  (∀ a, (k0_off129 v368) a + S1x128.size a ≤ S102432x128.size a) ∧
  (∀ (r : Fin 3), ∀ a, (k0_off131 v368 (BitVec.ofNat 32 (8 * r.val))) a + S8x128.size a ≤ S102432x128.size a)
theorem k0_off129_inb : ∀ (v368 : BitVec 32) (k0_hw27 : k0_chk27 v368), ∀ a, (k0_off129 v368) a + S1x128.size a ≤ S102432x128.size a := fun v368 k0_hw27 => k0_hw27.1
theorem k0_off131_inb : ∀ (v368 : BitVec 32) (k0_hw27 : k0_chk27 v368), ∀ (r : Fin 3), ∀ a, (k0_off131 v368 (BitVec.ofNat 32 (8 * r.val))) a + S8x128.size a ≤ S102432x128.size a := fun v368 k0_hw27 r => k0_hw27.2 r

def k0_off132 (k0_t3 : Fin k0_t3_loop.trips) : Fin 2 → Nat :=
  let c7 : Index := 7#32
  let c0_i32_61 : BitVec 32 := 0#32
  let c0_i32_16 : BitVec 32 := 0#32
  let c1_i32_18 : BitVec 32 := 1#32
  let arg20 : BitVec 32 := Scf.iv c0_i32_16 c1_i32_18 k0_t3
  let c8_i32_60 : BitVec 32 := 8#32
  let v67 : BitVec 32 := Scalar.muli arg20 c8_i32_60
  let v68 : BitVec 32 := Scalar.addi c0_i32_61 v67
  let c0_i32_62 : BitVec 32 := 0#32
  let v69 : BitVec 32 := Scalar.addi v68 c0_i32_62
  let v417 : Index := Scalar.indexCast v69
  ![7, v417.toNat]
def k0_off133 (v418 : BitVec 32) : Fin 2 → Nat :=
  let c24_i32_170 : BitVec 32 := 24#32
  let v419 : BitVec 32 := Scalar.addi v418 c24_i32_170
  let v420 : Index := Scalar.indexCast v419
  let c0_171 : Index := 0#32
  ![v420.toNat, 0]

def k0_off134 (k0_t3 : Fin k0_t3_loop.trips) : Fin 2 → Nat :=
  let c7_172 : Index := 7#32
  let c0_i32_61 : BitVec 32 := 0#32
  let c0_i32_16 : BitVec 32 := 0#32
  let c1_i32_18 : BitVec 32 := 1#32
  let arg20 : BitVec 32 := Scf.iv c0_i32_16 c1_i32_18 k0_t3
  let c8_i32_60 : BitVec 32 := 8#32
  let v67 : BitVec 32 := Scalar.muli arg20 c8_i32_60
  let v68 : BitVec 32 := Scalar.addi c0_i32_61 v67
  let c0_i32_62 : BitVec 32 := 0#32
  let v69 : BitVec 32 := Scalar.addi v68 c0_i32_62
  let v422 : Index := Scalar.indexCast v69
  ![7, v422.toNat]
def k0_off135 (v418 : BitVec 32) (c0_i32_175 : BitVec 32) : Fin 2 → Nat :=
  let v436 : BitVec 32 := Scalar.addi v418 c0_i32_175
  let v437 : Index := Scalar.indexCast v436
  let c0_176 : Index := 0#32
  ![v437.toNat, 0]

def k0_chk28 (v418 : BitVec 32) : Prop :=
  (∀ a, (k0_off133 v418) a + S1x128.size a ≤ S102432x128.size a) ∧
  (∀ (r : Fin 3), ∀ a, (k0_off135 v418 (BitVec.ofNat 32 (8 * r.val))) a + S8x128.size a ≤ S102432x128.size a)
theorem k0_off133_inb : ∀ (v418 : BitVec 32) (k0_hw28 : k0_chk28 v418), ∀ a, (k0_off133 v418) a + S1x128.size a ≤ S102432x128.size a := fun v418 k0_hw28 => k0_hw28.1
theorem k0_off135_inb : ∀ (v418 : BitVec 32) (k0_hw28 : k0_chk28 v418), ∀ (r : Fin 3), ∀ a, (k0_off135 v418 (BitVec.ofNat 32 (8 * r.val))) a + S8x128.size a ≤ S102432x128.size a := fun v418 k0_hw28 r => k0_hw28.2 r

def k0_off136 (k0_t3 : Fin k0_t3_loop.trips) (c0_i32_185 : BitVec 32) : Fin 2 → Nat :=
  let c0_i32_61 : BitVec 32 := 0#32
  let c0_i32_16 : BitVec 32 := 0#32
  let c1_i32_18 : BitVec 32 := 1#32
  let arg20 : BitVec 32 := Scf.iv c0_i32_16 c1_i32_18 k0_t3
  let c8_i32_60 : BitVec 32 := 8#32
  let v67 : BitVec 32 := Scalar.muli arg20 c8_i32_60
  let v68 : BitVec 32 := Scalar.addi c0_i32_61 v67
  let c0_i32_62 : BitVec 32 := 0#32
  let v69 : BitVec 32 := Scalar.addi v68 c0_i32_62
  let c25_i32 : BitVec 32 := 25#32
  let v467 : BitVec 32 := Scalar.muli v69 c25_i32
  let v468 : BitVec 32 := Scalar.addi v467 c0_i32_185
  let v469 : Index := Scalar.indexCast v468
  let c0_186 : Index := 0#32
  ![v469.toNat, 0]
def k0_off137 (k0_t3 : Fin k0_t3_loop.trips) : Fin 2 → Nat :=
  let c0_196 : Index := 0#32
  let c0_i32_194 : BitVec 32 := 0#32
  let c0_i32_16 : BitVec 32 := 0#32
  let c1_i32_18 : BitVec 32 := 1#32
  let arg20 : BitVec 32 := Scf.iv c0_i32_16 c1_i32_18 k0_t3
  let c8_i32_193 : BitVec 32 := 8#32
  let v485 : BitVec 32 := Scalar.muli arg20 c8_i32_193
  let v486 : BitVec 32 := Scalar.addi c0_i32_194 v485
  let c1_i32_195 : BitVec 32 := 1#32
  let v487 : BitVec 32 := Scalar.addi v486 c1_i32_195
  let v488 : Index := Scalar.indexCast v487
  ![0, v488.toNat]
def k0_off138 (v489 : BitVec 32) : Fin 2 → Nat :=
  let c24_i32_197 : BitVec 32 := 24#32
  let v490 : BitVec 32 := Scalar.addi v489 c24_i32_197
  let v491 : Index := Scalar.indexCast v490
  let c0_198 : Index := 0#32
  ![v491.toNat, 0]

def k0_off139 (k0_t3 : Fin k0_t3_loop.trips) : Fin 2 → Nat :=
  let c0_199 : Index := 0#32
  let c0_i32_194 : BitVec 32 := 0#32
  let c0_i32_16 : BitVec 32 := 0#32
  let c1_i32_18 : BitVec 32 := 1#32
  let arg20 : BitVec 32 := Scf.iv c0_i32_16 c1_i32_18 k0_t3
  let c8_i32_193 : BitVec 32 := 8#32
  let v485 : BitVec 32 := Scalar.muli arg20 c8_i32_193
  let v486 : BitVec 32 := Scalar.addi c0_i32_194 v485
  let c1_i32_195 : BitVec 32 := 1#32
  let v487 : BitVec 32 := Scalar.addi v486 c1_i32_195
  let v493 : Index := Scalar.indexCast v487
  ![0, v493.toNat]
def k0_off140 (v489 : BitVec 32) (c0_i32_202 : BitVec 32) : Fin 2 → Nat :=
  let v507 : BitVec 32 := Scalar.addi v489 c0_i32_202
  let v508 : Index := Scalar.indexCast v507
  let c0_203 : Index := 0#32
  ![v508.toNat, 0]

def k0_chk29 (v489 : BitVec 32) : Prop :=
  (∀ a, (k0_off138 v489) a + S1x128.size a ≤ S102432x128.size a) ∧
  (∀ (r : Fin 3), ∀ a, (k0_off140 v489 (BitVec.ofNat 32 (8 * r.val))) a + S8x128.size a ≤ S102432x128.size a)
theorem k0_off138_inb : ∀ (v489 : BitVec 32) (k0_hw29 : k0_chk29 v489), ∀ a, (k0_off138 v489) a + S1x128.size a ≤ S102432x128.size a := fun v489 k0_hw29 => k0_hw29.1
theorem k0_off140_inb : ∀ (v489 : BitVec 32) (k0_hw29 : k0_chk29 v489), ∀ (r : Fin 3), ∀ a, (k0_off140 v489 (BitVec.ofNat 32 (8 * r.val))) a + S8x128.size a ≤ S102432x128.size a := fun v489 k0_hw29 r => k0_hw29.2 r

def k0_off141 (k0_t3 : Fin k0_t3_loop.trips) : Fin 2 → Nat :=
  let c1_212 : Index := 1#32
  let c0_i32_194 : BitVec 32 := 0#32
  let c0_i32_16 : BitVec 32 := 0#32
  let c1_i32_18 : BitVec 32 := 1#32
  let arg20 : BitVec 32 := Scf.iv c0_i32_16 c1_i32_18 k0_t3
  let c8_i32_193 : BitVec 32 := 8#32
  let v485 : BitVec 32 := Scalar.muli arg20 c8_i32_193
  let v486 : BitVec 32 := Scalar.addi c0_i32_194 v485
  let c1_i32_195 : BitVec 32 := 1#32
  let v487 : BitVec 32 := Scalar.addi v486 c1_i32_195
  let v535 : Index := Scalar.indexCast v487
  ![1, v535.toNat]
def k0_off142 (v536 : BitVec 32) : Fin 2 → Nat :=
  let c24_i32_213 : BitVec 32 := 24#32
  let v537 : BitVec 32 := Scalar.addi v536 c24_i32_213
  let v538 : Index := Scalar.indexCast v537
  let c0_214 : Index := 0#32
  ![v538.toNat, 0]

def k0_off143 (k0_t3 : Fin k0_t3_loop.trips) : Fin 2 → Nat :=
  let c1_215 : Index := 1#32
  let c0_i32_194 : BitVec 32 := 0#32
  let c0_i32_16 : BitVec 32 := 0#32
  let c1_i32_18 : BitVec 32 := 1#32
  let arg20 : BitVec 32 := Scf.iv c0_i32_16 c1_i32_18 k0_t3
  let c8_i32_193 : BitVec 32 := 8#32
  let v485 : BitVec 32 := Scalar.muli arg20 c8_i32_193
  let v486 : BitVec 32 := Scalar.addi c0_i32_194 v485
  let c1_i32_195 : BitVec 32 := 1#32
  let v487 : BitVec 32 := Scalar.addi v486 c1_i32_195
  let v540 : Index := Scalar.indexCast v487
  ![1, v540.toNat]
def k0_off144 (v536 : BitVec 32) (c0_i32_218 : BitVec 32) : Fin 2 → Nat :=
  let v554 : BitVec 32 := Scalar.addi v536 c0_i32_218
  let v555 : Index := Scalar.indexCast v554
  let c0_219 : Index := 0#32
  ![v555.toNat, 0]

def k0_chk30 (v536 : BitVec 32) : Prop :=
  (∀ a, (k0_off142 v536) a + S1x128.size a ≤ S102432x128.size a) ∧
  (∀ (r : Fin 3), ∀ a, (k0_off144 v536 (BitVec.ofNat 32 (8 * r.val))) a + S8x128.size a ≤ S102432x128.size a)
theorem k0_off142_inb : ∀ (v536 : BitVec 32) (k0_hw30 : k0_chk30 v536), ∀ a, (k0_off142 v536) a + S1x128.size a ≤ S102432x128.size a := fun v536 k0_hw30 => k0_hw30.1
theorem k0_off144_inb : ∀ (v536 : BitVec 32) (k0_hw30 : k0_chk30 v536), ∀ (r : Fin 3), ∀ a, (k0_off144 v536 (BitVec.ofNat 32 (8 * r.val))) a + S8x128.size a ≤ S102432x128.size a := fun v536 k0_hw30 r => k0_hw30.2 r

def k0_off145 (k0_t3 : Fin k0_t3_loop.trips) : Fin 2 → Nat :=
  let c2_228 : Index := 2#32
  let c0_i32_194 : BitVec 32 := 0#32
  let c0_i32_16 : BitVec 32 := 0#32
  let c1_i32_18 : BitVec 32 := 1#32
  let arg20 : BitVec 32 := Scf.iv c0_i32_16 c1_i32_18 k0_t3
  let c8_i32_193 : BitVec 32 := 8#32
  let v485 : BitVec 32 := Scalar.muli arg20 c8_i32_193
  let v486 : BitVec 32 := Scalar.addi c0_i32_194 v485
  let c1_i32_195 : BitVec 32 := 1#32
  let v487 : BitVec 32 := Scalar.addi v486 c1_i32_195
  let v585 : Index := Scalar.indexCast v487
  ![2, v585.toNat]
def k0_off146 (v586 : BitVec 32) : Fin 2 → Nat :=
  let c24_i32_229 : BitVec 32 := 24#32
  let v587 : BitVec 32 := Scalar.addi v586 c24_i32_229
  let v588 : Index := Scalar.indexCast v587
  let c0_230 : Index := 0#32
  ![v588.toNat, 0]

def k0_off147 (k0_t3 : Fin k0_t3_loop.trips) : Fin 2 → Nat :=
  let c2_231 : Index := 2#32
  let c0_i32_194 : BitVec 32 := 0#32
  let c0_i32_16 : BitVec 32 := 0#32
  let c1_i32_18 : BitVec 32 := 1#32
  let arg20 : BitVec 32 := Scf.iv c0_i32_16 c1_i32_18 k0_t3
  let c8_i32_193 : BitVec 32 := 8#32
  let v485 : BitVec 32 := Scalar.muli arg20 c8_i32_193
  let v486 : BitVec 32 := Scalar.addi c0_i32_194 v485
  let c1_i32_195 : BitVec 32 := 1#32
  let v487 : BitVec 32 := Scalar.addi v486 c1_i32_195
  let v590 : Index := Scalar.indexCast v487
  ![2, v590.toNat]
def k0_off148 (v586 : BitVec 32) (c0_i32_234 : BitVec 32) : Fin 2 → Nat :=
  let v604 : BitVec 32 := Scalar.addi v586 c0_i32_234
  let v605 : Index := Scalar.indexCast v604
  let c0_235 : Index := 0#32
  ![v605.toNat, 0]

def k0_chk31 (v586 : BitVec 32) : Prop :=
  (∀ a, (k0_off146 v586) a + S1x128.size a ≤ S102432x128.size a) ∧
  (∀ (r : Fin 3), ∀ a, (k0_off148 v586 (BitVec.ofNat 32 (8 * r.val))) a + S8x128.size a ≤ S102432x128.size a)
theorem k0_off146_inb : ∀ (v586 : BitVec 32) (k0_hw31 : k0_chk31 v586), ∀ a, (k0_off146 v586) a + S1x128.size a ≤ S102432x128.size a := fun v586 k0_hw31 => k0_hw31.1
theorem k0_off148_inb : ∀ (v586 : BitVec 32) (k0_hw31 : k0_chk31 v586), ∀ (r : Fin 3), ∀ a, (k0_off148 v586 (BitVec.ofNat 32 (8 * r.val))) a + S8x128.size a ≤ S102432x128.size a := fun v586 k0_hw31 r => k0_hw31.2 r

def k0_off149 (k0_t3 : Fin k0_t3_loop.trips) : Fin 2 → Nat :=
  let c3_244 : Index := 3#32
  let c0_i32_194 : BitVec 32 := 0#32
  let c0_i32_16 : BitVec 32 := 0#32
  let c1_i32_18 : BitVec 32 := 1#32
  let arg20 : BitVec 32 := Scf.iv c0_i32_16 c1_i32_18 k0_t3
  let c8_i32_193 : BitVec 32 := 8#32
  let v485 : BitVec 32 := Scalar.muli arg20 c8_i32_193
  let v486 : BitVec 32 := Scalar.addi c0_i32_194 v485
  let c1_i32_195 : BitVec 32 := 1#32
  let v487 : BitVec 32 := Scalar.addi v486 c1_i32_195
  let v635 : Index := Scalar.indexCast v487
  ![3, v635.toNat]
def k0_off150 (v636 : BitVec 32) : Fin 2 → Nat :=
  let c24_i32_245 : BitVec 32 := 24#32
  let v637 : BitVec 32 := Scalar.addi v636 c24_i32_245
  let v638 : Index := Scalar.indexCast v637
  let c0_246 : Index := 0#32
  ![v638.toNat, 0]

def k0_off151 (k0_t3 : Fin k0_t3_loop.trips) : Fin 2 → Nat :=
  let c3_247 : Index := 3#32
  let c0_i32_194 : BitVec 32 := 0#32
  let c0_i32_16 : BitVec 32 := 0#32
  let c1_i32_18 : BitVec 32 := 1#32
  let arg20 : BitVec 32 := Scf.iv c0_i32_16 c1_i32_18 k0_t3
  let c8_i32_193 : BitVec 32 := 8#32
  let v485 : BitVec 32 := Scalar.muli arg20 c8_i32_193
  let v486 : BitVec 32 := Scalar.addi c0_i32_194 v485
  let c1_i32_195 : BitVec 32 := 1#32
  let v487 : BitVec 32 := Scalar.addi v486 c1_i32_195
  let v640 : Index := Scalar.indexCast v487
  ![3, v640.toNat]
def k0_off152 (v636 : BitVec 32) (c0_i32_250 : BitVec 32) : Fin 2 → Nat :=
  let v654 : BitVec 32 := Scalar.addi v636 c0_i32_250
  let v655 : Index := Scalar.indexCast v654
  let c0_251 : Index := 0#32
  ![v655.toNat, 0]

def k0_chk32 (v636 : BitVec 32) : Prop :=
  (∀ a, (k0_off150 v636) a + S1x128.size a ≤ S102432x128.size a) ∧
  (∀ (r : Fin 3), ∀ a, (k0_off152 v636 (BitVec.ofNat 32 (8 * r.val))) a + S8x128.size a ≤ S102432x128.size a)
theorem k0_off150_inb : ∀ (v636 : BitVec 32) (k0_hw32 : k0_chk32 v636), ∀ a, (k0_off150 v636) a + S1x128.size a ≤ S102432x128.size a := fun v636 k0_hw32 => k0_hw32.1
theorem k0_off152_inb : ∀ (v636 : BitVec 32) (k0_hw32 : k0_chk32 v636), ∀ (r : Fin 3), ∀ a, (k0_off152 v636 (BitVec.ofNat 32 (8 * r.val))) a + S8x128.size a ≤ S102432x128.size a := fun v636 k0_hw32 r => k0_hw32.2 r

def k0_off153 (k0_t3 : Fin k0_t3_loop.trips) : Fin 2 → Nat :=
  let c4_260 : Index := 4#32
  let c0_i32_194 : BitVec 32 := 0#32
  let c0_i32_16 : BitVec 32 := 0#32
  let c1_i32_18 : BitVec 32 := 1#32
  let arg20 : BitVec 32 := Scf.iv c0_i32_16 c1_i32_18 k0_t3
  let c8_i32_193 : BitVec 32 := 8#32
  let v485 : BitVec 32 := Scalar.muli arg20 c8_i32_193
  let v486 : BitVec 32 := Scalar.addi c0_i32_194 v485
  let c1_i32_195 : BitVec 32 := 1#32
  let v487 : BitVec 32 := Scalar.addi v486 c1_i32_195
  let v685 : Index := Scalar.indexCast v487
  ![4, v685.toNat]
def k0_off154 (v686 : BitVec 32) : Fin 2 → Nat :=
  let c24_i32_261 : BitVec 32 := 24#32
  let v687 : BitVec 32 := Scalar.addi v686 c24_i32_261
  let v688 : Index := Scalar.indexCast v687
  let c0_262 : Index := 0#32
  ![v688.toNat, 0]

def k0_off155 (k0_t3 : Fin k0_t3_loop.trips) : Fin 2 → Nat :=
  let c4_263 : Index := 4#32
  let c0_i32_194 : BitVec 32 := 0#32
  let c0_i32_16 : BitVec 32 := 0#32
  let c1_i32_18 : BitVec 32 := 1#32
  let arg20 : BitVec 32 := Scf.iv c0_i32_16 c1_i32_18 k0_t3
  let c8_i32_193 : BitVec 32 := 8#32
  let v485 : BitVec 32 := Scalar.muli arg20 c8_i32_193
  let v486 : BitVec 32 := Scalar.addi c0_i32_194 v485
  let c1_i32_195 : BitVec 32 := 1#32
  let v487 : BitVec 32 := Scalar.addi v486 c1_i32_195
  let v690 : Index := Scalar.indexCast v487
  ![4, v690.toNat]
def k0_off156 (v686 : BitVec 32) (c0_i32_266 : BitVec 32) : Fin 2 → Nat :=
  let v704 : BitVec 32 := Scalar.addi v686 c0_i32_266
  let v705 : Index := Scalar.indexCast v704
  let c0_267 : Index := 0#32
  ![v705.toNat, 0]

def k0_chk33 (v686 : BitVec 32) : Prop :=
  (∀ a, (k0_off154 v686) a + S1x128.size a ≤ S102432x128.size a) ∧
  (∀ (r : Fin 3), ∀ a, (k0_off156 v686 (BitVec.ofNat 32 (8 * r.val))) a + S8x128.size a ≤ S102432x128.size a)
theorem k0_off154_inb : ∀ (v686 : BitVec 32) (k0_hw33 : k0_chk33 v686), ∀ a, (k0_off154 v686) a + S1x128.size a ≤ S102432x128.size a := fun v686 k0_hw33 => k0_hw33.1
theorem k0_off156_inb : ∀ (v686 : BitVec 32) (k0_hw33 : k0_chk33 v686), ∀ (r : Fin 3), ∀ a, (k0_off156 v686 (BitVec.ofNat 32 (8 * r.val))) a + S8x128.size a ≤ S102432x128.size a := fun v686 k0_hw33 r => k0_hw33.2 r

def k0_off157 (k0_t3 : Fin k0_t3_loop.trips) : Fin 2 → Nat :=
  let c5_276 : Index := 5#32
  let c0_i32_194 : BitVec 32 := 0#32
  let c0_i32_16 : BitVec 32 := 0#32
  let c1_i32_18 : BitVec 32 := 1#32
  let arg20 : BitVec 32 := Scf.iv c0_i32_16 c1_i32_18 k0_t3
  let c8_i32_193 : BitVec 32 := 8#32
  let v485 : BitVec 32 := Scalar.muli arg20 c8_i32_193
  let v486 : BitVec 32 := Scalar.addi c0_i32_194 v485
  let c1_i32_195 : BitVec 32 := 1#32
  let v487 : BitVec 32 := Scalar.addi v486 c1_i32_195
  let v735 : Index := Scalar.indexCast v487
  ![5, v735.toNat]
def k0_off158 (v736 : BitVec 32) : Fin 2 → Nat :=
  let c24_i32_277 : BitVec 32 := 24#32
  let v737 : BitVec 32 := Scalar.addi v736 c24_i32_277
  let v738 : Index := Scalar.indexCast v737
  let c0_278 : Index := 0#32
  ![v738.toNat, 0]

def k0_off159 (k0_t3 : Fin k0_t3_loop.trips) : Fin 2 → Nat :=
  let c5_279 : Index := 5#32
  let c0_i32_194 : BitVec 32 := 0#32
  let c0_i32_16 : BitVec 32 := 0#32
  let c1_i32_18 : BitVec 32 := 1#32
  let arg20 : BitVec 32 := Scf.iv c0_i32_16 c1_i32_18 k0_t3
  let c8_i32_193 : BitVec 32 := 8#32
  let v485 : BitVec 32 := Scalar.muli arg20 c8_i32_193
  let v486 : BitVec 32 := Scalar.addi c0_i32_194 v485
  let c1_i32_195 : BitVec 32 := 1#32
  let v487 : BitVec 32 := Scalar.addi v486 c1_i32_195
  let v740 : Index := Scalar.indexCast v487
  ![5, v740.toNat]
def k0_off160 (v736 : BitVec 32) (c0_i32_282 : BitVec 32) : Fin 2 → Nat :=
  let v754 : BitVec 32 := Scalar.addi v736 c0_i32_282
  let v755 : Index := Scalar.indexCast v754
  let c0_283 : Index := 0#32
  ![v755.toNat, 0]

def k0_chk34 (v736 : BitVec 32) : Prop :=
  (∀ a, (k0_off158 v736) a + S1x128.size a ≤ S102432x128.size a) ∧
  (∀ (r : Fin 3), ∀ a, (k0_off160 v736 (BitVec.ofNat 32 (8 * r.val))) a + S8x128.size a ≤ S102432x128.size a)
theorem k0_off158_inb : ∀ (v736 : BitVec 32) (k0_hw34 : k0_chk34 v736), ∀ a, (k0_off158 v736) a + S1x128.size a ≤ S102432x128.size a := fun v736 k0_hw34 => k0_hw34.1
theorem k0_off160_inb : ∀ (v736 : BitVec 32) (k0_hw34 : k0_chk34 v736), ∀ (r : Fin 3), ∀ a, (k0_off160 v736 (BitVec.ofNat 32 (8 * r.val))) a + S8x128.size a ≤ S102432x128.size a := fun v736 k0_hw34 r => k0_hw34.2 r

def k0_off161 (k0_t3 : Fin k0_t3_loop.trips) : Fin 2 → Nat :=
  let c6_292 : Index := 6#32
  let c0_i32_194 : BitVec 32 := 0#32
  let c0_i32_16 : BitVec 32 := 0#32
  let c1_i32_18 : BitVec 32 := 1#32
  let arg20 : BitVec 32 := Scf.iv c0_i32_16 c1_i32_18 k0_t3
  let c8_i32_193 : BitVec 32 := 8#32
  let v485 : BitVec 32 := Scalar.muli arg20 c8_i32_193
  let v486 : BitVec 32 := Scalar.addi c0_i32_194 v485
  let c1_i32_195 : BitVec 32 := 1#32
  let v487 : BitVec 32 := Scalar.addi v486 c1_i32_195
  let v785 : Index := Scalar.indexCast v487
  ![6, v785.toNat]
def k0_off162 (v786 : BitVec 32) : Fin 2 → Nat :=
  let c24_i32_293 : BitVec 32 := 24#32
  let v787 : BitVec 32 := Scalar.addi v786 c24_i32_293
  let v788 : Index := Scalar.indexCast v787
  let c0_294 : Index := 0#32
  ![v788.toNat, 0]

def k0_off163 (k0_t3 : Fin k0_t3_loop.trips) : Fin 2 → Nat :=
  let c6_295 : Index := 6#32
  let c0_i32_194 : BitVec 32 := 0#32
  let c0_i32_16 : BitVec 32 := 0#32
  let c1_i32_18 : BitVec 32 := 1#32
  let arg20 : BitVec 32 := Scf.iv c0_i32_16 c1_i32_18 k0_t3
  let c8_i32_193 : BitVec 32 := 8#32
  let v485 : BitVec 32 := Scalar.muli arg20 c8_i32_193
  let v486 : BitVec 32 := Scalar.addi c0_i32_194 v485
  let c1_i32_195 : BitVec 32 := 1#32
  let v487 : BitVec 32 := Scalar.addi v486 c1_i32_195
  let v790 : Index := Scalar.indexCast v487
  ![6, v790.toNat]
def k0_off164 (v786 : BitVec 32) (c0_i32_298 : BitVec 32) : Fin 2 → Nat :=
  let v804 : BitVec 32 := Scalar.addi v786 c0_i32_298
  let v805 : Index := Scalar.indexCast v804
  let c0_299 : Index := 0#32
  ![v805.toNat, 0]

def k0_chk35 (v786 : BitVec 32) : Prop :=
  (∀ a, (k0_off162 v786) a + S1x128.size a ≤ S102432x128.size a) ∧
  (∀ (r : Fin 3), ∀ a, (k0_off164 v786 (BitVec.ofNat 32 (8 * r.val))) a + S8x128.size a ≤ S102432x128.size a)
theorem k0_off162_inb : ∀ (v786 : BitVec 32) (k0_hw35 : k0_chk35 v786), ∀ a, (k0_off162 v786) a + S1x128.size a ≤ S102432x128.size a := fun v786 k0_hw35 => k0_hw35.1
theorem k0_off164_inb : ∀ (v786 : BitVec 32) (k0_hw35 : k0_chk35 v786), ∀ (r : Fin 3), ∀ a, (k0_off164 v786 (BitVec.ofNat 32 (8 * r.val))) a + S8x128.size a ≤ S102432x128.size a := fun v786 k0_hw35 r => k0_hw35.2 r

def k0_off165 (k0_t3 : Fin k0_t3_loop.trips) : Fin 2 → Nat :=
  let c7_308 : Index := 7#32
  let c0_i32_194 : BitVec 32 := 0#32
  let c0_i32_16 : BitVec 32 := 0#32
  let c1_i32_18 : BitVec 32 := 1#32
  let arg20 : BitVec 32 := Scf.iv c0_i32_16 c1_i32_18 k0_t3
  let c8_i32_193 : BitVec 32 := 8#32
  let v485 : BitVec 32 := Scalar.muli arg20 c8_i32_193
  let v486 : BitVec 32 := Scalar.addi c0_i32_194 v485
  let c1_i32_195 : BitVec 32 := 1#32
  let v487 : BitVec 32 := Scalar.addi v486 c1_i32_195
  let v835 : Index := Scalar.indexCast v487
  ![7, v835.toNat]
def k0_off166 (v836 : BitVec 32) : Fin 2 → Nat :=
  let c24_i32_309 : BitVec 32 := 24#32
  let v837 : BitVec 32 := Scalar.addi v836 c24_i32_309
  let v838 : Index := Scalar.indexCast v837
  let c0_310 : Index := 0#32
  ![v838.toNat, 0]

def k0_off167 (k0_t3 : Fin k0_t3_loop.trips) : Fin 2 → Nat :=
  let c7_311 : Index := 7#32
  let c0_i32_194 : BitVec 32 := 0#32
  let c0_i32_16 : BitVec 32 := 0#32
  let c1_i32_18 : BitVec 32 := 1#32
  let arg20 : BitVec 32 := Scf.iv c0_i32_16 c1_i32_18 k0_t3
  let c8_i32_193 : BitVec 32 := 8#32
  let v485 : BitVec 32 := Scalar.muli arg20 c8_i32_193
  let v486 : BitVec 32 := Scalar.addi c0_i32_194 v485
  let c1_i32_195 : BitVec 32 := 1#32
  let v487 : BitVec 32 := Scalar.addi v486 c1_i32_195
  let v840 : Index := Scalar.indexCast v487
  ![7, v840.toNat]
def k0_off168 (v836 : BitVec 32) (c0_i32_314 : BitVec 32) : Fin 2 → Nat :=
  let v854 : BitVec 32 := Scalar.addi v836 c0_i32_314
  let v855 : Index := Scalar.indexCast v854
  let c0_315 : Index := 0#32
  ![v855.toNat, 0]

def k0_chk36 (v836 : BitVec 32) : Prop :=
  (∀ a, (k0_off166 v836) a + S1x128.size a ≤ S102432x128.size a) ∧
  (∀ (r : Fin 3), ∀ a, (k0_off168 v836 (BitVec.ofNat 32 (8 * r.val))) a + S8x128.size a ≤ S102432x128.size a)
theorem k0_off166_inb : ∀ (v836 : BitVec 32) (k0_hw36 : k0_chk36 v836), ∀ a, (k0_off166 v836) a + S1x128.size a ≤ S102432x128.size a := fun v836 k0_hw36 => k0_hw36.1
theorem k0_off168_inb : ∀ (v836 : BitVec 32) (k0_hw36 : k0_chk36 v836), ∀ (r : Fin 3), ∀ a, (k0_off168 v836 (BitVec.ofNat 32 (8 * r.val))) a + S8x128.size a ≤ S102432x128.size a := fun v836 k0_hw36 r => k0_hw36.2 r

def k0_off169 (k0_t3 : Fin k0_t3_loop.trips) (c0_i32_325 : BitVec 32) : Fin 2 → Nat :=
  let c0_i32_194 : BitVec 32 := 0#32
  let c0_i32_16 : BitVec 32 := 0#32
  let c1_i32_18 : BitVec 32 := 1#32
  let arg20 : BitVec 32 := Scf.iv c0_i32_16 c1_i32_18 k0_t3
  let c8_i32_193 : BitVec 32 := 8#32
  let v485 : BitVec 32 := Scalar.muli arg20 c8_i32_193
  let v486 : BitVec 32 := Scalar.addi c0_i32_194 v485
  let c1_i32_195 : BitVec 32 := 1#32
  let v487 : BitVec 32 := Scalar.addi v486 c1_i32_195
  let c25_i32_324 : BitVec 32 := 25#32
  let v885 : BitVec 32 := Scalar.muli v487 c25_i32_324
  let v886 : BitVec 32 := Scalar.addi v885 c0_i32_325
  let v887 : Index := Scalar.indexCast v886
  let c0_326 : Index := 0#32
  ![v887.toNat, 0]
def k0_off170 (k0_t3 : Fin k0_t3_loop.trips) : Fin 2 → Nat :=
  let c0_335 : Index := 0#32
  let c0_i32_334 : BitVec 32 := 0#32
  let c0_i32_16 : BitVec 32 := 0#32
  let c1_i32_18 : BitVec 32 := 1#32
  let arg20 : BitVec 32 := Scf.iv c0_i32_16 c1_i32_18 k0_t3
  let c8_i32_333 : BitVec 32 := 8#32
  let v903 : BitVec 32 := Scalar.muli arg20 c8_i32_333
  let v904 : BitVec 32 := Scalar.addi c0_i32_334 v903
  let c2_i32 : BitVec 32 := 2#32
  let v905 : BitVec 32 := Scalar.addi v904 c2_i32
  let v906 : Index := Scalar.indexCast v905
  ![0, v906.toNat]
def k0_off171 (v907 : BitVec 32) : Fin 2 → Nat :=
  let c24_i32_336 : BitVec 32 := 24#32
  let v908 : BitVec 32 := Scalar.addi v907 c24_i32_336
  let v909 : Index := Scalar.indexCast v908
  let c0_337 : Index := 0#32
  ![v909.toNat, 0]

def k0_off172 (k0_t3 : Fin k0_t3_loop.trips) : Fin 2 → Nat :=
  let c0_338 : Index := 0#32
  let c0_i32_334 : BitVec 32 := 0#32
  let c0_i32_16 : BitVec 32 := 0#32
  let c1_i32_18 : BitVec 32 := 1#32
  let arg20 : BitVec 32 := Scf.iv c0_i32_16 c1_i32_18 k0_t3
  let c8_i32_333 : BitVec 32 := 8#32
  let v903 : BitVec 32 := Scalar.muli arg20 c8_i32_333
  let v904 : BitVec 32 := Scalar.addi c0_i32_334 v903
  let c2_i32 : BitVec 32 := 2#32
  let v905 : BitVec 32 := Scalar.addi v904 c2_i32
  let v911 : Index := Scalar.indexCast v905
  ![0, v911.toNat]
def k0_off173 (v907 : BitVec 32) (c0_i32_341 : BitVec 32) : Fin 2 → Nat :=
  let v925 : BitVec 32 := Scalar.addi v907 c0_i32_341
  let v926 : Index := Scalar.indexCast v925
  let c0_342 : Index := 0#32
  ![v926.toNat, 0]

def k0_chk37 (v907 : BitVec 32) : Prop :=
  (∀ a, (k0_off171 v907) a + S1x128.size a ≤ S102432x128.size a) ∧
  (∀ (r : Fin 3), ∀ a, (k0_off173 v907 (BitVec.ofNat 32 (8 * r.val))) a + S8x128.size a ≤ S102432x128.size a)
theorem k0_off171_inb : ∀ (v907 : BitVec 32) (k0_hw37 : k0_chk37 v907), ∀ a, (k0_off171 v907) a + S1x128.size a ≤ S102432x128.size a := fun v907 k0_hw37 => k0_hw37.1
theorem k0_off173_inb : ∀ (v907 : BitVec 32) (k0_hw37 : k0_chk37 v907), ∀ (r : Fin 3), ∀ a, (k0_off173 v907 (BitVec.ofNat 32 (8 * r.val))) a + S8x128.size a ≤ S102432x128.size a := fun v907 k0_hw37 r => k0_hw37.2 r

def k0_off174 (k0_t3 : Fin k0_t3_loop.trips) : Fin 2 → Nat :=
  let c1_351 : Index := 1#32
  let c0_i32_334 : BitVec 32 := 0#32
  let c0_i32_16 : BitVec 32 := 0#32
  let c1_i32_18 : BitVec 32 := 1#32
  let arg20 : BitVec 32 := Scf.iv c0_i32_16 c1_i32_18 k0_t3
  let c8_i32_333 : BitVec 32 := 8#32
  let v903 : BitVec 32 := Scalar.muli arg20 c8_i32_333
  let v904 : BitVec 32 := Scalar.addi c0_i32_334 v903
  let c2_i32 : BitVec 32 := 2#32
  let v905 : BitVec 32 := Scalar.addi v904 c2_i32
  let v953 : Index := Scalar.indexCast v905
  ![1, v953.toNat]
def k0_off175 (v954 : BitVec 32) : Fin 2 → Nat :=
  let c24_i32_352 : BitVec 32 := 24#32
  let v955 : BitVec 32 := Scalar.addi v954 c24_i32_352
  let v956 : Index := Scalar.indexCast v955
  let c0_353 : Index := 0#32
  ![v956.toNat, 0]

def k0_off176 (k0_t3 : Fin k0_t3_loop.trips) : Fin 2 → Nat :=
  let c1_354 : Index := 1#32
  let c0_i32_334 : BitVec 32 := 0#32
  let c0_i32_16 : BitVec 32 := 0#32
  let c1_i32_18 : BitVec 32 := 1#32
  let arg20 : BitVec 32 := Scf.iv c0_i32_16 c1_i32_18 k0_t3
  let c8_i32_333 : BitVec 32 := 8#32
  let v903 : BitVec 32 := Scalar.muli arg20 c8_i32_333
  let v904 : BitVec 32 := Scalar.addi c0_i32_334 v903
  let c2_i32 : BitVec 32 := 2#32
  let v905 : BitVec 32 := Scalar.addi v904 c2_i32
  let v958 : Index := Scalar.indexCast v905
  ![1, v958.toNat]
def k0_off177 (v954 : BitVec 32) (c0_i32_357 : BitVec 32) : Fin 2 → Nat :=
  let v972 : BitVec 32 := Scalar.addi v954 c0_i32_357
  let v973 : Index := Scalar.indexCast v972
  let c0_358 : Index := 0#32
  ![v973.toNat, 0]

def k0_chk38 (v954 : BitVec 32) : Prop :=
  (∀ a, (k0_off175 v954) a + S1x128.size a ≤ S102432x128.size a) ∧
  (∀ (r : Fin 3), ∀ a, (k0_off177 v954 (BitVec.ofNat 32 (8 * r.val))) a + S8x128.size a ≤ S102432x128.size a)
theorem k0_off175_inb : ∀ (v954 : BitVec 32) (k0_hw38 : k0_chk38 v954), ∀ a, (k0_off175 v954) a + S1x128.size a ≤ S102432x128.size a := fun v954 k0_hw38 => k0_hw38.1
theorem k0_off177_inb : ∀ (v954 : BitVec 32) (k0_hw38 : k0_chk38 v954), ∀ (r : Fin 3), ∀ a, (k0_off177 v954 (BitVec.ofNat 32 (8 * r.val))) a + S8x128.size a ≤ S102432x128.size a := fun v954 k0_hw38 r => k0_hw38.2 r

def k0_off178 (k0_t3 : Fin k0_t3_loop.trips) : Fin 2 → Nat :=
  let c2_367 : Index := 2#32
  let c0_i32_334 : BitVec 32 := 0#32
  let c0_i32_16 : BitVec 32 := 0#32
  let c1_i32_18 : BitVec 32 := 1#32
  let arg20 : BitVec 32 := Scf.iv c0_i32_16 c1_i32_18 k0_t3
  let c8_i32_333 : BitVec 32 := 8#32
  let v903 : BitVec 32 := Scalar.muli arg20 c8_i32_333
  let v904 : BitVec 32 := Scalar.addi c0_i32_334 v903
  let c2_i32 : BitVec 32 := 2#32
  let v905 : BitVec 32 := Scalar.addi v904 c2_i32
  let v1003 : Index := Scalar.indexCast v905
  ![2, v1003.toNat]
def k0_off179 (v1004 : BitVec 32) : Fin 2 → Nat :=
  let c24_i32_368 : BitVec 32 := 24#32
  let v1005 : BitVec 32 := Scalar.addi v1004 c24_i32_368
  let v1006 : Index := Scalar.indexCast v1005
  let c0_369 : Index := 0#32
  ![v1006.toNat, 0]

def k0_off180 (k0_t3 : Fin k0_t3_loop.trips) : Fin 2 → Nat :=
  let c2_370 : Index := 2#32
  let c0_i32_334 : BitVec 32 := 0#32
  let c0_i32_16 : BitVec 32 := 0#32
  let c1_i32_18 : BitVec 32 := 1#32
  let arg20 : BitVec 32 := Scf.iv c0_i32_16 c1_i32_18 k0_t3
  let c8_i32_333 : BitVec 32 := 8#32
  let v903 : BitVec 32 := Scalar.muli arg20 c8_i32_333
  let v904 : BitVec 32 := Scalar.addi c0_i32_334 v903
  let c2_i32 : BitVec 32 := 2#32
  let v905 : BitVec 32 := Scalar.addi v904 c2_i32
  let v1008 : Index := Scalar.indexCast v905
  ![2, v1008.toNat]
def k0_off181 (v1004 : BitVec 32) (c0_i32_373 : BitVec 32) : Fin 2 → Nat :=
  let v1022 : BitVec 32 := Scalar.addi v1004 c0_i32_373
  let v1023 : Index := Scalar.indexCast v1022
  let c0_374 : Index := 0#32
  ![v1023.toNat, 0]

def k0_chk39 (v1004 : BitVec 32) : Prop :=
  (∀ a, (k0_off179 v1004) a + S1x128.size a ≤ S102432x128.size a) ∧
  (∀ (r : Fin 3), ∀ a, (k0_off181 v1004 (BitVec.ofNat 32 (8 * r.val))) a + S8x128.size a ≤ S102432x128.size a)
theorem k0_off179_inb : ∀ (v1004 : BitVec 32) (k0_hw39 : k0_chk39 v1004), ∀ a, (k0_off179 v1004) a + S1x128.size a ≤ S102432x128.size a := fun v1004 k0_hw39 => k0_hw39.1
theorem k0_off181_inb : ∀ (v1004 : BitVec 32) (k0_hw39 : k0_chk39 v1004), ∀ (r : Fin 3), ∀ a, (k0_off181 v1004 (BitVec.ofNat 32 (8 * r.val))) a + S8x128.size a ≤ S102432x128.size a := fun v1004 k0_hw39 r => k0_hw39.2 r

def k0_off182 (k0_t3 : Fin k0_t3_loop.trips) : Fin 2 → Nat :=
  let c3_383 : Index := 3#32
  let c0_i32_334 : BitVec 32 := 0#32
  let c0_i32_16 : BitVec 32 := 0#32
  let c1_i32_18 : BitVec 32 := 1#32
  let arg20 : BitVec 32 := Scf.iv c0_i32_16 c1_i32_18 k0_t3
  let c8_i32_333 : BitVec 32 := 8#32
  let v903 : BitVec 32 := Scalar.muli arg20 c8_i32_333
  let v904 : BitVec 32 := Scalar.addi c0_i32_334 v903
  let c2_i32 : BitVec 32 := 2#32
  let v905 : BitVec 32 := Scalar.addi v904 c2_i32
  let v1053 : Index := Scalar.indexCast v905
  ![3, v1053.toNat]
def k0_off183 (v1054 : BitVec 32) : Fin 2 → Nat :=
  let c24_i32_384 : BitVec 32 := 24#32
  let v1055 : BitVec 32 := Scalar.addi v1054 c24_i32_384
  let v1056 : Index := Scalar.indexCast v1055
  let c0_385 : Index := 0#32
  ![v1056.toNat, 0]

def k0_off184 (k0_t3 : Fin k0_t3_loop.trips) : Fin 2 → Nat :=
  let c3_386 : Index := 3#32
  let c0_i32_334 : BitVec 32 := 0#32
  let c0_i32_16 : BitVec 32 := 0#32
  let c1_i32_18 : BitVec 32 := 1#32
  let arg20 : BitVec 32 := Scf.iv c0_i32_16 c1_i32_18 k0_t3
  let c8_i32_333 : BitVec 32 := 8#32
  let v903 : BitVec 32 := Scalar.muli arg20 c8_i32_333
  let v904 : BitVec 32 := Scalar.addi c0_i32_334 v903
  let c2_i32 : BitVec 32 := 2#32
  let v905 : BitVec 32 := Scalar.addi v904 c2_i32
  let v1058 : Index := Scalar.indexCast v905
  ![3, v1058.toNat]
def k0_off185 (v1054 : BitVec 32) (c0_i32_389 : BitVec 32) : Fin 2 → Nat :=
  let v1072 : BitVec 32 := Scalar.addi v1054 c0_i32_389
  let v1073 : Index := Scalar.indexCast v1072
  let c0_390 : Index := 0#32
  ![v1073.toNat, 0]

def k0_chk40 (v1054 : BitVec 32) : Prop :=
  (∀ a, (k0_off183 v1054) a + S1x128.size a ≤ S102432x128.size a) ∧
  (∀ (r : Fin 3), ∀ a, (k0_off185 v1054 (BitVec.ofNat 32 (8 * r.val))) a + S8x128.size a ≤ S102432x128.size a)
theorem k0_off183_inb : ∀ (v1054 : BitVec 32) (k0_hw40 : k0_chk40 v1054), ∀ a, (k0_off183 v1054) a + S1x128.size a ≤ S102432x128.size a := fun v1054 k0_hw40 => k0_hw40.1
theorem k0_off185_inb : ∀ (v1054 : BitVec 32) (k0_hw40 : k0_chk40 v1054), ∀ (r : Fin 3), ∀ a, (k0_off185 v1054 (BitVec.ofNat 32 (8 * r.val))) a + S8x128.size a ≤ S102432x128.size a := fun v1054 k0_hw40 r => k0_hw40.2 r

def k0_off186 (k0_t3 : Fin k0_t3_loop.trips) : Fin 2 → Nat :=
  let c4_399 : Index := 4#32
  let c0_i32_334 : BitVec 32 := 0#32
  let c0_i32_16 : BitVec 32 := 0#32
  let c1_i32_18 : BitVec 32 := 1#32
  let arg20 : BitVec 32 := Scf.iv c0_i32_16 c1_i32_18 k0_t3
  let c8_i32_333 : BitVec 32 := 8#32
  let v903 : BitVec 32 := Scalar.muli arg20 c8_i32_333
  let v904 : BitVec 32 := Scalar.addi c0_i32_334 v903
  let c2_i32 : BitVec 32 := 2#32
  let v905 : BitVec 32 := Scalar.addi v904 c2_i32
  let v1103 : Index := Scalar.indexCast v905
  ![4, v1103.toNat]
def k0_off187 (v1104 : BitVec 32) : Fin 2 → Nat :=
  let c24_i32_400 : BitVec 32 := 24#32
  let v1105 : BitVec 32 := Scalar.addi v1104 c24_i32_400
  let v1106 : Index := Scalar.indexCast v1105
  let c0_401 : Index := 0#32
  ![v1106.toNat, 0]

def k0_off188 (k0_t3 : Fin k0_t3_loop.trips) : Fin 2 → Nat :=
  let c4_402 : Index := 4#32
  let c0_i32_334 : BitVec 32 := 0#32
  let c0_i32_16 : BitVec 32 := 0#32
  let c1_i32_18 : BitVec 32 := 1#32
  let arg20 : BitVec 32 := Scf.iv c0_i32_16 c1_i32_18 k0_t3
  let c8_i32_333 : BitVec 32 := 8#32
  let v903 : BitVec 32 := Scalar.muli arg20 c8_i32_333
  let v904 : BitVec 32 := Scalar.addi c0_i32_334 v903
  let c2_i32 : BitVec 32 := 2#32
  let v905 : BitVec 32 := Scalar.addi v904 c2_i32
  let v1108 : Index := Scalar.indexCast v905
  ![4, v1108.toNat]
def k0_off189 (v1104 : BitVec 32) (c0_i32_405 : BitVec 32) : Fin 2 → Nat :=
  let v1122 : BitVec 32 := Scalar.addi v1104 c0_i32_405
  let v1123 : Index := Scalar.indexCast v1122
  let c0_406 : Index := 0#32
  ![v1123.toNat, 0]

def k0_chk41 (v1104 : BitVec 32) : Prop :=
  (∀ a, (k0_off187 v1104) a + S1x128.size a ≤ S102432x128.size a) ∧
  (∀ (r : Fin 3), ∀ a, (k0_off189 v1104 (BitVec.ofNat 32 (8 * r.val))) a + S8x128.size a ≤ S102432x128.size a)
theorem k0_off187_inb : ∀ (v1104 : BitVec 32) (k0_hw41 : k0_chk41 v1104), ∀ a, (k0_off187 v1104) a + S1x128.size a ≤ S102432x128.size a := fun v1104 k0_hw41 => k0_hw41.1
theorem k0_off189_inb : ∀ (v1104 : BitVec 32) (k0_hw41 : k0_chk41 v1104), ∀ (r : Fin 3), ∀ a, (k0_off189 v1104 (BitVec.ofNat 32 (8 * r.val))) a + S8x128.size a ≤ S102432x128.size a := fun v1104 k0_hw41 r => k0_hw41.2 r

def k0_off190 (k0_t3 : Fin k0_t3_loop.trips) : Fin 2 → Nat :=
  let c5_415 : Index := 5#32
  let c0_i32_334 : BitVec 32 := 0#32
  let c0_i32_16 : BitVec 32 := 0#32
  let c1_i32_18 : BitVec 32 := 1#32
  let arg20 : BitVec 32 := Scf.iv c0_i32_16 c1_i32_18 k0_t3
  let c8_i32_333 : BitVec 32 := 8#32
  let v903 : BitVec 32 := Scalar.muli arg20 c8_i32_333
  let v904 : BitVec 32 := Scalar.addi c0_i32_334 v903
  let c2_i32 : BitVec 32 := 2#32
  let v905 : BitVec 32 := Scalar.addi v904 c2_i32
  let v1153 : Index := Scalar.indexCast v905
  ![5, v1153.toNat]
def k0_off191 (v1154 : BitVec 32) : Fin 2 → Nat :=
  let c24_i32_416 : BitVec 32 := 24#32
  let v1155 : BitVec 32 := Scalar.addi v1154 c24_i32_416
  let v1156 : Index := Scalar.indexCast v1155
  let c0_417 : Index := 0#32
  ![v1156.toNat, 0]

def k0_off192 (k0_t3 : Fin k0_t3_loop.trips) : Fin 2 → Nat :=
  let c5_418 : Index := 5#32
  let c0_i32_334 : BitVec 32 := 0#32
  let c0_i32_16 : BitVec 32 := 0#32
  let c1_i32_18 : BitVec 32 := 1#32
  let arg20 : BitVec 32 := Scf.iv c0_i32_16 c1_i32_18 k0_t3
  let c8_i32_333 : BitVec 32 := 8#32
  let v903 : BitVec 32 := Scalar.muli arg20 c8_i32_333
  let v904 : BitVec 32 := Scalar.addi c0_i32_334 v903
  let c2_i32 : BitVec 32 := 2#32
  let v905 : BitVec 32 := Scalar.addi v904 c2_i32
  let v1158 : Index := Scalar.indexCast v905
  ![5, v1158.toNat]
def k0_off193 (v1154 : BitVec 32) (c0_i32_421 : BitVec 32) : Fin 2 → Nat :=
  let v1172 : BitVec 32 := Scalar.addi v1154 c0_i32_421
  let v1173 : Index := Scalar.indexCast v1172
  let c0_422 : Index := 0#32
  ![v1173.toNat, 0]

def k0_chk42 (v1154 : BitVec 32) : Prop :=
  (∀ a, (k0_off191 v1154) a + S1x128.size a ≤ S102432x128.size a) ∧
  (∀ (r : Fin 3), ∀ a, (k0_off193 v1154 (BitVec.ofNat 32 (8 * r.val))) a + S8x128.size a ≤ S102432x128.size a)
theorem k0_off191_inb : ∀ (v1154 : BitVec 32) (k0_hw42 : k0_chk42 v1154), ∀ a, (k0_off191 v1154) a + S1x128.size a ≤ S102432x128.size a := fun v1154 k0_hw42 => k0_hw42.1
theorem k0_off193_inb : ∀ (v1154 : BitVec 32) (k0_hw42 : k0_chk42 v1154), ∀ (r : Fin 3), ∀ a, (k0_off193 v1154 (BitVec.ofNat 32 (8 * r.val))) a + S8x128.size a ≤ S102432x128.size a := fun v1154 k0_hw42 r => k0_hw42.2 r

def k0_off194 (k0_t3 : Fin k0_t3_loop.trips) : Fin 2 → Nat :=
  let c6_431 : Index := 6#32
  let c0_i32_334 : BitVec 32 := 0#32
  let c0_i32_16 : BitVec 32 := 0#32
  let c1_i32_18 : BitVec 32 := 1#32
  let arg20 : BitVec 32 := Scf.iv c0_i32_16 c1_i32_18 k0_t3
  let c8_i32_333 : BitVec 32 := 8#32
  let v903 : BitVec 32 := Scalar.muli arg20 c8_i32_333
  let v904 : BitVec 32 := Scalar.addi c0_i32_334 v903
  let c2_i32 : BitVec 32 := 2#32
  let v905 : BitVec 32 := Scalar.addi v904 c2_i32
  let v1203 : Index := Scalar.indexCast v905
  ![6, v1203.toNat]
def k0_off195 (v1204 : BitVec 32) : Fin 2 → Nat :=
  let c24_i32_432 : BitVec 32 := 24#32
  let v1205 : BitVec 32 := Scalar.addi v1204 c24_i32_432
  let v1206 : Index := Scalar.indexCast v1205
  let c0_433 : Index := 0#32
  ![v1206.toNat, 0]

def k0_off196 (k0_t3 : Fin k0_t3_loop.trips) : Fin 2 → Nat :=
  let c6_434 : Index := 6#32
  let c0_i32_334 : BitVec 32 := 0#32
  let c0_i32_16 : BitVec 32 := 0#32
  let c1_i32_18 : BitVec 32 := 1#32
  let arg20 : BitVec 32 := Scf.iv c0_i32_16 c1_i32_18 k0_t3
  let c8_i32_333 : BitVec 32 := 8#32
  let v903 : BitVec 32 := Scalar.muli arg20 c8_i32_333
  let v904 : BitVec 32 := Scalar.addi c0_i32_334 v903
  let c2_i32 : BitVec 32 := 2#32
  let v905 : BitVec 32 := Scalar.addi v904 c2_i32
  let v1208 : Index := Scalar.indexCast v905
  ![6, v1208.toNat]
def k0_off197 (v1204 : BitVec 32) (c0_i32_437 : BitVec 32) : Fin 2 → Nat :=
  let v1222 : BitVec 32 := Scalar.addi v1204 c0_i32_437
  let v1223 : Index := Scalar.indexCast v1222
  let c0_438 : Index := 0#32
  ![v1223.toNat, 0]

def k0_chk43 (v1204 : BitVec 32) : Prop :=
  (∀ a, (k0_off195 v1204) a + S1x128.size a ≤ S102432x128.size a) ∧
  (∀ (r : Fin 3), ∀ a, (k0_off197 v1204 (BitVec.ofNat 32 (8 * r.val))) a + S8x128.size a ≤ S102432x128.size a)
theorem k0_off195_inb : ∀ (v1204 : BitVec 32) (k0_hw43 : k0_chk43 v1204), ∀ a, (k0_off195 v1204) a + S1x128.size a ≤ S102432x128.size a := fun v1204 k0_hw43 => k0_hw43.1
theorem k0_off197_inb : ∀ (v1204 : BitVec 32) (k0_hw43 : k0_chk43 v1204), ∀ (r : Fin 3), ∀ a, (k0_off197 v1204 (BitVec.ofNat 32 (8 * r.val))) a + S8x128.size a ≤ S102432x128.size a := fun v1204 k0_hw43 r => k0_hw43.2 r

def k0_off198 (k0_t3 : Fin k0_t3_loop.trips) : Fin 2 → Nat :=
  let c7_447 : Index := 7#32
  let c0_i32_334 : BitVec 32 := 0#32
  let c0_i32_16 : BitVec 32 := 0#32
  let c1_i32_18 : BitVec 32 := 1#32
  let arg20 : BitVec 32 := Scf.iv c0_i32_16 c1_i32_18 k0_t3
  let c8_i32_333 : BitVec 32 := 8#32
  let v903 : BitVec 32 := Scalar.muli arg20 c8_i32_333
  let v904 : BitVec 32 := Scalar.addi c0_i32_334 v903
  let c2_i32 : BitVec 32 := 2#32
  let v905 : BitVec 32 := Scalar.addi v904 c2_i32
  let v1253 : Index := Scalar.indexCast v905
  ![7, v1253.toNat]
def k0_off199 (v1254 : BitVec 32) : Fin 2 → Nat :=
  let c24_i32_448 : BitVec 32 := 24#32
  let v1255 : BitVec 32 := Scalar.addi v1254 c24_i32_448
  let v1256 : Index := Scalar.indexCast v1255
  let c0_449 : Index := 0#32
  ![v1256.toNat, 0]

def k0_off200 (k0_t3 : Fin k0_t3_loop.trips) : Fin 2 → Nat :=
  let c7_450 : Index := 7#32
  let c0_i32_334 : BitVec 32 := 0#32
  let c0_i32_16 : BitVec 32 := 0#32
  let c1_i32_18 : BitVec 32 := 1#32
  let arg20 : BitVec 32 := Scf.iv c0_i32_16 c1_i32_18 k0_t3
  let c8_i32_333 : BitVec 32 := 8#32
  let v903 : BitVec 32 := Scalar.muli arg20 c8_i32_333
  let v904 : BitVec 32 := Scalar.addi c0_i32_334 v903
  let c2_i32 : BitVec 32 := 2#32
  let v905 : BitVec 32 := Scalar.addi v904 c2_i32
  let v1258 : Index := Scalar.indexCast v905
  ![7, v1258.toNat]
def k0_off201 (v1254 : BitVec 32) (c0_i32_453 : BitVec 32) : Fin 2 → Nat :=
  let v1272 : BitVec 32 := Scalar.addi v1254 c0_i32_453
  let v1273 : Index := Scalar.indexCast v1272
  let c0_454 : Index := 0#32
  ![v1273.toNat, 0]

def k0_chk44 (v1254 : BitVec 32) : Prop :=
  (∀ a, (k0_off199 v1254) a + S1x128.size a ≤ S102432x128.size a) ∧
  (∀ (r : Fin 3), ∀ a, (k0_off201 v1254 (BitVec.ofNat 32 (8 * r.val))) a + S8x128.size a ≤ S102432x128.size a)
theorem k0_off199_inb : ∀ (v1254 : BitVec 32) (k0_hw44 : k0_chk44 v1254), ∀ a, (k0_off199 v1254) a + S1x128.size a ≤ S102432x128.size a := fun v1254 k0_hw44 => k0_hw44.1
theorem k0_off201_inb : ∀ (v1254 : BitVec 32) (k0_hw44 : k0_chk44 v1254), ∀ (r : Fin 3), ∀ a, (k0_off201 v1254 (BitVec.ofNat 32 (8 * r.val))) a + S8x128.size a ≤ S102432x128.size a := fun v1254 k0_hw44 r => k0_hw44.2 r

def k0_off202 (k0_t3 : Fin k0_t3_loop.trips) (c0_i32_464 : BitVec 32) : Fin 2 → Nat :=
  let c0_i32_334 : BitVec 32 := 0#32
  let c0_i32_16 : BitVec 32 := 0#32
  let c1_i32_18 : BitVec 32 := 1#32
  let arg20 : BitVec 32 := Scf.iv c0_i32_16 c1_i32_18 k0_t3
  let c8_i32_333 : BitVec 32 := 8#32
  let v903 : BitVec 32 := Scalar.muli arg20 c8_i32_333
  let v904 : BitVec 32 := Scalar.addi c0_i32_334 v903
  let c2_i32 : BitVec 32 := 2#32
  let v905 : BitVec 32 := Scalar.addi v904 c2_i32
  let c25_i32_463 : BitVec 32 := 25#32
  let v1303 : BitVec 32 := Scalar.muli v905 c25_i32_463
  let v1304 : BitVec 32 := Scalar.addi v1303 c0_i32_464
  let v1305 : Index := Scalar.indexCast v1304
  let c0_465 : Index := 0#32
  ![v1305.toNat, 0]
def k0_off203 (k0_t3 : Fin k0_t3_loop.trips) : Fin 2 → Nat :=
  let c0_474 : Index := 0#32
  let c0_i32_473 : BitVec 32 := 0#32
  let c0_i32_16 : BitVec 32 := 0#32
  let c1_i32_18 : BitVec 32 := 1#32
  let arg20 : BitVec 32 := Scf.iv c0_i32_16 c1_i32_18 k0_t3
  let c8_i32_472 : BitVec 32 := 8#32
  let v1321 : BitVec 32 := Scalar.muli arg20 c8_i32_472
  let v1322 : BitVec 32 := Scalar.addi c0_i32_473 v1321
  let c3_i32 : BitVec 32 := 3#32
  let v1323 : BitVec 32 := Scalar.addi v1322 c3_i32
  let v1324 : Index := Scalar.indexCast v1323
  ![0, v1324.toNat]
def k0_off204 (v1325 : BitVec 32) : Fin 2 → Nat :=
  let c24_i32_475 : BitVec 32 := 24#32
  let v1326 : BitVec 32 := Scalar.addi v1325 c24_i32_475
  let v1327 : Index := Scalar.indexCast v1326
  let c0_476 : Index := 0#32
  ![v1327.toNat, 0]

def k0_off205 (k0_t3 : Fin k0_t3_loop.trips) : Fin 2 → Nat :=
  let c0_477 : Index := 0#32
  let c0_i32_473 : BitVec 32 := 0#32
  let c0_i32_16 : BitVec 32 := 0#32
  let c1_i32_18 : BitVec 32 := 1#32
  let arg20 : BitVec 32 := Scf.iv c0_i32_16 c1_i32_18 k0_t3
  let c8_i32_472 : BitVec 32 := 8#32
  let v1321 : BitVec 32 := Scalar.muli arg20 c8_i32_472
  let v1322 : BitVec 32 := Scalar.addi c0_i32_473 v1321
  let c3_i32 : BitVec 32 := 3#32
  let v1323 : BitVec 32 := Scalar.addi v1322 c3_i32
  let v1329 : Index := Scalar.indexCast v1323
  ![0, v1329.toNat]
def k0_off206 (v1325 : BitVec 32) (c0_i32_480 : BitVec 32) : Fin 2 → Nat :=
  let v1343 : BitVec 32 := Scalar.addi v1325 c0_i32_480
  let v1344 : Index := Scalar.indexCast v1343
  let c0_481 : Index := 0#32
  ![v1344.toNat, 0]

def k0_chk45 (v1325 : BitVec 32) : Prop :=
  (∀ a, (k0_off204 v1325) a + S1x128.size a ≤ S102432x128.size a) ∧
  (∀ (r : Fin 3), ∀ a, (k0_off206 v1325 (BitVec.ofNat 32 (8 * r.val))) a + S8x128.size a ≤ S102432x128.size a)
theorem k0_off204_inb : ∀ (v1325 : BitVec 32) (k0_hw45 : k0_chk45 v1325), ∀ a, (k0_off204 v1325) a + S1x128.size a ≤ S102432x128.size a := fun v1325 k0_hw45 => k0_hw45.1
theorem k0_off206_inb : ∀ (v1325 : BitVec 32) (k0_hw45 : k0_chk45 v1325), ∀ (r : Fin 3), ∀ a, (k0_off206 v1325 (BitVec.ofNat 32 (8 * r.val))) a + S8x128.size a ≤ S102432x128.size a := fun v1325 k0_hw45 r => k0_hw45.2 r

def k0_off207 (k0_t3 : Fin k0_t3_loop.trips) : Fin 2 → Nat :=
  let c1_490 : Index := 1#32
  let c0_i32_473 : BitVec 32 := 0#32
  let c0_i32_16 : BitVec 32 := 0#32
  let c1_i32_18 : BitVec 32 := 1#32
  let arg20 : BitVec 32 := Scf.iv c0_i32_16 c1_i32_18 k0_t3
  let c8_i32_472 : BitVec 32 := 8#32
  let v1321 : BitVec 32 := Scalar.muli arg20 c8_i32_472
  let v1322 : BitVec 32 := Scalar.addi c0_i32_473 v1321
  let c3_i32 : BitVec 32 := 3#32
  let v1323 : BitVec 32 := Scalar.addi v1322 c3_i32
  let v1371 : Index := Scalar.indexCast v1323
  ![1, v1371.toNat]
def k0_off208 (v1372 : BitVec 32) : Fin 2 → Nat :=
  let c24_i32_491 : BitVec 32 := 24#32
  let v1373 : BitVec 32 := Scalar.addi v1372 c24_i32_491
  let v1374 : Index := Scalar.indexCast v1373
  let c0_492 : Index := 0#32
  ![v1374.toNat, 0]

def k0_off209 (k0_t3 : Fin k0_t3_loop.trips) : Fin 2 → Nat :=
  let c1_493 : Index := 1#32
  let c0_i32_473 : BitVec 32 := 0#32
  let c0_i32_16 : BitVec 32 := 0#32
  let c1_i32_18 : BitVec 32 := 1#32
  let arg20 : BitVec 32 := Scf.iv c0_i32_16 c1_i32_18 k0_t3
  let c8_i32_472 : BitVec 32 := 8#32
  let v1321 : BitVec 32 := Scalar.muli arg20 c8_i32_472
  let v1322 : BitVec 32 := Scalar.addi c0_i32_473 v1321
  let c3_i32 : BitVec 32 := 3#32
  let v1323 : BitVec 32 := Scalar.addi v1322 c3_i32
  let v1376 : Index := Scalar.indexCast v1323
  ![1, v1376.toNat]
def k0_off210 (v1372 : BitVec 32) (c0_i32_496 : BitVec 32) : Fin 2 → Nat :=
  let v1390 : BitVec 32 := Scalar.addi v1372 c0_i32_496
  let v1391 : Index := Scalar.indexCast v1390
  let c0_497 : Index := 0#32
  ![v1391.toNat, 0]

def k0_chk46 (v1372 : BitVec 32) : Prop :=
  (∀ a, (k0_off208 v1372) a + S1x128.size a ≤ S102432x128.size a) ∧
  (∀ (r : Fin 3), ∀ a, (k0_off210 v1372 (BitVec.ofNat 32 (8 * r.val))) a + S8x128.size a ≤ S102432x128.size a)
theorem k0_off208_inb : ∀ (v1372 : BitVec 32) (k0_hw46 : k0_chk46 v1372), ∀ a, (k0_off208 v1372) a + S1x128.size a ≤ S102432x128.size a := fun v1372 k0_hw46 => k0_hw46.1
theorem k0_off210_inb : ∀ (v1372 : BitVec 32) (k0_hw46 : k0_chk46 v1372), ∀ (r : Fin 3), ∀ a, (k0_off210 v1372 (BitVec.ofNat 32 (8 * r.val))) a + S8x128.size a ≤ S102432x128.size a := fun v1372 k0_hw46 r => k0_hw46.2 r

def k0_off211 (k0_t3 : Fin k0_t3_loop.trips) : Fin 2 → Nat :=
  let c2_506 : Index := 2#32
  let c0_i32_473 : BitVec 32 := 0#32
  let c0_i32_16 : BitVec 32 := 0#32
  let c1_i32_18 : BitVec 32 := 1#32
  let arg20 : BitVec 32 := Scf.iv c0_i32_16 c1_i32_18 k0_t3
  let c8_i32_472 : BitVec 32 := 8#32
  let v1321 : BitVec 32 := Scalar.muli arg20 c8_i32_472
  let v1322 : BitVec 32 := Scalar.addi c0_i32_473 v1321
  let c3_i32 : BitVec 32 := 3#32
  let v1323 : BitVec 32 := Scalar.addi v1322 c3_i32
  let v1421 : Index := Scalar.indexCast v1323
  ![2, v1421.toNat]
def k0_off212 (v1422 : BitVec 32) : Fin 2 → Nat :=
  let c24_i32_507 : BitVec 32 := 24#32
  let v1423 : BitVec 32 := Scalar.addi v1422 c24_i32_507
  let v1424 : Index := Scalar.indexCast v1423
  let c0_508 : Index := 0#32
  ![v1424.toNat, 0]

def k0_off213 (k0_t3 : Fin k0_t3_loop.trips) : Fin 2 → Nat :=
  let c2_509 : Index := 2#32
  let c0_i32_473 : BitVec 32 := 0#32
  let c0_i32_16 : BitVec 32 := 0#32
  let c1_i32_18 : BitVec 32 := 1#32
  let arg20 : BitVec 32 := Scf.iv c0_i32_16 c1_i32_18 k0_t3
  let c8_i32_472 : BitVec 32 := 8#32
  let v1321 : BitVec 32 := Scalar.muli arg20 c8_i32_472
  let v1322 : BitVec 32 := Scalar.addi c0_i32_473 v1321
  let c3_i32 : BitVec 32 := 3#32
  let v1323 : BitVec 32 := Scalar.addi v1322 c3_i32
  let v1426 : Index := Scalar.indexCast v1323
  ![2, v1426.toNat]
def k0_off214 (v1422 : BitVec 32) (c0_i32_512 : BitVec 32) : Fin 2 → Nat :=
  let v1440 : BitVec 32 := Scalar.addi v1422 c0_i32_512
  let v1441 : Index := Scalar.indexCast v1440
  let c0_513 : Index := 0#32
  ![v1441.toNat, 0]

def k0_chk47 (v1422 : BitVec 32) : Prop :=
  (∀ a, (k0_off212 v1422) a + S1x128.size a ≤ S102432x128.size a) ∧
  (∀ (r : Fin 3), ∀ a, (k0_off214 v1422 (BitVec.ofNat 32 (8 * r.val))) a + S8x128.size a ≤ S102432x128.size a)
theorem k0_off212_inb : ∀ (v1422 : BitVec 32) (k0_hw47 : k0_chk47 v1422), ∀ a, (k0_off212 v1422) a + S1x128.size a ≤ S102432x128.size a := fun v1422 k0_hw47 => k0_hw47.1
theorem k0_off214_inb : ∀ (v1422 : BitVec 32) (k0_hw47 : k0_chk47 v1422), ∀ (r : Fin 3), ∀ a, (k0_off214 v1422 (BitVec.ofNat 32 (8 * r.val))) a + S8x128.size a ≤ S102432x128.size a := fun v1422 k0_hw47 r => k0_hw47.2 r

def k0_off215 (k0_t3 : Fin k0_t3_loop.trips) : Fin 2 → Nat :=
  let c3_522 : Index := 3#32
  let c0_i32_473 : BitVec 32 := 0#32
  let c0_i32_16 : BitVec 32 := 0#32
  let c1_i32_18 : BitVec 32 := 1#32
  let arg20 : BitVec 32 := Scf.iv c0_i32_16 c1_i32_18 k0_t3
  let c8_i32_472 : BitVec 32 := 8#32
  let v1321 : BitVec 32 := Scalar.muli arg20 c8_i32_472
  let v1322 : BitVec 32 := Scalar.addi c0_i32_473 v1321
  let c3_i32 : BitVec 32 := 3#32
  let v1323 : BitVec 32 := Scalar.addi v1322 c3_i32
  let v1471 : Index := Scalar.indexCast v1323
  ![3, v1471.toNat]
def k0_off216 (v1472 : BitVec 32) : Fin 2 → Nat :=
  let c24_i32_523 : BitVec 32 := 24#32
  let v1473 : BitVec 32 := Scalar.addi v1472 c24_i32_523
  let v1474 : Index := Scalar.indexCast v1473
  let c0_524 : Index := 0#32
  ![v1474.toNat, 0]

def k0_off217 (k0_t3 : Fin k0_t3_loop.trips) : Fin 2 → Nat :=
  let c3_525 : Index := 3#32
  let c0_i32_473 : BitVec 32 := 0#32
  let c0_i32_16 : BitVec 32 := 0#32
  let c1_i32_18 : BitVec 32 := 1#32
  let arg20 : BitVec 32 := Scf.iv c0_i32_16 c1_i32_18 k0_t3
  let c8_i32_472 : BitVec 32 := 8#32
  let v1321 : BitVec 32 := Scalar.muli arg20 c8_i32_472
  let v1322 : BitVec 32 := Scalar.addi c0_i32_473 v1321
  let c3_i32 : BitVec 32 := 3#32
  let v1323 : BitVec 32 := Scalar.addi v1322 c3_i32
  let v1476 : Index := Scalar.indexCast v1323
  ![3, v1476.toNat]
def k0_off218 (v1472 : BitVec 32) (c0_i32_528 : BitVec 32) : Fin 2 → Nat :=
  let v1490 : BitVec 32 := Scalar.addi v1472 c0_i32_528
  let v1491 : Index := Scalar.indexCast v1490
  let c0_529 : Index := 0#32
  ![v1491.toNat, 0]

def k0_chk48 (v1472 : BitVec 32) : Prop :=
  (∀ a, (k0_off216 v1472) a + S1x128.size a ≤ S102432x128.size a) ∧
  (∀ (r : Fin 3), ∀ a, (k0_off218 v1472 (BitVec.ofNat 32 (8 * r.val))) a + S8x128.size a ≤ S102432x128.size a)
theorem k0_off216_inb : ∀ (v1472 : BitVec 32) (k0_hw48 : k0_chk48 v1472), ∀ a, (k0_off216 v1472) a + S1x128.size a ≤ S102432x128.size a := fun v1472 k0_hw48 => k0_hw48.1
theorem k0_off218_inb : ∀ (v1472 : BitVec 32) (k0_hw48 : k0_chk48 v1472), ∀ (r : Fin 3), ∀ a, (k0_off218 v1472 (BitVec.ofNat 32 (8 * r.val))) a + S8x128.size a ≤ S102432x128.size a := fun v1472 k0_hw48 r => k0_hw48.2 r

def k0_off219 (k0_t3 : Fin k0_t3_loop.trips) : Fin 2 → Nat :=
  let c4_538 : Index := 4#32
  let c0_i32_473 : BitVec 32 := 0#32
  let c0_i32_16 : BitVec 32 := 0#32
  let c1_i32_18 : BitVec 32 := 1#32
  let arg20 : BitVec 32 := Scf.iv c0_i32_16 c1_i32_18 k0_t3
  let c8_i32_472 : BitVec 32 := 8#32
  let v1321 : BitVec 32 := Scalar.muli arg20 c8_i32_472
  let v1322 : BitVec 32 := Scalar.addi c0_i32_473 v1321
  let c3_i32 : BitVec 32 := 3#32
  let v1323 : BitVec 32 := Scalar.addi v1322 c3_i32
  let v1521 : Index := Scalar.indexCast v1323
  ![4, v1521.toNat]
def k0_off220 (v1522 : BitVec 32) : Fin 2 → Nat :=
  let c24_i32_539 : BitVec 32 := 24#32
  let v1523 : BitVec 32 := Scalar.addi v1522 c24_i32_539
  let v1524 : Index := Scalar.indexCast v1523
  let c0_540 : Index := 0#32
  ![v1524.toNat, 0]

def k0_off221 (k0_t3 : Fin k0_t3_loop.trips) : Fin 2 → Nat :=
  let c4_541 : Index := 4#32
  let c0_i32_473 : BitVec 32 := 0#32
  let c0_i32_16 : BitVec 32 := 0#32
  let c1_i32_18 : BitVec 32 := 1#32
  let arg20 : BitVec 32 := Scf.iv c0_i32_16 c1_i32_18 k0_t3
  let c8_i32_472 : BitVec 32 := 8#32
  let v1321 : BitVec 32 := Scalar.muli arg20 c8_i32_472
  let v1322 : BitVec 32 := Scalar.addi c0_i32_473 v1321
  let c3_i32 : BitVec 32 := 3#32
  let v1323 : BitVec 32 := Scalar.addi v1322 c3_i32
  let v1526 : Index := Scalar.indexCast v1323
  ![4, v1526.toNat]
def k0_off222 (v1522 : BitVec 32) (c0_i32_544 : BitVec 32) : Fin 2 → Nat :=
  let v1540 : BitVec 32 := Scalar.addi v1522 c0_i32_544
  let v1541 : Index := Scalar.indexCast v1540
  let c0_545 : Index := 0#32
  ![v1541.toNat, 0]

def k0_chk49 (v1522 : BitVec 32) : Prop :=
  (∀ a, (k0_off220 v1522) a + S1x128.size a ≤ S102432x128.size a) ∧
  (∀ (r : Fin 3), ∀ a, (k0_off222 v1522 (BitVec.ofNat 32 (8 * r.val))) a + S8x128.size a ≤ S102432x128.size a)
theorem k0_off220_inb : ∀ (v1522 : BitVec 32) (k0_hw49 : k0_chk49 v1522), ∀ a, (k0_off220 v1522) a + S1x128.size a ≤ S102432x128.size a := fun v1522 k0_hw49 => k0_hw49.1
theorem k0_off222_inb : ∀ (v1522 : BitVec 32) (k0_hw49 : k0_chk49 v1522), ∀ (r : Fin 3), ∀ a, (k0_off222 v1522 (BitVec.ofNat 32 (8 * r.val))) a + S8x128.size a ≤ S102432x128.size a := fun v1522 k0_hw49 r => k0_hw49.2 r

def k0_off223 (k0_t3 : Fin k0_t3_loop.trips) : Fin 2 → Nat :=
  let c5_554 : Index := 5#32
  let c0_i32_473 : BitVec 32 := 0#32
  let c0_i32_16 : BitVec 32 := 0#32
  let c1_i32_18 : BitVec 32 := 1#32
  let arg20 : BitVec 32 := Scf.iv c0_i32_16 c1_i32_18 k0_t3
  let c8_i32_472 : BitVec 32 := 8#32
  let v1321 : BitVec 32 := Scalar.muli arg20 c8_i32_472
  let v1322 : BitVec 32 := Scalar.addi c0_i32_473 v1321
  let c3_i32 : BitVec 32 := 3#32
  let v1323 : BitVec 32 := Scalar.addi v1322 c3_i32
  let v1571 : Index := Scalar.indexCast v1323
  ![5, v1571.toNat]
def k0_off224 (v1572 : BitVec 32) : Fin 2 → Nat :=
  let c24_i32_555 : BitVec 32 := 24#32
  let v1573 : BitVec 32 := Scalar.addi v1572 c24_i32_555
  let v1574 : Index := Scalar.indexCast v1573
  let c0_556 : Index := 0#32
  ![v1574.toNat, 0]

def k0_off225 (k0_t3 : Fin k0_t3_loop.trips) : Fin 2 → Nat :=
  let c5_557 : Index := 5#32
  let c0_i32_473 : BitVec 32 := 0#32
  let c0_i32_16 : BitVec 32 := 0#32
  let c1_i32_18 : BitVec 32 := 1#32
  let arg20 : BitVec 32 := Scf.iv c0_i32_16 c1_i32_18 k0_t3
  let c8_i32_472 : BitVec 32 := 8#32
  let v1321 : BitVec 32 := Scalar.muli arg20 c8_i32_472
  let v1322 : BitVec 32 := Scalar.addi c0_i32_473 v1321
  let c3_i32 : BitVec 32 := 3#32
  let v1323 : BitVec 32 := Scalar.addi v1322 c3_i32
  let v1576 : Index := Scalar.indexCast v1323
  ![5, v1576.toNat]
def k0_off226 (v1572 : BitVec 32) (c0_i32_560 : BitVec 32) : Fin 2 → Nat :=
  let v1590 : BitVec 32 := Scalar.addi v1572 c0_i32_560
  let v1591 : Index := Scalar.indexCast v1590
  let c0_561 : Index := 0#32
  ![v1591.toNat, 0]

def k0_chk50 (v1572 : BitVec 32) : Prop :=
  (∀ a, (k0_off224 v1572) a + S1x128.size a ≤ S102432x128.size a) ∧
  (∀ (r : Fin 3), ∀ a, (k0_off226 v1572 (BitVec.ofNat 32 (8 * r.val))) a + S8x128.size a ≤ S102432x128.size a)
theorem k0_off224_inb : ∀ (v1572 : BitVec 32) (k0_hw50 : k0_chk50 v1572), ∀ a, (k0_off224 v1572) a + S1x128.size a ≤ S102432x128.size a := fun v1572 k0_hw50 => k0_hw50.1
theorem k0_off226_inb : ∀ (v1572 : BitVec 32) (k0_hw50 : k0_chk50 v1572), ∀ (r : Fin 3), ∀ a, (k0_off226 v1572 (BitVec.ofNat 32 (8 * r.val))) a + S8x128.size a ≤ S102432x128.size a := fun v1572 k0_hw50 r => k0_hw50.2 r

def k0_off227 (k0_t3 : Fin k0_t3_loop.trips) : Fin 2 → Nat :=
  let c6_570 : Index := 6#32
  let c0_i32_473 : BitVec 32 := 0#32
  let c0_i32_16 : BitVec 32 := 0#32
  let c1_i32_18 : BitVec 32 := 1#32
  let arg20 : BitVec 32 := Scf.iv c0_i32_16 c1_i32_18 k0_t3
  let c8_i32_472 : BitVec 32 := 8#32
  let v1321 : BitVec 32 := Scalar.muli arg20 c8_i32_472
  let v1322 : BitVec 32 := Scalar.addi c0_i32_473 v1321
  let c3_i32 : BitVec 32 := 3#32
  let v1323 : BitVec 32 := Scalar.addi v1322 c3_i32
  let v1621 : Index := Scalar.indexCast v1323
  ![6, v1621.toNat]
def k0_off228 (v1622 : BitVec 32) : Fin 2 → Nat :=
  let c24_i32_571 : BitVec 32 := 24#32
  let v1623 : BitVec 32 := Scalar.addi v1622 c24_i32_571
  let v1624 : Index := Scalar.indexCast v1623
  let c0_572 : Index := 0#32
  ![v1624.toNat, 0]

def k0_off229 (k0_t3 : Fin k0_t3_loop.trips) : Fin 2 → Nat :=
  let c6_573 : Index := 6#32
  let c0_i32_473 : BitVec 32 := 0#32
  let c0_i32_16 : BitVec 32 := 0#32
  let c1_i32_18 : BitVec 32 := 1#32
  let arg20 : BitVec 32 := Scf.iv c0_i32_16 c1_i32_18 k0_t3
  let c8_i32_472 : BitVec 32 := 8#32
  let v1321 : BitVec 32 := Scalar.muli arg20 c8_i32_472
  let v1322 : BitVec 32 := Scalar.addi c0_i32_473 v1321
  let c3_i32 : BitVec 32 := 3#32
  let v1323 : BitVec 32 := Scalar.addi v1322 c3_i32
  let v1626 : Index := Scalar.indexCast v1323
  ![6, v1626.toNat]
def k0_off230 (v1622 : BitVec 32) (c0_i32_576 : BitVec 32) : Fin 2 → Nat :=
  let v1640 : BitVec 32 := Scalar.addi v1622 c0_i32_576
  let v1641 : Index := Scalar.indexCast v1640
  let c0_577 : Index := 0#32
  ![v1641.toNat, 0]

def k0_chk51 (v1622 : BitVec 32) : Prop :=
  (∀ a, (k0_off228 v1622) a + S1x128.size a ≤ S102432x128.size a) ∧
  (∀ (r : Fin 3), ∀ a, (k0_off230 v1622 (BitVec.ofNat 32 (8 * r.val))) a + S8x128.size a ≤ S102432x128.size a)
theorem k0_off228_inb : ∀ (v1622 : BitVec 32) (k0_hw51 : k0_chk51 v1622), ∀ a, (k0_off228 v1622) a + S1x128.size a ≤ S102432x128.size a := fun v1622 k0_hw51 => k0_hw51.1
theorem k0_off230_inb : ∀ (v1622 : BitVec 32) (k0_hw51 : k0_chk51 v1622), ∀ (r : Fin 3), ∀ a, (k0_off230 v1622 (BitVec.ofNat 32 (8 * r.val))) a + S8x128.size a ≤ S102432x128.size a := fun v1622 k0_hw51 r => k0_hw51.2 r

def k0_off231 (k0_t3 : Fin k0_t3_loop.trips) : Fin 2 → Nat :=
  let c7_586 : Index := 7#32
  let c0_i32_473 : BitVec 32 := 0#32
  let c0_i32_16 : BitVec 32 := 0#32
  let c1_i32_18 : BitVec 32 := 1#32
  let arg20 : BitVec 32 := Scf.iv c0_i32_16 c1_i32_18 k0_t3
  let c8_i32_472 : BitVec 32 := 8#32
  let v1321 : BitVec 32 := Scalar.muli arg20 c8_i32_472
  let v1322 : BitVec 32 := Scalar.addi c0_i32_473 v1321
  let c3_i32 : BitVec 32 := 3#32
  let v1323 : BitVec 32 := Scalar.addi v1322 c3_i32
  let v1671 : Index := Scalar.indexCast v1323
  ![7, v1671.toNat]
def k0_off232 (v1672 : BitVec 32) : Fin 2 → Nat :=
  let c24_i32_587 : BitVec 32 := 24#32
  let v1673 : BitVec 32 := Scalar.addi v1672 c24_i32_587
  let v1674 : Index := Scalar.indexCast v1673
  let c0_588 : Index := 0#32
  ![v1674.toNat, 0]

def k0_off233 (k0_t3 : Fin k0_t3_loop.trips) : Fin 2 → Nat :=
  let c7_589 : Index := 7#32
  let c0_i32_473 : BitVec 32 := 0#32
  let c0_i32_16 : BitVec 32 := 0#32
  let c1_i32_18 : BitVec 32 := 1#32
  let arg20 : BitVec 32 := Scf.iv c0_i32_16 c1_i32_18 k0_t3
  let c8_i32_472 : BitVec 32 := 8#32
  let v1321 : BitVec 32 := Scalar.muli arg20 c8_i32_472
  let v1322 : BitVec 32 := Scalar.addi c0_i32_473 v1321
  let c3_i32 : BitVec 32 := 3#32
  let v1323 : BitVec 32 := Scalar.addi v1322 c3_i32
  let v1676 : Index := Scalar.indexCast v1323
  ![7, v1676.toNat]
def k0_off234 (v1672 : BitVec 32) (c0_i32_592 : BitVec 32) : Fin 2 → Nat :=
  let v1690 : BitVec 32 := Scalar.addi v1672 c0_i32_592
  let v1691 : Index := Scalar.indexCast v1690
  let c0_593 : Index := 0#32
  ![v1691.toNat, 0]

def k0_chk52 (v1672 : BitVec 32) : Prop :=
  (∀ a, (k0_off232 v1672) a + S1x128.size a ≤ S102432x128.size a) ∧
  (∀ (r : Fin 3), ∀ a, (k0_off234 v1672 (BitVec.ofNat 32 (8 * r.val))) a + S8x128.size a ≤ S102432x128.size a)
theorem k0_off232_inb : ∀ (v1672 : BitVec 32) (k0_hw52 : k0_chk52 v1672), ∀ a, (k0_off232 v1672) a + S1x128.size a ≤ S102432x128.size a := fun v1672 k0_hw52 => k0_hw52.1
theorem k0_off234_inb : ∀ (v1672 : BitVec 32) (k0_hw52 : k0_chk52 v1672), ∀ (r : Fin 3), ∀ a, (k0_off234 v1672 (BitVec.ofNat 32 (8 * r.val))) a + S8x128.size a ≤ S102432x128.size a := fun v1672 k0_hw52 r => k0_hw52.2 r

def k0_off235 (k0_t3 : Fin k0_t3_loop.trips) (c0_i32_603 : BitVec 32) : Fin 2 → Nat :=
  let c0_i32_473 : BitVec 32 := 0#32
  let c0_i32_16 : BitVec 32 := 0#32
  let c1_i32_18 : BitVec 32 := 1#32
  let arg20 : BitVec 32 := Scf.iv c0_i32_16 c1_i32_18 k0_t3
  let c8_i32_472 : BitVec 32 := 8#32
  let v1321 : BitVec 32 := Scalar.muli arg20 c8_i32_472
  let v1322 : BitVec 32 := Scalar.addi c0_i32_473 v1321
  let c3_i32 : BitVec 32 := 3#32
  let v1323 : BitVec 32 := Scalar.addi v1322 c3_i32
  let c25_i32_602 : BitVec 32 := 25#32
  let v1721 : BitVec 32 := Scalar.muli v1323 c25_i32_602
  let v1722 : BitVec 32 := Scalar.addi v1721 c0_i32_603
  let v1723 : Index := Scalar.indexCast v1722
  let c0_604 : Index := 0#32
  ![v1723.toNat, 0]
def k0_off236 (k0_t3 : Fin k0_t3_loop.trips) : Fin 2 → Nat :=
  let c0_614 : Index := 0#32
  let c0_i32_612 : BitVec 32 := 0#32
  let c0_i32_16 : BitVec 32 := 0#32
  let c1_i32_18 : BitVec 32 := 1#32
  let arg20 : BitVec 32 := Scf.iv c0_i32_16 c1_i32_18 k0_t3
  let c8_i32_611 : BitVec 32 := 8#32
  let v1739 : BitVec 32 := Scalar.muli arg20 c8_i32_611
  let v1740 : BitVec 32 := Scalar.addi c0_i32_612 v1739
  let c4_i32_613 : BitVec 32 := 4#32
  let v1741 : BitVec 32 := Scalar.addi v1740 c4_i32_613
  let v1742 : Index := Scalar.indexCast v1741
  ![0, v1742.toNat]
def k0_off237 (v1743 : BitVec 32) : Fin 2 → Nat :=
  let c24_i32_615 : BitVec 32 := 24#32
  let v1744 : BitVec 32 := Scalar.addi v1743 c24_i32_615
  let v1745 : Index := Scalar.indexCast v1744
  let c0_616 : Index := 0#32
  ![v1745.toNat, 0]

def k0_off238 (k0_t3 : Fin k0_t3_loop.trips) : Fin 2 → Nat :=
  let c0_617 : Index := 0#32
  let c0_i32_612 : BitVec 32 := 0#32
  let c0_i32_16 : BitVec 32 := 0#32
  let c1_i32_18 : BitVec 32 := 1#32
  let arg20 : BitVec 32 := Scf.iv c0_i32_16 c1_i32_18 k0_t3
  let c8_i32_611 : BitVec 32 := 8#32
  let v1739 : BitVec 32 := Scalar.muli arg20 c8_i32_611
  let v1740 : BitVec 32 := Scalar.addi c0_i32_612 v1739
  let c4_i32_613 : BitVec 32 := 4#32
  let v1741 : BitVec 32 := Scalar.addi v1740 c4_i32_613
  let v1747 : Index := Scalar.indexCast v1741
  ![0, v1747.toNat]
def k0_off239 (v1743 : BitVec 32) (c0_i32_620 : BitVec 32) : Fin 2 → Nat :=
  let v1761 : BitVec 32 := Scalar.addi v1743 c0_i32_620
  let v1762 : Index := Scalar.indexCast v1761
  let c0_621 : Index := 0#32
  ![v1762.toNat, 0]

def k0_chk53 (v1743 : BitVec 32) : Prop :=
  (∀ a, (k0_off237 v1743) a + S1x128.size a ≤ S102432x128.size a) ∧
  (∀ (r : Fin 3), ∀ a, (k0_off239 v1743 (BitVec.ofNat 32 (8 * r.val))) a + S8x128.size a ≤ S102432x128.size a)
theorem k0_off237_inb : ∀ (v1743 : BitVec 32) (k0_hw53 : k0_chk53 v1743), ∀ a, (k0_off237 v1743) a + S1x128.size a ≤ S102432x128.size a := fun v1743 k0_hw53 => k0_hw53.1
theorem k0_off239_inb : ∀ (v1743 : BitVec 32) (k0_hw53 : k0_chk53 v1743), ∀ (r : Fin 3), ∀ a, (k0_off239 v1743 (BitVec.ofNat 32 (8 * r.val))) a + S8x128.size a ≤ S102432x128.size a := fun v1743 k0_hw53 r => k0_hw53.2 r

def k0_off240 (k0_t3 : Fin k0_t3_loop.trips) : Fin 2 → Nat :=
  let c1_630 : Index := 1#32
  let c0_i32_612 : BitVec 32 := 0#32
  let c0_i32_16 : BitVec 32 := 0#32
  let c1_i32_18 : BitVec 32 := 1#32
  let arg20 : BitVec 32 := Scf.iv c0_i32_16 c1_i32_18 k0_t3
  let c8_i32_611 : BitVec 32 := 8#32
  let v1739 : BitVec 32 := Scalar.muli arg20 c8_i32_611
  let v1740 : BitVec 32 := Scalar.addi c0_i32_612 v1739
  let c4_i32_613 : BitVec 32 := 4#32
  let v1741 : BitVec 32 := Scalar.addi v1740 c4_i32_613
  let v1789 : Index := Scalar.indexCast v1741
  ![1, v1789.toNat]
def k0_off241 (v1790 : BitVec 32) : Fin 2 → Nat :=
  let c24_i32_631 : BitVec 32 := 24#32
  let v1791 : BitVec 32 := Scalar.addi v1790 c24_i32_631
  let v1792 : Index := Scalar.indexCast v1791
  let c0_632 : Index := 0#32
  ![v1792.toNat, 0]

def k0_off242 (k0_t3 : Fin k0_t3_loop.trips) : Fin 2 → Nat :=
  let c1_633 : Index := 1#32
  let c0_i32_612 : BitVec 32 := 0#32
  let c0_i32_16 : BitVec 32 := 0#32
  let c1_i32_18 : BitVec 32 := 1#32
  let arg20 : BitVec 32 := Scf.iv c0_i32_16 c1_i32_18 k0_t3
  let c8_i32_611 : BitVec 32 := 8#32
  let v1739 : BitVec 32 := Scalar.muli arg20 c8_i32_611
  let v1740 : BitVec 32 := Scalar.addi c0_i32_612 v1739
  let c4_i32_613 : BitVec 32 := 4#32
  let v1741 : BitVec 32 := Scalar.addi v1740 c4_i32_613
  let v1794 : Index := Scalar.indexCast v1741
  ![1, v1794.toNat]
def k0_off243 (v1790 : BitVec 32) (c0_i32_636 : BitVec 32) : Fin 2 → Nat :=
  let v1808 : BitVec 32 := Scalar.addi v1790 c0_i32_636
  let v1809 : Index := Scalar.indexCast v1808
  let c0_637 : Index := 0#32
  ![v1809.toNat, 0]

def k0_chk54 (v1790 : BitVec 32) : Prop :=
  (∀ a, (k0_off241 v1790) a + S1x128.size a ≤ S102432x128.size a) ∧
  (∀ (r : Fin 3), ∀ a, (k0_off243 v1790 (BitVec.ofNat 32 (8 * r.val))) a + S8x128.size a ≤ S102432x128.size a)
theorem k0_off241_inb : ∀ (v1790 : BitVec 32) (k0_hw54 : k0_chk54 v1790), ∀ a, (k0_off241 v1790) a + S1x128.size a ≤ S102432x128.size a := fun v1790 k0_hw54 => k0_hw54.1
theorem k0_off243_inb : ∀ (v1790 : BitVec 32) (k0_hw54 : k0_chk54 v1790), ∀ (r : Fin 3), ∀ a, (k0_off243 v1790 (BitVec.ofNat 32 (8 * r.val))) a + S8x128.size a ≤ S102432x128.size a := fun v1790 k0_hw54 r => k0_hw54.2 r

def k0_off244 (k0_t3 : Fin k0_t3_loop.trips) : Fin 2 → Nat :=
  let c2_646 : Index := 2#32
  let c0_i32_612 : BitVec 32 := 0#32
  let c0_i32_16 : BitVec 32 := 0#32
  let c1_i32_18 : BitVec 32 := 1#32
  let arg20 : BitVec 32 := Scf.iv c0_i32_16 c1_i32_18 k0_t3
  let c8_i32_611 : BitVec 32 := 8#32
  let v1739 : BitVec 32 := Scalar.muli arg20 c8_i32_611
  let v1740 : BitVec 32 := Scalar.addi c0_i32_612 v1739
  let c4_i32_613 : BitVec 32 := 4#32
  let v1741 : BitVec 32 := Scalar.addi v1740 c4_i32_613
  let v1839 : Index := Scalar.indexCast v1741
  ![2, v1839.toNat]
def k0_off245 (v1840 : BitVec 32) : Fin 2 → Nat :=
  let c24_i32_647 : BitVec 32 := 24#32
  let v1841 : BitVec 32 := Scalar.addi v1840 c24_i32_647
  let v1842 : Index := Scalar.indexCast v1841
  let c0_648 : Index := 0#32
  ![v1842.toNat, 0]

def k0_off246 (k0_t3 : Fin k0_t3_loop.trips) : Fin 2 → Nat :=
  let c2_649 : Index := 2#32
  let c0_i32_612 : BitVec 32 := 0#32
  let c0_i32_16 : BitVec 32 := 0#32
  let c1_i32_18 : BitVec 32 := 1#32
  let arg20 : BitVec 32 := Scf.iv c0_i32_16 c1_i32_18 k0_t3
  let c8_i32_611 : BitVec 32 := 8#32
  let v1739 : BitVec 32 := Scalar.muli arg20 c8_i32_611
  let v1740 : BitVec 32 := Scalar.addi c0_i32_612 v1739
  let c4_i32_613 : BitVec 32 := 4#32
  let v1741 : BitVec 32 := Scalar.addi v1740 c4_i32_613
  let v1844 : Index := Scalar.indexCast v1741
  ![2, v1844.toNat]
def k0_off247 (v1840 : BitVec 32) (c0_i32_652 : BitVec 32) : Fin 2 → Nat :=
  let v1858 : BitVec 32 := Scalar.addi v1840 c0_i32_652
  let v1859 : Index := Scalar.indexCast v1858
  let c0_653 : Index := 0#32
  ![v1859.toNat, 0]

def k0_chk55 (v1840 : BitVec 32) : Prop :=
  (∀ a, (k0_off245 v1840) a + S1x128.size a ≤ S102432x128.size a) ∧
  (∀ (r : Fin 3), ∀ a, (k0_off247 v1840 (BitVec.ofNat 32 (8 * r.val))) a + S8x128.size a ≤ S102432x128.size a)
theorem k0_off245_inb : ∀ (v1840 : BitVec 32) (k0_hw55 : k0_chk55 v1840), ∀ a, (k0_off245 v1840) a + S1x128.size a ≤ S102432x128.size a := fun v1840 k0_hw55 => k0_hw55.1
theorem k0_off247_inb : ∀ (v1840 : BitVec 32) (k0_hw55 : k0_chk55 v1840), ∀ (r : Fin 3), ∀ a, (k0_off247 v1840 (BitVec.ofNat 32 (8 * r.val))) a + S8x128.size a ≤ S102432x128.size a := fun v1840 k0_hw55 r => k0_hw55.2 r

def k0_off248 (k0_t3 : Fin k0_t3_loop.trips) : Fin 2 → Nat :=
  let c3_662 : Index := 3#32
  let c0_i32_612 : BitVec 32 := 0#32
  let c0_i32_16 : BitVec 32 := 0#32
  let c1_i32_18 : BitVec 32 := 1#32
  let arg20 : BitVec 32 := Scf.iv c0_i32_16 c1_i32_18 k0_t3
  let c8_i32_611 : BitVec 32 := 8#32
  let v1739 : BitVec 32 := Scalar.muli arg20 c8_i32_611
  let v1740 : BitVec 32 := Scalar.addi c0_i32_612 v1739
  let c4_i32_613 : BitVec 32 := 4#32
  let v1741 : BitVec 32 := Scalar.addi v1740 c4_i32_613
  let v1889 : Index := Scalar.indexCast v1741
  ![3, v1889.toNat]
def k0_off249 (v1890 : BitVec 32) : Fin 2 → Nat :=
  let c24_i32_663 : BitVec 32 := 24#32
  let v1891 : BitVec 32 := Scalar.addi v1890 c24_i32_663
  let v1892 : Index := Scalar.indexCast v1891
  let c0_664 : Index := 0#32
  ![v1892.toNat, 0]

def k0_off250 (k0_t3 : Fin k0_t3_loop.trips) : Fin 2 → Nat :=
  let c3_665 : Index := 3#32
  let c0_i32_612 : BitVec 32 := 0#32
  let c0_i32_16 : BitVec 32 := 0#32
  let c1_i32_18 : BitVec 32 := 1#32
  let arg20 : BitVec 32 := Scf.iv c0_i32_16 c1_i32_18 k0_t3
  let c8_i32_611 : BitVec 32 := 8#32
  let v1739 : BitVec 32 := Scalar.muli arg20 c8_i32_611
  let v1740 : BitVec 32 := Scalar.addi c0_i32_612 v1739
  let c4_i32_613 : BitVec 32 := 4#32
  let v1741 : BitVec 32 := Scalar.addi v1740 c4_i32_613
  let v1894 : Index := Scalar.indexCast v1741
  ![3, v1894.toNat]
def k0_off251 (v1890 : BitVec 32) (c0_i32_668 : BitVec 32) : Fin 2 → Nat :=
  let v1908 : BitVec 32 := Scalar.addi v1890 c0_i32_668
  let v1909 : Index := Scalar.indexCast v1908
  let c0_669 : Index := 0#32
  ![v1909.toNat, 0]

def k0_chk56 (v1890 : BitVec 32) : Prop :=
  (∀ a, (k0_off249 v1890) a + S1x128.size a ≤ S102432x128.size a) ∧
  (∀ (r : Fin 3), ∀ a, (k0_off251 v1890 (BitVec.ofNat 32 (8 * r.val))) a + S8x128.size a ≤ S102432x128.size a)
theorem k0_off249_inb : ∀ (v1890 : BitVec 32) (k0_hw56 : k0_chk56 v1890), ∀ a, (k0_off249 v1890) a + S1x128.size a ≤ S102432x128.size a := fun v1890 k0_hw56 => k0_hw56.1
theorem k0_off251_inb : ∀ (v1890 : BitVec 32) (k0_hw56 : k0_chk56 v1890), ∀ (r : Fin 3), ∀ a, (k0_off251 v1890 (BitVec.ofNat 32 (8 * r.val))) a + S8x128.size a ≤ S102432x128.size a := fun v1890 k0_hw56 r => k0_hw56.2 r

def k0_off252 (k0_t3 : Fin k0_t3_loop.trips) : Fin 2 → Nat :=
  let c4_678 : Index := 4#32
  let c0_i32_612 : BitVec 32 := 0#32
  let c0_i32_16 : BitVec 32 := 0#32
  let c1_i32_18 : BitVec 32 := 1#32
  let arg20 : BitVec 32 := Scf.iv c0_i32_16 c1_i32_18 k0_t3
  let c8_i32_611 : BitVec 32 := 8#32
  let v1739 : BitVec 32 := Scalar.muli arg20 c8_i32_611
  let v1740 : BitVec 32 := Scalar.addi c0_i32_612 v1739
  let c4_i32_613 : BitVec 32 := 4#32
  let v1741 : BitVec 32 := Scalar.addi v1740 c4_i32_613
  let v1939 : Index := Scalar.indexCast v1741
  ![4, v1939.toNat]
def k0_off253 (v1940 : BitVec 32) : Fin 2 → Nat :=
  let c24_i32_679 : BitVec 32 := 24#32
  let v1941 : BitVec 32 := Scalar.addi v1940 c24_i32_679
  let v1942 : Index := Scalar.indexCast v1941
  let c0_680 : Index := 0#32
  ![v1942.toNat, 0]

def k0_off254 (k0_t3 : Fin k0_t3_loop.trips) : Fin 2 → Nat :=
  let c4_681 : Index := 4#32
  let c0_i32_612 : BitVec 32 := 0#32
  let c0_i32_16 : BitVec 32 := 0#32
  let c1_i32_18 : BitVec 32 := 1#32
  let arg20 : BitVec 32 := Scf.iv c0_i32_16 c1_i32_18 k0_t3
  let c8_i32_611 : BitVec 32 := 8#32
  let v1739 : BitVec 32 := Scalar.muli arg20 c8_i32_611
  let v1740 : BitVec 32 := Scalar.addi c0_i32_612 v1739
  let c4_i32_613 : BitVec 32 := 4#32
  let v1741 : BitVec 32 := Scalar.addi v1740 c4_i32_613
  let v1944 : Index := Scalar.indexCast v1741
  ![4, v1944.toNat]
def k0_off255 (v1940 : BitVec 32) (c0_i32_684 : BitVec 32) : Fin 2 → Nat :=
  let v1958 : BitVec 32 := Scalar.addi v1940 c0_i32_684
  let v1959 : Index := Scalar.indexCast v1958
  let c0_685 : Index := 0#32
  ![v1959.toNat, 0]

def k0_chk57 (v1940 : BitVec 32) : Prop :=
  (∀ a, (k0_off253 v1940) a + S1x128.size a ≤ S102432x128.size a) ∧
  (∀ (r : Fin 3), ∀ a, (k0_off255 v1940 (BitVec.ofNat 32 (8 * r.val))) a + S8x128.size a ≤ S102432x128.size a)
theorem k0_off253_inb : ∀ (v1940 : BitVec 32) (k0_hw57 : k0_chk57 v1940), ∀ a, (k0_off253 v1940) a + S1x128.size a ≤ S102432x128.size a := fun v1940 k0_hw57 => k0_hw57.1
theorem k0_off255_inb : ∀ (v1940 : BitVec 32) (k0_hw57 : k0_chk57 v1940), ∀ (r : Fin 3), ∀ a, (k0_off255 v1940 (BitVec.ofNat 32 (8 * r.val))) a + S8x128.size a ≤ S102432x128.size a := fun v1940 k0_hw57 r => k0_hw57.2 r

def k0_off256 (k0_t3 : Fin k0_t3_loop.trips) : Fin 2 → Nat :=
  let c5_694 : Index := 5#32
  let c0_i32_612 : BitVec 32 := 0#32
  let c0_i32_16 : BitVec 32 := 0#32
  let c1_i32_18 : BitVec 32 := 1#32
  let arg20 : BitVec 32 := Scf.iv c0_i32_16 c1_i32_18 k0_t3
  let c8_i32_611 : BitVec 32 := 8#32
  let v1739 : BitVec 32 := Scalar.muli arg20 c8_i32_611
  let v1740 : BitVec 32 := Scalar.addi c0_i32_612 v1739
  let c4_i32_613 : BitVec 32 := 4#32
  let v1741 : BitVec 32 := Scalar.addi v1740 c4_i32_613
  let v1989 : Index := Scalar.indexCast v1741
  ![5, v1989.toNat]
def k0_off257 (v1990 : BitVec 32) : Fin 2 → Nat :=
  let c24_i32_695 : BitVec 32 := 24#32
  let v1991 : BitVec 32 := Scalar.addi v1990 c24_i32_695
  let v1992 : Index := Scalar.indexCast v1991
  let c0_696 : Index := 0#32
  ![v1992.toNat, 0]

def k0_off258 (k0_t3 : Fin k0_t3_loop.trips) : Fin 2 → Nat :=
  let c5_697 : Index := 5#32
  let c0_i32_612 : BitVec 32 := 0#32
  let c0_i32_16 : BitVec 32 := 0#32
  let c1_i32_18 : BitVec 32 := 1#32
  let arg20 : BitVec 32 := Scf.iv c0_i32_16 c1_i32_18 k0_t3
  let c8_i32_611 : BitVec 32 := 8#32
  let v1739 : BitVec 32 := Scalar.muli arg20 c8_i32_611
  let v1740 : BitVec 32 := Scalar.addi c0_i32_612 v1739
  let c4_i32_613 : BitVec 32 := 4#32
  let v1741 : BitVec 32 := Scalar.addi v1740 c4_i32_613
  let v1994 : Index := Scalar.indexCast v1741
  ![5, v1994.toNat]
def k0_off259 (v1990 : BitVec 32) (c0_i32_700 : BitVec 32) : Fin 2 → Nat :=
  let v2008 : BitVec 32 := Scalar.addi v1990 c0_i32_700
  let v2009 : Index := Scalar.indexCast v2008
  let c0_701 : Index := 0#32
  ![v2009.toNat, 0]

def k0_chk58 (v1990 : BitVec 32) : Prop :=
  (∀ a, (k0_off257 v1990) a + S1x128.size a ≤ S102432x128.size a) ∧
  (∀ (r : Fin 3), ∀ a, (k0_off259 v1990 (BitVec.ofNat 32 (8 * r.val))) a + S8x128.size a ≤ S102432x128.size a)
theorem k0_off257_inb : ∀ (v1990 : BitVec 32) (k0_hw58 : k0_chk58 v1990), ∀ a, (k0_off257 v1990) a + S1x128.size a ≤ S102432x128.size a := fun v1990 k0_hw58 => k0_hw58.1
theorem k0_off259_inb : ∀ (v1990 : BitVec 32) (k0_hw58 : k0_chk58 v1990), ∀ (r : Fin 3), ∀ a, (k0_off259 v1990 (BitVec.ofNat 32 (8 * r.val))) a + S8x128.size a ≤ S102432x128.size a := fun v1990 k0_hw58 r => k0_hw58.2 r

def k0_off260 (k0_t3 : Fin k0_t3_loop.trips) : Fin 2 → Nat :=
  let c6_710 : Index := 6#32
  let c0_i32_612 : BitVec 32 := 0#32
  let c0_i32_16 : BitVec 32 := 0#32
  let c1_i32_18 : BitVec 32 := 1#32
  let arg20 : BitVec 32 := Scf.iv c0_i32_16 c1_i32_18 k0_t3
  let c8_i32_611 : BitVec 32 := 8#32
  let v1739 : BitVec 32 := Scalar.muli arg20 c8_i32_611
  let v1740 : BitVec 32 := Scalar.addi c0_i32_612 v1739
  let c4_i32_613 : BitVec 32 := 4#32
  let v1741 : BitVec 32 := Scalar.addi v1740 c4_i32_613
  let v2039 : Index := Scalar.indexCast v1741
  ![6, v2039.toNat]
def k0_off261 (v2040 : BitVec 32) : Fin 2 → Nat :=
  let c24_i32_711 : BitVec 32 := 24#32
  let v2041 : BitVec 32 := Scalar.addi v2040 c24_i32_711
  let v2042 : Index := Scalar.indexCast v2041
  let c0_712 : Index := 0#32
  ![v2042.toNat, 0]

def k0_off262 (k0_t3 : Fin k0_t3_loop.trips) : Fin 2 → Nat :=
  let c6_713 : Index := 6#32
  let c0_i32_612 : BitVec 32 := 0#32
  let c0_i32_16 : BitVec 32 := 0#32
  let c1_i32_18 : BitVec 32 := 1#32
  let arg20 : BitVec 32 := Scf.iv c0_i32_16 c1_i32_18 k0_t3
  let c8_i32_611 : BitVec 32 := 8#32
  let v1739 : BitVec 32 := Scalar.muli arg20 c8_i32_611
  let v1740 : BitVec 32 := Scalar.addi c0_i32_612 v1739
  let c4_i32_613 : BitVec 32 := 4#32
  let v1741 : BitVec 32 := Scalar.addi v1740 c4_i32_613
  let v2044 : Index := Scalar.indexCast v1741
  ![6, v2044.toNat]
def k0_off263 (v2040 : BitVec 32) (c0_i32_716 : BitVec 32) : Fin 2 → Nat :=
  let v2058 : BitVec 32 := Scalar.addi v2040 c0_i32_716
  let v2059 : Index := Scalar.indexCast v2058
  let c0_717 : Index := 0#32
  ![v2059.toNat, 0]

def k0_chk59 (v2040 : BitVec 32) : Prop :=
  (∀ a, (k0_off261 v2040) a + S1x128.size a ≤ S102432x128.size a) ∧
  (∀ (r : Fin 3), ∀ a, (k0_off263 v2040 (BitVec.ofNat 32 (8 * r.val))) a + S8x128.size a ≤ S102432x128.size a)
theorem k0_off261_inb : ∀ (v2040 : BitVec 32) (k0_hw59 : k0_chk59 v2040), ∀ a, (k0_off261 v2040) a + S1x128.size a ≤ S102432x128.size a := fun v2040 k0_hw59 => k0_hw59.1
theorem k0_off263_inb : ∀ (v2040 : BitVec 32) (k0_hw59 : k0_chk59 v2040), ∀ (r : Fin 3), ∀ a, (k0_off263 v2040 (BitVec.ofNat 32 (8 * r.val))) a + S8x128.size a ≤ S102432x128.size a := fun v2040 k0_hw59 r => k0_hw59.2 r

def k0_off264 (k0_t3 : Fin k0_t3_loop.trips) : Fin 2 → Nat :=
  let c7_726 : Index := 7#32
  let c0_i32_612 : BitVec 32 := 0#32
  let c0_i32_16 : BitVec 32 := 0#32
  let c1_i32_18 : BitVec 32 := 1#32
  let arg20 : BitVec 32 := Scf.iv c0_i32_16 c1_i32_18 k0_t3
  let c8_i32_611 : BitVec 32 := 8#32
  let v1739 : BitVec 32 := Scalar.muli arg20 c8_i32_611
  let v1740 : BitVec 32 := Scalar.addi c0_i32_612 v1739
  let c4_i32_613 : BitVec 32 := 4#32
  let v1741 : BitVec 32 := Scalar.addi v1740 c4_i32_613
  let v2089 : Index := Scalar.indexCast v1741
  ![7, v2089.toNat]
def k0_off265 (v2090 : BitVec 32) : Fin 2 → Nat :=
  let c24_i32_727 : BitVec 32 := 24#32
  let v2091 : BitVec 32 := Scalar.addi v2090 c24_i32_727
  let v2092 : Index := Scalar.indexCast v2091
  let c0_728 : Index := 0#32
  ![v2092.toNat, 0]

def k0_off266 (k0_t3 : Fin k0_t3_loop.trips) : Fin 2 → Nat :=
  let c7_729 : Index := 7#32
  let c0_i32_612 : BitVec 32 := 0#32
  let c0_i32_16 : BitVec 32 := 0#32
  let c1_i32_18 : BitVec 32 := 1#32
  let arg20 : BitVec 32 := Scf.iv c0_i32_16 c1_i32_18 k0_t3
  let c8_i32_611 : BitVec 32 := 8#32
  let v1739 : BitVec 32 := Scalar.muli arg20 c8_i32_611
  let v1740 : BitVec 32 := Scalar.addi c0_i32_612 v1739
  let c4_i32_613 : BitVec 32 := 4#32
  let v1741 : BitVec 32 := Scalar.addi v1740 c4_i32_613
  let v2094 : Index := Scalar.indexCast v1741
  ![7, v2094.toNat]
def k0_off267 (v2090 : BitVec 32) (c0_i32_732 : BitVec 32) : Fin 2 → Nat :=
  let v2108 : BitVec 32 := Scalar.addi v2090 c0_i32_732
  let v2109 : Index := Scalar.indexCast v2108
  let c0_733 : Index := 0#32
  ![v2109.toNat, 0]

def k0_chk60 (v2090 : BitVec 32) : Prop :=
  (∀ a, (k0_off265 v2090) a + S1x128.size a ≤ S102432x128.size a) ∧
  (∀ (r : Fin 3), ∀ a, (k0_off267 v2090 (BitVec.ofNat 32 (8 * r.val))) a + S8x128.size a ≤ S102432x128.size a)
theorem k0_off265_inb : ∀ (v2090 : BitVec 32) (k0_hw60 : k0_chk60 v2090), ∀ a, (k0_off265 v2090) a + S1x128.size a ≤ S102432x128.size a := fun v2090 k0_hw60 => k0_hw60.1
theorem k0_off267_inb : ∀ (v2090 : BitVec 32) (k0_hw60 : k0_chk60 v2090), ∀ (r : Fin 3), ∀ a, (k0_off267 v2090 (BitVec.ofNat 32 (8 * r.val))) a + S8x128.size a ≤ S102432x128.size a := fun v2090 k0_hw60 r => k0_hw60.2 r

def k0_off268 (k0_t3 : Fin k0_t3_loop.trips) (c0_i32_743 : BitVec 32) : Fin 2 → Nat :=
  let c0_i32_612 : BitVec 32 := 0#32
  let c0_i32_16 : BitVec 32 := 0#32
  let c1_i32_18 : BitVec 32 := 1#32
  let arg20 : BitVec 32 := Scf.iv c0_i32_16 c1_i32_18 k0_t3
  let c8_i32_611 : BitVec 32 := 8#32
  let v1739 : BitVec 32 := Scalar.muli arg20 c8_i32_611
  let v1740 : BitVec 32 := Scalar.addi c0_i32_612 v1739
  let c4_i32_613 : BitVec 32 := 4#32
  let v1741 : BitVec 32 := Scalar.addi v1740 c4_i32_613
  let c25_i32_742 : BitVec 32 := 25#32
  let v2139 : BitVec 32 := Scalar.muli v1741 c25_i32_742
  let v2140 : BitVec 32 := Scalar.addi v2139 c0_i32_743
  let v2141 : Index := Scalar.indexCast v2140
  let c0_744 : Index := 0#32
  ![v2141.toNat, 0]
def k0_off269 (k0_t3 : Fin k0_t3_loop.trips) : Fin 2 → Nat :=
  let c0_753 : Index := 0#32
  let c0_i32_752 : BitVec 32 := 0#32
  let c0_i32_16 : BitVec 32 := 0#32
  let c1_i32_18 : BitVec 32 := 1#32
  let arg20 : BitVec 32 := Scf.iv c0_i32_16 c1_i32_18 k0_t3
  let c8_i32_751 : BitVec 32 := 8#32
  let v2157 : BitVec 32 := Scalar.muli arg20 c8_i32_751
  let v2158 : BitVec 32 := Scalar.addi c0_i32_752 v2157
  let c5_i32 : BitVec 32 := 5#32
  let v2159 : BitVec 32 := Scalar.addi v2158 c5_i32
  let v2160 : Index := Scalar.indexCast v2159
  ![0, v2160.toNat]
def k0_off270 (v2161 : BitVec 32) : Fin 2 → Nat :=
  let c24_i32_754 : BitVec 32 := 24#32
  let v2162 : BitVec 32 := Scalar.addi v2161 c24_i32_754
  let v2163 : Index := Scalar.indexCast v2162
  let c0_755 : Index := 0#32
  ![v2163.toNat, 0]

def k0_off271 (k0_t3 : Fin k0_t3_loop.trips) : Fin 2 → Nat :=
  let c0_756 : Index := 0#32
  let c0_i32_752 : BitVec 32 := 0#32
  let c0_i32_16 : BitVec 32 := 0#32
  let c1_i32_18 : BitVec 32 := 1#32
  let arg20 : BitVec 32 := Scf.iv c0_i32_16 c1_i32_18 k0_t3
  let c8_i32_751 : BitVec 32 := 8#32
  let v2157 : BitVec 32 := Scalar.muli arg20 c8_i32_751
  let v2158 : BitVec 32 := Scalar.addi c0_i32_752 v2157
  let c5_i32 : BitVec 32 := 5#32
  let v2159 : BitVec 32 := Scalar.addi v2158 c5_i32
  let v2165 : Index := Scalar.indexCast v2159
  ![0, v2165.toNat]
def k0_off272 (v2161 : BitVec 32) (c0_i32_759 : BitVec 32) : Fin 2 → Nat :=
  let v2179 : BitVec 32 := Scalar.addi v2161 c0_i32_759
  let v2180 : Index := Scalar.indexCast v2179
  let c0_760 : Index := 0#32
  ![v2180.toNat, 0]

def k0_chk61 (v2161 : BitVec 32) : Prop :=
  (∀ a, (k0_off270 v2161) a + S1x128.size a ≤ S102432x128.size a) ∧
  (∀ (r : Fin 3), ∀ a, (k0_off272 v2161 (BitVec.ofNat 32 (8 * r.val))) a + S8x128.size a ≤ S102432x128.size a)
theorem k0_off270_inb : ∀ (v2161 : BitVec 32) (k0_hw61 : k0_chk61 v2161), ∀ a, (k0_off270 v2161) a + S1x128.size a ≤ S102432x128.size a := fun v2161 k0_hw61 => k0_hw61.1
theorem k0_off272_inb : ∀ (v2161 : BitVec 32) (k0_hw61 : k0_chk61 v2161), ∀ (r : Fin 3), ∀ a, (k0_off272 v2161 (BitVec.ofNat 32 (8 * r.val))) a + S8x128.size a ≤ S102432x128.size a := fun v2161 k0_hw61 r => k0_hw61.2 r

def k0_off273 (k0_t3 : Fin k0_t3_loop.trips) : Fin 2 → Nat :=
  let c1_769 : Index := 1#32
  let c0_i32_752 : BitVec 32 := 0#32
  let c0_i32_16 : BitVec 32 := 0#32
  let c1_i32_18 : BitVec 32 := 1#32
  let arg20 : BitVec 32 := Scf.iv c0_i32_16 c1_i32_18 k0_t3
  let c8_i32_751 : BitVec 32 := 8#32
  let v2157 : BitVec 32 := Scalar.muli arg20 c8_i32_751
  let v2158 : BitVec 32 := Scalar.addi c0_i32_752 v2157
  let c5_i32 : BitVec 32 := 5#32
  let v2159 : BitVec 32 := Scalar.addi v2158 c5_i32
  let v2207 : Index := Scalar.indexCast v2159
  ![1, v2207.toNat]
def k0_off274 (v2208 : BitVec 32) : Fin 2 → Nat :=
  let c24_i32_770 : BitVec 32 := 24#32
  let v2209 : BitVec 32 := Scalar.addi v2208 c24_i32_770
  let v2210 : Index := Scalar.indexCast v2209
  let c0_771 : Index := 0#32
  ![v2210.toNat, 0]

def k0_off275 (k0_t3 : Fin k0_t3_loop.trips) : Fin 2 → Nat :=
  let c1_772 : Index := 1#32
  let c0_i32_752 : BitVec 32 := 0#32
  let c0_i32_16 : BitVec 32 := 0#32
  let c1_i32_18 : BitVec 32 := 1#32
  let arg20 : BitVec 32 := Scf.iv c0_i32_16 c1_i32_18 k0_t3
  let c8_i32_751 : BitVec 32 := 8#32
  let v2157 : BitVec 32 := Scalar.muli arg20 c8_i32_751
  let v2158 : BitVec 32 := Scalar.addi c0_i32_752 v2157
  let c5_i32 : BitVec 32 := 5#32
  let v2159 : BitVec 32 := Scalar.addi v2158 c5_i32
  let v2212 : Index := Scalar.indexCast v2159
  ![1, v2212.toNat]
def k0_off276 (v2208 : BitVec 32) (c0_i32_775 : BitVec 32) : Fin 2 → Nat :=
  let v2226 : BitVec 32 := Scalar.addi v2208 c0_i32_775
  let v2227 : Index := Scalar.indexCast v2226
  let c0_776 : Index := 0#32
  ![v2227.toNat, 0]

def k0_chk62 (v2208 : BitVec 32) : Prop :=
  (∀ a, (k0_off274 v2208) a + S1x128.size a ≤ S102432x128.size a) ∧
  (∀ (r : Fin 3), ∀ a, (k0_off276 v2208 (BitVec.ofNat 32 (8 * r.val))) a + S8x128.size a ≤ S102432x128.size a)
theorem k0_off274_inb : ∀ (v2208 : BitVec 32) (k0_hw62 : k0_chk62 v2208), ∀ a, (k0_off274 v2208) a + S1x128.size a ≤ S102432x128.size a := fun v2208 k0_hw62 => k0_hw62.1
theorem k0_off276_inb : ∀ (v2208 : BitVec 32) (k0_hw62 : k0_chk62 v2208), ∀ (r : Fin 3), ∀ a, (k0_off276 v2208 (BitVec.ofNat 32 (8 * r.val))) a + S8x128.size a ≤ S102432x128.size a := fun v2208 k0_hw62 r => k0_hw62.2 r

def k0_off277 (k0_t3 : Fin k0_t3_loop.trips) : Fin 2 → Nat :=
  let c2_785 : Index := 2#32
  let c0_i32_752 : BitVec 32 := 0#32
  let c0_i32_16 : BitVec 32 := 0#32
  let c1_i32_18 : BitVec 32 := 1#32
  let arg20 : BitVec 32 := Scf.iv c0_i32_16 c1_i32_18 k0_t3
  let c8_i32_751 : BitVec 32 := 8#32
  let v2157 : BitVec 32 := Scalar.muli arg20 c8_i32_751
  let v2158 : BitVec 32 := Scalar.addi c0_i32_752 v2157
  let c5_i32 : BitVec 32 := 5#32
  let v2159 : BitVec 32 := Scalar.addi v2158 c5_i32
  let v2257 : Index := Scalar.indexCast v2159
  ![2, v2257.toNat]
def k0_off278 (v2258 : BitVec 32) : Fin 2 → Nat :=
  let c24_i32_786 : BitVec 32 := 24#32
  let v2259 : BitVec 32 := Scalar.addi v2258 c24_i32_786
  let v2260 : Index := Scalar.indexCast v2259
  let c0_787 : Index := 0#32
  ![v2260.toNat, 0]

def k0_off279 (k0_t3 : Fin k0_t3_loop.trips) : Fin 2 → Nat :=
  let c2_788 : Index := 2#32
  let c0_i32_752 : BitVec 32 := 0#32
  let c0_i32_16 : BitVec 32 := 0#32
  let c1_i32_18 : BitVec 32 := 1#32
  let arg20 : BitVec 32 := Scf.iv c0_i32_16 c1_i32_18 k0_t3
  let c8_i32_751 : BitVec 32 := 8#32
  let v2157 : BitVec 32 := Scalar.muli arg20 c8_i32_751
  let v2158 : BitVec 32 := Scalar.addi c0_i32_752 v2157
  let c5_i32 : BitVec 32 := 5#32
  let v2159 : BitVec 32 := Scalar.addi v2158 c5_i32
  let v2262 : Index := Scalar.indexCast v2159
  ![2, v2262.toNat]
def k0_off280 (v2258 : BitVec 32) (c0_i32_791 : BitVec 32) : Fin 2 → Nat :=
  let v2276 : BitVec 32 := Scalar.addi v2258 c0_i32_791
  let v2277 : Index := Scalar.indexCast v2276
  let c0_792 : Index := 0#32
  ![v2277.toNat, 0]

def k0_chk63 (v2258 : BitVec 32) : Prop :=
  (∀ a, (k0_off278 v2258) a + S1x128.size a ≤ S102432x128.size a) ∧
  (∀ (r : Fin 3), ∀ a, (k0_off280 v2258 (BitVec.ofNat 32 (8 * r.val))) a + S8x128.size a ≤ S102432x128.size a)
theorem k0_off278_inb : ∀ (v2258 : BitVec 32) (k0_hw63 : k0_chk63 v2258), ∀ a, (k0_off278 v2258) a + S1x128.size a ≤ S102432x128.size a := fun v2258 k0_hw63 => k0_hw63.1
theorem k0_off280_inb : ∀ (v2258 : BitVec 32) (k0_hw63 : k0_chk63 v2258), ∀ (r : Fin 3), ∀ a, (k0_off280 v2258 (BitVec.ofNat 32 (8 * r.val))) a + S8x128.size a ≤ S102432x128.size a := fun v2258 k0_hw63 r => k0_hw63.2 r

def k0_off281 (k0_t3 : Fin k0_t3_loop.trips) : Fin 2 → Nat :=
  let c3_801 : Index := 3#32
  let c0_i32_752 : BitVec 32 := 0#32
  let c0_i32_16 : BitVec 32 := 0#32
  let c1_i32_18 : BitVec 32 := 1#32
  let arg20 : BitVec 32 := Scf.iv c0_i32_16 c1_i32_18 k0_t3
  let c8_i32_751 : BitVec 32 := 8#32
  let v2157 : BitVec 32 := Scalar.muli arg20 c8_i32_751
  let v2158 : BitVec 32 := Scalar.addi c0_i32_752 v2157
  let c5_i32 : BitVec 32 := 5#32
  let v2159 : BitVec 32 := Scalar.addi v2158 c5_i32
  let v2307 : Index := Scalar.indexCast v2159
  ![3, v2307.toNat]
def k0_off282 (v2308 : BitVec 32) : Fin 2 → Nat :=
  let c24_i32_802 : BitVec 32 := 24#32
  let v2309 : BitVec 32 := Scalar.addi v2308 c24_i32_802
  let v2310 : Index := Scalar.indexCast v2309
  let c0_803 : Index := 0#32
  ![v2310.toNat, 0]

def k0_off283 (k0_t3 : Fin k0_t3_loop.trips) : Fin 2 → Nat :=
  let c3_804 : Index := 3#32
  let c0_i32_752 : BitVec 32 := 0#32
  let c0_i32_16 : BitVec 32 := 0#32
  let c1_i32_18 : BitVec 32 := 1#32
  let arg20 : BitVec 32 := Scf.iv c0_i32_16 c1_i32_18 k0_t3
  let c8_i32_751 : BitVec 32 := 8#32
  let v2157 : BitVec 32 := Scalar.muli arg20 c8_i32_751
  let v2158 : BitVec 32 := Scalar.addi c0_i32_752 v2157
  let c5_i32 : BitVec 32 := 5#32
  let v2159 : BitVec 32 := Scalar.addi v2158 c5_i32
  let v2312 : Index := Scalar.indexCast v2159
  ![3, v2312.toNat]
def k0_off284 (v2308 : BitVec 32) (c0_i32_807 : BitVec 32) : Fin 2 → Nat :=
  let v2326 : BitVec 32 := Scalar.addi v2308 c0_i32_807
  let v2327 : Index := Scalar.indexCast v2326
  let c0_808 : Index := 0#32
  ![v2327.toNat, 0]

def k0_chk64 (v2308 : BitVec 32) : Prop :=
  (∀ a, (k0_off282 v2308) a + S1x128.size a ≤ S102432x128.size a) ∧
  (∀ (r : Fin 3), ∀ a, (k0_off284 v2308 (BitVec.ofNat 32 (8 * r.val))) a + S8x128.size a ≤ S102432x128.size a)
theorem k0_off282_inb : ∀ (v2308 : BitVec 32) (k0_hw64 : k0_chk64 v2308), ∀ a, (k0_off282 v2308) a + S1x128.size a ≤ S102432x128.size a := fun v2308 k0_hw64 => k0_hw64.1
theorem k0_off284_inb : ∀ (v2308 : BitVec 32) (k0_hw64 : k0_chk64 v2308), ∀ (r : Fin 3), ∀ a, (k0_off284 v2308 (BitVec.ofNat 32 (8 * r.val))) a + S8x128.size a ≤ S102432x128.size a := fun v2308 k0_hw64 r => k0_hw64.2 r

def k0_off285 (k0_t3 : Fin k0_t3_loop.trips) : Fin 2 → Nat :=
  let c4_817 : Index := 4#32
  let c0_i32_752 : BitVec 32 := 0#32
  let c0_i32_16 : BitVec 32 := 0#32
  let c1_i32_18 : BitVec 32 := 1#32
  let arg20 : BitVec 32 := Scf.iv c0_i32_16 c1_i32_18 k0_t3
  let c8_i32_751 : BitVec 32 := 8#32
  let v2157 : BitVec 32 := Scalar.muli arg20 c8_i32_751
  let v2158 : BitVec 32 := Scalar.addi c0_i32_752 v2157
  let c5_i32 : BitVec 32 := 5#32
  let v2159 : BitVec 32 := Scalar.addi v2158 c5_i32
  let v2357 : Index := Scalar.indexCast v2159
  ![4, v2357.toNat]
def k0_off286 (v2358 : BitVec 32) : Fin 2 → Nat :=
  let c24_i32_818 : BitVec 32 := 24#32
  let v2359 : BitVec 32 := Scalar.addi v2358 c24_i32_818
  let v2360 : Index := Scalar.indexCast v2359
  let c0_819 : Index := 0#32
  ![v2360.toNat, 0]

def k0_off287 (k0_t3 : Fin k0_t3_loop.trips) : Fin 2 → Nat :=
  let c4_820 : Index := 4#32
  let c0_i32_752 : BitVec 32 := 0#32
  let c0_i32_16 : BitVec 32 := 0#32
  let c1_i32_18 : BitVec 32 := 1#32
  let arg20 : BitVec 32 := Scf.iv c0_i32_16 c1_i32_18 k0_t3
  let c8_i32_751 : BitVec 32 := 8#32
  let v2157 : BitVec 32 := Scalar.muli arg20 c8_i32_751
  let v2158 : BitVec 32 := Scalar.addi c0_i32_752 v2157
  let c5_i32 : BitVec 32 := 5#32
  let v2159 : BitVec 32 := Scalar.addi v2158 c5_i32
  let v2362 : Index := Scalar.indexCast v2159
  ![4, v2362.toNat]
def k0_off288 (v2358 : BitVec 32) (c0_i32_823 : BitVec 32) : Fin 2 → Nat :=
  let v2376 : BitVec 32 := Scalar.addi v2358 c0_i32_823
  let v2377 : Index := Scalar.indexCast v2376
  let c0_824 : Index := 0#32
  ![v2377.toNat, 0]

def k0_chk65 (v2358 : BitVec 32) : Prop :=
  (∀ a, (k0_off286 v2358) a + S1x128.size a ≤ S102432x128.size a) ∧
  (∀ (r : Fin 3), ∀ a, (k0_off288 v2358 (BitVec.ofNat 32 (8 * r.val))) a + S8x128.size a ≤ S102432x128.size a)
theorem k0_off286_inb : ∀ (v2358 : BitVec 32) (k0_hw65 : k0_chk65 v2358), ∀ a, (k0_off286 v2358) a + S1x128.size a ≤ S102432x128.size a := fun v2358 k0_hw65 => k0_hw65.1
theorem k0_off288_inb : ∀ (v2358 : BitVec 32) (k0_hw65 : k0_chk65 v2358), ∀ (r : Fin 3), ∀ a, (k0_off288 v2358 (BitVec.ofNat 32 (8 * r.val))) a + S8x128.size a ≤ S102432x128.size a := fun v2358 k0_hw65 r => k0_hw65.2 r

def k0_off289 (k0_t3 : Fin k0_t3_loop.trips) : Fin 2 → Nat :=
  let c5_833 : Index := 5#32
  let c0_i32_752 : BitVec 32 := 0#32
  let c0_i32_16 : BitVec 32 := 0#32
  let c1_i32_18 : BitVec 32 := 1#32
  let arg20 : BitVec 32 := Scf.iv c0_i32_16 c1_i32_18 k0_t3
  let c8_i32_751 : BitVec 32 := 8#32
  let v2157 : BitVec 32 := Scalar.muli arg20 c8_i32_751
  let v2158 : BitVec 32 := Scalar.addi c0_i32_752 v2157
  let c5_i32 : BitVec 32 := 5#32
  let v2159 : BitVec 32 := Scalar.addi v2158 c5_i32
  let v2407 : Index := Scalar.indexCast v2159
  ![5, v2407.toNat]
def k0_off290 (v2408 : BitVec 32) : Fin 2 → Nat :=
  let c24_i32_834 : BitVec 32 := 24#32
  let v2409 : BitVec 32 := Scalar.addi v2408 c24_i32_834
  let v2410 : Index := Scalar.indexCast v2409
  let c0_835 : Index := 0#32
  ![v2410.toNat, 0]

def k0_off291 (k0_t3 : Fin k0_t3_loop.trips) : Fin 2 → Nat :=
  let c5_836 : Index := 5#32
  let c0_i32_752 : BitVec 32 := 0#32
  let c0_i32_16 : BitVec 32 := 0#32
  let c1_i32_18 : BitVec 32 := 1#32
  let arg20 : BitVec 32 := Scf.iv c0_i32_16 c1_i32_18 k0_t3
  let c8_i32_751 : BitVec 32 := 8#32
  let v2157 : BitVec 32 := Scalar.muli arg20 c8_i32_751
  let v2158 : BitVec 32 := Scalar.addi c0_i32_752 v2157
  let c5_i32 : BitVec 32 := 5#32
  let v2159 : BitVec 32 := Scalar.addi v2158 c5_i32
  let v2412 : Index := Scalar.indexCast v2159
  ![5, v2412.toNat]
def k0_off292 (v2408 : BitVec 32) (c0_i32_839 : BitVec 32) : Fin 2 → Nat :=
  let v2426 : BitVec 32 := Scalar.addi v2408 c0_i32_839
  let v2427 : Index := Scalar.indexCast v2426
  let c0_840 : Index := 0#32
  ![v2427.toNat, 0]

def k0_chk66 (v2408 : BitVec 32) : Prop :=
  (∀ a, (k0_off290 v2408) a + S1x128.size a ≤ S102432x128.size a) ∧
  (∀ (r : Fin 3), ∀ a, (k0_off292 v2408 (BitVec.ofNat 32 (8 * r.val))) a + S8x128.size a ≤ S102432x128.size a)
theorem k0_off290_inb : ∀ (v2408 : BitVec 32) (k0_hw66 : k0_chk66 v2408), ∀ a, (k0_off290 v2408) a + S1x128.size a ≤ S102432x128.size a := fun v2408 k0_hw66 => k0_hw66.1
theorem k0_off292_inb : ∀ (v2408 : BitVec 32) (k0_hw66 : k0_chk66 v2408), ∀ (r : Fin 3), ∀ a, (k0_off292 v2408 (BitVec.ofNat 32 (8 * r.val))) a + S8x128.size a ≤ S102432x128.size a := fun v2408 k0_hw66 r => k0_hw66.2 r

def k0_off293 (k0_t3 : Fin k0_t3_loop.trips) : Fin 2 → Nat :=
  let c6_849 : Index := 6#32
  let c0_i32_752 : BitVec 32 := 0#32
  let c0_i32_16 : BitVec 32 := 0#32
  let c1_i32_18 : BitVec 32 := 1#32
  let arg20 : BitVec 32 := Scf.iv c0_i32_16 c1_i32_18 k0_t3
  let c8_i32_751 : BitVec 32 := 8#32
  let v2157 : BitVec 32 := Scalar.muli arg20 c8_i32_751
  let v2158 : BitVec 32 := Scalar.addi c0_i32_752 v2157
  let c5_i32 : BitVec 32 := 5#32
  let v2159 : BitVec 32 := Scalar.addi v2158 c5_i32
  let v2457 : Index := Scalar.indexCast v2159
  ![6, v2457.toNat]
def k0_off294 (v2458 : BitVec 32) : Fin 2 → Nat :=
  let c24_i32_850 : BitVec 32 := 24#32
  let v2459 : BitVec 32 := Scalar.addi v2458 c24_i32_850
  let v2460 : Index := Scalar.indexCast v2459
  let c0_851 : Index := 0#32
  ![v2460.toNat, 0]

def k0_off295 (k0_t3 : Fin k0_t3_loop.trips) : Fin 2 → Nat :=
  let c6_852 : Index := 6#32
  let c0_i32_752 : BitVec 32 := 0#32
  let c0_i32_16 : BitVec 32 := 0#32
  let c1_i32_18 : BitVec 32 := 1#32
  let arg20 : BitVec 32 := Scf.iv c0_i32_16 c1_i32_18 k0_t3
  let c8_i32_751 : BitVec 32 := 8#32
  let v2157 : BitVec 32 := Scalar.muli arg20 c8_i32_751
  let v2158 : BitVec 32 := Scalar.addi c0_i32_752 v2157
  let c5_i32 : BitVec 32 := 5#32
  let v2159 : BitVec 32 := Scalar.addi v2158 c5_i32
  let v2462 : Index := Scalar.indexCast v2159
  ![6, v2462.toNat]
def k0_off296 (v2458 : BitVec 32) (c0_i32_855 : BitVec 32) : Fin 2 → Nat :=
  let v2476 : BitVec 32 := Scalar.addi v2458 c0_i32_855
  let v2477 : Index := Scalar.indexCast v2476
  let c0_856 : Index := 0#32
  ![v2477.toNat, 0]

def k0_chk67 (v2458 : BitVec 32) : Prop :=
  (∀ a, (k0_off294 v2458) a + S1x128.size a ≤ S102432x128.size a) ∧
  (∀ (r : Fin 3), ∀ a, (k0_off296 v2458 (BitVec.ofNat 32 (8 * r.val))) a + S8x128.size a ≤ S102432x128.size a)
theorem k0_off294_inb : ∀ (v2458 : BitVec 32) (k0_hw67 : k0_chk67 v2458), ∀ a, (k0_off294 v2458) a + S1x128.size a ≤ S102432x128.size a := fun v2458 k0_hw67 => k0_hw67.1
theorem k0_off296_inb : ∀ (v2458 : BitVec 32) (k0_hw67 : k0_chk67 v2458), ∀ (r : Fin 3), ∀ a, (k0_off296 v2458 (BitVec.ofNat 32 (8 * r.val))) a + S8x128.size a ≤ S102432x128.size a := fun v2458 k0_hw67 r => k0_hw67.2 r

def k0_off297 (k0_t3 : Fin k0_t3_loop.trips) : Fin 2 → Nat :=
  let c7_865 : Index := 7#32
  let c0_i32_752 : BitVec 32 := 0#32
  let c0_i32_16 : BitVec 32 := 0#32
  let c1_i32_18 : BitVec 32 := 1#32
  let arg20 : BitVec 32 := Scf.iv c0_i32_16 c1_i32_18 k0_t3
  let c8_i32_751 : BitVec 32 := 8#32
  let v2157 : BitVec 32 := Scalar.muli arg20 c8_i32_751
  let v2158 : BitVec 32 := Scalar.addi c0_i32_752 v2157
  let c5_i32 : BitVec 32 := 5#32
  let v2159 : BitVec 32 := Scalar.addi v2158 c5_i32
  let v2507 : Index := Scalar.indexCast v2159
  ![7, v2507.toNat]
def k0_off298 (v2508 : BitVec 32) : Fin 2 → Nat :=
  let c24_i32_866 : BitVec 32 := 24#32
  let v2509 : BitVec 32 := Scalar.addi v2508 c24_i32_866
  let v2510 : Index := Scalar.indexCast v2509
  let c0_867 : Index := 0#32
  ![v2510.toNat, 0]

def k0_off299 (k0_t3 : Fin k0_t3_loop.trips) : Fin 2 → Nat :=
  let c7_868 : Index := 7#32
  let c0_i32_752 : BitVec 32 := 0#32
  let c0_i32_16 : BitVec 32 := 0#32
  let c1_i32_18 : BitVec 32 := 1#32
  let arg20 : BitVec 32 := Scf.iv c0_i32_16 c1_i32_18 k0_t3
  let c8_i32_751 : BitVec 32 := 8#32
  let v2157 : BitVec 32 := Scalar.muli arg20 c8_i32_751
  let v2158 : BitVec 32 := Scalar.addi c0_i32_752 v2157
  let c5_i32 : BitVec 32 := 5#32
  let v2159 : BitVec 32 := Scalar.addi v2158 c5_i32
  let v2512 : Index := Scalar.indexCast v2159
  ![7, v2512.toNat]
def k0_off300 (v2508 : BitVec 32) (c0_i32_871 : BitVec 32) : Fin 2 → Nat :=
  let v2526 : BitVec 32 := Scalar.addi v2508 c0_i32_871
  let v2527 : Index := Scalar.indexCast v2526
  let c0_872 : Index := 0#32
  ![v2527.toNat, 0]

def k0_chk68 (v2508 : BitVec 32) : Prop :=
  (∀ a, (k0_off298 v2508) a + S1x128.size a ≤ S102432x128.size a) ∧
  (∀ (r : Fin 3), ∀ a, (k0_off300 v2508 (BitVec.ofNat 32 (8 * r.val))) a + S8x128.size a ≤ S102432x128.size a)
theorem k0_off298_inb : ∀ (v2508 : BitVec 32) (k0_hw68 : k0_chk68 v2508), ∀ a, (k0_off298 v2508) a + S1x128.size a ≤ S102432x128.size a := fun v2508 k0_hw68 => k0_hw68.1
theorem k0_off300_inb : ∀ (v2508 : BitVec 32) (k0_hw68 : k0_chk68 v2508), ∀ (r : Fin 3), ∀ a, (k0_off300 v2508 (BitVec.ofNat 32 (8 * r.val))) a + S8x128.size a ≤ S102432x128.size a := fun v2508 k0_hw68 r => k0_hw68.2 r

def k0_off301 (k0_t3 : Fin k0_t3_loop.trips) (c0_i32_882 : BitVec 32) : Fin 2 → Nat :=
  let c0_i32_752 : BitVec 32 := 0#32
  let c0_i32_16 : BitVec 32 := 0#32
  let c1_i32_18 : BitVec 32 := 1#32
  let arg20 : BitVec 32 := Scf.iv c0_i32_16 c1_i32_18 k0_t3
  let c8_i32_751 : BitVec 32 := 8#32
  let v2157 : BitVec 32 := Scalar.muli arg20 c8_i32_751
  let v2158 : BitVec 32 := Scalar.addi c0_i32_752 v2157
  let c5_i32 : BitVec 32 := 5#32
  let v2159 : BitVec 32 := Scalar.addi v2158 c5_i32
  let c25_i32_881 : BitVec 32 := 25#32
  let v2557 : BitVec 32 := Scalar.muli v2159 c25_i32_881
  let v2558 : BitVec 32 := Scalar.addi v2557 c0_i32_882
  let v2559 : Index := Scalar.indexCast v2558
  let c0_883 : Index := 0#32
  ![v2559.toNat, 0]
def k0_off302 (k0_t3 : Fin k0_t3_loop.trips) : Fin 2 → Nat :=
  let c0_892 : Index := 0#32
  let c0_i32_891 : BitVec 32 := 0#32
  let c0_i32_16 : BitVec 32 := 0#32
  let c1_i32_18 : BitVec 32 := 1#32
  let arg20 : BitVec 32 := Scf.iv c0_i32_16 c1_i32_18 k0_t3
  let c8_i32_890 : BitVec 32 := 8#32
  let v2575 : BitVec 32 := Scalar.muli arg20 c8_i32_890
  let v2576 : BitVec 32 := Scalar.addi c0_i32_891 v2575
  let c6_i32 : BitVec 32 := 6#32
  let v2577 : BitVec 32 := Scalar.addi v2576 c6_i32
  let v2578 : Index := Scalar.indexCast v2577
  ![0, v2578.toNat]
def k0_off303 (v2579 : BitVec 32) : Fin 2 → Nat :=
  let c24_i32_893 : BitVec 32 := 24#32
  let v2580 : BitVec 32 := Scalar.addi v2579 c24_i32_893
  let v2581 : Index := Scalar.indexCast v2580
  let c0_894 : Index := 0#32
  ![v2581.toNat, 0]

def k0_off304 (k0_t3 : Fin k0_t3_loop.trips) : Fin 2 → Nat :=
  let c0_895 : Index := 0#32
  let c0_i32_891 : BitVec 32 := 0#32
  let c0_i32_16 : BitVec 32 := 0#32
  let c1_i32_18 : BitVec 32 := 1#32
  let arg20 : BitVec 32 := Scf.iv c0_i32_16 c1_i32_18 k0_t3
  let c8_i32_890 : BitVec 32 := 8#32
  let v2575 : BitVec 32 := Scalar.muli arg20 c8_i32_890
  let v2576 : BitVec 32 := Scalar.addi c0_i32_891 v2575
  let c6_i32 : BitVec 32 := 6#32
  let v2577 : BitVec 32 := Scalar.addi v2576 c6_i32
  let v2583 : Index := Scalar.indexCast v2577
  ![0, v2583.toNat]
def k0_off305 (v2579 : BitVec 32) (c0_i32_898 : BitVec 32) : Fin 2 → Nat :=
  let v2597 : BitVec 32 := Scalar.addi v2579 c0_i32_898
  let v2598 : Index := Scalar.indexCast v2597
  let c0_899 : Index := 0#32
  ![v2598.toNat, 0]

def k0_chk69 (v2579 : BitVec 32) : Prop :=
  (∀ a, (k0_off303 v2579) a + S1x128.size a ≤ S102432x128.size a) ∧
  (∀ (r : Fin 3), ∀ a, (k0_off305 v2579 (BitVec.ofNat 32 (8 * r.val))) a + S8x128.size a ≤ S102432x128.size a)
theorem k0_off303_inb : ∀ (v2579 : BitVec 32) (k0_hw69 : k0_chk69 v2579), ∀ a, (k0_off303 v2579) a + S1x128.size a ≤ S102432x128.size a := fun v2579 k0_hw69 => k0_hw69.1
theorem k0_off305_inb : ∀ (v2579 : BitVec 32) (k0_hw69 : k0_chk69 v2579), ∀ (r : Fin 3), ∀ a, (k0_off305 v2579 (BitVec.ofNat 32 (8 * r.val))) a + S8x128.size a ≤ S102432x128.size a := fun v2579 k0_hw69 r => k0_hw69.2 r

def k0_off306 (k0_t3 : Fin k0_t3_loop.trips) : Fin 2 → Nat :=
  let c1_908 : Index := 1#32
  let c0_i32_891 : BitVec 32 := 0#32
  let c0_i32_16 : BitVec 32 := 0#32
  let c1_i32_18 : BitVec 32 := 1#32
  let arg20 : BitVec 32 := Scf.iv c0_i32_16 c1_i32_18 k0_t3
  let c8_i32_890 : BitVec 32 := 8#32
  let v2575 : BitVec 32 := Scalar.muli arg20 c8_i32_890
  let v2576 : BitVec 32 := Scalar.addi c0_i32_891 v2575
  let c6_i32 : BitVec 32 := 6#32
  let v2577 : BitVec 32 := Scalar.addi v2576 c6_i32
  let v2625 : Index := Scalar.indexCast v2577
  ![1, v2625.toNat]
def k0_off307 (v2626 : BitVec 32) : Fin 2 → Nat :=
  let c24_i32_909 : BitVec 32 := 24#32
  let v2627 : BitVec 32 := Scalar.addi v2626 c24_i32_909
  let v2628 : Index := Scalar.indexCast v2627
  let c0_910 : Index := 0#32
  ![v2628.toNat, 0]

def k0_off308 (k0_t3 : Fin k0_t3_loop.trips) : Fin 2 → Nat :=
  let c1_911 : Index := 1#32
  let c0_i32_891 : BitVec 32 := 0#32
  let c0_i32_16 : BitVec 32 := 0#32
  let c1_i32_18 : BitVec 32 := 1#32
  let arg20 : BitVec 32 := Scf.iv c0_i32_16 c1_i32_18 k0_t3
  let c8_i32_890 : BitVec 32 := 8#32
  let v2575 : BitVec 32 := Scalar.muli arg20 c8_i32_890
  let v2576 : BitVec 32 := Scalar.addi c0_i32_891 v2575
  let c6_i32 : BitVec 32 := 6#32
  let v2577 : BitVec 32 := Scalar.addi v2576 c6_i32
  let v2630 : Index := Scalar.indexCast v2577
  ![1, v2630.toNat]
def k0_off309 (v2626 : BitVec 32) (c0_i32_914 : BitVec 32) : Fin 2 → Nat :=
  let v2644 : BitVec 32 := Scalar.addi v2626 c0_i32_914
  let v2645 : Index := Scalar.indexCast v2644
  let c0_915 : Index := 0#32
  ![v2645.toNat, 0]

def k0_chk70 (v2626 : BitVec 32) : Prop :=
  (∀ a, (k0_off307 v2626) a + S1x128.size a ≤ S102432x128.size a) ∧
  (∀ (r : Fin 3), ∀ a, (k0_off309 v2626 (BitVec.ofNat 32 (8 * r.val))) a + S8x128.size a ≤ S102432x128.size a)
theorem k0_off307_inb : ∀ (v2626 : BitVec 32) (k0_hw70 : k0_chk70 v2626), ∀ a, (k0_off307 v2626) a + S1x128.size a ≤ S102432x128.size a := fun v2626 k0_hw70 => k0_hw70.1
theorem k0_off309_inb : ∀ (v2626 : BitVec 32) (k0_hw70 : k0_chk70 v2626), ∀ (r : Fin 3), ∀ a, (k0_off309 v2626 (BitVec.ofNat 32 (8 * r.val))) a + S8x128.size a ≤ S102432x128.size a := fun v2626 k0_hw70 r => k0_hw70.2 r

def k0_off310 (k0_t3 : Fin k0_t3_loop.trips) : Fin 2 → Nat :=
  let c2_924 : Index := 2#32
  let c0_i32_891 : BitVec 32 := 0#32
  let c0_i32_16 : BitVec 32 := 0#32
  let c1_i32_18 : BitVec 32 := 1#32
  let arg20 : BitVec 32 := Scf.iv c0_i32_16 c1_i32_18 k0_t3
  let c8_i32_890 : BitVec 32 := 8#32
  let v2575 : BitVec 32 := Scalar.muli arg20 c8_i32_890
  let v2576 : BitVec 32 := Scalar.addi c0_i32_891 v2575
  let c6_i32 : BitVec 32 := 6#32
  let v2577 : BitVec 32 := Scalar.addi v2576 c6_i32
  let v2675 : Index := Scalar.indexCast v2577
  ![2, v2675.toNat]
def k0_off311 (v2676 : BitVec 32) : Fin 2 → Nat :=
  let c24_i32_925 : BitVec 32 := 24#32
  let v2677 : BitVec 32 := Scalar.addi v2676 c24_i32_925
  let v2678 : Index := Scalar.indexCast v2677
  let c0_926 : Index := 0#32
  ![v2678.toNat, 0]

def k0_off312 (k0_t3 : Fin k0_t3_loop.trips) : Fin 2 → Nat :=
  let c2_927 : Index := 2#32
  let c0_i32_891 : BitVec 32 := 0#32
  let c0_i32_16 : BitVec 32 := 0#32
  let c1_i32_18 : BitVec 32 := 1#32
  let arg20 : BitVec 32 := Scf.iv c0_i32_16 c1_i32_18 k0_t3
  let c8_i32_890 : BitVec 32 := 8#32
  let v2575 : BitVec 32 := Scalar.muli arg20 c8_i32_890
  let v2576 : BitVec 32 := Scalar.addi c0_i32_891 v2575
  let c6_i32 : BitVec 32 := 6#32
  let v2577 : BitVec 32 := Scalar.addi v2576 c6_i32
  let v2680 : Index := Scalar.indexCast v2577
  ![2, v2680.toNat]
def k0_off313 (v2676 : BitVec 32) (c0_i32_930 : BitVec 32) : Fin 2 → Nat :=
  let v2694 : BitVec 32 := Scalar.addi v2676 c0_i32_930
  let v2695 : Index := Scalar.indexCast v2694
  let c0_931 : Index := 0#32
  ![v2695.toNat, 0]

def k0_chk71 (v2676 : BitVec 32) : Prop :=
  (∀ a, (k0_off311 v2676) a + S1x128.size a ≤ S102432x128.size a) ∧
  (∀ (r : Fin 3), ∀ a, (k0_off313 v2676 (BitVec.ofNat 32 (8 * r.val))) a + S8x128.size a ≤ S102432x128.size a)
theorem k0_off311_inb : ∀ (v2676 : BitVec 32) (k0_hw71 : k0_chk71 v2676), ∀ a, (k0_off311 v2676) a + S1x128.size a ≤ S102432x128.size a := fun v2676 k0_hw71 => k0_hw71.1
theorem k0_off313_inb : ∀ (v2676 : BitVec 32) (k0_hw71 : k0_chk71 v2676), ∀ (r : Fin 3), ∀ a, (k0_off313 v2676 (BitVec.ofNat 32 (8 * r.val))) a + S8x128.size a ≤ S102432x128.size a := fun v2676 k0_hw71 r => k0_hw71.2 r

def k0_off314 (k0_t3 : Fin k0_t3_loop.trips) : Fin 2 → Nat :=
  let c3_940 : Index := 3#32
  let c0_i32_891 : BitVec 32 := 0#32
  let c0_i32_16 : BitVec 32 := 0#32
  let c1_i32_18 : BitVec 32 := 1#32
  let arg20 : BitVec 32 := Scf.iv c0_i32_16 c1_i32_18 k0_t3
  let c8_i32_890 : BitVec 32 := 8#32
  let v2575 : BitVec 32 := Scalar.muli arg20 c8_i32_890
  let v2576 : BitVec 32 := Scalar.addi c0_i32_891 v2575
  let c6_i32 : BitVec 32 := 6#32
  let v2577 : BitVec 32 := Scalar.addi v2576 c6_i32
  let v2725 : Index := Scalar.indexCast v2577
  ![3, v2725.toNat]
def k0_off315 (v2726 : BitVec 32) : Fin 2 → Nat :=
  let c24_i32_941 : BitVec 32 := 24#32
  let v2727 : BitVec 32 := Scalar.addi v2726 c24_i32_941
  let v2728 : Index := Scalar.indexCast v2727
  let c0_942 : Index := 0#32
  ![v2728.toNat, 0]

def k0_off316 (k0_t3 : Fin k0_t3_loop.trips) : Fin 2 → Nat :=
  let c3_943 : Index := 3#32
  let c0_i32_891 : BitVec 32 := 0#32
  let c0_i32_16 : BitVec 32 := 0#32
  let c1_i32_18 : BitVec 32 := 1#32
  let arg20 : BitVec 32 := Scf.iv c0_i32_16 c1_i32_18 k0_t3
  let c8_i32_890 : BitVec 32 := 8#32
  let v2575 : BitVec 32 := Scalar.muli arg20 c8_i32_890
  let v2576 : BitVec 32 := Scalar.addi c0_i32_891 v2575
  let c6_i32 : BitVec 32 := 6#32
  let v2577 : BitVec 32 := Scalar.addi v2576 c6_i32
  let v2730 : Index := Scalar.indexCast v2577
  ![3, v2730.toNat]
def k0_off317 (v2726 : BitVec 32) (c0_i32_946 : BitVec 32) : Fin 2 → Nat :=
  let v2744 : BitVec 32 := Scalar.addi v2726 c0_i32_946
  let v2745 : Index := Scalar.indexCast v2744
  let c0_947 : Index := 0#32
  ![v2745.toNat, 0]

def k0_chk72 (v2726 : BitVec 32) : Prop :=
  (∀ a, (k0_off315 v2726) a + S1x128.size a ≤ S102432x128.size a) ∧
  (∀ (r : Fin 3), ∀ a, (k0_off317 v2726 (BitVec.ofNat 32 (8 * r.val))) a + S8x128.size a ≤ S102432x128.size a)
theorem k0_off315_inb : ∀ (v2726 : BitVec 32) (k0_hw72 : k0_chk72 v2726), ∀ a, (k0_off315 v2726) a + S1x128.size a ≤ S102432x128.size a := fun v2726 k0_hw72 => k0_hw72.1
theorem k0_off317_inb : ∀ (v2726 : BitVec 32) (k0_hw72 : k0_chk72 v2726), ∀ (r : Fin 3), ∀ a, (k0_off317 v2726 (BitVec.ofNat 32 (8 * r.val))) a + S8x128.size a ≤ S102432x128.size a := fun v2726 k0_hw72 r => k0_hw72.2 r

def k0_off318 (k0_t3 : Fin k0_t3_loop.trips) : Fin 2 → Nat :=
  let c4_956 : Index := 4#32
  let c0_i32_891 : BitVec 32 := 0#32
  let c0_i32_16 : BitVec 32 := 0#32
  let c1_i32_18 : BitVec 32 := 1#32
  let arg20 : BitVec 32 := Scf.iv c0_i32_16 c1_i32_18 k0_t3
  let c8_i32_890 : BitVec 32 := 8#32
  let v2575 : BitVec 32 := Scalar.muli arg20 c8_i32_890
  let v2576 : BitVec 32 := Scalar.addi c0_i32_891 v2575
  let c6_i32 : BitVec 32 := 6#32
  let v2577 : BitVec 32 := Scalar.addi v2576 c6_i32
  let v2775 : Index := Scalar.indexCast v2577
  ![4, v2775.toNat]
def k0_off319 (v2776 : BitVec 32) : Fin 2 → Nat :=
  let c24_i32_957 : BitVec 32 := 24#32
  let v2777 : BitVec 32 := Scalar.addi v2776 c24_i32_957
  let v2778 : Index := Scalar.indexCast v2777
  let c0_958 : Index := 0#32
  ![v2778.toNat, 0]

def k0_off320 (k0_t3 : Fin k0_t3_loop.trips) : Fin 2 → Nat :=
  let c4_959 : Index := 4#32
  let c0_i32_891 : BitVec 32 := 0#32
  let c0_i32_16 : BitVec 32 := 0#32
  let c1_i32_18 : BitVec 32 := 1#32
  let arg20 : BitVec 32 := Scf.iv c0_i32_16 c1_i32_18 k0_t3
  let c8_i32_890 : BitVec 32 := 8#32
  let v2575 : BitVec 32 := Scalar.muli arg20 c8_i32_890
  let v2576 : BitVec 32 := Scalar.addi c0_i32_891 v2575
  let c6_i32 : BitVec 32 := 6#32
  let v2577 : BitVec 32 := Scalar.addi v2576 c6_i32
  let v2780 : Index := Scalar.indexCast v2577
  ![4, v2780.toNat]
def k0_off321 (v2776 : BitVec 32) (c0_i32_962 : BitVec 32) : Fin 2 → Nat :=
  let v2794 : BitVec 32 := Scalar.addi v2776 c0_i32_962
  let v2795 : Index := Scalar.indexCast v2794
  let c0_963 : Index := 0#32
  ![v2795.toNat, 0]

def k0_chk73 (v2776 : BitVec 32) : Prop :=
  (∀ a, (k0_off319 v2776) a + S1x128.size a ≤ S102432x128.size a) ∧
  (∀ (r : Fin 3), ∀ a, (k0_off321 v2776 (BitVec.ofNat 32 (8 * r.val))) a + S8x128.size a ≤ S102432x128.size a)
theorem k0_off319_inb : ∀ (v2776 : BitVec 32) (k0_hw73 : k0_chk73 v2776), ∀ a, (k0_off319 v2776) a + S1x128.size a ≤ S102432x128.size a := fun v2776 k0_hw73 => k0_hw73.1
theorem k0_off321_inb : ∀ (v2776 : BitVec 32) (k0_hw73 : k0_chk73 v2776), ∀ (r : Fin 3), ∀ a, (k0_off321 v2776 (BitVec.ofNat 32 (8 * r.val))) a + S8x128.size a ≤ S102432x128.size a := fun v2776 k0_hw73 r => k0_hw73.2 r

def k0_off322 (k0_t3 : Fin k0_t3_loop.trips) : Fin 2 → Nat :=
  let c5_972 : Index := 5#32
  let c0_i32_891 : BitVec 32 := 0#32
  let c0_i32_16 : BitVec 32 := 0#32
  let c1_i32_18 : BitVec 32 := 1#32
  let arg20 : BitVec 32 := Scf.iv c0_i32_16 c1_i32_18 k0_t3
  let c8_i32_890 : BitVec 32 := 8#32
  let v2575 : BitVec 32 := Scalar.muli arg20 c8_i32_890
  let v2576 : BitVec 32 := Scalar.addi c0_i32_891 v2575
  let c6_i32 : BitVec 32 := 6#32
  let v2577 : BitVec 32 := Scalar.addi v2576 c6_i32
  let v2825 : Index := Scalar.indexCast v2577
  ![5, v2825.toNat]
def k0_off323 (v2826 : BitVec 32) : Fin 2 → Nat :=
  let c24_i32_973 : BitVec 32 := 24#32
  let v2827 : BitVec 32 := Scalar.addi v2826 c24_i32_973
  let v2828 : Index := Scalar.indexCast v2827
  let c0_974 : Index := 0#32
  ![v2828.toNat, 0]

def k0_off324 (k0_t3 : Fin k0_t3_loop.trips) : Fin 2 → Nat :=
  let c5_975 : Index := 5#32
  let c0_i32_891 : BitVec 32 := 0#32
  let c0_i32_16 : BitVec 32 := 0#32
  let c1_i32_18 : BitVec 32 := 1#32
  let arg20 : BitVec 32 := Scf.iv c0_i32_16 c1_i32_18 k0_t3
  let c8_i32_890 : BitVec 32 := 8#32
  let v2575 : BitVec 32 := Scalar.muli arg20 c8_i32_890
  let v2576 : BitVec 32 := Scalar.addi c0_i32_891 v2575
  let c6_i32 : BitVec 32 := 6#32
  let v2577 : BitVec 32 := Scalar.addi v2576 c6_i32
  let v2830 : Index := Scalar.indexCast v2577
  ![5, v2830.toNat]
def k0_off325 (v2826 : BitVec 32) (c0_i32_978 : BitVec 32) : Fin 2 → Nat :=
  let v2844 : BitVec 32 := Scalar.addi v2826 c0_i32_978
  let v2845 : Index := Scalar.indexCast v2844
  let c0_979 : Index := 0#32
  ![v2845.toNat, 0]

def k0_chk74 (v2826 : BitVec 32) : Prop :=
  (∀ a, (k0_off323 v2826) a + S1x128.size a ≤ S102432x128.size a) ∧
  (∀ (r : Fin 3), ∀ a, (k0_off325 v2826 (BitVec.ofNat 32 (8 * r.val))) a + S8x128.size a ≤ S102432x128.size a)
theorem k0_off323_inb : ∀ (v2826 : BitVec 32) (k0_hw74 : k0_chk74 v2826), ∀ a, (k0_off323 v2826) a + S1x128.size a ≤ S102432x128.size a := fun v2826 k0_hw74 => k0_hw74.1
theorem k0_off325_inb : ∀ (v2826 : BitVec 32) (k0_hw74 : k0_chk74 v2826), ∀ (r : Fin 3), ∀ a, (k0_off325 v2826 (BitVec.ofNat 32 (8 * r.val))) a + S8x128.size a ≤ S102432x128.size a := fun v2826 k0_hw74 r => k0_hw74.2 r

def k0_off326 (k0_t3 : Fin k0_t3_loop.trips) : Fin 2 → Nat :=
  let c6_988 : Index := 6#32
  let c0_i32_891 : BitVec 32 := 0#32
  let c0_i32_16 : BitVec 32 := 0#32
  let c1_i32_18 : BitVec 32 := 1#32
  let arg20 : BitVec 32 := Scf.iv c0_i32_16 c1_i32_18 k0_t3
  let c8_i32_890 : BitVec 32 := 8#32
  let v2575 : BitVec 32 := Scalar.muli arg20 c8_i32_890
  let v2576 : BitVec 32 := Scalar.addi c0_i32_891 v2575
  let c6_i32 : BitVec 32 := 6#32
  let v2577 : BitVec 32 := Scalar.addi v2576 c6_i32
  let v2875 : Index := Scalar.indexCast v2577
  ![6, v2875.toNat]
def k0_off327 (v2876 : BitVec 32) : Fin 2 → Nat :=
  let c24_i32_989 : BitVec 32 := 24#32
  let v2877 : BitVec 32 := Scalar.addi v2876 c24_i32_989
  let v2878 : Index := Scalar.indexCast v2877
  let c0_990 : Index := 0#32
  ![v2878.toNat, 0]

def k0_off328 (k0_t3 : Fin k0_t3_loop.trips) : Fin 2 → Nat :=
  let c6_991 : Index := 6#32
  let c0_i32_891 : BitVec 32 := 0#32
  let c0_i32_16 : BitVec 32 := 0#32
  let c1_i32_18 : BitVec 32 := 1#32
  let arg20 : BitVec 32 := Scf.iv c0_i32_16 c1_i32_18 k0_t3
  let c8_i32_890 : BitVec 32 := 8#32
  let v2575 : BitVec 32 := Scalar.muli arg20 c8_i32_890
  let v2576 : BitVec 32 := Scalar.addi c0_i32_891 v2575
  let c6_i32 : BitVec 32 := 6#32
  let v2577 : BitVec 32 := Scalar.addi v2576 c6_i32
  let v2880 : Index := Scalar.indexCast v2577
  ![6, v2880.toNat]
def k0_off329 (v2876 : BitVec 32) (c0_i32_994 : BitVec 32) : Fin 2 → Nat :=
  let v2894 : BitVec 32 := Scalar.addi v2876 c0_i32_994
  let v2895 : Index := Scalar.indexCast v2894
  let c0_995 : Index := 0#32
  ![v2895.toNat, 0]

def k0_chk75 (v2876 : BitVec 32) : Prop :=
  (∀ a, (k0_off327 v2876) a + S1x128.size a ≤ S102432x128.size a) ∧
  (∀ (r : Fin 3), ∀ a, (k0_off329 v2876 (BitVec.ofNat 32 (8 * r.val))) a + S8x128.size a ≤ S102432x128.size a)
theorem k0_off327_inb : ∀ (v2876 : BitVec 32) (k0_hw75 : k0_chk75 v2876), ∀ a, (k0_off327 v2876) a + S1x128.size a ≤ S102432x128.size a := fun v2876 k0_hw75 => k0_hw75.1
theorem k0_off329_inb : ∀ (v2876 : BitVec 32) (k0_hw75 : k0_chk75 v2876), ∀ (r : Fin 3), ∀ a, (k0_off329 v2876 (BitVec.ofNat 32 (8 * r.val))) a + S8x128.size a ≤ S102432x128.size a := fun v2876 k0_hw75 r => k0_hw75.2 r

def k0_off330 (k0_t3 : Fin k0_t3_loop.trips) : Fin 2 → Nat :=
  let c7_1004 : Index := 7#32
  let c0_i32_891 : BitVec 32 := 0#32
  let c0_i32_16 : BitVec 32 := 0#32
  let c1_i32_18 : BitVec 32 := 1#32
  let arg20 : BitVec 32 := Scf.iv c0_i32_16 c1_i32_18 k0_t3
  let c8_i32_890 : BitVec 32 := 8#32
  let v2575 : BitVec 32 := Scalar.muli arg20 c8_i32_890
  let v2576 : BitVec 32 := Scalar.addi c0_i32_891 v2575
  let c6_i32 : BitVec 32 := 6#32
  let v2577 : BitVec 32 := Scalar.addi v2576 c6_i32
  let v2925 : Index := Scalar.indexCast v2577
  ![7, v2925.toNat]
def k0_off331 (v2926 : BitVec 32) : Fin 2 → Nat :=
  let c24_i32_1005 : BitVec 32 := 24#32
  let v2927 : BitVec 32 := Scalar.addi v2926 c24_i32_1005
  let v2928 : Index := Scalar.indexCast v2927
  let c0_1006 : Index := 0#32
  ![v2928.toNat, 0]

def k0_off332 (k0_t3 : Fin k0_t3_loop.trips) : Fin 2 → Nat :=
  let c7_1007 : Index := 7#32
  let c0_i32_891 : BitVec 32 := 0#32
  let c0_i32_16 : BitVec 32 := 0#32
  let c1_i32_18 : BitVec 32 := 1#32
  let arg20 : BitVec 32 := Scf.iv c0_i32_16 c1_i32_18 k0_t3
  let c8_i32_890 : BitVec 32 := 8#32
  let v2575 : BitVec 32 := Scalar.muli arg20 c8_i32_890
  let v2576 : BitVec 32 := Scalar.addi c0_i32_891 v2575
  let c6_i32 : BitVec 32 := 6#32
  let v2577 : BitVec 32 := Scalar.addi v2576 c6_i32
  let v2930 : Index := Scalar.indexCast v2577
  ![7, v2930.toNat]
def k0_off333 (v2926 : BitVec 32) (c0_i32_1010 : BitVec 32) : Fin 2 → Nat :=
  let v2944 : BitVec 32 := Scalar.addi v2926 c0_i32_1010
  let v2945 : Index := Scalar.indexCast v2944
  let c0_1011 : Index := 0#32
  ![v2945.toNat, 0]

def k0_chk76 (v2926 : BitVec 32) : Prop :=
  (∀ a, (k0_off331 v2926) a + S1x128.size a ≤ S102432x128.size a) ∧
  (∀ (r : Fin 3), ∀ a, (k0_off333 v2926 (BitVec.ofNat 32 (8 * r.val))) a + S8x128.size a ≤ S102432x128.size a)
theorem k0_off331_inb : ∀ (v2926 : BitVec 32) (k0_hw76 : k0_chk76 v2926), ∀ a, (k0_off331 v2926) a + S1x128.size a ≤ S102432x128.size a := fun v2926 k0_hw76 => k0_hw76.1
theorem k0_off333_inb : ∀ (v2926 : BitVec 32) (k0_hw76 : k0_chk76 v2926), ∀ (r : Fin 3), ∀ a, (k0_off333 v2926 (BitVec.ofNat 32 (8 * r.val))) a + S8x128.size a ≤ S102432x128.size a := fun v2926 k0_hw76 r => k0_hw76.2 r

def k0_off334 (k0_t3 : Fin k0_t3_loop.trips) (c0_i32_1021 : BitVec 32) : Fin 2 → Nat :=
  let c0_i32_891 : BitVec 32 := 0#32
  let c0_i32_16 : BitVec 32 := 0#32
  let c1_i32_18 : BitVec 32 := 1#32
  let arg20 : BitVec 32 := Scf.iv c0_i32_16 c1_i32_18 k0_t3
  let c8_i32_890 : BitVec 32 := 8#32
  let v2575 : BitVec 32 := Scalar.muli arg20 c8_i32_890
  let v2576 : BitVec 32 := Scalar.addi c0_i32_891 v2575
  let c6_i32 : BitVec 32 := 6#32
  let v2577 : BitVec 32 := Scalar.addi v2576 c6_i32
  let c25_i32_1020 : BitVec 32 := 25#32
  let v2975 : BitVec 32 := Scalar.muli v2577 c25_i32_1020
  let v2976 : BitVec 32 := Scalar.addi v2975 c0_i32_1021
  let v2977 : Index := Scalar.indexCast v2976
  let c0_1022 : Index := 0#32
  ![v2977.toNat, 0]
def k0_off335 (k0_t3 : Fin k0_t3_loop.trips) : Fin 2 → Nat :=
  let c0_1031 : Index := 0#32
  let c0_i32_1030 : BitVec 32 := 0#32
  let c0_i32_16 : BitVec 32 := 0#32
  let c1_i32_18 : BitVec 32 := 1#32
  let arg20 : BitVec 32 := Scf.iv c0_i32_16 c1_i32_18 k0_t3
  let c8_i32_1029 : BitVec 32 := 8#32
  let v2993 : BitVec 32 := Scalar.muli arg20 c8_i32_1029
  let v2994 : BitVec 32 := Scalar.addi c0_i32_1030 v2993
  let c7_i32 : BitVec 32 := 7#32
  let v2995 : BitVec 32 := Scalar.addi v2994 c7_i32
  let v2996 : Index := Scalar.indexCast v2995
  ![0, v2996.toNat]
def k0_off336 (v2997 : BitVec 32) : Fin 2 → Nat :=
  let c24_i32_1032 : BitVec 32 := 24#32
  let v2998 : BitVec 32 := Scalar.addi v2997 c24_i32_1032
  let v2999 : Index := Scalar.indexCast v2998
  let c0_1033 : Index := 0#32
  ![v2999.toNat, 0]

def k0_off337 (k0_t3 : Fin k0_t3_loop.trips) : Fin 2 → Nat :=
  let c0_1034 : Index := 0#32
  let c0_i32_1030 : BitVec 32 := 0#32
  let c0_i32_16 : BitVec 32 := 0#32
  let c1_i32_18 : BitVec 32 := 1#32
  let arg20 : BitVec 32 := Scf.iv c0_i32_16 c1_i32_18 k0_t3
  let c8_i32_1029 : BitVec 32 := 8#32
  let v2993 : BitVec 32 := Scalar.muli arg20 c8_i32_1029
  let v2994 : BitVec 32 := Scalar.addi c0_i32_1030 v2993
  let c7_i32 : BitVec 32 := 7#32
  let v2995 : BitVec 32 := Scalar.addi v2994 c7_i32
  let v3001 : Index := Scalar.indexCast v2995
  ![0, v3001.toNat]
def k0_off338 (v2997 : BitVec 32) (c0_i32_1037 : BitVec 32) : Fin 2 → Nat :=
  let v3015 : BitVec 32 := Scalar.addi v2997 c0_i32_1037
  let v3016 : Index := Scalar.indexCast v3015
  let c0_1038 : Index := 0#32
  ![v3016.toNat, 0]

def k0_chk77 (v2997 : BitVec 32) : Prop :=
  (∀ a, (k0_off336 v2997) a + S1x128.size a ≤ S102432x128.size a) ∧
  (∀ (r : Fin 3), ∀ a, (k0_off338 v2997 (BitVec.ofNat 32 (8 * r.val))) a + S8x128.size a ≤ S102432x128.size a)
theorem k0_off336_inb : ∀ (v2997 : BitVec 32) (k0_hw77 : k0_chk77 v2997), ∀ a, (k0_off336 v2997) a + S1x128.size a ≤ S102432x128.size a := fun v2997 k0_hw77 => k0_hw77.1
theorem k0_off338_inb : ∀ (v2997 : BitVec 32) (k0_hw77 : k0_chk77 v2997), ∀ (r : Fin 3), ∀ a, (k0_off338 v2997 (BitVec.ofNat 32 (8 * r.val))) a + S8x128.size a ≤ S102432x128.size a := fun v2997 k0_hw77 r => k0_hw77.2 r

def k0_off339 (k0_t3 : Fin k0_t3_loop.trips) : Fin 2 → Nat :=
  let c1_1047 : Index := 1#32
  let c0_i32_1030 : BitVec 32 := 0#32
  let c0_i32_16 : BitVec 32 := 0#32
  let c1_i32_18 : BitVec 32 := 1#32
  let arg20 : BitVec 32 := Scf.iv c0_i32_16 c1_i32_18 k0_t3
  let c8_i32_1029 : BitVec 32 := 8#32
  let v2993 : BitVec 32 := Scalar.muli arg20 c8_i32_1029
  let v2994 : BitVec 32 := Scalar.addi c0_i32_1030 v2993
  let c7_i32 : BitVec 32 := 7#32
  let v2995 : BitVec 32 := Scalar.addi v2994 c7_i32
  let v3043 : Index := Scalar.indexCast v2995
  ![1, v3043.toNat]
def k0_off340 (v3044 : BitVec 32) : Fin 2 → Nat :=
  let c24_i32_1048 : BitVec 32 := 24#32
  let v3045 : BitVec 32 := Scalar.addi v3044 c24_i32_1048
  let v3046 : Index := Scalar.indexCast v3045
  let c0_1049 : Index := 0#32
  ![v3046.toNat, 0]

def k0_off341 (k0_t3 : Fin k0_t3_loop.trips) : Fin 2 → Nat :=
  let c1_1050 : Index := 1#32
  let c0_i32_1030 : BitVec 32 := 0#32
  let c0_i32_16 : BitVec 32 := 0#32
  let c1_i32_18 : BitVec 32 := 1#32
  let arg20 : BitVec 32 := Scf.iv c0_i32_16 c1_i32_18 k0_t3
  let c8_i32_1029 : BitVec 32 := 8#32
  let v2993 : BitVec 32 := Scalar.muli arg20 c8_i32_1029
  let v2994 : BitVec 32 := Scalar.addi c0_i32_1030 v2993
  let c7_i32 : BitVec 32 := 7#32
  let v2995 : BitVec 32 := Scalar.addi v2994 c7_i32
  let v3048 : Index := Scalar.indexCast v2995
  ![1, v3048.toNat]
def k0_off342 (v3044 : BitVec 32) (c0_i32_1053 : BitVec 32) : Fin 2 → Nat :=
  let v3062 : BitVec 32 := Scalar.addi v3044 c0_i32_1053
  let v3063 : Index := Scalar.indexCast v3062
  let c0_1054 : Index := 0#32
  ![v3063.toNat, 0]

def k0_chk78 (v3044 : BitVec 32) : Prop :=
  (∀ a, (k0_off340 v3044) a + S1x128.size a ≤ S102432x128.size a) ∧
  (∀ (r : Fin 3), ∀ a, (k0_off342 v3044 (BitVec.ofNat 32 (8 * r.val))) a + S8x128.size a ≤ S102432x128.size a)
theorem k0_off340_inb : ∀ (v3044 : BitVec 32) (k0_hw78 : k0_chk78 v3044), ∀ a, (k0_off340 v3044) a + S1x128.size a ≤ S102432x128.size a := fun v3044 k0_hw78 => k0_hw78.1
theorem k0_off342_inb : ∀ (v3044 : BitVec 32) (k0_hw78 : k0_chk78 v3044), ∀ (r : Fin 3), ∀ a, (k0_off342 v3044 (BitVec.ofNat 32 (8 * r.val))) a + S8x128.size a ≤ S102432x128.size a := fun v3044 k0_hw78 r => k0_hw78.2 r

def k0_off343 (k0_t3 : Fin k0_t3_loop.trips) : Fin 2 → Nat :=
  let c2_1063 : Index := 2#32
  let c0_i32_1030 : BitVec 32 := 0#32
  let c0_i32_16 : BitVec 32 := 0#32
  let c1_i32_18 : BitVec 32 := 1#32
  let arg20 : BitVec 32 := Scf.iv c0_i32_16 c1_i32_18 k0_t3
  let c8_i32_1029 : BitVec 32 := 8#32
  let v2993 : BitVec 32 := Scalar.muli arg20 c8_i32_1029
  let v2994 : BitVec 32 := Scalar.addi c0_i32_1030 v2993
  let c7_i32 : BitVec 32 := 7#32
  let v2995 : BitVec 32 := Scalar.addi v2994 c7_i32
  let v3093 : Index := Scalar.indexCast v2995
  ![2, v3093.toNat]
def k0_off344 (v3094 : BitVec 32) : Fin 2 → Nat :=
  let c24_i32_1064 : BitVec 32 := 24#32
  let v3095 : BitVec 32 := Scalar.addi v3094 c24_i32_1064
  let v3096 : Index := Scalar.indexCast v3095
  let c0_1065 : Index := 0#32
  ![v3096.toNat, 0]

def k0_off345 (k0_t3 : Fin k0_t3_loop.trips) : Fin 2 → Nat :=
  let c2_1066 : Index := 2#32
  let c0_i32_1030 : BitVec 32 := 0#32
  let c0_i32_16 : BitVec 32 := 0#32
  let c1_i32_18 : BitVec 32 := 1#32
  let arg20 : BitVec 32 := Scf.iv c0_i32_16 c1_i32_18 k0_t3
  let c8_i32_1029 : BitVec 32 := 8#32
  let v2993 : BitVec 32 := Scalar.muli arg20 c8_i32_1029
  let v2994 : BitVec 32 := Scalar.addi c0_i32_1030 v2993
  let c7_i32 : BitVec 32 := 7#32
  let v2995 : BitVec 32 := Scalar.addi v2994 c7_i32
  let v3098 : Index := Scalar.indexCast v2995
  ![2, v3098.toNat]
def k0_off346 (v3094 : BitVec 32) (c0_i32_1069 : BitVec 32) : Fin 2 → Nat :=
  let v3112 : BitVec 32 := Scalar.addi v3094 c0_i32_1069
  let v3113 : Index := Scalar.indexCast v3112
  let c0_1070 : Index := 0#32
  ![v3113.toNat, 0]

def k0_chk79 (v3094 : BitVec 32) : Prop :=
  (∀ a, (k0_off344 v3094) a + S1x128.size a ≤ S102432x128.size a) ∧
  (∀ (r : Fin 3), ∀ a, (k0_off346 v3094 (BitVec.ofNat 32 (8 * r.val))) a + S8x128.size a ≤ S102432x128.size a)
theorem k0_off344_inb : ∀ (v3094 : BitVec 32) (k0_hw79 : k0_chk79 v3094), ∀ a, (k0_off344 v3094) a + S1x128.size a ≤ S102432x128.size a := fun v3094 k0_hw79 => k0_hw79.1
theorem k0_off346_inb : ∀ (v3094 : BitVec 32) (k0_hw79 : k0_chk79 v3094), ∀ (r : Fin 3), ∀ a, (k0_off346 v3094 (BitVec.ofNat 32 (8 * r.val))) a + S8x128.size a ≤ S102432x128.size a := fun v3094 k0_hw79 r => k0_hw79.2 r

def k0_off347 (k0_t3 : Fin k0_t3_loop.trips) : Fin 2 → Nat :=
  let c3_1079 : Index := 3#32
  let c0_i32_1030 : BitVec 32 := 0#32
  let c0_i32_16 : BitVec 32 := 0#32
  let c1_i32_18 : BitVec 32 := 1#32
  let arg20 : BitVec 32 := Scf.iv c0_i32_16 c1_i32_18 k0_t3
  let c8_i32_1029 : BitVec 32 := 8#32
  let v2993 : BitVec 32 := Scalar.muli arg20 c8_i32_1029
  let v2994 : BitVec 32 := Scalar.addi c0_i32_1030 v2993
  let c7_i32 : BitVec 32 := 7#32
  let v2995 : BitVec 32 := Scalar.addi v2994 c7_i32
  let v3143 : Index := Scalar.indexCast v2995
  ![3, v3143.toNat]
def k0_off348 (v3144 : BitVec 32) : Fin 2 → Nat :=
  let c24_i32_1080 : BitVec 32 := 24#32
  let v3145 : BitVec 32 := Scalar.addi v3144 c24_i32_1080
  let v3146 : Index := Scalar.indexCast v3145
  let c0_1081 : Index := 0#32
  ![v3146.toNat, 0]

def k0_off349 (k0_t3 : Fin k0_t3_loop.trips) : Fin 2 → Nat :=
  let c3_1082 : Index := 3#32
  let c0_i32_1030 : BitVec 32 := 0#32
  let c0_i32_16 : BitVec 32 := 0#32
  let c1_i32_18 : BitVec 32 := 1#32
  let arg20 : BitVec 32 := Scf.iv c0_i32_16 c1_i32_18 k0_t3
  let c8_i32_1029 : BitVec 32 := 8#32
  let v2993 : BitVec 32 := Scalar.muli arg20 c8_i32_1029
  let v2994 : BitVec 32 := Scalar.addi c0_i32_1030 v2993
  let c7_i32 : BitVec 32 := 7#32
  let v2995 : BitVec 32 := Scalar.addi v2994 c7_i32
  let v3148 : Index := Scalar.indexCast v2995
  ![3, v3148.toNat]
def k0_off350 (v3144 : BitVec 32) (c0_i32_1085 : BitVec 32) : Fin 2 → Nat :=
  let v3162 : BitVec 32 := Scalar.addi v3144 c0_i32_1085
  let v3163 : Index := Scalar.indexCast v3162
  let c0_1086 : Index := 0#32
  ![v3163.toNat, 0]

def k0_chk80 (v3144 : BitVec 32) : Prop :=
  (∀ a, (k0_off348 v3144) a + S1x128.size a ≤ S102432x128.size a) ∧
  (∀ (r : Fin 3), ∀ a, (k0_off350 v3144 (BitVec.ofNat 32 (8 * r.val))) a + S8x128.size a ≤ S102432x128.size a)
theorem k0_off348_inb : ∀ (v3144 : BitVec 32) (k0_hw80 : k0_chk80 v3144), ∀ a, (k0_off348 v3144) a + S1x128.size a ≤ S102432x128.size a := fun v3144 k0_hw80 => k0_hw80.1
theorem k0_off350_inb : ∀ (v3144 : BitVec 32) (k0_hw80 : k0_chk80 v3144), ∀ (r : Fin 3), ∀ a, (k0_off350 v3144 (BitVec.ofNat 32 (8 * r.val))) a + S8x128.size a ≤ S102432x128.size a := fun v3144 k0_hw80 r => k0_hw80.2 r

def k0_off351 (k0_t3 : Fin k0_t3_loop.trips) : Fin 2 → Nat :=
  let c4_1095 : Index := 4#32
  let c0_i32_1030 : BitVec 32 := 0#32
  let c0_i32_16 : BitVec 32 := 0#32
  let c1_i32_18 : BitVec 32 := 1#32
  let arg20 : BitVec 32 := Scf.iv c0_i32_16 c1_i32_18 k0_t3
  let c8_i32_1029 : BitVec 32 := 8#32
  let v2993 : BitVec 32 := Scalar.muli arg20 c8_i32_1029
  let v2994 : BitVec 32 := Scalar.addi c0_i32_1030 v2993
  let c7_i32 : BitVec 32 := 7#32
  let v2995 : BitVec 32 := Scalar.addi v2994 c7_i32
  let v3193 : Index := Scalar.indexCast v2995
  ![4, v3193.toNat]
def k0_off352 (v3194 : BitVec 32) : Fin 2 → Nat :=
  let c24_i32_1096 : BitVec 32 := 24#32
  let v3195 : BitVec 32 := Scalar.addi v3194 c24_i32_1096
  let v3196 : Index := Scalar.indexCast v3195
  let c0_1097 : Index := 0#32
  ![v3196.toNat, 0]

def k0_off353 (k0_t3 : Fin k0_t3_loop.trips) : Fin 2 → Nat :=
  let c4_1098 : Index := 4#32
  let c0_i32_1030 : BitVec 32 := 0#32
  let c0_i32_16 : BitVec 32 := 0#32
  let c1_i32_18 : BitVec 32 := 1#32
  let arg20 : BitVec 32 := Scf.iv c0_i32_16 c1_i32_18 k0_t3
  let c8_i32_1029 : BitVec 32 := 8#32
  let v2993 : BitVec 32 := Scalar.muli arg20 c8_i32_1029
  let v2994 : BitVec 32 := Scalar.addi c0_i32_1030 v2993
  let c7_i32 : BitVec 32 := 7#32
  let v2995 : BitVec 32 := Scalar.addi v2994 c7_i32
  let v3198 : Index := Scalar.indexCast v2995
  ![4, v3198.toNat]
def k0_off354 (v3194 : BitVec 32) (c0_i32_1101 : BitVec 32) : Fin 2 → Nat :=
  let v3212 : BitVec 32 := Scalar.addi v3194 c0_i32_1101
  let v3213 : Index := Scalar.indexCast v3212
  let c0_1102 : Index := 0#32
  ![v3213.toNat, 0]

def k0_chk81 (v3194 : BitVec 32) : Prop :=
  (∀ a, (k0_off352 v3194) a + S1x128.size a ≤ S102432x128.size a) ∧
  (∀ (r : Fin 3), ∀ a, (k0_off354 v3194 (BitVec.ofNat 32 (8 * r.val))) a + S8x128.size a ≤ S102432x128.size a)
theorem k0_off352_inb : ∀ (v3194 : BitVec 32) (k0_hw81 : k0_chk81 v3194), ∀ a, (k0_off352 v3194) a + S1x128.size a ≤ S102432x128.size a := fun v3194 k0_hw81 => k0_hw81.1
theorem k0_off354_inb : ∀ (v3194 : BitVec 32) (k0_hw81 : k0_chk81 v3194), ∀ (r : Fin 3), ∀ a, (k0_off354 v3194 (BitVec.ofNat 32 (8 * r.val))) a + S8x128.size a ≤ S102432x128.size a := fun v3194 k0_hw81 r => k0_hw81.2 r

def k0_off355 (k0_t3 : Fin k0_t3_loop.trips) : Fin 2 → Nat :=
  let c5_1111 : Index := 5#32
  let c0_i32_1030 : BitVec 32 := 0#32
  let c0_i32_16 : BitVec 32 := 0#32
  let c1_i32_18 : BitVec 32 := 1#32
  let arg20 : BitVec 32 := Scf.iv c0_i32_16 c1_i32_18 k0_t3
  let c8_i32_1029 : BitVec 32 := 8#32
  let v2993 : BitVec 32 := Scalar.muli arg20 c8_i32_1029
  let v2994 : BitVec 32 := Scalar.addi c0_i32_1030 v2993
  let c7_i32 : BitVec 32 := 7#32
  let v2995 : BitVec 32 := Scalar.addi v2994 c7_i32
  let v3243 : Index := Scalar.indexCast v2995
  ![5, v3243.toNat]
def k0_off356 (v3244 : BitVec 32) : Fin 2 → Nat :=
  let c24_i32_1112 : BitVec 32 := 24#32
  let v3245 : BitVec 32 := Scalar.addi v3244 c24_i32_1112
  let v3246 : Index := Scalar.indexCast v3245
  let c0_1113 : Index := 0#32
  ![v3246.toNat, 0]

def k0_off357 (k0_t3 : Fin k0_t3_loop.trips) : Fin 2 → Nat :=
  let c5_1114 : Index := 5#32
  let c0_i32_1030 : BitVec 32 := 0#32
  let c0_i32_16 : BitVec 32 := 0#32
  let c1_i32_18 : BitVec 32 := 1#32
  let arg20 : BitVec 32 := Scf.iv c0_i32_16 c1_i32_18 k0_t3
  let c8_i32_1029 : BitVec 32 := 8#32
  let v2993 : BitVec 32 := Scalar.muli arg20 c8_i32_1029
  let v2994 : BitVec 32 := Scalar.addi c0_i32_1030 v2993
  let c7_i32 : BitVec 32 := 7#32
  let v2995 : BitVec 32 := Scalar.addi v2994 c7_i32
  let v3248 : Index := Scalar.indexCast v2995
  ![5, v3248.toNat]
def k0_off358 (v3244 : BitVec 32) (c0_i32_1117 : BitVec 32) : Fin 2 → Nat :=
  let v3262 : BitVec 32 := Scalar.addi v3244 c0_i32_1117
  let v3263 : Index := Scalar.indexCast v3262
  let c0_1118 : Index := 0#32
  ![v3263.toNat, 0]

def k0_chk82 (v3244 : BitVec 32) : Prop :=
  (∀ a, (k0_off356 v3244) a + S1x128.size a ≤ S102432x128.size a) ∧
  (∀ (r : Fin 3), ∀ a, (k0_off358 v3244 (BitVec.ofNat 32 (8 * r.val))) a + S8x128.size a ≤ S102432x128.size a)
theorem k0_off356_inb : ∀ (v3244 : BitVec 32) (k0_hw82 : k0_chk82 v3244), ∀ a, (k0_off356 v3244) a + S1x128.size a ≤ S102432x128.size a := fun v3244 k0_hw82 => k0_hw82.1
theorem k0_off358_inb : ∀ (v3244 : BitVec 32) (k0_hw82 : k0_chk82 v3244), ∀ (r : Fin 3), ∀ a, (k0_off358 v3244 (BitVec.ofNat 32 (8 * r.val))) a + S8x128.size a ≤ S102432x128.size a := fun v3244 k0_hw82 r => k0_hw82.2 r

def k0_off359 (k0_t3 : Fin k0_t3_loop.trips) : Fin 2 → Nat :=
  let c6_1127 : Index := 6#32
  let c0_i32_1030 : BitVec 32 := 0#32
  let c0_i32_16 : BitVec 32 := 0#32
  let c1_i32_18 : BitVec 32 := 1#32
  let arg20 : BitVec 32 := Scf.iv c0_i32_16 c1_i32_18 k0_t3
  let c8_i32_1029 : BitVec 32 := 8#32
  let v2993 : BitVec 32 := Scalar.muli arg20 c8_i32_1029
  let v2994 : BitVec 32 := Scalar.addi c0_i32_1030 v2993
  let c7_i32 : BitVec 32 := 7#32
  let v2995 : BitVec 32 := Scalar.addi v2994 c7_i32
  let v3293 : Index := Scalar.indexCast v2995
  ![6, v3293.toNat]
def k0_off360 (v3294 : BitVec 32) : Fin 2 → Nat :=
  let c24_i32_1128 : BitVec 32 := 24#32
  let v3295 : BitVec 32 := Scalar.addi v3294 c24_i32_1128
  let v3296 : Index := Scalar.indexCast v3295
  let c0_1129 : Index := 0#32
  ![v3296.toNat, 0]

def k0_off361 (k0_t3 : Fin k0_t3_loop.trips) : Fin 2 → Nat :=
  let c6_1130 : Index := 6#32
  let c0_i32_1030 : BitVec 32 := 0#32
  let c0_i32_16 : BitVec 32 := 0#32
  let c1_i32_18 : BitVec 32 := 1#32
  let arg20 : BitVec 32 := Scf.iv c0_i32_16 c1_i32_18 k0_t3
  let c8_i32_1029 : BitVec 32 := 8#32
  let v2993 : BitVec 32 := Scalar.muli arg20 c8_i32_1029
  let v2994 : BitVec 32 := Scalar.addi c0_i32_1030 v2993
  let c7_i32 : BitVec 32 := 7#32
  let v2995 : BitVec 32 := Scalar.addi v2994 c7_i32
  let v3298 : Index := Scalar.indexCast v2995
  ![6, v3298.toNat]
def k0_off362 (v3294 : BitVec 32) (c0_i32_1133 : BitVec 32) : Fin 2 → Nat :=
  let v3312 : BitVec 32 := Scalar.addi v3294 c0_i32_1133
  let v3313 : Index := Scalar.indexCast v3312
  let c0_1134 : Index := 0#32
  ![v3313.toNat, 0]

def k0_chk83 (v3294 : BitVec 32) : Prop :=
  (∀ a, (k0_off360 v3294) a + S1x128.size a ≤ S102432x128.size a) ∧
  (∀ (r : Fin 3), ∀ a, (k0_off362 v3294 (BitVec.ofNat 32 (8 * r.val))) a + S8x128.size a ≤ S102432x128.size a)
theorem k0_off360_inb : ∀ (v3294 : BitVec 32) (k0_hw83 : k0_chk83 v3294), ∀ a, (k0_off360 v3294) a + S1x128.size a ≤ S102432x128.size a := fun v3294 k0_hw83 => k0_hw83.1
theorem k0_off362_inb : ∀ (v3294 : BitVec 32) (k0_hw83 : k0_chk83 v3294), ∀ (r : Fin 3), ∀ a, (k0_off362 v3294 (BitVec.ofNat 32 (8 * r.val))) a + S8x128.size a ≤ S102432x128.size a := fun v3294 k0_hw83 r => k0_hw83.2 r

def k0_off363 (k0_t3 : Fin k0_t3_loop.trips) : Fin 2 → Nat :=
  let c7_1143 : Index := 7#32
  let c0_i32_1030 : BitVec 32 := 0#32
  let c0_i32_16 : BitVec 32 := 0#32
  let c1_i32_18 : BitVec 32 := 1#32
  let arg20 : BitVec 32 := Scf.iv c0_i32_16 c1_i32_18 k0_t3
  let c8_i32_1029 : BitVec 32 := 8#32
  let v2993 : BitVec 32 := Scalar.muli arg20 c8_i32_1029
  let v2994 : BitVec 32 := Scalar.addi c0_i32_1030 v2993
  let c7_i32 : BitVec 32 := 7#32
  let v2995 : BitVec 32 := Scalar.addi v2994 c7_i32
  let v3343 : Index := Scalar.indexCast v2995
  ![7, v3343.toNat]
def k0_off364 (v3344 : BitVec 32) : Fin 2 → Nat :=
  let c24_i32_1144 : BitVec 32 := 24#32
  let v3345 : BitVec 32 := Scalar.addi v3344 c24_i32_1144
  let v3346 : Index := Scalar.indexCast v3345
  let c0_1145 : Index := 0#32
  ![v3346.toNat, 0]

def k0_off365 (k0_t3 : Fin k0_t3_loop.trips) : Fin 2 → Nat :=
  let c7_1146 : Index := 7#32
  let c0_i32_1030 : BitVec 32 := 0#32
  let c0_i32_16 : BitVec 32 := 0#32
  let c1_i32_18 : BitVec 32 := 1#32
  let arg20 : BitVec 32 := Scf.iv c0_i32_16 c1_i32_18 k0_t3
  let c8_i32_1029 : BitVec 32 := 8#32
  let v2993 : BitVec 32 := Scalar.muli arg20 c8_i32_1029
  let v2994 : BitVec 32 := Scalar.addi c0_i32_1030 v2993
  let c7_i32 : BitVec 32 := 7#32
  let v2995 : BitVec 32 := Scalar.addi v2994 c7_i32
  let v3348 : Index := Scalar.indexCast v2995
  ![7, v3348.toNat]
def k0_off366 (v3344 : BitVec 32) (c0_i32_1149 : BitVec 32) : Fin 2 → Nat :=
  let v3362 : BitVec 32 := Scalar.addi v3344 c0_i32_1149
  let v3363 : Index := Scalar.indexCast v3362
  let c0_1150 : Index := 0#32
  ![v3363.toNat, 0]

def k0_chk84 (v3344 : BitVec 32) : Prop :=
  (∀ a, (k0_off364 v3344) a + S1x128.size a ≤ S102432x128.size a) ∧
  (∀ (r : Fin 3), ∀ a, (k0_off366 v3344 (BitVec.ofNat 32 (8 * r.val))) a + S8x128.size a ≤ S102432x128.size a)
theorem k0_off364_inb : ∀ (v3344 : BitVec 32) (k0_hw84 : k0_chk84 v3344), ∀ a, (k0_off364 v3344) a + S1x128.size a ≤ S102432x128.size a := fun v3344 k0_hw84 => k0_hw84.1
theorem k0_off366_inb : ∀ (v3344 : BitVec 32) (k0_hw84 : k0_chk84 v3344), ∀ (r : Fin 3), ∀ a, (k0_off366 v3344 (BitVec.ofNat 32 (8 * r.val))) a + S8x128.size a ≤ S102432x128.size a := fun v3344 k0_hw84 r => k0_hw84.2 r

def k0_off367 (k0_t3 : Fin k0_t3_loop.trips) (c0_i32_1160 : BitVec 32) : Fin 2 → Nat :=
  let c0_i32_1030 : BitVec 32 := 0#32
  let c0_i32_16 : BitVec 32 := 0#32
  let c1_i32_18 : BitVec 32 := 1#32
  let arg20 : BitVec 32 := Scf.iv c0_i32_16 c1_i32_18 k0_t3
  let c8_i32_1029 : BitVec 32 := 8#32
  let v2993 : BitVec 32 := Scalar.muli arg20 c8_i32_1029
  let v2994 : BitVec 32 := Scalar.addi c0_i32_1030 v2993
  let c7_i32 : BitVec 32 := 7#32
  let v2995 : BitVec 32 := Scalar.addi v2994 c7_i32
  let c25_i32_1159 : BitVec 32 := 25#32
  let v3393 : BitVec 32 := Scalar.muli v2995 c25_i32_1159
  let v3394 : BitVec 32 := Scalar.addi v3393 c0_i32_1160
  let v3395 : Index := Scalar.indexCast v3394
  let c0_1161 : Index := 0#32
  ![v3395.toNat, 0]
@[reducible] def k0_t4_loop (v39 : BitVec 32) : Scf.Loop 32 :=
  let c0_i32_23 : BitVec 32 := 0#32
  let v40 : BitVec 32 := Scalar.subi v39 c0_i32_23
  let c1_i32_25 : BitVec 32 := 1#32
  let v42 : BitVec 32 := Scalar.divsi v40 c1_i32_25
  let v43 : BitVec 32 := Scalar.muli v42 c1_i32_25
  let v44 : BitVec 32 := Scalar.addi c0_i32_23 v43
  let c1_i32_26 : BitVec 32 := 1#32
  ⟨c0_i32_23, v44, c1_i32_26⟩

def k0_off368 (v39 : BitVec 32) (k0_t4 : Fin (k0_t4_loop v39).trips) : Fin 3 → Nat :=
  let c0_60 : Index := 0#32
  let c1_61 : Index := 1#32
  let c0_i32_23 : BitVec 32 := 0#32
  let c1_i32_26 : BitVec 32 := 1#32
  let arg20 : BitVec 32 := Scf.iv c0_i32_23 c1_i32_26 k0_t4
  let v67 : Index := Scalar.indexCast arg20
  ![0, 1, v67.toNat]
def k0_mult6 : BitVec 32 :=
  let c0_i32_391 : BitVec 32 := 0#32
  c0_i32_391
def k0_off369 (v71 : BitVec 32) : Fin 1 → Nat :=
  let c16_i32_63 : BitVec 32 := 16#32
  let v72 : BitVec 32 := Scalar.remsi v71 c16_i32_63
  ![v72.toNat]
def k0_cond10 (v68 : BitVec 32) : BitVec 1 :=
  let c6_i32 : BitVec 32 := 6#32
  let v69 : BitVec 32 := Scalar.shrsi v68 c6_i32
  let c7782_i32 : BitVec 32 := 7782#32
  let v73 : BitVec 1 := Scalar.cmpi .slt v69 c7782_i32
  let v74 : BitVec 32 := Scalar.extui v73
  let c0_i32_64 : BitVec 32 := 0#32
  let v75 : BitVec 1 := Scalar.cmpi .ne v74 c0_i32_64
  v75

def k0_off370 (v71 : BitVec 32) : Fin 3 → Nat :=
  let c16_i32_63 : BitVec 32 := 16#32
  let v72 : BitVec 32 := Scalar.remsi v71 c16_i32_63
  let c0_i32_392 : BitVec 32 := 0#32
  let c0_i32_393 : BitVec 32 := 0#32
  ![v72.toNat, 0, 0]
def k0_off371 (v71 : BitVec 32) : Fin 3 → Nat :=
  let c16_i32_63 : BitVec 32 := 16#32
  let v72 : BitVec 32 := Scalar.remsi v71 c16_i32_63
  let c0_i32_395 : BitVec 32 := 0#32
  let c0_i32_396 : BitVec 32 := 0#32
  ![v72.toNat, 0, 0]
def k0_off372 (v71 : BitVec 32) : Fin 3 → Nat :=
  let c16_i32_63 : BitVec 32 := 16#32
  let v72 : BitVec 32 := Scalar.remsi v71 c16_i32_63
  let v917 : Index := Scalar.indexCast v72
  let c0_393 : Index := 0#32
  let c0_394 : Index := 0#32
  ![v917.toNat, 0, 0]
def k0_cond11 (v68 : BitVec 32) : BitVec 1 :=
  let c6_i32 : BitVec 32 := 6#32
  let v69 : BitVec 32 := Scalar.shrsi v68 c6_i32
  let c7782_i32_65 : BitVec 32 := 7782#32
  let v76 : BitVec 1 := Scalar.cmpi .sge v69 c7782_i32_65
  let v77 : BitVec 32 := Scalar.extui v76
  let c0_i32_66 : BitVec 32 := 0#32
  let v78 : BitVec 1 := Scalar.cmpi .ne v77 c0_i32_66
  v78

def k0_off373 (v71 : BitVec 32) : Fin 3 → Nat :=
  let c16_i32_63 : BitVec 32 := 16#32
  let v72 : BitVec 32 := Scalar.remsi v71 c16_i32_63
  let v922 : Index := Scalar.indexCast v72
  let c0_397 : Index := 0#32
  let c0_398 : Index := 0#32
  ![v922.toNat, 0, 0]
def k0_off374 (v71 : BitVec 32) : Fin 3 → Nat :=
  let c16_i32_63 : BitVec 32 := 16#32
  let v72 : BitVec 32 := Scalar.remsi v71 c16_i32_63
  let v84 : Index := Scalar.indexCast v72
  let c0_68 : Index := 0#32
  let c0_69 : Index := 0#32
  ![v84.toNat, 0, 0]
def k0_off375 (v68 : BitVec 32) (c0_i32_70 : BitVec 32) (c0_i32_71 : BitVec 32) : Fin 2 → Nat :=
  let c63_i32 : BitVec 32 := 63#32
  let v70 : BitVec 32 := Scalar.andi v68 c63_i32
  let c64_i32 : BitVec 32 := 64#32
  let v79 : BitVec 32 := Scalar.muli v70 c64_i32
  let c6_i32 : BitVec 32 := 6#32
  let v69 : BitVec 32 := Scalar.shrsi v68 c6_i32
  let c1_i32_67 : BitVec 32 := 1#32
  let v80 : BitVec 32 := Scalar.andi v69 c1_i32_67
  let c32_i32 : BitVec 32 := 32#32
  let v81 : BitVec 32 := Scalar.muli v80 c32_i32
  let v82 : BitVec 32 := Scalar.addi v79 v81
  let c25_i32 : BitVec 32 := 25#32
  let v83 : BitVec 32 := Scalar.muli v82 c25_i32
  let v89 : BitVec 32 := Scalar.addi v83 c0_i32_70
  let v90 : BitVec 32 := Scalar.addi v89 c0_i32_71
  let v91 : Index := Scalar.indexCast v90
  let c0_72 : Index := 0#32
  ![v91.toNat, 0]

def k0_chk87 (v68 : BitVec 32) : Prop :=
  (∀ (r₁ : Fin 4) (r₂ : Fin 25), ∀ a, S8x128.size a = 0 ∨ (k0_off375 v68 (BitVec.ofNat 32 (200 * r₁.val)) (BitVec.ofNat 32 r₂.val)) a + (![25, 1] : Fin 2 → Nat) a * (S8x128.size a - 1) < S102432x128.size a)
theorem k0_off375_inb : ∀ (v68 : BitVec 32) (k0_hw87 : k0_chk87 v68), ∀ (r₁ : Fin 4) (r₂ : Fin 25), ∀ a, S8x128.size a = 0 ∨ (k0_off375 v68 (BitVec.ofNat 32 (200 * r₁.val)) (BitVec.ofNat 32 r₂.val)) a + (![25, 1] : Fin 2 → Nat) a * (S8x128.size a - 1) < S102432x128.size a := fun v68 k0_hw87 r₁ r₂ => k0_hw87 r₁ r₂

def k0_off376 (v71 : BitVec 32) : Fin 3 → Nat :=
  let c16_i32_63 : BitVec 32 := 16#32
  let v72 : BitVec 32 := Scalar.remsi v71 c16_i32_63
  let v116 : Index := Scalar.indexCast v72
  let c0_79 : Index := 0#32
  let c128 : Index := 128#32
  ![v116.toNat, 0, 128]
def k0_off377 (v71 : BitVec 32) : Fin 3 → Nat :=
  let c16_i32_63 : BitVec 32 := 16#32
  let v72 : BitVec 32 := Scalar.remsi v71 c16_i32_63
  let v148 : Index := Scalar.indexCast v72
  let c0_92 : Index := 0#32
  let c256 : Index := 256#32
  ![v148.toNat, 0, 256]
def k0_off378 (v71 : BitVec 32) : Fin 3 → Nat :=
  let c16_i32_63 : BitVec 32 := 16#32
  let v72 : BitVec 32 := Scalar.remsi v71 c16_i32_63
  let v180 : Index := Scalar.indexCast v72
  let c0_104 : Index := 0#32
  let c384 : Index := 384#32
  ![v180.toNat, 0, 384]
def k0_off379 (v71 : BitVec 32) : Fin 3 → Nat :=
  let c16_i32_63 : BitVec 32 := 16#32
  let v72 : BitVec 32 := Scalar.remsi v71 c16_i32_63
  let v212 : Index := Scalar.indexCast v72
  let c0_116 : Index := 0#32
  let c512 : Index := 512#32
  ![v212.toNat, 0, 512]
def k0_off380 (v71 : BitVec 32) : Fin 3 → Nat :=
  let c16_i32_63 : BitVec 32 := 16#32
  let v72 : BitVec 32 := Scalar.remsi v71 c16_i32_63
  let v244 : Index := Scalar.indexCast v72
  let c0_129 : Index := 0#32
  let c640 : Index := 640#32
  ![v244.toNat, 0, 640]
def k0_off381 (v71 : BitVec 32) : Fin 3 → Nat :=
  let c16_i32_63 : BitVec 32 := 16#32
  let v72 : BitVec 32 := Scalar.remsi v71 c16_i32_63
  let v276 : Index := Scalar.indexCast v72
  let c0_141 : Index := 0#32
  let c768 : Index := 768#32
  ![v276.toNat, 0, 768]
def k0_off382 (v71 : BitVec 32) : Fin 3 → Nat :=
  let c16_i32_63 : BitVec 32 := 16#32
  let v72 : BitVec 32 := Scalar.remsi v71 c16_i32_63
  let v308 : Index := Scalar.indexCast v72
  let c0_154 : Index := 0#32
  let c896 : Index := 896#32
  ![v308.toNat, 0, 896]
def k0_off383 (v71 : BitVec 32) : Fin 3 → Nat :=
  let c16_i32_63 : BitVec 32 := 16#32
  let v72 : BitVec 32 := Scalar.remsi v71 c16_i32_63
  let v340 : Index := Scalar.indexCast v72
  let c0_166 : Index := 0#32
  let c1024 : Index := 1024#32
  ![v340.toNat, 0, 1024]
def k0_off384 (v71 : BitVec 32) : Fin 3 → Nat :=
  let c16_i32_63 : BitVec 32 := 16#32
  let v72 : BitVec 32 := Scalar.remsi v71 c16_i32_63
  let v372 : Index := Scalar.indexCast v72
  let c0_179 : Index := 0#32
  let c1152 : Index := 1152#32
  ![v372.toNat, 0, 1152]
def k0_off385 (v71 : BitVec 32) : Fin 3 → Nat :=
  let c16_i32_63 : BitVec 32 := 16#32
  let v72 : BitVec 32 := Scalar.remsi v71 c16_i32_63
  let v404 : Index := Scalar.indexCast v72
  let c0_191 : Index := 0#32
  let c1280 : Index := 1280#32
  ![v404.toNat, 0, 1280]
def k0_off386 (v71 : BitVec 32) : Fin 3 → Nat :=
  let c16_i32_63 : BitVec 32 := 16#32
  let v72 : BitVec 32 := Scalar.remsi v71 c16_i32_63
  let v436 : Index := Scalar.indexCast v72
  let c0_203 : Index := 0#32
  let c1408 : Index := 1408#32
  ![v436.toNat, 0, 1408]
def k0_off387 (v71 : BitVec 32) : Fin 3 → Nat :=
  let c16_i32_63 : BitVec 32 := 16#32
  let v72 : BitVec 32 := Scalar.remsi v71 c16_i32_63
  let v468 : Index := Scalar.indexCast v72
  let c0_215 : Index := 0#32
  let c1536 : Index := 1536#32
  ![v468.toNat, 0, 1536]
def k0_off388 (v71 : BitVec 32) : Fin 3 → Nat :=
  let c16_i32_63 : BitVec 32 := 16#32
  let v72 : BitVec 32 := Scalar.remsi v71 c16_i32_63
  let v500 : Index := Scalar.indexCast v72
  let c0_227 : Index := 0#32
  let c1664 : Index := 1664#32
  ![v500.toNat, 0, 1664]
def k0_off389 (v71 : BitVec 32) : Fin 3 → Nat :=
  let c16_i32_63 : BitVec 32 := 16#32
  let v72 : BitVec 32 := Scalar.remsi v71 c16_i32_63
  let v532 : Index := Scalar.indexCast v72
  let c0_239 : Index := 0#32
  let c1792 : Index := 1792#32
  ![v532.toNat, 0, 1792]
def k0_off390 (v71 : BitVec 32) : Fin 3 → Nat :=
  let c16_i32_63 : BitVec 32 := 16#32
  let v72 : BitVec 32 := Scalar.remsi v71 c16_i32_63
  let v564 : Index := Scalar.indexCast v72
  let c0_251 : Index := 0#32
  let c1920 : Index := 1920#32
  ![v564.toNat, 0, 1920]
def k0_off391 (v71 : BitVec 32) : Fin 3 → Nat :=
  let c16_i32_63 : BitVec 32 := 16#32
  let v72 : BitVec 32 := Scalar.remsi v71 c16_i32_63
  let v596 : Index := Scalar.indexCast v72
  let c0_263 : Index := 0#32
  let c2048 : Index := 2048#32
  ![v596.toNat, 0, 2048]
def k0_off392 (v71 : BitVec 32) : Fin 3 → Nat :=
  let c16_i32_63 : BitVec 32 := 16#32
  let v72 : BitVec 32 := Scalar.remsi v71 c16_i32_63
  let v628 : Index := Scalar.indexCast v72
  let c0_276 : Index := 0#32
  let c2176 : Index := 2176#32
  ![v628.toNat, 0, 2176]
def k0_off393 (v71 : BitVec 32) : Fin 3 → Nat :=
  let c16_i32_63 : BitVec 32 := 16#32
  let v72 : BitVec 32 := Scalar.remsi v71 c16_i32_63
  let v660 : Index := Scalar.indexCast v72
  let c0_288 : Index := 0#32
  let c2304 : Index := 2304#32
  ![v660.toNat, 0, 2304]
def k0_off394 (v71 : BitVec 32) : Fin 3 → Nat :=
  let c16_i32_63 : BitVec 32 := 16#32
  let v72 : BitVec 32 := Scalar.remsi v71 c16_i32_63
  let v692 : Index := Scalar.indexCast v72
  let c0_300 : Index := 0#32
  let c2432 : Index := 2432#32
  ![v692.toNat, 0, 2432]
def k0_off395 (v71 : BitVec 32) : Fin 3 → Nat :=
  let c16_i32_63 : BitVec 32 := 16#32
  let v72 : BitVec 32 := Scalar.remsi v71 c16_i32_63
  let v724 : Index := Scalar.indexCast v72
  let c0_312 : Index := 0#32
  let c2560 : Index := 2560#32
  ![v724.toNat, 0, 2560]
def k0_off396 (v71 : BitVec 32) : Fin 3 → Nat :=
  let c16_i32_63 : BitVec 32 := 16#32
  let v72 : BitVec 32 := Scalar.remsi v71 c16_i32_63
  let v756 : Index := Scalar.indexCast v72
  let c0_324 : Index := 0#32
  let c2688 : Index := 2688#32
  ![v756.toNat, 0, 2688]
def k0_off397 (v71 : BitVec 32) : Fin 3 → Nat :=
  let c16_i32_63 : BitVec 32 := 16#32
  let v72 : BitVec 32 := Scalar.remsi v71 c16_i32_63
  let v788 : Index := Scalar.indexCast v72
  let c0_336 : Index := 0#32
  let c2816 : Index := 2816#32
  ![v788.toNat, 0, 2816]
def k0_off398 (v71 : BitVec 32) : Fin 3 → Nat :=
  let c16_i32_63 : BitVec 32 := 16#32
  let v72 : BitVec 32 := Scalar.remsi v71 c16_i32_63
  let v820 : Index := Scalar.indexCast v72
  let c0_348 : Index := 0#32
  let c2944 : Index := 2944#32
  ![v820.toNat, 0, 2944]
def k0_off399 (v71 : BitVec 32) : Fin 3 → Nat :=
  let c16_i32_63 : BitVec 32 := 16#32
  let v72 : BitVec 32 := Scalar.remsi v71 c16_i32_63
  let v852 : Index := Scalar.indexCast v72
  let c0_360 : Index := 0#32
  let c0_361 : Index := 0#32
  ![v852.toNat, 0, 0]
def k0_off400 (v71 : BitVec 32) : Fin 3 → Nat :=
  let c16_i32_63 : BitVec 32 := 16#32
  let v72 : BitVec 32 := Scalar.remsi v71 c16_i32_63
  let v864 : Index := Scalar.indexCast v72
  let c8 : Index := 8#32
  let c0_365 : Index := 0#32
  ![v864.toNat, 8, 0]
def k0_off401 (v71 : BitVec 32) : Fin 3 → Nat :=
  let c16_i32_63 : BitVec 32 := 16#32
  let v72 : BitVec 32 := Scalar.remsi v71 c16_i32_63
  let v876 : Index := Scalar.indexCast v72
  let c16 : Index := 16#32
  let c0_370 : Index := 0#32
  ![v876.toNat, 16, 0]
def k0_off402 (v71 : BitVec 32) : Fin 3 → Nat :=
  let c16_i32_63 : BitVec 32 := 16#32
  let v72 : BitVec 32 := Scalar.remsi v71 c16_i32_63
  let v888 : Index := Scalar.indexCast v72
  let c24 : Index := 24#32
  let c0_375 : Index := 0#32
  ![v888.toNat, 24, 0]

def k0_chk86_0 (v68 : BitVec 32) (v71 : BitVec 32) : Prop :=
  (∀ (k0_h10 : k0_cond10 v68 = 1#1), ∀ a, (k0_off369 v71) a + S1.size a ≤ S16.size a) ∧
  (∀ (k0_h10 : k0_cond10 v68 = 1#1), ∀ a, (k0_off370 v71) a + S1x32x3072.size a ≤ S16x32x3072.size a) ∧
  (∀ (k0_h10 : k0_cond10 v68 = 1#1), ∀ (hinb : ∀ a, (k0_off370 v71) a + S1x32x3072.size a ≤ S16x32x3072.size a), (Rect.unit (s := S16x32x3072) (k0_off370 v71) S1x32x3072.size hinb).WholeWords (EltTy.packing .fp8e4m3)) ∧
  (∀ (k0_h10 : k0_cond10 v68 = 1#1), ∀ a, (k0_off371 v71) a + S1x32x24.size a ≤ S16x32x24.size a) ∧
  (∀ (k0_h11 : k0_cond11 v68 = 1#1), ∀ a, (k0_off372 v71) a + S1x32x3072.size a ≤ S16x32x3072.size a) ∧
  (∀ (k0_h11 : k0_cond11 v68 = 1#1), ∀ (hinb : ∀ a, (k0_off372 v71) a + S1x32x3072.size a ≤ S16x32x3072.size a), (Rect.unit (s := S16x32x3072) (k0_off372 v71) S1x32x3072.size hinb).PackedRows (EltTy.packing .fp8e4m3)) ∧
  (∀ (k0_h11 : k0_cond11 v68 = 1#1), ∀ a, (k0_off373 v71) a + S1x32x24.size a ≤ S16x32x24.size a) ∧
  (∀ a, (k0_off374 v71) a + S1x32x128.size a ≤ S16x32x3072.size a) ∧
  (∀ a, (k0_off376 v71) a + S1x32x128.size a ≤ S16x32x3072.size a) ∧
  (∀ a, (k0_off377 v71) a + S1x32x128.size a ≤ S16x32x3072.size a) ∧
  (∀ a, (k0_off378 v71) a + S1x32x128.size a ≤ S16x32x3072.size a) ∧
  (∀ a, (k0_off379 v71) a + S1x32x128.size a ≤ S16x32x3072.size a) ∧
  (∀ a, (k0_off380 v71) a + S1x32x128.size a ≤ S16x32x3072.size a) ∧
  (∀ a, (k0_off381 v71) a + S1x32x128.size a ≤ S16x32x3072.size a) ∧
  (∀ a, (k0_off382 v71) a + S1x32x128.size a ≤ S16x32x3072.size a) ∧
  (∀ a, (k0_off383 v71) a + S1x32x128.size a ≤ S16x32x3072.size a) ∧
  (∀ a, (k0_off384 v71) a + S1x32x128.size a ≤ S16x32x3072.size a) ∧
  (∀ a, (k0_off385 v71) a + S1x32x128.size a ≤ S16x32x3072.size a) ∧
  (∀ a, (k0_off386 v71) a + S1x32x128.size a ≤ S16x32x3072.size a) ∧
  (∀ a, (k0_off387 v71) a + S1x32x128.size a ≤ S16x32x3072.size a) ∧
  (∀ a, (k0_off388 v71) a + S1x32x128.size a ≤ S16x32x3072.size a) ∧
  (∀ a, (k0_off389 v71) a + S1x32x128.size a ≤ S16x32x3072.size a) ∧
  (∀ a, (k0_off390 v71) a + S1x32x128.size a ≤ S16x32x3072.size a) ∧
  (∀ a, (k0_off391 v71) a + S1x32x128.size a ≤ S16x32x3072.size a) ∧
  (∀ a, (k0_off392 v71) a + S1x32x128.size a ≤ S16x32x3072.size a) ∧
  (∀ a, (k0_off393 v71) a + S1x32x128.size a ≤ S16x32x3072.size a) ∧
  (∀ a, (k0_off394 v71) a + S1x32x128.size a ≤ S16x32x3072.size a) ∧
  (∀ a, (k0_off395 v71) a + S1x32x128.size a ≤ S16x32x3072.size a) ∧
  (∀ a, (k0_off396 v71) a + S1x32x128.size a ≤ S16x32x3072.size a) ∧
  (∀ a, (k0_off397 v71) a + S1x32x128.size a ≤ S16x32x3072.size a) ∧
  (∀ a, (k0_off398 v71) a + S1x32x128.size a ≤ S16x32x3072.size a) ∧
  (∀ a, (k0_off399 v71) a + S1x8x24.size a ≤ S16x32x24.size a)
def k0_chk86_1 (v68 : BitVec 32) (v71 : BitVec 32) : Prop :=
  (∀ a, (k0_off400 v71) a + S1x8x24.size a ≤ S16x32x24.size a) ∧
  (∀ a, (k0_off401 v71) a + S1x8x24.size a ≤ S16x32x24.size a) ∧
  (∀ a, (k0_off402 v71) a + S1x8x24.size a ≤ S16x32x24.size a)
def k0_chk86 (v68 : BitVec 32) (v71 : BitVec 32) : Prop :=
  k0_chk86_0 v68 v71 ∧
  k0_chk86_1 v68 v71
theorem k0_off369_inb : ∀ (v68 : BitVec 32) (v71 : BitVec 32) (k0_hw86 : k0_chk86 v68 v71), ∀ (k0_h10 : k0_cond10 v68 = 1#1), ∀ a, (k0_off369 v71) a + S1.size a ≤ S16.size a := fun v68 v71 k0_hw86 k0_h10 => k0_hw86.1.1 k0_h10
theorem k0_off370_inb : ∀ (v68 : BitVec 32) (v71 : BitVec 32) (k0_hw86 : k0_chk86 v68 v71), ∀ (k0_h10 : k0_cond10 v68 = 1#1), ∀ a, (k0_off370 v71) a + S1x32x3072.size a ≤ S16x32x3072.size a := fun v68 v71 k0_hw86 k0_h10 => k0_hw86.1.2.1 k0_h10
theorem k0_off370_wordsfp8e4m3 : ∀ (v68 : BitVec 32) (v71 : BitVec 32) (k0_hw86 : k0_chk86 v68 v71), ∀ (k0_h10 : k0_cond10 v68 = 1#1), (Rect.unit (s := S16x32x3072) (k0_off370 v71) S1x32x3072.size (k0_off370_inb v68 v71 k0_hw86 k0_h10)).WholeWords (EltTy.packing .fp8e4m3) := fun v68 v71 k0_hw86 k0_h10 => k0_hw86.1.2.2.1 k0_h10 (k0_off370_inb v68 v71 k0_hw86 k0_h10)
theorem k0_off371_inb : ∀ (v68 : BitVec 32) (v71 : BitVec 32) (k0_hw86 : k0_chk86 v68 v71), ∀ (k0_h10 : k0_cond10 v68 = 1#1), ∀ a, (k0_off371 v71) a + S1x32x24.size a ≤ S16x32x24.size a := fun v68 v71 k0_hw86 k0_h10 => k0_hw86.1.2.2.2.1 k0_h10
theorem k0_off372_inb : ∀ (v68 : BitVec 32) (v71 : BitVec 32) (k0_hw86 : k0_chk86 v68 v71), ∀ (k0_h11 : k0_cond11 v68 = 1#1), ∀ a, (k0_off372 v71) a + S1x32x3072.size a ≤ S16x32x3072.size a := fun v68 v71 k0_hw86 k0_h11 => k0_hw86.1.2.2.2.2.1 k0_h11
theorem k0_off372_packedfp8e4m3 : ∀ (v68 : BitVec 32) (v71 : BitVec 32) (k0_hw86 : k0_chk86 v68 v71), ∀ (k0_h11 : k0_cond11 v68 = 1#1), (Rect.unit (s := S16x32x3072) (k0_off372 v71) S1x32x3072.size (k0_off372_inb v68 v71 k0_hw86 k0_h11)).PackedRows (EltTy.packing .fp8e4m3) := fun v68 v71 k0_hw86 k0_h11 => k0_hw86.1.2.2.2.2.2.1 k0_h11 (k0_off372_inb v68 v71 k0_hw86 k0_h11)
theorem k0_off373_inb : ∀ (v68 : BitVec 32) (v71 : BitVec 32) (k0_hw86 : k0_chk86 v68 v71), ∀ (k0_h11 : k0_cond11 v68 = 1#1), ∀ a, (k0_off373 v71) a + S1x32x24.size a ≤ S16x32x24.size a := fun v68 v71 k0_hw86 k0_h11 => k0_hw86.1.2.2.2.2.2.2.1 k0_h11
theorem k0_off374_inb : ∀ (v68 : BitVec 32) (v71 : BitVec 32) (k0_hw86 : k0_chk86 v68 v71), ∀ a, (k0_off374 v71) a + S1x32x128.size a ≤ S16x32x3072.size a := fun v68 v71 k0_hw86 => k0_hw86.1.2.2.2.2.2.2.2.1
theorem k0_off376_inb : ∀ (v68 : BitVec 32) (v71 : BitVec 32) (k0_hw86 : k0_chk86 v68 v71), ∀ a, (k0_off376 v71) a + S1x32x128.size a ≤ S16x32x3072.size a := fun v68 v71 k0_hw86 => k0_hw86.1.2.2.2.2.2.2.2.2.1
theorem k0_off377_inb : ∀ (v68 : BitVec 32) (v71 : BitVec 32) (k0_hw86 : k0_chk86 v68 v71), ∀ a, (k0_off377 v71) a + S1x32x128.size a ≤ S16x32x3072.size a := fun v68 v71 k0_hw86 => k0_hw86.1.2.2.2.2.2.2.2.2.2.1
theorem k0_off378_inb : ∀ (v68 : BitVec 32) (v71 : BitVec 32) (k0_hw86 : k0_chk86 v68 v71), ∀ a, (k0_off378 v71) a + S1x32x128.size a ≤ S16x32x3072.size a := fun v68 v71 k0_hw86 => k0_hw86.1.2.2.2.2.2.2.2.2.2.2.1
theorem k0_off379_inb : ∀ (v68 : BitVec 32) (v71 : BitVec 32) (k0_hw86 : k0_chk86 v68 v71), ∀ a, (k0_off379 v71) a + S1x32x128.size a ≤ S16x32x3072.size a := fun v68 v71 k0_hw86 => k0_hw86.1.2.2.2.2.2.2.2.2.2.2.2.1
theorem k0_off380_inb : ∀ (v68 : BitVec 32) (v71 : BitVec 32) (k0_hw86 : k0_chk86 v68 v71), ∀ a, (k0_off380 v71) a + S1x32x128.size a ≤ S16x32x3072.size a := fun v68 v71 k0_hw86 => k0_hw86.1.2.2.2.2.2.2.2.2.2.2.2.2.1
theorem k0_off381_inb : ∀ (v68 : BitVec 32) (v71 : BitVec 32) (k0_hw86 : k0_chk86 v68 v71), ∀ a, (k0_off381 v71) a + S1x32x128.size a ≤ S16x32x3072.size a := fun v68 v71 k0_hw86 => k0_hw86.1.2.2.2.2.2.2.2.2.2.2.2.2.2.1
theorem k0_off382_inb : ∀ (v68 : BitVec 32) (v71 : BitVec 32) (k0_hw86 : k0_chk86 v68 v71), ∀ a, (k0_off382 v71) a + S1x32x128.size a ≤ S16x32x3072.size a := fun v68 v71 k0_hw86 => k0_hw86.1.2.2.2.2.2.2.2.2.2.2.2.2.2.2.1
theorem k0_off383_inb : ∀ (v68 : BitVec 32) (v71 : BitVec 32) (k0_hw86 : k0_chk86 v68 v71), ∀ a, (k0_off383 v71) a + S1x32x128.size a ≤ S16x32x3072.size a := fun v68 v71 k0_hw86 => k0_hw86.1.2.2.2.2.2.2.2.2.2.2.2.2.2.2.2.1
theorem k0_off384_inb : ∀ (v68 : BitVec 32) (v71 : BitVec 32) (k0_hw86 : k0_chk86 v68 v71), ∀ a, (k0_off384 v71) a + S1x32x128.size a ≤ S16x32x3072.size a := fun v68 v71 k0_hw86 => k0_hw86.1.2.2.2.2.2.2.2.2.2.2.2.2.2.2.2.2.1
theorem k0_off385_inb : ∀ (v68 : BitVec 32) (v71 : BitVec 32) (k0_hw86 : k0_chk86 v68 v71), ∀ a, (k0_off385 v71) a + S1x32x128.size a ≤ S16x32x3072.size a := fun v68 v71 k0_hw86 => k0_hw86.1.2.2.2.2.2.2.2.2.2.2.2.2.2.2.2.2.2.1
theorem k0_off386_inb : ∀ (v68 : BitVec 32) (v71 : BitVec 32) (k0_hw86 : k0_chk86 v68 v71), ∀ a, (k0_off386 v71) a + S1x32x128.size a ≤ S16x32x3072.size a := fun v68 v71 k0_hw86 => k0_hw86.1.2.2.2.2.2.2.2.2.2.2.2.2.2.2.2.2.2.2.1
theorem k0_off387_inb : ∀ (v68 : BitVec 32) (v71 : BitVec 32) (k0_hw86 : k0_chk86 v68 v71), ∀ a, (k0_off387 v71) a + S1x32x128.size a ≤ S16x32x3072.size a := fun v68 v71 k0_hw86 => k0_hw86.1.2.2.2.2.2.2.2.2.2.2.2.2.2.2.2.2.2.2.2.1
theorem k0_off388_inb : ∀ (v68 : BitVec 32) (v71 : BitVec 32) (k0_hw86 : k0_chk86 v68 v71), ∀ a, (k0_off388 v71) a + S1x32x128.size a ≤ S16x32x3072.size a := fun v68 v71 k0_hw86 => k0_hw86.1.2.2.2.2.2.2.2.2.2.2.2.2.2.2.2.2.2.2.2.2.1
theorem k0_off389_inb : ∀ (v68 : BitVec 32) (v71 : BitVec 32) (k0_hw86 : k0_chk86 v68 v71), ∀ a, (k0_off389 v71) a + S1x32x128.size a ≤ S16x32x3072.size a := fun v68 v71 k0_hw86 => k0_hw86.1.2.2.2.2.2.2.2.2.2.2.2.2.2.2.2.2.2.2.2.2.2.1
theorem k0_off390_inb : ∀ (v68 : BitVec 32) (v71 : BitVec 32) (k0_hw86 : k0_chk86 v68 v71), ∀ a, (k0_off390 v71) a + S1x32x128.size a ≤ S16x32x3072.size a := fun v68 v71 k0_hw86 => k0_hw86.1.2.2.2.2.2.2.2.2.2.2.2.2.2.2.2.2.2.2.2.2.2.2.1
theorem k0_off391_inb : ∀ (v68 : BitVec 32) (v71 : BitVec 32) (k0_hw86 : k0_chk86 v68 v71), ∀ a, (k0_off391 v71) a + S1x32x128.size a ≤ S16x32x3072.size a := fun v68 v71 k0_hw86 => k0_hw86.1.2.2.2.2.2.2.2.2.2.2.2.2.2.2.2.2.2.2.2.2.2.2.2.1
theorem k0_off392_inb : ∀ (v68 : BitVec 32) (v71 : BitVec 32) (k0_hw86 : k0_chk86 v68 v71), ∀ a, (k0_off392 v71) a + S1x32x128.size a ≤ S16x32x3072.size a := fun v68 v71 k0_hw86 => k0_hw86.1.2.2.2.2.2.2.2.2.2.2.2.2.2.2.2.2.2.2.2.2.2.2.2.2.1
theorem k0_off393_inb : ∀ (v68 : BitVec 32) (v71 : BitVec 32) (k0_hw86 : k0_chk86 v68 v71), ∀ a, (k0_off393 v71) a + S1x32x128.size a ≤ S16x32x3072.size a := fun v68 v71 k0_hw86 => k0_hw86.1.2.2.2.2.2.2.2.2.2.2.2.2.2.2.2.2.2.2.2.2.2.2.2.2.2.1
theorem k0_off394_inb : ∀ (v68 : BitVec 32) (v71 : BitVec 32) (k0_hw86 : k0_chk86 v68 v71), ∀ a, (k0_off394 v71) a + S1x32x128.size a ≤ S16x32x3072.size a := fun v68 v71 k0_hw86 => k0_hw86.1.2.2.2.2.2.2.2.2.2.2.2.2.2.2.2.2.2.2.2.2.2.2.2.2.2.2.1
theorem k0_off395_inb : ∀ (v68 : BitVec 32) (v71 : BitVec 32) (k0_hw86 : k0_chk86 v68 v71), ∀ a, (k0_off395 v71) a + S1x32x128.size a ≤ S16x32x3072.size a := fun v68 v71 k0_hw86 => k0_hw86.1.2.2.2.2.2.2.2.2.2.2.2.2.2.2.2.2.2.2.2.2.2.2.2.2.2.2.2.1
theorem k0_off396_inb : ∀ (v68 : BitVec 32) (v71 : BitVec 32) (k0_hw86 : k0_chk86 v68 v71), ∀ a, (k0_off396 v71) a + S1x32x128.size a ≤ S16x32x3072.size a := fun v68 v71 k0_hw86 => k0_hw86.1.2.2.2.2.2.2.2.2.2.2.2.2.2.2.2.2.2.2.2.2.2.2.2.2.2.2.2.2.1
theorem k0_off397_inb : ∀ (v68 : BitVec 32) (v71 : BitVec 32) (k0_hw86 : k0_chk86 v68 v71), ∀ a, (k0_off397 v71) a + S1x32x128.size a ≤ S16x32x3072.size a := fun v68 v71 k0_hw86 => k0_hw86.1.2.2.2.2.2.2.2.2.2.2.2.2.2.2.2.2.2.2.2.2.2.2.2.2.2.2.2.2.2.1
theorem k0_off398_inb : ∀ (v68 : BitVec 32) (v71 : BitVec 32) (k0_hw86 : k0_chk86 v68 v71), ∀ a, (k0_off398 v71) a + S1x32x128.size a ≤ S16x32x3072.size a := fun v68 v71 k0_hw86 => k0_hw86.1.2.2.2.2.2.2.2.2.2.2.2.2.2.2.2.2.2.2.2.2.2.2.2.2.2.2.2.2.2.2.1
theorem k0_off399_inb : ∀ (v68 : BitVec 32) (v71 : BitVec 32) (k0_hw86 : k0_chk86 v68 v71), ∀ a, (k0_off399 v71) a + S1x8x24.size a ≤ S16x32x24.size a := fun v68 v71 k0_hw86 => k0_hw86.1.2.2.2.2.2.2.2.2.2.2.2.2.2.2.2.2.2.2.2.2.2.2.2.2.2.2.2.2.2.2.2
theorem k0_off400_inb : ∀ (v68 : BitVec 32) (v71 : BitVec 32) (k0_hw86 : k0_chk86 v68 v71), ∀ a, (k0_off400 v71) a + S1x8x24.size a ≤ S16x32x24.size a := fun v68 v71 k0_hw86 => k0_hw86.2.1
theorem k0_off401_inb : ∀ (v68 : BitVec 32) (v71 : BitVec 32) (k0_hw86 : k0_chk86 v68 v71), ∀ a, (k0_off401 v71) a + S1x8x24.size a ≤ S16x32x24.size a := fun v68 v71 k0_hw86 => k0_hw86.2.2.1
theorem k0_off402_inb : ∀ (v68 : BitVec 32) (v71 : BitVec 32) (k0_hw86 : k0_chk86 v68 v71), ∀ a, (k0_off402 v71) a + S1x8x24.size a ≤ S16x32x24.size a := fun v68 v71 k0_hw86 => k0_hw86.2.2.2

def k0_off403 (i : grid0.Coords) (arg22 : BitVec 32) : Fin 3 → Nat :=
  let c0_394 : Index := 0#32
  let c0_395 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_391 : BitVec 32 := 1#32
  let v916 : BitVec 32 := Scalar.subi v5 c1_i32_391
  let v917 : BitVec 32 := Scalar.minsi arg22 v916
  let c4_i32_392 : BitVec 32 := 4#32
  let v918 : BitVec 1 := Scalar.cmpi .slt v917 c4_i32_392
  let c0_i32_393 : BitVec 32 := 0#32
  let v919 : BitVec 32 := Scalar.select v918 v917 c0_i32_393
  let v920 : Index := Scalar.indexCast v919
  ![0, 0, v920.toNat]

def k0_off404 (i : grid0.Coords) (arg22 : BitVec 32) : Fin 3 → Nat :=
  let c0_398 : Index := 0#32
  let c0_399 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_391 : BitVec 32 := 1#32
  let v916 : BitVec 32 := Scalar.subi v5 c1_i32_391
  let v917 : BitVec 32 := Scalar.minsi arg22 v916
  let c4_i32_392 : BitVec 32 := 4#32
  let v918 : BitVec 1 := Scalar.cmpi .slt v917 c4_i32_392
  let c0_i32_397 : BitVec 32 := 0#32
  let c4_i32_396 : BitVec 32 := 4#32
  let v922 : BitVec 32 := Scalar.subi v917 c4_i32_396
  let v923 : BitVec 32 := Scalar.select v918 c0_i32_397 v922
  let v924 : Index := Scalar.indexCast v923
  ![0, 0, v924.toNat]

def k0_chk88 (i : grid0.Coords) (arg22 : BitVec 32) : Prop :=
  (∀ a, (k0_off403 i arg22) a + S1x1x1.size a ≤ S1x1x4.size a) ∧
  (∀ a, (k0_off404 i arg22) a + S1x1x1.size a ≤ S1x1x4.size a)
theorem k0_off403_inb : ∀ (i : grid0.Coords) (arg22 : BitVec 32) (k0_hw88 : k0_chk88 i arg22), ∀ a, (k0_off403 i arg22) a + S1x1x1.size a ≤ S1x1x4.size a := fun i arg22 k0_hw88 => k0_hw88.1
theorem k0_off404_inb : ∀ (i : grid0.Coords) (arg22 : BitVec 32) (k0_hw88 : k0_chk88 i arg22), ∀ a, (k0_off404 i arg22) a + S1x1x1.size a ≤ S1x1x4.size a := fun i arg22 k0_hw88 => k0_hw88.2

def k0_off405 (v915 : BitVec 32) (v916 : BitVec 32) : Fin 3 → Nat :=
  let c0_395 : Index := 0#32
  let c4_i32_393 : BitVec 32 := 4#32
  let v917 : BitVec 1 := Scalar.cmpi .slt v915 c4_i32_393
  let c0_i32_394 : BitVec 32 := 0#32
  let v918 : BitVec 32 := Scalar.select v917 v915 c0_i32_394
  let v919 : Index := Scalar.indexCast v918
  let v920 : Index := Scalar.indexCast v916
  ![0, v919.toNat, v920.toNat]

def k0_off406 (v915 : BitVec 32) (v916 : BitVec 32) : Fin 3 → Nat :=
  let c0_398 : Index := 0#32
  let c4_i32_393 : BitVec 32 := 4#32
  let v917 : BitVec 1 := Scalar.cmpi .slt v915 c4_i32_393
  let c0_i32_397 : BitVec 32 := 0#32
  let c4_i32_396 : BitVec 32 := 4#32
  let v922 : BitVec 32 := Scalar.subi v915 c4_i32_396
  let v923 : BitVec 32 := Scalar.select v917 c0_i32_397 v922
  let v924 : Index := Scalar.indexCast v923
  let v925 : Index := Scalar.indexCast v916
  ![0, v924.toNat, v925.toNat]

def k0_chk89 (v915 : BitVec 32) (v916 : BitVec 32) : Prop :=
  (∀ a, (k0_off405 v915 v916) a + S1x1x1.size a ≤ S1x4x128.size a) ∧
  (∀ a, (k0_off406 v915 v916) a + S1x1x1.size a ≤ S1x4x128.size a)
theorem k0_off405_inb : ∀ (v915 : BitVec 32) (v916 : BitVec 32) (k0_hw89 : k0_chk89 v915 v916), ∀ a, (k0_off405 v915 v916) a + S1x1x1.size a ≤ S1x4x128.size a := fun v915 v916 k0_hw89 => k0_hw89.1
theorem k0_off406_inb : ∀ (v915 : BitVec 32) (v916 : BitVec 32) (k0_hw89 : k0_chk89 v915 v916), ∀ a, (k0_off406 v915 v916) a + S1x1x1.size a ≤ S1x4x128.size a := fun v915 v916 k0_hw89 => k0_hw89.2

def k0_mult7 (v915 : BitVec 32) (v921 : BitVec 32) (v926 : BitVec 32) : BitVec 32 :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  v950
def k0_cond12 (v915 : BitVec 32) (v921 : BitVec 32) (v926 : BitVec 32) : BitVec 1 :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c7782_i32_402 : BitVec 32 := 7782#32
  let v931 : BitVec 1 := Scalar.cmpi .slt v928 c7782_i32_402
  let v932 : BitVec 32 := Scalar.extui v931
  let c0_i32_403 : BitVec 32 := 0#32
  let v933 : BitVec 1 := Scalar.cmpi .ne v932 c0_i32_403
  v933

def k0_off407 (v929 : BitVec 32) : Fin 1 → Nat :=
  let c16_i32_401 : BitVec 32 := 16#32
  let v930 : BitVec 32 := Scalar.remsi v929 c16_i32_401
  ![v930.toNat]

def k0_off408 (v929 : BitVec 32) : Fin 3 → Nat :=
  let c16_i32_401 : BitVec 32 := 16#32
  let v930 : BitVec 32 := Scalar.remsi v929 c16_i32_401
  let c0_i32_417 : BitVec 32 := 0#32
  let c0_i32_418 : BitVec 32 := 0#32
  ![v930.toNat, 0, 0]
def k0_off409 (v915 : BitVec 32) (v921 : BitVec 32) (v926 : BitVec 32) : Fin 2 → Nat :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  let v951 : BitVec 32 := v950
  let c0_i32_419 : BitVec 32 := 0#32
  ![v951.toNat, 0]
def k0_off410 (v929 : BitVec 32) : Fin 3 → Nat :=
  let c16_i32_401 : BitVec 32 := 16#32
  let v930 : BitVec 32 := Scalar.remsi v929 c16_i32_401
  let c0_i32_420 : BitVec 32 := 0#32
  let c0_i32_421 : BitVec 32 := 0#32
  ![v930.toNat, 0, 0]

def k0_chk91 (v915 : BitVec 32) (v921 : BitVec 32) (v926 : BitVec 32) (v929 : BitVec 32) : Prop :=
  (∀ (k0_h12 : k0_cond12 v915 v921 v926 = 1#1), ∀ a, (k0_off407 v929) a + S1.size a ≤ S16.size a) ∧
  (∀ (k0_h12 : k0_cond12 v915 v921 v926 = 1#1), ∀ a, (k0_off408 v929) a + S1x32x3072.size a ≤ S16x32x3072.size a) ∧
  (∀ (k0_h12 : k0_cond12 v915 v921 v926 = 1#1), ∀ (hinb : ∀ a, (k0_off408 v929) a + S1x32x3072.size a ≤ S16x32x3072.size a), (Rect.unit (s := S16x32x3072) (k0_off408 v929) S1x32x3072.size hinb).WholeWords (EltTy.packing .fp8e4m3)) ∧
  (∀ (k0_h12 : k0_cond12 v915 v921 v926 = 1#1), ∀ a, (k0_off410 v929) a + S1x32x24.size a ≤ S16x32x24.size a)
theorem k0_off407_inb : ∀ (v915 : BitVec 32) (v921 : BitVec 32) (v926 : BitVec 32) (v929 : BitVec 32) (k0_hw91 : k0_chk91 v915 v921 v926 v929), ∀ (k0_h12 : k0_cond12 v915 v921 v926 = 1#1), ∀ a, (k0_off407 v929) a + S1.size a ≤ S16.size a := fun v915 v921 v926 v929 k0_hw91 k0_h12 => k0_hw91.1 k0_h12
theorem k0_off408_inb : ∀ (v915 : BitVec 32) (v921 : BitVec 32) (v926 : BitVec 32) (v929 : BitVec 32) (k0_hw91 : k0_chk91 v915 v921 v926 v929), ∀ (k0_h12 : k0_cond12 v915 v921 v926 = 1#1), ∀ a, (k0_off408 v929) a + S1x32x3072.size a ≤ S16x32x3072.size a := fun v915 v921 v926 v929 k0_hw91 k0_h12 => k0_hw91.2.1 k0_h12
theorem k0_off408_wordsfp8e4m3 : ∀ (v915 : BitVec 32) (v921 : BitVec 32) (v926 : BitVec 32) (v929 : BitVec 32) (k0_hw91 : k0_chk91 v915 v921 v926 v929), ∀ (k0_h12 : k0_cond12 v915 v921 v926 = 1#1), (Rect.unit (s := S16x32x3072) (k0_off408 v929) S1x32x3072.size (k0_off408_inb v915 v921 v926 v929 k0_hw91 k0_h12)).WholeWords (EltTy.packing .fp8e4m3) := fun v915 v921 v926 v929 k0_hw91 k0_h12 => k0_hw91.2.2.1 k0_h12 (k0_off408_inb v915 v921 v926 v929 k0_hw91 k0_h12)
theorem k0_off410_inb : ∀ (v915 : BitVec 32) (v921 : BitVec 32) (v926 : BitVec 32) (v929 : BitVec 32) (k0_hw91 : k0_chk91 v915 v921 v926 v929), ∀ (k0_h12 : k0_cond12 v915 v921 v926 = 1#1), ∀ a, (k0_off410 v929) a + S1x32x24.size a ≤ S16x32x24.size a := fun v915 v921 v926 v929 k0_hw91 k0_h12 => k0_hw91.2.2.2 k0_h12

def k0_off411 (v915 : BitVec 32) (v921 : BitVec 32) (v926 : BitVec 32) : Fin 2 → Nat :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  let v951 : BitVec 32 := v950
  let c0_i32_422 : BitVec 32 := 0#32
  ![v951.toNat, 0]

def k0_chk90 (v915 : BitVec 32) (v921 : BitVec 32) (v926 : BitVec 32) : Prop :=
  (∀ (k0_h12 : k0_cond12 v915 v921 v926 = 1#1), 32 ∣ (k0_mult7 v915 v921 v926).toNat) ∧
  (∀ (k0_h12 : k0_cond12 v915 v921 v926 = 1#1), ∀ a, (k0_off409 v915 v921 v926) a + S32x3072.size a ≤ S249037x3072.size a) ∧
  (∀ (k0_h12 : k0_cond12 v915 v921 v926 = 1#1), ∀ (hinb : ∀ a, (k0_off409 v915 v921 v926) a + S32x3072.size a ≤ S249037x3072.size a), (Rect.unit (s := S249037x3072) (k0_off409 v915 v921 v926) S32x3072.size hinb).WholeWords (EltTy.packing .fp8e4m3)) ∧
  (∀ (k0_h12 : k0_cond12 v915 v921 v926 = 1#1), ∀ a, (k0_off411 v915 v921 v926) a + S32x24.size a ≤ S249037x24.size a)
theorem k0_mult7_dvd : ∀ (v915 : BitVec 32) (v921 : BitVec 32) (v926 : BitVec 32) (k0_hw90 : k0_chk90 v915 v921 v926), ∀ (k0_h12 : k0_cond12 v915 v921 v926 = 1#1), 32 ∣ (k0_mult7 v915 v921 v926).toNat := fun v915 v921 v926 k0_hw90 k0_h12 => k0_hw90.1 k0_h12
theorem k0_off409_inb : ∀ (v915 : BitVec 32) (v921 : BitVec 32) (v926 : BitVec 32) (k0_hw90 : k0_chk90 v915 v921 v926), ∀ (k0_h12 : k0_cond12 v915 v921 v926 = 1#1), ∀ a, (k0_off409 v915 v921 v926) a + S32x3072.size a ≤ S249037x3072.size a := fun v915 v921 v926 k0_hw90 k0_h12 => k0_hw90.2.1 k0_h12
theorem k0_off409_wordsfp8e4m3 : ∀ (v915 : BitVec 32) (v921 : BitVec 32) (v926 : BitVec 32) (k0_hw90 : k0_chk90 v915 v921 v926), ∀ (k0_h12 : k0_cond12 v915 v921 v926 = 1#1), (Rect.unit (s := S249037x3072) (k0_off409 v915 v921 v926) S32x3072.size (k0_off409_inb v915 v921 v926 k0_hw90 k0_h12)).WholeWords (EltTy.packing .fp8e4m3) := fun v915 v921 v926 k0_hw90 k0_h12 => k0_hw90.2.2.1 k0_h12 (k0_off409_inb v915 v921 v926 k0_hw90 k0_h12)
theorem k0_off411_inb : ∀ (v915 : BitVec 32) (v921 : BitVec 32) (v926 : BitVec 32) (k0_hw90 : k0_chk90 v915 v921 v926), ∀ (k0_h12 : k0_cond12 v915 v921 v926 = 1#1), ∀ a, (k0_off411 v915 v921 v926) a + S32x24.size a ≤ S249037x24.size a := fun v915 v921 v926 k0_hw90 k0_h12 => k0_hw90.2.2.2 k0_h12

def k0_off412 (i : grid0.Coords) (arg23 : BitVec 32) : Fin 3 → Nat :=
  let c0_419 : Index := 0#32
  let c0_420 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_416 : BitVec 32 := 1#32
  let v951 : BitVec 32 := Scalar.subi v5 c1_i32_416
  let v952 : BitVec 32 := Scalar.minsi arg23 v951
  let c4_i32_417 : BitVec 32 := 4#32
  let v953 : BitVec 1 := Scalar.cmpi .slt v952 c4_i32_417
  let c0_i32_418 : BitVec 32 := 0#32
  let v954 : BitVec 32 := Scalar.select v953 v952 c0_i32_418
  let v955 : Index := Scalar.indexCast v954
  ![0, 0, v955.toNat]

def k0_off413 (i : grid0.Coords) (arg23 : BitVec 32) : Fin 3 → Nat :=
  let c0_423 : Index := 0#32
  let c0_424 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_416 : BitVec 32 := 1#32
  let v951 : BitVec 32 := Scalar.subi v5 c1_i32_416
  let v952 : BitVec 32 := Scalar.minsi arg23 v951
  let c4_i32_417 : BitVec 32 := 4#32
  let v953 : BitVec 1 := Scalar.cmpi .slt v952 c4_i32_417
  let c0_i32_422 : BitVec 32 := 0#32
  let c4_i32_421 : BitVec 32 := 4#32
  let v957 : BitVec 32 := Scalar.subi v952 c4_i32_421
  let v958 : BitVec 32 := Scalar.select v953 c0_i32_422 v957
  let v959 : Index := Scalar.indexCast v958
  ![0, 0, v959.toNat]

def k0_chk92 (i : grid0.Coords) (arg23 : BitVec 32) : Prop :=
  (∀ a, (k0_off412 i arg23) a + S1x1x1.size a ≤ S1x1x4.size a) ∧
  (∀ a, (k0_off413 i arg23) a + S1x1x1.size a ≤ S1x1x4.size a)
theorem k0_off412_inb : ∀ (i : grid0.Coords) (arg23 : BitVec 32) (k0_hw92 : k0_chk92 i arg23), ∀ a, (k0_off412 i arg23) a + S1x1x1.size a ≤ S1x1x4.size a := fun i arg23 k0_hw92 => k0_hw92.1
theorem k0_off413_inb : ∀ (i : grid0.Coords) (arg23 : BitVec 32) (k0_hw92 : k0_chk92 i arg23), ∀ a, (k0_off413 i arg23) a + S1x1x1.size a ≤ S1x1x4.size a := fun i arg23 k0_hw92 => k0_hw92.2

@[reducible] def k0_t5_loop (v39 : BitVec 32) : Scf.Loop 32 :=
  let c0_i32_23 : BitVec 32 := 0#32
  let v40 : BitVec 32 := Scalar.subi v39 c0_i32_23
  let c1_i32_25 : BitVec 32 := 1#32
  let v42 : BitVec 32 := Scalar.divsi v40 c1_i32_25
  let v43 : BitVec 32 := Scalar.muli v42 c1_i32_25
  let v44 : BitVec 32 := Scalar.addi c0_i32_23 v43
  let v41 : BitVec 32 := Scalar.addi c0_i32_23 v40
  let c1_i32_27 : BitVec 32 := 1#32
  ⟨v44, v41, c1_i32_27⟩
def k0_off414 (v39 : BitVec 32) (k0_t5 : Fin (k0_t5_loop v39).trips) : Fin 3 → Nat :=
  let c0_60 : Index := 0#32
  let c1_61 : Index := 1#32
  let c0_i32_23 : BitVec 32 := 0#32
  let v40 : BitVec 32 := Scalar.subi v39 c0_i32_23
  let c1_i32_25 : BitVec 32 := 1#32
  let v42 : BitVec 32 := Scalar.divsi v40 c1_i32_25
  let v43 : BitVec 32 := Scalar.muli v42 c1_i32_25
  let v44 : BitVec 32 := Scalar.addi c0_i32_23 v43
  let c1_i32_27 : BitVec 32 := 1#32
  let arg20 : BitVec 32 := Scf.iv v44 c1_i32_27 k0_t5
  let v67 : Index := Scalar.indexCast arg20
  ![0, 1, v67.toNat]

def k0_chk85 (v39 : BitVec 32) : Prop :=
  ((k0_t4_loop v39).OK) ∧
  (∀ k0_t4 : Fin (k0_t4_loop v39).trips, ∀ a, (k0_off368 v39 k0_t4) a + S1x1x1.size a ≤ S1x4x128.size a) ∧
  ((k0_t5_loop v39).OK) ∧
  (∀ k0_t5 : Fin (k0_t5_loop v39).trips, ∀ a, (k0_off414 v39 k0_t5) a + S1x1x1.size a ≤ S1x4x128.size a)
theorem k0_t4_ok : ∀ (v39 : BitVec 32) (k0_hw85 : k0_chk85 v39), (k0_t4_loop v39).OK := fun v39 k0_hw85 => k0_hw85.1
theorem k0_off368_inb : ∀ (v39 : BitVec 32) (k0_hw85 : k0_chk85 v39) (k0_t4 : Fin (k0_t4_loop v39).trips), ∀ a, (k0_off368 v39 k0_t4) a + S1x1x1.size a ≤ S1x4x128.size a := fun v39 k0_hw85 k0_t4 => k0_hw85.2.1 k0_t4
theorem k0_t5_ok : ∀ (v39 : BitVec 32) (k0_hw85 : k0_chk85 v39), (k0_t5_loop v39).OK := fun v39 k0_hw85 => k0_hw85.2.2.1
theorem k0_off414_inb : ∀ (v39 : BitVec 32) (k0_hw85 : k0_chk85 v39) (k0_t5 : Fin (k0_t5_loop v39).trips), ∀ a, (k0_off414 v39 k0_t5) a + S1x1x1.size a ≤ S1x4x128.size a := fun v39 k0_hw85 k0_t5 => k0_hw85.2.2.2 k0_t5

def k0_mult8 : BitVec 32 :=
  let c0_i32_391 : BitVec 32 := 0#32
  c0_i32_391
def k0_off415 (v71 : BitVec 32) : Fin 1 → Nat :=
  let c16_i32_63 : BitVec 32 := 16#32
  let v72 : BitVec 32 := Scalar.remsi v71 c16_i32_63
  ![v72.toNat]
def k0_cond13 (v68 : BitVec 32) : BitVec 1 :=
  let c6_i32 : BitVec 32 := 6#32
  let v69 : BitVec 32 := Scalar.shrsi v68 c6_i32
  let c7782_i32 : BitVec 32 := 7782#32
  let v73 : BitVec 1 := Scalar.cmpi .slt v69 c7782_i32
  let v74 : BitVec 32 := Scalar.extui v73
  let c0_i32_64 : BitVec 32 := 0#32
  let v75 : BitVec 1 := Scalar.cmpi .ne v74 c0_i32_64
  v75

def k0_off416 (v71 : BitVec 32) : Fin 3 → Nat :=
  let c16_i32_63 : BitVec 32 := 16#32
  let v72 : BitVec 32 := Scalar.remsi v71 c16_i32_63
  let c0_i32_392 : BitVec 32 := 0#32
  let c0_i32_393 : BitVec 32 := 0#32
  ![v72.toNat, 0, 0]
def k0_off417 (v71 : BitVec 32) : Fin 3 → Nat :=
  let c16_i32_63 : BitVec 32 := 16#32
  let v72 : BitVec 32 := Scalar.remsi v71 c16_i32_63
  let c0_i32_395 : BitVec 32 := 0#32
  let c0_i32_396 : BitVec 32 := 0#32
  ![v72.toNat, 0, 0]
def k0_off418 (v71 : BitVec 32) : Fin 3 → Nat :=
  let c16_i32_63 : BitVec 32 := 16#32
  let v72 : BitVec 32 := Scalar.remsi v71 c16_i32_63
  let v917 : Index := Scalar.indexCast v72
  let c0_393 : Index := 0#32
  let c0_394 : Index := 0#32
  ![v917.toNat, 0, 0]
def k0_cond14 (v68 : BitVec 32) : BitVec 1 :=
  let c6_i32 : BitVec 32 := 6#32
  let v69 : BitVec 32 := Scalar.shrsi v68 c6_i32
  let c7782_i32_65 : BitVec 32 := 7782#32
  let v76 : BitVec 1 := Scalar.cmpi .sge v69 c7782_i32_65
  let v77 : BitVec 32 := Scalar.extui v76
  let c0_i32_66 : BitVec 32 := 0#32
  let v78 : BitVec 1 := Scalar.cmpi .ne v77 c0_i32_66
  v78

def k0_off419 (v71 : BitVec 32) : Fin 3 → Nat :=
  let c16_i32_63 : BitVec 32 := 16#32
  let v72 : BitVec 32 := Scalar.remsi v71 c16_i32_63
  let v922 : Index := Scalar.indexCast v72
  let c0_397 : Index := 0#32
  let c0_398 : Index := 0#32
  ![v922.toNat, 0, 0]
def k0_off420 (v71 : BitVec 32) : Fin 3 → Nat :=
  let c16_i32_63 : BitVec 32 := 16#32
  let v72 : BitVec 32 := Scalar.remsi v71 c16_i32_63
  let v84 : Index := Scalar.indexCast v72
  let c0_68 : Index := 0#32
  let c0_69 : Index := 0#32
  ![v84.toNat, 0, 0]
def k0_off421 (v68 : BitVec 32) (c0_i32_70 : BitVec 32) (c0_i32_71 : BitVec 32) : Fin 2 → Nat :=
  let c63_i32 : BitVec 32 := 63#32
  let v70 : BitVec 32 := Scalar.andi v68 c63_i32
  let c64_i32 : BitVec 32 := 64#32
  let v79 : BitVec 32 := Scalar.muli v70 c64_i32
  let c6_i32 : BitVec 32 := 6#32
  let v69 : BitVec 32 := Scalar.shrsi v68 c6_i32
  let c1_i32_67 : BitVec 32 := 1#32
  let v80 : BitVec 32 := Scalar.andi v69 c1_i32_67
  let c32_i32 : BitVec 32 := 32#32
  let v81 : BitVec 32 := Scalar.muli v80 c32_i32
  let v82 : BitVec 32 := Scalar.addi v79 v81
  let c25_i32 : BitVec 32 := 25#32
  let v83 : BitVec 32 := Scalar.muli v82 c25_i32
  let v89 : BitVec 32 := Scalar.addi v83 c0_i32_70
  let v90 : BitVec 32 := Scalar.addi v89 c0_i32_71
  let v91 : Index := Scalar.indexCast v90
  let c0_72 : Index := 0#32
  ![v91.toNat, 0]

def k0_chk94 (v68 : BitVec 32) : Prop :=
  (∀ (r₁ : Fin 4) (r₂ : Fin 25), ∀ a, S8x128.size a = 0 ∨ (k0_off421 v68 (BitVec.ofNat 32 (200 * r₁.val)) (BitVec.ofNat 32 r₂.val)) a + (![25, 1] : Fin 2 → Nat) a * (S8x128.size a - 1) < S102432x128.size a)
theorem k0_off421_inb : ∀ (v68 : BitVec 32) (k0_hw94 : k0_chk94 v68), ∀ (r₁ : Fin 4) (r₂ : Fin 25), ∀ a, S8x128.size a = 0 ∨ (k0_off421 v68 (BitVec.ofNat 32 (200 * r₁.val)) (BitVec.ofNat 32 r₂.val)) a + (![25, 1] : Fin 2 → Nat) a * (S8x128.size a - 1) < S102432x128.size a := fun v68 k0_hw94 r₁ r₂ => k0_hw94 r₁ r₂

def k0_off422 (v71 : BitVec 32) : Fin 3 → Nat :=
  let c16_i32_63 : BitVec 32 := 16#32
  let v72 : BitVec 32 := Scalar.remsi v71 c16_i32_63
  let v116 : Index := Scalar.indexCast v72
  let c0_79 : Index := 0#32
  let c128 : Index := 128#32
  ![v116.toNat, 0, 128]
def k0_off423 (v71 : BitVec 32) : Fin 3 → Nat :=
  let c16_i32_63 : BitVec 32 := 16#32
  let v72 : BitVec 32 := Scalar.remsi v71 c16_i32_63
  let v148 : Index := Scalar.indexCast v72
  let c0_92 : Index := 0#32
  let c256 : Index := 256#32
  ![v148.toNat, 0, 256]
def k0_off424 (v71 : BitVec 32) : Fin 3 → Nat :=
  let c16_i32_63 : BitVec 32 := 16#32
  let v72 : BitVec 32 := Scalar.remsi v71 c16_i32_63
  let v180 : Index := Scalar.indexCast v72
  let c0_104 : Index := 0#32
  let c384 : Index := 384#32
  ![v180.toNat, 0, 384]
def k0_off425 (v71 : BitVec 32) : Fin 3 → Nat :=
  let c16_i32_63 : BitVec 32 := 16#32
  let v72 : BitVec 32 := Scalar.remsi v71 c16_i32_63
  let v212 : Index := Scalar.indexCast v72
  let c0_116 : Index := 0#32
  let c512 : Index := 512#32
  ![v212.toNat, 0, 512]
def k0_off426 (v71 : BitVec 32) : Fin 3 → Nat :=
  let c16_i32_63 : BitVec 32 := 16#32
  let v72 : BitVec 32 := Scalar.remsi v71 c16_i32_63
  let v244 : Index := Scalar.indexCast v72
  let c0_129 : Index := 0#32
  let c640 : Index := 640#32
  ![v244.toNat, 0, 640]
def k0_off427 (v71 : BitVec 32) : Fin 3 → Nat :=
  let c16_i32_63 : BitVec 32 := 16#32
  let v72 : BitVec 32 := Scalar.remsi v71 c16_i32_63
  let v276 : Index := Scalar.indexCast v72
  let c0_141 : Index := 0#32
  let c768 : Index := 768#32
  ![v276.toNat, 0, 768]
def k0_off428 (v71 : BitVec 32) : Fin 3 → Nat :=
  let c16_i32_63 : BitVec 32 := 16#32
  let v72 : BitVec 32 := Scalar.remsi v71 c16_i32_63
  let v308 : Index := Scalar.indexCast v72
  let c0_154 : Index := 0#32
  let c896 : Index := 896#32
  ![v308.toNat, 0, 896]
def k0_off429 (v71 : BitVec 32) : Fin 3 → Nat :=
  let c16_i32_63 : BitVec 32 := 16#32
  let v72 : BitVec 32 := Scalar.remsi v71 c16_i32_63
  let v340 : Index := Scalar.indexCast v72
  let c0_166 : Index := 0#32
  let c1024 : Index := 1024#32
  ![v340.toNat, 0, 1024]
def k0_off430 (v71 : BitVec 32) : Fin 3 → Nat :=
  let c16_i32_63 : BitVec 32 := 16#32
  let v72 : BitVec 32 := Scalar.remsi v71 c16_i32_63
  let v372 : Index := Scalar.indexCast v72
  let c0_179 : Index := 0#32
  let c1152 : Index := 1152#32
  ![v372.toNat, 0, 1152]
def k0_off431 (v71 : BitVec 32) : Fin 3 → Nat :=
  let c16_i32_63 : BitVec 32 := 16#32
  let v72 : BitVec 32 := Scalar.remsi v71 c16_i32_63
  let v404 : Index := Scalar.indexCast v72
  let c0_191 : Index := 0#32
  let c1280 : Index := 1280#32
  ![v404.toNat, 0, 1280]
def k0_off432 (v71 : BitVec 32) : Fin 3 → Nat :=
  let c16_i32_63 : BitVec 32 := 16#32
  let v72 : BitVec 32 := Scalar.remsi v71 c16_i32_63
  let v436 : Index := Scalar.indexCast v72
  let c0_203 : Index := 0#32
  let c1408 : Index := 1408#32
  ![v436.toNat, 0, 1408]
def k0_off433 (v71 : BitVec 32) : Fin 3 → Nat :=
  let c16_i32_63 : BitVec 32 := 16#32
  let v72 : BitVec 32 := Scalar.remsi v71 c16_i32_63
  let v468 : Index := Scalar.indexCast v72
  let c0_215 : Index := 0#32
  let c1536 : Index := 1536#32
  ![v468.toNat, 0, 1536]
def k0_off434 (v71 : BitVec 32) : Fin 3 → Nat :=
  let c16_i32_63 : BitVec 32 := 16#32
  let v72 : BitVec 32 := Scalar.remsi v71 c16_i32_63
  let v500 : Index := Scalar.indexCast v72
  let c0_227 : Index := 0#32
  let c1664 : Index := 1664#32
  ![v500.toNat, 0, 1664]
def k0_off435 (v71 : BitVec 32) : Fin 3 → Nat :=
  let c16_i32_63 : BitVec 32 := 16#32
  let v72 : BitVec 32 := Scalar.remsi v71 c16_i32_63
  let v532 : Index := Scalar.indexCast v72
  let c0_239 : Index := 0#32
  let c1792 : Index := 1792#32
  ![v532.toNat, 0, 1792]
def k0_off436 (v71 : BitVec 32) : Fin 3 → Nat :=
  let c16_i32_63 : BitVec 32 := 16#32
  let v72 : BitVec 32 := Scalar.remsi v71 c16_i32_63
  let v564 : Index := Scalar.indexCast v72
  let c0_251 : Index := 0#32
  let c1920 : Index := 1920#32
  ![v564.toNat, 0, 1920]
def k0_off437 (v71 : BitVec 32) : Fin 3 → Nat :=
  let c16_i32_63 : BitVec 32 := 16#32
  let v72 : BitVec 32 := Scalar.remsi v71 c16_i32_63
  let v596 : Index := Scalar.indexCast v72
  let c0_263 : Index := 0#32
  let c2048 : Index := 2048#32
  ![v596.toNat, 0, 2048]
def k0_off438 (v71 : BitVec 32) : Fin 3 → Nat :=
  let c16_i32_63 : BitVec 32 := 16#32
  let v72 : BitVec 32 := Scalar.remsi v71 c16_i32_63
  let v628 : Index := Scalar.indexCast v72
  let c0_276 : Index := 0#32
  let c2176 : Index := 2176#32
  ![v628.toNat, 0, 2176]
def k0_off439 (v71 : BitVec 32) : Fin 3 → Nat :=
  let c16_i32_63 : BitVec 32 := 16#32
  let v72 : BitVec 32 := Scalar.remsi v71 c16_i32_63
  let v660 : Index := Scalar.indexCast v72
  let c0_288 : Index := 0#32
  let c2304 : Index := 2304#32
  ![v660.toNat, 0, 2304]
def k0_off440 (v71 : BitVec 32) : Fin 3 → Nat :=
  let c16_i32_63 : BitVec 32 := 16#32
  let v72 : BitVec 32 := Scalar.remsi v71 c16_i32_63
  let v692 : Index := Scalar.indexCast v72
  let c0_300 : Index := 0#32
  let c2432 : Index := 2432#32
  ![v692.toNat, 0, 2432]
def k0_off441 (v71 : BitVec 32) : Fin 3 → Nat :=
  let c16_i32_63 : BitVec 32 := 16#32
  let v72 : BitVec 32 := Scalar.remsi v71 c16_i32_63
  let v724 : Index := Scalar.indexCast v72
  let c0_312 : Index := 0#32
  let c2560 : Index := 2560#32
  ![v724.toNat, 0, 2560]
def k0_off442 (v71 : BitVec 32) : Fin 3 → Nat :=
  let c16_i32_63 : BitVec 32 := 16#32
  let v72 : BitVec 32 := Scalar.remsi v71 c16_i32_63
  let v756 : Index := Scalar.indexCast v72
  let c0_324 : Index := 0#32
  let c2688 : Index := 2688#32
  ![v756.toNat, 0, 2688]
def k0_off443 (v71 : BitVec 32) : Fin 3 → Nat :=
  let c16_i32_63 : BitVec 32 := 16#32
  let v72 : BitVec 32 := Scalar.remsi v71 c16_i32_63
  let v788 : Index := Scalar.indexCast v72
  let c0_336 : Index := 0#32
  let c2816 : Index := 2816#32
  ![v788.toNat, 0, 2816]
def k0_off444 (v71 : BitVec 32) : Fin 3 → Nat :=
  let c16_i32_63 : BitVec 32 := 16#32
  let v72 : BitVec 32 := Scalar.remsi v71 c16_i32_63
  let v820 : Index := Scalar.indexCast v72
  let c0_348 : Index := 0#32
  let c2944 : Index := 2944#32
  ![v820.toNat, 0, 2944]
def k0_off445 (v71 : BitVec 32) : Fin 3 → Nat :=
  let c16_i32_63 : BitVec 32 := 16#32
  let v72 : BitVec 32 := Scalar.remsi v71 c16_i32_63
  let v852 : Index := Scalar.indexCast v72
  let c0_360 : Index := 0#32
  let c0_361 : Index := 0#32
  ![v852.toNat, 0, 0]
def k0_off446 (v71 : BitVec 32) : Fin 3 → Nat :=
  let c16_i32_63 : BitVec 32 := 16#32
  let v72 : BitVec 32 := Scalar.remsi v71 c16_i32_63
  let v864 : Index := Scalar.indexCast v72
  let c8 : Index := 8#32
  let c0_365 : Index := 0#32
  ![v864.toNat, 8, 0]
def k0_off447 (v71 : BitVec 32) : Fin 3 → Nat :=
  let c16_i32_63 : BitVec 32 := 16#32
  let v72 : BitVec 32 := Scalar.remsi v71 c16_i32_63
  let v876 : Index := Scalar.indexCast v72
  let c16 : Index := 16#32
  let c0_370 : Index := 0#32
  ![v876.toNat, 16, 0]
def k0_off448 (v71 : BitVec 32) : Fin 3 → Nat :=
  let c16_i32_63 : BitVec 32 := 16#32
  let v72 : BitVec 32 := Scalar.remsi v71 c16_i32_63
  let v888 : Index := Scalar.indexCast v72
  let c24 : Index := 24#32
  let c0_375 : Index := 0#32
  ![v888.toNat, 24, 0]

def k0_chk93_0 (v68 : BitVec 32) (v71 : BitVec 32) : Prop :=
  (∀ (k0_h13 : k0_cond13 v68 = 1#1), ∀ a, (k0_off415 v71) a + S1.size a ≤ S16.size a) ∧
  (∀ (k0_h13 : k0_cond13 v68 = 1#1), ∀ a, (k0_off416 v71) a + S1x32x3072.size a ≤ S16x32x3072.size a) ∧
  (∀ (k0_h13 : k0_cond13 v68 = 1#1), ∀ (hinb : ∀ a, (k0_off416 v71) a + S1x32x3072.size a ≤ S16x32x3072.size a), (Rect.unit (s := S16x32x3072) (k0_off416 v71) S1x32x3072.size hinb).WholeWords (EltTy.packing .fp8e4m3)) ∧
  (∀ (k0_h13 : k0_cond13 v68 = 1#1), ∀ a, (k0_off417 v71) a + S1x32x24.size a ≤ S16x32x24.size a) ∧
  (∀ (k0_h14 : k0_cond14 v68 = 1#1), ∀ a, (k0_off418 v71) a + S1x32x3072.size a ≤ S16x32x3072.size a) ∧
  (∀ (k0_h14 : k0_cond14 v68 = 1#1), ∀ (hinb : ∀ a, (k0_off418 v71) a + S1x32x3072.size a ≤ S16x32x3072.size a), (Rect.unit (s := S16x32x3072) (k0_off418 v71) S1x32x3072.size hinb).PackedRows (EltTy.packing .fp8e4m3)) ∧
  (∀ (k0_h14 : k0_cond14 v68 = 1#1), ∀ a, (k0_off419 v71) a + S1x32x24.size a ≤ S16x32x24.size a) ∧
  (∀ a, (k0_off420 v71) a + S1x32x128.size a ≤ S16x32x3072.size a) ∧
  (∀ a, (k0_off422 v71) a + S1x32x128.size a ≤ S16x32x3072.size a) ∧
  (∀ a, (k0_off423 v71) a + S1x32x128.size a ≤ S16x32x3072.size a) ∧
  (∀ a, (k0_off424 v71) a + S1x32x128.size a ≤ S16x32x3072.size a) ∧
  (∀ a, (k0_off425 v71) a + S1x32x128.size a ≤ S16x32x3072.size a) ∧
  (∀ a, (k0_off426 v71) a + S1x32x128.size a ≤ S16x32x3072.size a) ∧
  (∀ a, (k0_off427 v71) a + S1x32x128.size a ≤ S16x32x3072.size a) ∧
  (∀ a, (k0_off428 v71) a + S1x32x128.size a ≤ S16x32x3072.size a) ∧
  (∀ a, (k0_off429 v71) a + S1x32x128.size a ≤ S16x32x3072.size a) ∧
  (∀ a, (k0_off430 v71) a + S1x32x128.size a ≤ S16x32x3072.size a) ∧
  (∀ a, (k0_off431 v71) a + S1x32x128.size a ≤ S16x32x3072.size a) ∧
  (∀ a, (k0_off432 v71) a + S1x32x128.size a ≤ S16x32x3072.size a) ∧
  (∀ a, (k0_off433 v71) a + S1x32x128.size a ≤ S16x32x3072.size a) ∧
  (∀ a, (k0_off434 v71) a + S1x32x128.size a ≤ S16x32x3072.size a) ∧
  (∀ a, (k0_off435 v71) a + S1x32x128.size a ≤ S16x32x3072.size a) ∧
  (∀ a, (k0_off436 v71) a + S1x32x128.size a ≤ S16x32x3072.size a) ∧
  (∀ a, (k0_off437 v71) a + S1x32x128.size a ≤ S16x32x3072.size a) ∧
  (∀ a, (k0_off438 v71) a + S1x32x128.size a ≤ S16x32x3072.size a) ∧
  (∀ a, (k0_off439 v71) a + S1x32x128.size a ≤ S16x32x3072.size a) ∧
  (∀ a, (k0_off440 v71) a + S1x32x128.size a ≤ S16x32x3072.size a) ∧
  (∀ a, (k0_off441 v71) a + S1x32x128.size a ≤ S16x32x3072.size a) ∧
  (∀ a, (k0_off442 v71) a + S1x32x128.size a ≤ S16x32x3072.size a) ∧
  (∀ a, (k0_off443 v71) a + S1x32x128.size a ≤ S16x32x3072.size a) ∧
  (∀ a, (k0_off444 v71) a + S1x32x128.size a ≤ S16x32x3072.size a) ∧
  (∀ a, (k0_off445 v71) a + S1x8x24.size a ≤ S16x32x24.size a)
def k0_chk93_1 (v68 : BitVec 32) (v71 : BitVec 32) : Prop :=
  (∀ a, (k0_off446 v71) a + S1x8x24.size a ≤ S16x32x24.size a) ∧
  (∀ a, (k0_off447 v71) a + S1x8x24.size a ≤ S16x32x24.size a) ∧
  (∀ a, (k0_off448 v71) a + S1x8x24.size a ≤ S16x32x24.size a)
def k0_chk93 (v68 : BitVec 32) (v71 : BitVec 32) : Prop :=
  k0_chk93_0 v68 v71 ∧
  k0_chk93_1 v68 v71
theorem k0_off415_inb : ∀ (v68 : BitVec 32) (v71 : BitVec 32) (k0_hw93 : k0_chk93 v68 v71), ∀ (k0_h13 : k0_cond13 v68 = 1#1), ∀ a, (k0_off415 v71) a + S1.size a ≤ S16.size a := fun v68 v71 k0_hw93 k0_h13 => k0_hw93.1.1 k0_h13
theorem k0_off416_inb : ∀ (v68 : BitVec 32) (v71 : BitVec 32) (k0_hw93 : k0_chk93 v68 v71), ∀ (k0_h13 : k0_cond13 v68 = 1#1), ∀ a, (k0_off416 v71) a + S1x32x3072.size a ≤ S16x32x3072.size a := fun v68 v71 k0_hw93 k0_h13 => k0_hw93.1.2.1 k0_h13
theorem k0_off416_wordsfp8e4m3 : ∀ (v68 : BitVec 32) (v71 : BitVec 32) (k0_hw93 : k0_chk93 v68 v71), ∀ (k0_h13 : k0_cond13 v68 = 1#1), (Rect.unit (s := S16x32x3072) (k0_off416 v71) S1x32x3072.size (k0_off416_inb v68 v71 k0_hw93 k0_h13)).WholeWords (EltTy.packing .fp8e4m3) := fun v68 v71 k0_hw93 k0_h13 => k0_hw93.1.2.2.1 k0_h13 (k0_off416_inb v68 v71 k0_hw93 k0_h13)
theorem k0_off417_inb : ∀ (v68 : BitVec 32) (v71 : BitVec 32) (k0_hw93 : k0_chk93 v68 v71), ∀ (k0_h13 : k0_cond13 v68 = 1#1), ∀ a, (k0_off417 v71) a + S1x32x24.size a ≤ S16x32x24.size a := fun v68 v71 k0_hw93 k0_h13 => k0_hw93.1.2.2.2.1 k0_h13
theorem k0_off418_inb : ∀ (v68 : BitVec 32) (v71 : BitVec 32) (k0_hw93 : k0_chk93 v68 v71), ∀ (k0_h14 : k0_cond14 v68 = 1#1), ∀ a, (k0_off418 v71) a + S1x32x3072.size a ≤ S16x32x3072.size a := fun v68 v71 k0_hw93 k0_h14 => k0_hw93.1.2.2.2.2.1 k0_h14
theorem k0_off418_packedfp8e4m3 : ∀ (v68 : BitVec 32) (v71 : BitVec 32) (k0_hw93 : k0_chk93 v68 v71), ∀ (k0_h14 : k0_cond14 v68 = 1#1), (Rect.unit (s := S16x32x3072) (k0_off418 v71) S1x32x3072.size (k0_off418_inb v68 v71 k0_hw93 k0_h14)).PackedRows (EltTy.packing .fp8e4m3) := fun v68 v71 k0_hw93 k0_h14 => k0_hw93.1.2.2.2.2.2.1 k0_h14 (k0_off418_inb v68 v71 k0_hw93 k0_h14)
theorem k0_off419_inb : ∀ (v68 : BitVec 32) (v71 : BitVec 32) (k0_hw93 : k0_chk93 v68 v71), ∀ (k0_h14 : k0_cond14 v68 = 1#1), ∀ a, (k0_off419 v71) a + S1x32x24.size a ≤ S16x32x24.size a := fun v68 v71 k0_hw93 k0_h14 => k0_hw93.1.2.2.2.2.2.2.1 k0_h14
theorem k0_off420_inb : ∀ (v68 : BitVec 32) (v71 : BitVec 32) (k0_hw93 : k0_chk93 v68 v71), ∀ a, (k0_off420 v71) a + S1x32x128.size a ≤ S16x32x3072.size a := fun v68 v71 k0_hw93 => k0_hw93.1.2.2.2.2.2.2.2.1
theorem k0_off422_inb : ∀ (v68 : BitVec 32) (v71 : BitVec 32) (k0_hw93 : k0_chk93 v68 v71), ∀ a, (k0_off422 v71) a + S1x32x128.size a ≤ S16x32x3072.size a := fun v68 v71 k0_hw93 => k0_hw93.1.2.2.2.2.2.2.2.2.1
theorem k0_off423_inb : ∀ (v68 : BitVec 32) (v71 : BitVec 32) (k0_hw93 : k0_chk93 v68 v71), ∀ a, (k0_off423 v71) a + S1x32x128.size a ≤ S16x32x3072.size a := fun v68 v71 k0_hw93 => k0_hw93.1.2.2.2.2.2.2.2.2.2.1
theorem k0_off424_inb : ∀ (v68 : BitVec 32) (v71 : BitVec 32) (k0_hw93 : k0_chk93 v68 v71), ∀ a, (k0_off424 v71) a + S1x32x128.size a ≤ S16x32x3072.size a := fun v68 v71 k0_hw93 => k0_hw93.1.2.2.2.2.2.2.2.2.2.2.1
theorem k0_off425_inb : ∀ (v68 : BitVec 32) (v71 : BitVec 32) (k0_hw93 : k0_chk93 v68 v71), ∀ a, (k0_off425 v71) a + S1x32x128.size a ≤ S16x32x3072.size a := fun v68 v71 k0_hw93 => k0_hw93.1.2.2.2.2.2.2.2.2.2.2.2.1
theorem k0_off426_inb : ∀ (v68 : BitVec 32) (v71 : BitVec 32) (k0_hw93 : k0_chk93 v68 v71), ∀ a, (k0_off426 v71) a + S1x32x128.size a ≤ S16x32x3072.size a := fun v68 v71 k0_hw93 => k0_hw93.1.2.2.2.2.2.2.2.2.2.2.2.2.1
theorem k0_off427_inb : ∀ (v68 : BitVec 32) (v71 : BitVec 32) (k0_hw93 : k0_chk93 v68 v71), ∀ a, (k0_off427 v71) a + S1x32x128.size a ≤ S16x32x3072.size a := fun v68 v71 k0_hw93 => k0_hw93.1.2.2.2.2.2.2.2.2.2.2.2.2.2.1
theorem k0_off428_inb : ∀ (v68 : BitVec 32) (v71 : BitVec 32) (k0_hw93 : k0_chk93 v68 v71), ∀ a, (k0_off428 v71) a + S1x32x128.size a ≤ S16x32x3072.size a := fun v68 v71 k0_hw93 => k0_hw93.1.2.2.2.2.2.2.2.2.2.2.2.2.2.2.1
theorem k0_off429_inb : ∀ (v68 : BitVec 32) (v71 : BitVec 32) (k0_hw93 : k0_chk93 v68 v71), ∀ a, (k0_off429 v71) a + S1x32x128.size a ≤ S16x32x3072.size a := fun v68 v71 k0_hw93 => k0_hw93.1.2.2.2.2.2.2.2.2.2.2.2.2.2.2.2.1
theorem k0_off430_inb : ∀ (v68 : BitVec 32) (v71 : BitVec 32) (k0_hw93 : k0_chk93 v68 v71), ∀ a, (k0_off430 v71) a + S1x32x128.size a ≤ S16x32x3072.size a := fun v68 v71 k0_hw93 => k0_hw93.1.2.2.2.2.2.2.2.2.2.2.2.2.2.2.2.2.1
theorem k0_off431_inb : ∀ (v68 : BitVec 32) (v71 : BitVec 32) (k0_hw93 : k0_chk93 v68 v71), ∀ a, (k0_off431 v71) a + S1x32x128.size a ≤ S16x32x3072.size a := fun v68 v71 k0_hw93 => k0_hw93.1.2.2.2.2.2.2.2.2.2.2.2.2.2.2.2.2.2.1
theorem k0_off432_inb : ∀ (v68 : BitVec 32) (v71 : BitVec 32) (k0_hw93 : k0_chk93 v68 v71), ∀ a, (k0_off432 v71) a + S1x32x128.size a ≤ S16x32x3072.size a := fun v68 v71 k0_hw93 => k0_hw93.1.2.2.2.2.2.2.2.2.2.2.2.2.2.2.2.2.2.2.1
theorem k0_off433_inb : ∀ (v68 : BitVec 32) (v71 : BitVec 32) (k0_hw93 : k0_chk93 v68 v71), ∀ a, (k0_off433 v71) a + S1x32x128.size a ≤ S16x32x3072.size a := fun v68 v71 k0_hw93 => k0_hw93.1.2.2.2.2.2.2.2.2.2.2.2.2.2.2.2.2.2.2.2.1
theorem k0_off434_inb : ∀ (v68 : BitVec 32) (v71 : BitVec 32) (k0_hw93 : k0_chk93 v68 v71), ∀ a, (k0_off434 v71) a + S1x32x128.size a ≤ S16x32x3072.size a := fun v68 v71 k0_hw93 => k0_hw93.1.2.2.2.2.2.2.2.2.2.2.2.2.2.2.2.2.2.2.2.2.1
theorem k0_off435_inb : ∀ (v68 : BitVec 32) (v71 : BitVec 32) (k0_hw93 : k0_chk93 v68 v71), ∀ a, (k0_off435 v71) a + S1x32x128.size a ≤ S16x32x3072.size a := fun v68 v71 k0_hw93 => k0_hw93.1.2.2.2.2.2.2.2.2.2.2.2.2.2.2.2.2.2.2.2.2.2.1
theorem k0_off436_inb : ∀ (v68 : BitVec 32) (v71 : BitVec 32) (k0_hw93 : k0_chk93 v68 v71), ∀ a, (k0_off436 v71) a + S1x32x128.size a ≤ S16x32x3072.size a := fun v68 v71 k0_hw93 => k0_hw93.1.2.2.2.2.2.2.2.2.2.2.2.2.2.2.2.2.2.2.2.2.2.2.1
theorem k0_off437_inb : ∀ (v68 : BitVec 32) (v71 : BitVec 32) (k0_hw93 : k0_chk93 v68 v71), ∀ a, (k0_off437 v71) a + S1x32x128.size a ≤ S16x32x3072.size a := fun v68 v71 k0_hw93 => k0_hw93.1.2.2.2.2.2.2.2.2.2.2.2.2.2.2.2.2.2.2.2.2.2.2.2.1
theorem k0_off438_inb : ∀ (v68 : BitVec 32) (v71 : BitVec 32) (k0_hw93 : k0_chk93 v68 v71), ∀ a, (k0_off438 v71) a + S1x32x128.size a ≤ S16x32x3072.size a := fun v68 v71 k0_hw93 => k0_hw93.1.2.2.2.2.2.2.2.2.2.2.2.2.2.2.2.2.2.2.2.2.2.2.2.2.1
theorem k0_off439_inb : ∀ (v68 : BitVec 32) (v71 : BitVec 32) (k0_hw93 : k0_chk93 v68 v71), ∀ a, (k0_off439 v71) a + S1x32x128.size a ≤ S16x32x3072.size a := fun v68 v71 k0_hw93 => k0_hw93.1.2.2.2.2.2.2.2.2.2.2.2.2.2.2.2.2.2.2.2.2.2.2.2.2.2.1
theorem k0_off440_inb : ∀ (v68 : BitVec 32) (v71 : BitVec 32) (k0_hw93 : k0_chk93 v68 v71), ∀ a, (k0_off440 v71) a + S1x32x128.size a ≤ S16x32x3072.size a := fun v68 v71 k0_hw93 => k0_hw93.1.2.2.2.2.2.2.2.2.2.2.2.2.2.2.2.2.2.2.2.2.2.2.2.2.2.2.1
theorem k0_off441_inb : ∀ (v68 : BitVec 32) (v71 : BitVec 32) (k0_hw93 : k0_chk93 v68 v71), ∀ a, (k0_off441 v71) a + S1x32x128.size a ≤ S16x32x3072.size a := fun v68 v71 k0_hw93 => k0_hw93.1.2.2.2.2.2.2.2.2.2.2.2.2.2.2.2.2.2.2.2.2.2.2.2.2.2.2.2.1
theorem k0_off442_inb : ∀ (v68 : BitVec 32) (v71 : BitVec 32) (k0_hw93 : k0_chk93 v68 v71), ∀ a, (k0_off442 v71) a + S1x32x128.size a ≤ S16x32x3072.size a := fun v68 v71 k0_hw93 => k0_hw93.1.2.2.2.2.2.2.2.2.2.2.2.2.2.2.2.2.2.2.2.2.2.2.2.2.2.2.2.2.1
theorem k0_off443_inb : ∀ (v68 : BitVec 32) (v71 : BitVec 32) (k0_hw93 : k0_chk93 v68 v71), ∀ a, (k0_off443 v71) a + S1x32x128.size a ≤ S16x32x3072.size a := fun v68 v71 k0_hw93 => k0_hw93.1.2.2.2.2.2.2.2.2.2.2.2.2.2.2.2.2.2.2.2.2.2.2.2.2.2.2.2.2.2.1
theorem k0_off444_inb : ∀ (v68 : BitVec 32) (v71 : BitVec 32) (k0_hw93 : k0_chk93 v68 v71), ∀ a, (k0_off444 v71) a + S1x32x128.size a ≤ S16x32x3072.size a := fun v68 v71 k0_hw93 => k0_hw93.1.2.2.2.2.2.2.2.2.2.2.2.2.2.2.2.2.2.2.2.2.2.2.2.2.2.2.2.2.2.2.1
theorem k0_off445_inb : ∀ (v68 : BitVec 32) (v71 : BitVec 32) (k0_hw93 : k0_chk93 v68 v71), ∀ a, (k0_off445 v71) a + S1x8x24.size a ≤ S16x32x24.size a := fun v68 v71 k0_hw93 => k0_hw93.1.2.2.2.2.2.2.2.2.2.2.2.2.2.2.2.2.2.2.2.2.2.2.2.2.2.2.2.2.2.2.2
theorem k0_off446_inb : ∀ (v68 : BitVec 32) (v71 : BitVec 32) (k0_hw93 : k0_chk93 v68 v71), ∀ a, (k0_off446 v71) a + S1x8x24.size a ≤ S16x32x24.size a := fun v68 v71 k0_hw93 => k0_hw93.2.1
theorem k0_off447_inb : ∀ (v68 : BitVec 32) (v71 : BitVec 32) (k0_hw93 : k0_chk93 v68 v71), ∀ a, (k0_off447 v71) a + S1x8x24.size a ≤ S16x32x24.size a := fun v68 v71 k0_hw93 => k0_hw93.2.2.1
theorem k0_off448_inb : ∀ (v68 : BitVec 32) (v71 : BitVec 32) (k0_hw93 : k0_chk93 v68 v71), ∀ a, (k0_off448 v71) a + S1x8x24.size a ≤ S16x32x24.size a := fun v68 v71 k0_hw93 => k0_hw93.2.2.2

def k0_off449 (i : grid0.Coords) (arg22 : BitVec 32) : Fin 3 → Nat :=
  let c0_394 : Index := 0#32
  let c0_395 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_391 : BitVec 32 := 1#32
  let v916 : BitVec 32 := Scalar.subi v5 c1_i32_391
  let v917 : BitVec 32 := Scalar.minsi arg22 v916
  let c4_i32_392 : BitVec 32 := 4#32
  let v918 : BitVec 1 := Scalar.cmpi .slt v917 c4_i32_392
  let c0_i32_393 : BitVec 32 := 0#32
  let v919 : BitVec 32 := Scalar.select v918 v917 c0_i32_393
  let v920 : Index := Scalar.indexCast v919
  ![0, 0, v920.toNat]

def k0_off450 (i : grid0.Coords) (arg22 : BitVec 32) : Fin 3 → Nat :=
  let c0_398 : Index := 0#32
  let c0_399 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_391 : BitVec 32 := 1#32
  let v916 : BitVec 32 := Scalar.subi v5 c1_i32_391
  let v917 : BitVec 32 := Scalar.minsi arg22 v916
  let c4_i32_392 : BitVec 32 := 4#32
  let v918 : BitVec 1 := Scalar.cmpi .slt v917 c4_i32_392
  let c0_i32_397 : BitVec 32 := 0#32
  let c4_i32_396 : BitVec 32 := 4#32
  let v922 : BitVec 32 := Scalar.subi v917 c4_i32_396
  let v923 : BitVec 32 := Scalar.select v918 c0_i32_397 v922
  let v924 : Index := Scalar.indexCast v923
  ![0, 0, v924.toNat]

def k0_chk95 (i : grid0.Coords) (arg22 : BitVec 32) : Prop :=
  (∀ a, (k0_off449 i arg22) a + S1x1x1.size a ≤ S1x1x4.size a) ∧
  (∀ a, (k0_off450 i arg22) a + S1x1x1.size a ≤ S1x1x4.size a)
theorem k0_off449_inb : ∀ (i : grid0.Coords) (arg22 : BitVec 32) (k0_hw95 : k0_chk95 i arg22), ∀ a, (k0_off449 i arg22) a + S1x1x1.size a ≤ S1x1x4.size a := fun i arg22 k0_hw95 => k0_hw95.1
theorem k0_off450_inb : ∀ (i : grid0.Coords) (arg22 : BitVec 32) (k0_hw95 : k0_chk95 i arg22), ∀ a, (k0_off450 i arg22) a + S1x1x1.size a ≤ S1x1x4.size a := fun i arg22 k0_hw95 => k0_hw95.2

def k0_off451 (v915 : BitVec 32) (v916 : BitVec 32) : Fin 3 → Nat :=
  let c0_395 : Index := 0#32
  let c4_i32_393 : BitVec 32 := 4#32
  let v917 : BitVec 1 := Scalar.cmpi .slt v915 c4_i32_393
  let c0_i32_394 : BitVec 32 := 0#32
  let v918 : BitVec 32 := Scalar.select v917 v915 c0_i32_394
  let v919 : Index := Scalar.indexCast v918
  let v920 : Index := Scalar.indexCast v916
  ![0, v919.toNat, v920.toNat]

def k0_off452 (v915 : BitVec 32) (v916 : BitVec 32) : Fin 3 → Nat :=
  let c0_398 : Index := 0#32
  let c4_i32_393 : BitVec 32 := 4#32
  let v917 : BitVec 1 := Scalar.cmpi .slt v915 c4_i32_393
  let c0_i32_397 : BitVec 32 := 0#32
  let c4_i32_396 : BitVec 32 := 4#32
  let v922 : BitVec 32 := Scalar.subi v915 c4_i32_396
  let v923 : BitVec 32 := Scalar.select v917 c0_i32_397 v922
  let v924 : Index := Scalar.indexCast v923
  let v925 : Index := Scalar.indexCast v916
  ![0, v924.toNat, v925.toNat]

def k0_chk96 (v915 : BitVec 32) (v916 : BitVec 32) : Prop :=
  (∀ a, (k0_off451 v915 v916) a + S1x1x1.size a ≤ S1x4x128.size a) ∧
  (∀ a, (k0_off452 v915 v916) a + S1x1x1.size a ≤ S1x4x128.size a)
theorem k0_off451_inb : ∀ (v915 : BitVec 32) (v916 : BitVec 32) (k0_hw96 : k0_chk96 v915 v916), ∀ a, (k0_off451 v915 v916) a + S1x1x1.size a ≤ S1x4x128.size a := fun v915 v916 k0_hw96 => k0_hw96.1
theorem k0_off452_inb : ∀ (v915 : BitVec 32) (v916 : BitVec 32) (k0_hw96 : k0_chk96 v915 v916), ∀ a, (k0_off452 v915 v916) a + S1x1x1.size a ≤ S1x4x128.size a := fun v915 v916 k0_hw96 => k0_hw96.2

def k0_mult9 (v915 : BitVec 32) (v921 : BitVec 32) (v926 : BitVec 32) : BitVec 32 :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  v950
def k0_cond15 (v915 : BitVec 32) (v921 : BitVec 32) (v926 : BitVec 32) : BitVec 1 :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c7782_i32_402 : BitVec 32 := 7782#32
  let v931 : BitVec 1 := Scalar.cmpi .slt v928 c7782_i32_402
  let v932 : BitVec 32 := Scalar.extui v931
  let c0_i32_403 : BitVec 32 := 0#32
  let v933 : BitVec 1 := Scalar.cmpi .ne v932 c0_i32_403
  v933

def k0_off453 (v929 : BitVec 32) : Fin 1 → Nat :=
  let c16_i32_401 : BitVec 32 := 16#32
  let v930 : BitVec 32 := Scalar.remsi v929 c16_i32_401
  ![v930.toNat]

def k0_off454 (v929 : BitVec 32) : Fin 3 → Nat :=
  let c16_i32_401 : BitVec 32 := 16#32
  let v930 : BitVec 32 := Scalar.remsi v929 c16_i32_401
  let c0_i32_417 : BitVec 32 := 0#32
  let c0_i32_418 : BitVec 32 := 0#32
  ![v930.toNat, 0, 0]
def k0_off455 (v915 : BitVec 32) (v921 : BitVec 32) (v926 : BitVec 32) : Fin 2 → Nat :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  let v951 : BitVec 32 := v950
  let c0_i32_419 : BitVec 32 := 0#32
  ![v951.toNat, 0]
def k0_off456 (v929 : BitVec 32) : Fin 3 → Nat :=
  let c16_i32_401 : BitVec 32 := 16#32
  let v930 : BitVec 32 := Scalar.remsi v929 c16_i32_401
  let c0_i32_420 : BitVec 32 := 0#32
  let c0_i32_421 : BitVec 32 := 0#32
  ![v930.toNat, 0, 0]

def k0_chk98 (v915 : BitVec 32) (v921 : BitVec 32) (v926 : BitVec 32) (v929 : BitVec 32) : Prop :=
  (∀ (k0_h15 : k0_cond15 v915 v921 v926 = 1#1), ∀ a, (k0_off453 v929) a + S1.size a ≤ S16.size a) ∧
  (∀ (k0_h15 : k0_cond15 v915 v921 v926 = 1#1), ∀ a, (k0_off454 v929) a + S1x32x3072.size a ≤ S16x32x3072.size a) ∧
  (∀ (k0_h15 : k0_cond15 v915 v921 v926 = 1#1), ∀ (hinb : ∀ a, (k0_off454 v929) a + S1x32x3072.size a ≤ S16x32x3072.size a), (Rect.unit (s := S16x32x3072) (k0_off454 v929) S1x32x3072.size hinb).WholeWords (EltTy.packing .fp8e4m3)) ∧
  (∀ (k0_h15 : k0_cond15 v915 v921 v926 = 1#1), ∀ a, (k0_off456 v929) a + S1x32x24.size a ≤ S16x32x24.size a)
theorem k0_off453_inb : ∀ (v915 : BitVec 32) (v921 : BitVec 32) (v926 : BitVec 32) (v929 : BitVec 32) (k0_hw98 : k0_chk98 v915 v921 v926 v929), ∀ (k0_h15 : k0_cond15 v915 v921 v926 = 1#1), ∀ a, (k0_off453 v929) a + S1.size a ≤ S16.size a := fun v915 v921 v926 v929 k0_hw98 k0_h15 => k0_hw98.1 k0_h15
theorem k0_off454_inb : ∀ (v915 : BitVec 32) (v921 : BitVec 32) (v926 : BitVec 32) (v929 : BitVec 32) (k0_hw98 : k0_chk98 v915 v921 v926 v929), ∀ (k0_h15 : k0_cond15 v915 v921 v926 = 1#1), ∀ a, (k0_off454 v929) a + S1x32x3072.size a ≤ S16x32x3072.size a := fun v915 v921 v926 v929 k0_hw98 k0_h15 => k0_hw98.2.1 k0_h15
theorem k0_off454_wordsfp8e4m3 : ∀ (v915 : BitVec 32) (v921 : BitVec 32) (v926 : BitVec 32) (v929 : BitVec 32) (k0_hw98 : k0_chk98 v915 v921 v926 v929), ∀ (k0_h15 : k0_cond15 v915 v921 v926 = 1#1), (Rect.unit (s := S16x32x3072) (k0_off454 v929) S1x32x3072.size (k0_off454_inb v915 v921 v926 v929 k0_hw98 k0_h15)).WholeWords (EltTy.packing .fp8e4m3) := fun v915 v921 v926 v929 k0_hw98 k0_h15 => k0_hw98.2.2.1 k0_h15 (k0_off454_inb v915 v921 v926 v929 k0_hw98 k0_h15)
theorem k0_off456_inb : ∀ (v915 : BitVec 32) (v921 : BitVec 32) (v926 : BitVec 32) (v929 : BitVec 32) (k0_hw98 : k0_chk98 v915 v921 v926 v929), ∀ (k0_h15 : k0_cond15 v915 v921 v926 = 1#1), ∀ a, (k0_off456 v929) a + S1x32x24.size a ≤ S16x32x24.size a := fun v915 v921 v926 v929 k0_hw98 k0_h15 => k0_hw98.2.2.2 k0_h15

def k0_off457 (v915 : BitVec 32) (v921 : BitVec 32) (v926 : BitVec 32) : Fin 2 → Nat :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  let v951 : BitVec 32 := v950
  let c0_i32_422 : BitVec 32 := 0#32
  ![v951.toNat, 0]

def k0_chk97 (v915 : BitVec 32) (v921 : BitVec 32) (v926 : BitVec 32) : Prop :=
  (∀ (k0_h15 : k0_cond15 v915 v921 v926 = 1#1), 32 ∣ (k0_mult9 v915 v921 v926).toNat) ∧
  (∀ (k0_h15 : k0_cond15 v915 v921 v926 = 1#1), ∀ a, (k0_off455 v915 v921 v926) a + S32x3072.size a ≤ S249037x3072.size a) ∧
  (∀ (k0_h15 : k0_cond15 v915 v921 v926 = 1#1), ∀ (hinb : ∀ a, (k0_off455 v915 v921 v926) a + S32x3072.size a ≤ S249037x3072.size a), (Rect.unit (s := S249037x3072) (k0_off455 v915 v921 v926) S32x3072.size hinb).WholeWords (EltTy.packing .fp8e4m3)) ∧
  (∀ (k0_h15 : k0_cond15 v915 v921 v926 = 1#1), ∀ a, (k0_off457 v915 v921 v926) a + S32x24.size a ≤ S249037x24.size a)
theorem k0_mult9_dvd : ∀ (v915 : BitVec 32) (v921 : BitVec 32) (v926 : BitVec 32) (k0_hw97 : k0_chk97 v915 v921 v926), ∀ (k0_h15 : k0_cond15 v915 v921 v926 = 1#1), 32 ∣ (k0_mult9 v915 v921 v926).toNat := fun v915 v921 v926 k0_hw97 k0_h15 => k0_hw97.1 k0_h15
theorem k0_off455_inb : ∀ (v915 : BitVec 32) (v921 : BitVec 32) (v926 : BitVec 32) (k0_hw97 : k0_chk97 v915 v921 v926), ∀ (k0_h15 : k0_cond15 v915 v921 v926 = 1#1), ∀ a, (k0_off455 v915 v921 v926) a + S32x3072.size a ≤ S249037x3072.size a := fun v915 v921 v926 k0_hw97 k0_h15 => k0_hw97.2.1 k0_h15
theorem k0_off455_wordsfp8e4m3 : ∀ (v915 : BitVec 32) (v921 : BitVec 32) (v926 : BitVec 32) (k0_hw97 : k0_chk97 v915 v921 v926), ∀ (k0_h15 : k0_cond15 v915 v921 v926 = 1#1), (Rect.unit (s := S249037x3072) (k0_off455 v915 v921 v926) S32x3072.size (k0_off455_inb v915 v921 v926 k0_hw97 k0_h15)).WholeWords (EltTy.packing .fp8e4m3) := fun v915 v921 v926 k0_hw97 k0_h15 => k0_hw97.2.2.1 k0_h15 (k0_off455_inb v915 v921 v926 k0_hw97 k0_h15)
theorem k0_off457_inb : ∀ (v915 : BitVec 32) (v921 : BitVec 32) (v926 : BitVec 32) (k0_hw97 : k0_chk97 v915 v921 v926), ∀ (k0_h15 : k0_cond15 v915 v921 v926 = 1#1), ∀ a, (k0_off457 v915 v921 v926) a + S32x24.size a ≤ S249037x24.size a := fun v915 v921 v926 k0_hw97 k0_h15 => k0_hw97.2.2.2 k0_h15

def k0_off458 (i : grid0.Coords) (arg23 : BitVec 32) : Fin 3 → Nat :=
  let c0_419 : Index := 0#32
  let c0_420 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_416 : BitVec 32 := 1#32
  let v951 : BitVec 32 := Scalar.subi v5 c1_i32_416
  let v952 : BitVec 32 := Scalar.minsi arg23 v951
  let c4_i32_417 : BitVec 32 := 4#32
  let v953 : BitVec 1 := Scalar.cmpi .slt v952 c4_i32_417
  let c0_i32_418 : BitVec 32 := 0#32
  let v954 : BitVec 32 := Scalar.select v953 v952 c0_i32_418
  let v955 : Index := Scalar.indexCast v954
  ![0, 0, v955.toNat]

def k0_off459 (i : grid0.Coords) (arg23 : BitVec 32) : Fin 3 → Nat :=
  let c0_423 : Index := 0#32
  let c0_424 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_416 : BitVec 32 := 1#32
  let v951 : BitVec 32 := Scalar.subi v5 c1_i32_416
  let v952 : BitVec 32 := Scalar.minsi arg23 v951
  let c4_i32_417 : BitVec 32 := 4#32
  let v953 : BitVec 1 := Scalar.cmpi .slt v952 c4_i32_417
  let c0_i32_422 : BitVec 32 := 0#32
  let c4_i32_421 : BitVec 32 := 4#32
  let v957 : BitVec 32 := Scalar.subi v952 c4_i32_421
  let v958 : BitVec 32 := Scalar.select v953 c0_i32_422 v957
  let v959 : Index := Scalar.indexCast v958
  ![0, 0, v959.toNat]

def k0_chk99 (i : grid0.Coords) (arg23 : BitVec 32) : Prop :=
  (∀ a, (k0_off458 i arg23) a + S1x1x1.size a ≤ S1x1x4.size a) ∧
  (∀ a, (k0_off459 i arg23) a + S1x1x1.size a ≤ S1x1x4.size a)
theorem k0_off458_inb : ∀ (i : grid0.Coords) (arg23 : BitVec 32) (k0_hw99 : k0_chk99 i arg23), ∀ a, (k0_off458 i arg23) a + S1x1x1.size a ≤ S1x1x4.size a := fun i arg23 k0_hw99 => k0_hw99.1
theorem k0_off459_inb : ∀ (i : grid0.Coords) (arg23 : BitVec 32) (k0_hw99 : k0_chk99 i arg23), ∀ a, (k0_off459 i arg23) a + S1x1x1.size a ≤ S1x1x4.size a := fun i arg23 k0_hw99 => k0_hw99.2

@[reducible] def k0_t6_loop : Scf.Loop 32 :=
  let c0_i32_28 : BitVec 32 := 0#32
  let c4_i32_29 : BitVec 32 := 4#32
  let v47 : BitVec 32 := Scalar.addi c0_i32_28 c4_i32_29
  let c1_i32_30 : BitVec 32 := 1#32
  ⟨c0_i32_28, v47, c1_i32_30⟩
def k0_off460 (k0_t6 : Fin k0_t6_loop.trips) : Fin 2 → Nat :=
  let c0_62 : Index := 0#32
  let c32_i32 : BitVec 32 := 32#32
  let c0_i32_28 : BitVec 32 := 0#32
  let c1_i32_30 : BitVec 32 := 1#32
  let arg20 : BitVec 32 := Scf.iv c0_i32_28 c1_i32_30 k0_t6
  let c8_i32_60 : BitVec 32 := 8#32
  let v67 : BitVec 32 := Scalar.muli arg20 c8_i32_60
  let v68 : BitVec 32 := Scalar.addi c32_i32 v67
  let c0_i32_61 : BitVec 32 := 0#32
  let v69 : BitVec 32 := Scalar.addi v68 c0_i32_61
  let v70 : Index := Scalar.indexCast v69
  ![0, v70.toNat]
def k0_off461 (v71 : BitVec 32) : Fin 2 → Nat :=
  let c24_i32 : BitVec 32 := 24#32
  let v72 : BitVec 32 := Scalar.addi v71 c24_i32
  let v73 : Index := Scalar.indexCast v72
  let c0_63 : Index := 0#32
  ![v73.toNat, 0]

def k0_off462 (k0_t6 : Fin k0_t6_loop.trips) : Fin 2 → Nat :=
  let c0_64 : Index := 0#32
  let c32_i32 : BitVec 32 := 32#32
  let c0_i32_28 : BitVec 32 := 0#32
  let c1_i32_30 : BitVec 32 := 1#32
  let arg20 : BitVec 32 := Scf.iv c0_i32_28 c1_i32_30 k0_t6
  let c8_i32_60 : BitVec 32 := 8#32
  let v67 : BitVec 32 := Scalar.muli arg20 c8_i32_60
  let v68 : BitVec 32 := Scalar.addi c32_i32 v67
  let c0_i32_61 : BitVec 32 := 0#32
  let v69 : BitVec 32 := Scalar.addi v68 c0_i32_61
  let v75 : Index := Scalar.indexCast v69
  ![0, v75.toNat]
def k0_off463 (v71 : BitVec 32) (c0_i32_66 : BitVec 32) : Fin 2 → Nat :=
  let v89 : BitVec 32 := Scalar.addi v71 c0_i32_66
  let v90 : Index := Scalar.indexCast v89
  let c0_67 : Index := 0#32
  ![v90.toNat, 0]

def k0_chk100 (v71 : BitVec 32) : Prop :=
  (∀ a, (k0_off461 v71) a + S1x128.size a ≤ S102432x128.size a) ∧
  (∀ (r : Fin 3), ∀ a, (k0_off463 v71 (BitVec.ofNat 32 (8 * r.val))) a + S8x128.size a ≤ S102432x128.size a)
theorem k0_off461_inb : ∀ (v71 : BitVec 32) (k0_hw100 : k0_chk100 v71), ∀ a, (k0_off461 v71) a + S1x128.size a ≤ S102432x128.size a := fun v71 k0_hw100 => k0_hw100.1
theorem k0_off463_inb : ∀ (v71 : BitVec 32) (k0_hw100 : k0_chk100 v71), ∀ (r : Fin 3), ∀ a, (k0_off463 v71 (BitVec.ofNat 32 (8 * r.val))) a + S8x128.size a ≤ S102432x128.size a := fun v71 k0_hw100 r => k0_hw100.2 r

def k0_off464 (k0_t6 : Fin k0_t6_loop.trips) : Fin 2 → Nat :=
  let c1_76 : Index := 1#32
  let c32_i32 : BitVec 32 := 32#32
  let c0_i32_28 : BitVec 32 := 0#32
  let c1_i32_30 : BitVec 32 := 1#32
  let arg20 : BitVec 32 := Scf.iv c0_i32_28 c1_i32_30 k0_t6
  let c8_i32_60 : BitVec 32 := 8#32
  let v67 : BitVec 32 := Scalar.muli arg20 c8_i32_60
  let v68 : BitVec 32 := Scalar.addi c32_i32 v67
  let c0_i32_61 : BitVec 32 := 0#32
  let v69 : BitVec 32 := Scalar.addi v68 c0_i32_61
  let v117 : Index := Scalar.indexCast v69
  ![1, v117.toNat]
def k0_off465 (v118 : BitVec 32) : Fin 2 → Nat :=
  let c24_i32_77 : BitVec 32 := 24#32
  let v119 : BitVec 32 := Scalar.addi v118 c24_i32_77
  let v120 : Index := Scalar.indexCast v119
  let c0_78 : Index := 0#32
  ![v120.toNat, 0]

def k0_off466 (k0_t6 : Fin k0_t6_loop.trips) : Fin 2 → Nat :=
  let c1_79 : Index := 1#32
  let c32_i32 : BitVec 32 := 32#32
  let c0_i32_28 : BitVec 32 := 0#32
  let c1_i32_30 : BitVec 32 := 1#32
  let arg20 : BitVec 32 := Scf.iv c0_i32_28 c1_i32_30 k0_t6
  let c8_i32_60 : BitVec 32 := 8#32
  let v67 : BitVec 32 := Scalar.muli arg20 c8_i32_60
  let v68 : BitVec 32 := Scalar.addi c32_i32 v67
  let c0_i32_61 : BitVec 32 := 0#32
  let v69 : BitVec 32 := Scalar.addi v68 c0_i32_61
  let v122 : Index := Scalar.indexCast v69
  ![1, v122.toNat]
def k0_off467 (v118 : BitVec 32) (c0_i32_82 : BitVec 32) : Fin 2 → Nat :=
  let v136 : BitVec 32 := Scalar.addi v118 c0_i32_82
  let v137 : Index := Scalar.indexCast v136
  let c0_83 : Index := 0#32
  ![v137.toNat, 0]

def k0_chk101 (v118 : BitVec 32) : Prop :=
  (∀ a, (k0_off465 v118) a + S1x128.size a ≤ S102432x128.size a) ∧
  (∀ (r : Fin 3), ∀ a, (k0_off467 v118 (BitVec.ofNat 32 (8 * r.val))) a + S8x128.size a ≤ S102432x128.size a)
theorem k0_off465_inb : ∀ (v118 : BitVec 32) (k0_hw101 : k0_chk101 v118), ∀ a, (k0_off465 v118) a + S1x128.size a ≤ S102432x128.size a := fun v118 k0_hw101 => k0_hw101.1
theorem k0_off467_inb : ∀ (v118 : BitVec 32) (k0_hw101 : k0_chk101 v118), ∀ (r : Fin 3), ∀ a, (k0_off467 v118 (BitVec.ofNat 32 (8 * r.val))) a + S8x128.size a ≤ S102432x128.size a := fun v118 k0_hw101 r => k0_hw101.2 r

def k0_off468 (k0_t6 : Fin k0_t6_loop.trips) : Fin 2 → Nat :=
  let c2_92 : Index := 2#32
  let c32_i32 : BitVec 32 := 32#32
  let c0_i32_28 : BitVec 32 := 0#32
  let c1_i32_30 : BitVec 32 := 1#32
  let arg20 : BitVec 32 := Scf.iv c0_i32_28 c1_i32_30 k0_t6
  let c8_i32_60 : BitVec 32 := 8#32
  let v67 : BitVec 32 := Scalar.muli arg20 c8_i32_60
  let v68 : BitVec 32 := Scalar.addi c32_i32 v67
  let c0_i32_61 : BitVec 32 := 0#32
  let v69 : BitVec 32 := Scalar.addi v68 c0_i32_61
  let v167 : Index := Scalar.indexCast v69
  ![2, v167.toNat]
def k0_off469 (v168 : BitVec 32) : Fin 2 → Nat :=
  let c24_i32_93 : BitVec 32 := 24#32
  let v169 : BitVec 32 := Scalar.addi v168 c24_i32_93
  let v170 : Index := Scalar.indexCast v169
  let c0_94 : Index := 0#32
  ![v170.toNat, 0]

def k0_off470 (k0_t6 : Fin k0_t6_loop.trips) : Fin 2 → Nat :=
  let c2_95 : Index := 2#32
  let c32_i32 : BitVec 32 := 32#32
  let c0_i32_28 : BitVec 32 := 0#32
  let c1_i32_30 : BitVec 32 := 1#32
  let arg20 : BitVec 32 := Scf.iv c0_i32_28 c1_i32_30 k0_t6
  let c8_i32_60 : BitVec 32 := 8#32
  let v67 : BitVec 32 := Scalar.muli arg20 c8_i32_60
  let v68 : BitVec 32 := Scalar.addi c32_i32 v67
  let c0_i32_61 : BitVec 32 := 0#32
  let v69 : BitVec 32 := Scalar.addi v68 c0_i32_61
  let v172 : Index := Scalar.indexCast v69
  ![2, v172.toNat]
def k0_off471 (v168 : BitVec 32) (c0_i32_98 : BitVec 32) : Fin 2 → Nat :=
  let v186 : BitVec 32 := Scalar.addi v168 c0_i32_98
  let v187 : Index := Scalar.indexCast v186
  let c0_99 : Index := 0#32
  ![v187.toNat, 0]

def k0_chk102 (v168 : BitVec 32) : Prop :=
  (∀ a, (k0_off469 v168) a + S1x128.size a ≤ S102432x128.size a) ∧
  (∀ (r : Fin 3), ∀ a, (k0_off471 v168 (BitVec.ofNat 32 (8 * r.val))) a + S8x128.size a ≤ S102432x128.size a)
theorem k0_off469_inb : ∀ (v168 : BitVec 32) (k0_hw102 : k0_chk102 v168), ∀ a, (k0_off469 v168) a + S1x128.size a ≤ S102432x128.size a := fun v168 k0_hw102 => k0_hw102.1
theorem k0_off471_inb : ∀ (v168 : BitVec 32) (k0_hw102 : k0_chk102 v168), ∀ (r : Fin 3), ∀ a, (k0_off471 v168 (BitVec.ofNat 32 (8 * r.val))) a + S8x128.size a ≤ S102432x128.size a := fun v168 k0_hw102 r => k0_hw102.2 r

def k0_off472 (k0_t6 : Fin k0_t6_loop.trips) : Fin 2 → Nat :=
  let c3_108 : Index := 3#32
  let c32_i32 : BitVec 32 := 32#32
  let c0_i32_28 : BitVec 32 := 0#32
  let c1_i32_30 : BitVec 32 := 1#32
  let arg20 : BitVec 32 := Scf.iv c0_i32_28 c1_i32_30 k0_t6
  let c8_i32_60 : BitVec 32 := 8#32
  let v67 : BitVec 32 := Scalar.muli arg20 c8_i32_60
  let v68 : BitVec 32 := Scalar.addi c32_i32 v67
  let c0_i32_61 : BitVec 32 := 0#32
  let v69 : BitVec 32 := Scalar.addi v68 c0_i32_61
  let v217 : Index := Scalar.indexCast v69
  ![3, v217.toNat]
def k0_off473 (v218 : BitVec 32) : Fin 2 → Nat :=
  let c24_i32_109 : BitVec 32 := 24#32
  let v219 : BitVec 32 := Scalar.addi v218 c24_i32_109
  let v220 : Index := Scalar.indexCast v219
  let c0_110 : Index := 0#32
  ![v220.toNat, 0]

def k0_off474 (k0_t6 : Fin k0_t6_loop.trips) : Fin 2 → Nat :=
  let c3_111 : Index := 3#32
  let c32_i32 : BitVec 32 := 32#32
  let c0_i32_28 : BitVec 32 := 0#32
  let c1_i32_30 : BitVec 32 := 1#32
  let arg20 : BitVec 32 := Scf.iv c0_i32_28 c1_i32_30 k0_t6
  let c8_i32_60 : BitVec 32 := 8#32
  let v67 : BitVec 32 := Scalar.muli arg20 c8_i32_60
  let v68 : BitVec 32 := Scalar.addi c32_i32 v67
  let c0_i32_61 : BitVec 32 := 0#32
  let v69 : BitVec 32 := Scalar.addi v68 c0_i32_61
  let v222 : Index := Scalar.indexCast v69
  ![3, v222.toNat]
def k0_off475 (v218 : BitVec 32) (c0_i32_114 : BitVec 32) : Fin 2 → Nat :=
  let v236 : BitVec 32 := Scalar.addi v218 c0_i32_114
  let v237 : Index := Scalar.indexCast v236
  let c0_115 : Index := 0#32
  ![v237.toNat, 0]

def k0_chk103 (v218 : BitVec 32) : Prop :=
  (∀ a, (k0_off473 v218) a + S1x128.size a ≤ S102432x128.size a) ∧
  (∀ (r : Fin 3), ∀ a, (k0_off475 v218 (BitVec.ofNat 32 (8 * r.val))) a + S8x128.size a ≤ S102432x128.size a)
theorem k0_off473_inb : ∀ (v218 : BitVec 32) (k0_hw103 : k0_chk103 v218), ∀ a, (k0_off473 v218) a + S1x128.size a ≤ S102432x128.size a := fun v218 k0_hw103 => k0_hw103.1
theorem k0_off475_inb : ∀ (v218 : BitVec 32) (k0_hw103 : k0_chk103 v218), ∀ (r : Fin 3), ∀ a, (k0_off475 v218 (BitVec.ofNat 32 (8 * r.val))) a + S8x128.size a ≤ S102432x128.size a := fun v218 k0_hw103 r => k0_hw103.2 r

def k0_off476 (k0_t6 : Fin k0_t6_loop.trips) : Fin 2 → Nat :=
  let c4 : Index := 4#32
  let c32_i32 : BitVec 32 := 32#32
  let c0_i32_28 : BitVec 32 := 0#32
  let c1_i32_30 : BitVec 32 := 1#32
  let arg20 : BitVec 32 := Scf.iv c0_i32_28 c1_i32_30 k0_t6
  let c8_i32_60 : BitVec 32 := 8#32
  let v67 : BitVec 32 := Scalar.muli arg20 c8_i32_60
  let v68 : BitVec 32 := Scalar.addi c32_i32 v67
  let c0_i32_61 : BitVec 32 := 0#32
  let v69 : BitVec 32 := Scalar.addi v68 c0_i32_61
  let v267 : Index := Scalar.indexCast v69
  ![4, v267.toNat]
def k0_off477 (v268 : BitVec 32) : Fin 2 → Nat :=
  let c24_i32_124 : BitVec 32 := 24#32
  let v269 : BitVec 32 := Scalar.addi v268 c24_i32_124
  let v270 : Index := Scalar.indexCast v269
  let c0_125 : Index := 0#32
  ![v270.toNat, 0]

def k0_off478 (k0_t6 : Fin k0_t6_loop.trips) : Fin 2 → Nat :=
  let c4_126 : Index := 4#32
  let c32_i32 : BitVec 32 := 32#32
  let c0_i32_28 : BitVec 32 := 0#32
  let c1_i32_30 : BitVec 32 := 1#32
  let arg20 : BitVec 32 := Scf.iv c0_i32_28 c1_i32_30 k0_t6
  let c8_i32_60 : BitVec 32 := 8#32
  let v67 : BitVec 32 := Scalar.muli arg20 c8_i32_60
  let v68 : BitVec 32 := Scalar.addi c32_i32 v67
  let c0_i32_61 : BitVec 32 := 0#32
  let v69 : BitVec 32 := Scalar.addi v68 c0_i32_61
  let v272 : Index := Scalar.indexCast v69
  ![4, v272.toNat]
def k0_off479 (v268 : BitVec 32) (c0_i32_129 : BitVec 32) : Fin 2 → Nat :=
  let v286 : BitVec 32 := Scalar.addi v268 c0_i32_129
  let v287 : Index := Scalar.indexCast v286
  let c0_130 : Index := 0#32
  ![v287.toNat, 0]

def k0_chk104 (v268 : BitVec 32) : Prop :=
  (∀ a, (k0_off477 v268) a + S1x128.size a ≤ S102432x128.size a) ∧
  (∀ (r : Fin 3), ∀ a, (k0_off479 v268 (BitVec.ofNat 32 (8 * r.val))) a + S8x128.size a ≤ S102432x128.size a)
theorem k0_off477_inb : ∀ (v268 : BitVec 32) (k0_hw104 : k0_chk104 v268), ∀ a, (k0_off477 v268) a + S1x128.size a ≤ S102432x128.size a := fun v268 k0_hw104 => k0_hw104.1
theorem k0_off479_inb : ∀ (v268 : BitVec 32) (k0_hw104 : k0_chk104 v268), ∀ (r : Fin 3), ∀ a, (k0_off479 v268 (BitVec.ofNat 32 (8 * r.val))) a + S8x128.size a ≤ S102432x128.size a := fun v268 k0_hw104 r => k0_hw104.2 r

def k0_off480 (k0_t6 : Fin k0_t6_loop.trips) : Fin 2 → Nat :=
  let c5 : Index := 5#32
  let c32_i32 : BitVec 32 := 32#32
  let c0_i32_28 : BitVec 32 := 0#32
  let c1_i32_30 : BitVec 32 := 1#32
  let arg20 : BitVec 32 := Scf.iv c0_i32_28 c1_i32_30 k0_t6
  let c8_i32_60 : BitVec 32 := 8#32
  let v67 : BitVec 32 := Scalar.muli arg20 c8_i32_60
  let v68 : BitVec 32 := Scalar.addi c32_i32 v67
  let c0_i32_61 : BitVec 32 := 0#32
  let v69 : BitVec 32 := Scalar.addi v68 c0_i32_61
  let v317 : Index := Scalar.indexCast v69
  ![5, v317.toNat]
def k0_off481 (v318 : BitVec 32) : Fin 2 → Nat :=
  let c24_i32_139 : BitVec 32 := 24#32
  let v319 : BitVec 32 := Scalar.addi v318 c24_i32_139
  let v320 : Index := Scalar.indexCast v319
  let c0_140 : Index := 0#32
  ![v320.toNat, 0]

def k0_off482 (k0_t6 : Fin k0_t6_loop.trips) : Fin 2 → Nat :=
  let c5_141 : Index := 5#32
  let c32_i32 : BitVec 32 := 32#32
  let c0_i32_28 : BitVec 32 := 0#32
  let c1_i32_30 : BitVec 32 := 1#32
  let arg20 : BitVec 32 := Scf.iv c0_i32_28 c1_i32_30 k0_t6
  let c8_i32_60 : BitVec 32 := 8#32
  let v67 : BitVec 32 := Scalar.muli arg20 c8_i32_60
  let v68 : BitVec 32 := Scalar.addi c32_i32 v67
  let c0_i32_61 : BitVec 32 := 0#32
  let v69 : BitVec 32 := Scalar.addi v68 c0_i32_61
  let v322 : Index := Scalar.indexCast v69
  ![5, v322.toNat]
def k0_off483 (v318 : BitVec 32) (c0_i32_144 : BitVec 32) : Fin 2 → Nat :=
  let v336 : BitVec 32 := Scalar.addi v318 c0_i32_144
  let v337 : Index := Scalar.indexCast v336
  let c0_145 : Index := 0#32
  ![v337.toNat, 0]

def k0_chk105 (v318 : BitVec 32) : Prop :=
  (∀ a, (k0_off481 v318) a + S1x128.size a ≤ S102432x128.size a) ∧
  (∀ (r : Fin 3), ∀ a, (k0_off483 v318 (BitVec.ofNat 32 (8 * r.val))) a + S8x128.size a ≤ S102432x128.size a)
theorem k0_off481_inb : ∀ (v318 : BitVec 32) (k0_hw105 : k0_chk105 v318), ∀ a, (k0_off481 v318) a + S1x128.size a ≤ S102432x128.size a := fun v318 k0_hw105 => k0_hw105.1
theorem k0_off483_inb : ∀ (v318 : BitVec 32) (k0_hw105 : k0_chk105 v318), ∀ (r : Fin 3), ∀ a, (k0_off483 v318 (BitVec.ofNat 32 (8 * r.val))) a + S8x128.size a ≤ S102432x128.size a := fun v318 k0_hw105 r => k0_hw105.2 r

def k0_off484 (k0_t6 : Fin k0_t6_loop.trips) : Fin 2 → Nat :=
  let c6 : Index := 6#32
  let c32_i32 : BitVec 32 := 32#32
  let c0_i32_28 : BitVec 32 := 0#32
  let c1_i32_30 : BitVec 32 := 1#32
  let arg20 : BitVec 32 := Scf.iv c0_i32_28 c1_i32_30 k0_t6
  let c8_i32_60 : BitVec 32 := 8#32
  let v67 : BitVec 32 := Scalar.muli arg20 c8_i32_60
  let v68 : BitVec 32 := Scalar.addi c32_i32 v67
  let c0_i32_61 : BitVec 32 := 0#32
  let v69 : BitVec 32 := Scalar.addi v68 c0_i32_61
  let v367 : Index := Scalar.indexCast v69
  ![6, v367.toNat]
def k0_off485 (v368 : BitVec 32) : Fin 2 → Nat :=
  let c24_i32_154 : BitVec 32 := 24#32
  let v369 : BitVec 32 := Scalar.addi v368 c24_i32_154
  let v370 : Index := Scalar.indexCast v369
  let c0_155 : Index := 0#32
  ![v370.toNat, 0]

def k0_off486 (k0_t6 : Fin k0_t6_loop.trips) : Fin 2 → Nat :=
  let c6_156 : Index := 6#32
  let c32_i32 : BitVec 32 := 32#32
  let c0_i32_28 : BitVec 32 := 0#32
  let c1_i32_30 : BitVec 32 := 1#32
  let arg20 : BitVec 32 := Scf.iv c0_i32_28 c1_i32_30 k0_t6
  let c8_i32_60 : BitVec 32 := 8#32
  let v67 : BitVec 32 := Scalar.muli arg20 c8_i32_60
  let v68 : BitVec 32 := Scalar.addi c32_i32 v67
  let c0_i32_61 : BitVec 32 := 0#32
  let v69 : BitVec 32 := Scalar.addi v68 c0_i32_61
  let v372 : Index := Scalar.indexCast v69
  ![6, v372.toNat]
def k0_off487 (v368 : BitVec 32) (c0_i32_159 : BitVec 32) : Fin 2 → Nat :=
  let v386 : BitVec 32 := Scalar.addi v368 c0_i32_159
  let v387 : Index := Scalar.indexCast v386
  let c0_160 : Index := 0#32
  ![v387.toNat, 0]

def k0_chk106 (v368 : BitVec 32) : Prop :=
  (∀ a, (k0_off485 v368) a + S1x128.size a ≤ S102432x128.size a) ∧
  (∀ (r : Fin 3), ∀ a, (k0_off487 v368 (BitVec.ofNat 32 (8 * r.val))) a + S8x128.size a ≤ S102432x128.size a)
theorem k0_off485_inb : ∀ (v368 : BitVec 32) (k0_hw106 : k0_chk106 v368), ∀ a, (k0_off485 v368) a + S1x128.size a ≤ S102432x128.size a := fun v368 k0_hw106 => k0_hw106.1
theorem k0_off487_inb : ∀ (v368 : BitVec 32) (k0_hw106 : k0_chk106 v368), ∀ (r : Fin 3), ∀ a, (k0_off487 v368 (BitVec.ofNat 32 (8 * r.val))) a + S8x128.size a ≤ S102432x128.size a := fun v368 k0_hw106 r => k0_hw106.2 r

def k0_off488 (k0_t6 : Fin k0_t6_loop.trips) : Fin 2 → Nat :=
  let c7 : Index := 7#32
  let c32_i32 : BitVec 32 := 32#32
  let c0_i32_28 : BitVec 32 := 0#32
  let c1_i32_30 : BitVec 32 := 1#32
  let arg20 : BitVec 32 := Scf.iv c0_i32_28 c1_i32_30 k0_t6
  let c8_i32_60 : BitVec 32 := 8#32
  let v67 : BitVec 32 := Scalar.muli arg20 c8_i32_60
  let v68 : BitVec 32 := Scalar.addi c32_i32 v67
  let c0_i32_61 : BitVec 32 := 0#32
  let v69 : BitVec 32 := Scalar.addi v68 c0_i32_61
  let v417 : Index := Scalar.indexCast v69
  ![7, v417.toNat]
def k0_off489 (v418 : BitVec 32) : Fin 2 → Nat :=
  let c24_i32_169 : BitVec 32 := 24#32
  let v419 : BitVec 32 := Scalar.addi v418 c24_i32_169
  let v420 : Index := Scalar.indexCast v419
  let c0_170 : Index := 0#32
  ![v420.toNat, 0]

def k0_off490 (k0_t6 : Fin k0_t6_loop.trips) : Fin 2 → Nat :=
  let c7_171 : Index := 7#32
  let c32_i32 : BitVec 32 := 32#32
  let c0_i32_28 : BitVec 32 := 0#32
  let c1_i32_30 : BitVec 32 := 1#32
  let arg20 : BitVec 32 := Scf.iv c0_i32_28 c1_i32_30 k0_t6
  let c8_i32_60 : BitVec 32 := 8#32
  let v67 : BitVec 32 := Scalar.muli arg20 c8_i32_60
  let v68 : BitVec 32 := Scalar.addi c32_i32 v67
  let c0_i32_61 : BitVec 32 := 0#32
  let v69 : BitVec 32 := Scalar.addi v68 c0_i32_61
  let v422 : Index := Scalar.indexCast v69
  ![7, v422.toNat]
def k0_off491 (v418 : BitVec 32) (c0_i32_174 : BitVec 32) : Fin 2 → Nat :=
  let v436 : BitVec 32 := Scalar.addi v418 c0_i32_174
  let v437 : Index := Scalar.indexCast v436
  let c0_175 : Index := 0#32
  ![v437.toNat, 0]

def k0_chk107 (v418 : BitVec 32) : Prop :=
  (∀ a, (k0_off489 v418) a + S1x128.size a ≤ S102432x128.size a) ∧
  (∀ (r : Fin 3), ∀ a, (k0_off491 v418 (BitVec.ofNat 32 (8 * r.val))) a + S8x128.size a ≤ S102432x128.size a)
theorem k0_off489_inb : ∀ (v418 : BitVec 32) (k0_hw107 : k0_chk107 v418), ∀ a, (k0_off489 v418) a + S1x128.size a ≤ S102432x128.size a := fun v418 k0_hw107 => k0_hw107.1
theorem k0_off491_inb : ∀ (v418 : BitVec 32) (k0_hw107 : k0_chk107 v418), ∀ (r : Fin 3), ∀ a, (k0_off491 v418 (BitVec.ofNat 32 (8 * r.val))) a + S8x128.size a ≤ S102432x128.size a := fun v418 k0_hw107 r => k0_hw107.2 r

def k0_off492 (k0_t6 : Fin k0_t6_loop.trips) (c0_i32_184 : BitVec 32) : Fin 2 → Nat :=
  let c32_i32 : BitVec 32 := 32#32
  let c0_i32_28 : BitVec 32 := 0#32
  let c1_i32_30 : BitVec 32 := 1#32
  let arg20 : BitVec 32 := Scf.iv c0_i32_28 c1_i32_30 k0_t6
  let c8_i32_60 : BitVec 32 := 8#32
  let v67 : BitVec 32 := Scalar.muli arg20 c8_i32_60
  let v68 : BitVec 32 := Scalar.addi c32_i32 v67
  let c0_i32_61 : BitVec 32 := 0#32
  let v69 : BitVec 32 := Scalar.addi v68 c0_i32_61
  let c25_i32 : BitVec 32 := 25#32
  let v467 : BitVec 32 := Scalar.muli v69 c25_i32
  let v468 : BitVec 32 := Scalar.addi v467 c0_i32_184
  let v469 : Index := Scalar.indexCast v468
  let c0_185 : Index := 0#32
  ![v469.toNat, 0]
def k0_off493 (k0_t6 : Fin k0_t6_loop.trips) : Fin 2 → Nat :=
  let c0_195 : Index := 0#32
  let c32_i32_193 : BitVec 32 := 32#32
  let c0_i32_28 : BitVec 32 := 0#32
  let c1_i32_30 : BitVec 32 := 1#32
  let arg20 : BitVec 32 := Scf.iv c0_i32_28 c1_i32_30 k0_t6
  let c8_i32_192 : BitVec 32 := 8#32
  let v485 : BitVec 32 := Scalar.muli arg20 c8_i32_192
  let v486 : BitVec 32 := Scalar.addi c32_i32_193 v485
  let c1_i32_194 : BitVec 32 := 1#32
  let v487 : BitVec 32 := Scalar.addi v486 c1_i32_194
  let v488 : Index := Scalar.indexCast v487
  ![0, v488.toNat]
def k0_off494 (v489 : BitVec 32) : Fin 2 → Nat :=
  let c24_i32_196 : BitVec 32 := 24#32
  let v490 : BitVec 32 := Scalar.addi v489 c24_i32_196
  let v491 : Index := Scalar.indexCast v490
  let c0_197 : Index := 0#32
  ![v491.toNat, 0]

def k0_off495 (k0_t6 : Fin k0_t6_loop.trips) : Fin 2 → Nat :=
  let c0_198 : Index := 0#32
  let c32_i32_193 : BitVec 32 := 32#32
  let c0_i32_28 : BitVec 32 := 0#32
  let c1_i32_30 : BitVec 32 := 1#32
  let arg20 : BitVec 32 := Scf.iv c0_i32_28 c1_i32_30 k0_t6
  let c8_i32_192 : BitVec 32 := 8#32
  let v485 : BitVec 32 := Scalar.muli arg20 c8_i32_192
  let v486 : BitVec 32 := Scalar.addi c32_i32_193 v485
  let c1_i32_194 : BitVec 32 := 1#32
  let v487 : BitVec 32 := Scalar.addi v486 c1_i32_194
  let v493 : Index := Scalar.indexCast v487
  ![0, v493.toNat]
def k0_off496 (v489 : BitVec 32) (c0_i32_201 : BitVec 32) : Fin 2 → Nat :=
  let v507 : BitVec 32 := Scalar.addi v489 c0_i32_201
  let v508 : Index := Scalar.indexCast v507
  let c0_202 : Index := 0#32
  ![v508.toNat, 0]

def k0_chk108 (v489 : BitVec 32) : Prop :=
  (∀ a, (k0_off494 v489) a + S1x128.size a ≤ S102432x128.size a) ∧
  (∀ (r : Fin 3), ∀ a, (k0_off496 v489 (BitVec.ofNat 32 (8 * r.val))) a + S8x128.size a ≤ S102432x128.size a)
theorem k0_off494_inb : ∀ (v489 : BitVec 32) (k0_hw108 : k0_chk108 v489), ∀ a, (k0_off494 v489) a + S1x128.size a ≤ S102432x128.size a := fun v489 k0_hw108 => k0_hw108.1
theorem k0_off496_inb : ∀ (v489 : BitVec 32) (k0_hw108 : k0_chk108 v489), ∀ (r : Fin 3), ∀ a, (k0_off496 v489 (BitVec.ofNat 32 (8 * r.val))) a + S8x128.size a ≤ S102432x128.size a := fun v489 k0_hw108 r => k0_hw108.2 r

def k0_off497 (k0_t6 : Fin k0_t6_loop.trips) : Fin 2 → Nat :=
  let c1_211 : Index := 1#32
  let c32_i32_193 : BitVec 32 := 32#32
  let c0_i32_28 : BitVec 32 := 0#32
  let c1_i32_30 : BitVec 32 := 1#32
  let arg20 : BitVec 32 := Scf.iv c0_i32_28 c1_i32_30 k0_t6
  let c8_i32_192 : BitVec 32 := 8#32
  let v485 : BitVec 32 := Scalar.muli arg20 c8_i32_192
  let v486 : BitVec 32 := Scalar.addi c32_i32_193 v485
  let c1_i32_194 : BitVec 32 := 1#32
  let v487 : BitVec 32 := Scalar.addi v486 c1_i32_194
  let v535 : Index := Scalar.indexCast v487
  ![1, v535.toNat]
def k0_off498 (v536 : BitVec 32) : Fin 2 → Nat :=
  let c24_i32_212 : BitVec 32 := 24#32
  let v537 : BitVec 32 := Scalar.addi v536 c24_i32_212
  let v538 : Index := Scalar.indexCast v537
  let c0_213 : Index := 0#32
  ![v538.toNat, 0]

def k0_off499 (k0_t6 : Fin k0_t6_loop.trips) : Fin 2 → Nat :=
  let c1_214 : Index := 1#32
  let c32_i32_193 : BitVec 32 := 32#32
  let c0_i32_28 : BitVec 32 := 0#32
  let c1_i32_30 : BitVec 32 := 1#32
  let arg20 : BitVec 32 := Scf.iv c0_i32_28 c1_i32_30 k0_t6
  let c8_i32_192 : BitVec 32 := 8#32
  let v485 : BitVec 32 := Scalar.muli arg20 c8_i32_192
  let v486 : BitVec 32 := Scalar.addi c32_i32_193 v485
  let c1_i32_194 : BitVec 32 := 1#32
  let v487 : BitVec 32 := Scalar.addi v486 c1_i32_194
  let v540 : Index := Scalar.indexCast v487
  ![1, v540.toNat]
def k0_off500 (v536 : BitVec 32) (c0_i32_217 : BitVec 32) : Fin 2 → Nat :=
  let v554 : BitVec 32 := Scalar.addi v536 c0_i32_217
  let v555 : Index := Scalar.indexCast v554
  let c0_218 : Index := 0#32
  ![v555.toNat, 0]

def k0_chk109 (v536 : BitVec 32) : Prop :=
  (∀ a, (k0_off498 v536) a + S1x128.size a ≤ S102432x128.size a) ∧
  (∀ (r : Fin 3), ∀ a, (k0_off500 v536 (BitVec.ofNat 32 (8 * r.val))) a + S8x128.size a ≤ S102432x128.size a)
theorem k0_off498_inb : ∀ (v536 : BitVec 32) (k0_hw109 : k0_chk109 v536), ∀ a, (k0_off498 v536) a + S1x128.size a ≤ S102432x128.size a := fun v536 k0_hw109 => k0_hw109.1
theorem k0_off500_inb : ∀ (v536 : BitVec 32) (k0_hw109 : k0_chk109 v536), ∀ (r : Fin 3), ∀ a, (k0_off500 v536 (BitVec.ofNat 32 (8 * r.val))) a + S8x128.size a ≤ S102432x128.size a := fun v536 k0_hw109 r => k0_hw109.2 r

def k0_off501 (k0_t6 : Fin k0_t6_loop.trips) : Fin 2 → Nat :=
  let c2_227 : Index := 2#32
  let c32_i32_193 : BitVec 32 := 32#32
  let c0_i32_28 : BitVec 32 := 0#32
  let c1_i32_30 : BitVec 32 := 1#32
  let arg20 : BitVec 32 := Scf.iv c0_i32_28 c1_i32_30 k0_t6
  let c8_i32_192 : BitVec 32 := 8#32
  let v485 : BitVec 32 := Scalar.muli arg20 c8_i32_192
  let v486 : BitVec 32 := Scalar.addi c32_i32_193 v485
  let c1_i32_194 : BitVec 32 := 1#32
  let v487 : BitVec 32 := Scalar.addi v486 c1_i32_194
  let v585 : Index := Scalar.indexCast v487
  ![2, v585.toNat]
def k0_off502 (v586 : BitVec 32) : Fin 2 → Nat :=
  let c24_i32_228 : BitVec 32 := 24#32
  let v587 : BitVec 32 := Scalar.addi v586 c24_i32_228
  let v588 : Index := Scalar.indexCast v587
  let c0_229 : Index := 0#32
  ![v588.toNat, 0]

def k0_off503 (k0_t6 : Fin k0_t6_loop.trips) : Fin 2 → Nat :=
  let c2_230 : Index := 2#32
  let c32_i32_193 : BitVec 32 := 32#32
  let c0_i32_28 : BitVec 32 := 0#32
  let c1_i32_30 : BitVec 32 := 1#32
  let arg20 : BitVec 32 := Scf.iv c0_i32_28 c1_i32_30 k0_t6
  let c8_i32_192 : BitVec 32 := 8#32
  let v485 : BitVec 32 := Scalar.muli arg20 c8_i32_192
  let v486 : BitVec 32 := Scalar.addi c32_i32_193 v485
  let c1_i32_194 : BitVec 32 := 1#32
  let v487 : BitVec 32 := Scalar.addi v486 c1_i32_194
  let v590 : Index := Scalar.indexCast v487
  ![2, v590.toNat]
def k0_off504 (v586 : BitVec 32) (c0_i32_233 : BitVec 32) : Fin 2 → Nat :=
  let v604 : BitVec 32 := Scalar.addi v586 c0_i32_233
  let v605 : Index := Scalar.indexCast v604
  let c0_234 : Index := 0#32
  ![v605.toNat, 0]

def k0_chk110 (v586 : BitVec 32) : Prop :=
  (∀ a, (k0_off502 v586) a + S1x128.size a ≤ S102432x128.size a) ∧
  (∀ (r : Fin 3), ∀ a, (k0_off504 v586 (BitVec.ofNat 32 (8 * r.val))) a + S8x128.size a ≤ S102432x128.size a)
theorem k0_off502_inb : ∀ (v586 : BitVec 32) (k0_hw110 : k0_chk110 v586), ∀ a, (k0_off502 v586) a + S1x128.size a ≤ S102432x128.size a := fun v586 k0_hw110 => k0_hw110.1
theorem k0_off504_inb : ∀ (v586 : BitVec 32) (k0_hw110 : k0_chk110 v586), ∀ (r : Fin 3), ∀ a, (k0_off504 v586 (BitVec.ofNat 32 (8 * r.val))) a + S8x128.size a ≤ S102432x128.size a := fun v586 k0_hw110 r => k0_hw110.2 r

def k0_off505 (k0_t6 : Fin k0_t6_loop.trips) : Fin 2 → Nat :=
  let c3_243 : Index := 3#32
  let c32_i32_193 : BitVec 32 := 32#32
  let c0_i32_28 : BitVec 32 := 0#32
  let c1_i32_30 : BitVec 32 := 1#32
  let arg20 : BitVec 32 := Scf.iv c0_i32_28 c1_i32_30 k0_t6
  let c8_i32_192 : BitVec 32 := 8#32
  let v485 : BitVec 32 := Scalar.muli arg20 c8_i32_192
  let v486 : BitVec 32 := Scalar.addi c32_i32_193 v485
  let c1_i32_194 : BitVec 32 := 1#32
  let v487 : BitVec 32 := Scalar.addi v486 c1_i32_194
  let v635 : Index := Scalar.indexCast v487
  ![3, v635.toNat]
def k0_off506 (v636 : BitVec 32) : Fin 2 → Nat :=
  let c24_i32_244 : BitVec 32 := 24#32
  let v637 : BitVec 32 := Scalar.addi v636 c24_i32_244
  let v638 : Index := Scalar.indexCast v637
  let c0_245 : Index := 0#32
  ![v638.toNat, 0]

def k0_off507 (k0_t6 : Fin k0_t6_loop.trips) : Fin 2 → Nat :=
  let c3_246 : Index := 3#32
  let c32_i32_193 : BitVec 32 := 32#32
  let c0_i32_28 : BitVec 32 := 0#32
  let c1_i32_30 : BitVec 32 := 1#32
  let arg20 : BitVec 32 := Scf.iv c0_i32_28 c1_i32_30 k0_t6
  let c8_i32_192 : BitVec 32 := 8#32
  let v485 : BitVec 32 := Scalar.muli arg20 c8_i32_192
  let v486 : BitVec 32 := Scalar.addi c32_i32_193 v485
  let c1_i32_194 : BitVec 32 := 1#32
  let v487 : BitVec 32 := Scalar.addi v486 c1_i32_194
  let v640 : Index := Scalar.indexCast v487
  ![3, v640.toNat]
def k0_off508 (v636 : BitVec 32) (c0_i32_249 : BitVec 32) : Fin 2 → Nat :=
  let v654 : BitVec 32 := Scalar.addi v636 c0_i32_249
  let v655 : Index := Scalar.indexCast v654
  let c0_250 : Index := 0#32
  ![v655.toNat, 0]

def k0_chk111 (v636 : BitVec 32) : Prop :=
  (∀ a, (k0_off506 v636) a + S1x128.size a ≤ S102432x128.size a) ∧
  (∀ (r : Fin 3), ∀ a, (k0_off508 v636 (BitVec.ofNat 32 (8 * r.val))) a + S8x128.size a ≤ S102432x128.size a)
theorem k0_off506_inb : ∀ (v636 : BitVec 32) (k0_hw111 : k0_chk111 v636), ∀ a, (k0_off506 v636) a + S1x128.size a ≤ S102432x128.size a := fun v636 k0_hw111 => k0_hw111.1
theorem k0_off508_inb : ∀ (v636 : BitVec 32) (k0_hw111 : k0_chk111 v636), ∀ (r : Fin 3), ∀ a, (k0_off508 v636 (BitVec.ofNat 32 (8 * r.val))) a + S8x128.size a ≤ S102432x128.size a := fun v636 k0_hw111 r => k0_hw111.2 r

def k0_off509 (k0_t6 : Fin k0_t6_loop.trips) : Fin 2 → Nat :=
  let c4_259 : Index := 4#32
  let c32_i32_193 : BitVec 32 := 32#32
  let c0_i32_28 : BitVec 32 := 0#32
  let c1_i32_30 : BitVec 32 := 1#32
  let arg20 : BitVec 32 := Scf.iv c0_i32_28 c1_i32_30 k0_t6
  let c8_i32_192 : BitVec 32 := 8#32
  let v485 : BitVec 32 := Scalar.muli arg20 c8_i32_192
  let v486 : BitVec 32 := Scalar.addi c32_i32_193 v485
  let c1_i32_194 : BitVec 32 := 1#32
  let v487 : BitVec 32 := Scalar.addi v486 c1_i32_194
  let v685 : Index := Scalar.indexCast v487
  ![4, v685.toNat]
def k0_off510 (v686 : BitVec 32) : Fin 2 → Nat :=
  let c24_i32_260 : BitVec 32 := 24#32
  let v687 : BitVec 32 := Scalar.addi v686 c24_i32_260
  let v688 : Index := Scalar.indexCast v687
  let c0_261 : Index := 0#32
  ![v688.toNat, 0]

def k0_off511 (k0_t6 : Fin k0_t6_loop.trips) : Fin 2 → Nat :=
  let c4_262 : Index := 4#32
  let c32_i32_193 : BitVec 32 := 32#32
  let c0_i32_28 : BitVec 32 := 0#32
  let c1_i32_30 : BitVec 32 := 1#32
  let arg20 : BitVec 32 := Scf.iv c0_i32_28 c1_i32_30 k0_t6
  let c8_i32_192 : BitVec 32 := 8#32
  let v485 : BitVec 32 := Scalar.muli arg20 c8_i32_192
  let v486 : BitVec 32 := Scalar.addi c32_i32_193 v485
  let c1_i32_194 : BitVec 32 := 1#32
  let v487 : BitVec 32 := Scalar.addi v486 c1_i32_194
  let v690 : Index := Scalar.indexCast v487
  ![4, v690.toNat]
def k0_off512 (v686 : BitVec 32) (c0_i32_265 : BitVec 32) : Fin 2 → Nat :=
  let v704 : BitVec 32 := Scalar.addi v686 c0_i32_265
  let v705 : Index := Scalar.indexCast v704
  let c0_266 : Index := 0#32
  ![v705.toNat, 0]

def k0_chk112 (v686 : BitVec 32) : Prop :=
  (∀ a, (k0_off510 v686) a + S1x128.size a ≤ S102432x128.size a) ∧
  (∀ (r : Fin 3), ∀ a, (k0_off512 v686 (BitVec.ofNat 32 (8 * r.val))) a + S8x128.size a ≤ S102432x128.size a)
theorem k0_off510_inb : ∀ (v686 : BitVec 32) (k0_hw112 : k0_chk112 v686), ∀ a, (k0_off510 v686) a + S1x128.size a ≤ S102432x128.size a := fun v686 k0_hw112 => k0_hw112.1
theorem k0_off512_inb : ∀ (v686 : BitVec 32) (k0_hw112 : k0_chk112 v686), ∀ (r : Fin 3), ∀ a, (k0_off512 v686 (BitVec.ofNat 32 (8 * r.val))) a + S8x128.size a ≤ S102432x128.size a := fun v686 k0_hw112 r => k0_hw112.2 r

def k0_off513 (k0_t6 : Fin k0_t6_loop.trips) : Fin 2 → Nat :=
  let c5_275 : Index := 5#32
  let c32_i32_193 : BitVec 32 := 32#32
  let c0_i32_28 : BitVec 32 := 0#32
  let c1_i32_30 : BitVec 32 := 1#32
  let arg20 : BitVec 32 := Scf.iv c0_i32_28 c1_i32_30 k0_t6
  let c8_i32_192 : BitVec 32 := 8#32
  let v485 : BitVec 32 := Scalar.muli arg20 c8_i32_192
  let v486 : BitVec 32 := Scalar.addi c32_i32_193 v485
  let c1_i32_194 : BitVec 32 := 1#32
  let v487 : BitVec 32 := Scalar.addi v486 c1_i32_194
  let v735 : Index := Scalar.indexCast v487
  ![5, v735.toNat]
def k0_off514 (v736 : BitVec 32) : Fin 2 → Nat :=
  let c24_i32_276 : BitVec 32 := 24#32
  let v737 : BitVec 32 := Scalar.addi v736 c24_i32_276
  let v738 : Index := Scalar.indexCast v737
  let c0_277 : Index := 0#32
  ![v738.toNat, 0]

def k0_off515 (k0_t6 : Fin k0_t6_loop.trips) : Fin 2 → Nat :=
  let c5_278 : Index := 5#32
  let c32_i32_193 : BitVec 32 := 32#32
  let c0_i32_28 : BitVec 32 := 0#32
  let c1_i32_30 : BitVec 32 := 1#32
  let arg20 : BitVec 32 := Scf.iv c0_i32_28 c1_i32_30 k0_t6
  let c8_i32_192 : BitVec 32 := 8#32
  let v485 : BitVec 32 := Scalar.muli arg20 c8_i32_192
  let v486 : BitVec 32 := Scalar.addi c32_i32_193 v485
  let c1_i32_194 : BitVec 32 := 1#32
  let v487 : BitVec 32 := Scalar.addi v486 c1_i32_194
  let v740 : Index := Scalar.indexCast v487
  ![5, v740.toNat]
def k0_off516 (v736 : BitVec 32) (c0_i32_281 : BitVec 32) : Fin 2 → Nat :=
  let v754 : BitVec 32 := Scalar.addi v736 c0_i32_281
  let v755 : Index := Scalar.indexCast v754
  let c0_282 : Index := 0#32
  ![v755.toNat, 0]

def k0_chk113 (v736 : BitVec 32) : Prop :=
  (∀ a, (k0_off514 v736) a + S1x128.size a ≤ S102432x128.size a) ∧
  (∀ (r : Fin 3), ∀ a, (k0_off516 v736 (BitVec.ofNat 32 (8 * r.val))) a + S8x128.size a ≤ S102432x128.size a)
theorem k0_off514_inb : ∀ (v736 : BitVec 32) (k0_hw113 : k0_chk113 v736), ∀ a, (k0_off514 v736) a + S1x128.size a ≤ S102432x128.size a := fun v736 k0_hw113 => k0_hw113.1
theorem k0_off516_inb : ∀ (v736 : BitVec 32) (k0_hw113 : k0_chk113 v736), ∀ (r : Fin 3), ∀ a, (k0_off516 v736 (BitVec.ofNat 32 (8 * r.val))) a + S8x128.size a ≤ S102432x128.size a := fun v736 k0_hw113 r => k0_hw113.2 r

def k0_off517 (k0_t6 : Fin k0_t6_loop.trips) : Fin 2 → Nat :=
  let c6_291 : Index := 6#32
  let c32_i32_193 : BitVec 32 := 32#32
  let c0_i32_28 : BitVec 32 := 0#32
  let c1_i32_30 : BitVec 32 := 1#32
  let arg20 : BitVec 32 := Scf.iv c0_i32_28 c1_i32_30 k0_t6
  let c8_i32_192 : BitVec 32 := 8#32
  let v485 : BitVec 32 := Scalar.muli arg20 c8_i32_192
  let v486 : BitVec 32 := Scalar.addi c32_i32_193 v485
  let c1_i32_194 : BitVec 32 := 1#32
  let v487 : BitVec 32 := Scalar.addi v486 c1_i32_194
  let v785 : Index := Scalar.indexCast v487
  ![6, v785.toNat]
def k0_off518 (v786 : BitVec 32) : Fin 2 → Nat :=
  let c24_i32_292 : BitVec 32 := 24#32
  let v787 : BitVec 32 := Scalar.addi v786 c24_i32_292
  let v788 : Index := Scalar.indexCast v787
  let c0_293 : Index := 0#32
  ![v788.toNat, 0]

def k0_off519 (k0_t6 : Fin k0_t6_loop.trips) : Fin 2 → Nat :=
  let c6_294 : Index := 6#32
  let c32_i32_193 : BitVec 32 := 32#32
  let c0_i32_28 : BitVec 32 := 0#32
  let c1_i32_30 : BitVec 32 := 1#32
  let arg20 : BitVec 32 := Scf.iv c0_i32_28 c1_i32_30 k0_t6
  let c8_i32_192 : BitVec 32 := 8#32
  let v485 : BitVec 32 := Scalar.muli arg20 c8_i32_192
  let v486 : BitVec 32 := Scalar.addi c32_i32_193 v485
  let c1_i32_194 : BitVec 32 := 1#32
  let v487 : BitVec 32 := Scalar.addi v486 c1_i32_194
  let v790 : Index := Scalar.indexCast v487
  ![6, v790.toNat]
def k0_off520 (v786 : BitVec 32) (c0_i32_297 : BitVec 32) : Fin 2 → Nat :=
  let v804 : BitVec 32 := Scalar.addi v786 c0_i32_297
  let v805 : Index := Scalar.indexCast v804
  let c0_298 : Index := 0#32
  ![v805.toNat, 0]

def k0_chk114 (v786 : BitVec 32) : Prop :=
  (∀ a, (k0_off518 v786) a + S1x128.size a ≤ S102432x128.size a) ∧
  (∀ (r : Fin 3), ∀ a, (k0_off520 v786 (BitVec.ofNat 32 (8 * r.val))) a + S8x128.size a ≤ S102432x128.size a)
theorem k0_off518_inb : ∀ (v786 : BitVec 32) (k0_hw114 : k0_chk114 v786), ∀ a, (k0_off518 v786) a + S1x128.size a ≤ S102432x128.size a := fun v786 k0_hw114 => k0_hw114.1
theorem k0_off520_inb : ∀ (v786 : BitVec 32) (k0_hw114 : k0_chk114 v786), ∀ (r : Fin 3), ∀ a, (k0_off520 v786 (BitVec.ofNat 32 (8 * r.val))) a + S8x128.size a ≤ S102432x128.size a := fun v786 k0_hw114 r => k0_hw114.2 r

def k0_off521 (k0_t6 : Fin k0_t6_loop.trips) : Fin 2 → Nat :=
  let c7_307 : Index := 7#32
  let c32_i32_193 : BitVec 32 := 32#32
  let c0_i32_28 : BitVec 32 := 0#32
  let c1_i32_30 : BitVec 32 := 1#32
  let arg20 : BitVec 32 := Scf.iv c0_i32_28 c1_i32_30 k0_t6
  let c8_i32_192 : BitVec 32 := 8#32
  let v485 : BitVec 32 := Scalar.muli arg20 c8_i32_192
  let v486 : BitVec 32 := Scalar.addi c32_i32_193 v485
  let c1_i32_194 : BitVec 32 := 1#32
  let v487 : BitVec 32 := Scalar.addi v486 c1_i32_194
  let v835 : Index := Scalar.indexCast v487
  ![7, v835.toNat]
def k0_off522 (v836 : BitVec 32) : Fin 2 → Nat :=
  let c24_i32_308 : BitVec 32 := 24#32
  let v837 : BitVec 32 := Scalar.addi v836 c24_i32_308
  let v838 : Index := Scalar.indexCast v837
  let c0_309 : Index := 0#32
  ![v838.toNat, 0]

def k0_off523 (k0_t6 : Fin k0_t6_loop.trips) : Fin 2 → Nat :=
  let c7_310 : Index := 7#32
  let c32_i32_193 : BitVec 32 := 32#32
  let c0_i32_28 : BitVec 32 := 0#32
  let c1_i32_30 : BitVec 32 := 1#32
  let arg20 : BitVec 32 := Scf.iv c0_i32_28 c1_i32_30 k0_t6
  let c8_i32_192 : BitVec 32 := 8#32
  let v485 : BitVec 32 := Scalar.muli arg20 c8_i32_192
  let v486 : BitVec 32 := Scalar.addi c32_i32_193 v485
  let c1_i32_194 : BitVec 32 := 1#32
  let v487 : BitVec 32 := Scalar.addi v486 c1_i32_194
  let v840 : Index := Scalar.indexCast v487
  ![7, v840.toNat]
def k0_off524 (v836 : BitVec 32) (c0_i32_313 : BitVec 32) : Fin 2 → Nat :=
  let v854 : BitVec 32 := Scalar.addi v836 c0_i32_313
  let v855 : Index := Scalar.indexCast v854
  let c0_314 : Index := 0#32
  ![v855.toNat, 0]

def k0_chk115 (v836 : BitVec 32) : Prop :=
  (∀ a, (k0_off522 v836) a + S1x128.size a ≤ S102432x128.size a) ∧
  (∀ (r : Fin 3), ∀ a, (k0_off524 v836 (BitVec.ofNat 32 (8 * r.val))) a + S8x128.size a ≤ S102432x128.size a)
theorem k0_off522_inb : ∀ (v836 : BitVec 32) (k0_hw115 : k0_chk115 v836), ∀ a, (k0_off522 v836) a + S1x128.size a ≤ S102432x128.size a := fun v836 k0_hw115 => k0_hw115.1
theorem k0_off524_inb : ∀ (v836 : BitVec 32) (k0_hw115 : k0_chk115 v836), ∀ (r : Fin 3), ∀ a, (k0_off524 v836 (BitVec.ofNat 32 (8 * r.val))) a + S8x128.size a ≤ S102432x128.size a := fun v836 k0_hw115 r => k0_hw115.2 r

def k0_off525 (k0_t6 : Fin k0_t6_loop.trips) (c0_i32_324 : BitVec 32) : Fin 2 → Nat :=
  let c32_i32_193 : BitVec 32 := 32#32
  let c0_i32_28 : BitVec 32 := 0#32
  let c1_i32_30 : BitVec 32 := 1#32
  let arg20 : BitVec 32 := Scf.iv c0_i32_28 c1_i32_30 k0_t6
  let c8_i32_192 : BitVec 32 := 8#32
  let v485 : BitVec 32 := Scalar.muli arg20 c8_i32_192
  let v486 : BitVec 32 := Scalar.addi c32_i32_193 v485
  let c1_i32_194 : BitVec 32 := 1#32
  let v487 : BitVec 32 := Scalar.addi v486 c1_i32_194
  let c25_i32_323 : BitVec 32 := 25#32
  let v885 : BitVec 32 := Scalar.muli v487 c25_i32_323
  let v886 : BitVec 32 := Scalar.addi v885 c0_i32_324
  let v887 : Index := Scalar.indexCast v886
  let c0_325 : Index := 0#32
  ![v887.toNat, 0]
def k0_off526 (k0_t6 : Fin k0_t6_loop.trips) : Fin 2 → Nat :=
  let c0_334 : Index := 0#32
  let c32_i32_333 : BitVec 32 := 32#32
  let c0_i32_28 : BitVec 32 := 0#32
  let c1_i32_30 : BitVec 32 := 1#32
  let arg20 : BitVec 32 := Scf.iv c0_i32_28 c1_i32_30 k0_t6
  let c8_i32_332 : BitVec 32 := 8#32
  let v903 : BitVec 32 := Scalar.muli arg20 c8_i32_332
  let v904 : BitVec 32 := Scalar.addi c32_i32_333 v903
  let c2_i32 : BitVec 32 := 2#32
  let v905 : BitVec 32 := Scalar.addi v904 c2_i32
  let v906 : Index := Scalar.indexCast v905
  ![0, v906.toNat]
def k0_off527 (v907 : BitVec 32) : Fin 2 → Nat :=
  let c24_i32_335 : BitVec 32 := 24#32
  let v908 : BitVec 32 := Scalar.addi v907 c24_i32_335
  let v909 : Index := Scalar.indexCast v908
  let c0_336 : Index := 0#32
  ![v909.toNat, 0]

def k0_off528 (k0_t6 : Fin k0_t6_loop.trips) : Fin 2 → Nat :=
  let c0_337 : Index := 0#32
  let c32_i32_333 : BitVec 32 := 32#32
  let c0_i32_28 : BitVec 32 := 0#32
  let c1_i32_30 : BitVec 32 := 1#32
  let arg20 : BitVec 32 := Scf.iv c0_i32_28 c1_i32_30 k0_t6
  let c8_i32_332 : BitVec 32 := 8#32
  let v903 : BitVec 32 := Scalar.muli arg20 c8_i32_332
  let v904 : BitVec 32 := Scalar.addi c32_i32_333 v903
  let c2_i32 : BitVec 32 := 2#32
  let v905 : BitVec 32 := Scalar.addi v904 c2_i32
  let v911 : Index := Scalar.indexCast v905
  ![0, v911.toNat]
def k0_off529 (v907 : BitVec 32) (c0_i32_340 : BitVec 32) : Fin 2 → Nat :=
  let v925 : BitVec 32 := Scalar.addi v907 c0_i32_340
  let v926 : Index := Scalar.indexCast v925
  let c0_341 : Index := 0#32
  ![v926.toNat, 0]

def k0_chk116 (v907 : BitVec 32) : Prop :=
  (∀ a, (k0_off527 v907) a + S1x128.size a ≤ S102432x128.size a) ∧
  (∀ (r : Fin 3), ∀ a, (k0_off529 v907 (BitVec.ofNat 32 (8 * r.val))) a + S8x128.size a ≤ S102432x128.size a)
theorem k0_off527_inb : ∀ (v907 : BitVec 32) (k0_hw116 : k0_chk116 v907), ∀ a, (k0_off527 v907) a + S1x128.size a ≤ S102432x128.size a := fun v907 k0_hw116 => k0_hw116.1
theorem k0_off529_inb : ∀ (v907 : BitVec 32) (k0_hw116 : k0_chk116 v907), ∀ (r : Fin 3), ∀ a, (k0_off529 v907 (BitVec.ofNat 32 (8 * r.val))) a + S8x128.size a ≤ S102432x128.size a := fun v907 k0_hw116 r => k0_hw116.2 r

def k0_off530 (k0_t6 : Fin k0_t6_loop.trips) : Fin 2 → Nat :=
  let c1_350 : Index := 1#32
  let c32_i32_333 : BitVec 32 := 32#32
  let c0_i32_28 : BitVec 32 := 0#32
  let c1_i32_30 : BitVec 32 := 1#32
  let arg20 : BitVec 32 := Scf.iv c0_i32_28 c1_i32_30 k0_t6
  let c8_i32_332 : BitVec 32 := 8#32
  let v903 : BitVec 32 := Scalar.muli arg20 c8_i32_332
  let v904 : BitVec 32 := Scalar.addi c32_i32_333 v903
  let c2_i32 : BitVec 32 := 2#32
  let v905 : BitVec 32 := Scalar.addi v904 c2_i32
  let v953 : Index := Scalar.indexCast v905
  ![1, v953.toNat]
def k0_off531 (v954 : BitVec 32) : Fin 2 → Nat :=
  let c24_i32_351 : BitVec 32 := 24#32
  let v955 : BitVec 32 := Scalar.addi v954 c24_i32_351
  let v956 : Index := Scalar.indexCast v955
  let c0_352 : Index := 0#32
  ![v956.toNat, 0]

def k0_off532 (k0_t6 : Fin k0_t6_loop.trips) : Fin 2 → Nat :=
  let c1_353 : Index := 1#32
  let c32_i32_333 : BitVec 32 := 32#32
  let c0_i32_28 : BitVec 32 := 0#32
  let c1_i32_30 : BitVec 32 := 1#32
  let arg20 : BitVec 32 := Scf.iv c0_i32_28 c1_i32_30 k0_t6
  let c8_i32_332 : BitVec 32 := 8#32
  let v903 : BitVec 32 := Scalar.muli arg20 c8_i32_332
  let v904 : BitVec 32 := Scalar.addi c32_i32_333 v903
  let c2_i32 : BitVec 32 := 2#32
  let v905 : BitVec 32 := Scalar.addi v904 c2_i32
  let v958 : Index := Scalar.indexCast v905
  ![1, v958.toNat]
def k0_off533 (v954 : BitVec 32) (c0_i32_356 : BitVec 32) : Fin 2 → Nat :=
  let v972 : BitVec 32 := Scalar.addi v954 c0_i32_356
  let v973 : Index := Scalar.indexCast v972
  let c0_357 : Index := 0#32
  ![v973.toNat, 0]

def k0_chk117 (v954 : BitVec 32) : Prop :=
  (∀ a, (k0_off531 v954) a + S1x128.size a ≤ S102432x128.size a) ∧
  (∀ (r : Fin 3), ∀ a, (k0_off533 v954 (BitVec.ofNat 32 (8 * r.val))) a + S8x128.size a ≤ S102432x128.size a)
theorem k0_off531_inb : ∀ (v954 : BitVec 32) (k0_hw117 : k0_chk117 v954), ∀ a, (k0_off531 v954) a + S1x128.size a ≤ S102432x128.size a := fun v954 k0_hw117 => k0_hw117.1
theorem k0_off533_inb : ∀ (v954 : BitVec 32) (k0_hw117 : k0_chk117 v954), ∀ (r : Fin 3), ∀ a, (k0_off533 v954 (BitVec.ofNat 32 (8 * r.val))) a + S8x128.size a ≤ S102432x128.size a := fun v954 k0_hw117 r => k0_hw117.2 r

def k0_off534 (k0_t6 : Fin k0_t6_loop.trips) : Fin 2 → Nat :=
  let c2_366 : Index := 2#32
  let c32_i32_333 : BitVec 32 := 32#32
  let c0_i32_28 : BitVec 32 := 0#32
  let c1_i32_30 : BitVec 32 := 1#32
  let arg20 : BitVec 32 := Scf.iv c0_i32_28 c1_i32_30 k0_t6
  let c8_i32_332 : BitVec 32 := 8#32
  let v903 : BitVec 32 := Scalar.muli arg20 c8_i32_332
  let v904 : BitVec 32 := Scalar.addi c32_i32_333 v903
  let c2_i32 : BitVec 32 := 2#32
  let v905 : BitVec 32 := Scalar.addi v904 c2_i32
  let v1003 : Index := Scalar.indexCast v905
  ![2, v1003.toNat]
def k0_off535 (v1004 : BitVec 32) : Fin 2 → Nat :=
  let c24_i32_367 : BitVec 32 := 24#32
  let v1005 : BitVec 32 := Scalar.addi v1004 c24_i32_367
  let v1006 : Index := Scalar.indexCast v1005
  let c0_368 : Index := 0#32
  ![v1006.toNat, 0]

def k0_off536 (k0_t6 : Fin k0_t6_loop.trips) : Fin 2 → Nat :=
  let c2_369 : Index := 2#32
  let c32_i32_333 : BitVec 32 := 32#32
  let c0_i32_28 : BitVec 32 := 0#32
  let c1_i32_30 : BitVec 32 := 1#32
  let arg20 : BitVec 32 := Scf.iv c0_i32_28 c1_i32_30 k0_t6
  let c8_i32_332 : BitVec 32 := 8#32
  let v903 : BitVec 32 := Scalar.muli arg20 c8_i32_332
  let v904 : BitVec 32 := Scalar.addi c32_i32_333 v903
  let c2_i32 : BitVec 32 := 2#32
  let v905 : BitVec 32 := Scalar.addi v904 c2_i32
  let v1008 : Index := Scalar.indexCast v905
  ![2, v1008.toNat]
def k0_off537 (v1004 : BitVec 32) (c0_i32_372 : BitVec 32) : Fin 2 → Nat :=
  let v1022 : BitVec 32 := Scalar.addi v1004 c0_i32_372
  let v1023 : Index := Scalar.indexCast v1022
  let c0_373 : Index := 0#32
  ![v1023.toNat, 0]

def k0_chk118 (v1004 : BitVec 32) : Prop :=
  (∀ a, (k0_off535 v1004) a + S1x128.size a ≤ S102432x128.size a) ∧
  (∀ (r : Fin 3), ∀ a, (k0_off537 v1004 (BitVec.ofNat 32 (8 * r.val))) a + S8x128.size a ≤ S102432x128.size a)
theorem k0_off535_inb : ∀ (v1004 : BitVec 32) (k0_hw118 : k0_chk118 v1004), ∀ a, (k0_off535 v1004) a + S1x128.size a ≤ S102432x128.size a := fun v1004 k0_hw118 => k0_hw118.1
theorem k0_off537_inb : ∀ (v1004 : BitVec 32) (k0_hw118 : k0_chk118 v1004), ∀ (r : Fin 3), ∀ a, (k0_off537 v1004 (BitVec.ofNat 32 (8 * r.val))) a + S8x128.size a ≤ S102432x128.size a := fun v1004 k0_hw118 r => k0_hw118.2 r

def k0_off538 (k0_t6 : Fin k0_t6_loop.trips) : Fin 2 → Nat :=
  let c3_382 : Index := 3#32
  let c32_i32_333 : BitVec 32 := 32#32
  let c0_i32_28 : BitVec 32 := 0#32
  let c1_i32_30 : BitVec 32 := 1#32
  let arg20 : BitVec 32 := Scf.iv c0_i32_28 c1_i32_30 k0_t6
  let c8_i32_332 : BitVec 32 := 8#32
  let v903 : BitVec 32 := Scalar.muli arg20 c8_i32_332
  let v904 : BitVec 32 := Scalar.addi c32_i32_333 v903
  let c2_i32 : BitVec 32 := 2#32
  let v905 : BitVec 32 := Scalar.addi v904 c2_i32
  let v1053 : Index := Scalar.indexCast v905
  ![3, v1053.toNat]
def k0_off539 (v1054 : BitVec 32) : Fin 2 → Nat :=
  let c24_i32_383 : BitVec 32 := 24#32
  let v1055 : BitVec 32 := Scalar.addi v1054 c24_i32_383
  let v1056 : Index := Scalar.indexCast v1055
  let c0_384 : Index := 0#32
  ![v1056.toNat, 0]

def k0_off540 (k0_t6 : Fin k0_t6_loop.trips) : Fin 2 → Nat :=
  let c3_385 : Index := 3#32
  let c32_i32_333 : BitVec 32 := 32#32
  let c0_i32_28 : BitVec 32 := 0#32
  let c1_i32_30 : BitVec 32 := 1#32
  let arg20 : BitVec 32 := Scf.iv c0_i32_28 c1_i32_30 k0_t6
  let c8_i32_332 : BitVec 32 := 8#32
  let v903 : BitVec 32 := Scalar.muli arg20 c8_i32_332
  let v904 : BitVec 32 := Scalar.addi c32_i32_333 v903
  let c2_i32 : BitVec 32 := 2#32
  let v905 : BitVec 32 := Scalar.addi v904 c2_i32
  let v1058 : Index := Scalar.indexCast v905
  ![3, v1058.toNat]
def k0_off541 (v1054 : BitVec 32) (c0_i32_388 : BitVec 32) : Fin 2 → Nat :=
  let v1072 : BitVec 32 := Scalar.addi v1054 c0_i32_388
  let v1073 : Index := Scalar.indexCast v1072
  let c0_389 : Index := 0#32
  ![v1073.toNat, 0]

def k0_chk119 (v1054 : BitVec 32) : Prop :=
  (∀ a, (k0_off539 v1054) a + S1x128.size a ≤ S102432x128.size a) ∧
  (∀ (r : Fin 3), ∀ a, (k0_off541 v1054 (BitVec.ofNat 32 (8 * r.val))) a + S8x128.size a ≤ S102432x128.size a)
theorem k0_off539_inb : ∀ (v1054 : BitVec 32) (k0_hw119 : k0_chk119 v1054), ∀ a, (k0_off539 v1054) a + S1x128.size a ≤ S102432x128.size a := fun v1054 k0_hw119 => k0_hw119.1
theorem k0_off541_inb : ∀ (v1054 : BitVec 32) (k0_hw119 : k0_chk119 v1054), ∀ (r : Fin 3), ∀ a, (k0_off541 v1054 (BitVec.ofNat 32 (8 * r.val))) a + S8x128.size a ≤ S102432x128.size a := fun v1054 k0_hw119 r => k0_hw119.2 r

def k0_off542 (k0_t6 : Fin k0_t6_loop.trips) : Fin 2 → Nat :=
  let c4_398 : Index := 4#32
  let c32_i32_333 : BitVec 32 := 32#32
  let c0_i32_28 : BitVec 32 := 0#32
  let c1_i32_30 : BitVec 32 := 1#32
  let arg20 : BitVec 32 := Scf.iv c0_i32_28 c1_i32_30 k0_t6
  let c8_i32_332 : BitVec 32 := 8#32
  let v903 : BitVec 32 := Scalar.muli arg20 c8_i32_332
  let v904 : BitVec 32 := Scalar.addi c32_i32_333 v903
  let c2_i32 : BitVec 32 := 2#32
  let v905 : BitVec 32 := Scalar.addi v904 c2_i32
  let v1103 : Index := Scalar.indexCast v905
  ![4, v1103.toNat]
def k0_off543 (v1104 : BitVec 32) : Fin 2 → Nat :=
  let c24_i32_399 : BitVec 32 := 24#32
  let v1105 : BitVec 32 := Scalar.addi v1104 c24_i32_399
  let v1106 : Index := Scalar.indexCast v1105
  let c0_400 : Index := 0#32
  ![v1106.toNat, 0]

def k0_off544 (k0_t6 : Fin k0_t6_loop.trips) : Fin 2 → Nat :=
  let c4_401 : Index := 4#32
  let c32_i32_333 : BitVec 32 := 32#32
  let c0_i32_28 : BitVec 32 := 0#32
  let c1_i32_30 : BitVec 32 := 1#32
  let arg20 : BitVec 32 := Scf.iv c0_i32_28 c1_i32_30 k0_t6
  let c8_i32_332 : BitVec 32 := 8#32
  let v903 : BitVec 32 := Scalar.muli arg20 c8_i32_332
  let v904 : BitVec 32 := Scalar.addi c32_i32_333 v903
  let c2_i32 : BitVec 32 := 2#32
  let v905 : BitVec 32 := Scalar.addi v904 c2_i32
  let v1108 : Index := Scalar.indexCast v905
  ![4, v1108.toNat]
def k0_off545 (v1104 : BitVec 32) (c0_i32_404 : BitVec 32) : Fin 2 → Nat :=
  let v1122 : BitVec 32 := Scalar.addi v1104 c0_i32_404
  let v1123 : Index := Scalar.indexCast v1122
  let c0_405 : Index := 0#32
  ![v1123.toNat, 0]

def k0_chk120 (v1104 : BitVec 32) : Prop :=
  (∀ a, (k0_off543 v1104) a + S1x128.size a ≤ S102432x128.size a) ∧
  (∀ (r : Fin 3), ∀ a, (k0_off545 v1104 (BitVec.ofNat 32 (8 * r.val))) a + S8x128.size a ≤ S102432x128.size a)
theorem k0_off543_inb : ∀ (v1104 : BitVec 32) (k0_hw120 : k0_chk120 v1104), ∀ a, (k0_off543 v1104) a + S1x128.size a ≤ S102432x128.size a := fun v1104 k0_hw120 => k0_hw120.1
theorem k0_off545_inb : ∀ (v1104 : BitVec 32) (k0_hw120 : k0_chk120 v1104), ∀ (r : Fin 3), ∀ a, (k0_off545 v1104 (BitVec.ofNat 32 (8 * r.val))) a + S8x128.size a ≤ S102432x128.size a := fun v1104 k0_hw120 r => k0_hw120.2 r

def k0_off546 (k0_t6 : Fin k0_t6_loop.trips) : Fin 2 → Nat :=
  let c5_414 : Index := 5#32
  let c32_i32_333 : BitVec 32 := 32#32
  let c0_i32_28 : BitVec 32 := 0#32
  let c1_i32_30 : BitVec 32 := 1#32
  let arg20 : BitVec 32 := Scf.iv c0_i32_28 c1_i32_30 k0_t6
  let c8_i32_332 : BitVec 32 := 8#32
  let v903 : BitVec 32 := Scalar.muli arg20 c8_i32_332
  let v904 : BitVec 32 := Scalar.addi c32_i32_333 v903
  let c2_i32 : BitVec 32 := 2#32
  let v905 : BitVec 32 := Scalar.addi v904 c2_i32
  let v1153 : Index := Scalar.indexCast v905
  ![5, v1153.toNat]
def k0_off547 (v1154 : BitVec 32) : Fin 2 → Nat :=
  let c24_i32_415 : BitVec 32 := 24#32
  let v1155 : BitVec 32 := Scalar.addi v1154 c24_i32_415
  let v1156 : Index := Scalar.indexCast v1155
  let c0_416 : Index := 0#32
  ![v1156.toNat, 0]

def k0_off548 (k0_t6 : Fin k0_t6_loop.trips) : Fin 2 → Nat :=
  let c5_417 : Index := 5#32
  let c32_i32_333 : BitVec 32 := 32#32
  let c0_i32_28 : BitVec 32 := 0#32
  let c1_i32_30 : BitVec 32 := 1#32
  let arg20 : BitVec 32 := Scf.iv c0_i32_28 c1_i32_30 k0_t6
  let c8_i32_332 : BitVec 32 := 8#32
  let v903 : BitVec 32 := Scalar.muli arg20 c8_i32_332
  let v904 : BitVec 32 := Scalar.addi c32_i32_333 v903
  let c2_i32 : BitVec 32 := 2#32
  let v905 : BitVec 32 := Scalar.addi v904 c2_i32
  let v1158 : Index := Scalar.indexCast v905
  ![5, v1158.toNat]
def k0_off549 (v1154 : BitVec 32) (c0_i32_420 : BitVec 32) : Fin 2 → Nat :=
  let v1172 : BitVec 32 := Scalar.addi v1154 c0_i32_420
  let v1173 : Index := Scalar.indexCast v1172
  let c0_421 : Index := 0#32
  ![v1173.toNat, 0]

def k0_chk121 (v1154 : BitVec 32) : Prop :=
  (∀ a, (k0_off547 v1154) a + S1x128.size a ≤ S102432x128.size a) ∧
  (∀ (r : Fin 3), ∀ a, (k0_off549 v1154 (BitVec.ofNat 32 (8 * r.val))) a + S8x128.size a ≤ S102432x128.size a)
theorem k0_off547_inb : ∀ (v1154 : BitVec 32) (k0_hw121 : k0_chk121 v1154), ∀ a, (k0_off547 v1154) a + S1x128.size a ≤ S102432x128.size a := fun v1154 k0_hw121 => k0_hw121.1
theorem k0_off549_inb : ∀ (v1154 : BitVec 32) (k0_hw121 : k0_chk121 v1154), ∀ (r : Fin 3), ∀ a, (k0_off549 v1154 (BitVec.ofNat 32 (8 * r.val))) a + S8x128.size a ≤ S102432x128.size a := fun v1154 k0_hw121 r => k0_hw121.2 r

def k0_off550 (k0_t6 : Fin k0_t6_loop.trips) : Fin 2 → Nat :=
  let c6_430 : Index := 6#32
  let c32_i32_333 : BitVec 32 := 32#32
  let c0_i32_28 : BitVec 32 := 0#32
  let c1_i32_30 : BitVec 32 := 1#32
  let arg20 : BitVec 32 := Scf.iv c0_i32_28 c1_i32_30 k0_t6
  let c8_i32_332 : BitVec 32 := 8#32
  let v903 : BitVec 32 := Scalar.muli arg20 c8_i32_332
  let v904 : BitVec 32 := Scalar.addi c32_i32_333 v903
  let c2_i32 : BitVec 32 := 2#32
  let v905 : BitVec 32 := Scalar.addi v904 c2_i32
  let v1203 : Index := Scalar.indexCast v905
  ![6, v1203.toNat]
def k0_off551 (v1204 : BitVec 32) : Fin 2 → Nat :=
  let c24_i32_431 : BitVec 32 := 24#32
  let v1205 : BitVec 32 := Scalar.addi v1204 c24_i32_431
  let v1206 : Index := Scalar.indexCast v1205
  let c0_432 : Index := 0#32
  ![v1206.toNat, 0]

def k0_off552 (k0_t6 : Fin k0_t6_loop.trips) : Fin 2 → Nat :=
  let c6_433 : Index := 6#32
  let c32_i32_333 : BitVec 32 := 32#32
  let c0_i32_28 : BitVec 32 := 0#32
  let c1_i32_30 : BitVec 32 := 1#32
  let arg20 : BitVec 32 := Scf.iv c0_i32_28 c1_i32_30 k0_t6
  let c8_i32_332 : BitVec 32 := 8#32
  let v903 : BitVec 32 := Scalar.muli arg20 c8_i32_332
  let v904 : BitVec 32 := Scalar.addi c32_i32_333 v903
  let c2_i32 : BitVec 32 := 2#32
  let v905 : BitVec 32 := Scalar.addi v904 c2_i32
  let v1208 : Index := Scalar.indexCast v905
  ![6, v1208.toNat]
def k0_off553 (v1204 : BitVec 32) (c0_i32_436 : BitVec 32) : Fin 2 → Nat :=
  let v1222 : BitVec 32 := Scalar.addi v1204 c0_i32_436
  let v1223 : Index := Scalar.indexCast v1222
  let c0_437 : Index := 0#32
  ![v1223.toNat, 0]

def k0_chk122 (v1204 : BitVec 32) : Prop :=
  (∀ a, (k0_off551 v1204) a + S1x128.size a ≤ S102432x128.size a) ∧
  (∀ (r : Fin 3), ∀ a, (k0_off553 v1204 (BitVec.ofNat 32 (8 * r.val))) a + S8x128.size a ≤ S102432x128.size a)
theorem k0_off551_inb : ∀ (v1204 : BitVec 32) (k0_hw122 : k0_chk122 v1204), ∀ a, (k0_off551 v1204) a + S1x128.size a ≤ S102432x128.size a := fun v1204 k0_hw122 => k0_hw122.1
theorem k0_off553_inb : ∀ (v1204 : BitVec 32) (k0_hw122 : k0_chk122 v1204), ∀ (r : Fin 3), ∀ a, (k0_off553 v1204 (BitVec.ofNat 32 (8 * r.val))) a + S8x128.size a ≤ S102432x128.size a := fun v1204 k0_hw122 r => k0_hw122.2 r

def k0_off554 (k0_t6 : Fin k0_t6_loop.trips) : Fin 2 → Nat :=
  let c7_446 : Index := 7#32
  let c32_i32_333 : BitVec 32 := 32#32
  let c0_i32_28 : BitVec 32 := 0#32
  let c1_i32_30 : BitVec 32 := 1#32
  let arg20 : BitVec 32 := Scf.iv c0_i32_28 c1_i32_30 k0_t6
  let c8_i32_332 : BitVec 32 := 8#32
  let v903 : BitVec 32 := Scalar.muli arg20 c8_i32_332
  let v904 : BitVec 32 := Scalar.addi c32_i32_333 v903
  let c2_i32 : BitVec 32 := 2#32
  let v905 : BitVec 32 := Scalar.addi v904 c2_i32
  let v1253 : Index := Scalar.indexCast v905
  ![7, v1253.toNat]
def k0_off555 (v1254 : BitVec 32) : Fin 2 → Nat :=
  let c24_i32_447 : BitVec 32 := 24#32
  let v1255 : BitVec 32 := Scalar.addi v1254 c24_i32_447
  let v1256 : Index := Scalar.indexCast v1255
  let c0_448 : Index := 0#32
  ![v1256.toNat, 0]

def k0_off556 (k0_t6 : Fin k0_t6_loop.trips) : Fin 2 → Nat :=
  let c7_449 : Index := 7#32
  let c32_i32_333 : BitVec 32 := 32#32
  let c0_i32_28 : BitVec 32 := 0#32
  let c1_i32_30 : BitVec 32 := 1#32
  let arg20 : BitVec 32 := Scf.iv c0_i32_28 c1_i32_30 k0_t6
  let c8_i32_332 : BitVec 32 := 8#32
  let v903 : BitVec 32 := Scalar.muli arg20 c8_i32_332
  let v904 : BitVec 32 := Scalar.addi c32_i32_333 v903
  let c2_i32 : BitVec 32 := 2#32
  let v905 : BitVec 32 := Scalar.addi v904 c2_i32
  let v1258 : Index := Scalar.indexCast v905
  ![7, v1258.toNat]
def k0_off557 (v1254 : BitVec 32) (c0_i32_452 : BitVec 32) : Fin 2 → Nat :=
  let v1272 : BitVec 32 := Scalar.addi v1254 c0_i32_452
  let v1273 : Index := Scalar.indexCast v1272
  let c0_453 : Index := 0#32
  ![v1273.toNat, 0]

def k0_chk123 (v1254 : BitVec 32) : Prop :=
  (∀ a, (k0_off555 v1254) a + S1x128.size a ≤ S102432x128.size a) ∧
  (∀ (r : Fin 3), ∀ a, (k0_off557 v1254 (BitVec.ofNat 32 (8 * r.val))) a + S8x128.size a ≤ S102432x128.size a)
theorem k0_off555_inb : ∀ (v1254 : BitVec 32) (k0_hw123 : k0_chk123 v1254), ∀ a, (k0_off555 v1254) a + S1x128.size a ≤ S102432x128.size a := fun v1254 k0_hw123 => k0_hw123.1
theorem k0_off557_inb : ∀ (v1254 : BitVec 32) (k0_hw123 : k0_chk123 v1254), ∀ (r : Fin 3), ∀ a, (k0_off557 v1254 (BitVec.ofNat 32 (8 * r.val))) a + S8x128.size a ≤ S102432x128.size a := fun v1254 k0_hw123 r => k0_hw123.2 r

def k0_off558 (k0_t6 : Fin k0_t6_loop.trips) (c0_i32_463 : BitVec 32) : Fin 2 → Nat :=
  let c32_i32_333 : BitVec 32 := 32#32
  let c0_i32_28 : BitVec 32 := 0#32
  let c1_i32_30 : BitVec 32 := 1#32
  let arg20 : BitVec 32 := Scf.iv c0_i32_28 c1_i32_30 k0_t6
  let c8_i32_332 : BitVec 32 := 8#32
  let v903 : BitVec 32 := Scalar.muli arg20 c8_i32_332
  let v904 : BitVec 32 := Scalar.addi c32_i32_333 v903
  let c2_i32 : BitVec 32 := 2#32
  let v905 : BitVec 32 := Scalar.addi v904 c2_i32
  let c25_i32_462 : BitVec 32 := 25#32
  let v1303 : BitVec 32 := Scalar.muli v905 c25_i32_462
  let v1304 : BitVec 32 := Scalar.addi v1303 c0_i32_463
  let v1305 : Index := Scalar.indexCast v1304
  let c0_464 : Index := 0#32
  ![v1305.toNat, 0]
def k0_off559 (k0_t6 : Fin k0_t6_loop.trips) : Fin 2 → Nat :=
  let c0_473 : Index := 0#32
  let c32_i32_472 : BitVec 32 := 32#32
  let c0_i32_28 : BitVec 32 := 0#32
  let c1_i32_30 : BitVec 32 := 1#32
  let arg20 : BitVec 32 := Scf.iv c0_i32_28 c1_i32_30 k0_t6
  let c8_i32_471 : BitVec 32 := 8#32
  let v1321 : BitVec 32 := Scalar.muli arg20 c8_i32_471
  let v1322 : BitVec 32 := Scalar.addi c32_i32_472 v1321
  let c3_i32 : BitVec 32 := 3#32
  let v1323 : BitVec 32 := Scalar.addi v1322 c3_i32
  let v1324 : Index := Scalar.indexCast v1323
  ![0, v1324.toNat]
def k0_off560 (v1325 : BitVec 32) : Fin 2 → Nat :=
  let c24_i32_474 : BitVec 32 := 24#32
  let v1326 : BitVec 32 := Scalar.addi v1325 c24_i32_474
  let v1327 : Index := Scalar.indexCast v1326
  let c0_475 : Index := 0#32
  ![v1327.toNat, 0]

def k0_off561 (k0_t6 : Fin k0_t6_loop.trips) : Fin 2 → Nat :=
  let c0_476 : Index := 0#32
  let c32_i32_472 : BitVec 32 := 32#32
  let c0_i32_28 : BitVec 32 := 0#32
  let c1_i32_30 : BitVec 32 := 1#32
  let arg20 : BitVec 32 := Scf.iv c0_i32_28 c1_i32_30 k0_t6
  let c8_i32_471 : BitVec 32 := 8#32
  let v1321 : BitVec 32 := Scalar.muli arg20 c8_i32_471
  let v1322 : BitVec 32 := Scalar.addi c32_i32_472 v1321
  let c3_i32 : BitVec 32 := 3#32
  let v1323 : BitVec 32 := Scalar.addi v1322 c3_i32
  let v1329 : Index := Scalar.indexCast v1323
  ![0, v1329.toNat]
def k0_off562 (v1325 : BitVec 32) (c0_i32_479 : BitVec 32) : Fin 2 → Nat :=
  let v1343 : BitVec 32 := Scalar.addi v1325 c0_i32_479
  let v1344 : Index := Scalar.indexCast v1343
  let c0_480 : Index := 0#32
  ![v1344.toNat, 0]

def k0_chk124 (v1325 : BitVec 32) : Prop :=
  (∀ a, (k0_off560 v1325) a + S1x128.size a ≤ S102432x128.size a) ∧
  (∀ (r : Fin 3), ∀ a, (k0_off562 v1325 (BitVec.ofNat 32 (8 * r.val))) a + S8x128.size a ≤ S102432x128.size a)
theorem k0_off560_inb : ∀ (v1325 : BitVec 32) (k0_hw124 : k0_chk124 v1325), ∀ a, (k0_off560 v1325) a + S1x128.size a ≤ S102432x128.size a := fun v1325 k0_hw124 => k0_hw124.1
theorem k0_off562_inb : ∀ (v1325 : BitVec 32) (k0_hw124 : k0_chk124 v1325), ∀ (r : Fin 3), ∀ a, (k0_off562 v1325 (BitVec.ofNat 32 (8 * r.val))) a + S8x128.size a ≤ S102432x128.size a := fun v1325 k0_hw124 r => k0_hw124.2 r

def k0_off563 (k0_t6 : Fin k0_t6_loop.trips) : Fin 2 → Nat :=
  let c1_489 : Index := 1#32
  let c32_i32_472 : BitVec 32 := 32#32
  let c0_i32_28 : BitVec 32 := 0#32
  let c1_i32_30 : BitVec 32 := 1#32
  let arg20 : BitVec 32 := Scf.iv c0_i32_28 c1_i32_30 k0_t6
  let c8_i32_471 : BitVec 32 := 8#32
  let v1321 : BitVec 32 := Scalar.muli arg20 c8_i32_471
  let v1322 : BitVec 32 := Scalar.addi c32_i32_472 v1321
  let c3_i32 : BitVec 32 := 3#32
  let v1323 : BitVec 32 := Scalar.addi v1322 c3_i32
  let v1371 : Index := Scalar.indexCast v1323
  ![1, v1371.toNat]
def k0_off564 (v1372 : BitVec 32) : Fin 2 → Nat :=
  let c24_i32_490 : BitVec 32 := 24#32
  let v1373 : BitVec 32 := Scalar.addi v1372 c24_i32_490
  let v1374 : Index := Scalar.indexCast v1373
  let c0_491 : Index := 0#32
  ![v1374.toNat, 0]

def k0_off565 (k0_t6 : Fin k0_t6_loop.trips) : Fin 2 → Nat :=
  let c1_492 : Index := 1#32
  let c32_i32_472 : BitVec 32 := 32#32
  let c0_i32_28 : BitVec 32 := 0#32
  let c1_i32_30 : BitVec 32 := 1#32
  let arg20 : BitVec 32 := Scf.iv c0_i32_28 c1_i32_30 k0_t6
  let c8_i32_471 : BitVec 32 := 8#32
  let v1321 : BitVec 32 := Scalar.muli arg20 c8_i32_471
  let v1322 : BitVec 32 := Scalar.addi c32_i32_472 v1321
  let c3_i32 : BitVec 32 := 3#32
  let v1323 : BitVec 32 := Scalar.addi v1322 c3_i32
  let v1376 : Index := Scalar.indexCast v1323
  ![1, v1376.toNat]
def k0_off566 (v1372 : BitVec 32) (c0_i32_495 : BitVec 32) : Fin 2 → Nat :=
  let v1390 : BitVec 32 := Scalar.addi v1372 c0_i32_495
  let v1391 : Index := Scalar.indexCast v1390
  let c0_496 : Index := 0#32
  ![v1391.toNat, 0]

def k0_chk125 (v1372 : BitVec 32) : Prop :=
  (∀ a, (k0_off564 v1372) a + S1x128.size a ≤ S102432x128.size a) ∧
  (∀ (r : Fin 3), ∀ a, (k0_off566 v1372 (BitVec.ofNat 32 (8 * r.val))) a + S8x128.size a ≤ S102432x128.size a)
theorem k0_off564_inb : ∀ (v1372 : BitVec 32) (k0_hw125 : k0_chk125 v1372), ∀ a, (k0_off564 v1372) a + S1x128.size a ≤ S102432x128.size a := fun v1372 k0_hw125 => k0_hw125.1
theorem k0_off566_inb : ∀ (v1372 : BitVec 32) (k0_hw125 : k0_chk125 v1372), ∀ (r : Fin 3), ∀ a, (k0_off566 v1372 (BitVec.ofNat 32 (8 * r.val))) a + S8x128.size a ≤ S102432x128.size a := fun v1372 k0_hw125 r => k0_hw125.2 r

def k0_off567 (k0_t6 : Fin k0_t6_loop.trips) : Fin 2 → Nat :=
  let c2_505 : Index := 2#32
  let c32_i32_472 : BitVec 32 := 32#32
  let c0_i32_28 : BitVec 32 := 0#32
  let c1_i32_30 : BitVec 32 := 1#32
  let arg20 : BitVec 32 := Scf.iv c0_i32_28 c1_i32_30 k0_t6
  let c8_i32_471 : BitVec 32 := 8#32
  let v1321 : BitVec 32 := Scalar.muli arg20 c8_i32_471
  let v1322 : BitVec 32 := Scalar.addi c32_i32_472 v1321
  let c3_i32 : BitVec 32 := 3#32
  let v1323 : BitVec 32 := Scalar.addi v1322 c3_i32
  let v1421 : Index := Scalar.indexCast v1323
  ![2, v1421.toNat]
def k0_off568 (v1422 : BitVec 32) : Fin 2 → Nat :=
  let c24_i32_506 : BitVec 32 := 24#32
  let v1423 : BitVec 32 := Scalar.addi v1422 c24_i32_506
  let v1424 : Index := Scalar.indexCast v1423
  let c0_507 : Index := 0#32
  ![v1424.toNat, 0]

def k0_off569 (k0_t6 : Fin k0_t6_loop.trips) : Fin 2 → Nat :=
  let c2_508 : Index := 2#32
  let c32_i32_472 : BitVec 32 := 32#32
  let c0_i32_28 : BitVec 32 := 0#32
  let c1_i32_30 : BitVec 32 := 1#32
  let arg20 : BitVec 32 := Scf.iv c0_i32_28 c1_i32_30 k0_t6
  let c8_i32_471 : BitVec 32 := 8#32
  let v1321 : BitVec 32 := Scalar.muli arg20 c8_i32_471
  let v1322 : BitVec 32 := Scalar.addi c32_i32_472 v1321
  let c3_i32 : BitVec 32 := 3#32
  let v1323 : BitVec 32 := Scalar.addi v1322 c3_i32
  let v1426 : Index := Scalar.indexCast v1323
  ![2, v1426.toNat]
def k0_off570 (v1422 : BitVec 32) (c0_i32_511 : BitVec 32) : Fin 2 → Nat :=
  let v1440 : BitVec 32 := Scalar.addi v1422 c0_i32_511
  let v1441 : Index := Scalar.indexCast v1440
  let c0_512 : Index := 0#32
  ![v1441.toNat, 0]

def k0_chk126 (v1422 : BitVec 32) : Prop :=
  (∀ a, (k0_off568 v1422) a + S1x128.size a ≤ S102432x128.size a) ∧
  (∀ (r : Fin 3), ∀ a, (k0_off570 v1422 (BitVec.ofNat 32 (8 * r.val))) a + S8x128.size a ≤ S102432x128.size a)
theorem k0_off568_inb : ∀ (v1422 : BitVec 32) (k0_hw126 : k0_chk126 v1422), ∀ a, (k0_off568 v1422) a + S1x128.size a ≤ S102432x128.size a := fun v1422 k0_hw126 => k0_hw126.1
theorem k0_off570_inb : ∀ (v1422 : BitVec 32) (k0_hw126 : k0_chk126 v1422), ∀ (r : Fin 3), ∀ a, (k0_off570 v1422 (BitVec.ofNat 32 (8 * r.val))) a + S8x128.size a ≤ S102432x128.size a := fun v1422 k0_hw126 r => k0_hw126.2 r

def k0_off571 (k0_t6 : Fin k0_t6_loop.trips) : Fin 2 → Nat :=
  let c3_521 : Index := 3#32
  let c32_i32_472 : BitVec 32 := 32#32
  let c0_i32_28 : BitVec 32 := 0#32
  let c1_i32_30 : BitVec 32 := 1#32
  let arg20 : BitVec 32 := Scf.iv c0_i32_28 c1_i32_30 k0_t6
  let c8_i32_471 : BitVec 32 := 8#32
  let v1321 : BitVec 32 := Scalar.muli arg20 c8_i32_471
  let v1322 : BitVec 32 := Scalar.addi c32_i32_472 v1321
  let c3_i32 : BitVec 32 := 3#32
  let v1323 : BitVec 32 := Scalar.addi v1322 c3_i32
  let v1471 : Index := Scalar.indexCast v1323
  ![3, v1471.toNat]
def k0_off572 (v1472 : BitVec 32) : Fin 2 → Nat :=
  let c24_i32_522 : BitVec 32 := 24#32
  let v1473 : BitVec 32 := Scalar.addi v1472 c24_i32_522
  let v1474 : Index := Scalar.indexCast v1473
  let c0_523 : Index := 0#32
  ![v1474.toNat, 0]

def k0_off573 (k0_t6 : Fin k0_t6_loop.trips) : Fin 2 → Nat :=
  let c3_524 : Index := 3#32
  let c32_i32_472 : BitVec 32 := 32#32
  let c0_i32_28 : BitVec 32 := 0#32
  let c1_i32_30 : BitVec 32 := 1#32
  let arg20 : BitVec 32 := Scf.iv c0_i32_28 c1_i32_30 k0_t6
  let c8_i32_471 : BitVec 32 := 8#32
  let v1321 : BitVec 32 := Scalar.muli arg20 c8_i32_471
  let v1322 : BitVec 32 := Scalar.addi c32_i32_472 v1321
  let c3_i32 : BitVec 32 := 3#32
  let v1323 : BitVec 32 := Scalar.addi v1322 c3_i32
  let v1476 : Index := Scalar.indexCast v1323
  ![3, v1476.toNat]
def k0_off574 (v1472 : BitVec 32) (c0_i32_527 : BitVec 32) : Fin 2 → Nat :=
  let v1490 : BitVec 32 := Scalar.addi v1472 c0_i32_527
  let v1491 : Index := Scalar.indexCast v1490
  let c0_528 : Index := 0#32
  ![v1491.toNat, 0]

def k0_chk127 (v1472 : BitVec 32) : Prop :=
  (∀ a, (k0_off572 v1472) a + S1x128.size a ≤ S102432x128.size a) ∧
  (∀ (r : Fin 3), ∀ a, (k0_off574 v1472 (BitVec.ofNat 32 (8 * r.val))) a + S8x128.size a ≤ S102432x128.size a)
theorem k0_off572_inb : ∀ (v1472 : BitVec 32) (k0_hw127 : k0_chk127 v1472), ∀ a, (k0_off572 v1472) a + S1x128.size a ≤ S102432x128.size a := fun v1472 k0_hw127 => k0_hw127.1
theorem k0_off574_inb : ∀ (v1472 : BitVec 32) (k0_hw127 : k0_chk127 v1472), ∀ (r : Fin 3), ∀ a, (k0_off574 v1472 (BitVec.ofNat 32 (8 * r.val))) a + S8x128.size a ≤ S102432x128.size a := fun v1472 k0_hw127 r => k0_hw127.2 r

def k0_off575 (k0_t6 : Fin k0_t6_loop.trips) : Fin 2 → Nat :=
  let c4_537 : Index := 4#32
  let c32_i32_472 : BitVec 32 := 32#32
  let c0_i32_28 : BitVec 32 := 0#32
  let c1_i32_30 : BitVec 32 := 1#32
  let arg20 : BitVec 32 := Scf.iv c0_i32_28 c1_i32_30 k0_t6
  let c8_i32_471 : BitVec 32 := 8#32
  let v1321 : BitVec 32 := Scalar.muli arg20 c8_i32_471
  let v1322 : BitVec 32 := Scalar.addi c32_i32_472 v1321
  let c3_i32 : BitVec 32 := 3#32
  let v1323 : BitVec 32 := Scalar.addi v1322 c3_i32
  let v1521 : Index := Scalar.indexCast v1323
  ![4, v1521.toNat]
def k0_off576 (v1522 : BitVec 32) : Fin 2 → Nat :=
  let c24_i32_538 : BitVec 32 := 24#32
  let v1523 : BitVec 32 := Scalar.addi v1522 c24_i32_538
  let v1524 : Index := Scalar.indexCast v1523
  let c0_539 : Index := 0#32
  ![v1524.toNat, 0]

def k0_off577 (k0_t6 : Fin k0_t6_loop.trips) : Fin 2 → Nat :=
  let c4_540 : Index := 4#32
  let c32_i32_472 : BitVec 32 := 32#32
  let c0_i32_28 : BitVec 32 := 0#32
  let c1_i32_30 : BitVec 32 := 1#32
  let arg20 : BitVec 32 := Scf.iv c0_i32_28 c1_i32_30 k0_t6
  let c8_i32_471 : BitVec 32 := 8#32
  let v1321 : BitVec 32 := Scalar.muli arg20 c8_i32_471
  let v1322 : BitVec 32 := Scalar.addi c32_i32_472 v1321
  let c3_i32 : BitVec 32 := 3#32
  let v1323 : BitVec 32 := Scalar.addi v1322 c3_i32
  let v1526 : Index := Scalar.indexCast v1323
  ![4, v1526.toNat]
def k0_off578 (v1522 : BitVec 32) (c0_i32_543 : BitVec 32) : Fin 2 → Nat :=
  let v1540 : BitVec 32 := Scalar.addi v1522 c0_i32_543
  let v1541 : Index := Scalar.indexCast v1540
  let c0_544 : Index := 0#32
  ![v1541.toNat, 0]

def k0_chk128 (v1522 : BitVec 32) : Prop :=
  (∀ a, (k0_off576 v1522) a + S1x128.size a ≤ S102432x128.size a) ∧
  (∀ (r : Fin 3), ∀ a, (k0_off578 v1522 (BitVec.ofNat 32 (8 * r.val))) a + S8x128.size a ≤ S102432x128.size a)
theorem k0_off576_inb : ∀ (v1522 : BitVec 32) (k0_hw128 : k0_chk128 v1522), ∀ a, (k0_off576 v1522) a + S1x128.size a ≤ S102432x128.size a := fun v1522 k0_hw128 => k0_hw128.1
theorem k0_off578_inb : ∀ (v1522 : BitVec 32) (k0_hw128 : k0_chk128 v1522), ∀ (r : Fin 3), ∀ a, (k0_off578 v1522 (BitVec.ofNat 32 (8 * r.val))) a + S8x128.size a ≤ S102432x128.size a := fun v1522 k0_hw128 r => k0_hw128.2 r

def k0_off579 (k0_t6 : Fin k0_t6_loop.trips) : Fin 2 → Nat :=
  let c5_553 : Index := 5#32
  let c32_i32_472 : BitVec 32 := 32#32
  let c0_i32_28 : BitVec 32 := 0#32
  let c1_i32_30 : BitVec 32 := 1#32
  let arg20 : BitVec 32 := Scf.iv c0_i32_28 c1_i32_30 k0_t6
  let c8_i32_471 : BitVec 32 := 8#32
  let v1321 : BitVec 32 := Scalar.muli arg20 c8_i32_471
  let v1322 : BitVec 32 := Scalar.addi c32_i32_472 v1321
  let c3_i32 : BitVec 32 := 3#32
  let v1323 : BitVec 32 := Scalar.addi v1322 c3_i32
  let v1571 : Index := Scalar.indexCast v1323
  ![5, v1571.toNat]
def k0_off580 (v1572 : BitVec 32) : Fin 2 → Nat :=
  let c24_i32_554 : BitVec 32 := 24#32
  let v1573 : BitVec 32 := Scalar.addi v1572 c24_i32_554
  let v1574 : Index := Scalar.indexCast v1573
  let c0_555 : Index := 0#32
  ![v1574.toNat, 0]

def k0_off581 (k0_t6 : Fin k0_t6_loop.trips) : Fin 2 → Nat :=
  let c5_556 : Index := 5#32
  let c32_i32_472 : BitVec 32 := 32#32
  let c0_i32_28 : BitVec 32 := 0#32
  let c1_i32_30 : BitVec 32 := 1#32
  let arg20 : BitVec 32 := Scf.iv c0_i32_28 c1_i32_30 k0_t6
  let c8_i32_471 : BitVec 32 := 8#32
  let v1321 : BitVec 32 := Scalar.muli arg20 c8_i32_471
  let v1322 : BitVec 32 := Scalar.addi c32_i32_472 v1321
  let c3_i32 : BitVec 32 := 3#32
  let v1323 : BitVec 32 := Scalar.addi v1322 c3_i32
  let v1576 : Index := Scalar.indexCast v1323
  ![5, v1576.toNat]
def k0_off582 (v1572 : BitVec 32) (c0_i32_559 : BitVec 32) : Fin 2 → Nat :=
  let v1590 : BitVec 32 := Scalar.addi v1572 c0_i32_559
  let v1591 : Index := Scalar.indexCast v1590
  let c0_560 : Index := 0#32
  ![v1591.toNat, 0]

def k0_chk129 (v1572 : BitVec 32) : Prop :=
  (∀ a, (k0_off580 v1572) a + S1x128.size a ≤ S102432x128.size a) ∧
  (∀ (r : Fin 3), ∀ a, (k0_off582 v1572 (BitVec.ofNat 32 (8 * r.val))) a + S8x128.size a ≤ S102432x128.size a)
theorem k0_off580_inb : ∀ (v1572 : BitVec 32) (k0_hw129 : k0_chk129 v1572), ∀ a, (k0_off580 v1572) a + S1x128.size a ≤ S102432x128.size a := fun v1572 k0_hw129 => k0_hw129.1
theorem k0_off582_inb : ∀ (v1572 : BitVec 32) (k0_hw129 : k0_chk129 v1572), ∀ (r : Fin 3), ∀ a, (k0_off582 v1572 (BitVec.ofNat 32 (8 * r.val))) a + S8x128.size a ≤ S102432x128.size a := fun v1572 k0_hw129 r => k0_hw129.2 r

def k0_off583 (k0_t6 : Fin k0_t6_loop.trips) : Fin 2 → Nat :=
  let c6_569 : Index := 6#32
  let c32_i32_472 : BitVec 32 := 32#32
  let c0_i32_28 : BitVec 32 := 0#32
  let c1_i32_30 : BitVec 32 := 1#32
  let arg20 : BitVec 32 := Scf.iv c0_i32_28 c1_i32_30 k0_t6
  let c8_i32_471 : BitVec 32 := 8#32
  let v1321 : BitVec 32 := Scalar.muli arg20 c8_i32_471
  let v1322 : BitVec 32 := Scalar.addi c32_i32_472 v1321
  let c3_i32 : BitVec 32 := 3#32
  let v1323 : BitVec 32 := Scalar.addi v1322 c3_i32
  let v1621 : Index := Scalar.indexCast v1323
  ![6, v1621.toNat]
def k0_off584 (v1622 : BitVec 32) : Fin 2 → Nat :=
  let c24_i32_570 : BitVec 32 := 24#32
  let v1623 : BitVec 32 := Scalar.addi v1622 c24_i32_570
  let v1624 : Index := Scalar.indexCast v1623
  let c0_571 : Index := 0#32
  ![v1624.toNat, 0]

def k0_off585 (k0_t6 : Fin k0_t6_loop.trips) : Fin 2 → Nat :=
  let c6_572 : Index := 6#32
  let c32_i32_472 : BitVec 32 := 32#32
  let c0_i32_28 : BitVec 32 := 0#32
  let c1_i32_30 : BitVec 32 := 1#32
  let arg20 : BitVec 32 := Scf.iv c0_i32_28 c1_i32_30 k0_t6
  let c8_i32_471 : BitVec 32 := 8#32
  let v1321 : BitVec 32 := Scalar.muli arg20 c8_i32_471
  let v1322 : BitVec 32 := Scalar.addi c32_i32_472 v1321
  let c3_i32 : BitVec 32 := 3#32
  let v1323 : BitVec 32 := Scalar.addi v1322 c3_i32
  let v1626 : Index := Scalar.indexCast v1323
  ![6, v1626.toNat]
def k0_off586 (v1622 : BitVec 32) (c0_i32_575 : BitVec 32) : Fin 2 → Nat :=
  let v1640 : BitVec 32 := Scalar.addi v1622 c0_i32_575
  let v1641 : Index := Scalar.indexCast v1640
  let c0_576 : Index := 0#32
  ![v1641.toNat, 0]

def k0_chk130 (v1622 : BitVec 32) : Prop :=
  (∀ a, (k0_off584 v1622) a + S1x128.size a ≤ S102432x128.size a) ∧
  (∀ (r : Fin 3), ∀ a, (k0_off586 v1622 (BitVec.ofNat 32 (8 * r.val))) a + S8x128.size a ≤ S102432x128.size a)
theorem k0_off584_inb : ∀ (v1622 : BitVec 32) (k0_hw130 : k0_chk130 v1622), ∀ a, (k0_off584 v1622) a + S1x128.size a ≤ S102432x128.size a := fun v1622 k0_hw130 => k0_hw130.1
theorem k0_off586_inb : ∀ (v1622 : BitVec 32) (k0_hw130 : k0_chk130 v1622), ∀ (r : Fin 3), ∀ a, (k0_off586 v1622 (BitVec.ofNat 32 (8 * r.val))) a + S8x128.size a ≤ S102432x128.size a := fun v1622 k0_hw130 r => k0_hw130.2 r

def k0_off587 (k0_t6 : Fin k0_t6_loop.trips) : Fin 2 → Nat :=
  let c7_585 : Index := 7#32
  let c32_i32_472 : BitVec 32 := 32#32
  let c0_i32_28 : BitVec 32 := 0#32
  let c1_i32_30 : BitVec 32 := 1#32
  let arg20 : BitVec 32 := Scf.iv c0_i32_28 c1_i32_30 k0_t6
  let c8_i32_471 : BitVec 32 := 8#32
  let v1321 : BitVec 32 := Scalar.muli arg20 c8_i32_471
  let v1322 : BitVec 32 := Scalar.addi c32_i32_472 v1321
  let c3_i32 : BitVec 32 := 3#32
  let v1323 : BitVec 32 := Scalar.addi v1322 c3_i32
  let v1671 : Index := Scalar.indexCast v1323
  ![7, v1671.toNat]
def k0_off588 (v1672 : BitVec 32) : Fin 2 → Nat :=
  let c24_i32_586 : BitVec 32 := 24#32
  let v1673 : BitVec 32 := Scalar.addi v1672 c24_i32_586
  let v1674 : Index := Scalar.indexCast v1673
  let c0_587 : Index := 0#32
  ![v1674.toNat, 0]

def k0_off589 (k0_t6 : Fin k0_t6_loop.trips) : Fin 2 → Nat :=
  let c7_588 : Index := 7#32
  let c32_i32_472 : BitVec 32 := 32#32
  let c0_i32_28 : BitVec 32 := 0#32
  let c1_i32_30 : BitVec 32 := 1#32
  let arg20 : BitVec 32 := Scf.iv c0_i32_28 c1_i32_30 k0_t6
  let c8_i32_471 : BitVec 32 := 8#32
  let v1321 : BitVec 32 := Scalar.muli arg20 c8_i32_471
  let v1322 : BitVec 32 := Scalar.addi c32_i32_472 v1321
  let c3_i32 : BitVec 32 := 3#32
  let v1323 : BitVec 32 := Scalar.addi v1322 c3_i32
  let v1676 : Index := Scalar.indexCast v1323
  ![7, v1676.toNat]
def k0_off590 (v1672 : BitVec 32) (c0_i32_591 : BitVec 32) : Fin 2 → Nat :=
  let v1690 : BitVec 32 := Scalar.addi v1672 c0_i32_591
  let v1691 : Index := Scalar.indexCast v1690
  let c0_592 : Index := 0#32
  ![v1691.toNat, 0]

def k0_chk131 (v1672 : BitVec 32) : Prop :=
  (∀ a, (k0_off588 v1672) a + S1x128.size a ≤ S102432x128.size a) ∧
  (∀ (r : Fin 3), ∀ a, (k0_off590 v1672 (BitVec.ofNat 32 (8 * r.val))) a + S8x128.size a ≤ S102432x128.size a)
theorem k0_off588_inb : ∀ (v1672 : BitVec 32) (k0_hw131 : k0_chk131 v1672), ∀ a, (k0_off588 v1672) a + S1x128.size a ≤ S102432x128.size a := fun v1672 k0_hw131 => k0_hw131.1
theorem k0_off590_inb : ∀ (v1672 : BitVec 32) (k0_hw131 : k0_chk131 v1672), ∀ (r : Fin 3), ∀ a, (k0_off590 v1672 (BitVec.ofNat 32 (8 * r.val))) a + S8x128.size a ≤ S102432x128.size a := fun v1672 k0_hw131 r => k0_hw131.2 r

def k0_off591 (k0_t6 : Fin k0_t6_loop.trips) (c0_i32_602 : BitVec 32) : Fin 2 → Nat :=
  let c32_i32_472 : BitVec 32 := 32#32
  let c0_i32_28 : BitVec 32 := 0#32
  let c1_i32_30 : BitVec 32 := 1#32
  let arg20 : BitVec 32 := Scf.iv c0_i32_28 c1_i32_30 k0_t6
  let c8_i32_471 : BitVec 32 := 8#32
  let v1321 : BitVec 32 := Scalar.muli arg20 c8_i32_471
  let v1322 : BitVec 32 := Scalar.addi c32_i32_472 v1321
  let c3_i32 : BitVec 32 := 3#32
  let v1323 : BitVec 32 := Scalar.addi v1322 c3_i32
  let c25_i32_601 : BitVec 32 := 25#32
  let v1721 : BitVec 32 := Scalar.muli v1323 c25_i32_601
  let v1722 : BitVec 32 := Scalar.addi v1721 c0_i32_602
  let v1723 : Index := Scalar.indexCast v1722
  let c0_603 : Index := 0#32
  ![v1723.toNat, 0]
def k0_off592 (k0_t6 : Fin k0_t6_loop.trips) : Fin 2 → Nat :=
  let c0_613 : Index := 0#32
  let c32_i32_611 : BitVec 32 := 32#32
  let c0_i32_28 : BitVec 32 := 0#32
  let c1_i32_30 : BitVec 32 := 1#32
  let arg20 : BitVec 32 := Scf.iv c0_i32_28 c1_i32_30 k0_t6
  let c8_i32_610 : BitVec 32 := 8#32
  let v1739 : BitVec 32 := Scalar.muli arg20 c8_i32_610
  let v1740 : BitVec 32 := Scalar.addi c32_i32_611 v1739
  let c4_i32_612 : BitVec 32 := 4#32
  let v1741 : BitVec 32 := Scalar.addi v1740 c4_i32_612
  let v1742 : Index := Scalar.indexCast v1741
  ![0, v1742.toNat]
def k0_off593 (v1743 : BitVec 32) : Fin 2 → Nat :=
  let c24_i32_614 : BitVec 32 := 24#32
  let v1744 : BitVec 32 := Scalar.addi v1743 c24_i32_614
  let v1745 : Index := Scalar.indexCast v1744
  let c0_615 : Index := 0#32
  ![v1745.toNat, 0]

def k0_off594 (k0_t6 : Fin k0_t6_loop.trips) : Fin 2 → Nat :=
  let c0_616 : Index := 0#32
  let c32_i32_611 : BitVec 32 := 32#32
  let c0_i32_28 : BitVec 32 := 0#32
  let c1_i32_30 : BitVec 32 := 1#32
  let arg20 : BitVec 32 := Scf.iv c0_i32_28 c1_i32_30 k0_t6
  let c8_i32_610 : BitVec 32 := 8#32
  let v1739 : BitVec 32 := Scalar.muli arg20 c8_i32_610
  let v1740 : BitVec 32 := Scalar.addi c32_i32_611 v1739
  let c4_i32_612 : BitVec 32 := 4#32
  let v1741 : BitVec 32 := Scalar.addi v1740 c4_i32_612
  let v1747 : Index := Scalar.indexCast v1741
  ![0, v1747.toNat]
def k0_off595 (v1743 : BitVec 32) (c0_i32_619 : BitVec 32) : Fin 2 → Nat :=
  let v1761 : BitVec 32 := Scalar.addi v1743 c0_i32_619
  let v1762 : Index := Scalar.indexCast v1761
  let c0_620 : Index := 0#32
  ![v1762.toNat, 0]

def k0_chk132 (v1743 : BitVec 32) : Prop :=
  (∀ a, (k0_off593 v1743) a + S1x128.size a ≤ S102432x128.size a) ∧
  (∀ (r : Fin 3), ∀ a, (k0_off595 v1743 (BitVec.ofNat 32 (8 * r.val))) a + S8x128.size a ≤ S102432x128.size a)
theorem k0_off593_inb : ∀ (v1743 : BitVec 32) (k0_hw132 : k0_chk132 v1743), ∀ a, (k0_off593 v1743) a + S1x128.size a ≤ S102432x128.size a := fun v1743 k0_hw132 => k0_hw132.1
theorem k0_off595_inb : ∀ (v1743 : BitVec 32) (k0_hw132 : k0_chk132 v1743), ∀ (r : Fin 3), ∀ a, (k0_off595 v1743 (BitVec.ofNat 32 (8 * r.val))) a + S8x128.size a ≤ S102432x128.size a := fun v1743 k0_hw132 r => k0_hw132.2 r

def k0_off596 (k0_t6 : Fin k0_t6_loop.trips) : Fin 2 → Nat :=
  let c1_629 : Index := 1#32
  let c32_i32_611 : BitVec 32 := 32#32
  let c0_i32_28 : BitVec 32 := 0#32
  let c1_i32_30 : BitVec 32 := 1#32
  let arg20 : BitVec 32 := Scf.iv c0_i32_28 c1_i32_30 k0_t6
  let c8_i32_610 : BitVec 32 := 8#32
  let v1739 : BitVec 32 := Scalar.muli arg20 c8_i32_610
  let v1740 : BitVec 32 := Scalar.addi c32_i32_611 v1739
  let c4_i32_612 : BitVec 32 := 4#32
  let v1741 : BitVec 32 := Scalar.addi v1740 c4_i32_612
  let v1789 : Index := Scalar.indexCast v1741
  ![1, v1789.toNat]
def k0_off597 (v1790 : BitVec 32) : Fin 2 → Nat :=
  let c24_i32_630 : BitVec 32 := 24#32
  let v1791 : BitVec 32 := Scalar.addi v1790 c24_i32_630
  let v1792 : Index := Scalar.indexCast v1791
  let c0_631 : Index := 0#32
  ![v1792.toNat, 0]

def k0_off598 (k0_t6 : Fin k0_t6_loop.trips) : Fin 2 → Nat :=
  let c1_632 : Index := 1#32
  let c32_i32_611 : BitVec 32 := 32#32
  let c0_i32_28 : BitVec 32 := 0#32
  let c1_i32_30 : BitVec 32 := 1#32
  let arg20 : BitVec 32 := Scf.iv c0_i32_28 c1_i32_30 k0_t6
  let c8_i32_610 : BitVec 32 := 8#32
  let v1739 : BitVec 32 := Scalar.muli arg20 c8_i32_610
  let v1740 : BitVec 32 := Scalar.addi c32_i32_611 v1739
  let c4_i32_612 : BitVec 32 := 4#32
  let v1741 : BitVec 32 := Scalar.addi v1740 c4_i32_612
  let v1794 : Index := Scalar.indexCast v1741
  ![1, v1794.toNat]
def k0_off599 (v1790 : BitVec 32) (c0_i32_635 : BitVec 32) : Fin 2 → Nat :=
  let v1808 : BitVec 32 := Scalar.addi v1790 c0_i32_635
  let v1809 : Index := Scalar.indexCast v1808
  let c0_636 : Index := 0#32
  ![v1809.toNat, 0]

def k0_chk133 (v1790 : BitVec 32) : Prop :=
  (∀ a, (k0_off597 v1790) a + S1x128.size a ≤ S102432x128.size a) ∧
  (∀ (r : Fin 3), ∀ a, (k0_off599 v1790 (BitVec.ofNat 32 (8 * r.val))) a + S8x128.size a ≤ S102432x128.size a)
theorem k0_off597_inb : ∀ (v1790 : BitVec 32) (k0_hw133 : k0_chk133 v1790), ∀ a, (k0_off597 v1790) a + S1x128.size a ≤ S102432x128.size a := fun v1790 k0_hw133 => k0_hw133.1
theorem k0_off599_inb : ∀ (v1790 : BitVec 32) (k0_hw133 : k0_chk133 v1790), ∀ (r : Fin 3), ∀ a, (k0_off599 v1790 (BitVec.ofNat 32 (8 * r.val))) a + S8x128.size a ≤ S102432x128.size a := fun v1790 k0_hw133 r => k0_hw133.2 r

def k0_off600 (k0_t6 : Fin k0_t6_loop.trips) : Fin 2 → Nat :=
  let c2_645 : Index := 2#32
  let c32_i32_611 : BitVec 32 := 32#32
  let c0_i32_28 : BitVec 32 := 0#32
  let c1_i32_30 : BitVec 32 := 1#32
  let arg20 : BitVec 32 := Scf.iv c0_i32_28 c1_i32_30 k0_t6
  let c8_i32_610 : BitVec 32 := 8#32
  let v1739 : BitVec 32 := Scalar.muli arg20 c8_i32_610
  let v1740 : BitVec 32 := Scalar.addi c32_i32_611 v1739
  let c4_i32_612 : BitVec 32 := 4#32
  let v1741 : BitVec 32 := Scalar.addi v1740 c4_i32_612
  let v1839 : Index := Scalar.indexCast v1741
  ![2, v1839.toNat]
def k0_off601 (v1840 : BitVec 32) : Fin 2 → Nat :=
  let c24_i32_646 : BitVec 32 := 24#32
  let v1841 : BitVec 32 := Scalar.addi v1840 c24_i32_646
  let v1842 : Index := Scalar.indexCast v1841
  let c0_647 : Index := 0#32
  ![v1842.toNat, 0]

def k0_off602 (k0_t6 : Fin k0_t6_loop.trips) : Fin 2 → Nat :=
  let c2_648 : Index := 2#32
  let c32_i32_611 : BitVec 32 := 32#32
  let c0_i32_28 : BitVec 32 := 0#32
  let c1_i32_30 : BitVec 32 := 1#32
  let arg20 : BitVec 32 := Scf.iv c0_i32_28 c1_i32_30 k0_t6
  let c8_i32_610 : BitVec 32 := 8#32
  let v1739 : BitVec 32 := Scalar.muli arg20 c8_i32_610
  let v1740 : BitVec 32 := Scalar.addi c32_i32_611 v1739
  let c4_i32_612 : BitVec 32 := 4#32
  let v1741 : BitVec 32 := Scalar.addi v1740 c4_i32_612
  let v1844 : Index := Scalar.indexCast v1741
  ![2, v1844.toNat]
def k0_off603 (v1840 : BitVec 32) (c0_i32_651 : BitVec 32) : Fin 2 → Nat :=
  let v1858 : BitVec 32 := Scalar.addi v1840 c0_i32_651
  let v1859 : Index := Scalar.indexCast v1858
  let c0_652 : Index := 0#32
  ![v1859.toNat, 0]

def k0_chk134 (v1840 : BitVec 32) : Prop :=
  (∀ a, (k0_off601 v1840) a + S1x128.size a ≤ S102432x128.size a) ∧
  (∀ (r : Fin 3), ∀ a, (k0_off603 v1840 (BitVec.ofNat 32 (8 * r.val))) a + S8x128.size a ≤ S102432x128.size a)
theorem k0_off601_inb : ∀ (v1840 : BitVec 32) (k0_hw134 : k0_chk134 v1840), ∀ a, (k0_off601 v1840) a + S1x128.size a ≤ S102432x128.size a := fun v1840 k0_hw134 => k0_hw134.1
theorem k0_off603_inb : ∀ (v1840 : BitVec 32) (k0_hw134 : k0_chk134 v1840), ∀ (r : Fin 3), ∀ a, (k0_off603 v1840 (BitVec.ofNat 32 (8 * r.val))) a + S8x128.size a ≤ S102432x128.size a := fun v1840 k0_hw134 r => k0_hw134.2 r

def k0_off604 (k0_t6 : Fin k0_t6_loop.trips) : Fin 2 → Nat :=
  let c3_661 : Index := 3#32
  let c32_i32_611 : BitVec 32 := 32#32
  let c0_i32_28 : BitVec 32 := 0#32
  let c1_i32_30 : BitVec 32 := 1#32
  let arg20 : BitVec 32 := Scf.iv c0_i32_28 c1_i32_30 k0_t6
  let c8_i32_610 : BitVec 32 := 8#32
  let v1739 : BitVec 32 := Scalar.muli arg20 c8_i32_610
  let v1740 : BitVec 32 := Scalar.addi c32_i32_611 v1739
  let c4_i32_612 : BitVec 32 := 4#32
  let v1741 : BitVec 32 := Scalar.addi v1740 c4_i32_612
  let v1889 : Index := Scalar.indexCast v1741
  ![3, v1889.toNat]
def k0_off605 (v1890 : BitVec 32) : Fin 2 → Nat :=
  let c24_i32_662 : BitVec 32 := 24#32
  let v1891 : BitVec 32 := Scalar.addi v1890 c24_i32_662
  let v1892 : Index := Scalar.indexCast v1891
  let c0_663 : Index := 0#32
  ![v1892.toNat, 0]

def k0_off606 (k0_t6 : Fin k0_t6_loop.trips) : Fin 2 → Nat :=
  let c3_664 : Index := 3#32
  let c32_i32_611 : BitVec 32 := 32#32
  let c0_i32_28 : BitVec 32 := 0#32
  let c1_i32_30 : BitVec 32 := 1#32
  let arg20 : BitVec 32 := Scf.iv c0_i32_28 c1_i32_30 k0_t6
  let c8_i32_610 : BitVec 32 := 8#32
  let v1739 : BitVec 32 := Scalar.muli arg20 c8_i32_610
  let v1740 : BitVec 32 := Scalar.addi c32_i32_611 v1739
  let c4_i32_612 : BitVec 32 := 4#32
  let v1741 : BitVec 32 := Scalar.addi v1740 c4_i32_612
  let v1894 : Index := Scalar.indexCast v1741
  ![3, v1894.toNat]
def k0_off607 (v1890 : BitVec 32) (c0_i32_667 : BitVec 32) : Fin 2 → Nat :=
  let v1908 : BitVec 32 := Scalar.addi v1890 c0_i32_667
  let v1909 : Index := Scalar.indexCast v1908
  let c0_668 : Index := 0#32
  ![v1909.toNat, 0]

def k0_chk135 (v1890 : BitVec 32) : Prop :=
  (∀ a, (k0_off605 v1890) a + S1x128.size a ≤ S102432x128.size a) ∧
  (∀ (r : Fin 3), ∀ a, (k0_off607 v1890 (BitVec.ofNat 32 (8 * r.val))) a + S8x128.size a ≤ S102432x128.size a)
theorem k0_off605_inb : ∀ (v1890 : BitVec 32) (k0_hw135 : k0_chk135 v1890), ∀ a, (k0_off605 v1890) a + S1x128.size a ≤ S102432x128.size a := fun v1890 k0_hw135 => k0_hw135.1
theorem k0_off607_inb : ∀ (v1890 : BitVec 32) (k0_hw135 : k0_chk135 v1890), ∀ (r : Fin 3), ∀ a, (k0_off607 v1890 (BitVec.ofNat 32 (8 * r.val))) a + S8x128.size a ≤ S102432x128.size a := fun v1890 k0_hw135 r => k0_hw135.2 r

def k0_off608 (k0_t6 : Fin k0_t6_loop.trips) : Fin 2 → Nat :=
  let c4_677 : Index := 4#32
  let c32_i32_611 : BitVec 32 := 32#32
  let c0_i32_28 : BitVec 32 := 0#32
  let c1_i32_30 : BitVec 32 := 1#32
  let arg20 : BitVec 32 := Scf.iv c0_i32_28 c1_i32_30 k0_t6
  let c8_i32_610 : BitVec 32 := 8#32
  let v1739 : BitVec 32 := Scalar.muli arg20 c8_i32_610
  let v1740 : BitVec 32 := Scalar.addi c32_i32_611 v1739
  let c4_i32_612 : BitVec 32 := 4#32
  let v1741 : BitVec 32 := Scalar.addi v1740 c4_i32_612
  let v1939 : Index := Scalar.indexCast v1741
  ![4, v1939.toNat]
def k0_off609 (v1940 : BitVec 32) : Fin 2 → Nat :=
  let c24_i32_678 : BitVec 32 := 24#32
  let v1941 : BitVec 32 := Scalar.addi v1940 c24_i32_678
  let v1942 : Index := Scalar.indexCast v1941
  let c0_679 : Index := 0#32
  ![v1942.toNat, 0]

def k0_off610 (k0_t6 : Fin k0_t6_loop.trips) : Fin 2 → Nat :=
  let c4_680 : Index := 4#32
  let c32_i32_611 : BitVec 32 := 32#32
  let c0_i32_28 : BitVec 32 := 0#32
  let c1_i32_30 : BitVec 32 := 1#32
  let arg20 : BitVec 32 := Scf.iv c0_i32_28 c1_i32_30 k0_t6
  let c8_i32_610 : BitVec 32 := 8#32
  let v1739 : BitVec 32 := Scalar.muli arg20 c8_i32_610
  let v1740 : BitVec 32 := Scalar.addi c32_i32_611 v1739
  let c4_i32_612 : BitVec 32 := 4#32
  let v1741 : BitVec 32 := Scalar.addi v1740 c4_i32_612
  let v1944 : Index := Scalar.indexCast v1741
  ![4, v1944.toNat]
def k0_off611 (v1940 : BitVec 32) (c0_i32_683 : BitVec 32) : Fin 2 → Nat :=
  let v1958 : BitVec 32 := Scalar.addi v1940 c0_i32_683
  let v1959 : Index := Scalar.indexCast v1958
  let c0_684 : Index := 0#32
  ![v1959.toNat, 0]

def k0_chk136 (v1940 : BitVec 32) : Prop :=
  (∀ a, (k0_off609 v1940) a + S1x128.size a ≤ S102432x128.size a) ∧
  (∀ (r : Fin 3), ∀ a, (k0_off611 v1940 (BitVec.ofNat 32 (8 * r.val))) a + S8x128.size a ≤ S102432x128.size a)
theorem k0_off609_inb : ∀ (v1940 : BitVec 32) (k0_hw136 : k0_chk136 v1940), ∀ a, (k0_off609 v1940) a + S1x128.size a ≤ S102432x128.size a := fun v1940 k0_hw136 => k0_hw136.1
theorem k0_off611_inb : ∀ (v1940 : BitVec 32) (k0_hw136 : k0_chk136 v1940), ∀ (r : Fin 3), ∀ a, (k0_off611 v1940 (BitVec.ofNat 32 (8 * r.val))) a + S8x128.size a ≤ S102432x128.size a := fun v1940 k0_hw136 r => k0_hw136.2 r

def k0_off612 (k0_t6 : Fin k0_t6_loop.trips) : Fin 2 → Nat :=
  let c5_693 : Index := 5#32
  let c32_i32_611 : BitVec 32 := 32#32
  let c0_i32_28 : BitVec 32 := 0#32
  let c1_i32_30 : BitVec 32 := 1#32
  let arg20 : BitVec 32 := Scf.iv c0_i32_28 c1_i32_30 k0_t6
  let c8_i32_610 : BitVec 32 := 8#32
  let v1739 : BitVec 32 := Scalar.muli arg20 c8_i32_610
  let v1740 : BitVec 32 := Scalar.addi c32_i32_611 v1739
  let c4_i32_612 : BitVec 32 := 4#32
  let v1741 : BitVec 32 := Scalar.addi v1740 c4_i32_612
  let v1989 : Index := Scalar.indexCast v1741
  ![5, v1989.toNat]
def k0_off613 (v1990 : BitVec 32) : Fin 2 → Nat :=
  let c24_i32_694 : BitVec 32 := 24#32
  let v1991 : BitVec 32 := Scalar.addi v1990 c24_i32_694
  let v1992 : Index := Scalar.indexCast v1991
  let c0_695 : Index := 0#32
  ![v1992.toNat, 0]

def k0_off614 (k0_t6 : Fin k0_t6_loop.trips) : Fin 2 → Nat :=
  let c5_696 : Index := 5#32
  let c32_i32_611 : BitVec 32 := 32#32
  let c0_i32_28 : BitVec 32 := 0#32
  let c1_i32_30 : BitVec 32 := 1#32
  let arg20 : BitVec 32 := Scf.iv c0_i32_28 c1_i32_30 k0_t6
  let c8_i32_610 : BitVec 32 := 8#32
  let v1739 : BitVec 32 := Scalar.muli arg20 c8_i32_610
  let v1740 : BitVec 32 := Scalar.addi c32_i32_611 v1739
  let c4_i32_612 : BitVec 32 := 4#32
  let v1741 : BitVec 32 := Scalar.addi v1740 c4_i32_612
  let v1994 : Index := Scalar.indexCast v1741
  ![5, v1994.toNat]
def k0_off615 (v1990 : BitVec 32) (c0_i32_699 : BitVec 32) : Fin 2 → Nat :=
  let v2008 : BitVec 32 := Scalar.addi v1990 c0_i32_699
  let v2009 : Index := Scalar.indexCast v2008
  let c0_700 : Index := 0#32
  ![v2009.toNat, 0]

def k0_chk137 (v1990 : BitVec 32) : Prop :=
  (∀ a, (k0_off613 v1990) a + S1x128.size a ≤ S102432x128.size a) ∧
  (∀ (r : Fin 3), ∀ a, (k0_off615 v1990 (BitVec.ofNat 32 (8 * r.val))) a + S8x128.size a ≤ S102432x128.size a)
theorem k0_off613_inb : ∀ (v1990 : BitVec 32) (k0_hw137 : k0_chk137 v1990), ∀ a, (k0_off613 v1990) a + S1x128.size a ≤ S102432x128.size a := fun v1990 k0_hw137 => k0_hw137.1
theorem k0_off615_inb : ∀ (v1990 : BitVec 32) (k0_hw137 : k0_chk137 v1990), ∀ (r : Fin 3), ∀ a, (k0_off615 v1990 (BitVec.ofNat 32 (8 * r.val))) a + S8x128.size a ≤ S102432x128.size a := fun v1990 k0_hw137 r => k0_hw137.2 r

def k0_off616 (k0_t6 : Fin k0_t6_loop.trips) : Fin 2 → Nat :=
  let c6_709 : Index := 6#32
  let c32_i32_611 : BitVec 32 := 32#32
  let c0_i32_28 : BitVec 32 := 0#32
  let c1_i32_30 : BitVec 32 := 1#32
  let arg20 : BitVec 32 := Scf.iv c0_i32_28 c1_i32_30 k0_t6
  let c8_i32_610 : BitVec 32 := 8#32
  let v1739 : BitVec 32 := Scalar.muli arg20 c8_i32_610
  let v1740 : BitVec 32 := Scalar.addi c32_i32_611 v1739
  let c4_i32_612 : BitVec 32 := 4#32
  let v1741 : BitVec 32 := Scalar.addi v1740 c4_i32_612
  let v2039 : Index := Scalar.indexCast v1741
  ![6, v2039.toNat]
def k0_off617 (v2040 : BitVec 32) : Fin 2 → Nat :=
  let c24_i32_710 : BitVec 32 := 24#32
  let v2041 : BitVec 32 := Scalar.addi v2040 c24_i32_710
  let v2042 : Index := Scalar.indexCast v2041
  let c0_711 : Index := 0#32
  ![v2042.toNat, 0]

def k0_off618 (k0_t6 : Fin k0_t6_loop.trips) : Fin 2 → Nat :=
  let c6_712 : Index := 6#32
  let c32_i32_611 : BitVec 32 := 32#32
  let c0_i32_28 : BitVec 32 := 0#32
  let c1_i32_30 : BitVec 32 := 1#32
  let arg20 : BitVec 32 := Scf.iv c0_i32_28 c1_i32_30 k0_t6
  let c8_i32_610 : BitVec 32 := 8#32
  let v1739 : BitVec 32 := Scalar.muli arg20 c8_i32_610
  let v1740 : BitVec 32 := Scalar.addi c32_i32_611 v1739
  let c4_i32_612 : BitVec 32 := 4#32
  let v1741 : BitVec 32 := Scalar.addi v1740 c4_i32_612
  let v2044 : Index := Scalar.indexCast v1741
  ![6, v2044.toNat]
def k0_off619 (v2040 : BitVec 32) (c0_i32_715 : BitVec 32) : Fin 2 → Nat :=
  let v2058 : BitVec 32 := Scalar.addi v2040 c0_i32_715
  let v2059 : Index := Scalar.indexCast v2058
  let c0_716 : Index := 0#32
  ![v2059.toNat, 0]

def k0_chk138 (v2040 : BitVec 32) : Prop :=
  (∀ a, (k0_off617 v2040) a + S1x128.size a ≤ S102432x128.size a) ∧
  (∀ (r : Fin 3), ∀ a, (k0_off619 v2040 (BitVec.ofNat 32 (8 * r.val))) a + S8x128.size a ≤ S102432x128.size a)
theorem k0_off617_inb : ∀ (v2040 : BitVec 32) (k0_hw138 : k0_chk138 v2040), ∀ a, (k0_off617 v2040) a + S1x128.size a ≤ S102432x128.size a := fun v2040 k0_hw138 => k0_hw138.1
theorem k0_off619_inb : ∀ (v2040 : BitVec 32) (k0_hw138 : k0_chk138 v2040), ∀ (r : Fin 3), ∀ a, (k0_off619 v2040 (BitVec.ofNat 32 (8 * r.val))) a + S8x128.size a ≤ S102432x128.size a := fun v2040 k0_hw138 r => k0_hw138.2 r

def k0_off620 (k0_t6 : Fin k0_t6_loop.trips) : Fin 2 → Nat :=
  let c7_725 : Index := 7#32
  let c32_i32_611 : BitVec 32 := 32#32
  let c0_i32_28 : BitVec 32 := 0#32
  let c1_i32_30 : BitVec 32 := 1#32
  let arg20 : BitVec 32 := Scf.iv c0_i32_28 c1_i32_30 k0_t6
  let c8_i32_610 : BitVec 32 := 8#32
  let v1739 : BitVec 32 := Scalar.muli arg20 c8_i32_610
  let v1740 : BitVec 32 := Scalar.addi c32_i32_611 v1739
  let c4_i32_612 : BitVec 32 := 4#32
  let v1741 : BitVec 32 := Scalar.addi v1740 c4_i32_612
  let v2089 : Index := Scalar.indexCast v1741
  ![7, v2089.toNat]
def k0_off621 (v2090 : BitVec 32) : Fin 2 → Nat :=
  let c24_i32_726 : BitVec 32 := 24#32
  let v2091 : BitVec 32 := Scalar.addi v2090 c24_i32_726
  let v2092 : Index := Scalar.indexCast v2091
  let c0_727 : Index := 0#32
  ![v2092.toNat, 0]

def k0_off622 (k0_t6 : Fin k0_t6_loop.trips) : Fin 2 → Nat :=
  let c7_728 : Index := 7#32
  let c32_i32_611 : BitVec 32 := 32#32
  let c0_i32_28 : BitVec 32 := 0#32
  let c1_i32_30 : BitVec 32 := 1#32
  let arg20 : BitVec 32 := Scf.iv c0_i32_28 c1_i32_30 k0_t6
  let c8_i32_610 : BitVec 32 := 8#32
  let v1739 : BitVec 32 := Scalar.muli arg20 c8_i32_610
  let v1740 : BitVec 32 := Scalar.addi c32_i32_611 v1739
  let c4_i32_612 : BitVec 32 := 4#32
  let v1741 : BitVec 32 := Scalar.addi v1740 c4_i32_612
  let v2094 : Index := Scalar.indexCast v1741
  ![7, v2094.toNat]
def k0_off623 (v2090 : BitVec 32) (c0_i32_731 : BitVec 32) : Fin 2 → Nat :=
  let v2108 : BitVec 32 := Scalar.addi v2090 c0_i32_731
  let v2109 : Index := Scalar.indexCast v2108
  let c0_732 : Index := 0#32
  ![v2109.toNat, 0]

def k0_chk139 (v2090 : BitVec 32) : Prop :=
  (∀ a, (k0_off621 v2090) a + S1x128.size a ≤ S102432x128.size a) ∧
  (∀ (r : Fin 3), ∀ a, (k0_off623 v2090 (BitVec.ofNat 32 (8 * r.val))) a + S8x128.size a ≤ S102432x128.size a)
theorem k0_off621_inb : ∀ (v2090 : BitVec 32) (k0_hw139 : k0_chk139 v2090), ∀ a, (k0_off621 v2090) a + S1x128.size a ≤ S102432x128.size a := fun v2090 k0_hw139 => k0_hw139.1
theorem k0_off623_inb : ∀ (v2090 : BitVec 32) (k0_hw139 : k0_chk139 v2090), ∀ (r : Fin 3), ∀ a, (k0_off623 v2090 (BitVec.ofNat 32 (8 * r.val))) a + S8x128.size a ≤ S102432x128.size a := fun v2090 k0_hw139 r => k0_hw139.2 r

def k0_off624 (k0_t6 : Fin k0_t6_loop.trips) (c0_i32_742 : BitVec 32) : Fin 2 → Nat :=
  let c32_i32_611 : BitVec 32 := 32#32
  let c0_i32_28 : BitVec 32 := 0#32
  let c1_i32_30 : BitVec 32 := 1#32
  let arg20 : BitVec 32 := Scf.iv c0_i32_28 c1_i32_30 k0_t6
  let c8_i32_610 : BitVec 32 := 8#32
  let v1739 : BitVec 32 := Scalar.muli arg20 c8_i32_610
  let v1740 : BitVec 32 := Scalar.addi c32_i32_611 v1739
  let c4_i32_612 : BitVec 32 := 4#32
  let v1741 : BitVec 32 := Scalar.addi v1740 c4_i32_612
  let c25_i32_741 : BitVec 32 := 25#32
  let v2139 : BitVec 32 := Scalar.muli v1741 c25_i32_741
  let v2140 : BitVec 32 := Scalar.addi v2139 c0_i32_742
  let v2141 : Index := Scalar.indexCast v2140
  let c0_743 : Index := 0#32
  ![v2141.toNat, 0]
def k0_off625 (k0_t6 : Fin k0_t6_loop.trips) : Fin 2 → Nat :=
  let c0_752 : Index := 0#32
  let c32_i32_751 : BitVec 32 := 32#32
  let c0_i32_28 : BitVec 32 := 0#32
  let c1_i32_30 : BitVec 32 := 1#32
  let arg20 : BitVec 32 := Scf.iv c0_i32_28 c1_i32_30 k0_t6
  let c8_i32_750 : BitVec 32 := 8#32
  let v2157 : BitVec 32 := Scalar.muli arg20 c8_i32_750
  let v2158 : BitVec 32 := Scalar.addi c32_i32_751 v2157
  let c5_i32 : BitVec 32 := 5#32
  let v2159 : BitVec 32 := Scalar.addi v2158 c5_i32
  let v2160 : Index := Scalar.indexCast v2159
  ![0, v2160.toNat]
def k0_off626 (v2161 : BitVec 32) : Fin 2 → Nat :=
  let c24_i32_753 : BitVec 32 := 24#32
  let v2162 : BitVec 32 := Scalar.addi v2161 c24_i32_753
  let v2163 : Index := Scalar.indexCast v2162
  let c0_754 : Index := 0#32
  ![v2163.toNat, 0]

def k0_off627 (k0_t6 : Fin k0_t6_loop.trips) : Fin 2 → Nat :=
  let c0_755 : Index := 0#32
  let c32_i32_751 : BitVec 32 := 32#32
  let c0_i32_28 : BitVec 32 := 0#32
  let c1_i32_30 : BitVec 32 := 1#32
  let arg20 : BitVec 32 := Scf.iv c0_i32_28 c1_i32_30 k0_t6
  let c8_i32_750 : BitVec 32 := 8#32
  let v2157 : BitVec 32 := Scalar.muli arg20 c8_i32_750
  let v2158 : BitVec 32 := Scalar.addi c32_i32_751 v2157
  let c5_i32 : BitVec 32 := 5#32
  let v2159 : BitVec 32 := Scalar.addi v2158 c5_i32
  let v2165 : Index := Scalar.indexCast v2159
  ![0, v2165.toNat]
def k0_off628 (v2161 : BitVec 32) (c0_i32_758 : BitVec 32) : Fin 2 → Nat :=
  let v2179 : BitVec 32 := Scalar.addi v2161 c0_i32_758
  let v2180 : Index := Scalar.indexCast v2179
  let c0_759 : Index := 0#32
  ![v2180.toNat, 0]

def k0_chk140 (v2161 : BitVec 32) : Prop :=
  (∀ a, (k0_off626 v2161) a + S1x128.size a ≤ S102432x128.size a) ∧
  (∀ (r : Fin 3), ∀ a, (k0_off628 v2161 (BitVec.ofNat 32 (8 * r.val))) a + S8x128.size a ≤ S102432x128.size a)
theorem k0_off626_inb : ∀ (v2161 : BitVec 32) (k0_hw140 : k0_chk140 v2161), ∀ a, (k0_off626 v2161) a + S1x128.size a ≤ S102432x128.size a := fun v2161 k0_hw140 => k0_hw140.1
theorem k0_off628_inb : ∀ (v2161 : BitVec 32) (k0_hw140 : k0_chk140 v2161), ∀ (r : Fin 3), ∀ a, (k0_off628 v2161 (BitVec.ofNat 32 (8 * r.val))) a + S8x128.size a ≤ S102432x128.size a := fun v2161 k0_hw140 r => k0_hw140.2 r

def k0_off629 (k0_t6 : Fin k0_t6_loop.trips) : Fin 2 → Nat :=
  let c1_768 : Index := 1#32
  let c32_i32_751 : BitVec 32 := 32#32
  let c0_i32_28 : BitVec 32 := 0#32
  let c1_i32_30 : BitVec 32 := 1#32
  let arg20 : BitVec 32 := Scf.iv c0_i32_28 c1_i32_30 k0_t6
  let c8_i32_750 : BitVec 32 := 8#32
  let v2157 : BitVec 32 := Scalar.muli arg20 c8_i32_750
  let v2158 : BitVec 32 := Scalar.addi c32_i32_751 v2157
  let c5_i32 : BitVec 32 := 5#32
  let v2159 : BitVec 32 := Scalar.addi v2158 c5_i32
  let v2207 : Index := Scalar.indexCast v2159
  ![1, v2207.toNat]
def k0_off630 (v2208 : BitVec 32) : Fin 2 → Nat :=
  let c24_i32_769 : BitVec 32 := 24#32
  let v2209 : BitVec 32 := Scalar.addi v2208 c24_i32_769
  let v2210 : Index := Scalar.indexCast v2209
  let c0_770 : Index := 0#32
  ![v2210.toNat, 0]

def k0_off631 (k0_t6 : Fin k0_t6_loop.trips) : Fin 2 → Nat :=
  let c1_771 : Index := 1#32
  let c32_i32_751 : BitVec 32 := 32#32
  let c0_i32_28 : BitVec 32 := 0#32
  let c1_i32_30 : BitVec 32 := 1#32
  let arg20 : BitVec 32 := Scf.iv c0_i32_28 c1_i32_30 k0_t6
  let c8_i32_750 : BitVec 32 := 8#32
  let v2157 : BitVec 32 := Scalar.muli arg20 c8_i32_750
  let v2158 : BitVec 32 := Scalar.addi c32_i32_751 v2157
  let c5_i32 : BitVec 32 := 5#32
  let v2159 : BitVec 32 := Scalar.addi v2158 c5_i32
  let v2212 : Index := Scalar.indexCast v2159
  ![1, v2212.toNat]
def k0_off632 (v2208 : BitVec 32) (c0_i32_774 : BitVec 32) : Fin 2 → Nat :=
  let v2226 : BitVec 32 := Scalar.addi v2208 c0_i32_774
  let v2227 : Index := Scalar.indexCast v2226
  let c0_775 : Index := 0#32
  ![v2227.toNat, 0]

def k0_chk141 (v2208 : BitVec 32) : Prop :=
  (∀ a, (k0_off630 v2208) a + S1x128.size a ≤ S102432x128.size a) ∧
  (∀ (r : Fin 3), ∀ a, (k0_off632 v2208 (BitVec.ofNat 32 (8 * r.val))) a + S8x128.size a ≤ S102432x128.size a)
theorem k0_off630_inb : ∀ (v2208 : BitVec 32) (k0_hw141 : k0_chk141 v2208), ∀ a, (k0_off630 v2208) a + S1x128.size a ≤ S102432x128.size a := fun v2208 k0_hw141 => k0_hw141.1
theorem k0_off632_inb : ∀ (v2208 : BitVec 32) (k0_hw141 : k0_chk141 v2208), ∀ (r : Fin 3), ∀ a, (k0_off632 v2208 (BitVec.ofNat 32 (8 * r.val))) a + S8x128.size a ≤ S102432x128.size a := fun v2208 k0_hw141 r => k0_hw141.2 r

def k0_off633 (k0_t6 : Fin k0_t6_loop.trips) : Fin 2 → Nat :=
  let c2_784 : Index := 2#32
  let c32_i32_751 : BitVec 32 := 32#32
  let c0_i32_28 : BitVec 32 := 0#32
  let c1_i32_30 : BitVec 32 := 1#32
  let arg20 : BitVec 32 := Scf.iv c0_i32_28 c1_i32_30 k0_t6
  let c8_i32_750 : BitVec 32 := 8#32
  let v2157 : BitVec 32 := Scalar.muli arg20 c8_i32_750
  let v2158 : BitVec 32 := Scalar.addi c32_i32_751 v2157
  let c5_i32 : BitVec 32 := 5#32
  let v2159 : BitVec 32 := Scalar.addi v2158 c5_i32
  let v2257 : Index := Scalar.indexCast v2159
  ![2, v2257.toNat]
def k0_off634 (v2258 : BitVec 32) : Fin 2 → Nat :=
  let c24_i32_785 : BitVec 32 := 24#32
  let v2259 : BitVec 32 := Scalar.addi v2258 c24_i32_785
  let v2260 : Index := Scalar.indexCast v2259
  let c0_786 : Index := 0#32
  ![v2260.toNat, 0]

def k0_off635 (k0_t6 : Fin k0_t6_loop.trips) : Fin 2 → Nat :=
  let c2_787 : Index := 2#32
  let c32_i32_751 : BitVec 32 := 32#32
  let c0_i32_28 : BitVec 32 := 0#32
  let c1_i32_30 : BitVec 32 := 1#32
  let arg20 : BitVec 32 := Scf.iv c0_i32_28 c1_i32_30 k0_t6
  let c8_i32_750 : BitVec 32 := 8#32
  let v2157 : BitVec 32 := Scalar.muli arg20 c8_i32_750
  let v2158 : BitVec 32 := Scalar.addi c32_i32_751 v2157
  let c5_i32 : BitVec 32 := 5#32
  let v2159 : BitVec 32 := Scalar.addi v2158 c5_i32
  let v2262 : Index := Scalar.indexCast v2159
  ![2, v2262.toNat]
def k0_off636 (v2258 : BitVec 32) (c0_i32_790 : BitVec 32) : Fin 2 → Nat :=
  let v2276 : BitVec 32 := Scalar.addi v2258 c0_i32_790
  let v2277 : Index := Scalar.indexCast v2276
  let c0_791 : Index := 0#32
  ![v2277.toNat, 0]

def k0_chk142 (v2258 : BitVec 32) : Prop :=
  (∀ a, (k0_off634 v2258) a + S1x128.size a ≤ S102432x128.size a) ∧
  (∀ (r : Fin 3), ∀ a, (k0_off636 v2258 (BitVec.ofNat 32 (8 * r.val))) a + S8x128.size a ≤ S102432x128.size a)
theorem k0_off634_inb : ∀ (v2258 : BitVec 32) (k0_hw142 : k0_chk142 v2258), ∀ a, (k0_off634 v2258) a + S1x128.size a ≤ S102432x128.size a := fun v2258 k0_hw142 => k0_hw142.1
theorem k0_off636_inb : ∀ (v2258 : BitVec 32) (k0_hw142 : k0_chk142 v2258), ∀ (r : Fin 3), ∀ a, (k0_off636 v2258 (BitVec.ofNat 32 (8 * r.val))) a + S8x128.size a ≤ S102432x128.size a := fun v2258 k0_hw142 r => k0_hw142.2 r

def k0_off637 (k0_t6 : Fin k0_t6_loop.trips) : Fin 2 → Nat :=
  let c3_800 : Index := 3#32
  let c32_i32_751 : BitVec 32 := 32#32
  let c0_i32_28 : BitVec 32 := 0#32
  let c1_i32_30 : BitVec 32 := 1#32
  let arg20 : BitVec 32 := Scf.iv c0_i32_28 c1_i32_30 k0_t6
  let c8_i32_750 : BitVec 32 := 8#32
  let v2157 : BitVec 32 := Scalar.muli arg20 c8_i32_750
  let v2158 : BitVec 32 := Scalar.addi c32_i32_751 v2157
  let c5_i32 : BitVec 32 := 5#32
  let v2159 : BitVec 32 := Scalar.addi v2158 c5_i32
  let v2307 : Index := Scalar.indexCast v2159
  ![3, v2307.toNat]
def k0_off638 (v2308 : BitVec 32) : Fin 2 → Nat :=
  let c24_i32_801 : BitVec 32 := 24#32
  let v2309 : BitVec 32 := Scalar.addi v2308 c24_i32_801
  let v2310 : Index := Scalar.indexCast v2309
  let c0_802 : Index := 0#32
  ![v2310.toNat, 0]

def k0_off639 (k0_t6 : Fin k0_t6_loop.trips) : Fin 2 → Nat :=
  let c3_803 : Index := 3#32
  let c32_i32_751 : BitVec 32 := 32#32
  let c0_i32_28 : BitVec 32 := 0#32
  let c1_i32_30 : BitVec 32 := 1#32
  let arg20 : BitVec 32 := Scf.iv c0_i32_28 c1_i32_30 k0_t6
  let c8_i32_750 : BitVec 32 := 8#32
  let v2157 : BitVec 32 := Scalar.muli arg20 c8_i32_750
  let v2158 : BitVec 32 := Scalar.addi c32_i32_751 v2157
  let c5_i32 : BitVec 32 := 5#32
  let v2159 : BitVec 32 := Scalar.addi v2158 c5_i32
  let v2312 : Index := Scalar.indexCast v2159
  ![3, v2312.toNat]
def k0_off640 (v2308 : BitVec 32) (c0_i32_806 : BitVec 32) : Fin 2 → Nat :=
  let v2326 : BitVec 32 := Scalar.addi v2308 c0_i32_806
  let v2327 : Index := Scalar.indexCast v2326
  let c0_807 : Index := 0#32
  ![v2327.toNat, 0]

def k0_chk143 (v2308 : BitVec 32) : Prop :=
  (∀ a, (k0_off638 v2308) a + S1x128.size a ≤ S102432x128.size a) ∧
  (∀ (r : Fin 3), ∀ a, (k0_off640 v2308 (BitVec.ofNat 32 (8 * r.val))) a + S8x128.size a ≤ S102432x128.size a)
theorem k0_off638_inb : ∀ (v2308 : BitVec 32) (k0_hw143 : k0_chk143 v2308), ∀ a, (k0_off638 v2308) a + S1x128.size a ≤ S102432x128.size a := fun v2308 k0_hw143 => k0_hw143.1
theorem k0_off640_inb : ∀ (v2308 : BitVec 32) (k0_hw143 : k0_chk143 v2308), ∀ (r : Fin 3), ∀ a, (k0_off640 v2308 (BitVec.ofNat 32 (8 * r.val))) a + S8x128.size a ≤ S102432x128.size a := fun v2308 k0_hw143 r => k0_hw143.2 r

def k0_off641 (k0_t6 : Fin k0_t6_loop.trips) : Fin 2 → Nat :=
  let c4_816 : Index := 4#32
  let c32_i32_751 : BitVec 32 := 32#32
  let c0_i32_28 : BitVec 32 := 0#32
  let c1_i32_30 : BitVec 32 := 1#32
  let arg20 : BitVec 32 := Scf.iv c0_i32_28 c1_i32_30 k0_t6
  let c8_i32_750 : BitVec 32 := 8#32
  let v2157 : BitVec 32 := Scalar.muli arg20 c8_i32_750
  let v2158 : BitVec 32 := Scalar.addi c32_i32_751 v2157
  let c5_i32 : BitVec 32 := 5#32
  let v2159 : BitVec 32 := Scalar.addi v2158 c5_i32
  let v2357 : Index := Scalar.indexCast v2159
  ![4, v2357.toNat]
def k0_off642 (v2358 : BitVec 32) : Fin 2 → Nat :=
  let c24_i32_817 : BitVec 32 := 24#32
  let v2359 : BitVec 32 := Scalar.addi v2358 c24_i32_817
  let v2360 : Index := Scalar.indexCast v2359
  let c0_818 : Index := 0#32
  ![v2360.toNat, 0]

def k0_off643 (k0_t6 : Fin k0_t6_loop.trips) : Fin 2 → Nat :=
  let c4_819 : Index := 4#32
  let c32_i32_751 : BitVec 32 := 32#32
  let c0_i32_28 : BitVec 32 := 0#32
  let c1_i32_30 : BitVec 32 := 1#32
  let arg20 : BitVec 32 := Scf.iv c0_i32_28 c1_i32_30 k0_t6
  let c8_i32_750 : BitVec 32 := 8#32
  let v2157 : BitVec 32 := Scalar.muli arg20 c8_i32_750
  let v2158 : BitVec 32 := Scalar.addi c32_i32_751 v2157
  let c5_i32 : BitVec 32 := 5#32
  let v2159 : BitVec 32 := Scalar.addi v2158 c5_i32
  let v2362 : Index := Scalar.indexCast v2159
  ![4, v2362.toNat]
def k0_off644 (v2358 : BitVec 32) (c0_i32_822 : BitVec 32) : Fin 2 → Nat :=
  let v2376 : BitVec 32 := Scalar.addi v2358 c0_i32_822
  let v2377 : Index := Scalar.indexCast v2376
  let c0_823 : Index := 0#32
  ![v2377.toNat, 0]

def k0_chk144 (v2358 : BitVec 32) : Prop :=
  (∀ a, (k0_off642 v2358) a + S1x128.size a ≤ S102432x128.size a) ∧
  (∀ (r : Fin 3), ∀ a, (k0_off644 v2358 (BitVec.ofNat 32 (8 * r.val))) a + S8x128.size a ≤ S102432x128.size a)
theorem k0_off642_inb : ∀ (v2358 : BitVec 32) (k0_hw144 : k0_chk144 v2358), ∀ a, (k0_off642 v2358) a + S1x128.size a ≤ S102432x128.size a := fun v2358 k0_hw144 => k0_hw144.1
theorem k0_off644_inb : ∀ (v2358 : BitVec 32) (k0_hw144 : k0_chk144 v2358), ∀ (r : Fin 3), ∀ a, (k0_off644 v2358 (BitVec.ofNat 32 (8 * r.val))) a + S8x128.size a ≤ S102432x128.size a := fun v2358 k0_hw144 r => k0_hw144.2 r

def k0_off645 (k0_t6 : Fin k0_t6_loop.trips) : Fin 2 → Nat :=
  let c5_832 : Index := 5#32
  let c32_i32_751 : BitVec 32 := 32#32
  let c0_i32_28 : BitVec 32 := 0#32
  let c1_i32_30 : BitVec 32 := 1#32
  let arg20 : BitVec 32 := Scf.iv c0_i32_28 c1_i32_30 k0_t6
  let c8_i32_750 : BitVec 32 := 8#32
  let v2157 : BitVec 32 := Scalar.muli arg20 c8_i32_750
  let v2158 : BitVec 32 := Scalar.addi c32_i32_751 v2157
  let c5_i32 : BitVec 32 := 5#32
  let v2159 : BitVec 32 := Scalar.addi v2158 c5_i32
  let v2407 : Index := Scalar.indexCast v2159
  ![5, v2407.toNat]
def k0_off646 (v2408 : BitVec 32) : Fin 2 → Nat :=
  let c24_i32_833 : BitVec 32 := 24#32
  let v2409 : BitVec 32 := Scalar.addi v2408 c24_i32_833
  let v2410 : Index := Scalar.indexCast v2409
  let c0_834 : Index := 0#32
  ![v2410.toNat, 0]

def k0_off647 (k0_t6 : Fin k0_t6_loop.trips) : Fin 2 → Nat :=
  let c5_835 : Index := 5#32
  let c32_i32_751 : BitVec 32 := 32#32
  let c0_i32_28 : BitVec 32 := 0#32
  let c1_i32_30 : BitVec 32 := 1#32
  let arg20 : BitVec 32 := Scf.iv c0_i32_28 c1_i32_30 k0_t6
  let c8_i32_750 : BitVec 32 := 8#32
  let v2157 : BitVec 32 := Scalar.muli arg20 c8_i32_750
  let v2158 : BitVec 32 := Scalar.addi c32_i32_751 v2157
  let c5_i32 : BitVec 32 := 5#32
  let v2159 : BitVec 32 := Scalar.addi v2158 c5_i32
  let v2412 : Index := Scalar.indexCast v2159
  ![5, v2412.toNat]
def k0_off648 (v2408 : BitVec 32) (c0_i32_838 : BitVec 32) : Fin 2 → Nat :=
  let v2426 : BitVec 32 := Scalar.addi v2408 c0_i32_838
  let v2427 : Index := Scalar.indexCast v2426
  let c0_839 : Index := 0#32
  ![v2427.toNat, 0]

def k0_chk145 (v2408 : BitVec 32) : Prop :=
  (∀ a, (k0_off646 v2408) a + S1x128.size a ≤ S102432x128.size a) ∧
  (∀ (r : Fin 3), ∀ a, (k0_off648 v2408 (BitVec.ofNat 32 (8 * r.val))) a + S8x128.size a ≤ S102432x128.size a)
theorem k0_off646_inb : ∀ (v2408 : BitVec 32) (k0_hw145 : k0_chk145 v2408), ∀ a, (k0_off646 v2408) a + S1x128.size a ≤ S102432x128.size a := fun v2408 k0_hw145 => k0_hw145.1
theorem k0_off648_inb : ∀ (v2408 : BitVec 32) (k0_hw145 : k0_chk145 v2408), ∀ (r : Fin 3), ∀ a, (k0_off648 v2408 (BitVec.ofNat 32 (8 * r.val))) a + S8x128.size a ≤ S102432x128.size a := fun v2408 k0_hw145 r => k0_hw145.2 r

def k0_off649 (k0_t6 : Fin k0_t6_loop.trips) : Fin 2 → Nat :=
  let c6_848 : Index := 6#32
  let c32_i32_751 : BitVec 32 := 32#32
  let c0_i32_28 : BitVec 32 := 0#32
  let c1_i32_30 : BitVec 32 := 1#32
  let arg20 : BitVec 32 := Scf.iv c0_i32_28 c1_i32_30 k0_t6
  let c8_i32_750 : BitVec 32 := 8#32
  let v2157 : BitVec 32 := Scalar.muli arg20 c8_i32_750
  let v2158 : BitVec 32 := Scalar.addi c32_i32_751 v2157
  let c5_i32 : BitVec 32 := 5#32
  let v2159 : BitVec 32 := Scalar.addi v2158 c5_i32
  let v2457 : Index := Scalar.indexCast v2159
  ![6, v2457.toNat]
def k0_off650 (v2458 : BitVec 32) : Fin 2 → Nat :=
  let c24_i32_849 : BitVec 32 := 24#32
  let v2459 : BitVec 32 := Scalar.addi v2458 c24_i32_849
  let v2460 : Index := Scalar.indexCast v2459
  let c0_850 : Index := 0#32
  ![v2460.toNat, 0]

def k0_off651 (k0_t6 : Fin k0_t6_loop.trips) : Fin 2 → Nat :=
  let c6_851 : Index := 6#32
  let c32_i32_751 : BitVec 32 := 32#32
  let c0_i32_28 : BitVec 32 := 0#32
  let c1_i32_30 : BitVec 32 := 1#32
  let arg20 : BitVec 32 := Scf.iv c0_i32_28 c1_i32_30 k0_t6
  let c8_i32_750 : BitVec 32 := 8#32
  let v2157 : BitVec 32 := Scalar.muli arg20 c8_i32_750
  let v2158 : BitVec 32 := Scalar.addi c32_i32_751 v2157
  let c5_i32 : BitVec 32 := 5#32
  let v2159 : BitVec 32 := Scalar.addi v2158 c5_i32
  let v2462 : Index := Scalar.indexCast v2159
  ![6, v2462.toNat]
def k0_off652 (v2458 : BitVec 32) (c0_i32_854 : BitVec 32) : Fin 2 → Nat :=
  let v2476 : BitVec 32 := Scalar.addi v2458 c0_i32_854
  let v2477 : Index := Scalar.indexCast v2476
  let c0_855 : Index := 0#32
  ![v2477.toNat, 0]

def k0_chk146 (v2458 : BitVec 32) : Prop :=
  (∀ a, (k0_off650 v2458) a + S1x128.size a ≤ S102432x128.size a) ∧
  (∀ (r : Fin 3), ∀ a, (k0_off652 v2458 (BitVec.ofNat 32 (8 * r.val))) a + S8x128.size a ≤ S102432x128.size a)
theorem k0_off650_inb : ∀ (v2458 : BitVec 32) (k0_hw146 : k0_chk146 v2458), ∀ a, (k0_off650 v2458) a + S1x128.size a ≤ S102432x128.size a := fun v2458 k0_hw146 => k0_hw146.1
theorem k0_off652_inb : ∀ (v2458 : BitVec 32) (k0_hw146 : k0_chk146 v2458), ∀ (r : Fin 3), ∀ a, (k0_off652 v2458 (BitVec.ofNat 32 (8 * r.val))) a + S8x128.size a ≤ S102432x128.size a := fun v2458 k0_hw146 r => k0_hw146.2 r

def k0_off653 (k0_t6 : Fin k0_t6_loop.trips) : Fin 2 → Nat :=
  let c7_864 : Index := 7#32
  let c32_i32_751 : BitVec 32 := 32#32
  let c0_i32_28 : BitVec 32 := 0#32
  let c1_i32_30 : BitVec 32 := 1#32
  let arg20 : BitVec 32 := Scf.iv c0_i32_28 c1_i32_30 k0_t6
  let c8_i32_750 : BitVec 32 := 8#32
  let v2157 : BitVec 32 := Scalar.muli arg20 c8_i32_750
  let v2158 : BitVec 32 := Scalar.addi c32_i32_751 v2157
  let c5_i32 : BitVec 32 := 5#32
  let v2159 : BitVec 32 := Scalar.addi v2158 c5_i32
  let v2507 : Index := Scalar.indexCast v2159
  ![7, v2507.toNat]
def k0_off654 (v2508 : BitVec 32) : Fin 2 → Nat :=
  let c24_i32_865 : BitVec 32 := 24#32
  let v2509 : BitVec 32 := Scalar.addi v2508 c24_i32_865
  let v2510 : Index := Scalar.indexCast v2509
  let c0_866 : Index := 0#32
  ![v2510.toNat, 0]

def k0_off655 (k0_t6 : Fin k0_t6_loop.trips) : Fin 2 → Nat :=
  let c7_867 : Index := 7#32
  let c32_i32_751 : BitVec 32 := 32#32
  let c0_i32_28 : BitVec 32 := 0#32
  let c1_i32_30 : BitVec 32 := 1#32
  let arg20 : BitVec 32 := Scf.iv c0_i32_28 c1_i32_30 k0_t6
  let c8_i32_750 : BitVec 32 := 8#32
  let v2157 : BitVec 32 := Scalar.muli arg20 c8_i32_750
  let v2158 : BitVec 32 := Scalar.addi c32_i32_751 v2157
  let c5_i32 : BitVec 32 := 5#32
  let v2159 : BitVec 32 := Scalar.addi v2158 c5_i32
  let v2512 : Index := Scalar.indexCast v2159
  ![7, v2512.toNat]
def k0_off656 (v2508 : BitVec 32) (c0_i32_870 : BitVec 32) : Fin 2 → Nat :=
  let v2526 : BitVec 32 := Scalar.addi v2508 c0_i32_870
  let v2527 : Index := Scalar.indexCast v2526
  let c0_871 : Index := 0#32
  ![v2527.toNat, 0]

def k0_chk147 (v2508 : BitVec 32) : Prop :=
  (∀ a, (k0_off654 v2508) a + S1x128.size a ≤ S102432x128.size a) ∧
  (∀ (r : Fin 3), ∀ a, (k0_off656 v2508 (BitVec.ofNat 32 (8 * r.val))) a + S8x128.size a ≤ S102432x128.size a)
theorem k0_off654_inb : ∀ (v2508 : BitVec 32) (k0_hw147 : k0_chk147 v2508), ∀ a, (k0_off654 v2508) a + S1x128.size a ≤ S102432x128.size a := fun v2508 k0_hw147 => k0_hw147.1
theorem k0_off656_inb : ∀ (v2508 : BitVec 32) (k0_hw147 : k0_chk147 v2508), ∀ (r : Fin 3), ∀ a, (k0_off656 v2508 (BitVec.ofNat 32 (8 * r.val))) a + S8x128.size a ≤ S102432x128.size a := fun v2508 k0_hw147 r => k0_hw147.2 r

def k0_off657 (k0_t6 : Fin k0_t6_loop.trips) (c0_i32_881 : BitVec 32) : Fin 2 → Nat :=
  let c32_i32_751 : BitVec 32 := 32#32
  let c0_i32_28 : BitVec 32 := 0#32
  let c1_i32_30 : BitVec 32 := 1#32
  let arg20 : BitVec 32 := Scf.iv c0_i32_28 c1_i32_30 k0_t6
  let c8_i32_750 : BitVec 32 := 8#32
  let v2157 : BitVec 32 := Scalar.muli arg20 c8_i32_750
  let v2158 : BitVec 32 := Scalar.addi c32_i32_751 v2157
  let c5_i32 : BitVec 32 := 5#32
  let v2159 : BitVec 32 := Scalar.addi v2158 c5_i32
  let c25_i32_880 : BitVec 32 := 25#32
  let v2557 : BitVec 32 := Scalar.muli v2159 c25_i32_880
  let v2558 : BitVec 32 := Scalar.addi v2557 c0_i32_881
  let v2559 : Index := Scalar.indexCast v2558
  let c0_882 : Index := 0#32
  ![v2559.toNat, 0]
def k0_off658 (k0_t6 : Fin k0_t6_loop.trips) : Fin 2 → Nat :=
  let c0_891 : Index := 0#32
  let c32_i32_890 : BitVec 32 := 32#32
  let c0_i32_28 : BitVec 32 := 0#32
  let c1_i32_30 : BitVec 32 := 1#32
  let arg20 : BitVec 32 := Scf.iv c0_i32_28 c1_i32_30 k0_t6
  let c8_i32_889 : BitVec 32 := 8#32
  let v2575 : BitVec 32 := Scalar.muli arg20 c8_i32_889
  let v2576 : BitVec 32 := Scalar.addi c32_i32_890 v2575
  let c6_i32 : BitVec 32 := 6#32
  let v2577 : BitVec 32 := Scalar.addi v2576 c6_i32
  let v2578 : Index := Scalar.indexCast v2577
  ![0, v2578.toNat]
def k0_off659 (v2579 : BitVec 32) : Fin 2 → Nat :=
  let c24_i32_892 : BitVec 32 := 24#32
  let v2580 : BitVec 32 := Scalar.addi v2579 c24_i32_892
  let v2581 : Index := Scalar.indexCast v2580
  let c0_893 : Index := 0#32
  ![v2581.toNat, 0]

def k0_off660 (k0_t6 : Fin k0_t6_loop.trips) : Fin 2 → Nat :=
  let c0_894 : Index := 0#32
  let c32_i32_890 : BitVec 32 := 32#32
  let c0_i32_28 : BitVec 32 := 0#32
  let c1_i32_30 : BitVec 32 := 1#32
  let arg20 : BitVec 32 := Scf.iv c0_i32_28 c1_i32_30 k0_t6
  let c8_i32_889 : BitVec 32 := 8#32
  let v2575 : BitVec 32 := Scalar.muli arg20 c8_i32_889
  let v2576 : BitVec 32 := Scalar.addi c32_i32_890 v2575
  let c6_i32 : BitVec 32 := 6#32
  let v2577 : BitVec 32 := Scalar.addi v2576 c6_i32
  let v2583 : Index := Scalar.indexCast v2577
  ![0, v2583.toNat]
def k0_off661 (v2579 : BitVec 32) (c0_i32_897 : BitVec 32) : Fin 2 → Nat :=
  let v2597 : BitVec 32 := Scalar.addi v2579 c0_i32_897
  let v2598 : Index := Scalar.indexCast v2597
  let c0_898 : Index := 0#32
  ![v2598.toNat, 0]

def k0_chk148 (v2579 : BitVec 32) : Prop :=
  (∀ a, (k0_off659 v2579) a + S1x128.size a ≤ S102432x128.size a) ∧
  (∀ (r : Fin 3), ∀ a, (k0_off661 v2579 (BitVec.ofNat 32 (8 * r.val))) a + S8x128.size a ≤ S102432x128.size a)
theorem k0_off659_inb : ∀ (v2579 : BitVec 32) (k0_hw148 : k0_chk148 v2579), ∀ a, (k0_off659 v2579) a + S1x128.size a ≤ S102432x128.size a := fun v2579 k0_hw148 => k0_hw148.1
theorem k0_off661_inb : ∀ (v2579 : BitVec 32) (k0_hw148 : k0_chk148 v2579), ∀ (r : Fin 3), ∀ a, (k0_off661 v2579 (BitVec.ofNat 32 (8 * r.val))) a + S8x128.size a ≤ S102432x128.size a := fun v2579 k0_hw148 r => k0_hw148.2 r

def k0_off662 (k0_t6 : Fin k0_t6_loop.trips) : Fin 2 → Nat :=
  let c1_907 : Index := 1#32
  let c32_i32_890 : BitVec 32 := 32#32
  let c0_i32_28 : BitVec 32 := 0#32
  let c1_i32_30 : BitVec 32 := 1#32
  let arg20 : BitVec 32 := Scf.iv c0_i32_28 c1_i32_30 k0_t6
  let c8_i32_889 : BitVec 32 := 8#32
  let v2575 : BitVec 32 := Scalar.muli arg20 c8_i32_889
  let v2576 : BitVec 32 := Scalar.addi c32_i32_890 v2575
  let c6_i32 : BitVec 32 := 6#32
  let v2577 : BitVec 32 := Scalar.addi v2576 c6_i32
  let v2625 : Index := Scalar.indexCast v2577
  ![1, v2625.toNat]
def k0_off663 (v2626 : BitVec 32) : Fin 2 → Nat :=
  let c24_i32_908 : BitVec 32 := 24#32
  let v2627 : BitVec 32 := Scalar.addi v2626 c24_i32_908
  let v2628 : Index := Scalar.indexCast v2627
  let c0_909 : Index := 0#32
  ![v2628.toNat, 0]

def k0_off664 (k0_t6 : Fin k0_t6_loop.trips) : Fin 2 → Nat :=
  let c1_910 : Index := 1#32
  let c32_i32_890 : BitVec 32 := 32#32
  let c0_i32_28 : BitVec 32 := 0#32
  let c1_i32_30 : BitVec 32 := 1#32
  let arg20 : BitVec 32 := Scf.iv c0_i32_28 c1_i32_30 k0_t6
  let c8_i32_889 : BitVec 32 := 8#32
  let v2575 : BitVec 32 := Scalar.muli arg20 c8_i32_889
  let v2576 : BitVec 32 := Scalar.addi c32_i32_890 v2575
  let c6_i32 : BitVec 32 := 6#32
  let v2577 : BitVec 32 := Scalar.addi v2576 c6_i32
  let v2630 : Index := Scalar.indexCast v2577
  ![1, v2630.toNat]
def k0_off665 (v2626 : BitVec 32) (c0_i32_913 : BitVec 32) : Fin 2 → Nat :=
  let v2644 : BitVec 32 := Scalar.addi v2626 c0_i32_913
  let v2645 : Index := Scalar.indexCast v2644
  let c0_914 : Index := 0#32
  ![v2645.toNat, 0]

def k0_chk149 (v2626 : BitVec 32) : Prop :=
  (∀ a, (k0_off663 v2626) a + S1x128.size a ≤ S102432x128.size a) ∧
  (∀ (r : Fin 3), ∀ a, (k0_off665 v2626 (BitVec.ofNat 32 (8 * r.val))) a + S8x128.size a ≤ S102432x128.size a)
theorem k0_off663_inb : ∀ (v2626 : BitVec 32) (k0_hw149 : k0_chk149 v2626), ∀ a, (k0_off663 v2626) a + S1x128.size a ≤ S102432x128.size a := fun v2626 k0_hw149 => k0_hw149.1
theorem k0_off665_inb : ∀ (v2626 : BitVec 32) (k0_hw149 : k0_chk149 v2626), ∀ (r : Fin 3), ∀ a, (k0_off665 v2626 (BitVec.ofNat 32 (8 * r.val))) a + S8x128.size a ≤ S102432x128.size a := fun v2626 k0_hw149 r => k0_hw149.2 r

def k0_off666 (k0_t6 : Fin k0_t6_loop.trips) : Fin 2 → Nat :=
  let c2_923 : Index := 2#32
  let c32_i32_890 : BitVec 32 := 32#32
  let c0_i32_28 : BitVec 32 := 0#32
  let c1_i32_30 : BitVec 32 := 1#32
  let arg20 : BitVec 32 := Scf.iv c0_i32_28 c1_i32_30 k0_t6
  let c8_i32_889 : BitVec 32 := 8#32
  let v2575 : BitVec 32 := Scalar.muli arg20 c8_i32_889
  let v2576 : BitVec 32 := Scalar.addi c32_i32_890 v2575
  let c6_i32 : BitVec 32 := 6#32
  let v2577 : BitVec 32 := Scalar.addi v2576 c6_i32
  let v2675 : Index := Scalar.indexCast v2577
  ![2, v2675.toNat]
def k0_off667 (v2676 : BitVec 32) : Fin 2 → Nat :=
  let c24_i32_924 : BitVec 32 := 24#32
  let v2677 : BitVec 32 := Scalar.addi v2676 c24_i32_924
  let v2678 : Index := Scalar.indexCast v2677
  let c0_925 : Index := 0#32
  ![v2678.toNat, 0]

def k0_off668 (k0_t6 : Fin k0_t6_loop.trips) : Fin 2 → Nat :=
  let c2_926 : Index := 2#32
  let c32_i32_890 : BitVec 32 := 32#32
  let c0_i32_28 : BitVec 32 := 0#32
  let c1_i32_30 : BitVec 32 := 1#32
  let arg20 : BitVec 32 := Scf.iv c0_i32_28 c1_i32_30 k0_t6
  let c8_i32_889 : BitVec 32 := 8#32
  let v2575 : BitVec 32 := Scalar.muli arg20 c8_i32_889
  let v2576 : BitVec 32 := Scalar.addi c32_i32_890 v2575
  let c6_i32 : BitVec 32 := 6#32
  let v2577 : BitVec 32 := Scalar.addi v2576 c6_i32
  let v2680 : Index := Scalar.indexCast v2577
  ![2, v2680.toNat]
def k0_off669 (v2676 : BitVec 32) (c0_i32_929 : BitVec 32) : Fin 2 → Nat :=
  let v2694 : BitVec 32 := Scalar.addi v2676 c0_i32_929
  let v2695 : Index := Scalar.indexCast v2694
  let c0_930 : Index := 0#32
  ![v2695.toNat, 0]

def k0_chk150 (v2676 : BitVec 32) : Prop :=
  (∀ a, (k0_off667 v2676) a + S1x128.size a ≤ S102432x128.size a) ∧
  (∀ (r : Fin 3), ∀ a, (k0_off669 v2676 (BitVec.ofNat 32 (8 * r.val))) a + S8x128.size a ≤ S102432x128.size a)
theorem k0_off667_inb : ∀ (v2676 : BitVec 32) (k0_hw150 : k0_chk150 v2676), ∀ a, (k0_off667 v2676) a + S1x128.size a ≤ S102432x128.size a := fun v2676 k0_hw150 => k0_hw150.1
theorem k0_off669_inb : ∀ (v2676 : BitVec 32) (k0_hw150 : k0_chk150 v2676), ∀ (r : Fin 3), ∀ a, (k0_off669 v2676 (BitVec.ofNat 32 (8 * r.val))) a + S8x128.size a ≤ S102432x128.size a := fun v2676 k0_hw150 r => k0_hw150.2 r

def k0_off670 (k0_t6 : Fin k0_t6_loop.trips) : Fin 2 → Nat :=
  let c3_939 : Index := 3#32
  let c32_i32_890 : BitVec 32 := 32#32
  let c0_i32_28 : BitVec 32 := 0#32
  let c1_i32_30 : BitVec 32 := 1#32
  let arg20 : BitVec 32 := Scf.iv c0_i32_28 c1_i32_30 k0_t6
  let c8_i32_889 : BitVec 32 := 8#32
  let v2575 : BitVec 32 := Scalar.muli arg20 c8_i32_889
  let v2576 : BitVec 32 := Scalar.addi c32_i32_890 v2575
  let c6_i32 : BitVec 32 := 6#32
  let v2577 : BitVec 32 := Scalar.addi v2576 c6_i32
  let v2725 : Index := Scalar.indexCast v2577
  ![3, v2725.toNat]
def k0_off671 (v2726 : BitVec 32) : Fin 2 → Nat :=
  let c24_i32_940 : BitVec 32 := 24#32
  let v2727 : BitVec 32 := Scalar.addi v2726 c24_i32_940
  let v2728 : Index := Scalar.indexCast v2727
  let c0_941 : Index := 0#32
  ![v2728.toNat, 0]

def k0_off672 (k0_t6 : Fin k0_t6_loop.trips) : Fin 2 → Nat :=
  let c3_942 : Index := 3#32
  let c32_i32_890 : BitVec 32 := 32#32
  let c0_i32_28 : BitVec 32 := 0#32
  let c1_i32_30 : BitVec 32 := 1#32
  let arg20 : BitVec 32 := Scf.iv c0_i32_28 c1_i32_30 k0_t6
  let c8_i32_889 : BitVec 32 := 8#32
  let v2575 : BitVec 32 := Scalar.muli arg20 c8_i32_889
  let v2576 : BitVec 32 := Scalar.addi c32_i32_890 v2575
  let c6_i32 : BitVec 32 := 6#32
  let v2577 : BitVec 32 := Scalar.addi v2576 c6_i32
  let v2730 : Index := Scalar.indexCast v2577
  ![3, v2730.toNat]
def k0_off673 (v2726 : BitVec 32) (c0_i32_945 : BitVec 32) : Fin 2 → Nat :=
  let v2744 : BitVec 32 := Scalar.addi v2726 c0_i32_945
  let v2745 : Index := Scalar.indexCast v2744
  let c0_946 : Index := 0#32
  ![v2745.toNat, 0]

def k0_chk151 (v2726 : BitVec 32) : Prop :=
  (∀ a, (k0_off671 v2726) a + S1x128.size a ≤ S102432x128.size a) ∧
  (∀ (r : Fin 3), ∀ a, (k0_off673 v2726 (BitVec.ofNat 32 (8 * r.val))) a + S8x128.size a ≤ S102432x128.size a)
theorem k0_off671_inb : ∀ (v2726 : BitVec 32) (k0_hw151 : k0_chk151 v2726), ∀ a, (k0_off671 v2726) a + S1x128.size a ≤ S102432x128.size a := fun v2726 k0_hw151 => k0_hw151.1
theorem k0_off673_inb : ∀ (v2726 : BitVec 32) (k0_hw151 : k0_chk151 v2726), ∀ (r : Fin 3), ∀ a, (k0_off673 v2726 (BitVec.ofNat 32 (8 * r.val))) a + S8x128.size a ≤ S102432x128.size a := fun v2726 k0_hw151 r => k0_hw151.2 r

def k0_off674 (k0_t6 : Fin k0_t6_loop.trips) : Fin 2 → Nat :=
  let c4_955 : Index := 4#32
  let c32_i32_890 : BitVec 32 := 32#32
  let c0_i32_28 : BitVec 32 := 0#32
  let c1_i32_30 : BitVec 32 := 1#32
  let arg20 : BitVec 32 := Scf.iv c0_i32_28 c1_i32_30 k0_t6
  let c8_i32_889 : BitVec 32 := 8#32
  let v2575 : BitVec 32 := Scalar.muli arg20 c8_i32_889
  let v2576 : BitVec 32 := Scalar.addi c32_i32_890 v2575
  let c6_i32 : BitVec 32 := 6#32
  let v2577 : BitVec 32 := Scalar.addi v2576 c6_i32
  let v2775 : Index := Scalar.indexCast v2577
  ![4, v2775.toNat]
def k0_off675 (v2776 : BitVec 32) : Fin 2 → Nat :=
  let c24_i32_956 : BitVec 32 := 24#32
  let v2777 : BitVec 32 := Scalar.addi v2776 c24_i32_956
  let v2778 : Index := Scalar.indexCast v2777
  let c0_957 : Index := 0#32
  ![v2778.toNat, 0]

def k0_off676 (k0_t6 : Fin k0_t6_loop.trips) : Fin 2 → Nat :=
  let c4_958 : Index := 4#32
  let c32_i32_890 : BitVec 32 := 32#32
  let c0_i32_28 : BitVec 32 := 0#32
  let c1_i32_30 : BitVec 32 := 1#32
  let arg20 : BitVec 32 := Scf.iv c0_i32_28 c1_i32_30 k0_t6
  let c8_i32_889 : BitVec 32 := 8#32
  let v2575 : BitVec 32 := Scalar.muli arg20 c8_i32_889
  let v2576 : BitVec 32 := Scalar.addi c32_i32_890 v2575
  let c6_i32 : BitVec 32 := 6#32
  let v2577 : BitVec 32 := Scalar.addi v2576 c6_i32
  let v2780 : Index := Scalar.indexCast v2577
  ![4, v2780.toNat]
def k0_off677 (v2776 : BitVec 32) (c0_i32_961 : BitVec 32) : Fin 2 → Nat :=
  let v2794 : BitVec 32 := Scalar.addi v2776 c0_i32_961
  let v2795 : Index := Scalar.indexCast v2794
  let c0_962 : Index := 0#32
  ![v2795.toNat, 0]

def k0_chk152 (v2776 : BitVec 32) : Prop :=
  (∀ a, (k0_off675 v2776) a + S1x128.size a ≤ S102432x128.size a) ∧
  (∀ (r : Fin 3), ∀ a, (k0_off677 v2776 (BitVec.ofNat 32 (8 * r.val))) a + S8x128.size a ≤ S102432x128.size a)
theorem k0_off675_inb : ∀ (v2776 : BitVec 32) (k0_hw152 : k0_chk152 v2776), ∀ a, (k0_off675 v2776) a + S1x128.size a ≤ S102432x128.size a := fun v2776 k0_hw152 => k0_hw152.1
theorem k0_off677_inb : ∀ (v2776 : BitVec 32) (k0_hw152 : k0_chk152 v2776), ∀ (r : Fin 3), ∀ a, (k0_off677 v2776 (BitVec.ofNat 32 (8 * r.val))) a + S8x128.size a ≤ S102432x128.size a := fun v2776 k0_hw152 r => k0_hw152.2 r

def k0_off678 (k0_t6 : Fin k0_t6_loop.trips) : Fin 2 → Nat :=
  let c5_971 : Index := 5#32
  let c32_i32_890 : BitVec 32 := 32#32
  let c0_i32_28 : BitVec 32 := 0#32
  let c1_i32_30 : BitVec 32 := 1#32
  let arg20 : BitVec 32 := Scf.iv c0_i32_28 c1_i32_30 k0_t6
  let c8_i32_889 : BitVec 32 := 8#32
  let v2575 : BitVec 32 := Scalar.muli arg20 c8_i32_889
  let v2576 : BitVec 32 := Scalar.addi c32_i32_890 v2575
  let c6_i32 : BitVec 32 := 6#32
  let v2577 : BitVec 32 := Scalar.addi v2576 c6_i32
  let v2825 : Index := Scalar.indexCast v2577
  ![5, v2825.toNat]
def k0_off679 (v2826 : BitVec 32) : Fin 2 → Nat :=
  let c24_i32_972 : BitVec 32 := 24#32
  let v2827 : BitVec 32 := Scalar.addi v2826 c24_i32_972
  let v2828 : Index := Scalar.indexCast v2827
  let c0_973 : Index := 0#32
  ![v2828.toNat, 0]

def k0_off680 (k0_t6 : Fin k0_t6_loop.trips) : Fin 2 → Nat :=
  let c5_974 : Index := 5#32
  let c32_i32_890 : BitVec 32 := 32#32
  let c0_i32_28 : BitVec 32 := 0#32
  let c1_i32_30 : BitVec 32 := 1#32
  let arg20 : BitVec 32 := Scf.iv c0_i32_28 c1_i32_30 k0_t6
  let c8_i32_889 : BitVec 32 := 8#32
  let v2575 : BitVec 32 := Scalar.muli arg20 c8_i32_889
  let v2576 : BitVec 32 := Scalar.addi c32_i32_890 v2575
  let c6_i32 : BitVec 32 := 6#32
  let v2577 : BitVec 32 := Scalar.addi v2576 c6_i32
  let v2830 : Index := Scalar.indexCast v2577
  ![5, v2830.toNat]
def k0_off681 (v2826 : BitVec 32) (c0_i32_977 : BitVec 32) : Fin 2 → Nat :=
  let v2844 : BitVec 32 := Scalar.addi v2826 c0_i32_977
  let v2845 : Index := Scalar.indexCast v2844
  let c0_978 : Index := 0#32
  ![v2845.toNat, 0]

def k0_chk153 (v2826 : BitVec 32) : Prop :=
  (∀ a, (k0_off679 v2826) a + S1x128.size a ≤ S102432x128.size a) ∧
  (∀ (r : Fin 3), ∀ a, (k0_off681 v2826 (BitVec.ofNat 32 (8 * r.val))) a + S8x128.size a ≤ S102432x128.size a)
theorem k0_off679_inb : ∀ (v2826 : BitVec 32) (k0_hw153 : k0_chk153 v2826), ∀ a, (k0_off679 v2826) a + S1x128.size a ≤ S102432x128.size a := fun v2826 k0_hw153 => k0_hw153.1
theorem k0_off681_inb : ∀ (v2826 : BitVec 32) (k0_hw153 : k0_chk153 v2826), ∀ (r : Fin 3), ∀ a, (k0_off681 v2826 (BitVec.ofNat 32 (8 * r.val))) a + S8x128.size a ≤ S102432x128.size a := fun v2826 k0_hw153 r => k0_hw153.2 r

def k0_off682 (k0_t6 : Fin k0_t6_loop.trips) : Fin 2 → Nat :=
  let c6_987 : Index := 6#32
  let c32_i32_890 : BitVec 32 := 32#32
  let c0_i32_28 : BitVec 32 := 0#32
  let c1_i32_30 : BitVec 32 := 1#32
  let arg20 : BitVec 32 := Scf.iv c0_i32_28 c1_i32_30 k0_t6
  let c8_i32_889 : BitVec 32 := 8#32
  let v2575 : BitVec 32 := Scalar.muli arg20 c8_i32_889
  let v2576 : BitVec 32 := Scalar.addi c32_i32_890 v2575
  let c6_i32 : BitVec 32 := 6#32
  let v2577 : BitVec 32 := Scalar.addi v2576 c6_i32
  let v2875 : Index := Scalar.indexCast v2577
  ![6, v2875.toNat]
def k0_off683 (v2876 : BitVec 32) : Fin 2 → Nat :=
  let c24_i32_988 : BitVec 32 := 24#32
  let v2877 : BitVec 32 := Scalar.addi v2876 c24_i32_988
  let v2878 : Index := Scalar.indexCast v2877
  let c0_989 : Index := 0#32
  ![v2878.toNat, 0]

def k0_off684 (k0_t6 : Fin k0_t6_loop.trips) : Fin 2 → Nat :=
  let c6_990 : Index := 6#32
  let c32_i32_890 : BitVec 32 := 32#32
  let c0_i32_28 : BitVec 32 := 0#32
  let c1_i32_30 : BitVec 32 := 1#32
  let arg20 : BitVec 32 := Scf.iv c0_i32_28 c1_i32_30 k0_t6
  let c8_i32_889 : BitVec 32 := 8#32
  let v2575 : BitVec 32 := Scalar.muli arg20 c8_i32_889
  let v2576 : BitVec 32 := Scalar.addi c32_i32_890 v2575
  let c6_i32 : BitVec 32 := 6#32
  let v2577 : BitVec 32 := Scalar.addi v2576 c6_i32
  let v2880 : Index := Scalar.indexCast v2577
  ![6, v2880.toNat]
def k0_off685 (v2876 : BitVec 32) (c0_i32_993 : BitVec 32) : Fin 2 → Nat :=
  let v2894 : BitVec 32 := Scalar.addi v2876 c0_i32_993
  let v2895 : Index := Scalar.indexCast v2894
  let c0_994 : Index := 0#32
  ![v2895.toNat, 0]

def k0_chk154 (v2876 : BitVec 32) : Prop :=
  (∀ a, (k0_off683 v2876) a + S1x128.size a ≤ S102432x128.size a) ∧
  (∀ (r : Fin 3), ∀ a, (k0_off685 v2876 (BitVec.ofNat 32 (8 * r.val))) a + S8x128.size a ≤ S102432x128.size a)
theorem k0_off683_inb : ∀ (v2876 : BitVec 32) (k0_hw154 : k0_chk154 v2876), ∀ a, (k0_off683 v2876) a + S1x128.size a ≤ S102432x128.size a := fun v2876 k0_hw154 => k0_hw154.1
theorem k0_off685_inb : ∀ (v2876 : BitVec 32) (k0_hw154 : k0_chk154 v2876), ∀ (r : Fin 3), ∀ a, (k0_off685 v2876 (BitVec.ofNat 32 (8 * r.val))) a + S8x128.size a ≤ S102432x128.size a := fun v2876 k0_hw154 r => k0_hw154.2 r

def k0_off686 (k0_t6 : Fin k0_t6_loop.trips) : Fin 2 → Nat :=
  let c7_1003 : Index := 7#32
  let c32_i32_890 : BitVec 32 := 32#32
  let c0_i32_28 : BitVec 32 := 0#32
  let c1_i32_30 : BitVec 32 := 1#32
  let arg20 : BitVec 32 := Scf.iv c0_i32_28 c1_i32_30 k0_t6
  let c8_i32_889 : BitVec 32 := 8#32
  let v2575 : BitVec 32 := Scalar.muli arg20 c8_i32_889
  let v2576 : BitVec 32 := Scalar.addi c32_i32_890 v2575
  let c6_i32 : BitVec 32 := 6#32
  let v2577 : BitVec 32 := Scalar.addi v2576 c6_i32
  let v2925 : Index := Scalar.indexCast v2577
  ![7, v2925.toNat]
def k0_off687 (v2926 : BitVec 32) : Fin 2 → Nat :=
  let c24_i32_1004 : BitVec 32 := 24#32
  let v2927 : BitVec 32 := Scalar.addi v2926 c24_i32_1004
  let v2928 : Index := Scalar.indexCast v2927
  let c0_1005 : Index := 0#32
  ![v2928.toNat, 0]

def k0_off688 (k0_t6 : Fin k0_t6_loop.trips) : Fin 2 → Nat :=
  let c7_1006 : Index := 7#32
  let c32_i32_890 : BitVec 32 := 32#32
  let c0_i32_28 : BitVec 32 := 0#32
  let c1_i32_30 : BitVec 32 := 1#32
  let arg20 : BitVec 32 := Scf.iv c0_i32_28 c1_i32_30 k0_t6
  let c8_i32_889 : BitVec 32 := 8#32
  let v2575 : BitVec 32 := Scalar.muli arg20 c8_i32_889
  let v2576 : BitVec 32 := Scalar.addi c32_i32_890 v2575
  let c6_i32 : BitVec 32 := 6#32
  let v2577 : BitVec 32 := Scalar.addi v2576 c6_i32
  let v2930 : Index := Scalar.indexCast v2577
  ![7, v2930.toNat]
def k0_off689 (v2926 : BitVec 32) (c0_i32_1009 : BitVec 32) : Fin 2 → Nat :=
  let v2944 : BitVec 32 := Scalar.addi v2926 c0_i32_1009
  let v2945 : Index := Scalar.indexCast v2944
  let c0_1010 : Index := 0#32
  ![v2945.toNat, 0]

def k0_chk155 (v2926 : BitVec 32) : Prop :=
  (∀ a, (k0_off687 v2926) a + S1x128.size a ≤ S102432x128.size a) ∧
  (∀ (r : Fin 3), ∀ a, (k0_off689 v2926 (BitVec.ofNat 32 (8 * r.val))) a + S8x128.size a ≤ S102432x128.size a)
theorem k0_off687_inb : ∀ (v2926 : BitVec 32) (k0_hw155 : k0_chk155 v2926), ∀ a, (k0_off687 v2926) a + S1x128.size a ≤ S102432x128.size a := fun v2926 k0_hw155 => k0_hw155.1
theorem k0_off689_inb : ∀ (v2926 : BitVec 32) (k0_hw155 : k0_chk155 v2926), ∀ (r : Fin 3), ∀ a, (k0_off689 v2926 (BitVec.ofNat 32 (8 * r.val))) a + S8x128.size a ≤ S102432x128.size a := fun v2926 k0_hw155 r => k0_hw155.2 r

def k0_off690 (k0_t6 : Fin k0_t6_loop.trips) (c0_i32_1020 : BitVec 32) : Fin 2 → Nat :=
  let c32_i32_890 : BitVec 32 := 32#32
  let c0_i32_28 : BitVec 32 := 0#32
  let c1_i32_30 : BitVec 32 := 1#32
  let arg20 : BitVec 32 := Scf.iv c0_i32_28 c1_i32_30 k0_t6
  let c8_i32_889 : BitVec 32 := 8#32
  let v2575 : BitVec 32 := Scalar.muli arg20 c8_i32_889
  let v2576 : BitVec 32 := Scalar.addi c32_i32_890 v2575
  let c6_i32 : BitVec 32 := 6#32
  let v2577 : BitVec 32 := Scalar.addi v2576 c6_i32
  let c25_i32_1019 : BitVec 32 := 25#32
  let v2975 : BitVec 32 := Scalar.muli v2577 c25_i32_1019
  let v2976 : BitVec 32 := Scalar.addi v2975 c0_i32_1020
  let v2977 : Index := Scalar.indexCast v2976
  let c0_1021 : Index := 0#32
  ![v2977.toNat, 0]
def k0_off691 (k0_t6 : Fin k0_t6_loop.trips) : Fin 2 → Nat :=
  let c0_1030 : Index := 0#32
  let c32_i32_1029 : BitVec 32 := 32#32
  let c0_i32_28 : BitVec 32 := 0#32
  let c1_i32_30 : BitVec 32 := 1#32
  let arg20 : BitVec 32 := Scf.iv c0_i32_28 c1_i32_30 k0_t6
  let c8_i32_1028 : BitVec 32 := 8#32
  let v2993 : BitVec 32 := Scalar.muli arg20 c8_i32_1028
  let v2994 : BitVec 32 := Scalar.addi c32_i32_1029 v2993
  let c7_i32 : BitVec 32 := 7#32
  let v2995 : BitVec 32 := Scalar.addi v2994 c7_i32
  let v2996 : Index := Scalar.indexCast v2995
  ![0, v2996.toNat]
def k0_off692 (v2997 : BitVec 32) : Fin 2 → Nat :=
  let c24_i32_1031 : BitVec 32 := 24#32
  let v2998 : BitVec 32 := Scalar.addi v2997 c24_i32_1031
  let v2999 : Index := Scalar.indexCast v2998
  let c0_1032 : Index := 0#32
  ![v2999.toNat, 0]

def k0_off693 (k0_t6 : Fin k0_t6_loop.trips) : Fin 2 → Nat :=
  let c0_1033 : Index := 0#32
  let c32_i32_1029 : BitVec 32 := 32#32
  let c0_i32_28 : BitVec 32 := 0#32
  let c1_i32_30 : BitVec 32 := 1#32
  let arg20 : BitVec 32 := Scf.iv c0_i32_28 c1_i32_30 k0_t6
  let c8_i32_1028 : BitVec 32 := 8#32
  let v2993 : BitVec 32 := Scalar.muli arg20 c8_i32_1028
  let v2994 : BitVec 32 := Scalar.addi c32_i32_1029 v2993
  let c7_i32 : BitVec 32 := 7#32
  let v2995 : BitVec 32 := Scalar.addi v2994 c7_i32
  let v3001 : Index := Scalar.indexCast v2995
  ![0, v3001.toNat]
def k0_off694 (v2997 : BitVec 32) (c0_i32_1036 : BitVec 32) : Fin 2 → Nat :=
  let v3015 : BitVec 32 := Scalar.addi v2997 c0_i32_1036
  let v3016 : Index := Scalar.indexCast v3015
  let c0_1037 : Index := 0#32
  ![v3016.toNat, 0]

def k0_chk156 (v2997 : BitVec 32) : Prop :=
  (∀ a, (k0_off692 v2997) a + S1x128.size a ≤ S102432x128.size a) ∧
  (∀ (r : Fin 3), ∀ a, (k0_off694 v2997 (BitVec.ofNat 32 (8 * r.val))) a + S8x128.size a ≤ S102432x128.size a)
theorem k0_off692_inb : ∀ (v2997 : BitVec 32) (k0_hw156 : k0_chk156 v2997), ∀ a, (k0_off692 v2997) a + S1x128.size a ≤ S102432x128.size a := fun v2997 k0_hw156 => k0_hw156.1
theorem k0_off694_inb : ∀ (v2997 : BitVec 32) (k0_hw156 : k0_chk156 v2997), ∀ (r : Fin 3), ∀ a, (k0_off694 v2997 (BitVec.ofNat 32 (8 * r.val))) a + S8x128.size a ≤ S102432x128.size a := fun v2997 k0_hw156 r => k0_hw156.2 r

def k0_off695 (k0_t6 : Fin k0_t6_loop.trips) : Fin 2 → Nat :=
  let c1_1046 : Index := 1#32
  let c32_i32_1029 : BitVec 32 := 32#32
  let c0_i32_28 : BitVec 32 := 0#32
  let c1_i32_30 : BitVec 32 := 1#32
  let arg20 : BitVec 32 := Scf.iv c0_i32_28 c1_i32_30 k0_t6
  let c8_i32_1028 : BitVec 32 := 8#32
  let v2993 : BitVec 32 := Scalar.muli arg20 c8_i32_1028
  let v2994 : BitVec 32 := Scalar.addi c32_i32_1029 v2993
  let c7_i32 : BitVec 32 := 7#32
  let v2995 : BitVec 32 := Scalar.addi v2994 c7_i32
  let v3043 : Index := Scalar.indexCast v2995
  ![1, v3043.toNat]
def k0_off696 (v3044 : BitVec 32) : Fin 2 → Nat :=
  let c24_i32_1047 : BitVec 32 := 24#32
  let v3045 : BitVec 32 := Scalar.addi v3044 c24_i32_1047
  let v3046 : Index := Scalar.indexCast v3045
  let c0_1048 : Index := 0#32
  ![v3046.toNat, 0]

def k0_off697 (k0_t6 : Fin k0_t6_loop.trips) : Fin 2 → Nat :=
  let c1_1049 : Index := 1#32
  let c32_i32_1029 : BitVec 32 := 32#32
  let c0_i32_28 : BitVec 32 := 0#32
  let c1_i32_30 : BitVec 32 := 1#32
  let arg20 : BitVec 32 := Scf.iv c0_i32_28 c1_i32_30 k0_t6
  let c8_i32_1028 : BitVec 32 := 8#32
  let v2993 : BitVec 32 := Scalar.muli arg20 c8_i32_1028
  let v2994 : BitVec 32 := Scalar.addi c32_i32_1029 v2993
  let c7_i32 : BitVec 32 := 7#32
  let v2995 : BitVec 32 := Scalar.addi v2994 c7_i32
  let v3048 : Index := Scalar.indexCast v2995
  ![1, v3048.toNat]
def k0_off698 (v3044 : BitVec 32) (c0_i32_1052 : BitVec 32) : Fin 2 → Nat :=
  let v3062 : BitVec 32 := Scalar.addi v3044 c0_i32_1052
  let v3063 : Index := Scalar.indexCast v3062
  let c0_1053 : Index := 0#32
  ![v3063.toNat, 0]

def k0_chk157 (v3044 : BitVec 32) : Prop :=
  (∀ a, (k0_off696 v3044) a + S1x128.size a ≤ S102432x128.size a) ∧
  (∀ (r : Fin 3), ∀ a, (k0_off698 v3044 (BitVec.ofNat 32 (8 * r.val))) a + S8x128.size a ≤ S102432x128.size a)
theorem k0_off696_inb : ∀ (v3044 : BitVec 32) (k0_hw157 : k0_chk157 v3044), ∀ a, (k0_off696 v3044) a + S1x128.size a ≤ S102432x128.size a := fun v3044 k0_hw157 => k0_hw157.1
theorem k0_off698_inb : ∀ (v3044 : BitVec 32) (k0_hw157 : k0_chk157 v3044), ∀ (r : Fin 3), ∀ a, (k0_off698 v3044 (BitVec.ofNat 32 (8 * r.val))) a + S8x128.size a ≤ S102432x128.size a := fun v3044 k0_hw157 r => k0_hw157.2 r

def k0_off699 (k0_t6 : Fin k0_t6_loop.trips) : Fin 2 → Nat :=
  let c2_1062 : Index := 2#32
  let c32_i32_1029 : BitVec 32 := 32#32
  let c0_i32_28 : BitVec 32 := 0#32
  let c1_i32_30 : BitVec 32 := 1#32
  let arg20 : BitVec 32 := Scf.iv c0_i32_28 c1_i32_30 k0_t6
  let c8_i32_1028 : BitVec 32 := 8#32
  let v2993 : BitVec 32 := Scalar.muli arg20 c8_i32_1028
  let v2994 : BitVec 32 := Scalar.addi c32_i32_1029 v2993
  let c7_i32 : BitVec 32 := 7#32
  let v2995 : BitVec 32 := Scalar.addi v2994 c7_i32
  let v3093 : Index := Scalar.indexCast v2995
  ![2, v3093.toNat]
def k0_off700 (v3094 : BitVec 32) : Fin 2 → Nat :=
  let c24_i32_1063 : BitVec 32 := 24#32
  let v3095 : BitVec 32 := Scalar.addi v3094 c24_i32_1063
  let v3096 : Index := Scalar.indexCast v3095
  let c0_1064 : Index := 0#32
  ![v3096.toNat, 0]

def k0_off701 (k0_t6 : Fin k0_t6_loop.trips) : Fin 2 → Nat :=
  let c2_1065 : Index := 2#32
  let c32_i32_1029 : BitVec 32 := 32#32
  let c0_i32_28 : BitVec 32 := 0#32
  let c1_i32_30 : BitVec 32 := 1#32
  let arg20 : BitVec 32 := Scf.iv c0_i32_28 c1_i32_30 k0_t6
  let c8_i32_1028 : BitVec 32 := 8#32
  let v2993 : BitVec 32 := Scalar.muli arg20 c8_i32_1028
  let v2994 : BitVec 32 := Scalar.addi c32_i32_1029 v2993
  let c7_i32 : BitVec 32 := 7#32
  let v2995 : BitVec 32 := Scalar.addi v2994 c7_i32
  let v3098 : Index := Scalar.indexCast v2995
  ![2, v3098.toNat]
def k0_off702 (v3094 : BitVec 32) (c0_i32_1068 : BitVec 32) : Fin 2 → Nat :=
  let v3112 : BitVec 32 := Scalar.addi v3094 c0_i32_1068
  let v3113 : Index := Scalar.indexCast v3112
  let c0_1069 : Index := 0#32
  ![v3113.toNat, 0]

def k0_chk158 (v3094 : BitVec 32) : Prop :=
  (∀ a, (k0_off700 v3094) a + S1x128.size a ≤ S102432x128.size a) ∧
  (∀ (r : Fin 3), ∀ a, (k0_off702 v3094 (BitVec.ofNat 32 (8 * r.val))) a + S8x128.size a ≤ S102432x128.size a)
theorem k0_off700_inb : ∀ (v3094 : BitVec 32) (k0_hw158 : k0_chk158 v3094), ∀ a, (k0_off700 v3094) a + S1x128.size a ≤ S102432x128.size a := fun v3094 k0_hw158 => k0_hw158.1
theorem k0_off702_inb : ∀ (v3094 : BitVec 32) (k0_hw158 : k0_chk158 v3094), ∀ (r : Fin 3), ∀ a, (k0_off702 v3094 (BitVec.ofNat 32 (8 * r.val))) a + S8x128.size a ≤ S102432x128.size a := fun v3094 k0_hw158 r => k0_hw158.2 r

def k0_off703 (k0_t6 : Fin k0_t6_loop.trips) : Fin 2 → Nat :=
  let c3_1078 : Index := 3#32
  let c32_i32_1029 : BitVec 32 := 32#32
  let c0_i32_28 : BitVec 32 := 0#32
  let c1_i32_30 : BitVec 32 := 1#32
  let arg20 : BitVec 32 := Scf.iv c0_i32_28 c1_i32_30 k0_t6
  let c8_i32_1028 : BitVec 32 := 8#32
  let v2993 : BitVec 32 := Scalar.muli arg20 c8_i32_1028
  let v2994 : BitVec 32 := Scalar.addi c32_i32_1029 v2993
  let c7_i32 : BitVec 32 := 7#32
  let v2995 : BitVec 32 := Scalar.addi v2994 c7_i32
  let v3143 : Index := Scalar.indexCast v2995
  ![3, v3143.toNat]
def k0_off704 (v3144 : BitVec 32) : Fin 2 → Nat :=
  let c24_i32_1079 : BitVec 32 := 24#32
  let v3145 : BitVec 32 := Scalar.addi v3144 c24_i32_1079
  let v3146 : Index := Scalar.indexCast v3145
  let c0_1080 : Index := 0#32
  ![v3146.toNat, 0]

def k0_off705 (k0_t6 : Fin k0_t6_loop.trips) : Fin 2 → Nat :=
  let c3_1081 : Index := 3#32
  let c32_i32_1029 : BitVec 32 := 32#32
  let c0_i32_28 : BitVec 32 := 0#32
  let c1_i32_30 : BitVec 32 := 1#32
  let arg20 : BitVec 32 := Scf.iv c0_i32_28 c1_i32_30 k0_t6
  let c8_i32_1028 : BitVec 32 := 8#32
  let v2993 : BitVec 32 := Scalar.muli arg20 c8_i32_1028
  let v2994 : BitVec 32 := Scalar.addi c32_i32_1029 v2993
  let c7_i32 : BitVec 32 := 7#32
  let v2995 : BitVec 32 := Scalar.addi v2994 c7_i32
  let v3148 : Index := Scalar.indexCast v2995
  ![3, v3148.toNat]
def k0_off706 (v3144 : BitVec 32) (c0_i32_1084 : BitVec 32) : Fin 2 → Nat :=
  let v3162 : BitVec 32 := Scalar.addi v3144 c0_i32_1084
  let v3163 : Index := Scalar.indexCast v3162
  let c0_1085 : Index := 0#32
  ![v3163.toNat, 0]

def k0_chk159 (v3144 : BitVec 32) : Prop :=
  (∀ a, (k0_off704 v3144) a + S1x128.size a ≤ S102432x128.size a) ∧
  (∀ (r : Fin 3), ∀ a, (k0_off706 v3144 (BitVec.ofNat 32 (8 * r.val))) a + S8x128.size a ≤ S102432x128.size a)
theorem k0_off704_inb : ∀ (v3144 : BitVec 32) (k0_hw159 : k0_chk159 v3144), ∀ a, (k0_off704 v3144) a + S1x128.size a ≤ S102432x128.size a := fun v3144 k0_hw159 => k0_hw159.1
theorem k0_off706_inb : ∀ (v3144 : BitVec 32) (k0_hw159 : k0_chk159 v3144), ∀ (r : Fin 3), ∀ a, (k0_off706 v3144 (BitVec.ofNat 32 (8 * r.val))) a + S8x128.size a ≤ S102432x128.size a := fun v3144 k0_hw159 r => k0_hw159.2 r

def k0_off707 (k0_t6 : Fin k0_t6_loop.trips) : Fin 2 → Nat :=
  let c4_1094 : Index := 4#32
  let c32_i32_1029 : BitVec 32 := 32#32
  let c0_i32_28 : BitVec 32 := 0#32
  let c1_i32_30 : BitVec 32 := 1#32
  let arg20 : BitVec 32 := Scf.iv c0_i32_28 c1_i32_30 k0_t6
  let c8_i32_1028 : BitVec 32 := 8#32
  let v2993 : BitVec 32 := Scalar.muli arg20 c8_i32_1028
  let v2994 : BitVec 32 := Scalar.addi c32_i32_1029 v2993
  let c7_i32 : BitVec 32 := 7#32
  let v2995 : BitVec 32 := Scalar.addi v2994 c7_i32
  let v3193 : Index := Scalar.indexCast v2995
  ![4, v3193.toNat]
def k0_off708 (v3194 : BitVec 32) : Fin 2 → Nat :=
  let c24_i32_1095 : BitVec 32 := 24#32
  let v3195 : BitVec 32 := Scalar.addi v3194 c24_i32_1095
  let v3196 : Index := Scalar.indexCast v3195
  let c0_1096 : Index := 0#32
  ![v3196.toNat, 0]

def k0_off709 (k0_t6 : Fin k0_t6_loop.trips) : Fin 2 → Nat :=
  let c4_1097 : Index := 4#32
  let c32_i32_1029 : BitVec 32 := 32#32
  let c0_i32_28 : BitVec 32 := 0#32
  let c1_i32_30 : BitVec 32 := 1#32
  let arg20 : BitVec 32 := Scf.iv c0_i32_28 c1_i32_30 k0_t6
  let c8_i32_1028 : BitVec 32 := 8#32
  let v2993 : BitVec 32 := Scalar.muli arg20 c8_i32_1028
  let v2994 : BitVec 32 := Scalar.addi c32_i32_1029 v2993
  let c7_i32 : BitVec 32 := 7#32
  let v2995 : BitVec 32 := Scalar.addi v2994 c7_i32
  let v3198 : Index := Scalar.indexCast v2995
  ![4, v3198.toNat]
def k0_off710 (v3194 : BitVec 32) (c0_i32_1100 : BitVec 32) : Fin 2 → Nat :=
  let v3212 : BitVec 32 := Scalar.addi v3194 c0_i32_1100
  let v3213 : Index := Scalar.indexCast v3212
  let c0_1101 : Index := 0#32
  ![v3213.toNat, 0]

def k0_chk160 (v3194 : BitVec 32) : Prop :=
  (∀ a, (k0_off708 v3194) a + S1x128.size a ≤ S102432x128.size a) ∧
  (∀ (r : Fin 3), ∀ a, (k0_off710 v3194 (BitVec.ofNat 32 (8 * r.val))) a + S8x128.size a ≤ S102432x128.size a)
theorem k0_off708_inb : ∀ (v3194 : BitVec 32) (k0_hw160 : k0_chk160 v3194), ∀ a, (k0_off708 v3194) a + S1x128.size a ≤ S102432x128.size a := fun v3194 k0_hw160 => k0_hw160.1
theorem k0_off710_inb : ∀ (v3194 : BitVec 32) (k0_hw160 : k0_chk160 v3194), ∀ (r : Fin 3), ∀ a, (k0_off710 v3194 (BitVec.ofNat 32 (8 * r.val))) a + S8x128.size a ≤ S102432x128.size a := fun v3194 k0_hw160 r => k0_hw160.2 r

def k0_off711 (k0_t6 : Fin k0_t6_loop.trips) : Fin 2 → Nat :=
  let c5_1110 : Index := 5#32
  let c32_i32_1029 : BitVec 32 := 32#32
  let c0_i32_28 : BitVec 32 := 0#32
  let c1_i32_30 : BitVec 32 := 1#32
  let arg20 : BitVec 32 := Scf.iv c0_i32_28 c1_i32_30 k0_t6
  let c8_i32_1028 : BitVec 32 := 8#32
  let v2993 : BitVec 32 := Scalar.muli arg20 c8_i32_1028
  let v2994 : BitVec 32 := Scalar.addi c32_i32_1029 v2993
  let c7_i32 : BitVec 32 := 7#32
  let v2995 : BitVec 32 := Scalar.addi v2994 c7_i32
  let v3243 : Index := Scalar.indexCast v2995
  ![5, v3243.toNat]
def k0_off712 (v3244 : BitVec 32) : Fin 2 → Nat :=
  let c24_i32_1111 : BitVec 32 := 24#32
  let v3245 : BitVec 32 := Scalar.addi v3244 c24_i32_1111
  let v3246 : Index := Scalar.indexCast v3245
  let c0_1112 : Index := 0#32
  ![v3246.toNat, 0]

def k0_off713 (k0_t6 : Fin k0_t6_loop.trips) : Fin 2 → Nat :=
  let c5_1113 : Index := 5#32
  let c32_i32_1029 : BitVec 32 := 32#32
  let c0_i32_28 : BitVec 32 := 0#32
  let c1_i32_30 : BitVec 32 := 1#32
  let arg20 : BitVec 32 := Scf.iv c0_i32_28 c1_i32_30 k0_t6
  let c8_i32_1028 : BitVec 32 := 8#32
  let v2993 : BitVec 32 := Scalar.muli arg20 c8_i32_1028
  let v2994 : BitVec 32 := Scalar.addi c32_i32_1029 v2993
  let c7_i32 : BitVec 32 := 7#32
  let v2995 : BitVec 32 := Scalar.addi v2994 c7_i32
  let v3248 : Index := Scalar.indexCast v2995
  ![5, v3248.toNat]
def k0_off714 (v3244 : BitVec 32) (c0_i32_1116 : BitVec 32) : Fin 2 → Nat :=
  let v3262 : BitVec 32 := Scalar.addi v3244 c0_i32_1116
  let v3263 : Index := Scalar.indexCast v3262
  let c0_1117 : Index := 0#32
  ![v3263.toNat, 0]

def k0_chk161 (v3244 : BitVec 32) : Prop :=
  (∀ a, (k0_off712 v3244) a + S1x128.size a ≤ S102432x128.size a) ∧
  (∀ (r : Fin 3), ∀ a, (k0_off714 v3244 (BitVec.ofNat 32 (8 * r.val))) a + S8x128.size a ≤ S102432x128.size a)
theorem k0_off712_inb : ∀ (v3244 : BitVec 32) (k0_hw161 : k0_chk161 v3244), ∀ a, (k0_off712 v3244) a + S1x128.size a ≤ S102432x128.size a := fun v3244 k0_hw161 => k0_hw161.1
theorem k0_off714_inb : ∀ (v3244 : BitVec 32) (k0_hw161 : k0_chk161 v3244), ∀ (r : Fin 3), ∀ a, (k0_off714 v3244 (BitVec.ofNat 32 (8 * r.val))) a + S8x128.size a ≤ S102432x128.size a := fun v3244 k0_hw161 r => k0_hw161.2 r

def k0_off715 (k0_t6 : Fin k0_t6_loop.trips) : Fin 2 → Nat :=
  let c6_1126 : Index := 6#32
  let c32_i32_1029 : BitVec 32 := 32#32
  let c0_i32_28 : BitVec 32 := 0#32
  let c1_i32_30 : BitVec 32 := 1#32
  let arg20 : BitVec 32 := Scf.iv c0_i32_28 c1_i32_30 k0_t6
  let c8_i32_1028 : BitVec 32 := 8#32
  let v2993 : BitVec 32 := Scalar.muli arg20 c8_i32_1028
  let v2994 : BitVec 32 := Scalar.addi c32_i32_1029 v2993
  let c7_i32 : BitVec 32 := 7#32
  let v2995 : BitVec 32 := Scalar.addi v2994 c7_i32
  let v3293 : Index := Scalar.indexCast v2995
  ![6, v3293.toNat]
def k0_off716 (v3294 : BitVec 32) : Fin 2 → Nat :=
  let c24_i32_1127 : BitVec 32 := 24#32
  let v3295 : BitVec 32 := Scalar.addi v3294 c24_i32_1127
  let v3296 : Index := Scalar.indexCast v3295
  let c0_1128 : Index := 0#32
  ![v3296.toNat, 0]

def k0_off717 (k0_t6 : Fin k0_t6_loop.trips) : Fin 2 → Nat :=
  let c6_1129 : Index := 6#32
  let c32_i32_1029 : BitVec 32 := 32#32
  let c0_i32_28 : BitVec 32 := 0#32
  let c1_i32_30 : BitVec 32 := 1#32
  let arg20 : BitVec 32 := Scf.iv c0_i32_28 c1_i32_30 k0_t6
  let c8_i32_1028 : BitVec 32 := 8#32
  let v2993 : BitVec 32 := Scalar.muli arg20 c8_i32_1028
  let v2994 : BitVec 32 := Scalar.addi c32_i32_1029 v2993
  let c7_i32 : BitVec 32 := 7#32
  let v2995 : BitVec 32 := Scalar.addi v2994 c7_i32
  let v3298 : Index := Scalar.indexCast v2995
  ![6, v3298.toNat]
def k0_off718 (v3294 : BitVec 32) (c0_i32_1132 : BitVec 32) : Fin 2 → Nat :=
  let v3312 : BitVec 32 := Scalar.addi v3294 c0_i32_1132
  let v3313 : Index := Scalar.indexCast v3312
  let c0_1133 : Index := 0#32
  ![v3313.toNat, 0]

def k0_chk162 (v3294 : BitVec 32) : Prop :=
  (∀ a, (k0_off716 v3294) a + S1x128.size a ≤ S102432x128.size a) ∧
  (∀ (r : Fin 3), ∀ a, (k0_off718 v3294 (BitVec.ofNat 32 (8 * r.val))) a + S8x128.size a ≤ S102432x128.size a)
theorem k0_off716_inb : ∀ (v3294 : BitVec 32) (k0_hw162 : k0_chk162 v3294), ∀ a, (k0_off716 v3294) a + S1x128.size a ≤ S102432x128.size a := fun v3294 k0_hw162 => k0_hw162.1
theorem k0_off718_inb : ∀ (v3294 : BitVec 32) (k0_hw162 : k0_chk162 v3294), ∀ (r : Fin 3), ∀ a, (k0_off718 v3294 (BitVec.ofNat 32 (8 * r.val))) a + S8x128.size a ≤ S102432x128.size a := fun v3294 k0_hw162 r => k0_hw162.2 r

def k0_off719 (k0_t6 : Fin k0_t6_loop.trips) : Fin 2 → Nat :=
  let c7_1142 : Index := 7#32
  let c32_i32_1029 : BitVec 32 := 32#32
  let c0_i32_28 : BitVec 32 := 0#32
  let c1_i32_30 : BitVec 32 := 1#32
  let arg20 : BitVec 32 := Scf.iv c0_i32_28 c1_i32_30 k0_t6
  let c8_i32_1028 : BitVec 32 := 8#32
  let v2993 : BitVec 32 := Scalar.muli arg20 c8_i32_1028
  let v2994 : BitVec 32 := Scalar.addi c32_i32_1029 v2993
  let c7_i32 : BitVec 32 := 7#32
  let v2995 : BitVec 32 := Scalar.addi v2994 c7_i32
  let v3343 : Index := Scalar.indexCast v2995
  ![7, v3343.toNat]
def k0_off720 (v3344 : BitVec 32) : Fin 2 → Nat :=
  let c24_i32_1143 : BitVec 32 := 24#32
  let v3345 : BitVec 32 := Scalar.addi v3344 c24_i32_1143
  let v3346 : Index := Scalar.indexCast v3345
  let c0_1144 : Index := 0#32
  ![v3346.toNat, 0]

def k0_off721 (k0_t6 : Fin k0_t6_loop.trips) : Fin 2 → Nat :=
  let c7_1145 : Index := 7#32
  let c32_i32_1029 : BitVec 32 := 32#32
  let c0_i32_28 : BitVec 32 := 0#32
  let c1_i32_30 : BitVec 32 := 1#32
  let arg20 : BitVec 32 := Scf.iv c0_i32_28 c1_i32_30 k0_t6
  let c8_i32_1028 : BitVec 32 := 8#32
  let v2993 : BitVec 32 := Scalar.muli arg20 c8_i32_1028
  let v2994 : BitVec 32 := Scalar.addi c32_i32_1029 v2993
  let c7_i32 : BitVec 32 := 7#32
  let v2995 : BitVec 32 := Scalar.addi v2994 c7_i32
  let v3348 : Index := Scalar.indexCast v2995
  ![7, v3348.toNat]
def k0_off722 (v3344 : BitVec 32) (c0_i32_1148 : BitVec 32) : Fin 2 → Nat :=
  let v3362 : BitVec 32 := Scalar.addi v3344 c0_i32_1148
  let v3363 : Index := Scalar.indexCast v3362
  let c0_1149 : Index := 0#32
  ![v3363.toNat, 0]

def k0_chk163 (v3344 : BitVec 32) : Prop :=
  (∀ a, (k0_off720 v3344) a + S1x128.size a ≤ S102432x128.size a) ∧
  (∀ (r : Fin 3), ∀ a, (k0_off722 v3344 (BitVec.ofNat 32 (8 * r.val))) a + S8x128.size a ≤ S102432x128.size a)
theorem k0_off720_inb : ∀ (v3344 : BitVec 32) (k0_hw163 : k0_chk163 v3344), ∀ a, (k0_off720 v3344) a + S1x128.size a ≤ S102432x128.size a := fun v3344 k0_hw163 => k0_hw163.1
theorem k0_off722_inb : ∀ (v3344 : BitVec 32) (k0_hw163 : k0_chk163 v3344), ∀ (r : Fin 3), ∀ a, (k0_off722 v3344 (BitVec.ofNat 32 (8 * r.val))) a + S8x128.size a ≤ S102432x128.size a := fun v3344 k0_hw163 r => k0_hw163.2 r

def k0_off723 (k0_t6 : Fin k0_t6_loop.trips) (c0_i32_1159 : BitVec 32) : Fin 2 → Nat :=
  let c32_i32_1029 : BitVec 32 := 32#32
  let c0_i32_28 : BitVec 32 := 0#32
  let c1_i32_30 : BitVec 32 := 1#32
  let arg20 : BitVec 32 := Scf.iv c0_i32_28 c1_i32_30 k0_t6
  let c8_i32_1028 : BitVec 32 := 8#32
  let v2993 : BitVec 32 := Scalar.muli arg20 c8_i32_1028
  let v2994 : BitVec 32 := Scalar.addi c32_i32_1029 v2993
  let c7_i32 : BitVec 32 := 7#32
  let v2995 : BitVec 32 := Scalar.addi v2994 c7_i32
  let c25_i32_1158 : BitVec 32 := 25#32
  let v3393 : BitVec 32 := Scalar.muli v2995 c25_i32_1158
  let v3394 : BitVec 32 := Scalar.addi v3393 c0_i32_1159
  let v3395 : Index := Scalar.indexCast v3394
  let c0_1160 : Index := 0#32
  ![v3395.toNat, 0]
@[reducible] def k0_t7_loop (v48 : BitVec 32) : Scf.Loop 32 :=
  let c0_i32_35 : BitVec 32 := 0#32
  let v49 : BitVec 32 := Scalar.subi v48 c0_i32_35
  let c1_i32_37 : BitVec 32 := 1#32
  let v51 : BitVec 32 := Scalar.divsi v49 c1_i32_37
  let v52 : BitVec 32 := Scalar.muli v51 c1_i32_37
  let v53 : BitVec 32 := Scalar.addi c0_i32_35 v52
  let c1_i32_38 : BitVec 32 := 1#32
  ⟨c0_i32_35, v53, c1_i32_38⟩

def k0_off724 (v48 : BitVec 32) (k0_t7 : Fin (k0_t7_loop v48).trips) : Fin 3 → Nat :=
  let c0_60 : Index := 0#32
  let c2_61 : Index := 2#32
  let c0_i32_35 : BitVec 32 := 0#32
  let c1_i32_38 : BitVec 32 := 1#32
  let arg20 : BitVec 32 := Scf.iv c0_i32_35 c1_i32_38 k0_t7
  let v67 : Index := Scalar.indexCast arg20
  ![0, 2, v67.toNat]
def k0_mult10 : BitVec 32 :=
  let c0_i32_391 : BitVec 32 := 0#32
  c0_i32_391
def k0_off725 (v71 : BitVec 32) : Fin 1 → Nat :=
  let c16_i32_63 : BitVec 32 := 16#32
  let v72 : BitVec 32 := Scalar.remsi v71 c16_i32_63
  ![v72.toNat]
def k0_cond16 (v68 : BitVec 32) : BitVec 1 :=
  let c6_i32 : BitVec 32 := 6#32
  let v69 : BitVec 32 := Scalar.shrsi v68 c6_i32
  let c7782_i32 : BitVec 32 := 7782#32
  let v73 : BitVec 1 := Scalar.cmpi .slt v69 c7782_i32
  let v74 : BitVec 32 := Scalar.extui v73
  let c0_i32_64 : BitVec 32 := 0#32
  let v75 : BitVec 1 := Scalar.cmpi .ne v74 c0_i32_64
  v75

def k0_off726 (v71 : BitVec 32) : Fin 3 → Nat :=
  let c16_i32_63 : BitVec 32 := 16#32
  let v72 : BitVec 32 := Scalar.remsi v71 c16_i32_63
  let c0_i32_392 : BitVec 32 := 0#32
  let c0_i32_393 : BitVec 32 := 0#32
  ![v72.toNat, 0, 0]
def k0_off727 (v71 : BitVec 32) : Fin 3 → Nat :=
  let c16_i32_63 : BitVec 32 := 16#32
  let v72 : BitVec 32 := Scalar.remsi v71 c16_i32_63
  let c0_i32_395 : BitVec 32 := 0#32
  let c0_i32_396 : BitVec 32 := 0#32
  ![v72.toNat, 0, 0]
def k0_off728 (v71 : BitVec 32) : Fin 3 → Nat :=
  let c16_i32_63 : BitVec 32 := 16#32
  let v72 : BitVec 32 := Scalar.remsi v71 c16_i32_63
  let v917 : Index := Scalar.indexCast v72
  let c0_393 : Index := 0#32
  let c0_394 : Index := 0#32
  ![v917.toNat, 0, 0]
def k0_cond17 (v68 : BitVec 32) : BitVec 1 :=
  let c6_i32 : BitVec 32 := 6#32
  let v69 : BitVec 32 := Scalar.shrsi v68 c6_i32
  let c7782_i32_65 : BitVec 32 := 7782#32
  let v76 : BitVec 1 := Scalar.cmpi .sge v69 c7782_i32_65
  let v77 : BitVec 32 := Scalar.extui v76
  let c0_i32_66 : BitVec 32 := 0#32
  let v78 : BitVec 1 := Scalar.cmpi .ne v77 c0_i32_66
  v78

def k0_off729 (v71 : BitVec 32) : Fin 3 → Nat :=
  let c16_i32_63 : BitVec 32 := 16#32
  let v72 : BitVec 32 := Scalar.remsi v71 c16_i32_63
  let v922 : Index := Scalar.indexCast v72
  let c0_397 : Index := 0#32
  let c0_398 : Index := 0#32
  ![v922.toNat, 0, 0]
def k0_off730 (v71 : BitVec 32) : Fin 3 → Nat :=
  let c16_i32_63 : BitVec 32 := 16#32
  let v72 : BitVec 32 := Scalar.remsi v71 c16_i32_63
  let v84 : Index := Scalar.indexCast v72
  let c0_68 : Index := 0#32
  let c0_69 : Index := 0#32
  ![v84.toNat, 0, 0]
def k0_off731 (v68 : BitVec 32) (c0_i32_70 : BitVec 32) (c0_i32_71 : BitVec 32) : Fin 2 → Nat :=
  let c63_i32 : BitVec 32 := 63#32
  let v70 : BitVec 32 := Scalar.andi v68 c63_i32
  let c64_i32 : BitVec 32 := 64#32
  let v79 : BitVec 32 := Scalar.muli v70 c64_i32
  let c6_i32 : BitVec 32 := 6#32
  let v69 : BitVec 32 := Scalar.shrsi v68 c6_i32
  let c1_i32_67 : BitVec 32 := 1#32
  let v80 : BitVec 32 := Scalar.andi v69 c1_i32_67
  let c32_i32 : BitVec 32 := 32#32
  let v81 : BitVec 32 := Scalar.muli v80 c32_i32
  let v82 : BitVec 32 := Scalar.addi v79 v81
  let c25_i32 : BitVec 32 := 25#32
  let v83 : BitVec 32 := Scalar.muli v82 c25_i32
  let v89 : BitVec 32 := Scalar.addi v83 c0_i32_70
  let v90 : BitVec 32 := Scalar.addi v89 c0_i32_71
  let v91 : Index := Scalar.indexCast v90
  let c0_72 : Index := 0#32
  ![v91.toNat, 0]

def k0_chk166 (v68 : BitVec 32) : Prop :=
  (∀ (r₁ : Fin 4) (r₂ : Fin 25), ∀ a, S8x128.size a = 0 ∨ (k0_off731 v68 (BitVec.ofNat 32 (200 * r₁.val)) (BitVec.ofNat 32 r₂.val)) a + (![25, 1] : Fin 2 → Nat) a * (S8x128.size a - 1) < S102432x128.size a)
theorem k0_off731_inb : ∀ (v68 : BitVec 32) (k0_hw166 : k0_chk166 v68), ∀ (r₁ : Fin 4) (r₂ : Fin 25), ∀ a, S8x128.size a = 0 ∨ (k0_off731 v68 (BitVec.ofNat 32 (200 * r₁.val)) (BitVec.ofNat 32 r₂.val)) a + (![25, 1] : Fin 2 → Nat) a * (S8x128.size a - 1) < S102432x128.size a := fun v68 k0_hw166 r₁ r₂ => k0_hw166 r₁ r₂

def k0_off732 (v71 : BitVec 32) : Fin 3 → Nat :=
  let c16_i32_63 : BitVec 32 := 16#32
  let v72 : BitVec 32 := Scalar.remsi v71 c16_i32_63
  let v116 : Index := Scalar.indexCast v72
  let c0_79 : Index := 0#32
  let c128 : Index := 128#32
  ![v116.toNat, 0, 128]
def k0_off733 (v71 : BitVec 32) : Fin 3 → Nat :=
  let c16_i32_63 : BitVec 32 := 16#32
  let v72 : BitVec 32 := Scalar.remsi v71 c16_i32_63
  let v148 : Index := Scalar.indexCast v72
  let c0_92 : Index := 0#32
  let c256 : Index := 256#32
  ![v148.toNat, 0, 256]
def k0_off734 (v71 : BitVec 32) : Fin 3 → Nat :=
  let c16_i32_63 : BitVec 32 := 16#32
  let v72 : BitVec 32 := Scalar.remsi v71 c16_i32_63
  let v180 : Index := Scalar.indexCast v72
  let c0_104 : Index := 0#32
  let c384 : Index := 384#32
  ![v180.toNat, 0, 384]
def k0_off735 (v71 : BitVec 32) : Fin 3 → Nat :=
  let c16_i32_63 : BitVec 32 := 16#32
  let v72 : BitVec 32 := Scalar.remsi v71 c16_i32_63
  let v212 : Index := Scalar.indexCast v72
  let c0_116 : Index := 0#32
  let c512 : Index := 512#32
  ![v212.toNat, 0, 512]
def k0_off736 (v71 : BitVec 32) : Fin 3 → Nat :=
  let c16_i32_63 : BitVec 32 := 16#32
  let v72 : BitVec 32 := Scalar.remsi v71 c16_i32_63
  let v244 : Index := Scalar.indexCast v72
  let c0_129 : Index := 0#32
  let c640 : Index := 640#32
  ![v244.toNat, 0, 640]
def k0_off737 (v71 : BitVec 32) : Fin 3 → Nat :=
  let c16_i32_63 : BitVec 32 := 16#32
  let v72 : BitVec 32 := Scalar.remsi v71 c16_i32_63
  let v276 : Index := Scalar.indexCast v72
  let c0_141 : Index := 0#32
  let c768 : Index := 768#32
  ![v276.toNat, 0, 768]
def k0_off738 (v71 : BitVec 32) : Fin 3 → Nat :=
  let c16_i32_63 : BitVec 32 := 16#32
  let v72 : BitVec 32 := Scalar.remsi v71 c16_i32_63
  let v308 : Index := Scalar.indexCast v72
  let c0_154 : Index := 0#32
  let c896 : Index := 896#32
  ![v308.toNat, 0, 896]
def k0_off739 (v71 : BitVec 32) : Fin 3 → Nat :=
  let c16_i32_63 : BitVec 32 := 16#32
  let v72 : BitVec 32 := Scalar.remsi v71 c16_i32_63
  let v340 : Index := Scalar.indexCast v72
  let c0_166 : Index := 0#32
  let c1024 : Index := 1024#32
  ![v340.toNat, 0, 1024]
def k0_off740 (v71 : BitVec 32) : Fin 3 → Nat :=
  let c16_i32_63 : BitVec 32 := 16#32
  let v72 : BitVec 32 := Scalar.remsi v71 c16_i32_63
  let v372 : Index := Scalar.indexCast v72
  let c0_179 : Index := 0#32
  let c1152 : Index := 1152#32
  ![v372.toNat, 0, 1152]
def k0_off741 (v71 : BitVec 32) : Fin 3 → Nat :=
  let c16_i32_63 : BitVec 32 := 16#32
  let v72 : BitVec 32 := Scalar.remsi v71 c16_i32_63
  let v404 : Index := Scalar.indexCast v72
  let c0_191 : Index := 0#32
  let c1280 : Index := 1280#32
  ![v404.toNat, 0, 1280]
def k0_off742 (v71 : BitVec 32) : Fin 3 → Nat :=
  let c16_i32_63 : BitVec 32 := 16#32
  let v72 : BitVec 32 := Scalar.remsi v71 c16_i32_63
  let v436 : Index := Scalar.indexCast v72
  let c0_203 : Index := 0#32
  let c1408 : Index := 1408#32
  ![v436.toNat, 0, 1408]
def k0_off743 (v71 : BitVec 32) : Fin 3 → Nat :=
  let c16_i32_63 : BitVec 32 := 16#32
  let v72 : BitVec 32 := Scalar.remsi v71 c16_i32_63
  let v468 : Index := Scalar.indexCast v72
  let c0_215 : Index := 0#32
  let c1536 : Index := 1536#32
  ![v468.toNat, 0, 1536]
def k0_off744 (v71 : BitVec 32) : Fin 3 → Nat :=
  let c16_i32_63 : BitVec 32 := 16#32
  let v72 : BitVec 32 := Scalar.remsi v71 c16_i32_63
  let v500 : Index := Scalar.indexCast v72
  let c0_227 : Index := 0#32
  let c1664 : Index := 1664#32
  ![v500.toNat, 0, 1664]
def k0_off745 (v71 : BitVec 32) : Fin 3 → Nat :=
  let c16_i32_63 : BitVec 32 := 16#32
  let v72 : BitVec 32 := Scalar.remsi v71 c16_i32_63
  let v532 : Index := Scalar.indexCast v72
  let c0_239 : Index := 0#32
  let c1792 : Index := 1792#32
  ![v532.toNat, 0, 1792]
def k0_off746 (v71 : BitVec 32) : Fin 3 → Nat :=
  let c16_i32_63 : BitVec 32 := 16#32
  let v72 : BitVec 32 := Scalar.remsi v71 c16_i32_63
  let v564 : Index := Scalar.indexCast v72
  let c0_251 : Index := 0#32
  let c1920 : Index := 1920#32
  ![v564.toNat, 0, 1920]
def k0_off747 (v71 : BitVec 32) : Fin 3 → Nat :=
  let c16_i32_63 : BitVec 32 := 16#32
  let v72 : BitVec 32 := Scalar.remsi v71 c16_i32_63
  let v596 : Index := Scalar.indexCast v72
  let c0_263 : Index := 0#32
  let c2048 : Index := 2048#32
  ![v596.toNat, 0, 2048]
def k0_off748 (v71 : BitVec 32) : Fin 3 → Nat :=
  let c16_i32_63 : BitVec 32 := 16#32
  let v72 : BitVec 32 := Scalar.remsi v71 c16_i32_63
  let v628 : Index := Scalar.indexCast v72
  let c0_276 : Index := 0#32
  let c2176 : Index := 2176#32
  ![v628.toNat, 0, 2176]
def k0_off749 (v71 : BitVec 32) : Fin 3 → Nat :=
  let c16_i32_63 : BitVec 32 := 16#32
  let v72 : BitVec 32 := Scalar.remsi v71 c16_i32_63
  let v660 : Index := Scalar.indexCast v72
  let c0_288 : Index := 0#32
  let c2304 : Index := 2304#32
  ![v660.toNat, 0, 2304]
def k0_off750 (v71 : BitVec 32) : Fin 3 → Nat :=
  let c16_i32_63 : BitVec 32 := 16#32
  let v72 : BitVec 32 := Scalar.remsi v71 c16_i32_63
  let v692 : Index := Scalar.indexCast v72
  let c0_300 : Index := 0#32
  let c2432 : Index := 2432#32
  ![v692.toNat, 0, 2432]
def k0_off751 (v71 : BitVec 32) : Fin 3 → Nat :=
  let c16_i32_63 : BitVec 32 := 16#32
  let v72 : BitVec 32 := Scalar.remsi v71 c16_i32_63
  let v724 : Index := Scalar.indexCast v72
  let c0_312 : Index := 0#32
  let c2560 : Index := 2560#32
  ![v724.toNat, 0, 2560]
def k0_off752 (v71 : BitVec 32) : Fin 3 → Nat :=
  let c16_i32_63 : BitVec 32 := 16#32
  let v72 : BitVec 32 := Scalar.remsi v71 c16_i32_63
  let v756 : Index := Scalar.indexCast v72
  let c0_324 : Index := 0#32
  let c2688 : Index := 2688#32
  ![v756.toNat, 0, 2688]
def k0_off753 (v71 : BitVec 32) : Fin 3 → Nat :=
  let c16_i32_63 : BitVec 32 := 16#32
  let v72 : BitVec 32 := Scalar.remsi v71 c16_i32_63
  let v788 : Index := Scalar.indexCast v72
  let c0_336 : Index := 0#32
  let c2816 : Index := 2816#32
  ![v788.toNat, 0, 2816]
def k0_off754 (v71 : BitVec 32) : Fin 3 → Nat :=
  let c16_i32_63 : BitVec 32 := 16#32
  let v72 : BitVec 32 := Scalar.remsi v71 c16_i32_63
  let v820 : Index := Scalar.indexCast v72
  let c0_348 : Index := 0#32
  let c2944 : Index := 2944#32
  ![v820.toNat, 0, 2944]
def k0_off755 (v71 : BitVec 32) : Fin 3 → Nat :=
  let c16_i32_63 : BitVec 32 := 16#32
  let v72 : BitVec 32 := Scalar.remsi v71 c16_i32_63
  let v852 : Index := Scalar.indexCast v72
  let c0_360 : Index := 0#32
  let c0_361 : Index := 0#32
  ![v852.toNat, 0, 0]
def k0_off756 (v71 : BitVec 32) : Fin 3 → Nat :=
  let c16_i32_63 : BitVec 32 := 16#32
  let v72 : BitVec 32 := Scalar.remsi v71 c16_i32_63
  let v864 : Index := Scalar.indexCast v72
  let c8 : Index := 8#32
  let c0_365 : Index := 0#32
  ![v864.toNat, 8, 0]
def k0_off757 (v71 : BitVec 32) : Fin 3 → Nat :=
  let c16_i32_63 : BitVec 32 := 16#32
  let v72 : BitVec 32 := Scalar.remsi v71 c16_i32_63
  let v876 : Index := Scalar.indexCast v72
  let c16 : Index := 16#32
  let c0_370 : Index := 0#32
  ![v876.toNat, 16, 0]
def k0_off758 (v71 : BitVec 32) : Fin 3 → Nat :=
  let c16_i32_63 : BitVec 32 := 16#32
  let v72 : BitVec 32 := Scalar.remsi v71 c16_i32_63
  let v888 : Index := Scalar.indexCast v72
  let c24 : Index := 24#32
  let c0_375 : Index := 0#32
  ![v888.toNat, 24, 0]

def k0_chk165_0 (v68 : BitVec 32) (v71 : BitVec 32) : Prop :=
  (∀ (k0_h16 : k0_cond16 v68 = 1#1), ∀ a, (k0_off725 v71) a + S1.size a ≤ S16.size a) ∧
  (∀ (k0_h16 : k0_cond16 v68 = 1#1), ∀ a, (k0_off726 v71) a + S1x32x3072.size a ≤ S16x32x3072.size a) ∧
  (∀ (k0_h16 : k0_cond16 v68 = 1#1), ∀ (hinb : ∀ a, (k0_off726 v71) a + S1x32x3072.size a ≤ S16x32x3072.size a), (Rect.unit (s := S16x32x3072) (k0_off726 v71) S1x32x3072.size hinb).WholeWords (EltTy.packing .fp8e4m3)) ∧
  (∀ (k0_h16 : k0_cond16 v68 = 1#1), ∀ a, (k0_off727 v71) a + S1x32x24.size a ≤ S16x32x24.size a) ∧
  (∀ (k0_h17 : k0_cond17 v68 = 1#1), ∀ a, (k0_off728 v71) a + S1x32x3072.size a ≤ S16x32x3072.size a) ∧
  (∀ (k0_h17 : k0_cond17 v68 = 1#1), ∀ (hinb : ∀ a, (k0_off728 v71) a + S1x32x3072.size a ≤ S16x32x3072.size a), (Rect.unit (s := S16x32x3072) (k0_off728 v71) S1x32x3072.size hinb).PackedRows (EltTy.packing .fp8e4m3)) ∧
  (∀ (k0_h17 : k0_cond17 v68 = 1#1), ∀ a, (k0_off729 v71) a + S1x32x24.size a ≤ S16x32x24.size a) ∧
  (∀ a, (k0_off730 v71) a + S1x32x128.size a ≤ S16x32x3072.size a) ∧
  (∀ a, (k0_off732 v71) a + S1x32x128.size a ≤ S16x32x3072.size a) ∧
  (∀ a, (k0_off733 v71) a + S1x32x128.size a ≤ S16x32x3072.size a) ∧
  (∀ a, (k0_off734 v71) a + S1x32x128.size a ≤ S16x32x3072.size a) ∧
  (∀ a, (k0_off735 v71) a + S1x32x128.size a ≤ S16x32x3072.size a) ∧
  (∀ a, (k0_off736 v71) a + S1x32x128.size a ≤ S16x32x3072.size a) ∧
  (∀ a, (k0_off737 v71) a + S1x32x128.size a ≤ S16x32x3072.size a) ∧
  (∀ a, (k0_off738 v71) a + S1x32x128.size a ≤ S16x32x3072.size a) ∧
  (∀ a, (k0_off739 v71) a + S1x32x128.size a ≤ S16x32x3072.size a) ∧
  (∀ a, (k0_off740 v71) a + S1x32x128.size a ≤ S16x32x3072.size a) ∧
  (∀ a, (k0_off741 v71) a + S1x32x128.size a ≤ S16x32x3072.size a) ∧
  (∀ a, (k0_off742 v71) a + S1x32x128.size a ≤ S16x32x3072.size a) ∧
  (∀ a, (k0_off743 v71) a + S1x32x128.size a ≤ S16x32x3072.size a) ∧
  (∀ a, (k0_off744 v71) a + S1x32x128.size a ≤ S16x32x3072.size a) ∧
  (∀ a, (k0_off745 v71) a + S1x32x128.size a ≤ S16x32x3072.size a) ∧
  (∀ a, (k0_off746 v71) a + S1x32x128.size a ≤ S16x32x3072.size a) ∧
  (∀ a, (k0_off747 v71) a + S1x32x128.size a ≤ S16x32x3072.size a) ∧
  (∀ a, (k0_off748 v71) a + S1x32x128.size a ≤ S16x32x3072.size a) ∧
  (∀ a, (k0_off749 v71) a + S1x32x128.size a ≤ S16x32x3072.size a) ∧
  (∀ a, (k0_off750 v71) a + S1x32x128.size a ≤ S16x32x3072.size a) ∧
  (∀ a, (k0_off751 v71) a + S1x32x128.size a ≤ S16x32x3072.size a) ∧
  (∀ a, (k0_off752 v71) a + S1x32x128.size a ≤ S16x32x3072.size a) ∧
  (∀ a, (k0_off753 v71) a + S1x32x128.size a ≤ S16x32x3072.size a) ∧
  (∀ a, (k0_off754 v71) a + S1x32x128.size a ≤ S16x32x3072.size a) ∧
  (∀ a, (k0_off755 v71) a + S1x8x24.size a ≤ S16x32x24.size a)
def k0_chk165_1 (v68 : BitVec 32) (v71 : BitVec 32) : Prop :=
  (∀ a, (k0_off756 v71) a + S1x8x24.size a ≤ S16x32x24.size a) ∧
  (∀ a, (k0_off757 v71) a + S1x8x24.size a ≤ S16x32x24.size a) ∧
  (∀ a, (k0_off758 v71) a + S1x8x24.size a ≤ S16x32x24.size a)
def k0_chk165 (v68 : BitVec 32) (v71 : BitVec 32) : Prop :=
  k0_chk165_0 v68 v71 ∧
  k0_chk165_1 v68 v71
theorem k0_off725_inb : ∀ (v68 : BitVec 32) (v71 : BitVec 32) (k0_hw165 : k0_chk165 v68 v71), ∀ (k0_h16 : k0_cond16 v68 = 1#1), ∀ a, (k0_off725 v71) a + S1.size a ≤ S16.size a := fun v68 v71 k0_hw165 k0_h16 => k0_hw165.1.1 k0_h16
theorem k0_off726_inb : ∀ (v68 : BitVec 32) (v71 : BitVec 32) (k0_hw165 : k0_chk165 v68 v71), ∀ (k0_h16 : k0_cond16 v68 = 1#1), ∀ a, (k0_off726 v71) a + S1x32x3072.size a ≤ S16x32x3072.size a := fun v68 v71 k0_hw165 k0_h16 => k0_hw165.1.2.1 k0_h16
theorem k0_off726_wordsfp8e4m3 : ∀ (v68 : BitVec 32) (v71 : BitVec 32) (k0_hw165 : k0_chk165 v68 v71), ∀ (k0_h16 : k0_cond16 v68 = 1#1), (Rect.unit (s := S16x32x3072) (k0_off726 v71) S1x32x3072.size (k0_off726_inb v68 v71 k0_hw165 k0_h16)).WholeWords (EltTy.packing .fp8e4m3) := fun v68 v71 k0_hw165 k0_h16 => k0_hw165.1.2.2.1 k0_h16 (k0_off726_inb v68 v71 k0_hw165 k0_h16)
theorem k0_off727_inb : ∀ (v68 : BitVec 32) (v71 : BitVec 32) (k0_hw165 : k0_chk165 v68 v71), ∀ (k0_h16 : k0_cond16 v68 = 1#1), ∀ a, (k0_off727 v71) a + S1x32x24.size a ≤ S16x32x24.size a := fun v68 v71 k0_hw165 k0_h16 => k0_hw165.1.2.2.2.1 k0_h16
theorem k0_off728_inb : ∀ (v68 : BitVec 32) (v71 : BitVec 32) (k0_hw165 : k0_chk165 v68 v71), ∀ (k0_h17 : k0_cond17 v68 = 1#1), ∀ a, (k0_off728 v71) a + S1x32x3072.size a ≤ S16x32x3072.size a := fun v68 v71 k0_hw165 k0_h17 => k0_hw165.1.2.2.2.2.1 k0_h17
theorem k0_off728_packedfp8e4m3 : ∀ (v68 : BitVec 32) (v71 : BitVec 32) (k0_hw165 : k0_chk165 v68 v71), ∀ (k0_h17 : k0_cond17 v68 = 1#1), (Rect.unit (s := S16x32x3072) (k0_off728 v71) S1x32x3072.size (k0_off728_inb v68 v71 k0_hw165 k0_h17)).PackedRows (EltTy.packing .fp8e4m3) := fun v68 v71 k0_hw165 k0_h17 => k0_hw165.1.2.2.2.2.2.1 k0_h17 (k0_off728_inb v68 v71 k0_hw165 k0_h17)
theorem k0_off729_inb : ∀ (v68 : BitVec 32) (v71 : BitVec 32) (k0_hw165 : k0_chk165 v68 v71), ∀ (k0_h17 : k0_cond17 v68 = 1#1), ∀ a, (k0_off729 v71) a + S1x32x24.size a ≤ S16x32x24.size a := fun v68 v71 k0_hw165 k0_h17 => k0_hw165.1.2.2.2.2.2.2.1 k0_h17
theorem k0_off730_inb : ∀ (v68 : BitVec 32) (v71 : BitVec 32) (k0_hw165 : k0_chk165 v68 v71), ∀ a, (k0_off730 v71) a + S1x32x128.size a ≤ S16x32x3072.size a := fun v68 v71 k0_hw165 => k0_hw165.1.2.2.2.2.2.2.2.1
theorem k0_off732_inb : ∀ (v68 : BitVec 32) (v71 : BitVec 32) (k0_hw165 : k0_chk165 v68 v71), ∀ a, (k0_off732 v71) a + S1x32x128.size a ≤ S16x32x3072.size a := fun v68 v71 k0_hw165 => k0_hw165.1.2.2.2.2.2.2.2.2.1
theorem k0_off733_inb : ∀ (v68 : BitVec 32) (v71 : BitVec 32) (k0_hw165 : k0_chk165 v68 v71), ∀ a, (k0_off733 v71) a + S1x32x128.size a ≤ S16x32x3072.size a := fun v68 v71 k0_hw165 => k0_hw165.1.2.2.2.2.2.2.2.2.2.1
theorem k0_off734_inb : ∀ (v68 : BitVec 32) (v71 : BitVec 32) (k0_hw165 : k0_chk165 v68 v71), ∀ a, (k0_off734 v71) a + S1x32x128.size a ≤ S16x32x3072.size a := fun v68 v71 k0_hw165 => k0_hw165.1.2.2.2.2.2.2.2.2.2.2.1
theorem k0_off735_inb : ∀ (v68 : BitVec 32) (v71 : BitVec 32) (k0_hw165 : k0_chk165 v68 v71), ∀ a, (k0_off735 v71) a + S1x32x128.size a ≤ S16x32x3072.size a := fun v68 v71 k0_hw165 => k0_hw165.1.2.2.2.2.2.2.2.2.2.2.2.1
theorem k0_off736_inb : ∀ (v68 : BitVec 32) (v71 : BitVec 32) (k0_hw165 : k0_chk165 v68 v71), ∀ a, (k0_off736 v71) a + S1x32x128.size a ≤ S16x32x3072.size a := fun v68 v71 k0_hw165 => k0_hw165.1.2.2.2.2.2.2.2.2.2.2.2.2.1
theorem k0_off737_inb : ∀ (v68 : BitVec 32) (v71 : BitVec 32) (k0_hw165 : k0_chk165 v68 v71), ∀ a, (k0_off737 v71) a + S1x32x128.size a ≤ S16x32x3072.size a := fun v68 v71 k0_hw165 => k0_hw165.1.2.2.2.2.2.2.2.2.2.2.2.2.2.1
theorem k0_off738_inb : ∀ (v68 : BitVec 32) (v71 : BitVec 32) (k0_hw165 : k0_chk165 v68 v71), ∀ a, (k0_off738 v71) a + S1x32x128.size a ≤ S16x32x3072.size a := fun v68 v71 k0_hw165 => k0_hw165.1.2.2.2.2.2.2.2.2.2.2.2.2.2.2.1
theorem k0_off739_inb : ∀ (v68 : BitVec 32) (v71 : BitVec 32) (k0_hw165 : k0_chk165 v68 v71), ∀ a, (k0_off739 v71) a + S1x32x128.size a ≤ S16x32x3072.size a := fun v68 v71 k0_hw165 => k0_hw165.1.2.2.2.2.2.2.2.2.2.2.2.2.2.2.2.1
theorem k0_off740_inb : ∀ (v68 : BitVec 32) (v71 : BitVec 32) (k0_hw165 : k0_chk165 v68 v71), ∀ a, (k0_off740 v71) a + S1x32x128.size a ≤ S16x32x3072.size a := fun v68 v71 k0_hw165 => k0_hw165.1.2.2.2.2.2.2.2.2.2.2.2.2.2.2.2.2.1
theorem k0_off741_inb : ∀ (v68 : BitVec 32) (v71 : BitVec 32) (k0_hw165 : k0_chk165 v68 v71), ∀ a, (k0_off741 v71) a + S1x32x128.size a ≤ S16x32x3072.size a := fun v68 v71 k0_hw165 => k0_hw165.1.2.2.2.2.2.2.2.2.2.2.2.2.2.2.2.2.2.1
theorem k0_off742_inb : ∀ (v68 : BitVec 32) (v71 : BitVec 32) (k0_hw165 : k0_chk165 v68 v71), ∀ a, (k0_off742 v71) a + S1x32x128.size a ≤ S16x32x3072.size a := fun v68 v71 k0_hw165 => k0_hw165.1.2.2.2.2.2.2.2.2.2.2.2.2.2.2.2.2.2.2.1
theorem k0_off743_inb : ∀ (v68 : BitVec 32) (v71 : BitVec 32) (k0_hw165 : k0_chk165 v68 v71), ∀ a, (k0_off743 v71) a + S1x32x128.size a ≤ S16x32x3072.size a := fun v68 v71 k0_hw165 => k0_hw165.1.2.2.2.2.2.2.2.2.2.2.2.2.2.2.2.2.2.2.2.1
theorem k0_off744_inb : ∀ (v68 : BitVec 32) (v71 : BitVec 32) (k0_hw165 : k0_chk165 v68 v71), ∀ a, (k0_off744 v71) a + S1x32x128.size a ≤ S16x32x3072.size a := fun v68 v71 k0_hw165 => k0_hw165.1.2.2.2.2.2.2.2.2.2.2.2.2.2.2.2.2.2.2.2.2.1
theorem k0_off745_inb : ∀ (v68 : BitVec 32) (v71 : BitVec 32) (k0_hw165 : k0_chk165 v68 v71), ∀ a, (k0_off745 v71) a + S1x32x128.size a ≤ S16x32x3072.size a := fun v68 v71 k0_hw165 => k0_hw165.1.2.2.2.2.2.2.2.2.2.2.2.2.2.2.2.2.2.2.2.2.2.1
theorem k0_off746_inb : ∀ (v68 : BitVec 32) (v71 : BitVec 32) (k0_hw165 : k0_chk165 v68 v71), ∀ a, (k0_off746 v71) a + S1x32x128.size a ≤ S16x32x3072.size a := fun v68 v71 k0_hw165 => k0_hw165.1.2.2.2.2.2.2.2.2.2.2.2.2.2.2.2.2.2.2.2.2.2.2.1
theorem k0_off747_inb : ∀ (v68 : BitVec 32) (v71 : BitVec 32) (k0_hw165 : k0_chk165 v68 v71), ∀ a, (k0_off747 v71) a + S1x32x128.size a ≤ S16x32x3072.size a := fun v68 v71 k0_hw165 => k0_hw165.1.2.2.2.2.2.2.2.2.2.2.2.2.2.2.2.2.2.2.2.2.2.2.2.1
theorem k0_off748_inb : ∀ (v68 : BitVec 32) (v71 : BitVec 32) (k0_hw165 : k0_chk165 v68 v71), ∀ a, (k0_off748 v71) a + S1x32x128.size a ≤ S16x32x3072.size a := fun v68 v71 k0_hw165 => k0_hw165.1.2.2.2.2.2.2.2.2.2.2.2.2.2.2.2.2.2.2.2.2.2.2.2.2.1
theorem k0_off749_inb : ∀ (v68 : BitVec 32) (v71 : BitVec 32) (k0_hw165 : k0_chk165 v68 v71), ∀ a, (k0_off749 v71) a + S1x32x128.size a ≤ S16x32x3072.size a := fun v68 v71 k0_hw165 => k0_hw165.1.2.2.2.2.2.2.2.2.2.2.2.2.2.2.2.2.2.2.2.2.2.2.2.2.2.1
theorem k0_off750_inb : ∀ (v68 : BitVec 32) (v71 : BitVec 32) (k0_hw165 : k0_chk165 v68 v71), ∀ a, (k0_off750 v71) a + S1x32x128.size a ≤ S16x32x3072.size a := fun v68 v71 k0_hw165 => k0_hw165.1.2.2.2.2.2.2.2.2.2.2.2.2.2.2.2.2.2.2.2.2.2.2.2.2.2.2.1
theorem k0_off751_inb : ∀ (v68 : BitVec 32) (v71 : BitVec 32) (k0_hw165 : k0_chk165 v68 v71), ∀ a, (k0_off751 v71) a + S1x32x128.size a ≤ S16x32x3072.size a := fun v68 v71 k0_hw165 => k0_hw165.1.2.2.2.2.2.2.2.2.2.2.2.2.2.2.2.2.2.2.2.2.2.2.2.2.2.2.2.1
theorem k0_off752_inb : ∀ (v68 : BitVec 32) (v71 : BitVec 32) (k0_hw165 : k0_chk165 v68 v71), ∀ a, (k0_off752 v71) a + S1x32x128.size a ≤ S16x32x3072.size a := fun v68 v71 k0_hw165 => k0_hw165.1.2.2.2.2.2.2.2.2.2.2.2.2.2.2.2.2.2.2.2.2.2.2.2.2.2.2.2.2.1
theorem k0_off753_inb : ∀ (v68 : BitVec 32) (v71 : BitVec 32) (k0_hw165 : k0_chk165 v68 v71), ∀ a, (k0_off753 v71) a + S1x32x128.size a ≤ S16x32x3072.size a := fun v68 v71 k0_hw165 => k0_hw165.1.2.2.2.2.2.2.2.2.2.2.2.2.2.2.2.2.2.2.2.2.2.2.2.2.2.2.2.2.2.1
theorem k0_off754_inb : ∀ (v68 : BitVec 32) (v71 : BitVec 32) (k0_hw165 : k0_chk165 v68 v71), ∀ a, (k0_off754 v71) a + S1x32x128.size a ≤ S16x32x3072.size a := fun v68 v71 k0_hw165 => k0_hw165.1.2.2.2.2.2.2.2.2.2.2.2.2.2.2.2.2.2.2.2.2.2.2.2.2.2.2.2.2.2.2.1
theorem k0_off755_inb : ∀ (v68 : BitVec 32) (v71 : BitVec 32) (k0_hw165 : k0_chk165 v68 v71), ∀ a, (k0_off755 v71) a + S1x8x24.size a ≤ S16x32x24.size a := fun v68 v71 k0_hw165 => k0_hw165.1.2.2.2.2.2.2.2.2.2.2.2.2.2.2.2.2.2.2.2.2.2.2.2.2.2.2.2.2.2.2.2
theorem k0_off756_inb : ∀ (v68 : BitVec 32) (v71 : BitVec 32) (k0_hw165 : k0_chk165 v68 v71), ∀ a, (k0_off756 v71) a + S1x8x24.size a ≤ S16x32x24.size a := fun v68 v71 k0_hw165 => k0_hw165.2.1
theorem k0_off757_inb : ∀ (v68 : BitVec 32) (v71 : BitVec 32) (k0_hw165 : k0_chk165 v68 v71), ∀ a, (k0_off757 v71) a + S1x8x24.size a ≤ S16x32x24.size a := fun v68 v71 k0_hw165 => k0_hw165.2.2.1
theorem k0_off758_inb : ∀ (v68 : BitVec 32) (v71 : BitVec 32) (k0_hw165 : k0_chk165 v68 v71), ∀ a, (k0_off758 v71) a + S1x8x24.size a ≤ S16x32x24.size a := fun v68 v71 k0_hw165 => k0_hw165.2.2.2

def k0_off759 (i : grid0.Coords) (arg22 : BitVec 32) : Fin 3 → Nat :=
  let c0_394 : Index := 0#32
  let c0_395 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_391 : BitVec 32 := 1#32
  let v916 : BitVec 32 := Scalar.subi v5 c1_i32_391
  let v917 : BitVec 32 := Scalar.minsi arg22 v916
  let c4_i32_392 : BitVec 32 := 4#32
  let v918 : BitVec 1 := Scalar.cmpi .slt v917 c4_i32_392
  let c0_i32_393 : BitVec 32 := 0#32
  let v919 : BitVec 32 := Scalar.select v918 v917 c0_i32_393
  let v920 : Index := Scalar.indexCast v919
  ![0, 0, v920.toNat]

def k0_off760 (i : grid0.Coords) (arg22 : BitVec 32) : Fin 3 → Nat :=
  let c0_398 : Index := 0#32
  let c0_399 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_391 : BitVec 32 := 1#32
  let v916 : BitVec 32 := Scalar.subi v5 c1_i32_391
  let v917 : BitVec 32 := Scalar.minsi arg22 v916
  let c4_i32_392 : BitVec 32 := 4#32
  let v918 : BitVec 1 := Scalar.cmpi .slt v917 c4_i32_392
  let c0_i32_397 : BitVec 32 := 0#32
  let c4_i32_396 : BitVec 32 := 4#32
  let v922 : BitVec 32 := Scalar.subi v917 c4_i32_396
  let v923 : BitVec 32 := Scalar.select v918 c0_i32_397 v922
  let v924 : Index := Scalar.indexCast v923
  ![0, 0, v924.toNat]

def k0_chk167 (i : grid0.Coords) (arg22 : BitVec 32) : Prop :=
  (∀ a, (k0_off759 i arg22) a + S1x1x1.size a ≤ S1x1x4.size a) ∧
  (∀ a, (k0_off760 i arg22) a + S1x1x1.size a ≤ S1x1x4.size a)
theorem k0_off759_inb : ∀ (i : grid0.Coords) (arg22 : BitVec 32) (k0_hw167 : k0_chk167 i arg22), ∀ a, (k0_off759 i arg22) a + S1x1x1.size a ≤ S1x1x4.size a := fun i arg22 k0_hw167 => k0_hw167.1
theorem k0_off760_inb : ∀ (i : grid0.Coords) (arg22 : BitVec 32) (k0_hw167 : k0_chk167 i arg22), ∀ a, (k0_off760 i arg22) a + S1x1x1.size a ≤ S1x1x4.size a := fun i arg22 k0_hw167 => k0_hw167.2

def k0_off761 (v915 : BitVec 32) (v916 : BitVec 32) : Fin 3 → Nat :=
  let c0_395 : Index := 0#32
  let c4_i32_393 : BitVec 32 := 4#32
  let v917 : BitVec 1 := Scalar.cmpi .slt v915 c4_i32_393
  let c0_i32_394 : BitVec 32 := 0#32
  let v918 : BitVec 32 := Scalar.select v917 v915 c0_i32_394
  let v919 : Index := Scalar.indexCast v918
  let v920 : Index := Scalar.indexCast v916
  ![0, v919.toNat, v920.toNat]

def k0_off762 (v915 : BitVec 32) (v916 : BitVec 32) : Fin 3 → Nat :=
  let c0_398 : Index := 0#32
  let c4_i32_393 : BitVec 32 := 4#32
  let v917 : BitVec 1 := Scalar.cmpi .slt v915 c4_i32_393
  let c0_i32_397 : BitVec 32 := 0#32
  let c4_i32_396 : BitVec 32 := 4#32
  let v922 : BitVec 32 := Scalar.subi v915 c4_i32_396
  let v923 : BitVec 32 := Scalar.select v917 c0_i32_397 v922
  let v924 : Index := Scalar.indexCast v923
  let v925 : Index := Scalar.indexCast v916
  ![0, v924.toNat, v925.toNat]

def k0_chk168 (v915 : BitVec 32) (v916 : BitVec 32) : Prop :=
  (∀ a, (k0_off761 v915 v916) a + S1x1x1.size a ≤ S1x4x128.size a) ∧
  (∀ a, (k0_off762 v915 v916) a + S1x1x1.size a ≤ S1x4x128.size a)
theorem k0_off761_inb : ∀ (v915 : BitVec 32) (v916 : BitVec 32) (k0_hw168 : k0_chk168 v915 v916), ∀ a, (k0_off761 v915 v916) a + S1x1x1.size a ≤ S1x4x128.size a := fun v915 v916 k0_hw168 => k0_hw168.1
theorem k0_off762_inb : ∀ (v915 : BitVec 32) (v916 : BitVec 32) (k0_hw168 : k0_chk168 v915 v916), ∀ a, (k0_off762 v915 v916) a + S1x1x1.size a ≤ S1x4x128.size a := fun v915 v916 k0_hw168 => k0_hw168.2

def k0_mult11 (v915 : BitVec 32) (v921 : BitVec 32) (v926 : BitVec 32) : BitVec 32 :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  v950
def k0_cond18 (v915 : BitVec 32) (v921 : BitVec 32) (v926 : BitVec 32) : BitVec 1 :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c7782_i32_402 : BitVec 32 := 7782#32
  let v931 : BitVec 1 := Scalar.cmpi .slt v928 c7782_i32_402
  let v932 : BitVec 32 := Scalar.extui v931
  let c0_i32_403 : BitVec 32 := 0#32
  let v933 : BitVec 1 := Scalar.cmpi .ne v932 c0_i32_403
  v933

def k0_off763 (v929 : BitVec 32) : Fin 1 → Nat :=
  let c16_i32_401 : BitVec 32 := 16#32
  let v930 : BitVec 32 := Scalar.remsi v929 c16_i32_401
  ![v930.toNat]

def k0_off764 (v929 : BitVec 32) : Fin 3 → Nat :=
  let c16_i32_401 : BitVec 32 := 16#32
  let v930 : BitVec 32 := Scalar.remsi v929 c16_i32_401
  let c0_i32_417 : BitVec 32 := 0#32
  let c0_i32_418 : BitVec 32 := 0#32
  ![v930.toNat, 0, 0]
def k0_off765 (v915 : BitVec 32) (v921 : BitVec 32) (v926 : BitVec 32) : Fin 2 → Nat :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  let v951 : BitVec 32 := v950
  let c0_i32_419 : BitVec 32 := 0#32
  ![v951.toNat, 0]
def k0_off766 (v929 : BitVec 32) : Fin 3 → Nat :=
  let c16_i32_401 : BitVec 32 := 16#32
  let v930 : BitVec 32 := Scalar.remsi v929 c16_i32_401
  let c0_i32_420 : BitVec 32 := 0#32
  let c0_i32_421 : BitVec 32 := 0#32
  ![v930.toNat, 0, 0]

def k0_chk170 (v915 : BitVec 32) (v921 : BitVec 32) (v926 : BitVec 32) (v929 : BitVec 32) : Prop :=
  (∀ (k0_h18 : k0_cond18 v915 v921 v926 = 1#1), ∀ a, (k0_off763 v929) a + S1.size a ≤ S16.size a) ∧
  (∀ (k0_h18 : k0_cond18 v915 v921 v926 = 1#1), ∀ a, (k0_off764 v929) a + S1x32x3072.size a ≤ S16x32x3072.size a) ∧
  (∀ (k0_h18 : k0_cond18 v915 v921 v926 = 1#1), ∀ (hinb : ∀ a, (k0_off764 v929) a + S1x32x3072.size a ≤ S16x32x3072.size a), (Rect.unit (s := S16x32x3072) (k0_off764 v929) S1x32x3072.size hinb).WholeWords (EltTy.packing .fp8e4m3)) ∧
  (∀ (k0_h18 : k0_cond18 v915 v921 v926 = 1#1), ∀ a, (k0_off766 v929) a + S1x32x24.size a ≤ S16x32x24.size a)
theorem k0_off763_inb : ∀ (v915 : BitVec 32) (v921 : BitVec 32) (v926 : BitVec 32) (v929 : BitVec 32) (k0_hw170 : k0_chk170 v915 v921 v926 v929), ∀ (k0_h18 : k0_cond18 v915 v921 v926 = 1#1), ∀ a, (k0_off763 v929) a + S1.size a ≤ S16.size a := fun v915 v921 v926 v929 k0_hw170 k0_h18 => k0_hw170.1 k0_h18
theorem k0_off764_inb : ∀ (v915 : BitVec 32) (v921 : BitVec 32) (v926 : BitVec 32) (v929 : BitVec 32) (k0_hw170 : k0_chk170 v915 v921 v926 v929), ∀ (k0_h18 : k0_cond18 v915 v921 v926 = 1#1), ∀ a, (k0_off764 v929) a + S1x32x3072.size a ≤ S16x32x3072.size a := fun v915 v921 v926 v929 k0_hw170 k0_h18 => k0_hw170.2.1 k0_h18
theorem k0_off764_wordsfp8e4m3 : ∀ (v915 : BitVec 32) (v921 : BitVec 32) (v926 : BitVec 32) (v929 : BitVec 32) (k0_hw170 : k0_chk170 v915 v921 v926 v929), ∀ (k0_h18 : k0_cond18 v915 v921 v926 = 1#1), (Rect.unit (s := S16x32x3072) (k0_off764 v929) S1x32x3072.size (k0_off764_inb v915 v921 v926 v929 k0_hw170 k0_h18)).WholeWords (EltTy.packing .fp8e4m3) := fun v915 v921 v926 v929 k0_hw170 k0_h18 => k0_hw170.2.2.1 k0_h18 (k0_off764_inb v915 v921 v926 v929 k0_hw170 k0_h18)
theorem k0_off766_inb : ∀ (v915 : BitVec 32) (v921 : BitVec 32) (v926 : BitVec 32) (v929 : BitVec 32) (k0_hw170 : k0_chk170 v915 v921 v926 v929), ∀ (k0_h18 : k0_cond18 v915 v921 v926 = 1#1), ∀ a, (k0_off766 v929) a + S1x32x24.size a ≤ S16x32x24.size a := fun v915 v921 v926 v929 k0_hw170 k0_h18 => k0_hw170.2.2.2 k0_h18

def k0_off767 (v915 : BitVec 32) (v921 : BitVec 32) (v926 : BitVec 32) : Fin 2 → Nat :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  let v951 : BitVec 32 := v950
  let c0_i32_422 : BitVec 32 := 0#32
  ![v951.toNat, 0]

def k0_chk169 (v915 : BitVec 32) (v921 : BitVec 32) (v926 : BitVec 32) : Prop :=
  (∀ (k0_h18 : k0_cond18 v915 v921 v926 = 1#1), 32 ∣ (k0_mult11 v915 v921 v926).toNat) ∧
  (∀ (k0_h18 : k0_cond18 v915 v921 v926 = 1#1), ∀ a, (k0_off765 v915 v921 v926) a + S32x3072.size a ≤ S249037x3072.size a) ∧
  (∀ (k0_h18 : k0_cond18 v915 v921 v926 = 1#1), ∀ (hinb : ∀ a, (k0_off765 v915 v921 v926) a + S32x3072.size a ≤ S249037x3072.size a), (Rect.unit (s := S249037x3072) (k0_off765 v915 v921 v926) S32x3072.size hinb).WholeWords (EltTy.packing .fp8e4m3)) ∧
  (∀ (k0_h18 : k0_cond18 v915 v921 v926 = 1#1), ∀ a, (k0_off767 v915 v921 v926) a + S32x24.size a ≤ S249037x24.size a)
theorem k0_mult11_dvd : ∀ (v915 : BitVec 32) (v921 : BitVec 32) (v926 : BitVec 32) (k0_hw169 : k0_chk169 v915 v921 v926), ∀ (k0_h18 : k0_cond18 v915 v921 v926 = 1#1), 32 ∣ (k0_mult11 v915 v921 v926).toNat := fun v915 v921 v926 k0_hw169 k0_h18 => k0_hw169.1 k0_h18
theorem k0_off765_inb : ∀ (v915 : BitVec 32) (v921 : BitVec 32) (v926 : BitVec 32) (k0_hw169 : k0_chk169 v915 v921 v926), ∀ (k0_h18 : k0_cond18 v915 v921 v926 = 1#1), ∀ a, (k0_off765 v915 v921 v926) a + S32x3072.size a ≤ S249037x3072.size a := fun v915 v921 v926 k0_hw169 k0_h18 => k0_hw169.2.1 k0_h18
theorem k0_off765_wordsfp8e4m3 : ∀ (v915 : BitVec 32) (v921 : BitVec 32) (v926 : BitVec 32) (k0_hw169 : k0_chk169 v915 v921 v926), ∀ (k0_h18 : k0_cond18 v915 v921 v926 = 1#1), (Rect.unit (s := S249037x3072) (k0_off765 v915 v921 v926) S32x3072.size (k0_off765_inb v915 v921 v926 k0_hw169 k0_h18)).WholeWords (EltTy.packing .fp8e4m3) := fun v915 v921 v926 k0_hw169 k0_h18 => k0_hw169.2.2.1 k0_h18 (k0_off765_inb v915 v921 v926 k0_hw169 k0_h18)
theorem k0_off767_inb : ∀ (v915 : BitVec 32) (v921 : BitVec 32) (v926 : BitVec 32) (k0_hw169 : k0_chk169 v915 v921 v926), ∀ (k0_h18 : k0_cond18 v915 v921 v926 = 1#1), ∀ a, (k0_off767 v915 v921 v926) a + S32x24.size a ≤ S249037x24.size a := fun v915 v921 v926 k0_hw169 k0_h18 => k0_hw169.2.2.2 k0_h18

def k0_off768 (i : grid0.Coords) (arg23 : BitVec 32) : Fin 3 → Nat :=
  let c0_419 : Index := 0#32
  let c0_420 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_416 : BitVec 32 := 1#32
  let v951 : BitVec 32 := Scalar.subi v5 c1_i32_416
  let v952 : BitVec 32 := Scalar.minsi arg23 v951
  let c4_i32_417 : BitVec 32 := 4#32
  let v953 : BitVec 1 := Scalar.cmpi .slt v952 c4_i32_417
  let c0_i32_418 : BitVec 32 := 0#32
  let v954 : BitVec 32 := Scalar.select v953 v952 c0_i32_418
  let v955 : Index := Scalar.indexCast v954
  ![0, 0, v955.toNat]

def k0_off769 (i : grid0.Coords) (arg23 : BitVec 32) : Fin 3 → Nat :=
  let c0_423 : Index := 0#32
  let c0_424 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_416 : BitVec 32 := 1#32
  let v951 : BitVec 32 := Scalar.subi v5 c1_i32_416
  let v952 : BitVec 32 := Scalar.minsi arg23 v951
  let c4_i32_417 : BitVec 32 := 4#32
  let v953 : BitVec 1 := Scalar.cmpi .slt v952 c4_i32_417
  let c0_i32_422 : BitVec 32 := 0#32
  let c4_i32_421 : BitVec 32 := 4#32
  let v957 : BitVec 32 := Scalar.subi v952 c4_i32_421
  let v958 : BitVec 32 := Scalar.select v953 c0_i32_422 v957
  let v959 : Index := Scalar.indexCast v958
  ![0, 0, v959.toNat]

def k0_chk171 (i : grid0.Coords) (arg23 : BitVec 32) : Prop :=
  (∀ a, (k0_off768 i arg23) a + S1x1x1.size a ≤ S1x1x4.size a) ∧
  (∀ a, (k0_off769 i arg23) a + S1x1x1.size a ≤ S1x1x4.size a)
theorem k0_off768_inb : ∀ (i : grid0.Coords) (arg23 : BitVec 32) (k0_hw171 : k0_chk171 i arg23), ∀ a, (k0_off768 i arg23) a + S1x1x1.size a ≤ S1x1x4.size a := fun i arg23 k0_hw171 => k0_hw171.1
theorem k0_off769_inb : ∀ (i : grid0.Coords) (arg23 : BitVec 32) (k0_hw171 : k0_chk171 i arg23), ∀ a, (k0_off769 i arg23) a + S1x1x1.size a ≤ S1x1x4.size a := fun i arg23 k0_hw171 => k0_hw171.2

@[reducible] def k0_t8_loop (v48 : BitVec 32) : Scf.Loop 32 :=
  let c0_i32_35 : BitVec 32 := 0#32
  let v49 : BitVec 32 := Scalar.subi v48 c0_i32_35
  let c1_i32_37 : BitVec 32 := 1#32
  let v51 : BitVec 32 := Scalar.divsi v49 c1_i32_37
  let v52 : BitVec 32 := Scalar.muli v51 c1_i32_37
  let v53 : BitVec 32 := Scalar.addi c0_i32_35 v52
  let v50 : BitVec 32 := Scalar.addi c0_i32_35 v49
  let c1_i32_39 : BitVec 32 := 1#32
  ⟨v53, v50, c1_i32_39⟩
def k0_off770 (v48 : BitVec 32) (k0_t8 : Fin (k0_t8_loop v48).trips) : Fin 3 → Nat :=
  let c0_60 : Index := 0#32
  let c2_61 : Index := 2#32
  let c0_i32_35 : BitVec 32 := 0#32
  let v49 : BitVec 32 := Scalar.subi v48 c0_i32_35
  let c1_i32_37 : BitVec 32 := 1#32
  let v51 : BitVec 32 := Scalar.divsi v49 c1_i32_37
  let v52 : BitVec 32 := Scalar.muli v51 c1_i32_37
  let v53 : BitVec 32 := Scalar.addi c0_i32_35 v52
  let c1_i32_39 : BitVec 32 := 1#32
  let arg20 : BitVec 32 := Scf.iv v53 c1_i32_39 k0_t8
  let v67 : Index := Scalar.indexCast arg20
  ![0, 2, v67.toNat]

def k0_chk164 (v48 : BitVec 32) : Prop :=
  ((k0_t7_loop v48).OK) ∧
  (∀ k0_t7 : Fin (k0_t7_loop v48).trips, ∀ a, (k0_off724 v48 k0_t7) a + S1x1x1.size a ≤ S1x4x128.size a) ∧
  ((k0_t8_loop v48).OK) ∧
  (∀ k0_t8 : Fin (k0_t8_loop v48).trips, ∀ a, (k0_off770 v48 k0_t8) a + S1x1x1.size a ≤ S1x4x128.size a)
theorem k0_t7_ok : ∀ (v48 : BitVec 32) (k0_hw164 : k0_chk164 v48), (k0_t7_loop v48).OK := fun v48 k0_hw164 => k0_hw164.1
theorem k0_off724_inb : ∀ (v48 : BitVec 32) (k0_hw164 : k0_chk164 v48) (k0_t7 : Fin (k0_t7_loop v48).trips), ∀ a, (k0_off724 v48 k0_t7) a + S1x1x1.size a ≤ S1x4x128.size a := fun v48 k0_hw164 k0_t7 => k0_hw164.2.1 k0_t7
theorem k0_t8_ok : ∀ (v48 : BitVec 32) (k0_hw164 : k0_chk164 v48), (k0_t8_loop v48).OK := fun v48 k0_hw164 => k0_hw164.2.2.1
theorem k0_off770_inb : ∀ (v48 : BitVec 32) (k0_hw164 : k0_chk164 v48) (k0_t8 : Fin (k0_t8_loop v48).trips), ∀ a, (k0_off770 v48 k0_t8) a + S1x1x1.size a ≤ S1x4x128.size a := fun v48 k0_hw164 k0_t8 => k0_hw164.2.2.2 k0_t8

def k0_mult12 : BitVec 32 :=
  let c0_i32_391 : BitVec 32 := 0#32
  c0_i32_391
def k0_off771 (v71 : BitVec 32) : Fin 1 → Nat :=
  let c16_i32_63 : BitVec 32 := 16#32
  let v72 : BitVec 32 := Scalar.remsi v71 c16_i32_63
  ![v72.toNat]
def k0_cond19 (v68 : BitVec 32) : BitVec 1 :=
  let c6_i32 : BitVec 32 := 6#32
  let v69 : BitVec 32 := Scalar.shrsi v68 c6_i32
  let c7782_i32 : BitVec 32 := 7782#32
  let v73 : BitVec 1 := Scalar.cmpi .slt v69 c7782_i32
  let v74 : BitVec 32 := Scalar.extui v73
  let c0_i32_64 : BitVec 32 := 0#32
  let v75 : BitVec 1 := Scalar.cmpi .ne v74 c0_i32_64
  v75

def k0_off772 (v71 : BitVec 32) : Fin 3 → Nat :=
  let c16_i32_63 : BitVec 32 := 16#32
  let v72 : BitVec 32 := Scalar.remsi v71 c16_i32_63
  let c0_i32_392 : BitVec 32 := 0#32
  let c0_i32_393 : BitVec 32 := 0#32
  ![v72.toNat, 0, 0]
def k0_off773 (v71 : BitVec 32) : Fin 3 → Nat :=
  let c16_i32_63 : BitVec 32 := 16#32
  let v72 : BitVec 32 := Scalar.remsi v71 c16_i32_63
  let c0_i32_395 : BitVec 32 := 0#32
  let c0_i32_396 : BitVec 32 := 0#32
  ![v72.toNat, 0, 0]
def k0_off774 (v71 : BitVec 32) : Fin 3 → Nat :=
  let c16_i32_63 : BitVec 32 := 16#32
  let v72 : BitVec 32 := Scalar.remsi v71 c16_i32_63
  let v917 : Index := Scalar.indexCast v72
  let c0_393 : Index := 0#32
  let c0_394 : Index := 0#32
  ![v917.toNat, 0, 0]
def k0_cond20 (v68 : BitVec 32) : BitVec 1 :=
  let c6_i32 : BitVec 32 := 6#32
  let v69 : BitVec 32 := Scalar.shrsi v68 c6_i32
  let c7782_i32_65 : BitVec 32 := 7782#32
  let v76 : BitVec 1 := Scalar.cmpi .sge v69 c7782_i32_65
  let v77 : BitVec 32 := Scalar.extui v76
  let c0_i32_66 : BitVec 32 := 0#32
  let v78 : BitVec 1 := Scalar.cmpi .ne v77 c0_i32_66
  v78

def k0_off775 (v71 : BitVec 32) : Fin 3 → Nat :=
  let c16_i32_63 : BitVec 32 := 16#32
  let v72 : BitVec 32 := Scalar.remsi v71 c16_i32_63
  let v922 : Index := Scalar.indexCast v72
  let c0_397 : Index := 0#32
  let c0_398 : Index := 0#32
  ![v922.toNat, 0, 0]
def k0_off776 (v71 : BitVec 32) : Fin 3 → Nat :=
  let c16_i32_63 : BitVec 32 := 16#32
  let v72 : BitVec 32 := Scalar.remsi v71 c16_i32_63
  let v84 : Index := Scalar.indexCast v72
  let c0_68 : Index := 0#32
  let c0_69 : Index := 0#32
  ![v84.toNat, 0, 0]
def k0_off777 (v68 : BitVec 32) (c0_i32_70 : BitVec 32) (c0_i32_71 : BitVec 32) : Fin 2 → Nat :=
  let c63_i32 : BitVec 32 := 63#32
  let v70 : BitVec 32 := Scalar.andi v68 c63_i32
  let c64_i32 : BitVec 32 := 64#32
  let v79 : BitVec 32 := Scalar.muli v70 c64_i32
  let c6_i32 : BitVec 32 := 6#32
  let v69 : BitVec 32 := Scalar.shrsi v68 c6_i32
  let c1_i32_67 : BitVec 32 := 1#32
  let v80 : BitVec 32 := Scalar.andi v69 c1_i32_67
  let c32_i32 : BitVec 32 := 32#32
  let v81 : BitVec 32 := Scalar.muli v80 c32_i32
  let v82 : BitVec 32 := Scalar.addi v79 v81
  let c25_i32 : BitVec 32 := 25#32
  let v83 : BitVec 32 := Scalar.muli v82 c25_i32
  let v89 : BitVec 32 := Scalar.addi v83 c0_i32_70
  let v90 : BitVec 32 := Scalar.addi v89 c0_i32_71
  let v91 : Index := Scalar.indexCast v90
  let c0_72 : Index := 0#32
  ![v91.toNat, 0]

def k0_chk173 (v68 : BitVec 32) : Prop :=
  (∀ (r₁ : Fin 4) (r₂ : Fin 25), ∀ a, S8x128.size a = 0 ∨ (k0_off777 v68 (BitVec.ofNat 32 (200 * r₁.val)) (BitVec.ofNat 32 r₂.val)) a + (![25, 1] : Fin 2 → Nat) a * (S8x128.size a - 1) < S102432x128.size a)
theorem k0_off777_inb : ∀ (v68 : BitVec 32) (k0_hw173 : k0_chk173 v68), ∀ (r₁ : Fin 4) (r₂ : Fin 25), ∀ a, S8x128.size a = 0 ∨ (k0_off777 v68 (BitVec.ofNat 32 (200 * r₁.val)) (BitVec.ofNat 32 r₂.val)) a + (![25, 1] : Fin 2 → Nat) a * (S8x128.size a - 1) < S102432x128.size a := fun v68 k0_hw173 r₁ r₂ => k0_hw173 r₁ r₂

def k0_off778 (v71 : BitVec 32) : Fin 3 → Nat :=
  let c16_i32_63 : BitVec 32 := 16#32
  let v72 : BitVec 32 := Scalar.remsi v71 c16_i32_63
  let v116 : Index := Scalar.indexCast v72
  let c0_79 : Index := 0#32
  let c128 : Index := 128#32
  ![v116.toNat, 0, 128]
def k0_off779 (v71 : BitVec 32) : Fin 3 → Nat :=
  let c16_i32_63 : BitVec 32 := 16#32
  let v72 : BitVec 32 := Scalar.remsi v71 c16_i32_63
  let v148 : Index := Scalar.indexCast v72
  let c0_92 : Index := 0#32
  let c256 : Index := 256#32
  ![v148.toNat, 0, 256]
def k0_off780 (v71 : BitVec 32) : Fin 3 → Nat :=
  let c16_i32_63 : BitVec 32 := 16#32
  let v72 : BitVec 32 := Scalar.remsi v71 c16_i32_63
  let v180 : Index := Scalar.indexCast v72
  let c0_104 : Index := 0#32
  let c384 : Index := 384#32
  ![v180.toNat, 0, 384]
def k0_off781 (v71 : BitVec 32) : Fin 3 → Nat :=
  let c16_i32_63 : BitVec 32 := 16#32
  let v72 : BitVec 32 := Scalar.remsi v71 c16_i32_63
  let v212 : Index := Scalar.indexCast v72
  let c0_116 : Index := 0#32
  let c512 : Index := 512#32
  ![v212.toNat, 0, 512]
def k0_off782 (v71 : BitVec 32) : Fin 3 → Nat :=
  let c16_i32_63 : BitVec 32 := 16#32
  let v72 : BitVec 32 := Scalar.remsi v71 c16_i32_63
  let v244 : Index := Scalar.indexCast v72
  let c0_129 : Index := 0#32
  let c640 : Index := 640#32
  ![v244.toNat, 0, 640]
def k0_off783 (v71 : BitVec 32) : Fin 3 → Nat :=
  let c16_i32_63 : BitVec 32 := 16#32
  let v72 : BitVec 32 := Scalar.remsi v71 c16_i32_63
  let v276 : Index := Scalar.indexCast v72
  let c0_141 : Index := 0#32
  let c768 : Index := 768#32
  ![v276.toNat, 0, 768]
def k0_off784 (v71 : BitVec 32) : Fin 3 → Nat :=
  let c16_i32_63 : BitVec 32 := 16#32
  let v72 : BitVec 32 := Scalar.remsi v71 c16_i32_63
  let v308 : Index := Scalar.indexCast v72
  let c0_154 : Index := 0#32
  let c896 : Index := 896#32
  ![v308.toNat, 0, 896]
def k0_off785 (v71 : BitVec 32) : Fin 3 → Nat :=
  let c16_i32_63 : BitVec 32 := 16#32
  let v72 : BitVec 32 := Scalar.remsi v71 c16_i32_63
  let v340 : Index := Scalar.indexCast v72
  let c0_166 : Index := 0#32
  let c1024 : Index := 1024#32
  ![v340.toNat, 0, 1024]
def k0_off786 (v71 : BitVec 32) : Fin 3 → Nat :=
  let c16_i32_63 : BitVec 32 := 16#32
  let v72 : BitVec 32 := Scalar.remsi v71 c16_i32_63
  let v372 : Index := Scalar.indexCast v72
  let c0_179 : Index := 0#32
  let c1152 : Index := 1152#32
  ![v372.toNat, 0, 1152]
def k0_off787 (v71 : BitVec 32) : Fin 3 → Nat :=
  let c16_i32_63 : BitVec 32 := 16#32
  let v72 : BitVec 32 := Scalar.remsi v71 c16_i32_63
  let v404 : Index := Scalar.indexCast v72
  let c0_191 : Index := 0#32
  let c1280 : Index := 1280#32
  ![v404.toNat, 0, 1280]
def k0_off788 (v71 : BitVec 32) : Fin 3 → Nat :=
  let c16_i32_63 : BitVec 32 := 16#32
  let v72 : BitVec 32 := Scalar.remsi v71 c16_i32_63
  let v436 : Index := Scalar.indexCast v72
  let c0_203 : Index := 0#32
  let c1408 : Index := 1408#32
  ![v436.toNat, 0, 1408]
def k0_off789 (v71 : BitVec 32) : Fin 3 → Nat :=
  let c16_i32_63 : BitVec 32 := 16#32
  let v72 : BitVec 32 := Scalar.remsi v71 c16_i32_63
  let v468 : Index := Scalar.indexCast v72
  let c0_215 : Index := 0#32
  let c1536 : Index := 1536#32
  ![v468.toNat, 0, 1536]
def k0_off790 (v71 : BitVec 32) : Fin 3 → Nat :=
  let c16_i32_63 : BitVec 32 := 16#32
  let v72 : BitVec 32 := Scalar.remsi v71 c16_i32_63
  let v500 : Index := Scalar.indexCast v72
  let c0_227 : Index := 0#32
  let c1664 : Index := 1664#32
  ![v500.toNat, 0, 1664]
def k0_off791 (v71 : BitVec 32) : Fin 3 → Nat :=
  let c16_i32_63 : BitVec 32 := 16#32
  let v72 : BitVec 32 := Scalar.remsi v71 c16_i32_63
  let v532 : Index := Scalar.indexCast v72
  let c0_239 : Index := 0#32
  let c1792 : Index := 1792#32
  ![v532.toNat, 0, 1792]
def k0_off792 (v71 : BitVec 32) : Fin 3 → Nat :=
  let c16_i32_63 : BitVec 32 := 16#32
  let v72 : BitVec 32 := Scalar.remsi v71 c16_i32_63
  let v564 : Index := Scalar.indexCast v72
  let c0_251 : Index := 0#32
  let c1920 : Index := 1920#32
  ![v564.toNat, 0, 1920]
def k0_off793 (v71 : BitVec 32) : Fin 3 → Nat :=
  let c16_i32_63 : BitVec 32 := 16#32
  let v72 : BitVec 32 := Scalar.remsi v71 c16_i32_63
  let v596 : Index := Scalar.indexCast v72
  let c0_263 : Index := 0#32
  let c2048 : Index := 2048#32
  ![v596.toNat, 0, 2048]
def k0_off794 (v71 : BitVec 32) : Fin 3 → Nat :=
  let c16_i32_63 : BitVec 32 := 16#32
  let v72 : BitVec 32 := Scalar.remsi v71 c16_i32_63
  let v628 : Index := Scalar.indexCast v72
  let c0_276 : Index := 0#32
  let c2176 : Index := 2176#32
  ![v628.toNat, 0, 2176]
def k0_off795 (v71 : BitVec 32) : Fin 3 → Nat :=
  let c16_i32_63 : BitVec 32 := 16#32
  let v72 : BitVec 32 := Scalar.remsi v71 c16_i32_63
  let v660 : Index := Scalar.indexCast v72
  let c0_288 : Index := 0#32
  let c2304 : Index := 2304#32
  ![v660.toNat, 0, 2304]
def k0_off796 (v71 : BitVec 32) : Fin 3 → Nat :=
  let c16_i32_63 : BitVec 32 := 16#32
  let v72 : BitVec 32 := Scalar.remsi v71 c16_i32_63
  let v692 : Index := Scalar.indexCast v72
  let c0_300 : Index := 0#32
  let c2432 : Index := 2432#32
  ![v692.toNat, 0, 2432]
def k0_off797 (v71 : BitVec 32) : Fin 3 → Nat :=
  let c16_i32_63 : BitVec 32 := 16#32
  let v72 : BitVec 32 := Scalar.remsi v71 c16_i32_63
  let v724 : Index := Scalar.indexCast v72
  let c0_312 : Index := 0#32
  let c2560 : Index := 2560#32
  ![v724.toNat, 0, 2560]
def k0_off798 (v71 : BitVec 32) : Fin 3 → Nat :=
  let c16_i32_63 : BitVec 32 := 16#32
  let v72 : BitVec 32 := Scalar.remsi v71 c16_i32_63
  let v756 : Index := Scalar.indexCast v72
  let c0_324 : Index := 0#32
  let c2688 : Index := 2688#32
  ![v756.toNat, 0, 2688]
def k0_off799 (v71 : BitVec 32) : Fin 3 → Nat :=
  let c16_i32_63 : BitVec 32 := 16#32
  let v72 : BitVec 32 := Scalar.remsi v71 c16_i32_63
  let v788 : Index := Scalar.indexCast v72
  let c0_336 : Index := 0#32
  let c2816 : Index := 2816#32
  ![v788.toNat, 0, 2816]
def k0_off800 (v71 : BitVec 32) : Fin 3 → Nat :=
  let c16_i32_63 : BitVec 32 := 16#32
  let v72 : BitVec 32 := Scalar.remsi v71 c16_i32_63
  let v820 : Index := Scalar.indexCast v72
  let c0_348 : Index := 0#32
  let c2944 : Index := 2944#32
  ![v820.toNat, 0, 2944]
def k0_off801 (v71 : BitVec 32) : Fin 3 → Nat :=
  let c16_i32_63 : BitVec 32 := 16#32
  let v72 : BitVec 32 := Scalar.remsi v71 c16_i32_63
  let v852 : Index := Scalar.indexCast v72
  let c0_360 : Index := 0#32
  let c0_361 : Index := 0#32
  ![v852.toNat, 0, 0]
def k0_off802 (v71 : BitVec 32) : Fin 3 → Nat :=
  let c16_i32_63 : BitVec 32 := 16#32
  let v72 : BitVec 32 := Scalar.remsi v71 c16_i32_63
  let v864 : Index := Scalar.indexCast v72
  let c8 : Index := 8#32
  let c0_365 : Index := 0#32
  ![v864.toNat, 8, 0]
def k0_off803 (v71 : BitVec 32) : Fin 3 → Nat :=
  let c16_i32_63 : BitVec 32 := 16#32
  let v72 : BitVec 32 := Scalar.remsi v71 c16_i32_63
  let v876 : Index := Scalar.indexCast v72
  let c16 : Index := 16#32
  let c0_370 : Index := 0#32
  ![v876.toNat, 16, 0]
def k0_off804 (v71 : BitVec 32) : Fin 3 → Nat :=
  let c16_i32_63 : BitVec 32 := 16#32
  let v72 : BitVec 32 := Scalar.remsi v71 c16_i32_63
  let v888 : Index := Scalar.indexCast v72
  let c24 : Index := 24#32
  let c0_375 : Index := 0#32
  ![v888.toNat, 24, 0]

def k0_chk172_0 (v68 : BitVec 32) (v71 : BitVec 32) : Prop :=
  (∀ (k0_h19 : k0_cond19 v68 = 1#1), ∀ a, (k0_off771 v71) a + S1.size a ≤ S16.size a) ∧
  (∀ (k0_h19 : k0_cond19 v68 = 1#1), ∀ a, (k0_off772 v71) a + S1x32x3072.size a ≤ S16x32x3072.size a) ∧
  (∀ (k0_h19 : k0_cond19 v68 = 1#1), ∀ (hinb : ∀ a, (k0_off772 v71) a + S1x32x3072.size a ≤ S16x32x3072.size a), (Rect.unit (s := S16x32x3072) (k0_off772 v71) S1x32x3072.size hinb).WholeWords (EltTy.packing .fp8e4m3)) ∧
  (∀ (k0_h19 : k0_cond19 v68 = 1#1), ∀ a, (k0_off773 v71) a + S1x32x24.size a ≤ S16x32x24.size a) ∧
  (∀ (k0_h20 : k0_cond20 v68 = 1#1), ∀ a, (k0_off774 v71) a + S1x32x3072.size a ≤ S16x32x3072.size a) ∧
  (∀ (k0_h20 : k0_cond20 v68 = 1#1), ∀ (hinb : ∀ a, (k0_off774 v71) a + S1x32x3072.size a ≤ S16x32x3072.size a), (Rect.unit (s := S16x32x3072) (k0_off774 v71) S1x32x3072.size hinb).PackedRows (EltTy.packing .fp8e4m3)) ∧
  (∀ (k0_h20 : k0_cond20 v68 = 1#1), ∀ a, (k0_off775 v71) a + S1x32x24.size a ≤ S16x32x24.size a) ∧
  (∀ a, (k0_off776 v71) a + S1x32x128.size a ≤ S16x32x3072.size a) ∧
  (∀ a, (k0_off778 v71) a + S1x32x128.size a ≤ S16x32x3072.size a) ∧
  (∀ a, (k0_off779 v71) a + S1x32x128.size a ≤ S16x32x3072.size a) ∧
  (∀ a, (k0_off780 v71) a + S1x32x128.size a ≤ S16x32x3072.size a) ∧
  (∀ a, (k0_off781 v71) a + S1x32x128.size a ≤ S16x32x3072.size a) ∧
  (∀ a, (k0_off782 v71) a + S1x32x128.size a ≤ S16x32x3072.size a) ∧
  (∀ a, (k0_off783 v71) a + S1x32x128.size a ≤ S16x32x3072.size a) ∧
  (∀ a, (k0_off784 v71) a + S1x32x128.size a ≤ S16x32x3072.size a) ∧
  (∀ a, (k0_off785 v71) a + S1x32x128.size a ≤ S16x32x3072.size a) ∧
  (∀ a, (k0_off786 v71) a + S1x32x128.size a ≤ S16x32x3072.size a) ∧
  (∀ a, (k0_off787 v71) a + S1x32x128.size a ≤ S16x32x3072.size a) ∧
  (∀ a, (k0_off788 v71) a + S1x32x128.size a ≤ S16x32x3072.size a) ∧
  (∀ a, (k0_off789 v71) a + S1x32x128.size a ≤ S16x32x3072.size a) ∧
  (∀ a, (k0_off790 v71) a + S1x32x128.size a ≤ S16x32x3072.size a) ∧
  (∀ a, (k0_off791 v71) a + S1x32x128.size a ≤ S16x32x3072.size a) ∧
  (∀ a, (k0_off792 v71) a + S1x32x128.size a ≤ S16x32x3072.size a) ∧
  (∀ a, (k0_off793 v71) a + S1x32x128.size a ≤ S16x32x3072.size a) ∧
  (∀ a, (k0_off794 v71) a + S1x32x128.size a ≤ S16x32x3072.size a) ∧
  (∀ a, (k0_off795 v71) a + S1x32x128.size a ≤ S16x32x3072.size a) ∧
  (∀ a, (k0_off796 v71) a + S1x32x128.size a ≤ S16x32x3072.size a) ∧
  (∀ a, (k0_off797 v71) a + S1x32x128.size a ≤ S16x32x3072.size a) ∧
  (∀ a, (k0_off798 v71) a + S1x32x128.size a ≤ S16x32x3072.size a) ∧
  (∀ a, (k0_off799 v71) a + S1x32x128.size a ≤ S16x32x3072.size a) ∧
  (∀ a, (k0_off800 v71) a + S1x32x128.size a ≤ S16x32x3072.size a) ∧
  (∀ a, (k0_off801 v71) a + S1x8x24.size a ≤ S16x32x24.size a)
def k0_chk172_1 (v68 : BitVec 32) (v71 : BitVec 32) : Prop :=
  (∀ a, (k0_off802 v71) a + S1x8x24.size a ≤ S16x32x24.size a) ∧
  (∀ a, (k0_off803 v71) a + S1x8x24.size a ≤ S16x32x24.size a) ∧
  (∀ a, (k0_off804 v71) a + S1x8x24.size a ≤ S16x32x24.size a)
def k0_chk172 (v68 : BitVec 32) (v71 : BitVec 32) : Prop :=
  k0_chk172_0 v68 v71 ∧
  k0_chk172_1 v68 v71
theorem k0_off771_inb : ∀ (v68 : BitVec 32) (v71 : BitVec 32) (k0_hw172 : k0_chk172 v68 v71), ∀ (k0_h19 : k0_cond19 v68 = 1#1), ∀ a, (k0_off771 v71) a + S1.size a ≤ S16.size a := fun v68 v71 k0_hw172 k0_h19 => k0_hw172.1.1 k0_h19
theorem k0_off772_inb : ∀ (v68 : BitVec 32) (v71 : BitVec 32) (k0_hw172 : k0_chk172 v68 v71), ∀ (k0_h19 : k0_cond19 v68 = 1#1), ∀ a, (k0_off772 v71) a + S1x32x3072.size a ≤ S16x32x3072.size a := fun v68 v71 k0_hw172 k0_h19 => k0_hw172.1.2.1 k0_h19
theorem k0_off772_wordsfp8e4m3 : ∀ (v68 : BitVec 32) (v71 : BitVec 32) (k0_hw172 : k0_chk172 v68 v71), ∀ (k0_h19 : k0_cond19 v68 = 1#1), (Rect.unit (s := S16x32x3072) (k0_off772 v71) S1x32x3072.size (k0_off772_inb v68 v71 k0_hw172 k0_h19)).WholeWords (EltTy.packing .fp8e4m3) := fun v68 v71 k0_hw172 k0_h19 => k0_hw172.1.2.2.1 k0_h19 (k0_off772_inb v68 v71 k0_hw172 k0_h19)
theorem k0_off773_inb : ∀ (v68 : BitVec 32) (v71 : BitVec 32) (k0_hw172 : k0_chk172 v68 v71), ∀ (k0_h19 : k0_cond19 v68 = 1#1), ∀ a, (k0_off773 v71) a + S1x32x24.size a ≤ S16x32x24.size a := fun v68 v71 k0_hw172 k0_h19 => k0_hw172.1.2.2.2.1 k0_h19
theorem k0_off774_inb : ∀ (v68 : BitVec 32) (v71 : BitVec 32) (k0_hw172 : k0_chk172 v68 v71), ∀ (k0_h20 : k0_cond20 v68 = 1#1), ∀ a, (k0_off774 v71) a + S1x32x3072.size a ≤ S16x32x3072.size a := fun v68 v71 k0_hw172 k0_h20 => k0_hw172.1.2.2.2.2.1 k0_h20
theorem k0_off774_packedfp8e4m3 : ∀ (v68 : BitVec 32) (v71 : BitVec 32) (k0_hw172 : k0_chk172 v68 v71), ∀ (k0_h20 : k0_cond20 v68 = 1#1), (Rect.unit (s := S16x32x3072) (k0_off774 v71) S1x32x3072.size (k0_off774_inb v68 v71 k0_hw172 k0_h20)).PackedRows (EltTy.packing .fp8e4m3) := fun v68 v71 k0_hw172 k0_h20 => k0_hw172.1.2.2.2.2.2.1 k0_h20 (k0_off774_inb v68 v71 k0_hw172 k0_h20)
theorem k0_off775_inb : ∀ (v68 : BitVec 32) (v71 : BitVec 32) (k0_hw172 : k0_chk172 v68 v71), ∀ (k0_h20 : k0_cond20 v68 = 1#1), ∀ a, (k0_off775 v71) a + S1x32x24.size a ≤ S16x32x24.size a := fun v68 v71 k0_hw172 k0_h20 => k0_hw172.1.2.2.2.2.2.2.1 k0_h20
theorem k0_off776_inb : ∀ (v68 : BitVec 32) (v71 : BitVec 32) (k0_hw172 : k0_chk172 v68 v71), ∀ a, (k0_off776 v71) a + S1x32x128.size a ≤ S16x32x3072.size a := fun v68 v71 k0_hw172 => k0_hw172.1.2.2.2.2.2.2.2.1
theorem k0_off778_inb : ∀ (v68 : BitVec 32) (v71 : BitVec 32) (k0_hw172 : k0_chk172 v68 v71), ∀ a, (k0_off778 v71) a + S1x32x128.size a ≤ S16x32x3072.size a := fun v68 v71 k0_hw172 => k0_hw172.1.2.2.2.2.2.2.2.2.1
theorem k0_off779_inb : ∀ (v68 : BitVec 32) (v71 : BitVec 32) (k0_hw172 : k0_chk172 v68 v71), ∀ a, (k0_off779 v71) a + S1x32x128.size a ≤ S16x32x3072.size a := fun v68 v71 k0_hw172 => k0_hw172.1.2.2.2.2.2.2.2.2.2.1
theorem k0_off780_inb : ∀ (v68 : BitVec 32) (v71 : BitVec 32) (k0_hw172 : k0_chk172 v68 v71), ∀ a, (k0_off780 v71) a + S1x32x128.size a ≤ S16x32x3072.size a := fun v68 v71 k0_hw172 => k0_hw172.1.2.2.2.2.2.2.2.2.2.2.1
theorem k0_off781_inb : ∀ (v68 : BitVec 32) (v71 : BitVec 32) (k0_hw172 : k0_chk172 v68 v71), ∀ a, (k0_off781 v71) a + S1x32x128.size a ≤ S16x32x3072.size a := fun v68 v71 k0_hw172 => k0_hw172.1.2.2.2.2.2.2.2.2.2.2.2.1
theorem k0_off782_inb : ∀ (v68 : BitVec 32) (v71 : BitVec 32) (k0_hw172 : k0_chk172 v68 v71), ∀ a, (k0_off782 v71) a + S1x32x128.size a ≤ S16x32x3072.size a := fun v68 v71 k0_hw172 => k0_hw172.1.2.2.2.2.2.2.2.2.2.2.2.2.1
theorem k0_off783_inb : ∀ (v68 : BitVec 32) (v71 : BitVec 32) (k0_hw172 : k0_chk172 v68 v71), ∀ a, (k0_off783 v71) a + S1x32x128.size a ≤ S16x32x3072.size a := fun v68 v71 k0_hw172 => k0_hw172.1.2.2.2.2.2.2.2.2.2.2.2.2.2.1
theorem k0_off784_inb : ∀ (v68 : BitVec 32) (v71 : BitVec 32) (k0_hw172 : k0_chk172 v68 v71), ∀ a, (k0_off784 v71) a + S1x32x128.size a ≤ S16x32x3072.size a := fun v68 v71 k0_hw172 => k0_hw172.1.2.2.2.2.2.2.2.2.2.2.2.2.2.2.1
theorem k0_off785_inb : ∀ (v68 : BitVec 32) (v71 : BitVec 32) (k0_hw172 : k0_chk172 v68 v71), ∀ a, (k0_off785 v71) a + S1x32x128.size a ≤ S16x32x3072.size a := fun v68 v71 k0_hw172 => k0_hw172.1.2.2.2.2.2.2.2.2.2.2.2.2.2.2.2.1
theorem k0_off786_inb : ∀ (v68 : BitVec 32) (v71 : BitVec 32) (k0_hw172 : k0_chk172 v68 v71), ∀ a, (k0_off786 v71) a + S1x32x128.size a ≤ S16x32x3072.size a := fun v68 v71 k0_hw172 => k0_hw172.1.2.2.2.2.2.2.2.2.2.2.2.2.2.2.2.2.1
theorem k0_off787_inb : ∀ (v68 : BitVec 32) (v71 : BitVec 32) (k0_hw172 : k0_chk172 v68 v71), ∀ a, (k0_off787 v71) a + S1x32x128.size a ≤ S16x32x3072.size a := fun v68 v71 k0_hw172 => k0_hw172.1.2.2.2.2.2.2.2.2.2.2.2.2.2.2.2.2.2.1
theorem k0_off788_inb : ∀ (v68 : BitVec 32) (v71 : BitVec 32) (k0_hw172 : k0_chk172 v68 v71), ∀ a, (k0_off788 v71) a + S1x32x128.size a ≤ S16x32x3072.size a := fun v68 v71 k0_hw172 => k0_hw172.1.2.2.2.2.2.2.2.2.2.2.2.2.2.2.2.2.2.2.1
theorem k0_off789_inb : ∀ (v68 : BitVec 32) (v71 : BitVec 32) (k0_hw172 : k0_chk172 v68 v71), ∀ a, (k0_off789 v71) a + S1x32x128.size a ≤ S16x32x3072.size a := fun v68 v71 k0_hw172 => k0_hw172.1.2.2.2.2.2.2.2.2.2.2.2.2.2.2.2.2.2.2.2.1
theorem k0_off790_inb : ∀ (v68 : BitVec 32) (v71 : BitVec 32) (k0_hw172 : k0_chk172 v68 v71), ∀ a, (k0_off790 v71) a + S1x32x128.size a ≤ S16x32x3072.size a := fun v68 v71 k0_hw172 => k0_hw172.1.2.2.2.2.2.2.2.2.2.2.2.2.2.2.2.2.2.2.2.2.1
theorem k0_off791_inb : ∀ (v68 : BitVec 32) (v71 : BitVec 32) (k0_hw172 : k0_chk172 v68 v71), ∀ a, (k0_off791 v71) a + S1x32x128.size a ≤ S16x32x3072.size a := fun v68 v71 k0_hw172 => k0_hw172.1.2.2.2.2.2.2.2.2.2.2.2.2.2.2.2.2.2.2.2.2.2.1
theorem k0_off792_inb : ∀ (v68 : BitVec 32) (v71 : BitVec 32) (k0_hw172 : k0_chk172 v68 v71), ∀ a, (k0_off792 v71) a + S1x32x128.size a ≤ S16x32x3072.size a := fun v68 v71 k0_hw172 => k0_hw172.1.2.2.2.2.2.2.2.2.2.2.2.2.2.2.2.2.2.2.2.2.2.2.1
theorem k0_off793_inb : ∀ (v68 : BitVec 32) (v71 : BitVec 32) (k0_hw172 : k0_chk172 v68 v71), ∀ a, (k0_off793 v71) a + S1x32x128.size a ≤ S16x32x3072.size a := fun v68 v71 k0_hw172 => k0_hw172.1.2.2.2.2.2.2.2.2.2.2.2.2.2.2.2.2.2.2.2.2.2.2.2.1
theorem k0_off794_inb : ∀ (v68 : BitVec 32) (v71 : BitVec 32) (k0_hw172 : k0_chk172 v68 v71), ∀ a, (k0_off794 v71) a + S1x32x128.size a ≤ S16x32x3072.size a := fun v68 v71 k0_hw172 => k0_hw172.1.2.2.2.2.2.2.2.2.2.2.2.2.2.2.2.2.2.2.2.2.2.2.2.2.1
theorem k0_off795_inb : ∀ (v68 : BitVec 32) (v71 : BitVec 32) (k0_hw172 : k0_chk172 v68 v71), ∀ a, (k0_off795 v71) a + S1x32x128.size a ≤ S16x32x3072.size a := fun v68 v71 k0_hw172 => k0_hw172.1.2.2.2.2.2.2.2.2.2.2.2.2.2.2.2.2.2.2.2.2.2.2.2.2.2.1
theorem k0_off796_inb : ∀ (v68 : BitVec 32) (v71 : BitVec 32) (k0_hw172 : k0_chk172 v68 v71), ∀ a, (k0_off796 v71) a + S1x32x128.size a ≤ S16x32x3072.size a := fun v68 v71 k0_hw172 => k0_hw172.1.2.2.2.2.2.2.2.2.2.2.2.2.2.2.2.2.2.2.2.2.2.2.2.2.2.2.1
theorem k0_off797_inb : ∀ (v68 : BitVec 32) (v71 : BitVec 32) (k0_hw172 : k0_chk172 v68 v71), ∀ a, (k0_off797 v71) a + S1x32x128.size a ≤ S16x32x3072.size a := fun v68 v71 k0_hw172 => k0_hw172.1.2.2.2.2.2.2.2.2.2.2.2.2.2.2.2.2.2.2.2.2.2.2.2.2.2.2.2.1
theorem k0_off798_inb : ∀ (v68 : BitVec 32) (v71 : BitVec 32) (k0_hw172 : k0_chk172 v68 v71), ∀ a, (k0_off798 v71) a + S1x32x128.size a ≤ S16x32x3072.size a := fun v68 v71 k0_hw172 => k0_hw172.1.2.2.2.2.2.2.2.2.2.2.2.2.2.2.2.2.2.2.2.2.2.2.2.2.2.2.2.2.1
theorem k0_off799_inb : ∀ (v68 : BitVec 32) (v71 : BitVec 32) (k0_hw172 : k0_chk172 v68 v71), ∀ a, (k0_off799 v71) a + S1x32x128.size a ≤ S16x32x3072.size a := fun v68 v71 k0_hw172 => k0_hw172.1.2.2.2.2.2.2.2.2.2.2.2.2.2.2.2.2.2.2.2.2.2.2.2.2.2.2.2.2.2.1
theorem k0_off800_inb : ∀ (v68 : BitVec 32) (v71 : BitVec 32) (k0_hw172 : k0_chk172 v68 v71), ∀ a, (k0_off800 v71) a + S1x32x128.size a ≤ S16x32x3072.size a := fun v68 v71 k0_hw172 => k0_hw172.1.2.2.2.2.2.2.2.2.2.2.2.2.2.2.2.2.2.2.2.2.2.2.2.2.2.2.2.2.2.2.1
theorem k0_off801_inb : ∀ (v68 : BitVec 32) (v71 : BitVec 32) (k0_hw172 : k0_chk172 v68 v71), ∀ a, (k0_off801 v71) a + S1x8x24.size a ≤ S16x32x24.size a := fun v68 v71 k0_hw172 => k0_hw172.1.2.2.2.2.2.2.2.2.2.2.2.2.2.2.2.2.2.2.2.2.2.2.2.2.2.2.2.2.2.2.2
theorem k0_off802_inb : ∀ (v68 : BitVec 32) (v71 : BitVec 32) (k0_hw172 : k0_chk172 v68 v71), ∀ a, (k0_off802 v71) a + S1x8x24.size a ≤ S16x32x24.size a := fun v68 v71 k0_hw172 => k0_hw172.2.1
theorem k0_off803_inb : ∀ (v68 : BitVec 32) (v71 : BitVec 32) (k0_hw172 : k0_chk172 v68 v71), ∀ a, (k0_off803 v71) a + S1x8x24.size a ≤ S16x32x24.size a := fun v68 v71 k0_hw172 => k0_hw172.2.2.1
theorem k0_off804_inb : ∀ (v68 : BitVec 32) (v71 : BitVec 32) (k0_hw172 : k0_chk172 v68 v71), ∀ a, (k0_off804 v71) a + S1x8x24.size a ≤ S16x32x24.size a := fun v68 v71 k0_hw172 => k0_hw172.2.2.2

def k0_off805 (i : grid0.Coords) (arg22 : BitVec 32) : Fin 3 → Nat :=
  let c0_394 : Index := 0#32
  let c0_395 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_391 : BitVec 32 := 1#32
  let v916 : BitVec 32 := Scalar.subi v5 c1_i32_391
  let v917 : BitVec 32 := Scalar.minsi arg22 v916
  let c4_i32_392 : BitVec 32 := 4#32
  let v918 : BitVec 1 := Scalar.cmpi .slt v917 c4_i32_392
  let c0_i32_393 : BitVec 32 := 0#32
  let v919 : BitVec 32 := Scalar.select v918 v917 c0_i32_393
  let v920 : Index := Scalar.indexCast v919
  ![0, 0, v920.toNat]

def k0_off806 (i : grid0.Coords) (arg22 : BitVec 32) : Fin 3 → Nat :=
  let c0_398 : Index := 0#32
  let c0_399 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_391 : BitVec 32 := 1#32
  let v916 : BitVec 32 := Scalar.subi v5 c1_i32_391
  let v917 : BitVec 32 := Scalar.minsi arg22 v916
  let c4_i32_392 : BitVec 32 := 4#32
  let v918 : BitVec 1 := Scalar.cmpi .slt v917 c4_i32_392
  let c0_i32_397 : BitVec 32 := 0#32
  let c4_i32_396 : BitVec 32 := 4#32
  let v922 : BitVec 32 := Scalar.subi v917 c4_i32_396
  let v923 : BitVec 32 := Scalar.select v918 c0_i32_397 v922
  let v924 : Index := Scalar.indexCast v923
  ![0, 0, v924.toNat]

def k0_chk174 (i : grid0.Coords) (arg22 : BitVec 32) : Prop :=
  (∀ a, (k0_off805 i arg22) a + S1x1x1.size a ≤ S1x1x4.size a) ∧
  (∀ a, (k0_off806 i arg22) a + S1x1x1.size a ≤ S1x1x4.size a)
theorem k0_off805_inb : ∀ (i : grid0.Coords) (arg22 : BitVec 32) (k0_hw174 : k0_chk174 i arg22), ∀ a, (k0_off805 i arg22) a + S1x1x1.size a ≤ S1x1x4.size a := fun i arg22 k0_hw174 => k0_hw174.1
theorem k0_off806_inb : ∀ (i : grid0.Coords) (arg22 : BitVec 32) (k0_hw174 : k0_chk174 i arg22), ∀ a, (k0_off806 i arg22) a + S1x1x1.size a ≤ S1x1x4.size a := fun i arg22 k0_hw174 => k0_hw174.2

def k0_off807 (v915 : BitVec 32) (v916 : BitVec 32) : Fin 3 → Nat :=
  let c0_395 : Index := 0#32
  let c4_i32_393 : BitVec 32 := 4#32
  let v917 : BitVec 1 := Scalar.cmpi .slt v915 c4_i32_393
  let c0_i32_394 : BitVec 32 := 0#32
  let v918 : BitVec 32 := Scalar.select v917 v915 c0_i32_394
  let v919 : Index := Scalar.indexCast v918
  let v920 : Index := Scalar.indexCast v916
  ![0, v919.toNat, v920.toNat]

def k0_off808 (v915 : BitVec 32) (v916 : BitVec 32) : Fin 3 → Nat :=
  let c0_398 : Index := 0#32
  let c4_i32_393 : BitVec 32 := 4#32
  let v917 : BitVec 1 := Scalar.cmpi .slt v915 c4_i32_393
  let c0_i32_397 : BitVec 32 := 0#32
  let c4_i32_396 : BitVec 32 := 4#32
  let v922 : BitVec 32 := Scalar.subi v915 c4_i32_396
  let v923 : BitVec 32 := Scalar.select v917 c0_i32_397 v922
  let v924 : Index := Scalar.indexCast v923
  let v925 : Index := Scalar.indexCast v916
  ![0, v924.toNat, v925.toNat]

def k0_chk175 (v915 : BitVec 32) (v916 : BitVec 32) : Prop :=
  (∀ a, (k0_off807 v915 v916) a + S1x1x1.size a ≤ S1x4x128.size a) ∧
  (∀ a, (k0_off808 v915 v916) a + S1x1x1.size a ≤ S1x4x128.size a)
theorem k0_off807_inb : ∀ (v915 : BitVec 32) (v916 : BitVec 32) (k0_hw175 : k0_chk175 v915 v916), ∀ a, (k0_off807 v915 v916) a + S1x1x1.size a ≤ S1x4x128.size a := fun v915 v916 k0_hw175 => k0_hw175.1
theorem k0_off808_inb : ∀ (v915 : BitVec 32) (v916 : BitVec 32) (k0_hw175 : k0_chk175 v915 v916), ∀ a, (k0_off808 v915 v916) a + S1x1x1.size a ≤ S1x4x128.size a := fun v915 v916 k0_hw175 => k0_hw175.2

def k0_mult13 (v915 : BitVec 32) (v921 : BitVec 32) (v926 : BitVec 32) : BitVec 32 :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  v950
def k0_cond21 (v915 : BitVec 32) (v921 : BitVec 32) (v926 : BitVec 32) : BitVec 1 :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c7782_i32_402 : BitVec 32 := 7782#32
  let v931 : BitVec 1 := Scalar.cmpi .slt v928 c7782_i32_402
  let v932 : BitVec 32 := Scalar.extui v931
  let c0_i32_403 : BitVec 32 := 0#32
  let v933 : BitVec 1 := Scalar.cmpi .ne v932 c0_i32_403
  v933

def k0_off809 (v929 : BitVec 32) : Fin 1 → Nat :=
  let c16_i32_401 : BitVec 32 := 16#32
  let v930 : BitVec 32 := Scalar.remsi v929 c16_i32_401
  ![v930.toNat]

def k0_off810 (v929 : BitVec 32) : Fin 3 → Nat :=
  let c16_i32_401 : BitVec 32 := 16#32
  let v930 : BitVec 32 := Scalar.remsi v929 c16_i32_401
  let c0_i32_417 : BitVec 32 := 0#32
  let c0_i32_418 : BitVec 32 := 0#32
  ![v930.toNat, 0, 0]
def k0_off811 (v915 : BitVec 32) (v921 : BitVec 32) (v926 : BitVec 32) : Fin 2 → Nat :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  let v951 : BitVec 32 := v950
  let c0_i32_419 : BitVec 32 := 0#32
  ![v951.toNat, 0]
def k0_off812 (v929 : BitVec 32) : Fin 3 → Nat :=
  let c16_i32_401 : BitVec 32 := 16#32
  let v930 : BitVec 32 := Scalar.remsi v929 c16_i32_401
  let c0_i32_420 : BitVec 32 := 0#32
  let c0_i32_421 : BitVec 32 := 0#32
  ![v930.toNat, 0, 0]

def k0_chk177 (v915 : BitVec 32) (v921 : BitVec 32) (v926 : BitVec 32) (v929 : BitVec 32) : Prop :=
  (∀ (k0_h21 : k0_cond21 v915 v921 v926 = 1#1), ∀ a, (k0_off809 v929) a + S1.size a ≤ S16.size a) ∧
  (∀ (k0_h21 : k0_cond21 v915 v921 v926 = 1#1), ∀ a, (k0_off810 v929) a + S1x32x3072.size a ≤ S16x32x3072.size a) ∧
  (∀ (k0_h21 : k0_cond21 v915 v921 v926 = 1#1), ∀ (hinb : ∀ a, (k0_off810 v929) a + S1x32x3072.size a ≤ S16x32x3072.size a), (Rect.unit (s := S16x32x3072) (k0_off810 v929) S1x32x3072.size hinb).WholeWords (EltTy.packing .fp8e4m3)) ∧
  (∀ (k0_h21 : k0_cond21 v915 v921 v926 = 1#1), ∀ a, (k0_off812 v929) a + S1x32x24.size a ≤ S16x32x24.size a)
theorem k0_off809_inb : ∀ (v915 : BitVec 32) (v921 : BitVec 32) (v926 : BitVec 32) (v929 : BitVec 32) (k0_hw177 : k0_chk177 v915 v921 v926 v929), ∀ (k0_h21 : k0_cond21 v915 v921 v926 = 1#1), ∀ a, (k0_off809 v929) a + S1.size a ≤ S16.size a := fun v915 v921 v926 v929 k0_hw177 k0_h21 => k0_hw177.1 k0_h21
theorem k0_off810_inb : ∀ (v915 : BitVec 32) (v921 : BitVec 32) (v926 : BitVec 32) (v929 : BitVec 32) (k0_hw177 : k0_chk177 v915 v921 v926 v929), ∀ (k0_h21 : k0_cond21 v915 v921 v926 = 1#1), ∀ a, (k0_off810 v929) a + S1x32x3072.size a ≤ S16x32x3072.size a := fun v915 v921 v926 v929 k0_hw177 k0_h21 => k0_hw177.2.1 k0_h21
theorem k0_off810_wordsfp8e4m3 : ∀ (v915 : BitVec 32) (v921 : BitVec 32) (v926 : BitVec 32) (v929 : BitVec 32) (k0_hw177 : k0_chk177 v915 v921 v926 v929), ∀ (k0_h21 : k0_cond21 v915 v921 v926 = 1#1), (Rect.unit (s := S16x32x3072) (k0_off810 v929) S1x32x3072.size (k0_off810_inb v915 v921 v926 v929 k0_hw177 k0_h21)).WholeWords (EltTy.packing .fp8e4m3) := fun v915 v921 v926 v929 k0_hw177 k0_h21 => k0_hw177.2.2.1 k0_h21 (k0_off810_inb v915 v921 v926 v929 k0_hw177 k0_h21)
theorem k0_off812_inb : ∀ (v915 : BitVec 32) (v921 : BitVec 32) (v926 : BitVec 32) (v929 : BitVec 32) (k0_hw177 : k0_chk177 v915 v921 v926 v929), ∀ (k0_h21 : k0_cond21 v915 v921 v926 = 1#1), ∀ a, (k0_off812 v929) a + S1x32x24.size a ≤ S16x32x24.size a := fun v915 v921 v926 v929 k0_hw177 k0_h21 => k0_hw177.2.2.2 k0_h21

def k0_off813 (v915 : BitVec 32) (v921 : BitVec 32) (v926 : BitVec 32) : Fin 2 → Nat :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  let v951 : BitVec 32 := v950
  let c0_i32_422 : BitVec 32 := 0#32
  ![v951.toNat, 0]

def k0_chk176 (v915 : BitVec 32) (v921 : BitVec 32) (v926 : BitVec 32) : Prop :=
  (∀ (k0_h21 : k0_cond21 v915 v921 v926 = 1#1), 32 ∣ (k0_mult13 v915 v921 v926).toNat) ∧
  (∀ (k0_h21 : k0_cond21 v915 v921 v926 = 1#1), ∀ a, (k0_off811 v915 v921 v926) a + S32x3072.size a ≤ S249037x3072.size a) ∧
  (∀ (k0_h21 : k0_cond21 v915 v921 v926 = 1#1), ∀ (hinb : ∀ a, (k0_off811 v915 v921 v926) a + S32x3072.size a ≤ S249037x3072.size a), (Rect.unit (s := S249037x3072) (k0_off811 v915 v921 v926) S32x3072.size hinb).WholeWords (EltTy.packing .fp8e4m3)) ∧
  (∀ (k0_h21 : k0_cond21 v915 v921 v926 = 1#1), ∀ a, (k0_off813 v915 v921 v926) a + S32x24.size a ≤ S249037x24.size a)
theorem k0_mult13_dvd : ∀ (v915 : BitVec 32) (v921 : BitVec 32) (v926 : BitVec 32) (k0_hw176 : k0_chk176 v915 v921 v926), ∀ (k0_h21 : k0_cond21 v915 v921 v926 = 1#1), 32 ∣ (k0_mult13 v915 v921 v926).toNat := fun v915 v921 v926 k0_hw176 k0_h21 => k0_hw176.1 k0_h21
theorem k0_off811_inb : ∀ (v915 : BitVec 32) (v921 : BitVec 32) (v926 : BitVec 32) (k0_hw176 : k0_chk176 v915 v921 v926), ∀ (k0_h21 : k0_cond21 v915 v921 v926 = 1#1), ∀ a, (k0_off811 v915 v921 v926) a + S32x3072.size a ≤ S249037x3072.size a := fun v915 v921 v926 k0_hw176 k0_h21 => k0_hw176.2.1 k0_h21
theorem k0_off811_wordsfp8e4m3 : ∀ (v915 : BitVec 32) (v921 : BitVec 32) (v926 : BitVec 32) (k0_hw176 : k0_chk176 v915 v921 v926), ∀ (k0_h21 : k0_cond21 v915 v921 v926 = 1#1), (Rect.unit (s := S249037x3072) (k0_off811 v915 v921 v926) S32x3072.size (k0_off811_inb v915 v921 v926 k0_hw176 k0_h21)).WholeWords (EltTy.packing .fp8e4m3) := fun v915 v921 v926 k0_hw176 k0_h21 => k0_hw176.2.2.1 k0_h21 (k0_off811_inb v915 v921 v926 k0_hw176 k0_h21)
theorem k0_off813_inb : ∀ (v915 : BitVec 32) (v921 : BitVec 32) (v926 : BitVec 32) (k0_hw176 : k0_chk176 v915 v921 v926), ∀ (k0_h21 : k0_cond21 v915 v921 v926 = 1#1), ∀ a, (k0_off813 v915 v921 v926) a + S32x24.size a ≤ S249037x24.size a := fun v915 v921 v926 k0_hw176 k0_h21 => k0_hw176.2.2.2 k0_h21

def k0_off814 (i : grid0.Coords) (arg23 : BitVec 32) : Fin 3 → Nat :=
  let c0_419 : Index := 0#32
  let c0_420 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_416 : BitVec 32 := 1#32
  let v951 : BitVec 32 := Scalar.subi v5 c1_i32_416
  let v952 : BitVec 32 := Scalar.minsi arg23 v951
  let c4_i32_417 : BitVec 32 := 4#32
  let v953 : BitVec 1 := Scalar.cmpi .slt v952 c4_i32_417
  let c0_i32_418 : BitVec 32 := 0#32
  let v954 : BitVec 32 := Scalar.select v953 v952 c0_i32_418
  let v955 : Index := Scalar.indexCast v954
  ![0, 0, v955.toNat]

def k0_off815 (i : grid0.Coords) (arg23 : BitVec 32) : Fin 3 → Nat :=
  let c0_423 : Index := 0#32
  let c0_424 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_416 : BitVec 32 := 1#32
  let v951 : BitVec 32 := Scalar.subi v5 c1_i32_416
  let v952 : BitVec 32 := Scalar.minsi arg23 v951
  let c4_i32_417 : BitVec 32 := 4#32
  let v953 : BitVec 1 := Scalar.cmpi .slt v952 c4_i32_417
  let c0_i32_422 : BitVec 32 := 0#32
  let c4_i32_421 : BitVec 32 := 4#32
  let v957 : BitVec 32 := Scalar.subi v952 c4_i32_421
  let v958 : BitVec 32 := Scalar.select v953 c0_i32_422 v957
  let v959 : Index := Scalar.indexCast v958
  ![0, 0, v959.toNat]

def k0_chk178 (i : grid0.Coords) (arg23 : BitVec 32) : Prop :=
  (∀ a, (k0_off814 i arg23) a + S1x1x1.size a ≤ S1x1x4.size a) ∧
  (∀ a, (k0_off815 i arg23) a + S1x1x1.size a ≤ S1x1x4.size a)
theorem k0_off814_inb : ∀ (i : grid0.Coords) (arg23 : BitVec 32) (k0_hw178 : k0_chk178 i arg23), ∀ a, (k0_off814 i arg23) a + S1x1x1.size a ≤ S1x1x4.size a := fun i arg23 k0_hw178 => k0_hw178.1
theorem k0_off815_inb : ∀ (i : grid0.Coords) (arg23 : BitVec 32) (k0_hw178 : k0_chk178 i arg23), ∀ a, (k0_off815 i arg23) a + S1x1x1.size a ≤ S1x1x4.size a := fun i arg23 k0_hw178 => k0_hw178.2

@[reducible] def k0_t9_loop : Scf.Loop 32 :=
  let c0_i32_40 : BitVec 32 := 0#32
  let c4_i32_41 : BitVec 32 := 4#32
  let v56 : BitVec 32 := Scalar.addi c0_i32_40 c4_i32_41
  let c1_i32_42 : BitVec 32 := 1#32
  ⟨c0_i32_40, v56, c1_i32_42⟩
def k0_off816 (k0_t9 : Fin k0_t9_loop.trips) : Fin 2 → Nat :=
  let c0_62 : Index := 0#32
  let c64_i32 : BitVec 32 := 64#32
  let c0_i32_40 : BitVec 32 := 0#32
  let c1_i32_42 : BitVec 32 := 1#32
  let arg20 : BitVec 32 := Scf.iv c0_i32_40 c1_i32_42 k0_t9
  let c8_i32_60 : BitVec 32 := 8#32
  let v67 : BitVec 32 := Scalar.muli arg20 c8_i32_60
  let v68 : BitVec 32 := Scalar.addi c64_i32 v67
  let c0_i32_61 : BitVec 32 := 0#32
  let v69 : BitVec 32 := Scalar.addi v68 c0_i32_61
  let v70 : Index := Scalar.indexCast v69
  ![0, v70.toNat]
def k0_off817 (v71 : BitVec 32) : Fin 2 → Nat :=
  let c24_i32 : BitVec 32 := 24#32
  let v72 : BitVec 32 := Scalar.addi v71 c24_i32
  let v73 : Index := Scalar.indexCast v72
  let c0_63 : Index := 0#32
  ![v73.toNat, 0]

def k0_off818 (k0_t9 : Fin k0_t9_loop.trips) : Fin 2 → Nat :=
  let c0_64 : Index := 0#32
  let c64_i32 : BitVec 32 := 64#32
  let c0_i32_40 : BitVec 32 := 0#32
  let c1_i32_42 : BitVec 32 := 1#32
  let arg20 : BitVec 32 := Scf.iv c0_i32_40 c1_i32_42 k0_t9
  let c8_i32_60 : BitVec 32 := 8#32
  let v67 : BitVec 32 := Scalar.muli arg20 c8_i32_60
  let v68 : BitVec 32 := Scalar.addi c64_i32 v67
  let c0_i32_61 : BitVec 32 := 0#32
  let v69 : BitVec 32 := Scalar.addi v68 c0_i32_61
  let v75 : Index := Scalar.indexCast v69
  ![0, v75.toNat]
def k0_off819 (v71 : BitVec 32) (c0_i32_66 : BitVec 32) : Fin 2 → Nat :=
  let v89 : BitVec 32 := Scalar.addi v71 c0_i32_66
  let v90 : Index := Scalar.indexCast v89
  let c0_67 : Index := 0#32
  ![v90.toNat, 0]

def k0_chk179 (v71 : BitVec 32) : Prop :=
  (∀ a, (k0_off817 v71) a + S1x128.size a ≤ S102432x128.size a) ∧
  (∀ (r : Fin 3), ∀ a, (k0_off819 v71 (BitVec.ofNat 32 (8 * r.val))) a + S8x128.size a ≤ S102432x128.size a)
theorem k0_off817_inb : ∀ (v71 : BitVec 32) (k0_hw179 : k0_chk179 v71), ∀ a, (k0_off817 v71) a + S1x128.size a ≤ S102432x128.size a := fun v71 k0_hw179 => k0_hw179.1
theorem k0_off819_inb : ∀ (v71 : BitVec 32) (k0_hw179 : k0_chk179 v71), ∀ (r : Fin 3), ∀ a, (k0_off819 v71 (BitVec.ofNat 32 (8 * r.val))) a + S8x128.size a ≤ S102432x128.size a := fun v71 k0_hw179 r => k0_hw179.2 r

def k0_off820 (k0_t9 : Fin k0_t9_loop.trips) : Fin 2 → Nat :=
  let c1_76 : Index := 1#32
  let c64_i32 : BitVec 32 := 64#32
  let c0_i32_40 : BitVec 32 := 0#32
  let c1_i32_42 : BitVec 32 := 1#32
  let arg20 : BitVec 32 := Scf.iv c0_i32_40 c1_i32_42 k0_t9
  let c8_i32_60 : BitVec 32 := 8#32
  let v67 : BitVec 32 := Scalar.muli arg20 c8_i32_60
  let v68 : BitVec 32 := Scalar.addi c64_i32 v67
  let c0_i32_61 : BitVec 32 := 0#32
  let v69 : BitVec 32 := Scalar.addi v68 c0_i32_61
  let v117 : Index := Scalar.indexCast v69
  ![1, v117.toNat]
def k0_off821 (v118 : BitVec 32) : Fin 2 → Nat :=
  let c24_i32_77 : BitVec 32 := 24#32
  let v119 : BitVec 32 := Scalar.addi v118 c24_i32_77
  let v120 : Index := Scalar.indexCast v119
  let c0_78 : Index := 0#32
  ![v120.toNat, 0]

def k0_off822 (k0_t9 : Fin k0_t9_loop.trips) : Fin 2 → Nat :=
  let c1_79 : Index := 1#32
  let c64_i32 : BitVec 32 := 64#32
  let c0_i32_40 : BitVec 32 := 0#32
  let c1_i32_42 : BitVec 32 := 1#32
  let arg20 : BitVec 32 := Scf.iv c0_i32_40 c1_i32_42 k0_t9
  let c8_i32_60 : BitVec 32 := 8#32
  let v67 : BitVec 32 := Scalar.muli arg20 c8_i32_60
  let v68 : BitVec 32 := Scalar.addi c64_i32 v67
  let c0_i32_61 : BitVec 32 := 0#32
  let v69 : BitVec 32 := Scalar.addi v68 c0_i32_61
  let v122 : Index := Scalar.indexCast v69
  ![1, v122.toNat]
def k0_off823 (v118 : BitVec 32) (c0_i32_82 : BitVec 32) : Fin 2 → Nat :=
  let v136 : BitVec 32 := Scalar.addi v118 c0_i32_82
  let v137 : Index := Scalar.indexCast v136
  let c0_83 : Index := 0#32
  ![v137.toNat, 0]

def k0_chk180 (v118 : BitVec 32) : Prop :=
  (∀ a, (k0_off821 v118) a + S1x128.size a ≤ S102432x128.size a) ∧
  (∀ (r : Fin 3), ∀ a, (k0_off823 v118 (BitVec.ofNat 32 (8 * r.val))) a + S8x128.size a ≤ S102432x128.size a)
theorem k0_off821_inb : ∀ (v118 : BitVec 32) (k0_hw180 : k0_chk180 v118), ∀ a, (k0_off821 v118) a + S1x128.size a ≤ S102432x128.size a := fun v118 k0_hw180 => k0_hw180.1
theorem k0_off823_inb : ∀ (v118 : BitVec 32) (k0_hw180 : k0_chk180 v118), ∀ (r : Fin 3), ∀ a, (k0_off823 v118 (BitVec.ofNat 32 (8 * r.val))) a + S8x128.size a ≤ S102432x128.size a := fun v118 k0_hw180 r => k0_hw180.2 r

def k0_off824 (k0_t9 : Fin k0_t9_loop.trips) : Fin 2 → Nat :=
  let c2_92 : Index := 2#32
  let c64_i32 : BitVec 32 := 64#32
  let c0_i32_40 : BitVec 32 := 0#32
  let c1_i32_42 : BitVec 32 := 1#32
  let arg20 : BitVec 32 := Scf.iv c0_i32_40 c1_i32_42 k0_t9
  let c8_i32_60 : BitVec 32 := 8#32
  let v67 : BitVec 32 := Scalar.muli arg20 c8_i32_60
  let v68 : BitVec 32 := Scalar.addi c64_i32 v67
  let c0_i32_61 : BitVec 32 := 0#32
  let v69 : BitVec 32 := Scalar.addi v68 c0_i32_61
  let v167 : Index := Scalar.indexCast v69
  ![2, v167.toNat]
def k0_off825 (v168 : BitVec 32) : Fin 2 → Nat :=
  let c24_i32_93 : BitVec 32 := 24#32
  let v169 : BitVec 32 := Scalar.addi v168 c24_i32_93
  let v170 : Index := Scalar.indexCast v169
  let c0_94 : Index := 0#32
  ![v170.toNat, 0]

def k0_off826 (k0_t9 : Fin k0_t9_loop.trips) : Fin 2 → Nat :=
  let c2_95 : Index := 2#32
  let c64_i32 : BitVec 32 := 64#32
  let c0_i32_40 : BitVec 32 := 0#32
  let c1_i32_42 : BitVec 32 := 1#32
  let arg20 : BitVec 32 := Scf.iv c0_i32_40 c1_i32_42 k0_t9
  let c8_i32_60 : BitVec 32 := 8#32
  let v67 : BitVec 32 := Scalar.muli arg20 c8_i32_60
  let v68 : BitVec 32 := Scalar.addi c64_i32 v67
  let c0_i32_61 : BitVec 32 := 0#32
  let v69 : BitVec 32 := Scalar.addi v68 c0_i32_61
  let v172 : Index := Scalar.indexCast v69
  ![2, v172.toNat]
def k0_off827 (v168 : BitVec 32) (c0_i32_98 : BitVec 32) : Fin 2 → Nat :=
  let v186 : BitVec 32 := Scalar.addi v168 c0_i32_98
  let v187 : Index := Scalar.indexCast v186
  let c0_99 : Index := 0#32
  ![v187.toNat, 0]

def k0_chk181 (v168 : BitVec 32) : Prop :=
  (∀ a, (k0_off825 v168) a + S1x128.size a ≤ S102432x128.size a) ∧
  (∀ (r : Fin 3), ∀ a, (k0_off827 v168 (BitVec.ofNat 32 (8 * r.val))) a + S8x128.size a ≤ S102432x128.size a)
theorem k0_off825_inb : ∀ (v168 : BitVec 32) (k0_hw181 : k0_chk181 v168), ∀ a, (k0_off825 v168) a + S1x128.size a ≤ S102432x128.size a := fun v168 k0_hw181 => k0_hw181.1
theorem k0_off827_inb : ∀ (v168 : BitVec 32) (k0_hw181 : k0_chk181 v168), ∀ (r : Fin 3), ∀ a, (k0_off827 v168 (BitVec.ofNat 32 (8 * r.val))) a + S8x128.size a ≤ S102432x128.size a := fun v168 k0_hw181 r => k0_hw181.2 r

def k0_off828 (k0_t9 : Fin k0_t9_loop.trips) : Fin 2 → Nat :=
  let c3_108 : Index := 3#32
  let c64_i32 : BitVec 32 := 64#32
  let c0_i32_40 : BitVec 32 := 0#32
  let c1_i32_42 : BitVec 32 := 1#32
  let arg20 : BitVec 32 := Scf.iv c0_i32_40 c1_i32_42 k0_t9
  let c8_i32_60 : BitVec 32 := 8#32
  let v67 : BitVec 32 := Scalar.muli arg20 c8_i32_60
  let v68 : BitVec 32 := Scalar.addi c64_i32 v67
  let c0_i32_61 : BitVec 32 := 0#32
  let v69 : BitVec 32 := Scalar.addi v68 c0_i32_61
  let v217 : Index := Scalar.indexCast v69
  ![3, v217.toNat]
def k0_off829 (v218 : BitVec 32) : Fin 2 → Nat :=
  let c24_i32_109 : BitVec 32 := 24#32
  let v219 : BitVec 32 := Scalar.addi v218 c24_i32_109
  let v220 : Index := Scalar.indexCast v219
  let c0_110 : Index := 0#32
  ![v220.toNat, 0]

def k0_off830 (k0_t9 : Fin k0_t9_loop.trips) : Fin 2 → Nat :=
  let c3_111 : Index := 3#32
  let c64_i32 : BitVec 32 := 64#32
  let c0_i32_40 : BitVec 32 := 0#32
  let c1_i32_42 : BitVec 32 := 1#32
  let arg20 : BitVec 32 := Scf.iv c0_i32_40 c1_i32_42 k0_t9
  let c8_i32_60 : BitVec 32 := 8#32
  let v67 : BitVec 32 := Scalar.muli arg20 c8_i32_60
  let v68 : BitVec 32 := Scalar.addi c64_i32 v67
  let c0_i32_61 : BitVec 32 := 0#32
  let v69 : BitVec 32 := Scalar.addi v68 c0_i32_61
  let v222 : Index := Scalar.indexCast v69
  ![3, v222.toNat]
def k0_off831 (v218 : BitVec 32) (c0_i32_114 : BitVec 32) : Fin 2 → Nat :=
  let v236 : BitVec 32 := Scalar.addi v218 c0_i32_114
  let v237 : Index := Scalar.indexCast v236
  let c0_115 : Index := 0#32
  ![v237.toNat, 0]

def k0_chk182 (v218 : BitVec 32) : Prop :=
  (∀ a, (k0_off829 v218) a + S1x128.size a ≤ S102432x128.size a) ∧
  (∀ (r : Fin 3), ∀ a, (k0_off831 v218 (BitVec.ofNat 32 (8 * r.val))) a + S8x128.size a ≤ S102432x128.size a)
theorem k0_off829_inb : ∀ (v218 : BitVec 32) (k0_hw182 : k0_chk182 v218), ∀ a, (k0_off829 v218) a + S1x128.size a ≤ S102432x128.size a := fun v218 k0_hw182 => k0_hw182.1
theorem k0_off831_inb : ∀ (v218 : BitVec 32) (k0_hw182 : k0_chk182 v218), ∀ (r : Fin 3), ∀ a, (k0_off831 v218 (BitVec.ofNat 32 (8 * r.val))) a + S8x128.size a ≤ S102432x128.size a := fun v218 k0_hw182 r => k0_hw182.2 r

def k0_off832 (k0_t9 : Fin k0_t9_loop.trips) : Fin 2 → Nat :=
  let c4 : Index := 4#32
  let c64_i32 : BitVec 32 := 64#32
  let c0_i32_40 : BitVec 32 := 0#32
  let c1_i32_42 : BitVec 32 := 1#32
  let arg20 : BitVec 32 := Scf.iv c0_i32_40 c1_i32_42 k0_t9
  let c8_i32_60 : BitVec 32 := 8#32
  let v67 : BitVec 32 := Scalar.muli arg20 c8_i32_60
  let v68 : BitVec 32 := Scalar.addi c64_i32 v67
  let c0_i32_61 : BitVec 32 := 0#32
  let v69 : BitVec 32 := Scalar.addi v68 c0_i32_61
  let v267 : Index := Scalar.indexCast v69
  ![4, v267.toNat]
def k0_off833 (v268 : BitVec 32) : Fin 2 → Nat :=
  let c24_i32_124 : BitVec 32 := 24#32
  let v269 : BitVec 32 := Scalar.addi v268 c24_i32_124
  let v270 : Index := Scalar.indexCast v269
  let c0_125 : Index := 0#32
  ![v270.toNat, 0]

def k0_off834 (k0_t9 : Fin k0_t9_loop.trips) : Fin 2 → Nat :=
  let c4_126 : Index := 4#32
  let c64_i32 : BitVec 32 := 64#32
  let c0_i32_40 : BitVec 32 := 0#32
  let c1_i32_42 : BitVec 32 := 1#32
  let arg20 : BitVec 32 := Scf.iv c0_i32_40 c1_i32_42 k0_t9
  let c8_i32_60 : BitVec 32 := 8#32
  let v67 : BitVec 32 := Scalar.muli arg20 c8_i32_60
  let v68 : BitVec 32 := Scalar.addi c64_i32 v67
  let c0_i32_61 : BitVec 32 := 0#32
  let v69 : BitVec 32 := Scalar.addi v68 c0_i32_61
  let v272 : Index := Scalar.indexCast v69
  ![4, v272.toNat]
def k0_off835 (v268 : BitVec 32) (c0_i32_129 : BitVec 32) : Fin 2 → Nat :=
  let v286 : BitVec 32 := Scalar.addi v268 c0_i32_129
  let v287 : Index := Scalar.indexCast v286
  let c0_130 : Index := 0#32
  ![v287.toNat, 0]

def k0_chk183 (v268 : BitVec 32) : Prop :=
  (∀ a, (k0_off833 v268) a + S1x128.size a ≤ S102432x128.size a) ∧
  (∀ (r : Fin 3), ∀ a, (k0_off835 v268 (BitVec.ofNat 32 (8 * r.val))) a + S8x128.size a ≤ S102432x128.size a)
theorem k0_off833_inb : ∀ (v268 : BitVec 32) (k0_hw183 : k0_chk183 v268), ∀ a, (k0_off833 v268) a + S1x128.size a ≤ S102432x128.size a := fun v268 k0_hw183 => k0_hw183.1
theorem k0_off835_inb : ∀ (v268 : BitVec 32) (k0_hw183 : k0_chk183 v268), ∀ (r : Fin 3), ∀ a, (k0_off835 v268 (BitVec.ofNat 32 (8 * r.val))) a + S8x128.size a ≤ S102432x128.size a := fun v268 k0_hw183 r => k0_hw183.2 r

def k0_off836 (k0_t9 : Fin k0_t9_loop.trips) : Fin 2 → Nat :=
  let c5 : Index := 5#32
  let c64_i32 : BitVec 32 := 64#32
  let c0_i32_40 : BitVec 32 := 0#32
  let c1_i32_42 : BitVec 32 := 1#32
  let arg20 : BitVec 32 := Scf.iv c0_i32_40 c1_i32_42 k0_t9
  let c8_i32_60 : BitVec 32 := 8#32
  let v67 : BitVec 32 := Scalar.muli arg20 c8_i32_60
  let v68 : BitVec 32 := Scalar.addi c64_i32 v67
  let c0_i32_61 : BitVec 32 := 0#32
  let v69 : BitVec 32 := Scalar.addi v68 c0_i32_61
  let v317 : Index := Scalar.indexCast v69
  ![5, v317.toNat]
def k0_off837 (v318 : BitVec 32) : Fin 2 → Nat :=
  let c24_i32_139 : BitVec 32 := 24#32
  let v319 : BitVec 32 := Scalar.addi v318 c24_i32_139
  let v320 : Index := Scalar.indexCast v319
  let c0_140 : Index := 0#32
  ![v320.toNat, 0]

def k0_off838 (k0_t9 : Fin k0_t9_loop.trips) : Fin 2 → Nat :=
  let c5_141 : Index := 5#32
  let c64_i32 : BitVec 32 := 64#32
  let c0_i32_40 : BitVec 32 := 0#32
  let c1_i32_42 : BitVec 32 := 1#32
  let arg20 : BitVec 32 := Scf.iv c0_i32_40 c1_i32_42 k0_t9
  let c8_i32_60 : BitVec 32 := 8#32
  let v67 : BitVec 32 := Scalar.muli arg20 c8_i32_60
  let v68 : BitVec 32 := Scalar.addi c64_i32 v67
  let c0_i32_61 : BitVec 32 := 0#32
  let v69 : BitVec 32 := Scalar.addi v68 c0_i32_61
  let v322 : Index := Scalar.indexCast v69
  ![5, v322.toNat]
def k0_off839 (v318 : BitVec 32) (c0_i32_144 : BitVec 32) : Fin 2 → Nat :=
  let v336 : BitVec 32 := Scalar.addi v318 c0_i32_144
  let v337 : Index := Scalar.indexCast v336
  let c0_145 : Index := 0#32
  ![v337.toNat, 0]

def k0_chk184 (v318 : BitVec 32) : Prop :=
  (∀ a, (k0_off837 v318) a + S1x128.size a ≤ S102432x128.size a) ∧
  (∀ (r : Fin 3), ∀ a, (k0_off839 v318 (BitVec.ofNat 32 (8 * r.val))) a + S8x128.size a ≤ S102432x128.size a)
theorem k0_off837_inb : ∀ (v318 : BitVec 32) (k0_hw184 : k0_chk184 v318), ∀ a, (k0_off837 v318) a + S1x128.size a ≤ S102432x128.size a := fun v318 k0_hw184 => k0_hw184.1
theorem k0_off839_inb : ∀ (v318 : BitVec 32) (k0_hw184 : k0_chk184 v318), ∀ (r : Fin 3), ∀ a, (k0_off839 v318 (BitVec.ofNat 32 (8 * r.val))) a + S8x128.size a ≤ S102432x128.size a := fun v318 k0_hw184 r => k0_hw184.2 r

def k0_off840 (k0_t9 : Fin k0_t9_loop.trips) : Fin 2 → Nat :=
  let c6 : Index := 6#32
  let c64_i32 : BitVec 32 := 64#32
  let c0_i32_40 : BitVec 32 := 0#32
  let c1_i32_42 : BitVec 32 := 1#32
  let arg20 : BitVec 32 := Scf.iv c0_i32_40 c1_i32_42 k0_t9
  let c8_i32_60 : BitVec 32 := 8#32
  let v67 : BitVec 32 := Scalar.muli arg20 c8_i32_60
  let v68 : BitVec 32 := Scalar.addi c64_i32 v67
  let c0_i32_61 : BitVec 32 := 0#32
  let v69 : BitVec 32 := Scalar.addi v68 c0_i32_61
  let v367 : Index := Scalar.indexCast v69
  ![6, v367.toNat]
def k0_off841 (v368 : BitVec 32) : Fin 2 → Nat :=
  let c24_i32_154 : BitVec 32 := 24#32
  let v369 : BitVec 32 := Scalar.addi v368 c24_i32_154
  let v370 : Index := Scalar.indexCast v369
  let c0_155 : Index := 0#32
  ![v370.toNat, 0]

def k0_off842 (k0_t9 : Fin k0_t9_loop.trips) : Fin 2 → Nat :=
  let c6_156 : Index := 6#32
  let c64_i32 : BitVec 32 := 64#32
  let c0_i32_40 : BitVec 32 := 0#32
  let c1_i32_42 : BitVec 32 := 1#32
  let arg20 : BitVec 32 := Scf.iv c0_i32_40 c1_i32_42 k0_t9
  let c8_i32_60 : BitVec 32 := 8#32
  let v67 : BitVec 32 := Scalar.muli arg20 c8_i32_60
  let v68 : BitVec 32 := Scalar.addi c64_i32 v67
  let c0_i32_61 : BitVec 32 := 0#32
  let v69 : BitVec 32 := Scalar.addi v68 c0_i32_61
  let v372 : Index := Scalar.indexCast v69
  ![6, v372.toNat]
def k0_off843 (v368 : BitVec 32) (c0_i32_159 : BitVec 32) : Fin 2 → Nat :=
  let v386 : BitVec 32 := Scalar.addi v368 c0_i32_159
  let v387 : Index := Scalar.indexCast v386
  let c0_160 : Index := 0#32
  ![v387.toNat, 0]

def k0_chk185 (v368 : BitVec 32) : Prop :=
  (∀ a, (k0_off841 v368) a + S1x128.size a ≤ S102432x128.size a) ∧
  (∀ (r : Fin 3), ∀ a, (k0_off843 v368 (BitVec.ofNat 32 (8 * r.val))) a + S8x128.size a ≤ S102432x128.size a)
theorem k0_off841_inb : ∀ (v368 : BitVec 32) (k0_hw185 : k0_chk185 v368), ∀ a, (k0_off841 v368) a + S1x128.size a ≤ S102432x128.size a := fun v368 k0_hw185 => k0_hw185.1
theorem k0_off843_inb : ∀ (v368 : BitVec 32) (k0_hw185 : k0_chk185 v368), ∀ (r : Fin 3), ∀ a, (k0_off843 v368 (BitVec.ofNat 32 (8 * r.val))) a + S8x128.size a ≤ S102432x128.size a := fun v368 k0_hw185 r => k0_hw185.2 r

def k0_off844 (k0_t9 : Fin k0_t9_loop.trips) : Fin 2 → Nat :=
  let c7 : Index := 7#32
  let c64_i32 : BitVec 32 := 64#32
  let c0_i32_40 : BitVec 32 := 0#32
  let c1_i32_42 : BitVec 32 := 1#32
  let arg20 : BitVec 32 := Scf.iv c0_i32_40 c1_i32_42 k0_t9
  let c8_i32_60 : BitVec 32 := 8#32
  let v67 : BitVec 32 := Scalar.muli arg20 c8_i32_60
  let v68 : BitVec 32 := Scalar.addi c64_i32 v67
  let c0_i32_61 : BitVec 32 := 0#32
  let v69 : BitVec 32 := Scalar.addi v68 c0_i32_61
  let v417 : Index := Scalar.indexCast v69
  ![7, v417.toNat]
def k0_off845 (v418 : BitVec 32) : Fin 2 → Nat :=
  let c24_i32_169 : BitVec 32 := 24#32
  let v419 : BitVec 32 := Scalar.addi v418 c24_i32_169
  let v420 : Index := Scalar.indexCast v419
  let c0_170 : Index := 0#32
  ![v420.toNat, 0]

def k0_off846 (k0_t9 : Fin k0_t9_loop.trips) : Fin 2 → Nat :=
  let c7_171 : Index := 7#32
  let c64_i32 : BitVec 32 := 64#32
  let c0_i32_40 : BitVec 32 := 0#32
  let c1_i32_42 : BitVec 32 := 1#32
  let arg20 : BitVec 32 := Scf.iv c0_i32_40 c1_i32_42 k0_t9
  let c8_i32_60 : BitVec 32 := 8#32
  let v67 : BitVec 32 := Scalar.muli arg20 c8_i32_60
  let v68 : BitVec 32 := Scalar.addi c64_i32 v67
  let c0_i32_61 : BitVec 32 := 0#32
  let v69 : BitVec 32 := Scalar.addi v68 c0_i32_61
  let v422 : Index := Scalar.indexCast v69
  ![7, v422.toNat]
def k0_off847 (v418 : BitVec 32) (c0_i32_174 : BitVec 32) : Fin 2 → Nat :=
  let v436 : BitVec 32 := Scalar.addi v418 c0_i32_174
  let v437 : Index := Scalar.indexCast v436
  let c0_175 : Index := 0#32
  ![v437.toNat, 0]

def k0_chk186 (v418 : BitVec 32) : Prop :=
  (∀ a, (k0_off845 v418) a + S1x128.size a ≤ S102432x128.size a) ∧
  (∀ (r : Fin 3), ∀ a, (k0_off847 v418 (BitVec.ofNat 32 (8 * r.val))) a + S8x128.size a ≤ S102432x128.size a)
theorem k0_off845_inb : ∀ (v418 : BitVec 32) (k0_hw186 : k0_chk186 v418), ∀ a, (k0_off845 v418) a + S1x128.size a ≤ S102432x128.size a := fun v418 k0_hw186 => k0_hw186.1
theorem k0_off847_inb : ∀ (v418 : BitVec 32) (k0_hw186 : k0_chk186 v418), ∀ (r : Fin 3), ∀ a, (k0_off847 v418 (BitVec.ofNat 32 (8 * r.val))) a + S8x128.size a ≤ S102432x128.size a := fun v418 k0_hw186 r => k0_hw186.2 r

def k0_off848 (k0_t9 : Fin k0_t9_loop.trips) (c0_i32_184 : BitVec 32) : Fin 2 → Nat :=
  let c64_i32 : BitVec 32 := 64#32
  let c0_i32_40 : BitVec 32 := 0#32
  let c1_i32_42 : BitVec 32 := 1#32
  let arg20 : BitVec 32 := Scf.iv c0_i32_40 c1_i32_42 k0_t9
  let c8_i32_60 : BitVec 32 := 8#32
  let v67 : BitVec 32 := Scalar.muli arg20 c8_i32_60
  let v68 : BitVec 32 := Scalar.addi c64_i32 v67
  let c0_i32_61 : BitVec 32 := 0#32
  let v69 : BitVec 32 := Scalar.addi v68 c0_i32_61
  let c25_i32 : BitVec 32 := 25#32
  let v467 : BitVec 32 := Scalar.muli v69 c25_i32
  let v468 : BitVec 32 := Scalar.addi v467 c0_i32_184
  let v469 : Index := Scalar.indexCast v468
  let c0_185 : Index := 0#32
  ![v469.toNat, 0]
def k0_off849 (k0_t9 : Fin k0_t9_loop.trips) : Fin 2 → Nat :=
  let c0_195 : Index := 0#32
  let c64_i32_193 : BitVec 32 := 64#32
  let c0_i32_40 : BitVec 32 := 0#32
  let c1_i32_42 : BitVec 32 := 1#32
  let arg20 : BitVec 32 := Scf.iv c0_i32_40 c1_i32_42 k0_t9
  let c8_i32_192 : BitVec 32 := 8#32
  let v485 : BitVec 32 := Scalar.muli arg20 c8_i32_192
  let v486 : BitVec 32 := Scalar.addi c64_i32_193 v485
  let c1_i32_194 : BitVec 32 := 1#32
  let v487 : BitVec 32 := Scalar.addi v486 c1_i32_194
  let v488 : Index := Scalar.indexCast v487
  ![0, v488.toNat]
def k0_off850 (v489 : BitVec 32) : Fin 2 → Nat :=
  let c24_i32_196 : BitVec 32 := 24#32
  let v490 : BitVec 32 := Scalar.addi v489 c24_i32_196
  let v491 : Index := Scalar.indexCast v490
  let c0_197 : Index := 0#32
  ![v491.toNat, 0]

def k0_off851 (k0_t9 : Fin k0_t9_loop.trips) : Fin 2 → Nat :=
  let c0_198 : Index := 0#32
  let c64_i32_193 : BitVec 32 := 64#32
  let c0_i32_40 : BitVec 32 := 0#32
  let c1_i32_42 : BitVec 32 := 1#32
  let arg20 : BitVec 32 := Scf.iv c0_i32_40 c1_i32_42 k0_t9
  let c8_i32_192 : BitVec 32 := 8#32
  let v485 : BitVec 32 := Scalar.muli arg20 c8_i32_192
  let v486 : BitVec 32 := Scalar.addi c64_i32_193 v485
  let c1_i32_194 : BitVec 32 := 1#32
  let v487 : BitVec 32 := Scalar.addi v486 c1_i32_194
  let v493 : Index := Scalar.indexCast v487
  ![0, v493.toNat]
def k0_off852 (v489 : BitVec 32) (c0_i32_201 : BitVec 32) : Fin 2 → Nat :=
  let v507 : BitVec 32 := Scalar.addi v489 c0_i32_201
  let v508 : Index := Scalar.indexCast v507
  let c0_202 : Index := 0#32
  ![v508.toNat, 0]

def k0_chk187 (v489 : BitVec 32) : Prop :=
  (∀ a, (k0_off850 v489) a + S1x128.size a ≤ S102432x128.size a) ∧
  (∀ (r : Fin 3), ∀ a, (k0_off852 v489 (BitVec.ofNat 32 (8 * r.val))) a + S8x128.size a ≤ S102432x128.size a)
theorem k0_off850_inb : ∀ (v489 : BitVec 32) (k0_hw187 : k0_chk187 v489), ∀ a, (k0_off850 v489) a + S1x128.size a ≤ S102432x128.size a := fun v489 k0_hw187 => k0_hw187.1
theorem k0_off852_inb : ∀ (v489 : BitVec 32) (k0_hw187 : k0_chk187 v489), ∀ (r : Fin 3), ∀ a, (k0_off852 v489 (BitVec.ofNat 32 (8 * r.val))) a + S8x128.size a ≤ S102432x128.size a := fun v489 k0_hw187 r => k0_hw187.2 r

def k0_off853 (k0_t9 : Fin k0_t9_loop.trips) : Fin 2 → Nat :=
  let c1_211 : Index := 1#32
  let c64_i32_193 : BitVec 32 := 64#32
  let c0_i32_40 : BitVec 32 := 0#32
  let c1_i32_42 : BitVec 32 := 1#32
  let arg20 : BitVec 32 := Scf.iv c0_i32_40 c1_i32_42 k0_t9
  let c8_i32_192 : BitVec 32 := 8#32
  let v485 : BitVec 32 := Scalar.muli arg20 c8_i32_192
  let v486 : BitVec 32 := Scalar.addi c64_i32_193 v485
  let c1_i32_194 : BitVec 32 := 1#32
  let v487 : BitVec 32 := Scalar.addi v486 c1_i32_194
  let v535 : Index := Scalar.indexCast v487
  ![1, v535.toNat]
def k0_off854 (v536 : BitVec 32) : Fin 2 → Nat :=
  let c24_i32_212 : BitVec 32 := 24#32
  let v537 : BitVec 32 := Scalar.addi v536 c24_i32_212
  let v538 : Index := Scalar.indexCast v537
  let c0_213 : Index := 0#32
  ![v538.toNat, 0]

def k0_off855 (k0_t9 : Fin k0_t9_loop.trips) : Fin 2 → Nat :=
  let c1_214 : Index := 1#32
  let c64_i32_193 : BitVec 32 := 64#32
  let c0_i32_40 : BitVec 32 := 0#32
  let c1_i32_42 : BitVec 32 := 1#32
  let arg20 : BitVec 32 := Scf.iv c0_i32_40 c1_i32_42 k0_t9
  let c8_i32_192 : BitVec 32 := 8#32
  let v485 : BitVec 32 := Scalar.muli arg20 c8_i32_192
  let v486 : BitVec 32 := Scalar.addi c64_i32_193 v485
  let c1_i32_194 : BitVec 32 := 1#32
  let v487 : BitVec 32 := Scalar.addi v486 c1_i32_194
  let v540 : Index := Scalar.indexCast v487
  ![1, v540.toNat]
def k0_off856 (v536 : BitVec 32) (c0_i32_217 : BitVec 32) : Fin 2 → Nat :=
  let v554 : BitVec 32 := Scalar.addi v536 c0_i32_217
  let v555 : Index := Scalar.indexCast v554
  let c0_218 : Index := 0#32
  ![v555.toNat, 0]

def k0_chk188 (v536 : BitVec 32) : Prop :=
  (∀ a, (k0_off854 v536) a + S1x128.size a ≤ S102432x128.size a) ∧
  (∀ (r : Fin 3), ∀ a, (k0_off856 v536 (BitVec.ofNat 32 (8 * r.val))) a + S8x128.size a ≤ S102432x128.size a)
theorem k0_off854_inb : ∀ (v536 : BitVec 32) (k0_hw188 : k0_chk188 v536), ∀ a, (k0_off854 v536) a + S1x128.size a ≤ S102432x128.size a := fun v536 k0_hw188 => k0_hw188.1
theorem k0_off856_inb : ∀ (v536 : BitVec 32) (k0_hw188 : k0_chk188 v536), ∀ (r : Fin 3), ∀ a, (k0_off856 v536 (BitVec.ofNat 32 (8 * r.val))) a + S8x128.size a ≤ S102432x128.size a := fun v536 k0_hw188 r => k0_hw188.2 r

def k0_off857 (k0_t9 : Fin k0_t9_loop.trips) : Fin 2 → Nat :=
  let c2_227 : Index := 2#32
  let c64_i32_193 : BitVec 32 := 64#32
  let c0_i32_40 : BitVec 32 := 0#32
  let c1_i32_42 : BitVec 32 := 1#32
  let arg20 : BitVec 32 := Scf.iv c0_i32_40 c1_i32_42 k0_t9
  let c8_i32_192 : BitVec 32 := 8#32
  let v485 : BitVec 32 := Scalar.muli arg20 c8_i32_192
  let v486 : BitVec 32 := Scalar.addi c64_i32_193 v485
  let c1_i32_194 : BitVec 32 := 1#32
  let v487 : BitVec 32 := Scalar.addi v486 c1_i32_194
  let v585 : Index := Scalar.indexCast v487
  ![2, v585.toNat]
def k0_off858 (v586 : BitVec 32) : Fin 2 → Nat :=
  let c24_i32_228 : BitVec 32 := 24#32
  let v587 : BitVec 32 := Scalar.addi v586 c24_i32_228
  let v588 : Index := Scalar.indexCast v587
  let c0_229 : Index := 0#32
  ![v588.toNat, 0]

def k0_off859 (k0_t9 : Fin k0_t9_loop.trips) : Fin 2 → Nat :=
  let c2_230 : Index := 2#32
  let c64_i32_193 : BitVec 32 := 64#32
  let c0_i32_40 : BitVec 32 := 0#32
  let c1_i32_42 : BitVec 32 := 1#32
  let arg20 : BitVec 32 := Scf.iv c0_i32_40 c1_i32_42 k0_t9
  let c8_i32_192 : BitVec 32 := 8#32
  let v485 : BitVec 32 := Scalar.muli arg20 c8_i32_192
  let v486 : BitVec 32 := Scalar.addi c64_i32_193 v485
  let c1_i32_194 : BitVec 32 := 1#32
  let v487 : BitVec 32 := Scalar.addi v486 c1_i32_194
  let v590 : Index := Scalar.indexCast v487
  ![2, v590.toNat]
def k0_off860 (v586 : BitVec 32) (c0_i32_233 : BitVec 32) : Fin 2 → Nat :=
  let v604 : BitVec 32 := Scalar.addi v586 c0_i32_233
  let v605 : Index := Scalar.indexCast v604
  let c0_234 : Index := 0#32
  ![v605.toNat, 0]

def k0_chk189 (v586 : BitVec 32) : Prop :=
  (∀ a, (k0_off858 v586) a + S1x128.size a ≤ S102432x128.size a) ∧
  (∀ (r : Fin 3), ∀ a, (k0_off860 v586 (BitVec.ofNat 32 (8 * r.val))) a + S8x128.size a ≤ S102432x128.size a)
theorem k0_off858_inb : ∀ (v586 : BitVec 32) (k0_hw189 : k0_chk189 v586), ∀ a, (k0_off858 v586) a + S1x128.size a ≤ S102432x128.size a := fun v586 k0_hw189 => k0_hw189.1
theorem k0_off860_inb : ∀ (v586 : BitVec 32) (k0_hw189 : k0_chk189 v586), ∀ (r : Fin 3), ∀ a, (k0_off860 v586 (BitVec.ofNat 32 (8 * r.val))) a + S8x128.size a ≤ S102432x128.size a := fun v586 k0_hw189 r => k0_hw189.2 r

def k0_off861 (k0_t9 : Fin k0_t9_loop.trips) : Fin 2 → Nat :=
  let c3_243 : Index := 3#32
  let c64_i32_193 : BitVec 32 := 64#32
  let c0_i32_40 : BitVec 32 := 0#32
  let c1_i32_42 : BitVec 32 := 1#32
  let arg20 : BitVec 32 := Scf.iv c0_i32_40 c1_i32_42 k0_t9
  let c8_i32_192 : BitVec 32 := 8#32
  let v485 : BitVec 32 := Scalar.muli arg20 c8_i32_192
  let v486 : BitVec 32 := Scalar.addi c64_i32_193 v485
  let c1_i32_194 : BitVec 32 := 1#32
  let v487 : BitVec 32 := Scalar.addi v486 c1_i32_194
  let v635 : Index := Scalar.indexCast v487
  ![3, v635.toNat]
def k0_off862 (v636 : BitVec 32) : Fin 2 → Nat :=
  let c24_i32_244 : BitVec 32 := 24#32
  let v637 : BitVec 32 := Scalar.addi v636 c24_i32_244
  let v638 : Index := Scalar.indexCast v637
  let c0_245 : Index := 0#32
  ![v638.toNat, 0]

def k0_off863 (k0_t9 : Fin k0_t9_loop.trips) : Fin 2 → Nat :=
  let c3_246 : Index := 3#32
  let c64_i32_193 : BitVec 32 := 64#32
  let c0_i32_40 : BitVec 32 := 0#32
  let c1_i32_42 : BitVec 32 := 1#32
  let arg20 : BitVec 32 := Scf.iv c0_i32_40 c1_i32_42 k0_t9
  let c8_i32_192 : BitVec 32 := 8#32
  let v485 : BitVec 32 := Scalar.muli arg20 c8_i32_192
  let v486 : BitVec 32 := Scalar.addi c64_i32_193 v485
  let c1_i32_194 : BitVec 32 := 1#32
  let v487 : BitVec 32 := Scalar.addi v486 c1_i32_194
  let v640 : Index := Scalar.indexCast v487
  ![3, v640.toNat]
def k0_off864 (v636 : BitVec 32) (c0_i32_249 : BitVec 32) : Fin 2 → Nat :=
  let v654 : BitVec 32 := Scalar.addi v636 c0_i32_249
  let v655 : Index := Scalar.indexCast v654
  let c0_250 : Index := 0#32
  ![v655.toNat, 0]

def k0_chk190 (v636 : BitVec 32) : Prop :=
  (∀ a, (k0_off862 v636) a + S1x128.size a ≤ S102432x128.size a) ∧
  (∀ (r : Fin 3), ∀ a, (k0_off864 v636 (BitVec.ofNat 32 (8 * r.val))) a + S8x128.size a ≤ S102432x128.size a)
theorem k0_off862_inb : ∀ (v636 : BitVec 32) (k0_hw190 : k0_chk190 v636), ∀ a, (k0_off862 v636) a + S1x128.size a ≤ S102432x128.size a := fun v636 k0_hw190 => k0_hw190.1
theorem k0_off864_inb : ∀ (v636 : BitVec 32) (k0_hw190 : k0_chk190 v636), ∀ (r : Fin 3), ∀ a, (k0_off864 v636 (BitVec.ofNat 32 (8 * r.val))) a + S8x128.size a ≤ S102432x128.size a := fun v636 k0_hw190 r => k0_hw190.2 r

def k0_off865 (k0_t9 : Fin k0_t9_loop.trips) : Fin 2 → Nat :=
  let c4_259 : Index := 4#32
  let c64_i32_193 : BitVec 32 := 64#32
  let c0_i32_40 : BitVec 32 := 0#32
  let c1_i32_42 : BitVec 32 := 1#32
  let arg20 : BitVec 32 := Scf.iv c0_i32_40 c1_i32_42 k0_t9
  let c8_i32_192 : BitVec 32 := 8#32
  let v485 : BitVec 32 := Scalar.muli arg20 c8_i32_192
  let v486 : BitVec 32 := Scalar.addi c64_i32_193 v485
  let c1_i32_194 : BitVec 32 := 1#32
  let v487 : BitVec 32 := Scalar.addi v486 c1_i32_194
  let v685 : Index := Scalar.indexCast v487
  ![4, v685.toNat]
def k0_off866 (v686 : BitVec 32) : Fin 2 → Nat :=
  let c24_i32_260 : BitVec 32 := 24#32
  let v687 : BitVec 32 := Scalar.addi v686 c24_i32_260
  let v688 : Index := Scalar.indexCast v687
  let c0_261 : Index := 0#32
  ![v688.toNat, 0]

def k0_off867 (k0_t9 : Fin k0_t9_loop.trips) : Fin 2 → Nat :=
  let c4_262 : Index := 4#32
  let c64_i32_193 : BitVec 32 := 64#32
  let c0_i32_40 : BitVec 32 := 0#32
  let c1_i32_42 : BitVec 32 := 1#32
  let arg20 : BitVec 32 := Scf.iv c0_i32_40 c1_i32_42 k0_t9
  let c8_i32_192 : BitVec 32 := 8#32
  let v485 : BitVec 32 := Scalar.muli arg20 c8_i32_192
  let v486 : BitVec 32 := Scalar.addi c64_i32_193 v485
  let c1_i32_194 : BitVec 32 := 1#32
  let v487 : BitVec 32 := Scalar.addi v486 c1_i32_194
  let v690 : Index := Scalar.indexCast v487
  ![4, v690.toNat]
def k0_off868 (v686 : BitVec 32) (c0_i32_265 : BitVec 32) : Fin 2 → Nat :=
  let v704 : BitVec 32 := Scalar.addi v686 c0_i32_265
  let v705 : Index := Scalar.indexCast v704
  let c0_266 : Index := 0#32
  ![v705.toNat, 0]

def k0_chk191 (v686 : BitVec 32) : Prop :=
  (∀ a, (k0_off866 v686) a + S1x128.size a ≤ S102432x128.size a) ∧
  (∀ (r : Fin 3), ∀ a, (k0_off868 v686 (BitVec.ofNat 32 (8 * r.val))) a + S8x128.size a ≤ S102432x128.size a)
theorem k0_off866_inb : ∀ (v686 : BitVec 32) (k0_hw191 : k0_chk191 v686), ∀ a, (k0_off866 v686) a + S1x128.size a ≤ S102432x128.size a := fun v686 k0_hw191 => k0_hw191.1
theorem k0_off868_inb : ∀ (v686 : BitVec 32) (k0_hw191 : k0_chk191 v686), ∀ (r : Fin 3), ∀ a, (k0_off868 v686 (BitVec.ofNat 32 (8 * r.val))) a + S8x128.size a ≤ S102432x128.size a := fun v686 k0_hw191 r => k0_hw191.2 r

def k0_off869 (k0_t9 : Fin k0_t9_loop.trips) : Fin 2 → Nat :=
  let c5_275 : Index := 5#32
  let c64_i32_193 : BitVec 32 := 64#32
  let c0_i32_40 : BitVec 32 := 0#32
  let c1_i32_42 : BitVec 32 := 1#32
  let arg20 : BitVec 32 := Scf.iv c0_i32_40 c1_i32_42 k0_t9
  let c8_i32_192 : BitVec 32 := 8#32
  let v485 : BitVec 32 := Scalar.muli arg20 c8_i32_192
  let v486 : BitVec 32 := Scalar.addi c64_i32_193 v485
  let c1_i32_194 : BitVec 32 := 1#32
  let v487 : BitVec 32 := Scalar.addi v486 c1_i32_194
  let v735 : Index := Scalar.indexCast v487
  ![5, v735.toNat]
def k0_off870 (v736 : BitVec 32) : Fin 2 → Nat :=
  let c24_i32_276 : BitVec 32 := 24#32
  let v737 : BitVec 32 := Scalar.addi v736 c24_i32_276
  let v738 : Index := Scalar.indexCast v737
  let c0_277 : Index := 0#32
  ![v738.toNat, 0]

def k0_off871 (k0_t9 : Fin k0_t9_loop.trips) : Fin 2 → Nat :=
  let c5_278 : Index := 5#32
  let c64_i32_193 : BitVec 32 := 64#32
  let c0_i32_40 : BitVec 32 := 0#32
  let c1_i32_42 : BitVec 32 := 1#32
  let arg20 : BitVec 32 := Scf.iv c0_i32_40 c1_i32_42 k0_t9
  let c8_i32_192 : BitVec 32 := 8#32
  let v485 : BitVec 32 := Scalar.muli arg20 c8_i32_192
  let v486 : BitVec 32 := Scalar.addi c64_i32_193 v485
  let c1_i32_194 : BitVec 32 := 1#32
  let v487 : BitVec 32 := Scalar.addi v486 c1_i32_194
  let v740 : Index := Scalar.indexCast v487
  ![5, v740.toNat]
def k0_off872 (v736 : BitVec 32) (c0_i32_281 : BitVec 32) : Fin 2 → Nat :=
  let v754 : BitVec 32 := Scalar.addi v736 c0_i32_281
  let v755 : Index := Scalar.indexCast v754
  let c0_282 : Index := 0#32
  ![v755.toNat, 0]

def k0_chk192 (v736 : BitVec 32) : Prop :=
  (∀ a, (k0_off870 v736) a + S1x128.size a ≤ S102432x128.size a) ∧
  (∀ (r : Fin 3), ∀ a, (k0_off872 v736 (BitVec.ofNat 32 (8 * r.val))) a + S8x128.size a ≤ S102432x128.size a)
theorem k0_off870_inb : ∀ (v736 : BitVec 32) (k0_hw192 : k0_chk192 v736), ∀ a, (k0_off870 v736) a + S1x128.size a ≤ S102432x128.size a := fun v736 k0_hw192 => k0_hw192.1
theorem k0_off872_inb : ∀ (v736 : BitVec 32) (k0_hw192 : k0_chk192 v736), ∀ (r : Fin 3), ∀ a, (k0_off872 v736 (BitVec.ofNat 32 (8 * r.val))) a + S8x128.size a ≤ S102432x128.size a := fun v736 k0_hw192 r => k0_hw192.2 r

def k0_off873 (k0_t9 : Fin k0_t9_loop.trips) : Fin 2 → Nat :=
  let c6_291 : Index := 6#32
  let c64_i32_193 : BitVec 32 := 64#32
  let c0_i32_40 : BitVec 32 := 0#32
  let c1_i32_42 : BitVec 32 := 1#32
  let arg20 : BitVec 32 := Scf.iv c0_i32_40 c1_i32_42 k0_t9
  let c8_i32_192 : BitVec 32 := 8#32
  let v485 : BitVec 32 := Scalar.muli arg20 c8_i32_192
  let v486 : BitVec 32 := Scalar.addi c64_i32_193 v485
  let c1_i32_194 : BitVec 32 := 1#32
  let v487 : BitVec 32 := Scalar.addi v486 c1_i32_194
  let v785 : Index := Scalar.indexCast v487
  ![6, v785.toNat]
def k0_off874 (v786 : BitVec 32) : Fin 2 → Nat :=
  let c24_i32_292 : BitVec 32 := 24#32
  let v787 : BitVec 32 := Scalar.addi v786 c24_i32_292
  let v788 : Index := Scalar.indexCast v787
  let c0_293 : Index := 0#32
  ![v788.toNat, 0]

def k0_off875 (k0_t9 : Fin k0_t9_loop.trips) : Fin 2 → Nat :=
  let c6_294 : Index := 6#32
  let c64_i32_193 : BitVec 32 := 64#32
  let c0_i32_40 : BitVec 32 := 0#32
  let c1_i32_42 : BitVec 32 := 1#32
  let arg20 : BitVec 32 := Scf.iv c0_i32_40 c1_i32_42 k0_t9
  let c8_i32_192 : BitVec 32 := 8#32
  let v485 : BitVec 32 := Scalar.muli arg20 c8_i32_192
  let v486 : BitVec 32 := Scalar.addi c64_i32_193 v485
  let c1_i32_194 : BitVec 32 := 1#32
  let v487 : BitVec 32 := Scalar.addi v486 c1_i32_194
  let v790 : Index := Scalar.indexCast v487
  ![6, v790.toNat]
def k0_off876 (v786 : BitVec 32) (c0_i32_297 : BitVec 32) : Fin 2 → Nat :=
  let v804 : BitVec 32 := Scalar.addi v786 c0_i32_297
  let v805 : Index := Scalar.indexCast v804
  let c0_298 : Index := 0#32
  ![v805.toNat, 0]

def k0_chk193 (v786 : BitVec 32) : Prop :=
  (∀ a, (k0_off874 v786) a + S1x128.size a ≤ S102432x128.size a) ∧
  (∀ (r : Fin 3), ∀ a, (k0_off876 v786 (BitVec.ofNat 32 (8 * r.val))) a + S8x128.size a ≤ S102432x128.size a)
theorem k0_off874_inb : ∀ (v786 : BitVec 32) (k0_hw193 : k0_chk193 v786), ∀ a, (k0_off874 v786) a + S1x128.size a ≤ S102432x128.size a := fun v786 k0_hw193 => k0_hw193.1
theorem k0_off876_inb : ∀ (v786 : BitVec 32) (k0_hw193 : k0_chk193 v786), ∀ (r : Fin 3), ∀ a, (k0_off876 v786 (BitVec.ofNat 32 (8 * r.val))) a + S8x128.size a ≤ S102432x128.size a := fun v786 k0_hw193 r => k0_hw193.2 r

def k0_off877 (k0_t9 : Fin k0_t9_loop.trips) : Fin 2 → Nat :=
  let c7_307 : Index := 7#32
  let c64_i32_193 : BitVec 32 := 64#32
  let c0_i32_40 : BitVec 32 := 0#32
  let c1_i32_42 : BitVec 32 := 1#32
  let arg20 : BitVec 32 := Scf.iv c0_i32_40 c1_i32_42 k0_t9
  let c8_i32_192 : BitVec 32 := 8#32
  let v485 : BitVec 32 := Scalar.muli arg20 c8_i32_192
  let v486 : BitVec 32 := Scalar.addi c64_i32_193 v485
  let c1_i32_194 : BitVec 32 := 1#32
  let v487 : BitVec 32 := Scalar.addi v486 c1_i32_194
  let v835 : Index := Scalar.indexCast v487
  ![7, v835.toNat]
def k0_off878 (v836 : BitVec 32) : Fin 2 → Nat :=
  let c24_i32_308 : BitVec 32 := 24#32
  let v837 : BitVec 32 := Scalar.addi v836 c24_i32_308
  let v838 : Index := Scalar.indexCast v837
  let c0_309 : Index := 0#32
  ![v838.toNat, 0]

def k0_off879 (k0_t9 : Fin k0_t9_loop.trips) : Fin 2 → Nat :=
  let c7_310 : Index := 7#32
  let c64_i32_193 : BitVec 32 := 64#32
  let c0_i32_40 : BitVec 32 := 0#32
  let c1_i32_42 : BitVec 32 := 1#32
  let arg20 : BitVec 32 := Scf.iv c0_i32_40 c1_i32_42 k0_t9
  let c8_i32_192 : BitVec 32 := 8#32
  let v485 : BitVec 32 := Scalar.muli arg20 c8_i32_192
  let v486 : BitVec 32 := Scalar.addi c64_i32_193 v485
  let c1_i32_194 : BitVec 32 := 1#32
  let v487 : BitVec 32 := Scalar.addi v486 c1_i32_194
  let v840 : Index := Scalar.indexCast v487
  ![7, v840.toNat]
def k0_off880 (v836 : BitVec 32) (c0_i32_313 : BitVec 32) : Fin 2 → Nat :=
  let v854 : BitVec 32 := Scalar.addi v836 c0_i32_313
  let v855 : Index := Scalar.indexCast v854
  let c0_314 : Index := 0#32
  ![v855.toNat, 0]

def k0_chk194 (v836 : BitVec 32) : Prop :=
  (∀ a, (k0_off878 v836) a + S1x128.size a ≤ S102432x128.size a) ∧
  (∀ (r : Fin 3), ∀ a, (k0_off880 v836 (BitVec.ofNat 32 (8 * r.val))) a + S8x128.size a ≤ S102432x128.size a)
theorem k0_off878_inb : ∀ (v836 : BitVec 32) (k0_hw194 : k0_chk194 v836), ∀ a, (k0_off878 v836) a + S1x128.size a ≤ S102432x128.size a := fun v836 k0_hw194 => k0_hw194.1
theorem k0_off880_inb : ∀ (v836 : BitVec 32) (k0_hw194 : k0_chk194 v836), ∀ (r : Fin 3), ∀ a, (k0_off880 v836 (BitVec.ofNat 32 (8 * r.val))) a + S8x128.size a ≤ S102432x128.size a := fun v836 k0_hw194 r => k0_hw194.2 r

def k0_off881 (k0_t9 : Fin k0_t9_loop.trips) (c0_i32_324 : BitVec 32) : Fin 2 → Nat :=
  let c64_i32_193 : BitVec 32 := 64#32
  let c0_i32_40 : BitVec 32 := 0#32
  let c1_i32_42 : BitVec 32 := 1#32
  let arg20 : BitVec 32 := Scf.iv c0_i32_40 c1_i32_42 k0_t9
  let c8_i32_192 : BitVec 32 := 8#32
  let v485 : BitVec 32 := Scalar.muli arg20 c8_i32_192
  let v486 : BitVec 32 := Scalar.addi c64_i32_193 v485
  let c1_i32_194 : BitVec 32 := 1#32
  let v487 : BitVec 32 := Scalar.addi v486 c1_i32_194
  let c25_i32_323 : BitVec 32 := 25#32
  let v885 : BitVec 32 := Scalar.muli v487 c25_i32_323
  let v886 : BitVec 32 := Scalar.addi v885 c0_i32_324
  let v887 : Index := Scalar.indexCast v886
  let c0_325 : Index := 0#32
  ![v887.toNat, 0]
def k0_off882 (k0_t9 : Fin k0_t9_loop.trips) : Fin 2 → Nat :=
  let c0_334 : Index := 0#32
  let c64_i32_333 : BitVec 32 := 64#32
  let c0_i32_40 : BitVec 32 := 0#32
  let c1_i32_42 : BitVec 32 := 1#32
  let arg20 : BitVec 32 := Scf.iv c0_i32_40 c1_i32_42 k0_t9
  let c8_i32_332 : BitVec 32 := 8#32
  let v903 : BitVec 32 := Scalar.muli arg20 c8_i32_332
  let v904 : BitVec 32 := Scalar.addi c64_i32_333 v903
  let c2_i32 : BitVec 32 := 2#32
  let v905 : BitVec 32 := Scalar.addi v904 c2_i32
  let v906 : Index := Scalar.indexCast v905
  ![0, v906.toNat]
def k0_off883 (v907 : BitVec 32) : Fin 2 → Nat :=
  let c24_i32_335 : BitVec 32 := 24#32
  let v908 : BitVec 32 := Scalar.addi v907 c24_i32_335
  let v909 : Index := Scalar.indexCast v908
  let c0_336 : Index := 0#32
  ![v909.toNat, 0]

def k0_off884 (k0_t9 : Fin k0_t9_loop.trips) : Fin 2 → Nat :=
  let c0_337 : Index := 0#32
  let c64_i32_333 : BitVec 32 := 64#32
  let c0_i32_40 : BitVec 32 := 0#32
  let c1_i32_42 : BitVec 32 := 1#32
  let arg20 : BitVec 32 := Scf.iv c0_i32_40 c1_i32_42 k0_t9
  let c8_i32_332 : BitVec 32 := 8#32
  let v903 : BitVec 32 := Scalar.muli arg20 c8_i32_332
  let v904 : BitVec 32 := Scalar.addi c64_i32_333 v903
  let c2_i32 : BitVec 32 := 2#32
  let v905 : BitVec 32 := Scalar.addi v904 c2_i32
  let v911 : Index := Scalar.indexCast v905
  ![0, v911.toNat]
def k0_off885 (v907 : BitVec 32) (c0_i32_340 : BitVec 32) : Fin 2 → Nat :=
  let v925 : BitVec 32 := Scalar.addi v907 c0_i32_340
  let v926 : Index := Scalar.indexCast v925
  let c0_341 : Index := 0#32
  ![v926.toNat, 0]

def k0_chk195 (v907 : BitVec 32) : Prop :=
  (∀ a, (k0_off883 v907) a + S1x128.size a ≤ S102432x128.size a) ∧
  (∀ (r : Fin 3), ∀ a, (k0_off885 v907 (BitVec.ofNat 32 (8 * r.val))) a + S8x128.size a ≤ S102432x128.size a)
theorem k0_off883_inb : ∀ (v907 : BitVec 32) (k0_hw195 : k0_chk195 v907), ∀ a, (k0_off883 v907) a + S1x128.size a ≤ S102432x128.size a := fun v907 k0_hw195 => k0_hw195.1
theorem k0_off885_inb : ∀ (v907 : BitVec 32) (k0_hw195 : k0_chk195 v907), ∀ (r : Fin 3), ∀ a, (k0_off885 v907 (BitVec.ofNat 32 (8 * r.val))) a + S8x128.size a ≤ S102432x128.size a := fun v907 k0_hw195 r => k0_hw195.2 r

def k0_off886 (k0_t9 : Fin k0_t9_loop.trips) : Fin 2 → Nat :=
  let c1_350 : Index := 1#32
  let c64_i32_333 : BitVec 32 := 64#32
  let c0_i32_40 : BitVec 32 := 0#32
  let c1_i32_42 : BitVec 32 := 1#32
  let arg20 : BitVec 32 := Scf.iv c0_i32_40 c1_i32_42 k0_t9
  let c8_i32_332 : BitVec 32 := 8#32
  let v903 : BitVec 32 := Scalar.muli arg20 c8_i32_332
  let v904 : BitVec 32 := Scalar.addi c64_i32_333 v903
  let c2_i32 : BitVec 32 := 2#32
  let v905 : BitVec 32 := Scalar.addi v904 c2_i32
  let v953 : Index := Scalar.indexCast v905
  ![1, v953.toNat]
def k0_off887 (v954 : BitVec 32) : Fin 2 → Nat :=
  let c24_i32_351 : BitVec 32 := 24#32
  let v955 : BitVec 32 := Scalar.addi v954 c24_i32_351
  let v956 : Index := Scalar.indexCast v955
  let c0_352 : Index := 0#32
  ![v956.toNat, 0]

def k0_off888 (k0_t9 : Fin k0_t9_loop.trips) : Fin 2 → Nat :=
  let c1_353 : Index := 1#32
  let c64_i32_333 : BitVec 32 := 64#32
  let c0_i32_40 : BitVec 32 := 0#32
  let c1_i32_42 : BitVec 32 := 1#32
  let arg20 : BitVec 32 := Scf.iv c0_i32_40 c1_i32_42 k0_t9
  let c8_i32_332 : BitVec 32 := 8#32
  let v903 : BitVec 32 := Scalar.muli arg20 c8_i32_332
  let v904 : BitVec 32 := Scalar.addi c64_i32_333 v903
  let c2_i32 : BitVec 32 := 2#32
  let v905 : BitVec 32 := Scalar.addi v904 c2_i32
  let v958 : Index := Scalar.indexCast v905
  ![1, v958.toNat]
def k0_off889 (v954 : BitVec 32) (c0_i32_356 : BitVec 32) : Fin 2 → Nat :=
  let v972 : BitVec 32 := Scalar.addi v954 c0_i32_356
  let v973 : Index := Scalar.indexCast v972
  let c0_357 : Index := 0#32
  ![v973.toNat, 0]

def k0_chk196 (v954 : BitVec 32) : Prop :=
  (∀ a, (k0_off887 v954) a + S1x128.size a ≤ S102432x128.size a) ∧
  (∀ (r : Fin 3), ∀ a, (k0_off889 v954 (BitVec.ofNat 32 (8 * r.val))) a + S8x128.size a ≤ S102432x128.size a)
theorem k0_off887_inb : ∀ (v954 : BitVec 32) (k0_hw196 : k0_chk196 v954), ∀ a, (k0_off887 v954) a + S1x128.size a ≤ S102432x128.size a := fun v954 k0_hw196 => k0_hw196.1
theorem k0_off889_inb : ∀ (v954 : BitVec 32) (k0_hw196 : k0_chk196 v954), ∀ (r : Fin 3), ∀ a, (k0_off889 v954 (BitVec.ofNat 32 (8 * r.val))) a + S8x128.size a ≤ S102432x128.size a := fun v954 k0_hw196 r => k0_hw196.2 r

def k0_off890 (k0_t9 : Fin k0_t9_loop.trips) : Fin 2 → Nat :=
  let c2_366 : Index := 2#32
  let c64_i32_333 : BitVec 32 := 64#32
  let c0_i32_40 : BitVec 32 := 0#32
  let c1_i32_42 : BitVec 32 := 1#32
  let arg20 : BitVec 32 := Scf.iv c0_i32_40 c1_i32_42 k0_t9
  let c8_i32_332 : BitVec 32 := 8#32
  let v903 : BitVec 32 := Scalar.muli arg20 c8_i32_332
  let v904 : BitVec 32 := Scalar.addi c64_i32_333 v903
  let c2_i32 : BitVec 32 := 2#32
  let v905 : BitVec 32 := Scalar.addi v904 c2_i32
  let v1003 : Index := Scalar.indexCast v905
  ![2, v1003.toNat]
def k0_off891 (v1004 : BitVec 32) : Fin 2 → Nat :=
  let c24_i32_367 : BitVec 32 := 24#32
  let v1005 : BitVec 32 := Scalar.addi v1004 c24_i32_367
  let v1006 : Index := Scalar.indexCast v1005
  let c0_368 : Index := 0#32
  ![v1006.toNat, 0]

def k0_off892 (k0_t9 : Fin k0_t9_loop.trips) : Fin 2 → Nat :=
  let c2_369 : Index := 2#32
  let c64_i32_333 : BitVec 32 := 64#32
  let c0_i32_40 : BitVec 32 := 0#32
  let c1_i32_42 : BitVec 32 := 1#32
  let arg20 : BitVec 32 := Scf.iv c0_i32_40 c1_i32_42 k0_t9
  let c8_i32_332 : BitVec 32 := 8#32
  let v903 : BitVec 32 := Scalar.muli arg20 c8_i32_332
  let v904 : BitVec 32 := Scalar.addi c64_i32_333 v903
  let c2_i32 : BitVec 32 := 2#32
  let v905 : BitVec 32 := Scalar.addi v904 c2_i32
  let v1008 : Index := Scalar.indexCast v905
  ![2, v1008.toNat]
def k0_off893 (v1004 : BitVec 32) (c0_i32_372 : BitVec 32) : Fin 2 → Nat :=
  let v1022 : BitVec 32 := Scalar.addi v1004 c0_i32_372
  let v1023 : Index := Scalar.indexCast v1022
  let c0_373 : Index := 0#32
  ![v1023.toNat, 0]

def k0_chk197 (v1004 : BitVec 32) : Prop :=
  (∀ a, (k0_off891 v1004) a + S1x128.size a ≤ S102432x128.size a) ∧
  (∀ (r : Fin 3), ∀ a, (k0_off893 v1004 (BitVec.ofNat 32 (8 * r.val))) a + S8x128.size a ≤ S102432x128.size a)
theorem k0_off891_inb : ∀ (v1004 : BitVec 32) (k0_hw197 : k0_chk197 v1004), ∀ a, (k0_off891 v1004) a + S1x128.size a ≤ S102432x128.size a := fun v1004 k0_hw197 => k0_hw197.1
theorem k0_off893_inb : ∀ (v1004 : BitVec 32) (k0_hw197 : k0_chk197 v1004), ∀ (r : Fin 3), ∀ a, (k0_off893 v1004 (BitVec.ofNat 32 (8 * r.val))) a + S8x128.size a ≤ S102432x128.size a := fun v1004 k0_hw197 r => k0_hw197.2 r

def k0_off894 (k0_t9 : Fin k0_t9_loop.trips) : Fin 2 → Nat :=
  let c3_382 : Index := 3#32
  let c64_i32_333 : BitVec 32 := 64#32
  let c0_i32_40 : BitVec 32 := 0#32
  let c1_i32_42 : BitVec 32 := 1#32
  let arg20 : BitVec 32 := Scf.iv c0_i32_40 c1_i32_42 k0_t9
  let c8_i32_332 : BitVec 32 := 8#32
  let v903 : BitVec 32 := Scalar.muli arg20 c8_i32_332
  let v904 : BitVec 32 := Scalar.addi c64_i32_333 v903
  let c2_i32 : BitVec 32 := 2#32
  let v905 : BitVec 32 := Scalar.addi v904 c2_i32
  let v1053 : Index := Scalar.indexCast v905
  ![3, v1053.toNat]
def k0_off895 (v1054 : BitVec 32) : Fin 2 → Nat :=
  let c24_i32_383 : BitVec 32 := 24#32
  let v1055 : BitVec 32 := Scalar.addi v1054 c24_i32_383
  let v1056 : Index := Scalar.indexCast v1055
  let c0_384 : Index := 0#32
  ![v1056.toNat, 0]

def k0_off896 (k0_t9 : Fin k0_t9_loop.trips) : Fin 2 → Nat :=
  let c3_385 : Index := 3#32
  let c64_i32_333 : BitVec 32 := 64#32
  let c0_i32_40 : BitVec 32 := 0#32
  let c1_i32_42 : BitVec 32 := 1#32
  let arg20 : BitVec 32 := Scf.iv c0_i32_40 c1_i32_42 k0_t9
  let c8_i32_332 : BitVec 32 := 8#32
  let v903 : BitVec 32 := Scalar.muli arg20 c8_i32_332
  let v904 : BitVec 32 := Scalar.addi c64_i32_333 v903
  let c2_i32 : BitVec 32 := 2#32
  let v905 : BitVec 32 := Scalar.addi v904 c2_i32
  let v1058 : Index := Scalar.indexCast v905
  ![3, v1058.toNat]
def k0_off897 (v1054 : BitVec 32) (c0_i32_388 : BitVec 32) : Fin 2 → Nat :=
  let v1072 : BitVec 32 := Scalar.addi v1054 c0_i32_388
  let v1073 : Index := Scalar.indexCast v1072
  let c0_389 : Index := 0#32
  ![v1073.toNat, 0]

def k0_chk198 (v1054 : BitVec 32) : Prop :=
  (∀ a, (k0_off895 v1054) a + S1x128.size a ≤ S102432x128.size a) ∧
  (∀ (r : Fin 3), ∀ a, (k0_off897 v1054 (BitVec.ofNat 32 (8 * r.val))) a + S8x128.size a ≤ S102432x128.size a)
theorem k0_off895_inb : ∀ (v1054 : BitVec 32) (k0_hw198 : k0_chk198 v1054), ∀ a, (k0_off895 v1054) a + S1x128.size a ≤ S102432x128.size a := fun v1054 k0_hw198 => k0_hw198.1
theorem k0_off897_inb : ∀ (v1054 : BitVec 32) (k0_hw198 : k0_chk198 v1054), ∀ (r : Fin 3), ∀ a, (k0_off897 v1054 (BitVec.ofNat 32 (8 * r.val))) a + S8x128.size a ≤ S102432x128.size a := fun v1054 k0_hw198 r => k0_hw198.2 r

def k0_off898 (k0_t9 : Fin k0_t9_loop.trips) : Fin 2 → Nat :=
  let c4_398 : Index := 4#32
  let c64_i32_333 : BitVec 32 := 64#32
  let c0_i32_40 : BitVec 32 := 0#32
  let c1_i32_42 : BitVec 32 := 1#32
  let arg20 : BitVec 32 := Scf.iv c0_i32_40 c1_i32_42 k0_t9
  let c8_i32_332 : BitVec 32 := 8#32
  let v903 : BitVec 32 := Scalar.muli arg20 c8_i32_332
  let v904 : BitVec 32 := Scalar.addi c64_i32_333 v903
  let c2_i32 : BitVec 32 := 2#32
  let v905 : BitVec 32 := Scalar.addi v904 c2_i32
  let v1103 : Index := Scalar.indexCast v905
  ![4, v1103.toNat]
def k0_off899 (v1104 : BitVec 32) : Fin 2 → Nat :=
  let c24_i32_399 : BitVec 32 := 24#32
  let v1105 : BitVec 32 := Scalar.addi v1104 c24_i32_399
  let v1106 : Index := Scalar.indexCast v1105
  let c0_400 : Index := 0#32
  ![v1106.toNat, 0]

def k0_off900 (k0_t9 : Fin k0_t9_loop.trips) : Fin 2 → Nat :=
  let c4_401 : Index := 4#32
  let c64_i32_333 : BitVec 32 := 64#32
  let c0_i32_40 : BitVec 32 := 0#32
  let c1_i32_42 : BitVec 32 := 1#32
  let arg20 : BitVec 32 := Scf.iv c0_i32_40 c1_i32_42 k0_t9
  let c8_i32_332 : BitVec 32 := 8#32
  let v903 : BitVec 32 := Scalar.muli arg20 c8_i32_332
  let v904 : BitVec 32 := Scalar.addi c64_i32_333 v903
  let c2_i32 : BitVec 32 := 2#32
  let v905 : BitVec 32 := Scalar.addi v904 c2_i32
  let v1108 : Index := Scalar.indexCast v905
  ![4, v1108.toNat]
def k0_off901 (v1104 : BitVec 32) (c0_i32_404 : BitVec 32) : Fin 2 → Nat :=
  let v1122 : BitVec 32 := Scalar.addi v1104 c0_i32_404
  let v1123 : Index := Scalar.indexCast v1122
  let c0_405 : Index := 0#32
  ![v1123.toNat, 0]

def k0_chk199 (v1104 : BitVec 32) : Prop :=
  (∀ a, (k0_off899 v1104) a + S1x128.size a ≤ S102432x128.size a) ∧
  (∀ (r : Fin 3), ∀ a, (k0_off901 v1104 (BitVec.ofNat 32 (8 * r.val))) a + S8x128.size a ≤ S102432x128.size a)
theorem k0_off899_inb : ∀ (v1104 : BitVec 32) (k0_hw199 : k0_chk199 v1104), ∀ a, (k0_off899 v1104) a + S1x128.size a ≤ S102432x128.size a := fun v1104 k0_hw199 => k0_hw199.1
theorem k0_off901_inb : ∀ (v1104 : BitVec 32) (k0_hw199 : k0_chk199 v1104), ∀ (r : Fin 3), ∀ a, (k0_off901 v1104 (BitVec.ofNat 32 (8 * r.val))) a + S8x128.size a ≤ S102432x128.size a := fun v1104 k0_hw199 r => k0_hw199.2 r

def k0_off902 (k0_t9 : Fin k0_t9_loop.trips) : Fin 2 → Nat :=
  let c5_414 : Index := 5#32
  let c64_i32_333 : BitVec 32 := 64#32
  let c0_i32_40 : BitVec 32 := 0#32
  let c1_i32_42 : BitVec 32 := 1#32
  let arg20 : BitVec 32 := Scf.iv c0_i32_40 c1_i32_42 k0_t9
  let c8_i32_332 : BitVec 32 := 8#32
  let v903 : BitVec 32 := Scalar.muli arg20 c8_i32_332
  let v904 : BitVec 32 := Scalar.addi c64_i32_333 v903
  let c2_i32 : BitVec 32 := 2#32
  let v905 : BitVec 32 := Scalar.addi v904 c2_i32
  let v1153 : Index := Scalar.indexCast v905
  ![5, v1153.toNat]
def k0_off903 (v1154 : BitVec 32) : Fin 2 → Nat :=
  let c24_i32_415 : BitVec 32 := 24#32
  let v1155 : BitVec 32 := Scalar.addi v1154 c24_i32_415
  let v1156 : Index := Scalar.indexCast v1155
  let c0_416 : Index := 0#32
  ![v1156.toNat, 0]

def k0_off904 (k0_t9 : Fin k0_t9_loop.trips) : Fin 2 → Nat :=
  let c5_417 : Index := 5#32
  let c64_i32_333 : BitVec 32 := 64#32
  let c0_i32_40 : BitVec 32 := 0#32
  let c1_i32_42 : BitVec 32 := 1#32
  let arg20 : BitVec 32 := Scf.iv c0_i32_40 c1_i32_42 k0_t9
  let c8_i32_332 : BitVec 32 := 8#32
  let v903 : BitVec 32 := Scalar.muli arg20 c8_i32_332
  let v904 : BitVec 32 := Scalar.addi c64_i32_333 v903
  let c2_i32 : BitVec 32 := 2#32
  let v905 : BitVec 32 := Scalar.addi v904 c2_i32
  let v1158 : Index := Scalar.indexCast v905
  ![5, v1158.toNat]
def k0_off905 (v1154 : BitVec 32) (c0_i32_420 : BitVec 32) : Fin 2 → Nat :=
  let v1172 : BitVec 32 := Scalar.addi v1154 c0_i32_420
  let v1173 : Index := Scalar.indexCast v1172
  let c0_421 : Index := 0#32
  ![v1173.toNat, 0]

def k0_chk200 (v1154 : BitVec 32) : Prop :=
  (∀ a, (k0_off903 v1154) a + S1x128.size a ≤ S102432x128.size a) ∧
  (∀ (r : Fin 3), ∀ a, (k0_off905 v1154 (BitVec.ofNat 32 (8 * r.val))) a + S8x128.size a ≤ S102432x128.size a)
theorem k0_off903_inb : ∀ (v1154 : BitVec 32) (k0_hw200 : k0_chk200 v1154), ∀ a, (k0_off903 v1154) a + S1x128.size a ≤ S102432x128.size a := fun v1154 k0_hw200 => k0_hw200.1
theorem k0_off905_inb : ∀ (v1154 : BitVec 32) (k0_hw200 : k0_chk200 v1154), ∀ (r : Fin 3), ∀ a, (k0_off905 v1154 (BitVec.ofNat 32 (8 * r.val))) a + S8x128.size a ≤ S102432x128.size a := fun v1154 k0_hw200 r => k0_hw200.2 r

def k0_off906 (k0_t9 : Fin k0_t9_loop.trips) : Fin 2 → Nat :=
  let c6_430 : Index := 6#32
  let c64_i32_333 : BitVec 32 := 64#32
  let c0_i32_40 : BitVec 32 := 0#32
  let c1_i32_42 : BitVec 32 := 1#32
  let arg20 : BitVec 32 := Scf.iv c0_i32_40 c1_i32_42 k0_t9
  let c8_i32_332 : BitVec 32 := 8#32
  let v903 : BitVec 32 := Scalar.muli arg20 c8_i32_332
  let v904 : BitVec 32 := Scalar.addi c64_i32_333 v903
  let c2_i32 : BitVec 32 := 2#32
  let v905 : BitVec 32 := Scalar.addi v904 c2_i32
  let v1203 : Index := Scalar.indexCast v905
  ![6, v1203.toNat]
def k0_off907 (v1204 : BitVec 32) : Fin 2 → Nat :=
  let c24_i32_431 : BitVec 32 := 24#32
  let v1205 : BitVec 32 := Scalar.addi v1204 c24_i32_431
  let v1206 : Index := Scalar.indexCast v1205
  let c0_432 : Index := 0#32
  ![v1206.toNat, 0]

def k0_off908 (k0_t9 : Fin k0_t9_loop.trips) : Fin 2 → Nat :=
  let c6_433 : Index := 6#32
  let c64_i32_333 : BitVec 32 := 64#32
  let c0_i32_40 : BitVec 32 := 0#32
  let c1_i32_42 : BitVec 32 := 1#32
  let arg20 : BitVec 32 := Scf.iv c0_i32_40 c1_i32_42 k0_t9
  let c8_i32_332 : BitVec 32 := 8#32
  let v903 : BitVec 32 := Scalar.muli arg20 c8_i32_332
  let v904 : BitVec 32 := Scalar.addi c64_i32_333 v903
  let c2_i32 : BitVec 32 := 2#32
  let v905 : BitVec 32 := Scalar.addi v904 c2_i32
  let v1208 : Index := Scalar.indexCast v905
  ![6, v1208.toNat]
def k0_off909 (v1204 : BitVec 32) (c0_i32_436 : BitVec 32) : Fin 2 → Nat :=
  let v1222 : BitVec 32 := Scalar.addi v1204 c0_i32_436
  let v1223 : Index := Scalar.indexCast v1222
  let c0_437 : Index := 0#32
  ![v1223.toNat, 0]

def k0_chk201 (v1204 : BitVec 32) : Prop :=
  (∀ a, (k0_off907 v1204) a + S1x128.size a ≤ S102432x128.size a) ∧
  (∀ (r : Fin 3), ∀ a, (k0_off909 v1204 (BitVec.ofNat 32 (8 * r.val))) a + S8x128.size a ≤ S102432x128.size a)
theorem k0_off907_inb : ∀ (v1204 : BitVec 32) (k0_hw201 : k0_chk201 v1204), ∀ a, (k0_off907 v1204) a + S1x128.size a ≤ S102432x128.size a := fun v1204 k0_hw201 => k0_hw201.1
theorem k0_off909_inb : ∀ (v1204 : BitVec 32) (k0_hw201 : k0_chk201 v1204), ∀ (r : Fin 3), ∀ a, (k0_off909 v1204 (BitVec.ofNat 32 (8 * r.val))) a + S8x128.size a ≤ S102432x128.size a := fun v1204 k0_hw201 r => k0_hw201.2 r

def k0_off910 (k0_t9 : Fin k0_t9_loop.trips) : Fin 2 → Nat :=
  let c7_446 : Index := 7#32
  let c64_i32_333 : BitVec 32 := 64#32
  let c0_i32_40 : BitVec 32 := 0#32
  let c1_i32_42 : BitVec 32 := 1#32
  let arg20 : BitVec 32 := Scf.iv c0_i32_40 c1_i32_42 k0_t9
  let c8_i32_332 : BitVec 32 := 8#32
  let v903 : BitVec 32 := Scalar.muli arg20 c8_i32_332
  let v904 : BitVec 32 := Scalar.addi c64_i32_333 v903
  let c2_i32 : BitVec 32 := 2#32
  let v905 : BitVec 32 := Scalar.addi v904 c2_i32
  let v1253 : Index := Scalar.indexCast v905
  ![7, v1253.toNat]
def k0_off911 (v1254 : BitVec 32) : Fin 2 → Nat :=
  let c24_i32_447 : BitVec 32 := 24#32
  let v1255 : BitVec 32 := Scalar.addi v1254 c24_i32_447
  let v1256 : Index := Scalar.indexCast v1255
  let c0_448 : Index := 0#32
  ![v1256.toNat, 0]

def k0_off912 (k0_t9 : Fin k0_t9_loop.trips) : Fin 2 → Nat :=
  let c7_449 : Index := 7#32
  let c64_i32_333 : BitVec 32 := 64#32
  let c0_i32_40 : BitVec 32 := 0#32
  let c1_i32_42 : BitVec 32 := 1#32
  let arg20 : BitVec 32 := Scf.iv c0_i32_40 c1_i32_42 k0_t9
  let c8_i32_332 : BitVec 32 := 8#32
  let v903 : BitVec 32 := Scalar.muli arg20 c8_i32_332
  let v904 : BitVec 32 := Scalar.addi c64_i32_333 v903
  let c2_i32 : BitVec 32 := 2#32
  let v905 : BitVec 32 := Scalar.addi v904 c2_i32
  let v1258 : Index := Scalar.indexCast v905
  ![7, v1258.toNat]
def k0_off913 (v1254 : BitVec 32) (c0_i32_452 : BitVec 32) : Fin 2 → Nat :=
  let v1272 : BitVec 32 := Scalar.addi v1254 c0_i32_452
  let v1273 : Index := Scalar.indexCast v1272
  let c0_453 : Index := 0#32
  ![v1273.toNat, 0]

def k0_chk202 (v1254 : BitVec 32) : Prop :=
  (∀ a, (k0_off911 v1254) a + S1x128.size a ≤ S102432x128.size a) ∧
  (∀ (r : Fin 3), ∀ a, (k0_off913 v1254 (BitVec.ofNat 32 (8 * r.val))) a + S8x128.size a ≤ S102432x128.size a)
theorem k0_off911_inb : ∀ (v1254 : BitVec 32) (k0_hw202 : k0_chk202 v1254), ∀ a, (k0_off911 v1254) a + S1x128.size a ≤ S102432x128.size a := fun v1254 k0_hw202 => k0_hw202.1
theorem k0_off913_inb : ∀ (v1254 : BitVec 32) (k0_hw202 : k0_chk202 v1254), ∀ (r : Fin 3), ∀ a, (k0_off913 v1254 (BitVec.ofNat 32 (8 * r.val))) a + S8x128.size a ≤ S102432x128.size a := fun v1254 k0_hw202 r => k0_hw202.2 r

def k0_off914 (k0_t9 : Fin k0_t9_loop.trips) (c0_i32_463 : BitVec 32) : Fin 2 → Nat :=
  let c64_i32_333 : BitVec 32 := 64#32
  let c0_i32_40 : BitVec 32 := 0#32
  let c1_i32_42 : BitVec 32 := 1#32
  let arg20 : BitVec 32 := Scf.iv c0_i32_40 c1_i32_42 k0_t9
  let c8_i32_332 : BitVec 32 := 8#32
  let v903 : BitVec 32 := Scalar.muli arg20 c8_i32_332
  let v904 : BitVec 32 := Scalar.addi c64_i32_333 v903
  let c2_i32 : BitVec 32 := 2#32
  let v905 : BitVec 32 := Scalar.addi v904 c2_i32
  let c25_i32_462 : BitVec 32 := 25#32
  let v1303 : BitVec 32 := Scalar.muli v905 c25_i32_462
  let v1304 : BitVec 32 := Scalar.addi v1303 c0_i32_463
  let v1305 : Index := Scalar.indexCast v1304
  let c0_464 : Index := 0#32
  ![v1305.toNat, 0]
def k0_off915 (k0_t9 : Fin k0_t9_loop.trips) : Fin 2 → Nat :=
  let c0_473 : Index := 0#32
  let c64_i32_472 : BitVec 32 := 64#32
  let c0_i32_40 : BitVec 32 := 0#32
  let c1_i32_42 : BitVec 32 := 1#32
  let arg20 : BitVec 32 := Scf.iv c0_i32_40 c1_i32_42 k0_t9
  let c8_i32_471 : BitVec 32 := 8#32
  let v1321 : BitVec 32 := Scalar.muli arg20 c8_i32_471
  let v1322 : BitVec 32 := Scalar.addi c64_i32_472 v1321
  let c3_i32 : BitVec 32 := 3#32
  let v1323 : BitVec 32 := Scalar.addi v1322 c3_i32
  let v1324 : Index := Scalar.indexCast v1323
  ![0, v1324.toNat]
def k0_off916 (v1325 : BitVec 32) : Fin 2 → Nat :=
  let c24_i32_474 : BitVec 32 := 24#32
  let v1326 : BitVec 32 := Scalar.addi v1325 c24_i32_474
  let v1327 : Index := Scalar.indexCast v1326
  let c0_475 : Index := 0#32
  ![v1327.toNat, 0]

def k0_off917 (k0_t9 : Fin k0_t9_loop.trips) : Fin 2 → Nat :=
  let c0_476 : Index := 0#32
  let c64_i32_472 : BitVec 32 := 64#32
  let c0_i32_40 : BitVec 32 := 0#32
  let c1_i32_42 : BitVec 32 := 1#32
  let arg20 : BitVec 32 := Scf.iv c0_i32_40 c1_i32_42 k0_t9
  let c8_i32_471 : BitVec 32 := 8#32
  let v1321 : BitVec 32 := Scalar.muli arg20 c8_i32_471
  let v1322 : BitVec 32 := Scalar.addi c64_i32_472 v1321
  let c3_i32 : BitVec 32 := 3#32
  let v1323 : BitVec 32 := Scalar.addi v1322 c3_i32
  let v1329 : Index := Scalar.indexCast v1323
  ![0, v1329.toNat]
def k0_off918 (v1325 : BitVec 32) (c0_i32_479 : BitVec 32) : Fin 2 → Nat :=
  let v1343 : BitVec 32 := Scalar.addi v1325 c0_i32_479
  let v1344 : Index := Scalar.indexCast v1343
  let c0_480 : Index := 0#32
  ![v1344.toNat, 0]

def k0_chk203 (v1325 : BitVec 32) : Prop :=
  (∀ a, (k0_off916 v1325) a + S1x128.size a ≤ S102432x128.size a) ∧
  (∀ (r : Fin 3), ∀ a, (k0_off918 v1325 (BitVec.ofNat 32 (8 * r.val))) a + S8x128.size a ≤ S102432x128.size a)
theorem k0_off916_inb : ∀ (v1325 : BitVec 32) (k0_hw203 : k0_chk203 v1325), ∀ a, (k0_off916 v1325) a + S1x128.size a ≤ S102432x128.size a := fun v1325 k0_hw203 => k0_hw203.1
theorem k0_off918_inb : ∀ (v1325 : BitVec 32) (k0_hw203 : k0_chk203 v1325), ∀ (r : Fin 3), ∀ a, (k0_off918 v1325 (BitVec.ofNat 32 (8 * r.val))) a + S8x128.size a ≤ S102432x128.size a := fun v1325 k0_hw203 r => k0_hw203.2 r

def k0_off919 (k0_t9 : Fin k0_t9_loop.trips) : Fin 2 → Nat :=
  let c1_489 : Index := 1#32
  let c64_i32_472 : BitVec 32 := 64#32
  let c0_i32_40 : BitVec 32 := 0#32
  let c1_i32_42 : BitVec 32 := 1#32
  let arg20 : BitVec 32 := Scf.iv c0_i32_40 c1_i32_42 k0_t9
  let c8_i32_471 : BitVec 32 := 8#32
  let v1321 : BitVec 32 := Scalar.muli arg20 c8_i32_471
  let v1322 : BitVec 32 := Scalar.addi c64_i32_472 v1321
  let c3_i32 : BitVec 32 := 3#32
  let v1323 : BitVec 32 := Scalar.addi v1322 c3_i32
  let v1371 : Index := Scalar.indexCast v1323
  ![1, v1371.toNat]
def k0_off920 (v1372 : BitVec 32) : Fin 2 → Nat :=
  let c24_i32_490 : BitVec 32 := 24#32
  let v1373 : BitVec 32 := Scalar.addi v1372 c24_i32_490
  let v1374 : Index := Scalar.indexCast v1373
  let c0_491 : Index := 0#32
  ![v1374.toNat, 0]

def k0_off921 (k0_t9 : Fin k0_t9_loop.trips) : Fin 2 → Nat :=
  let c1_492 : Index := 1#32
  let c64_i32_472 : BitVec 32 := 64#32
  let c0_i32_40 : BitVec 32 := 0#32
  let c1_i32_42 : BitVec 32 := 1#32
  let arg20 : BitVec 32 := Scf.iv c0_i32_40 c1_i32_42 k0_t9
  let c8_i32_471 : BitVec 32 := 8#32
  let v1321 : BitVec 32 := Scalar.muli arg20 c8_i32_471
  let v1322 : BitVec 32 := Scalar.addi c64_i32_472 v1321
  let c3_i32 : BitVec 32 := 3#32
  let v1323 : BitVec 32 := Scalar.addi v1322 c3_i32
  let v1376 : Index := Scalar.indexCast v1323
  ![1, v1376.toNat]
def k0_off922 (v1372 : BitVec 32) (c0_i32_495 : BitVec 32) : Fin 2 → Nat :=
  let v1390 : BitVec 32 := Scalar.addi v1372 c0_i32_495
  let v1391 : Index := Scalar.indexCast v1390
  let c0_496 : Index := 0#32
  ![v1391.toNat, 0]

def k0_chk204 (v1372 : BitVec 32) : Prop :=
  (∀ a, (k0_off920 v1372) a + S1x128.size a ≤ S102432x128.size a) ∧
  (∀ (r : Fin 3), ∀ a, (k0_off922 v1372 (BitVec.ofNat 32 (8 * r.val))) a + S8x128.size a ≤ S102432x128.size a)
theorem k0_off920_inb : ∀ (v1372 : BitVec 32) (k0_hw204 : k0_chk204 v1372), ∀ a, (k0_off920 v1372) a + S1x128.size a ≤ S102432x128.size a := fun v1372 k0_hw204 => k0_hw204.1
theorem k0_off922_inb : ∀ (v1372 : BitVec 32) (k0_hw204 : k0_chk204 v1372), ∀ (r : Fin 3), ∀ a, (k0_off922 v1372 (BitVec.ofNat 32 (8 * r.val))) a + S8x128.size a ≤ S102432x128.size a := fun v1372 k0_hw204 r => k0_hw204.2 r

def k0_off923 (k0_t9 : Fin k0_t9_loop.trips) : Fin 2 → Nat :=
  let c2_505 : Index := 2#32
  let c64_i32_472 : BitVec 32 := 64#32
  let c0_i32_40 : BitVec 32 := 0#32
  let c1_i32_42 : BitVec 32 := 1#32
  let arg20 : BitVec 32 := Scf.iv c0_i32_40 c1_i32_42 k0_t9
  let c8_i32_471 : BitVec 32 := 8#32
  let v1321 : BitVec 32 := Scalar.muli arg20 c8_i32_471
  let v1322 : BitVec 32 := Scalar.addi c64_i32_472 v1321
  let c3_i32 : BitVec 32 := 3#32
  let v1323 : BitVec 32 := Scalar.addi v1322 c3_i32
  let v1421 : Index := Scalar.indexCast v1323
  ![2, v1421.toNat]
def k0_off924 (v1422 : BitVec 32) : Fin 2 → Nat :=
  let c24_i32_506 : BitVec 32 := 24#32
  let v1423 : BitVec 32 := Scalar.addi v1422 c24_i32_506
  let v1424 : Index := Scalar.indexCast v1423
  let c0_507 : Index := 0#32
  ![v1424.toNat, 0]

def k0_off925 (k0_t9 : Fin k0_t9_loop.trips) : Fin 2 → Nat :=
  let c2_508 : Index := 2#32
  let c64_i32_472 : BitVec 32 := 64#32
  let c0_i32_40 : BitVec 32 := 0#32
  let c1_i32_42 : BitVec 32 := 1#32
  let arg20 : BitVec 32 := Scf.iv c0_i32_40 c1_i32_42 k0_t9
  let c8_i32_471 : BitVec 32 := 8#32
  let v1321 : BitVec 32 := Scalar.muli arg20 c8_i32_471
  let v1322 : BitVec 32 := Scalar.addi c64_i32_472 v1321
  let c3_i32 : BitVec 32 := 3#32
  let v1323 : BitVec 32 := Scalar.addi v1322 c3_i32
  let v1426 : Index := Scalar.indexCast v1323
  ![2, v1426.toNat]
def k0_off926 (v1422 : BitVec 32) (c0_i32_511 : BitVec 32) : Fin 2 → Nat :=
  let v1440 : BitVec 32 := Scalar.addi v1422 c0_i32_511
  let v1441 : Index := Scalar.indexCast v1440
  let c0_512 : Index := 0#32
  ![v1441.toNat, 0]

def k0_chk205 (v1422 : BitVec 32) : Prop :=
  (∀ a, (k0_off924 v1422) a + S1x128.size a ≤ S102432x128.size a) ∧
  (∀ (r : Fin 3), ∀ a, (k0_off926 v1422 (BitVec.ofNat 32 (8 * r.val))) a + S8x128.size a ≤ S102432x128.size a)
theorem k0_off924_inb : ∀ (v1422 : BitVec 32) (k0_hw205 : k0_chk205 v1422), ∀ a, (k0_off924 v1422) a + S1x128.size a ≤ S102432x128.size a := fun v1422 k0_hw205 => k0_hw205.1
theorem k0_off926_inb : ∀ (v1422 : BitVec 32) (k0_hw205 : k0_chk205 v1422), ∀ (r : Fin 3), ∀ a, (k0_off926 v1422 (BitVec.ofNat 32 (8 * r.val))) a + S8x128.size a ≤ S102432x128.size a := fun v1422 k0_hw205 r => k0_hw205.2 r

def k0_off927 (k0_t9 : Fin k0_t9_loop.trips) : Fin 2 → Nat :=
  let c3_521 : Index := 3#32
  let c64_i32_472 : BitVec 32 := 64#32
  let c0_i32_40 : BitVec 32 := 0#32
  let c1_i32_42 : BitVec 32 := 1#32
  let arg20 : BitVec 32 := Scf.iv c0_i32_40 c1_i32_42 k0_t9
  let c8_i32_471 : BitVec 32 := 8#32
  let v1321 : BitVec 32 := Scalar.muli arg20 c8_i32_471
  let v1322 : BitVec 32 := Scalar.addi c64_i32_472 v1321
  let c3_i32 : BitVec 32 := 3#32
  let v1323 : BitVec 32 := Scalar.addi v1322 c3_i32
  let v1471 : Index := Scalar.indexCast v1323
  ![3, v1471.toNat]
def k0_off928 (v1472 : BitVec 32) : Fin 2 → Nat :=
  let c24_i32_522 : BitVec 32 := 24#32
  let v1473 : BitVec 32 := Scalar.addi v1472 c24_i32_522
  let v1474 : Index := Scalar.indexCast v1473
  let c0_523 : Index := 0#32
  ![v1474.toNat, 0]

def k0_off929 (k0_t9 : Fin k0_t9_loop.trips) : Fin 2 → Nat :=
  let c3_524 : Index := 3#32
  let c64_i32_472 : BitVec 32 := 64#32
  let c0_i32_40 : BitVec 32 := 0#32
  let c1_i32_42 : BitVec 32 := 1#32
  let arg20 : BitVec 32 := Scf.iv c0_i32_40 c1_i32_42 k0_t9
  let c8_i32_471 : BitVec 32 := 8#32
  let v1321 : BitVec 32 := Scalar.muli arg20 c8_i32_471
  let v1322 : BitVec 32 := Scalar.addi c64_i32_472 v1321
  let c3_i32 : BitVec 32 := 3#32
  let v1323 : BitVec 32 := Scalar.addi v1322 c3_i32
  let v1476 : Index := Scalar.indexCast v1323
  ![3, v1476.toNat]
def k0_off930 (v1472 : BitVec 32) (c0_i32_527 : BitVec 32) : Fin 2 → Nat :=
  let v1490 : BitVec 32 := Scalar.addi v1472 c0_i32_527
  let v1491 : Index := Scalar.indexCast v1490
  let c0_528 : Index := 0#32
  ![v1491.toNat, 0]

def k0_chk206 (v1472 : BitVec 32) : Prop :=
  (∀ a, (k0_off928 v1472) a + S1x128.size a ≤ S102432x128.size a) ∧
  (∀ (r : Fin 3), ∀ a, (k0_off930 v1472 (BitVec.ofNat 32 (8 * r.val))) a + S8x128.size a ≤ S102432x128.size a)
theorem k0_off928_inb : ∀ (v1472 : BitVec 32) (k0_hw206 : k0_chk206 v1472), ∀ a, (k0_off928 v1472) a + S1x128.size a ≤ S102432x128.size a := fun v1472 k0_hw206 => k0_hw206.1
theorem k0_off930_inb : ∀ (v1472 : BitVec 32) (k0_hw206 : k0_chk206 v1472), ∀ (r : Fin 3), ∀ a, (k0_off930 v1472 (BitVec.ofNat 32 (8 * r.val))) a + S8x128.size a ≤ S102432x128.size a := fun v1472 k0_hw206 r => k0_hw206.2 r

def k0_off931 (k0_t9 : Fin k0_t9_loop.trips) : Fin 2 → Nat :=
  let c4_537 : Index := 4#32
  let c64_i32_472 : BitVec 32 := 64#32
  let c0_i32_40 : BitVec 32 := 0#32
  let c1_i32_42 : BitVec 32 := 1#32
  let arg20 : BitVec 32 := Scf.iv c0_i32_40 c1_i32_42 k0_t9
  let c8_i32_471 : BitVec 32 := 8#32
  let v1321 : BitVec 32 := Scalar.muli arg20 c8_i32_471
  let v1322 : BitVec 32 := Scalar.addi c64_i32_472 v1321
  let c3_i32 : BitVec 32 := 3#32
  let v1323 : BitVec 32 := Scalar.addi v1322 c3_i32
  let v1521 : Index := Scalar.indexCast v1323
  ![4, v1521.toNat]
def k0_off932 (v1522 : BitVec 32) : Fin 2 → Nat :=
  let c24_i32_538 : BitVec 32 := 24#32
  let v1523 : BitVec 32 := Scalar.addi v1522 c24_i32_538
  let v1524 : Index := Scalar.indexCast v1523
  let c0_539 : Index := 0#32
  ![v1524.toNat, 0]

def k0_off933 (k0_t9 : Fin k0_t9_loop.trips) : Fin 2 → Nat :=
  let c4_540 : Index := 4#32
  let c64_i32_472 : BitVec 32 := 64#32
  let c0_i32_40 : BitVec 32 := 0#32
  let c1_i32_42 : BitVec 32 := 1#32
  let arg20 : BitVec 32 := Scf.iv c0_i32_40 c1_i32_42 k0_t9
  let c8_i32_471 : BitVec 32 := 8#32
  let v1321 : BitVec 32 := Scalar.muli arg20 c8_i32_471
  let v1322 : BitVec 32 := Scalar.addi c64_i32_472 v1321
  let c3_i32 : BitVec 32 := 3#32
  let v1323 : BitVec 32 := Scalar.addi v1322 c3_i32
  let v1526 : Index := Scalar.indexCast v1323
  ![4, v1526.toNat]
def k0_off934 (v1522 : BitVec 32) (c0_i32_543 : BitVec 32) : Fin 2 → Nat :=
  let v1540 : BitVec 32 := Scalar.addi v1522 c0_i32_543
  let v1541 : Index := Scalar.indexCast v1540
  let c0_544 : Index := 0#32
  ![v1541.toNat, 0]

def k0_chk207 (v1522 : BitVec 32) : Prop :=
  (∀ a, (k0_off932 v1522) a + S1x128.size a ≤ S102432x128.size a) ∧
  (∀ (r : Fin 3), ∀ a, (k0_off934 v1522 (BitVec.ofNat 32 (8 * r.val))) a + S8x128.size a ≤ S102432x128.size a)
theorem k0_off932_inb : ∀ (v1522 : BitVec 32) (k0_hw207 : k0_chk207 v1522), ∀ a, (k0_off932 v1522) a + S1x128.size a ≤ S102432x128.size a := fun v1522 k0_hw207 => k0_hw207.1
theorem k0_off934_inb : ∀ (v1522 : BitVec 32) (k0_hw207 : k0_chk207 v1522), ∀ (r : Fin 3), ∀ a, (k0_off934 v1522 (BitVec.ofNat 32 (8 * r.val))) a + S8x128.size a ≤ S102432x128.size a := fun v1522 k0_hw207 r => k0_hw207.2 r

def k0_off935 (k0_t9 : Fin k0_t9_loop.trips) : Fin 2 → Nat :=
  let c5_553 : Index := 5#32
  let c64_i32_472 : BitVec 32 := 64#32
  let c0_i32_40 : BitVec 32 := 0#32
  let c1_i32_42 : BitVec 32 := 1#32
  let arg20 : BitVec 32 := Scf.iv c0_i32_40 c1_i32_42 k0_t9
  let c8_i32_471 : BitVec 32 := 8#32
  let v1321 : BitVec 32 := Scalar.muli arg20 c8_i32_471
  let v1322 : BitVec 32 := Scalar.addi c64_i32_472 v1321
  let c3_i32 : BitVec 32 := 3#32
  let v1323 : BitVec 32 := Scalar.addi v1322 c3_i32
  let v1571 : Index := Scalar.indexCast v1323
  ![5, v1571.toNat]
def k0_off936 (v1572 : BitVec 32) : Fin 2 → Nat :=
  let c24_i32_554 : BitVec 32 := 24#32
  let v1573 : BitVec 32 := Scalar.addi v1572 c24_i32_554
  let v1574 : Index := Scalar.indexCast v1573
  let c0_555 : Index := 0#32
  ![v1574.toNat, 0]

def k0_off937 (k0_t9 : Fin k0_t9_loop.trips) : Fin 2 → Nat :=
  let c5_556 : Index := 5#32
  let c64_i32_472 : BitVec 32 := 64#32
  let c0_i32_40 : BitVec 32 := 0#32
  let c1_i32_42 : BitVec 32 := 1#32
  let arg20 : BitVec 32 := Scf.iv c0_i32_40 c1_i32_42 k0_t9
  let c8_i32_471 : BitVec 32 := 8#32
  let v1321 : BitVec 32 := Scalar.muli arg20 c8_i32_471
  let v1322 : BitVec 32 := Scalar.addi c64_i32_472 v1321
  let c3_i32 : BitVec 32 := 3#32
  let v1323 : BitVec 32 := Scalar.addi v1322 c3_i32
  let v1576 : Index := Scalar.indexCast v1323
  ![5, v1576.toNat]
def k0_off938 (v1572 : BitVec 32) (c0_i32_559 : BitVec 32) : Fin 2 → Nat :=
  let v1590 : BitVec 32 := Scalar.addi v1572 c0_i32_559
  let v1591 : Index := Scalar.indexCast v1590
  let c0_560 : Index := 0#32
  ![v1591.toNat, 0]

def k0_chk208 (v1572 : BitVec 32) : Prop :=
  (∀ a, (k0_off936 v1572) a + S1x128.size a ≤ S102432x128.size a) ∧
  (∀ (r : Fin 3), ∀ a, (k0_off938 v1572 (BitVec.ofNat 32 (8 * r.val))) a + S8x128.size a ≤ S102432x128.size a)
theorem k0_off936_inb : ∀ (v1572 : BitVec 32) (k0_hw208 : k0_chk208 v1572), ∀ a, (k0_off936 v1572) a + S1x128.size a ≤ S102432x128.size a := fun v1572 k0_hw208 => k0_hw208.1
theorem k0_off938_inb : ∀ (v1572 : BitVec 32) (k0_hw208 : k0_chk208 v1572), ∀ (r : Fin 3), ∀ a, (k0_off938 v1572 (BitVec.ofNat 32 (8 * r.val))) a + S8x128.size a ≤ S102432x128.size a := fun v1572 k0_hw208 r => k0_hw208.2 r

def k0_off939 (k0_t9 : Fin k0_t9_loop.trips) : Fin 2 → Nat :=
  let c6_569 : Index := 6#32
  let c64_i32_472 : BitVec 32 := 64#32
  let c0_i32_40 : BitVec 32 := 0#32
  let c1_i32_42 : BitVec 32 := 1#32
  let arg20 : BitVec 32 := Scf.iv c0_i32_40 c1_i32_42 k0_t9
  let c8_i32_471 : BitVec 32 := 8#32
  let v1321 : BitVec 32 := Scalar.muli arg20 c8_i32_471
  let v1322 : BitVec 32 := Scalar.addi c64_i32_472 v1321
  let c3_i32 : BitVec 32 := 3#32
  let v1323 : BitVec 32 := Scalar.addi v1322 c3_i32
  let v1621 : Index := Scalar.indexCast v1323
  ![6, v1621.toNat]
def k0_off940 (v1622 : BitVec 32) : Fin 2 → Nat :=
  let c24_i32_570 : BitVec 32 := 24#32
  let v1623 : BitVec 32 := Scalar.addi v1622 c24_i32_570
  let v1624 : Index := Scalar.indexCast v1623
  let c0_571 : Index := 0#32
  ![v1624.toNat, 0]

def k0_off941 (k0_t9 : Fin k0_t9_loop.trips) : Fin 2 → Nat :=
  let c6_572 : Index := 6#32
  let c64_i32_472 : BitVec 32 := 64#32
  let c0_i32_40 : BitVec 32 := 0#32
  let c1_i32_42 : BitVec 32 := 1#32
  let arg20 : BitVec 32 := Scf.iv c0_i32_40 c1_i32_42 k0_t9
  let c8_i32_471 : BitVec 32 := 8#32
  let v1321 : BitVec 32 := Scalar.muli arg20 c8_i32_471
  let v1322 : BitVec 32 := Scalar.addi c64_i32_472 v1321
  let c3_i32 : BitVec 32 := 3#32
  let v1323 : BitVec 32 := Scalar.addi v1322 c3_i32
  let v1626 : Index := Scalar.indexCast v1323
  ![6, v1626.toNat]
def k0_off942 (v1622 : BitVec 32) (c0_i32_575 : BitVec 32) : Fin 2 → Nat :=
  let v1640 : BitVec 32 := Scalar.addi v1622 c0_i32_575
  let v1641 : Index := Scalar.indexCast v1640
  let c0_576 : Index := 0#32
  ![v1641.toNat, 0]

def k0_chk209 (v1622 : BitVec 32) : Prop :=
  (∀ a, (k0_off940 v1622) a + S1x128.size a ≤ S102432x128.size a) ∧
  (∀ (r : Fin 3), ∀ a, (k0_off942 v1622 (BitVec.ofNat 32 (8 * r.val))) a + S8x128.size a ≤ S102432x128.size a)
theorem k0_off940_inb : ∀ (v1622 : BitVec 32) (k0_hw209 : k0_chk209 v1622), ∀ a, (k0_off940 v1622) a + S1x128.size a ≤ S102432x128.size a := fun v1622 k0_hw209 => k0_hw209.1
theorem k0_off942_inb : ∀ (v1622 : BitVec 32) (k0_hw209 : k0_chk209 v1622), ∀ (r : Fin 3), ∀ a, (k0_off942 v1622 (BitVec.ofNat 32 (8 * r.val))) a + S8x128.size a ≤ S102432x128.size a := fun v1622 k0_hw209 r => k0_hw209.2 r

def k0_off943 (k0_t9 : Fin k0_t9_loop.trips) : Fin 2 → Nat :=
  let c7_585 : Index := 7#32
  let c64_i32_472 : BitVec 32 := 64#32
  let c0_i32_40 : BitVec 32 := 0#32
  let c1_i32_42 : BitVec 32 := 1#32
  let arg20 : BitVec 32 := Scf.iv c0_i32_40 c1_i32_42 k0_t9
  let c8_i32_471 : BitVec 32 := 8#32
  let v1321 : BitVec 32 := Scalar.muli arg20 c8_i32_471
  let v1322 : BitVec 32 := Scalar.addi c64_i32_472 v1321
  let c3_i32 : BitVec 32 := 3#32
  let v1323 : BitVec 32 := Scalar.addi v1322 c3_i32
  let v1671 : Index := Scalar.indexCast v1323
  ![7, v1671.toNat]
def k0_off944 (v1672 : BitVec 32) : Fin 2 → Nat :=
  let c24_i32_586 : BitVec 32 := 24#32
  let v1673 : BitVec 32 := Scalar.addi v1672 c24_i32_586
  let v1674 : Index := Scalar.indexCast v1673
  let c0_587 : Index := 0#32
  ![v1674.toNat, 0]

def k0_off945 (k0_t9 : Fin k0_t9_loop.trips) : Fin 2 → Nat :=
  let c7_588 : Index := 7#32
  let c64_i32_472 : BitVec 32 := 64#32
  let c0_i32_40 : BitVec 32 := 0#32
  let c1_i32_42 : BitVec 32 := 1#32
  let arg20 : BitVec 32 := Scf.iv c0_i32_40 c1_i32_42 k0_t9
  let c8_i32_471 : BitVec 32 := 8#32
  let v1321 : BitVec 32 := Scalar.muli arg20 c8_i32_471
  let v1322 : BitVec 32 := Scalar.addi c64_i32_472 v1321
  let c3_i32 : BitVec 32 := 3#32
  let v1323 : BitVec 32 := Scalar.addi v1322 c3_i32
  let v1676 : Index := Scalar.indexCast v1323
  ![7, v1676.toNat]
def k0_off946 (v1672 : BitVec 32) (c0_i32_591 : BitVec 32) : Fin 2 → Nat :=
  let v1690 : BitVec 32 := Scalar.addi v1672 c0_i32_591
  let v1691 : Index := Scalar.indexCast v1690
  let c0_592 : Index := 0#32
  ![v1691.toNat, 0]

def k0_chk210 (v1672 : BitVec 32) : Prop :=
  (∀ a, (k0_off944 v1672) a + S1x128.size a ≤ S102432x128.size a) ∧
  (∀ (r : Fin 3), ∀ a, (k0_off946 v1672 (BitVec.ofNat 32 (8 * r.val))) a + S8x128.size a ≤ S102432x128.size a)
theorem k0_off944_inb : ∀ (v1672 : BitVec 32) (k0_hw210 : k0_chk210 v1672), ∀ a, (k0_off944 v1672) a + S1x128.size a ≤ S102432x128.size a := fun v1672 k0_hw210 => k0_hw210.1
theorem k0_off946_inb : ∀ (v1672 : BitVec 32) (k0_hw210 : k0_chk210 v1672), ∀ (r : Fin 3), ∀ a, (k0_off946 v1672 (BitVec.ofNat 32 (8 * r.val))) a + S8x128.size a ≤ S102432x128.size a := fun v1672 k0_hw210 r => k0_hw210.2 r

def k0_off947 (k0_t9 : Fin k0_t9_loop.trips) (c0_i32_602 : BitVec 32) : Fin 2 → Nat :=
  let c64_i32_472 : BitVec 32 := 64#32
  let c0_i32_40 : BitVec 32 := 0#32
  let c1_i32_42 : BitVec 32 := 1#32
  let arg20 : BitVec 32 := Scf.iv c0_i32_40 c1_i32_42 k0_t9
  let c8_i32_471 : BitVec 32 := 8#32
  let v1321 : BitVec 32 := Scalar.muli arg20 c8_i32_471
  let v1322 : BitVec 32 := Scalar.addi c64_i32_472 v1321
  let c3_i32 : BitVec 32 := 3#32
  let v1323 : BitVec 32 := Scalar.addi v1322 c3_i32
  let c25_i32_601 : BitVec 32 := 25#32
  let v1721 : BitVec 32 := Scalar.muli v1323 c25_i32_601
  let v1722 : BitVec 32 := Scalar.addi v1721 c0_i32_602
  let v1723 : Index := Scalar.indexCast v1722
  let c0_603 : Index := 0#32
  ![v1723.toNat, 0]
def k0_off948 (k0_t9 : Fin k0_t9_loop.trips) : Fin 2 → Nat :=
  let c0_613 : Index := 0#32
  let c64_i32_611 : BitVec 32 := 64#32
  let c0_i32_40 : BitVec 32 := 0#32
  let c1_i32_42 : BitVec 32 := 1#32
  let arg20 : BitVec 32 := Scf.iv c0_i32_40 c1_i32_42 k0_t9
  let c8_i32_610 : BitVec 32 := 8#32
  let v1739 : BitVec 32 := Scalar.muli arg20 c8_i32_610
  let v1740 : BitVec 32 := Scalar.addi c64_i32_611 v1739
  let c4_i32_612 : BitVec 32 := 4#32
  let v1741 : BitVec 32 := Scalar.addi v1740 c4_i32_612
  let v1742 : Index := Scalar.indexCast v1741
  ![0, v1742.toNat]
def k0_off949 (v1743 : BitVec 32) : Fin 2 → Nat :=
  let c24_i32_614 : BitVec 32 := 24#32
  let v1744 : BitVec 32 := Scalar.addi v1743 c24_i32_614
  let v1745 : Index := Scalar.indexCast v1744
  let c0_615 : Index := 0#32
  ![v1745.toNat, 0]

def k0_off950 (k0_t9 : Fin k0_t9_loop.trips) : Fin 2 → Nat :=
  let c0_616 : Index := 0#32
  let c64_i32_611 : BitVec 32 := 64#32
  let c0_i32_40 : BitVec 32 := 0#32
  let c1_i32_42 : BitVec 32 := 1#32
  let arg20 : BitVec 32 := Scf.iv c0_i32_40 c1_i32_42 k0_t9
  let c8_i32_610 : BitVec 32 := 8#32
  let v1739 : BitVec 32 := Scalar.muli arg20 c8_i32_610
  let v1740 : BitVec 32 := Scalar.addi c64_i32_611 v1739
  let c4_i32_612 : BitVec 32 := 4#32
  let v1741 : BitVec 32 := Scalar.addi v1740 c4_i32_612
  let v1747 : Index := Scalar.indexCast v1741
  ![0, v1747.toNat]
def k0_off951 (v1743 : BitVec 32) (c0_i32_619 : BitVec 32) : Fin 2 → Nat :=
  let v1761 : BitVec 32 := Scalar.addi v1743 c0_i32_619
  let v1762 : Index := Scalar.indexCast v1761
  let c0_620 : Index := 0#32
  ![v1762.toNat, 0]

def k0_chk211 (v1743 : BitVec 32) : Prop :=
  (∀ a, (k0_off949 v1743) a + S1x128.size a ≤ S102432x128.size a) ∧
  (∀ (r : Fin 3), ∀ a, (k0_off951 v1743 (BitVec.ofNat 32 (8 * r.val))) a + S8x128.size a ≤ S102432x128.size a)
theorem k0_off949_inb : ∀ (v1743 : BitVec 32) (k0_hw211 : k0_chk211 v1743), ∀ a, (k0_off949 v1743) a + S1x128.size a ≤ S102432x128.size a := fun v1743 k0_hw211 => k0_hw211.1
theorem k0_off951_inb : ∀ (v1743 : BitVec 32) (k0_hw211 : k0_chk211 v1743), ∀ (r : Fin 3), ∀ a, (k0_off951 v1743 (BitVec.ofNat 32 (8 * r.val))) a + S8x128.size a ≤ S102432x128.size a := fun v1743 k0_hw211 r => k0_hw211.2 r

def k0_off952 (k0_t9 : Fin k0_t9_loop.trips) : Fin 2 → Nat :=
  let c1_629 : Index := 1#32
  let c64_i32_611 : BitVec 32 := 64#32
  let c0_i32_40 : BitVec 32 := 0#32
  let c1_i32_42 : BitVec 32 := 1#32
  let arg20 : BitVec 32 := Scf.iv c0_i32_40 c1_i32_42 k0_t9
  let c8_i32_610 : BitVec 32 := 8#32
  let v1739 : BitVec 32 := Scalar.muli arg20 c8_i32_610
  let v1740 : BitVec 32 := Scalar.addi c64_i32_611 v1739
  let c4_i32_612 : BitVec 32 := 4#32
  let v1741 : BitVec 32 := Scalar.addi v1740 c4_i32_612
  let v1789 : Index := Scalar.indexCast v1741
  ![1, v1789.toNat]
def k0_off953 (v1790 : BitVec 32) : Fin 2 → Nat :=
  let c24_i32_630 : BitVec 32 := 24#32
  let v1791 : BitVec 32 := Scalar.addi v1790 c24_i32_630
  let v1792 : Index := Scalar.indexCast v1791
  let c0_631 : Index := 0#32
  ![v1792.toNat, 0]

def k0_off954 (k0_t9 : Fin k0_t9_loop.trips) : Fin 2 → Nat :=
  let c1_632 : Index := 1#32
  let c64_i32_611 : BitVec 32 := 64#32
  let c0_i32_40 : BitVec 32 := 0#32
  let c1_i32_42 : BitVec 32 := 1#32
  let arg20 : BitVec 32 := Scf.iv c0_i32_40 c1_i32_42 k0_t9
  let c8_i32_610 : BitVec 32 := 8#32
  let v1739 : BitVec 32 := Scalar.muli arg20 c8_i32_610
  let v1740 : BitVec 32 := Scalar.addi c64_i32_611 v1739
  let c4_i32_612 : BitVec 32 := 4#32
  let v1741 : BitVec 32 := Scalar.addi v1740 c4_i32_612
  let v1794 : Index := Scalar.indexCast v1741
  ![1, v1794.toNat]
def k0_off955 (v1790 : BitVec 32) (c0_i32_635 : BitVec 32) : Fin 2 → Nat :=
  let v1808 : BitVec 32 := Scalar.addi v1790 c0_i32_635
  let v1809 : Index := Scalar.indexCast v1808
  let c0_636 : Index := 0#32
  ![v1809.toNat, 0]

def k0_chk212 (v1790 : BitVec 32) : Prop :=
  (∀ a, (k0_off953 v1790) a + S1x128.size a ≤ S102432x128.size a) ∧
  (∀ (r : Fin 3), ∀ a, (k0_off955 v1790 (BitVec.ofNat 32 (8 * r.val))) a + S8x128.size a ≤ S102432x128.size a)
theorem k0_off953_inb : ∀ (v1790 : BitVec 32) (k0_hw212 : k0_chk212 v1790), ∀ a, (k0_off953 v1790) a + S1x128.size a ≤ S102432x128.size a := fun v1790 k0_hw212 => k0_hw212.1
theorem k0_off955_inb : ∀ (v1790 : BitVec 32) (k0_hw212 : k0_chk212 v1790), ∀ (r : Fin 3), ∀ a, (k0_off955 v1790 (BitVec.ofNat 32 (8 * r.val))) a + S8x128.size a ≤ S102432x128.size a := fun v1790 k0_hw212 r => k0_hw212.2 r

def k0_off956 (k0_t9 : Fin k0_t9_loop.trips) : Fin 2 → Nat :=
  let c2_645 : Index := 2#32
  let c64_i32_611 : BitVec 32 := 64#32
  let c0_i32_40 : BitVec 32 := 0#32
  let c1_i32_42 : BitVec 32 := 1#32
  let arg20 : BitVec 32 := Scf.iv c0_i32_40 c1_i32_42 k0_t9
  let c8_i32_610 : BitVec 32 := 8#32
  let v1739 : BitVec 32 := Scalar.muli arg20 c8_i32_610
  let v1740 : BitVec 32 := Scalar.addi c64_i32_611 v1739
  let c4_i32_612 : BitVec 32 := 4#32
  let v1741 : BitVec 32 := Scalar.addi v1740 c4_i32_612
  let v1839 : Index := Scalar.indexCast v1741
  ![2, v1839.toNat]
def k0_off957 (v1840 : BitVec 32) : Fin 2 → Nat :=
  let c24_i32_646 : BitVec 32 := 24#32
  let v1841 : BitVec 32 := Scalar.addi v1840 c24_i32_646
  let v1842 : Index := Scalar.indexCast v1841
  let c0_647 : Index := 0#32
  ![v1842.toNat, 0]

def k0_off958 (k0_t9 : Fin k0_t9_loop.trips) : Fin 2 → Nat :=
  let c2_648 : Index := 2#32
  let c64_i32_611 : BitVec 32 := 64#32
  let c0_i32_40 : BitVec 32 := 0#32
  let c1_i32_42 : BitVec 32 := 1#32
  let arg20 : BitVec 32 := Scf.iv c0_i32_40 c1_i32_42 k0_t9
  let c8_i32_610 : BitVec 32 := 8#32
  let v1739 : BitVec 32 := Scalar.muli arg20 c8_i32_610
  let v1740 : BitVec 32 := Scalar.addi c64_i32_611 v1739
  let c4_i32_612 : BitVec 32 := 4#32
  let v1741 : BitVec 32 := Scalar.addi v1740 c4_i32_612
  let v1844 : Index := Scalar.indexCast v1741
  ![2, v1844.toNat]
def k0_off959 (v1840 : BitVec 32) (c0_i32_651 : BitVec 32) : Fin 2 → Nat :=
  let v1858 : BitVec 32 := Scalar.addi v1840 c0_i32_651
  let v1859 : Index := Scalar.indexCast v1858
  let c0_652 : Index := 0#32
  ![v1859.toNat, 0]

def k0_chk213 (v1840 : BitVec 32) : Prop :=
  (∀ a, (k0_off957 v1840) a + S1x128.size a ≤ S102432x128.size a) ∧
  (∀ (r : Fin 3), ∀ a, (k0_off959 v1840 (BitVec.ofNat 32 (8 * r.val))) a + S8x128.size a ≤ S102432x128.size a)
theorem k0_off957_inb : ∀ (v1840 : BitVec 32) (k0_hw213 : k0_chk213 v1840), ∀ a, (k0_off957 v1840) a + S1x128.size a ≤ S102432x128.size a := fun v1840 k0_hw213 => k0_hw213.1
theorem k0_off959_inb : ∀ (v1840 : BitVec 32) (k0_hw213 : k0_chk213 v1840), ∀ (r : Fin 3), ∀ a, (k0_off959 v1840 (BitVec.ofNat 32 (8 * r.val))) a + S8x128.size a ≤ S102432x128.size a := fun v1840 k0_hw213 r => k0_hw213.2 r

def k0_off960 (k0_t9 : Fin k0_t9_loop.trips) : Fin 2 → Nat :=
  let c3_661 : Index := 3#32
  let c64_i32_611 : BitVec 32 := 64#32
  let c0_i32_40 : BitVec 32 := 0#32
  let c1_i32_42 : BitVec 32 := 1#32
  let arg20 : BitVec 32 := Scf.iv c0_i32_40 c1_i32_42 k0_t9
  let c8_i32_610 : BitVec 32 := 8#32
  let v1739 : BitVec 32 := Scalar.muli arg20 c8_i32_610
  let v1740 : BitVec 32 := Scalar.addi c64_i32_611 v1739
  let c4_i32_612 : BitVec 32 := 4#32
  let v1741 : BitVec 32 := Scalar.addi v1740 c4_i32_612
  let v1889 : Index := Scalar.indexCast v1741
  ![3, v1889.toNat]
def k0_off961 (v1890 : BitVec 32) : Fin 2 → Nat :=
  let c24_i32_662 : BitVec 32 := 24#32
  let v1891 : BitVec 32 := Scalar.addi v1890 c24_i32_662
  let v1892 : Index := Scalar.indexCast v1891
  let c0_663 : Index := 0#32
  ![v1892.toNat, 0]

def k0_off962 (k0_t9 : Fin k0_t9_loop.trips) : Fin 2 → Nat :=
  let c3_664 : Index := 3#32
  let c64_i32_611 : BitVec 32 := 64#32
  let c0_i32_40 : BitVec 32 := 0#32
  let c1_i32_42 : BitVec 32 := 1#32
  let arg20 : BitVec 32 := Scf.iv c0_i32_40 c1_i32_42 k0_t9
  let c8_i32_610 : BitVec 32 := 8#32
  let v1739 : BitVec 32 := Scalar.muli arg20 c8_i32_610
  let v1740 : BitVec 32 := Scalar.addi c64_i32_611 v1739
  let c4_i32_612 : BitVec 32 := 4#32
  let v1741 : BitVec 32 := Scalar.addi v1740 c4_i32_612
  let v1894 : Index := Scalar.indexCast v1741
  ![3, v1894.toNat]
def k0_off963 (v1890 : BitVec 32) (c0_i32_667 : BitVec 32) : Fin 2 → Nat :=
  let v1908 : BitVec 32 := Scalar.addi v1890 c0_i32_667
  let v1909 : Index := Scalar.indexCast v1908
  let c0_668 : Index := 0#32
  ![v1909.toNat, 0]

def k0_chk214 (v1890 : BitVec 32) : Prop :=
  (∀ a, (k0_off961 v1890) a + S1x128.size a ≤ S102432x128.size a) ∧
  (∀ (r : Fin 3), ∀ a, (k0_off963 v1890 (BitVec.ofNat 32 (8 * r.val))) a + S8x128.size a ≤ S102432x128.size a)
theorem k0_off961_inb : ∀ (v1890 : BitVec 32) (k0_hw214 : k0_chk214 v1890), ∀ a, (k0_off961 v1890) a + S1x128.size a ≤ S102432x128.size a := fun v1890 k0_hw214 => k0_hw214.1
theorem k0_off963_inb : ∀ (v1890 : BitVec 32) (k0_hw214 : k0_chk214 v1890), ∀ (r : Fin 3), ∀ a, (k0_off963 v1890 (BitVec.ofNat 32 (8 * r.val))) a + S8x128.size a ≤ S102432x128.size a := fun v1890 k0_hw214 r => k0_hw214.2 r

def k0_off964 (k0_t9 : Fin k0_t9_loop.trips) : Fin 2 → Nat :=
  let c4_677 : Index := 4#32
  let c64_i32_611 : BitVec 32 := 64#32
  let c0_i32_40 : BitVec 32 := 0#32
  let c1_i32_42 : BitVec 32 := 1#32
  let arg20 : BitVec 32 := Scf.iv c0_i32_40 c1_i32_42 k0_t9
  let c8_i32_610 : BitVec 32 := 8#32
  let v1739 : BitVec 32 := Scalar.muli arg20 c8_i32_610
  let v1740 : BitVec 32 := Scalar.addi c64_i32_611 v1739
  let c4_i32_612 : BitVec 32 := 4#32
  let v1741 : BitVec 32 := Scalar.addi v1740 c4_i32_612
  let v1939 : Index := Scalar.indexCast v1741
  ![4, v1939.toNat]
def k0_off965 (v1940 : BitVec 32) : Fin 2 → Nat :=
  let c24_i32_678 : BitVec 32 := 24#32
  let v1941 : BitVec 32 := Scalar.addi v1940 c24_i32_678
  let v1942 : Index := Scalar.indexCast v1941
  let c0_679 : Index := 0#32
  ![v1942.toNat, 0]

def k0_off966 (k0_t9 : Fin k0_t9_loop.trips) : Fin 2 → Nat :=
  let c4_680 : Index := 4#32
  let c64_i32_611 : BitVec 32 := 64#32
  let c0_i32_40 : BitVec 32 := 0#32
  let c1_i32_42 : BitVec 32 := 1#32
  let arg20 : BitVec 32 := Scf.iv c0_i32_40 c1_i32_42 k0_t9
  let c8_i32_610 : BitVec 32 := 8#32
  let v1739 : BitVec 32 := Scalar.muli arg20 c8_i32_610
  let v1740 : BitVec 32 := Scalar.addi c64_i32_611 v1739
  let c4_i32_612 : BitVec 32 := 4#32
  let v1741 : BitVec 32 := Scalar.addi v1740 c4_i32_612
  let v1944 : Index := Scalar.indexCast v1741
  ![4, v1944.toNat]
def k0_off967 (v1940 : BitVec 32) (c0_i32_683 : BitVec 32) : Fin 2 → Nat :=
  let v1958 : BitVec 32 := Scalar.addi v1940 c0_i32_683
  let v1959 : Index := Scalar.indexCast v1958
  let c0_684 : Index := 0#32
  ![v1959.toNat, 0]

def k0_chk215 (v1940 : BitVec 32) : Prop :=
  (∀ a, (k0_off965 v1940) a + S1x128.size a ≤ S102432x128.size a) ∧
  (∀ (r : Fin 3), ∀ a, (k0_off967 v1940 (BitVec.ofNat 32 (8 * r.val))) a + S8x128.size a ≤ S102432x128.size a)
theorem k0_off965_inb : ∀ (v1940 : BitVec 32) (k0_hw215 : k0_chk215 v1940), ∀ a, (k0_off965 v1940) a + S1x128.size a ≤ S102432x128.size a := fun v1940 k0_hw215 => k0_hw215.1
theorem k0_off967_inb : ∀ (v1940 : BitVec 32) (k0_hw215 : k0_chk215 v1940), ∀ (r : Fin 3), ∀ a, (k0_off967 v1940 (BitVec.ofNat 32 (8 * r.val))) a + S8x128.size a ≤ S102432x128.size a := fun v1940 k0_hw215 r => k0_hw215.2 r

def k0_off968 (k0_t9 : Fin k0_t9_loop.trips) : Fin 2 → Nat :=
  let c5_693 : Index := 5#32
  let c64_i32_611 : BitVec 32 := 64#32
  let c0_i32_40 : BitVec 32 := 0#32
  let c1_i32_42 : BitVec 32 := 1#32
  let arg20 : BitVec 32 := Scf.iv c0_i32_40 c1_i32_42 k0_t9
  let c8_i32_610 : BitVec 32 := 8#32
  let v1739 : BitVec 32 := Scalar.muli arg20 c8_i32_610
  let v1740 : BitVec 32 := Scalar.addi c64_i32_611 v1739
  let c4_i32_612 : BitVec 32 := 4#32
  let v1741 : BitVec 32 := Scalar.addi v1740 c4_i32_612
  let v1989 : Index := Scalar.indexCast v1741
  ![5, v1989.toNat]
def k0_off969 (v1990 : BitVec 32) : Fin 2 → Nat :=
  let c24_i32_694 : BitVec 32 := 24#32
  let v1991 : BitVec 32 := Scalar.addi v1990 c24_i32_694
  let v1992 : Index := Scalar.indexCast v1991
  let c0_695 : Index := 0#32
  ![v1992.toNat, 0]

def k0_off970 (k0_t9 : Fin k0_t9_loop.trips) : Fin 2 → Nat :=
  let c5_696 : Index := 5#32
  let c64_i32_611 : BitVec 32 := 64#32
  let c0_i32_40 : BitVec 32 := 0#32
  let c1_i32_42 : BitVec 32 := 1#32
  let arg20 : BitVec 32 := Scf.iv c0_i32_40 c1_i32_42 k0_t9
  let c8_i32_610 : BitVec 32 := 8#32
  let v1739 : BitVec 32 := Scalar.muli arg20 c8_i32_610
  let v1740 : BitVec 32 := Scalar.addi c64_i32_611 v1739
  let c4_i32_612 : BitVec 32 := 4#32
  let v1741 : BitVec 32 := Scalar.addi v1740 c4_i32_612
  let v1994 : Index := Scalar.indexCast v1741
  ![5, v1994.toNat]
def k0_off971 (v1990 : BitVec 32) (c0_i32_699 : BitVec 32) : Fin 2 → Nat :=
  let v2008 : BitVec 32 := Scalar.addi v1990 c0_i32_699
  let v2009 : Index := Scalar.indexCast v2008
  let c0_700 : Index := 0#32
  ![v2009.toNat, 0]

def k0_chk216 (v1990 : BitVec 32) : Prop :=
  (∀ a, (k0_off969 v1990) a + S1x128.size a ≤ S102432x128.size a) ∧
  (∀ (r : Fin 3), ∀ a, (k0_off971 v1990 (BitVec.ofNat 32 (8 * r.val))) a + S8x128.size a ≤ S102432x128.size a)
theorem k0_off969_inb : ∀ (v1990 : BitVec 32) (k0_hw216 : k0_chk216 v1990), ∀ a, (k0_off969 v1990) a + S1x128.size a ≤ S102432x128.size a := fun v1990 k0_hw216 => k0_hw216.1
theorem k0_off971_inb : ∀ (v1990 : BitVec 32) (k0_hw216 : k0_chk216 v1990), ∀ (r : Fin 3), ∀ a, (k0_off971 v1990 (BitVec.ofNat 32 (8 * r.val))) a + S8x128.size a ≤ S102432x128.size a := fun v1990 k0_hw216 r => k0_hw216.2 r

def k0_off972 (k0_t9 : Fin k0_t9_loop.trips) : Fin 2 → Nat :=
  let c6_709 : Index := 6#32
  let c64_i32_611 : BitVec 32 := 64#32
  let c0_i32_40 : BitVec 32 := 0#32
  let c1_i32_42 : BitVec 32 := 1#32
  let arg20 : BitVec 32 := Scf.iv c0_i32_40 c1_i32_42 k0_t9
  let c8_i32_610 : BitVec 32 := 8#32
  let v1739 : BitVec 32 := Scalar.muli arg20 c8_i32_610
  let v1740 : BitVec 32 := Scalar.addi c64_i32_611 v1739
  let c4_i32_612 : BitVec 32 := 4#32
  let v1741 : BitVec 32 := Scalar.addi v1740 c4_i32_612
  let v2039 : Index := Scalar.indexCast v1741
  ![6, v2039.toNat]
def k0_off973 (v2040 : BitVec 32) : Fin 2 → Nat :=
  let c24_i32_710 : BitVec 32 := 24#32
  let v2041 : BitVec 32 := Scalar.addi v2040 c24_i32_710
  let v2042 : Index := Scalar.indexCast v2041
  let c0_711 : Index := 0#32
  ![v2042.toNat, 0]

def k0_off974 (k0_t9 : Fin k0_t9_loop.trips) : Fin 2 → Nat :=
  let c6_712 : Index := 6#32
  let c64_i32_611 : BitVec 32 := 64#32
  let c0_i32_40 : BitVec 32 := 0#32
  let c1_i32_42 : BitVec 32 := 1#32
  let arg20 : BitVec 32 := Scf.iv c0_i32_40 c1_i32_42 k0_t9
  let c8_i32_610 : BitVec 32 := 8#32
  let v1739 : BitVec 32 := Scalar.muli arg20 c8_i32_610
  let v1740 : BitVec 32 := Scalar.addi c64_i32_611 v1739
  let c4_i32_612 : BitVec 32 := 4#32
  let v1741 : BitVec 32 := Scalar.addi v1740 c4_i32_612
  let v2044 : Index := Scalar.indexCast v1741
  ![6, v2044.toNat]
def k0_off975 (v2040 : BitVec 32) (c0_i32_715 : BitVec 32) : Fin 2 → Nat :=
  let v2058 : BitVec 32 := Scalar.addi v2040 c0_i32_715
  let v2059 : Index := Scalar.indexCast v2058
  let c0_716 : Index := 0#32
  ![v2059.toNat, 0]

def k0_chk217 (v2040 : BitVec 32) : Prop :=
  (∀ a, (k0_off973 v2040) a + S1x128.size a ≤ S102432x128.size a) ∧
  (∀ (r : Fin 3), ∀ a, (k0_off975 v2040 (BitVec.ofNat 32 (8 * r.val))) a + S8x128.size a ≤ S102432x128.size a)
theorem k0_off973_inb : ∀ (v2040 : BitVec 32) (k0_hw217 : k0_chk217 v2040), ∀ a, (k0_off973 v2040) a + S1x128.size a ≤ S102432x128.size a := fun v2040 k0_hw217 => k0_hw217.1
theorem k0_off975_inb : ∀ (v2040 : BitVec 32) (k0_hw217 : k0_chk217 v2040), ∀ (r : Fin 3), ∀ a, (k0_off975 v2040 (BitVec.ofNat 32 (8 * r.val))) a + S8x128.size a ≤ S102432x128.size a := fun v2040 k0_hw217 r => k0_hw217.2 r

def k0_off976 (k0_t9 : Fin k0_t9_loop.trips) : Fin 2 → Nat :=
  let c7_725 : Index := 7#32
  let c64_i32_611 : BitVec 32 := 64#32
  let c0_i32_40 : BitVec 32 := 0#32
  let c1_i32_42 : BitVec 32 := 1#32
  let arg20 : BitVec 32 := Scf.iv c0_i32_40 c1_i32_42 k0_t9
  let c8_i32_610 : BitVec 32 := 8#32
  let v1739 : BitVec 32 := Scalar.muli arg20 c8_i32_610
  let v1740 : BitVec 32 := Scalar.addi c64_i32_611 v1739
  let c4_i32_612 : BitVec 32 := 4#32
  let v1741 : BitVec 32 := Scalar.addi v1740 c4_i32_612
  let v2089 : Index := Scalar.indexCast v1741
  ![7, v2089.toNat]
def k0_off977 (v2090 : BitVec 32) : Fin 2 → Nat :=
  let c24_i32_726 : BitVec 32 := 24#32
  let v2091 : BitVec 32 := Scalar.addi v2090 c24_i32_726
  let v2092 : Index := Scalar.indexCast v2091
  let c0_727 : Index := 0#32
  ![v2092.toNat, 0]

def k0_off978 (k0_t9 : Fin k0_t9_loop.trips) : Fin 2 → Nat :=
  let c7_728 : Index := 7#32
  let c64_i32_611 : BitVec 32 := 64#32
  let c0_i32_40 : BitVec 32 := 0#32
  let c1_i32_42 : BitVec 32 := 1#32
  let arg20 : BitVec 32 := Scf.iv c0_i32_40 c1_i32_42 k0_t9
  let c8_i32_610 : BitVec 32 := 8#32
  let v1739 : BitVec 32 := Scalar.muli arg20 c8_i32_610
  let v1740 : BitVec 32 := Scalar.addi c64_i32_611 v1739
  let c4_i32_612 : BitVec 32 := 4#32
  let v1741 : BitVec 32 := Scalar.addi v1740 c4_i32_612
  let v2094 : Index := Scalar.indexCast v1741
  ![7, v2094.toNat]
def k0_off979 (v2090 : BitVec 32) (c0_i32_731 : BitVec 32) : Fin 2 → Nat :=
  let v2108 : BitVec 32 := Scalar.addi v2090 c0_i32_731
  let v2109 : Index := Scalar.indexCast v2108
  let c0_732 : Index := 0#32
  ![v2109.toNat, 0]

def k0_chk218 (v2090 : BitVec 32) : Prop :=
  (∀ a, (k0_off977 v2090) a + S1x128.size a ≤ S102432x128.size a) ∧
  (∀ (r : Fin 3), ∀ a, (k0_off979 v2090 (BitVec.ofNat 32 (8 * r.val))) a + S8x128.size a ≤ S102432x128.size a)
theorem k0_off977_inb : ∀ (v2090 : BitVec 32) (k0_hw218 : k0_chk218 v2090), ∀ a, (k0_off977 v2090) a + S1x128.size a ≤ S102432x128.size a := fun v2090 k0_hw218 => k0_hw218.1
theorem k0_off979_inb : ∀ (v2090 : BitVec 32) (k0_hw218 : k0_chk218 v2090), ∀ (r : Fin 3), ∀ a, (k0_off979 v2090 (BitVec.ofNat 32 (8 * r.val))) a + S8x128.size a ≤ S102432x128.size a := fun v2090 k0_hw218 r => k0_hw218.2 r

def k0_off980 (k0_t9 : Fin k0_t9_loop.trips) (c0_i32_742 : BitVec 32) : Fin 2 → Nat :=
  let c64_i32_611 : BitVec 32 := 64#32
  let c0_i32_40 : BitVec 32 := 0#32
  let c1_i32_42 : BitVec 32 := 1#32
  let arg20 : BitVec 32 := Scf.iv c0_i32_40 c1_i32_42 k0_t9
  let c8_i32_610 : BitVec 32 := 8#32
  let v1739 : BitVec 32 := Scalar.muli arg20 c8_i32_610
  let v1740 : BitVec 32 := Scalar.addi c64_i32_611 v1739
  let c4_i32_612 : BitVec 32 := 4#32
  let v1741 : BitVec 32 := Scalar.addi v1740 c4_i32_612
  let c25_i32_741 : BitVec 32 := 25#32
  let v2139 : BitVec 32 := Scalar.muli v1741 c25_i32_741
  let v2140 : BitVec 32 := Scalar.addi v2139 c0_i32_742
  let v2141 : Index := Scalar.indexCast v2140
  let c0_743 : Index := 0#32
  ![v2141.toNat, 0]
def k0_off981 (k0_t9 : Fin k0_t9_loop.trips) : Fin 2 → Nat :=
  let c0_752 : Index := 0#32
  let c64_i32_751 : BitVec 32 := 64#32
  let c0_i32_40 : BitVec 32 := 0#32
  let c1_i32_42 : BitVec 32 := 1#32
  let arg20 : BitVec 32 := Scf.iv c0_i32_40 c1_i32_42 k0_t9
  let c8_i32_750 : BitVec 32 := 8#32
  let v2157 : BitVec 32 := Scalar.muli arg20 c8_i32_750
  let v2158 : BitVec 32 := Scalar.addi c64_i32_751 v2157
  let c5_i32 : BitVec 32 := 5#32
  let v2159 : BitVec 32 := Scalar.addi v2158 c5_i32
  let v2160 : Index := Scalar.indexCast v2159
  ![0, v2160.toNat]
def k0_off982 (v2161 : BitVec 32) : Fin 2 → Nat :=
  let c24_i32_753 : BitVec 32 := 24#32
  let v2162 : BitVec 32 := Scalar.addi v2161 c24_i32_753
  let v2163 : Index := Scalar.indexCast v2162
  let c0_754 : Index := 0#32
  ![v2163.toNat, 0]

def k0_off983 (k0_t9 : Fin k0_t9_loop.trips) : Fin 2 → Nat :=
  let c0_755 : Index := 0#32
  let c64_i32_751 : BitVec 32 := 64#32
  let c0_i32_40 : BitVec 32 := 0#32
  let c1_i32_42 : BitVec 32 := 1#32
  let arg20 : BitVec 32 := Scf.iv c0_i32_40 c1_i32_42 k0_t9
  let c8_i32_750 : BitVec 32 := 8#32
  let v2157 : BitVec 32 := Scalar.muli arg20 c8_i32_750
  let v2158 : BitVec 32 := Scalar.addi c64_i32_751 v2157
  let c5_i32 : BitVec 32 := 5#32
  let v2159 : BitVec 32 := Scalar.addi v2158 c5_i32
  let v2165 : Index := Scalar.indexCast v2159
  ![0, v2165.toNat]
def k0_off984 (v2161 : BitVec 32) (c0_i32_758 : BitVec 32) : Fin 2 → Nat :=
  let v2179 : BitVec 32 := Scalar.addi v2161 c0_i32_758
  let v2180 : Index := Scalar.indexCast v2179
  let c0_759 : Index := 0#32
  ![v2180.toNat, 0]

def k0_chk219 (v2161 : BitVec 32) : Prop :=
  (∀ a, (k0_off982 v2161) a + S1x128.size a ≤ S102432x128.size a) ∧
  (∀ (r : Fin 3), ∀ a, (k0_off984 v2161 (BitVec.ofNat 32 (8 * r.val))) a + S8x128.size a ≤ S102432x128.size a)
theorem k0_off982_inb : ∀ (v2161 : BitVec 32) (k0_hw219 : k0_chk219 v2161), ∀ a, (k0_off982 v2161) a + S1x128.size a ≤ S102432x128.size a := fun v2161 k0_hw219 => k0_hw219.1
theorem k0_off984_inb : ∀ (v2161 : BitVec 32) (k0_hw219 : k0_chk219 v2161), ∀ (r : Fin 3), ∀ a, (k0_off984 v2161 (BitVec.ofNat 32 (8 * r.val))) a + S8x128.size a ≤ S102432x128.size a := fun v2161 k0_hw219 r => k0_hw219.2 r

def k0_off985 (k0_t9 : Fin k0_t9_loop.trips) : Fin 2 → Nat :=
  let c1_768 : Index := 1#32
  let c64_i32_751 : BitVec 32 := 64#32
  let c0_i32_40 : BitVec 32 := 0#32
  let c1_i32_42 : BitVec 32 := 1#32
  let arg20 : BitVec 32 := Scf.iv c0_i32_40 c1_i32_42 k0_t9
  let c8_i32_750 : BitVec 32 := 8#32
  let v2157 : BitVec 32 := Scalar.muli arg20 c8_i32_750
  let v2158 : BitVec 32 := Scalar.addi c64_i32_751 v2157
  let c5_i32 : BitVec 32 := 5#32
  let v2159 : BitVec 32 := Scalar.addi v2158 c5_i32
  let v2207 : Index := Scalar.indexCast v2159
  ![1, v2207.toNat]
def k0_off986 (v2208 : BitVec 32) : Fin 2 → Nat :=
  let c24_i32_769 : BitVec 32 := 24#32
  let v2209 : BitVec 32 := Scalar.addi v2208 c24_i32_769
  let v2210 : Index := Scalar.indexCast v2209
  let c0_770 : Index := 0#32
  ![v2210.toNat, 0]

def k0_off987 (k0_t9 : Fin k0_t9_loop.trips) : Fin 2 → Nat :=
  let c1_771 : Index := 1#32
  let c64_i32_751 : BitVec 32 := 64#32
  let c0_i32_40 : BitVec 32 := 0#32
  let c1_i32_42 : BitVec 32 := 1#32
  let arg20 : BitVec 32 := Scf.iv c0_i32_40 c1_i32_42 k0_t9
  let c8_i32_750 : BitVec 32 := 8#32
  let v2157 : BitVec 32 := Scalar.muli arg20 c8_i32_750
  let v2158 : BitVec 32 := Scalar.addi c64_i32_751 v2157
  let c5_i32 : BitVec 32 := 5#32
  let v2159 : BitVec 32 := Scalar.addi v2158 c5_i32
  let v2212 : Index := Scalar.indexCast v2159
  ![1, v2212.toNat]
def k0_off988 (v2208 : BitVec 32) (c0_i32_774 : BitVec 32) : Fin 2 → Nat :=
  let v2226 : BitVec 32 := Scalar.addi v2208 c0_i32_774
  let v2227 : Index := Scalar.indexCast v2226
  let c0_775 : Index := 0#32
  ![v2227.toNat, 0]

def k0_chk220 (v2208 : BitVec 32) : Prop :=
  (∀ a, (k0_off986 v2208) a + S1x128.size a ≤ S102432x128.size a) ∧
  (∀ (r : Fin 3), ∀ a, (k0_off988 v2208 (BitVec.ofNat 32 (8 * r.val))) a + S8x128.size a ≤ S102432x128.size a)
theorem k0_off986_inb : ∀ (v2208 : BitVec 32) (k0_hw220 : k0_chk220 v2208), ∀ a, (k0_off986 v2208) a + S1x128.size a ≤ S102432x128.size a := fun v2208 k0_hw220 => k0_hw220.1
theorem k0_off988_inb : ∀ (v2208 : BitVec 32) (k0_hw220 : k0_chk220 v2208), ∀ (r : Fin 3), ∀ a, (k0_off988 v2208 (BitVec.ofNat 32 (8 * r.val))) a + S8x128.size a ≤ S102432x128.size a := fun v2208 k0_hw220 r => k0_hw220.2 r

def k0_off989 (k0_t9 : Fin k0_t9_loop.trips) : Fin 2 → Nat :=
  let c2_784 : Index := 2#32
  let c64_i32_751 : BitVec 32 := 64#32
  let c0_i32_40 : BitVec 32 := 0#32
  let c1_i32_42 : BitVec 32 := 1#32
  let arg20 : BitVec 32 := Scf.iv c0_i32_40 c1_i32_42 k0_t9
  let c8_i32_750 : BitVec 32 := 8#32
  let v2157 : BitVec 32 := Scalar.muli arg20 c8_i32_750
  let v2158 : BitVec 32 := Scalar.addi c64_i32_751 v2157
  let c5_i32 : BitVec 32 := 5#32
  let v2159 : BitVec 32 := Scalar.addi v2158 c5_i32
  let v2257 : Index := Scalar.indexCast v2159
  ![2, v2257.toNat]
def k0_off990 (v2258 : BitVec 32) : Fin 2 → Nat :=
  let c24_i32_785 : BitVec 32 := 24#32
  let v2259 : BitVec 32 := Scalar.addi v2258 c24_i32_785
  let v2260 : Index := Scalar.indexCast v2259
  let c0_786 : Index := 0#32
  ![v2260.toNat, 0]

def k0_off991 (k0_t9 : Fin k0_t9_loop.trips) : Fin 2 → Nat :=
  let c2_787 : Index := 2#32
  let c64_i32_751 : BitVec 32 := 64#32
  let c0_i32_40 : BitVec 32 := 0#32
  let c1_i32_42 : BitVec 32 := 1#32
  let arg20 : BitVec 32 := Scf.iv c0_i32_40 c1_i32_42 k0_t9
  let c8_i32_750 : BitVec 32 := 8#32
  let v2157 : BitVec 32 := Scalar.muli arg20 c8_i32_750
  let v2158 : BitVec 32 := Scalar.addi c64_i32_751 v2157
  let c5_i32 : BitVec 32 := 5#32
  let v2159 : BitVec 32 := Scalar.addi v2158 c5_i32
  let v2262 : Index := Scalar.indexCast v2159
  ![2, v2262.toNat]
def k0_off992 (v2258 : BitVec 32) (c0_i32_790 : BitVec 32) : Fin 2 → Nat :=
  let v2276 : BitVec 32 := Scalar.addi v2258 c0_i32_790
  let v2277 : Index := Scalar.indexCast v2276
  let c0_791 : Index := 0#32
  ![v2277.toNat, 0]

def k0_chk221 (v2258 : BitVec 32) : Prop :=
  (∀ a, (k0_off990 v2258) a + S1x128.size a ≤ S102432x128.size a) ∧
  (∀ (r : Fin 3), ∀ a, (k0_off992 v2258 (BitVec.ofNat 32 (8 * r.val))) a + S8x128.size a ≤ S102432x128.size a)
theorem k0_off990_inb : ∀ (v2258 : BitVec 32) (k0_hw221 : k0_chk221 v2258), ∀ a, (k0_off990 v2258) a + S1x128.size a ≤ S102432x128.size a := fun v2258 k0_hw221 => k0_hw221.1
theorem k0_off992_inb : ∀ (v2258 : BitVec 32) (k0_hw221 : k0_chk221 v2258), ∀ (r : Fin 3), ∀ a, (k0_off992 v2258 (BitVec.ofNat 32 (8 * r.val))) a + S8x128.size a ≤ S102432x128.size a := fun v2258 k0_hw221 r => k0_hw221.2 r

def k0_off993 (k0_t9 : Fin k0_t9_loop.trips) : Fin 2 → Nat :=
  let c3_800 : Index := 3#32
  let c64_i32_751 : BitVec 32 := 64#32
  let c0_i32_40 : BitVec 32 := 0#32
  let c1_i32_42 : BitVec 32 := 1#32
  let arg20 : BitVec 32 := Scf.iv c0_i32_40 c1_i32_42 k0_t9
  let c8_i32_750 : BitVec 32 := 8#32
  let v2157 : BitVec 32 := Scalar.muli arg20 c8_i32_750
  let v2158 : BitVec 32 := Scalar.addi c64_i32_751 v2157
  let c5_i32 : BitVec 32 := 5#32
  let v2159 : BitVec 32 := Scalar.addi v2158 c5_i32
  let v2307 : Index := Scalar.indexCast v2159
  ![3, v2307.toNat]
def k0_off994 (v2308 : BitVec 32) : Fin 2 → Nat :=
  let c24_i32_801 : BitVec 32 := 24#32
  let v2309 : BitVec 32 := Scalar.addi v2308 c24_i32_801
  let v2310 : Index := Scalar.indexCast v2309
  let c0_802 : Index := 0#32
  ![v2310.toNat, 0]

def k0_off995 (k0_t9 : Fin k0_t9_loop.trips) : Fin 2 → Nat :=
  let c3_803 : Index := 3#32
  let c64_i32_751 : BitVec 32 := 64#32
  let c0_i32_40 : BitVec 32 := 0#32
  let c1_i32_42 : BitVec 32 := 1#32
  let arg20 : BitVec 32 := Scf.iv c0_i32_40 c1_i32_42 k0_t9
  let c8_i32_750 : BitVec 32 := 8#32
  let v2157 : BitVec 32 := Scalar.muli arg20 c8_i32_750
  let v2158 : BitVec 32 := Scalar.addi c64_i32_751 v2157
  let c5_i32 : BitVec 32 := 5#32
  let v2159 : BitVec 32 := Scalar.addi v2158 c5_i32
  let v2312 : Index := Scalar.indexCast v2159
  ![3, v2312.toNat]
def k0_off996 (v2308 : BitVec 32) (c0_i32_806 : BitVec 32) : Fin 2 → Nat :=
  let v2326 : BitVec 32 := Scalar.addi v2308 c0_i32_806
  let v2327 : Index := Scalar.indexCast v2326
  let c0_807 : Index := 0#32
  ![v2327.toNat, 0]

def k0_chk222 (v2308 : BitVec 32) : Prop :=
  (∀ a, (k0_off994 v2308) a + S1x128.size a ≤ S102432x128.size a) ∧
  (∀ (r : Fin 3), ∀ a, (k0_off996 v2308 (BitVec.ofNat 32 (8 * r.val))) a + S8x128.size a ≤ S102432x128.size a)
theorem k0_off994_inb : ∀ (v2308 : BitVec 32) (k0_hw222 : k0_chk222 v2308), ∀ a, (k0_off994 v2308) a + S1x128.size a ≤ S102432x128.size a := fun v2308 k0_hw222 => k0_hw222.1
theorem k0_off996_inb : ∀ (v2308 : BitVec 32) (k0_hw222 : k0_chk222 v2308), ∀ (r : Fin 3), ∀ a, (k0_off996 v2308 (BitVec.ofNat 32 (8 * r.val))) a + S8x128.size a ≤ S102432x128.size a := fun v2308 k0_hw222 r => k0_hw222.2 r

def k0_off997 (k0_t9 : Fin k0_t9_loop.trips) : Fin 2 → Nat :=
  let c4_816 : Index := 4#32
  let c64_i32_751 : BitVec 32 := 64#32
  let c0_i32_40 : BitVec 32 := 0#32
  let c1_i32_42 : BitVec 32 := 1#32
  let arg20 : BitVec 32 := Scf.iv c0_i32_40 c1_i32_42 k0_t9
  let c8_i32_750 : BitVec 32 := 8#32
  let v2157 : BitVec 32 := Scalar.muli arg20 c8_i32_750
  let v2158 : BitVec 32 := Scalar.addi c64_i32_751 v2157
  let c5_i32 : BitVec 32 := 5#32
  let v2159 : BitVec 32 := Scalar.addi v2158 c5_i32
  let v2357 : Index := Scalar.indexCast v2159
  ![4, v2357.toNat]
def k0_off998 (v2358 : BitVec 32) : Fin 2 → Nat :=
  let c24_i32_817 : BitVec 32 := 24#32
  let v2359 : BitVec 32 := Scalar.addi v2358 c24_i32_817
  let v2360 : Index := Scalar.indexCast v2359
  let c0_818 : Index := 0#32
  ![v2360.toNat, 0]

def k0_off999 (k0_t9 : Fin k0_t9_loop.trips) : Fin 2 → Nat :=
  let c4_819 : Index := 4#32
  let c64_i32_751 : BitVec 32 := 64#32
  let c0_i32_40 : BitVec 32 := 0#32
  let c1_i32_42 : BitVec 32 := 1#32
  let arg20 : BitVec 32 := Scf.iv c0_i32_40 c1_i32_42 k0_t9
  let c8_i32_750 : BitVec 32 := 8#32
  let v2157 : BitVec 32 := Scalar.muli arg20 c8_i32_750
  let v2158 : BitVec 32 := Scalar.addi c64_i32_751 v2157
  let c5_i32 : BitVec 32 := 5#32
  let v2159 : BitVec 32 := Scalar.addi v2158 c5_i32
  let v2362 : Index := Scalar.indexCast v2159
  ![4, v2362.toNat]
def k0_off1000 (v2358 : BitVec 32) (c0_i32_822 : BitVec 32) : Fin 2 → Nat :=
  let v2376 : BitVec 32 := Scalar.addi v2358 c0_i32_822
  let v2377 : Index := Scalar.indexCast v2376
  let c0_823 : Index := 0#32
  ![v2377.toNat, 0]

def k0_chk223 (v2358 : BitVec 32) : Prop :=
  (∀ a, (k0_off998 v2358) a + S1x128.size a ≤ S102432x128.size a) ∧
  (∀ (r : Fin 3), ∀ a, (k0_off1000 v2358 (BitVec.ofNat 32 (8 * r.val))) a + S8x128.size a ≤ S102432x128.size a)
theorem k0_off998_inb : ∀ (v2358 : BitVec 32) (k0_hw223 : k0_chk223 v2358), ∀ a, (k0_off998 v2358) a + S1x128.size a ≤ S102432x128.size a := fun v2358 k0_hw223 => k0_hw223.1
theorem k0_off1000_inb : ∀ (v2358 : BitVec 32) (k0_hw223 : k0_chk223 v2358), ∀ (r : Fin 3), ∀ a, (k0_off1000 v2358 (BitVec.ofNat 32 (8 * r.val))) a + S8x128.size a ≤ S102432x128.size a := fun v2358 k0_hw223 r => k0_hw223.2 r

def k0_off1001 (k0_t9 : Fin k0_t9_loop.trips) : Fin 2 → Nat :=
  let c5_832 : Index := 5#32
  let c64_i32_751 : BitVec 32 := 64#32
  let c0_i32_40 : BitVec 32 := 0#32
  let c1_i32_42 : BitVec 32 := 1#32
  let arg20 : BitVec 32 := Scf.iv c0_i32_40 c1_i32_42 k0_t9
  let c8_i32_750 : BitVec 32 := 8#32
  let v2157 : BitVec 32 := Scalar.muli arg20 c8_i32_750
  let v2158 : BitVec 32 := Scalar.addi c64_i32_751 v2157
  let c5_i32 : BitVec 32 := 5#32
  let v2159 : BitVec 32 := Scalar.addi v2158 c5_i32
  let v2407 : Index := Scalar.indexCast v2159
  ![5, v2407.toNat]
def k0_off1002 (v2408 : BitVec 32) : Fin 2 → Nat :=
  let c24_i32_833 : BitVec 32 := 24#32
  let v2409 : BitVec 32 := Scalar.addi v2408 c24_i32_833
  let v2410 : Index := Scalar.indexCast v2409
  let c0_834 : Index := 0#32
  ![v2410.toNat, 0]

def k0_off1003 (k0_t9 : Fin k0_t9_loop.trips) : Fin 2 → Nat :=
  let c5_835 : Index := 5#32
  let c64_i32_751 : BitVec 32 := 64#32
  let c0_i32_40 : BitVec 32 := 0#32
  let c1_i32_42 : BitVec 32 := 1#32
  let arg20 : BitVec 32 := Scf.iv c0_i32_40 c1_i32_42 k0_t9
  let c8_i32_750 : BitVec 32 := 8#32
  let v2157 : BitVec 32 := Scalar.muli arg20 c8_i32_750
  let v2158 : BitVec 32 := Scalar.addi c64_i32_751 v2157
  let c5_i32 : BitVec 32 := 5#32
  let v2159 : BitVec 32 := Scalar.addi v2158 c5_i32
  let v2412 : Index := Scalar.indexCast v2159
  ![5, v2412.toNat]
def k0_off1004 (v2408 : BitVec 32) (c0_i32_838 : BitVec 32) : Fin 2 → Nat :=
  let v2426 : BitVec 32 := Scalar.addi v2408 c0_i32_838
  let v2427 : Index := Scalar.indexCast v2426
  let c0_839 : Index := 0#32
  ![v2427.toNat, 0]

def k0_chk224 (v2408 : BitVec 32) : Prop :=
  (∀ a, (k0_off1002 v2408) a + S1x128.size a ≤ S102432x128.size a) ∧
  (∀ (r : Fin 3), ∀ a, (k0_off1004 v2408 (BitVec.ofNat 32 (8 * r.val))) a + S8x128.size a ≤ S102432x128.size a)
theorem k0_off1002_inb : ∀ (v2408 : BitVec 32) (k0_hw224 : k0_chk224 v2408), ∀ a, (k0_off1002 v2408) a + S1x128.size a ≤ S102432x128.size a := fun v2408 k0_hw224 => k0_hw224.1
theorem k0_off1004_inb : ∀ (v2408 : BitVec 32) (k0_hw224 : k0_chk224 v2408), ∀ (r : Fin 3), ∀ a, (k0_off1004 v2408 (BitVec.ofNat 32 (8 * r.val))) a + S8x128.size a ≤ S102432x128.size a := fun v2408 k0_hw224 r => k0_hw224.2 r

def k0_off1005 (k0_t9 : Fin k0_t9_loop.trips) : Fin 2 → Nat :=
  let c6_848 : Index := 6#32
  let c64_i32_751 : BitVec 32 := 64#32
  let c0_i32_40 : BitVec 32 := 0#32
  let c1_i32_42 : BitVec 32 := 1#32
  let arg20 : BitVec 32 := Scf.iv c0_i32_40 c1_i32_42 k0_t9
  let c8_i32_750 : BitVec 32 := 8#32
  let v2157 : BitVec 32 := Scalar.muli arg20 c8_i32_750
  let v2158 : BitVec 32 := Scalar.addi c64_i32_751 v2157
  let c5_i32 : BitVec 32 := 5#32
  let v2159 : BitVec 32 := Scalar.addi v2158 c5_i32
  let v2457 : Index := Scalar.indexCast v2159
  ![6, v2457.toNat]
def k0_off1006 (v2458 : BitVec 32) : Fin 2 → Nat :=
  let c24_i32_849 : BitVec 32 := 24#32
  let v2459 : BitVec 32 := Scalar.addi v2458 c24_i32_849
  let v2460 : Index := Scalar.indexCast v2459
  let c0_850 : Index := 0#32
  ![v2460.toNat, 0]

def k0_off1007 (k0_t9 : Fin k0_t9_loop.trips) : Fin 2 → Nat :=
  let c6_851 : Index := 6#32
  let c64_i32_751 : BitVec 32 := 64#32
  let c0_i32_40 : BitVec 32 := 0#32
  let c1_i32_42 : BitVec 32 := 1#32
  let arg20 : BitVec 32 := Scf.iv c0_i32_40 c1_i32_42 k0_t9
  let c8_i32_750 : BitVec 32 := 8#32
  let v2157 : BitVec 32 := Scalar.muli arg20 c8_i32_750
  let v2158 : BitVec 32 := Scalar.addi c64_i32_751 v2157
  let c5_i32 : BitVec 32 := 5#32
  let v2159 : BitVec 32 := Scalar.addi v2158 c5_i32
  let v2462 : Index := Scalar.indexCast v2159
  ![6, v2462.toNat]
def k0_off1008 (v2458 : BitVec 32) (c0_i32_854 : BitVec 32) : Fin 2 → Nat :=
  let v2476 : BitVec 32 := Scalar.addi v2458 c0_i32_854
  let v2477 : Index := Scalar.indexCast v2476
  let c0_855 : Index := 0#32
  ![v2477.toNat, 0]

def k0_chk225 (v2458 : BitVec 32) : Prop :=
  (∀ a, (k0_off1006 v2458) a + S1x128.size a ≤ S102432x128.size a) ∧
  (∀ (r : Fin 3), ∀ a, (k0_off1008 v2458 (BitVec.ofNat 32 (8 * r.val))) a + S8x128.size a ≤ S102432x128.size a)
theorem k0_off1006_inb : ∀ (v2458 : BitVec 32) (k0_hw225 : k0_chk225 v2458), ∀ a, (k0_off1006 v2458) a + S1x128.size a ≤ S102432x128.size a := fun v2458 k0_hw225 => k0_hw225.1
theorem k0_off1008_inb : ∀ (v2458 : BitVec 32) (k0_hw225 : k0_chk225 v2458), ∀ (r : Fin 3), ∀ a, (k0_off1008 v2458 (BitVec.ofNat 32 (8 * r.val))) a + S8x128.size a ≤ S102432x128.size a := fun v2458 k0_hw225 r => k0_hw225.2 r

def k0_off1009 (k0_t9 : Fin k0_t9_loop.trips) : Fin 2 → Nat :=
  let c7_864 : Index := 7#32
  let c64_i32_751 : BitVec 32 := 64#32
  let c0_i32_40 : BitVec 32 := 0#32
  let c1_i32_42 : BitVec 32 := 1#32
  let arg20 : BitVec 32 := Scf.iv c0_i32_40 c1_i32_42 k0_t9
  let c8_i32_750 : BitVec 32 := 8#32
  let v2157 : BitVec 32 := Scalar.muli arg20 c8_i32_750
  let v2158 : BitVec 32 := Scalar.addi c64_i32_751 v2157
  let c5_i32 : BitVec 32 := 5#32
  let v2159 : BitVec 32 := Scalar.addi v2158 c5_i32
  let v2507 : Index := Scalar.indexCast v2159
  ![7, v2507.toNat]
def k0_off1010 (v2508 : BitVec 32) : Fin 2 → Nat :=
  let c24_i32_865 : BitVec 32 := 24#32
  let v2509 : BitVec 32 := Scalar.addi v2508 c24_i32_865
  let v2510 : Index := Scalar.indexCast v2509
  let c0_866 : Index := 0#32
  ![v2510.toNat, 0]

def k0_off1011 (k0_t9 : Fin k0_t9_loop.trips) : Fin 2 → Nat :=
  let c7_867 : Index := 7#32
  let c64_i32_751 : BitVec 32 := 64#32
  let c0_i32_40 : BitVec 32 := 0#32
  let c1_i32_42 : BitVec 32 := 1#32
  let arg20 : BitVec 32 := Scf.iv c0_i32_40 c1_i32_42 k0_t9
  let c8_i32_750 : BitVec 32 := 8#32
  let v2157 : BitVec 32 := Scalar.muli arg20 c8_i32_750
  let v2158 : BitVec 32 := Scalar.addi c64_i32_751 v2157
  let c5_i32 : BitVec 32 := 5#32
  let v2159 : BitVec 32 := Scalar.addi v2158 c5_i32
  let v2512 : Index := Scalar.indexCast v2159
  ![7, v2512.toNat]
def k0_off1012 (v2508 : BitVec 32) (c0_i32_870 : BitVec 32) : Fin 2 → Nat :=
  let v2526 : BitVec 32 := Scalar.addi v2508 c0_i32_870
  let v2527 : Index := Scalar.indexCast v2526
  let c0_871 : Index := 0#32
  ![v2527.toNat, 0]

def k0_chk226 (v2508 : BitVec 32) : Prop :=
  (∀ a, (k0_off1010 v2508) a + S1x128.size a ≤ S102432x128.size a) ∧
  (∀ (r : Fin 3), ∀ a, (k0_off1012 v2508 (BitVec.ofNat 32 (8 * r.val))) a + S8x128.size a ≤ S102432x128.size a)
theorem k0_off1010_inb : ∀ (v2508 : BitVec 32) (k0_hw226 : k0_chk226 v2508), ∀ a, (k0_off1010 v2508) a + S1x128.size a ≤ S102432x128.size a := fun v2508 k0_hw226 => k0_hw226.1
theorem k0_off1012_inb : ∀ (v2508 : BitVec 32) (k0_hw226 : k0_chk226 v2508), ∀ (r : Fin 3), ∀ a, (k0_off1012 v2508 (BitVec.ofNat 32 (8 * r.val))) a + S8x128.size a ≤ S102432x128.size a := fun v2508 k0_hw226 r => k0_hw226.2 r

def k0_off1013 (k0_t9 : Fin k0_t9_loop.trips) (c0_i32_881 : BitVec 32) : Fin 2 → Nat :=
  let c64_i32_751 : BitVec 32 := 64#32
  let c0_i32_40 : BitVec 32 := 0#32
  let c1_i32_42 : BitVec 32 := 1#32
  let arg20 : BitVec 32 := Scf.iv c0_i32_40 c1_i32_42 k0_t9
  let c8_i32_750 : BitVec 32 := 8#32
  let v2157 : BitVec 32 := Scalar.muli arg20 c8_i32_750
  let v2158 : BitVec 32 := Scalar.addi c64_i32_751 v2157
  let c5_i32 : BitVec 32 := 5#32
  let v2159 : BitVec 32 := Scalar.addi v2158 c5_i32
  let c25_i32_880 : BitVec 32 := 25#32
  let v2557 : BitVec 32 := Scalar.muli v2159 c25_i32_880
  let v2558 : BitVec 32 := Scalar.addi v2557 c0_i32_881
  let v2559 : Index := Scalar.indexCast v2558
  let c0_882 : Index := 0#32
  ![v2559.toNat, 0]
def k0_off1014 (k0_t9 : Fin k0_t9_loop.trips) : Fin 2 → Nat :=
  let c0_891 : Index := 0#32
  let c64_i32_890 : BitVec 32 := 64#32
  let c0_i32_40 : BitVec 32 := 0#32
  let c1_i32_42 : BitVec 32 := 1#32
  let arg20 : BitVec 32 := Scf.iv c0_i32_40 c1_i32_42 k0_t9
  let c8_i32_889 : BitVec 32 := 8#32
  let v2575 : BitVec 32 := Scalar.muli arg20 c8_i32_889
  let v2576 : BitVec 32 := Scalar.addi c64_i32_890 v2575
  let c6_i32 : BitVec 32 := 6#32
  let v2577 : BitVec 32 := Scalar.addi v2576 c6_i32
  let v2578 : Index := Scalar.indexCast v2577
  ![0, v2578.toNat]
def k0_off1015 (v2579 : BitVec 32) : Fin 2 → Nat :=
  let c24_i32_892 : BitVec 32 := 24#32
  let v2580 : BitVec 32 := Scalar.addi v2579 c24_i32_892
  let v2581 : Index := Scalar.indexCast v2580
  let c0_893 : Index := 0#32
  ![v2581.toNat, 0]

def k0_off1016 (k0_t9 : Fin k0_t9_loop.trips) : Fin 2 → Nat :=
  let c0_894 : Index := 0#32
  let c64_i32_890 : BitVec 32 := 64#32
  let c0_i32_40 : BitVec 32 := 0#32
  let c1_i32_42 : BitVec 32 := 1#32
  let arg20 : BitVec 32 := Scf.iv c0_i32_40 c1_i32_42 k0_t9
  let c8_i32_889 : BitVec 32 := 8#32
  let v2575 : BitVec 32 := Scalar.muli arg20 c8_i32_889
  let v2576 : BitVec 32 := Scalar.addi c64_i32_890 v2575
  let c6_i32 : BitVec 32 := 6#32
  let v2577 : BitVec 32 := Scalar.addi v2576 c6_i32
  let v2583 : Index := Scalar.indexCast v2577
  ![0, v2583.toNat]
def k0_off1017 (v2579 : BitVec 32) (c0_i32_897 : BitVec 32) : Fin 2 → Nat :=
  let v2597 : BitVec 32 := Scalar.addi v2579 c0_i32_897
  let v2598 : Index := Scalar.indexCast v2597
  let c0_898 : Index := 0#32
  ![v2598.toNat, 0]

def k0_chk227 (v2579 : BitVec 32) : Prop :=
  (∀ a, (k0_off1015 v2579) a + S1x128.size a ≤ S102432x128.size a) ∧
  (∀ (r : Fin 3), ∀ a, (k0_off1017 v2579 (BitVec.ofNat 32 (8 * r.val))) a + S8x128.size a ≤ S102432x128.size a)
theorem k0_off1015_inb : ∀ (v2579 : BitVec 32) (k0_hw227 : k0_chk227 v2579), ∀ a, (k0_off1015 v2579) a + S1x128.size a ≤ S102432x128.size a := fun v2579 k0_hw227 => k0_hw227.1
theorem k0_off1017_inb : ∀ (v2579 : BitVec 32) (k0_hw227 : k0_chk227 v2579), ∀ (r : Fin 3), ∀ a, (k0_off1017 v2579 (BitVec.ofNat 32 (8 * r.val))) a + S8x128.size a ≤ S102432x128.size a := fun v2579 k0_hw227 r => k0_hw227.2 r

def k0_off1018 (k0_t9 : Fin k0_t9_loop.trips) : Fin 2 → Nat :=
  let c1_907 : Index := 1#32
  let c64_i32_890 : BitVec 32 := 64#32
  let c0_i32_40 : BitVec 32 := 0#32
  let c1_i32_42 : BitVec 32 := 1#32
  let arg20 : BitVec 32 := Scf.iv c0_i32_40 c1_i32_42 k0_t9
  let c8_i32_889 : BitVec 32 := 8#32
  let v2575 : BitVec 32 := Scalar.muli arg20 c8_i32_889
  let v2576 : BitVec 32 := Scalar.addi c64_i32_890 v2575
  let c6_i32 : BitVec 32 := 6#32
  let v2577 : BitVec 32 := Scalar.addi v2576 c6_i32
  let v2625 : Index := Scalar.indexCast v2577
  ![1, v2625.toNat]
def k0_off1019 (v2626 : BitVec 32) : Fin 2 → Nat :=
  let c24_i32_908 : BitVec 32 := 24#32
  let v2627 : BitVec 32 := Scalar.addi v2626 c24_i32_908
  let v2628 : Index := Scalar.indexCast v2627
  let c0_909 : Index := 0#32
  ![v2628.toNat, 0]

def k0_off1020 (k0_t9 : Fin k0_t9_loop.trips) : Fin 2 → Nat :=
  let c1_910 : Index := 1#32
  let c64_i32_890 : BitVec 32 := 64#32
  let c0_i32_40 : BitVec 32 := 0#32
  let c1_i32_42 : BitVec 32 := 1#32
  let arg20 : BitVec 32 := Scf.iv c0_i32_40 c1_i32_42 k0_t9
  let c8_i32_889 : BitVec 32 := 8#32
  let v2575 : BitVec 32 := Scalar.muli arg20 c8_i32_889
  let v2576 : BitVec 32 := Scalar.addi c64_i32_890 v2575
  let c6_i32 : BitVec 32 := 6#32
  let v2577 : BitVec 32 := Scalar.addi v2576 c6_i32
  let v2630 : Index := Scalar.indexCast v2577
  ![1, v2630.toNat]
def k0_off1021 (v2626 : BitVec 32) (c0_i32_913 : BitVec 32) : Fin 2 → Nat :=
  let v2644 : BitVec 32 := Scalar.addi v2626 c0_i32_913
  let v2645 : Index := Scalar.indexCast v2644
  let c0_914 : Index := 0#32
  ![v2645.toNat, 0]

def k0_chk228 (v2626 : BitVec 32) : Prop :=
  (∀ a, (k0_off1019 v2626) a + S1x128.size a ≤ S102432x128.size a) ∧
  (∀ (r : Fin 3), ∀ a, (k0_off1021 v2626 (BitVec.ofNat 32 (8 * r.val))) a + S8x128.size a ≤ S102432x128.size a)
theorem k0_off1019_inb : ∀ (v2626 : BitVec 32) (k0_hw228 : k0_chk228 v2626), ∀ a, (k0_off1019 v2626) a + S1x128.size a ≤ S102432x128.size a := fun v2626 k0_hw228 => k0_hw228.1
theorem k0_off1021_inb : ∀ (v2626 : BitVec 32) (k0_hw228 : k0_chk228 v2626), ∀ (r : Fin 3), ∀ a, (k0_off1021 v2626 (BitVec.ofNat 32 (8 * r.val))) a + S8x128.size a ≤ S102432x128.size a := fun v2626 k0_hw228 r => k0_hw228.2 r

def k0_off1022 (k0_t9 : Fin k0_t9_loop.trips) : Fin 2 → Nat :=
  let c2_923 : Index := 2#32
  let c64_i32_890 : BitVec 32 := 64#32
  let c0_i32_40 : BitVec 32 := 0#32
  let c1_i32_42 : BitVec 32 := 1#32
  let arg20 : BitVec 32 := Scf.iv c0_i32_40 c1_i32_42 k0_t9
  let c8_i32_889 : BitVec 32 := 8#32
  let v2575 : BitVec 32 := Scalar.muli arg20 c8_i32_889
  let v2576 : BitVec 32 := Scalar.addi c64_i32_890 v2575
  let c6_i32 : BitVec 32 := 6#32
  let v2577 : BitVec 32 := Scalar.addi v2576 c6_i32
  let v2675 : Index := Scalar.indexCast v2577
  ![2, v2675.toNat]
def k0_off1023 (v2676 : BitVec 32) : Fin 2 → Nat :=
  let c24_i32_924 : BitVec 32 := 24#32
  let v2677 : BitVec 32 := Scalar.addi v2676 c24_i32_924
  let v2678 : Index := Scalar.indexCast v2677
  let c0_925 : Index := 0#32
  ![v2678.toNat, 0]

def k0_off1024 (k0_t9 : Fin k0_t9_loop.trips) : Fin 2 → Nat :=
  let c2_926 : Index := 2#32
  let c64_i32_890 : BitVec 32 := 64#32
  let c0_i32_40 : BitVec 32 := 0#32
  let c1_i32_42 : BitVec 32 := 1#32
  let arg20 : BitVec 32 := Scf.iv c0_i32_40 c1_i32_42 k0_t9
  let c8_i32_889 : BitVec 32 := 8#32
  let v2575 : BitVec 32 := Scalar.muli arg20 c8_i32_889
  let v2576 : BitVec 32 := Scalar.addi c64_i32_890 v2575
  let c6_i32 : BitVec 32 := 6#32
  let v2577 : BitVec 32 := Scalar.addi v2576 c6_i32
  let v2680 : Index := Scalar.indexCast v2577
  ![2, v2680.toNat]
def k0_off1025 (v2676 : BitVec 32) (c0_i32_929 : BitVec 32) : Fin 2 → Nat :=
  let v2694 : BitVec 32 := Scalar.addi v2676 c0_i32_929
  let v2695 : Index := Scalar.indexCast v2694
  let c0_930 : Index := 0#32
  ![v2695.toNat, 0]

def k0_chk229 (v2676 : BitVec 32) : Prop :=
  (∀ a, (k0_off1023 v2676) a + S1x128.size a ≤ S102432x128.size a) ∧
  (∀ (r : Fin 3), ∀ a, (k0_off1025 v2676 (BitVec.ofNat 32 (8 * r.val))) a + S8x128.size a ≤ S102432x128.size a)
theorem k0_off1023_inb : ∀ (v2676 : BitVec 32) (k0_hw229 : k0_chk229 v2676), ∀ a, (k0_off1023 v2676) a + S1x128.size a ≤ S102432x128.size a := fun v2676 k0_hw229 => k0_hw229.1
theorem k0_off1025_inb : ∀ (v2676 : BitVec 32) (k0_hw229 : k0_chk229 v2676), ∀ (r : Fin 3), ∀ a, (k0_off1025 v2676 (BitVec.ofNat 32 (8 * r.val))) a + S8x128.size a ≤ S102432x128.size a := fun v2676 k0_hw229 r => k0_hw229.2 r

def k0_off1026 (k0_t9 : Fin k0_t9_loop.trips) : Fin 2 → Nat :=
  let c3_939 : Index := 3#32
  let c64_i32_890 : BitVec 32 := 64#32
  let c0_i32_40 : BitVec 32 := 0#32
  let c1_i32_42 : BitVec 32 := 1#32
  let arg20 : BitVec 32 := Scf.iv c0_i32_40 c1_i32_42 k0_t9
  let c8_i32_889 : BitVec 32 := 8#32
  let v2575 : BitVec 32 := Scalar.muli arg20 c8_i32_889
  let v2576 : BitVec 32 := Scalar.addi c64_i32_890 v2575
  let c6_i32 : BitVec 32 := 6#32
  let v2577 : BitVec 32 := Scalar.addi v2576 c6_i32
  let v2725 : Index := Scalar.indexCast v2577
  ![3, v2725.toNat]
def k0_off1027 (v2726 : BitVec 32) : Fin 2 → Nat :=
  let c24_i32_940 : BitVec 32 := 24#32
  let v2727 : BitVec 32 := Scalar.addi v2726 c24_i32_940
  let v2728 : Index := Scalar.indexCast v2727
  let c0_941 : Index := 0#32
  ![v2728.toNat, 0]

def k0_off1028 (k0_t9 : Fin k0_t9_loop.trips) : Fin 2 → Nat :=
  let c3_942 : Index := 3#32
  let c64_i32_890 : BitVec 32 := 64#32
  let c0_i32_40 : BitVec 32 := 0#32
  let c1_i32_42 : BitVec 32 := 1#32
  let arg20 : BitVec 32 := Scf.iv c0_i32_40 c1_i32_42 k0_t9
  let c8_i32_889 : BitVec 32 := 8#32
  let v2575 : BitVec 32 := Scalar.muli arg20 c8_i32_889
  let v2576 : BitVec 32 := Scalar.addi c64_i32_890 v2575
  let c6_i32 : BitVec 32 := 6#32
  let v2577 : BitVec 32 := Scalar.addi v2576 c6_i32
  let v2730 : Index := Scalar.indexCast v2577
  ![3, v2730.toNat]
def k0_off1029 (v2726 : BitVec 32) (c0_i32_945 : BitVec 32) : Fin 2 → Nat :=
  let v2744 : BitVec 32 := Scalar.addi v2726 c0_i32_945
  let v2745 : Index := Scalar.indexCast v2744
  let c0_946 : Index := 0#32
  ![v2745.toNat, 0]

def k0_chk230 (v2726 : BitVec 32) : Prop :=
  (∀ a, (k0_off1027 v2726) a + S1x128.size a ≤ S102432x128.size a) ∧
  (∀ (r : Fin 3), ∀ a, (k0_off1029 v2726 (BitVec.ofNat 32 (8 * r.val))) a + S8x128.size a ≤ S102432x128.size a)
theorem k0_off1027_inb : ∀ (v2726 : BitVec 32) (k0_hw230 : k0_chk230 v2726), ∀ a, (k0_off1027 v2726) a + S1x128.size a ≤ S102432x128.size a := fun v2726 k0_hw230 => k0_hw230.1
theorem k0_off1029_inb : ∀ (v2726 : BitVec 32) (k0_hw230 : k0_chk230 v2726), ∀ (r : Fin 3), ∀ a, (k0_off1029 v2726 (BitVec.ofNat 32 (8 * r.val))) a + S8x128.size a ≤ S102432x128.size a := fun v2726 k0_hw230 r => k0_hw230.2 r

def k0_off1030 (k0_t9 : Fin k0_t9_loop.trips) : Fin 2 → Nat :=
  let c4_955 : Index := 4#32
  let c64_i32_890 : BitVec 32 := 64#32
  let c0_i32_40 : BitVec 32 := 0#32
  let c1_i32_42 : BitVec 32 := 1#32
  let arg20 : BitVec 32 := Scf.iv c0_i32_40 c1_i32_42 k0_t9
  let c8_i32_889 : BitVec 32 := 8#32
  let v2575 : BitVec 32 := Scalar.muli arg20 c8_i32_889
  let v2576 : BitVec 32 := Scalar.addi c64_i32_890 v2575
  let c6_i32 : BitVec 32 := 6#32
  let v2577 : BitVec 32 := Scalar.addi v2576 c6_i32
  let v2775 : Index := Scalar.indexCast v2577
  ![4, v2775.toNat]
def k0_off1031 (v2776 : BitVec 32) : Fin 2 → Nat :=
  let c24_i32_956 : BitVec 32 := 24#32
  let v2777 : BitVec 32 := Scalar.addi v2776 c24_i32_956
  let v2778 : Index := Scalar.indexCast v2777
  let c0_957 : Index := 0#32
  ![v2778.toNat, 0]

def k0_off1032 (k0_t9 : Fin k0_t9_loop.trips) : Fin 2 → Nat :=
  let c4_958 : Index := 4#32
  let c64_i32_890 : BitVec 32 := 64#32
  let c0_i32_40 : BitVec 32 := 0#32
  let c1_i32_42 : BitVec 32 := 1#32
  let arg20 : BitVec 32 := Scf.iv c0_i32_40 c1_i32_42 k0_t9
  let c8_i32_889 : BitVec 32 := 8#32
  let v2575 : BitVec 32 := Scalar.muli arg20 c8_i32_889
  let v2576 : BitVec 32 := Scalar.addi c64_i32_890 v2575
  let c6_i32 : BitVec 32 := 6#32
  let v2577 : BitVec 32 := Scalar.addi v2576 c6_i32
  let v2780 : Index := Scalar.indexCast v2577
  ![4, v2780.toNat]
def k0_off1033 (v2776 : BitVec 32) (c0_i32_961 : BitVec 32) : Fin 2 → Nat :=
  let v2794 : BitVec 32 := Scalar.addi v2776 c0_i32_961
  let v2795 : Index := Scalar.indexCast v2794
  let c0_962 : Index := 0#32
  ![v2795.toNat, 0]

def k0_chk231 (v2776 : BitVec 32) : Prop :=
  (∀ a, (k0_off1031 v2776) a + S1x128.size a ≤ S102432x128.size a) ∧
  (∀ (r : Fin 3), ∀ a, (k0_off1033 v2776 (BitVec.ofNat 32 (8 * r.val))) a + S8x128.size a ≤ S102432x128.size a)
theorem k0_off1031_inb : ∀ (v2776 : BitVec 32) (k0_hw231 : k0_chk231 v2776), ∀ a, (k0_off1031 v2776) a + S1x128.size a ≤ S102432x128.size a := fun v2776 k0_hw231 => k0_hw231.1
theorem k0_off1033_inb : ∀ (v2776 : BitVec 32) (k0_hw231 : k0_chk231 v2776), ∀ (r : Fin 3), ∀ a, (k0_off1033 v2776 (BitVec.ofNat 32 (8 * r.val))) a + S8x128.size a ≤ S102432x128.size a := fun v2776 k0_hw231 r => k0_hw231.2 r

def k0_off1034 (k0_t9 : Fin k0_t9_loop.trips) : Fin 2 → Nat :=
  let c5_971 : Index := 5#32
  let c64_i32_890 : BitVec 32 := 64#32
  let c0_i32_40 : BitVec 32 := 0#32
  let c1_i32_42 : BitVec 32 := 1#32
  let arg20 : BitVec 32 := Scf.iv c0_i32_40 c1_i32_42 k0_t9
  let c8_i32_889 : BitVec 32 := 8#32
  let v2575 : BitVec 32 := Scalar.muli arg20 c8_i32_889
  let v2576 : BitVec 32 := Scalar.addi c64_i32_890 v2575
  let c6_i32 : BitVec 32 := 6#32
  let v2577 : BitVec 32 := Scalar.addi v2576 c6_i32
  let v2825 : Index := Scalar.indexCast v2577
  ![5, v2825.toNat]
def k0_off1035 (v2826 : BitVec 32) : Fin 2 → Nat :=
  let c24_i32_972 : BitVec 32 := 24#32
  let v2827 : BitVec 32 := Scalar.addi v2826 c24_i32_972
  let v2828 : Index := Scalar.indexCast v2827
  let c0_973 : Index := 0#32
  ![v2828.toNat, 0]

def k0_off1036 (k0_t9 : Fin k0_t9_loop.trips) : Fin 2 → Nat :=
  let c5_974 : Index := 5#32
  let c64_i32_890 : BitVec 32 := 64#32
  let c0_i32_40 : BitVec 32 := 0#32
  let c1_i32_42 : BitVec 32 := 1#32
  let arg20 : BitVec 32 := Scf.iv c0_i32_40 c1_i32_42 k0_t9
  let c8_i32_889 : BitVec 32 := 8#32
  let v2575 : BitVec 32 := Scalar.muli arg20 c8_i32_889
  let v2576 : BitVec 32 := Scalar.addi c64_i32_890 v2575
  let c6_i32 : BitVec 32 := 6#32
  let v2577 : BitVec 32 := Scalar.addi v2576 c6_i32
  let v2830 : Index := Scalar.indexCast v2577
  ![5, v2830.toNat]
def k0_off1037 (v2826 : BitVec 32) (c0_i32_977 : BitVec 32) : Fin 2 → Nat :=
  let v2844 : BitVec 32 := Scalar.addi v2826 c0_i32_977
  let v2845 : Index := Scalar.indexCast v2844
  let c0_978 : Index := 0#32
  ![v2845.toNat, 0]

def k0_chk232 (v2826 : BitVec 32) : Prop :=
  (∀ a, (k0_off1035 v2826) a + S1x128.size a ≤ S102432x128.size a) ∧
  (∀ (r : Fin 3), ∀ a, (k0_off1037 v2826 (BitVec.ofNat 32 (8 * r.val))) a + S8x128.size a ≤ S102432x128.size a)
theorem k0_off1035_inb : ∀ (v2826 : BitVec 32) (k0_hw232 : k0_chk232 v2826), ∀ a, (k0_off1035 v2826) a + S1x128.size a ≤ S102432x128.size a := fun v2826 k0_hw232 => k0_hw232.1
theorem k0_off1037_inb : ∀ (v2826 : BitVec 32) (k0_hw232 : k0_chk232 v2826), ∀ (r : Fin 3), ∀ a, (k0_off1037 v2826 (BitVec.ofNat 32 (8 * r.val))) a + S8x128.size a ≤ S102432x128.size a := fun v2826 k0_hw232 r => k0_hw232.2 r

def k0_off1038 (k0_t9 : Fin k0_t9_loop.trips) : Fin 2 → Nat :=
  let c6_987 : Index := 6#32
  let c64_i32_890 : BitVec 32 := 64#32
  let c0_i32_40 : BitVec 32 := 0#32
  let c1_i32_42 : BitVec 32 := 1#32
  let arg20 : BitVec 32 := Scf.iv c0_i32_40 c1_i32_42 k0_t9
  let c8_i32_889 : BitVec 32 := 8#32
  let v2575 : BitVec 32 := Scalar.muli arg20 c8_i32_889
  let v2576 : BitVec 32 := Scalar.addi c64_i32_890 v2575
  let c6_i32 : BitVec 32 := 6#32
  let v2577 : BitVec 32 := Scalar.addi v2576 c6_i32
  let v2875 : Index := Scalar.indexCast v2577
  ![6, v2875.toNat]
def k0_off1039 (v2876 : BitVec 32) : Fin 2 → Nat :=
  let c24_i32_988 : BitVec 32 := 24#32
  let v2877 : BitVec 32 := Scalar.addi v2876 c24_i32_988
  let v2878 : Index := Scalar.indexCast v2877
  let c0_989 : Index := 0#32
  ![v2878.toNat, 0]

def k0_off1040 (k0_t9 : Fin k0_t9_loop.trips) : Fin 2 → Nat :=
  let c6_990 : Index := 6#32
  let c64_i32_890 : BitVec 32 := 64#32
  let c0_i32_40 : BitVec 32 := 0#32
  let c1_i32_42 : BitVec 32 := 1#32
  let arg20 : BitVec 32 := Scf.iv c0_i32_40 c1_i32_42 k0_t9
  let c8_i32_889 : BitVec 32 := 8#32
  let v2575 : BitVec 32 := Scalar.muli arg20 c8_i32_889
  let v2576 : BitVec 32 := Scalar.addi c64_i32_890 v2575
  let c6_i32 : BitVec 32 := 6#32
  let v2577 : BitVec 32 := Scalar.addi v2576 c6_i32
  let v2880 : Index := Scalar.indexCast v2577
  ![6, v2880.toNat]
def k0_off1041 (v2876 : BitVec 32) (c0_i32_993 : BitVec 32) : Fin 2 → Nat :=
  let v2894 : BitVec 32 := Scalar.addi v2876 c0_i32_993
  let v2895 : Index := Scalar.indexCast v2894
  let c0_994 : Index := 0#32
  ![v2895.toNat, 0]

def k0_chk233 (v2876 : BitVec 32) : Prop :=
  (∀ a, (k0_off1039 v2876) a + S1x128.size a ≤ S102432x128.size a) ∧
  (∀ (r : Fin 3), ∀ a, (k0_off1041 v2876 (BitVec.ofNat 32 (8 * r.val))) a + S8x128.size a ≤ S102432x128.size a)
theorem k0_off1039_inb : ∀ (v2876 : BitVec 32) (k0_hw233 : k0_chk233 v2876), ∀ a, (k0_off1039 v2876) a + S1x128.size a ≤ S102432x128.size a := fun v2876 k0_hw233 => k0_hw233.1
theorem k0_off1041_inb : ∀ (v2876 : BitVec 32) (k0_hw233 : k0_chk233 v2876), ∀ (r : Fin 3), ∀ a, (k0_off1041 v2876 (BitVec.ofNat 32 (8 * r.val))) a + S8x128.size a ≤ S102432x128.size a := fun v2876 k0_hw233 r => k0_hw233.2 r

def k0_off1042 (k0_t9 : Fin k0_t9_loop.trips) : Fin 2 → Nat :=
  let c7_1003 : Index := 7#32
  let c64_i32_890 : BitVec 32 := 64#32
  let c0_i32_40 : BitVec 32 := 0#32
  let c1_i32_42 : BitVec 32 := 1#32
  let arg20 : BitVec 32 := Scf.iv c0_i32_40 c1_i32_42 k0_t9
  let c8_i32_889 : BitVec 32 := 8#32
  let v2575 : BitVec 32 := Scalar.muli arg20 c8_i32_889
  let v2576 : BitVec 32 := Scalar.addi c64_i32_890 v2575
  let c6_i32 : BitVec 32 := 6#32
  let v2577 : BitVec 32 := Scalar.addi v2576 c6_i32
  let v2925 : Index := Scalar.indexCast v2577
  ![7, v2925.toNat]
def k0_off1043 (v2926 : BitVec 32) : Fin 2 → Nat :=
  let c24_i32_1004 : BitVec 32 := 24#32
  let v2927 : BitVec 32 := Scalar.addi v2926 c24_i32_1004
  let v2928 : Index := Scalar.indexCast v2927
  let c0_1005 : Index := 0#32
  ![v2928.toNat, 0]

def k0_off1044 (k0_t9 : Fin k0_t9_loop.trips) : Fin 2 → Nat :=
  let c7_1006 : Index := 7#32
  let c64_i32_890 : BitVec 32 := 64#32
  let c0_i32_40 : BitVec 32 := 0#32
  let c1_i32_42 : BitVec 32 := 1#32
  let arg20 : BitVec 32 := Scf.iv c0_i32_40 c1_i32_42 k0_t9
  let c8_i32_889 : BitVec 32 := 8#32
  let v2575 : BitVec 32 := Scalar.muli arg20 c8_i32_889
  let v2576 : BitVec 32 := Scalar.addi c64_i32_890 v2575
  let c6_i32 : BitVec 32 := 6#32
  let v2577 : BitVec 32 := Scalar.addi v2576 c6_i32
  let v2930 : Index := Scalar.indexCast v2577
  ![7, v2930.toNat]
def k0_off1045 (v2926 : BitVec 32) (c0_i32_1009 : BitVec 32) : Fin 2 → Nat :=
  let v2944 : BitVec 32 := Scalar.addi v2926 c0_i32_1009
  let v2945 : Index := Scalar.indexCast v2944
  let c0_1010 : Index := 0#32
  ![v2945.toNat, 0]

def k0_chk234 (v2926 : BitVec 32) : Prop :=
  (∀ a, (k0_off1043 v2926) a + S1x128.size a ≤ S102432x128.size a) ∧
  (∀ (r : Fin 3), ∀ a, (k0_off1045 v2926 (BitVec.ofNat 32 (8 * r.val))) a + S8x128.size a ≤ S102432x128.size a)
theorem k0_off1043_inb : ∀ (v2926 : BitVec 32) (k0_hw234 : k0_chk234 v2926), ∀ a, (k0_off1043 v2926) a + S1x128.size a ≤ S102432x128.size a := fun v2926 k0_hw234 => k0_hw234.1
theorem k0_off1045_inb : ∀ (v2926 : BitVec 32) (k0_hw234 : k0_chk234 v2926), ∀ (r : Fin 3), ∀ a, (k0_off1045 v2926 (BitVec.ofNat 32 (8 * r.val))) a + S8x128.size a ≤ S102432x128.size a := fun v2926 k0_hw234 r => k0_hw234.2 r

def k0_off1046 (k0_t9 : Fin k0_t9_loop.trips) (c0_i32_1020 : BitVec 32) : Fin 2 → Nat :=
  let c64_i32_890 : BitVec 32 := 64#32
  let c0_i32_40 : BitVec 32 := 0#32
  let c1_i32_42 : BitVec 32 := 1#32
  let arg20 : BitVec 32 := Scf.iv c0_i32_40 c1_i32_42 k0_t9
  let c8_i32_889 : BitVec 32 := 8#32
  let v2575 : BitVec 32 := Scalar.muli arg20 c8_i32_889
  let v2576 : BitVec 32 := Scalar.addi c64_i32_890 v2575
  let c6_i32 : BitVec 32 := 6#32
  let v2577 : BitVec 32 := Scalar.addi v2576 c6_i32
  let c25_i32_1019 : BitVec 32 := 25#32
  let v2975 : BitVec 32 := Scalar.muli v2577 c25_i32_1019
  let v2976 : BitVec 32 := Scalar.addi v2975 c0_i32_1020
  let v2977 : Index := Scalar.indexCast v2976
  let c0_1021 : Index := 0#32
  ![v2977.toNat, 0]
def k0_off1047 (k0_t9 : Fin k0_t9_loop.trips) : Fin 2 → Nat :=
  let c0_1030 : Index := 0#32
  let c64_i32_1029 : BitVec 32 := 64#32
  let c0_i32_40 : BitVec 32 := 0#32
  let c1_i32_42 : BitVec 32 := 1#32
  let arg20 : BitVec 32 := Scf.iv c0_i32_40 c1_i32_42 k0_t9
  let c8_i32_1028 : BitVec 32 := 8#32
  let v2993 : BitVec 32 := Scalar.muli arg20 c8_i32_1028
  let v2994 : BitVec 32 := Scalar.addi c64_i32_1029 v2993
  let c7_i32 : BitVec 32 := 7#32
  let v2995 : BitVec 32 := Scalar.addi v2994 c7_i32
  let v2996 : Index := Scalar.indexCast v2995
  ![0, v2996.toNat]
def k0_off1048 (v2997 : BitVec 32) : Fin 2 → Nat :=
  let c24_i32_1031 : BitVec 32 := 24#32
  let v2998 : BitVec 32 := Scalar.addi v2997 c24_i32_1031
  let v2999 : Index := Scalar.indexCast v2998
  let c0_1032 : Index := 0#32
  ![v2999.toNat, 0]

def k0_off1049 (k0_t9 : Fin k0_t9_loop.trips) : Fin 2 → Nat :=
  let c0_1033 : Index := 0#32
  let c64_i32_1029 : BitVec 32 := 64#32
  let c0_i32_40 : BitVec 32 := 0#32
  let c1_i32_42 : BitVec 32 := 1#32
  let arg20 : BitVec 32 := Scf.iv c0_i32_40 c1_i32_42 k0_t9
  let c8_i32_1028 : BitVec 32 := 8#32
  let v2993 : BitVec 32 := Scalar.muli arg20 c8_i32_1028
  let v2994 : BitVec 32 := Scalar.addi c64_i32_1029 v2993
  let c7_i32 : BitVec 32 := 7#32
  let v2995 : BitVec 32 := Scalar.addi v2994 c7_i32
  let v3001 : Index := Scalar.indexCast v2995
  ![0, v3001.toNat]
def k0_off1050 (v2997 : BitVec 32) (c0_i32_1036 : BitVec 32) : Fin 2 → Nat :=
  let v3015 : BitVec 32 := Scalar.addi v2997 c0_i32_1036
  let v3016 : Index := Scalar.indexCast v3015
  let c0_1037 : Index := 0#32
  ![v3016.toNat, 0]

def k0_chk235 (v2997 : BitVec 32) : Prop :=
  (∀ a, (k0_off1048 v2997) a + S1x128.size a ≤ S102432x128.size a) ∧
  (∀ (r : Fin 3), ∀ a, (k0_off1050 v2997 (BitVec.ofNat 32 (8 * r.val))) a + S8x128.size a ≤ S102432x128.size a)
theorem k0_off1048_inb : ∀ (v2997 : BitVec 32) (k0_hw235 : k0_chk235 v2997), ∀ a, (k0_off1048 v2997) a + S1x128.size a ≤ S102432x128.size a := fun v2997 k0_hw235 => k0_hw235.1
theorem k0_off1050_inb : ∀ (v2997 : BitVec 32) (k0_hw235 : k0_chk235 v2997), ∀ (r : Fin 3), ∀ a, (k0_off1050 v2997 (BitVec.ofNat 32 (8 * r.val))) a + S8x128.size a ≤ S102432x128.size a := fun v2997 k0_hw235 r => k0_hw235.2 r

def k0_off1051 (k0_t9 : Fin k0_t9_loop.trips) : Fin 2 → Nat :=
  let c1_1046 : Index := 1#32
  let c64_i32_1029 : BitVec 32 := 64#32
  let c0_i32_40 : BitVec 32 := 0#32
  let c1_i32_42 : BitVec 32 := 1#32
  let arg20 : BitVec 32 := Scf.iv c0_i32_40 c1_i32_42 k0_t9
  let c8_i32_1028 : BitVec 32 := 8#32
  let v2993 : BitVec 32 := Scalar.muli arg20 c8_i32_1028
  let v2994 : BitVec 32 := Scalar.addi c64_i32_1029 v2993
  let c7_i32 : BitVec 32 := 7#32
  let v2995 : BitVec 32 := Scalar.addi v2994 c7_i32
  let v3043 : Index := Scalar.indexCast v2995
  ![1, v3043.toNat]
def k0_off1052 (v3044 : BitVec 32) : Fin 2 → Nat :=
  let c24_i32_1047 : BitVec 32 := 24#32
  let v3045 : BitVec 32 := Scalar.addi v3044 c24_i32_1047
  let v3046 : Index := Scalar.indexCast v3045
  let c0_1048 : Index := 0#32
  ![v3046.toNat, 0]

def k0_off1053 (k0_t9 : Fin k0_t9_loop.trips) : Fin 2 → Nat :=
  let c1_1049 : Index := 1#32
  let c64_i32_1029 : BitVec 32 := 64#32
  let c0_i32_40 : BitVec 32 := 0#32
  let c1_i32_42 : BitVec 32 := 1#32
  let arg20 : BitVec 32 := Scf.iv c0_i32_40 c1_i32_42 k0_t9
  let c8_i32_1028 : BitVec 32 := 8#32
  let v2993 : BitVec 32 := Scalar.muli arg20 c8_i32_1028
  let v2994 : BitVec 32 := Scalar.addi c64_i32_1029 v2993
  let c7_i32 : BitVec 32 := 7#32
  let v2995 : BitVec 32 := Scalar.addi v2994 c7_i32
  let v3048 : Index := Scalar.indexCast v2995
  ![1, v3048.toNat]
def k0_off1054 (v3044 : BitVec 32) (c0_i32_1052 : BitVec 32) : Fin 2 → Nat :=
  let v3062 : BitVec 32 := Scalar.addi v3044 c0_i32_1052
  let v3063 : Index := Scalar.indexCast v3062
  let c0_1053 : Index := 0#32
  ![v3063.toNat, 0]

def k0_chk236 (v3044 : BitVec 32) : Prop :=
  (∀ a, (k0_off1052 v3044) a + S1x128.size a ≤ S102432x128.size a) ∧
  (∀ (r : Fin 3), ∀ a, (k0_off1054 v3044 (BitVec.ofNat 32 (8 * r.val))) a + S8x128.size a ≤ S102432x128.size a)
theorem k0_off1052_inb : ∀ (v3044 : BitVec 32) (k0_hw236 : k0_chk236 v3044), ∀ a, (k0_off1052 v3044) a + S1x128.size a ≤ S102432x128.size a := fun v3044 k0_hw236 => k0_hw236.1
theorem k0_off1054_inb : ∀ (v3044 : BitVec 32) (k0_hw236 : k0_chk236 v3044), ∀ (r : Fin 3), ∀ a, (k0_off1054 v3044 (BitVec.ofNat 32 (8 * r.val))) a + S8x128.size a ≤ S102432x128.size a := fun v3044 k0_hw236 r => k0_hw236.2 r

def k0_off1055 (k0_t9 : Fin k0_t9_loop.trips) : Fin 2 → Nat :=
  let c2_1062 : Index := 2#32
  let c64_i32_1029 : BitVec 32 := 64#32
  let c0_i32_40 : BitVec 32 := 0#32
  let c1_i32_42 : BitVec 32 := 1#32
  let arg20 : BitVec 32 := Scf.iv c0_i32_40 c1_i32_42 k0_t9
  let c8_i32_1028 : BitVec 32 := 8#32
  let v2993 : BitVec 32 := Scalar.muli arg20 c8_i32_1028
  let v2994 : BitVec 32 := Scalar.addi c64_i32_1029 v2993
  let c7_i32 : BitVec 32 := 7#32
  let v2995 : BitVec 32 := Scalar.addi v2994 c7_i32
  let v3093 : Index := Scalar.indexCast v2995
  ![2, v3093.toNat]
def k0_off1056 (v3094 : BitVec 32) : Fin 2 → Nat :=
  let c24_i32_1063 : BitVec 32 := 24#32
  let v3095 : BitVec 32 := Scalar.addi v3094 c24_i32_1063
  let v3096 : Index := Scalar.indexCast v3095
  let c0_1064 : Index := 0#32
  ![v3096.toNat, 0]

def k0_off1057 (k0_t9 : Fin k0_t9_loop.trips) : Fin 2 → Nat :=
  let c2_1065 : Index := 2#32
  let c64_i32_1029 : BitVec 32 := 64#32
  let c0_i32_40 : BitVec 32 := 0#32
  let c1_i32_42 : BitVec 32 := 1#32
  let arg20 : BitVec 32 := Scf.iv c0_i32_40 c1_i32_42 k0_t9
  let c8_i32_1028 : BitVec 32 := 8#32
  let v2993 : BitVec 32 := Scalar.muli arg20 c8_i32_1028
  let v2994 : BitVec 32 := Scalar.addi c64_i32_1029 v2993
  let c7_i32 : BitVec 32 := 7#32
  let v2995 : BitVec 32 := Scalar.addi v2994 c7_i32
  let v3098 : Index := Scalar.indexCast v2995
  ![2, v3098.toNat]
def k0_off1058 (v3094 : BitVec 32) (c0_i32_1068 : BitVec 32) : Fin 2 → Nat :=
  let v3112 : BitVec 32 := Scalar.addi v3094 c0_i32_1068
  let v3113 : Index := Scalar.indexCast v3112
  let c0_1069 : Index := 0#32
  ![v3113.toNat, 0]

def k0_chk237 (v3094 : BitVec 32) : Prop :=
  (∀ a, (k0_off1056 v3094) a + S1x128.size a ≤ S102432x128.size a) ∧
  (∀ (r : Fin 3), ∀ a, (k0_off1058 v3094 (BitVec.ofNat 32 (8 * r.val))) a + S8x128.size a ≤ S102432x128.size a)
theorem k0_off1056_inb : ∀ (v3094 : BitVec 32) (k0_hw237 : k0_chk237 v3094), ∀ a, (k0_off1056 v3094) a + S1x128.size a ≤ S102432x128.size a := fun v3094 k0_hw237 => k0_hw237.1
theorem k0_off1058_inb : ∀ (v3094 : BitVec 32) (k0_hw237 : k0_chk237 v3094), ∀ (r : Fin 3), ∀ a, (k0_off1058 v3094 (BitVec.ofNat 32 (8 * r.val))) a + S8x128.size a ≤ S102432x128.size a := fun v3094 k0_hw237 r => k0_hw237.2 r

def k0_off1059 (k0_t9 : Fin k0_t9_loop.trips) : Fin 2 → Nat :=
  let c3_1078 : Index := 3#32
  let c64_i32_1029 : BitVec 32 := 64#32
  let c0_i32_40 : BitVec 32 := 0#32
  let c1_i32_42 : BitVec 32 := 1#32
  let arg20 : BitVec 32 := Scf.iv c0_i32_40 c1_i32_42 k0_t9
  let c8_i32_1028 : BitVec 32 := 8#32
  let v2993 : BitVec 32 := Scalar.muli arg20 c8_i32_1028
  let v2994 : BitVec 32 := Scalar.addi c64_i32_1029 v2993
  let c7_i32 : BitVec 32 := 7#32
  let v2995 : BitVec 32 := Scalar.addi v2994 c7_i32
  let v3143 : Index := Scalar.indexCast v2995
  ![3, v3143.toNat]
def k0_off1060 (v3144 : BitVec 32) : Fin 2 → Nat :=
  let c24_i32_1079 : BitVec 32 := 24#32
  let v3145 : BitVec 32 := Scalar.addi v3144 c24_i32_1079
  let v3146 : Index := Scalar.indexCast v3145
  let c0_1080 : Index := 0#32
  ![v3146.toNat, 0]

def k0_off1061 (k0_t9 : Fin k0_t9_loop.trips) : Fin 2 → Nat :=
  let c3_1081 : Index := 3#32
  let c64_i32_1029 : BitVec 32 := 64#32
  let c0_i32_40 : BitVec 32 := 0#32
  let c1_i32_42 : BitVec 32 := 1#32
  let arg20 : BitVec 32 := Scf.iv c0_i32_40 c1_i32_42 k0_t9
  let c8_i32_1028 : BitVec 32 := 8#32
  let v2993 : BitVec 32 := Scalar.muli arg20 c8_i32_1028
  let v2994 : BitVec 32 := Scalar.addi c64_i32_1029 v2993
  let c7_i32 : BitVec 32 := 7#32
  let v2995 : BitVec 32 := Scalar.addi v2994 c7_i32
  let v3148 : Index := Scalar.indexCast v2995
  ![3, v3148.toNat]
def k0_off1062 (v3144 : BitVec 32) (c0_i32_1084 : BitVec 32) : Fin 2 → Nat :=
  let v3162 : BitVec 32 := Scalar.addi v3144 c0_i32_1084
  let v3163 : Index := Scalar.indexCast v3162
  let c0_1085 : Index := 0#32
  ![v3163.toNat, 0]

def k0_chk238 (v3144 : BitVec 32) : Prop :=
  (∀ a, (k0_off1060 v3144) a + S1x128.size a ≤ S102432x128.size a) ∧
  (∀ (r : Fin 3), ∀ a, (k0_off1062 v3144 (BitVec.ofNat 32 (8 * r.val))) a + S8x128.size a ≤ S102432x128.size a)
theorem k0_off1060_inb : ∀ (v3144 : BitVec 32) (k0_hw238 : k0_chk238 v3144), ∀ a, (k0_off1060 v3144) a + S1x128.size a ≤ S102432x128.size a := fun v3144 k0_hw238 => k0_hw238.1
theorem k0_off1062_inb : ∀ (v3144 : BitVec 32) (k0_hw238 : k0_chk238 v3144), ∀ (r : Fin 3), ∀ a, (k0_off1062 v3144 (BitVec.ofNat 32 (8 * r.val))) a + S8x128.size a ≤ S102432x128.size a := fun v3144 k0_hw238 r => k0_hw238.2 r

def k0_off1063 (k0_t9 : Fin k0_t9_loop.trips) : Fin 2 → Nat :=
  let c4_1094 : Index := 4#32
  let c64_i32_1029 : BitVec 32 := 64#32
  let c0_i32_40 : BitVec 32 := 0#32
  let c1_i32_42 : BitVec 32 := 1#32
  let arg20 : BitVec 32 := Scf.iv c0_i32_40 c1_i32_42 k0_t9
  let c8_i32_1028 : BitVec 32 := 8#32
  let v2993 : BitVec 32 := Scalar.muli arg20 c8_i32_1028
  let v2994 : BitVec 32 := Scalar.addi c64_i32_1029 v2993
  let c7_i32 : BitVec 32 := 7#32
  let v2995 : BitVec 32 := Scalar.addi v2994 c7_i32
  let v3193 : Index := Scalar.indexCast v2995
  ![4, v3193.toNat]
def k0_off1064 (v3194 : BitVec 32) : Fin 2 → Nat :=
  let c24_i32_1095 : BitVec 32 := 24#32
  let v3195 : BitVec 32 := Scalar.addi v3194 c24_i32_1095
  let v3196 : Index := Scalar.indexCast v3195
  let c0_1096 : Index := 0#32
  ![v3196.toNat, 0]

def k0_off1065 (k0_t9 : Fin k0_t9_loop.trips) : Fin 2 → Nat :=
  let c4_1097 : Index := 4#32
  let c64_i32_1029 : BitVec 32 := 64#32
  let c0_i32_40 : BitVec 32 := 0#32
  let c1_i32_42 : BitVec 32 := 1#32
  let arg20 : BitVec 32 := Scf.iv c0_i32_40 c1_i32_42 k0_t9
  let c8_i32_1028 : BitVec 32 := 8#32
  let v2993 : BitVec 32 := Scalar.muli arg20 c8_i32_1028
  let v2994 : BitVec 32 := Scalar.addi c64_i32_1029 v2993
  let c7_i32 : BitVec 32 := 7#32
  let v2995 : BitVec 32 := Scalar.addi v2994 c7_i32
  let v3198 : Index := Scalar.indexCast v2995
  ![4, v3198.toNat]
def k0_off1066 (v3194 : BitVec 32) (c0_i32_1100 : BitVec 32) : Fin 2 → Nat :=
  let v3212 : BitVec 32 := Scalar.addi v3194 c0_i32_1100
  let v3213 : Index := Scalar.indexCast v3212
  let c0_1101 : Index := 0#32
  ![v3213.toNat, 0]

def k0_chk239 (v3194 : BitVec 32) : Prop :=
  (∀ a, (k0_off1064 v3194) a + S1x128.size a ≤ S102432x128.size a) ∧
  (∀ (r : Fin 3), ∀ a, (k0_off1066 v3194 (BitVec.ofNat 32 (8 * r.val))) a + S8x128.size a ≤ S102432x128.size a)
theorem k0_off1064_inb : ∀ (v3194 : BitVec 32) (k0_hw239 : k0_chk239 v3194), ∀ a, (k0_off1064 v3194) a + S1x128.size a ≤ S102432x128.size a := fun v3194 k0_hw239 => k0_hw239.1
theorem k0_off1066_inb : ∀ (v3194 : BitVec 32) (k0_hw239 : k0_chk239 v3194), ∀ (r : Fin 3), ∀ a, (k0_off1066 v3194 (BitVec.ofNat 32 (8 * r.val))) a + S8x128.size a ≤ S102432x128.size a := fun v3194 k0_hw239 r => k0_hw239.2 r

def k0_off1067 (k0_t9 : Fin k0_t9_loop.trips) : Fin 2 → Nat :=
  let c5_1110 : Index := 5#32
  let c64_i32_1029 : BitVec 32 := 64#32
  let c0_i32_40 : BitVec 32 := 0#32
  let c1_i32_42 : BitVec 32 := 1#32
  let arg20 : BitVec 32 := Scf.iv c0_i32_40 c1_i32_42 k0_t9
  let c8_i32_1028 : BitVec 32 := 8#32
  let v2993 : BitVec 32 := Scalar.muli arg20 c8_i32_1028
  let v2994 : BitVec 32 := Scalar.addi c64_i32_1029 v2993
  let c7_i32 : BitVec 32 := 7#32
  let v2995 : BitVec 32 := Scalar.addi v2994 c7_i32
  let v3243 : Index := Scalar.indexCast v2995
  ![5, v3243.toNat]
def k0_off1068 (v3244 : BitVec 32) : Fin 2 → Nat :=
  let c24_i32_1111 : BitVec 32 := 24#32
  let v3245 : BitVec 32 := Scalar.addi v3244 c24_i32_1111
  let v3246 : Index := Scalar.indexCast v3245
  let c0_1112 : Index := 0#32
  ![v3246.toNat, 0]

def k0_off1069 (k0_t9 : Fin k0_t9_loop.trips) : Fin 2 → Nat :=
  let c5_1113 : Index := 5#32
  let c64_i32_1029 : BitVec 32 := 64#32
  let c0_i32_40 : BitVec 32 := 0#32
  let c1_i32_42 : BitVec 32 := 1#32
  let arg20 : BitVec 32 := Scf.iv c0_i32_40 c1_i32_42 k0_t9
  let c8_i32_1028 : BitVec 32 := 8#32
  let v2993 : BitVec 32 := Scalar.muli arg20 c8_i32_1028
  let v2994 : BitVec 32 := Scalar.addi c64_i32_1029 v2993
  let c7_i32 : BitVec 32 := 7#32
  let v2995 : BitVec 32 := Scalar.addi v2994 c7_i32
  let v3248 : Index := Scalar.indexCast v2995
  ![5, v3248.toNat]
def k0_off1070 (v3244 : BitVec 32) (c0_i32_1116 : BitVec 32) : Fin 2 → Nat :=
  let v3262 : BitVec 32 := Scalar.addi v3244 c0_i32_1116
  let v3263 : Index := Scalar.indexCast v3262
  let c0_1117 : Index := 0#32
  ![v3263.toNat, 0]

def k0_chk240 (v3244 : BitVec 32) : Prop :=
  (∀ a, (k0_off1068 v3244) a + S1x128.size a ≤ S102432x128.size a) ∧
  (∀ (r : Fin 3), ∀ a, (k0_off1070 v3244 (BitVec.ofNat 32 (8 * r.val))) a + S8x128.size a ≤ S102432x128.size a)
theorem k0_off1068_inb : ∀ (v3244 : BitVec 32) (k0_hw240 : k0_chk240 v3244), ∀ a, (k0_off1068 v3244) a + S1x128.size a ≤ S102432x128.size a := fun v3244 k0_hw240 => k0_hw240.1
theorem k0_off1070_inb : ∀ (v3244 : BitVec 32) (k0_hw240 : k0_chk240 v3244), ∀ (r : Fin 3), ∀ a, (k0_off1070 v3244 (BitVec.ofNat 32 (8 * r.val))) a + S8x128.size a ≤ S102432x128.size a := fun v3244 k0_hw240 r => k0_hw240.2 r

def k0_off1071 (k0_t9 : Fin k0_t9_loop.trips) : Fin 2 → Nat :=
  let c6_1126 : Index := 6#32
  let c64_i32_1029 : BitVec 32 := 64#32
  let c0_i32_40 : BitVec 32 := 0#32
  let c1_i32_42 : BitVec 32 := 1#32
  let arg20 : BitVec 32 := Scf.iv c0_i32_40 c1_i32_42 k0_t9
  let c8_i32_1028 : BitVec 32 := 8#32
  let v2993 : BitVec 32 := Scalar.muli arg20 c8_i32_1028
  let v2994 : BitVec 32 := Scalar.addi c64_i32_1029 v2993
  let c7_i32 : BitVec 32 := 7#32
  let v2995 : BitVec 32 := Scalar.addi v2994 c7_i32
  let v3293 : Index := Scalar.indexCast v2995
  ![6, v3293.toNat]
def k0_off1072 (v3294 : BitVec 32) : Fin 2 → Nat :=
  let c24_i32_1127 : BitVec 32 := 24#32
  let v3295 : BitVec 32 := Scalar.addi v3294 c24_i32_1127
  let v3296 : Index := Scalar.indexCast v3295
  let c0_1128 : Index := 0#32
  ![v3296.toNat, 0]

def k0_off1073 (k0_t9 : Fin k0_t9_loop.trips) : Fin 2 → Nat :=
  let c6_1129 : Index := 6#32
  let c64_i32_1029 : BitVec 32 := 64#32
  let c0_i32_40 : BitVec 32 := 0#32
  let c1_i32_42 : BitVec 32 := 1#32
  let arg20 : BitVec 32 := Scf.iv c0_i32_40 c1_i32_42 k0_t9
  let c8_i32_1028 : BitVec 32 := 8#32
  let v2993 : BitVec 32 := Scalar.muli arg20 c8_i32_1028
  let v2994 : BitVec 32 := Scalar.addi c64_i32_1029 v2993
  let c7_i32 : BitVec 32 := 7#32
  let v2995 : BitVec 32 := Scalar.addi v2994 c7_i32
  let v3298 : Index := Scalar.indexCast v2995
  ![6, v3298.toNat]
def k0_off1074 (v3294 : BitVec 32) (c0_i32_1132 : BitVec 32) : Fin 2 → Nat :=
  let v3312 : BitVec 32 := Scalar.addi v3294 c0_i32_1132
  let v3313 : Index := Scalar.indexCast v3312
  let c0_1133 : Index := 0#32
  ![v3313.toNat, 0]

def k0_chk241 (v3294 : BitVec 32) : Prop :=
  (∀ a, (k0_off1072 v3294) a + S1x128.size a ≤ S102432x128.size a) ∧
  (∀ (r : Fin 3), ∀ a, (k0_off1074 v3294 (BitVec.ofNat 32 (8 * r.val))) a + S8x128.size a ≤ S102432x128.size a)
theorem k0_off1072_inb : ∀ (v3294 : BitVec 32) (k0_hw241 : k0_chk241 v3294), ∀ a, (k0_off1072 v3294) a + S1x128.size a ≤ S102432x128.size a := fun v3294 k0_hw241 => k0_hw241.1
theorem k0_off1074_inb : ∀ (v3294 : BitVec 32) (k0_hw241 : k0_chk241 v3294), ∀ (r : Fin 3), ∀ a, (k0_off1074 v3294 (BitVec.ofNat 32 (8 * r.val))) a + S8x128.size a ≤ S102432x128.size a := fun v3294 k0_hw241 r => k0_hw241.2 r

def k0_off1075 (k0_t9 : Fin k0_t9_loop.trips) : Fin 2 → Nat :=
  let c7_1142 : Index := 7#32
  let c64_i32_1029 : BitVec 32 := 64#32
  let c0_i32_40 : BitVec 32 := 0#32
  let c1_i32_42 : BitVec 32 := 1#32
  let arg20 : BitVec 32 := Scf.iv c0_i32_40 c1_i32_42 k0_t9
  let c8_i32_1028 : BitVec 32 := 8#32
  let v2993 : BitVec 32 := Scalar.muli arg20 c8_i32_1028
  let v2994 : BitVec 32 := Scalar.addi c64_i32_1029 v2993
  let c7_i32 : BitVec 32 := 7#32
  let v2995 : BitVec 32 := Scalar.addi v2994 c7_i32
  let v3343 : Index := Scalar.indexCast v2995
  ![7, v3343.toNat]
def k0_off1076 (v3344 : BitVec 32) : Fin 2 → Nat :=
  let c24_i32_1143 : BitVec 32 := 24#32
  let v3345 : BitVec 32 := Scalar.addi v3344 c24_i32_1143
  let v3346 : Index := Scalar.indexCast v3345
  let c0_1144 : Index := 0#32
  ![v3346.toNat, 0]

def k0_off1077 (k0_t9 : Fin k0_t9_loop.trips) : Fin 2 → Nat :=
  let c7_1145 : Index := 7#32
  let c64_i32_1029 : BitVec 32 := 64#32
  let c0_i32_40 : BitVec 32 := 0#32
  let c1_i32_42 : BitVec 32 := 1#32
  let arg20 : BitVec 32 := Scf.iv c0_i32_40 c1_i32_42 k0_t9
  let c8_i32_1028 : BitVec 32 := 8#32
  let v2993 : BitVec 32 := Scalar.muli arg20 c8_i32_1028
  let v2994 : BitVec 32 := Scalar.addi c64_i32_1029 v2993
  let c7_i32 : BitVec 32 := 7#32
  let v2995 : BitVec 32 := Scalar.addi v2994 c7_i32
  let v3348 : Index := Scalar.indexCast v2995
  ![7, v3348.toNat]
def k0_off1078 (v3344 : BitVec 32) (c0_i32_1148 : BitVec 32) : Fin 2 → Nat :=
  let v3362 : BitVec 32 := Scalar.addi v3344 c0_i32_1148
  let v3363 : Index := Scalar.indexCast v3362
  let c0_1149 : Index := 0#32
  ![v3363.toNat, 0]

def k0_chk242 (v3344 : BitVec 32) : Prop :=
  (∀ a, (k0_off1076 v3344) a + S1x128.size a ≤ S102432x128.size a) ∧
  (∀ (r : Fin 3), ∀ a, (k0_off1078 v3344 (BitVec.ofNat 32 (8 * r.val))) a + S8x128.size a ≤ S102432x128.size a)
theorem k0_off1076_inb : ∀ (v3344 : BitVec 32) (k0_hw242 : k0_chk242 v3344), ∀ a, (k0_off1076 v3344) a + S1x128.size a ≤ S102432x128.size a := fun v3344 k0_hw242 => k0_hw242.1
theorem k0_off1078_inb : ∀ (v3344 : BitVec 32) (k0_hw242 : k0_chk242 v3344), ∀ (r : Fin 3), ∀ a, (k0_off1078 v3344 (BitVec.ofNat 32 (8 * r.val))) a + S8x128.size a ≤ S102432x128.size a := fun v3344 k0_hw242 r => k0_hw242.2 r

def k0_off1079 (k0_t9 : Fin k0_t9_loop.trips) (c0_i32_1159 : BitVec 32) : Fin 2 → Nat :=
  let c64_i32_1029 : BitVec 32 := 64#32
  let c0_i32_40 : BitVec 32 := 0#32
  let c1_i32_42 : BitVec 32 := 1#32
  let arg20 : BitVec 32 := Scf.iv c0_i32_40 c1_i32_42 k0_t9
  let c8_i32_1028 : BitVec 32 := 8#32
  let v2993 : BitVec 32 := Scalar.muli arg20 c8_i32_1028
  let v2994 : BitVec 32 := Scalar.addi c64_i32_1029 v2993
  let c7_i32 : BitVec 32 := 7#32
  let v2995 : BitVec 32 := Scalar.addi v2994 c7_i32
  let c25_i32_1158 : BitVec 32 := 25#32
  let v3393 : BitVec 32 := Scalar.muli v2995 c25_i32_1158
  let v3394 : BitVec 32 := Scalar.addi v3393 c0_i32_1159
  let v3395 : Index := Scalar.indexCast v3394
  let c0_1160 : Index := 0#32
  ![v3395.toNat, 0]
@[reducible] def k0_t10_loop (v57 : BitVec 32) : Scf.Loop 32 :=
  let c0_i32_47 : BitVec 32 := 0#32
  let v58 : BitVec 32 := Scalar.subi v57 c0_i32_47
  let c1_i32_49 : BitVec 32 := 1#32
  let v60 : BitVec 32 := Scalar.divsi v58 c1_i32_49
  let v61 : BitVec 32 := Scalar.muli v60 c1_i32_49
  let v62 : BitVec 32 := Scalar.addi c0_i32_47 v61
  let c1_i32_50 : BitVec 32 := 1#32
  ⟨c0_i32_47, v62, c1_i32_50⟩

def k0_off1080 (v57 : BitVec 32) (k0_t10 : Fin (k0_t10_loop v57).trips) : Fin 3 → Nat :=
  let c0_60 : Index := 0#32
  let c3_61 : Index := 3#32
  let c0_i32_47 : BitVec 32 := 0#32
  let c1_i32_50 : BitVec 32 := 1#32
  let arg20 : BitVec 32 := Scf.iv c0_i32_47 c1_i32_50 k0_t10
  let v67 : Index := Scalar.indexCast arg20
  ![0, 3, v67.toNat]
def k0_mult14 : BitVec 32 :=
  let c0_i32_391 : BitVec 32 := 0#32
  c0_i32_391
def k0_off1081 (v71 : BitVec 32) : Fin 1 → Nat :=
  let c16_i32_63 : BitVec 32 := 16#32
  let v72 : BitVec 32 := Scalar.remsi v71 c16_i32_63
  ![v72.toNat]
def k0_cond22 (v68 : BitVec 32) : BitVec 1 :=
  let c6_i32 : BitVec 32 := 6#32
  let v69 : BitVec 32 := Scalar.shrsi v68 c6_i32
  let c7782_i32 : BitVec 32 := 7782#32
  let v73 : BitVec 1 := Scalar.cmpi .slt v69 c7782_i32
  let v74 : BitVec 32 := Scalar.extui v73
  let c0_i32_64 : BitVec 32 := 0#32
  let v75 : BitVec 1 := Scalar.cmpi .ne v74 c0_i32_64
  v75

def k0_off1082 (v71 : BitVec 32) : Fin 3 → Nat :=
  let c16_i32_63 : BitVec 32 := 16#32
  let v72 : BitVec 32 := Scalar.remsi v71 c16_i32_63
  let c0_i32_392 : BitVec 32 := 0#32
  let c0_i32_393 : BitVec 32 := 0#32
  ![v72.toNat, 0, 0]
def k0_off1083 (v71 : BitVec 32) : Fin 3 → Nat :=
  let c16_i32_63 : BitVec 32 := 16#32
  let v72 : BitVec 32 := Scalar.remsi v71 c16_i32_63
  let c0_i32_395 : BitVec 32 := 0#32
  let c0_i32_396 : BitVec 32 := 0#32
  ![v72.toNat, 0, 0]
def k0_off1084 (v71 : BitVec 32) : Fin 3 → Nat :=
  let c16_i32_63 : BitVec 32 := 16#32
  let v72 : BitVec 32 := Scalar.remsi v71 c16_i32_63
  let v917 : Index := Scalar.indexCast v72
  let c0_393 : Index := 0#32
  let c0_394 : Index := 0#32
  ![v917.toNat, 0, 0]
def k0_cond23 (v68 : BitVec 32) : BitVec 1 :=
  let c6_i32 : BitVec 32 := 6#32
  let v69 : BitVec 32 := Scalar.shrsi v68 c6_i32
  let c7782_i32_65 : BitVec 32 := 7782#32
  let v76 : BitVec 1 := Scalar.cmpi .sge v69 c7782_i32_65
  let v77 : BitVec 32 := Scalar.extui v76
  let c0_i32_66 : BitVec 32 := 0#32
  let v78 : BitVec 1 := Scalar.cmpi .ne v77 c0_i32_66
  v78

def k0_off1085 (v71 : BitVec 32) : Fin 3 → Nat :=
  let c16_i32_63 : BitVec 32 := 16#32
  let v72 : BitVec 32 := Scalar.remsi v71 c16_i32_63
  let v922 : Index := Scalar.indexCast v72
  let c0_397 : Index := 0#32
  let c0_398 : Index := 0#32
  ![v922.toNat, 0, 0]
def k0_off1086 (v71 : BitVec 32) : Fin 3 → Nat :=
  let c16_i32_63 : BitVec 32 := 16#32
  let v72 : BitVec 32 := Scalar.remsi v71 c16_i32_63
  let v84 : Index := Scalar.indexCast v72
  let c0_68 : Index := 0#32
  let c0_69 : Index := 0#32
  ![v84.toNat, 0, 0]
def k0_off1087 (v68 : BitVec 32) (c0_i32_70 : BitVec 32) (c0_i32_71 : BitVec 32) : Fin 2 → Nat :=
  let c63_i32 : BitVec 32 := 63#32
  let v70 : BitVec 32 := Scalar.andi v68 c63_i32
  let c64_i32 : BitVec 32 := 64#32
  let v79 : BitVec 32 := Scalar.muli v70 c64_i32
  let c6_i32 : BitVec 32 := 6#32
  let v69 : BitVec 32 := Scalar.shrsi v68 c6_i32
  let c1_i32_67 : BitVec 32 := 1#32
  let v80 : BitVec 32 := Scalar.andi v69 c1_i32_67
  let c32_i32 : BitVec 32 := 32#32
  let v81 : BitVec 32 := Scalar.muli v80 c32_i32
  let v82 : BitVec 32 := Scalar.addi v79 v81
  let c25_i32 : BitVec 32 := 25#32
  let v83 : BitVec 32 := Scalar.muli v82 c25_i32
  let v89 : BitVec 32 := Scalar.addi v83 c0_i32_70
  let v90 : BitVec 32 := Scalar.addi v89 c0_i32_71
  let v91 : Index := Scalar.indexCast v90
  let c0_72 : Index := 0#32
  ![v91.toNat, 0]

def k0_chk245 (v68 : BitVec 32) : Prop :=
  (∀ (r₁ : Fin 4) (r₂ : Fin 25), ∀ a, S8x128.size a = 0 ∨ (k0_off1087 v68 (BitVec.ofNat 32 (200 * r₁.val)) (BitVec.ofNat 32 r₂.val)) a + (![25, 1] : Fin 2 → Nat) a * (S8x128.size a - 1) < S102432x128.size a)
theorem k0_off1087_inb : ∀ (v68 : BitVec 32) (k0_hw245 : k0_chk245 v68), ∀ (r₁ : Fin 4) (r₂ : Fin 25), ∀ a, S8x128.size a = 0 ∨ (k0_off1087 v68 (BitVec.ofNat 32 (200 * r₁.val)) (BitVec.ofNat 32 r₂.val)) a + (![25, 1] : Fin 2 → Nat) a * (S8x128.size a - 1) < S102432x128.size a := fun v68 k0_hw245 r₁ r₂ => k0_hw245 r₁ r₂

def k0_off1088 (v71 : BitVec 32) : Fin 3 → Nat :=
  let c16_i32_63 : BitVec 32 := 16#32
  let v72 : BitVec 32 := Scalar.remsi v71 c16_i32_63
  let v116 : Index := Scalar.indexCast v72
  let c0_79 : Index := 0#32
  let c128 : Index := 128#32
  ![v116.toNat, 0, 128]
def k0_off1089 (v71 : BitVec 32) : Fin 3 → Nat :=
  let c16_i32_63 : BitVec 32 := 16#32
  let v72 : BitVec 32 := Scalar.remsi v71 c16_i32_63
  let v148 : Index := Scalar.indexCast v72
  let c0_92 : Index := 0#32
  let c256 : Index := 256#32
  ![v148.toNat, 0, 256]
def k0_off1090 (v71 : BitVec 32) : Fin 3 → Nat :=
  let c16_i32_63 : BitVec 32 := 16#32
  let v72 : BitVec 32 := Scalar.remsi v71 c16_i32_63
  let v180 : Index := Scalar.indexCast v72
  let c0_104 : Index := 0#32
  let c384 : Index := 384#32
  ![v180.toNat, 0, 384]
def k0_off1091 (v71 : BitVec 32) : Fin 3 → Nat :=
  let c16_i32_63 : BitVec 32 := 16#32
  let v72 : BitVec 32 := Scalar.remsi v71 c16_i32_63
  let v212 : Index := Scalar.indexCast v72
  let c0_116 : Index := 0#32
  let c512 : Index := 512#32
  ![v212.toNat, 0, 512]
def k0_off1092 (v71 : BitVec 32) : Fin 3 → Nat :=
  let c16_i32_63 : BitVec 32 := 16#32
  let v72 : BitVec 32 := Scalar.remsi v71 c16_i32_63
  let v244 : Index := Scalar.indexCast v72
  let c0_129 : Index := 0#32
  let c640 : Index := 640#32
  ![v244.toNat, 0, 640]
def k0_off1093 (v71 : BitVec 32) : Fin 3 → Nat :=
  let c16_i32_63 : BitVec 32 := 16#32
  let v72 : BitVec 32 := Scalar.remsi v71 c16_i32_63
  let v276 : Index := Scalar.indexCast v72
  let c0_141 : Index := 0#32
  let c768 : Index := 768#32
  ![v276.toNat, 0, 768]
def k0_off1094 (v71 : BitVec 32) : Fin 3 → Nat :=
  let c16_i32_63 : BitVec 32 := 16#32
  let v72 : BitVec 32 := Scalar.remsi v71 c16_i32_63
  let v308 : Index := Scalar.indexCast v72
  let c0_154 : Index := 0#32
  let c896 : Index := 896#32
  ![v308.toNat, 0, 896]
def k0_off1095 (v71 : BitVec 32) : Fin 3 → Nat :=
  let c16_i32_63 : BitVec 32 := 16#32
  let v72 : BitVec 32 := Scalar.remsi v71 c16_i32_63
  let v340 : Index := Scalar.indexCast v72
  let c0_166 : Index := 0#32
  let c1024 : Index := 1024#32
  ![v340.toNat, 0, 1024]
def k0_off1096 (v71 : BitVec 32) : Fin 3 → Nat :=
  let c16_i32_63 : BitVec 32 := 16#32
  let v72 : BitVec 32 := Scalar.remsi v71 c16_i32_63
  let v372 : Index := Scalar.indexCast v72
  let c0_179 : Index := 0#32
  let c1152 : Index := 1152#32
  ![v372.toNat, 0, 1152]
def k0_off1097 (v71 : BitVec 32) : Fin 3 → Nat :=
  let c16_i32_63 : BitVec 32 := 16#32
  let v72 : BitVec 32 := Scalar.remsi v71 c16_i32_63
  let v404 : Index := Scalar.indexCast v72
  let c0_191 : Index := 0#32
  let c1280 : Index := 1280#32
  ![v404.toNat, 0, 1280]
def k0_off1098 (v71 : BitVec 32) : Fin 3 → Nat :=
  let c16_i32_63 : BitVec 32 := 16#32
  let v72 : BitVec 32 := Scalar.remsi v71 c16_i32_63
  let v436 : Index := Scalar.indexCast v72
  let c0_203 : Index := 0#32
  let c1408 : Index := 1408#32
  ![v436.toNat, 0, 1408]
def k0_off1099 (v71 : BitVec 32) : Fin 3 → Nat :=
  let c16_i32_63 : BitVec 32 := 16#32
  let v72 : BitVec 32 := Scalar.remsi v71 c16_i32_63
  let v468 : Index := Scalar.indexCast v72
  let c0_215 : Index := 0#32
  let c1536 : Index := 1536#32
  ![v468.toNat, 0, 1536]
def k0_off1100 (v71 : BitVec 32) : Fin 3 → Nat :=
  let c16_i32_63 : BitVec 32 := 16#32
  let v72 : BitVec 32 := Scalar.remsi v71 c16_i32_63
  let v500 : Index := Scalar.indexCast v72
  let c0_227 : Index := 0#32
  let c1664 : Index := 1664#32
  ![v500.toNat, 0, 1664]
def k0_off1101 (v71 : BitVec 32) : Fin 3 → Nat :=
  let c16_i32_63 : BitVec 32 := 16#32
  let v72 : BitVec 32 := Scalar.remsi v71 c16_i32_63
  let v532 : Index := Scalar.indexCast v72
  let c0_239 : Index := 0#32
  let c1792 : Index := 1792#32
  ![v532.toNat, 0, 1792]
def k0_off1102 (v71 : BitVec 32) : Fin 3 → Nat :=
  let c16_i32_63 : BitVec 32 := 16#32
  let v72 : BitVec 32 := Scalar.remsi v71 c16_i32_63
  let v564 : Index := Scalar.indexCast v72
  let c0_251 : Index := 0#32
  let c1920 : Index := 1920#32
  ![v564.toNat, 0, 1920]
def k0_off1103 (v71 : BitVec 32) : Fin 3 → Nat :=
  let c16_i32_63 : BitVec 32 := 16#32
  let v72 : BitVec 32 := Scalar.remsi v71 c16_i32_63
  let v596 : Index := Scalar.indexCast v72
  let c0_263 : Index := 0#32
  let c2048 : Index := 2048#32
  ![v596.toNat, 0, 2048]
def k0_off1104 (v71 : BitVec 32) : Fin 3 → Nat :=
  let c16_i32_63 : BitVec 32 := 16#32
  let v72 : BitVec 32 := Scalar.remsi v71 c16_i32_63
  let v628 : Index := Scalar.indexCast v72
  let c0_276 : Index := 0#32
  let c2176 : Index := 2176#32
  ![v628.toNat, 0, 2176]
def k0_off1105 (v71 : BitVec 32) : Fin 3 → Nat :=
  let c16_i32_63 : BitVec 32 := 16#32
  let v72 : BitVec 32 := Scalar.remsi v71 c16_i32_63
  let v660 : Index := Scalar.indexCast v72
  let c0_288 : Index := 0#32
  let c2304 : Index := 2304#32
  ![v660.toNat, 0, 2304]
def k0_off1106 (v71 : BitVec 32) : Fin 3 → Nat :=
  let c16_i32_63 : BitVec 32 := 16#32
  let v72 : BitVec 32 := Scalar.remsi v71 c16_i32_63
  let v692 : Index := Scalar.indexCast v72
  let c0_300 : Index := 0#32
  let c2432 : Index := 2432#32
  ![v692.toNat, 0, 2432]
def k0_off1107 (v71 : BitVec 32) : Fin 3 → Nat :=
  let c16_i32_63 : BitVec 32 := 16#32
  let v72 : BitVec 32 := Scalar.remsi v71 c16_i32_63
  let v724 : Index := Scalar.indexCast v72
  let c0_312 : Index := 0#32
  let c2560 : Index := 2560#32
  ![v724.toNat, 0, 2560]
def k0_off1108 (v71 : BitVec 32) : Fin 3 → Nat :=
  let c16_i32_63 : BitVec 32 := 16#32
  let v72 : BitVec 32 := Scalar.remsi v71 c16_i32_63
  let v756 : Index := Scalar.indexCast v72
  let c0_324 : Index := 0#32
  let c2688 : Index := 2688#32
  ![v756.toNat, 0, 2688]
def k0_off1109 (v71 : BitVec 32) : Fin 3 → Nat :=
  let c16_i32_63 : BitVec 32 := 16#32
  let v72 : BitVec 32 := Scalar.remsi v71 c16_i32_63
  let v788 : Index := Scalar.indexCast v72
  let c0_336 : Index := 0#32
  let c2816 : Index := 2816#32
  ![v788.toNat, 0, 2816]
def k0_off1110 (v71 : BitVec 32) : Fin 3 → Nat :=
  let c16_i32_63 : BitVec 32 := 16#32
  let v72 : BitVec 32 := Scalar.remsi v71 c16_i32_63
  let v820 : Index := Scalar.indexCast v72
  let c0_348 : Index := 0#32
  let c2944 : Index := 2944#32
  ![v820.toNat, 0, 2944]
def k0_off1111 (v71 : BitVec 32) : Fin 3 → Nat :=
  let c16_i32_63 : BitVec 32 := 16#32
  let v72 : BitVec 32 := Scalar.remsi v71 c16_i32_63
  let v852 : Index := Scalar.indexCast v72
  let c0_360 : Index := 0#32
  let c0_361 : Index := 0#32
  ![v852.toNat, 0, 0]
def k0_off1112 (v71 : BitVec 32) : Fin 3 → Nat :=
  let c16_i32_63 : BitVec 32 := 16#32
  let v72 : BitVec 32 := Scalar.remsi v71 c16_i32_63
  let v864 : Index := Scalar.indexCast v72
  let c8 : Index := 8#32
  let c0_365 : Index := 0#32
  ![v864.toNat, 8, 0]
def k0_off1113 (v71 : BitVec 32) : Fin 3 → Nat :=
  let c16_i32_63 : BitVec 32 := 16#32
  let v72 : BitVec 32 := Scalar.remsi v71 c16_i32_63
  let v876 : Index := Scalar.indexCast v72
  let c16 : Index := 16#32
  let c0_370 : Index := 0#32
  ![v876.toNat, 16, 0]
def k0_off1114 (v71 : BitVec 32) : Fin 3 → Nat :=
  let c16_i32_63 : BitVec 32 := 16#32
  let v72 : BitVec 32 := Scalar.remsi v71 c16_i32_63
  let v888 : Index := Scalar.indexCast v72
  let c24 : Index := 24#32
  let c0_375 : Index := 0#32
  ![v888.toNat, 24, 0]

def k0_chk244_0 (v68 : BitVec 32) (v71 : BitVec 32) : Prop :=
  (∀ (k0_h22 : k0_cond22 v68 = 1#1), ∀ a, (k0_off1081 v71) a + S1.size a ≤ S16.size a) ∧
  (∀ (k0_h22 : k0_cond22 v68 = 1#1), ∀ a, (k0_off1082 v71) a + S1x32x3072.size a ≤ S16x32x3072.size a) ∧
  (∀ (k0_h22 : k0_cond22 v68 = 1#1), ∀ (hinb : ∀ a, (k0_off1082 v71) a + S1x32x3072.size a ≤ S16x32x3072.size a), (Rect.unit (s := S16x32x3072) (k0_off1082 v71) S1x32x3072.size hinb).WholeWords (EltTy.packing .fp8e4m3)) ∧
  (∀ (k0_h22 : k0_cond22 v68 = 1#1), ∀ a, (k0_off1083 v71) a + S1x32x24.size a ≤ S16x32x24.size a) ∧
  (∀ (k0_h23 : k0_cond23 v68 = 1#1), ∀ a, (k0_off1084 v71) a + S1x32x3072.size a ≤ S16x32x3072.size a) ∧
  (∀ (k0_h23 : k0_cond23 v68 = 1#1), ∀ (hinb : ∀ a, (k0_off1084 v71) a + S1x32x3072.size a ≤ S16x32x3072.size a), (Rect.unit (s := S16x32x3072) (k0_off1084 v71) S1x32x3072.size hinb).PackedRows (EltTy.packing .fp8e4m3)) ∧
  (∀ (k0_h23 : k0_cond23 v68 = 1#1), ∀ a, (k0_off1085 v71) a + S1x32x24.size a ≤ S16x32x24.size a) ∧
  (∀ a, (k0_off1086 v71) a + S1x32x128.size a ≤ S16x32x3072.size a) ∧
  (∀ a, (k0_off1088 v71) a + S1x32x128.size a ≤ S16x32x3072.size a) ∧
  (∀ a, (k0_off1089 v71) a + S1x32x128.size a ≤ S16x32x3072.size a) ∧
  (∀ a, (k0_off1090 v71) a + S1x32x128.size a ≤ S16x32x3072.size a) ∧
  (∀ a, (k0_off1091 v71) a + S1x32x128.size a ≤ S16x32x3072.size a) ∧
  (∀ a, (k0_off1092 v71) a + S1x32x128.size a ≤ S16x32x3072.size a) ∧
  (∀ a, (k0_off1093 v71) a + S1x32x128.size a ≤ S16x32x3072.size a) ∧
  (∀ a, (k0_off1094 v71) a + S1x32x128.size a ≤ S16x32x3072.size a) ∧
  (∀ a, (k0_off1095 v71) a + S1x32x128.size a ≤ S16x32x3072.size a) ∧
  (∀ a, (k0_off1096 v71) a + S1x32x128.size a ≤ S16x32x3072.size a) ∧
  (∀ a, (k0_off1097 v71) a + S1x32x128.size a ≤ S16x32x3072.size a) ∧
  (∀ a, (k0_off1098 v71) a + S1x32x128.size a ≤ S16x32x3072.size a) ∧
  (∀ a, (k0_off1099 v71) a + S1x32x128.size a ≤ S16x32x3072.size a) ∧
  (∀ a, (k0_off1100 v71) a + S1x32x128.size a ≤ S16x32x3072.size a) ∧
  (∀ a, (k0_off1101 v71) a + S1x32x128.size a ≤ S16x32x3072.size a) ∧
  (∀ a, (k0_off1102 v71) a + S1x32x128.size a ≤ S16x32x3072.size a) ∧
  (∀ a, (k0_off1103 v71) a + S1x32x128.size a ≤ S16x32x3072.size a) ∧
  (∀ a, (k0_off1104 v71) a + S1x32x128.size a ≤ S16x32x3072.size a) ∧
  (∀ a, (k0_off1105 v71) a + S1x32x128.size a ≤ S16x32x3072.size a) ∧
  (∀ a, (k0_off1106 v71) a + S1x32x128.size a ≤ S16x32x3072.size a) ∧
  (∀ a, (k0_off1107 v71) a + S1x32x128.size a ≤ S16x32x3072.size a) ∧
  (∀ a, (k0_off1108 v71) a + S1x32x128.size a ≤ S16x32x3072.size a) ∧
  (∀ a, (k0_off1109 v71) a + S1x32x128.size a ≤ S16x32x3072.size a) ∧
  (∀ a, (k0_off1110 v71) a + S1x32x128.size a ≤ S16x32x3072.size a) ∧
  (∀ a, (k0_off1111 v71) a + S1x8x24.size a ≤ S16x32x24.size a)
def k0_chk244_1 (v68 : BitVec 32) (v71 : BitVec 32) : Prop :=
  (∀ a, (k0_off1112 v71) a + S1x8x24.size a ≤ S16x32x24.size a) ∧
  (∀ a, (k0_off1113 v71) a + S1x8x24.size a ≤ S16x32x24.size a) ∧
  (∀ a, (k0_off1114 v71) a + S1x8x24.size a ≤ S16x32x24.size a)
def k0_chk244 (v68 : BitVec 32) (v71 : BitVec 32) : Prop :=
  k0_chk244_0 v68 v71 ∧
  k0_chk244_1 v68 v71
theorem k0_off1081_inb : ∀ (v68 : BitVec 32) (v71 : BitVec 32) (k0_hw244 : k0_chk244 v68 v71), ∀ (k0_h22 : k0_cond22 v68 = 1#1), ∀ a, (k0_off1081 v71) a + S1.size a ≤ S16.size a := fun v68 v71 k0_hw244 k0_h22 => k0_hw244.1.1 k0_h22
theorem k0_off1082_inb : ∀ (v68 : BitVec 32) (v71 : BitVec 32) (k0_hw244 : k0_chk244 v68 v71), ∀ (k0_h22 : k0_cond22 v68 = 1#1), ∀ a, (k0_off1082 v71) a + S1x32x3072.size a ≤ S16x32x3072.size a := fun v68 v71 k0_hw244 k0_h22 => k0_hw244.1.2.1 k0_h22
theorem k0_off1082_wordsfp8e4m3 : ∀ (v68 : BitVec 32) (v71 : BitVec 32) (k0_hw244 : k0_chk244 v68 v71), ∀ (k0_h22 : k0_cond22 v68 = 1#1), (Rect.unit (s := S16x32x3072) (k0_off1082 v71) S1x32x3072.size (k0_off1082_inb v68 v71 k0_hw244 k0_h22)).WholeWords (EltTy.packing .fp8e4m3) := fun v68 v71 k0_hw244 k0_h22 => k0_hw244.1.2.2.1 k0_h22 (k0_off1082_inb v68 v71 k0_hw244 k0_h22)
theorem k0_off1083_inb : ∀ (v68 : BitVec 32) (v71 : BitVec 32) (k0_hw244 : k0_chk244 v68 v71), ∀ (k0_h22 : k0_cond22 v68 = 1#1), ∀ a, (k0_off1083 v71) a + S1x32x24.size a ≤ S16x32x24.size a := fun v68 v71 k0_hw244 k0_h22 => k0_hw244.1.2.2.2.1 k0_h22
theorem k0_off1084_inb : ∀ (v68 : BitVec 32) (v71 : BitVec 32) (k0_hw244 : k0_chk244 v68 v71), ∀ (k0_h23 : k0_cond23 v68 = 1#1), ∀ a, (k0_off1084 v71) a + S1x32x3072.size a ≤ S16x32x3072.size a := fun v68 v71 k0_hw244 k0_h23 => k0_hw244.1.2.2.2.2.1 k0_h23
theorem k0_off1084_packedfp8e4m3 : ∀ (v68 : BitVec 32) (v71 : BitVec 32) (k0_hw244 : k0_chk244 v68 v71), ∀ (k0_h23 : k0_cond23 v68 = 1#1), (Rect.unit (s := S16x32x3072) (k0_off1084 v71) S1x32x3072.size (k0_off1084_inb v68 v71 k0_hw244 k0_h23)).PackedRows (EltTy.packing .fp8e4m3) := fun v68 v71 k0_hw244 k0_h23 => k0_hw244.1.2.2.2.2.2.1 k0_h23 (k0_off1084_inb v68 v71 k0_hw244 k0_h23)
theorem k0_off1085_inb : ∀ (v68 : BitVec 32) (v71 : BitVec 32) (k0_hw244 : k0_chk244 v68 v71), ∀ (k0_h23 : k0_cond23 v68 = 1#1), ∀ a, (k0_off1085 v71) a + S1x32x24.size a ≤ S16x32x24.size a := fun v68 v71 k0_hw244 k0_h23 => k0_hw244.1.2.2.2.2.2.2.1 k0_h23
theorem k0_off1086_inb : ∀ (v68 : BitVec 32) (v71 : BitVec 32) (k0_hw244 : k0_chk244 v68 v71), ∀ a, (k0_off1086 v71) a + S1x32x128.size a ≤ S16x32x3072.size a := fun v68 v71 k0_hw244 => k0_hw244.1.2.2.2.2.2.2.2.1
theorem k0_off1088_inb : ∀ (v68 : BitVec 32) (v71 : BitVec 32) (k0_hw244 : k0_chk244 v68 v71), ∀ a, (k0_off1088 v71) a + S1x32x128.size a ≤ S16x32x3072.size a := fun v68 v71 k0_hw244 => k0_hw244.1.2.2.2.2.2.2.2.2.1
theorem k0_off1089_inb : ∀ (v68 : BitVec 32) (v71 : BitVec 32) (k0_hw244 : k0_chk244 v68 v71), ∀ a, (k0_off1089 v71) a + S1x32x128.size a ≤ S16x32x3072.size a := fun v68 v71 k0_hw244 => k0_hw244.1.2.2.2.2.2.2.2.2.2.1
theorem k0_off1090_inb : ∀ (v68 : BitVec 32) (v71 : BitVec 32) (k0_hw244 : k0_chk244 v68 v71), ∀ a, (k0_off1090 v71) a + S1x32x128.size a ≤ S16x32x3072.size a := fun v68 v71 k0_hw244 => k0_hw244.1.2.2.2.2.2.2.2.2.2.2.1
theorem k0_off1091_inb : ∀ (v68 : BitVec 32) (v71 : BitVec 32) (k0_hw244 : k0_chk244 v68 v71), ∀ a, (k0_off1091 v71) a + S1x32x128.size a ≤ S16x32x3072.size a := fun v68 v71 k0_hw244 => k0_hw244.1.2.2.2.2.2.2.2.2.2.2.2.1
theorem k0_off1092_inb : ∀ (v68 : BitVec 32) (v71 : BitVec 32) (k0_hw244 : k0_chk244 v68 v71), ∀ a, (k0_off1092 v71) a + S1x32x128.size a ≤ S16x32x3072.size a := fun v68 v71 k0_hw244 => k0_hw244.1.2.2.2.2.2.2.2.2.2.2.2.2.1
theorem k0_off1093_inb : ∀ (v68 : BitVec 32) (v71 : BitVec 32) (k0_hw244 : k0_chk244 v68 v71), ∀ a, (k0_off1093 v71) a + S1x32x128.size a ≤ S16x32x3072.size a := fun v68 v71 k0_hw244 => k0_hw244.1.2.2.2.2.2.2.2.2.2.2.2.2.2.1
theorem k0_off1094_inb : ∀ (v68 : BitVec 32) (v71 : BitVec 32) (k0_hw244 : k0_chk244 v68 v71), ∀ a, (k0_off1094 v71) a + S1x32x128.size a ≤ S16x32x3072.size a := fun v68 v71 k0_hw244 => k0_hw244.1.2.2.2.2.2.2.2.2.2.2.2.2.2.2.1
theorem k0_off1095_inb : ∀ (v68 : BitVec 32) (v71 : BitVec 32) (k0_hw244 : k0_chk244 v68 v71), ∀ a, (k0_off1095 v71) a + S1x32x128.size a ≤ S16x32x3072.size a := fun v68 v71 k0_hw244 => k0_hw244.1.2.2.2.2.2.2.2.2.2.2.2.2.2.2.2.1
theorem k0_off1096_inb : ∀ (v68 : BitVec 32) (v71 : BitVec 32) (k0_hw244 : k0_chk244 v68 v71), ∀ a, (k0_off1096 v71) a + S1x32x128.size a ≤ S16x32x3072.size a := fun v68 v71 k0_hw244 => k0_hw244.1.2.2.2.2.2.2.2.2.2.2.2.2.2.2.2.2.1
theorem k0_off1097_inb : ∀ (v68 : BitVec 32) (v71 : BitVec 32) (k0_hw244 : k0_chk244 v68 v71), ∀ a, (k0_off1097 v71) a + S1x32x128.size a ≤ S16x32x3072.size a := fun v68 v71 k0_hw244 => k0_hw244.1.2.2.2.2.2.2.2.2.2.2.2.2.2.2.2.2.2.1
theorem k0_off1098_inb : ∀ (v68 : BitVec 32) (v71 : BitVec 32) (k0_hw244 : k0_chk244 v68 v71), ∀ a, (k0_off1098 v71) a + S1x32x128.size a ≤ S16x32x3072.size a := fun v68 v71 k0_hw244 => k0_hw244.1.2.2.2.2.2.2.2.2.2.2.2.2.2.2.2.2.2.2.1
theorem k0_off1099_inb : ∀ (v68 : BitVec 32) (v71 : BitVec 32) (k0_hw244 : k0_chk244 v68 v71), ∀ a, (k0_off1099 v71) a + S1x32x128.size a ≤ S16x32x3072.size a := fun v68 v71 k0_hw244 => k0_hw244.1.2.2.2.2.2.2.2.2.2.2.2.2.2.2.2.2.2.2.2.1
theorem k0_off1100_inb : ∀ (v68 : BitVec 32) (v71 : BitVec 32) (k0_hw244 : k0_chk244 v68 v71), ∀ a, (k0_off1100 v71) a + S1x32x128.size a ≤ S16x32x3072.size a := fun v68 v71 k0_hw244 => k0_hw244.1.2.2.2.2.2.2.2.2.2.2.2.2.2.2.2.2.2.2.2.2.1
theorem k0_off1101_inb : ∀ (v68 : BitVec 32) (v71 : BitVec 32) (k0_hw244 : k0_chk244 v68 v71), ∀ a, (k0_off1101 v71) a + S1x32x128.size a ≤ S16x32x3072.size a := fun v68 v71 k0_hw244 => k0_hw244.1.2.2.2.2.2.2.2.2.2.2.2.2.2.2.2.2.2.2.2.2.2.1
theorem k0_off1102_inb : ∀ (v68 : BitVec 32) (v71 : BitVec 32) (k0_hw244 : k0_chk244 v68 v71), ∀ a, (k0_off1102 v71) a + S1x32x128.size a ≤ S16x32x3072.size a := fun v68 v71 k0_hw244 => k0_hw244.1.2.2.2.2.2.2.2.2.2.2.2.2.2.2.2.2.2.2.2.2.2.2.1
theorem k0_off1103_inb : ∀ (v68 : BitVec 32) (v71 : BitVec 32) (k0_hw244 : k0_chk244 v68 v71), ∀ a, (k0_off1103 v71) a + S1x32x128.size a ≤ S16x32x3072.size a := fun v68 v71 k0_hw244 => k0_hw244.1.2.2.2.2.2.2.2.2.2.2.2.2.2.2.2.2.2.2.2.2.2.2.2.1
theorem k0_off1104_inb : ∀ (v68 : BitVec 32) (v71 : BitVec 32) (k0_hw244 : k0_chk244 v68 v71), ∀ a, (k0_off1104 v71) a + S1x32x128.size a ≤ S16x32x3072.size a := fun v68 v71 k0_hw244 => k0_hw244.1.2.2.2.2.2.2.2.2.2.2.2.2.2.2.2.2.2.2.2.2.2.2.2.2.1
theorem k0_off1105_inb : ∀ (v68 : BitVec 32) (v71 : BitVec 32) (k0_hw244 : k0_chk244 v68 v71), ∀ a, (k0_off1105 v71) a + S1x32x128.size a ≤ S16x32x3072.size a := fun v68 v71 k0_hw244 => k0_hw244.1.2.2.2.2.2.2.2.2.2.2.2.2.2.2.2.2.2.2.2.2.2.2.2.2.2.1
theorem k0_off1106_inb : ∀ (v68 : BitVec 32) (v71 : BitVec 32) (k0_hw244 : k0_chk244 v68 v71), ∀ a, (k0_off1106 v71) a + S1x32x128.size a ≤ S16x32x3072.size a := fun v68 v71 k0_hw244 => k0_hw244.1.2.2.2.2.2.2.2.2.2.2.2.2.2.2.2.2.2.2.2.2.2.2.2.2.2.2.1
theorem k0_off1107_inb : ∀ (v68 : BitVec 32) (v71 : BitVec 32) (k0_hw244 : k0_chk244 v68 v71), ∀ a, (k0_off1107 v71) a + S1x32x128.size a ≤ S16x32x3072.size a := fun v68 v71 k0_hw244 => k0_hw244.1.2.2.2.2.2.2.2.2.2.2.2.2.2.2.2.2.2.2.2.2.2.2.2.2.2.2.2.1
theorem k0_off1108_inb : ∀ (v68 : BitVec 32) (v71 : BitVec 32) (k0_hw244 : k0_chk244 v68 v71), ∀ a, (k0_off1108 v71) a + S1x32x128.size a ≤ S16x32x3072.size a := fun v68 v71 k0_hw244 => k0_hw244.1.2.2.2.2.2.2.2.2.2.2.2.2.2.2.2.2.2.2.2.2.2.2.2.2.2.2.2.2.1
theorem k0_off1109_inb : ∀ (v68 : BitVec 32) (v71 : BitVec 32) (k0_hw244 : k0_chk244 v68 v71), ∀ a, (k0_off1109 v71) a + S1x32x128.size a ≤ S16x32x3072.size a := fun v68 v71 k0_hw244 => k0_hw244.1.2.2.2.2.2.2.2.2.2.2.2.2.2.2.2.2.2.2.2.2.2.2.2.2.2.2.2.2.2.1
theorem k0_off1110_inb : ∀ (v68 : BitVec 32) (v71 : BitVec 32) (k0_hw244 : k0_chk244 v68 v71), ∀ a, (k0_off1110 v71) a + S1x32x128.size a ≤ S16x32x3072.size a := fun v68 v71 k0_hw244 => k0_hw244.1.2.2.2.2.2.2.2.2.2.2.2.2.2.2.2.2.2.2.2.2.2.2.2.2.2.2.2.2.2.2.1
theorem k0_off1111_inb : ∀ (v68 : BitVec 32) (v71 : BitVec 32) (k0_hw244 : k0_chk244 v68 v71), ∀ a, (k0_off1111 v71) a + S1x8x24.size a ≤ S16x32x24.size a := fun v68 v71 k0_hw244 => k0_hw244.1.2.2.2.2.2.2.2.2.2.2.2.2.2.2.2.2.2.2.2.2.2.2.2.2.2.2.2.2.2.2.2
theorem k0_off1112_inb : ∀ (v68 : BitVec 32) (v71 : BitVec 32) (k0_hw244 : k0_chk244 v68 v71), ∀ a, (k0_off1112 v71) a + S1x8x24.size a ≤ S16x32x24.size a := fun v68 v71 k0_hw244 => k0_hw244.2.1
theorem k0_off1113_inb : ∀ (v68 : BitVec 32) (v71 : BitVec 32) (k0_hw244 : k0_chk244 v68 v71), ∀ a, (k0_off1113 v71) a + S1x8x24.size a ≤ S16x32x24.size a := fun v68 v71 k0_hw244 => k0_hw244.2.2.1
theorem k0_off1114_inb : ∀ (v68 : BitVec 32) (v71 : BitVec 32) (k0_hw244 : k0_chk244 v68 v71), ∀ a, (k0_off1114 v71) a + S1x8x24.size a ≤ S16x32x24.size a := fun v68 v71 k0_hw244 => k0_hw244.2.2.2

def k0_off1115 (i : grid0.Coords) (arg22 : BitVec 32) : Fin 3 → Nat :=
  let c0_394 : Index := 0#32
  let c0_395 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_391 : BitVec 32 := 1#32
  let v916 : BitVec 32 := Scalar.subi v5 c1_i32_391
  let v917 : BitVec 32 := Scalar.minsi arg22 v916
  let c4_i32_392 : BitVec 32 := 4#32
  let v918 : BitVec 1 := Scalar.cmpi .slt v917 c4_i32_392
  let c0_i32_393 : BitVec 32 := 0#32
  let v919 : BitVec 32 := Scalar.select v918 v917 c0_i32_393
  let v920 : Index := Scalar.indexCast v919
  ![0, 0, v920.toNat]

def k0_off1116 (i : grid0.Coords) (arg22 : BitVec 32) : Fin 3 → Nat :=
  let c0_398 : Index := 0#32
  let c0_399 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_391 : BitVec 32 := 1#32
  let v916 : BitVec 32 := Scalar.subi v5 c1_i32_391
  let v917 : BitVec 32 := Scalar.minsi arg22 v916
  let c4_i32_392 : BitVec 32 := 4#32
  let v918 : BitVec 1 := Scalar.cmpi .slt v917 c4_i32_392
  let c0_i32_397 : BitVec 32 := 0#32
  let c4_i32_396 : BitVec 32 := 4#32
  let v922 : BitVec 32 := Scalar.subi v917 c4_i32_396
  let v923 : BitVec 32 := Scalar.select v918 c0_i32_397 v922
  let v924 : Index := Scalar.indexCast v923
  ![0, 0, v924.toNat]

def k0_chk246 (i : grid0.Coords) (arg22 : BitVec 32) : Prop :=
  (∀ a, (k0_off1115 i arg22) a + S1x1x1.size a ≤ S1x1x4.size a) ∧
  (∀ a, (k0_off1116 i arg22) a + S1x1x1.size a ≤ S1x1x4.size a)
theorem k0_off1115_inb : ∀ (i : grid0.Coords) (arg22 : BitVec 32) (k0_hw246 : k0_chk246 i arg22), ∀ a, (k0_off1115 i arg22) a + S1x1x1.size a ≤ S1x1x4.size a := fun i arg22 k0_hw246 => k0_hw246.1
theorem k0_off1116_inb : ∀ (i : grid0.Coords) (arg22 : BitVec 32) (k0_hw246 : k0_chk246 i arg22), ∀ a, (k0_off1116 i arg22) a + S1x1x1.size a ≤ S1x1x4.size a := fun i arg22 k0_hw246 => k0_hw246.2

def k0_off1117 (v915 : BitVec 32) (v916 : BitVec 32) : Fin 3 → Nat :=
  let c0_395 : Index := 0#32
  let c4_i32_393 : BitVec 32 := 4#32
  let v917 : BitVec 1 := Scalar.cmpi .slt v915 c4_i32_393
  let c0_i32_394 : BitVec 32 := 0#32
  let v918 : BitVec 32 := Scalar.select v917 v915 c0_i32_394
  let v919 : Index := Scalar.indexCast v918
  let v920 : Index := Scalar.indexCast v916
  ![0, v919.toNat, v920.toNat]

def k0_off1118 (v915 : BitVec 32) (v916 : BitVec 32) : Fin 3 → Nat :=
  let c0_398 : Index := 0#32
  let c4_i32_393 : BitVec 32 := 4#32
  let v917 : BitVec 1 := Scalar.cmpi .slt v915 c4_i32_393
  let c0_i32_397 : BitVec 32 := 0#32
  let c4_i32_396 : BitVec 32 := 4#32
  let v922 : BitVec 32 := Scalar.subi v915 c4_i32_396
  let v923 : BitVec 32 := Scalar.select v917 c0_i32_397 v922
  let v924 : Index := Scalar.indexCast v923
  let v925 : Index := Scalar.indexCast v916
  ![0, v924.toNat, v925.toNat]

def k0_chk247 (v915 : BitVec 32) (v916 : BitVec 32) : Prop :=
  (∀ a, (k0_off1117 v915 v916) a + S1x1x1.size a ≤ S1x4x128.size a) ∧
  (∀ a, (k0_off1118 v915 v916) a + S1x1x1.size a ≤ S1x4x128.size a)
theorem k0_off1117_inb : ∀ (v915 : BitVec 32) (v916 : BitVec 32) (k0_hw247 : k0_chk247 v915 v916), ∀ a, (k0_off1117 v915 v916) a + S1x1x1.size a ≤ S1x4x128.size a := fun v915 v916 k0_hw247 => k0_hw247.1
theorem k0_off1118_inb : ∀ (v915 : BitVec 32) (v916 : BitVec 32) (k0_hw247 : k0_chk247 v915 v916), ∀ a, (k0_off1118 v915 v916) a + S1x1x1.size a ≤ S1x4x128.size a := fun v915 v916 k0_hw247 => k0_hw247.2

def k0_mult15 (v915 : BitVec 32) (v921 : BitVec 32) (v926 : BitVec 32) : BitVec 32 :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  v950
def k0_cond24 (v915 : BitVec 32) (v921 : BitVec 32) (v926 : BitVec 32) : BitVec 1 :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c7782_i32_402 : BitVec 32 := 7782#32
  let v931 : BitVec 1 := Scalar.cmpi .slt v928 c7782_i32_402
  let v932 : BitVec 32 := Scalar.extui v931
  let c0_i32_403 : BitVec 32 := 0#32
  let v933 : BitVec 1 := Scalar.cmpi .ne v932 c0_i32_403
  v933

def k0_off1119 (v929 : BitVec 32) : Fin 1 → Nat :=
  let c16_i32_401 : BitVec 32 := 16#32
  let v930 : BitVec 32 := Scalar.remsi v929 c16_i32_401
  ![v930.toNat]

def k0_off1120 (v929 : BitVec 32) : Fin 3 → Nat :=
  let c16_i32_401 : BitVec 32 := 16#32
  let v930 : BitVec 32 := Scalar.remsi v929 c16_i32_401
  let c0_i32_417 : BitVec 32 := 0#32
  let c0_i32_418 : BitVec 32 := 0#32
  ![v930.toNat, 0, 0]
def k0_off1121 (v915 : BitVec 32) (v921 : BitVec 32) (v926 : BitVec 32) : Fin 2 → Nat :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  let v951 : BitVec 32 := v950
  let c0_i32_419 : BitVec 32 := 0#32
  ![v951.toNat, 0]
def k0_off1122 (v929 : BitVec 32) : Fin 3 → Nat :=
  let c16_i32_401 : BitVec 32 := 16#32
  let v930 : BitVec 32 := Scalar.remsi v929 c16_i32_401
  let c0_i32_420 : BitVec 32 := 0#32
  let c0_i32_421 : BitVec 32 := 0#32
  ![v930.toNat, 0, 0]

def k0_chk249 (v915 : BitVec 32) (v921 : BitVec 32) (v926 : BitVec 32) (v929 : BitVec 32) : Prop :=
  (∀ (k0_h24 : k0_cond24 v915 v921 v926 = 1#1), ∀ a, (k0_off1119 v929) a + S1.size a ≤ S16.size a) ∧
  (∀ (k0_h24 : k0_cond24 v915 v921 v926 = 1#1), ∀ a, (k0_off1120 v929) a + S1x32x3072.size a ≤ S16x32x3072.size a) ∧
  (∀ (k0_h24 : k0_cond24 v915 v921 v926 = 1#1), ∀ (hinb : ∀ a, (k0_off1120 v929) a + S1x32x3072.size a ≤ S16x32x3072.size a), (Rect.unit (s := S16x32x3072) (k0_off1120 v929) S1x32x3072.size hinb).WholeWords (EltTy.packing .fp8e4m3)) ∧
  (∀ (k0_h24 : k0_cond24 v915 v921 v926 = 1#1), ∀ a, (k0_off1122 v929) a + S1x32x24.size a ≤ S16x32x24.size a)
theorem k0_off1119_inb : ∀ (v915 : BitVec 32) (v921 : BitVec 32) (v926 : BitVec 32) (v929 : BitVec 32) (k0_hw249 : k0_chk249 v915 v921 v926 v929), ∀ (k0_h24 : k0_cond24 v915 v921 v926 = 1#1), ∀ a, (k0_off1119 v929) a + S1.size a ≤ S16.size a := fun v915 v921 v926 v929 k0_hw249 k0_h24 => k0_hw249.1 k0_h24
theorem k0_off1120_inb : ∀ (v915 : BitVec 32) (v921 : BitVec 32) (v926 : BitVec 32) (v929 : BitVec 32) (k0_hw249 : k0_chk249 v915 v921 v926 v929), ∀ (k0_h24 : k0_cond24 v915 v921 v926 = 1#1), ∀ a, (k0_off1120 v929) a + S1x32x3072.size a ≤ S16x32x3072.size a := fun v915 v921 v926 v929 k0_hw249 k0_h24 => k0_hw249.2.1 k0_h24
theorem k0_off1120_wordsfp8e4m3 : ∀ (v915 : BitVec 32) (v921 : BitVec 32) (v926 : BitVec 32) (v929 : BitVec 32) (k0_hw249 : k0_chk249 v915 v921 v926 v929), ∀ (k0_h24 : k0_cond24 v915 v921 v926 = 1#1), (Rect.unit (s := S16x32x3072) (k0_off1120 v929) S1x32x3072.size (k0_off1120_inb v915 v921 v926 v929 k0_hw249 k0_h24)).WholeWords (EltTy.packing .fp8e4m3) := fun v915 v921 v926 v929 k0_hw249 k0_h24 => k0_hw249.2.2.1 k0_h24 (k0_off1120_inb v915 v921 v926 v929 k0_hw249 k0_h24)
theorem k0_off1122_inb : ∀ (v915 : BitVec 32) (v921 : BitVec 32) (v926 : BitVec 32) (v929 : BitVec 32) (k0_hw249 : k0_chk249 v915 v921 v926 v929), ∀ (k0_h24 : k0_cond24 v915 v921 v926 = 1#1), ∀ a, (k0_off1122 v929) a + S1x32x24.size a ≤ S16x32x24.size a := fun v915 v921 v926 v929 k0_hw249 k0_h24 => k0_hw249.2.2.2 k0_h24

def k0_off1123 (v915 : BitVec 32) (v921 : BitVec 32) (v926 : BitVec 32) : Fin 2 → Nat :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  let v951 : BitVec 32 := v950
  let c0_i32_422 : BitVec 32 := 0#32
  ![v951.toNat, 0]

def k0_chk248 (v915 : BitVec 32) (v921 : BitVec 32) (v926 : BitVec 32) : Prop :=
  (∀ (k0_h24 : k0_cond24 v915 v921 v926 = 1#1), 32 ∣ (k0_mult15 v915 v921 v926).toNat) ∧
  (∀ (k0_h24 : k0_cond24 v915 v921 v926 = 1#1), ∀ a, (k0_off1121 v915 v921 v926) a + S32x3072.size a ≤ S249037x3072.size a) ∧
  (∀ (k0_h24 : k0_cond24 v915 v921 v926 = 1#1), ∀ (hinb : ∀ a, (k0_off1121 v915 v921 v926) a + S32x3072.size a ≤ S249037x3072.size a), (Rect.unit (s := S249037x3072) (k0_off1121 v915 v921 v926) S32x3072.size hinb).WholeWords (EltTy.packing .fp8e4m3)) ∧
  (∀ (k0_h24 : k0_cond24 v915 v921 v926 = 1#1), ∀ a, (k0_off1123 v915 v921 v926) a + S32x24.size a ≤ S249037x24.size a)
theorem k0_mult15_dvd : ∀ (v915 : BitVec 32) (v921 : BitVec 32) (v926 : BitVec 32) (k0_hw248 : k0_chk248 v915 v921 v926), ∀ (k0_h24 : k0_cond24 v915 v921 v926 = 1#1), 32 ∣ (k0_mult15 v915 v921 v926).toNat := fun v915 v921 v926 k0_hw248 k0_h24 => k0_hw248.1 k0_h24
theorem k0_off1121_inb : ∀ (v915 : BitVec 32) (v921 : BitVec 32) (v926 : BitVec 32) (k0_hw248 : k0_chk248 v915 v921 v926), ∀ (k0_h24 : k0_cond24 v915 v921 v926 = 1#1), ∀ a, (k0_off1121 v915 v921 v926) a + S32x3072.size a ≤ S249037x3072.size a := fun v915 v921 v926 k0_hw248 k0_h24 => k0_hw248.2.1 k0_h24
theorem k0_off1121_wordsfp8e4m3 : ∀ (v915 : BitVec 32) (v921 : BitVec 32) (v926 : BitVec 32) (k0_hw248 : k0_chk248 v915 v921 v926), ∀ (k0_h24 : k0_cond24 v915 v921 v926 = 1#1), (Rect.unit (s := S249037x3072) (k0_off1121 v915 v921 v926) S32x3072.size (k0_off1121_inb v915 v921 v926 k0_hw248 k0_h24)).WholeWords (EltTy.packing .fp8e4m3) := fun v915 v921 v926 k0_hw248 k0_h24 => k0_hw248.2.2.1 k0_h24 (k0_off1121_inb v915 v921 v926 k0_hw248 k0_h24)
theorem k0_off1123_inb : ∀ (v915 : BitVec 32) (v921 : BitVec 32) (v926 : BitVec 32) (k0_hw248 : k0_chk248 v915 v921 v926), ∀ (k0_h24 : k0_cond24 v915 v921 v926 = 1#1), ∀ a, (k0_off1123 v915 v921 v926) a + S32x24.size a ≤ S249037x24.size a := fun v915 v921 v926 k0_hw248 k0_h24 => k0_hw248.2.2.2 k0_h24

def k0_off1124 (i : grid0.Coords) (arg23 : BitVec 32) : Fin 3 → Nat :=
  let c0_419 : Index := 0#32
  let c0_420 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_416 : BitVec 32 := 1#32
  let v951 : BitVec 32 := Scalar.subi v5 c1_i32_416
  let v952 : BitVec 32 := Scalar.minsi arg23 v951
  let c4_i32_417 : BitVec 32 := 4#32
  let v953 : BitVec 1 := Scalar.cmpi .slt v952 c4_i32_417
  let c0_i32_418 : BitVec 32 := 0#32
  let v954 : BitVec 32 := Scalar.select v953 v952 c0_i32_418
  let v955 : Index := Scalar.indexCast v954
  ![0, 0, v955.toNat]

def k0_off1125 (i : grid0.Coords) (arg23 : BitVec 32) : Fin 3 → Nat :=
  let c0_423 : Index := 0#32
  let c0_424 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_416 : BitVec 32 := 1#32
  let v951 : BitVec 32 := Scalar.subi v5 c1_i32_416
  let v952 : BitVec 32 := Scalar.minsi arg23 v951
  let c4_i32_417 : BitVec 32 := 4#32
  let v953 : BitVec 1 := Scalar.cmpi .slt v952 c4_i32_417
  let c0_i32_422 : BitVec 32 := 0#32
  let c4_i32_421 : BitVec 32 := 4#32
  let v957 : BitVec 32 := Scalar.subi v952 c4_i32_421
  let v958 : BitVec 32 := Scalar.select v953 c0_i32_422 v957
  let v959 : Index := Scalar.indexCast v958
  ![0, 0, v959.toNat]

def k0_chk250 (i : grid0.Coords) (arg23 : BitVec 32) : Prop :=
  (∀ a, (k0_off1124 i arg23) a + S1x1x1.size a ≤ S1x1x4.size a) ∧
  (∀ a, (k0_off1125 i arg23) a + S1x1x1.size a ≤ S1x1x4.size a)
theorem k0_off1124_inb : ∀ (i : grid0.Coords) (arg23 : BitVec 32) (k0_hw250 : k0_chk250 i arg23), ∀ a, (k0_off1124 i arg23) a + S1x1x1.size a ≤ S1x1x4.size a := fun i arg23 k0_hw250 => k0_hw250.1
theorem k0_off1125_inb : ∀ (i : grid0.Coords) (arg23 : BitVec 32) (k0_hw250 : k0_chk250 i arg23), ∀ a, (k0_off1125 i arg23) a + S1x1x1.size a ≤ S1x1x4.size a := fun i arg23 k0_hw250 => k0_hw250.2

@[reducible] def k0_t11_loop (v57 : BitVec 32) : Scf.Loop 32 :=
  let c0_i32_47 : BitVec 32 := 0#32
  let v58 : BitVec 32 := Scalar.subi v57 c0_i32_47
  let c1_i32_49 : BitVec 32 := 1#32
  let v60 : BitVec 32 := Scalar.divsi v58 c1_i32_49
  let v61 : BitVec 32 := Scalar.muli v60 c1_i32_49
  let v62 : BitVec 32 := Scalar.addi c0_i32_47 v61
  let v59 : BitVec 32 := Scalar.addi c0_i32_47 v58
  let c1_i32_51 : BitVec 32 := 1#32
  ⟨v62, v59, c1_i32_51⟩
def k0_off1126 (v57 : BitVec 32) (k0_t11 : Fin (k0_t11_loop v57).trips) : Fin 3 → Nat :=
  let c0_60 : Index := 0#32
  let c3_61 : Index := 3#32
  let c0_i32_47 : BitVec 32 := 0#32
  let v58 : BitVec 32 := Scalar.subi v57 c0_i32_47
  let c1_i32_49 : BitVec 32 := 1#32
  let v60 : BitVec 32 := Scalar.divsi v58 c1_i32_49
  let v61 : BitVec 32 := Scalar.muli v60 c1_i32_49
  let v62 : BitVec 32 := Scalar.addi c0_i32_47 v61
  let c1_i32_51 : BitVec 32 := 1#32
  let arg20 : BitVec 32 := Scf.iv v62 c1_i32_51 k0_t11
  let v67 : Index := Scalar.indexCast arg20
  ![0, 3, v67.toNat]

def k0_chk243 (v57 : BitVec 32) : Prop :=
  ((k0_t10_loop v57).OK) ∧
  (∀ k0_t10 : Fin (k0_t10_loop v57).trips, ∀ a, (k0_off1080 v57 k0_t10) a + S1x1x1.size a ≤ S1x4x128.size a) ∧
  ((k0_t11_loop v57).OK) ∧
  (∀ k0_t11 : Fin (k0_t11_loop v57).trips, ∀ a, (k0_off1126 v57 k0_t11) a + S1x1x1.size a ≤ S1x4x128.size a)
theorem k0_t10_ok : ∀ (v57 : BitVec 32) (k0_hw243 : k0_chk243 v57), (k0_t10_loop v57).OK := fun v57 k0_hw243 => k0_hw243.1
theorem k0_off1080_inb : ∀ (v57 : BitVec 32) (k0_hw243 : k0_chk243 v57) (k0_t10 : Fin (k0_t10_loop v57).trips), ∀ a, (k0_off1080 v57 k0_t10) a + S1x1x1.size a ≤ S1x4x128.size a := fun v57 k0_hw243 k0_t10 => k0_hw243.2.1 k0_t10
theorem k0_t11_ok : ∀ (v57 : BitVec 32) (k0_hw243 : k0_chk243 v57), (k0_t11_loop v57).OK := fun v57 k0_hw243 => k0_hw243.2.2.1
theorem k0_off1126_inb : ∀ (v57 : BitVec 32) (k0_hw243 : k0_chk243 v57) (k0_t11 : Fin (k0_t11_loop v57).trips), ∀ a, (k0_off1126 v57 k0_t11) a + S1x1x1.size a ≤ S1x4x128.size a := fun v57 k0_hw243 k0_t11 => k0_hw243.2.2.2 k0_t11

def k0_mult16 : BitVec 32 :=
  let c0_i32_391 : BitVec 32 := 0#32
  c0_i32_391
def k0_off1127 (v71 : BitVec 32) : Fin 1 → Nat :=
  let c16_i32_63 : BitVec 32 := 16#32
  let v72 : BitVec 32 := Scalar.remsi v71 c16_i32_63
  ![v72.toNat]
def k0_cond25 (v68 : BitVec 32) : BitVec 1 :=
  let c6_i32 : BitVec 32 := 6#32
  let v69 : BitVec 32 := Scalar.shrsi v68 c6_i32
  let c7782_i32 : BitVec 32 := 7782#32
  let v73 : BitVec 1 := Scalar.cmpi .slt v69 c7782_i32
  let v74 : BitVec 32 := Scalar.extui v73
  let c0_i32_64 : BitVec 32 := 0#32
  let v75 : BitVec 1 := Scalar.cmpi .ne v74 c0_i32_64
  v75

def k0_off1128 (v71 : BitVec 32) : Fin 3 → Nat :=
  let c16_i32_63 : BitVec 32 := 16#32
  let v72 : BitVec 32 := Scalar.remsi v71 c16_i32_63
  let c0_i32_392 : BitVec 32 := 0#32
  let c0_i32_393 : BitVec 32 := 0#32
  ![v72.toNat, 0, 0]
def k0_off1129 (v71 : BitVec 32) : Fin 3 → Nat :=
  let c16_i32_63 : BitVec 32 := 16#32
  let v72 : BitVec 32 := Scalar.remsi v71 c16_i32_63
  let c0_i32_395 : BitVec 32 := 0#32
  let c0_i32_396 : BitVec 32 := 0#32
  ![v72.toNat, 0, 0]
def k0_off1130 (v71 : BitVec 32) : Fin 3 → Nat :=
  let c16_i32_63 : BitVec 32 := 16#32
  let v72 : BitVec 32 := Scalar.remsi v71 c16_i32_63
  let v917 : Index := Scalar.indexCast v72
  let c0_393 : Index := 0#32
  let c0_394 : Index := 0#32
  ![v917.toNat, 0, 0]
def k0_cond26 (v68 : BitVec 32) : BitVec 1 :=
  let c6_i32 : BitVec 32 := 6#32
  let v69 : BitVec 32 := Scalar.shrsi v68 c6_i32
  let c7782_i32_65 : BitVec 32 := 7782#32
  let v76 : BitVec 1 := Scalar.cmpi .sge v69 c7782_i32_65
  let v77 : BitVec 32 := Scalar.extui v76
  let c0_i32_66 : BitVec 32 := 0#32
  let v78 : BitVec 1 := Scalar.cmpi .ne v77 c0_i32_66
  v78

def k0_off1131 (v71 : BitVec 32) : Fin 3 → Nat :=
  let c16_i32_63 : BitVec 32 := 16#32
  let v72 : BitVec 32 := Scalar.remsi v71 c16_i32_63
  let v922 : Index := Scalar.indexCast v72
  let c0_397 : Index := 0#32
  let c0_398 : Index := 0#32
  ![v922.toNat, 0, 0]
def k0_off1132 (v71 : BitVec 32) : Fin 3 → Nat :=
  let c16_i32_63 : BitVec 32 := 16#32
  let v72 : BitVec 32 := Scalar.remsi v71 c16_i32_63
  let v84 : Index := Scalar.indexCast v72
  let c0_68 : Index := 0#32
  let c0_69 : Index := 0#32
  ![v84.toNat, 0, 0]
def k0_off1133 (v68 : BitVec 32) (c0_i32_70 : BitVec 32) (c0_i32_71 : BitVec 32) : Fin 2 → Nat :=
  let c63_i32 : BitVec 32 := 63#32
  let v70 : BitVec 32 := Scalar.andi v68 c63_i32
  let c64_i32 : BitVec 32 := 64#32
  let v79 : BitVec 32 := Scalar.muli v70 c64_i32
  let c6_i32 : BitVec 32 := 6#32
  let v69 : BitVec 32 := Scalar.shrsi v68 c6_i32
  let c1_i32_67 : BitVec 32 := 1#32
  let v80 : BitVec 32 := Scalar.andi v69 c1_i32_67
  let c32_i32 : BitVec 32 := 32#32
  let v81 : BitVec 32 := Scalar.muli v80 c32_i32
  let v82 : BitVec 32 := Scalar.addi v79 v81
  let c25_i32 : BitVec 32 := 25#32
  let v83 : BitVec 32 := Scalar.muli v82 c25_i32
  let v89 : BitVec 32 := Scalar.addi v83 c0_i32_70
  let v90 : BitVec 32 := Scalar.addi v89 c0_i32_71
  let v91 : Index := Scalar.indexCast v90
  let c0_72 : Index := 0#32
  ![v91.toNat, 0]

def k0_chk252 (v68 : BitVec 32) : Prop :=
  (∀ (r₁ : Fin 4) (r₂ : Fin 25), ∀ a, S8x128.size a = 0 ∨ (k0_off1133 v68 (BitVec.ofNat 32 (200 * r₁.val)) (BitVec.ofNat 32 r₂.val)) a + (![25, 1] : Fin 2 → Nat) a * (S8x128.size a - 1) < S102432x128.size a)
theorem k0_off1133_inb : ∀ (v68 : BitVec 32) (k0_hw252 : k0_chk252 v68), ∀ (r₁ : Fin 4) (r₂ : Fin 25), ∀ a, S8x128.size a = 0 ∨ (k0_off1133 v68 (BitVec.ofNat 32 (200 * r₁.val)) (BitVec.ofNat 32 r₂.val)) a + (![25, 1] : Fin 2 → Nat) a * (S8x128.size a - 1) < S102432x128.size a := fun v68 k0_hw252 r₁ r₂ => k0_hw252 r₁ r₂

def k0_off1134 (v71 : BitVec 32) : Fin 3 → Nat :=
  let c16_i32_63 : BitVec 32 := 16#32
  let v72 : BitVec 32 := Scalar.remsi v71 c16_i32_63
  let v116 : Index := Scalar.indexCast v72
  let c0_79 : Index := 0#32
  let c128 : Index := 128#32
  ![v116.toNat, 0, 128]
def k0_off1135 (v71 : BitVec 32) : Fin 3 → Nat :=
  let c16_i32_63 : BitVec 32 := 16#32
  let v72 : BitVec 32 := Scalar.remsi v71 c16_i32_63
  let v148 : Index := Scalar.indexCast v72
  let c0_92 : Index := 0#32
  let c256 : Index := 256#32
  ![v148.toNat, 0, 256]
def k0_off1136 (v71 : BitVec 32) : Fin 3 → Nat :=
  let c16_i32_63 : BitVec 32 := 16#32
  let v72 : BitVec 32 := Scalar.remsi v71 c16_i32_63
  let v180 : Index := Scalar.indexCast v72
  let c0_104 : Index := 0#32
  let c384 : Index := 384#32
  ![v180.toNat, 0, 384]
def k0_off1137 (v71 : BitVec 32) : Fin 3 → Nat :=
  let c16_i32_63 : BitVec 32 := 16#32
  let v72 : BitVec 32 := Scalar.remsi v71 c16_i32_63
  let v212 : Index := Scalar.indexCast v72
  let c0_116 : Index := 0#32
  let c512 : Index := 512#32
  ![v212.toNat, 0, 512]
def k0_off1138 (v71 : BitVec 32) : Fin 3 → Nat :=
  let c16_i32_63 : BitVec 32 := 16#32
  let v72 : BitVec 32 := Scalar.remsi v71 c16_i32_63
  let v244 : Index := Scalar.indexCast v72
  let c0_129 : Index := 0#32
  let c640 : Index := 640#32
  ![v244.toNat, 0, 640]
def k0_off1139 (v71 : BitVec 32) : Fin 3 → Nat :=
  let c16_i32_63 : BitVec 32 := 16#32
  let v72 : BitVec 32 := Scalar.remsi v71 c16_i32_63
  let v276 : Index := Scalar.indexCast v72
  let c0_141 : Index := 0#32
  let c768 : Index := 768#32
  ![v276.toNat, 0, 768]
def k0_off1140 (v71 : BitVec 32) : Fin 3 → Nat :=
  let c16_i32_63 : BitVec 32 := 16#32
  let v72 : BitVec 32 := Scalar.remsi v71 c16_i32_63
  let v308 : Index := Scalar.indexCast v72
  let c0_154 : Index := 0#32
  let c896 : Index := 896#32
  ![v308.toNat, 0, 896]
def k0_off1141 (v71 : BitVec 32) : Fin 3 → Nat :=
  let c16_i32_63 : BitVec 32 := 16#32
  let v72 : BitVec 32 := Scalar.remsi v71 c16_i32_63
  let v340 : Index := Scalar.indexCast v72
  let c0_166 : Index := 0#32
  let c1024 : Index := 1024#32
  ![v340.toNat, 0, 1024]
def k0_off1142 (v71 : BitVec 32) : Fin 3 → Nat :=
  let c16_i32_63 : BitVec 32 := 16#32
  let v72 : BitVec 32 := Scalar.remsi v71 c16_i32_63
  let v372 : Index := Scalar.indexCast v72
  let c0_179 : Index := 0#32
  let c1152 : Index := 1152#32
  ![v372.toNat, 0, 1152]
def k0_off1143 (v71 : BitVec 32) : Fin 3 → Nat :=
  let c16_i32_63 : BitVec 32 := 16#32
  let v72 : BitVec 32 := Scalar.remsi v71 c16_i32_63
  let v404 : Index := Scalar.indexCast v72
  let c0_191 : Index := 0#32
  let c1280 : Index := 1280#32
  ![v404.toNat, 0, 1280]
def k0_off1144 (v71 : BitVec 32) : Fin 3 → Nat :=
  let c16_i32_63 : BitVec 32 := 16#32
  let v72 : BitVec 32 := Scalar.remsi v71 c16_i32_63
  let v436 : Index := Scalar.indexCast v72
  let c0_203 : Index := 0#32
  let c1408 : Index := 1408#32
  ![v436.toNat, 0, 1408]
def k0_off1145 (v71 : BitVec 32) : Fin 3 → Nat :=
  let c16_i32_63 : BitVec 32 := 16#32
  let v72 : BitVec 32 := Scalar.remsi v71 c16_i32_63
  let v468 : Index := Scalar.indexCast v72
  let c0_215 : Index := 0#32
  let c1536 : Index := 1536#32
  ![v468.toNat, 0, 1536]
def k0_off1146 (v71 : BitVec 32) : Fin 3 → Nat :=
  let c16_i32_63 : BitVec 32 := 16#32
  let v72 : BitVec 32 := Scalar.remsi v71 c16_i32_63
  let v500 : Index := Scalar.indexCast v72
  let c0_227 : Index := 0#32
  let c1664 : Index := 1664#32
  ![v500.toNat, 0, 1664]
def k0_off1147 (v71 : BitVec 32) : Fin 3 → Nat :=
  let c16_i32_63 : BitVec 32 := 16#32
  let v72 : BitVec 32 := Scalar.remsi v71 c16_i32_63
  let v532 : Index := Scalar.indexCast v72
  let c0_239 : Index := 0#32
  let c1792 : Index := 1792#32
  ![v532.toNat, 0, 1792]
def k0_off1148 (v71 : BitVec 32) : Fin 3 → Nat :=
  let c16_i32_63 : BitVec 32 := 16#32
  let v72 : BitVec 32 := Scalar.remsi v71 c16_i32_63
  let v564 : Index := Scalar.indexCast v72
  let c0_251 : Index := 0#32
  let c1920 : Index := 1920#32
  ![v564.toNat, 0, 1920]
def k0_off1149 (v71 : BitVec 32) : Fin 3 → Nat :=
  let c16_i32_63 : BitVec 32 := 16#32
  let v72 : BitVec 32 := Scalar.remsi v71 c16_i32_63
  let v596 : Index := Scalar.indexCast v72
  let c0_263 : Index := 0#32
  let c2048 : Index := 2048#32
  ![v596.toNat, 0, 2048]
def k0_off1150 (v71 : BitVec 32) : Fin 3 → Nat :=
  let c16_i32_63 : BitVec 32 := 16#32
  let v72 : BitVec 32 := Scalar.remsi v71 c16_i32_63
  let v628 : Index := Scalar.indexCast v72
  let c0_276 : Index := 0#32
  let c2176 : Index := 2176#32
  ![v628.toNat, 0, 2176]
def k0_off1151 (v71 : BitVec 32) : Fin 3 → Nat :=
  let c16_i32_63 : BitVec 32 := 16#32
  let v72 : BitVec 32 := Scalar.remsi v71 c16_i32_63
  let v660 : Index := Scalar.indexCast v72
  let c0_288 : Index := 0#32
  let c2304 : Index := 2304#32
  ![v660.toNat, 0, 2304]
def k0_off1152 (v71 : BitVec 32) : Fin 3 → Nat :=
  let c16_i32_63 : BitVec 32 := 16#32
  let v72 : BitVec 32 := Scalar.remsi v71 c16_i32_63
  let v692 : Index := Scalar.indexCast v72
  let c0_300 : Index := 0#32
  let c2432 : Index := 2432#32
  ![v692.toNat, 0, 2432]
def k0_off1153 (v71 : BitVec 32) : Fin 3 → Nat :=
  let c16_i32_63 : BitVec 32 := 16#32
  let v72 : BitVec 32 := Scalar.remsi v71 c16_i32_63
  let v724 : Index := Scalar.indexCast v72
  let c0_312 : Index := 0#32
  let c2560 : Index := 2560#32
  ![v724.toNat, 0, 2560]
def k0_off1154 (v71 : BitVec 32) : Fin 3 → Nat :=
  let c16_i32_63 : BitVec 32 := 16#32
  let v72 : BitVec 32 := Scalar.remsi v71 c16_i32_63
  let v756 : Index := Scalar.indexCast v72
  let c0_324 : Index := 0#32
  let c2688 : Index := 2688#32
  ![v756.toNat, 0, 2688]
def k0_off1155 (v71 : BitVec 32) : Fin 3 → Nat :=
  let c16_i32_63 : BitVec 32 := 16#32
  let v72 : BitVec 32 := Scalar.remsi v71 c16_i32_63
  let v788 : Index := Scalar.indexCast v72
  let c0_336 : Index := 0#32
  let c2816 : Index := 2816#32
  ![v788.toNat, 0, 2816]
def k0_off1156 (v71 : BitVec 32) : Fin 3 → Nat :=
  let c16_i32_63 : BitVec 32 := 16#32
  let v72 : BitVec 32 := Scalar.remsi v71 c16_i32_63
  let v820 : Index := Scalar.indexCast v72
  let c0_348 : Index := 0#32
  let c2944 : Index := 2944#32
  ![v820.toNat, 0, 2944]
def k0_off1157 (v71 : BitVec 32) : Fin 3 → Nat :=
  let c16_i32_63 : BitVec 32 := 16#32
  let v72 : BitVec 32 := Scalar.remsi v71 c16_i32_63
  let v852 : Index := Scalar.indexCast v72
  let c0_360 : Index := 0#32
  let c0_361 : Index := 0#32
  ![v852.toNat, 0, 0]
def k0_off1158 (v71 : BitVec 32) : Fin 3 → Nat :=
  let c16_i32_63 : BitVec 32 := 16#32
  let v72 : BitVec 32 := Scalar.remsi v71 c16_i32_63
  let v864 : Index := Scalar.indexCast v72
  let c8 : Index := 8#32
  let c0_365 : Index := 0#32
  ![v864.toNat, 8, 0]
def k0_off1159 (v71 : BitVec 32) : Fin 3 → Nat :=
  let c16_i32_63 : BitVec 32 := 16#32
  let v72 : BitVec 32 := Scalar.remsi v71 c16_i32_63
  let v876 : Index := Scalar.indexCast v72
  let c16 : Index := 16#32
  let c0_370 : Index := 0#32
  ![v876.toNat, 16, 0]
def k0_off1160 (v71 : BitVec 32) : Fin 3 → Nat :=
  let c16_i32_63 : BitVec 32 := 16#32
  let v72 : BitVec 32 := Scalar.remsi v71 c16_i32_63
  let v888 : Index := Scalar.indexCast v72
  let c24 : Index := 24#32
  let c0_375 : Index := 0#32
  ![v888.toNat, 24, 0]

def k0_chk251_0 (v68 : BitVec 32) (v71 : BitVec 32) : Prop :=
  (∀ (k0_h25 : k0_cond25 v68 = 1#1), ∀ a, (k0_off1127 v71) a + S1.size a ≤ S16.size a) ∧
  (∀ (k0_h25 : k0_cond25 v68 = 1#1), ∀ a, (k0_off1128 v71) a + S1x32x3072.size a ≤ S16x32x3072.size a) ∧
  (∀ (k0_h25 : k0_cond25 v68 = 1#1), ∀ (hinb : ∀ a, (k0_off1128 v71) a + S1x32x3072.size a ≤ S16x32x3072.size a), (Rect.unit (s := S16x32x3072) (k0_off1128 v71) S1x32x3072.size hinb).WholeWords (EltTy.packing .fp8e4m3)) ∧
  (∀ (k0_h25 : k0_cond25 v68 = 1#1), ∀ a, (k0_off1129 v71) a + S1x32x24.size a ≤ S16x32x24.size a) ∧
  (∀ (k0_h26 : k0_cond26 v68 = 1#1), ∀ a, (k0_off1130 v71) a + S1x32x3072.size a ≤ S16x32x3072.size a) ∧
  (∀ (k0_h26 : k0_cond26 v68 = 1#1), ∀ (hinb : ∀ a, (k0_off1130 v71) a + S1x32x3072.size a ≤ S16x32x3072.size a), (Rect.unit (s := S16x32x3072) (k0_off1130 v71) S1x32x3072.size hinb).PackedRows (EltTy.packing .fp8e4m3)) ∧
  (∀ (k0_h26 : k0_cond26 v68 = 1#1), ∀ a, (k0_off1131 v71) a + S1x32x24.size a ≤ S16x32x24.size a) ∧
  (∀ a, (k0_off1132 v71) a + S1x32x128.size a ≤ S16x32x3072.size a) ∧
  (∀ a, (k0_off1134 v71) a + S1x32x128.size a ≤ S16x32x3072.size a) ∧
  (∀ a, (k0_off1135 v71) a + S1x32x128.size a ≤ S16x32x3072.size a) ∧
  (∀ a, (k0_off1136 v71) a + S1x32x128.size a ≤ S16x32x3072.size a) ∧
  (∀ a, (k0_off1137 v71) a + S1x32x128.size a ≤ S16x32x3072.size a) ∧
  (∀ a, (k0_off1138 v71) a + S1x32x128.size a ≤ S16x32x3072.size a) ∧
  (∀ a, (k0_off1139 v71) a + S1x32x128.size a ≤ S16x32x3072.size a) ∧
  (∀ a, (k0_off1140 v71) a + S1x32x128.size a ≤ S16x32x3072.size a) ∧
  (∀ a, (k0_off1141 v71) a + S1x32x128.size a ≤ S16x32x3072.size a) ∧
  (∀ a, (k0_off1142 v71) a + S1x32x128.size a ≤ S16x32x3072.size a) ∧
  (∀ a, (k0_off1143 v71) a + S1x32x128.size a ≤ S16x32x3072.size a) ∧
  (∀ a, (k0_off1144 v71) a + S1x32x128.size a ≤ S16x32x3072.size a) ∧
  (∀ a, (k0_off1145 v71) a + S1x32x128.size a ≤ S16x32x3072.size a) ∧
  (∀ a, (k0_off1146 v71) a + S1x32x128.size a ≤ S16x32x3072.size a) ∧
  (∀ a, (k0_off1147 v71) a + S1x32x128.size a ≤ S16x32x3072.size a) ∧
  (∀ a, (k0_off1148 v71) a + S1x32x128.size a ≤ S16x32x3072.size a) ∧
  (∀ a, (k0_off1149 v71) a + S1x32x128.size a ≤ S16x32x3072.size a) ∧
  (∀ a, (k0_off1150 v71) a + S1x32x128.size a ≤ S16x32x3072.size a) ∧
  (∀ a, (k0_off1151 v71) a + S1x32x128.size a ≤ S16x32x3072.size a) ∧
  (∀ a, (k0_off1152 v71) a + S1x32x128.size a ≤ S16x32x3072.size a) ∧
  (∀ a, (k0_off1153 v71) a + S1x32x128.size a ≤ S16x32x3072.size a) ∧
  (∀ a, (k0_off1154 v71) a + S1x32x128.size a ≤ S16x32x3072.size a) ∧
  (∀ a, (k0_off1155 v71) a + S1x32x128.size a ≤ S16x32x3072.size a) ∧
  (∀ a, (k0_off1156 v71) a + S1x32x128.size a ≤ S16x32x3072.size a) ∧
  (∀ a, (k0_off1157 v71) a + S1x8x24.size a ≤ S16x32x24.size a)
def k0_chk251_1 (v68 : BitVec 32) (v71 : BitVec 32) : Prop :=
  (∀ a, (k0_off1158 v71) a + S1x8x24.size a ≤ S16x32x24.size a) ∧
  (∀ a, (k0_off1159 v71) a + S1x8x24.size a ≤ S16x32x24.size a) ∧
  (∀ a, (k0_off1160 v71) a + S1x8x24.size a ≤ S16x32x24.size a)
def k0_chk251 (v68 : BitVec 32) (v71 : BitVec 32) : Prop :=
  k0_chk251_0 v68 v71 ∧
  k0_chk251_1 v68 v71
theorem k0_off1127_inb : ∀ (v68 : BitVec 32) (v71 : BitVec 32) (k0_hw251 : k0_chk251 v68 v71), ∀ (k0_h25 : k0_cond25 v68 = 1#1), ∀ a, (k0_off1127 v71) a + S1.size a ≤ S16.size a := fun v68 v71 k0_hw251 k0_h25 => k0_hw251.1.1 k0_h25
theorem k0_off1128_inb : ∀ (v68 : BitVec 32) (v71 : BitVec 32) (k0_hw251 : k0_chk251 v68 v71), ∀ (k0_h25 : k0_cond25 v68 = 1#1), ∀ a, (k0_off1128 v71) a + S1x32x3072.size a ≤ S16x32x3072.size a := fun v68 v71 k0_hw251 k0_h25 => k0_hw251.1.2.1 k0_h25
theorem k0_off1128_wordsfp8e4m3 : ∀ (v68 : BitVec 32) (v71 : BitVec 32) (k0_hw251 : k0_chk251 v68 v71), ∀ (k0_h25 : k0_cond25 v68 = 1#1), (Rect.unit (s := S16x32x3072) (k0_off1128 v71) S1x32x3072.size (k0_off1128_inb v68 v71 k0_hw251 k0_h25)).WholeWords (EltTy.packing .fp8e4m3) := fun v68 v71 k0_hw251 k0_h25 => k0_hw251.1.2.2.1 k0_h25 (k0_off1128_inb v68 v71 k0_hw251 k0_h25)
theorem k0_off1129_inb : ∀ (v68 : BitVec 32) (v71 : BitVec 32) (k0_hw251 : k0_chk251 v68 v71), ∀ (k0_h25 : k0_cond25 v68 = 1#1), ∀ a, (k0_off1129 v71) a + S1x32x24.size a ≤ S16x32x24.size a := fun v68 v71 k0_hw251 k0_h25 => k0_hw251.1.2.2.2.1 k0_h25
theorem k0_off1130_inb : ∀ (v68 : BitVec 32) (v71 : BitVec 32) (k0_hw251 : k0_chk251 v68 v71), ∀ (k0_h26 : k0_cond26 v68 = 1#1), ∀ a, (k0_off1130 v71) a + S1x32x3072.size a ≤ S16x32x3072.size a := fun v68 v71 k0_hw251 k0_h26 => k0_hw251.1.2.2.2.2.1 k0_h26
theorem k0_off1130_packedfp8e4m3 : ∀ (v68 : BitVec 32) (v71 : BitVec 32) (k0_hw251 : k0_chk251 v68 v71), ∀ (k0_h26 : k0_cond26 v68 = 1#1), (Rect.unit (s := S16x32x3072) (k0_off1130 v71) S1x32x3072.size (k0_off1130_inb v68 v71 k0_hw251 k0_h26)).PackedRows (EltTy.packing .fp8e4m3) := fun v68 v71 k0_hw251 k0_h26 => k0_hw251.1.2.2.2.2.2.1 k0_h26 (k0_off1130_inb v68 v71 k0_hw251 k0_h26)
theorem k0_off1131_inb : ∀ (v68 : BitVec 32) (v71 : BitVec 32) (k0_hw251 : k0_chk251 v68 v71), ∀ (k0_h26 : k0_cond26 v68 = 1#1), ∀ a, (k0_off1131 v71) a + S1x32x24.size a ≤ S16x32x24.size a := fun v68 v71 k0_hw251 k0_h26 => k0_hw251.1.2.2.2.2.2.2.1 k0_h26
theorem k0_off1132_inb : ∀ (v68 : BitVec 32) (v71 : BitVec 32) (k0_hw251 : k0_chk251 v68 v71), ∀ a, (k0_off1132 v71) a + S1x32x128.size a ≤ S16x32x3072.size a := fun v68 v71 k0_hw251 => k0_hw251.1.2.2.2.2.2.2.2.1
theorem k0_off1134_inb : ∀ (v68 : BitVec 32) (v71 : BitVec 32) (k0_hw251 : k0_chk251 v68 v71), ∀ a, (k0_off1134 v71) a + S1x32x128.size a ≤ S16x32x3072.size a := fun v68 v71 k0_hw251 => k0_hw251.1.2.2.2.2.2.2.2.2.1
theorem k0_off1135_inb : ∀ (v68 : BitVec 32) (v71 : BitVec 32) (k0_hw251 : k0_chk251 v68 v71), ∀ a, (k0_off1135 v71) a + S1x32x128.size a ≤ S16x32x3072.size a := fun v68 v71 k0_hw251 => k0_hw251.1.2.2.2.2.2.2.2.2.2.1
theorem k0_off1136_inb : ∀ (v68 : BitVec 32) (v71 : BitVec 32) (k0_hw251 : k0_chk251 v68 v71), ∀ a, (k0_off1136 v71) a + S1x32x128.size a ≤ S16x32x3072.size a := fun v68 v71 k0_hw251 => k0_hw251.1.2.2.2.2.2.2.2.2.2.2.1
theorem k0_off1137_inb : ∀ (v68 : BitVec 32) (v71 : BitVec 32) (k0_hw251 : k0_chk251 v68 v71), ∀ a, (k0_off1137 v71) a + S1x32x128.size a ≤ S16x32x3072.size a := fun v68 v71 k0_hw251 => k0_hw251.1.2.2.2.2.2.2.2.2.2.2.2.1
theorem k0_off1138_inb : ∀ (v68 : BitVec 32) (v71 : BitVec 32) (k0_hw251 : k0_chk251 v68 v71), ∀ a, (k0_off1138 v71) a + S1x32x128.size a ≤ S16x32x3072.size a := fun v68 v71 k0_hw251 => k0_hw251.1.2.2.2.2.2.2.2.2.2.2.2.2.1
theorem k0_off1139_inb : ∀ (v68 : BitVec 32) (v71 : BitVec 32) (k0_hw251 : k0_chk251 v68 v71), ∀ a, (k0_off1139 v71) a + S1x32x128.size a ≤ S16x32x3072.size a := fun v68 v71 k0_hw251 => k0_hw251.1.2.2.2.2.2.2.2.2.2.2.2.2.2.1
theorem k0_off1140_inb : ∀ (v68 : BitVec 32) (v71 : BitVec 32) (k0_hw251 : k0_chk251 v68 v71), ∀ a, (k0_off1140 v71) a + S1x32x128.size a ≤ S16x32x3072.size a := fun v68 v71 k0_hw251 => k0_hw251.1.2.2.2.2.2.2.2.2.2.2.2.2.2.2.1
theorem k0_off1141_inb : ∀ (v68 : BitVec 32) (v71 : BitVec 32) (k0_hw251 : k0_chk251 v68 v71), ∀ a, (k0_off1141 v71) a + S1x32x128.size a ≤ S16x32x3072.size a := fun v68 v71 k0_hw251 => k0_hw251.1.2.2.2.2.2.2.2.2.2.2.2.2.2.2.2.1
theorem k0_off1142_inb : ∀ (v68 : BitVec 32) (v71 : BitVec 32) (k0_hw251 : k0_chk251 v68 v71), ∀ a, (k0_off1142 v71) a + S1x32x128.size a ≤ S16x32x3072.size a := fun v68 v71 k0_hw251 => k0_hw251.1.2.2.2.2.2.2.2.2.2.2.2.2.2.2.2.2.1
theorem k0_off1143_inb : ∀ (v68 : BitVec 32) (v71 : BitVec 32) (k0_hw251 : k0_chk251 v68 v71), ∀ a, (k0_off1143 v71) a + S1x32x128.size a ≤ S16x32x3072.size a := fun v68 v71 k0_hw251 => k0_hw251.1.2.2.2.2.2.2.2.2.2.2.2.2.2.2.2.2.2.1
theorem k0_off1144_inb : ∀ (v68 : BitVec 32) (v71 : BitVec 32) (k0_hw251 : k0_chk251 v68 v71), ∀ a, (k0_off1144 v71) a + S1x32x128.size a ≤ S16x32x3072.size a := fun v68 v71 k0_hw251 => k0_hw251.1.2.2.2.2.2.2.2.2.2.2.2.2.2.2.2.2.2.2.1
theorem k0_off1145_inb : ∀ (v68 : BitVec 32) (v71 : BitVec 32) (k0_hw251 : k0_chk251 v68 v71), ∀ a, (k0_off1145 v71) a + S1x32x128.size a ≤ S16x32x3072.size a := fun v68 v71 k0_hw251 => k0_hw251.1.2.2.2.2.2.2.2.2.2.2.2.2.2.2.2.2.2.2.2.1
theorem k0_off1146_inb : ∀ (v68 : BitVec 32) (v71 : BitVec 32) (k0_hw251 : k0_chk251 v68 v71), ∀ a, (k0_off1146 v71) a + S1x32x128.size a ≤ S16x32x3072.size a := fun v68 v71 k0_hw251 => k0_hw251.1.2.2.2.2.2.2.2.2.2.2.2.2.2.2.2.2.2.2.2.2.1
theorem k0_off1147_inb : ∀ (v68 : BitVec 32) (v71 : BitVec 32) (k0_hw251 : k0_chk251 v68 v71), ∀ a, (k0_off1147 v71) a + S1x32x128.size a ≤ S16x32x3072.size a := fun v68 v71 k0_hw251 => k0_hw251.1.2.2.2.2.2.2.2.2.2.2.2.2.2.2.2.2.2.2.2.2.2.1
theorem k0_off1148_inb : ∀ (v68 : BitVec 32) (v71 : BitVec 32) (k0_hw251 : k0_chk251 v68 v71), ∀ a, (k0_off1148 v71) a + S1x32x128.size a ≤ S16x32x3072.size a := fun v68 v71 k0_hw251 => k0_hw251.1.2.2.2.2.2.2.2.2.2.2.2.2.2.2.2.2.2.2.2.2.2.2.1
theorem k0_off1149_inb : ∀ (v68 : BitVec 32) (v71 : BitVec 32) (k0_hw251 : k0_chk251 v68 v71), ∀ a, (k0_off1149 v71) a + S1x32x128.size a ≤ S16x32x3072.size a := fun v68 v71 k0_hw251 => k0_hw251.1.2.2.2.2.2.2.2.2.2.2.2.2.2.2.2.2.2.2.2.2.2.2.2.1
theorem k0_off1150_inb : ∀ (v68 : BitVec 32) (v71 : BitVec 32) (k0_hw251 : k0_chk251 v68 v71), ∀ a, (k0_off1150 v71) a + S1x32x128.size a ≤ S16x32x3072.size a := fun v68 v71 k0_hw251 => k0_hw251.1.2.2.2.2.2.2.2.2.2.2.2.2.2.2.2.2.2.2.2.2.2.2.2.2.1
theorem k0_off1151_inb : ∀ (v68 : BitVec 32) (v71 : BitVec 32) (k0_hw251 : k0_chk251 v68 v71), ∀ a, (k0_off1151 v71) a + S1x32x128.size a ≤ S16x32x3072.size a := fun v68 v71 k0_hw251 => k0_hw251.1.2.2.2.2.2.2.2.2.2.2.2.2.2.2.2.2.2.2.2.2.2.2.2.2.2.1
theorem k0_off1152_inb : ∀ (v68 : BitVec 32) (v71 : BitVec 32) (k0_hw251 : k0_chk251 v68 v71), ∀ a, (k0_off1152 v71) a + S1x32x128.size a ≤ S16x32x3072.size a := fun v68 v71 k0_hw251 => k0_hw251.1.2.2.2.2.2.2.2.2.2.2.2.2.2.2.2.2.2.2.2.2.2.2.2.2.2.2.1
theorem k0_off1153_inb : ∀ (v68 : BitVec 32) (v71 : BitVec 32) (k0_hw251 : k0_chk251 v68 v71), ∀ a, (k0_off1153 v71) a + S1x32x128.size a ≤ S16x32x3072.size a := fun v68 v71 k0_hw251 => k0_hw251.1.2.2.2.2.2.2.2.2.2.2.2.2.2.2.2.2.2.2.2.2.2.2.2.2.2.2.2.1
theorem k0_off1154_inb : ∀ (v68 : BitVec 32) (v71 : BitVec 32) (k0_hw251 : k0_chk251 v68 v71), ∀ a, (k0_off1154 v71) a + S1x32x128.size a ≤ S16x32x3072.size a := fun v68 v71 k0_hw251 => k0_hw251.1.2.2.2.2.2.2.2.2.2.2.2.2.2.2.2.2.2.2.2.2.2.2.2.2.2.2.2.2.1
theorem k0_off1155_inb : ∀ (v68 : BitVec 32) (v71 : BitVec 32) (k0_hw251 : k0_chk251 v68 v71), ∀ a, (k0_off1155 v71) a + S1x32x128.size a ≤ S16x32x3072.size a := fun v68 v71 k0_hw251 => k0_hw251.1.2.2.2.2.2.2.2.2.2.2.2.2.2.2.2.2.2.2.2.2.2.2.2.2.2.2.2.2.2.1
theorem k0_off1156_inb : ∀ (v68 : BitVec 32) (v71 : BitVec 32) (k0_hw251 : k0_chk251 v68 v71), ∀ a, (k0_off1156 v71) a + S1x32x128.size a ≤ S16x32x3072.size a := fun v68 v71 k0_hw251 => k0_hw251.1.2.2.2.2.2.2.2.2.2.2.2.2.2.2.2.2.2.2.2.2.2.2.2.2.2.2.2.2.2.2.1
theorem k0_off1157_inb : ∀ (v68 : BitVec 32) (v71 : BitVec 32) (k0_hw251 : k0_chk251 v68 v71), ∀ a, (k0_off1157 v71) a + S1x8x24.size a ≤ S16x32x24.size a := fun v68 v71 k0_hw251 => k0_hw251.1.2.2.2.2.2.2.2.2.2.2.2.2.2.2.2.2.2.2.2.2.2.2.2.2.2.2.2.2.2.2.2
theorem k0_off1158_inb : ∀ (v68 : BitVec 32) (v71 : BitVec 32) (k0_hw251 : k0_chk251 v68 v71), ∀ a, (k0_off1158 v71) a + S1x8x24.size a ≤ S16x32x24.size a := fun v68 v71 k0_hw251 => k0_hw251.2.1
theorem k0_off1159_inb : ∀ (v68 : BitVec 32) (v71 : BitVec 32) (k0_hw251 : k0_chk251 v68 v71), ∀ a, (k0_off1159 v71) a + S1x8x24.size a ≤ S16x32x24.size a := fun v68 v71 k0_hw251 => k0_hw251.2.2.1
theorem k0_off1160_inb : ∀ (v68 : BitVec 32) (v71 : BitVec 32) (k0_hw251 : k0_chk251 v68 v71), ∀ a, (k0_off1160 v71) a + S1x8x24.size a ≤ S16x32x24.size a := fun v68 v71 k0_hw251 => k0_hw251.2.2.2

def k0_off1161 (i : grid0.Coords) (arg22 : BitVec 32) : Fin 3 → Nat :=
  let c0_394 : Index := 0#32
  let c0_395 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_391 : BitVec 32 := 1#32
  let v916 : BitVec 32 := Scalar.subi v5 c1_i32_391
  let v917 : BitVec 32 := Scalar.minsi arg22 v916
  let c4_i32_392 : BitVec 32 := 4#32
  let v918 : BitVec 1 := Scalar.cmpi .slt v917 c4_i32_392
  let c0_i32_393 : BitVec 32 := 0#32
  let v919 : BitVec 32 := Scalar.select v918 v917 c0_i32_393
  let v920 : Index := Scalar.indexCast v919
  ![0, 0, v920.toNat]

def k0_off1162 (i : grid0.Coords) (arg22 : BitVec 32) : Fin 3 → Nat :=
  let c0_398 : Index := 0#32
  let c0_399 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_391 : BitVec 32 := 1#32
  let v916 : BitVec 32 := Scalar.subi v5 c1_i32_391
  let v917 : BitVec 32 := Scalar.minsi arg22 v916
  let c4_i32_392 : BitVec 32 := 4#32
  let v918 : BitVec 1 := Scalar.cmpi .slt v917 c4_i32_392
  let c0_i32_397 : BitVec 32 := 0#32
  let c4_i32_396 : BitVec 32 := 4#32
  let v922 : BitVec 32 := Scalar.subi v917 c4_i32_396
  let v923 : BitVec 32 := Scalar.select v918 c0_i32_397 v922
  let v924 : Index := Scalar.indexCast v923
  ![0, 0, v924.toNat]

def k0_chk253 (i : grid0.Coords) (arg22 : BitVec 32) : Prop :=
  (∀ a, (k0_off1161 i arg22) a + S1x1x1.size a ≤ S1x1x4.size a) ∧
  (∀ a, (k0_off1162 i arg22) a + S1x1x1.size a ≤ S1x1x4.size a)
theorem k0_off1161_inb : ∀ (i : grid0.Coords) (arg22 : BitVec 32) (k0_hw253 : k0_chk253 i arg22), ∀ a, (k0_off1161 i arg22) a + S1x1x1.size a ≤ S1x1x4.size a := fun i arg22 k0_hw253 => k0_hw253.1
theorem k0_off1162_inb : ∀ (i : grid0.Coords) (arg22 : BitVec 32) (k0_hw253 : k0_chk253 i arg22), ∀ a, (k0_off1162 i arg22) a + S1x1x1.size a ≤ S1x1x4.size a := fun i arg22 k0_hw253 => k0_hw253.2

def k0_off1163 (v915 : BitVec 32) (v916 : BitVec 32) : Fin 3 → Nat :=
  let c0_395 : Index := 0#32
  let c4_i32_393 : BitVec 32 := 4#32
  let v917 : BitVec 1 := Scalar.cmpi .slt v915 c4_i32_393
  let c0_i32_394 : BitVec 32 := 0#32
  let v918 : BitVec 32 := Scalar.select v917 v915 c0_i32_394
  let v919 : Index := Scalar.indexCast v918
  let v920 : Index := Scalar.indexCast v916
  ![0, v919.toNat, v920.toNat]

def k0_off1164 (v915 : BitVec 32) (v916 : BitVec 32) : Fin 3 → Nat :=
  let c0_398 : Index := 0#32
  let c4_i32_393 : BitVec 32 := 4#32
  let v917 : BitVec 1 := Scalar.cmpi .slt v915 c4_i32_393
  let c0_i32_397 : BitVec 32 := 0#32
  let c4_i32_396 : BitVec 32 := 4#32
  let v922 : BitVec 32 := Scalar.subi v915 c4_i32_396
  let v923 : BitVec 32 := Scalar.select v917 c0_i32_397 v922
  let v924 : Index := Scalar.indexCast v923
  let v925 : Index := Scalar.indexCast v916
  ![0, v924.toNat, v925.toNat]

def k0_chk254 (v915 : BitVec 32) (v916 : BitVec 32) : Prop :=
  (∀ a, (k0_off1163 v915 v916) a + S1x1x1.size a ≤ S1x4x128.size a) ∧
  (∀ a, (k0_off1164 v915 v916) a + S1x1x1.size a ≤ S1x4x128.size a)
theorem k0_off1163_inb : ∀ (v915 : BitVec 32) (v916 : BitVec 32) (k0_hw254 : k0_chk254 v915 v916), ∀ a, (k0_off1163 v915 v916) a + S1x1x1.size a ≤ S1x4x128.size a := fun v915 v916 k0_hw254 => k0_hw254.1
theorem k0_off1164_inb : ∀ (v915 : BitVec 32) (v916 : BitVec 32) (k0_hw254 : k0_chk254 v915 v916), ∀ a, (k0_off1164 v915 v916) a + S1x1x1.size a ≤ S1x4x128.size a := fun v915 v916 k0_hw254 => k0_hw254.2

def k0_mult17 (v915 : BitVec 32) (v921 : BitVec 32) (v926 : BitVec 32) : BitVec 32 :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  v950
def k0_cond27 (v915 : BitVec 32) (v921 : BitVec 32) (v926 : BitVec 32) : BitVec 1 :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c7782_i32_402 : BitVec 32 := 7782#32
  let v931 : BitVec 1 := Scalar.cmpi .slt v928 c7782_i32_402
  let v932 : BitVec 32 := Scalar.extui v931
  let c0_i32_403 : BitVec 32 := 0#32
  let v933 : BitVec 1 := Scalar.cmpi .ne v932 c0_i32_403
  v933

def k0_off1165 (v929 : BitVec 32) : Fin 1 → Nat :=
  let c16_i32_401 : BitVec 32 := 16#32
  let v930 : BitVec 32 := Scalar.remsi v929 c16_i32_401
  ![v930.toNat]

def k0_off1166 (v929 : BitVec 32) : Fin 3 → Nat :=
  let c16_i32_401 : BitVec 32 := 16#32
  let v930 : BitVec 32 := Scalar.remsi v929 c16_i32_401
  let c0_i32_417 : BitVec 32 := 0#32
  let c0_i32_418 : BitVec 32 := 0#32
  ![v930.toNat, 0, 0]
def k0_off1167 (v915 : BitVec 32) (v921 : BitVec 32) (v926 : BitVec 32) : Fin 2 → Nat :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  let v951 : BitVec 32 := v950
  let c0_i32_419 : BitVec 32 := 0#32
  ![v951.toNat, 0]
def k0_off1168 (v929 : BitVec 32) : Fin 3 → Nat :=
  let c16_i32_401 : BitVec 32 := 16#32
  let v930 : BitVec 32 := Scalar.remsi v929 c16_i32_401
  let c0_i32_420 : BitVec 32 := 0#32
  let c0_i32_421 : BitVec 32 := 0#32
  ![v930.toNat, 0, 0]

def k0_chk256 (v915 : BitVec 32) (v921 : BitVec 32) (v926 : BitVec 32) (v929 : BitVec 32) : Prop :=
  (∀ (k0_h27 : k0_cond27 v915 v921 v926 = 1#1), ∀ a, (k0_off1165 v929) a + S1.size a ≤ S16.size a) ∧
  (∀ (k0_h27 : k0_cond27 v915 v921 v926 = 1#1), ∀ a, (k0_off1166 v929) a + S1x32x3072.size a ≤ S16x32x3072.size a) ∧
  (∀ (k0_h27 : k0_cond27 v915 v921 v926 = 1#1), ∀ (hinb : ∀ a, (k0_off1166 v929) a + S1x32x3072.size a ≤ S16x32x3072.size a), (Rect.unit (s := S16x32x3072) (k0_off1166 v929) S1x32x3072.size hinb).WholeWords (EltTy.packing .fp8e4m3)) ∧
  (∀ (k0_h27 : k0_cond27 v915 v921 v926 = 1#1), ∀ a, (k0_off1168 v929) a + S1x32x24.size a ≤ S16x32x24.size a)
theorem k0_off1165_inb : ∀ (v915 : BitVec 32) (v921 : BitVec 32) (v926 : BitVec 32) (v929 : BitVec 32) (k0_hw256 : k0_chk256 v915 v921 v926 v929), ∀ (k0_h27 : k0_cond27 v915 v921 v926 = 1#1), ∀ a, (k0_off1165 v929) a + S1.size a ≤ S16.size a := fun v915 v921 v926 v929 k0_hw256 k0_h27 => k0_hw256.1 k0_h27
theorem k0_off1166_inb : ∀ (v915 : BitVec 32) (v921 : BitVec 32) (v926 : BitVec 32) (v929 : BitVec 32) (k0_hw256 : k0_chk256 v915 v921 v926 v929), ∀ (k0_h27 : k0_cond27 v915 v921 v926 = 1#1), ∀ a, (k0_off1166 v929) a + S1x32x3072.size a ≤ S16x32x3072.size a := fun v915 v921 v926 v929 k0_hw256 k0_h27 => k0_hw256.2.1 k0_h27
theorem k0_off1166_wordsfp8e4m3 : ∀ (v915 : BitVec 32) (v921 : BitVec 32) (v926 : BitVec 32) (v929 : BitVec 32) (k0_hw256 : k0_chk256 v915 v921 v926 v929), ∀ (k0_h27 : k0_cond27 v915 v921 v926 = 1#1), (Rect.unit (s := S16x32x3072) (k0_off1166 v929) S1x32x3072.size (k0_off1166_inb v915 v921 v926 v929 k0_hw256 k0_h27)).WholeWords (EltTy.packing .fp8e4m3) := fun v915 v921 v926 v929 k0_hw256 k0_h27 => k0_hw256.2.2.1 k0_h27 (k0_off1166_inb v915 v921 v926 v929 k0_hw256 k0_h27)
theorem k0_off1168_inb : ∀ (v915 : BitVec 32) (v921 : BitVec 32) (v926 : BitVec 32) (v929 : BitVec 32) (k0_hw256 : k0_chk256 v915 v921 v926 v929), ∀ (k0_h27 : k0_cond27 v915 v921 v926 = 1#1), ∀ a, (k0_off1168 v929) a + S1x32x24.size a ≤ S16x32x24.size a := fun v915 v921 v926 v929 k0_hw256 k0_h27 => k0_hw256.2.2.2 k0_h27

def k0_off1169 (v915 : BitVec 32) (v921 : BitVec 32) (v926 : BitVec 32) : Fin 2 → Nat :=
  let c4_i32_393 : BitVec 32 := 4#32
  let v917 : BitVec 1 := Scalar.cmpi .slt v915 c4_i32_393
  let v927 : BitVec 32 := Scalar.select v917 v921 v926
  let c6_i32_399 : BitVec 32 := 6#32
  let v928 : BitVec 32 := Scalar.shrsi v927 c6_i32_399
  let c32_i32_416 : BitVec 32 := 32#32
  let v950 : BitVec 32 := Scalar.muli v928 c32_i32_416
  let v951 : BitVec 32 := v950
  let c0_i32_422 : BitVec 32 := 0#32
  ![v951.toNat, 0]

def k0_chk255 (v915 : BitVec 32) (v921 : BitVec 32) (v926 : BitVec 32) : Prop :=
  (∀ (k0_h27 : k0_cond27 v915 v921 v926 = 1#1), 32 ∣ (k0_mult17 v915 v921 v926).toNat) ∧
  (∀ (k0_h27 : k0_cond27 v915 v921 v926 = 1#1), ∀ a, (k0_off1167 v915 v921 v926) a + S32x3072.size a ≤ S249037x3072.size a) ∧
  (∀ (k0_h27 : k0_cond27 v915 v921 v926 = 1#1), ∀ (hinb : ∀ a, (k0_off1167 v915 v921 v926) a + S32x3072.size a ≤ S249037x3072.size a), (Rect.unit (s := S249037x3072) (k0_off1167 v915 v921 v926) S32x3072.size hinb).WholeWords (EltTy.packing .fp8e4m3)) ∧
  (∀ (k0_h27 : k0_cond27 v915 v921 v926 = 1#1), ∀ a, (k0_off1169 v915 v921 v926) a + S32x24.size a ≤ S249037x24.size a)
theorem k0_mult17_dvd : ∀ (v915 : BitVec 32) (v921 : BitVec 32) (v926 : BitVec 32) (k0_hw255 : k0_chk255 v915 v921 v926), ∀ (k0_h27 : k0_cond27 v915 v921 v926 = 1#1), 32 ∣ (k0_mult17 v915 v921 v926).toNat := fun v915 v921 v926 k0_hw255 k0_h27 => k0_hw255.1 k0_h27
theorem k0_off1167_inb : ∀ (v915 : BitVec 32) (v921 : BitVec 32) (v926 : BitVec 32) (k0_hw255 : k0_chk255 v915 v921 v926), ∀ (k0_h27 : k0_cond27 v915 v921 v926 = 1#1), ∀ a, (k0_off1167 v915 v921 v926) a + S32x3072.size a ≤ S249037x3072.size a := fun v915 v921 v926 k0_hw255 k0_h27 => k0_hw255.2.1 k0_h27
theorem k0_off1167_wordsfp8e4m3 : ∀ (v915 : BitVec 32) (v921 : BitVec 32) (v926 : BitVec 32) (k0_hw255 : k0_chk255 v915 v921 v926), ∀ (k0_h27 : k0_cond27 v915 v921 v926 = 1#1), (Rect.unit (s := S249037x3072) (k0_off1167 v915 v921 v926) S32x3072.size (k0_off1167_inb v915 v921 v926 k0_hw255 k0_h27)).WholeWords (EltTy.packing .fp8e4m3) := fun v915 v921 v926 k0_hw255 k0_h27 => k0_hw255.2.2.1 k0_h27 (k0_off1167_inb v915 v921 v926 k0_hw255 k0_h27)
theorem k0_off1169_inb : ∀ (v915 : BitVec 32) (v921 : BitVec 32) (v926 : BitVec 32) (k0_hw255 : k0_chk255 v915 v921 v926), ∀ (k0_h27 : k0_cond27 v915 v921 v926 = 1#1), ∀ a, (k0_off1169 v915 v921 v926) a + S32x24.size a ≤ S249037x24.size a := fun v915 v921 v926 k0_hw255 k0_h27 => k0_hw255.2.2.2 k0_h27

def k0_off1170 (i : grid0.Coords) (arg23 : BitVec 32) : Fin 3 → Nat :=
  let c0_419 : Index := 0#32
  let c0_420 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_416 : BitVec 32 := 1#32
  let v951 : BitVec 32 := Scalar.subi v5 c1_i32_416
  let v952 : BitVec 32 := Scalar.minsi arg23 v951
  let c4_i32_417 : BitVec 32 := 4#32
  let v953 : BitVec 1 := Scalar.cmpi .slt v952 c4_i32_417
  let c0_i32_418 : BitVec 32 := 0#32
  let v954 : BitVec 32 := Scalar.select v953 v952 c0_i32_418
  let v955 : Index := Scalar.indexCast v954
  ![0, 0, v955.toNat]

def k0_off1171 (i : grid0.Coords) (arg23 : BitVec 32) : Fin 3 → Nat :=
  let c0_423 : Index := 0#32
  let c0_424 : Index := 0#32
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  let c1_i32_416 : BitVec 32 := 1#32
  let v951 : BitVec 32 := Scalar.subi v5 c1_i32_416
  let v952 : BitVec 32 := Scalar.minsi arg23 v951
  let c4_i32_417 : BitVec 32 := 4#32
  let v953 : BitVec 1 := Scalar.cmpi .slt v952 c4_i32_417
  let c0_i32_422 : BitVec 32 := 0#32
  let c4_i32_421 : BitVec 32 := 4#32
  let v957 : BitVec 32 := Scalar.subi v952 c4_i32_421
  let v958 : BitVec 32 := Scalar.select v953 c0_i32_422 v957
  let v959 : Index := Scalar.indexCast v958
  ![0, 0, v959.toNat]

def k0_chk257 (i : grid0.Coords) (arg23 : BitVec 32) : Prop :=
  (∀ a, (k0_off1170 i arg23) a + S1x1x1.size a ≤ S1x1x4.size a) ∧
  (∀ a, (k0_off1171 i arg23) a + S1x1x1.size a ≤ S1x1x4.size a)
theorem k0_off1170_inb : ∀ (i : grid0.Coords) (arg23 : BitVec 32) (k0_hw257 : k0_chk257 i arg23), ∀ a, (k0_off1170 i arg23) a + S1x1x1.size a ≤ S1x1x4.size a := fun i arg23 k0_hw257 => k0_hw257.1
theorem k0_off1171_inb : ∀ (i : grid0.Coords) (arg23 : BitVec 32) (k0_hw257 : k0_chk257 i arg23), ∀ a, (k0_off1171 i arg23) a + S1x1x1.size a ≤ S1x1x4.size a := fun i arg23 k0_hw257 => k0_hw257.2

@[reducible] def k0_t12_loop : Scf.Loop 32 :=
  let c0_i32_52 : BitVec 32 := 0#32
  let c4_i32_53 : BitVec 32 := 4#32
  let v65 : BitVec 32 := Scalar.addi c0_i32_52 c4_i32_53
  let c1_i32_54 : BitVec 32 := 1#32
  ⟨c0_i32_52, v65, c1_i32_54⟩
def k0_off1172 (k0_t12 : Fin k0_t12_loop.trips) : Fin 2 → Nat :=
  let c0_62 : Index := 0#32
  let c96_i32 : BitVec 32 := 96#32
  let c0_i32_52 : BitVec 32 := 0#32
  let c1_i32_54 : BitVec 32 := 1#32
  let arg20 : BitVec 32 := Scf.iv c0_i32_52 c1_i32_54 k0_t12
  let c8_i32_60 : BitVec 32 := 8#32
  let v67 : BitVec 32 := Scalar.muli arg20 c8_i32_60
  let v68 : BitVec 32 := Scalar.addi c96_i32 v67
  let c0_i32_61 : BitVec 32 := 0#32
  let v69 : BitVec 32 := Scalar.addi v68 c0_i32_61
  let v70 : Index := Scalar.indexCast v69
  ![0, v70.toNat]
def k0_off1173 (v71 : BitVec 32) : Fin 2 → Nat :=
  let c24_i32 : BitVec 32 := 24#32
  let v72 : BitVec 32 := Scalar.addi v71 c24_i32
  let v73 : Index := Scalar.indexCast v72
  let c0_63 : Index := 0#32
  ![v73.toNat, 0]

def k0_off1174 (k0_t12 : Fin k0_t12_loop.trips) : Fin 2 → Nat :=
  let c0_64 : Index := 0#32
  let c96_i32 : BitVec 32 := 96#32
  let c0_i32_52 : BitVec 32 := 0#32
  let c1_i32_54 : BitVec 32 := 1#32
  let arg20 : BitVec 32 := Scf.iv c0_i32_52 c1_i32_54 k0_t12
  let c8_i32_60 : BitVec 32 := 8#32
  let v67 : BitVec 32 := Scalar.muli arg20 c8_i32_60
  let v68 : BitVec 32 := Scalar.addi c96_i32 v67
  let c0_i32_61 : BitVec 32 := 0#32
  let v69 : BitVec 32 := Scalar.addi v68 c0_i32_61
  let v75 : Index := Scalar.indexCast v69
  ![0, v75.toNat]
def k0_off1175 (v71 : BitVec 32) (c0_i32_66 : BitVec 32) : Fin 2 → Nat :=
  let v89 : BitVec 32 := Scalar.addi v71 c0_i32_66
  let v90 : Index := Scalar.indexCast v89
  let c0_67 : Index := 0#32
  ![v90.toNat, 0]

def k0_chk258 (v71 : BitVec 32) : Prop :=
  (∀ a, (k0_off1173 v71) a + S1x128.size a ≤ S102432x128.size a) ∧
  (∀ (r : Fin 3), ∀ a, (k0_off1175 v71 (BitVec.ofNat 32 (8 * r.val))) a + S8x128.size a ≤ S102432x128.size a)
theorem k0_off1173_inb : ∀ (v71 : BitVec 32) (k0_hw258 : k0_chk258 v71), ∀ a, (k0_off1173 v71) a + S1x128.size a ≤ S102432x128.size a := fun v71 k0_hw258 => k0_hw258.1
theorem k0_off1175_inb : ∀ (v71 : BitVec 32) (k0_hw258 : k0_chk258 v71), ∀ (r : Fin 3), ∀ a, (k0_off1175 v71 (BitVec.ofNat 32 (8 * r.val))) a + S8x128.size a ≤ S102432x128.size a := fun v71 k0_hw258 r => k0_hw258.2 r

def k0_off1176 (k0_t12 : Fin k0_t12_loop.trips) : Fin 2 → Nat :=
  let c1_76 : Index := 1#32
  let c96_i32 : BitVec 32 := 96#32
  let c0_i32_52 : BitVec 32 := 0#32
  let c1_i32_54 : BitVec 32 := 1#32
  let arg20 : BitVec 32 := Scf.iv c0_i32_52 c1_i32_54 k0_t12
  let c8_i32_60 : BitVec 32 := 8#32
  let v67 : BitVec 32 := Scalar.muli arg20 c8_i32_60
  let v68 : BitVec 32 := Scalar.addi c96_i32 v67
  let c0_i32_61 : BitVec 32 := 0#32
  let v69 : BitVec 32 := Scalar.addi v68 c0_i32_61
  let v117 : Index := Scalar.indexCast v69
  ![1, v117.toNat]
def k0_off1177 (v118 : BitVec 32) : Fin 2 → Nat :=
  let c24_i32_77 : BitVec 32 := 24#32
  let v119 : BitVec 32 := Scalar.addi v118 c24_i32_77
  let v120 : Index := Scalar.indexCast v119
  let c0_78 : Index := 0#32
  ![v120.toNat, 0]

def k0_off1178 (k0_t12 : Fin k0_t12_loop.trips) : Fin 2 → Nat :=
  let c1_79 : Index := 1#32
  let c96_i32 : BitVec 32 := 96#32
  let c0_i32_52 : BitVec 32 := 0#32
  let c1_i32_54 : BitVec 32 := 1#32
  let arg20 : BitVec 32 := Scf.iv c0_i32_52 c1_i32_54 k0_t12
  let c8_i32_60 : BitVec 32 := 8#32
  let v67 : BitVec 32 := Scalar.muli arg20 c8_i32_60
  let v68 : BitVec 32 := Scalar.addi c96_i32 v67
  let c0_i32_61 : BitVec 32 := 0#32
  let v69 : BitVec 32 := Scalar.addi v68 c0_i32_61
  let v122 : Index := Scalar.indexCast v69
  ![1, v122.toNat]
def k0_off1179 (v118 : BitVec 32) (c0_i32_82 : BitVec 32) : Fin 2 → Nat :=
  let v136 : BitVec 32 := Scalar.addi v118 c0_i32_82
  let v137 : Index := Scalar.indexCast v136
  let c0_83 : Index := 0#32
  ![v137.toNat, 0]

def k0_chk259 (v118 : BitVec 32) : Prop :=
  (∀ a, (k0_off1177 v118) a + S1x128.size a ≤ S102432x128.size a) ∧
  (∀ (r : Fin 3), ∀ a, (k0_off1179 v118 (BitVec.ofNat 32 (8 * r.val))) a + S8x128.size a ≤ S102432x128.size a)
theorem k0_off1177_inb : ∀ (v118 : BitVec 32) (k0_hw259 : k0_chk259 v118), ∀ a, (k0_off1177 v118) a + S1x128.size a ≤ S102432x128.size a := fun v118 k0_hw259 => k0_hw259.1
theorem k0_off1179_inb : ∀ (v118 : BitVec 32) (k0_hw259 : k0_chk259 v118), ∀ (r : Fin 3), ∀ a, (k0_off1179 v118 (BitVec.ofNat 32 (8 * r.val))) a + S8x128.size a ≤ S102432x128.size a := fun v118 k0_hw259 r => k0_hw259.2 r

def k0_off1180 (k0_t12 : Fin k0_t12_loop.trips) : Fin 2 → Nat :=
  let c2_92 : Index := 2#32
  let c96_i32 : BitVec 32 := 96#32
  let c0_i32_52 : BitVec 32 := 0#32
  let c1_i32_54 : BitVec 32 := 1#32
  let arg20 : BitVec 32 := Scf.iv c0_i32_52 c1_i32_54 k0_t12
  let c8_i32_60 : BitVec 32 := 8#32
  let v67 : BitVec 32 := Scalar.muli arg20 c8_i32_60
  let v68 : BitVec 32 := Scalar.addi c96_i32 v67
  let c0_i32_61 : BitVec 32 := 0#32
  let v69 : BitVec 32 := Scalar.addi v68 c0_i32_61
  let v167 : Index := Scalar.indexCast v69
  ![2, v167.toNat]
def k0_off1181 (v168 : BitVec 32) : Fin 2 → Nat :=
  let c24_i32_93 : BitVec 32 := 24#32
  let v169 : BitVec 32 := Scalar.addi v168 c24_i32_93
  let v170 : Index := Scalar.indexCast v169
  let c0_94 : Index := 0#32
  ![v170.toNat, 0]

def k0_off1182 (k0_t12 : Fin k0_t12_loop.trips) : Fin 2 → Nat :=
  let c2_95 : Index := 2#32
  let c96_i32 : BitVec 32 := 96#32
  let c0_i32_52 : BitVec 32 := 0#32
  let c1_i32_54 : BitVec 32 := 1#32
  let arg20 : BitVec 32 := Scf.iv c0_i32_52 c1_i32_54 k0_t12
  let c8_i32_60 : BitVec 32 := 8#32
  let v67 : BitVec 32 := Scalar.muli arg20 c8_i32_60
  let v68 : BitVec 32 := Scalar.addi c96_i32 v67
  let c0_i32_61 : BitVec 32 := 0#32
  let v69 : BitVec 32 := Scalar.addi v68 c0_i32_61
  let v172 : Index := Scalar.indexCast v69
  ![2, v172.toNat]
def k0_off1183 (v168 : BitVec 32) (c0_i32_98 : BitVec 32) : Fin 2 → Nat :=
  let v186 : BitVec 32 := Scalar.addi v168 c0_i32_98
  let v187 : Index := Scalar.indexCast v186
  let c0_99 : Index := 0#32
  ![v187.toNat, 0]

def k0_chk260 (v168 : BitVec 32) : Prop :=
  (∀ a, (k0_off1181 v168) a + S1x128.size a ≤ S102432x128.size a) ∧
  (∀ (r : Fin 3), ∀ a, (k0_off1183 v168 (BitVec.ofNat 32 (8 * r.val))) a + S8x128.size a ≤ S102432x128.size a)
theorem k0_off1181_inb : ∀ (v168 : BitVec 32) (k0_hw260 : k0_chk260 v168), ∀ a, (k0_off1181 v168) a + S1x128.size a ≤ S102432x128.size a := fun v168 k0_hw260 => k0_hw260.1
theorem k0_off1183_inb : ∀ (v168 : BitVec 32) (k0_hw260 : k0_chk260 v168), ∀ (r : Fin 3), ∀ a, (k0_off1183 v168 (BitVec.ofNat 32 (8 * r.val))) a + S8x128.size a ≤ S102432x128.size a := fun v168 k0_hw260 r => k0_hw260.2 r

def k0_off1184 (k0_t12 : Fin k0_t12_loop.trips) : Fin 2 → Nat :=
  let c3_108 : Index := 3#32
  let c96_i32 : BitVec 32 := 96#32
  let c0_i32_52 : BitVec 32 := 0#32
  let c1_i32_54 : BitVec 32 := 1#32
  let arg20 : BitVec 32 := Scf.iv c0_i32_52 c1_i32_54 k0_t12
  let c8_i32_60 : BitVec 32 := 8#32
  let v67 : BitVec 32 := Scalar.muli arg20 c8_i32_60
  let v68 : BitVec 32 := Scalar.addi c96_i32 v67
  let c0_i32_61 : BitVec 32 := 0#32
  let v69 : BitVec 32 := Scalar.addi v68 c0_i32_61
  let v217 : Index := Scalar.indexCast v69
  ![3, v217.toNat]
def k0_off1185 (v218 : BitVec 32) : Fin 2 → Nat :=
  let c24_i32_109 : BitVec 32 := 24#32
  let v219 : BitVec 32 := Scalar.addi v218 c24_i32_109
  let v220 : Index := Scalar.indexCast v219
  let c0_110 : Index := 0#32
  ![v220.toNat, 0]

def k0_off1186 (k0_t12 : Fin k0_t12_loop.trips) : Fin 2 → Nat :=
  let c3_111 : Index := 3#32
  let c96_i32 : BitVec 32 := 96#32
  let c0_i32_52 : BitVec 32 := 0#32
  let c1_i32_54 : BitVec 32 := 1#32
  let arg20 : BitVec 32 := Scf.iv c0_i32_52 c1_i32_54 k0_t12
  let c8_i32_60 : BitVec 32 := 8#32
  let v67 : BitVec 32 := Scalar.muli arg20 c8_i32_60
  let v68 : BitVec 32 := Scalar.addi c96_i32 v67
  let c0_i32_61 : BitVec 32 := 0#32
  let v69 : BitVec 32 := Scalar.addi v68 c0_i32_61
  let v222 : Index := Scalar.indexCast v69
  ![3, v222.toNat]
def k0_off1187 (v218 : BitVec 32) (c0_i32_114 : BitVec 32) : Fin 2 → Nat :=
  let v236 : BitVec 32 := Scalar.addi v218 c0_i32_114
  let v237 : Index := Scalar.indexCast v236
  let c0_115 : Index := 0#32
  ![v237.toNat, 0]

def k0_chk261 (v218 : BitVec 32) : Prop :=
  (∀ a, (k0_off1185 v218) a + S1x128.size a ≤ S102432x128.size a) ∧
  (∀ (r : Fin 3), ∀ a, (k0_off1187 v218 (BitVec.ofNat 32 (8 * r.val))) a + S8x128.size a ≤ S102432x128.size a)
theorem k0_off1185_inb : ∀ (v218 : BitVec 32) (k0_hw261 : k0_chk261 v218), ∀ a, (k0_off1185 v218) a + S1x128.size a ≤ S102432x128.size a := fun v218 k0_hw261 => k0_hw261.1
theorem k0_off1187_inb : ∀ (v218 : BitVec 32) (k0_hw261 : k0_chk261 v218), ∀ (r : Fin 3), ∀ a, (k0_off1187 v218 (BitVec.ofNat 32 (8 * r.val))) a + S8x128.size a ≤ S102432x128.size a := fun v218 k0_hw261 r => k0_hw261.2 r

def k0_off1188 (k0_t12 : Fin k0_t12_loop.trips) : Fin 2 → Nat :=
  let c4 : Index := 4#32
  let c96_i32 : BitVec 32 := 96#32
  let c0_i32_52 : BitVec 32 := 0#32
  let c1_i32_54 : BitVec 32 := 1#32
  let arg20 : BitVec 32 := Scf.iv c0_i32_52 c1_i32_54 k0_t12
  let c8_i32_60 : BitVec 32 := 8#32
  let v67 : BitVec 32 := Scalar.muli arg20 c8_i32_60
  let v68 : BitVec 32 := Scalar.addi c96_i32 v67
  let c0_i32_61 : BitVec 32 := 0#32
  let v69 : BitVec 32 := Scalar.addi v68 c0_i32_61
  let v267 : Index := Scalar.indexCast v69
  ![4, v267.toNat]
def k0_off1189 (v268 : BitVec 32) : Fin 2 → Nat :=
  let c24_i32_124 : BitVec 32 := 24#32
  let v269 : BitVec 32 := Scalar.addi v268 c24_i32_124
  let v270 : Index := Scalar.indexCast v269
  let c0_125 : Index := 0#32
  ![v270.toNat, 0]

def k0_off1190 (k0_t12 : Fin k0_t12_loop.trips) : Fin 2 → Nat :=
  let c4_126 : Index := 4#32
  let c96_i32 : BitVec 32 := 96#32
  let c0_i32_52 : BitVec 32 := 0#32
  let c1_i32_54 : BitVec 32 := 1#32
  let arg20 : BitVec 32 := Scf.iv c0_i32_52 c1_i32_54 k0_t12
  let c8_i32_60 : BitVec 32 := 8#32
  let v67 : BitVec 32 := Scalar.muli arg20 c8_i32_60
  let v68 : BitVec 32 := Scalar.addi c96_i32 v67
  let c0_i32_61 : BitVec 32 := 0#32
  let v69 : BitVec 32 := Scalar.addi v68 c0_i32_61
  let v272 : Index := Scalar.indexCast v69
  ![4, v272.toNat]
def k0_off1191 (v268 : BitVec 32) (c0_i32_129 : BitVec 32) : Fin 2 → Nat :=
  let v286 : BitVec 32 := Scalar.addi v268 c0_i32_129
  let v287 : Index := Scalar.indexCast v286
  let c0_130 : Index := 0#32
  ![v287.toNat, 0]

def k0_chk262 (v268 : BitVec 32) : Prop :=
  (∀ a, (k0_off1189 v268) a + S1x128.size a ≤ S102432x128.size a) ∧
  (∀ (r : Fin 3), ∀ a, (k0_off1191 v268 (BitVec.ofNat 32 (8 * r.val))) a + S8x128.size a ≤ S102432x128.size a)
theorem k0_off1189_inb : ∀ (v268 : BitVec 32) (k0_hw262 : k0_chk262 v268), ∀ a, (k0_off1189 v268) a + S1x128.size a ≤ S102432x128.size a := fun v268 k0_hw262 => k0_hw262.1
theorem k0_off1191_inb : ∀ (v268 : BitVec 32) (k0_hw262 : k0_chk262 v268), ∀ (r : Fin 3), ∀ a, (k0_off1191 v268 (BitVec.ofNat 32 (8 * r.val))) a + S8x128.size a ≤ S102432x128.size a := fun v268 k0_hw262 r => k0_hw262.2 r

def k0_off1192 (k0_t12 : Fin k0_t12_loop.trips) : Fin 2 → Nat :=
  let c5 : Index := 5#32
  let c96_i32 : BitVec 32 := 96#32
  let c0_i32_52 : BitVec 32 := 0#32
  let c1_i32_54 : BitVec 32 := 1#32
  let arg20 : BitVec 32 := Scf.iv c0_i32_52 c1_i32_54 k0_t12
  let c8_i32_60 : BitVec 32 := 8#32
  let v67 : BitVec 32 := Scalar.muli arg20 c8_i32_60
  let v68 : BitVec 32 := Scalar.addi c96_i32 v67
  let c0_i32_61 : BitVec 32 := 0#32
  let v69 : BitVec 32 := Scalar.addi v68 c0_i32_61
  let v317 : Index := Scalar.indexCast v69
  ![5, v317.toNat]
def k0_off1193 (v318 : BitVec 32) : Fin 2 → Nat :=
  let c24_i32_139 : BitVec 32 := 24#32
  let v319 : BitVec 32 := Scalar.addi v318 c24_i32_139
  let v320 : Index := Scalar.indexCast v319
  let c0_140 : Index := 0#32
  ![v320.toNat, 0]

def k0_off1194 (k0_t12 : Fin k0_t12_loop.trips) : Fin 2 → Nat :=
  let c5_141 : Index := 5#32
  let c96_i32 : BitVec 32 := 96#32
  let c0_i32_52 : BitVec 32 := 0#32
  let c1_i32_54 : BitVec 32 := 1#32
  let arg20 : BitVec 32 := Scf.iv c0_i32_52 c1_i32_54 k0_t12
  let c8_i32_60 : BitVec 32 := 8#32
  let v67 : BitVec 32 := Scalar.muli arg20 c8_i32_60
  let v68 : BitVec 32 := Scalar.addi c96_i32 v67
  let c0_i32_61 : BitVec 32 := 0#32
  let v69 : BitVec 32 := Scalar.addi v68 c0_i32_61
  let v322 : Index := Scalar.indexCast v69
  ![5, v322.toNat]
def k0_off1195 (v318 : BitVec 32) (c0_i32_144 : BitVec 32) : Fin 2 → Nat :=
  let v336 : BitVec 32 := Scalar.addi v318 c0_i32_144
  let v337 : Index := Scalar.indexCast v336
  let c0_145 : Index := 0#32
  ![v337.toNat, 0]

def k0_chk263 (v318 : BitVec 32) : Prop :=
  (∀ a, (k0_off1193 v318) a + S1x128.size a ≤ S102432x128.size a) ∧
  (∀ (r : Fin 3), ∀ a, (k0_off1195 v318 (BitVec.ofNat 32 (8 * r.val))) a + S8x128.size a ≤ S102432x128.size a)
theorem k0_off1193_inb : ∀ (v318 : BitVec 32) (k0_hw263 : k0_chk263 v318), ∀ a, (k0_off1193 v318) a + S1x128.size a ≤ S102432x128.size a := fun v318 k0_hw263 => k0_hw263.1
theorem k0_off1195_inb : ∀ (v318 : BitVec 32) (k0_hw263 : k0_chk263 v318), ∀ (r : Fin 3), ∀ a, (k0_off1195 v318 (BitVec.ofNat 32 (8 * r.val))) a + S8x128.size a ≤ S102432x128.size a := fun v318 k0_hw263 r => k0_hw263.2 r

def k0_off1196 (k0_t12 : Fin k0_t12_loop.trips) : Fin 2 → Nat :=
  let c6 : Index := 6#32
  let c96_i32 : BitVec 32 := 96#32
  let c0_i32_52 : BitVec 32 := 0#32
  let c1_i32_54 : BitVec 32 := 1#32
  let arg20 : BitVec 32 := Scf.iv c0_i32_52 c1_i32_54 k0_t12
  let c8_i32_60 : BitVec 32 := 8#32
  let v67 : BitVec 32 := Scalar.muli arg20 c8_i32_60
  let v68 : BitVec 32 := Scalar.addi c96_i32 v67
  let c0_i32_61 : BitVec 32 := 0#32
  let v69 : BitVec 32 := Scalar.addi v68 c0_i32_61
  let v367 : Index := Scalar.indexCast v69
  ![6, v367.toNat]
def k0_off1197 (v368 : BitVec 32) : Fin 2 → Nat :=
  let c24_i32_154 : BitVec 32 := 24#32
  let v369 : BitVec 32 := Scalar.addi v368 c24_i32_154
  let v370 : Index := Scalar.indexCast v369
  let c0_155 : Index := 0#32
  ![v370.toNat, 0]

def k0_off1198 (k0_t12 : Fin k0_t12_loop.trips) : Fin 2 → Nat :=
  let c6_156 : Index := 6#32
  let c96_i32 : BitVec 32 := 96#32
  let c0_i32_52 : BitVec 32 := 0#32
  let c1_i32_54 : BitVec 32 := 1#32
  let arg20 : BitVec 32 := Scf.iv c0_i32_52 c1_i32_54 k0_t12
  let c8_i32_60 : BitVec 32 := 8#32
  let v67 : BitVec 32 := Scalar.muli arg20 c8_i32_60
  let v68 : BitVec 32 := Scalar.addi c96_i32 v67
  let c0_i32_61 : BitVec 32 := 0#32
  let v69 : BitVec 32 := Scalar.addi v68 c0_i32_61
  let v372 : Index := Scalar.indexCast v69
  ![6, v372.toNat]
def k0_off1199 (v368 : BitVec 32) (c0_i32_159 : BitVec 32) : Fin 2 → Nat :=
  let v386 : BitVec 32 := Scalar.addi v368 c0_i32_159
  let v387 : Index := Scalar.indexCast v386
  let c0_160 : Index := 0#32
  ![v387.toNat, 0]

def k0_chk264 (v368 : BitVec 32) : Prop :=
  (∀ a, (k0_off1197 v368) a + S1x128.size a ≤ S102432x128.size a) ∧
  (∀ (r : Fin 3), ∀ a, (k0_off1199 v368 (BitVec.ofNat 32 (8 * r.val))) a + S8x128.size a ≤ S102432x128.size a)
theorem k0_off1197_inb : ∀ (v368 : BitVec 32) (k0_hw264 : k0_chk264 v368), ∀ a, (k0_off1197 v368) a + S1x128.size a ≤ S102432x128.size a := fun v368 k0_hw264 => k0_hw264.1
theorem k0_off1199_inb : ∀ (v368 : BitVec 32) (k0_hw264 : k0_chk264 v368), ∀ (r : Fin 3), ∀ a, (k0_off1199 v368 (BitVec.ofNat 32 (8 * r.val))) a + S8x128.size a ≤ S102432x128.size a := fun v368 k0_hw264 r => k0_hw264.2 r

def k0_off1200 (k0_t12 : Fin k0_t12_loop.trips) : Fin 2 → Nat :=
  let c7 : Index := 7#32
  let c96_i32 : BitVec 32 := 96#32
  let c0_i32_52 : BitVec 32 := 0#32
  let c1_i32_54 : BitVec 32 := 1#32
  let arg20 : BitVec 32 := Scf.iv c0_i32_52 c1_i32_54 k0_t12
  let c8_i32_60 : BitVec 32 := 8#32
  let v67 : BitVec 32 := Scalar.muli arg20 c8_i32_60
  let v68 : BitVec 32 := Scalar.addi c96_i32 v67
  let c0_i32_61 : BitVec 32 := 0#32
  let v69 : BitVec 32 := Scalar.addi v68 c0_i32_61
  let v417 : Index := Scalar.indexCast v69
  ![7, v417.toNat]
def k0_off1201 (v418 : BitVec 32) : Fin 2 → Nat :=
  let c24_i32_169 : BitVec 32 := 24#32
  let v419 : BitVec 32 := Scalar.addi v418 c24_i32_169
  let v420 : Index := Scalar.indexCast v419
  let c0_170 : Index := 0#32
  ![v420.toNat, 0]

def k0_off1202 (k0_t12 : Fin k0_t12_loop.trips) : Fin 2 → Nat :=
  let c7_171 : Index := 7#32
  let c96_i32 : BitVec 32 := 96#32
  let c0_i32_52 : BitVec 32 := 0#32
  let c1_i32_54 : BitVec 32 := 1#32
  let arg20 : BitVec 32 := Scf.iv c0_i32_52 c1_i32_54 k0_t12
  let c8_i32_60 : BitVec 32 := 8#32
  let v67 : BitVec 32 := Scalar.muli arg20 c8_i32_60
  let v68 : BitVec 32 := Scalar.addi c96_i32 v67
  let c0_i32_61 : BitVec 32 := 0#32
  let v69 : BitVec 32 := Scalar.addi v68 c0_i32_61
  let v422 : Index := Scalar.indexCast v69
  ![7, v422.toNat]
def k0_off1203 (v418 : BitVec 32) (c0_i32_174 : BitVec 32) : Fin 2 → Nat :=
  let v436 : BitVec 32 := Scalar.addi v418 c0_i32_174
  let v437 : Index := Scalar.indexCast v436
  let c0_175 : Index := 0#32
  ![v437.toNat, 0]

def k0_chk265 (v418 : BitVec 32) : Prop :=
  (∀ a, (k0_off1201 v418) a + S1x128.size a ≤ S102432x128.size a) ∧
  (∀ (r : Fin 3), ∀ a, (k0_off1203 v418 (BitVec.ofNat 32 (8 * r.val))) a + S8x128.size a ≤ S102432x128.size a)
theorem k0_off1201_inb : ∀ (v418 : BitVec 32) (k0_hw265 : k0_chk265 v418), ∀ a, (k0_off1201 v418) a + S1x128.size a ≤ S102432x128.size a := fun v418 k0_hw265 => k0_hw265.1
theorem k0_off1203_inb : ∀ (v418 : BitVec 32) (k0_hw265 : k0_chk265 v418), ∀ (r : Fin 3), ∀ a, (k0_off1203 v418 (BitVec.ofNat 32 (8 * r.val))) a + S8x128.size a ≤ S102432x128.size a := fun v418 k0_hw265 r => k0_hw265.2 r

def k0_off1204 (k0_t12 : Fin k0_t12_loop.trips) (c0_i32_184 : BitVec 32) : Fin 2 → Nat :=
  let c96_i32 : BitVec 32 := 96#32
  let c0_i32_52 : BitVec 32 := 0#32
  let c1_i32_54 : BitVec 32 := 1#32
  let arg20 : BitVec 32 := Scf.iv c0_i32_52 c1_i32_54 k0_t12
  let c8_i32_60 : BitVec 32 := 8#32
  let v67 : BitVec 32 := Scalar.muli arg20 c8_i32_60
  let v68 : BitVec 32 := Scalar.addi c96_i32 v67
  let c0_i32_61 : BitVec 32 := 0#32
  let v69 : BitVec 32 := Scalar.addi v68 c0_i32_61
  let c25_i32 : BitVec 32 := 25#32
  let v467 : BitVec 32 := Scalar.muli v69 c25_i32
  let v468 : BitVec 32 := Scalar.addi v467 c0_i32_184
  let v469 : Index := Scalar.indexCast v468
  let c0_185 : Index := 0#32
  ![v469.toNat, 0]
def k0_off1205 (k0_t12 : Fin k0_t12_loop.trips) : Fin 2 → Nat :=
  let c0_195 : Index := 0#32
  let c96_i32_193 : BitVec 32 := 96#32
  let c0_i32_52 : BitVec 32 := 0#32
  let c1_i32_54 : BitVec 32 := 1#32
  let arg20 : BitVec 32 := Scf.iv c0_i32_52 c1_i32_54 k0_t12
  let c8_i32_192 : BitVec 32 := 8#32
  let v485 : BitVec 32 := Scalar.muli arg20 c8_i32_192
  let v486 : BitVec 32 := Scalar.addi c96_i32_193 v485
  let c1_i32_194 : BitVec 32 := 1#32
  let v487 : BitVec 32 := Scalar.addi v486 c1_i32_194
  let v488 : Index := Scalar.indexCast v487
  ![0, v488.toNat]
def k0_off1206 (v489 : BitVec 32) : Fin 2 → Nat :=
  let c24_i32_196 : BitVec 32 := 24#32
  let v490 : BitVec 32 := Scalar.addi v489 c24_i32_196
  let v491 : Index := Scalar.indexCast v490
  let c0_197 : Index := 0#32
  ![v491.toNat, 0]

def k0_off1207 (k0_t12 : Fin k0_t12_loop.trips) : Fin 2 → Nat :=
  let c0_198 : Index := 0#32
  let c96_i32_193 : BitVec 32 := 96#32
  let c0_i32_52 : BitVec 32 := 0#32
  let c1_i32_54 : BitVec 32 := 1#32
  let arg20 : BitVec 32 := Scf.iv c0_i32_52 c1_i32_54 k0_t12
  let c8_i32_192 : BitVec 32 := 8#32
  let v485 : BitVec 32 := Scalar.muli arg20 c8_i32_192
  let v486 : BitVec 32 := Scalar.addi c96_i32_193 v485
  let c1_i32_194 : BitVec 32 := 1#32
  let v487 : BitVec 32 := Scalar.addi v486 c1_i32_194
  let v493 : Index := Scalar.indexCast v487
  ![0, v493.toNat]
def k0_off1208 (v489 : BitVec 32) (c0_i32_201 : BitVec 32) : Fin 2 → Nat :=
  let v507 : BitVec 32 := Scalar.addi v489 c0_i32_201
  let v508 : Index := Scalar.indexCast v507
  let c0_202 : Index := 0#32
  ![v508.toNat, 0]

def k0_chk266 (v489 : BitVec 32) : Prop :=
  (∀ a, (k0_off1206 v489) a + S1x128.size a ≤ S102432x128.size a) ∧
  (∀ (r : Fin 3), ∀ a, (k0_off1208 v489 (BitVec.ofNat 32 (8 * r.val))) a + S8x128.size a ≤ S102432x128.size a)
theorem k0_off1206_inb : ∀ (v489 : BitVec 32) (k0_hw266 : k0_chk266 v489), ∀ a, (k0_off1206 v489) a + S1x128.size a ≤ S102432x128.size a := fun v489 k0_hw266 => k0_hw266.1
theorem k0_off1208_inb : ∀ (v489 : BitVec 32) (k0_hw266 : k0_chk266 v489), ∀ (r : Fin 3), ∀ a, (k0_off1208 v489 (BitVec.ofNat 32 (8 * r.val))) a + S8x128.size a ≤ S102432x128.size a := fun v489 k0_hw266 r => k0_hw266.2 r

def k0_off1209 (k0_t12 : Fin k0_t12_loop.trips) : Fin 2 → Nat :=
  let c1_211 : Index := 1#32
  let c96_i32_193 : BitVec 32 := 96#32
  let c0_i32_52 : BitVec 32 := 0#32
  let c1_i32_54 : BitVec 32 := 1#32
  let arg20 : BitVec 32 := Scf.iv c0_i32_52 c1_i32_54 k0_t12
  let c8_i32_192 : BitVec 32 := 8#32
  let v485 : BitVec 32 := Scalar.muli arg20 c8_i32_192
  let v486 : BitVec 32 := Scalar.addi c96_i32_193 v485
  let c1_i32_194 : BitVec 32 := 1#32
  let v487 : BitVec 32 := Scalar.addi v486 c1_i32_194
  let v535 : Index := Scalar.indexCast v487
  ![1, v535.toNat]
def k0_off1210 (v536 : BitVec 32) : Fin 2 → Nat :=
  let c24_i32_212 : BitVec 32 := 24#32
  let v537 : BitVec 32 := Scalar.addi v536 c24_i32_212
  let v538 : Index := Scalar.indexCast v537
  let c0_213 : Index := 0#32
  ![v538.toNat, 0]

def k0_off1211 (k0_t12 : Fin k0_t12_loop.trips) : Fin 2 → Nat :=
  let c1_214 : Index := 1#32
  let c96_i32_193 : BitVec 32 := 96#32
  let c0_i32_52 : BitVec 32 := 0#32
  let c1_i32_54 : BitVec 32 := 1#32
  let arg20 : BitVec 32 := Scf.iv c0_i32_52 c1_i32_54 k0_t12
  let c8_i32_192 : BitVec 32 := 8#32
  let v485 : BitVec 32 := Scalar.muli arg20 c8_i32_192
  let v486 : BitVec 32 := Scalar.addi c96_i32_193 v485
  let c1_i32_194 : BitVec 32 := 1#32
  let v487 : BitVec 32 := Scalar.addi v486 c1_i32_194
  let v540 : Index := Scalar.indexCast v487
  ![1, v540.toNat]
def k0_off1212 (v536 : BitVec 32) (c0_i32_217 : BitVec 32) : Fin 2 → Nat :=
  let v554 : BitVec 32 := Scalar.addi v536 c0_i32_217
  let v555 : Index := Scalar.indexCast v554
  let c0_218 : Index := 0#32
  ![v555.toNat, 0]

def k0_chk267 (v536 : BitVec 32) : Prop :=
  (∀ a, (k0_off1210 v536) a + S1x128.size a ≤ S102432x128.size a) ∧
  (∀ (r : Fin 3), ∀ a, (k0_off1212 v536 (BitVec.ofNat 32 (8 * r.val))) a + S8x128.size a ≤ S102432x128.size a)
theorem k0_off1210_inb : ∀ (v536 : BitVec 32) (k0_hw267 : k0_chk267 v536), ∀ a, (k0_off1210 v536) a + S1x128.size a ≤ S102432x128.size a := fun v536 k0_hw267 => k0_hw267.1
theorem k0_off1212_inb : ∀ (v536 : BitVec 32) (k0_hw267 : k0_chk267 v536), ∀ (r : Fin 3), ∀ a, (k0_off1212 v536 (BitVec.ofNat 32 (8 * r.val))) a + S8x128.size a ≤ S102432x128.size a := fun v536 k0_hw267 r => k0_hw267.2 r

def k0_off1213 (k0_t12 : Fin k0_t12_loop.trips) : Fin 2 → Nat :=
  let c2_227 : Index := 2#32
  let c96_i32_193 : BitVec 32 := 96#32
  let c0_i32_52 : BitVec 32 := 0#32
  let c1_i32_54 : BitVec 32 := 1#32
  let arg20 : BitVec 32 := Scf.iv c0_i32_52 c1_i32_54 k0_t12
  let c8_i32_192 : BitVec 32 := 8#32
  let v485 : BitVec 32 := Scalar.muli arg20 c8_i32_192
  let v486 : BitVec 32 := Scalar.addi c96_i32_193 v485
  let c1_i32_194 : BitVec 32 := 1#32
  let v487 : BitVec 32 := Scalar.addi v486 c1_i32_194
  let v585 : Index := Scalar.indexCast v487
  ![2, v585.toNat]
def k0_off1214 (v586 : BitVec 32) : Fin 2 → Nat :=
  let c24_i32_228 : BitVec 32 := 24#32
  let v587 : BitVec 32 := Scalar.addi v586 c24_i32_228
  let v588 : Index := Scalar.indexCast v587
  let c0_229 : Index := 0#32
  ![v588.toNat, 0]

def k0_off1215 (k0_t12 : Fin k0_t12_loop.trips) : Fin 2 → Nat :=
  let c2_230 : Index := 2#32
  let c96_i32_193 : BitVec 32 := 96#32
  let c0_i32_52 : BitVec 32 := 0#32
  let c1_i32_54 : BitVec 32 := 1#32
  let arg20 : BitVec 32 := Scf.iv c0_i32_52 c1_i32_54 k0_t12
  let c8_i32_192 : BitVec 32 := 8#32
  let v485 : BitVec 32 := Scalar.muli arg20 c8_i32_192
  let v486 : BitVec 32 := Scalar.addi c96_i32_193 v485
  let c1_i32_194 : BitVec 32 := 1#32
  let v487 : BitVec 32 := Scalar.addi v486 c1_i32_194
  let v590 : Index := Scalar.indexCast v487
  ![2, v590.toNat]
def k0_off1216 (v586 : BitVec 32) (c0_i32_233 : BitVec 32) : Fin 2 → Nat :=
  let v604 : BitVec 32 := Scalar.addi v586 c0_i32_233
  let v605 : Index := Scalar.indexCast v604
  let c0_234 : Index := 0#32
  ![v605.toNat, 0]

def k0_chk268 (v586 : BitVec 32) : Prop :=
  (∀ a, (k0_off1214 v586) a + S1x128.size a ≤ S102432x128.size a) ∧
  (∀ (r : Fin 3), ∀ a, (k0_off1216 v586 (BitVec.ofNat 32 (8 * r.val))) a + S8x128.size a ≤ S102432x128.size a)
theorem k0_off1214_inb : ∀ (v586 : BitVec 32) (k0_hw268 : k0_chk268 v586), ∀ a, (k0_off1214 v586) a + S1x128.size a ≤ S102432x128.size a := fun v586 k0_hw268 => k0_hw268.1
theorem k0_off1216_inb : ∀ (v586 : BitVec 32) (k0_hw268 : k0_chk268 v586), ∀ (r : Fin 3), ∀ a, (k0_off1216 v586 (BitVec.ofNat 32 (8 * r.val))) a + S8x128.size a ≤ S102432x128.size a := fun v586 k0_hw268 r => k0_hw268.2 r

def k0_off1217 (k0_t12 : Fin k0_t12_loop.trips) : Fin 2 → Nat :=
  let c3_243 : Index := 3#32
  let c96_i32_193 : BitVec 32 := 96#32
  let c0_i32_52 : BitVec 32 := 0#32
  let c1_i32_54 : BitVec 32 := 1#32
  let arg20 : BitVec 32 := Scf.iv c0_i32_52 c1_i32_54 k0_t12
  let c8_i32_192 : BitVec 32 := 8#32
  let v485 : BitVec 32 := Scalar.muli arg20 c8_i32_192
  let v486 : BitVec 32 := Scalar.addi c96_i32_193 v485
  let c1_i32_194 : BitVec 32 := 1#32
  let v487 : BitVec 32 := Scalar.addi v486 c1_i32_194
  let v635 : Index := Scalar.indexCast v487
  ![3, v635.toNat]
def k0_off1218 (v636 : BitVec 32) : Fin 2 → Nat :=
  let c24_i32_244 : BitVec 32 := 24#32
  let v637 : BitVec 32 := Scalar.addi v636 c24_i32_244
  let v638 : Index := Scalar.indexCast v637
  let c0_245 : Index := 0#32
  ![v638.toNat, 0]

def k0_off1219 (k0_t12 : Fin k0_t12_loop.trips) : Fin 2 → Nat :=
  let c3_246 : Index := 3#32
  let c96_i32_193 : BitVec 32 := 96#32
  let c0_i32_52 : BitVec 32 := 0#32
  let c1_i32_54 : BitVec 32 := 1#32
  let arg20 : BitVec 32 := Scf.iv c0_i32_52 c1_i32_54 k0_t12
  let c8_i32_192 : BitVec 32 := 8#32
  let v485 : BitVec 32 := Scalar.muli arg20 c8_i32_192
  let v486 : BitVec 32 := Scalar.addi c96_i32_193 v485
  let c1_i32_194 : BitVec 32 := 1#32
  let v487 : BitVec 32 := Scalar.addi v486 c1_i32_194
  let v640 : Index := Scalar.indexCast v487
  ![3, v640.toNat]
def k0_off1220 (v636 : BitVec 32) (c0_i32_249 : BitVec 32) : Fin 2 → Nat :=
  let v654 : BitVec 32 := Scalar.addi v636 c0_i32_249
  let v655 : Index := Scalar.indexCast v654
  let c0_250 : Index := 0#32
  ![v655.toNat, 0]

def k0_chk269 (v636 : BitVec 32) : Prop :=
  (∀ a, (k0_off1218 v636) a + S1x128.size a ≤ S102432x128.size a) ∧
  (∀ (r : Fin 3), ∀ a, (k0_off1220 v636 (BitVec.ofNat 32 (8 * r.val))) a + S8x128.size a ≤ S102432x128.size a)
theorem k0_off1218_inb : ∀ (v636 : BitVec 32) (k0_hw269 : k0_chk269 v636), ∀ a, (k0_off1218 v636) a + S1x128.size a ≤ S102432x128.size a := fun v636 k0_hw269 => k0_hw269.1
theorem k0_off1220_inb : ∀ (v636 : BitVec 32) (k0_hw269 : k0_chk269 v636), ∀ (r : Fin 3), ∀ a, (k0_off1220 v636 (BitVec.ofNat 32 (8 * r.val))) a + S8x128.size a ≤ S102432x128.size a := fun v636 k0_hw269 r => k0_hw269.2 r

def k0_off1221 (k0_t12 : Fin k0_t12_loop.trips) : Fin 2 → Nat :=
  let c4_259 : Index := 4#32
  let c96_i32_193 : BitVec 32 := 96#32
  let c0_i32_52 : BitVec 32 := 0#32
  let c1_i32_54 : BitVec 32 := 1#32
  let arg20 : BitVec 32 := Scf.iv c0_i32_52 c1_i32_54 k0_t12
  let c8_i32_192 : BitVec 32 := 8#32
  let v485 : BitVec 32 := Scalar.muli arg20 c8_i32_192
  let v486 : BitVec 32 := Scalar.addi c96_i32_193 v485
  let c1_i32_194 : BitVec 32 := 1#32
  let v487 : BitVec 32 := Scalar.addi v486 c1_i32_194
  let v685 : Index := Scalar.indexCast v487
  ![4, v685.toNat]
def k0_off1222 (v686 : BitVec 32) : Fin 2 → Nat :=
  let c24_i32_260 : BitVec 32 := 24#32
  let v687 : BitVec 32 := Scalar.addi v686 c24_i32_260
  let v688 : Index := Scalar.indexCast v687
  let c0_261 : Index := 0#32
  ![v688.toNat, 0]

def k0_off1223 (k0_t12 : Fin k0_t12_loop.trips) : Fin 2 → Nat :=
  let c4_262 : Index := 4#32
  let c96_i32_193 : BitVec 32 := 96#32
  let c0_i32_52 : BitVec 32 := 0#32
  let c1_i32_54 : BitVec 32 := 1#32
  let arg20 : BitVec 32 := Scf.iv c0_i32_52 c1_i32_54 k0_t12
  let c8_i32_192 : BitVec 32 := 8#32
  let v485 : BitVec 32 := Scalar.muli arg20 c8_i32_192
  let v486 : BitVec 32 := Scalar.addi c96_i32_193 v485
  let c1_i32_194 : BitVec 32 := 1#32
  let v487 : BitVec 32 := Scalar.addi v486 c1_i32_194
  let v690 : Index := Scalar.indexCast v487
  ![4, v690.toNat]
def k0_off1224 (v686 : BitVec 32) (c0_i32_265 : BitVec 32) : Fin 2 → Nat :=
  let v704 : BitVec 32 := Scalar.addi v686 c0_i32_265
  let v705 : Index := Scalar.indexCast v704
  let c0_266 : Index := 0#32
  ![v705.toNat, 0]

def k0_chk270 (v686 : BitVec 32) : Prop :=
  (∀ a, (k0_off1222 v686) a + S1x128.size a ≤ S102432x128.size a) ∧
  (∀ (r : Fin 3), ∀ a, (k0_off1224 v686 (BitVec.ofNat 32 (8 * r.val))) a + S8x128.size a ≤ S102432x128.size a)
theorem k0_off1222_inb : ∀ (v686 : BitVec 32) (k0_hw270 : k0_chk270 v686), ∀ a, (k0_off1222 v686) a + S1x128.size a ≤ S102432x128.size a := fun v686 k0_hw270 => k0_hw270.1
theorem k0_off1224_inb : ∀ (v686 : BitVec 32) (k0_hw270 : k0_chk270 v686), ∀ (r : Fin 3), ∀ a, (k0_off1224 v686 (BitVec.ofNat 32 (8 * r.val))) a + S8x128.size a ≤ S102432x128.size a := fun v686 k0_hw270 r => k0_hw270.2 r

def k0_off1225 (k0_t12 : Fin k0_t12_loop.trips) : Fin 2 → Nat :=
  let c5_275 : Index := 5#32
  let c96_i32_193 : BitVec 32 := 96#32
  let c0_i32_52 : BitVec 32 := 0#32
  let c1_i32_54 : BitVec 32 := 1#32
  let arg20 : BitVec 32 := Scf.iv c0_i32_52 c1_i32_54 k0_t12
  let c8_i32_192 : BitVec 32 := 8#32
  let v485 : BitVec 32 := Scalar.muli arg20 c8_i32_192
  let v486 : BitVec 32 := Scalar.addi c96_i32_193 v485
  let c1_i32_194 : BitVec 32 := 1#32
  let v487 : BitVec 32 := Scalar.addi v486 c1_i32_194
  let v735 : Index := Scalar.indexCast v487
  ![5, v735.toNat]
def k0_off1226 (v736 : BitVec 32) : Fin 2 → Nat :=
  let c24_i32_276 : BitVec 32 := 24#32
  let v737 : BitVec 32 := Scalar.addi v736 c24_i32_276
  let v738 : Index := Scalar.indexCast v737
  let c0_277 : Index := 0#32
  ![v738.toNat, 0]

def k0_off1227 (k0_t12 : Fin k0_t12_loop.trips) : Fin 2 → Nat :=
  let c5_278 : Index := 5#32
  let c96_i32_193 : BitVec 32 := 96#32
  let c0_i32_52 : BitVec 32 := 0#32
  let c1_i32_54 : BitVec 32 := 1#32
  let arg20 : BitVec 32 := Scf.iv c0_i32_52 c1_i32_54 k0_t12
  let c8_i32_192 : BitVec 32 := 8#32
  let v485 : BitVec 32 := Scalar.muli arg20 c8_i32_192
  let v486 : BitVec 32 := Scalar.addi c96_i32_193 v485
  let c1_i32_194 : BitVec 32 := 1#32
  let v487 : BitVec 32 := Scalar.addi v486 c1_i32_194
  let v740 : Index := Scalar.indexCast v487
  ![5, v740.toNat]
def k0_off1228 (v736 : BitVec 32) (c0_i32_281 : BitVec 32) : Fin 2 → Nat :=
  let v754 : BitVec 32 := Scalar.addi v736 c0_i32_281
  let v755 : Index := Scalar.indexCast v754
  let c0_282 : Index := 0#32
  ![v755.toNat, 0]

def k0_chk271 (v736 : BitVec 32) : Prop :=
  (∀ a, (k0_off1226 v736) a + S1x128.size a ≤ S102432x128.size a) ∧
  (∀ (r : Fin 3), ∀ a, (k0_off1228 v736 (BitVec.ofNat 32 (8 * r.val))) a + S8x128.size a ≤ S102432x128.size a)
theorem k0_off1226_inb : ∀ (v736 : BitVec 32) (k0_hw271 : k0_chk271 v736), ∀ a, (k0_off1226 v736) a + S1x128.size a ≤ S102432x128.size a := fun v736 k0_hw271 => k0_hw271.1
theorem k0_off1228_inb : ∀ (v736 : BitVec 32) (k0_hw271 : k0_chk271 v736), ∀ (r : Fin 3), ∀ a, (k0_off1228 v736 (BitVec.ofNat 32 (8 * r.val))) a + S8x128.size a ≤ S102432x128.size a := fun v736 k0_hw271 r => k0_hw271.2 r

def k0_off1229 (k0_t12 : Fin k0_t12_loop.trips) : Fin 2 → Nat :=
  let c6_291 : Index := 6#32
  let c96_i32_193 : BitVec 32 := 96#32
  let c0_i32_52 : BitVec 32 := 0#32
  let c1_i32_54 : BitVec 32 := 1#32
  let arg20 : BitVec 32 := Scf.iv c0_i32_52 c1_i32_54 k0_t12
  let c8_i32_192 : BitVec 32 := 8#32
  let v485 : BitVec 32 := Scalar.muli arg20 c8_i32_192
  let v486 : BitVec 32 := Scalar.addi c96_i32_193 v485
  let c1_i32_194 : BitVec 32 := 1#32
  let v487 : BitVec 32 := Scalar.addi v486 c1_i32_194
  let v785 : Index := Scalar.indexCast v487
  ![6, v785.toNat]
def k0_off1230 (v786 : BitVec 32) : Fin 2 → Nat :=
  let c24_i32_292 : BitVec 32 := 24#32
  let v787 : BitVec 32 := Scalar.addi v786 c24_i32_292
  let v788 : Index := Scalar.indexCast v787
  let c0_293 : Index := 0#32
  ![v788.toNat, 0]

def k0_off1231 (k0_t12 : Fin k0_t12_loop.trips) : Fin 2 → Nat :=
  let c6_294 : Index := 6#32
  let c96_i32_193 : BitVec 32 := 96#32
  let c0_i32_52 : BitVec 32 := 0#32
  let c1_i32_54 : BitVec 32 := 1#32
  let arg20 : BitVec 32 := Scf.iv c0_i32_52 c1_i32_54 k0_t12
  let c8_i32_192 : BitVec 32 := 8#32
  let v485 : BitVec 32 := Scalar.muli arg20 c8_i32_192
  let v486 : BitVec 32 := Scalar.addi c96_i32_193 v485
  let c1_i32_194 : BitVec 32 := 1#32
  let v487 : BitVec 32 := Scalar.addi v486 c1_i32_194
  let v790 : Index := Scalar.indexCast v487
  ![6, v790.toNat]
def k0_off1232 (v786 : BitVec 32) (c0_i32_297 : BitVec 32) : Fin 2 → Nat :=
  let v804 : BitVec 32 := Scalar.addi v786 c0_i32_297
  let v805 : Index := Scalar.indexCast v804
  let c0_298 : Index := 0#32
  ![v805.toNat, 0]

def k0_chk272 (v786 : BitVec 32) : Prop :=
  (∀ a, (k0_off1230 v786) a + S1x128.size a ≤ S102432x128.size a) ∧
  (∀ (r : Fin 3), ∀ a, (k0_off1232 v786 (BitVec.ofNat 32 (8 * r.val))) a + S8x128.size a ≤ S102432x128.size a)
theorem k0_off1230_inb : ∀ (v786 : BitVec 32) (k0_hw272 : k0_chk272 v786), ∀ a, (k0_off1230 v786) a + S1x128.size a ≤ S102432x128.size a := fun v786 k0_hw272 => k0_hw272.1
theorem k0_off1232_inb : ∀ (v786 : BitVec 32) (k0_hw272 : k0_chk272 v786), ∀ (r : Fin 3), ∀ a, (k0_off1232 v786 (BitVec.ofNat 32 (8 * r.val))) a + S8x128.size a ≤ S102432x128.size a := fun v786 k0_hw272 r => k0_hw272.2 r

def k0_off1233 (k0_t12 : Fin k0_t12_loop.trips) : Fin 2 → Nat :=
  let c7_307 : Index := 7#32
  let c96_i32_193 : BitVec 32 := 96#32
  let c0_i32_52 : BitVec 32 := 0#32
  let c1_i32_54 : BitVec 32 := 1#32
  let arg20 : BitVec 32 := Scf.iv c0_i32_52 c1_i32_54 k0_t12
  let c8_i32_192 : BitVec 32 := 8#32
  let v485 : BitVec 32 := Scalar.muli arg20 c8_i32_192
  let v486 : BitVec 32 := Scalar.addi c96_i32_193 v485
  let c1_i32_194 : BitVec 32 := 1#32
  let v487 : BitVec 32 := Scalar.addi v486 c1_i32_194
  let v835 : Index := Scalar.indexCast v487
  ![7, v835.toNat]
def k0_off1234 (v836 : BitVec 32) : Fin 2 → Nat :=
  let c24_i32_308 : BitVec 32 := 24#32
  let v837 : BitVec 32 := Scalar.addi v836 c24_i32_308
  let v838 : Index := Scalar.indexCast v837
  let c0_309 : Index := 0#32
  ![v838.toNat, 0]

def k0_off1235 (k0_t12 : Fin k0_t12_loop.trips) : Fin 2 → Nat :=
  let c7_310 : Index := 7#32
  let c96_i32_193 : BitVec 32 := 96#32
  let c0_i32_52 : BitVec 32 := 0#32
  let c1_i32_54 : BitVec 32 := 1#32
  let arg20 : BitVec 32 := Scf.iv c0_i32_52 c1_i32_54 k0_t12
  let c8_i32_192 : BitVec 32 := 8#32
  let v485 : BitVec 32 := Scalar.muli arg20 c8_i32_192
  let v486 : BitVec 32 := Scalar.addi c96_i32_193 v485
  let c1_i32_194 : BitVec 32 := 1#32
  let v487 : BitVec 32 := Scalar.addi v486 c1_i32_194
  let v840 : Index := Scalar.indexCast v487
  ![7, v840.toNat]
def k0_off1236 (v836 : BitVec 32) (c0_i32_313 : BitVec 32) : Fin 2 → Nat :=
  let v854 : BitVec 32 := Scalar.addi v836 c0_i32_313
  let v855 : Index := Scalar.indexCast v854
  let c0_314 : Index := 0#32
  ![v855.toNat, 0]

def k0_chk273 (v836 : BitVec 32) : Prop :=
  (∀ a, (k0_off1234 v836) a + S1x128.size a ≤ S102432x128.size a) ∧
  (∀ (r : Fin 3), ∀ a, (k0_off1236 v836 (BitVec.ofNat 32 (8 * r.val))) a + S8x128.size a ≤ S102432x128.size a)
theorem k0_off1234_inb : ∀ (v836 : BitVec 32) (k0_hw273 : k0_chk273 v836), ∀ a, (k0_off1234 v836) a + S1x128.size a ≤ S102432x128.size a := fun v836 k0_hw273 => k0_hw273.1
theorem k0_off1236_inb : ∀ (v836 : BitVec 32) (k0_hw273 : k0_chk273 v836), ∀ (r : Fin 3), ∀ a, (k0_off1236 v836 (BitVec.ofNat 32 (8 * r.val))) a + S8x128.size a ≤ S102432x128.size a := fun v836 k0_hw273 r => k0_hw273.2 r

def k0_off1237 (k0_t12 : Fin k0_t12_loop.trips) (c0_i32_324 : BitVec 32) : Fin 2 → Nat :=
  let c96_i32_193 : BitVec 32 := 96#32
  let c0_i32_52 : BitVec 32 := 0#32
  let c1_i32_54 : BitVec 32 := 1#32
  let arg20 : BitVec 32 := Scf.iv c0_i32_52 c1_i32_54 k0_t12
  let c8_i32_192 : BitVec 32 := 8#32
  let v485 : BitVec 32 := Scalar.muli arg20 c8_i32_192
  let v486 : BitVec 32 := Scalar.addi c96_i32_193 v485
  let c1_i32_194 : BitVec 32 := 1#32
  let v487 : BitVec 32 := Scalar.addi v486 c1_i32_194
  let c25_i32_323 : BitVec 32 := 25#32
  let v885 : BitVec 32 := Scalar.muli v487 c25_i32_323
  let v886 : BitVec 32 := Scalar.addi v885 c0_i32_324
  let v887 : Index := Scalar.indexCast v886
  let c0_325 : Index := 0#32
  ![v887.toNat, 0]
def k0_off1238 (k0_t12 : Fin k0_t12_loop.trips) : Fin 2 → Nat :=
  let c0_334 : Index := 0#32
  let c96_i32_333 : BitVec 32 := 96#32
  let c0_i32_52 : BitVec 32 := 0#32
  let c1_i32_54 : BitVec 32 := 1#32
  let arg20 : BitVec 32 := Scf.iv c0_i32_52 c1_i32_54 k0_t12
  let c8_i32_332 : BitVec 32 := 8#32
  let v903 : BitVec 32 := Scalar.muli arg20 c8_i32_332
  let v904 : BitVec 32 := Scalar.addi c96_i32_333 v903
  let c2_i32 : BitVec 32 := 2#32
  let v905 : BitVec 32 := Scalar.addi v904 c2_i32
  let v906 : Index := Scalar.indexCast v905
  ![0, v906.toNat]
def k0_off1239 (v907 : BitVec 32) : Fin 2 → Nat :=
  let c24_i32_335 : BitVec 32 := 24#32
  let v908 : BitVec 32 := Scalar.addi v907 c24_i32_335
  let v909 : Index := Scalar.indexCast v908
  let c0_336 : Index := 0#32
  ![v909.toNat, 0]

def k0_off1240 (k0_t12 : Fin k0_t12_loop.trips) : Fin 2 → Nat :=
  let c0_337 : Index := 0#32
  let c96_i32_333 : BitVec 32 := 96#32
  let c0_i32_52 : BitVec 32 := 0#32
  let c1_i32_54 : BitVec 32 := 1#32
  let arg20 : BitVec 32 := Scf.iv c0_i32_52 c1_i32_54 k0_t12
  let c8_i32_332 : BitVec 32 := 8#32
  let v903 : BitVec 32 := Scalar.muli arg20 c8_i32_332
  let v904 : BitVec 32 := Scalar.addi c96_i32_333 v903
  let c2_i32 : BitVec 32 := 2#32
  let v905 : BitVec 32 := Scalar.addi v904 c2_i32
  let v911 : Index := Scalar.indexCast v905
  ![0, v911.toNat]
def k0_off1241 (v907 : BitVec 32) (c0_i32_340 : BitVec 32) : Fin 2 → Nat :=
  let v925 : BitVec 32 := Scalar.addi v907 c0_i32_340
  let v926 : Index := Scalar.indexCast v925
  let c0_341 : Index := 0#32
  ![v926.toNat, 0]

def k0_chk274 (v907 : BitVec 32) : Prop :=
  (∀ a, (k0_off1239 v907) a + S1x128.size a ≤ S102432x128.size a) ∧
  (∀ (r : Fin 3), ∀ a, (k0_off1241 v907 (BitVec.ofNat 32 (8 * r.val))) a + S8x128.size a ≤ S102432x128.size a)
theorem k0_off1239_inb : ∀ (v907 : BitVec 32) (k0_hw274 : k0_chk274 v907), ∀ a, (k0_off1239 v907) a + S1x128.size a ≤ S102432x128.size a := fun v907 k0_hw274 => k0_hw274.1
theorem k0_off1241_inb : ∀ (v907 : BitVec 32) (k0_hw274 : k0_chk274 v907), ∀ (r : Fin 3), ∀ a, (k0_off1241 v907 (BitVec.ofNat 32 (8 * r.val))) a + S8x128.size a ≤ S102432x128.size a := fun v907 k0_hw274 r => k0_hw274.2 r

def k0_off1242 (k0_t12 : Fin k0_t12_loop.trips) : Fin 2 → Nat :=
  let c1_350 : Index := 1#32
  let c96_i32_333 : BitVec 32 := 96#32
  let c0_i32_52 : BitVec 32 := 0#32
  let c1_i32_54 : BitVec 32 := 1#32
  let arg20 : BitVec 32 := Scf.iv c0_i32_52 c1_i32_54 k0_t12
  let c8_i32_332 : BitVec 32 := 8#32
  let v903 : BitVec 32 := Scalar.muli arg20 c8_i32_332
  let v904 : BitVec 32 := Scalar.addi c96_i32_333 v903
  let c2_i32 : BitVec 32 := 2#32
  let v905 : BitVec 32 := Scalar.addi v904 c2_i32
  let v953 : Index := Scalar.indexCast v905
  ![1, v953.toNat]
def k0_off1243 (v954 : BitVec 32) : Fin 2 → Nat :=
  let c24_i32_351 : BitVec 32 := 24#32
  let v955 : BitVec 32 := Scalar.addi v954 c24_i32_351
  let v956 : Index := Scalar.indexCast v955
  let c0_352 : Index := 0#32
  ![v956.toNat, 0]

def k0_off1244 (k0_t12 : Fin k0_t12_loop.trips) : Fin 2 → Nat :=
  let c1_353 : Index := 1#32
  let c96_i32_333 : BitVec 32 := 96#32
  let c0_i32_52 : BitVec 32 := 0#32
  let c1_i32_54 : BitVec 32 := 1#32
  let arg20 : BitVec 32 := Scf.iv c0_i32_52 c1_i32_54 k0_t12
  let c8_i32_332 : BitVec 32 := 8#32
  let v903 : BitVec 32 := Scalar.muli arg20 c8_i32_332
  let v904 : BitVec 32 := Scalar.addi c96_i32_333 v903
  let c2_i32 : BitVec 32 := 2#32
  let v905 : BitVec 32 := Scalar.addi v904 c2_i32
  let v958 : Index := Scalar.indexCast v905
  ![1, v958.toNat]
def k0_off1245 (v954 : BitVec 32) (c0_i32_356 : BitVec 32) : Fin 2 → Nat :=
  let v972 : BitVec 32 := Scalar.addi v954 c0_i32_356
  let v973 : Index := Scalar.indexCast v972
  let c0_357 : Index := 0#32
  ![v973.toNat, 0]

def k0_chk275 (v954 : BitVec 32) : Prop :=
  (∀ a, (k0_off1243 v954) a + S1x128.size a ≤ S102432x128.size a) ∧
  (∀ (r : Fin 3), ∀ a, (k0_off1245 v954 (BitVec.ofNat 32 (8 * r.val))) a + S8x128.size a ≤ S102432x128.size a)
theorem k0_off1243_inb : ∀ (v954 : BitVec 32) (k0_hw275 : k0_chk275 v954), ∀ a, (k0_off1243 v954) a + S1x128.size a ≤ S102432x128.size a := fun v954 k0_hw275 => k0_hw275.1
theorem k0_off1245_inb : ∀ (v954 : BitVec 32) (k0_hw275 : k0_chk275 v954), ∀ (r : Fin 3), ∀ a, (k0_off1245 v954 (BitVec.ofNat 32 (8 * r.val))) a + S8x128.size a ≤ S102432x128.size a := fun v954 k0_hw275 r => k0_hw275.2 r

def k0_off1246 (k0_t12 : Fin k0_t12_loop.trips) : Fin 2 → Nat :=
  let c2_366 : Index := 2#32
  let c96_i32_333 : BitVec 32 := 96#32
  let c0_i32_52 : BitVec 32 := 0#32
  let c1_i32_54 : BitVec 32 := 1#32
  let arg20 : BitVec 32 := Scf.iv c0_i32_52 c1_i32_54 k0_t12
  let c8_i32_332 : BitVec 32 := 8#32
  let v903 : BitVec 32 := Scalar.muli arg20 c8_i32_332
  let v904 : BitVec 32 := Scalar.addi c96_i32_333 v903
  let c2_i32 : BitVec 32 := 2#32
  let v905 : BitVec 32 := Scalar.addi v904 c2_i32
  let v1003 : Index := Scalar.indexCast v905
  ![2, v1003.toNat]
def k0_off1247 (v1004 : BitVec 32) : Fin 2 → Nat :=
  let c24_i32_367 : BitVec 32 := 24#32
  let v1005 : BitVec 32 := Scalar.addi v1004 c24_i32_367
  let v1006 : Index := Scalar.indexCast v1005
  let c0_368 : Index := 0#32
  ![v1006.toNat, 0]

def k0_off1248 (k0_t12 : Fin k0_t12_loop.trips) : Fin 2 → Nat :=
  let c2_369 : Index := 2#32
  let c96_i32_333 : BitVec 32 := 96#32
  let c0_i32_52 : BitVec 32 := 0#32
  let c1_i32_54 : BitVec 32 := 1#32
  let arg20 : BitVec 32 := Scf.iv c0_i32_52 c1_i32_54 k0_t12
  let c8_i32_332 : BitVec 32 := 8#32
  let v903 : BitVec 32 := Scalar.muli arg20 c8_i32_332
  let v904 : BitVec 32 := Scalar.addi c96_i32_333 v903
  let c2_i32 : BitVec 32 := 2#32
  let v905 : BitVec 32 := Scalar.addi v904 c2_i32
  let v1008 : Index := Scalar.indexCast v905
  ![2, v1008.toNat]
def k0_off1249 (v1004 : BitVec 32) (c0_i32_372 : BitVec 32) : Fin 2 → Nat :=
  let v1022 : BitVec 32 := Scalar.addi v1004 c0_i32_372
  let v1023 : Index := Scalar.indexCast v1022
  let c0_373 : Index := 0#32
  ![v1023.toNat, 0]

def k0_chk276 (v1004 : BitVec 32) : Prop :=
  (∀ a, (k0_off1247 v1004) a + S1x128.size a ≤ S102432x128.size a) ∧
  (∀ (r : Fin 3), ∀ a, (k0_off1249 v1004 (BitVec.ofNat 32 (8 * r.val))) a + S8x128.size a ≤ S102432x128.size a)
theorem k0_off1247_inb : ∀ (v1004 : BitVec 32) (k0_hw276 : k0_chk276 v1004), ∀ a, (k0_off1247 v1004) a + S1x128.size a ≤ S102432x128.size a := fun v1004 k0_hw276 => k0_hw276.1
theorem k0_off1249_inb : ∀ (v1004 : BitVec 32) (k0_hw276 : k0_chk276 v1004), ∀ (r : Fin 3), ∀ a, (k0_off1249 v1004 (BitVec.ofNat 32 (8 * r.val))) a + S8x128.size a ≤ S102432x128.size a := fun v1004 k0_hw276 r => k0_hw276.2 r

def k0_off1250 (k0_t12 : Fin k0_t12_loop.trips) : Fin 2 → Nat :=
  let c3_382 : Index := 3#32
  let c96_i32_333 : BitVec 32 := 96#32
  let c0_i32_52 : BitVec 32 := 0#32
  let c1_i32_54 : BitVec 32 := 1#32
  let arg20 : BitVec 32 := Scf.iv c0_i32_52 c1_i32_54 k0_t12
  let c8_i32_332 : BitVec 32 := 8#32
  let v903 : BitVec 32 := Scalar.muli arg20 c8_i32_332
  let v904 : BitVec 32 := Scalar.addi c96_i32_333 v903
  let c2_i32 : BitVec 32 := 2#32
  let v905 : BitVec 32 := Scalar.addi v904 c2_i32
  let v1053 : Index := Scalar.indexCast v905
  ![3, v1053.toNat]
def k0_off1251 (v1054 : BitVec 32) : Fin 2 → Nat :=
  let c24_i32_383 : BitVec 32 := 24#32
  let v1055 : BitVec 32 := Scalar.addi v1054 c24_i32_383
  let v1056 : Index := Scalar.indexCast v1055
  let c0_384 : Index := 0#32
  ![v1056.toNat, 0]

def k0_off1252 (k0_t12 : Fin k0_t12_loop.trips) : Fin 2 → Nat :=
  let c3_385 : Index := 3#32
  let c96_i32_333 : BitVec 32 := 96#32
  let c0_i32_52 : BitVec 32 := 0#32
  let c1_i32_54 : BitVec 32 := 1#32
  let arg20 : BitVec 32 := Scf.iv c0_i32_52 c1_i32_54 k0_t12
  let c8_i32_332 : BitVec 32 := 8#32
  let v903 : BitVec 32 := Scalar.muli arg20 c8_i32_332
  let v904 : BitVec 32 := Scalar.addi c96_i32_333 v903
  let c2_i32 : BitVec 32 := 2#32
  let v905 : BitVec 32 := Scalar.addi v904 c2_i32
  let v1058 : Index := Scalar.indexCast v905
  ![3, v1058.toNat]
def k0_off1253 (v1054 : BitVec 32) (c0_i32_388 : BitVec 32) : Fin 2 → Nat :=
  let v1072 : BitVec 32 := Scalar.addi v1054 c0_i32_388
  let v1073 : Index := Scalar.indexCast v1072
  let c0_389 : Index := 0#32
  ![v1073.toNat, 0]

def k0_chk277 (v1054 : BitVec 32) : Prop :=
  (∀ a, (k0_off1251 v1054) a + S1x128.size a ≤ S102432x128.size a) ∧
  (∀ (r : Fin 3), ∀ a, (k0_off1253 v1054 (BitVec.ofNat 32 (8 * r.val))) a + S8x128.size a ≤ S102432x128.size a)
theorem k0_off1251_inb : ∀ (v1054 : BitVec 32) (k0_hw277 : k0_chk277 v1054), ∀ a, (k0_off1251 v1054) a + S1x128.size a ≤ S102432x128.size a := fun v1054 k0_hw277 => k0_hw277.1
theorem k0_off1253_inb : ∀ (v1054 : BitVec 32) (k0_hw277 : k0_chk277 v1054), ∀ (r : Fin 3), ∀ a, (k0_off1253 v1054 (BitVec.ofNat 32 (8 * r.val))) a + S8x128.size a ≤ S102432x128.size a := fun v1054 k0_hw277 r => k0_hw277.2 r

def k0_off1254 (k0_t12 : Fin k0_t12_loop.trips) : Fin 2 → Nat :=
  let c4_398 : Index := 4#32
  let c96_i32_333 : BitVec 32 := 96#32
  let c0_i32_52 : BitVec 32 := 0#32
  let c1_i32_54 : BitVec 32 := 1#32
  let arg20 : BitVec 32 := Scf.iv c0_i32_52 c1_i32_54 k0_t12
  let c8_i32_332 : BitVec 32 := 8#32
  let v903 : BitVec 32 := Scalar.muli arg20 c8_i32_332
  let v904 : BitVec 32 := Scalar.addi c96_i32_333 v903
  let c2_i32 : BitVec 32 := 2#32
  let v905 : BitVec 32 := Scalar.addi v904 c2_i32
  let v1103 : Index := Scalar.indexCast v905
  ![4, v1103.toNat]
def k0_off1255 (v1104 : BitVec 32) : Fin 2 → Nat :=
  let c24_i32_399 : BitVec 32 := 24#32
  let v1105 : BitVec 32 := Scalar.addi v1104 c24_i32_399
  let v1106 : Index := Scalar.indexCast v1105
  let c0_400 : Index := 0#32
  ![v1106.toNat, 0]

def k0_off1256 (k0_t12 : Fin k0_t12_loop.trips) : Fin 2 → Nat :=
  let c4_401 : Index := 4#32
  let c96_i32_333 : BitVec 32 := 96#32
  let c0_i32_52 : BitVec 32 := 0#32
  let c1_i32_54 : BitVec 32 := 1#32
  let arg20 : BitVec 32 := Scf.iv c0_i32_52 c1_i32_54 k0_t12
  let c8_i32_332 : BitVec 32 := 8#32
  let v903 : BitVec 32 := Scalar.muli arg20 c8_i32_332
  let v904 : BitVec 32 := Scalar.addi c96_i32_333 v903
  let c2_i32 : BitVec 32 := 2#32
  let v905 : BitVec 32 := Scalar.addi v904 c2_i32
  let v1108 : Index := Scalar.indexCast v905
  ![4, v1108.toNat]
def k0_off1257 (v1104 : BitVec 32) (c0_i32_404 : BitVec 32) : Fin 2 → Nat :=
  let v1122 : BitVec 32 := Scalar.addi v1104 c0_i32_404
  let v1123 : Index := Scalar.indexCast v1122
  let c0_405 : Index := 0#32
  ![v1123.toNat, 0]

def k0_chk278 (v1104 : BitVec 32) : Prop :=
  (∀ a, (k0_off1255 v1104) a + S1x128.size a ≤ S102432x128.size a) ∧
  (∀ (r : Fin 3), ∀ a, (k0_off1257 v1104 (BitVec.ofNat 32 (8 * r.val))) a + S8x128.size a ≤ S102432x128.size a)
theorem k0_off1255_inb : ∀ (v1104 : BitVec 32) (k0_hw278 : k0_chk278 v1104), ∀ a, (k0_off1255 v1104) a + S1x128.size a ≤ S102432x128.size a := fun v1104 k0_hw278 => k0_hw278.1
theorem k0_off1257_inb : ∀ (v1104 : BitVec 32) (k0_hw278 : k0_chk278 v1104), ∀ (r : Fin 3), ∀ a, (k0_off1257 v1104 (BitVec.ofNat 32 (8 * r.val))) a + S8x128.size a ≤ S102432x128.size a := fun v1104 k0_hw278 r => k0_hw278.2 r

def k0_off1258 (k0_t12 : Fin k0_t12_loop.trips) : Fin 2 → Nat :=
  let c5_414 : Index := 5#32
  let c96_i32_333 : BitVec 32 := 96#32
  let c0_i32_52 : BitVec 32 := 0#32
  let c1_i32_54 : BitVec 32 := 1#32
  let arg20 : BitVec 32 := Scf.iv c0_i32_52 c1_i32_54 k0_t12
  let c8_i32_332 : BitVec 32 := 8#32
  let v903 : BitVec 32 := Scalar.muli arg20 c8_i32_332
  let v904 : BitVec 32 := Scalar.addi c96_i32_333 v903
  let c2_i32 : BitVec 32 := 2#32
  let v905 : BitVec 32 := Scalar.addi v904 c2_i32
  let v1153 : Index := Scalar.indexCast v905
  ![5, v1153.toNat]
def k0_off1259 (v1154 : BitVec 32) : Fin 2 → Nat :=
  let c24_i32_415 : BitVec 32 := 24#32
  let v1155 : BitVec 32 := Scalar.addi v1154 c24_i32_415
  let v1156 : Index := Scalar.indexCast v1155
  let c0_416 : Index := 0#32
  ![v1156.toNat, 0]

def k0_off1260 (k0_t12 : Fin k0_t12_loop.trips) : Fin 2 → Nat :=
  let c5_417 : Index := 5#32
  let c96_i32_333 : BitVec 32 := 96#32
  let c0_i32_52 : BitVec 32 := 0#32
  let c1_i32_54 : BitVec 32 := 1#32
  let arg20 : BitVec 32 := Scf.iv c0_i32_52 c1_i32_54 k0_t12
  let c8_i32_332 : BitVec 32 := 8#32
  let v903 : BitVec 32 := Scalar.muli arg20 c8_i32_332
  let v904 : BitVec 32 := Scalar.addi c96_i32_333 v903
  let c2_i32 : BitVec 32 := 2#32
  let v905 : BitVec 32 := Scalar.addi v904 c2_i32
  let v1158 : Index := Scalar.indexCast v905
  ![5, v1158.toNat]
def k0_off1261 (v1154 : BitVec 32) (c0_i32_420 : BitVec 32) : Fin 2 → Nat :=
  let v1172 : BitVec 32 := Scalar.addi v1154 c0_i32_420
  let v1173 : Index := Scalar.indexCast v1172
  let c0_421 : Index := 0#32
  ![v1173.toNat, 0]

def k0_chk279 (v1154 : BitVec 32) : Prop :=
  (∀ a, (k0_off1259 v1154) a + S1x128.size a ≤ S102432x128.size a) ∧
  (∀ (r : Fin 3), ∀ a, (k0_off1261 v1154 (BitVec.ofNat 32 (8 * r.val))) a + S8x128.size a ≤ S102432x128.size a)
theorem k0_off1259_inb : ∀ (v1154 : BitVec 32) (k0_hw279 : k0_chk279 v1154), ∀ a, (k0_off1259 v1154) a + S1x128.size a ≤ S102432x128.size a := fun v1154 k0_hw279 => k0_hw279.1
theorem k0_off1261_inb : ∀ (v1154 : BitVec 32) (k0_hw279 : k0_chk279 v1154), ∀ (r : Fin 3), ∀ a, (k0_off1261 v1154 (BitVec.ofNat 32 (8 * r.val))) a + S8x128.size a ≤ S102432x128.size a := fun v1154 k0_hw279 r => k0_hw279.2 r

def k0_off1262 (k0_t12 : Fin k0_t12_loop.trips) : Fin 2 → Nat :=
  let c6_430 : Index := 6#32
  let c96_i32_333 : BitVec 32 := 96#32
  let c0_i32_52 : BitVec 32 := 0#32
  let c1_i32_54 : BitVec 32 := 1#32
  let arg20 : BitVec 32 := Scf.iv c0_i32_52 c1_i32_54 k0_t12
  let c8_i32_332 : BitVec 32 := 8#32
  let v903 : BitVec 32 := Scalar.muli arg20 c8_i32_332
  let v904 : BitVec 32 := Scalar.addi c96_i32_333 v903
  let c2_i32 : BitVec 32 := 2#32
  let v905 : BitVec 32 := Scalar.addi v904 c2_i32
  let v1203 : Index := Scalar.indexCast v905
  ![6, v1203.toNat]
def k0_off1263 (v1204 : BitVec 32) : Fin 2 → Nat :=
  let c24_i32_431 : BitVec 32 := 24#32
  let v1205 : BitVec 32 := Scalar.addi v1204 c24_i32_431
  let v1206 : Index := Scalar.indexCast v1205
  let c0_432 : Index := 0#32
  ![v1206.toNat, 0]

def k0_off1264 (k0_t12 : Fin k0_t12_loop.trips) : Fin 2 → Nat :=
  let c6_433 : Index := 6#32
  let c96_i32_333 : BitVec 32 := 96#32
  let c0_i32_52 : BitVec 32 := 0#32
  let c1_i32_54 : BitVec 32 := 1#32
  let arg20 : BitVec 32 := Scf.iv c0_i32_52 c1_i32_54 k0_t12
  let c8_i32_332 : BitVec 32 := 8#32
  let v903 : BitVec 32 := Scalar.muli arg20 c8_i32_332
  let v904 : BitVec 32 := Scalar.addi c96_i32_333 v903
  let c2_i32 : BitVec 32 := 2#32
  let v905 : BitVec 32 := Scalar.addi v904 c2_i32
  let v1208 : Index := Scalar.indexCast v905
  ![6, v1208.toNat]
def k0_off1265 (v1204 : BitVec 32) (c0_i32_436 : BitVec 32) : Fin 2 → Nat :=
  let v1222 : BitVec 32 := Scalar.addi v1204 c0_i32_436
  let v1223 : Index := Scalar.indexCast v1222
  let c0_437 : Index := 0#32
  ![v1223.toNat, 0]

def k0_chk280 (v1204 : BitVec 32) : Prop :=
  (∀ a, (k0_off1263 v1204) a + S1x128.size a ≤ S102432x128.size a) ∧
  (∀ (r : Fin 3), ∀ a, (k0_off1265 v1204 (BitVec.ofNat 32 (8 * r.val))) a + S8x128.size a ≤ S102432x128.size a)
theorem k0_off1263_inb : ∀ (v1204 : BitVec 32) (k0_hw280 : k0_chk280 v1204), ∀ a, (k0_off1263 v1204) a + S1x128.size a ≤ S102432x128.size a := fun v1204 k0_hw280 => k0_hw280.1
theorem k0_off1265_inb : ∀ (v1204 : BitVec 32) (k0_hw280 : k0_chk280 v1204), ∀ (r : Fin 3), ∀ a, (k0_off1265 v1204 (BitVec.ofNat 32 (8 * r.val))) a + S8x128.size a ≤ S102432x128.size a := fun v1204 k0_hw280 r => k0_hw280.2 r

def k0_off1266 (k0_t12 : Fin k0_t12_loop.trips) : Fin 2 → Nat :=
  let c7_446 : Index := 7#32
  let c96_i32_333 : BitVec 32 := 96#32
  let c0_i32_52 : BitVec 32 := 0#32
  let c1_i32_54 : BitVec 32 := 1#32
  let arg20 : BitVec 32 := Scf.iv c0_i32_52 c1_i32_54 k0_t12
  let c8_i32_332 : BitVec 32 := 8#32
  let v903 : BitVec 32 := Scalar.muli arg20 c8_i32_332
  let v904 : BitVec 32 := Scalar.addi c96_i32_333 v903
  let c2_i32 : BitVec 32 := 2#32
  let v905 : BitVec 32 := Scalar.addi v904 c2_i32
  let v1253 : Index := Scalar.indexCast v905
  ![7, v1253.toNat]
def k0_off1267 (v1254 : BitVec 32) : Fin 2 → Nat :=
  let c24_i32_447 : BitVec 32 := 24#32
  let v1255 : BitVec 32 := Scalar.addi v1254 c24_i32_447
  let v1256 : Index := Scalar.indexCast v1255
  let c0_448 : Index := 0#32
  ![v1256.toNat, 0]

def k0_off1268 (k0_t12 : Fin k0_t12_loop.trips) : Fin 2 → Nat :=
  let c7_449 : Index := 7#32
  let c96_i32_333 : BitVec 32 := 96#32
  let c0_i32_52 : BitVec 32 := 0#32
  let c1_i32_54 : BitVec 32 := 1#32
  let arg20 : BitVec 32 := Scf.iv c0_i32_52 c1_i32_54 k0_t12
  let c8_i32_332 : BitVec 32 := 8#32
  let v903 : BitVec 32 := Scalar.muli arg20 c8_i32_332
  let v904 : BitVec 32 := Scalar.addi c96_i32_333 v903
  let c2_i32 : BitVec 32 := 2#32
  let v905 : BitVec 32 := Scalar.addi v904 c2_i32
  let v1258 : Index := Scalar.indexCast v905
  ![7, v1258.toNat]
def k0_off1269 (v1254 : BitVec 32) (c0_i32_452 : BitVec 32) : Fin 2 → Nat :=
  let v1272 : BitVec 32 := Scalar.addi v1254 c0_i32_452
  let v1273 : Index := Scalar.indexCast v1272
  let c0_453 : Index := 0#32
  ![v1273.toNat, 0]

def k0_chk281 (v1254 : BitVec 32) : Prop :=
  (∀ a, (k0_off1267 v1254) a + S1x128.size a ≤ S102432x128.size a) ∧
  (∀ (r : Fin 3), ∀ a, (k0_off1269 v1254 (BitVec.ofNat 32 (8 * r.val))) a + S8x128.size a ≤ S102432x128.size a)
theorem k0_off1267_inb : ∀ (v1254 : BitVec 32) (k0_hw281 : k0_chk281 v1254), ∀ a, (k0_off1267 v1254) a + S1x128.size a ≤ S102432x128.size a := fun v1254 k0_hw281 => k0_hw281.1
theorem k0_off1269_inb : ∀ (v1254 : BitVec 32) (k0_hw281 : k0_chk281 v1254), ∀ (r : Fin 3), ∀ a, (k0_off1269 v1254 (BitVec.ofNat 32 (8 * r.val))) a + S8x128.size a ≤ S102432x128.size a := fun v1254 k0_hw281 r => k0_hw281.2 r

def k0_off1270 (k0_t12 : Fin k0_t12_loop.trips) (c0_i32_463 : BitVec 32) : Fin 2 → Nat :=
  let c96_i32_333 : BitVec 32 := 96#32
  let c0_i32_52 : BitVec 32 := 0#32
  let c1_i32_54 : BitVec 32 := 1#32
  let arg20 : BitVec 32 := Scf.iv c0_i32_52 c1_i32_54 k0_t12
  let c8_i32_332 : BitVec 32 := 8#32
  let v903 : BitVec 32 := Scalar.muli arg20 c8_i32_332
  let v904 : BitVec 32 := Scalar.addi c96_i32_333 v903
  let c2_i32 : BitVec 32 := 2#32
  let v905 : BitVec 32 := Scalar.addi v904 c2_i32
  let c25_i32_462 : BitVec 32 := 25#32
  let v1303 : BitVec 32 := Scalar.muli v905 c25_i32_462
  let v1304 : BitVec 32 := Scalar.addi v1303 c0_i32_463
  let v1305 : Index := Scalar.indexCast v1304
  let c0_464 : Index := 0#32
  ![v1305.toNat, 0]
def k0_off1271 (k0_t12 : Fin k0_t12_loop.trips) : Fin 2 → Nat :=
  let c0_473 : Index := 0#32
  let c96_i32_472 : BitVec 32 := 96#32
  let c0_i32_52 : BitVec 32 := 0#32
  let c1_i32_54 : BitVec 32 := 1#32
  let arg20 : BitVec 32 := Scf.iv c0_i32_52 c1_i32_54 k0_t12
  let c8_i32_471 : BitVec 32 := 8#32
  let v1321 : BitVec 32 := Scalar.muli arg20 c8_i32_471
  let v1322 : BitVec 32 := Scalar.addi c96_i32_472 v1321
  let c3_i32 : BitVec 32 := 3#32
  let v1323 : BitVec 32 := Scalar.addi v1322 c3_i32
  let v1324 : Index := Scalar.indexCast v1323
  ![0, v1324.toNat]
def k0_off1272 (v1325 : BitVec 32) : Fin 2 → Nat :=
  let c24_i32_474 : BitVec 32 := 24#32
  let v1326 : BitVec 32 := Scalar.addi v1325 c24_i32_474
  let v1327 : Index := Scalar.indexCast v1326
  let c0_475 : Index := 0#32
  ![v1327.toNat, 0]

def k0_off1273 (k0_t12 : Fin k0_t12_loop.trips) : Fin 2 → Nat :=
  let c0_476 : Index := 0#32
  let c96_i32_472 : BitVec 32 := 96#32
  let c0_i32_52 : BitVec 32 := 0#32
  let c1_i32_54 : BitVec 32 := 1#32
  let arg20 : BitVec 32 := Scf.iv c0_i32_52 c1_i32_54 k0_t12
  let c8_i32_471 : BitVec 32 := 8#32
  let v1321 : BitVec 32 := Scalar.muli arg20 c8_i32_471
  let v1322 : BitVec 32 := Scalar.addi c96_i32_472 v1321
  let c3_i32 : BitVec 32 := 3#32
  let v1323 : BitVec 32 := Scalar.addi v1322 c3_i32
  let v1329 : Index := Scalar.indexCast v1323
  ![0, v1329.toNat]
def k0_off1274 (v1325 : BitVec 32) (c0_i32_479 : BitVec 32) : Fin 2 → Nat :=
  let v1343 : BitVec 32 := Scalar.addi v1325 c0_i32_479
  let v1344 : Index := Scalar.indexCast v1343
  let c0_480 : Index := 0#32
  ![v1344.toNat, 0]

def k0_chk282 (v1325 : BitVec 32) : Prop :=
  (∀ a, (k0_off1272 v1325) a + S1x128.size a ≤ S102432x128.size a) ∧
  (∀ (r : Fin 3), ∀ a, (k0_off1274 v1325 (BitVec.ofNat 32 (8 * r.val))) a + S8x128.size a ≤ S102432x128.size a)
theorem k0_off1272_inb : ∀ (v1325 : BitVec 32) (k0_hw282 : k0_chk282 v1325), ∀ a, (k0_off1272 v1325) a + S1x128.size a ≤ S102432x128.size a := fun v1325 k0_hw282 => k0_hw282.1
theorem k0_off1274_inb : ∀ (v1325 : BitVec 32) (k0_hw282 : k0_chk282 v1325), ∀ (r : Fin 3), ∀ a, (k0_off1274 v1325 (BitVec.ofNat 32 (8 * r.val))) a + S8x128.size a ≤ S102432x128.size a := fun v1325 k0_hw282 r => k0_hw282.2 r

def k0_off1275 (k0_t12 : Fin k0_t12_loop.trips) : Fin 2 → Nat :=
  let c1_489 : Index := 1#32
  let c96_i32_472 : BitVec 32 := 96#32
  let c0_i32_52 : BitVec 32 := 0#32
  let c1_i32_54 : BitVec 32 := 1#32
  let arg20 : BitVec 32 := Scf.iv c0_i32_52 c1_i32_54 k0_t12
  let c8_i32_471 : BitVec 32 := 8#32
  let v1321 : BitVec 32 := Scalar.muli arg20 c8_i32_471
  let v1322 : BitVec 32 := Scalar.addi c96_i32_472 v1321
  let c3_i32 : BitVec 32 := 3#32
  let v1323 : BitVec 32 := Scalar.addi v1322 c3_i32
  let v1371 : Index := Scalar.indexCast v1323
  ![1, v1371.toNat]
def k0_off1276 (v1372 : BitVec 32) : Fin 2 → Nat :=
  let c24_i32_490 : BitVec 32 := 24#32
  let v1373 : BitVec 32 := Scalar.addi v1372 c24_i32_490
  let v1374 : Index := Scalar.indexCast v1373
  let c0_491 : Index := 0#32
  ![v1374.toNat, 0]

def k0_off1277 (k0_t12 : Fin k0_t12_loop.trips) : Fin 2 → Nat :=
  let c1_492 : Index := 1#32
  let c96_i32_472 : BitVec 32 := 96#32
  let c0_i32_52 : BitVec 32 := 0#32
  let c1_i32_54 : BitVec 32 := 1#32
  let arg20 : BitVec 32 := Scf.iv c0_i32_52 c1_i32_54 k0_t12
  let c8_i32_471 : BitVec 32 := 8#32
  let v1321 : BitVec 32 := Scalar.muli arg20 c8_i32_471
  let v1322 : BitVec 32 := Scalar.addi c96_i32_472 v1321
  let c3_i32 : BitVec 32 := 3#32
  let v1323 : BitVec 32 := Scalar.addi v1322 c3_i32
  let v1376 : Index := Scalar.indexCast v1323
  ![1, v1376.toNat]
def k0_off1278 (v1372 : BitVec 32) (c0_i32_495 : BitVec 32) : Fin 2 → Nat :=
  let v1390 : BitVec 32 := Scalar.addi v1372 c0_i32_495
  let v1391 : Index := Scalar.indexCast v1390
  let c0_496 : Index := 0#32
  ![v1391.toNat, 0]

def k0_chk283 (v1372 : BitVec 32) : Prop :=
  (∀ a, (k0_off1276 v1372) a + S1x128.size a ≤ S102432x128.size a) ∧
  (∀ (r : Fin 3), ∀ a, (k0_off1278 v1372 (BitVec.ofNat 32 (8 * r.val))) a + S8x128.size a ≤ S102432x128.size a)
theorem k0_off1276_inb : ∀ (v1372 : BitVec 32) (k0_hw283 : k0_chk283 v1372), ∀ a, (k0_off1276 v1372) a + S1x128.size a ≤ S102432x128.size a := fun v1372 k0_hw283 => k0_hw283.1
theorem k0_off1278_inb : ∀ (v1372 : BitVec 32) (k0_hw283 : k0_chk283 v1372), ∀ (r : Fin 3), ∀ a, (k0_off1278 v1372 (BitVec.ofNat 32 (8 * r.val))) a + S8x128.size a ≤ S102432x128.size a := fun v1372 k0_hw283 r => k0_hw283.2 r

def k0_off1279 (k0_t12 : Fin k0_t12_loop.trips) : Fin 2 → Nat :=
  let c2_505 : Index := 2#32
  let c96_i32_472 : BitVec 32 := 96#32
  let c0_i32_52 : BitVec 32 := 0#32
  let c1_i32_54 : BitVec 32 := 1#32
  let arg20 : BitVec 32 := Scf.iv c0_i32_52 c1_i32_54 k0_t12
  let c8_i32_471 : BitVec 32 := 8#32
  let v1321 : BitVec 32 := Scalar.muli arg20 c8_i32_471
  let v1322 : BitVec 32 := Scalar.addi c96_i32_472 v1321
  let c3_i32 : BitVec 32 := 3#32
  let v1323 : BitVec 32 := Scalar.addi v1322 c3_i32
  let v1421 : Index := Scalar.indexCast v1323
  ![2, v1421.toNat]
def k0_off1280 (v1422 : BitVec 32) : Fin 2 → Nat :=
  let c24_i32_506 : BitVec 32 := 24#32
  let v1423 : BitVec 32 := Scalar.addi v1422 c24_i32_506
  let v1424 : Index := Scalar.indexCast v1423
  let c0_507 : Index := 0#32
  ![v1424.toNat, 0]

def k0_off1281 (k0_t12 : Fin k0_t12_loop.trips) : Fin 2 → Nat :=
  let c2_508 : Index := 2#32
  let c96_i32_472 : BitVec 32 := 96#32
  let c0_i32_52 : BitVec 32 := 0#32
  let c1_i32_54 : BitVec 32 := 1#32
  let arg20 : BitVec 32 := Scf.iv c0_i32_52 c1_i32_54 k0_t12
  let c8_i32_471 : BitVec 32 := 8#32
  let v1321 : BitVec 32 := Scalar.muli arg20 c8_i32_471
  let v1322 : BitVec 32 := Scalar.addi c96_i32_472 v1321
  let c3_i32 : BitVec 32 := 3#32
  let v1323 : BitVec 32 := Scalar.addi v1322 c3_i32
  let v1426 : Index := Scalar.indexCast v1323
  ![2, v1426.toNat]
def k0_off1282 (v1422 : BitVec 32) (c0_i32_511 : BitVec 32) : Fin 2 → Nat :=
  let v1440 : BitVec 32 := Scalar.addi v1422 c0_i32_511
  let v1441 : Index := Scalar.indexCast v1440
  let c0_512 : Index := 0#32
  ![v1441.toNat, 0]

def k0_chk284 (v1422 : BitVec 32) : Prop :=
  (∀ a, (k0_off1280 v1422) a + S1x128.size a ≤ S102432x128.size a) ∧
  (∀ (r : Fin 3), ∀ a, (k0_off1282 v1422 (BitVec.ofNat 32 (8 * r.val))) a + S8x128.size a ≤ S102432x128.size a)
theorem k0_off1280_inb : ∀ (v1422 : BitVec 32) (k0_hw284 : k0_chk284 v1422), ∀ a, (k0_off1280 v1422) a + S1x128.size a ≤ S102432x128.size a := fun v1422 k0_hw284 => k0_hw284.1
theorem k0_off1282_inb : ∀ (v1422 : BitVec 32) (k0_hw284 : k0_chk284 v1422), ∀ (r : Fin 3), ∀ a, (k0_off1282 v1422 (BitVec.ofNat 32 (8 * r.val))) a + S8x128.size a ≤ S102432x128.size a := fun v1422 k0_hw284 r => k0_hw284.2 r

def k0_off1283 (k0_t12 : Fin k0_t12_loop.trips) : Fin 2 → Nat :=
  let c3_521 : Index := 3#32
  let c96_i32_472 : BitVec 32 := 96#32
  let c0_i32_52 : BitVec 32 := 0#32
  let c1_i32_54 : BitVec 32 := 1#32
  let arg20 : BitVec 32 := Scf.iv c0_i32_52 c1_i32_54 k0_t12
  let c8_i32_471 : BitVec 32 := 8#32
  let v1321 : BitVec 32 := Scalar.muli arg20 c8_i32_471
  let v1322 : BitVec 32 := Scalar.addi c96_i32_472 v1321
  let c3_i32 : BitVec 32 := 3#32
  let v1323 : BitVec 32 := Scalar.addi v1322 c3_i32
  let v1471 : Index := Scalar.indexCast v1323
  ![3, v1471.toNat]
def k0_off1284 (v1472 : BitVec 32) : Fin 2 → Nat :=
  let c24_i32_522 : BitVec 32 := 24#32
  let v1473 : BitVec 32 := Scalar.addi v1472 c24_i32_522
  let v1474 : Index := Scalar.indexCast v1473
  let c0_523 : Index := 0#32
  ![v1474.toNat, 0]

def k0_off1285 (k0_t12 : Fin k0_t12_loop.trips) : Fin 2 → Nat :=
  let c3_524 : Index := 3#32
  let c96_i32_472 : BitVec 32 := 96#32
  let c0_i32_52 : BitVec 32 := 0#32
  let c1_i32_54 : BitVec 32 := 1#32
  let arg20 : BitVec 32 := Scf.iv c0_i32_52 c1_i32_54 k0_t12
  let c8_i32_471 : BitVec 32 := 8#32
  let v1321 : BitVec 32 := Scalar.muli arg20 c8_i32_471
  let v1322 : BitVec 32 := Scalar.addi c96_i32_472 v1321
  let c3_i32 : BitVec 32 := 3#32
  let v1323 : BitVec 32 := Scalar.addi v1322 c3_i32
  let v1476 : Index := Scalar.indexCast v1323
  ![3, v1476.toNat]
def k0_off1286 (v1472 : BitVec 32) (c0_i32_527 : BitVec 32) : Fin 2 → Nat :=
  let v1490 : BitVec 32 := Scalar.addi v1472 c0_i32_527
  let v1491 : Index := Scalar.indexCast v1490
  let c0_528 : Index := 0#32
  ![v1491.toNat, 0]

def k0_chk285 (v1472 : BitVec 32) : Prop :=
  (∀ a, (k0_off1284 v1472) a + S1x128.size a ≤ S102432x128.size a) ∧
  (∀ (r : Fin 3), ∀ a, (k0_off1286 v1472 (BitVec.ofNat 32 (8 * r.val))) a + S8x128.size a ≤ S102432x128.size a)
theorem k0_off1284_inb : ∀ (v1472 : BitVec 32) (k0_hw285 : k0_chk285 v1472), ∀ a, (k0_off1284 v1472) a + S1x128.size a ≤ S102432x128.size a := fun v1472 k0_hw285 => k0_hw285.1
theorem k0_off1286_inb : ∀ (v1472 : BitVec 32) (k0_hw285 : k0_chk285 v1472), ∀ (r : Fin 3), ∀ a, (k0_off1286 v1472 (BitVec.ofNat 32 (8 * r.val))) a + S8x128.size a ≤ S102432x128.size a := fun v1472 k0_hw285 r => k0_hw285.2 r

def k0_off1287 (k0_t12 : Fin k0_t12_loop.trips) : Fin 2 → Nat :=
  let c4_537 : Index := 4#32
  let c96_i32_472 : BitVec 32 := 96#32
  let c0_i32_52 : BitVec 32 := 0#32
  let c1_i32_54 : BitVec 32 := 1#32
  let arg20 : BitVec 32 := Scf.iv c0_i32_52 c1_i32_54 k0_t12
  let c8_i32_471 : BitVec 32 := 8#32
  let v1321 : BitVec 32 := Scalar.muli arg20 c8_i32_471
  let v1322 : BitVec 32 := Scalar.addi c96_i32_472 v1321
  let c3_i32 : BitVec 32 := 3#32
  let v1323 : BitVec 32 := Scalar.addi v1322 c3_i32
  let v1521 : Index := Scalar.indexCast v1323
  ![4, v1521.toNat]
def k0_off1288 (v1522 : BitVec 32) : Fin 2 → Nat :=
  let c24_i32_538 : BitVec 32 := 24#32
  let v1523 : BitVec 32 := Scalar.addi v1522 c24_i32_538
  let v1524 : Index := Scalar.indexCast v1523
  let c0_539 : Index := 0#32
  ![v1524.toNat, 0]

def k0_off1289 (k0_t12 : Fin k0_t12_loop.trips) : Fin 2 → Nat :=
  let c4_540 : Index := 4#32
  let c96_i32_472 : BitVec 32 := 96#32
  let c0_i32_52 : BitVec 32 := 0#32
  let c1_i32_54 : BitVec 32 := 1#32
  let arg20 : BitVec 32 := Scf.iv c0_i32_52 c1_i32_54 k0_t12
  let c8_i32_471 : BitVec 32 := 8#32
  let v1321 : BitVec 32 := Scalar.muli arg20 c8_i32_471
  let v1322 : BitVec 32 := Scalar.addi c96_i32_472 v1321
  let c3_i32 : BitVec 32 := 3#32
  let v1323 : BitVec 32 := Scalar.addi v1322 c3_i32
  let v1526 : Index := Scalar.indexCast v1323
  ![4, v1526.toNat]
def k0_off1290 (v1522 : BitVec 32) (c0_i32_543 : BitVec 32) : Fin 2 → Nat :=
  let v1540 : BitVec 32 := Scalar.addi v1522 c0_i32_543
  let v1541 : Index := Scalar.indexCast v1540
  let c0_544 : Index := 0#32
  ![v1541.toNat, 0]

def k0_chk286 (v1522 : BitVec 32) : Prop :=
  (∀ a, (k0_off1288 v1522) a + S1x128.size a ≤ S102432x128.size a) ∧
  (∀ (r : Fin 3), ∀ a, (k0_off1290 v1522 (BitVec.ofNat 32 (8 * r.val))) a + S8x128.size a ≤ S102432x128.size a)
theorem k0_off1288_inb : ∀ (v1522 : BitVec 32) (k0_hw286 : k0_chk286 v1522), ∀ a, (k0_off1288 v1522) a + S1x128.size a ≤ S102432x128.size a := fun v1522 k0_hw286 => k0_hw286.1
theorem k0_off1290_inb : ∀ (v1522 : BitVec 32) (k0_hw286 : k0_chk286 v1522), ∀ (r : Fin 3), ∀ a, (k0_off1290 v1522 (BitVec.ofNat 32 (8 * r.val))) a + S8x128.size a ≤ S102432x128.size a := fun v1522 k0_hw286 r => k0_hw286.2 r

def k0_off1291 (k0_t12 : Fin k0_t12_loop.trips) : Fin 2 → Nat :=
  let c5_553 : Index := 5#32
  let c96_i32_472 : BitVec 32 := 96#32
  let c0_i32_52 : BitVec 32 := 0#32
  let c1_i32_54 : BitVec 32 := 1#32
  let arg20 : BitVec 32 := Scf.iv c0_i32_52 c1_i32_54 k0_t12
  let c8_i32_471 : BitVec 32 := 8#32
  let v1321 : BitVec 32 := Scalar.muli arg20 c8_i32_471
  let v1322 : BitVec 32 := Scalar.addi c96_i32_472 v1321
  let c3_i32 : BitVec 32 := 3#32
  let v1323 : BitVec 32 := Scalar.addi v1322 c3_i32
  let v1571 : Index := Scalar.indexCast v1323
  ![5, v1571.toNat]
def k0_off1292 (v1572 : BitVec 32) : Fin 2 → Nat :=
  let c24_i32_554 : BitVec 32 := 24#32
  let v1573 : BitVec 32 := Scalar.addi v1572 c24_i32_554
  let v1574 : Index := Scalar.indexCast v1573
  let c0_555 : Index := 0#32
  ![v1574.toNat, 0]

def k0_off1293 (k0_t12 : Fin k0_t12_loop.trips) : Fin 2 → Nat :=
  let c5_556 : Index := 5#32
  let c96_i32_472 : BitVec 32 := 96#32
  let c0_i32_52 : BitVec 32 := 0#32
  let c1_i32_54 : BitVec 32 := 1#32
  let arg20 : BitVec 32 := Scf.iv c0_i32_52 c1_i32_54 k0_t12
  let c8_i32_471 : BitVec 32 := 8#32
  let v1321 : BitVec 32 := Scalar.muli arg20 c8_i32_471
  let v1322 : BitVec 32 := Scalar.addi c96_i32_472 v1321
  let c3_i32 : BitVec 32 := 3#32
  let v1323 : BitVec 32 := Scalar.addi v1322 c3_i32
  let v1576 : Index := Scalar.indexCast v1323
  ![5, v1576.toNat]
def k0_off1294 (v1572 : BitVec 32) (c0_i32_559 : BitVec 32) : Fin 2 → Nat :=
  let v1590 : BitVec 32 := Scalar.addi v1572 c0_i32_559
  let v1591 : Index := Scalar.indexCast v1590
  let c0_560 : Index := 0#32
  ![v1591.toNat, 0]

def k0_chk287 (v1572 : BitVec 32) : Prop :=
  (∀ a, (k0_off1292 v1572) a + S1x128.size a ≤ S102432x128.size a) ∧
  (∀ (r : Fin 3), ∀ a, (k0_off1294 v1572 (BitVec.ofNat 32 (8 * r.val))) a + S8x128.size a ≤ S102432x128.size a)
theorem k0_off1292_inb : ∀ (v1572 : BitVec 32) (k0_hw287 : k0_chk287 v1572), ∀ a, (k0_off1292 v1572) a + S1x128.size a ≤ S102432x128.size a := fun v1572 k0_hw287 => k0_hw287.1
theorem k0_off1294_inb : ∀ (v1572 : BitVec 32) (k0_hw287 : k0_chk287 v1572), ∀ (r : Fin 3), ∀ a, (k0_off1294 v1572 (BitVec.ofNat 32 (8 * r.val))) a + S8x128.size a ≤ S102432x128.size a := fun v1572 k0_hw287 r => k0_hw287.2 r

def k0_off1295 (k0_t12 : Fin k0_t12_loop.trips) : Fin 2 → Nat :=
  let c6_569 : Index := 6#32
  let c96_i32_472 : BitVec 32 := 96#32
  let c0_i32_52 : BitVec 32 := 0#32
  let c1_i32_54 : BitVec 32 := 1#32
  let arg20 : BitVec 32 := Scf.iv c0_i32_52 c1_i32_54 k0_t12
  let c8_i32_471 : BitVec 32 := 8#32
  let v1321 : BitVec 32 := Scalar.muli arg20 c8_i32_471
  let v1322 : BitVec 32 := Scalar.addi c96_i32_472 v1321
  let c3_i32 : BitVec 32 := 3#32
  let v1323 : BitVec 32 := Scalar.addi v1322 c3_i32
  let v1621 : Index := Scalar.indexCast v1323
  ![6, v1621.toNat]
def k0_off1296 (v1622 : BitVec 32) : Fin 2 → Nat :=
  let c24_i32_570 : BitVec 32 := 24#32
  let v1623 : BitVec 32 := Scalar.addi v1622 c24_i32_570
  let v1624 : Index := Scalar.indexCast v1623
  let c0_571 : Index := 0#32
  ![v1624.toNat, 0]

def k0_off1297 (k0_t12 : Fin k0_t12_loop.trips) : Fin 2 → Nat :=
  let c6_572 : Index := 6#32
  let c96_i32_472 : BitVec 32 := 96#32
  let c0_i32_52 : BitVec 32 := 0#32
  let c1_i32_54 : BitVec 32 := 1#32
  let arg20 : BitVec 32 := Scf.iv c0_i32_52 c1_i32_54 k0_t12
  let c8_i32_471 : BitVec 32 := 8#32
  let v1321 : BitVec 32 := Scalar.muli arg20 c8_i32_471
  let v1322 : BitVec 32 := Scalar.addi c96_i32_472 v1321
  let c3_i32 : BitVec 32 := 3#32
  let v1323 : BitVec 32 := Scalar.addi v1322 c3_i32
  let v1626 : Index := Scalar.indexCast v1323
  ![6, v1626.toNat]
def k0_off1298 (v1622 : BitVec 32) (c0_i32_575 : BitVec 32) : Fin 2 → Nat :=
  let v1640 : BitVec 32 := Scalar.addi v1622 c0_i32_575
  let v1641 : Index := Scalar.indexCast v1640
  let c0_576 : Index := 0#32
  ![v1641.toNat, 0]

def k0_chk288 (v1622 : BitVec 32) : Prop :=
  (∀ a, (k0_off1296 v1622) a + S1x128.size a ≤ S102432x128.size a) ∧
  (∀ (r : Fin 3), ∀ a, (k0_off1298 v1622 (BitVec.ofNat 32 (8 * r.val))) a + S8x128.size a ≤ S102432x128.size a)
theorem k0_off1296_inb : ∀ (v1622 : BitVec 32) (k0_hw288 : k0_chk288 v1622), ∀ a, (k0_off1296 v1622) a + S1x128.size a ≤ S102432x128.size a := fun v1622 k0_hw288 => k0_hw288.1
theorem k0_off1298_inb : ∀ (v1622 : BitVec 32) (k0_hw288 : k0_chk288 v1622), ∀ (r : Fin 3), ∀ a, (k0_off1298 v1622 (BitVec.ofNat 32 (8 * r.val))) a + S8x128.size a ≤ S102432x128.size a := fun v1622 k0_hw288 r => k0_hw288.2 r

def k0_off1299 (k0_t12 : Fin k0_t12_loop.trips) : Fin 2 → Nat :=
  let c7_585 : Index := 7#32
  let c96_i32_472 : BitVec 32 := 96#32
  let c0_i32_52 : BitVec 32 := 0#32
  let c1_i32_54 : BitVec 32 := 1#32
  let arg20 : BitVec 32 := Scf.iv c0_i32_52 c1_i32_54 k0_t12
  let c8_i32_471 : BitVec 32 := 8#32
  let v1321 : BitVec 32 := Scalar.muli arg20 c8_i32_471
  let v1322 : BitVec 32 := Scalar.addi c96_i32_472 v1321
  let c3_i32 : BitVec 32 := 3#32
  let v1323 : BitVec 32 := Scalar.addi v1322 c3_i32
  let v1671 : Index := Scalar.indexCast v1323
  ![7, v1671.toNat]
def k0_off1300 (v1672 : BitVec 32) : Fin 2 → Nat :=
  let c24_i32_586 : BitVec 32 := 24#32
  let v1673 : BitVec 32 := Scalar.addi v1672 c24_i32_586
  let v1674 : Index := Scalar.indexCast v1673
  let c0_587 : Index := 0#32
  ![v1674.toNat, 0]

def k0_off1301 (k0_t12 : Fin k0_t12_loop.trips) : Fin 2 → Nat :=
  let c7_588 : Index := 7#32
  let c96_i32_472 : BitVec 32 := 96#32
  let c0_i32_52 : BitVec 32 := 0#32
  let c1_i32_54 : BitVec 32 := 1#32
  let arg20 : BitVec 32 := Scf.iv c0_i32_52 c1_i32_54 k0_t12
  let c8_i32_471 : BitVec 32 := 8#32
  let v1321 : BitVec 32 := Scalar.muli arg20 c8_i32_471
  let v1322 : BitVec 32 := Scalar.addi c96_i32_472 v1321
  let c3_i32 : BitVec 32 := 3#32
  let v1323 : BitVec 32 := Scalar.addi v1322 c3_i32
  let v1676 : Index := Scalar.indexCast v1323
  ![7, v1676.toNat]
def k0_off1302 (v1672 : BitVec 32) (c0_i32_591 : BitVec 32) : Fin 2 → Nat :=
  let v1690 : BitVec 32 := Scalar.addi v1672 c0_i32_591
  let v1691 : Index := Scalar.indexCast v1690
  let c0_592 : Index := 0#32
  ![v1691.toNat, 0]

def k0_chk289 (v1672 : BitVec 32) : Prop :=
  (∀ a, (k0_off1300 v1672) a + S1x128.size a ≤ S102432x128.size a) ∧
  (∀ (r : Fin 3), ∀ a, (k0_off1302 v1672 (BitVec.ofNat 32 (8 * r.val))) a + S8x128.size a ≤ S102432x128.size a)
theorem k0_off1300_inb : ∀ (v1672 : BitVec 32) (k0_hw289 : k0_chk289 v1672), ∀ a, (k0_off1300 v1672) a + S1x128.size a ≤ S102432x128.size a := fun v1672 k0_hw289 => k0_hw289.1
theorem k0_off1302_inb : ∀ (v1672 : BitVec 32) (k0_hw289 : k0_chk289 v1672), ∀ (r : Fin 3), ∀ a, (k0_off1302 v1672 (BitVec.ofNat 32 (8 * r.val))) a + S8x128.size a ≤ S102432x128.size a := fun v1672 k0_hw289 r => k0_hw289.2 r

def k0_off1303 (k0_t12 : Fin k0_t12_loop.trips) (c0_i32_602 : BitVec 32) : Fin 2 → Nat :=
  let c96_i32_472 : BitVec 32 := 96#32
  let c0_i32_52 : BitVec 32 := 0#32
  let c1_i32_54 : BitVec 32 := 1#32
  let arg20 : BitVec 32 := Scf.iv c0_i32_52 c1_i32_54 k0_t12
  let c8_i32_471 : BitVec 32 := 8#32
  let v1321 : BitVec 32 := Scalar.muli arg20 c8_i32_471
  let v1322 : BitVec 32 := Scalar.addi c96_i32_472 v1321
  let c3_i32 : BitVec 32 := 3#32
  let v1323 : BitVec 32 := Scalar.addi v1322 c3_i32
  let c25_i32_601 : BitVec 32 := 25#32
  let v1721 : BitVec 32 := Scalar.muli v1323 c25_i32_601
  let v1722 : BitVec 32 := Scalar.addi v1721 c0_i32_602
  let v1723 : Index := Scalar.indexCast v1722
  let c0_603 : Index := 0#32
  ![v1723.toNat, 0]
def k0_off1304 (k0_t12 : Fin k0_t12_loop.trips) : Fin 2 → Nat :=
  let c0_613 : Index := 0#32
  let c96_i32_611 : BitVec 32 := 96#32
  let c0_i32_52 : BitVec 32 := 0#32
  let c1_i32_54 : BitVec 32 := 1#32
  let arg20 : BitVec 32 := Scf.iv c0_i32_52 c1_i32_54 k0_t12
  let c8_i32_610 : BitVec 32 := 8#32
  let v1739 : BitVec 32 := Scalar.muli arg20 c8_i32_610
  let v1740 : BitVec 32 := Scalar.addi c96_i32_611 v1739
  let c4_i32_612 : BitVec 32 := 4#32
  let v1741 : BitVec 32 := Scalar.addi v1740 c4_i32_612
  let v1742 : Index := Scalar.indexCast v1741
  ![0, v1742.toNat]
def k0_off1305 (v1743 : BitVec 32) : Fin 2 → Nat :=
  let c24_i32_614 : BitVec 32 := 24#32
  let v1744 : BitVec 32 := Scalar.addi v1743 c24_i32_614
  let v1745 : Index := Scalar.indexCast v1744
  let c0_615 : Index := 0#32
  ![v1745.toNat, 0]

def k0_off1306 (k0_t12 : Fin k0_t12_loop.trips) : Fin 2 → Nat :=
  let c0_616 : Index := 0#32
  let c96_i32_611 : BitVec 32 := 96#32
  let c0_i32_52 : BitVec 32 := 0#32
  let c1_i32_54 : BitVec 32 := 1#32
  let arg20 : BitVec 32 := Scf.iv c0_i32_52 c1_i32_54 k0_t12
  let c8_i32_610 : BitVec 32 := 8#32
  let v1739 : BitVec 32 := Scalar.muli arg20 c8_i32_610
  let v1740 : BitVec 32 := Scalar.addi c96_i32_611 v1739
  let c4_i32_612 : BitVec 32 := 4#32
  let v1741 : BitVec 32 := Scalar.addi v1740 c4_i32_612
  let v1747 : Index := Scalar.indexCast v1741
  ![0, v1747.toNat]
def k0_off1307 (v1743 : BitVec 32) (c0_i32_619 : BitVec 32) : Fin 2 → Nat :=
  let v1761 : BitVec 32 := Scalar.addi v1743 c0_i32_619
  let v1762 : Index := Scalar.indexCast v1761
  let c0_620 : Index := 0#32
  ![v1762.toNat, 0]

def k0_chk290 (v1743 : BitVec 32) : Prop :=
  (∀ a, (k0_off1305 v1743) a + S1x128.size a ≤ S102432x128.size a) ∧
  (∀ (r : Fin 3), ∀ a, (k0_off1307 v1743 (BitVec.ofNat 32 (8 * r.val))) a + S8x128.size a ≤ S102432x128.size a)
theorem k0_off1305_inb : ∀ (v1743 : BitVec 32) (k0_hw290 : k0_chk290 v1743), ∀ a, (k0_off1305 v1743) a + S1x128.size a ≤ S102432x128.size a := fun v1743 k0_hw290 => k0_hw290.1
theorem k0_off1307_inb : ∀ (v1743 : BitVec 32) (k0_hw290 : k0_chk290 v1743), ∀ (r : Fin 3), ∀ a, (k0_off1307 v1743 (BitVec.ofNat 32 (8 * r.val))) a + S8x128.size a ≤ S102432x128.size a := fun v1743 k0_hw290 r => k0_hw290.2 r

def k0_off1308 (k0_t12 : Fin k0_t12_loop.trips) : Fin 2 → Nat :=
  let c1_629 : Index := 1#32
  let c96_i32_611 : BitVec 32 := 96#32
  let c0_i32_52 : BitVec 32 := 0#32
  let c1_i32_54 : BitVec 32 := 1#32
  let arg20 : BitVec 32 := Scf.iv c0_i32_52 c1_i32_54 k0_t12
  let c8_i32_610 : BitVec 32 := 8#32
  let v1739 : BitVec 32 := Scalar.muli arg20 c8_i32_610
  let v1740 : BitVec 32 := Scalar.addi c96_i32_611 v1739
  let c4_i32_612 : BitVec 32 := 4#32
  let v1741 : BitVec 32 := Scalar.addi v1740 c4_i32_612
  let v1789 : Index := Scalar.indexCast v1741
  ![1, v1789.toNat]
def k0_off1309 (v1790 : BitVec 32) : Fin 2 → Nat :=
  let c24_i32_630 : BitVec 32 := 24#32
  let v1791 : BitVec 32 := Scalar.addi v1790 c24_i32_630
  let v1792 : Index := Scalar.indexCast v1791
  let c0_631 : Index := 0#32
  ![v1792.toNat, 0]

def k0_off1310 (k0_t12 : Fin k0_t12_loop.trips) : Fin 2 → Nat :=
  let c1_632 : Index := 1#32
  let c96_i32_611 : BitVec 32 := 96#32
  let c0_i32_52 : BitVec 32 := 0#32
  let c1_i32_54 : BitVec 32 := 1#32
  let arg20 : BitVec 32 := Scf.iv c0_i32_52 c1_i32_54 k0_t12
  let c8_i32_610 : BitVec 32 := 8#32
  let v1739 : BitVec 32 := Scalar.muli arg20 c8_i32_610
  let v1740 : BitVec 32 := Scalar.addi c96_i32_611 v1739
  let c4_i32_612 : BitVec 32 := 4#32
  let v1741 : BitVec 32 := Scalar.addi v1740 c4_i32_612
  let v1794 : Index := Scalar.indexCast v1741
  ![1, v1794.toNat]
def k0_off1311 (v1790 : BitVec 32) (c0_i32_635 : BitVec 32) : Fin 2 → Nat :=
  let v1808 : BitVec 32 := Scalar.addi v1790 c0_i32_635
  let v1809 : Index := Scalar.indexCast v1808
  let c0_636 : Index := 0#32
  ![v1809.toNat, 0]

def k0_chk291 (v1790 : BitVec 32) : Prop :=
  (∀ a, (k0_off1309 v1790) a + S1x128.size a ≤ S102432x128.size a) ∧
  (∀ (r : Fin 3), ∀ a, (k0_off1311 v1790 (BitVec.ofNat 32 (8 * r.val))) a + S8x128.size a ≤ S102432x128.size a)
theorem k0_off1309_inb : ∀ (v1790 : BitVec 32) (k0_hw291 : k0_chk291 v1790), ∀ a, (k0_off1309 v1790) a + S1x128.size a ≤ S102432x128.size a := fun v1790 k0_hw291 => k0_hw291.1
theorem k0_off1311_inb : ∀ (v1790 : BitVec 32) (k0_hw291 : k0_chk291 v1790), ∀ (r : Fin 3), ∀ a, (k0_off1311 v1790 (BitVec.ofNat 32 (8 * r.val))) a + S8x128.size a ≤ S102432x128.size a := fun v1790 k0_hw291 r => k0_hw291.2 r

def k0_off1312 (k0_t12 : Fin k0_t12_loop.trips) : Fin 2 → Nat :=
  let c2_645 : Index := 2#32
  let c96_i32_611 : BitVec 32 := 96#32
  let c0_i32_52 : BitVec 32 := 0#32
  let c1_i32_54 : BitVec 32 := 1#32
  let arg20 : BitVec 32 := Scf.iv c0_i32_52 c1_i32_54 k0_t12
  let c8_i32_610 : BitVec 32 := 8#32
  let v1739 : BitVec 32 := Scalar.muli arg20 c8_i32_610
  let v1740 : BitVec 32 := Scalar.addi c96_i32_611 v1739
  let c4_i32_612 : BitVec 32 := 4#32
  let v1741 : BitVec 32 := Scalar.addi v1740 c4_i32_612
  let v1839 : Index := Scalar.indexCast v1741
  ![2, v1839.toNat]
def k0_off1313 (v1840 : BitVec 32) : Fin 2 → Nat :=
  let c24_i32_646 : BitVec 32 := 24#32
  let v1841 : BitVec 32 := Scalar.addi v1840 c24_i32_646
  let v1842 : Index := Scalar.indexCast v1841
  let c0_647 : Index := 0#32
  ![v1842.toNat, 0]

def k0_off1314 (k0_t12 : Fin k0_t12_loop.trips) : Fin 2 → Nat :=
  let c2_648 : Index := 2#32
  let c96_i32_611 : BitVec 32 := 96#32
  let c0_i32_52 : BitVec 32 := 0#32
  let c1_i32_54 : BitVec 32 := 1#32
  let arg20 : BitVec 32 := Scf.iv c0_i32_52 c1_i32_54 k0_t12
  let c8_i32_610 : BitVec 32 := 8#32
  let v1739 : BitVec 32 := Scalar.muli arg20 c8_i32_610
  let v1740 : BitVec 32 := Scalar.addi c96_i32_611 v1739
  let c4_i32_612 : BitVec 32 := 4#32
  let v1741 : BitVec 32 := Scalar.addi v1740 c4_i32_612
  let v1844 : Index := Scalar.indexCast v1741
  ![2, v1844.toNat]
def k0_off1315 (v1840 : BitVec 32) (c0_i32_651 : BitVec 32) : Fin 2 → Nat :=
  let v1858 : BitVec 32 := Scalar.addi v1840 c0_i32_651
  let v1859 : Index := Scalar.indexCast v1858
  let c0_652 : Index := 0#32
  ![v1859.toNat, 0]

def k0_chk292 (v1840 : BitVec 32) : Prop :=
  (∀ a, (k0_off1313 v1840) a + S1x128.size a ≤ S102432x128.size a) ∧
  (∀ (r : Fin 3), ∀ a, (k0_off1315 v1840 (BitVec.ofNat 32 (8 * r.val))) a + S8x128.size a ≤ S102432x128.size a)
theorem k0_off1313_inb : ∀ (v1840 : BitVec 32) (k0_hw292 : k0_chk292 v1840), ∀ a, (k0_off1313 v1840) a + S1x128.size a ≤ S102432x128.size a := fun v1840 k0_hw292 => k0_hw292.1
theorem k0_off1315_inb : ∀ (v1840 : BitVec 32) (k0_hw292 : k0_chk292 v1840), ∀ (r : Fin 3), ∀ a, (k0_off1315 v1840 (BitVec.ofNat 32 (8 * r.val))) a + S8x128.size a ≤ S102432x128.size a := fun v1840 k0_hw292 r => k0_hw292.2 r

def k0_off1316 (k0_t12 : Fin k0_t12_loop.trips) : Fin 2 → Nat :=
  let c3_661 : Index := 3#32
  let c96_i32_611 : BitVec 32 := 96#32
  let c0_i32_52 : BitVec 32 := 0#32
  let c1_i32_54 : BitVec 32 := 1#32
  let arg20 : BitVec 32 := Scf.iv c0_i32_52 c1_i32_54 k0_t12
  let c8_i32_610 : BitVec 32 := 8#32
  let v1739 : BitVec 32 := Scalar.muli arg20 c8_i32_610
  let v1740 : BitVec 32 := Scalar.addi c96_i32_611 v1739
  let c4_i32_612 : BitVec 32 := 4#32
  let v1741 : BitVec 32 := Scalar.addi v1740 c4_i32_612
  let v1889 : Index := Scalar.indexCast v1741
  ![3, v1889.toNat]
def k0_off1317 (v1890 : BitVec 32) : Fin 2 → Nat :=
  let c24_i32_662 : BitVec 32 := 24#32
  let v1891 : BitVec 32 := Scalar.addi v1890 c24_i32_662
  let v1892 : Index := Scalar.indexCast v1891
  let c0_663 : Index := 0#32
  ![v1892.toNat, 0]

def k0_off1318 (k0_t12 : Fin k0_t12_loop.trips) : Fin 2 → Nat :=
  let c3_664 : Index := 3#32
  let c96_i32_611 : BitVec 32 := 96#32
  let c0_i32_52 : BitVec 32 := 0#32
  let c1_i32_54 : BitVec 32 := 1#32
  let arg20 : BitVec 32 := Scf.iv c0_i32_52 c1_i32_54 k0_t12
  let c8_i32_610 : BitVec 32 := 8#32
  let v1739 : BitVec 32 := Scalar.muli arg20 c8_i32_610
  let v1740 : BitVec 32 := Scalar.addi c96_i32_611 v1739
  let c4_i32_612 : BitVec 32 := 4#32
  let v1741 : BitVec 32 := Scalar.addi v1740 c4_i32_612
  let v1894 : Index := Scalar.indexCast v1741
  ![3, v1894.toNat]
def k0_off1319 (v1890 : BitVec 32) (c0_i32_667 : BitVec 32) : Fin 2 → Nat :=
  let v1908 : BitVec 32 := Scalar.addi v1890 c0_i32_667
  let v1909 : Index := Scalar.indexCast v1908
  let c0_668 : Index := 0#32
  ![v1909.toNat, 0]

def k0_chk293 (v1890 : BitVec 32) : Prop :=
  (∀ a, (k0_off1317 v1890) a + S1x128.size a ≤ S102432x128.size a) ∧
  (∀ (r : Fin 3), ∀ a, (k0_off1319 v1890 (BitVec.ofNat 32 (8 * r.val))) a + S8x128.size a ≤ S102432x128.size a)
theorem k0_off1317_inb : ∀ (v1890 : BitVec 32) (k0_hw293 : k0_chk293 v1890), ∀ a, (k0_off1317 v1890) a + S1x128.size a ≤ S102432x128.size a := fun v1890 k0_hw293 => k0_hw293.1
theorem k0_off1319_inb : ∀ (v1890 : BitVec 32) (k0_hw293 : k0_chk293 v1890), ∀ (r : Fin 3), ∀ a, (k0_off1319 v1890 (BitVec.ofNat 32 (8 * r.val))) a + S8x128.size a ≤ S102432x128.size a := fun v1890 k0_hw293 r => k0_hw293.2 r

def k0_off1320 (k0_t12 : Fin k0_t12_loop.trips) : Fin 2 → Nat :=
  let c4_677 : Index := 4#32
  let c96_i32_611 : BitVec 32 := 96#32
  let c0_i32_52 : BitVec 32 := 0#32
  let c1_i32_54 : BitVec 32 := 1#32
  let arg20 : BitVec 32 := Scf.iv c0_i32_52 c1_i32_54 k0_t12
  let c8_i32_610 : BitVec 32 := 8#32
  let v1739 : BitVec 32 := Scalar.muli arg20 c8_i32_610
  let v1740 : BitVec 32 := Scalar.addi c96_i32_611 v1739
  let c4_i32_612 : BitVec 32 := 4#32
  let v1741 : BitVec 32 := Scalar.addi v1740 c4_i32_612
  let v1939 : Index := Scalar.indexCast v1741
  ![4, v1939.toNat]
def k0_off1321 (v1940 : BitVec 32) : Fin 2 → Nat :=
  let c24_i32_678 : BitVec 32 := 24#32
  let v1941 : BitVec 32 := Scalar.addi v1940 c24_i32_678
  let v1942 : Index := Scalar.indexCast v1941
  let c0_679 : Index := 0#32
  ![v1942.toNat, 0]

def k0_off1322 (k0_t12 : Fin k0_t12_loop.trips) : Fin 2 → Nat :=
  let c4_680 : Index := 4#32
  let c96_i32_611 : BitVec 32 := 96#32
  let c0_i32_52 : BitVec 32 := 0#32
  let c1_i32_54 : BitVec 32 := 1#32
  let arg20 : BitVec 32 := Scf.iv c0_i32_52 c1_i32_54 k0_t12
  let c8_i32_610 : BitVec 32 := 8#32
  let v1739 : BitVec 32 := Scalar.muli arg20 c8_i32_610
  let v1740 : BitVec 32 := Scalar.addi c96_i32_611 v1739
  let c4_i32_612 : BitVec 32 := 4#32
  let v1741 : BitVec 32 := Scalar.addi v1740 c4_i32_612
  let v1944 : Index := Scalar.indexCast v1741
  ![4, v1944.toNat]
def k0_off1323 (v1940 : BitVec 32) (c0_i32_683 : BitVec 32) : Fin 2 → Nat :=
  let v1958 : BitVec 32 := Scalar.addi v1940 c0_i32_683
  let v1959 : Index := Scalar.indexCast v1958
  let c0_684 : Index := 0#32
  ![v1959.toNat, 0]

def k0_chk294 (v1940 : BitVec 32) : Prop :=
  (∀ a, (k0_off1321 v1940) a + S1x128.size a ≤ S102432x128.size a) ∧
  (∀ (r : Fin 3), ∀ a, (k0_off1323 v1940 (BitVec.ofNat 32 (8 * r.val))) a + S8x128.size a ≤ S102432x128.size a)
theorem k0_off1321_inb : ∀ (v1940 : BitVec 32) (k0_hw294 : k0_chk294 v1940), ∀ a, (k0_off1321 v1940) a + S1x128.size a ≤ S102432x128.size a := fun v1940 k0_hw294 => k0_hw294.1
theorem k0_off1323_inb : ∀ (v1940 : BitVec 32) (k0_hw294 : k0_chk294 v1940), ∀ (r : Fin 3), ∀ a, (k0_off1323 v1940 (BitVec.ofNat 32 (8 * r.val))) a + S8x128.size a ≤ S102432x128.size a := fun v1940 k0_hw294 r => k0_hw294.2 r

def k0_off1324 (k0_t12 : Fin k0_t12_loop.trips) : Fin 2 → Nat :=
  let c5_693 : Index := 5#32
  let c96_i32_611 : BitVec 32 := 96#32
  let c0_i32_52 : BitVec 32 := 0#32
  let c1_i32_54 : BitVec 32 := 1#32
  let arg20 : BitVec 32 := Scf.iv c0_i32_52 c1_i32_54 k0_t12
  let c8_i32_610 : BitVec 32 := 8#32
  let v1739 : BitVec 32 := Scalar.muli arg20 c8_i32_610
  let v1740 : BitVec 32 := Scalar.addi c96_i32_611 v1739
  let c4_i32_612 : BitVec 32 := 4#32
  let v1741 : BitVec 32 := Scalar.addi v1740 c4_i32_612
  let v1989 : Index := Scalar.indexCast v1741
  ![5, v1989.toNat]
def k0_off1325 (v1990 : BitVec 32) : Fin 2 → Nat :=
  let c24_i32_694 : BitVec 32 := 24#32
  let v1991 : BitVec 32 := Scalar.addi v1990 c24_i32_694
  let v1992 : Index := Scalar.indexCast v1991
  let c0_695 : Index := 0#32
  ![v1992.toNat, 0]

def k0_off1326 (k0_t12 : Fin k0_t12_loop.trips) : Fin 2 → Nat :=
  let c5_696 : Index := 5#32
  let c96_i32_611 : BitVec 32 := 96#32
  let c0_i32_52 : BitVec 32 := 0#32
  let c1_i32_54 : BitVec 32 := 1#32
  let arg20 : BitVec 32 := Scf.iv c0_i32_52 c1_i32_54 k0_t12
  let c8_i32_610 : BitVec 32 := 8#32
  let v1739 : BitVec 32 := Scalar.muli arg20 c8_i32_610
  let v1740 : BitVec 32 := Scalar.addi c96_i32_611 v1739
  let c4_i32_612 : BitVec 32 := 4#32
  let v1741 : BitVec 32 := Scalar.addi v1740 c4_i32_612
  let v1994 : Index := Scalar.indexCast v1741
  ![5, v1994.toNat]
def k0_off1327 (v1990 : BitVec 32) (c0_i32_699 : BitVec 32) : Fin 2 → Nat :=
  let v2008 : BitVec 32 := Scalar.addi v1990 c0_i32_699
  let v2009 : Index := Scalar.indexCast v2008
  let c0_700 : Index := 0#32
  ![v2009.toNat, 0]

def k0_chk295 (v1990 : BitVec 32) : Prop :=
  (∀ a, (k0_off1325 v1990) a + S1x128.size a ≤ S102432x128.size a) ∧
  (∀ (r : Fin 3), ∀ a, (k0_off1327 v1990 (BitVec.ofNat 32 (8 * r.val))) a + S8x128.size a ≤ S102432x128.size a)
theorem k0_off1325_inb : ∀ (v1990 : BitVec 32) (k0_hw295 : k0_chk295 v1990), ∀ a, (k0_off1325 v1990) a + S1x128.size a ≤ S102432x128.size a := fun v1990 k0_hw295 => k0_hw295.1
theorem k0_off1327_inb : ∀ (v1990 : BitVec 32) (k0_hw295 : k0_chk295 v1990), ∀ (r : Fin 3), ∀ a, (k0_off1327 v1990 (BitVec.ofNat 32 (8 * r.val))) a + S8x128.size a ≤ S102432x128.size a := fun v1990 k0_hw295 r => k0_hw295.2 r

def k0_off1328 (k0_t12 : Fin k0_t12_loop.trips) : Fin 2 → Nat :=
  let c6_709 : Index := 6#32
  let c96_i32_611 : BitVec 32 := 96#32
  let c0_i32_52 : BitVec 32 := 0#32
  let c1_i32_54 : BitVec 32 := 1#32
  let arg20 : BitVec 32 := Scf.iv c0_i32_52 c1_i32_54 k0_t12
  let c8_i32_610 : BitVec 32 := 8#32
  let v1739 : BitVec 32 := Scalar.muli arg20 c8_i32_610
  let v1740 : BitVec 32 := Scalar.addi c96_i32_611 v1739
  let c4_i32_612 : BitVec 32 := 4#32
  let v1741 : BitVec 32 := Scalar.addi v1740 c4_i32_612
  let v2039 : Index := Scalar.indexCast v1741
  ![6, v2039.toNat]
def k0_off1329 (v2040 : BitVec 32) : Fin 2 → Nat :=
  let c24_i32_710 : BitVec 32 := 24#32
  let v2041 : BitVec 32 := Scalar.addi v2040 c24_i32_710
  let v2042 : Index := Scalar.indexCast v2041
  let c0_711 : Index := 0#32
  ![v2042.toNat, 0]

def k0_off1330 (k0_t12 : Fin k0_t12_loop.trips) : Fin 2 → Nat :=
  let c6_712 : Index := 6#32
  let c96_i32_611 : BitVec 32 := 96#32
  let c0_i32_52 : BitVec 32 := 0#32
  let c1_i32_54 : BitVec 32 := 1#32
  let arg20 : BitVec 32 := Scf.iv c0_i32_52 c1_i32_54 k0_t12
  let c8_i32_610 : BitVec 32 := 8#32
  let v1739 : BitVec 32 := Scalar.muli arg20 c8_i32_610
  let v1740 : BitVec 32 := Scalar.addi c96_i32_611 v1739
  let c4_i32_612 : BitVec 32 := 4#32
  let v1741 : BitVec 32 := Scalar.addi v1740 c4_i32_612
  let v2044 : Index := Scalar.indexCast v1741
  ![6, v2044.toNat]
def k0_off1331 (v2040 : BitVec 32) (c0_i32_715 : BitVec 32) : Fin 2 → Nat :=
  let v2058 : BitVec 32 := Scalar.addi v2040 c0_i32_715
  let v2059 : Index := Scalar.indexCast v2058
  let c0_716 : Index := 0#32
  ![v2059.toNat, 0]

def k0_chk296 (v2040 : BitVec 32) : Prop :=
  (∀ a, (k0_off1329 v2040) a + S1x128.size a ≤ S102432x128.size a) ∧
  (∀ (r : Fin 3), ∀ a, (k0_off1331 v2040 (BitVec.ofNat 32 (8 * r.val))) a + S8x128.size a ≤ S102432x128.size a)
theorem k0_off1329_inb : ∀ (v2040 : BitVec 32) (k0_hw296 : k0_chk296 v2040), ∀ a, (k0_off1329 v2040) a + S1x128.size a ≤ S102432x128.size a := fun v2040 k0_hw296 => k0_hw296.1
theorem k0_off1331_inb : ∀ (v2040 : BitVec 32) (k0_hw296 : k0_chk296 v2040), ∀ (r : Fin 3), ∀ a, (k0_off1331 v2040 (BitVec.ofNat 32 (8 * r.val))) a + S8x128.size a ≤ S102432x128.size a := fun v2040 k0_hw296 r => k0_hw296.2 r

def k0_off1332 (k0_t12 : Fin k0_t12_loop.trips) : Fin 2 → Nat :=
  let c7_725 : Index := 7#32
  let c96_i32_611 : BitVec 32 := 96#32
  let c0_i32_52 : BitVec 32 := 0#32
  let c1_i32_54 : BitVec 32 := 1#32
  let arg20 : BitVec 32 := Scf.iv c0_i32_52 c1_i32_54 k0_t12
  let c8_i32_610 : BitVec 32 := 8#32
  let v1739 : BitVec 32 := Scalar.muli arg20 c8_i32_610
  let v1740 : BitVec 32 := Scalar.addi c96_i32_611 v1739
  let c4_i32_612 : BitVec 32 := 4#32
  let v1741 : BitVec 32 := Scalar.addi v1740 c4_i32_612
  let v2089 : Index := Scalar.indexCast v1741
  ![7, v2089.toNat]
def k0_off1333 (v2090 : BitVec 32) : Fin 2 → Nat :=
  let c24_i32_726 : BitVec 32 := 24#32
  let v2091 : BitVec 32 := Scalar.addi v2090 c24_i32_726
  let v2092 : Index := Scalar.indexCast v2091
  let c0_727 : Index := 0#32
  ![v2092.toNat, 0]

def k0_off1334 (k0_t12 : Fin k0_t12_loop.trips) : Fin 2 → Nat :=
  let c7_728 : Index := 7#32
  let c96_i32_611 : BitVec 32 := 96#32
  let c0_i32_52 : BitVec 32 := 0#32
  let c1_i32_54 : BitVec 32 := 1#32
  let arg20 : BitVec 32 := Scf.iv c0_i32_52 c1_i32_54 k0_t12
  let c8_i32_610 : BitVec 32 := 8#32
  let v1739 : BitVec 32 := Scalar.muli arg20 c8_i32_610
  let v1740 : BitVec 32 := Scalar.addi c96_i32_611 v1739
  let c4_i32_612 : BitVec 32 := 4#32
  let v1741 : BitVec 32 := Scalar.addi v1740 c4_i32_612
  let v2094 : Index := Scalar.indexCast v1741
  ![7, v2094.toNat]
def k0_off1335 (v2090 : BitVec 32) (c0_i32_731 : BitVec 32) : Fin 2 → Nat :=
  let v2108 : BitVec 32 := Scalar.addi v2090 c0_i32_731
  let v2109 : Index := Scalar.indexCast v2108
  let c0_732 : Index := 0#32
  ![v2109.toNat, 0]

def k0_chk297 (v2090 : BitVec 32) : Prop :=
  (∀ a, (k0_off1333 v2090) a + S1x128.size a ≤ S102432x128.size a) ∧
  (∀ (r : Fin 3), ∀ a, (k0_off1335 v2090 (BitVec.ofNat 32 (8 * r.val))) a + S8x128.size a ≤ S102432x128.size a)
theorem k0_off1333_inb : ∀ (v2090 : BitVec 32) (k0_hw297 : k0_chk297 v2090), ∀ a, (k0_off1333 v2090) a + S1x128.size a ≤ S102432x128.size a := fun v2090 k0_hw297 => k0_hw297.1
theorem k0_off1335_inb : ∀ (v2090 : BitVec 32) (k0_hw297 : k0_chk297 v2090), ∀ (r : Fin 3), ∀ a, (k0_off1335 v2090 (BitVec.ofNat 32 (8 * r.val))) a + S8x128.size a ≤ S102432x128.size a := fun v2090 k0_hw297 r => k0_hw297.2 r

def k0_off1336 (k0_t12 : Fin k0_t12_loop.trips) (c0_i32_742 : BitVec 32) : Fin 2 → Nat :=
  let c96_i32_611 : BitVec 32 := 96#32
  let c0_i32_52 : BitVec 32 := 0#32
  let c1_i32_54 : BitVec 32 := 1#32
  let arg20 : BitVec 32 := Scf.iv c0_i32_52 c1_i32_54 k0_t12
  let c8_i32_610 : BitVec 32 := 8#32
  let v1739 : BitVec 32 := Scalar.muli arg20 c8_i32_610
  let v1740 : BitVec 32 := Scalar.addi c96_i32_611 v1739
  let c4_i32_612 : BitVec 32 := 4#32
  let v1741 : BitVec 32 := Scalar.addi v1740 c4_i32_612
  let c25_i32_741 : BitVec 32 := 25#32
  let v2139 : BitVec 32 := Scalar.muli v1741 c25_i32_741
  let v2140 : BitVec 32 := Scalar.addi v2139 c0_i32_742
  let v2141 : Index := Scalar.indexCast v2140
  let c0_743 : Index := 0#32
  ![v2141.toNat, 0]
def k0_off1337 (k0_t12 : Fin k0_t12_loop.trips) : Fin 2 → Nat :=
  let c0_752 : Index := 0#32
  let c96_i32_751 : BitVec 32 := 96#32
  let c0_i32_52 : BitVec 32 := 0#32
  let c1_i32_54 : BitVec 32 := 1#32
  let arg20 : BitVec 32 := Scf.iv c0_i32_52 c1_i32_54 k0_t12
  let c8_i32_750 : BitVec 32 := 8#32
  let v2157 : BitVec 32 := Scalar.muli arg20 c8_i32_750
  let v2158 : BitVec 32 := Scalar.addi c96_i32_751 v2157
  let c5_i32 : BitVec 32 := 5#32
  let v2159 : BitVec 32 := Scalar.addi v2158 c5_i32
  let v2160 : Index := Scalar.indexCast v2159
  ![0, v2160.toNat]
def k0_off1338 (v2161 : BitVec 32) : Fin 2 → Nat :=
  let c24_i32_753 : BitVec 32 := 24#32
  let v2162 : BitVec 32 := Scalar.addi v2161 c24_i32_753
  let v2163 : Index := Scalar.indexCast v2162
  let c0_754 : Index := 0#32
  ![v2163.toNat, 0]

def k0_off1339 (k0_t12 : Fin k0_t12_loop.trips) : Fin 2 → Nat :=
  let c0_755 : Index := 0#32
  let c96_i32_751 : BitVec 32 := 96#32
  let c0_i32_52 : BitVec 32 := 0#32
  let c1_i32_54 : BitVec 32 := 1#32
  let arg20 : BitVec 32 := Scf.iv c0_i32_52 c1_i32_54 k0_t12
  let c8_i32_750 : BitVec 32 := 8#32
  let v2157 : BitVec 32 := Scalar.muli arg20 c8_i32_750
  let v2158 : BitVec 32 := Scalar.addi c96_i32_751 v2157
  let c5_i32 : BitVec 32 := 5#32
  let v2159 : BitVec 32 := Scalar.addi v2158 c5_i32
  let v2165 : Index := Scalar.indexCast v2159
  ![0, v2165.toNat]
def k0_off1340 (v2161 : BitVec 32) (c0_i32_758 : BitVec 32) : Fin 2 → Nat :=
  let v2179 : BitVec 32 := Scalar.addi v2161 c0_i32_758
  let v2180 : Index := Scalar.indexCast v2179
  let c0_759 : Index := 0#32
  ![v2180.toNat, 0]

def k0_chk298 (v2161 : BitVec 32) : Prop :=
  (∀ a, (k0_off1338 v2161) a + S1x128.size a ≤ S102432x128.size a) ∧
  (∀ (r : Fin 3), ∀ a, (k0_off1340 v2161 (BitVec.ofNat 32 (8 * r.val))) a + S8x128.size a ≤ S102432x128.size a)
theorem k0_off1338_inb : ∀ (v2161 : BitVec 32) (k0_hw298 : k0_chk298 v2161), ∀ a, (k0_off1338 v2161) a + S1x128.size a ≤ S102432x128.size a := fun v2161 k0_hw298 => k0_hw298.1
theorem k0_off1340_inb : ∀ (v2161 : BitVec 32) (k0_hw298 : k0_chk298 v2161), ∀ (r : Fin 3), ∀ a, (k0_off1340 v2161 (BitVec.ofNat 32 (8 * r.val))) a + S8x128.size a ≤ S102432x128.size a := fun v2161 k0_hw298 r => k0_hw298.2 r

def k0_off1341 (k0_t12 : Fin k0_t12_loop.trips) : Fin 2 → Nat :=
  let c1_768 : Index := 1#32
  let c96_i32_751 : BitVec 32 := 96#32
  let c0_i32_52 : BitVec 32 := 0#32
  let c1_i32_54 : BitVec 32 := 1#32
  let arg20 : BitVec 32 := Scf.iv c0_i32_52 c1_i32_54 k0_t12
  let c8_i32_750 : BitVec 32 := 8#32
  let v2157 : BitVec 32 := Scalar.muli arg20 c8_i32_750
  let v2158 : BitVec 32 := Scalar.addi c96_i32_751 v2157
  let c5_i32 : BitVec 32 := 5#32
  let v2159 : BitVec 32 := Scalar.addi v2158 c5_i32
  let v2207 : Index := Scalar.indexCast v2159
  ![1, v2207.toNat]
def k0_off1342 (v2208 : BitVec 32) : Fin 2 → Nat :=
  let c24_i32_769 : BitVec 32 := 24#32
  let v2209 : BitVec 32 := Scalar.addi v2208 c24_i32_769
  let v2210 : Index := Scalar.indexCast v2209
  let c0_770 : Index := 0#32
  ![v2210.toNat, 0]

def k0_off1343 (k0_t12 : Fin k0_t12_loop.trips) : Fin 2 → Nat :=
  let c1_771 : Index := 1#32
  let c96_i32_751 : BitVec 32 := 96#32
  let c0_i32_52 : BitVec 32 := 0#32
  let c1_i32_54 : BitVec 32 := 1#32
  let arg20 : BitVec 32 := Scf.iv c0_i32_52 c1_i32_54 k0_t12
  let c8_i32_750 : BitVec 32 := 8#32
  let v2157 : BitVec 32 := Scalar.muli arg20 c8_i32_750
  let v2158 : BitVec 32 := Scalar.addi c96_i32_751 v2157
  let c5_i32 : BitVec 32 := 5#32
  let v2159 : BitVec 32 := Scalar.addi v2158 c5_i32
  let v2212 : Index := Scalar.indexCast v2159
  ![1, v2212.toNat]
def k0_off1344 (v2208 : BitVec 32) (c0_i32_774 : BitVec 32) : Fin 2 → Nat :=
  let v2226 : BitVec 32 := Scalar.addi v2208 c0_i32_774
  let v2227 : Index := Scalar.indexCast v2226
  let c0_775 : Index := 0#32
  ![v2227.toNat, 0]

def k0_chk299 (v2208 : BitVec 32) : Prop :=
  (∀ a, (k0_off1342 v2208) a + S1x128.size a ≤ S102432x128.size a) ∧
  (∀ (r : Fin 3), ∀ a, (k0_off1344 v2208 (BitVec.ofNat 32 (8 * r.val))) a + S8x128.size a ≤ S102432x128.size a)
theorem k0_off1342_inb : ∀ (v2208 : BitVec 32) (k0_hw299 : k0_chk299 v2208), ∀ a, (k0_off1342 v2208) a + S1x128.size a ≤ S102432x128.size a := fun v2208 k0_hw299 => k0_hw299.1
theorem k0_off1344_inb : ∀ (v2208 : BitVec 32) (k0_hw299 : k0_chk299 v2208), ∀ (r : Fin 3), ∀ a, (k0_off1344 v2208 (BitVec.ofNat 32 (8 * r.val))) a + S8x128.size a ≤ S102432x128.size a := fun v2208 k0_hw299 r => k0_hw299.2 r

def k0_off1345 (k0_t12 : Fin k0_t12_loop.trips) : Fin 2 → Nat :=
  let c2_784 : Index := 2#32
  let c96_i32_751 : BitVec 32 := 96#32
  let c0_i32_52 : BitVec 32 := 0#32
  let c1_i32_54 : BitVec 32 := 1#32
  let arg20 : BitVec 32 := Scf.iv c0_i32_52 c1_i32_54 k0_t12
  let c8_i32_750 : BitVec 32 := 8#32
  let v2157 : BitVec 32 := Scalar.muli arg20 c8_i32_750
  let v2158 : BitVec 32 := Scalar.addi c96_i32_751 v2157
  let c5_i32 : BitVec 32 := 5#32
  let v2159 : BitVec 32 := Scalar.addi v2158 c5_i32
  let v2257 : Index := Scalar.indexCast v2159
  ![2, v2257.toNat]
def k0_off1346 (v2258 : BitVec 32) : Fin 2 → Nat :=
  let c24_i32_785 : BitVec 32 := 24#32
  let v2259 : BitVec 32 := Scalar.addi v2258 c24_i32_785
  let v2260 : Index := Scalar.indexCast v2259
  let c0_786 : Index := 0#32
  ![v2260.toNat, 0]

def k0_off1347 (k0_t12 : Fin k0_t12_loop.trips) : Fin 2 → Nat :=
  let c2_787 : Index := 2#32
  let c96_i32_751 : BitVec 32 := 96#32
  let c0_i32_52 : BitVec 32 := 0#32
  let c1_i32_54 : BitVec 32 := 1#32
  let arg20 : BitVec 32 := Scf.iv c0_i32_52 c1_i32_54 k0_t12
  let c8_i32_750 : BitVec 32 := 8#32
  let v2157 : BitVec 32 := Scalar.muli arg20 c8_i32_750
  let v2158 : BitVec 32 := Scalar.addi c96_i32_751 v2157
  let c5_i32 : BitVec 32 := 5#32
  let v2159 : BitVec 32 := Scalar.addi v2158 c5_i32
  let v2262 : Index := Scalar.indexCast v2159
  ![2, v2262.toNat]
def k0_off1348 (v2258 : BitVec 32) (c0_i32_790 : BitVec 32) : Fin 2 → Nat :=
  let v2276 : BitVec 32 := Scalar.addi v2258 c0_i32_790
  let v2277 : Index := Scalar.indexCast v2276
  let c0_791 : Index := 0#32
  ![v2277.toNat, 0]

def k0_chk300 (v2258 : BitVec 32) : Prop :=
  (∀ a, (k0_off1346 v2258) a + S1x128.size a ≤ S102432x128.size a) ∧
  (∀ (r : Fin 3), ∀ a, (k0_off1348 v2258 (BitVec.ofNat 32 (8 * r.val))) a + S8x128.size a ≤ S102432x128.size a)
theorem k0_off1346_inb : ∀ (v2258 : BitVec 32) (k0_hw300 : k0_chk300 v2258), ∀ a, (k0_off1346 v2258) a + S1x128.size a ≤ S102432x128.size a := fun v2258 k0_hw300 => k0_hw300.1
theorem k0_off1348_inb : ∀ (v2258 : BitVec 32) (k0_hw300 : k0_chk300 v2258), ∀ (r : Fin 3), ∀ a, (k0_off1348 v2258 (BitVec.ofNat 32 (8 * r.val))) a + S8x128.size a ≤ S102432x128.size a := fun v2258 k0_hw300 r => k0_hw300.2 r

def k0_off1349 (k0_t12 : Fin k0_t12_loop.trips) : Fin 2 → Nat :=
  let c3_800 : Index := 3#32
  let c96_i32_751 : BitVec 32 := 96#32
  let c0_i32_52 : BitVec 32 := 0#32
  let c1_i32_54 : BitVec 32 := 1#32
  let arg20 : BitVec 32 := Scf.iv c0_i32_52 c1_i32_54 k0_t12
  let c8_i32_750 : BitVec 32 := 8#32
  let v2157 : BitVec 32 := Scalar.muli arg20 c8_i32_750
  let v2158 : BitVec 32 := Scalar.addi c96_i32_751 v2157
  let c5_i32 : BitVec 32 := 5#32
  let v2159 : BitVec 32 := Scalar.addi v2158 c5_i32
  let v2307 : Index := Scalar.indexCast v2159
  ![3, v2307.toNat]
def k0_off1350 (v2308 : BitVec 32) : Fin 2 → Nat :=
  let c24_i32_801 : BitVec 32 := 24#32
  let v2309 : BitVec 32 := Scalar.addi v2308 c24_i32_801
  let v2310 : Index := Scalar.indexCast v2309
  let c0_802 : Index := 0#32
  ![v2310.toNat, 0]

def k0_off1351 (k0_t12 : Fin k0_t12_loop.trips) : Fin 2 → Nat :=
  let c3_803 : Index := 3#32
  let c96_i32_751 : BitVec 32 := 96#32
  let c0_i32_52 : BitVec 32 := 0#32
  let c1_i32_54 : BitVec 32 := 1#32
  let arg20 : BitVec 32 := Scf.iv c0_i32_52 c1_i32_54 k0_t12
  let c8_i32_750 : BitVec 32 := 8#32
  let v2157 : BitVec 32 := Scalar.muli arg20 c8_i32_750
  let v2158 : BitVec 32 := Scalar.addi c96_i32_751 v2157
  let c5_i32 : BitVec 32 := 5#32
  let v2159 : BitVec 32 := Scalar.addi v2158 c5_i32
  let v2312 : Index := Scalar.indexCast v2159
  ![3, v2312.toNat]
def k0_off1352 (v2308 : BitVec 32) (c0_i32_806 : BitVec 32) : Fin 2 → Nat :=
  let v2326 : BitVec 32 := Scalar.addi v2308 c0_i32_806
  let v2327 : Index := Scalar.indexCast v2326
  let c0_807 : Index := 0#32
  ![v2327.toNat, 0]

def k0_chk301 (v2308 : BitVec 32) : Prop :=
  (∀ a, (k0_off1350 v2308) a + S1x128.size a ≤ S102432x128.size a) ∧
  (∀ (r : Fin 3), ∀ a, (k0_off1352 v2308 (BitVec.ofNat 32 (8 * r.val))) a + S8x128.size a ≤ S102432x128.size a)
theorem k0_off1350_inb : ∀ (v2308 : BitVec 32) (k0_hw301 : k0_chk301 v2308), ∀ a, (k0_off1350 v2308) a + S1x128.size a ≤ S102432x128.size a := fun v2308 k0_hw301 => k0_hw301.1
theorem k0_off1352_inb : ∀ (v2308 : BitVec 32) (k0_hw301 : k0_chk301 v2308), ∀ (r : Fin 3), ∀ a, (k0_off1352 v2308 (BitVec.ofNat 32 (8 * r.val))) a + S8x128.size a ≤ S102432x128.size a := fun v2308 k0_hw301 r => k0_hw301.2 r

def k0_off1353 (k0_t12 : Fin k0_t12_loop.trips) : Fin 2 → Nat :=
  let c4_816 : Index := 4#32
  let c96_i32_751 : BitVec 32 := 96#32
  let c0_i32_52 : BitVec 32 := 0#32
  let c1_i32_54 : BitVec 32 := 1#32
  let arg20 : BitVec 32 := Scf.iv c0_i32_52 c1_i32_54 k0_t12
  let c8_i32_750 : BitVec 32 := 8#32
  let v2157 : BitVec 32 := Scalar.muli arg20 c8_i32_750
  let v2158 : BitVec 32 := Scalar.addi c96_i32_751 v2157
  let c5_i32 : BitVec 32 := 5#32
  let v2159 : BitVec 32 := Scalar.addi v2158 c5_i32
  let v2357 : Index := Scalar.indexCast v2159
  ![4, v2357.toNat]
def k0_off1354 (v2358 : BitVec 32) : Fin 2 → Nat :=
  let c24_i32_817 : BitVec 32 := 24#32
  let v2359 : BitVec 32 := Scalar.addi v2358 c24_i32_817
  let v2360 : Index := Scalar.indexCast v2359
  let c0_818 : Index := 0#32
  ![v2360.toNat, 0]

def k0_off1355 (k0_t12 : Fin k0_t12_loop.trips) : Fin 2 → Nat :=
  let c4_819 : Index := 4#32
  let c96_i32_751 : BitVec 32 := 96#32
  let c0_i32_52 : BitVec 32 := 0#32
  let c1_i32_54 : BitVec 32 := 1#32
  let arg20 : BitVec 32 := Scf.iv c0_i32_52 c1_i32_54 k0_t12
  let c8_i32_750 : BitVec 32 := 8#32
  let v2157 : BitVec 32 := Scalar.muli arg20 c8_i32_750
  let v2158 : BitVec 32 := Scalar.addi c96_i32_751 v2157
  let c5_i32 : BitVec 32 := 5#32
  let v2159 : BitVec 32 := Scalar.addi v2158 c5_i32
  let v2362 : Index := Scalar.indexCast v2159
  ![4, v2362.toNat]
def k0_off1356 (v2358 : BitVec 32) (c0_i32_822 : BitVec 32) : Fin 2 → Nat :=
  let v2376 : BitVec 32 := Scalar.addi v2358 c0_i32_822
  let v2377 : Index := Scalar.indexCast v2376
  let c0_823 : Index := 0#32
  ![v2377.toNat, 0]

def k0_chk302 (v2358 : BitVec 32) : Prop :=
  (∀ a, (k0_off1354 v2358) a + S1x128.size a ≤ S102432x128.size a) ∧
  (∀ (r : Fin 3), ∀ a, (k0_off1356 v2358 (BitVec.ofNat 32 (8 * r.val))) a + S8x128.size a ≤ S102432x128.size a)
theorem k0_off1354_inb : ∀ (v2358 : BitVec 32) (k0_hw302 : k0_chk302 v2358), ∀ a, (k0_off1354 v2358) a + S1x128.size a ≤ S102432x128.size a := fun v2358 k0_hw302 => k0_hw302.1
theorem k0_off1356_inb : ∀ (v2358 : BitVec 32) (k0_hw302 : k0_chk302 v2358), ∀ (r : Fin 3), ∀ a, (k0_off1356 v2358 (BitVec.ofNat 32 (8 * r.val))) a + S8x128.size a ≤ S102432x128.size a := fun v2358 k0_hw302 r => k0_hw302.2 r

def k0_off1357 (k0_t12 : Fin k0_t12_loop.trips) : Fin 2 → Nat :=
  let c5_832 : Index := 5#32
  let c96_i32_751 : BitVec 32 := 96#32
  let c0_i32_52 : BitVec 32 := 0#32
  let c1_i32_54 : BitVec 32 := 1#32
  let arg20 : BitVec 32 := Scf.iv c0_i32_52 c1_i32_54 k0_t12
  let c8_i32_750 : BitVec 32 := 8#32
  let v2157 : BitVec 32 := Scalar.muli arg20 c8_i32_750
  let v2158 : BitVec 32 := Scalar.addi c96_i32_751 v2157
  let c5_i32 : BitVec 32 := 5#32
  let v2159 : BitVec 32 := Scalar.addi v2158 c5_i32
  let v2407 : Index := Scalar.indexCast v2159
  ![5, v2407.toNat]
def k0_off1358 (v2408 : BitVec 32) : Fin 2 → Nat :=
  let c24_i32_833 : BitVec 32 := 24#32
  let v2409 : BitVec 32 := Scalar.addi v2408 c24_i32_833
  let v2410 : Index := Scalar.indexCast v2409
  let c0_834 : Index := 0#32
  ![v2410.toNat, 0]

def k0_off1359 (k0_t12 : Fin k0_t12_loop.trips) : Fin 2 → Nat :=
  let c5_835 : Index := 5#32
  let c96_i32_751 : BitVec 32 := 96#32
  let c0_i32_52 : BitVec 32 := 0#32
  let c1_i32_54 : BitVec 32 := 1#32
  let arg20 : BitVec 32 := Scf.iv c0_i32_52 c1_i32_54 k0_t12
  let c8_i32_750 : BitVec 32 := 8#32
  let v2157 : BitVec 32 := Scalar.muli arg20 c8_i32_750
  let v2158 : BitVec 32 := Scalar.addi c96_i32_751 v2157
  let c5_i32 : BitVec 32 := 5#32
  let v2159 : BitVec 32 := Scalar.addi v2158 c5_i32
  let v2412 : Index := Scalar.indexCast v2159
  ![5, v2412.toNat]
def k0_off1360 (v2408 : BitVec 32) (c0_i32_838 : BitVec 32) : Fin 2 → Nat :=
  let v2426 : BitVec 32 := Scalar.addi v2408 c0_i32_838
  let v2427 : Index := Scalar.indexCast v2426
  let c0_839 : Index := 0#32
  ![v2427.toNat, 0]

def k0_chk303 (v2408 : BitVec 32) : Prop :=
  (∀ a, (k0_off1358 v2408) a + S1x128.size a ≤ S102432x128.size a) ∧
  (∀ (r : Fin 3), ∀ a, (k0_off1360 v2408 (BitVec.ofNat 32 (8 * r.val))) a + S8x128.size a ≤ S102432x128.size a)
theorem k0_off1358_inb : ∀ (v2408 : BitVec 32) (k0_hw303 : k0_chk303 v2408), ∀ a, (k0_off1358 v2408) a + S1x128.size a ≤ S102432x128.size a := fun v2408 k0_hw303 => k0_hw303.1
theorem k0_off1360_inb : ∀ (v2408 : BitVec 32) (k0_hw303 : k0_chk303 v2408), ∀ (r : Fin 3), ∀ a, (k0_off1360 v2408 (BitVec.ofNat 32 (8 * r.val))) a + S8x128.size a ≤ S102432x128.size a := fun v2408 k0_hw303 r => k0_hw303.2 r

def k0_off1361 (k0_t12 : Fin k0_t12_loop.trips) : Fin 2 → Nat :=
  let c6_848 : Index := 6#32
  let c96_i32_751 : BitVec 32 := 96#32
  let c0_i32_52 : BitVec 32 := 0#32
  let c1_i32_54 : BitVec 32 := 1#32
  let arg20 : BitVec 32 := Scf.iv c0_i32_52 c1_i32_54 k0_t12
  let c8_i32_750 : BitVec 32 := 8#32
  let v2157 : BitVec 32 := Scalar.muli arg20 c8_i32_750
  let v2158 : BitVec 32 := Scalar.addi c96_i32_751 v2157
  let c5_i32 : BitVec 32 := 5#32
  let v2159 : BitVec 32 := Scalar.addi v2158 c5_i32
  let v2457 : Index := Scalar.indexCast v2159
  ![6, v2457.toNat]
def k0_off1362 (v2458 : BitVec 32) : Fin 2 → Nat :=
  let c24_i32_849 : BitVec 32 := 24#32
  let v2459 : BitVec 32 := Scalar.addi v2458 c24_i32_849
  let v2460 : Index := Scalar.indexCast v2459
  let c0_850 : Index := 0#32
  ![v2460.toNat, 0]

def k0_off1363 (k0_t12 : Fin k0_t12_loop.trips) : Fin 2 → Nat :=
  let c6_851 : Index := 6#32
  let c96_i32_751 : BitVec 32 := 96#32
  let c0_i32_52 : BitVec 32 := 0#32
  let c1_i32_54 : BitVec 32 := 1#32
  let arg20 : BitVec 32 := Scf.iv c0_i32_52 c1_i32_54 k0_t12
  let c8_i32_750 : BitVec 32 := 8#32
  let v2157 : BitVec 32 := Scalar.muli arg20 c8_i32_750
  let v2158 : BitVec 32 := Scalar.addi c96_i32_751 v2157
  let c5_i32 : BitVec 32 := 5#32
  let v2159 : BitVec 32 := Scalar.addi v2158 c5_i32
  let v2462 : Index := Scalar.indexCast v2159
  ![6, v2462.toNat]
def k0_off1364 (v2458 : BitVec 32) (c0_i32_854 : BitVec 32) : Fin 2 → Nat :=
  let v2476 : BitVec 32 := Scalar.addi v2458 c0_i32_854
  let v2477 : Index := Scalar.indexCast v2476
  let c0_855 : Index := 0#32
  ![v2477.toNat, 0]

def k0_chk304 (v2458 : BitVec 32) : Prop :=
  (∀ a, (k0_off1362 v2458) a + S1x128.size a ≤ S102432x128.size a) ∧
  (∀ (r : Fin 3), ∀ a, (k0_off1364 v2458 (BitVec.ofNat 32 (8 * r.val))) a + S8x128.size a ≤ S102432x128.size a)
theorem k0_off1362_inb : ∀ (v2458 : BitVec 32) (k0_hw304 : k0_chk304 v2458), ∀ a, (k0_off1362 v2458) a + S1x128.size a ≤ S102432x128.size a := fun v2458 k0_hw304 => k0_hw304.1
theorem k0_off1364_inb : ∀ (v2458 : BitVec 32) (k0_hw304 : k0_chk304 v2458), ∀ (r : Fin 3), ∀ a, (k0_off1364 v2458 (BitVec.ofNat 32 (8 * r.val))) a + S8x128.size a ≤ S102432x128.size a := fun v2458 k0_hw304 r => k0_hw304.2 r

def k0_off1365 (k0_t12 : Fin k0_t12_loop.trips) : Fin 2 → Nat :=
  let c7_864 : Index := 7#32
  let c96_i32_751 : BitVec 32 := 96#32
  let c0_i32_52 : BitVec 32 := 0#32
  let c1_i32_54 : BitVec 32 := 1#32
  let arg20 : BitVec 32 := Scf.iv c0_i32_52 c1_i32_54 k0_t12
  let c8_i32_750 : BitVec 32 := 8#32
  let v2157 : BitVec 32 := Scalar.muli arg20 c8_i32_750
  let v2158 : BitVec 32 := Scalar.addi c96_i32_751 v2157
  let c5_i32 : BitVec 32 := 5#32
  let v2159 : BitVec 32 := Scalar.addi v2158 c5_i32
  let v2507 : Index := Scalar.indexCast v2159
  ![7, v2507.toNat]
def k0_off1366 (v2508 : BitVec 32) : Fin 2 → Nat :=
  let c24_i32_865 : BitVec 32 := 24#32
  let v2509 : BitVec 32 := Scalar.addi v2508 c24_i32_865
  let v2510 : Index := Scalar.indexCast v2509
  let c0_866 : Index := 0#32
  ![v2510.toNat, 0]

def k0_off1367 (k0_t12 : Fin k0_t12_loop.trips) : Fin 2 → Nat :=
  let c7_867 : Index := 7#32
  let c96_i32_751 : BitVec 32 := 96#32
  let c0_i32_52 : BitVec 32 := 0#32
  let c1_i32_54 : BitVec 32 := 1#32
  let arg20 : BitVec 32 := Scf.iv c0_i32_52 c1_i32_54 k0_t12
  let c8_i32_750 : BitVec 32 := 8#32
  let v2157 : BitVec 32 := Scalar.muli arg20 c8_i32_750
  let v2158 : BitVec 32 := Scalar.addi c96_i32_751 v2157
  let c5_i32 : BitVec 32 := 5#32
  let v2159 : BitVec 32 := Scalar.addi v2158 c5_i32
  let v2512 : Index := Scalar.indexCast v2159
  ![7, v2512.toNat]
def k0_off1368 (v2508 : BitVec 32) (c0_i32_870 : BitVec 32) : Fin 2 → Nat :=
  let v2526 : BitVec 32 := Scalar.addi v2508 c0_i32_870
  let v2527 : Index := Scalar.indexCast v2526
  let c0_871 : Index := 0#32
  ![v2527.toNat, 0]

def k0_chk305 (v2508 : BitVec 32) : Prop :=
  (∀ a, (k0_off1366 v2508) a + S1x128.size a ≤ S102432x128.size a) ∧
  (∀ (r : Fin 3), ∀ a, (k0_off1368 v2508 (BitVec.ofNat 32 (8 * r.val))) a + S8x128.size a ≤ S102432x128.size a)
theorem k0_off1366_inb : ∀ (v2508 : BitVec 32) (k0_hw305 : k0_chk305 v2508), ∀ a, (k0_off1366 v2508) a + S1x128.size a ≤ S102432x128.size a := fun v2508 k0_hw305 => k0_hw305.1
theorem k0_off1368_inb : ∀ (v2508 : BitVec 32) (k0_hw305 : k0_chk305 v2508), ∀ (r : Fin 3), ∀ a, (k0_off1368 v2508 (BitVec.ofNat 32 (8 * r.val))) a + S8x128.size a ≤ S102432x128.size a := fun v2508 k0_hw305 r => k0_hw305.2 r

def k0_off1369 (k0_t12 : Fin k0_t12_loop.trips) (c0_i32_881 : BitVec 32) : Fin 2 → Nat :=
  let c96_i32_751 : BitVec 32 := 96#32
  let c0_i32_52 : BitVec 32 := 0#32
  let c1_i32_54 : BitVec 32 := 1#32
  let arg20 : BitVec 32 := Scf.iv c0_i32_52 c1_i32_54 k0_t12
  let c8_i32_750 : BitVec 32 := 8#32
  let v2157 : BitVec 32 := Scalar.muli arg20 c8_i32_750
  let v2158 : BitVec 32 := Scalar.addi c96_i32_751 v2157
  let c5_i32 : BitVec 32 := 5#32
  let v2159 : BitVec 32 := Scalar.addi v2158 c5_i32
  let c25_i32_880 : BitVec 32 := 25#32
  let v2557 : BitVec 32 := Scalar.muli v2159 c25_i32_880
  let v2558 : BitVec 32 := Scalar.addi v2557 c0_i32_881
  let v2559 : Index := Scalar.indexCast v2558
  let c0_882 : Index := 0#32
  ![v2559.toNat, 0]
def k0_off1370 (k0_t12 : Fin k0_t12_loop.trips) : Fin 2 → Nat :=
  let c0_891 : Index := 0#32
  let c96_i32_890 : BitVec 32 := 96#32
  let c0_i32_52 : BitVec 32 := 0#32
  let c1_i32_54 : BitVec 32 := 1#32
  let arg20 : BitVec 32 := Scf.iv c0_i32_52 c1_i32_54 k0_t12
  let c8_i32_889 : BitVec 32 := 8#32
  let v2575 : BitVec 32 := Scalar.muli arg20 c8_i32_889
  let v2576 : BitVec 32 := Scalar.addi c96_i32_890 v2575
  let c6_i32 : BitVec 32 := 6#32
  let v2577 : BitVec 32 := Scalar.addi v2576 c6_i32
  let v2578 : Index := Scalar.indexCast v2577
  ![0, v2578.toNat]
def k0_off1371 (v2579 : BitVec 32) : Fin 2 → Nat :=
  let c24_i32_892 : BitVec 32 := 24#32
  let v2580 : BitVec 32 := Scalar.addi v2579 c24_i32_892
  let v2581 : Index := Scalar.indexCast v2580
  let c0_893 : Index := 0#32
  ![v2581.toNat, 0]

def k0_off1372 (k0_t12 : Fin k0_t12_loop.trips) : Fin 2 → Nat :=
  let c0_894 : Index := 0#32
  let c96_i32_890 : BitVec 32 := 96#32
  let c0_i32_52 : BitVec 32 := 0#32
  let c1_i32_54 : BitVec 32 := 1#32
  let arg20 : BitVec 32 := Scf.iv c0_i32_52 c1_i32_54 k0_t12
  let c8_i32_889 : BitVec 32 := 8#32
  let v2575 : BitVec 32 := Scalar.muli arg20 c8_i32_889
  let v2576 : BitVec 32 := Scalar.addi c96_i32_890 v2575
  let c6_i32 : BitVec 32 := 6#32
  let v2577 : BitVec 32 := Scalar.addi v2576 c6_i32
  let v2583 : Index := Scalar.indexCast v2577
  ![0, v2583.toNat]
def k0_off1373 (v2579 : BitVec 32) (c0_i32_897 : BitVec 32) : Fin 2 → Nat :=
  let v2597 : BitVec 32 := Scalar.addi v2579 c0_i32_897
  let v2598 : Index := Scalar.indexCast v2597
  let c0_898 : Index := 0#32
  ![v2598.toNat, 0]

def k0_chk306 (v2579 : BitVec 32) : Prop :=
  (∀ a, (k0_off1371 v2579) a + S1x128.size a ≤ S102432x128.size a) ∧
  (∀ (r : Fin 3), ∀ a, (k0_off1373 v2579 (BitVec.ofNat 32 (8 * r.val))) a + S8x128.size a ≤ S102432x128.size a)
theorem k0_off1371_inb : ∀ (v2579 : BitVec 32) (k0_hw306 : k0_chk306 v2579), ∀ a, (k0_off1371 v2579) a + S1x128.size a ≤ S102432x128.size a := fun v2579 k0_hw306 => k0_hw306.1
theorem k0_off1373_inb : ∀ (v2579 : BitVec 32) (k0_hw306 : k0_chk306 v2579), ∀ (r : Fin 3), ∀ a, (k0_off1373 v2579 (BitVec.ofNat 32 (8 * r.val))) a + S8x128.size a ≤ S102432x128.size a := fun v2579 k0_hw306 r => k0_hw306.2 r

def k0_off1374 (k0_t12 : Fin k0_t12_loop.trips) : Fin 2 → Nat :=
  let c1_907 : Index := 1#32
  let c96_i32_890 : BitVec 32 := 96#32
  let c0_i32_52 : BitVec 32 := 0#32
  let c1_i32_54 : BitVec 32 := 1#32
  let arg20 : BitVec 32 := Scf.iv c0_i32_52 c1_i32_54 k0_t12
  let c8_i32_889 : BitVec 32 := 8#32
  let v2575 : BitVec 32 := Scalar.muli arg20 c8_i32_889
  let v2576 : BitVec 32 := Scalar.addi c96_i32_890 v2575
  let c6_i32 : BitVec 32 := 6#32
  let v2577 : BitVec 32 := Scalar.addi v2576 c6_i32
  let v2625 : Index := Scalar.indexCast v2577
  ![1, v2625.toNat]
def k0_off1375 (v2626 : BitVec 32) : Fin 2 → Nat :=
  let c24_i32_908 : BitVec 32 := 24#32
  let v2627 : BitVec 32 := Scalar.addi v2626 c24_i32_908
  let v2628 : Index := Scalar.indexCast v2627
  let c0_909 : Index := 0#32
  ![v2628.toNat, 0]

def k0_off1376 (k0_t12 : Fin k0_t12_loop.trips) : Fin 2 → Nat :=
  let c1_910 : Index := 1#32
  let c96_i32_890 : BitVec 32 := 96#32
  let c0_i32_52 : BitVec 32 := 0#32
  let c1_i32_54 : BitVec 32 := 1#32
  let arg20 : BitVec 32 := Scf.iv c0_i32_52 c1_i32_54 k0_t12
  let c8_i32_889 : BitVec 32 := 8#32
  let v2575 : BitVec 32 := Scalar.muli arg20 c8_i32_889
  let v2576 : BitVec 32 := Scalar.addi c96_i32_890 v2575
  let c6_i32 : BitVec 32 := 6#32
  let v2577 : BitVec 32 := Scalar.addi v2576 c6_i32
  let v2630 : Index := Scalar.indexCast v2577
  ![1, v2630.toNat]
def k0_off1377 (v2626 : BitVec 32) (c0_i32_913 : BitVec 32) : Fin 2 → Nat :=
  let v2644 : BitVec 32 := Scalar.addi v2626 c0_i32_913
  let v2645 : Index := Scalar.indexCast v2644
  let c0_914 : Index := 0#32
  ![v2645.toNat, 0]

def k0_chk307 (v2626 : BitVec 32) : Prop :=
  (∀ a, (k0_off1375 v2626) a + S1x128.size a ≤ S102432x128.size a) ∧
  (∀ (r : Fin 3), ∀ a, (k0_off1377 v2626 (BitVec.ofNat 32 (8 * r.val))) a + S8x128.size a ≤ S102432x128.size a)
theorem k0_off1375_inb : ∀ (v2626 : BitVec 32) (k0_hw307 : k0_chk307 v2626), ∀ a, (k0_off1375 v2626) a + S1x128.size a ≤ S102432x128.size a := fun v2626 k0_hw307 => k0_hw307.1
theorem k0_off1377_inb : ∀ (v2626 : BitVec 32) (k0_hw307 : k0_chk307 v2626), ∀ (r : Fin 3), ∀ a, (k0_off1377 v2626 (BitVec.ofNat 32 (8 * r.val))) a + S8x128.size a ≤ S102432x128.size a := fun v2626 k0_hw307 r => k0_hw307.2 r

def k0_off1378 (k0_t12 : Fin k0_t12_loop.trips) : Fin 2 → Nat :=
  let c2_923 : Index := 2#32
  let c96_i32_890 : BitVec 32 := 96#32
  let c0_i32_52 : BitVec 32 := 0#32
  let c1_i32_54 : BitVec 32 := 1#32
  let arg20 : BitVec 32 := Scf.iv c0_i32_52 c1_i32_54 k0_t12
  let c8_i32_889 : BitVec 32 := 8#32
  let v2575 : BitVec 32 := Scalar.muli arg20 c8_i32_889
  let v2576 : BitVec 32 := Scalar.addi c96_i32_890 v2575
  let c6_i32 : BitVec 32 := 6#32
  let v2577 : BitVec 32 := Scalar.addi v2576 c6_i32
  let v2675 : Index := Scalar.indexCast v2577
  ![2, v2675.toNat]
def k0_off1379 (v2676 : BitVec 32) : Fin 2 → Nat :=
  let c24_i32_924 : BitVec 32 := 24#32
  let v2677 : BitVec 32 := Scalar.addi v2676 c24_i32_924
  let v2678 : Index := Scalar.indexCast v2677
  let c0_925 : Index := 0#32
  ![v2678.toNat, 0]

def k0_off1380 (k0_t12 : Fin k0_t12_loop.trips) : Fin 2 → Nat :=
  let c2_926 : Index := 2#32
  let c96_i32_890 : BitVec 32 := 96#32
  let c0_i32_52 : BitVec 32 := 0#32
  let c1_i32_54 : BitVec 32 := 1#32
  let arg20 : BitVec 32 := Scf.iv c0_i32_52 c1_i32_54 k0_t12
  let c8_i32_889 : BitVec 32 := 8#32
  let v2575 : BitVec 32 := Scalar.muli arg20 c8_i32_889
  let v2576 : BitVec 32 := Scalar.addi c96_i32_890 v2575
  let c6_i32 : BitVec 32 := 6#32
  let v2577 : BitVec 32 := Scalar.addi v2576 c6_i32
  let v2680 : Index := Scalar.indexCast v2577
  ![2, v2680.toNat]
def k0_off1381 (v2676 : BitVec 32) (c0_i32_929 : BitVec 32) : Fin 2 → Nat :=
  let v2694 : BitVec 32 := Scalar.addi v2676 c0_i32_929
  let v2695 : Index := Scalar.indexCast v2694
  let c0_930 : Index := 0#32
  ![v2695.toNat, 0]

def k0_chk308 (v2676 : BitVec 32) : Prop :=
  (∀ a, (k0_off1379 v2676) a + S1x128.size a ≤ S102432x128.size a) ∧
  (∀ (r : Fin 3), ∀ a, (k0_off1381 v2676 (BitVec.ofNat 32 (8 * r.val))) a + S8x128.size a ≤ S102432x128.size a)
theorem k0_off1379_inb : ∀ (v2676 : BitVec 32) (k0_hw308 : k0_chk308 v2676), ∀ a, (k0_off1379 v2676) a + S1x128.size a ≤ S102432x128.size a := fun v2676 k0_hw308 => k0_hw308.1
theorem k0_off1381_inb : ∀ (v2676 : BitVec 32) (k0_hw308 : k0_chk308 v2676), ∀ (r : Fin 3), ∀ a, (k0_off1381 v2676 (BitVec.ofNat 32 (8 * r.val))) a + S8x128.size a ≤ S102432x128.size a := fun v2676 k0_hw308 r => k0_hw308.2 r

def k0_off1382 (k0_t12 : Fin k0_t12_loop.trips) : Fin 2 → Nat :=
  let c3_939 : Index := 3#32
  let c96_i32_890 : BitVec 32 := 96#32
  let c0_i32_52 : BitVec 32 := 0#32
  let c1_i32_54 : BitVec 32 := 1#32
  let arg20 : BitVec 32 := Scf.iv c0_i32_52 c1_i32_54 k0_t12
  let c8_i32_889 : BitVec 32 := 8#32
  let v2575 : BitVec 32 := Scalar.muli arg20 c8_i32_889
  let v2576 : BitVec 32 := Scalar.addi c96_i32_890 v2575
  let c6_i32 : BitVec 32 := 6#32
  let v2577 : BitVec 32 := Scalar.addi v2576 c6_i32
  let v2725 : Index := Scalar.indexCast v2577
  ![3, v2725.toNat]
def k0_off1383 (v2726 : BitVec 32) : Fin 2 → Nat :=
  let c24_i32_940 : BitVec 32 := 24#32
  let v2727 : BitVec 32 := Scalar.addi v2726 c24_i32_940
  let v2728 : Index := Scalar.indexCast v2727
  let c0_941 : Index := 0#32
  ![v2728.toNat, 0]

def k0_off1384 (k0_t12 : Fin k0_t12_loop.trips) : Fin 2 → Nat :=
  let c3_942 : Index := 3#32
  let c96_i32_890 : BitVec 32 := 96#32
  let c0_i32_52 : BitVec 32 := 0#32
  let c1_i32_54 : BitVec 32 := 1#32
  let arg20 : BitVec 32 := Scf.iv c0_i32_52 c1_i32_54 k0_t12
  let c8_i32_889 : BitVec 32 := 8#32
  let v2575 : BitVec 32 := Scalar.muli arg20 c8_i32_889
  let v2576 : BitVec 32 := Scalar.addi c96_i32_890 v2575
  let c6_i32 : BitVec 32 := 6#32
  let v2577 : BitVec 32 := Scalar.addi v2576 c6_i32
  let v2730 : Index := Scalar.indexCast v2577
  ![3, v2730.toNat]
def k0_off1385 (v2726 : BitVec 32) (c0_i32_945 : BitVec 32) : Fin 2 → Nat :=
  let v2744 : BitVec 32 := Scalar.addi v2726 c0_i32_945
  let v2745 : Index := Scalar.indexCast v2744
  let c0_946 : Index := 0#32
  ![v2745.toNat, 0]

def k0_chk309 (v2726 : BitVec 32) : Prop :=
  (∀ a, (k0_off1383 v2726) a + S1x128.size a ≤ S102432x128.size a) ∧
  (∀ (r : Fin 3), ∀ a, (k0_off1385 v2726 (BitVec.ofNat 32 (8 * r.val))) a + S8x128.size a ≤ S102432x128.size a)
theorem k0_off1383_inb : ∀ (v2726 : BitVec 32) (k0_hw309 : k0_chk309 v2726), ∀ a, (k0_off1383 v2726) a + S1x128.size a ≤ S102432x128.size a := fun v2726 k0_hw309 => k0_hw309.1
theorem k0_off1385_inb : ∀ (v2726 : BitVec 32) (k0_hw309 : k0_chk309 v2726), ∀ (r : Fin 3), ∀ a, (k0_off1385 v2726 (BitVec.ofNat 32 (8 * r.val))) a + S8x128.size a ≤ S102432x128.size a := fun v2726 k0_hw309 r => k0_hw309.2 r

def k0_off1386 (k0_t12 : Fin k0_t12_loop.trips) : Fin 2 → Nat :=
  let c4_955 : Index := 4#32
  let c96_i32_890 : BitVec 32 := 96#32
  let c0_i32_52 : BitVec 32 := 0#32
  let c1_i32_54 : BitVec 32 := 1#32
  let arg20 : BitVec 32 := Scf.iv c0_i32_52 c1_i32_54 k0_t12
  let c8_i32_889 : BitVec 32 := 8#32
  let v2575 : BitVec 32 := Scalar.muli arg20 c8_i32_889
  let v2576 : BitVec 32 := Scalar.addi c96_i32_890 v2575
  let c6_i32 : BitVec 32 := 6#32
  let v2577 : BitVec 32 := Scalar.addi v2576 c6_i32
  let v2775 : Index := Scalar.indexCast v2577
  ![4, v2775.toNat]
def k0_off1387 (v2776 : BitVec 32) : Fin 2 → Nat :=
  let c24_i32_956 : BitVec 32 := 24#32
  let v2777 : BitVec 32 := Scalar.addi v2776 c24_i32_956
  let v2778 : Index := Scalar.indexCast v2777
  let c0_957 : Index := 0#32
  ![v2778.toNat, 0]

def k0_off1388 (k0_t12 : Fin k0_t12_loop.trips) : Fin 2 → Nat :=
  let c4_958 : Index := 4#32
  let c96_i32_890 : BitVec 32 := 96#32
  let c0_i32_52 : BitVec 32 := 0#32
  let c1_i32_54 : BitVec 32 := 1#32
  let arg20 : BitVec 32 := Scf.iv c0_i32_52 c1_i32_54 k0_t12
  let c8_i32_889 : BitVec 32 := 8#32
  let v2575 : BitVec 32 := Scalar.muli arg20 c8_i32_889
  let v2576 : BitVec 32 := Scalar.addi c96_i32_890 v2575
  let c6_i32 : BitVec 32 := 6#32
  let v2577 : BitVec 32 := Scalar.addi v2576 c6_i32
  let v2780 : Index := Scalar.indexCast v2577
  ![4, v2780.toNat]
def k0_off1389 (v2776 : BitVec 32) (c0_i32_961 : BitVec 32) : Fin 2 → Nat :=
  let v2794 : BitVec 32 := Scalar.addi v2776 c0_i32_961
  let v2795 : Index := Scalar.indexCast v2794
  let c0_962 : Index := 0#32
  ![v2795.toNat, 0]

def k0_chk310 (v2776 : BitVec 32) : Prop :=
  (∀ a, (k0_off1387 v2776) a + S1x128.size a ≤ S102432x128.size a) ∧
  (∀ (r : Fin 3), ∀ a, (k0_off1389 v2776 (BitVec.ofNat 32 (8 * r.val))) a + S8x128.size a ≤ S102432x128.size a)
theorem k0_off1387_inb : ∀ (v2776 : BitVec 32) (k0_hw310 : k0_chk310 v2776), ∀ a, (k0_off1387 v2776) a + S1x128.size a ≤ S102432x128.size a := fun v2776 k0_hw310 => k0_hw310.1
theorem k0_off1389_inb : ∀ (v2776 : BitVec 32) (k0_hw310 : k0_chk310 v2776), ∀ (r : Fin 3), ∀ a, (k0_off1389 v2776 (BitVec.ofNat 32 (8 * r.val))) a + S8x128.size a ≤ S102432x128.size a := fun v2776 k0_hw310 r => k0_hw310.2 r

def k0_off1390 (k0_t12 : Fin k0_t12_loop.trips) : Fin 2 → Nat :=
  let c5_971 : Index := 5#32
  let c96_i32_890 : BitVec 32 := 96#32
  let c0_i32_52 : BitVec 32 := 0#32
  let c1_i32_54 : BitVec 32 := 1#32
  let arg20 : BitVec 32 := Scf.iv c0_i32_52 c1_i32_54 k0_t12
  let c8_i32_889 : BitVec 32 := 8#32
  let v2575 : BitVec 32 := Scalar.muli arg20 c8_i32_889
  let v2576 : BitVec 32 := Scalar.addi c96_i32_890 v2575
  let c6_i32 : BitVec 32 := 6#32
  let v2577 : BitVec 32 := Scalar.addi v2576 c6_i32
  let v2825 : Index := Scalar.indexCast v2577
  ![5, v2825.toNat]
def k0_off1391 (v2826 : BitVec 32) : Fin 2 → Nat :=
  let c24_i32_972 : BitVec 32 := 24#32
  let v2827 : BitVec 32 := Scalar.addi v2826 c24_i32_972
  let v2828 : Index := Scalar.indexCast v2827
  let c0_973 : Index := 0#32
  ![v2828.toNat, 0]

def k0_off1392 (k0_t12 : Fin k0_t12_loop.trips) : Fin 2 → Nat :=
  let c5_974 : Index := 5#32
  let c96_i32_890 : BitVec 32 := 96#32
  let c0_i32_52 : BitVec 32 := 0#32
  let c1_i32_54 : BitVec 32 := 1#32
  let arg20 : BitVec 32 := Scf.iv c0_i32_52 c1_i32_54 k0_t12
  let c8_i32_889 : BitVec 32 := 8#32
  let v2575 : BitVec 32 := Scalar.muli arg20 c8_i32_889
  let v2576 : BitVec 32 := Scalar.addi c96_i32_890 v2575
  let c6_i32 : BitVec 32 := 6#32
  let v2577 : BitVec 32 := Scalar.addi v2576 c6_i32
  let v2830 : Index := Scalar.indexCast v2577
  ![5, v2830.toNat]
def k0_off1393 (v2826 : BitVec 32) (c0_i32_977 : BitVec 32) : Fin 2 → Nat :=
  let v2844 : BitVec 32 := Scalar.addi v2826 c0_i32_977
  let v2845 : Index := Scalar.indexCast v2844
  let c0_978 : Index := 0#32
  ![v2845.toNat, 0]

def k0_chk311 (v2826 : BitVec 32) : Prop :=
  (∀ a, (k0_off1391 v2826) a + S1x128.size a ≤ S102432x128.size a) ∧
  (∀ (r : Fin 3), ∀ a, (k0_off1393 v2826 (BitVec.ofNat 32 (8 * r.val))) a + S8x128.size a ≤ S102432x128.size a)
theorem k0_off1391_inb : ∀ (v2826 : BitVec 32) (k0_hw311 : k0_chk311 v2826), ∀ a, (k0_off1391 v2826) a + S1x128.size a ≤ S102432x128.size a := fun v2826 k0_hw311 => k0_hw311.1
theorem k0_off1393_inb : ∀ (v2826 : BitVec 32) (k0_hw311 : k0_chk311 v2826), ∀ (r : Fin 3), ∀ a, (k0_off1393 v2826 (BitVec.ofNat 32 (8 * r.val))) a + S8x128.size a ≤ S102432x128.size a := fun v2826 k0_hw311 r => k0_hw311.2 r

def k0_off1394 (k0_t12 : Fin k0_t12_loop.trips) : Fin 2 → Nat :=
  let c6_987 : Index := 6#32
  let c96_i32_890 : BitVec 32 := 96#32
  let c0_i32_52 : BitVec 32 := 0#32
  let c1_i32_54 : BitVec 32 := 1#32
  let arg20 : BitVec 32 := Scf.iv c0_i32_52 c1_i32_54 k0_t12
  let c8_i32_889 : BitVec 32 := 8#32
  let v2575 : BitVec 32 := Scalar.muli arg20 c8_i32_889
  let v2576 : BitVec 32 := Scalar.addi c96_i32_890 v2575
  let c6_i32 : BitVec 32 := 6#32
  let v2577 : BitVec 32 := Scalar.addi v2576 c6_i32
  let v2875 : Index := Scalar.indexCast v2577
  ![6, v2875.toNat]
def k0_off1395 (v2876 : BitVec 32) : Fin 2 → Nat :=
  let c24_i32_988 : BitVec 32 := 24#32
  let v2877 : BitVec 32 := Scalar.addi v2876 c24_i32_988
  let v2878 : Index := Scalar.indexCast v2877
  let c0_989 : Index := 0#32
  ![v2878.toNat, 0]

def k0_off1396 (k0_t12 : Fin k0_t12_loop.trips) : Fin 2 → Nat :=
  let c6_990 : Index := 6#32
  let c96_i32_890 : BitVec 32 := 96#32
  let c0_i32_52 : BitVec 32 := 0#32
  let c1_i32_54 : BitVec 32 := 1#32
  let arg20 : BitVec 32 := Scf.iv c0_i32_52 c1_i32_54 k0_t12
  let c8_i32_889 : BitVec 32 := 8#32
  let v2575 : BitVec 32 := Scalar.muli arg20 c8_i32_889
  let v2576 : BitVec 32 := Scalar.addi c96_i32_890 v2575
  let c6_i32 : BitVec 32 := 6#32
  let v2577 : BitVec 32 := Scalar.addi v2576 c6_i32
  let v2880 : Index := Scalar.indexCast v2577
  ![6, v2880.toNat]
def k0_off1397 (v2876 : BitVec 32) (c0_i32_993 : BitVec 32) : Fin 2 → Nat :=
  let v2894 : BitVec 32 := Scalar.addi v2876 c0_i32_993
  let v2895 : Index := Scalar.indexCast v2894
  let c0_994 : Index := 0#32
  ![v2895.toNat, 0]

def k0_chk312 (v2876 : BitVec 32) : Prop :=
  (∀ a, (k0_off1395 v2876) a + S1x128.size a ≤ S102432x128.size a) ∧
  (∀ (r : Fin 3), ∀ a, (k0_off1397 v2876 (BitVec.ofNat 32 (8 * r.val))) a + S8x128.size a ≤ S102432x128.size a)
theorem k0_off1395_inb : ∀ (v2876 : BitVec 32) (k0_hw312 : k0_chk312 v2876), ∀ a, (k0_off1395 v2876) a + S1x128.size a ≤ S102432x128.size a := fun v2876 k0_hw312 => k0_hw312.1
theorem k0_off1397_inb : ∀ (v2876 : BitVec 32) (k0_hw312 : k0_chk312 v2876), ∀ (r : Fin 3), ∀ a, (k0_off1397 v2876 (BitVec.ofNat 32 (8 * r.val))) a + S8x128.size a ≤ S102432x128.size a := fun v2876 k0_hw312 r => k0_hw312.2 r

def k0_off1398 (k0_t12 : Fin k0_t12_loop.trips) : Fin 2 → Nat :=
  let c7_1003 : Index := 7#32
  let c96_i32_890 : BitVec 32 := 96#32
  let c0_i32_52 : BitVec 32 := 0#32
  let c1_i32_54 : BitVec 32 := 1#32
  let arg20 : BitVec 32 := Scf.iv c0_i32_52 c1_i32_54 k0_t12
  let c8_i32_889 : BitVec 32 := 8#32
  let v2575 : BitVec 32 := Scalar.muli arg20 c8_i32_889
  let v2576 : BitVec 32 := Scalar.addi c96_i32_890 v2575
  let c6_i32 : BitVec 32 := 6#32
  let v2577 : BitVec 32 := Scalar.addi v2576 c6_i32
  let v2925 : Index := Scalar.indexCast v2577
  ![7, v2925.toNat]
def k0_off1399 (v2926 : BitVec 32) : Fin 2 → Nat :=
  let c24_i32_1004 : BitVec 32 := 24#32
  let v2927 : BitVec 32 := Scalar.addi v2926 c24_i32_1004
  let v2928 : Index := Scalar.indexCast v2927
  let c0_1005 : Index := 0#32
  ![v2928.toNat, 0]

def k0_off1400 (k0_t12 : Fin k0_t12_loop.trips) : Fin 2 → Nat :=
  let c7_1006 : Index := 7#32
  let c96_i32_890 : BitVec 32 := 96#32
  let c0_i32_52 : BitVec 32 := 0#32
  let c1_i32_54 : BitVec 32 := 1#32
  let arg20 : BitVec 32 := Scf.iv c0_i32_52 c1_i32_54 k0_t12
  let c8_i32_889 : BitVec 32 := 8#32
  let v2575 : BitVec 32 := Scalar.muli arg20 c8_i32_889
  let v2576 : BitVec 32 := Scalar.addi c96_i32_890 v2575
  let c6_i32 : BitVec 32 := 6#32
  let v2577 : BitVec 32 := Scalar.addi v2576 c6_i32
  let v2930 : Index := Scalar.indexCast v2577
  ![7, v2930.toNat]
def k0_off1401 (v2926 : BitVec 32) (c0_i32_1009 : BitVec 32) : Fin 2 → Nat :=
  let v2944 : BitVec 32 := Scalar.addi v2926 c0_i32_1009
  let v2945 : Index := Scalar.indexCast v2944
  let c0_1010 : Index := 0#32
  ![v2945.toNat, 0]

def k0_chk313 (v2926 : BitVec 32) : Prop :=
  (∀ a, (k0_off1399 v2926) a + S1x128.size a ≤ S102432x128.size a) ∧
  (∀ (r : Fin 3), ∀ a, (k0_off1401 v2926 (BitVec.ofNat 32 (8 * r.val))) a + S8x128.size a ≤ S102432x128.size a)
theorem k0_off1399_inb : ∀ (v2926 : BitVec 32) (k0_hw313 : k0_chk313 v2926), ∀ a, (k0_off1399 v2926) a + S1x128.size a ≤ S102432x128.size a := fun v2926 k0_hw313 => k0_hw313.1
theorem k0_off1401_inb : ∀ (v2926 : BitVec 32) (k0_hw313 : k0_chk313 v2926), ∀ (r : Fin 3), ∀ a, (k0_off1401 v2926 (BitVec.ofNat 32 (8 * r.val))) a + S8x128.size a ≤ S102432x128.size a := fun v2926 k0_hw313 r => k0_hw313.2 r

def k0_off1402 (k0_t12 : Fin k0_t12_loop.trips) (c0_i32_1020 : BitVec 32) : Fin 2 → Nat :=
  let c96_i32_890 : BitVec 32 := 96#32
  let c0_i32_52 : BitVec 32 := 0#32
  let c1_i32_54 : BitVec 32 := 1#32
  let arg20 : BitVec 32 := Scf.iv c0_i32_52 c1_i32_54 k0_t12
  let c8_i32_889 : BitVec 32 := 8#32
  let v2575 : BitVec 32 := Scalar.muli arg20 c8_i32_889
  let v2576 : BitVec 32 := Scalar.addi c96_i32_890 v2575
  let c6_i32 : BitVec 32 := 6#32
  let v2577 : BitVec 32 := Scalar.addi v2576 c6_i32
  let c25_i32_1019 : BitVec 32 := 25#32
  let v2975 : BitVec 32 := Scalar.muli v2577 c25_i32_1019
  let v2976 : BitVec 32 := Scalar.addi v2975 c0_i32_1020
  let v2977 : Index := Scalar.indexCast v2976
  let c0_1021 : Index := 0#32
  ![v2977.toNat, 0]
def k0_off1403 (k0_t12 : Fin k0_t12_loop.trips) : Fin 2 → Nat :=
  let c0_1030 : Index := 0#32
  let c96_i32_1029 : BitVec 32 := 96#32
  let c0_i32_52 : BitVec 32 := 0#32
  let c1_i32_54 : BitVec 32 := 1#32
  let arg20 : BitVec 32 := Scf.iv c0_i32_52 c1_i32_54 k0_t12
  let c8_i32_1028 : BitVec 32 := 8#32
  let v2993 : BitVec 32 := Scalar.muli arg20 c8_i32_1028
  let v2994 : BitVec 32 := Scalar.addi c96_i32_1029 v2993
  let c7_i32 : BitVec 32 := 7#32
  let v2995 : BitVec 32 := Scalar.addi v2994 c7_i32
  let v2996 : Index := Scalar.indexCast v2995
  ![0, v2996.toNat]
def k0_off1404 (v2997 : BitVec 32) : Fin 2 → Nat :=
  let c24_i32_1031 : BitVec 32 := 24#32
  let v2998 : BitVec 32 := Scalar.addi v2997 c24_i32_1031
  let v2999 : Index := Scalar.indexCast v2998
  let c0_1032 : Index := 0#32
  ![v2999.toNat, 0]

def k0_off1405 (k0_t12 : Fin k0_t12_loop.trips) : Fin 2 → Nat :=
  let c0_1033 : Index := 0#32
  let c96_i32_1029 : BitVec 32 := 96#32
  let c0_i32_52 : BitVec 32 := 0#32
  let c1_i32_54 : BitVec 32 := 1#32
  let arg20 : BitVec 32 := Scf.iv c0_i32_52 c1_i32_54 k0_t12
  let c8_i32_1028 : BitVec 32 := 8#32
  let v2993 : BitVec 32 := Scalar.muli arg20 c8_i32_1028
  let v2994 : BitVec 32 := Scalar.addi c96_i32_1029 v2993
  let c7_i32 : BitVec 32 := 7#32
  let v2995 : BitVec 32 := Scalar.addi v2994 c7_i32
  let v3001 : Index := Scalar.indexCast v2995
  ![0, v3001.toNat]
def k0_off1406 (v2997 : BitVec 32) (c0_i32_1036 : BitVec 32) : Fin 2 → Nat :=
  let v3015 : BitVec 32 := Scalar.addi v2997 c0_i32_1036
  let v3016 : Index := Scalar.indexCast v3015
  let c0_1037 : Index := 0#32
  ![v3016.toNat, 0]

def k0_chk314 (v2997 : BitVec 32) : Prop :=
  (∀ a, (k0_off1404 v2997) a + S1x128.size a ≤ S102432x128.size a) ∧
  (∀ (r : Fin 3), ∀ a, (k0_off1406 v2997 (BitVec.ofNat 32 (8 * r.val))) a + S8x128.size a ≤ S102432x128.size a)
theorem k0_off1404_inb : ∀ (v2997 : BitVec 32) (k0_hw314 : k0_chk314 v2997), ∀ a, (k0_off1404 v2997) a + S1x128.size a ≤ S102432x128.size a := fun v2997 k0_hw314 => k0_hw314.1
theorem k0_off1406_inb : ∀ (v2997 : BitVec 32) (k0_hw314 : k0_chk314 v2997), ∀ (r : Fin 3), ∀ a, (k0_off1406 v2997 (BitVec.ofNat 32 (8 * r.val))) a + S8x128.size a ≤ S102432x128.size a := fun v2997 k0_hw314 r => k0_hw314.2 r

def k0_off1407 (k0_t12 : Fin k0_t12_loop.trips) : Fin 2 → Nat :=
  let c1_1046 : Index := 1#32
  let c96_i32_1029 : BitVec 32 := 96#32
  let c0_i32_52 : BitVec 32 := 0#32
  let c1_i32_54 : BitVec 32 := 1#32
  let arg20 : BitVec 32 := Scf.iv c0_i32_52 c1_i32_54 k0_t12
  let c8_i32_1028 : BitVec 32 := 8#32
  let v2993 : BitVec 32 := Scalar.muli arg20 c8_i32_1028
  let v2994 : BitVec 32 := Scalar.addi c96_i32_1029 v2993
  let c7_i32 : BitVec 32 := 7#32
  let v2995 : BitVec 32 := Scalar.addi v2994 c7_i32
  let v3043 : Index := Scalar.indexCast v2995
  ![1, v3043.toNat]
def k0_off1408 (v3044 : BitVec 32) : Fin 2 → Nat :=
  let c24_i32_1047 : BitVec 32 := 24#32
  let v3045 : BitVec 32 := Scalar.addi v3044 c24_i32_1047
  let v3046 : Index := Scalar.indexCast v3045
  let c0_1048 : Index := 0#32
  ![v3046.toNat, 0]

def k0_off1409 (k0_t12 : Fin k0_t12_loop.trips) : Fin 2 → Nat :=
  let c1_1049 : Index := 1#32
  let c96_i32_1029 : BitVec 32 := 96#32
  let c0_i32_52 : BitVec 32 := 0#32
  let c1_i32_54 : BitVec 32 := 1#32
  let arg20 : BitVec 32 := Scf.iv c0_i32_52 c1_i32_54 k0_t12
  let c8_i32_1028 : BitVec 32 := 8#32
  let v2993 : BitVec 32 := Scalar.muli arg20 c8_i32_1028
  let v2994 : BitVec 32 := Scalar.addi c96_i32_1029 v2993
  let c7_i32 : BitVec 32 := 7#32
  let v2995 : BitVec 32 := Scalar.addi v2994 c7_i32
  let v3048 : Index := Scalar.indexCast v2995
  ![1, v3048.toNat]
def k0_off1410 (v3044 : BitVec 32) (c0_i32_1052 : BitVec 32) : Fin 2 → Nat :=
  let v3062 : BitVec 32 := Scalar.addi v3044 c0_i32_1052
  let v3063 : Index := Scalar.indexCast v3062
  let c0_1053 : Index := 0#32
  ![v3063.toNat, 0]

def k0_chk315 (v3044 : BitVec 32) : Prop :=
  (∀ a, (k0_off1408 v3044) a + S1x128.size a ≤ S102432x128.size a) ∧
  (∀ (r : Fin 3), ∀ a, (k0_off1410 v3044 (BitVec.ofNat 32 (8 * r.val))) a + S8x128.size a ≤ S102432x128.size a)
theorem k0_off1408_inb : ∀ (v3044 : BitVec 32) (k0_hw315 : k0_chk315 v3044), ∀ a, (k0_off1408 v3044) a + S1x128.size a ≤ S102432x128.size a := fun v3044 k0_hw315 => k0_hw315.1
theorem k0_off1410_inb : ∀ (v3044 : BitVec 32) (k0_hw315 : k0_chk315 v3044), ∀ (r : Fin 3), ∀ a, (k0_off1410 v3044 (BitVec.ofNat 32 (8 * r.val))) a + S8x128.size a ≤ S102432x128.size a := fun v3044 k0_hw315 r => k0_hw315.2 r

def k0_off1411 (k0_t12 : Fin k0_t12_loop.trips) : Fin 2 → Nat :=
  let c2_1062 : Index := 2#32
  let c96_i32_1029 : BitVec 32 := 96#32
  let c0_i32_52 : BitVec 32 := 0#32
  let c1_i32_54 : BitVec 32 := 1#32
  let arg20 : BitVec 32 := Scf.iv c0_i32_52 c1_i32_54 k0_t12
  let c8_i32_1028 : BitVec 32 := 8#32
  let v2993 : BitVec 32 := Scalar.muli arg20 c8_i32_1028
  let v2994 : BitVec 32 := Scalar.addi c96_i32_1029 v2993
  let c7_i32 : BitVec 32 := 7#32
  let v2995 : BitVec 32 := Scalar.addi v2994 c7_i32
  let v3093 : Index := Scalar.indexCast v2995
  ![2, v3093.toNat]
def k0_off1412 (v3094 : BitVec 32) : Fin 2 → Nat :=
  let c24_i32_1063 : BitVec 32 := 24#32
  let v3095 : BitVec 32 := Scalar.addi v3094 c24_i32_1063
  let v3096 : Index := Scalar.indexCast v3095
  let c0_1064 : Index := 0#32
  ![v3096.toNat, 0]

def k0_off1413 (k0_t12 : Fin k0_t12_loop.trips) : Fin 2 → Nat :=
  let c2_1065 : Index := 2#32
  let c96_i32_1029 : BitVec 32 := 96#32
  let c0_i32_52 : BitVec 32 := 0#32
  let c1_i32_54 : BitVec 32 := 1#32
  let arg20 : BitVec 32 := Scf.iv c0_i32_52 c1_i32_54 k0_t12
  let c8_i32_1028 : BitVec 32 := 8#32
  let v2993 : BitVec 32 := Scalar.muli arg20 c8_i32_1028
  let v2994 : BitVec 32 := Scalar.addi c96_i32_1029 v2993
  let c7_i32 : BitVec 32 := 7#32
  let v2995 : BitVec 32 := Scalar.addi v2994 c7_i32
  let v3098 : Index := Scalar.indexCast v2995
  ![2, v3098.toNat]
def k0_off1414 (v3094 : BitVec 32) (c0_i32_1068 : BitVec 32) : Fin 2 → Nat :=
  let v3112 : BitVec 32 := Scalar.addi v3094 c0_i32_1068
  let v3113 : Index := Scalar.indexCast v3112
  let c0_1069 : Index := 0#32
  ![v3113.toNat, 0]

def k0_chk316 (v3094 : BitVec 32) : Prop :=
  (∀ a, (k0_off1412 v3094) a + S1x128.size a ≤ S102432x128.size a) ∧
  (∀ (r : Fin 3), ∀ a, (k0_off1414 v3094 (BitVec.ofNat 32 (8 * r.val))) a + S8x128.size a ≤ S102432x128.size a)
theorem k0_off1412_inb : ∀ (v3094 : BitVec 32) (k0_hw316 : k0_chk316 v3094), ∀ a, (k0_off1412 v3094) a + S1x128.size a ≤ S102432x128.size a := fun v3094 k0_hw316 => k0_hw316.1
theorem k0_off1414_inb : ∀ (v3094 : BitVec 32) (k0_hw316 : k0_chk316 v3094), ∀ (r : Fin 3), ∀ a, (k0_off1414 v3094 (BitVec.ofNat 32 (8 * r.val))) a + S8x128.size a ≤ S102432x128.size a := fun v3094 k0_hw316 r => k0_hw316.2 r

def k0_off1415 (k0_t12 : Fin k0_t12_loop.trips) : Fin 2 → Nat :=
  let c3_1078 : Index := 3#32
  let c96_i32_1029 : BitVec 32 := 96#32
  let c0_i32_52 : BitVec 32 := 0#32
  let c1_i32_54 : BitVec 32 := 1#32
  let arg20 : BitVec 32 := Scf.iv c0_i32_52 c1_i32_54 k0_t12
  let c8_i32_1028 : BitVec 32 := 8#32
  let v2993 : BitVec 32 := Scalar.muli arg20 c8_i32_1028
  let v2994 : BitVec 32 := Scalar.addi c96_i32_1029 v2993
  let c7_i32 : BitVec 32 := 7#32
  let v2995 : BitVec 32 := Scalar.addi v2994 c7_i32
  let v3143 : Index := Scalar.indexCast v2995
  ![3, v3143.toNat]
def k0_off1416 (v3144 : BitVec 32) : Fin 2 → Nat :=
  let c24_i32_1079 : BitVec 32 := 24#32
  let v3145 : BitVec 32 := Scalar.addi v3144 c24_i32_1079
  let v3146 : Index := Scalar.indexCast v3145
  let c0_1080 : Index := 0#32
  ![v3146.toNat, 0]

def k0_off1417 (k0_t12 : Fin k0_t12_loop.trips) : Fin 2 → Nat :=
  let c3_1081 : Index := 3#32
  let c96_i32_1029 : BitVec 32 := 96#32
  let c0_i32_52 : BitVec 32 := 0#32
  let c1_i32_54 : BitVec 32 := 1#32
  let arg20 : BitVec 32 := Scf.iv c0_i32_52 c1_i32_54 k0_t12
  let c8_i32_1028 : BitVec 32 := 8#32
  let v2993 : BitVec 32 := Scalar.muli arg20 c8_i32_1028
  let v2994 : BitVec 32 := Scalar.addi c96_i32_1029 v2993
  let c7_i32 : BitVec 32 := 7#32
  let v2995 : BitVec 32 := Scalar.addi v2994 c7_i32
  let v3148 : Index := Scalar.indexCast v2995
  ![3, v3148.toNat]
def k0_off1418 (v3144 : BitVec 32) (c0_i32_1084 : BitVec 32) : Fin 2 → Nat :=
  let v3162 : BitVec 32 := Scalar.addi v3144 c0_i32_1084
  let v3163 : Index := Scalar.indexCast v3162
  let c0_1085 : Index := 0#32
  ![v3163.toNat, 0]

def k0_chk317 (v3144 : BitVec 32) : Prop :=
  (∀ a, (k0_off1416 v3144) a + S1x128.size a ≤ S102432x128.size a) ∧
  (∀ (r : Fin 3), ∀ a, (k0_off1418 v3144 (BitVec.ofNat 32 (8 * r.val))) a + S8x128.size a ≤ S102432x128.size a)
theorem k0_off1416_inb : ∀ (v3144 : BitVec 32) (k0_hw317 : k0_chk317 v3144), ∀ a, (k0_off1416 v3144) a + S1x128.size a ≤ S102432x128.size a := fun v3144 k0_hw317 => k0_hw317.1
theorem k0_off1418_inb : ∀ (v3144 : BitVec 32) (k0_hw317 : k0_chk317 v3144), ∀ (r : Fin 3), ∀ a, (k0_off1418 v3144 (BitVec.ofNat 32 (8 * r.val))) a + S8x128.size a ≤ S102432x128.size a := fun v3144 k0_hw317 r => k0_hw317.2 r

def k0_off1419 (k0_t12 : Fin k0_t12_loop.trips) : Fin 2 → Nat :=
  let c4_1094 : Index := 4#32
  let c96_i32_1029 : BitVec 32 := 96#32
  let c0_i32_52 : BitVec 32 := 0#32
  let c1_i32_54 : BitVec 32 := 1#32
  let arg20 : BitVec 32 := Scf.iv c0_i32_52 c1_i32_54 k0_t12
  let c8_i32_1028 : BitVec 32 := 8#32
  let v2993 : BitVec 32 := Scalar.muli arg20 c8_i32_1028
  let v2994 : BitVec 32 := Scalar.addi c96_i32_1029 v2993
  let c7_i32 : BitVec 32 := 7#32
  let v2995 : BitVec 32 := Scalar.addi v2994 c7_i32
  let v3193 : Index := Scalar.indexCast v2995
  ![4, v3193.toNat]
def k0_off1420 (v3194 : BitVec 32) : Fin 2 → Nat :=
  let c24_i32_1095 : BitVec 32 := 24#32
  let v3195 : BitVec 32 := Scalar.addi v3194 c24_i32_1095
  let v3196 : Index := Scalar.indexCast v3195
  let c0_1096 : Index := 0#32
  ![v3196.toNat, 0]

def k0_off1421 (k0_t12 : Fin k0_t12_loop.trips) : Fin 2 → Nat :=
  let c4_1097 : Index := 4#32
  let c96_i32_1029 : BitVec 32 := 96#32
  let c0_i32_52 : BitVec 32 := 0#32
  let c1_i32_54 : BitVec 32 := 1#32
  let arg20 : BitVec 32 := Scf.iv c0_i32_52 c1_i32_54 k0_t12
  let c8_i32_1028 : BitVec 32 := 8#32
  let v2993 : BitVec 32 := Scalar.muli arg20 c8_i32_1028
  let v2994 : BitVec 32 := Scalar.addi c96_i32_1029 v2993
  let c7_i32 : BitVec 32 := 7#32
  let v2995 : BitVec 32 := Scalar.addi v2994 c7_i32
  let v3198 : Index := Scalar.indexCast v2995
  ![4, v3198.toNat]
def k0_off1422 (v3194 : BitVec 32) (c0_i32_1100 : BitVec 32) : Fin 2 → Nat :=
  let v3212 : BitVec 32 := Scalar.addi v3194 c0_i32_1100
  let v3213 : Index := Scalar.indexCast v3212
  let c0_1101 : Index := 0#32
  ![v3213.toNat, 0]

def k0_chk318 (v3194 : BitVec 32) : Prop :=
  (∀ a, (k0_off1420 v3194) a + S1x128.size a ≤ S102432x128.size a) ∧
  (∀ (r : Fin 3), ∀ a, (k0_off1422 v3194 (BitVec.ofNat 32 (8 * r.val))) a + S8x128.size a ≤ S102432x128.size a)
theorem k0_off1420_inb : ∀ (v3194 : BitVec 32) (k0_hw318 : k0_chk318 v3194), ∀ a, (k0_off1420 v3194) a + S1x128.size a ≤ S102432x128.size a := fun v3194 k0_hw318 => k0_hw318.1
theorem k0_off1422_inb : ∀ (v3194 : BitVec 32) (k0_hw318 : k0_chk318 v3194), ∀ (r : Fin 3), ∀ a, (k0_off1422 v3194 (BitVec.ofNat 32 (8 * r.val))) a + S8x128.size a ≤ S102432x128.size a := fun v3194 k0_hw318 r => k0_hw318.2 r

def k0_off1423 (k0_t12 : Fin k0_t12_loop.trips) : Fin 2 → Nat :=
  let c5_1110 : Index := 5#32
  let c96_i32_1029 : BitVec 32 := 96#32
  let c0_i32_52 : BitVec 32 := 0#32
  let c1_i32_54 : BitVec 32 := 1#32
  let arg20 : BitVec 32 := Scf.iv c0_i32_52 c1_i32_54 k0_t12
  let c8_i32_1028 : BitVec 32 := 8#32
  let v2993 : BitVec 32 := Scalar.muli arg20 c8_i32_1028
  let v2994 : BitVec 32 := Scalar.addi c96_i32_1029 v2993
  let c7_i32 : BitVec 32 := 7#32
  let v2995 : BitVec 32 := Scalar.addi v2994 c7_i32
  let v3243 : Index := Scalar.indexCast v2995
  ![5, v3243.toNat]
def k0_off1424 (v3244 : BitVec 32) : Fin 2 → Nat :=
  let c24_i32_1111 : BitVec 32 := 24#32
  let v3245 : BitVec 32 := Scalar.addi v3244 c24_i32_1111
  let v3246 : Index := Scalar.indexCast v3245
  let c0_1112 : Index := 0#32
  ![v3246.toNat, 0]

def k0_off1425 (k0_t12 : Fin k0_t12_loop.trips) : Fin 2 → Nat :=
  let c5_1113 : Index := 5#32
  let c96_i32_1029 : BitVec 32 := 96#32
  let c0_i32_52 : BitVec 32 := 0#32
  let c1_i32_54 : BitVec 32 := 1#32
  let arg20 : BitVec 32 := Scf.iv c0_i32_52 c1_i32_54 k0_t12
  let c8_i32_1028 : BitVec 32 := 8#32
  let v2993 : BitVec 32 := Scalar.muli arg20 c8_i32_1028
  let v2994 : BitVec 32 := Scalar.addi c96_i32_1029 v2993
  let c7_i32 : BitVec 32 := 7#32
  let v2995 : BitVec 32 := Scalar.addi v2994 c7_i32
  let v3248 : Index := Scalar.indexCast v2995
  ![5, v3248.toNat]
def k0_off1426 (v3244 : BitVec 32) (c0_i32_1116 : BitVec 32) : Fin 2 → Nat :=
  let v3262 : BitVec 32 := Scalar.addi v3244 c0_i32_1116
  let v3263 : Index := Scalar.indexCast v3262
  let c0_1117 : Index := 0#32
  ![v3263.toNat, 0]

def k0_chk319 (v3244 : BitVec 32) : Prop :=
  (∀ a, (k0_off1424 v3244) a + S1x128.size a ≤ S102432x128.size a) ∧
  (∀ (r : Fin 3), ∀ a, (k0_off1426 v3244 (BitVec.ofNat 32 (8 * r.val))) a + S8x128.size a ≤ S102432x128.size a)
theorem k0_off1424_inb : ∀ (v3244 : BitVec 32) (k0_hw319 : k0_chk319 v3244), ∀ a, (k0_off1424 v3244) a + S1x128.size a ≤ S102432x128.size a := fun v3244 k0_hw319 => k0_hw319.1
theorem k0_off1426_inb : ∀ (v3244 : BitVec 32) (k0_hw319 : k0_chk319 v3244), ∀ (r : Fin 3), ∀ a, (k0_off1426 v3244 (BitVec.ofNat 32 (8 * r.val))) a + S8x128.size a ≤ S102432x128.size a := fun v3244 k0_hw319 r => k0_hw319.2 r

def k0_off1427 (k0_t12 : Fin k0_t12_loop.trips) : Fin 2 → Nat :=
  let c6_1126 : Index := 6#32
  let c96_i32_1029 : BitVec 32 := 96#32
  let c0_i32_52 : BitVec 32 := 0#32
  let c1_i32_54 : BitVec 32 := 1#32
  let arg20 : BitVec 32 := Scf.iv c0_i32_52 c1_i32_54 k0_t12
  let c8_i32_1028 : BitVec 32 := 8#32
  let v2993 : BitVec 32 := Scalar.muli arg20 c8_i32_1028
  let v2994 : BitVec 32 := Scalar.addi c96_i32_1029 v2993
  let c7_i32 : BitVec 32 := 7#32
  let v2995 : BitVec 32 := Scalar.addi v2994 c7_i32
  let v3293 : Index := Scalar.indexCast v2995
  ![6, v3293.toNat]
def k0_off1428 (v3294 : BitVec 32) : Fin 2 → Nat :=
  let c24_i32_1127 : BitVec 32 := 24#32
  let v3295 : BitVec 32 := Scalar.addi v3294 c24_i32_1127
  let v3296 : Index := Scalar.indexCast v3295
  let c0_1128 : Index := 0#32
  ![v3296.toNat, 0]

def k0_off1429 (k0_t12 : Fin k0_t12_loop.trips) : Fin 2 → Nat :=
  let c6_1129 : Index := 6#32
  let c96_i32_1029 : BitVec 32 := 96#32
  let c0_i32_52 : BitVec 32 := 0#32
  let c1_i32_54 : BitVec 32 := 1#32
  let arg20 : BitVec 32 := Scf.iv c0_i32_52 c1_i32_54 k0_t12
  let c8_i32_1028 : BitVec 32 := 8#32
  let v2993 : BitVec 32 := Scalar.muli arg20 c8_i32_1028
  let v2994 : BitVec 32 := Scalar.addi c96_i32_1029 v2993
  let c7_i32 : BitVec 32 := 7#32
  let v2995 : BitVec 32 := Scalar.addi v2994 c7_i32
  let v3298 : Index := Scalar.indexCast v2995
  ![6, v3298.toNat]
def k0_off1430 (v3294 : BitVec 32) (c0_i32_1132 : BitVec 32) : Fin 2 → Nat :=
  let v3312 : BitVec 32 := Scalar.addi v3294 c0_i32_1132
  let v3313 : Index := Scalar.indexCast v3312
  let c0_1133 : Index := 0#32
  ![v3313.toNat, 0]

def k0_chk320 (v3294 : BitVec 32) : Prop :=
  (∀ a, (k0_off1428 v3294) a + S1x128.size a ≤ S102432x128.size a) ∧
  (∀ (r : Fin 3), ∀ a, (k0_off1430 v3294 (BitVec.ofNat 32 (8 * r.val))) a + S8x128.size a ≤ S102432x128.size a)
theorem k0_off1428_inb : ∀ (v3294 : BitVec 32) (k0_hw320 : k0_chk320 v3294), ∀ a, (k0_off1428 v3294) a + S1x128.size a ≤ S102432x128.size a := fun v3294 k0_hw320 => k0_hw320.1
theorem k0_off1430_inb : ∀ (v3294 : BitVec 32) (k0_hw320 : k0_chk320 v3294), ∀ (r : Fin 3), ∀ a, (k0_off1430 v3294 (BitVec.ofNat 32 (8 * r.val))) a + S8x128.size a ≤ S102432x128.size a := fun v3294 k0_hw320 r => k0_hw320.2 r

def k0_off1431 (k0_t12 : Fin k0_t12_loop.trips) : Fin 2 → Nat :=
  let c7_1142 : Index := 7#32
  let c96_i32_1029 : BitVec 32 := 96#32
  let c0_i32_52 : BitVec 32 := 0#32
  let c1_i32_54 : BitVec 32 := 1#32
  let arg20 : BitVec 32 := Scf.iv c0_i32_52 c1_i32_54 k0_t12
  let c8_i32_1028 : BitVec 32 := 8#32
  let v2993 : BitVec 32 := Scalar.muli arg20 c8_i32_1028
  let v2994 : BitVec 32 := Scalar.addi c96_i32_1029 v2993
  let c7_i32 : BitVec 32 := 7#32
  let v2995 : BitVec 32 := Scalar.addi v2994 c7_i32
  let v3343 : Index := Scalar.indexCast v2995
  ![7, v3343.toNat]
def k0_off1432 (v3344 : BitVec 32) : Fin 2 → Nat :=
  let c24_i32_1143 : BitVec 32 := 24#32
  let v3345 : BitVec 32 := Scalar.addi v3344 c24_i32_1143
  let v3346 : Index := Scalar.indexCast v3345
  let c0_1144 : Index := 0#32
  ![v3346.toNat, 0]

def k0_off1433 (k0_t12 : Fin k0_t12_loop.trips) : Fin 2 → Nat :=
  let c7_1145 : Index := 7#32
  let c96_i32_1029 : BitVec 32 := 96#32
  let c0_i32_52 : BitVec 32 := 0#32
  let c1_i32_54 : BitVec 32 := 1#32
  let arg20 : BitVec 32 := Scf.iv c0_i32_52 c1_i32_54 k0_t12
  let c8_i32_1028 : BitVec 32 := 8#32
  let v2993 : BitVec 32 := Scalar.muli arg20 c8_i32_1028
  let v2994 : BitVec 32 := Scalar.addi c96_i32_1029 v2993
  let c7_i32 : BitVec 32 := 7#32
  let v2995 : BitVec 32 := Scalar.addi v2994 c7_i32
  let v3348 : Index := Scalar.indexCast v2995
  ![7, v3348.toNat]
def k0_off1434 (v3344 : BitVec 32) (c0_i32_1148 : BitVec 32) : Fin 2 → Nat :=
  let v3362 : BitVec 32 := Scalar.addi v3344 c0_i32_1148
  let v3363 : Index := Scalar.indexCast v3362
  let c0_1149 : Index := 0#32
  ![v3363.toNat, 0]

def k0_chk321 (v3344 : BitVec 32) : Prop :=
  (∀ a, (k0_off1432 v3344) a + S1x128.size a ≤ S102432x128.size a) ∧
  (∀ (r : Fin 3), ∀ a, (k0_off1434 v3344 (BitVec.ofNat 32 (8 * r.val))) a + S8x128.size a ≤ S102432x128.size a)
theorem k0_off1432_inb : ∀ (v3344 : BitVec 32) (k0_hw321 : k0_chk321 v3344), ∀ a, (k0_off1432 v3344) a + S1x128.size a ≤ S102432x128.size a := fun v3344 k0_hw321 => k0_hw321.1
theorem k0_off1434_inb : ∀ (v3344 : BitVec 32) (k0_hw321 : k0_chk321 v3344), ∀ (r : Fin 3), ∀ a, (k0_off1434 v3344 (BitVec.ofNat 32 (8 * r.val))) a + S8x128.size a ≤ S102432x128.size a := fun v3344 k0_hw321 r => k0_hw321.2 r

def k0_off1435 (k0_t12 : Fin k0_t12_loop.trips) (c0_i32_1159 : BitVec 32) : Fin 2 → Nat :=
  let c96_i32_1029 : BitVec 32 := 96#32
  let c0_i32_52 : BitVec 32 := 0#32
  let c1_i32_54 : BitVec 32 := 1#32
  let arg20 : BitVec 32 := Scf.iv c0_i32_52 c1_i32_54 k0_t12
  let c8_i32_1028 : BitVec 32 := 8#32
  let v2993 : BitVec 32 := Scalar.muli arg20 c8_i32_1028
  let v2994 : BitVec 32 := Scalar.addi c96_i32_1029 v2993
  let c7_i32 : BitVec 32 := 7#32
  let v2995 : BitVec 32 := Scalar.addi v2994 c7_i32
  let c25_i32_1158 : BitVec 32 := 25#32
  let v3393 : BitVec 32 := Scalar.muli v2995 c25_i32_1158
  let v3394 : BitVec 32 := Scalar.addi v3393 c0_i32_1159
  let v3395 : Index := Scalar.indexCast v3394
  let c0_1160 : Index := 0#32
  ![v3395.toNat, 0]
@[reducible] def k0_t13_loop : Scf.Loop 32 :=
  let c0_i32_56 : BitVec 32 := 0#32
  let c8_i32_57 : BitVec 32 := 8#32
  let v66 : BitVec 32 := Scalar.addi c0_i32_56 c8_i32_57
  let c1_i32_58 : BitVec 32 := 1#32
  ⟨c0_i32_56, v66, c1_i32_58⟩
def k0_mult18 (k0_t13 : Fin k0_t13_loop.trips) : BitVec 32 :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  v67
def k0_off1436 (k0_t13 : Fin k0_t13_loop.trips) (c0_i32_61 : BitVec 32) (c0_i32_62 : BitVec 32) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v69 : BitVec 32 := Scalar.addi v68 c0_i32_61
  let c25_i32 : BitVec 32 := 25#32
  let v70 : BitVec 32 := Scalar.muli v69 c25_i32
  let v71 : BitVec 32 := Scalar.addi v70 c0_i32_62
  let v72 : Index := Scalar.indexCast v71
  let c0_63 : Index := 0#32
  ![v72.toNat, 0]
def k0_off1437 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v80 : Index := Scalar.indexCast v68
  let c0_68 : Index := 0#32
  ![v80.toNat, 0]
def k0_off1438 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v98 : Index := Scalar.indexCast v68
  let c128 : Index := 128#32
  ![v98.toNat, 128]
def k0_off1439 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v116 : Index := Scalar.indexCast v68
  let c256 : Index := 256#32
  ![v116.toNat, 256]
def k0_off1440 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v134 : Index := Scalar.indexCast v68
  let c384 : Index := 384#32
  ![v134.toNat, 384]
def k0_off1441 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v152 : Index := Scalar.indexCast v68
  let c512 : Index := 512#32
  ![v152.toNat, 512]
def k0_off1442 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v170 : Index := Scalar.indexCast v68
  let c640 : Index := 640#32
  ![v170.toNat, 640]
def k0_off1443 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v188 : Index := Scalar.indexCast v68
  let c768 : Index := 768#32
  ![v188.toNat, 768]
def k0_off1444 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v206 : Index := Scalar.indexCast v68
  let c896 : Index := 896#32
  ![v206.toNat, 896]
def k0_off1445 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v224 : Index := Scalar.indexCast v68
  let c1024 : Index := 1024#32
  ![v224.toNat, 1024]
def k0_off1446 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v242 : Index := Scalar.indexCast v68
  let c1152 : Index := 1152#32
  ![v242.toNat, 1152]
def k0_off1447 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v260 : Index := Scalar.indexCast v68
  let c1280 : Index := 1280#32
  ![v260.toNat, 1280]
def k0_off1448 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v278 : Index := Scalar.indexCast v68
  let c1408 : Index := 1408#32
  ![v278.toNat, 1408]
def k0_off1449 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v296 : Index := Scalar.indexCast v68
  let c1536 : Index := 1536#32
  ![v296.toNat, 1536]
def k0_off1450 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v314 : Index := Scalar.indexCast v68
  let c1664 : Index := 1664#32
  ![v314.toNat, 1664]
def k0_off1451 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v332 : Index := Scalar.indexCast v68
  let c1792 : Index := 1792#32
  ![v332.toNat, 1792]
def k0_off1452 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v350 : Index := Scalar.indexCast v68
  let c1920 : Index := 1920#32
  ![v350.toNat, 1920]
def k0_off1453 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v368 : Index := Scalar.indexCast v68
  let c2048 : Index := 2048#32
  ![v368.toNat, 2048]
def k0_off1454 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v386 : Index := Scalar.indexCast v68
  let c2176 : Index := 2176#32
  ![v386.toNat, 2176]
def k0_off1455 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v404 : Index := Scalar.indexCast v68
  let c2304 : Index := 2304#32
  ![v404.toNat, 2304]
def k0_off1456 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v422 : Index := Scalar.indexCast v68
  let c2432 : Index := 2432#32
  ![v422.toNat, 2432]
def k0_off1457 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v440 : Index := Scalar.indexCast v68
  let c2560 : Index := 2560#32
  ![v440.toNat, 2560]
def k0_off1458 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v458 : Index := Scalar.indexCast v68
  let c2688 : Index := 2688#32
  ![v458.toNat, 2688]
def k0_off1459 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v476 : Index := Scalar.indexCast v68
  let c2816 : Index := 2816#32
  ![v476.toNat, 2816]
def k0_off1460 (k0_t13 : Fin k0_t13_loop.trips) : Fin 2 → Nat :=
  let c0_i32_56 : BitVec 32 := 0#32
  let c1_i32_58 : BitVec 32 := 1#32
  let arg20 : BitVec 32 := Scf.iv c0_i32_56 c1_i32_58 k0_t13
  let c16_i32_60 : BitVec 32 := 16#32
  let v67 : BitVec 32 := Scalar.muli arg20 c16_i32_60
  let v68 : BitVec 32 := v67
  let v494 : Index := Scalar.indexCast v68
  let c2944 : Index := 2944#32
  ![v494.toNat, 2944]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c255_i32 : BitVec 32 := 255#32
  let v1 : BitVec 32 := Scalar.minsi v0 c255_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.addi arg0 c1_i32
  let c255_i32 : BitVec 32 := 255#32
  let v1 : BitVec 32 := Scalar.minsi v0 c255_i32
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c7782_i32 : BitVec 32 := 7782#32
  let c0_i32 : BitVec 32 := 0#32
  let c0_i32_0 : BitVec 32 := 0#32
  ![c7782_i32.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x4x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .smem S1x4x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .smem S1x1x4 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .smem S1x1x4 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x3072 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x24 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8x32768 : Shape := ⟨2, ![8, 32768]⟩
abbrev S256x4x128 : Shape := ⟨3, ![256, 4, 128]⟩
abbrev S256x1x4 : Shape := ⟨3, ![256, 1, 4]⟩
abbrev S32768x3072 : Shape := ⟨2, ![32768, 3072]⟩
abbrev S249037x3072 : Shape := ⟨2, ![249037, 3072]⟩
abbrev S249037x24 : Shape := ⟨2, ![249037, 24]⟩
abbrev S32768x8 : Shape := ⟨2, ![32768, 8]⟩
abbrev S_ : Shape := ⟨0, ![]⟩
abbrev S32768x8x1 : Shape := ⟨3, ![32768, 8, 1]⟩
abbrev S32768x8x3072 : Shape := ⟨3, ![32768, 8, 3072]⟩
abbrev S32768x8x24 : Shape := ⟨3, ![32768, 8, 24]⟩
abbrev S262144x3072 : Shape := ⟨2, ![262144, 3072]⟩
abbrev S32768x8x24x128 : Shape := ⟨4, ![32768, 8, 24, 128]⟩
abbrev S32768x8x24x1 : Shape := ⟨4, ![32768, 8, 24, 1]⟩
abbrev S32768x24x128 : Shape := ⟨3, ![32768, 24, 128]⟩

abbrev nBuf : Space → Nat
  | .hbm => 42
  | .vmem => 2
  | .smem => 0
  | _ => 0

abbrev bufTy : (tb : Table) → Fin (tcTables nBuf tb) → BufTy
  | .hbm, ⟨0, _⟩ => ⟨S8x32768, .i32⟩
  | .hbm, ⟨1, _⟩ => ⟨S8x32768, .f32⟩
  | .hbm, ⟨2, _⟩ => ⟨S256x4x128, .i32⟩
  | .hbm, ⟨3, _⟩ => ⟨S256x1x4, .i32⟩
  | .hbm, ⟨4, _⟩ => ⟨S32768x3072, .bf16⟩
  | .hbm, ⟨5, _⟩ => ⟨S249037x3072, .fp8e4m3⟩
  | .hbm, ⟨6, _⟩ => ⟨S249037x24, .f32⟩
  | .hbm, ⟨7, _⟩ => ⟨S32768x8, .i32⟩
  | .hbm, ⟨8, _⟩ => ⟨S32768x8, .f32⟩
  | .hbm, ⟨9, _⟩ => ⟨S_, .i32⟩
  | .hbm, ⟨10, _⟩ => ⟨S32768x8, .i32⟩
  | .hbm, ⟨11, _⟩ => ⟨S32768x8, .i1⟩
  | .hbm, ⟨12, _⟩ => ⟨S_, .i32⟩
  | .hbm, ⟨13, _⟩ => ⟨S32768x8, .i32⟩
  | .hbm, ⟨14, _⟩ => ⟨S32768x8, .i32⟩
  | .hbm, ⟨15, _⟩ => ⟨S32768x8, .i32⟩
  | .hbm, ⟨16, _⟩ => ⟨S32768x8x1, .i32⟩
  | .hbm, ⟨17, _⟩ => ⟨S32768x8x3072, .fp8e4m3⟩
  | .hbm, ⟨18, _⟩ => ⟨S_, .i32⟩
  | .hbm, ⟨19, _⟩ => ⟨S32768x8, .i32⟩
  | .hbm, ⟨20, _⟩ => ⟨S32768x8, .i1⟩
  | .hbm, ⟨21, _⟩ => ⟨S_, .i32⟩
  | .hbm, ⟨22, _⟩ => ⟨S32768x8, .i32⟩
  | .hbm, ⟨23, _⟩ => ⟨S32768x8, .i32⟩
  | .hbm, ⟨24, _⟩ => ⟨S32768x8, .i32⟩
  | .hbm, ⟨25, _⟩ => ⟨S32768x8x1, .i32⟩
  | .hbm, ⟨26, _⟩ => ⟨S32768x8x24, .f32⟩
  | .hbm, ⟨27, _⟩ => ⟨S32768x8x1, .f32⟩
  | .hbm, ⟨28, _⟩ => ⟨S32768x8x24, .f32⟩
  | .hbm, ⟨29, _⟩ => ⟨S32768x8x24, .f32⟩
  | .hbm, ⟨30, _⟩ => ⟨S262144x3072, .fp8e4m3⟩
  | .hbm, ⟨31, _⟩ => ⟨S262144x3072, .f32⟩
  | .hbm, ⟨32, _⟩ => ⟨S32768x8x24x128, .f32⟩
  | .hbm, ⟨33, _⟩ => ⟨S32768x8x24x1, .f32⟩
  | .hbm, ⟨34, _⟩ => ⟨S32768x8x24x128, .f32⟩
  | .hbm, ⟨35, _⟩ => ⟨S32768x8x24x128, .f32⟩
  | .hbm, ⟨36, _⟩ => ⟨S_, .f32⟩
  | .hbm, ⟨37, _⟩ => ⟨S32768x24x128, .f32⟩
  | .hbm, ⟨38, _⟩ => ⟨S32768x3072, .f32⟩
  | .hbm, ⟨39, _⟩ => ⟨S32768x3072, .f32⟩
  | .hbm, ⟨40, _⟩ => ⟨S32768x3072, .f32⟩
  | .hbm, ⟨41, _⟩ => ⟨S32768x3072, .bf16⟩
  | .local _ .vmem, ⟨0, _⟩ => ⟨S262144x3072, .fp8e4m3⟩
  | .local _ .vmem, ⟨1, _⟩ => ⟨S262144x3072, .f32⟩
  | _, _ => ⟨S8x32768, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S262144x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S262144x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.PreFacts.lean ====
module

public import proofs.«01_k».proof.Pre_routed

@[expose] public section

/-
  The shape relations the precondition's operations take.
-/
namespace Cert.Pre_routed.M

open Idealize.ShloMosaic

/-- The precondition's shape relations hold. -/
instance facts : Cert.Pre_routed.Facts where
  shapeCasts_S256x1x4_S1x256x4x1x1 := by decide
  shapeCasts_S256x4x128_S1x256x4x1x128 := by decide
  bcast_S_S1x256x4x1x1 := by decide
  bcast_S1x256x4x1x1_S1x256x4x1x128_0_1_2_3_4 := by decide
  bcast_S_S1x256x4x1x128 := by decide
  shapeCasts_S256x4x128_S1024x128 := by decide
  bcast_S_S1024x128 := by decide
  shapeCasts_S256x1x4_S1024x1 := by decide
  bcast_S1024x1_S1024x128_0_1 := by decide
  bcast_S1024x128_S1024x128x1_0_1 := by decide
  bcast_S1024x128x1_S1024x128x128_0_1_2 := by decide
  bcast_S_S1024x128x128 := by decide
  reducesTo_S1024x128x128_S1024x128_d1 := by decide
  h_S_ := by decide
  bcast_S1024x128_S1x1024x128_1_2 := by decide
  bcast_S1x1024x128_S1024x1024x128_0_1_2 := by decide
  bcast_S_S1024x1024x128 := by decide
  reducesTo_S1024x1024x128_S1024x128_d1 := by decide
  shapeCasts_S8x32768_S8x256x4x32x1 := by decide
  transposes_S32768x8_S8x32768_1_0 := by decide
  bcast_S_S8x256x4x32x1 := by decide
  shapeCasts_S1024x128_S1x256x4x1x128 := by decide
  bcast_S1x1x1x1x128_S8x256x4x32x128_0_1_2_3_4 := by decide
  bcast_S8x256x4x32x1_S8x256x4x32x128_0_1_2_3_4 := by decide
  bcast_S1x256x4x1x128_S8x256x4x32x128_0_1_2_3_4 := by decide

end Cert.Pre_routed.M

end
-- ==== Proof.K.Mirror.lean ====
module

public import proofs.«01_k».proof.Kernel

@[expose] public section

set_option synthInstance.maxSize 4096

noncomputable section

/-
  The kernel body of `Kernel` written with its repetitions as recursions: the two scanning loops, the widening of one
  tile, the eight routed sums of one token, and the finish. The equations at the end say that the printed body is this one.
-/
namespace Cert.Kernel.M

open Idealize.ShloMosaic Idealize.SL.Sem
open Idealize.ShloMosaic.RefSig (ofTc tcTables tileCredit tileCredit_eq_zero tileCredit_pos)

variable {F : FTy → Type} [FloatOps F]
variable [Facts]
open Facts₀ Facts

/-- A program of the kernel's signature. -/
abbrev PR (F : FTy → Type) (α : Type) := Prog (TpuEff nD τ sig (Elt F) (Λ₀ F) .tc) α

/-- One round of the scan past exhausted lists. -/
def skipBody (i : grid0.Coords) (arg5 : Memref sig .tc .smem S1x1x4 .i32) (harg5 : arg5.IsWhole) (arg6 : Memref sig .tc .smem S1x1x4 .i32) (harg6 : arg6.IsWhole)
    (call : BitVec 32 → BitVec 32 → PR F (BitVec 32 × BitVec 32)) (arg20 : BitVec 32) (arg21 : BitVec 32) : PR F (BitVec 32 × BitVec 32) := do
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  have k0_hw1 : k0_chk1 i arg20 := (← Prog.lift (TpuEff.assume (k0_chk1 i arg20) (k0_chk1.dec i arg20))).down
  let v67 : BitVec 1 := Scalar.cmpi .slt arg20 v5
  let c1_i32_60 : BitVec 32 := 1#32
  let v68 : BitVec 32 := Scalar.subi v5 c1_i32_60
  let v69 : BitVec 32 := Scalar.minsi arg20 v68
  let c4_i32_61 : BitVec 32 := 4#32
  let v70 : BitVec 1 := Scalar.cmpi .slt v69 c4_i32_61
  let c0_i32_62 : BitVec 32 := 0#32
  let v71 : BitVec 32 := Scalar.select v70 v69 c0_i32_62
  let c0_63 : Index := 0#32
  let c0_64 : Index := 0#32
  let v72 : Index := Scalar.indexCast v71
  let v73 : Elt F .i32 ← smemLoad arg5 (Rect.unit (s := S1x1x4) (k0_off1 i arg20) S1x1x1.size (k0_off1_inb i arg20 k0_hw1)) numel1_S1x1x1 rfl
  let c4_i32_65 : BitVec 32 := 4#32
  let v74 : BitVec 32 := Scalar.subi v69 c4_i32_65
  let c0_i32_66 : BitVec 32 := 0#32
  let v75 : BitVec 32 := Scalar.select v70 c0_i32_66 v74
  let c0_67 : Index := 0#32
  let c0_68 : Index := 0#32
  let v76 : Index := Scalar.indexCast v75
  let v77 : Elt F .i32 ← smemLoad arg6 (Rect.unit (s := S1x1x4) (k0_off2 i arg20) S1x1x1.size (k0_off2_inb i arg20 k0_hw1)) numel1_S1x1x1 rfl
  let v78 : BitVec 32 := Scalar.select v70 v73 v77
  let v79 : BitVec 1 := Scalar.cmpi .sge arg21 v78
  let v80 : BitVec 1 := Scalar.andi v67 v79
  if v80 = 1#1 then do
    let c1_i32_60 : BitVec 32 := 1#32
    let v67 : BitVec 32 := Scalar.addi arg20 c1_i32_60
    let c0_i32_61 : BitVec 32 := 0#32
    call v67 c0_i32_61
  else pure (arg20, arg21)

/-- Issuing one tile: its copies when it is a full tile, the counters, and the scan past the list it ended. -/
def canWin (i : grid0.Coords) (arg19 : Memref sig .tc .smem S4 .i32) (harg19 : arg19.IsWhole) (arg3 : Memref sig .tc .smem S1x4x128 .i32) (harg3 : arg3.IsWhole) (arg4 : Memref sig .tc .smem S1x4x128 .i32) (harg4 : arg4.IsWhole) (arg17 : DmaSems sig S16) (arg15 : Memref sig .tc .vmem S16x32x3072 .fp8e4m3) (harg15 : arg15.IsWhole) (arg10 : Memref sig .tc .hbm S249037x3072 .fp8e4m3) (harg10 : arg10.IsWhole) (arg18 : DmaSems sig S16) (arg16 : Memref sig .tc .vmem S16x32x24 .f32) (harg16 : arg16.IsWhole) (arg11 : Memref sig .tc .hbm S249037x24 .f32) (harg11 : arg11.IsWhole) (arg5 : Memref sig .tc .smem S1x1x4 .i32) (harg5 : arg5.IsWhole) (arg6 : Memref sig .tc .smem S1x1x4 .i32) (harg6 : arg6.IsWhole) (arg20 : BitVec 1)
    (callSkip : (v67 v68 : Elt F .i32) → k0_chk2 v67 v68 → (v73 v78 : Elt F .i32) → k0_chk3 v67 v73 v78 → (v81 : Elt F .i32) → k0_chk4 v67 v73 v78 v81 → BitVec 32 → BitVec 32 → PR F (BitVec 32 × BitVec 32)) : PR F (Σ' (v94 : BitVec 1) (v97_0 : BitVec 32), BitVec 32) := do
  let c2_60 : Index := 2#32
  let v67 : Elt F .i32 ← smemLoad arg19 (Rect.unit (s := S4) ![2] S1.size inb_S4_S1_2) numel1_S1 rfl
  let c3_61 : Index := 3#32
  let v68 : Elt F .i32 ← smemLoad arg19 (Rect.unit (s := S4) ![3] S1.size inb_S4_S1_3) numel1_S1 rfl
  have k0_hw2 : k0_chk2 v67 v68 := (← Prog.lift (TpuEff.assume (k0_chk2 v67 v68) (k0_chk2.dec v67 v68))).down
  let c4_i32_62 : BitVec 32 := 4#32
  let v69 : BitVec 1 := Scalar.cmpi .slt v67 c4_i32_62
  let c0_i32_63 : BitVec 32 := 0#32
  let v70 : BitVec 32 := Scalar.select v69 v67 c0_i32_63
  let c0_64 : Index := 0#32
  let v71 : Index := Scalar.indexCast v70
  let v72 : Index := Scalar.indexCast v68
  let v73 : Elt F .i32 ← smemLoad arg3 (Rect.unit (s := S1x4x128) (k0_off3 v67 v68) S1x1x1.size (k0_off3_inb v67 v68 k0_hw2)) numel1_S1x1x1 rfl
  let c4_i32_65 : BitVec 32 := 4#32
  let v74 : BitVec 32 := Scalar.subi v67 c4_i32_65
  let c0_i32_66 : BitVec 32 := 0#32
  let v75 : BitVec 32 := Scalar.select v69 c0_i32_66 v74
  let c0_67 : Index := 0#32
  let v76 : Index := Scalar.indexCast v75
  let v77 : Index := Scalar.indexCast v68
  let v78 : Elt F .i32 ← smemLoad arg4 (Rect.unit (s := S1x4x128) (k0_off4 v67 v68) S1x1x1.size (k0_off4_inb v67 v68 k0_hw2)) numel1_S1x1x1 rfl
  have k0_hw3 : k0_chk3 v67 v73 v78 := (← Prog.lift (TpuEff.assume (k0_chk3 v67 v73 v78) (k0_chk3.dec v67 v73 v78))).down
  let v79 : BitVec 32 := Scalar.select v69 v73 v78
  let c6_i32 : BitVec 32 := 6#32
  let v80 : BitVec 32 := Scalar.shrsi v79 c6_i32
  let c0_68 : Index := 0#32
  let v81 : Elt F .i32 ← smemLoad arg19 (Rect.unit (s := S4) ![0] S1.size inb_S4_S1_0) numel1_S1 rfl
  have k0_hw4 : k0_chk4 v67 v73 v78 v81 := (← Prog.lift (TpuEff.assume (k0_chk4 v67 v73 v78 v81) (k0_chk4.dec v67 v73 v78 v81))).down
  let c16_i32_69 : BitVec 32 := 16#32
  let v82 : BitVec 32 := Scalar.remsi v81 c16_i32_69
  let c7782_i32 : BitVec 32 := 7782#32
  let v83 : BitVec 1 := Scalar.cmpi .slt v80 c7782_i32
  let v84 : BitVec 32 := Scalar.extui v83
  let c0_i32_70 : BitVec 32 := 0#32
  let v85 : BitVec 1 := Scalar.cmpi .ne v84 c0_i32_70
  if k0_h3 : k0_cond3 v67 v73 v78 = 1#1 then do
    let c32_i32 : BitVec 32 := 32#32
    let v102 : BitVec 32 := Scalar.muli v80 c32_i32
    let v103 : BitVec 32 := v102
    let v104 : DmaSems sig S1 := arg17.slice (Rect.unit (s := S16) (k0_off5 v81) S1.size (k0_off5_inb v67 v73 v78 v81 k0_hw4 k0_h3))
    let v105 : DmaSems sig S_ := v104.squeeze S_ squeezes_S1_S_
    let c0_i32_83 : BitVec 32 := 0#32
    let c0_i32_84 : BitVec 32 := 0#32
    let v106 : Memref sig .tc .vmem S1x32x3072 .fp8e4m3 := arg15.slice (Rect.unit (s := S16x32x3072) (k0_off6 v81) S1x32x3072.size (k0_off6_inb v67 v73 v78 v81 k0_hw4 k0_h3)) (fun _ => rfl)
    let v107 : Memref sig .tc .vmem S32x3072 .fp8e4m3 := v106.squeeze S32x3072 squeezes_S1x32x3072_S32x3072
    let c0_i32_85 : BitVec 32 := 0#32
    let v108 : Memref sig .tc .hbm S32x3072 .fp8e4m3 := arg10.slice (Rect.unit (s := S249037x3072) (k0_off7 v67 v73 v78) S32x3072.size (k0_off7_inb v67 v73 v78 k0_hw3 k0_h3)) (fun _ => rfl)
    Prog.lift (.enqueueDma v108 (.here v107) (.dma v105.sem) (harg10.wordExact_slice rfl _ (k0_off7_wordsfp8e4m3 v67 v73 v78 k0_hw3 k0_h3)) ((harg15.wordExact_slice rfl _ (k0_off6_wordsfp8e4m3 v67 v73 v78 v81 k0_hw4 k0_h3)).reshape _ _) ⟨Or.inl rfl, trivial⟩)
    let v109 : DmaSems sig S1 := arg18.slice (Rect.unit (s := S16) (k0_off5 v81) S1.size (k0_off5_inb v67 v73 v78 v81 k0_hw4 k0_h3))
    let v110 : DmaSems sig S_ := v109.squeeze S_ squeezes_S1_S_
    let c0_i32_86 : BitVec 32 := 0#32
    let c0_i32_87 : BitVec 32 := 0#32
    let v111 : Memref sig .tc .vmem S1x32x24 .f32 := arg16.slice (Rect.unit (s := S16x32x24) (k0_off8 v81) S1x32x24.size (k0_off8_inb v67 v73 v78 v81 k0_hw4 k0_h3)) (fun _ => rfl)
    let v112 : Memref sig .tc .vmem S32x24 .f32 := v111.squeeze S32x24 squeezes_S1x32x24_S32x24
    let c0_i32_88 : BitVec 32 := 0#32
    let v113 : Memref sig .tc .hbm S32x24 .f32 := arg11.slice (Rect.unit (s := S249037x24) (k0_off9 v67 v73 v78) S32x24.size (k0_off9_inb v67 v73 v78 k0_hw3 k0_h3)) (fun _ => rfl)
    Prog.lift (.enqueueDma v113 (.here v112) (.dma v110.sem) (View.wordExact_bits rfl) ((View.wordExact_bits rfl).reshape _ _) ⟨Or.inl rfl, trivial⟩)
    pure ⟨⟩
  else do
    pure ⟨⟩
  let c0_71 : Index := 0#32
  let v86 : Elt F .i32 ← smemLoad arg19 (Rect.unit (s := S4) ![0] S1.size inb_S4_S1_0) numel1_S1 rfl
  let c1_i32_72 : BitVec 32 := 1#32
  let v87 : BitVec 32 := Scalar.addi v86 c1_i32_72
  let c0_73 : Index := 0#32
  let v88 : Elt F .i32 ← smemLoad arg19 (Rect.unit (s := S4) ![0] S1.size inb_S4_S1_0) numel1_S1 rfl
  Prog.lift (.store arg19 (Rect.unit (s := S4) ![0] S1.size inb_S4_S1_0) (fun _ => v87) Finset.univ (View.stores_smem_one rfl numel1_S1) (.inl rfl))
  let c1_i32_74 : BitVec 32 := 1#32
  let v89 : BitVec 32 := Scalar.addi v68 c1_i32_74
  let c3_75 : Index := 3#32
  let v90 : Elt F .i32 ← smemLoad arg19 (Rect.unit (s := S4) ![3] S1.size inb_S4_S1_3) numel1_S1 rfl
  Prog.lift (.store arg19 (Rect.unit (s := S4) ![3] S1.size inb_S4_S1_3) (fun _ => v89) Finset.univ (View.stores_smem_one rfl numel1_S1) (.inl rfl))
  let c0_76 : Index := 0#32
  let v91 : Elt F .i32 ← smemLoad arg19 (Rect.unit (s := S4) ![0] S1.size inb_S4_S1_0) numel1_S1 rfl
  let c1_77 : Index := 1#32
  let v92 : Elt F .i32 ← smemLoad arg19 (Rect.unit (s := S4) ![1] S1.size inb_S4_S1_1) numel1_S1 rfl
  let v93 : BitVec 32 := Scalar.subi v91 v92
  let c16_i32_78 : BitVec 32 := 16#32
  let v94 : BitVec 1 := Scalar.cmpi .slt v93 c16_i32_78
  let c2_79 : Index := 2#32
  let v95 : Elt F .i32 ← smemLoad arg19 (Rect.unit (s := S4) ![2] S1.size inb_S4_S1_2) numel1_S1 rfl
  let c3_80 : Index := 3#32
  let v96 : Elt F .i32 ← smemLoad arg19 (Rect.unit (s := S4) ![3] S1.size inb_S4_S1_3) numel1_S1 rfl
  let (v97_0, v97_1) : BitVec 32 × BitVec 32 ← callSkip v67 v68 k0_hw2 v73 v78 k0_hw3 v81 k0_hw4 v95 v96
  pure ⟨v94, v97_0, v97_1⟩

/-- One round of the issuing loop. -/
def canBody (i : grid0.Coords) (arg19 : Memref sig .tc .smem S4 .i32) (harg19 : arg19.IsWhole) (arg3 : Memref sig .tc .smem S1x4x128 .i32) (harg3 : arg3.IsWhole) (arg4 : Memref sig .tc .smem S1x4x128 .i32) (harg4 : arg4.IsWhole) (arg17 : DmaSems sig S16) (arg15 : Memref sig .tc .vmem S16x32x3072 .fp8e4m3) (harg15 : arg15.IsWhole) (arg10 : Memref sig .tc .hbm S249037x3072 .fp8e4m3) (harg10 : arg10.IsWhole) (arg18 : DmaSems sig S16) (arg16 : Memref sig .tc .vmem S16x32x24 .f32) (harg16 : arg16.IsWhole) (arg11 : Memref sig .tc .hbm S249037x24 .f32) (harg11 : arg11.IsWhole) (arg5 : Memref sig .tc .smem S1x1x4 .i32) (harg5 : arg5.IsWhole) (arg6 : Memref sig .tc .smem S1x1x4 .i32) (harg6 : arg6.IsWhole) (arg20 : BitVec 1)
    (callSkip : (v67 v68 : Elt F .i32) → k0_chk2 v67 v68 → (v73 v78 : Elt F .i32) → k0_chk3 v67 v73 v78 → (v81 : Elt F .i32) → k0_chk4 v67 v73 v78 v81 → BitVec 32 → BitVec 32 → PR F (BitVec 32 × BitVec 32)) (call : BitVec 1 → PR F (BitVec 1))  : PR F (BitVec 1) := do
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  if arg20 = 1#1 then do
    let ⟨v94, v97_0, v97_1⟩ : Σ' (v94 : BitVec 1) (v97_0 : BitVec 32), BitVec 32 ← canWin i arg19 harg19 arg3 harg3 arg4 harg4 arg17 arg15 harg15 arg10 harg10 arg18 arg16 harg16 arg11 harg11 arg5 harg5 arg6 harg6 arg20 callSkip
    let c2_81 : Index := 2#32
    let v98 : Elt F .i32 ← smemLoad arg19 (Rect.unit (s := S4) ![2] S1.size inb_S4_S1_2) numel1_S1 rfl
    Prog.lift (.store arg19 (Rect.unit (s := S4) ![2] S1.size inb_S4_S1_2) (fun _ => v97_0) Finset.univ (View.stores_smem_one rfl numel1_S1) (.inl rfl))
    let c3_82 : Index := 3#32
    let v99 : Elt F .i32 ← smemLoad arg19 (Rect.unit (s := S4) ![3] S1.size inb_S4_S1_3) numel1_S1 rfl
    Prog.lift (.store arg19 (Rect.unit (s := S4) ![3] S1.size inb_S4_S1_3) (fun _ => v97_1) Finset.univ (View.stores_smem_one rfl numel1_S1) (.inl rfl))
    let v100 : BitVec 1 := Scalar.cmpi .slt v97_0 v5
    let v101 : BitVec 1 := Scalar.andi v94 v100
    call v101
  else pure arg20

variable (i : grid0.Coords) (arg1 : Memref sig .tc .smem S8x128 .i32) (harg1 : arg1.IsWhole) (arg2 : Memref sig .tc .smem S8x128 .f32) (harg2 : arg2.IsWhole) (arg3 : Memref sig .tc .smem S1x4x128 .i32) (harg3 : arg3.IsWhole) (arg4 : Memref sig .tc .smem S1x4x128 .i32) (harg4 : arg4.IsWhole) (arg5 : Memref sig .tc .smem S1x1x4 .i32) (harg5 : arg5.IsWhole) (arg6 : Memref sig .tc .smem S1x1x4 .i32) (harg6 : arg6.IsWhole) (arg7 : Memref sig .tc .vmem S128x3072 .bf16) (harg7 : arg7.IsWhole) (arg8 : Memref sig .tc .vmem S32x3072 .fp8e4m3) (harg8 : arg8.IsWhole) (arg9 : Memref sig .tc .vmem S32x24 .f32) (harg9 : arg9.IsWhole) (arg10 : Memref sig .tc .hbm S249037x3072 .fp8e4m3) (harg10 : arg10.IsWhole) (arg11 : Memref sig .tc .hbm S249037x24 .f32) (harg11 : arg11.IsWhole) (arg12 : Memref sig .tc .vmem S128x3072 .bf16) (harg12 : arg12.IsWhole) (arg13 : Memref sig .tc .vmem S102432x128 .f32) (harg13 : arg13.IsWhole) (arg14 : Memref sig .tc .vmem S3200x128 .f32) (harg14 : arg14.IsWhole) (arg15 : Memref sig .tc .vmem S16x32x3072 .fp8e4m3) (harg15 : arg15.IsWhole) (arg16 : Memref sig .tc .vmem S16x32x24 .f32) (harg16 : arg16.IsWhole) (arg17 : DmaSems sig S16) (arg18 : DmaSems sig S16) (arg19 : Memref sig .tc .smem S4 .i32) (harg19 : arg19.IsWhole)

/-- The head of a widening: the entry, the waits or the tail copy, and the first eight rows of the first group. -/
def wOpen (off : Fin 3 → ℕ) (hoff : ∀ a, off a + S1x1x1.size a ≤ S1x4x128.size a) : PR F (Σ' (v68 : Elt F .i32) (k0_hw8 : k0_chk8 v68) (v71 : Elt F .i32) (k0_hw7 : k0_chk7 v68 v71) (v72 : BitVec 32) (v83 : BitVec 32) (v87 : FVec F S32x128 .f32), FVec F S8x128 .f32) := do
  let c0_60 : Index := 0#32
  let c0_61 : Index := 0#32
  let v68 : Elt F .i32 ← smemLoad arg3 (Rect.unit (s := S1x4x128) off S1x1x1.size hoff) numel1_S1x1x1 rfl
  have k0_hw8 : k0_chk8 v68 := (← Prog.lift (TpuEff.assume (k0_chk8 v68) (k0_chk8.dec v68))).down
  let c6_i32 : BitVec 32 := 6#32
  let v69 : BitVec 32 := Scalar.shrsi v68 c6_i32
  let c63_i32 : BitVec 32 := 63#32
  let v70 : BitVec 32 := Scalar.andi v68 c63_i32
  let c1_62 : Index := 1#32
  let v71 : Elt F .i32 ← smemLoad arg19 (Rect.unit (s := S4) ![1] S1.size inb_S4_S1_1) numel1_S1 rfl
  have k0_hw7 : k0_chk7 v68 v71 := (← Prog.lift (TpuEff.assume (k0_chk7 v68 v71) (k0_chk7.dec v68 v71))).down
  let c16_i32_63 : BitVec 32 := 16#32
  let v72 : BitVec 32 := Scalar.remsi v71 c16_i32_63
  let c7782_i32 : BitVec 32 := 7782#32
  let v73 : BitVec 1 := Scalar.cmpi .slt v69 c7782_i32
  let v74 : BitVec 32 := Scalar.extui v73
  let c0_i32_64 : BitVec 32 := 0#32
  let v75 : BitVec 1 := Scalar.cmpi .ne v74 c0_i32_64
  if k0_h4 : k0_cond4 v68 = 1#1 then do
    let c0_i32_391 : BitVec 32 := 0#32
    let v915 : BitVec 32 := c0_i32_391
    let v916 : DmaSems sig S1 := arg17.slice (Rect.unit (s := S16) (k0_off13 v71) S1.size (k0_off13_inb v68 v71 k0_hw7 k0_h4))
    let v917 : DmaSems sig S_ := v916.squeeze S_ squeezes_S1_S_
    let c0_i32_392 : BitVec 32 := 0#32
    let c0_i32_393 : BitVec 32 := 0#32
    let v918 : Memref sig .tc .vmem S1x32x3072 .fp8e4m3 := arg15.slice (Rect.unit (s := S16x32x3072) (k0_off14 v71) S1x32x3072.size (k0_off14_inb v68 v71 k0_hw7 k0_h4)) (fun _ => rfl)
    let v919 : Memref sig .tc .vmem S32x3072 .fp8e4m3 := v918.squeeze S32x3072 squeezes_S1x32x3072_S32x3072
    let c0_i32_394 : BitVec 32 := 0#32
    let v920 : Memref sig .tc .hbm S32x3072 .fp8e4m3 := arg10.slice (Rect.unit (s := S249037x3072) ![0, 0] S32x3072.size inb_S249037x3072_S32x3072_0_0) (fun _ => rfl)
    Prog.lift (.waitDma2 v917.sem v920 v919 (harg10.wordExact_slice rfl _ wordsfp8e4m3_S249037x3072_S32x3072_0_0) ((harg15.wordExact_slice rfl _ (k0_off14_wordsfp8e4m3 v68 v71 k0_hw7 k0_h4)).reshape _ _))
    let v921 : DmaSems sig S1 := arg18.slice (Rect.unit (s := S16) (k0_off13 v71) S1.size (k0_off13_inb v68 v71 k0_hw7 k0_h4))
    let v922 : DmaSems sig S_ := v921.squeeze S_ squeezes_S1_S_
    let c0_i32_395 : BitVec 32 := 0#32
    let c0_i32_396 : BitVec 32 := 0#32
    let v923 : Memref sig .tc .vmem S1x32x24 .f32 := arg16.slice (Rect.unit (s := S16x32x24) (k0_off15 v71) S1x32x24.size (k0_off15_inb v68 v71 k0_hw7 k0_h4)) (fun _ => rfl)
    let v924 : Memref sig .tc .vmem S32x24 .f32 := v923.squeeze S32x24 squeezes_S1x32x24_S32x24
    let c0_i32_397 : BitVec 32 := 0#32
    let v925 : Memref sig .tc .hbm S32x24 .f32 := arg11.slice (Rect.unit (s := S249037x24) ![0, 0] S32x24.size inb_S249037x24_S32x24_0_0) (fun _ => rfl)
    Prog.lift (.waitDma2 v922.sem v925 v924 (View.wordExact_bits rfl) ((View.wordExact_bits rfl).reshape _ _))
    pure ⟨⟩
  else do
    pure ⟨⟩
  let c7782_i32_65 : BitVec 32 := 7782#32
  let v76 : BitVec 1 := Scalar.cmpi .sge v69 c7782_i32_65
  let v77 : BitVec 32 := Scalar.extui v76
  let c0_i32_66 : BitVec 32 := 0#32
  let v78 : BitVec 1 := Scalar.cmpi .ne v77 c0_i32_66
  if k0_h5 : k0_cond5 v68 = 1#1 then do
    let c0_391 : Index := 0#32
    let c0_392 : Index := 0#32
    let v915 : Vec F S32x3072 .fp8e4m3 ← Prog.lift (.load arg8 (Rect.unit (s := S32x3072) ![0, 0] S32x3072.size inb_S32x3072_S32x3072_0_0).toLoadRect (View.loadsAt_vmem h_S32x3072))
    have v916 : FVec F S32x3072 .fp8e4m3 := shapeCast S32x3072 v915 shapeCasts_S32x3072_S32x3072
    let v917 : Index := Scalar.indexCast v72
    let c0_393 : Index := 0#32
    let c0_394 : Index := 0#32
    let v918 : Vec F S1x32x3072 .fp8e4m3 ← Prog.lift (.load arg15 (Rect.unit (s := S16x32x3072) (k0_off16 v71) S1x32x3072.size (k0_off16_inb v68 v71 k0_hw7 k0_h5)).toLoadRect (View.loadsAt_vmem h_S1x32x3072))
    have v919 : FVec F S32x3072 .fp8e4m3 := shapeCast S32x3072 v918 shapeCasts_S1x32x3072_S32x3072
    have v920 : FVec F S1x32x3072 .fp8e4m3 := shapeCast S1x32x3072 v916 shapeCasts_S32x3072_S1x32x3072
    Prog.lift (.store arg15 (Rect.unit (s := S16x32x3072) (k0_off16 v71) S1x32x3072.size (k0_off16_inb v68 v71 k0_hw7 k0_h5)) v920 Finset.univ (View.stores_vmem h_S1x32x3072 (harg15.storeExact_slice rfl _ (k0_off16_packedfp8e4m3 v68 v71 k0_hw7 k0_h5)) (fun _ => rfl)) (.inl rfl))
    let c0_395 : Index := 0#32
    let c0_396 : Index := 0#32
    let v921 : Vec F S32x24 .f32 ← Prog.lift (.load arg9 (Rect.unit (s := S32x24) ![0, 0] S32x24.size inb_S32x24_S32x24_0_0).toLoadRect (View.loadsAt_vmem h_S32x24))
    let v922 : Index := Scalar.indexCast v72
    let c0_397 : Index := 0#32
    let c0_398 : Index := 0#32
    let v923 : Vec F S1x32x24 .f32 ← Prog.lift (.load arg16 (Rect.unit (s := S16x32x24) (k0_off17 v71) S1x32x24.size (k0_off17_inb v68 v71 k0_hw7 k0_h5)).toLoadRect (View.loadsAt_vmem h_S1x32x24))
    have v924 : FVec F S32x24 .f32 := shapeCast S32x24 v923 shapeCasts_S1x32x24_S32x24
    have v925 : FVec F S1x32x24 .f32 := shapeCast S1x32x24 v921 shapeCasts_S32x24_S1x32x24
    Prog.lift (.store arg16 (Rect.unit (s := S16x32x24) (k0_off17 v71) S1x32x24.size (k0_off17_inb v68 v71 k0_hw7 k0_h5)) v925 Finset.univ (View.stores_vmem_bits_univ h_S1x32x24 rfl) (.inl rfl))
    pure ⟨⟩
  else do
    pure ⟨⟩
  let c64_i32 : BitVec 32 := 64#32
  let v79 : BitVec 32 := Scalar.muli v70 c64_i32
  let c1_i32_67 : BitVec 32 := 1#32
  let v80 : BitVec 32 := Scalar.andi v69 c1_i32_67
  let c32_i32 : BitVec 32 := 32#32
  let v81 : BitVec 32 := Scalar.muli v80 c32_i32
  let v82 : BitVec 32 := Scalar.addi v79 v81
  let c25_i32 : BitVec 32 := 25#32
  let v83 : BitVec 32 := Scalar.muli v82 c25_i32
  let v84 : Index := Scalar.indexCast v72
  let c0_68 : Index := 0#32
  let c0_69 : Index := 0#32
  let v85 : Vec F S1x32x128 .fp8e4m3 ← Prog.lift (.load arg15 (Rect.unit (s := S16x32x3072) (k0_off18 v71) S1x32x128.size (k0_off18_inb v68 v71 k0_hw7)).toLoadRect (View.loadsAt_vmem h_S1x32x128))
  have v86 : FVec F S32x128 .fp8e4m3 := shapeCast S32x128 v85 shapeCasts_S1x32x128_S32x128
  have v87 : FVec F S32x128 .f32 := extf .f32 v86 bitsLt_fp8e4m3_f32
  have v88 : FVec F S8x128 .f32 := extractStridedSlice S8x128 ![0, 0] v87 slices_S32x128_o0_0_S8x128
  let c0_i32_70 : BitVec 32 := 0#32
  let v89 : BitVec 32 := Scalar.addi v83 c0_i32_70
  let c0_i32_71 : BitVec 32 := 0#32
  let v90 : BitVec 32 := Scalar.addi v89 c0_i32_71
  let v91 : Index := Scalar.indexCast v90
  let c0_72 : Index := 0#32
  let v92 : Vec F S8x128 .f32 ← Prog.lift (.load arg13 (⟨k0_off19 v68 0#32 0#32, S8x128.size, ![25, 1], (k0_off19_inb v68 k0_hw8 0 0)⟩ : LoadRect S102432x128) (View.loadsAt_vmem h_S8x128))
  have v93 : FVec F S8x128 .f32 := shapeCast S8x128 v92 shapeCasts_S8x128_S8x128
  have v94 : FVec F S8x128 .f32 := shapeCast S8x128 v88 shapeCasts_S8x128_S8x128
  Prog.lift (.store arg13 ⟨(⟨k0_off19 v68 0#32 0#32, S8x128.size, ![25, 1], (k0_off19_inb v68 k0_hw8 0 0)⟩ : LoadRect S102432x128), spos_25_1⟩ v94 Finset.univ (View.stores_vmem_bits_univ h_S8x128 rfl) (.inl rfl))
  have v95 : FVec F S8x128 .f32 := extractStridedSlice S8x128 ![8, 0] v87 slices_S32x128_o8_0_S8x128
  let c200_i32 : BitVec 32 := 200#32
  let v96 : BitVec 32 := Scalar.addi v83 c200_i32
  let c0_i32_73 : BitVec 32 := 0#32
  let v97 : BitVec 32 := Scalar.addi v96 c0_i32_73
  let v98 : Index := Scalar.indexCast v97
  let c0_74 : Index := 0#32
  pure ⟨v68, k0_hw8, v71, k0_hw7, v72, v83, v87, v95⟩

omit [Facts] in
theorem inb_S4 : ∀ (a : Fin 4), ∀ b, (![a.val] : Fin 1 → ℕ) b + S1.size b ≤ S4.size b := by decide

/-- The offsets of group `g` of a ring slot. -/
def offG (g : ℕ) (v71 : BitVec 32) : Fin 3 → ℕ := ![(Scalar.indexCast (Scalar.remsi v71 16#32)).toNat, 0, 128 * g]

theorem offG_inb {v68 v71 : BitVec 32} (h : k0_chk7 v68 v71) (g : Fin 24) : ∀ a, offG g.val v71 a + S1x32x128.size a ≤ S16x32x3072.size a := by
  have h0 := k0_off18_inb v68 v71 h
  intro a
  fin_cases a
  · exact h0 0
  · exact h0 1
  · have := g.isLt
    show 128 * g.val + 128 ≤ 3072
    omega

/-- The offsets of rows `8 q …` of a scale ring slot. -/
def offS (q : ℕ) (v71 : BitVec 32) : Fin 3 → ℕ := ![(Scalar.indexCast (Scalar.remsi v71 16#32)).toNat, 8 * q, 0]

theorem offS_inb {v68 v71 : BitVec 32} (h : k0_chk7 v68 v71) (q : Fin 4) : ∀ a, offS q.val v71 a + S1x8x24.size a ≤ S16x32x24.size a := by
  have h0 := k0_off43_inb v68 v71 h
  intro a
  fin_cases a
  · exact h0 0
  · have := q.isLt
    show 8 * q.val + 8 ≤ 32
    omega
  · exact h0 2

/-- One store of eight rows, a pitch apart, into `rows`. -/
def wStore {α : Type} (v68 : BitVec 32) (h8 : k0_chk8 v68) (q : Fin 4) (g : Fin 25) (v : FVec F S8x128 .f32) (K : PR F α) : PR F α := do
  let _ : Vec F S8x128 .f32 ← Prog.lift (.load arg13 (⟨k0_off19 v68 (BitVec.ofNat 32 (200 * q.val)) (BitVec.ofNat 32 g.val), S8x128.size, ![25, 1], (k0_off19_inb v68 h8 q g)⟩ : LoadRect S102432x128) (View.loadsAt_vmem h_S8x128))
  Prog.lift (.store arg13 ⟨(⟨k0_off19 v68 (BitVec.ofNat 32 (200 * q.val)) (BitVec.ofNat 32 g.val), S8x128.size, ![25, 1], (k0_off19_inb v68 h8 q g)⟩ : LoadRect S102432x128), spos_25_1⟩ (shapeCast S8x128 v shapeCasts_S8x128_S8x128) Finset.univ (View.stores_vmem_bits_univ h_S8x128 rfl) (.inl rfl))
  K

/-- The four stores of one group of codes from `q = 1` on, and then the groups after it. -/
def wRows {α : Type} (v68 : BitVec 32) (h8 : k0_chk8 v68) (g : Fin 25) (ext : FVec F S32x128 .f32) (v0 : FVec F S8x128 .f32) (K : PR F α) : PR F α :=
  wStore arg13 v68 h8 1 g v0 <|
  wStore arg13 v68 h8 2 g (extractStridedSlice S8x128 ![16, 0] ext slices_S32x128_o16_0_S8x128) <|
  wStore arg13 v68 h8 3 g (extractStridedSlice S8x128 ![24, 0] ext slices_S32x128_o24_0_S8x128) K

/-- The last `n` groups of codes. -/
def wGroups {α : Type} (v68 : BitVec 32) (h8 : k0_chk8 v68) (v71 : BitVec 32) (h7 : k0_chk7 v68 v71) (K : PR F α) : (n : ℕ) → n < 24 → PR F α
  | 0, _ => K
  | n + 1, hn => do
    let v ← Prog.lift (.load arg15 (Rect.unit (s := S16x32x3072) (offG (24 - (n + 1)) v71) S1x32x128.size (offG_inb h7 ⟨24 - (n + 1), by omega⟩)).toLoadRect (View.loadsAt_vmem h_S1x32x128))
    let ext : FVec F S32x128 .f32 := extf .f32 (shapeCast S32x128 v shapeCasts_S1x32x128_S32x128) bitsLt_fp8e4m3_f32
    wStore arg13 v68 h8 0 ⟨24 - (n + 1), by omega⟩ (extractStridedSlice S8x128 ![0, 0] ext slices_S32x128_o0_0_S8x128) <|
      wRows arg13 v68 h8 ⟨24 - (n + 1), by omega⟩ ext (extractStridedSlice S8x128 ![8, 0] ext slices_S32x128_o8_0_S8x128) <|
      wGroups v68 h8 v71 h7 K n (by omega)

/-- The scales of eight rows. -/
def wScale {α : Type} (v68 : BitVec 32) (h8 : k0_chk8 v68) (v71 : BitVec 32) (h7 : k0_chk7 v68 v71) (q : Fin 4) (K : PR F α) : PR F α := do
  let v ← Prog.lift (.load arg16 (Rect.unit (s := S16x32x24) (offS q.val v71) S1x8x24.size (offS_inb h7 q)).toLoadRect (View.loadsAt_vmem h_S1x8x24))
  wStore arg13 v68 h8 q 24 (concatenate S8x128 1 [⟨S8x24, shapeCast S8x24 v shapeCasts_S1x8x24_S8x24⟩, ⟨S8x104, broadcast S8x104 (Scalar.sitofp .f32 (0#32 : BitVec 32) : F .f32)⟩] concatenates_S8x24_S8x104_S8x128_d1) K

/-- Word `a` of the counters. -/
def rdS {α : Type} (a : Fin 4) (K : BitVec 32 → PR F α) : PR F α := do
  let v : Elt F .i32 ← smemLoad arg19 (Rect.unit (s := S4) ![a.val] S1.size (inb_S4 a)) numel1_S1 rfl
  K v

/-- A store to word `a` of the counters, after the load the printer leaves before it. -/
def wrS {α : Type} (a : Fin 4) (v : BitVec 32) (K : PR F α) : PR F α := do
  let _ : Elt F .i32 ← smemLoad arg19 (Rect.unit (s := S4) ![a.val] S1.size (inb_S4 a)) numel1_S1 rfl
  Prog.lift (.store arg19 (Rect.unit (s := S4) ![a.val] S1.size (inb_S4 a)) (fun _ => v) Finset.univ (View.stores_smem_one rfl numel1_S1) (.inl rfl))
  K

/-- Filling the queue. -/
def topUp {α : Type} (v5 : BitVec 32) (callSkip : BitVec 32 → BitVec 32 → PR F (BitVec 32 × BitVec 32)) (callCan : BitVec 1 → PR F (BitVec 1)) (K : PR F α) : PR F α :=
  rdS arg19 0 fun a => rdS arg19 1 fun b => rdS arg19 2 fun s => rdS arg19 3 fun j => do
  let (s', j') ← callSkip s j
  wrS arg19 2 s' <| wrS arg19 3 j' <| do
  let _ ← callCan (Scalar.andi (Scalar.cmpi .slt (Scalar.subi a b) 16#32) (Scalar.cmpi .slt s' v5))
  K

/-- Widening one item, and filling the queue after it. -/
def widen (off : Fin 3 → ℕ) (hoff : ∀ a, off a + S1x1x1.size a ≤ S1x4x128.size a) (v5 : BitVec 32)
    (callSkip : (v68 : BitVec 32) → k0_chk8 v68 → (v71 : BitVec 32) → k0_chk7 v68 v71 → BitVec 32 → BitVec 32 → PR F (BitVec 32 × BitVec 32))
    (callCan : (v68 : BitVec 32) → k0_chk8 v68 → (v71 : BitVec 32) → k0_chk7 v68 v71 → BitVec 1 → PR F (BitVec 1)) : PR F (BitVec 32) := do
  let ⟨v68, h8, v71, h7, _, _, v87, v95⟩ ← wOpen arg3 arg8 arg9 arg10 harg10 arg11 arg13 arg15 harg15 arg16 arg17 arg18 arg19 off hoff
  wRows arg13 v68 h8 0 v87 v95 <| wGroups arg13 arg15 v68 h8 v71 h7
    (wScale arg13 arg16 v68 h8 v71 h7 0 <| wScale arg13 arg16 v68 h8 v71 h7 1 <| wScale arg13 arg16 v68 h8 v71 h7 2 <| wScale arg13 arg16 v68 h8 v71 h7 3 <|
    rdS arg19 1 fun d => wrS arg19 1 (Scalar.addi d 1#32) <|
    topUp arg19 v5 (callSkip v68 h8 v71 h7) (callCan v68 h8 v71 h7) (pure 0#32)) 23 (by decide)

/-- The token number of step `u` of trip `t` of the tokens' loop after sub-list `s`. -/
def tokBV (s t u : ℕ) : BitVec 32 := Scalar.addi (Scalar.addi (BitVec.ofNat 32 (32 * s)) (Scalar.muli (Scf.iv 0#32 1#32 t) 8#32)) (BitVec.ofNat 32 u)

def tokOff (s t u k : ℕ) : Fin 2 → ℕ := ![k, (Scalar.indexCast (tokBV s t u)).toNat]

omit [Facts] in
theorem tokOff_inb : ∀ (s t : Fin 4) (u k : Fin 8), ∀ a, tokOff s.val t.val u.val k.val a + S1x1.size a ≤ S8x128.size a := by decide +kernel

def accOff (s t u m : ℕ) : Fin 2 → ℕ := ![(Scalar.indexCast (Scalar.addi (Scalar.muli (tokBV s t u) 25#32) (BitVec.ofNat 32 (8 * m)))).toNat, 0]

omit [Facts] in
theorem accOff_inb : ∀ (s t : Fin 4) (u : Fin 8) (m : Fin 3), ∀ a, accOff s.val t.val u.val m.val a + S8x128.size a ≤ S3200x128.size a := by decide +kernel

/-- The eight lanes of a factor row, one to a row. -/
def gth (row : FVec F S8x128 .f32) (v : IVec S8x128 32) : FVec F S8x128 .f32 :=
  dynamicGather 1 row (shapeCast S8x128 (shapeCast S8x128x1 (select (cmpi .slt v (broadcast S8x128 0#32)) (addi v (broadcast S8x128 128#32)) v) shapeCasts_S8x128_S8x128x1) shapeCasts_S8x128x1_S8x128)

/-- One route of one token. -/
def route {α : Type} (v23 v26 v29 : IVec S8x128 32) (s t : Fin 4) (u k : Fin 8) (K : FVec F S8x128 .f32 → FVec F S8x128 .f32 → FVec F S8x128 .f32 → PR F α) : PR F α := do
  let v71 : Elt F .i32 ← smemLoad arg1 (Rect.unit (s := S8x128) (tokOff s.val t.val u.val k.val) S1x1.size (tokOff_inb s t u k)) numel1_S1x1 rfl
  have hw : k0_chk21 v71 := (← Prog.lift (TpuEff.assume (k0_chk21 v71) (k0_chk21.dec v71))).down
  let v74 : Vec F S1x128 .f32 ← Prog.lift (.load arg13 (Rect.unit (s := S102432x128) (k0_off105 v71) S1x128.size (k0_off105_inb v71 hw)).toLoadRect (View.loadsAt_vmem h_S1x128))
  let v76 : Elt F .f32 ← smemLoad arg2 (Rect.unit (s := S8x128) (tokOff s.val t.val u.val k.val) S1x1.size (tokOff_inb s t u k)) numel1_S1x1 rfl
  let v80 : FVec F S8x128 .f32 := broadcastTo S8x128 (shapeCast S1x128 (mulf v74 (broadcast S1x128 v76)) shapeCasts_S1x128_S1x128) broadcasts_S1x128_S8x128
  let a : Vec F S8x128 .f32 ← Prog.lift (.load arg13 (Rect.unit (s := S102432x128) (k0_off107 v71 0#32) S8x128.size (k0_off107_inb v71 hw 0)).toLoadRect (View.loadsAt_vmem h_S8x128))
  let b : Vec F S8x128 .f32 ← Prog.lift (.load arg13 (Rect.unit (s := S102432x128) (k0_off107 v71 8#32) S8x128.size (k0_off107_inb v71 hw 1)).toLoadRect (View.loadsAt_vmem h_S8x128))
  let c : Vec F S8x128 .f32 ← Prog.lift (.load arg13 (Rect.unit (s := S102432x128) (k0_off107 v71 16#32) S8x128.size (k0_off107_inb v71 hw 2)).toLoadRect (View.loadsAt_vmem h_S8x128))
  K (mulf a (gth v80 v23)) (mulf b (gth v80 v26)) (mulf c (gth v80 v29))

/-- The last `n` routes of a token, added to what the ones before came to. -/
def routes {α : Type} (v23 v26 v29 : IVec S8x128 32) (s t : Fin 4) (u : Fin 8) (K : FVec F S8x128 .f32 → FVec F S8x128 .f32 → FVec F S8x128 .f32 → PR F α) : (n : ℕ) → n < 8 → FVec F S8x128 .f32 → FVec F S8x128 .f32 → FVec F S8x128 .f32 → PR F α
  | 0, _, a, b, c => K a b c
  | n + 1, hn, a, b, c => route arg1 arg2 arg13 v23 v26 v29 s t u ⟨8 - (n + 1), by omega⟩ fun a' b' c' =>
      routes v23 v26 v29 s t u K n (by omega) (addf a a') (addf b b') (addf c c')

/-- A store of eight rows of `acc`. -/
def accStore {α : Type} (s t : Fin 4) (u : Fin 8) (m : Fin 3) (v : FVec F S8x128 .f32) (K : PR F α) : PR F α := do
  let _ : Vec F S8x128 .f32 ← Prog.lift (.load arg14 (Rect.unit (s := S3200x128) (accOff s.val t.val u.val m.val) S8x128.size (accOff_inb s t u m)).toLoadRect (View.loadsAt_vmem h_S8x128))
  Prog.lift (.store arg14 (Rect.unit (s := S3200x128) (accOff s.val t.val u.val m.val) S8x128.size (accOff_inb s t u m)) (shapeCast S8x128 v shapeCasts_S8x128_S8x128) Finset.univ (View.stores_vmem_bits_univ h_S8x128 rfl) (.inl rfl))
  K

/-- One token. -/
def token {α : Type} (v23 v26 v29 : IVec S8x128 32) (s t : Fin 4) (u : Fin 8) (K : PR F α) : PR F α :=
  route arg1 arg2 arg13 v23 v26 v29 s t u 0 fun a b c => routes arg1 arg2 arg13 v23 v26 v29 s t u (fun a b c =>
    accStore arg14 s t u 0 a <| accStore arg14 s t u 1 b <| accStore arg14 s t u 2 c K) 7 (by decide) a b c

/-- The last `n` tokens of a trip. -/
def tokens (v23 v26 v29 : IVec S8x128 32) (s t : Fin 4) : (n : ℕ) → n ≤ 8 → PR F PUnit
  | 0, _ => pure ⟨⟩
  | n + 1, hn => token arg1 arg2 arg13 arg14 v23 v26 v29 s t ⟨8 - (n + 1), by omega⟩ (tokens v23 v26 v29 s t n (by omega))

def finOff (t g : ℕ) : Fin 2 → ℕ := ![(Scalar.indexCast (Scalar.muli (Scf.iv 0#32 1#32 t) 16#32)).toNat, 128 * g]

omit [Facts] in
theorem finOff_inb : ∀ (t : Fin 8) (g : Fin 24), ∀ a, finOff t.val g.val a + S16x128.size a ≤ S128x3072.size a := by decide +kernel

omit [Facts] in
theorem finOff_packed : ∀ (t : Fin 8) (g : Fin 24), (Rect.unit (s := S128x3072) (finOff t.val g.val) S16x128.size (finOff_inb t g)).PackedRows (EltTy.packing .bf16) := by decide +kernel

def finAcc (t h g : ℕ) : Fin 2 → ℕ := ![(Scalar.indexCast (Scalar.addi (Scalar.muli (Scalar.addi (Scalar.muli (Scf.iv 0#32 1#32 t) 16#32) (BitVec.ofNat 32 (8 * h))) 25#32) (BitVec.ofNat 32 g))).toNat, 0]

omit [Facts] in
theorem finAcc_inb : ∀ (t : Fin 8) (h : Fin 2) (g : Fin 24), ∀ a, S8x128.size a = 0 ∨ finAcc t.val h.val g.val a + (![25, 1] : Fin 2 → ℕ) a * (S8x128.size a - 1) < S3200x128.size a := by decide +kernel

/-- One group of sixteen tokens' results. -/
def finG {α : Type} (t : Fin 8) (g : Fin 24) (K : PR F α) : PR F α := do
  let v73 : Vec F S8x128 .f32 ← Prog.lift (.load arg14 (⟨finAcc t.val 0 g.val, S8x128.size, ![25, 1], finAcc_inb t 0 g⟩ : LoadRect S3200x128) (View.loadsAt_vmem h_S8x128))
  let v78 : Vec F S8x128 .f32 ← Prog.lift (.load arg14 (⟨finAcc t.val 1 g.val, S8x128.size, ![25, 1], finAcc_inb t 1 g⟩ : LoadRect S3200x128) (View.loadsAt_vmem h_S8x128))
  let v81 : Vec F S16x128 .bf16 ← Prog.lift (.load arg7 (Rect.unit (s := S128x3072) (finOff t.val g.val) S16x128.size (finOff_inb t g)).toLoadRect (View.loadsAt_vmem h_S16x128))
  let _ : Vec F S16x128 .bf16 ← Prog.lift (.load arg12 (Rect.unit (s := S128x3072) (finOff t.val g.val) S16x128.size (finOff_inb t g)).toLoadRect (View.loadsAt_vmem h_S16x128))
  Prog.lift (.store arg12 (Rect.unit (s := S128x3072) (finOff t.val g.val) S16x128.size (finOff_inb t g)) (truncf .bf16 (addf (extf .f32 v81 bitsLt_bf16_f32) (concatenate S16x128 0 [⟨S8x128, v73⟩, ⟨S8x128, v78⟩] concatenates_S8x128_S8x128_S16x128_d0)) bitsLt_bf16_f32) Finset.univ (View.stores_vmem h_S16x128 (harg12.storeExact_slice rfl _ (finOff_packed t g)) (fun _ => rfl)) (.inl rfl))
  K

/-- The last `n` groups of a trip of the finish. -/
def finGs (t : Fin 8) : (n : ℕ) → n ≤ 24 → PR F PUnit
  | 0, _ => pure ⟨⟩
  | n + 1, hn => finG arg7 arg12 harg12 arg14 t ⟨24 - (n + 1), by omega⟩ (finGs t n (by omega))

/-- The sub-lists 0 to 2. -/
def comb497 (v5 : BitVec 32) (v23 : IVec S8x128 32) (v26 : IVec S8x128 32) (v29 : IVec S8x128 32) (v30 : Elt F .i32) (k0_hw6 : k0_chk6 v30) (c0_i32_11 : BitVec 32) (c0_i32_12 : BitVec 32) :
    PR F (Σ' (v39 : Elt F .i32) (k0_hw85 : k0_chk85 v39) (v48 : Elt F .i32) (k0_hw164 : k0_chk164 v48) (c0_i32_40 : BitVec 32), BitVec 32) := do
  let v31 : BitVec 32 := Scalar.subi v30 c0_i32_11
  let v32 : BitVec 32 := Scalar.addi c0_i32_11 v31
  let c1_i32_13 : BitVec 32 := 1#32
  let v33 : BitVec 32 := Scalar.divsi v31 c1_i32_13
  let v34 : BitVec 32 := Scalar.muli v33 c1_i32_13
  let v35 : BitVec 32 := Scalar.addi c0_i32_11 v34
  let c1_i32_14 : BitVec 32 := 1#32
  let v36 : BitVec 32 ← Scf.Loop.for (k0_t1_loop v30) (k0_t1_ok v30 k0_hw6) c0_i32_12 fun k0_t1 arg21 =>
    widen arg3 arg8 arg9 arg10 harg10 arg11 arg13 arg15 harg15 arg16 arg17 arg18 arg19 (k0_off12 v30 k0_t1) (k0_off12_inb v30 k0_hw6 k0_t1) v5 (fun v68 h8 v71 h7 s j => Prog.lift (.call (4 : (Λ₀ F).Label) ⟨i, v30, k0_hw6, k0_t1, v68, h8, v71, h7, arg5, harg5, arg6, harg6, s, j⟩)) (fun v68 h8 v71 h7 b => Prog.lift (.call (5 : (Λ₀ F).Label) ⟨i, v30, k0_hw6, k0_t1, v68, h8, v71, h7, arg19, harg19, arg3, harg3, arg4, harg4, arg17, arg15, harg15, arg10, harg10, arg18, arg16, harg16, arg11, harg11, arg5, harg5, arg6, harg6, b⟩))
  let c1_i32_15 : BitVec 32 := 1#32
  let v37 : BitVec 32 ← Scf.Loop.for (k0_t2_loop v30) (k0_t2_ok v30 k0_hw6) v36 fun k0_t2 arg21 =>
    widen arg3 arg8 arg9 arg10 harg10 arg11 arg13 arg15 harg15 arg16 arg17 arg18 arg19 (k0_off58 v30 k0_t2) (k0_off58_inb v30 k0_hw6 k0_t2) v5 (fun v68 h8 v71 h7 s j => Prog.lift (.call (7 : (Λ₀ F).Label) ⟨i, v30, k0_hw6, k0_t2, v68, h8, v71, h7, arg5, harg5, arg6, harg6, s, j⟩)) (fun v68 h8 v71 h7 b => Prog.lift (.call (8 : (Λ₀ F).Label) ⟨i, v30, k0_hw6, k0_t2, v68, h8, v71, h7, arg19, harg19, arg3, harg3, arg4, harg4, arg17, arg15, harg15, arg10, harg10, arg18, arg16, harg16, arg11, harg11, arg5, harg5, arg6, harg6, b⟩))
  let c0_i32_16 : BitVec 32 := 0#32
  let c4_i32_17 : BitVec 32 := 4#32
  let v38 : BitVec 32 := Scalar.addi c0_i32_16 c4_i32_17
  let c1_i32_18 : BitVec 32 := 1#32
  Scf.Loop.for k0_t3_loop k0_t3_ok ⟨⟩ fun k0_t3 _ =>
    tokens arg1 arg2 arg13 arg14 v23 v26 v29 0 (Fin.cast (by decide) k0_t3) 8 (by decide)
  let c4_i32_19 : BitVec 32 := 4#32
  let c0_20 : Index := 0#32
  let c0_21 : Index := 0#32
  let c1_22 : Index := 1#32
  let v39 : Elt F .i32 ← smemLoad arg5 (Rect.unit (s := S1x1x4) ![0, 0, 1] S1x1x1.size inb_S1x1x4_S1x1x1_0_0_1) numel1_S1x1x1 rfl
  have k0_hw85 : k0_chk85 v39 := (← Prog.lift (TpuEff.assume (k0_chk85 v39) (k0_chk85.dec v39))).down
  let c0_i32_23 : BitVec 32 := 0#32
  let c0_i32_24 : BitVec 32 := 0#32
  let v40 : BitVec 32 := Scalar.subi v39 c0_i32_23
  let v41 : BitVec 32 := Scalar.addi c0_i32_23 v40
  let c1_i32_25 : BitVec 32 := 1#32
  let v42 : BitVec 32 := Scalar.divsi v40 c1_i32_25
  let v43 : BitVec 32 := Scalar.muli v42 c1_i32_25
  let v44 : BitVec 32 := Scalar.addi c0_i32_23 v43
  let c1_i32_26 : BitVec 32 := 1#32
  let v45 : BitVec 32 ← Scf.Loop.for (k0_t4_loop v39) (k0_t4_ok v39 k0_hw85) c0_i32_24 fun k0_t4 arg21 =>
    widen arg3 arg8 arg9 arg10 harg10 arg11 arg13 arg15 harg15 arg16 arg17 arg18 arg19 (k0_off368 v39 k0_t4) (k0_off368_inb v39 k0_hw85 k0_t4) v5 (fun v68 h8 v71 h7 s j => Prog.lift (.call (10 : (Λ₀ F).Label) ⟨i, v30, k0_hw6, v39, k0_hw85, k0_t4, v68, h8, v71, h7, arg5, harg5, arg6, harg6, s, j⟩)) (fun v68 h8 v71 h7 b => Prog.lift (.call (11 : (Λ₀ F).Label) ⟨i, v30, k0_hw6, v39, k0_hw85, k0_t4, v68, h8, v71, h7, arg19, harg19, arg3, harg3, arg4, harg4, arg17, arg15, harg15, arg10, harg10, arg18, arg16, harg16, arg11, harg11, arg5, harg5, arg6, harg6, b⟩))
  let c1_i32_27 : BitVec 32 := 1#32
  let v46 : BitVec 32 ← Scf.Loop.for (k0_t5_loop v39) (k0_t5_ok v39 k0_hw85) v45 fun k0_t5 arg21 =>
    widen arg3 arg8 arg9 arg10 harg10 arg11 arg13 arg15 harg15 arg16 arg17 arg18 arg19 (k0_off414 v39 k0_t5) (k0_off414_inb v39 k0_hw85 k0_t5) v5 (fun v68 h8 v71 h7 s j => Prog.lift (.call (13 : (Λ₀ F).Label) ⟨i, v30, k0_hw6, v39, k0_hw85, k0_t5, v68, h8, v71, h7, arg5, harg5, arg6, harg6, s, j⟩)) (fun v68 h8 v71 h7 b => Prog.lift (.call (14 : (Λ₀ F).Label) ⟨i, v30, k0_hw6, v39, k0_hw85, k0_t5, v68, h8, v71, h7, arg19, harg19, arg3, harg3, arg4, harg4, arg17, arg15, harg15, arg10, harg10, arg18, arg16, harg16, arg11, harg11, arg5, harg5, arg6, harg6, b⟩))
  let c0_i32_28 : BitVec 32 := 0#32
  let c4_i32_29 : BitVec 32 := 4#32
  let v47 : BitVec 32 := Scalar.addi c0_i32_28 c4_i32_29
  let c1_i32_30 : BitVec 32 := 1#32
  Scf.Loop.for k0_t6_loop k0_t6_ok ⟨⟩ fun k0_t6 _ =>
    tokens arg1 arg2 arg13 arg14 v23 v26 v29 1 (Fin.cast (by decide) k0_t6) 8 (by decide)
  let c4_i32_31 : BitVec 32 := 4#32
  let c0_32 : Index := 0#32
  let c0_33 : Index := 0#32
  let c2_34 : Index := 2#32
  let v48 : Elt F .i32 ← smemLoad arg5 (Rect.unit (s := S1x1x4) ![0, 0, 2] S1x1x1.size inb_S1x1x4_S1x1x1_0_0_2) numel1_S1x1x1 rfl
  have k0_hw164 : k0_chk164 v48 := (← Prog.lift (TpuEff.assume (k0_chk164 v48) (k0_chk164.dec v48))).down
  let c0_i32_35 : BitVec 32 := 0#32
  let c0_i32_36 : BitVec 32 := 0#32
  let v49 : BitVec 32 := Scalar.subi v48 c0_i32_35
  let v50 : BitVec 32 := Scalar.addi c0_i32_35 v49
  let c1_i32_37 : BitVec 32 := 1#32
  let v51 : BitVec 32 := Scalar.divsi v49 c1_i32_37
  let v52 : BitVec 32 := Scalar.muli v51 c1_i32_37
  let v53 : BitVec 32 := Scalar.addi c0_i32_35 v52
  let c1_i32_38 : BitVec 32 := 1#32
  let v54 : BitVec 32 ← Scf.Loop.for (k0_t7_loop v48) (k0_t7_ok v48 k0_hw164) c0_i32_36 fun k0_t7 arg21 =>
    widen arg3 arg8 arg9 arg10 harg10 arg11 arg13 arg15 harg15 arg16 arg17 arg18 arg19 (k0_off724 v48 k0_t7) (k0_off724_inb v48 k0_hw164 k0_t7) v5 (fun v68 h8 v71 h7 s j => Prog.lift (.call (16 : (Λ₀ F).Label) ⟨i, v30, k0_hw6, v39, k0_hw85, v48, k0_hw164, k0_t7, v68, h8, v71, h7, arg5, harg5, arg6, harg6, s, j⟩)) (fun v68 h8 v71 h7 b => Prog.lift (.call (17 : (Λ₀ F).Label) ⟨i, v30, k0_hw6, v39, k0_hw85, v48, k0_hw164, k0_t7, v68, h8, v71, h7, arg19, harg19, arg3, harg3, arg4, harg4, arg17, arg15, harg15, arg10, harg10, arg18, arg16, harg16, arg11, harg11, arg5, harg5, arg6, harg6, b⟩))
  let c1_i32_39 : BitVec 32 := 1#32
  let v55 : BitVec 32 ← Scf.Loop.for (k0_t8_loop v48) (k0_t8_ok v48 k0_hw164) v54 fun k0_t8 arg21 =>
    widen arg3 arg8 arg9 arg10 harg10 arg11 arg13 arg15 harg15 arg16 arg17 arg18 arg19 (k0_off770 v48 k0_t8) (k0_off770_inb v48 k0_hw164 k0_t8) v5 (fun v68 h8 v71 h7 s j => Prog.lift (.call (19 : (Λ₀ F).Label) ⟨i, v30, k0_hw6, v39, k0_hw85, v48, k0_hw164, k0_t8, v68, h8, v71, h7, arg5, harg5, arg6, harg6, s, j⟩)) (fun v68 h8 v71 h7 b => Prog.lift (.call (20 : (Λ₀ F).Label) ⟨i, v30, k0_hw6, v39, k0_hw85, v48, k0_hw164, k0_t8, v68, h8, v71, h7, arg19, harg19, arg3, harg3, arg4, harg4, arg17, arg15, harg15, arg10, harg10, arg18, arg16, harg16, arg11, harg11, arg5, harg5, arg6, harg6, b⟩))
  let c0_i32_40 : BitVec 32 := 0#32
  let c4_i32_41 : BitVec 32 := 4#32
  let v56 : BitVec 32 := Scalar.addi c0_i32_40 c4_i32_41
  let c1_i32_42 : BitVec 32 := 1#32
  pure ⟨v39, k0_hw85, v48, k0_hw164, c0_i32_40, c1_i32_42⟩

/-- The body of one grid step. -/
def comb : PR F PUnit := do
  let ⟨v5, v23, v26, v29, v30, k0_hw6, c0_i32_11, c0_i32_12⟩ : Σ' (v5 : BitVec 32) (v23 : IVec S8x128 32) (v26 : IVec S8x128 32) (v29 : IVec S8x128 32) (v30 : Elt F .i32) (k0_hw6 : k0_chk6 v30) (c0_i32_11 : BitVec 32), BitVec 32 ← k0_part496 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19
  let ⟨v39, k0_hw85, v48, k0_hw164, c0_i32_40, c1_i32_42⟩ : Σ' (v39 : Elt F .i32) (k0_hw85 : k0_chk85 v39) (v48 : Elt F .i32) (k0_hw164 : k0_chk164 v48) (c0_i32_40 : BitVec 32), BitVec 32 ← comb497 i arg1 arg2 arg3 harg3 arg4 harg4 arg5 harg5 arg6 harg6 arg8 arg9 arg10 harg10 arg11 harg11 arg13 arg14 arg15 harg15 arg16 harg16 arg17 arg18 arg19 harg19 v5 v23 v26 v29 v30 k0_hw6 c0_i32_11 c0_i32_12
  Scf.Loop.for k0_t9_loop k0_t9_ok ⟨⟩ fun k0_t9 _ =>
    tokens arg1 arg2 arg13 arg14 v23 v26 v29 2 (Fin.cast (by decide) k0_t9) 8 (by decide)
  let c4_i32_43 : BitVec 32 := 4#32
  let c0_44 : Index := 0#32
  let c0_45 : Index := 0#32
  let c3_46 : Index := 3#32
  let v57 : Elt F .i32 ← smemLoad arg5 (Rect.unit (s := S1x1x4) ![0, 0, 3] S1x1x1.size inb_S1x1x4_S1x1x1_0_0_3) numel1_S1x1x1 rfl
  have k0_hw243 : k0_chk243 v57 := (← Prog.lift (TpuEff.assume (k0_chk243 v57) (k0_chk243.dec v57))).down
  let c0_i32_47 : BitVec 32 := 0#32
  let c0_i32_48 : BitVec 32 := 0#32
  let v58 : BitVec 32 := Scalar.subi v57 c0_i32_47
  let v59 : BitVec 32 := Scalar.addi c0_i32_47 v58
  let c1_i32_49 : BitVec 32 := 1#32
  let v60 : BitVec 32 := Scalar.divsi v58 c1_i32_49
  let v61 : BitVec 32 := Scalar.muli v60 c1_i32_49
  let v62 : BitVec 32 := Scalar.addi c0_i32_47 v61
  let c1_i32_50 : BitVec 32 := 1#32
  let v63 : BitVec 32 ← Scf.Loop.for (k0_t10_loop v57) (k0_t10_ok v57 k0_hw243) c0_i32_48 fun k0_t10 arg21 =>
    widen arg3 arg8 arg9 arg10 harg10 arg11 arg13 arg15 harg15 arg16 arg17 arg18 arg19 (k0_off1080 v57 k0_t10) (k0_off1080_inb v57 k0_hw243 k0_t10) v5 (fun v68 h8 v71 h7 s j => Prog.lift (.call (22 : (Λ₀ F).Label) ⟨i, v30, k0_hw6, v39, k0_hw85, v48, k0_hw164, v57, k0_hw243, k0_t10, v68, h8, v71, h7, arg5, harg5, arg6, harg6, s, j⟩)) (fun v68 h8 v71 h7 b => Prog.lift (.call (23 : (Λ₀ F).Label) ⟨i, v30, k0_hw6, v39, k0_hw85, v48, k0_hw164, v57, k0_hw243, k0_t10, v68, h8, v71, h7, arg19, harg19, arg3, harg3, arg4, harg4, arg17, arg15, harg15, arg10, harg10, arg18, arg16, harg16, arg11, harg11, arg5, harg5, arg6, harg6, b⟩))
  let c1_i32_51 : BitVec 32 := 1#32
  let v64 : BitVec 32 ← Scf.Loop.for (k0_t11_loop v57) (k0_t11_ok v57 k0_hw243) v63 fun k0_t11 arg21 =>
    widen arg3 arg8 arg9 arg10 harg10 arg11 arg13 arg15 harg15 arg16 arg17 arg18 arg19 (k0_off1126 v57 k0_t11) (k0_off1126_inb v57 k0_hw243 k0_t11) v5 (fun v68 h8 v71 h7 s j => Prog.lift (.call (25 : (Λ₀ F).Label) ⟨i, v30, k0_hw6, v39, k0_hw85, v48, k0_hw164, v57, k0_hw243, k0_t11, v68, h8, v71, h7, arg5, harg5, arg6, harg6, s, j⟩)) (fun v68 h8 v71 h7 b => Prog.lift (.call (26 : (Λ₀ F).Label) ⟨i, v30, k0_hw6, v39, k0_hw85, v48, k0_hw164, v57, k0_hw243, k0_t11, v68, h8, v71, h7, arg19, harg19, arg3, harg3, arg4, harg4, arg17, arg15, harg15, arg10, harg10, arg18, arg16, harg16, arg11, harg11, arg5, harg5, arg6, harg6, b⟩))
  let c0_i32_52 : BitVec 32 := 0#32
  let c4_i32_53 : BitVec 32 := 4#32
  let v65 : BitVec 32 := Scalar.addi c0_i32_52 c4_i32_53
  let c1_i32_54 : BitVec 32 := 1#32
  Scf.Loop.for k0_t12_loop k0_t12_ok ⟨⟩ fun k0_t12 _ =>
    tokens arg1 arg2 arg13 arg14 v23 v26 v29 3 (Fin.cast (by decide) k0_t12) 8 (by decide)
  let c4_i32_55 : BitVec 32 := 4#32
  let c0_i32_56 : BitVec 32 := 0#32
  let c8_i32_57 : BitVec 32 := 8#32
  let v66 : BitVec 32 := Scalar.addi c0_i32_56 c8_i32_57
  let c1_i32_58 : BitVec 32 := 1#32
  Scf.Loop.for k0_t13_loop k0_t13_ok ⟨⟩ fun k0_t13 _ =>
    finGs arg7 arg12 harg12 arg14 (Fin.cast (by decide) k0_t13) 24 (by decide)
  let c8_i32_59 : BitVec 32 := 8#32
  pure ⟨⟩

end Cert.Kernel.M
-- ==== Proof.K.Base.lean ====
module

public import proofs.«01_k».proof.Proof.K.Mirror
public import Idealize.ShloMosaic.Lib.Transfers
public import Idealize.ShloMosaic.Lib.Memref
public import Idealize.ShloMosaic.Lib.Scf
public import Idealize.ShloMosaic.Lib.WholeRead
public import Idealize.ShloMosaic.Lib.Pipeline.FrameBody
public import Idealize.ShloMosaic.Lib.Tactic

@[expose] public section

noncomputable section

/-
  The rules of one step of the body, over memrefs owned at contents named by multi-indices.
-/
namespace Cert.Kernel.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resources. -/
abbrev SP (F : FTy → Type) : Type := sProp (MT nD τ sig Unit (Elt F) ℕ (Pipeline.UD sig nD τ) ℕ)

/-- The variants of the scanning labels. -/
abbrev VN : Variants := Variants.nat

variable [Facts]

/-- The weakest precondition of a piece of the body. -/
abbrev W (c : Dev nD) (bd : Option ℕ) {α : Type} (p : PR F α) (Q : α → SP F) : SP F :=
  wp frame (wpE (defs₀ (F := F)) VN (c : Thread nD τ) bd) Set.univ p Q

variable (c : Dev nD) (bd : Option ℕ) {α β : Type} {Q : α → SP F}

theorem W_bind (p : PR F β) (k : β → PR F α) : W c bd (p >>= k) Q = W c bd p (fun x => W c bd (k x) Q) := by
  unfold W; rw [wp_bind]

theorem W_ret (x : α) : Q x ⊢ W c bd (pure x : PR F α) Q := le_wp_ret _ _ _ x Q

theorem W_mono (p : PR F α) {Q' : α → SP F} (h : ∀ x, Q x ⊢ Q' x) : W c bd p Q ⊢ W c bd p Q' := wp_mono _ _ _ h

theorem W_frame (p : PR F α) (R : SP F) {Q' : α → SP F} (h : ∀ x, iprop(Q x ∗ R) ⊢ Q' x) : iprop(W c bd p Q ∗ R) ⊢ W c bd p Q' :=
  (wp_frame_r _ _ _).trans (wp_mono _ _ _ h)

section
variable {sp : Space} {s : Shape} {e : EltTy}

/-- A load from a memref owned at `X` continues at what `X` holds there. -/
theorem W_load {cs : CoreSpace} {m : Memref sig .tc cs s e} {r : LoadRect s} {hl : m.view.LoadsAt r} {k : (r.shape.Idx → Elt F e) → PR F α}
    {q : PosShare TreeShare} {X : s.Idx → Elt F e} :
    owns (c : Thread nD τ) m q X ⊢ iprop((owns (c : Thread nD τ) m q X -∗ W c bd (k (fun x => X (r.idx x))) Q) -∗ W c bd (.op (.load m r hl) k) Q) := by
  unfold owns
  iintro ⟨%f, %hf, H⟩ HK
  have hS : m.view.setOn r.set ⊆ m.view.set := by
    rw [← View.setOn_univ]; exact Finset.map_subset_map.mpr (Finset.subset_univ _)
  iapply (wp_load VN (c : Thread nD τ) bd Set.univ hS) $$ H
  iintro H
  have e1 : m.view.readAt (Elt F) r f = fun x => X (r.idx x) := by
    subst hf; rfl
  rw [e1]
  iapply HK
  iexists f
  isplitr
  · ipureintro; exact hf
  · iexact H

theorem read_write_slice {κ : Kind} (v : View sig κ sp s e) (r : Rect s) (f : v.ty.Contents (Elt F)) (w : r.shape.Idx → Elt F e) :
    v.read (Elt F) ((v.slice r).write (Elt F) f w Finset.univ) = r.overlay (v.read (Elt F) f) w := by
  funext j
  by_cases hj : j ∈ r.set
  · obtain ⟨i, rfl⟩ := r.exists_idx_of_mem hj
    change v.read (Elt F) _ (r.emb i) = r.overlay _ w (r.emb i)
    rw [Rect.overlay_emb]
    have h := congrFun (View.read_write_univ (Val := Elt F) (v := v.slice r) f w) i
    exact h
  · rw [Rect.overlay_of_not_mem _ _ _ hj, View.read_apply, View.read_apply]
    rw [View.write_of_not_mem]
    rw [View.setOn_univ, View.set_slice, Finset.mem_map' v.emb]; exact hj

/-- A store of a whole rectangle leaves the memref owned with that rectangle replaced. -/
theorem W_store {cs : CoreSpace} {m : Memref sig .tc cs s e} {r : Rect s} {w : r.shape.Idx → Elt F e} {hx : (m.access r).Stores Finset.univ}
    {hm : (Finset.univ : Finset r.shape.Idx) = Finset.univ ∨ ∀ a, r.stride a = 1} {k : PUnit → PR F α} {X : s.Idx → Elt F e} :
    owns (c : Thread nD τ) m fullShare X
      ⊢ iprop((owns (c : Thread nD τ) m fullShare (r.overlay X w) -∗ W c bd (k ⟨⟩) Q) -∗ W c bd (.op (.store m r w Finset.univ hx hm) k) Q) := by
  unfold owns
  iintro ⟨%f, %hf, H⟩ HK
  have hS : (m.access r).setOn Finset.univ ⊆ m.view.set := by
    rw [View.setOn_univ]; exact View.set_slice_subset _ r
  iapply (wp_store VN (c : Thread nD τ) bd Set.univ (hx := hx) (hm := hm) hS) $$ H
  iintro H
  iapply HK
  iexists ((m.access r).write (Elt F) f w Finset.univ)
  isplitr
  · ipureintro
    rw [← hf]
    exact read_write_slice m.view r f w
  · iexact H

/-- A load of one word. -/
theorem W_smem {m : Memref sig .tc .smem s e} {r : Rect s} {h1 : r.shape.numel = 1} {hp : e.packing = 1} {k : Elt F e → PR F α}
    {q : PosShare TreeShare} {X : s.Idx → Elt F e} :
    owns (c : Thread nD τ) m q X ⊢ iprop((owns (c : Thread nD τ) m q X -∗
        W c bd (k (X (r.idx (Shape.Idx.first (h1.symm ▸ Nat.one_pos))))) Q) -∗ W c bd ((smemLoad m r h1 hp : PR F (Elt F e)) >>= k) Q) := by
  exact W_load c bd (m := m) (r := r.toLoadRect) (k := fun f => k (f (Shape.Idx.first (h1.symm ▸ Nat.one_pos))))

theorem W_assume {P : Prop} {d : Decidable P} {k : PLift P → PR F α} (h : P) :
    W c bd (k ⟨h⟩) Q ⊢ W c bd (Prog.lift (.assume P d) >>= k) Q := wp_assume VN (c : Thread nD τ) bd Set.univ h

theorem W_loadb {cs : CoreSpace} {m : Memref sig .tc cs s e} {r : LoadRect s} {hl : m.view.LoadsAt r} {k : (r.shape.Idx → Elt F e) → PR F α}
    {q : PosShare TreeShare} {X : s.Idx → Elt F e} :
    owns (c : Thread nD τ) m q X ⊢ iprop((owns (c : Thread nD τ) m q X -∗ W c bd (k (fun x => X (r.idx x))) Q) -∗ W c bd (Prog.lift (.load m r hl) >>= k) Q) :=
  W_load c bd

theorem W_storeb {cs : CoreSpace} {m : Memref sig .tc cs s e} {r : Rect s} {w : r.shape.Idx → Elt F e} {hx : (m.access r).Stores Finset.univ}
    {hm : (Finset.univ : Finset r.shape.Idx) = Finset.univ ∨ ∀ a, r.stride a = 1} {k : PUnit → PR F α} {X : s.Idx → Elt F e} :
    owns (c : Thread nD τ) m fullShare X
      ⊢ iprop((owns (c : Thread nD τ) m fullShare (r.overlay X w) -∗ W c bd (k ⟨⟩) Q) -∗ W c bd (Prog.lift (.store m r w Finset.univ hx hm) >>= k) Q) :=
  W_store c bd

end

/-- A call of a label whose body is `body`, at a smaller variant. -/
theorem W_call {ℓ : (Λ₀ F).Label} {a : (Λ₀ F).Args ℓ} (v : ℕ) (hv : ∀ u ∈ bd, v < u) {Q : (Λ₀ F).Result ℓ → SP F} :
    W c (some v) (defs₀ (F := F) .tc ℓ a) Q ⊢ W c bd (Prog.lift (.call ℓ a) : PR F _) Q := by
  refine BIBase.Entails.trans ?_ (wp_call (defs := defs₀ (F := F)) VN (c : Thread nD τ) bd Set.univ (Γ := .empty) (k := .ret) (Q := Q) v hv)
  exact wp_mono _ _ _ fun x => le_wp_ret _ _ _ x Q

/-- What a label's call is worth: its body at any smaller variant. -/
def CallRule {A B : Type} (call body : A → PR F B) : Prop :=
  ∀ (c : Dev nD) (bd : Option ℕ) (v : ℕ), (∀ u ∈ bd, v < u) → ∀ (a : A) (Q : B → SP F), W c (some v) (body a) Q ⊢ W c bd (call a) Q

end Cert.Kernel.M
-- ==== Proof.K.Model.lean ====
module

public import proofs.«01_k».proof.Proof.K.Base
public import Idealize.ShloMosaic.Lib.WordCmp

@[expose] public section

noncomputable section

/-
  The queue of items as natural numbers: how many a list holds, what its entries are, how many came before; and
  the word arithmetic of the body at natural numbers below two to the thirty-first.
-/
namespace Cert.Kernel.M

open Idealize.ShloMosaic Idealize.ShloMosaic.TcCoe

/-- A word. -/
abbrev nw (n : ℕ) : BitVec 32 := BitVec.ofNat 32 n

theorem nw_toNat {n : ℕ} (h : n < 2 ^ 31) : (nw n).toNat = n := by
  rw [BitVec.toNat_ofNat, Nat.mod_eq_of_lt (by omega)]

theorem nw_toInt {n : ℕ} (h : n < 2 ^ 31) : (nw n).toInt = n := by
  rw [BitVec.toInt_eq_toNat_of_lt (by rw [nw_toNat h]; omega), nw_toNat h]

theorem nw_of (x : BitVec 32) : x = nw x.toNat := by
  apply BitVec.eq_of_toNat_eq; rw [BitVec.toNat_ofNat, Nat.mod_eq_of_lt x.isLt]

theorem s_slt {a b : ℕ} (ha : a < 2 ^ 31) (hb : b < 2 ^ 31) : Scalar.cmpi .slt (nw a) (nw b) = BitVec.ofBool (decide (a < b)) :=
  WordCmp.cmpi_slt_ofNat (w := 32) ha hb
theorem s_sge {a b : ℕ} (ha : a < 2 ^ 31) (hb : b < 2 ^ 31) : Scalar.cmpi .sge (nw a) (nw b) = BitVec.ofBool (decide (b ≤ a)) :=
  WordCmp.cmpi_sge_ofNat (w := 32) ha hb
theorem s_addi (a b : ℕ) : Scalar.addi (nw a) (nw b) = nw (a + b) := (BitVec.ofNat_add a b).symm
theorem s_muli (a b : ℕ) : Scalar.muli (nw a) (nw b) = nw (a * b) := (BitVec.ofNat_mul a b).symm
theorem s_subi {a b : ℕ} (h : b ≤ a) (ha : a < 2 ^ 31) : Scalar.subi (nw a) (nw b) = nw (a - b) := by
  apply BitVec.eq_of_toNat_eq
  show (nw a - nw b).toNat = _
  rw [BitVec.toNat_sub, nw_toNat ha, nw_toNat (show b < 2 ^ 31 by omega), nw_toNat (show a - b < 2 ^ 31 by omega)]
  omega
theorem s_minsi {a b : ℕ} (ha : a < 2 ^ 31) (hb : b < 2 ^ 31) : Scalar.minsi (nw a) (nw b) = nw (min a b) := by
  show (if (nw a).slt (nw b) then nw a else nw b) = _
  have : (nw a).slt (nw b) = decide (a < b) := by
    show decide ((nw a).toInt < (nw b).toInt) = _
    rw [nw_toInt ha, nw_toInt hb]; simp
  rw [this]
  by_cases h : a < b
  · rw [min_eq_left (by omega)]; simp [h]
  · rw [min_eq_right (by omega)]; simp [h]
theorem s_select {α : Type} (p : Prop) [Decidable p] (x y : α) : Scalar.select (BitVec.ofBool (decide p)) x y = if p then x else y := by
  by_cases h : p <;> simp [h, Scalar.select]
theorem s_select' (p : Prop) [Decidable p] (x y : ℕ) : Scalar.select (BitVec.ofBool (decide p)) (nw x) (nw y) = nw (if p then x else y) := by
  rw [s_select]; split <;> rfl
theorem s_andi (p q : Prop) [Decidable p] [Decidable q] :
    Scalar.andi (BitVec.ofBool (decide p)) (BitVec.ofBool (decide q)) = BitVec.ofBool (decide (p ∧ q)) := by
  by_cases h : p <;> by_cases h' : q <;> simp [h, h', Scalar.andi, IntOp.andi]
theorem ofBool_eq_one (p : Prop) [Decidable p] : BitVec.ofBool (decide p) = 1#1 ↔ p := by
  by_cases h : p <;> simp [h]
theorem s_remsi16 {a : ℕ} (ha : a < 2 ^ 31) : Scalar.remsi (nw a) 16#32 = nw (a % 16) := by
  have h16 : (16#32 : BitVec 32) = nw 16 := rfl
  show (if IntOp.SDivCorner (nw a) 16#32 then _ else (nw a).srem 16#32) = _
  rw [if_neg (by rintro (h | h) <;> simp at h)]
  apply BitVec.eq_of_toNat_eq
  rw [BitVec.toNat_srem]
  have m1 : (nw a).msb = false := by rw [BitVec.msb_eq_false_iff_two_mul_lt, nw_toNat ha]; omega
  have m2 : (16#32 : BitVec 32).msb = false := by decide
  simp only [m1, m2, BitVec.toNat_umod, nw_toNat ha]
  rw [nw_toNat (show a % 16 < 2 ^ 31 by omega)]; rfl
theorem s_shrsi6 {a : ℕ} (ha : a < 2 ^ 31) : Scalar.shrsi (nw a) 6#32 = nw (a / 64) := by
  unfold Scalar.shrsi IntOp.shrsi
  rw [if_pos (by decide)]
  have m1 : (nw a).msb = false := by rw [BitVec.msb_eq_false_iff_two_mul_lt, nw_toNat ha]; omega
  apply BitVec.eq_of_toNat_eq
  show ((nw a).sshiftRight 6).toNat = _
  rw [BitVec.sshiftRight_eq_of_msb_false m1, BitVec.toNat_ushiftRight, nw_toNat ha, nw_toNat (by omega), Nat.shiftRight_eq_div_pow]
theorem s_ext_ne (p : Prop) [Decidable p] : Scalar.cmpi .ne (Scalar.extui (BitVec.ofBool (decide p))) 0#32 = BitVec.ofBool (decide p) := by
  by_cases h : p <;> simp [h] <;> decide

/-- What the lists hold: the number of entries of each sub-list and the entries. -/
structure Lists where
  cnt : ℕ → ℕ
  ent : ℕ → ℕ → ℕ
  cnt_le : ∀ σ, cnt σ ≤ 128
  cnt_end : ∀ σ, 1024 ≤ σ → cnt σ = 0
  ent_lt : ∀ σ j, j < cnt σ → ent σ j < 498112

namespace Lists

variable (L : Lists)

/-- The number of sub-lists. -/
@[irreducible] def subs : ℕ := 1024

theorem subs_eq : subs = 1024 := by unfold subs; rfl

/-- The items before sub-list `σ`. -/
def P (σ : ℕ) : ℕ := ∑ s ∈ Finset.range σ, L.cnt s

theorem P_succ (σ : ℕ) : L.P (σ + 1) = L.P σ + L.cnt σ := by unfold P; rw [Finset.sum_range_succ]

theorem P_zero : L.P 0 = 0 := rfl

theorem P_mono {a b : ℕ} (h : a ≤ b) : L.P a ≤ L.P b := by
  induction h with
  | refl => exact le_rfl
  | step _ ih => rw [Nat.succ_eq_add_one, P_succ]; omega

theorem P_le (σ : ℕ) : L.P σ ≤ 131072 := by
  have h1 : ∀ n, L.P n ≤ 128 * n := by
    intro n
    induction n with
    | zero => simp [P_zero]
    | succ n ih => rw [P_succ]; have := L.cnt_le n; omega
  have h2 : ∀ N n, 1024 ≤ N → L.P (N + n) = L.P N := by
    intro N n hN
    induction n with
    | zero => rw [add_zero]
    | succ n ih => rw [← add_assoc, P_succ, ih, L.cnt_end _ (by omega), add_zero]
  obtain ⟨N, hN⟩ : ∃ N, N = 1024 := ⟨_, rfl⟩
  rcases le_total σ N with h | h
  · have := h1 σ; omega
  · obtain ⟨n, rfl⟩ := Nat.exists_eq_add_of_le h
    rw [h2 N n (by omega)]; have := h1 N; omega

/-- Item `n`'s entry. -/
def item (n : ℕ) : ℕ :=
  let σ := Nat.findGreatest (fun s => L.P s ≤ n) subs
  L.ent σ (n - L.P σ)

theorem item_at {σ j : ℕ} (hj : j < L.cnt σ) : L.item (L.P σ + j) = L.ent σ j := by
  have hσ : σ < 1024 := by
    by_contra h
    rw [L.cnt_end σ (by omega)] at hj; omega
  have : Nat.findGreatest (fun s => L.P s ≤ L.P σ + j) subs = σ := by
    rw [Nat.findGreatest_eq_iff]
    refine ⟨by rw [subs_eq]; omega, fun _ => Nat.le_add_right _ _, fun n h1 h2 h3 => ?_⟩
    have h4 := L.P_mono (show σ + 1 ≤ n from h1)
    rw [P_succ] at h4
    omega
  unfold item
  simp only [this]
  congr 1; omega

/-- Item `n`'s tile. -/
def tile (n : ℕ) : ℕ := L.item n / 64

/-- The tile item `n` has in flight, if it is a full one. -/
def tl (n : ℕ) : Option ℕ := if L.tile n < 7782 then some (L.tile n) else none

theorem item_lt {σ j : ℕ} (hj : j < L.cnt σ) : L.item (L.P σ + j) < 498112 := by
  rw [L.item_at hj]; exact L.ent_lt σ j hj

/-- The sub-lists a step may scan: its own four, and the next step's when there is one. -/
def top (t : ℕ) : ℕ := if t + 1 < 256 then 8 else 4

/-- The scan of step `t` at entry `j` of sub-list `s` of its eight. -/
def Ok (t s j : ℕ) : Prop := (s < top t ∧ j ≤ L.cnt (4 * t + s)) ∨ (s = top t ∧ j = 0)

/-- The scan at an entry, or at its end. -/
def At (t s j : ℕ) : Prop := (s < top t ∧ j < L.cnt (4 * t + s)) ∨ (s = top t ∧ j = 0)

theorem At.ok {L : Lists} {t s j : ℕ} (h : L.At t s j) : L.Ok t s j := by
  rcases h with h | h
  · exact .inl ⟨h.1, h.2.le⟩
  · exact .inr h

/-- The queue at `D` processed and `I` issued items, the scan of step `t` standing at `(s, j)`. -/
def Que (t I D s j : ℕ) : Prop := D ≤ I ∧ I ≤ D + 16 ∧ L.Ok t s j ∧ I = L.P (4 * t + s) + j

/-- The queue as a filling leaves it. -/
def Full (t I D s j : ℕ) : Prop := D ≤ I ∧ I ≤ D + 16 ∧ L.At t s j ∧ I = L.P (4 * t + s) + j ∧ (I = D + 16 ∨ s = top t)

/-- What a slot holds in flight. -/
def Slots (I D : ℕ) (f : Fin 16 → Option ℕ) : Prop :=
  (∀ n, D ≤ n → n < I → f ⟨n % 16, Nat.mod_lt _ (by decide)⟩ = L.tl n)
    ∧ ∀ k : Fin 16, (∀ n, D ≤ n → n < I → n % 16 ≠ k.val) → f k = none

theorem Slots.issue {L : Lists} {I D : ℕ} {f : Fin 16 → Option ℕ} (h : L.Slots I D f) (hI : I < D + 16) (hD : D ≤ I) :
    f ⟨I % 16, Nat.mod_lt _ (by decide)⟩ = none
      ∧ L.Slots (I + 1) D (Function.update f ⟨I % 16, Nat.mod_lt _ (by decide)⟩ (L.tl I)) := by
  refine ⟨h.2 _ fun n h1 h2 => by simp only; omega, fun n h1 h2 => ?_, fun k hk => ?_⟩
  · rcases Nat.lt_succ_iff_lt_or_eq.mp h2 with h3 | rfl
    · rw [Function.update_of_ne (by intro e; have := congrArg Fin.val e; simp only at this; omega)]
      exact h.1 n h1 h3
    · rw [Function.update_self]
  · rw [Function.update_of_ne (by rintro rfl; exact hk I hD (by omega) rfl)]
    exact h.2 k fun n h1 h2 => hk n h1 (by omega)

theorem Slots.done {L : Lists} {I D : ℕ} {f : Fin 16 → Option ℕ} (h : L.Slots I D f) (hI : I ≤ D + 16) (hD : D < I) :
    f ⟨D % 16, Nat.mod_lt _ (by decide)⟩ = L.tl D
      ∧ L.Slots I (D + 1) (Function.update f ⟨D % 16, Nat.mod_lt _ (by decide)⟩ none) := by
  refine ⟨h.1 D le_rfl hD, fun n h1 h2 => ?_, fun k hk => ?_⟩
  · rw [Function.update_of_ne (by intro e; have := congrArg Fin.val e; simp only at this; omega)]
    exact h.1 n (by omega) h2
  · by_cases e : k = ⟨D % 16, Nat.mod_lt _ (by decide)⟩
    · rw [e, Function.update_self]
    · rw [Function.update_of_ne e]
      refine h.2 k fun n h1 h2 => ?_
      rcases Nat.eq_or_lt_of_le h1 with rfl | h3
      · intro e'; exact e (Fin.ext e'.symm)
      · exact hk n h3 h2

theorem Que.lt31 {L : Lists} {t I D s j : ℕ} (h : L.Que t I D s j) : I ≤ 131072 ∧ D ≤ 131072 ∧ s ≤ 8 ∧ j ≤ 128 := by
  obtain ⟨h1, h2, h3, h4⟩ := h
  have ht : top t ≤ 8 := by unfold top; split <;> omega
  have hP := L.P_le (4 * t + s + 1)
  rw [P_succ] at hP
  rcases h3 with h3 | h3
  · have := L.cnt_le (4 * t + s); exact ⟨by omega, by omega, by omega, by omega⟩
  · exact ⟨by omega, by omega, by omega, by omega⟩

/-- While an item of the step's own sub-lists is left, the filled queue holds it. -/
theorem Full.lt {L : Lists} {t I D s j : ℕ} (h : L.Full t I D s j) (hD : D < L.P (4 * t + 4)) : D < I := by
  obtain ⟨h1, h2, h3, h4, h5⟩ := h
  rcases h5 with h5 | h5
  · omega
  · have : 4 ≤ top t := by unfold top; split <;> omega
    have := L.P_mono (show 4 * t + 4 ≤ 4 * t + s by omega)
    omega

theorem Full.que {L : Lists} {t I D s j : ℕ} (h : L.Full t I D s j) : L.Que t I D s j := ⟨h.1, h.2.1, h.2.2.1.ok, h.2.2.2.1⟩

/-- After a step's own items the scan has left its own sub-lists. -/
theorem Full.four {L : Lists} {t I D s j : ℕ} (h : L.Full t I D s j) (hD : D = L.P (4 * t + 4)) : 4 ≤ s := by
  obtain ⟨h1, h2, h3, h4, h5⟩ := h
  by_contra hs
  have ht : 4 ≤ top t := by unfold top; split <;> omega
  rcases h3 with h3 | h3
  · have := L.P_mono (show 4 * t + s + 1 ≤ 4 * t + 4 by omega)
    rw [P_succ] at this
    omega
  · omega

/-- The queue at the next step. -/
theorem Full.next {L : Lists} {t I D s j : ℕ} (h : L.Full t I D s j) (hD : D = L.P (4 * t + 4)) (ht : t + 1 < 256) :
    L.Que (t + 1) I D (s - 4) j := by
  have h4 := h.four hD
  obtain ⟨h1, h2, h3, h6, h5⟩ := h
  have e : 4 * (t + 1) + (s - 4) = 4 * t + s := by omega
  have e8 : top t = 8 := by unfold top; rw [if_pos ht]
  refine ⟨h1, h2, ?_, by rw [e]; exact h6⟩
  unfold Ok
  rw [e]
  have : 4 ≤ top (t + 1) ∧ top (t + 1) ≤ 8 := by unfold top; split <;> omega
  rcases h3 with h3 | h3
  · exact .inl ⟨by omega, h3.2.le⟩
  · by_cases h9 : s - 4 < top (t + 1)
    · exact .inl ⟨h9, by omega⟩
    · exact .inr ⟨by omega, h3.2⟩

/-- At the end nothing is in flight. -/
theorem Full.end_ {L : Lists} {t I D s j : ℕ} (ht : t = 255) (h : L.Full t I D s j) (hD : D = L.P (4 * t + 4)) : I = D := by
  have h4 := h.four hD
  obtain ⟨h1, h2, h3, h6, h5⟩ := h
  have e : top t = 4 := by rw [ht]; decide
  rcases h3 with h3 | h3
  · omega
  · rw [h3.1, e, h3.2] at h6; rw [hD, h6, add_zero]

end Lists

end Cert.Kernel.M
-- ==== Proof.K.Skip.lean ====
module

public import proofs.«01_k».proof.Proof.K.Model

@[expose] public section

noncomputable section

/-
  The scan past the exhausted sub-lists, and the four counters.
-/
namespace Cert.Kernel.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]
open Facts₀ Facts

/-- The four counters at four numbers. -/
def stV (v : Fin 4 → ℕ) : S4.Idx → BitVec 32 := fun x => nw (v ⟨(x 0).val, (x 0).isLt⟩)

theorem stV_store (v : Fin 4 → ℕ) (a : Fin 4) (off : Fin 1 → ℕ) (ho : off 0 = a.val) (hoff : ∀ b, off b + S1.size b ≤ S4.size b) (n : ℕ) :
    (Rect.unit (s := S4) off S1.size hoff).overlay (stV v) (fun _ => nw n) = stV (Function.update v a n) := by
  funext x
  by_cases hx : x ∈ (Rect.unit (s := S4) off S1.size hoff).set
  · obtain ⟨y, rfl⟩ := LoadRect.exists_idx_of_mem _ hx
    change (Rect.unit (s := S4) off S1.size hoff).overlay _ _ ((Rect.unit (s := S4) off S1.size hoff).emb y) = _
    rw [Rect.overlay_emb]
    have e : (⟨(((Rect.unit (s := S4) off S1.size hoff).idx y) 0).val, (((Rect.unit (s := S4) off S1.size hoff).idx y) 0).isLt⟩ : Fin 4) = a := by
      apply Fin.ext
      rw [LoadRect.idx_apply]
      have : (y 0).val < 1 := (y 0).isLt
      show off 0 + 1 * (y 0).val = a.val
      omega
    show nw n = nw (Function.update v a n ⟨(((Rect.unit (s := S4) off S1.size hoff).idx y) 0).val, (((Rect.unit (s := S4) off S1.size hoff).idx y) 0).isLt⟩)
    rw [e, Function.update_self]
  · rw [Rect.overlay_of_not_mem _ _ _ hx]
    show nw (v ⟨(x 0).val, (x 0).isLt⟩) = nw (Function.update v a n ⟨(x 0).val, (x 0).isLt⟩)
    rw [Function.update_of_ne]
    intro e
    have e := congrArg Fin.val e
    simp only at e
    apply hx
    rw [LoadRect.mem_set]
    intro b
    have hb : b = (0 : Fin 1) := Subsingleton.elim (α := Fin 1) _ _
    subst hb
    refine ⟨0, Nat.one_pos, ?_⟩
    show (x 0).val = off 0 + 1 * 0
    rw [e, ho]; rfl

theorem stV_load (v : Fin 4 → ℕ) (a : Fin 4) (off : Fin 1 → ℕ) (ho : off 0 = a.val) (hoff : ∀ b, off b + S1.size b ≤ S4.size b) (y : S1.Idx) :
    stV v ((Rect.unit (s := S4) off S1.size hoff).idx y) = nw (v a) := by
  have e : (⟨(((Rect.unit (s := S4) off S1.size hoff).idx y) 0).val, (((Rect.unit (s := S4) off S1.size hoff).idx y) 0).isLt⟩ : Fin 4) = a := by
    apply Fin.ext
    rw [LoadRect.idx_apply]
    have : (y 0).val < 1 := (y 0).isLt
    show off 0 + 1 * (y 0).val = a.val
    omega
  show nw (v _) = _
  rw [e]

section
variable (c : Dev nD) (bd : Option ℕ) {α : Type} {Q : α → SP F} {arg19 : Memref sig .tc .smem S4 .i32}

theorem W_rdw {off : Fin 1 → ℕ} {hoff : ∀ b, off b + S1.size b ≤ S4.size b} {k : BitVec 32 → PR F α} {v : Fin 4 → ℕ} (a : Fin 4) (ho : off 0 = a.val) :
    owns (c : Thread nD τ) arg19 fullShare (stV v : S4.Idx → Elt F .i32)
      ⊢ iprop((owns (c : Thread nD τ) arg19 fullShare (stV v : S4.Idx → Elt F .i32) -∗ W c bd (k (nw (v a))) Q)
        -∗ W c bd ((smemLoad arg19 (Rect.unit (s := S4) off S1.size hoff) numel1_S1 rfl : PR F (Elt F .i32)) >>= k) Q) := by
  have h := W_smem (F := F) c bd (m := arg19) (r := Rect.unit (s := S4) off S1.size hoff) (h1 := numel1_S1) (hp := rfl) (k := k) (q := fullShare) (X := stV v) (Q := Q)
  rw [stV_load v a off ho hoff] at h
  exact h

theorem W_wrw {off : Fin 1 → ℕ} {hoff : ∀ b, off b + S1.size b ≤ S4.size b} {k : PUnit → PR F α} {v : Fin 4 → ℕ} {n : ℕ} (a : Fin 4) (ho : off 0 = a.val)
    {hx : (arg19.access (Rect.unit (s := S4) off S1.size hoff)).Stores Finset.univ} {hm} :
    owns (c : Thread nD τ) arg19 fullShare (stV v : S4.Idx → Elt F .i32)
      ⊢ iprop((owns (c : Thread nD τ) arg19 fullShare (stV (Function.update v a n) : S4.Idx → Elt F .i32) -∗ W c bd (k ⟨⟩) Q)
        -∗ W c bd (Prog.lift (.store arg19 (Rect.unit (s := S4) off S1.size hoff) (fun _ => nw n) Finset.univ hx hm) >>= k) Q) := by
  have h := W_storeb (F := F) c bd (m := arg19) (r := Rect.unit (s := S4) off S1.size hoff) (w := fun _ => nw n) (hx := hx) (hm := hm) (k := k) (X := stV v) (Q := Q)
  rw [stV_store v a off ho hoff] at h
  exact h

theorem W_rdS {K : BitVec 32 → PR F α} {v : Fin 4 → ℕ} (a : Fin 4) :
    owns (c : Thread nD τ) arg19 fullShare (stV v : S4.Idx → Elt F .i32)
      ⊢ iprop((owns (c : Thread nD τ) arg19 fullShare (stV v : S4.Idx → Elt F .i32) -∗ W c bd (K (nw (v a))) Q) -∗ W c bd (rdS arg19 a K) Q) :=
  W_rdw c bd a rfl

theorem W_wrS {K : PR F α} {v : Fin 4 → ℕ} {n : ℕ} (a : Fin 4) :
    owns (c : Thread nD τ) arg19 fullShare (stV v : S4.Idx → Elt F .i32)
      ⊢ iprop((owns (c : Thread nD τ) arg19 fullShare (stV (Function.update v a n) : S4.Idx → Elt F .i32) -∗ W c bd K Q) -∗ W c bd (wrS arg19 a (nw n) K) Q) := by
  iintro H HK
  unfold wrS
  iapply (W_rdw c bd a rfl) $$ H
  iintro H
  iapply (W_wrw c bd (n := n) a rfl) $$ H
  iexact HK

end

/-- The step number. -/
abbrev stp (i : grid0.Coords) : ℕ := (i 0).val

theorem stp_lt (i : grid0.Coords) : stp i < 256 := (i 0).isLt

/-- How many sub-lists the step may scan, as the body computes it. -/
theorem top_word (i : grid0.Coords) :
    Scalar.select (Scalar.cmpi .slt (Scalar.addi (BitVec.ofNat 32 (i 0).val) 1#32) 256#32) 8#32 4#32 = nw (Lists.top (stp i)) := by
  have h : (i 0).val < 256 := stp_lt i
  rw [show (1#32 : BitVec 32) = nw 1 from rfl, show (256#32 : BitVec 32) = nw 256 from rfl, show (8#32 : BitVec 32) = nw 8 from rfl,
    show (4#32 : BitVec 32) = nw 4 from rfl, s_addi, s_slt (by omega) (by omega), s_select']
  rfl

theorem top_le (t : ℕ) : 4 ≤ Lists.top t ∧ Lists.top t ≤ 8 := by unfold Lists.top; split <;> omega

/-- The sub-list whose count the scan reads at `s`. -/
abbrev clp (t s : ℕ) : ℕ := min s (Lists.top t - 1)

theorem off1_eq (i : grid0.Coords) {s : ℕ} (hs : s ≤ 8) : k0_off1 i (nw s) = ![0, 0, if clp (stp i) s < 4 then clp (stp i) s else 0] := by
  have h := top_le (stp i)
  unfold k0_off1
  simp only [top_word, Scalar.indexCast]
  rw [show (1#32 : BitVec 32) = nw 1 from rfl, show (4#32 : BitVec 32) = nw 4 from rfl, show (0#32 : BitVec 32) = nw 0 from rfl, s_subi (by omega) (by omega),
    s_minsi (by omega) (by omega), s_slt (by omega) (by omega), s_select', nw_toNat (by split <;> omega)]

theorem off2_eq (i : grid0.Coords) {s : ℕ} (hs : s ≤ 8) : k0_off2 i (nw s) = ![0, 0, if clp (stp i) s < 4 then 0 else clp (stp i) s - 4] := by
  have h := top_le (stp i)
  unfold k0_off2
  simp only [top_word, Scalar.indexCast]
  rw [show (1#32 : BitVec 32) = nw 1 from rfl, show (4#32 : BitVec 32) = nw 4 from rfl, show (0#32 : BitVec 32) = nw 0 from rfl, s_subi (by omega) (by omega),
    s_minsi (by omega) (by omega), s_slt (by omega) (by omega)]
  rw [s_select]
  split
  · rw [nw_toNat (by omega)]
  · rw [s_subi (by omega) (by omega), nw_toNat (by omega)]

theorem chk1_ok (i : grid0.Coords) {s : ℕ} (hs : s ≤ 8) : k0_chk1 i (nw s) := by
  have h := top_le (stp i)
  refine ⟨fun a => ?_, fun a => ?_⟩
  · rw [off1_eq i hs]
    fin_cases a
    · show 0 + 1 ≤ 1; decide
    · show 0 + 1 ≤ 1; decide
    · show (if clp (stp i) s < 4 then clp (stp i) s else 0) + 1 ≤ 4
      unfold clp; split <;> omega
  · rw [off2_eq i hs]
    fin_cases a
    · show 0 + 1 ≤ 1; decide
    · show 0 + 1 ≤ 1; decide
    · show (if clp (stp i) s < 4 then 0 else clp (stp i) s - 4) + 1 ≤ 4
      unfold clp; split <;> omega

/-- What the counts' two blocks hold at a step. -/
structure Counts (L : Lists) (t : ℕ) (X5 X6 : S1x1x4.Idx → BitVec 32) : Prop where
  cur : ∀ x, X5 x = nw (L.cnt (4 * t + (x 2).val))
  nxt : t + 1 < 256 → ∀ x, X6 x = nw (L.cnt (4 * t + 4 + (x 2).val))

section
variable {L : Lists} (i : grid0.Coords) (arg5 : Memref sig .tc .smem S1x1x4 .i32) (harg5 : arg5.IsWhole) (arg6 : Memref sig .tc .smem S1x1x4 .i32) (harg6 : arg6.IsWhole)
  {X5 X6 : S1x1x4.Idx → Elt F .i32} (hC : Counts L (stp i) X5 X6)

include hC in
/-- The count the scan reads. -/
theorem count_read {s : ℕ} (hs : s < Lists.top (stp i)) {o1 o2 : Fin 3 → ℕ} {ho1 ho2} (e1 : o1 = ![0, 0, if clp (stp i) s < 4 then clp (stp i) s else 0])
    (e2 : o2 = ![0, 0, if clp (stp i) s < 4 then 0 else clp (stp i) s - 4]) (y : S1x1x1.Idx) :
    (Scalar.select (BitVec.ofBool (decide (clp (stp i) s < 4))) (X5 ((Rect.unit (s := S1x1x4) o1 S1x1x1.size ho1).idx y) : BitVec 32)
      (X6 ((Rect.unit (s := S1x1x4) o2 S1x1x1.size ho2).idx y))) = nw (L.cnt (4 * stp i + s)) := by
  have h := top_le (stp i)
  have hy : (y 2).val < 1 := (y 2).isLt
  have hc : clp (stp i) s = s := by unfold clp; omega
  rw [hc] at e1 e2 ⊢
  rw [s_select]
  by_cases h4 : s < 4
  · rw [if_pos h4, hC.cur]
    congr 2
    rw [LoadRect.idx_apply]
    subst e1
    show 4 * stp i + ((if s < 4 then s else 0) + 1 * (y 2).val) = _
    rw [if_pos h4]; omega
  · have ht : stp i + 1 < 256 := by
      by_contra hn; unfold Lists.top at hs; rw [if_neg hn] at hs; omega
    rw [if_neg h4, hC.nxt ht]
    congr 2
    rw [LoadRect.idx_apply]
    subst e2
    show 4 * stp i + 4 + ((if s < 4 then 0 else s - 4) + 1 * (y 2).val) = _
    rw [if_neg h4]; omega

variable (call : BitVec 32 → BitVec 32 → PR F (BitVec 32 × BitVec 32))
  (hcall : ∀ (c : Dev nD) (bd : Option ℕ) (v : ℕ), (∀ u ∈ bd, v < u) → ∀ (a b : BitVec 32) (Q : BitVec 32 × BitVec 32 → SP F),
    W c (some v) (skipBody i arg5 harg5 arg6 harg6 call a b) Q ⊢ W c bd (call a b) Q)

include hC hcall in
/-- The scan stops at an entry or at the end, having passed no item. -/
theorem skip_spec (c : Dev nD) : ∀ (n s j : ℕ) (bd : Option ℕ), Lists.top (stp i) - s ≤ n → (∀ u ∈ bd, n < u) → L.Ok (stp i) s j → ∀ Q : BitVec 32 × BitVec 32 → SP F,
    iprop(owns (c : Thread nD τ) arg5 fullShare X5 ∗ owns (c : Thread nD τ) arg6 fullShare X6
      ∗ (∀ s', ∀ j', ⌜L.At (stp i) s' j' ∧ L.P (4 * stp i + s') + j' = L.P (4 * stp i + s) + j⌝
          -∗ owns (c : Thread nD τ) arg5 fullShare X5 -∗ owns (c : Thread nD τ) arg6 fullShare X6 -∗ Q (nw s', nw j')))
      ⊢ W c bd (call (nw s) (nw j)) Q := by
  intro n
  induction n with
  | zero =>
    intro s j bd hn hbd hok Q
    have ht := top_le (stp i)
    have hs : s = Lists.top (stp i) ∧ j = 0 := by rcases hok with h | h <;> omega
    refine .trans ?_ (hcall c bd 0 hbd _ _ Q)
    unfold skipBody
    iintro ⟨H5, H6, HQ⟩
    iapply (W_assume c (some 0) (chk1_ok i (by omega)))
    iapply (W_smem c (some 0)) $$ H5
    iintro H5
    iapply (W_smem c (some 0)) $$ H6
    iintro H6
    simp only [top_word]
    rw [s_slt (by omega) (by omega), show Scalar.andi (BitVec.ofBool (decide (s < Lists.top (stp i)))) _ = 0#1 from by
      rw [decide_eq_false (by omega)]; exact BitVec.zero_and, if_neg (by decide)]
    iapply (W_ret c (some 0))
    iapply HQ $$ %s %j %⟨.inr hs, rfl⟩ H5 H6
  | succ n ih =>
    intro s j bd hn hbd hok Q
    have ht := top_le (stp i)
    have hs8 : s ≤ 8 := by rcases hok with h | h <;> omega
    have hj : j ≤ 128 := by
      rcases hok with h | h
      · have := L.cnt_le (4 * stp i + s); omega
      · omega
    refine .trans ?_ (hcall c bd (n + 1) hbd _ _ Q)
    unfold skipBody
    iintro ⟨H5, H6, HQ⟩
    iapply (W_assume c (some (n + 1)) (chk1_ok i hs8))
    iapply (W_smem c (some (n + 1))) $$ H5
    iintro H5
    iapply (W_smem c (some (n + 1))) $$ H6
    iintro H6
    simp only [top_word]
    rw [show (1#32 : BitVec 32) = nw 1 from rfl, show (4#32 : BitVec 32) = nw 4 from rfl, show (0#32 : BitVec 32) = nw 0 from rfl,
      s_subi (by omega) (by omega), s_minsi (by omega) (by omega), s_slt (a := s) (by omega) (by omega), s_slt (by omega) (by omega)]
    by_cases hs : s < Lists.top (stp i)
    · rw [count_read i hC hs (off1_eq i hs8) (off2_eq i hs8), s_sge (by omega) (by have := L.cnt_le (4 * stp i + s); omega), s_andi]
      have hok' : j ≤ L.cnt (4 * stp i + s) := by rcases hok with h | h <;> omega
      by_cases hc : L.cnt (4 * stp i + s) ≤ j
      · rw [if_pos ((ofBool_eq_one _).mpr ⟨hs, hc⟩), s_addi]
        have hP := L.P_succ (4 * stp i + s)
        have hok2 : L.Ok (stp i) (s + 1) 0 := by
          by_cases h1 : s + 1 < Lists.top (stp i)
          · exact .inl ⟨h1, by omega⟩
          · exact .inr ⟨by omega, rfl⟩
        iapply (ih (s + 1) 0 (some (n + 1)) (by omega) (fun u hu => by cases hu; omega) hok2 Q)
        isplitl [H5]; · iexact H5
        isplitl [H6]; · iexact H6
        iintro %s' %j' %h H5 H6
        iapply HQ $$ %s' %j' %⟨h.1, by rw [h.2, ← add_assoc, hP]; omega⟩ H5 H6
      · rw [if_neg (by rw [ofBool_eq_one]; omega)]
        iapply (W_ret c (some (n + 1)))
        iapply HQ $$ %s %j %⟨.inl ⟨hs, by omega⟩, rfl⟩ H5 H6
    · have hs' : s = Lists.top (stp i) ∧ j = 0 := by rcases hok with h | h <;> omega
      rw [show ∀ x, Scalar.andi (BitVec.ofBool (decide (s < Lists.top (stp i)))) x = 0#1 from by
        intro x; rw [decide_eq_false (by omega)]; exact BitVec.zero_and, if_neg (by decide)]
      iapply (W_ret c (some (n + 1)))
      iapply HQ $$ %s %j %⟨.inr hs', rfl⟩ H5 H6

end

end Cert.Kernel.M
-- ==== Proof.K.Slots.lean ====
module

public import proofs.«01_k».proof.Proof.K.Skip
public import Idealize.ShloMosaic.Lib.ValueLayout

@[expose] public section

noncomputable section

/-
  The ring's slots: what a slot holds idle and in flight, and the rules for issuing, waiting, reading and rewriting one.
-/
namespace Cert.Kernel.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Facts]
open Facts₀ Facts

/-- Where the flights are recorded. -/
abbrev EC : UEmb Counters (MT nD τ sig Unit (Elt F) ℕ (Pipeline.UD sig nD τ) ℕ) := countersEmb (Ix := Unit) (Lvl := ℕ) (Name := ℕ) (U := Pipeline.UD sig nD τ)

/-- The waits the core has made. -/
def ow (c : Dev nD) : SP F := iprop(∃ W, owes (c : Thread nD τ) 0 W)

section
variable (c : Dev nD) (bd : Option ℕ) {α : Type} {Q : α → SP F}

/-- Issuing a copy: the core holds its flight. -/
theorem W_dma {sp sp' : Space} {s : Shape} {e : EltTy} {src : Memref sig .tc sp s e} {dst : Memref sig .tc sp' s e} {sem : DmaSem sig}
    {h1 h2 h3} {k : PUnit → PR F α} {q : PosShare TreeShare} {X X' : s.Idx → Elt F e} (hs : 0 < s.numel) :
    iprop(owns (c : Thread nD τ) src q X ∗ owns (c : Thread nD τ) dst fullShare X' ∗ semVal ((c : Thread nD τ), .dma sem) 0)
      ⊢ iprop((Transfers.Flight EC (c : Thread nD τ) (.dma sem) () dst.view.dmaCredit iprop(owns (c : Thread nD τ) dst fullShare X ∗ owns (c : Thread nD τ) src q X)
          -∗ W c bd (k ⟨⟩) Q) -∗ W c bd (Prog.lift (.enqueueDma src (.here dst) (.dma sem) h1 h2 h3) >>= k) Q) := by
  unfold owns
  iintro ⟨⟨%fs, %hfs, Hs⟩, ⟨%fd, %hfd, Hd⟩, Hv⟩ HK
  iapply (Transfers.wp_dmaLocal EC VN (c : Thread nD τ) bd (Sd := dst.view.set) () dst.view.dmaCredit rfl (View.dmaCredit_pos _ hs) (Finset.Subset.refl _)) $$ [Hs Hd Hv]
  · isplitl [Hs]; · iexact Hs
    isplitl [Hd]; · iexact Hd
    iexact Hv
  iintro HF
  iapply HK
  iapply (Transfers.Flight_mono EC (c : Thread nD τ) (D := _) ?_) $$ HF
  iintro ⟨Hd, Hs⟩
  isplitl [Hd]
  · iexists _
    isplitr
    · ipureintro
      exact (View.read_write_univ (v := dst.view) fd _).trans hfs
    · iexact Hd
  · iexists fs
    isplitr
    · ipureintro; exact hfs
    · iexact Hs

/-- Waiting for a copy. -/
theorem W_wait {sp sp' : Space} {s s' : Shape} {e e' : EltTy} {srcw : Memref sig .tc sp' s' e'} {dstw : Memref sig .tc sp s e} {sem : DmaSem sig}
    {h1 h2} {k : PUnit → PR F α} {D : SP F} :
    iprop(Transfers.Flight EC (c : Thread nD τ) (.dma sem) () dstw.view.dmaCredit D ∗ ow c)
      ⊢ iprop((iprop(D ∗ semVal ((c : Thread nD τ), .dma sem) 0 ∗ ow c) -∗ W c bd (k ⟨⟩) Q)
          -∗ W c bd (Prog.lift (.waitDma2 sem srcw dstw h1 h2) >>= k) Q) := by
  unfold ow
  iintro ⟨HF, ⟨%w, HO⟩⟩ HK
  iapply (Transfers.wp_waitLocal EC VN (c : Thread nD τ) bd () rfl) $$ [HF HO]
  · isplitl [HF]; · iexact HF
    iexact HO
  iintro ⟨HD, Hv, HO⟩
  iapply HK
  isplitl [HD]; · iexact HD
  isplitl [Hv]; · iexact Hv
  iexists _
  iexact HO

end

section
variable {N : ℕ} {e : EltTy} (m : Memref sig .tc .vmem ⟨3, ![16, 32, N]⟩ e) (hq : (⟨3, ![1, 32, N]⟩ : Shape).Squeezes ⟨2, ![32, N]⟩) (k : Fin 16)

omit [Facts] in
theorem slot_inb (N : ℕ) (k : Fin 16) : ∀ a, (![k.val, 0, 0] : Fin 3 → ℕ) a + (⟨3, ![1, 32, N]⟩ : Shape).size a ≤ (⟨3, ![16, 32, N]⟩ : Shape).size a := by
  intro a
  have := k.isLt
  fin_cases a
  · show k.val + 1 ≤ 16; omega
  · show 0 + 32 ≤ 32; decide
  · show 0 + N ≤ N; omega

/-- Slot `k` of a ring. -/
def slotM : Memref sig .tc .vmem ⟨2, ![32, N]⟩ e :=
  (m.slice (Rect.unit (s := ⟨3, ![16, 32, N]⟩) ![k.val, 0, 0] (⟨3, ![1, 32, N]⟩ : Shape).size (slot_inb N k)) (fun _ => rfl)).squeeze ⟨2, ![32, N]⟩ hq

omit [Facts] in
/-- A slot's element, read of the ring. -/
theorem slot_read (f : m.view.ty.Contents (Elt F)) (a : Fin 32) (b : Fin N) :
    (slotM m hq k).view.read (Elt F) f (ix2 a b) = m.view.read (Elt F) f (ix3 k a b) := by
  have e1 : ((slotM m hq k).view.read (Elt F) f) (ix2 a b)
      = m.view.read (Elt F) f ((Rect.unit (s := ⟨3, ![16, 32, N]⟩) ![k.val, 0, 0] (⟨3, ![1, 32, N]⟩ : Shape).size (slot_inb N k)).idx
          (Shape.reshapeEquiv hq.numel_eq (ix2 a b))) := rfl
  rw [e1]
  congr 1
  rw [reshapeEquiv_ix2_1ab (a := 32) (b := N) hq.numel_eq a b]
  funext d
  apply Fin.ext
  match d with
  | ⟨0, _⟩ => show k.val + 1 * 0 = k.val; omega
  | ⟨1, _⟩ => show 0 + 1 * a.val = a.val; omega
  | ⟨2, _⟩ => show 0 + 1 * b.val = b.val; omega

omit [Facts] in
theorem slot_set : (slotM m hq k).view.set
    = m.view.setOn (Rect.unit (s := ⟨3, ![16, 32, N]⟩) ![k.val, 0, 0] (⟨3, ![1, 32, N]⟩ : Shape).size (slot_inb N k)).set := by
  exact (View.set_reshape _ _).trans (View.set_slice _ _)

omit [Facts] in
theorem mem_slot (x : (⟨3, ![16, 32, N]⟩ : Shape).Idx) :
    x ∈ (Rect.unit (s := ⟨3, ![16, 32, N]⟩) ![k.val, 0, 0] (⟨3, ![1, 32, N]⟩ : Shape).size (slot_inb N k)).set ↔ (x 0).val = k.val := by
  rw [LoadRect.mem_set]
  constructor
  · intro h
    obtain ⟨j, hj, e⟩ := h 0
    have hj : j < 1 := hj
    have e : (x 0).val = k.val + 1 * j := e
    omega
  · intro h a
    match a with
    | ⟨0, _⟩ => exact ⟨0, Nat.one_pos, by show (x 0).val = k.val + 1 * 0; omega⟩
    | ⟨1, _⟩ => exact ⟨(x 1).val, (x 1).isLt, by show (x 1).val = 0 + 1 * (x 1).val; omega⟩
    | ⟨2, _⟩ => exact ⟨(x 2).val, (x 2).isLt, by show (x 2).val = 0 + 1 * (x 2).val; omega⟩

variable (c : Dev nD) (bd : Option ℕ) {α : Type} {Q : α → SP F}

theorem slot_owns (q : PosShare TreeShare) (X : (⟨2, ![32, N]⟩ : Shape).Idx → Elt F e) :
    (owns (c : Thread nD τ) (slotM m hq k) q X : SP F)
      = iprop(∃ f : m.view.ty.Contents (Elt F), ⌜(slotM m hq k).view.read (Elt F) f = X⌝
          ∗ (m.view.loc (c : Thread nD τ)) ↦[(slotM m hq k).view.set]{q} f) := rfl

/-- A load inside a slot. -/
theorem W_slot_load {off : Fin 3 → ℕ} {A B : ℕ} {hoff : ∀ a, off a + (⟨3, ![1, A, B]⟩ : Shape).size a ≤ (⟨3, ![16, 32, N]⟩ : Shape).size a}
    {hl : m.view.LoadsAt (Rect.unit (s := ⟨3, ![16, 32, N]⟩) off (⟨3, ![1, A, B]⟩ : Shape).size hoff).toLoadRect}
    (a0 b0 : ℕ) (ho : off = ![k.val, a0, b0]) (ha : ∀ i : Fin A, a0 + i.val < 32) (hb : ∀ i : Fin B, b0 + i.val < N)
    {K : ((⟨3, ![1, A, B]⟩ : Shape).Idx → Elt F e) → PR F α} {q : PosShare TreeShare} {X : (⟨2, ![32, N]⟩ : Shape).Idx → Elt F e} :
    owns (c : Thread nD τ) (slotM m hq k) q X ⊢ iprop((owns (c : Thread nD τ) (slotM m hq k) q X
        -∗ W c bd (K (fun x => X (ix2 ⟨a0 + (x 1).val, ha (x 1)⟩ ⟨b0 + (x 2).val, hb (x 2)⟩))) Q)
      -∗ W c bd (Prog.lift (.load m (Rect.unit (s := ⟨3, ![16, 32, N]⟩) off (⟨3, ![1, A, B]⟩ : Shape).size hoff).toLoadRect hl) >>= K) Q) := by
  subst ho
  rw [slot_owns]
  iintro ⟨%f, %hf, H⟩ HK
  have hS : m.view.setOn (Rect.unit (s := ⟨3, ![16, 32, N]⟩) ![k.val, a0, b0] (⟨3, ![1, A, B]⟩ : Shape).size hoff).toLoadRect.set ⊆ (slotM m hq k).view.set := by
    rw [slot_set]
    refine Finset.map_subset_map.mpr fun x hx => ?_
    rw [mem_slot]
    rw [LoadRect.mem_set] at hx
    obtain ⟨j, hj, e⟩ := hx 0
    have hj : j < 1 := hj
    have e : (x 0).val = k.val + 1 * j := e
    omega
  iapply (wp_load VN (c : Thread nD τ) bd Set.univ hS) $$ H
  iintro H
  have e1 : m.view.readAt (Elt F) (Rect.unit (s := ⟨3, ![16, 32, N]⟩) ![k.val, a0, b0] (⟨3, ![1, A, B]⟩ : Shape).size hoff).toLoadRect f
      = fun x => X (ix2 ⟨a0 + (x 1).val, ha (x 1)⟩ ⟨b0 + (x 2).val, hb (x 2)⟩) := by
    funext x
    subst hf
    rw [slot_read]
    show m.view.read (Elt F) f _ = _
    congr 1
    funext d
    apply Fin.ext
    match d with
    | ⟨0, _⟩ => have : (x 0).val < 1 := (x 0).isLt
                show k.val + 1 * (x 0).val = k.val; omega
    | ⟨1, _⟩ => show a0 + 1 * (x 1).val = a0 + (x 1).val; omega
    | ⟨2, _⟩ => show b0 + 1 * (x 2).val = b0 + (x 2).val; omega
  rw [e1]
  iapply HK
  iexists f
  isplitr
  · ipureintro; exact hf
  · iexact H

/-- A store of a whole slot. -/
theorem W_slot_store {off : Fin 3 → ℕ} {hoff : ∀ a, off a + (⟨3, ![1, 32, N]⟩ : Shape).size a ≤ (⟨3, ![16, 32, N]⟩ : Shape).size a} (ho : off = ![k.val, 0, 0])
    {w : (⟨3, ![1, 32, N]⟩ : Shape).Idx → Elt F e} {hx hm} {K : PUnit → PR F α} {X : (⟨2, ![32, N]⟩ : Shape).Idx → Elt F e} :
    owns (c : Thread nD τ) (slotM m hq k) fullShare X ⊢ iprop((owns (c : Thread nD τ) (slotM m hq k) fullShare (fun x => w (ix3 (0 : Fin 1) (x 0) (x 1))) -∗ W c bd (K ⟨⟩) Q)
      -∗ W c bd (Prog.lift (.store m (Rect.unit (s := ⟨3, ![16, 32, N]⟩) off (⟨3, ![1, 32, N]⟩ : Shape).size hoff) w Finset.univ hx hm) >>= K) Q) := by
  subst ho
  simp only [slot_owns]
  iintro ⟨%f, %hf, H⟩ HK
  have hS : (m.access (Rect.unit (s := ⟨3, ![16, 32, N]⟩) ![k.val, 0, 0] (⟨3, ![1, 32, N]⟩ : Shape).size hoff)).setOn Finset.univ ⊆ (slotM m hq k).view.set := by
    rw [View.setOn_univ, slot_set]
    exact (View.set_slice _ _).le
  iapply (wp_store VN (c : Thread nD τ) bd Set.univ (hx := hx) (hm := hm) hS) $$ H
  iintro H
  iapply HK
  iexists _
  isplitr
  · ipureintro
    swap
    · exact (m.access (Rect.unit (s := ⟨3, ![16, 32, N]⟩) ![k.val, 0, 0] (⟨3, ![1, 32, N]⟩ : Shape).size hoff)).write (Elt F) f w Finset.univ
    funext x
    rw [eq_ix2 x]
    refine (slot_read m hq k _ (x 0) (x 1)).trans ?_
    have e2 : (ix3 k (x 0) (x 1) : (⟨3, ![16, 32, N]⟩ : Shape).Idx)
        = (Rect.unit (s := ⟨3, ![16, 32, N]⟩) ![k.val, 0, 0] (⟨3, ![1, 32, N]⟩ : Shape).size hoff).emb (ix3 (0 : Fin 1) (x 0) (x 1)) := by
      funext d
      apply Fin.ext
      match d with
      | ⟨0, _⟩ => show k.val = k.val + 1 * 0; omega
      | ⟨1, _⟩ => show (x 0).val = 0 + 1 * (x 0).val; omega
      | ⟨2, _⟩ => show (x 1).val = 0 + 1 * (x 1).val; omega
    rw [e2]
    exact View.read_slice_write_emb (v := m.view) (Rect.unit (s := ⟨3, ![16, 32, N]⟩) ![k.val, 0, 0] (⟨3, ![1, 32, N]⟩ : Shape).size hoff) f w (Finset.mem_univ _)
  · iexact H

end

section
variable {N R : ℕ} {e : EltTy} (m : Memref sig .tc .vmem ⟨3, ![16, 32, N]⟩ e) (hq : (⟨3, ![1, 32, N]⟩ : Shape).Squeezes ⟨2, ![32, N]⟩)
  (big : Memref sig .tc .hbm ⟨2, ![R, N]⟩ e) (sems : DmaSems sig S16) (k : Fin 16)

/-- Slot `k`'s semaphore. -/
def semM : DmaSem sig :=
  ((sems.slice (Rect.unit (s := S16) ![k.val] S1.size (by intro a; have := k.isLt; fin_cases a; show k.val + 1 ≤ 16; omega))).squeeze S_ squeezes_S1_S_).sem

omit [Facts] in
theorem tile_inb {T : ℕ} (hT : T * 32 + 32 ≤ R) : ∀ a, (![T * 32, 0] : Fin 2 → ℕ) a + (⟨2, ![32, N]⟩ : Shape).size a ≤ (⟨2, ![R, N]⟩ : Shape).size a := by
  intro a
  fin_cases a
  · exact hT
  · show 0 + N ≤ N; omega

/-- Tile `T` of an array. -/
def tileM {T : ℕ} (hT : T * 32 + 32 ≤ R) : Memref sig .tc .hbm ⟨2, ![32, N]⟩ e :=
  big.slice (Rect.unit (s := ⟨2, ![R, N]⟩) ![T * 32, 0] (⟨2, ![32, N]⟩ : Shape).size (tile_inb hT)) (fun _ => rfl)

/-- Tile `T` of the array's contents. -/
def tileC {α : Type} (Y : (⟨2, ![R, N]⟩ : Shape).Idx → α) {T : ℕ} (hT : T * 32 + 32 ≤ R) : (⟨2, ![32, N]⟩ : Shape).Idx → α :=
  fun i => Y ((Rect.unit (s := ⟨2, ![R, N]⟩) ![T * 32, 0] (⟨2, ![32, N]⟩ : Shape).size (tile_inb hT)).emb i)

variable (c : Dev nD) (q : PosShare TreeShare) (Y : (⟨2, ![R, N]⟩ : Shape).Idx → Elt F e)

/-- An idle slot of one ring: its buffer, its semaphore, and its share of the array it is filled from. -/
def idle1 : SP F := iprop((∃ X, owns (c : Thread nD τ) (slotM m hq k) fullShare X) ∗ semVal ((c : Thread nD τ), .dma (semM sems k)) 0 ∗ owns (c : Thread nD τ) big q Y)

/-- A slot with tile `T` in flight. -/
def busy1 {T : ℕ} (hT : T * 32 + 32 ≤ R) : SP F :=
  iprop(Transfers.Flight EC (c : Thread nD τ) (.dma (semM sems k)) () (slotM m hq k).view.dmaCredit
      iprop(owns (c : Thread nD τ) (slotM m hq k) fullShare (tileC Y hT) ∗ owns (c : Thread nD τ) (tileM big hT) q (tileC Y hT))
    ∗ (∃ f, ⌜big.view.read (Elt F) f = Y⌝ ∗ big.view.loc (c : Thread nD τ) ↦[big.view.set \ (tileM big hT).view.set]{q} f))

variable (bd : Option ℕ) {α : Type} {Q : α → SP F}

theorem W_issue (hN : 0 < N) {T : ℕ} (hT : T * 32 + 32 ≤ R) {o5 : Fin 1 → ℕ} {o6 : Fin 3 → ℕ} {o7 : Fin 2 → ℕ} {i5 : ∀ a, o5 a + S1.size a ≤ S16.size a}
    {i6 : ∀ a, o6 a + (⟨3, ![1, 32, N]⟩ : Shape).size a ≤ (⟨3, ![16, 32, N]⟩ : Shape).size a}
    {i7 : ∀ a, o7 a + (⟨2, ![32, N]⟩ : Shape).size a ≤ (⟨2, ![R, N]⟩ : Shape).size a}
    (e5 : o5 = ![k.val]) (e6 : o6 = ![k.val, 0, 0]) (e7 : o7 = ![T * 32, 0]) {s6 s7 h1 h2 h3} {K : PUnit → PR F α} :
    idle1 m hq big sems k c q Y
      ⊢ iprop((busy1 m hq big sems k c q Y hT -∗ W c bd (K ⟨⟩) Q)
        -∗ W c bd (Prog.lift (.enqueueDma (big.slice (Rect.unit (s := ⟨2, ![R, N]⟩) o7 (⟨2, ![32, N]⟩ : Shape).size i7) s7)
            (.here ((m.slice (Rect.unit (s := ⟨3, ![16, 32, N]⟩) o6 (⟨3, ![1, 32, N]⟩ : Shape).size i6) s6).squeeze ⟨2, ![32, N]⟩ hq))
            (.dma ((sems.slice (Rect.unit (s := S16) o5 S1.size i5)).squeeze S_ squeezes_S1_S_).sem) h1 h2 h3) >>= K) Q) := by
  subst e5 e6 e7
  unfold idle1
  iintro ⟨⟨%X, Hd⟩, Hv, Hb⟩ HK
  ihave ⟨Hs, Hr⟩ := (owns_slice_split (c : Thread nD τ) big q
    (Rect.unit (s := ⟨2, ![R, N]⟩) ![T * 32, 0] (⟨2, ![32, N]⟩ : Shape).size (tile_inb hT)) (fun _ => rfl) Y) $$ Hb
  iapply (W_dma c bd (src := tileM big hT) (dst := slotM m hq k) (sem := semM sems k) (X := tileC Y hT) (X' := X) ?_) $$ [Hs Hd Hv]
  · show 0 < (⟨2, ![32, N]⟩ : Shape).numel
    apply Nat.pos_of_ne_zero
    simp [Shape.numel, Fin.prod_univ_two]
    omega
  · isplitl [Hs]; · iexact Hs
    isplitl [Hd]; · iexact Hd
    iexact Hv
  iintro HF
  iapply HK
  unfold busy1
  isplitl [HF]; · iexact HF
  iexact Hr

theorem W_waitS {T : ℕ} (hT : T * 32 + 32 ≤ R) {o5 : Fin 1 → ℕ} {o6 : Fin 3 → ℕ} {i5 : ∀ a, o5 a + S1.size a ≤ S16.size a}
    {i6 : ∀ a, o6 a + (⟨3, ![1, 32, N]⟩ : Shape).size a ≤ (⟨3, ![16, 32, N]⟩ : Shape).size a}
    (e5 : o5 = ![k.val]) (e6 : o6 = ![k.val, 0, 0]) {sp' : Space} {s' : Shape} {e' : EltTy} {srcw : Memref sig .tc sp' s' e'} {s6 h1 h2} {K : PUnit → PR F α} :
    iprop(busy1 m hq big sems k c q Y hT ∗ ow c)
      ⊢ iprop((iprop(owns (c : Thread nD τ) (slotM m hq k) fullShare (tileC Y hT) ∗ semVal ((c : Thread nD τ), .dma (semM sems k)) 0
            ∗ owns (c : Thread nD τ) big q Y ∗ ow c) -∗ W c bd (K ⟨⟩) Q)
        -∗ W c bd (Prog.lift (.waitDma2 ((sems.slice (Rect.unit (s := S16) o5 S1.size i5)).squeeze S_ squeezes_S1_S_).sem srcw
            ((m.slice (Rect.unit (s := ⟨3, ![16, 32, N]⟩) o6 (⟨3, ![1, 32, N]⟩ : Shape).size i6) s6).squeeze ⟨2, ![32, N]⟩ hq) h1 h2) >>= K) Q) := by
  subst e5 e6
  unfold busy1
  iintro ⟨⟨HF, ⟨%f, %hf, Hr⟩⟩, HO⟩ HK
  iapply (W_wait c bd (dstw := slotM m hq k) (sem := semM sems k)) $$ [HF HO]
  · isplitl [HF]; · iexact HF
    iexact HO
  iintro ⟨⟨Hd, Hs⟩, Hv, HO⟩
  iapply HK
  isplitl [Hd]; · iexact Hd
  isplitl [Hv]; · iexact Hv
  isplitl [Hs Hr]
  · have e1 : Y = (Rect.unit (s := ⟨2, ![R, N]⟩) ![T * 32, 0] (⟨2, ![32, N]⟩ : Shape).size (tile_inb hT)).overlay (big.view.read (Elt F) f) (tileC Y hT) := by
      funext x
      by_cases hx : x ∈ (Rect.unit (s := ⟨2, ![R, N]⟩) ![T * 32, 0] (⟨2, ![32, N]⟩ : Shape).size (tile_inb hT)).set
      · obtain ⟨y, rfl⟩ := LoadRect.exists_idx_of_mem _ hx
        exact (Rect.overlay_emb (Rect.unit (s := ⟨2, ![R, N]⟩) ![T * 32, 0] (⟨2, ![32, N]⟩ : Shape).size (tile_inb hT)) (big.view.read (Elt F) f) (tileC Y hT) y).symm
      · rw [Rect.overlay_of_not_mem _ _ _ hx, hf]
    conv_rhs => rw [e1]
    iapply (owns_slice_join (c : Thread nD τ) big q
      (Rect.unit (s := ⟨2, ![R, N]⟩) ![T * 32, 0] (⟨2, ![32, N]⟩ : Shape).size (tile_inb hT)) (fun _ => rfl) (tileC Y hT) f)
    isplitl [Hs]; · iexact Hs
    iexact Hr
  · iexact HO

end

end Cert.Kernel.M
-- ==== Proof.K.TopUp.lean ====
module

public import proofs.«01_k».proof.Proof.K.Slots

@[expose] public section

noncomputable section

/-
  Issuing: one item, the issuing loop, and filling the queue.
-/
namespace Cert.Kernel.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]
open Facts₀ Facts

/-- What the lists' two blocks hold at a step. -/
structure Ents (L : Lists) (t : ℕ) (X3 X4 : S1x4x128.Idx → BitVec 32) : Prop where
  cur : ∀ x, (x 2).val < L.cnt (4 * t + (x 1).val) → X3 x = nw (L.ent (4 * t + (x 1).val) (x 2).val)
  nxt : t + 1 < 256 → ∀ x, (x 2).val < L.cnt (4 * t + 4 + (x 1).val) → X4 x = nw (L.ent (4 * t + 4 + (x 1).val) (x 2).val)

theorem off3_eq {s j : ℕ} (hs : s ≤ 8) (hj : j ≤ 128) : k0_off3 (nw s) (nw j) = ![0, if s < 4 then s else 0, j] := by
  unfold k0_off3
  simp only [Scalar.indexCast]
  rw [show (4#32 : BitVec 32) = nw 4 from rfl, show (0#32 : BitVec 32) = nw 0 from rfl, s_slt (by omega) (by omega), s_select', nw_toNat (by split <;> omega),
    nw_toNat (by omega)]

theorem off4_eq {s j : ℕ} (hs : s ≤ 8) (hj : j ≤ 128) : k0_off4 (nw s) (nw j) = ![0, if s < 4 then 0 else s - 4, j] := by
  unfold k0_off4
  simp only [Scalar.indexCast]
  rw [show (4#32 : BitVec 32) = nw 4 from rfl, show (0#32 : BitVec 32) = nw 0 from rfl, s_slt (by omega) (by omega), s_select, nw_toNat (n := j) (by omega)]
  split
  · rw [nw_toNat (by omega)]
  · rw [s_subi (by omega) (by omega), nw_toNat (by omega)]

theorem chk2_ok {s j : ℕ} (hs : s < 8) (hj : j < 128) : k0_chk2 (nw s) (nw j) := by
  refine ⟨fun a => ?_, fun a => ?_⟩
  · rw [off3_eq (by omega) (by omega)]
    fin_cases a
    · show 0 + 1 ≤ 1; decide
    · show (if s < 4 then s else 0) + 1 ≤ 4; split <;> omega
    · show j + 1 ≤ 128; omega
  · rw [off4_eq (by omega) (by omega)]
    fin_cases a
    · show 0 + 1 ≤ 1; decide
    · show (if s < 4 then 0 else s - 4) + 1 ≤ 4; split <;> omega
    · show j + 1 ≤ 128; omega

section
variable {L : Lists} {t : ℕ} {X3 X4 : S1x4x128.Idx → BitVec 32} (hE : Ents L t X3 X4)

include hE in
/-- The entry the scan stands at. -/
theorem entry_read {s j : ℕ} (hs : s < Lists.top t) (hj : j < L.cnt (4 * t + s)) {o1 o2 : Fin 3 → ℕ} {ho1 ho2}
    (e1 : o1 = ![0, if s < 4 then s else 0, j]) (e2 : o2 = ![0, if s < 4 then 0 else s - 4, j]) (y : S1x1x1.Idx) :
    (Scalar.select (Scalar.cmpi .slt (nw s) 4#32) (X3 ((Rect.unit (s := S1x4x128) o1 S1x1x1.size ho1).idx y) : BitVec 32)
      (X4 ((Rect.unit (s := S1x4x128) o2 S1x1x1.size ho2).idx y))) = nw (L.ent (4 * t + s) j) := by
  have h := top_le t
  have hy1 : (y 1).val < 1 := (y 1).isLt
  have hy2 : (y 2).val < 1 := (y 2).isLt
  rw [show (4#32 : BitVec 32) = nw 4 from rfl, s_slt (by omega) (by omega), s_select]
  by_cases h4 : s < 4
  · have c1 : ((Rect.unit (s := S1x4x128) o1 S1x1x1.size ho1).idx y 1).val = s := by
      rw [LoadRect.idx_apply]; subst e1
      show (if s < 4 then s else 0) + 1 * (y 1).val = s
      rw [if_pos h4]; omega
    have c2 : ((Rect.unit (s := S1x4x128) o1 S1x1x1.size ho1).idx y 2).val = j := by
      rw [LoadRect.idx_apply]; subst e1
      show j + 1 * (y 2).val = j
      omega
    rw [if_pos h4, hE.cur _ (by rw [c1, c2]; exact hj), c1, c2]
  · have ht : t + 1 < 256 := by
      by_contra hn; unfold Lists.top at hs; rw [if_neg hn] at hs; omega
    have c1 : ((Rect.unit (s := S1x4x128) o2 S1x1x1.size ho2).idx y 1).val = s - 4 := by
      rw [LoadRect.idx_apply]; subst e2
      show (if s < 4 then 0 else s - 4) + 1 * (y 1).val = s - 4
      rw [if_neg h4]; omega
    have c2 : ((Rect.unit (s := S1x4x128) o2 S1x1x1.size ho2).idx y 2).val = j := by
      rw [LoadRect.idx_apply]; subst e2
      show j + 1 * (y 2).val = j
      omega
    have e4 : 4 * t + 4 + (s - 4) = 4 * t + s := by omega
    rw [if_neg h4, hE.nxt ht _ (by rw [c1, c2, e4]; exact hj), c1, c2, e4]

end

/-- The words of an entry the scan has read. -/
theorem cond3_eq {v67 v73 v78 : BitVec 32} {E : ℕ} (h : Scalar.select (Scalar.cmpi .slt v67 4#32) v73 v78 = nw E) (hE : E < 498112) :
    k0_cond3 v67 v73 v78 = BitVec.ofBool (decide (E / 64 < 7782)) := by
  unfold k0_cond3
  simp only [h]
  rw [s_shrsi6 (by omega), show (7782#32 : BitVec 32) = nw 7782 from rfl, s_slt (by omega) (by omega), s_ext_ne]

theorem off7_eq {v67 v73 v78 : BitVec 32} {E : ℕ} (h : Scalar.select (Scalar.cmpi .slt v67 4#32) v73 v78 = nw E) (hE : E < 498112) :
    k0_off7 v67 v73 v78 = ![E / 64 * 32, 0] := by
  unfold k0_off7
  simp only [h]
  rw [s_shrsi6 (by omega), show (32#32 : BitVec 32) = nw 32 from rfl, s_muli, nw_toNat (by omega)]

theorem off9_eq {v67 v73 v78 : BitVec 32} {E : ℕ} (h : Scalar.select (Scalar.cmpi .slt v67 4#32) v73 v78 = nw E) (hE : E < 498112) :
    k0_off9 v67 v73 v78 = ![E / 64 * 32, 0] := off7_eq h hE

theorem mult1_eq {v67 v73 v78 : BitVec 32} {E : ℕ} (h : Scalar.select (Scalar.cmpi .slt v67 4#32) v73 v78 = nw E) (hE : E < 498112) :
    (k0_mult1 v67 v73 v78).toNat = E / 64 * 32 := by
  unfold k0_mult1
  simp only [h]
  rw [s_shrsi6 (by omega), show (32#32 : BitVec 32) = nw 32 from rfl, s_muli, nw_toNat (by omega)]

theorem off5_eq {I : ℕ} (hI : I < 2 ^ 31) : k0_off5 (nw I) = ![I % 16] := by
  unfold k0_off5
  simp only
  rw [s_remsi16 hI, nw_toNat (by omega)]
theorem off6_eq {I : ℕ} (hI : I < 2 ^ 31) : k0_off6 (nw I) = ![I % 16, 0, 0] := by
  unfold k0_off6
  simp only
  rw [s_remsi16 hI, nw_toNat (by omega)]
theorem off8_eq {I : ℕ} (hI : I < 2 ^ 31) : k0_off8 (nw I) = ![I % 16, 0, 0] := off6_eq hI

theorem chk3_ok {v67 v73 v78 : BitVec 32} {E : ℕ} (h : Scalar.select (Scalar.cmpi .slt v67 4#32) v73 v78 = nw E) (hE : E < 498112) : k0_chk3 v67 v73 v78 := by
  have hc : k0_cond3 v67 v73 v78 = 1#1 → E / 64 < 7782 := fun hc => by rwa [cond3_eq h hE, ofBool_eq_one] at hc
  refine ⟨fun h3 => ?_, fun h3 a => ?_, fun h3 hinb => ?_, fun h3 a => ?_⟩
  · rw [mult1_eq h hE]; exact Nat.dvd_mul_left _ _
  · have := hc h3
    rw [off7_eq h hE]
    fin_cases a
    · show E / 64 * 32 + 32 ≤ 249037; omega
    · show 0 + 3072 ≤ 3072; decide
  · have := hc h3
    refine .inl (.inr ⟨by decide, rfl, .inl ⟨?_, by show (4 : ℕ) ∣ 32; decide⟩⟩)
    show EltTy.packing .fp8e4m3 ∣ k0_off7 v67 v73 v78 0
    rw [off7_eq h hE]
    show 4 ∣ E / 64 * 32
    omega
  · have := hc h3
    rw [off9_eq h hE]
    fin_cases a
    · show E / 64 * 32 + 32 ≤ 249037; omega
    · show 0 + 24 ≤ 24; decide

theorem rows_words {o : Fin 3 → ℕ} {n : ℕ} (ho : o = ![n, 0, 0]) (hinb : ∀ a, o a + S1x32x3072.size a ≤ S16x32x3072.size a) :
    (Rect.unit (s := S16x32x3072) o S1x32x3072.size hinb).PackedRows (EltTy.packing .fp8e4m3) := by
  subst ho
  exact .inr ⟨by decide, rfl, .inl ⟨Nat.dvd_zero _, by show (4 : ℕ) ∣ 32; decide⟩⟩

theorem chk4_ok {v67 v73 v78 : BitVec 32} {I : ℕ} (hI : I < 2 ^ 31) : k0_chk4 v67 v73 v78 (nw I) := by
  have : I % 16 < 16 := Nat.mod_lt _ (by decide)
  refine ⟨fun h3 a => ?_, fun h3 a => ?_, fun h3 hinb => (rows_words (off6_eq hI) hinb).wholeWords, fun h3 a => ?_⟩
  · rw [off5_eq hI]
    fin_cases a
    show I % 16 + 1 ≤ 16; omega
  · rw [off6_eq hI]
    fin_cases a
    · show I % 16 + 1 ≤ 16; omega
    · show 0 + 32 ≤ 32; decide
    · show 0 + 3072 ≤ 3072; decide
  · rw [off8_eq hI]
    fin_cases a
    · show I % 16 + 1 ≤ 16; omega
    · show 0 + 32 ≤ 32; decide
    · show 0 + 24 ≤ 24; decide

theorem W_rdn (c : Dev nD) (bd : Option ℕ) {α : Type} {Q : α → SP F} {arg19 : Memref sig .tc .smem S4 .i32} {off : Fin 1 → ℕ} {hoff : ∀ b, off b + S1.size b ≤ S4.size b}
    {k : BitVec 32 → PR F α} {v : Fin 4 → ℕ} (a : Fin 4) (n : ℕ) (ho : off 0 = a.val) (hv : v a = n) :
    owns (c : Thread nD τ) arg19 fullShare (stV v : S4.Idx → Elt F .i32)
      ⊢ iprop((owns (c : Thread nD τ) arg19 fullShare (stV v : S4.Idx → Elt F .i32) -∗ W c bd (k (nw n)) Q)
        -∗ W c bd ((smemLoad arg19 (Rect.unit (s := S4) off S1.size hoff) numel1_S1 rfl : PR F (Elt F .i32)) >>= k) Q) := by
  subst hv; exact W_rdw c bd a ho

theorem W_wrn (c : Dev nD) (bd : Option ℕ) {α : Type} {Q : α → SP F} {arg19 : Memref sig .tc .smem S4 .i32} {off : Fin 1 → ℕ} {hoff : ∀ b, off b + S1.size b ≤ S4.size b}
    {k : PUnit → PR F α} {v : Fin 4 → ℕ} (a : Fin 4) (n : ℕ) (v' : Fin 4 → ℕ) (ho : off 0 = a.val) (hv : Function.update v a n = v') {w : BitVec 32} (hw : w = nw n)
    {hx : (arg19.access (Rect.unit (s := S4) off S1.size hoff)).Stores Finset.univ} {hm} :
    owns (c : Thread nD τ) arg19 fullShare (stV v : S4.Idx → Elt F .i32)
      ⊢ iprop((owns (c : Thread nD τ) arg19 fullShare (stV v' : S4.Idx → Elt F .i32) -∗ W c bd (k ⟨⟩) Q)
        -∗ W c bd (Prog.lift (.store arg19 (Rect.unit (s := S4) off S1.size hoff) (fun _ => w) Finset.univ hx hm) >>= k) Q) := by
  subst hv hw; exact W_wrw c bd (n := n) a ho

theorem upd0 (a b d e n : ℕ) : Function.update ![a, b, d, e] (0 : Fin 4) n = ![n, b, d, e] := by funext x; fin_cases x <;> rfl
theorem upd1 (a b d e n : ℕ) : Function.update ![a, b, d, e] (1 : Fin 4) n = ![a, n, d, e] := by funext x; fin_cases x <;> rfl
theorem upd2 (a b d e n : ℕ) : Function.update ![a, b, d, e] (2 : Fin 4) n = ![a, b, n, e] := by funext x; fin_cases x <;> rfl
theorem upd3 (a b d e n : ℕ) : Function.update ![a, b, d, e] (3 : Fin 4) n = ![a, b, d, n] := by funext x; fin_cases x <;> rfl

section
variable (i : grid0.Coords) (arg3 : Memref sig .tc .smem S1x4x128 .i32) (harg3 : arg3.IsWhole) (arg4 : Memref sig .tc .smem S1x4x128 .i32) (harg4 : arg4.IsWhole)
  (arg5 : Memref sig .tc .smem S1x1x4 .i32) (harg5 : arg5.IsWhole) (arg6 : Memref sig .tc .smem S1x1x4 .i32) (harg6 : arg6.IsWhole)
  (arg10 : Memref sig .tc .hbm S249037x3072 .fp8e4m3) (harg10 : arg10.IsWhole) (arg11 : Memref sig .tc .hbm S249037x24 .f32) (harg11 : arg11.IsWhole)
  (arg15 : Memref sig .tc .vmem S16x32x3072 .fp8e4m3) (harg15 : arg15.IsWhole) (arg16 : Memref sig .tc .vmem S16x32x24 .f32) (harg16 : arg16.IsWhole)
  (arg17 arg18 : DmaSems sig S16) (arg19 : Memref sig .tc .smem S4 .i32) (harg19 : arg19.IsWhole)

/-- What the fixed operands hold. -/
structure Cts (F : FTy → Type) where
  X3 : S1x4x128.Idx → Elt F .i32
  X4 : S1x4x128.Idx → Elt F .i32
  X5 : S1x1x4.Idx → Elt F .i32
  X6 : S1x1x4.Idx → Elt F .i32
  Y : S249037x3072.Idx → Elt F .fp8e4m3
  Sc : S249037x24.Idx → Elt F .f32
  q : Fin 16 → PosShare TreeShare

variable (C : Cts F) (L : Lists) (c : Dev nD)

/-- A slot with what it has in flight. -/
def slotR (k : Fin 16) (o : Option ℕ) : SP F :=
  match o with
  | none => iprop(idle1 arg15 squeezes_S1x32x3072_S32x3072 arg10 arg17 k c (C.q k) C.Y ∗ idle1 arg16 squeezes_S1x32x24_S32x24 arg11 arg18 k c (C.q k) C.Sc)
  | some T => iprop(∃ hT : T * 32 + 32 ≤ 249037, busy1 arg15 squeezes_S1x32x3072_S32x3072 arg10 arg17 k c (C.q k) C.Y hT
      ∗ busy1 arg16 squeezes_S1x32x24_S32x24 arg11 arg18 k c (C.q k) C.Sc hT)

/-- The ring. -/
def ring (f : Fin 16 → Option ℕ) : SP F := bigSep Finset.univ fun k => slotR arg10 arg11 arg15 arg16 arg17 arg18 C c k (f k)

/-- The scanned blocks and the queue. -/
def QR (I D s j : ℕ) : SP F :=
  iprop(owns (c : Thread nD τ) arg3 fullShare C.X3 ∗ owns (c : Thread nD τ) arg4 fullShare C.X4 ∗ owns (c : Thread nD τ) arg5 fullShare C.X5
    ∗ owns (c : Thread nD τ) arg6 fullShare C.X6 ∗ owns (c : Thread nD τ) arg19 fullShare (stV ![I, D, s, j] : S4.Idx → Elt F .i32)
    ∗ ∃ f, ⌜L.Slots I D f⌝ ∗ ring arg10 arg11 arg15 arg16 arg17 arg18 C c f)

omit [Facts] in
theorem ring_take (P : Fin 16 → Option ℕ → SP F) (f : Fin 16 → Option ℕ) (k : Fin 16) :
    bigSep Finset.univ (fun x => P x (f x)) ⊢ iprop(P k (f k) ∗ ∀ o, P k o -∗ bigSep Finset.univ (fun x => P x (Function.update f k o x))) := by
  have e1 : ∀ g : Fin 16 → SP F, bigSep Finset.univ g = iprop(g k ∗ bigSep (Finset.univ.erase k) g) := by
    intro g
    conv_lhs => rw [← Finset.insert_erase (Finset.mem_univ k)]
    exact bigSep_insert (Finset.notMem_erase _ _)
  rw [e1]
  iintro ⟨H1, H2⟩
  isplitl [H1]; · iexact H1
  iintro %o Ho
  rw [e1, Function.update_self, show bigSep (Finset.univ.erase k) (fun x => P x (Function.update f k o x)) = bigSep (Finset.univ.erase k) (fun x => P x (f x)) from
    bigSep_congr fun x hx => by rw [Function.update_of_ne (Finset.ne_of_mem_erase hx)]]
  isplitl [Ho]; · iexact Ho
  iexact H2

variable (hE : Ents L (stp i) C.X3 C.X4) (hC : Counts L (stp i) C.X5 C.X6)
  (callSkip : (v67 v68 : Elt F .i32) → k0_chk2 v67 v68 → (v73 v78 : Elt F .i32) → k0_chk3 v67 v73 v78 → (v81 : Elt F .i32) → k0_chk4 v67 v73 v78 v81 → BitVec 32 → BitVec 32 → PR F (BitVec 32 × BitVec 32))
  (hskip : ∀ v67 v68 h2 v73 v78 h3 v81 h4 (c : Dev nD) (bd : Option ℕ) (v : ℕ), (∀ u ∈ bd, v < u) → ∀ (a b : BitVec 32) (Q : BitVec 32 × BitVec 32 → SP F),
    W c (some v) (skipBody i arg5 harg5 arg6 harg6 (callSkip v67 v68 h2 v73 v78 h3 v81 h4) a b) Q ⊢ W c bd (callSkip v67 v68 h2 v73 v78 h3 v81 h4 a b) Q)

include hE hC hskip in
theorem canWin_spec {arg20 : BitVec 1} {I D s j : ℕ} (bd : Option ℕ) (hbd : ∀ u ∈ bd, 8 < u) (hD : D ≤ I) (hI : I < D + 16) (hs : s < Lists.top (stp i))
    (hj : j < L.cnt (4 * stp i + s)) (hIe : I = L.P (4 * stp i + s) + j) (Q : (Σ' (v94 : BitVec 1) (v97_0 : BitVec 32), BitVec 32) → SP F) :
    iprop(QR arg3 arg4 arg5 arg6 arg10 arg11 arg15 arg16 arg17 arg18 arg19 C L c I D s j
      ∗ (∀ s', ∀ j', ⌜L.At (stp i) s' j' ∧ L.P (4 * stp i + s') + j' = I + 1⌝
          -∗ QR arg3 arg4 arg5 arg6 arg10 arg11 arg15 arg16 arg17 arg18 arg19 C L c (I + 1) D s (j + 1)
          -∗ Q ⟨BitVec.ofBool (decide (I + 1 - D < 16)), nw s', nw j'⟩))
      ⊢ W c bd (canWin i arg19 harg19 arg3 harg3 arg4 harg4 arg17 arg15 harg15 arg10 harg10 arg18 arg16 harg16 arg11 harg11 arg5 harg5 arg6 harg6 arg20 callSkip) Q := by
  have htop := top_le (stp i)
  have hcnt := L.cnt_le (4 * stp i + s)
  have hP := L.P_le (4 * stp i + s)
  have hitem : L.item I = L.ent (4 * stp i + s) j := by rw [hIe]; exact L.item_at hj
  have hlt := L.ent_lt _ _ hj
  unfold QR canWin
  iintro ⟨⟨H3, H4, H5, H6, H19, ⟨%f, %hf, HR⟩⟩, HQ⟩
  iapply (W_rdn c bd 2 s rfl rfl) $$ H19
  iintro H19
  iapply (W_rdn c bd 3 j rfl rfl) $$ H19
  iintro H19
  iapply (W_assume c bd (chk2_ok (by omega) (by omega)))
  iapply (W_smem c bd) $$ H3
  iintro H3
  iapply (W_smem c bd) $$ H4
  iintro H4
  have hent := fun ho1 ho2 y => entry_read hE hs hj (ho1 := ho1) (ho2 := ho2) (off3_eq (s := s) (j := j) (by omega) (by omega)) (off4_eq (by omega) (by omega)) y
  iapply (W_assume c bd (chk3_ok (hent _ _ _) hlt))
  iapply (W_rdn c bd 0 I rfl rfl) $$ H19
  iintro H19
  iapply (W_assume c bd (chk4_ok (I := I) (by omega)))
  have hiss := Lists.Slots.issue hf hI hD
  unfold ring
  ihave ⟨Hk, HR⟩ := (ring_take (slotR arg10 arg11 arg15 arg16 arg17 arg18 C c) f ⟨I % 16, Nat.mod_lt _ (by decide)⟩) $$ HR
  ispecialize HR $$ %(L.tl I)
  rw [hiss.1]
  unfold slotR
  icases Hk with ⟨Hk1, Hk2⟩
  by_cases hT : L.ent (4 * stp i + s) j / 64 < 7782
  · have htl : L.tl I = some (L.ent (4 * stp i + s) j / 64) := by unfold Lists.tl Lists.tile; rw [hitem, if_pos hT]
    rw [dif_pos (show k0_cond3 _ _ _ = 1#1 by rw [cond3_eq (hent _ _ _) hlt, ofBool_eq_one]; exact hT)]
    have hT' : L.ent (4 * stp i + s) j / 64 * 32 + 32 ≤ 249037 := by omega
    iapply (W_issue arg15 squeezes_S1x32x3072_S32x3072 arg10 arg17 ⟨I % 16, Nat.mod_lt _ (by decide)⟩ c (C.q _) C.Y bd (by decide) hT' (off5_eq (by omega)) (off6_eq (by omega))
      (off7_eq (hent _ _ _) hlt)) $$ Hk1
    iintro Hk1
    iapply (W_issue arg16 squeezes_S1x32x24_S32x24 arg11 arg18 ⟨I % 16, Nat.mod_lt _ (by decide)⟩ c (C.q _) C.Sc bd (by decide) hT' (off5_eq (by omega)) (off8_eq (by omega))
      (off9_eq (hent _ _ _) hlt)) $$ Hk2
    iintro Hk2
    rw [htl] at hiss
    rw [htl]
    ihave HR := HR $$ [Hk1 Hk2]
    · iexists hT'
      isplitl [Hk1]; · iexact Hk1
      iexact Hk2
    iapply (W_rdn c bd 0 I rfl rfl) $$ H19
    iintro H19
    iapply (W_rdn c bd 0 I rfl rfl) $$ H19
    iintro H19
    iapply (W_wrn c bd 0 (I + 1) _ rfl (upd0 _ _ _ _ _) (s_addi I 1)) $$ H19
    iintro H19
    iapply (W_rdn c bd 3 j rfl rfl) $$ H19
    iintro H19
    iapply (W_wrn c bd 3 (j + 1) _ rfl (upd3 _ _ _ _ _) (s_addi j 1)) $$ H19
    iintro H19
    iapply (W_rdn c bd 0 (I + 1) rfl rfl) $$ H19
    iintro H19
    iapply (W_rdn c bd 1 D rfl rfl) $$ H19
    iintro H19
    iapply (W_rdn c bd 2 s rfl rfl) $$ H19
    iintro H19
    iapply (W_rdn c bd 3 (j + 1) rfl rfl) $$ H19
    iintro H19
    rw [W_bind]
    iapply (skip_spec i arg5 harg5 arg6 harg6 hC _ (hskip _ _ _ _ _ _ _ _) c 8 s (j + 1) bd (by omega) hbd (.inl ⟨hs, hj⟩))
    isplitl [H5]; · iexact H5
    isplitl [H6]; · iexact H6
    iintro %s' %j' %h H5 H6
    iapply (W_ret c bd)
    rw [show (16#32 : BitVec 32) = nw 16 from rfl, s_subi (by omega) (by omega), s_slt (by omega) (by omega)]
    iapply HQ $$ %s' %j' %⟨h.1, by rw [h.2]; omega⟩
    isplitl [H3]; · iexact H3
    isplitl [H4]; · iexact H4
    isplitl [H5]; · iexact H5
    isplitl [H6]; · iexact H6
    isplitl [H19]; · iexact H19
    iexists _
    isplitr
    · ipureintro; exact hiss.2
    · iexact HR
  · have htl : L.tl I = none := by unfold Lists.tl Lists.tile; rw [hitem, if_neg hT]
    rw [dif_neg (show ¬ k0_cond3 _ _ _ = 1#1 by rw [cond3_eq (hent _ _ _) hlt, ofBool_eq_one]; exact hT)]
    rw [htl] at hiss
    rw [htl]
    ihave HR := HR $$ [Hk1 Hk2]
    · isplitl [Hk1]; · iexact Hk1
      iexact Hk2
    iapply (W_rdn c bd 0 I rfl rfl) $$ H19
    iintro H19
    iapply (W_rdn c bd 0 I rfl rfl) $$ H19
    iintro H19
    iapply (W_wrn c bd 0 (I + 1) _ rfl (upd0 _ _ _ _ _) (s_addi I 1)) $$ H19
    iintro H19
    iapply (W_rdn c bd 3 j rfl rfl) $$ H19
    iintro H19
    iapply (W_wrn c bd 3 (j + 1) _ rfl (upd3 _ _ _ _ _) (s_addi j 1)) $$ H19
    iintro H19
    iapply (W_rdn c bd 0 (I + 1) rfl rfl) $$ H19
    iintro H19
    iapply (W_rdn c bd 1 D rfl rfl) $$ H19
    iintro H19
    iapply (W_rdn c bd 2 s rfl rfl) $$ H19
    iintro H19
    iapply (W_rdn c bd 3 (j + 1) rfl rfl) $$ H19
    iintro H19
    rw [W_bind]
    iapply (skip_spec i arg5 harg5 arg6 harg6 hC _ (hskip _ _ _ _ _ _ _ _) c 8 s (j + 1) bd (by omega) hbd (.inl ⟨hs, hj⟩))
    isplitl [H5]; · iexact H5
    isplitl [H6]; · iexact H6
    iintro %s' %j' %h H5 H6
    iapply (W_ret c bd)
    rw [show (16#32 : BitVec 32) = nw 16 from rfl, s_subi (by omega) (by omega), s_slt (by omega) (by omega)]
    iapply HQ $$ %s' %j' %⟨h.1, by rw [h.2]; omega⟩
    isplitl [H3]; · iexact H3
    isplitl [H4]; · iexact H4
    isplitl [H5]; · iexact H5
    isplitl [H6]; · iexact H6
    isplitl [H19]; · iexact H19
    iexists _
    isplitr
    · ipureintro; exact hiss.2
    · iexact HR

variable (call : BitVec 1 → PR F (BitVec 1))
  (hcan : ∀ (c : Dev nD) (bd : Option ℕ) (v : ℕ), (∀ u ∈ bd, v < u) → ∀ (a : BitVec 1) (Q : BitVec 1 → SP F),
    W c (some v) (canBody i arg19 harg19 arg3 harg3 arg4 harg4 arg17 arg15 harg15 arg10 harg10 arg18 arg16 harg16 arg11 harg11 arg5 harg5 arg6 harg6 a callSkip call) Q ⊢ W c bd (call a) Q)

include hE hC hskip hcan in
/-- The issuing loop fills the queue. -/
theorem can_spec : ∀ (n : ℕ) (I D s j : ℕ) (bd : Option ℕ), D + 16 - I ≤ n → (∀ u ∈ bd, 20 + n < u) → D ≤ I → I ≤ D + 16 → L.At (stp i) s j →
    I = L.P (4 * stp i + s) + j → ∀ Q : BitVec 1 → SP F,
    iprop(QR arg3 arg4 arg5 arg6 arg10 arg11 arg15 arg16 arg17 arg18 arg19 C L c I D s j
      ∗ (∀ I', ∀ s', ∀ j', ∀ a, ⌜L.Full (stp i) I' D s' j'⌝
          -∗ QR arg3 arg4 arg5 arg6 arg10 arg11 arg15 arg16 arg17 arg18 arg19 C L c I' D s' j' -∗ Q a))
      ⊢ W c bd (call (BitVec.ofBool (decide (I - D < 16 ∧ s < Lists.top (stp i))))) Q := by
  intro n
  induction n with
  | zero =>
    intro I D s j bd hn hbd hD hI hA hIe Q
    refine .trans ?_ (hcan c bd 20 hbd _ Q)
    unfold canBody
    rw [decide_eq_false (by omega)]
    iintro ⟨HR, HQ⟩
    iapply (W_ret c (some 20))
    iapply HQ $$ %I %s %j %_ %⟨hD, hI, hA, hIe, .inl (by omega)⟩ HR
  | succ n ih =>
    intro I D s j bd hn hbd hD hI hA hIe Q
    refine .trans ?_ (hcan c bd (20 + (n + 1)) hbd _ Q)
    have htop := top_le (stp i)
    by_cases hg : I - D < 16 ∧ s < Lists.top (stp i)
    · rw [decide_eq_true hg]
      unfold canBody
      refine .trans ?_ (Entails.of_eq (congrArg (fun p => W c (some (20 + (n + 1))) p Q) (if_pos rfl).symm))
      rw [W_bind]
      have hj : j < L.cnt (4 * stp i + s) := by rcases hA with h | h <;> omega
      iintro ⟨HR, HQ⟩
      iapply (canWin_spec i arg3 harg3 arg4 harg4 arg5 harg5 arg6 harg6 arg10 harg10 arg11 harg11 arg15 harg15 arg16 harg16 arg17 arg18 arg19 harg19 C L c hE hC callSkip hskip
        (some (20 + (n + 1))) (fun u hu => by cases hu; omega) hD (by omega) hg.2 hj hIe)
      isplitl [HR]; · iexact HR
      iintro %s' %j' %h HR
      have hs' : s' ≤ 8 := by rcases h.1 with h | h <;> omega
      unfold QR
      icases HR with ⟨H3, H4, H5, H6, H19, HR⟩
      iapply (W_rdn c _ 2 s rfl rfl) $$ H19
      iintro H19
      iapply (W_wrn c _ 2 s' _ rfl (upd2 _ _ _ _ _) rfl) $$ H19
      iintro H19
      iapply (W_rdn c _ 3 (j + 1) rfl rfl) $$ H19
      iintro H19
      iapply (W_wrn c _ 3 j' _ rfl (upd3 _ _ _ _ _) rfl) $$ H19
      iintro H19
      rw [top_word, s_slt (by omega) (by omega)]
      have ih' := ih (I + 1) D s' j' (some (20 + (n + 1))) (by omega) (fun u hu => by cases hu; omega) (by omega) (by omega) h.1 h.2.symm Q
      rw [← s_andi] at ih'
      unfold QR at ih'
      iapply ih'
      isplitl [H3 H4 H5 H6 H19 HR]
      · isplitl [H3]; · iexact H3
        isplitl [H4]; · iexact H4
        isplitl [H5]; · iexact H5
        isplitl [H6]; · iexact H6
        isplitl [H19]; · iexact H19
        iexact HR
      · iexact HQ
    · unfold canBody
      rw [decide_eq_false hg]
      iintro ⟨HR, HQ⟩
      iapply (W_ret c (some (20 + (n + 1))))
      have : I = D + 16 ∨ s = Lists.top (stp i) := by
        rcases hA with h | h
        · left; omega
        · right; exact h.1
      iapply HQ $$ %I %s %j %_ %⟨hD, hI, hA, hIe, this⟩ HR

variable (callSkip0 : BitVec 32 → BitVec 32 → PR F (BitVec 32 × BitVec 32))
  (hskip0 : ∀ (c : Dev nD) (bd : Option ℕ) (v : ℕ), (∀ u ∈ bd, v < u) → ∀ (a b : BitVec 32) (Q : BitVec 32 × BitVec 32 → SP F),
    W c (some v) (skipBody i arg5 harg5 arg6 harg6 callSkip0 a b) Q ⊢ W c bd (callSkip0 a b) Q)

include hE hC hskip hcan hskip0 in
/-- Filling the queue. -/
theorem topUp_spec {I D s j : ℕ} (hQ : L.Que (stp i) I D s j) {α : Type} (K : PR F α) (Q : α → SP F) :
    iprop(QR arg3 arg4 arg5 arg6 arg10 arg11 arg15 arg16 arg17 arg18 arg19 C L c I D s j
      ∗ (∀ I', ∀ s', ∀ j', ⌜L.Full (stp i) I' D s' j'⌝
          -∗ QR arg3 arg4 arg5 arg6 arg10 arg11 arg15 arg16 arg17 arg18 arg19 C L c I' D s' j' -∗ W c none K Q))
      ⊢ W c none (topUp arg19 (nw (Lists.top (stp i))) callSkip0 call K) Q := by
  obtain ⟨hI31, hD31, hs8, hj128⟩ := hQ.lt31
  obtain ⟨hD, hI, hok, hIe⟩ := hQ
  have htop := top_le (stp i)
  unfold topUp QR rdS wrS
  iintro ⟨⟨H3, H4, H5, H6, H19, HR⟩, HQ⟩
  iapply (W_rdn c _ 0 I rfl rfl) $$ H19
  iintro H19
  iapply (W_rdn c _ 1 D rfl rfl) $$ H19
  iintro H19
  iapply (W_rdn c _ 2 s rfl rfl) $$ H19
  iintro H19
  iapply (W_rdn c _ 3 j rfl rfl) $$ H19
  iintro H19
  rw [W_bind]
  iapply (skip_spec i arg5 harg5 arg6 harg6 hC _ hskip0 c 8 s j none (by omega) (fun u hu => by cases hu) hok)
  isplitl [H5]; · iexact H5
  isplitl [H6]; · iexact H6
  iintro %s' %j' %h H5 H6
  have hs' : s' ≤ 8 := by rcases h.1 with h | h <;> omega
  iapply (W_rdn c _ 2 s rfl rfl) $$ H19
  iintro H19
  iapply (W_wrn c _ 2 s' _ rfl (upd2 _ _ _ _ _) rfl) $$ H19
  iintro H19
  iapply (W_rdn c _ 3 j rfl rfl) $$ H19
  iintro H19
  iapply (W_wrn c _ 3 j' _ rfl (upd3 _ _ _ _ _) rfl) $$ H19
  iintro H19
  rw [W_bind, show (16#32 : BitVec 32) = nw 16 from rfl, s_subi hD (by omega), s_slt (by omega) (by omega), s_slt (by omega) (by omega)]
  have h2 := can_spec i arg3 harg3 arg4 harg4 arg5 harg5 arg6 harg6 arg10 harg10 arg11 harg11 arg15 harg15 arg16 harg16 arg17 arg18 arg19 harg19 C L c hE hC callSkip hskip call hcan
    16 I D s' j' none (by omega) (fun u hu => by cases hu) hD hI h.1 (by rw [h.2]; exact hIe)
  rw [← s_andi] at h2
  unfold QR at h2
  iapply h2
  isplitl [H3 H4 H5 H6 H19 HR]
  · isplitl [H3]; · iexact H3
    isplitl [H4]; · iexact H4
    isplitl [H5]; · iexact H5
    isplitl [H6]; · iexact H6
    isplitl [H19]; · iexact H19
    iexact HR
  iintro %I' %s2 %j2 %a %hF HR
  iapply HQ $$ %I' %s2 %j2 %hF HR

end

end Cert.Kernel.M
-- ==== Proof.K.Widen.lean ====
module

public import proofs.«01_k».proof.Proof.K.TopUp

@[expose] public section

noncomputable section

/-
  Widening one item into `rows`.
-/
namespace Cert.Kernel.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Facts]
open Facts₀ Facts

omit [Facts] in
theorem s_andi63 (E : ℕ) (hE : E < 2 ^ 31) : Scalar.andi (nw E) 63#32 = nw (E % 64) := by
  apply BitVec.eq_of_toNat_eq
  show (nw E &&& 63#32).toNat = _
  rw [BitVec.toNat_and, nw_toNat (by omega), nw_toNat (by omega), show (63 : ℕ) = 2 ^ 6 - 1 from rfl, Nat.and_two_pow_sub_one_eq_mod, nw_toNat (by omega)]

omit [Facts] in
theorem s_andi1 (E : ℕ) (hE : E < 2 ^ 31) : Scalar.andi (nw E) 1#32 = nw (E % 2) := by
  apply BitVec.eq_of_toNat_eq
  show (nw E &&& 1#32).toNat = _
  rw [BitVec.toNat_and, nw_toNat (by omega), nw_toNat (by omega), Nat.and_one_is_mod, nw_toNat (by omega)]

/-- The first row of the window item `E` is widened into. -/
def wbase (E : ℕ) : ℕ := (E % 64 * 64 + E / 64 % 2 * 32) * 25

theorem off19_eq {E : ℕ} (hE : E < 498112) (a b : ℕ) (ha : a ≤ 600) (hb : b < 25) : k0_off19 (nw E) (BitVec.ofNat 32 a) (BitVec.ofNat 32 b) = ![wbase E + a + b, 0] := by
  unfold k0_off19
  simp only [Scalar.indexCast]
  rw [s_andi63 _ (by omega), s_shrsi6 (by omega), s_andi1 _ (by omega), show (64#32 : BitVec 32) = nw 64 from rfl, show (32#32 : BitVec 32) = nw 32 from rfl,
    show (25#32 : BitVec 32) = nw 25 from rfl, show BitVec.ofNat 32 a = nw a from rfl, show BitVec.ofNat 32 b = nw b from rfl,
    s_muli, s_muli, s_addi, s_muli, s_addi, s_addi, nw_toNat (by omega)]
  rfl

theorem chk8_ok {E : ℕ} (hE : E < 498112) : k0_chk8 (nw E) := by
  intro r1 r2 a
  right
  have h1 := r1.isLt
  have h2 := r2.isLt
  rw [off19_eq hE _ _ (by omega) h2]
  unfold wbase
  fin_cases a
  · show (E % 64 * 64 + E / 64 % 2 * 32) * 25 + 200 * r1.val + r2.val + 25 * (8 - 1) < 102432
    omega
  · show 0 + 1 * (128 - 1) < 128
    decide

theorem cond4_eq {E : ℕ} (hE : E < 498112) : k0_cond4 (nw E) = BitVec.ofBool (decide (E / 64 < 7782)) := by
  unfold k0_cond4
  simp only
  rw [s_shrsi6 (by omega), show (7782#32 : BitVec 32) = nw 7782 from rfl, s_slt (by omega) (by omega), s_ext_ne]

theorem cond5_eq {E : ℕ} (hE : E < 498112) : k0_cond5 (nw E) = BitVec.ofBool (decide (7782 ≤ E / 64)) := by
  unfold k0_cond5
  simp only
  rw [s_shrsi6 (by omega), show (7782#32 : BitVec 32) = nw 7782 from rfl, s_sge (by omega) (by omega), s_ext_ne]

theorem off13_eq {D : ℕ} (hD : D < 2 ^ 31) : k0_off13 (nw D) = ![D % 16] := by
  unfold k0_off13
  simp only
  rw [s_remsi16 hD, nw_toNat (by omega)]
theorem off14_eq {D : ℕ} (hD : D < 2 ^ 31) : k0_off14 (nw D) = ![D % 16, 0, 0] := by
  unfold k0_off14
  simp only
  rw [s_remsi16 hD, nw_toNat (by omega)]
theorem off15_eq {D : ℕ} (hD : D < 2 ^ 31) : k0_off15 (nw D) = ![D % 16, 0, 0] := off14_eq hD
theorem off16_eq {D : ℕ} (hD : D < 2 ^ 31) : k0_off16 (nw D) = ![D % 16, 0, 0] := off14_eq hD
theorem off17_eq {D : ℕ} (hD : D < 2 ^ 31) : k0_off17 (nw D) = ![D % 16, 0, 0] := off14_eq hD
theorem off18_eq {D : ℕ} (hD : D < 2 ^ 31) : k0_off18 (nw D) = ![D % 16, 0, 0] := off14_eq hD
theorem offG_eq {D : ℕ} (hD : D < 2 ^ 31) (g : ℕ) : offG g (nw D) = ![D % 16, 0, 128 * g] := by
  unfold offG
  simp only [Scalar.indexCast]
  rw [s_remsi16 hD, nw_toNat (by omega)]
theorem offS_eq {D : ℕ} (hD : D < 2 ^ 31) (q : ℕ) : offS q (nw D) = ![D % 16, 8 * q, 0] := by
  unfold offS
  simp only [Scalar.indexCast]
  rw [s_remsi16 hD, nw_toNat (by omega)]

theorem inb3 {o : Fin 3 → ℕ} {n g A B N : ℕ} {g' : ℕ} (ho : o = ![n, g', g]) (hn : n < 16) (hA : g' + A ≤ 32) (hB : g + B ≤ N) :
    ∀ a, o a + (⟨3, ![1, A, B]⟩ : Shape).size a ≤ (⟨3, ![16, 32, N]⟩ : Shape).size a := by
  subst ho
  intro a
  fin_cases a
  · show n + 1 ≤ 16; omega
  · exact hA
  · exact hB

theorem chk7_ok {E D : ℕ} (hD : D < 2 ^ 31) : k0_chk7 (nw E) (nw D) := by
  have h16 : D % 16 < 16 := Nat.mod_lt _ (by decide)
  have hg : ∀ (g : ℕ) (o : Fin 3 → ℕ), o = offG g (nw D) → g < 24 → ∀ a, o a + S1x32x128.size a ≤ S16x32x3072.size a := fun g o ho hg =>
    inb3 (A := 32) (B := 128) (N := 3072) (ho.trans (offG_eq hD g)) h16 (by decide) (by omega)
  have hs : ∀ (g : ℕ) (o : Fin 3 → ℕ), o = offS g (nw D) → g < 4 → ∀ a, o a + S1x8x24.size a ≤ S16x32x24.size a := fun g o ho hg =>
    inb3 (A := 8) (B := 24) (N := 24) (ho.trans (offS_eq hD g)) h16 (by omega) (by decide)
  refine ⟨⟨fun _ a => ?_, fun _ => inb3 (A := 32) (B := 3072) (N := 3072) (off14_eq hD) h16 (by decide) (by decide), fun _ hinb => (rows_words (off14_eq hD) hinb).wholeWords,
    fun _ => inb3 (A := 32) (B := 24) (N := 24) (off15_eq hD) h16 (by decide) (by decide),
    fun _ => inb3 (A := 32) (B := 3072) (N := 3072) (off16_eq hD) h16 (by decide) (by decide), fun _ hinb => rows_words (off16_eq hD) hinb,
    fun _ => inb3 (A := 32) (B := 24) (N := 24) (off17_eq hD) h16 (by decide) (by decide),
    hg 0 _ rfl (by decide), hg 1 _ rfl (by decide), hg 2 _ rfl (by decide), hg 3 _ rfl (by decide), hg 4 _ rfl (by decide), hg 5 _ rfl (by decide),
    hg 6 _ rfl (by decide), hg 7 _ rfl (by decide), hg 8 _ rfl (by decide), hg 9 _ rfl (by decide), hg 10 _ rfl (by decide), hg 11 _ rfl (by decide),
    hg 12 _ rfl (by decide), hg 13 _ rfl (by decide), hg 14 _ rfl (by decide), hg 15 _ rfl (by decide), hg 16 _ rfl (by decide), hg 17 _ rfl (by decide),
    hg 18 _ rfl (by decide), hg 19 _ rfl (by decide), hg 20 _ rfl (by decide), hg 21 _ rfl (by decide), hg 22 _ rfl (by decide), hg 23 _ rfl (by decide),
    hs 0 _ rfl (by decide)⟩, hs 1 _ rfl (by decide), hs 2 _ rfl (by decide), hs 3 _ rfl (by decide)⟩
  rw [off13_eq hD]
  fin_cases a
  show D % 16 + 1 ≤ 16; omega

/-- `rows` after one store of eight rows. -/
def wst (v68 : BitVec 32) (h8 : k0_chk8 v68) (q : Fin 4) (g : Fin 25) (v : FVec F S8x128 .f32) (X : S102432x128.Idx → Elt F .f32) : S102432x128.Idx → Elt F .f32 :=
  Rect.overlay ⟨(⟨k0_off19 v68 (BitVec.ofNat 32 (200 * q.val)) (BitVec.ofNat 32 g.val), S8x128.size, ![25, 1], (k0_off19_inb v68 h8 q g)⟩ : LoadRect S102432x128), spos_25_1⟩ X
    (shapeCast S8x128 v shapeCasts_S8x128_S8x128)

/-- Group `g` of a tile's codes, widened. -/
def extG (A : S32x3072.Idx → Elt F .fp8e4m3) (g : Fin 24) : FVec F S32x128 .f32 :=
  extf .f32 (shapeCast S32x128 (fun x : S1x32x128.Idx => A (ix2 (⟨0 + (x 1).val, by have : (x 1).val < 32 := (x 1).isLt; omega⟩ : Fin 32)
    (⟨128 * g.val + (x 2).val, by have : (x 2).val < 128 := (x 2).isLt; have := g.isLt; omega⟩ : Fin 3072))) shapeCasts_S1x32x128_S32x128) bitsLt_fp8e4m3_f32

/-- Scales of rows `8 q …`, padded to whole rows. -/
def sclQ (S : S32x24.Idx → Elt F .f32) (q : Fin 4) : FVec F S8x128 .f32 :=
  concatenate S8x128 1 [⟨S8x24, shapeCast S8x24 (fun x : S1x8x24.Idx => S (ix2 (⟨8 * q.val + (x 1).val, by have : (x 1).val < 8 := (x 1).isLt; have := q.isLt; omega⟩ : Fin 32)
    (⟨0 + (x 2).val, by have : (x 2).val < 24 := (x 2).isLt; omega⟩ : Fin 24))) shapeCasts_S1x8x24_S8x24⟩,
    ⟨S8x104, broadcast S8x104 (Scalar.sitofp .f32 (0#32 : BitVec 32) : F .f32)⟩] concatenates_S8x24_S8x104_S8x128_d1

/-- `rows` after the last three stores of a group. -/
def rowsX (v68 : BitVec 32) (h8 : k0_chk8 v68) (g : Fin 25) (ext : FVec F S32x128 .f32) (v0 : FVec F S8x128 .f32) (X : S102432x128.Idx → Elt F .f32) : S102432x128.Idx → Elt F .f32 :=
  wst v68 h8 3 g (extractStridedSlice S8x128 ![24, 0] ext slices_S32x128_o24_0_S8x128) <|
  wst v68 h8 2 g (extractStridedSlice S8x128 ![16, 0] ext slices_S32x128_o16_0_S8x128) <|
  wst v68 h8 1 g v0 X

/-- `rows` after the last `n` groups. -/
def groupsX (v68 : BitVec 32) (h8 : k0_chk8 v68) (A : S32x3072.Idx → Elt F .fp8e4m3) : (n : ℕ) → n < 24 → (S102432x128.Idx → Elt F .f32) → S102432x128.Idx → Elt F .f32
  | 0, _, X => X
  | n + 1, hn, X => groupsX v68 h8 A n (by omega) <|
      rowsX v68 h8 ⟨24 - (n + 1), by omega⟩ (extG A ⟨24 - (n + 1), by omega⟩) (extractStridedSlice S8x128 ![8, 0] (extG A ⟨24 - (n + 1), by omega⟩) slices_S32x128_o8_0_S8x128) <|
      wst v68 h8 0 ⟨24 - (n + 1), by omega⟩ (extractStridedSlice S8x128 ![0, 0] (extG A ⟨24 - (n + 1), by omega⟩) slices_S32x128_o0_0_S8x128) X

/-- `rows` after a tile is widened into it. -/
def widX (v68 : BitVec 32) (h8 : k0_chk8 v68) (A : S32x3072.Idx → Elt F .fp8e4m3) (S : S32x24.Idx → Elt F .f32) (X : S102432x128.Idx → Elt F .f32) : S102432x128.Idx → Elt F .f32 :=
  wst v68 h8 3 24 (sclQ S 3) <| wst v68 h8 2 24 (sclQ S 2) <| wst v68 h8 1 24 (sclQ S 1) <| wst v68 h8 0 24 (sclQ S 0) <|
  groupsX v68 h8 A 23 (by decide) <|
  rowsX v68 h8 0 (extG A 0) (extractStridedSlice S8x128 ![8, 0] (extG A 0) slices_S32x128_o8_0_S8x128) <|
  wst v68 h8 0 0 (extractStridedSlice S8x128 ![0, 0] (extG A 0) slices_S32x128_o0_0_S8x128) X

section
variable (c : Dev nD) (bd : Option ℕ) {α : Type} {Q : α → SP F}
  (arg13 : Memref sig .tc .vmem S102432x128 .f32) (arg15 : Memref sig .tc .vmem S16x32x3072 .fp8e4m3) (arg16 : Memref sig .tc .vmem S16x32x24 .f32)

theorem W_wStore {v68 : BitVec 32} {h8 : k0_chk8 v68} {q : Fin 4} {g : Fin 25} {v : FVec F S8x128 .f32} {K : PR F α} {X : S102432x128.Idx → Elt F .f32} :
    owns (c : Thread nD τ) arg13 fullShare X ⊢ iprop((owns (c : Thread nD τ) arg13 fullShare (wst v68 h8 q g v X) -∗ W c bd K Q)
      -∗ W c bd (wStore arg13 v68 h8 q g v K) Q) := by
  unfold wStore
  iintro H HK
  iapply (W_loadb c bd) $$ H
  iintro H
  iapply (W_storeb c bd) $$ H
  iintro H
  iapply HK
  iexact H

theorem W_wRows {v68 : BitVec 32} {h8 : k0_chk8 v68} {g : Fin 25} {ext : FVec F S32x128 .f32} {v0 : FVec F S8x128 .f32} {K : PR F α} {X : S102432x128.Idx → Elt F .f32} :
    owns (c : Thread nD τ) arg13 fullShare X ⊢ iprop((owns (c : Thread nD τ) arg13 fullShare (rowsX v68 h8 g ext v0 X) -∗ W c bd K Q)
      -∗ W c bd (wRows arg13 v68 h8 g ext v0 K) Q) := by
  unfold wRows
  iintro H HK
  iapply (W_wStore c bd arg13) $$ H
  iintro H
  iapply (W_wStore c bd arg13) $$ H
  iintro H
  iapply (W_wStore c bd arg13) $$ H
  iintro H
  iapply HK
  iexact H

theorem W_wGroups {v68 : BitVec 32} {h8 : k0_chk8 v68} {D : ℕ} (hD : D < 2 ^ 31) {h7 : k0_chk7 v68 (nw D)} {A : S32x3072.Idx → Elt F .fp8e4m3} {K : PR F α} {sh : PosShare TreeShare} :
    ∀ (n : ℕ) (hn : n < 24) (X : S102432x128.Idx → Elt F .f32),
    iprop(owns (c : Thread nD τ) arg13 fullShare X ∗ owns (c : Thread nD τ) (slotM arg15 squeezes_S1x32x3072_S32x3072 ⟨D % 16, Nat.mod_lt _ (by decide)⟩) sh A)
      ⊢ iprop((owns (c : Thread nD τ) arg13 fullShare (groupsX v68 h8 A n hn X)
          -∗ owns (c : Thread nD τ) (slotM arg15 squeezes_S1x32x3072_S32x3072 ⟨D % 16, Nat.mod_lt _ (by decide)⟩) sh A -∗ W c bd K Q)
      -∗ W c bd (wGroups arg13 arg15 v68 h8 (nw D) h7 K n hn) Q) := by
  intro n
  induction n with
  | zero =>
    intro hn X
    unfold wGroups groupsX
    iintro ⟨H, HS⟩ HK
    iapply HK $$ H HS
  | succ n ih =>
    intro hn X
    unfold wGroups groupsX extG
    iintro ⟨H, HS⟩ HK
    iapply (W_slot_load (N := 3072) arg15 squeezes_S1x32x3072_S32x3072 ⟨D % 16, Nat.mod_lt _ (by decide)⟩ c bd (A := 32) (B := 128) 0 (128 * (24 - (n + 1))) (offG_eq hD _)
      (fun i => by have := i.isLt; omega) (fun i => by have := i.isLt; omega)) $$ HS
    iintro HS
    iapply (W_wStore c bd arg13) $$ H
    iintro H
    iapply (W_wRows c bd arg13) $$ H
    iintro H
    iapply (ih _ _) $$ [H HS]
    · isplitl [H]; · iexact H
      iexact HS
    iexact HK

theorem W_wScale {v68 : BitVec 32} {h8 : k0_chk8 v68} {D : ℕ} (hD : D < 2 ^ 31) {h7 : k0_chk7 v68 (nw D)} {S : S32x24.Idx → Elt F .f32} {K : PR F α} {sh : PosShare TreeShare}
    {q : Fin 4} {X : S102432x128.Idx → Elt F .f32} :
    iprop(owns (c : Thread nD τ) arg13 fullShare X ∗ owns (c : Thread nD τ) (slotM arg16 squeezes_S1x32x24_S32x24 ⟨D % 16, Nat.mod_lt _ (by decide)⟩) sh S)
      ⊢ iprop((owns (c : Thread nD τ) arg13 fullShare (wst v68 h8 q 24 (sclQ S q) X)
          -∗ owns (c : Thread nD τ) (slotM arg16 squeezes_S1x32x24_S32x24 ⟨D % 16, Nat.mod_lt _ (by decide)⟩) sh S -∗ W c bd K Q)
      -∗ W c bd (wScale arg13 arg16 v68 h8 (nw D) h7 q K) Q) := by
  unfold wScale sclQ
  iintro ⟨H, HS⟩ HK
  iapply (W_slot_load (N := 24) arg16 squeezes_S1x32x24_S32x24 ⟨D % 16, Nat.mod_lt _ (by decide)⟩ c bd (A := 8) (B := 24) (8 * q.val) 0 (offS_eq hD _)
    (fun i => by have := i.isLt; have := q.isLt; omega) (fun i => by have := i.isLt; omega)) $$ HS
  iintro HS
  iapply (W_wStore c bd arg13) $$ H
  iintro H
  iapply HK $$ H HS

end

/-- What the tail's codes come to in a slot. -/
def tailA (X8 : S32x3072.Idx → Elt F .fp8e4m3) : S32x3072.Idx → Elt F .fp8e4m3 :=
  fun x => shapeCast S1x32x3072 (shapeCast S32x3072 (fun y => X8 ((Rect.unit (s := S32x3072) ![0, 0] S32x3072.size inb_S32x3072_S32x3072_0_0).toLoadRect.idx y)) shapeCasts_S32x3072_S32x3072)
    shapeCasts_S32x3072_S1x32x3072 (ix3 (0 : Fin 1) (x 0) (x 1))

/-- What the tail's scales come to in a slot. -/
def tailS (X9 : S32x24.Idx → Elt F .f32) : S32x24.Idx → Elt F .f32 :=
  fun x => shapeCast S1x32x24 (fun y => X9 ((Rect.unit (s := S32x24) ![0, 0] S32x24.size inb_S32x24_S32x24_0_0).toLoadRect.idx y)) shapeCasts_S32x24_S1x32x24 (ix3 (0 : Fin 1) (x 0) (x 1))

/-- Tile `T`'s codes. -/
def codesOf (C : Cts F) (X8 : S32x3072.Idx → Elt F .fp8e4m3) (T : ℕ) : S32x3072.Idx → Elt F .fp8e4m3 :=
  if hT : T * 32 + 32 ≤ 249037 then tileC C.Y hT else tailA X8

/-- Tile `T`'s scales. -/
def scalesOf (C : Cts F) (X9 : S32x24.Idx → Elt F .f32) (T : ℕ) : S32x24.Idx → Elt F .f32 :=
  if hT : T * 32 + 32 ≤ 249037 then tileC C.Sc hT else tailS X9

section
variable (i : grid0.Coords)
    (arg3 : Memref sig .tc .smem S1x4x128 .i32) (harg3 : arg3.IsWhole) (arg4 : Memref sig .tc .smem S1x4x128 .i32) (harg4 : arg4.IsWhole)
    (arg5 : Memref sig .tc .smem S1x1x4 .i32) (harg5 : arg5.IsWhole) (arg6 : Memref sig .tc .smem S1x1x4 .i32) (harg6 : arg6.IsWhole)
    (arg8 : Memref sig .tc .vmem S32x3072 .fp8e4m3) (arg9 : Memref sig .tc .vmem S32x24 .f32)
    (arg10 : Memref sig .tc .hbm S249037x3072 .fp8e4m3) (harg10 : arg10.IsWhole) (arg11 : Memref sig .tc .hbm S249037x24 .f32) (harg11 : arg11.IsWhole)
    (arg13 : Memref sig .tc .vmem S102432x128 .f32)
    (arg15 : Memref sig .tc .vmem S16x32x3072 .fp8e4m3) (harg15 : arg15.IsWhole) (arg16 : Memref sig .tc .vmem S16x32x24 .f32) (harg16 : arg16.IsWhole)
    (arg17 arg18 : DmaSems sig S16) (arg19 : Memref sig .tc .smem S4 .i32) (harg19 : arg19.IsWhole)
    (C : Cts F) (L : Lists) (c : Dev nD)

/-- A slot holding a tile. -/
def slotD (k : Fin 16) (A : S32x3072.Idx → Elt F .fp8e4m3) (S : S32x24.Idx → Elt F .f32) : SP F :=
  iprop((owns (c : Thread nD τ) (slotM arg15 squeezes_S1x32x3072_S32x3072 k) fullShare A ∗ semVal ((c : Thread nD τ), .dma (semM arg17 k)) 0 ∗ owns (c : Thread nD τ) arg10 (C.q k) C.Y)
    ∗ (owns (c : Thread nD τ) (slotM arg16 squeezes_S1x32x24_S32x24 k) fullShare S ∗ semVal ((c : Thread nD τ), .dma (semM arg18 k)) 0 ∗ owns (c : Thread nD τ) arg11 (C.q k) C.Sc))

theorem wOpen_spec {off : Fin 3 → ℕ} {hoff : ∀ a, off a + S1x1x1.size a ≤ S1x4x128.size a} {E D : ℕ} (hent : ∀ y, C.X3 ((Rect.unit (s := S1x4x128) off S1x1x1.size hoff).idx y) = nw E)
    (hE : E < 498112) (hD : D < 2 ^ 31) {v : Fin 4 → ℕ} (hv : v 1 = D) {X8 : S32x3072.Idx → Elt F .fp8e4m3} {X9 : S32x24.Idx → Elt F .f32} {q8 q9 : PosShare TreeShare}
    {X : S102432x128.Idx → Elt F .f32} (Q : (Σ' (v68 : Elt F .i32) (k0_hw8 : k0_chk8 v68) (v71 : Elt F .i32) (k0_hw7 : k0_chk7 v68 v71) (v72 : BitVec 32) (v83 : BitVec 32) (v87 : FVec F S32x128 .f32), FVec F S8x128 .f32) → SP F) :
    iprop((owns (c : Thread nD τ) arg3 fullShare C.X3 ∗ owns (c : Thread nD τ) arg19 fullShare (stV v : S4.Idx → Elt F .i32) ∗ owns (c : Thread nD τ) arg8 q8 X8
        ∗ owns (c : Thread nD τ) arg9 q9 X9 ∗ owns (c : Thread nD τ) arg13 fullShare X
        ∗ slotR arg10 arg11 arg15 arg16 arg17 arg18 C c ⟨D % 16, Nat.mod_lt _ (by decide)⟩ (if E / 64 < 7782 then some (E / 64) else none) ∗ ow c)
      ∗ (∀ v72, ∀ v83,
          (owns (c : Thread nD τ) arg3 fullShare C.X3 ∗ owns (c : Thread nD τ) arg19 fullShare (stV v : S4.Idx → Elt F .i32) ∗ owns (c : Thread nD τ) arg8 q8 X8
            ∗ owns (c : Thread nD τ) arg9 q9 X9
            ∗ owns (c : Thread nD τ) arg13 fullShare (wst (nw E) (chk8_ok hE) 0 0 (extractStridedSlice S8x128 ![0, 0] (extG (codesOf C X8 (E / 64)) 0) slices_S32x128_o0_0_S8x128) X)
            ∗ slotD arg10 arg11 arg15 arg16 arg17 arg18 C c ⟨D % 16, Nat.mod_lt _ (by decide)⟩ (codesOf C X8 (E / 64)) (scalesOf C X9 (E / 64)) ∗ ow c)
          -∗ Q ⟨nw E, chk8_ok hE, nw D, chk7_ok hD, v72, v83, extG (codesOf C X8 (E / 64)) 0, extractStridedSlice S8x128 ![8, 0] (extG (codesOf C X8 (E / 64)) 0) slices_S32x128_o8_0_S8x128⟩))
      ⊢ W c none (wOpen arg3 arg8 arg9 arg10 harg10 arg11 arg13 arg15 harg15 arg16 arg17 arg18 arg19 off hoff) Q := by
  unfold wOpen
  iintro ⟨⟨H3, H19, H8, H9, H13, HS, HO⟩, HQ⟩
  iapply (W_smem c none) $$ H3
  iintro H3
  rw [hent]
  iapply (W_assume c none (chk8_ok hE))
  iapply (W_rdn c none 1 D rfl hv) $$ H19
  iintro H19
  iapply (W_assume c none (chk7_ok hD))
  by_cases hT : E / 64 < 7782
  · rw [if_pos hT]
    rw [dif_pos (show k0_cond4 _ = 1#1 by rw [cond4_eq hE, ofBool_eq_one]; exact hT)]
    have hT' : E / 64 * 32 + 32 ≤ 249037 := by omega
    rw [show codesOf C X8 (E / 64) = tileC C.Y hT' from dif_pos hT', show scalesOf C X9 (E / 64) = tileC C.Sc hT' from dif_pos hT']
    unfold slotR
    icases HS with ⟨%hT2, HS1, HS2⟩
    iapply (W_waitS (N := 3072) (R := 249037) arg15 squeezes_S1x32x3072_S32x3072 arg10 arg17 ⟨D % 16, Nat.mod_lt _ (by decide)⟩ c (C.q _) C.Y none hT' (off13_eq hD) (off14_eq hD)) $$ [HS1 HO]
    · isplitl [HS1]; · iexact HS1
      iexact HO
    iintro ⟨HA, HvA, HY, HO⟩
    iapply (W_waitS (N := 24) (R := 249037) arg16 squeezes_S1x32x24_S32x24 arg11 arg18 ⟨D % 16, Nat.mod_lt _ (by decide)⟩ c (C.q _) C.Sc none hT' (off13_eq hD) (off15_eq hD)) $$ [HS2 HO]
    · isplitl [HS2]; · iexact HS2
      iexact HO
    iintro ⟨HB, HvB, HSc, HO⟩
    rw [dif_neg (show ¬ k0_cond5 _ = 1#1 by rw [cond5_eq hE, ofBool_eq_one]; omega)]
    iapply (W_slot_load (N := 3072) arg15 squeezes_S1x32x3072_S32x3072 ⟨D % 16, Nat.mod_lt _ (by decide)⟩ c none (A := 32) (B := 128) 0 (128 * (0 : Fin 24).val) (off18_eq hD)
      (fun i => by have := i.isLt; omega) (fun i => by have := i.isLt; show 128 * 0 + _ < _; omega)) $$ HA
    iintro HA
    iapply (W_loadb c none) $$ H13
    iintro H13
    iapply (W_storeb c none) $$ H13
    iintro H13
    iapply (W_ret c none)
    unfold extG
    iapply HQ
    isplitl [H3]; · iexact H3
    isplitl [H19]; · iexact H19
    isplitl [H8]; · iexact H8
    isplitl [H9]; · iexact H9
    isplitl [H13]; · iexact H13
    isplitl [HA HvA HY HB HvB HSc]
    · unfold slotD
      isplitl [HA HvA HY]
      · isplitl [HA]; · iexact HA
        isplitl [HvA]; · iexact HvA
        iexact HY
      · isplitl [HB]; · iexact HB
        isplitl [HvB]; · iexact HvB
        iexact HSc
    iexact HO
  · rw [if_neg hT]
    rw [dif_neg (show ¬ k0_cond4 _ = 1#1 by rw [cond4_eq hE, ofBool_eq_one]; exact hT)]
    have hT' : ¬ E / 64 * 32 + 32 ≤ 249037 := by omega
    rw [show codesOf C X8 (E / 64) = tailA X8 from dif_neg hT', show scalesOf C X9 (E / 64) = tailS X9 from dif_neg hT']
    generalize hA' : tailA X8 = A'
    generalize hS' : tailS X9 = S'
    unfold slotR idle1
    icases HS with ⟨⟨⟨%A0, HA⟩, HvA, HY⟩, ⟨⟨%S0, HB⟩, HvB, HSc⟩⟩
    rw [dif_pos (show k0_cond5 _ = 1#1 by rw [cond5_eq hE, ofBool_eq_one]; omega)]
    iapply (W_loadb c none) $$ H8
    iintro H8
    iapply (W_slot_load (N := 3072) arg15 squeezes_S1x32x3072_S32x3072 ⟨D % 16, Nat.mod_lt _ (by decide)⟩ c none (A := 32) (B := 3072) 0 0 (off16_eq hD)
      (fun i => by have := i.isLt; omega) (fun i => by have := i.isLt; omega)) $$ HA
    iintro HA
    iapply (W_slot_store (N := 3072) arg15 squeezes_S1x32x3072_S32x3072 ⟨D % 16, Nat.mod_lt _ (by decide)⟩ c none (off16_eq hD)) $$ HA
    iintro HA
    ihave HA : owns (c : Thread nD τ) (slotM arg15 squeezes_S1x32x3072_S32x3072 ⟨D % 16, Nat.mod_lt _ (by decide)⟩) fullShare A' $$ [HA]
    · rw [← hA']; iexact HA
    iapply (W_loadb c none) $$ H9
    iintro H9
    iapply (W_slot_load (N := 24) arg16 squeezes_S1x32x24_S32x24 ⟨D % 16, Nat.mod_lt _ (by decide)⟩ c none (A := 32) (B := 24) 0 0 (off17_eq hD)
      (fun i => by have := i.isLt; omega) (fun i => by have := i.isLt; omega)) $$ HB
    iintro HB
    iapply (W_slot_store (N := 24) arg16 squeezes_S1x32x24_S32x24 ⟨D % 16, Nat.mod_lt _ (by decide)⟩ c none (off17_eq hD)) $$ HB
    iintro HB
    ihave HB : owns (c : Thread nD τ) (slotM arg16 squeezes_S1x32x24_S32x24 ⟨D % 16, Nat.mod_lt _ (by decide)⟩) fullShare S' $$ [HB]
    · rw [← hS']; iexact HB
    iapply (W_slot_load (N := 3072) arg15 squeezes_S1x32x3072_S32x3072 ⟨D % 16, Nat.mod_lt _ (by decide)⟩ c none (A := 32) (B := 128) 0 (128 * (0 : Fin 24).val) (off18_eq hD)
      (fun i => by have := i.isLt; omega) (fun i => by have := i.isLt; show 128 * 0 + _ < _; omega)) $$ HA
    iintro HA
    iapply (W_loadb c none) $$ H13
    iintro H13
    iapply (W_storeb c none) $$ H13
    iintro H13
    iapply (W_ret c none)
    unfold extG
    iapply HQ
    isplitl [H3]; · iexact H3
    isplitl [H19]; · iexact H19
    isplitl [H8]; · iexact H8
    isplitl [H9]; · iexact H9
    isplitl [H13]; · iexact H13
    isplitl [HA HvA HY HB HvB HSc]
    · unfold slotD
      isplitl [HA HvA HY]
      · isplitl [HA]; · iexact HA
        isplitl [HvA]; · iexact HvA
        iexact HY
      · isplitl [HB]; · iexact HB
        isplitl [HvB]; · iexact HvB
        iexact HSc
    iexact HO

variable (hE : Ents L (stp i) C.X3 C.X4) (hC : Counts L (stp i) C.X5 C.X6)
  (cs2 : (v68 : BitVec 32) → k0_chk8 v68 → (v71 : BitVec 32) → k0_chk7 v68 v71 →
    (v67 v68 : Elt F .i32) → k0_chk2 v67 v68 → (v73 v78 : Elt F .i32) → k0_chk3 v67 v73 v78 → (v81 : Elt F .i32) → k0_chk4 v67 v73 v78 v81 → BitVec 32 → BitVec 32 → PR F (BitVec 32 × BitVec 32))
  (hcs2 : ∀ w68 h8 w71 h7 v67 v68 h2 v73 v78 h3 v81 h4 (c : Dev nD) (bd : Option ℕ) (v : ℕ), (∀ u ∈ bd, v < u) → ∀ (a b : BitVec 32) (Q : BitVec 32 × BitVec 32 → SP F),
    W c (some v) (skipBody i arg5 harg5 arg6 harg6 (cs2 w68 h8 w71 h7 v67 v68 h2 v73 v78 h3 v81 h4) a b) Q ⊢ W c bd (cs2 w68 h8 w71 h7 v67 v68 h2 v73 v78 h3 v81 h4 a b) Q)
  (callCan : (v68 : BitVec 32) → k0_chk8 v68 → (v71 : BitVec 32) → k0_chk7 v68 v71 → BitVec 1 → PR F (BitVec 1))
  (hcan : ∀ w68 h8 w71 h7 (c : Dev nD) (bd : Option ℕ) (v : ℕ), (∀ u ∈ bd, v < u) → ∀ (a : BitVec 1) (Q : BitVec 1 → SP F),
    W c (some v) (canBody i arg19 harg19 arg3 harg3 arg4 harg4 arg17 arg15 harg15 arg10 harg10 arg18 arg16 harg16 arg11 harg11 arg5 harg5 arg6 harg6 a (cs2 w68 h8 w71 h7) (callCan w68 h8 w71 h7)) Q
      ⊢ W c bd (callCan w68 h8 w71 h7 a) Q)
  (callSkip : (v68 : BitVec 32) → k0_chk8 v68 → (v71 : BitVec 32) → k0_chk7 v68 v71 → BitVec 32 → BitVec 32 → PR F (BitVec 32 × BitVec 32))
  (hskip : ∀ w68 h8 w71 h7 (c : Dev nD) (bd : Option ℕ) (v : ℕ), (∀ u ∈ bd, v < u) → ∀ (a b : BitVec 32) (Q : BitVec 32 × BitVec 32 → SP F),
    W c (some v) (skipBody i arg5 harg5 arg6 harg6 (callSkip w68 h8 w71 h7) a b) Q ⊢ W c bd (callSkip w68 h8 w71 h7 a b) Q)

include hE hC hcs2 hcan hskip in
theorem widen_spec {off : Fin 3 → ℕ} {hoff : ∀ a, off a + S1x1x1.size a ≤ S1x4x128.size a} {E D I s j : ℕ} (hent : ∀ y, C.X3 ((Rect.unit (s := S1x4x128) off S1x1x1.size hoff).idx y) = nw E)
    (hE' : E < 498112) (hED : L.item D = E) (hF : L.Full (stp i) I D s j) (hDI : D < I)
    {X8 : S32x3072.Idx → Elt F .fp8e4m3} {X9 : S32x24.Idx → Elt F .f32} {q8 q9 : PosShare TreeShare} {X : S102432x128.Idx → Elt F .f32} (Q : BitVec 32 → SP F) :
    iprop((QR arg3 arg4 arg5 arg6 arg10 arg11 arg15 arg16 arg17 arg18 arg19 C L c I D s j ∗ owns (c : Thread nD τ) arg8 q8 X8
        ∗ owns (c : Thread nD τ) arg9 q9 X9 ∗ owns (c : Thread nD τ) arg13 fullShare X ∗ ow c)
      ∗ (∀ I', ∀ s', ∀ j', ⌜L.Full (stp i) I' (D + 1) s' j'⌝
          -∗ (QR arg3 arg4 arg5 arg6 arg10 arg11 arg15 arg16 arg17 arg18 arg19 C L c I' (D + 1) s' j' ∗ owns (c : Thread nD τ) arg8 q8 X8
              ∗ owns (c : Thread nD τ) arg9 q9 X9
              ∗ owns (c : Thread nD τ) arg13 fullShare (widX (nw E) (chk8_ok hE') (codesOf C X8 (E / 64)) (scalesOf C X9 (E / 64)) X) ∗ ow c)
          -∗ Q 0#32))
      ⊢ W c none (widen arg3 arg8 arg9 arg10 harg10 arg11 arg13 arg15 harg15 arg16 arg17 arg18 arg19 off hoff (nw (Lists.top (stp i))) callSkip callCan) Q := by
  obtain ⟨hI31, hD31, hs8, hj128⟩ := hF.que.lt31
  have hD : D < 2 ^ 31 := by omega
  have htl : L.tl D = if E / 64 < 7782 then some (E / 64) else none := by unfold Lists.tl Lists.tile; rw [hED]
  unfold widen
  rw [W_bind]
  iintro ⟨⟨HQR, H8, H9, H13, HO⟩, HQ⟩
  unfold QR
  icases HQR with ⟨H3, H4, H5, H6, H19, ⟨%f, %hf, HR⟩⟩
  have hdone := Lists.Slots.done hf hF.2.1 hDI
  unfold ring
  ihave ⟨Hk, HR⟩ := (ring_take (slotR arg10 arg11 arg15 arg16 arg17 arg18 C c) f ⟨D % 16, Nat.mod_lt _ (by decide)⟩) $$ HR
  ispecialize HR $$ %(none : Option ℕ)
  rw [hdone.1, htl]
  iapply (wOpen_spec arg3 arg8 arg9 arg10 harg10 arg11 arg13 arg15 harg15 arg16 arg17 arg18 arg19 C c hent hE' hD (v := ![I, D, s, j]) rfl)
  isplitl [H3 H19 H8 H9 H13 Hk HO]
  · isplitl [H3]; · iexact H3
    isplitl [H19]; · iexact H19
    isplitl [H8]; · iexact H8
    isplitl [H9]; · iexact H9
    isplitl [H13]; · iexact H13
    isplitl [Hk]; · iexact Hk
    iexact HO
  iintro %v72 %v83 ⟨H3, H19, H8, H9, H13, HS, HO⟩
  unfold slotD
  icases HS with ⟨⟨HA, HvA, HY⟩, ⟨HB, HvB, HSc⟩⟩
  iapply (W_wRows c none arg13) $$ H13
  iintro H13
  iapply (W_wGroups c none arg13 arg15 hD 23 _) $$ [H13 HA]
  · isplitl [H13]; · iexact H13
    iexact HA
  iintro H13 HA
  iapply (W_wScale c none arg13 arg16 hD) $$ [H13 HB]
  · isplitl [H13]; · iexact H13
    iexact HB
  iintro H13 HB
  iapply (W_wScale c none arg13 arg16 hD) $$ [H13 HB]
  · isplitl [H13]; · iexact H13
    iexact HB
  iintro H13 HB
  iapply (W_wScale c none arg13 arg16 hD) $$ [H13 HB]
  · isplitl [H13]; · iexact H13
    iexact HB
  iintro H13 HB
  iapply (W_wScale c none arg13 arg16 hD) $$ [H13 HB]
  · isplitl [H13]; · iexact H13
    iexact HB
  iintro H13 HB
  ihave HR := HR $$ [HA HvA HY HB HvB HSc]
  · unfold slotR idle1
    simp only
    isplitl [HA HvA HY]
    · isplitl [HA]; · iexists _; iexact HA
      isplitl [HvA]; · iexact HvA
      iexact HY
    · isplitl [HB]; · iexists _; iexact HB
      isplitl [HvB]; · iexact HvB
      iexact HSc
  unfold rdS wrS
  iapply (W_rdn c _ 1 D rfl rfl) $$ H19
  iintro H19
  iapply (W_rdn c _ 1 D rfl rfl) $$ H19
  iintro H19
  iapply (W_wrn c _ 1 (D + 1) _ rfl (upd1 _ _ _ _ _) (s_addi D 1)) $$ H19
  iintro H19
  have hQ : L.Que (stp i) I (D + 1) s j := ⟨hDI, by have := hF.2.1; omega, hF.2.2.1.ok, hF.2.2.2.1⟩
  iapply (topUp_spec i arg3 harg3 arg4 harg4 arg5 harg5 arg6 harg6 arg10 harg10 arg11 harg11 arg15 harg15 arg16 harg16 arg17 arg18 arg19 harg19 C L c hE hC
    (cs2 (nw E) (chk8_ok hE') (nw D) (chk7_ok hD)) (hcs2 (nw E) (chk8_ok hE') (nw D) (chk7_ok hD)) (callCan (nw E) (chk8_ok hE') (nw D) (chk7_ok hD)) (hcan (nw E) (chk8_ok hE') (nw D) (chk7_ok hD))
    (callSkip (nw E) (chk8_ok hE') (nw D) (chk7_ok hD)) (hskip (nw E) (chk8_ok hE') (nw D) (chk7_ok hD)) hQ)
  isplitl [H3 H4 H5 H6 H19 HR]
  · unfold QR ring
    isplitl [H3]; · iexact H3
    isplitl [H4]; · iexact H4
    isplitl [H5]; · iexact H5
    isplitl [H6]; · iexact H6
    isplitl [H19]; · iexact H19
    iexists _
    isplitr
    · ipureintro; exact hdone.2
    · iexact HR
  iintro %I' %s' %j' %hF' HR
  iapply (W_ret c none)
  iapply HQ $$ %I' %s' %j' %hF'
  unfold QR
  isplitl [HR]; · iexact HR
  isplitl [H8]; · iexact H8
  isplitl [H9]; · iexact H9
  isplitl [H13]; · iexact H13
  iexact HO

end

end Cert.Kernel.M
-- ==== Proof.K.Tokens.lean ====
module

public import proofs.«01_k».proof.Proof.K.Base
public import proofs.«01_k».proof.Proof.K.Model

@[expose] public section

noncomputable section

/-
  The tokens' sums, and the finish.
-/
namespace Cert.Kernel.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]
open Facts₀ Facts

/-- A window address a route may name. -/
theorem chk21_ok {v : BitVec 32} (h : v.toNat ≤ 102400) : k0_chk21 v := by
  have e : ∀ n : ℕ, n ≤ 24 → (Scalar.indexCast (Scalar.addi v (BitVec.ofNat 32 n))).toNat = v.toNat + n := by
    intro n hn
    show (v + BitVec.ofNat 32 n).toNat = _
    rw [BitVec.toNat_add, BitVec.toNat_ofNat]
    omega
  refine ⟨fun a => ?_, fun r a => ?_⟩
  · fin_cases a
    · show (Scalar.indexCast (Scalar.addi v (BitVec.ofNat 32 24))).toNat + 1 ≤ 102432
      rw [e 24 (by decide)]; omega
    · show 0 + 128 ≤ 128; decide
  · have := r.isLt
    fin_cases a
    · show (Scalar.indexCast (Scalar.addi v (BitVec.ofNat 32 (8 * r.val)))).toNat + 8 ≤ 102432
      rw [e (8 * r.val) (by omega)]; omega
    · show 0 + 128 ≤ 128; decide

/-- The word of a token's route. -/
def wd {e : EltTy} (X : S8x128.Idx → Elt F e) (s t : Fin 4) (u k : Fin 8) : Elt F e :=
  X ((Rect.unit (s := S8x128) (tokOff s.val t.val u.val k.val) S1x1.size (tokOff_inb s t u k)).idx (Shape.Idx.first (numel1_S1x1.symm ▸ Nat.one_pos)))

/-- A route's factors, one row to each of its rows. -/
def facR (X : S102432x128.Idx → Elt F .f32) (a : BitVec 32) (h : k0_chk21 a) (w : F .f32) : FVec F S8x128 .f32 :=
  broadcastTo S8x128 (shapeCast S1x128 (mulf (fun x => X ((Rect.unit (s := S102432x128) (k0_off105 a) S1x128.size (k0_off105_inb a h)).toLoadRect.idx x) : FVec F S1x128 .f32) (broadcast S1x128 w)) shapeCasts_S1x128_S1x128) broadcasts_S1x128_S8x128

/-- Rows `8 m …` of a route, times their factors. -/
def rowR (X : S102432x128.Idx → Elt F .f32) (a : BitVec 32) (h : k0_chk21 a) (w : F .f32) (m : Fin 3) (v : IVec S8x128 32) : FVec F S8x128 .f32 :=
  mulf (fun x => X ((Rect.unit (s := S102432x128) (k0_off107 a (BitVec.ofNat 32 (8 * m.val))) S8x128.size (k0_off107_inb a h m)).toLoadRect.idx x) : FVec F S8x128 .f32) (gth (facR X a h w) v)

section
variable (arg1 : Memref sig .tc .smem S8x128 .i32) (arg2 : Memref sig .tc .smem S8x128 .f32) (arg7 : Memref sig .tc .vmem S128x3072 .bf16)
  (arg12 : Memref sig .tc .vmem S128x3072 .bf16) (harg12 : arg12.IsWhole) (arg13 : Memref sig .tc .vmem S102432x128 .f32) (arg14 : Memref sig .tc .vmem S3200x128 .f32)
  (X1 : S8x128.Idx → Elt F .i32) (X2 : S8x128.Idx → Elt F .f32) (X13 : S102432x128.Idx → Elt F .f32) (hX1 : ∀ x, k0_chk21 (X1 x))
  (v23 v26 v29 : IVec S8x128 32) (c : Dev nD)

/-- One route's rows. -/
def rt (s t : Fin 4) (u k : Fin 8) (m : Fin 3) (v : IVec S8x128 32) : FVec F S8x128 .f32 := rowR X13 (wd X1 s t u k) (hX1 _) (wd X2 s t u k) m v

/-- The last `n` routes added. -/
def rts (s t : Fin 4) (u : Fin 8) (m : Fin 3) (v : IVec S8x128 32) : (n : ℕ) → n < 8 → FVec F S8x128 .f32 → FVec F S8x128 .f32
  | 0, _, a => a
  | n + 1, hn, a => rts s t u m v n (by omega) (addf a (rt X1 X2 X13 hX1 s t u ⟨8 - (n + 1), by omega⟩ m v))

/-- `acc` after a store of eight rows. -/
def accW (s t : Fin 4) (u : Fin 8) (m : Fin 3) (v : FVec F S8x128 .f32) (A : S3200x128.Idx → Elt F .f32) : S3200x128.Idx → Elt F .f32 :=
  (Rect.unit (s := S3200x128) (accOff s.val t.val u.val m.val) S8x128.size (accOff_inb s t u m)).overlay A (shapeCast S8x128 v shapeCasts_S8x128_S8x128)

/-- A token's sum. -/
def tokV (s t : Fin 4) (u : Fin 8) (m : Fin 3) (v : IVec S8x128 32) : FVec F S8x128 .f32 :=
  rts X1 X2 X13 hX1 s t u m v 7 (by decide) (rt X1 X2 X13 hX1 s t u 0 m v)

/-- `acc` after a token. -/
def tokX (s t : Fin 4) (u : Fin 8) (A : S3200x128.Idx → Elt F .f32) : S3200x128.Idx → Elt F .f32 :=
  accW s t u 2 (tokV X1 X2 X13 hX1 s t u 2 v29) <| accW s t u 1 (tokV X1 X2 X13 hX1 s t u 1 v26) <| accW s t u 0 (tokV X1 X2 X13 hX1 s t u 0 v23) A

/-- `acc` after the last `n` tokens of a trip. -/
def toksX (s t : Fin 4) : (n : ℕ) → n ≤ 8 → (S3200x128.Idx → Elt F .f32) → S3200x128.Idx → Elt F .f32
  | 0, _, A => A
  | n + 1, hn, A => toksX s t n (by omega) (tokX X1 X2 X13 hX1 v23 v26 v29 s t ⟨8 - (n + 1), by omega⟩ A)

/-- `acc` after the first `n` trips of a sub-list's tokens. -/
def subX (s : Fin 4) (A : S3200x128.Idx → Elt F .f32) : ℕ → S3200x128.Idx → Elt F .f32
  | 0 => A
  | n + 1 => if h : n < 4 then toksX X1 X2 X13 hX1 v23 v26 v29 s ⟨n, h⟩ 8 le_rfl (subX s A n) else subX s A n

/-- What the tokens' loops use. -/
def TR (q1 q2 : PosShare TreeShare) (A : S3200x128.Idx → Elt F .f32) : SP F :=
  iprop(owns (c : Thread nD τ) arg1 q1 X1 ∗ owns (c : Thread nD τ) arg2 q2 X2 ∗ owns (c : Thread nD τ) arg13 fullShare X13 ∗ owns (c : Thread nD τ) arg14 fullShare A)

variable {q1 q2 : PosShare TreeShare} {α : Type} {Q : α → SP F}

theorem W_route {s t : Fin 4} {u k : Fin 8} {A : S3200x128.Idx → Elt F .f32} {K : FVec F S8x128 .f32 → FVec F S8x128 .f32 → FVec F S8x128 .f32 → PR F α} :
    TR arg1 arg2 arg13 arg14 X1 X2 X13 c q1 q2 A ⊢ iprop((TR arg1 arg2 arg13 arg14 X1 X2 X13 c q1 q2 A
        -∗ W c none (K (rt X1 X2 X13 hX1 s t u k 0 v23) (rt X1 X2 X13 hX1 s t u k 1 v26) (rt X1 X2 X13 hX1 s t u k 2 v29)) Q)
      -∗ W c none (route arg1 arg2 arg13 v23 v26 v29 s t u k K) Q) := by
  unfold TR route
  iintro ⟨H1, H2, H13, H14⟩ HK
  iapply (W_smem c none) $$ H1
  iintro H1
  iapply (W_assume c none (hX1 _))
  iapply (W_loadb c none) $$ H13
  iintro H13
  iapply (W_smem c none) $$ H2
  iintro H2
  iapply (W_loadb c none) $$ H13
  iintro H13
  iapply (W_loadb c none) $$ H13
  iintro H13
  iapply (W_loadb c none) $$ H13
  iintro H13
  unfold rt rowR facR wd
  iapply HK
  isplitl [H1]; · iexact H1
  isplitl [H2]; · iexact H2
  isplitl [H13]; · iexact H13
  iexact H14

theorem W_routes {s t : Fin 4} {u : Fin 8} {A : S3200x128.Idx → Elt F .f32} {K : FVec F S8x128 .f32 → FVec F S8x128 .f32 → FVec F S8x128 .f32 → PR F α} :
    ∀ (n : ℕ) (hn : n < 8) (a b d : FVec F S8x128 .f32),
    TR arg1 arg2 arg13 arg14 X1 X2 X13 c q1 q2 A ⊢ iprop((TR arg1 arg2 arg13 arg14 X1 X2 X13 c q1 q2 A
        -∗ W c none (K (rts X1 X2 X13 hX1 s t u 0 v23 n hn a) (rts X1 X2 X13 hX1 s t u 1 v26 n hn b) (rts X1 X2 X13 hX1 s t u 2 v29 n hn d)) Q)
      -∗ W c none (routes arg1 arg2 arg13 v23 v26 v29 s t u K n hn a b d) Q) := by
  intro n
  induction n with
  | zero =>
    intro hn a b d
    unfold routes rts
    iintro H HK
    iapply HK $$ H
  | succ n ih =>
    intro hn a b d
    unfold routes rts
    iintro H HK
    iapply (W_route arg1 arg2 arg13 arg14 X1 X2 X13 hX1 v23 v26 v29 c) $$ H
    iintro H
    iapply (ih _ _ _ _) $$ H
    iexact HK

theorem W_accStore {s t : Fin 4} {u : Fin 8} {m : Fin 3} {v : FVec F S8x128 .f32} {A : S3200x128.Idx → Elt F .f32} {K : PR F α} :
    TR arg1 arg2 arg13 arg14 X1 X2 X13 c q1 q2 A ⊢ iprop((TR arg1 arg2 arg13 arg14 X1 X2 X13 c q1 q2 (accW s t u m v A) -∗ W c none K Q)
      -∗ W c none (accStore arg14 s t u m v K) Q) := by
  unfold TR accStore accW
  iintro ⟨H1, H2, H13, H14⟩ HK
  iapply (W_loadb c none) $$ H14
  iintro H14
  iapply (W_storeb c none) $$ H14
  iintro H14
  iapply HK
  isplitl [H1]; · iexact H1
  isplitl [H2]; · iexact H2
  isplitl [H13]; · iexact H13
  iexact H14

theorem W_token {s t : Fin 4} {u : Fin 8} {A : S3200x128.Idx → Elt F .f32} {K : PR F α} :
    TR arg1 arg2 arg13 arg14 X1 X2 X13 c q1 q2 A ⊢ iprop((TR arg1 arg2 arg13 arg14 X1 X2 X13 c q1 q2 (tokX X1 X2 X13 hX1 v23 v26 v29 s t u A) -∗ W c none K Q)
      -∗ W c none (token arg1 arg2 arg13 arg14 v23 v26 v29 s t u K) Q) := by
  unfold token tokX
  iintro H HK
  iapply (W_route arg1 arg2 arg13 arg14 X1 X2 X13 hX1 v23 v26 v29 c) $$ H
  iintro H
  iapply (W_routes arg1 arg2 arg13 arg14 X1 X2 X13 hX1 v23 v26 v29 c 7 _ _ _ _) $$ H
  iintro H
  iapply (W_accStore arg1 arg2 arg13 arg14 X1 X2 X13 c) $$ H
  iintro H
  iapply (W_accStore arg1 arg2 arg13 arg14 X1 X2 X13 c) $$ H
  iintro H
  iapply (W_accStore arg1 arg2 arg13 arg14 X1 X2 X13 c) $$ H
  iintro H
  unfold tokV
  iapply HK $$ H

theorem W_tokens {s t : Fin 4} {Q : PUnit → SP F} : ∀ (n : ℕ) (hn : n ≤ 8) (A : S3200x128.Idx → Elt F .f32),
    TR arg1 arg2 arg13 arg14 X1 X2 X13 c q1 q2 A ⊢ iprop((TR arg1 arg2 arg13 arg14 X1 X2 X13 c q1 q2 (toksX X1 X2 X13 hX1 v23 v26 v29 s t n hn A) -∗ Q ⟨⟩)
      -∗ W c none (tokens arg1 arg2 arg13 arg14 v23 v26 v29 s t n hn) Q) := by
  intro n
  induction n with
  | zero =>
    intro hn A
    unfold tokens toksX
    iintro H HK
    iapply (W_ret c none)
    iapply HK $$ H
  | succ n ih =>
    intro hn A
    unfold tokens toksX
    iintro H HK
    iapply (W_token arg1 arg2 arg13 arg14 X1 X2 X13 hX1 v23 v26 v29 c) $$ H
    iintro H
    iapply (ih _ _) $$ H
    iexact HK

theorem W_sub {s : Fin 4} {A : S3200x128.Idx → Elt F .f32} {β : Type} {Q : β → SP F} {l : Scf.Loop 32} (hl : l.trips = 4) (hok : l.OK) {kk : PUnit → PR F β} :
    TR arg1 arg2 arg13 arg14 X1 X2 X13 c q1 q2 A ⊢ iprop((TR arg1 arg2 arg13 arg14 X1 X2 X13 c q1 q2 (subX X1 X2 X13 hX1 v23 v26 v29 s A 4) -∗ W c none (kk ⟨⟩) Q)
      -∗ W c none (Scf.Loop.for l hok ⟨⟩ (fun t _ => tokens arg1 arg2 arg13 arg14 v23 v26 v29 s (Fin.cast hl t) 8 (by decide)) >>= kk) Q) := by
  refine .trans (Entails.of_eq (show TR arg1 arg2 arg13 arg14 X1 X2 X13 c q1 q2 A = TR arg1 arg2 arg13 arg14 X1 X2 X13 c q1 q2 (subX X1 X2 X13 hX1 v23 v26 v29 s A 0) from rfl)) ?_
  iintro H HK
  iapply (Scf.wp_for_bind frame (wpE (defs₀ (F := F)) VN (c : Thread nD τ) none) Set.univ l.lb l.ub l.st hok ⟨⟩ _
    (fun n _ => TR arg1 arg2 arg13 arg14 X1 X2 X13 c q1 q2 (subX X1 X2 X13 hX1 v23 v26 v29 s A n)) ?_) $$ H
  · intro k acc
    iintro H
    iapply (W_tokens arg1 arg2 arg13 arg14 X1 X2 X13 hX1 v23 v26 v29 c 8 _ _) $$ H
    iintro H
    have hk : k.val < 4 := lt_of_lt_of_eq k.isLt hl
    rw [show subX X1 X2 X13 hX1 v23 v26 v29 s A (k.val + 1) = toksX X1 X2 X13 hX1 v23 v26 v29 s (Fin.cast hl k) 8 (by decide) (subX X1 X2 X13 hX1 v23 v26 v29 s A k.val) from dif_pos hk]
    iexact H
  · iintro %acc H
    rw [show Scf.trips l.lb l.ub l.st = 4 from hl]
    iapply HK $$ H

/-- The out block after one group of sixteen tokens. -/
def finW (A : S3200x128.Idx → Elt F .f32) (X7 : S128x3072.Idx → Elt F .bf16) (t : Fin 8) (g : Fin 24) (O : S128x3072.Idx → Elt F .bf16) : S128x3072.Idx → Elt F .bf16 :=
  (Rect.unit (s := S128x3072) (finOff t.val g.val) S16x128.size (finOff_inb t g)).overlay O
    (truncf .bf16 (addf (extf .f32 (fun x => X7 ((Rect.unit (s := S128x3072) (finOff t.val g.val) S16x128.size (finOff_inb t g)).toLoadRect.idx x) : FVec F S16x128 .bf16) bitsLt_bf16_f32)
      (concatenate S16x128 0 [⟨S8x128, fun x => A ((⟨finAcc t.val 0 g.val, S8x128.size, ![25, 1], finAcc_inb t 0 g⟩ : LoadRect S3200x128).idx x)⟩,
        ⟨S8x128, fun x => A ((⟨finAcc t.val 1 g.val, S8x128.size, ![25, 1], finAcc_inb t 1 g⟩ : LoadRect S3200x128).idx x)⟩] concatenates_S8x128_S8x128_S16x128_d0)) bitsLt_bf16_f32)

/-- The out block after the last `n` groups of a trip. -/
def finWs (A : S3200x128.Idx → Elt F .f32) (X7 : S128x3072.Idx → Elt F .bf16) (t : Fin 8) : (n : ℕ) → n ≤ 24 → (S128x3072.Idx → Elt F .bf16) → S128x3072.Idx → Elt F .bf16
  | 0, _, O => O
  | n + 1, hn, O => finWs A X7 t n (by omega) (finW A X7 t ⟨24 - (n + 1), by omega⟩ O)

/-- The out block after the first `n` trips. -/
def finX (A : S3200x128.Idx → Elt F .f32) (X7 : S128x3072.Idx → Elt F .bf16) (O : S128x3072.Idx → Elt F .bf16) : ℕ → S128x3072.Idx → Elt F .bf16
  | 0 => O
  | n + 1 => if h : n < 8 then finWs A X7 ⟨n, h⟩ 24 le_rfl (finX A X7 O n) else finX A X7 O n

/-- What the finish uses. -/
def FR (q7 : PosShare TreeShare) (A : S3200x128.Idx → Elt F .f32) (X7 O : S128x3072.Idx → Elt F .bf16) : SP F :=
  iprop(owns (c : Thread nD τ) arg7 q7 X7 ∗ owns (c : Thread nD τ) arg12 fullShare O ∗ owns (c : Thread nD τ) arg14 fullShare A)

variable {q7 : PosShare TreeShare} {A : S3200x128.Idx → Elt F .f32} {X7 : S128x3072.Idx → Elt F .bf16}

theorem W_finG {t : Fin 8} {g : Fin 24} {O : S128x3072.Idx → Elt F .bf16} {K : PR F α} :
    FR arg7 arg12 arg14 c q7 A X7 O ⊢ iprop((FR arg7 arg12 arg14 c q7 A X7 (finW A X7 t g O) -∗ W c none K Q) -∗ W c none (finG arg7 arg12 harg12 arg14 t g K) Q) := by
  unfold FR finG finW
  iintro ⟨H7, H12, H14⟩ HK
  iapply (W_loadb c none) $$ H14
  iintro H14
  iapply (W_loadb c none) $$ H14
  iintro H14
  iapply (W_loadb c none) $$ H7
  iintro H7
  iapply (W_loadb c none) $$ H12
  iintro H12
  iapply (W_storeb c none) $$ H12
  iintro H12
  iapply HK
  isplitl [H7]; · iexact H7
  isplitl [H12]; · iexact H12
  iexact H14

theorem W_finGs {t : Fin 8} {Q : PUnit → SP F} : ∀ (n : ℕ) (hn : n ≤ 24) (O : S128x3072.Idx → Elt F .bf16),
    FR arg7 arg12 arg14 c q7 A X7 O ⊢ iprop((FR arg7 arg12 arg14 c q7 A X7 (finWs A X7 t n hn O) -∗ Q ⟨⟩) -∗ W c none (finGs arg7 arg12 harg12 arg14 t n hn) Q) := by
  intro n
  induction n with
  | zero =>
    intro hn O
    unfold finGs finWs
    iintro H HK
    iapply (W_ret c none)
    iapply HK $$ H
  | succ n ih =>
    intro hn O
    unfold finGs finWs
    iintro H HK
    iapply (W_finG arg7 arg12 harg12 arg14 c) $$ H
    iintro H
    iapply (ih _ _) $$ H
    iexact HK

theorem W_fin {O : S128x3072.Idx → Elt F .bf16} {β : Type} {Q : β → SP F} {l : Scf.Loop 32} (hl : l.trips = 8) (hok : l.OK) {kk : PUnit → PR F β} :
    FR arg7 arg12 arg14 c q7 A X7 O ⊢ iprop((FR arg7 arg12 arg14 c q7 A X7 (finX A X7 O 8) -∗ W c none (kk ⟨⟩) Q)
      -∗ W c none (Scf.Loop.for l hok ⟨⟩ (fun t _ => finGs arg7 arg12 harg12 arg14 (Fin.cast hl t) 24 (by decide)) >>= kk) Q) := by
  refine .trans (Entails.of_eq (show FR arg7 arg12 arg14 c q7 A X7 O = FR arg7 arg12 arg14 c q7 A X7 (finX A X7 O 0) from rfl)) ?_
  iintro H HK
  iapply (Scf.wp_for_bind frame (wpE (defs₀ (F := F)) VN (c : Thread nD τ) none) Set.univ l.lb l.ub l.st hok ⟨⟩ _
    (fun n _ => FR arg7 arg12 arg14 c q7 A X7 (finX A X7 O n)) ?_) $$ H
  · intro k acc
    iintro H
    iapply (W_finGs arg7 arg12 harg12 arg14 c 24 _ _) $$ H
    iintro H
    have hk : k.val < 8 := lt_of_lt_of_eq k.isLt hl
    rw [show finX A X7 O (k.val + 1) = finWs A X7 (Fin.cast hl k) 24 le_rfl (finX A X7 O k.val) from dif_pos hk]
    iexact H
  · iintro %acc H
    rw [show Scf.trips l.lb l.ub l.st = 8 from hl]
    iapply HK $$ H

end

end Cert.Kernel.M
-- ==== Proof.K.Calls.lean ====
module
public import proofs.«01_k».proof.Proof.K.Base
@[expose] public section
noncomputable section
namespace Cert.Kernel.M
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Facts]
open Facts₀ Facts

variable (i : grid0.Coords)
  (arg3 : Memref sig .tc .smem S1x4x128 .i32) (harg3 : arg3.IsWhole)
  (arg4 : Memref sig .tc .smem S1x4x128 .i32) (harg4 : arg4.IsWhole)
  (arg5 : Memref sig .tc .smem S1x1x4 .i32) (harg5 : arg5.IsWhole)
  (arg6 : Memref sig .tc .smem S1x1x4 .i32) (harg6 : arg6.IsWhole)
  (arg10 : Memref sig .tc .hbm S249037x3072 .fp8e4m3) (harg10 : arg10.IsWhole)
  (arg11 : Memref sig .tc .hbm S249037x24 .f32) (harg11 : arg11.IsWhole)
  (arg15 : Memref sig .tc .vmem S16x32x3072 .fp8e4m3) (harg15 : arg15.IsWhole)
  (arg16 : Memref sig .tc .vmem S16x32x24 .f32) (harg16 : arg16.IsWhole)
  (arg19 : Memref sig .tc .smem S4 .i32) (harg19 : arg19.IsWhole)
  (arg17 arg18 : DmaSems sig S16)
  (v30 : BitVec 32) (hw6 : k0_chk6 v30) (v39 : BitVec 32) (hw85 : k0_chk85 v39) (v48 : BitVec 32) (hw164 : k0_chk164 v48) (v57 : BitVec 32) (hw243 : k0_chk243 v57)

theorem r1  (c : Dev nD) (bd : Option ℕ) (v : ℕ) (hv : ∀ u ∈ bd, v < u) (a b : BitVec 32) (Q : BitVec 32 × BitVec 32 → SP F) :
    W c (some v) (skipBody i arg5 harg5 arg6 harg6 (fun s j => (Prog.lift (.call (1 : (Λ₀ F).Label) ⟨i, arg5, harg5, arg6, harg6, s, j⟩) : PR F (BitVec 32 × BitVec 32))) a b) Q
      ⊢ W c bd (Prog.lift (.call (1 : (Λ₀ F).Label) ⟨i, arg5, harg5, arg6, harg6, a, b⟩) : PR F (BitVec 32 × BitVec 32)) Q :=
  (Entails.of_eq (congrArg (fun p => W c (some v) p Q) (by chain_rfl))).trans (W_call (ℓ := (1 : (Λ₀ F).Label)) c bd v hv)

theorem r2  (c : Dev nD) (bd : Option ℕ) (v : ℕ) (hv : ∀ u ∈ bd, v < u) (a : BitVec 1) (Q : BitVec 1 → SP F) :
    W c (some v) (canBody i arg19 harg19 arg3 harg3 arg4 harg4 arg17 arg15 harg15 arg10 harg10 arg18 arg16 harg16 arg11 harg11 arg5 harg5 arg6 harg6 a
        (fun v67 v68 h2 v73 v78 h3 v81 h4 s j => Prog.lift (.call (3 : (Λ₀ F).Label) ⟨i, v67, v68, h2, v73, v78, h3, v81, h4, arg5, harg5, arg6, harg6, s, j⟩)) (fun b => (Prog.lift (.call (2 : (Λ₀ F).Label) ⟨i, arg19, harg19, arg3, harg3, arg4, harg4, arg17, arg15, harg15, arg10, harg10, arg18, arg16, harg16, arg11, harg11, arg5, harg5, arg6, harg6, b⟩) : PR F (BitVec 1)))) Q
      ⊢ W c bd (Prog.lift (.call (2 : (Λ₀ F).Label) ⟨i, arg19, harg19, arg3, harg3, arg4, harg4, arg17, arg15, harg15, arg10, harg10, arg18, arg16, harg16, arg11, harg11, arg5, harg5, arg6, harg6, a⟩) : PR F (BitVec 1)) Q :=
  (Entails.of_eq (congrArg (fun p => W c (some v) p Q) (by chain_rfl))).trans (W_call (ℓ := (2 : (Λ₀ F).Label)) c bd v hv)

theorem r3 (v67 v68 : BitVec 32) (h2 : k0_chk2 v67 v68) (v73 v78 : BitVec 32) (h3 : k0_chk3 v67 v73 v78) (v81 : BitVec 32) (h4 : k0_chk4 v67 v73 v78 v81) (c : Dev nD) (bd : Option ℕ) (v : ℕ) (hv : ∀ u ∈ bd, v < u) (a b : BitVec 32) (Q : BitVec 32 × BitVec 32 → SP F) :
    W c (some v) (skipBody i arg5 harg5 arg6 harg6 (fun s j => (Prog.lift (.call (3 : (Λ₀ F).Label) ⟨i, v67, v68, h2, v73, v78, h3, v81, h4, arg5, harg5, arg6, harg6, s, j⟩) : PR F (BitVec 32 × BitVec 32))) a b) Q
      ⊢ W c bd (Prog.lift (.call (3 : (Λ₀ F).Label) ⟨i, v67, v68, h2, v73, v78, h3, v81, h4, arg5, harg5, arg6, harg6, a, b⟩) : PR F (BitVec 32 × BitVec 32)) Q :=
  (Entails.of_eq (congrArg (fun p => W c (some v) p Q) (by chain_rfl))).trans (W_call (ℓ := (3 : (Λ₀ F).Label)) c bd v hv)

theorem r4 (t : Fin (k0_t1_loop v30).trips) (w68 : BitVec 32) (h8 : k0_chk8 w68) (w71 : BitVec 32) (h7 : k0_chk7 w68 w71) (c : Dev nD) (bd : Option ℕ) (v : ℕ) (hv : ∀ u ∈ bd, v < u) (a b : BitVec 32) (Q : BitVec 32 × BitVec 32 → SP F) :
    W c (some v) (skipBody i arg5 harg5 arg6 harg6 (fun s j => (Prog.lift (.call (4 : (Λ₀ F).Label) ⟨i, v30, hw6, t, w68, h8, w71, h7, arg5, harg5, arg6, harg6, s, j⟩) : PR F (BitVec 32 × BitVec 32))) a b) Q
      ⊢ W c bd (Prog.lift (.call (4 : (Λ₀ F).Label) ⟨i, v30, hw6, t, w68, h8, w71, h7, arg5, harg5, arg6, harg6, a, b⟩) : PR F (BitVec 32 × BitVec 32)) Q :=
  (Entails.of_eq (congrArg (fun p => W c (some v) p Q) (by chain_rfl))).trans (W_call (ℓ := (4 : (Λ₀ F).Label)) c bd v hv)

theorem r5 (t : Fin (k0_t1_loop v30).trips) (w68 : BitVec 32) (h8 : k0_chk8 w68) (w71 : BitVec 32) (h7 : k0_chk7 w68 w71) (c : Dev nD) (bd : Option ℕ) (v : ℕ) (hv : ∀ u ∈ bd, v < u) (a : BitVec 1) (Q : BitVec 1 → SP F) :
    W c (some v) (canBody i arg19 harg19 arg3 harg3 arg4 harg4 arg17 arg15 harg15 arg10 harg10 arg18 arg16 harg16 arg11 harg11 arg5 harg5 arg6 harg6 a
        (fun v67 v68 h2 v73 v78 h3 v81 h4 s j => Prog.lift (.call (6 : (Λ₀ F).Label) ⟨i, v30, hw6, t, w68, h8, w71, h7, v67, v68, h2, v73, v78, h3, v81, h4, arg5, harg5, arg6, harg6, s, j⟩)) (fun b => (Prog.lift (.call (5 : (Λ₀ F).Label) ⟨i, v30, hw6, t, w68, h8, w71, h7, arg19, harg19, arg3, harg3, arg4, harg4, arg17, arg15, harg15, arg10, harg10, arg18, arg16, harg16, arg11, harg11, arg5, harg5, arg6, harg6, b⟩) : PR F (BitVec 1)))) Q
      ⊢ W c bd (Prog.lift (.call (5 : (Λ₀ F).Label) ⟨i, v30, hw6, t, w68, h8, w71, h7, arg19, harg19, arg3, harg3, arg4, harg4, arg17, arg15, harg15, arg10, harg10, arg18, arg16, harg16, arg11, harg11, arg5, harg5, arg6, harg6, a⟩) : PR F (BitVec 1)) Q :=
  (Entails.of_eq (congrArg (fun p => W c (some v) p Q) (by chain_rfl))).trans (W_call (ℓ := (5 : (Λ₀ F).Label)) c bd v hv)

theorem r6 (t : Fin (k0_t1_loop v30).trips) (w68 : BitVec 32) (h8 : k0_chk8 w68) (w71 : BitVec 32) (h7 : k0_chk7 w68 w71) (v67 v68 : BitVec 32) (h2 : k0_chk2 v67 v68) (v73 v78 : BitVec 32) (h3 : k0_chk3 v67 v73 v78) (v81 : BitVec 32) (h4 : k0_chk4 v67 v73 v78 v81) (c : Dev nD) (bd : Option ℕ) (v : ℕ) (hv : ∀ u ∈ bd, v < u) (a b : BitVec 32) (Q : BitVec 32 × BitVec 32 → SP F) :
    W c (some v) (skipBody i arg5 harg5 arg6 harg6 (fun s j => (Prog.lift (.call (6 : (Λ₀ F).Label) ⟨i, v30, hw6, t, w68, h8, w71, h7, v67, v68, h2, v73, v78, h3, v81, h4, arg5, harg5, arg6, harg6, s, j⟩) : PR F (BitVec 32 × BitVec 32))) a b) Q
      ⊢ W c bd (Prog.lift (.call (6 : (Λ₀ F).Label) ⟨i, v30, hw6, t, w68, h8, w71, h7, v67, v68, h2, v73, v78, h3, v81, h4, arg5, harg5, arg6, harg6, a, b⟩) : PR F (BitVec 32 × BitVec 32)) Q :=
  (Entails.of_eq (congrArg (fun p => W c (some v) p Q) (by chain_rfl))).trans (W_call (ℓ := (6 : (Λ₀ F).Label)) c bd v hv)

theorem r10 (t : Fin (k0_t4_loop v39).trips) (w68 : BitVec 32) (h8 : k0_chk8 w68) (w71 : BitVec 32) (h7 : k0_chk7 w68 w71) (c : Dev nD) (bd : Option ℕ) (v : ℕ) (hv : ∀ u ∈ bd, v < u) (a b : BitVec 32) (Q : BitVec 32 × BitVec 32 → SP F) :
    W c (some v) (skipBody i arg5 harg5 arg6 harg6 (fun s j => (Prog.lift (.call (10 : (Λ₀ F).Label) ⟨i, v30, hw6, v39, hw85, t, w68, h8, w71, h7, arg5, harg5, arg6, harg6, s, j⟩) : PR F (BitVec 32 × BitVec 32))) a b) Q
      ⊢ W c bd (Prog.lift (.call (10 : (Λ₀ F).Label) ⟨i, v30, hw6, v39, hw85, t, w68, h8, w71, h7, arg5, harg5, arg6, harg6, a, b⟩) : PR F (BitVec 32 × BitVec 32)) Q :=
  (Entails.of_eq (congrArg (fun p => W c (some v) p Q) (by chain_rfl))).trans (W_call (ℓ := (10 : (Λ₀ F).Label)) c bd v hv)

theorem r11 (t : Fin (k0_t4_loop v39).trips) (w68 : BitVec 32) (h8 : k0_chk8 w68) (w71 : BitVec 32) (h7 : k0_chk7 w68 w71) (c : Dev nD) (bd : Option ℕ) (v : ℕ) (hv : ∀ u ∈ bd, v < u) (a : BitVec 1) (Q : BitVec 1 → SP F) :
    W c (some v) (canBody i arg19 harg19 arg3 harg3 arg4 harg4 arg17 arg15 harg15 arg10 harg10 arg18 arg16 harg16 arg11 harg11 arg5 harg5 arg6 harg6 a
        (fun v67 v68 h2 v73 v78 h3 v81 h4 s j => Prog.lift (.call (12 : (Λ₀ F).Label) ⟨i, v30, hw6, v39, hw85, t, w68, h8, w71, h7, v67, v68, h2, v73, v78, h3, v81, h4, arg5, harg5, arg6, harg6, s, j⟩)) (fun b => (Prog.lift (.call (11 : (Λ₀ F).Label) ⟨i, v30, hw6, v39, hw85, t, w68, h8, w71, h7, arg19, harg19, arg3, harg3, arg4, harg4, arg17, arg15, harg15, arg10, harg10, arg18, arg16, harg16, arg11, harg11, arg5, harg5, arg6, harg6, b⟩) : PR F (BitVec 1)))) Q
      ⊢ W c bd (Prog.lift (.call (11 : (Λ₀ F).Label) ⟨i, v30, hw6, v39, hw85, t, w68, h8, w71, h7, arg19, harg19, arg3, harg3, arg4, harg4, arg17, arg15, harg15, arg10, harg10, arg18, arg16, harg16, arg11, harg11, arg5, harg5, arg6, harg6, a⟩) : PR F (BitVec 1)) Q :=
  (Entails.of_eq (congrArg (fun p => W c (some v) p Q) (by chain_rfl))).trans (W_call (ℓ := (11 : (Λ₀ F).Label)) c bd v hv)

theorem r12 (t : Fin (k0_t4_loop v39).trips) (w68 : BitVec 32) (h8 : k0_chk8 w68) (w71 : BitVec 32) (h7 : k0_chk7 w68 w71) (v67 v68 : BitVec 32) (h2 : k0_chk2 v67 v68) (v73 v78 : BitVec 32) (h3 : k0_chk3 v67 v73 v78) (v81 : BitVec 32) (h4 : k0_chk4 v67 v73 v78 v81) (c : Dev nD) (bd : Option ℕ) (v : ℕ) (hv : ∀ u ∈ bd, v < u) (a b : BitVec 32) (Q : BitVec 32 × BitVec 32 → SP F) :
    W c (some v) (skipBody i arg5 harg5 arg6 harg6 (fun s j => (Prog.lift (.call (12 : (Λ₀ F).Label) ⟨i, v30, hw6, v39, hw85, t, w68, h8, w71, h7, v67, v68, h2, v73, v78, h3, v81, h4, arg5, harg5, arg6, harg6, s, j⟩) : PR F (BitVec 32 × BitVec 32))) a b) Q
      ⊢ W c bd (Prog.lift (.call (12 : (Λ₀ F).Label) ⟨i, v30, hw6, v39, hw85, t, w68, h8, w71, h7, v67, v68, h2, v73, v78, h3, v81, h4, arg5, harg5, arg6, harg6, a, b⟩) : PR F (BitVec 32 × BitVec 32)) Q :=
  (Entails.of_eq (congrArg (fun p => W c (some v) p Q) (by chain_rfl))).trans (W_call (ℓ := (12 : (Λ₀ F).Label)) c bd v hv)

theorem r16 (t : Fin (k0_t7_loop v48).trips) (w68 : BitVec 32) (h8 : k0_chk8 w68) (w71 : BitVec 32) (h7 : k0_chk7 w68 w71) (c : Dev nD) (bd : Option ℕ) (v : ℕ) (hv : ∀ u ∈ bd, v < u) (a b : BitVec 32) (Q : BitVec 32 × BitVec 32 → SP F) :
    W c (some v) (skipBody i arg5 harg5 arg6 harg6 (fun s j => (Prog.lift (.call (16 : (Λ₀ F).Label) ⟨i, v30, hw6, v39, hw85, v48, hw164, t, w68, h8, w71, h7, arg5, harg5, arg6, harg6, s, j⟩) : PR F (BitVec 32 × BitVec 32))) a b) Q
      ⊢ W c bd (Prog.lift (.call (16 : (Λ₀ F).Label) ⟨i, v30, hw6, v39, hw85, v48, hw164, t, w68, h8, w71, h7, arg5, harg5, arg6, harg6, a, b⟩) : PR F (BitVec 32 × BitVec 32)) Q :=
  (Entails.of_eq (congrArg (fun p => W c (some v) p Q) (by chain_rfl))).trans (W_call (ℓ := (16 : (Λ₀ F).Label)) c bd v hv)

theorem r17 (t : Fin (k0_t7_loop v48).trips) (w68 : BitVec 32) (h8 : k0_chk8 w68) (w71 : BitVec 32) (h7 : k0_chk7 w68 w71) (c : Dev nD) (bd : Option ℕ) (v : ℕ) (hv : ∀ u ∈ bd, v < u) (a : BitVec 1) (Q : BitVec 1 → SP F) :
    W c (some v) (canBody i arg19 harg19 arg3 harg3 arg4 harg4 arg17 arg15 harg15 arg10 harg10 arg18 arg16 harg16 arg11 harg11 arg5 harg5 arg6 harg6 a
        (fun v67 v68 h2 v73 v78 h3 v81 h4 s j => Prog.lift (.call (18 : (Λ₀ F).Label) ⟨i, v30, hw6, v39, hw85, v48, hw164, t, w68, h8, w71, h7, v67, v68, h2, v73, v78, h3, v81, h4, arg5, harg5, arg6, harg6, s, j⟩)) (fun b => (Prog.lift (.call (17 : (Λ₀ F).Label) ⟨i, v30, hw6, v39, hw85, v48, hw164, t, w68, h8, w71, h7, arg19, harg19, arg3, harg3, arg4, harg4, arg17, arg15, harg15, arg10, harg10, arg18, arg16, harg16, arg11, harg11, arg5, harg5, arg6, harg6, b⟩) : PR F (BitVec 1)))) Q
      ⊢ W c bd (Prog.lift (.call (17 : (Λ₀ F).Label) ⟨i, v30, hw6, v39, hw85, v48, hw164, t, w68, h8, w71, h7, arg19, harg19, arg3, harg3, arg4, harg4, arg17, arg15, harg15, arg10, harg10, arg18, arg16, harg16, arg11, harg11, arg5, harg5, arg6, harg6, a⟩) : PR F (BitVec 1)) Q :=
  (Entails.of_eq (congrArg (fun p => W c (some v) p Q) (by chain_rfl))).trans (W_call (ℓ := (17 : (Λ₀ F).Label)) c bd v hv)

theorem r18 (t : Fin (k0_t7_loop v48).trips) (w68 : BitVec 32) (h8 : k0_chk8 w68) (w71 : BitVec 32) (h7 : k0_chk7 w68 w71) (v67 v68 : BitVec 32) (h2 : k0_chk2 v67 v68) (v73 v78 : BitVec 32) (h3 : k0_chk3 v67 v73 v78) (v81 : BitVec 32) (h4 : k0_chk4 v67 v73 v78 v81) (c : Dev nD) (bd : Option ℕ) (v : ℕ) (hv : ∀ u ∈ bd, v < u) (a b : BitVec 32) (Q : BitVec 32 × BitVec 32 → SP F) :
    W c (some v) (skipBody i arg5 harg5 arg6 harg6 (fun s j => (Prog.lift (.call (18 : (Λ₀ F).Label) ⟨i, v30, hw6, v39, hw85, v48, hw164, t, w68, h8, w71, h7, v67, v68, h2, v73, v78, h3, v81, h4, arg5, harg5, arg6, harg6, s, j⟩) : PR F (BitVec 32 × BitVec 32))) a b) Q
      ⊢ W c bd (Prog.lift (.call (18 : (Λ₀ F).Label) ⟨i, v30, hw6, v39, hw85, v48, hw164, t, w68, h8, w71, h7, v67, v68, h2, v73, v78, h3, v81, h4, arg5, harg5, arg6, harg6, a, b⟩) : PR F (BitVec 32 × BitVec 32)) Q :=
  (Entails.of_eq (congrArg (fun p => W c (some v) p Q) (by chain_rfl))).trans (W_call (ℓ := (18 : (Λ₀ F).Label)) c bd v hv)

theorem r22 (t : Fin (k0_t10_loop v57).trips) (w68 : BitVec 32) (h8 : k0_chk8 w68) (w71 : BitVec 32) (h7 : k0_chk7 w68 w71) (c : Dev nD) (bd : Option ℕ) (v : ℕ) (hv : ∀ u ∈ bd, v < u) (a b : BitVec 32) (Q : BitVec 32 × BitVec 32 → SP F) :
    W c (some v) (skipBody i arg5 harg5 arg6 harg6 (fun s j => (Prog.lift (.call (22 : (Λ₀ F).Label) ⟨i, v30, hw6, v39, hw85, v48, hw164, v57, hw243, t, w68, h8, w71, h7, arg5, harg5, arg6, harg6, s, j⟩) : PR F (BitVec 32 × BitVec 32))) a b) Q
      ⊢ W c bd (Prog.lift (.call (22 : (Λ₀ F).Label) ⟨i, v30, hw6, v39, hw85, v48, hw164, v57, hw243, t, w68, h8, w71, h7, arg5, harg5, arg6, harg6, a, b⟩) : PR F (BitVec 32 × BitVec 32)) Q :=
  (Entails.of_eq (congrArg (fun p => W c (some v) p Q) (by chain_rfl))).trans (W_call (ℓ := (22 : (Λ₀ F).Label)) c bd v hv)

theorem r23 (t : Fin (k0_t10_loop v57).trips) (w68 : BitVec 32) (h8 : k0_chk8 w68) (w71 : BitVec 32) (h7 : k0_chk7 w68 w71) (c : Dev nD) (bd : Option ℕ) (v : ℕ) (hv : ∀ u ∈ bd, v < u) (a : BitVec 1) (Q : BitVec 1 → SP F) :
    W c (some v) (canBody i arg19 harg19 arg3 harg3 arg4 harg4 arg17 arg15 harg15 arg10 harg10 arg18 arg16 harg16 arg11 harg11 arg5 harg5 arg6 harg6 a
        (fun v67 v68 h2 v73 v78 h3 v81 h4 s j => Prog.lift (.call (24 : (Λ₀ F).Label) ⟨i, v30, hw6, v39, hw85, v48, hw164, v57, hw243, t, w68, h8, w71, h7, v67, v68, h2, v73, v78, h3, v81, h4, arg5, harg5, arg6, harg6, s, j⟩)) (fun b => (Prog.lift (.call (23 : (Λ₀ F).Label) ⟨i, v30, hw6, v39, hw85, v48, hw164, v57, hw243, t, w68, h8, w71, h7, arg19, harg19, arg3, harg3, arg4, harg4, arg17, arg15, harg15, arg10, harg10, arg18, arg16, harg16, arg11, harg11, arg5, harg5, arg6, harg6, b⟩) : PR F (BitVec 1)))) Q
      ⊢ W c bd (Prog.lift (.call (23 : (Λ₀ F).Label) ⟨i, v30, hw6, v39, hw85, v48, hw164, v57, hw243, t, w68, h8, w71, h7, arg19, harg19, arg3, harg3, arg4, harg4, arg17, arg15, harg15, arg10, harg10, arg18, arg16, harg16, arg11, harg11, arg5, harg5, arg6, harg6, a⟩) : PR F (BitVec 1)) Q :=
  (Entails.of_eq (congrArg (fun p => W c (some v) p Q) (by chain_rfl))).trans (W_call (ℓ := (23 : (Λ₀ F).Label)) c bd v hv)

theorem r24 (t : Fin (k0_t10_loop v57).trips) (w68 : BitVec 32) (h8 : k0_chk8 w68) (w71 : BitVec 32) (h7 : k0_chk7 w68 w71) (v67 v68 : BitVec 32) (h2 : k0_chk2 v67 v68) (v73 v78 : BitVec 32) (h3 : k0_chk3 v67 v73 v78) (v81 : BitVec 32) (h4 : k0_chk4 v67 v73 v78 v81) (c : Dev nD) (bd : Option ℕ) (v : ℕ) (hv : ∀ u ∈ bd, v < u) (a b : BitVec 32) (Q : BitVec 32 × BitVec 32 → SP F) :
    W c (some v) (skipBody i arg5 harg5 arg6 harg6 (fun s j => (Prog.lift (.call (24 : (Λ₀ F).Label) ⟨i, v30, hw6, v39, hw85, v48, hw164, v57, hw243, t, w68, h8, w71, h7, v67, v68, h2, v73, v78, h3, v81, h4, arg5, harg5, arg6, harg6, s, j⟩) : PR F (BitVec 32 × BitVec 32))) a b) Q
      ⊢ W c bd (Prog.lift (.call (24 : (Λ₀ F).Label) ⟨i, v30, hw6, v39, hw85, v48, hw164, v57, hw243, t, w68, h8, w71, h7, v67, v68, h2, v73, v78, h3, v81, h4, arg5, harg5, arg6, harg6, a, b⟩) : PR F (BitVec 32 × BitVec 32)) Q :=
  (Entails.of_eq (congrArg (fun p => W c (some v) p Q) (by chain_rfl))).trans (W_call (ℓ := (24 : (Λ₀ F).Label)) c bd v hv)

end Cert.Kernel.M
-- ==== Proof.K.Loops.lean ====
module

public import proofs.«01_k».proof.Proof.K.Widen
public import proofs.«01_k».proof.Proof.K.Tokens
public import proofs.«01_k».proof.Proof.K.Calls

@[expose] public section

noncomputable section

/-
  The widening of one sub-list.
-/
namespace Cert.Kernel.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]
open Facts₀ Facts

omit [Facts] in
theorem cnt_loop : ∀ n : Fin 129, (k0_t1_loop (nw n.val)).OK ∧ (k0_t1_loop (nw n.val)).trips = n.val ∧ (k0_t2_loop (nw n.val)).OK ∧ (k0_t2_loop (nw n.val)).trips = 0 := by
  decide +kernel

omit [Facts] in
theorem iv_word : ∀ k : Fin 128, (Scalar.indexCast (Scf.iv (0#32 : BitVec 32) 1#32 k.val)).toNat = k.val := by decide +kernel

section
variable {n : ℕ} (hn : n ≤ 128)
include hn

omit [Facts] in
theorem t1_ok : (k0_t1_loop (nw n)).OK := (cnt_loop ⟨n, by omega⟩).1
omit [Facts] in
theorem t1_trips : (k0_t1_loop (nw n)).trips = n := (cnt_loop ⟨n, by omega⟩).2.1
omit [Facts] in
theorem t2_ok : (k0_t2_loop (nw n)).OK := (cnt_loop ⟨n, by omega⟩).2.2.1
omit [Facts] in
theorem t2_trips : (k0_t2_loop (nw n)).trips = 0 := (cnt_loop ⟨n, by omega⟩).2.2.2

omit [Facts] in
theorem iv_lt (k : Fin (k0_t1_loop (nw n)).trips) : k.val < 128 := lt_of_lt_of_le (lt_of_lt_of_eq k.isLt (t1_trips hn)) hn

omit [Facts] in
theorem off12_eq (k : Fin (k0_t1_loop (nw n)).trips) : k0_off12 (nw n) k = ![0, 0, k.val] := by
  unfold k0_off12
  simp only
  rw [iv_word ⟨k.val, iv_lt hn k⟩]
omit [Facts] in
theorem off368_eq (k : Fin (k0_t1_loop (nw n)).trips) : k0_off368 (nw n) k = ![0, 1, k.val] := by
  unfold k0_off368
  simp only
  rw [iv_word ⟨k.val, iv_lt hn k⟩]
omit [Facts] in
theorem off724_eq (k : Fin (k0_t1_loop (nw n)).trips) : k0_off724 (nw n) k = ![0, 2, k.val] := by
  unfold k0_off724
  simp only
  rw [iv_word ⟨k.val, iv_lt hn k⟩]
omit [Facts] in
theorem off1080_eq (k : Fin (k0_t1_loop (nw n)).trips) : k0_off1080 (nw n) k = ![0, 3, k.val] := by
  unfold k0_off1080
  simp only
  rw [iv_word ⟨k.val, iv_lt hn k⟩]

omit [Facts] hn in
theorem ent_inb {σ k : ℕ} (hσ : σ < 4) (hk : k < 128) : ∀ a, (![0, σ, k] : Fin 3 → ℕ) a + S1x1x1.size a ≤ S1x4x128.size a := by
  intro a
  fin_cases a
  · show 0 + 1 ≤ 1; omega
  · show σ + 1 ≤ 4; omega
  · show k + 1 ≤ 128; omega

omit [Facts] in
theorem chk6_ok : k0_chk6 (nw n) :=
  ⟨t1_ok hn, fun k => by rw [off12_eq hn k]; exact ent_inb (by decide) (iv_lt hn k), t2_ok hn, fun k => Fin.elim0 (Fin.cast (t2_trips hn) k)⟩
omit [Facts] in
theorem chk85_ok : k0_chk85 (nw n) :=
  ⟨t1_ok hn, fun k => by rw [off368_eq hn k]; exact ent_inb (by decide) (iv_lt hn k), t2_ok hn, fun k => Fin.elim0 (Fin.cast (t2_trips hn) k)⟩
omit [Facts] in
theorem chk164_ok : k0_chk164 (nw n) :=
  ⟨t1_ok hn, fun k => by rw [off724_eq hn k]; exact ent_inb (by decide) (iv_lt hn k), t2_ok hn, fun k => Fin.elim0 (Fin.cast (t2_trips hn) k)⟩
omit [Facts] in
theorem chk243_ok : k0_chk243 (nw n) :=
  ⟨t1_ok hn, fun k => by rw [off1080_eq hn k]; exact ent_inb (by decide) (iv_lt hn k), t2_ok hn, fun k => Fin.elim0 (Fin.cast (t2_trips hn) k)⟩
end

/-- A loop of no trips, its carried word forgotten. -/
theorem W_none (c : Dev nD) {l : Scf.Loop 32} (hl : l.trips = 0) (hok : l.OK) {β : Type} {init : BitVec 32} {body : Fin l.trips → BitVec 32 → PR F (BitVec 32)}
    {kk : BitVec 32 → PR F β} {Q : β → SP F} : (iprop(∀ acc, W c none (kk acc) Q)) ⊢ W c none (Scf.Loop.for l hok init body >>= kk) Q := by
  have h := Scf.wp_for_bind frame (wpE (defs₀ (F := F)) VN (c : Thread nD τ) none) Set.univ l.lb l.ub l.st hok init body
    (fun _ _ => (iprop(∀ acc, W c none (kk acc) Q))) (fun k acc => absurd (lt_of_lt_of_eq k.isLt hl) (by omega)) (kk := kk) (Q := Q)
  iintro H
  iapply h $$ H
  iintro %acc H
  iapply H

section
variable (i : grid0.Coords) (arg3 : Memref sig .tc .smem S1x4x128 .i32) (harg3 : arg3.IsWhole) (arg4 : Memref sig .tc .smem S1x4x128 .i32) (harg4 : arg4.IsWhole)
  (arg5 : Memref sig .tc .smem S1x1x4 .i32) (harg5 : arg5.IsWhole) (arg6 : Memref sig .tc .smem S1x1x4 .i32) (harg6 : arg6.IsWhole)
  (arg8 : Memref sig .tc .vmem S32x3072 .fp8e4m3) (arg9 : Memref sig .tc .vmem S32x24 .f32)
  (arg10 : Memref sig .tc .hbm S249037x3072 .fp8e4m3) (harg10 : arg10.IsWhole) (arg11 : Memref sig .tc .hbm S249037x24 .f32) (harg11 : arg11.IsWhole)
  (arg13 : Memref sig .tc .vmem S102432x128 .f32)
  (arg15 : Memref sig .tc .vmem S16x32x3072 .fp8e4m3) (harg15 : arg15.IsWhole) (arg16 : Memref sig .tc .vmem S16x32x24 .f32) (harg16 : arg16.IsWhole)
  (arg17 : DmaSems sig S16) (arg18 : DmaSems sig S16) (arg19 : Memref sig .tc .smem S4 .i32) (harg19 : arg19.IsWhole)
  (C : Cts F) (L : Lists) (c : Dev nD) (X8 : S32x3072.Idx → Elt F .fp8e4m3) (X9 : S32x24.Idx → Elt F .f32)
  (PD : ℕ → (S102432x128.Idx → Elt F .f32) → Prop)

/-- What widening keeps, `D` items done. -/
def WI (D : ℕ) : SP F :=
  iprop(∃ I, ∃ s, ∃ j, ∃ X, ⌜L.Full (stp i) I D s j ∧ PD D X⌝ ∗ QR arg3 arg4 arg5 arg6 arg10 arg11 arg15 arg16 arg17 arg18 arg19 C L c I D s j
    ∗ owns (c : Thread nD τ) arg8 fullShare X8 ∗ owns (c : Thread nD τ) arg9 fullShare X9 ∗ owns (c : Thread nD τ) arg13 fullShare X ∗ ow c)

variable (hE : Ents L (stp i) C.X3 C.X4) (hC : Counts L (stp i) C.X5 C.X6)
  (hPD : ∀ D E (hE : E < 498112) X, L.item D = E → PD D X → PD (D + 1) (widX (nw E) (chk8_ok hE) (codesOf C X8 (E / 64)) (scalesOf C X9 (E / 64)) X))

include hE hC hPD in
theorem W_wloop {σ : ℕ} (hσ : σ < 4) {l : Scf.Loop 32} (hl : l.trips = L.cnt (4 * stp i + σ)) (hok : l.OK)
    {off : Fin l.trips → Fin 3 → ℕ} {hoff : ∀ k, ∀ a, off k a + S1x1x1.size a ≤ S1x4x128.size a} (hoffe : ∀ k, off k = ![0, σ, k.val])
    {cs2 : Fin l.trips → (v68 : BitVec 32) → k0_chk8 v68 → (v71 : BitVec 32) → k0_chk7 v68 v71 →
      (v67 v68 : Elt F .i32) → k0_chk2 v67 v68 → (v73 v78 : Elt F .i32) → k0_chk3 v67 v73 v78 → (v81 : Elt F .i32) → k0_chk4 v67 v73 v78 v81 → BitVec 32 → BitVec 32 → PR F (BitVec 32 × BitVec 32)}
    (hcs2 : ∀ t w68 h8 w71 h7 v67 v68 h2 v73 v78 h3 v81 h4 (c : Dev nD) (bd : Option ℕ) (v : ℕ), (∀ u ∈ bd, v < u) → ∀ (a b : BitVec 32) (Q : BitVec 32 × BitVec 32 → SP F),
      W c (some v) (skipBody i arg5 harg5 arg6 harg6 (cs2 t w68 h8 w71 h7 v67 v68 h2 v73 v78 h3 v81 h4) a b) Q ⊢ W c bd (cs2 t w68 h8 w71 h7 v67 v68 h2 v73 v78 h3 v81 h4 a b) Q)
    {callCan : Fin l.trips → (v68 : BitVec 32) → k0_chk8 v68 → (v71 : BitVec 32) → k0_chk7 v68 v71 → BitVec 1 → PR F (BitVec 1)}
    (hcan : ∀ t w68 h8 w71 h7 (c : Dev nD) (bd : Option ℕ) (v : ℕ), (∀ u ∈ bd, v < u) → ∀ (a : BitVec 1) (Q : BitVec 1 → SP F),
      W c (some v) (canBody i arg19 harg19 arg3 harg3 arg4 harg4 arg17 arg15 harg15 arg10 harg10 arg18 arg16 harg16 arg11 harg11 arg5 harg5 arg6 harg6 a (cs2 t w68 h8 w71 h7) (callCan t w68 h8 w71 h7)) Q
        ⊢ W c bd (callCan t w68 h8 w71 h7 a) Q)
    {callSkip : Fin l.trips → (v68 : BitVec 32) → k0_chk8 v68 → (v71 : BitVec 32) → k0_chk7 v68 v71 → BitVec 32 → BitVec 32 → PR F (BitVec 32 × BitVec 32)}
    (hskip : ∀ t w68 h8 w71 h7 (c : Dev nD) (bd : Option ℕ) (v : ℕ), (∀ u ∈ bd, v < u) → ∀ (a b : BitVec 32) (Q : BitVec 32 × BitVec 32 → SP F),
      W c (some v) (skipBody i arg5 harg5 arg6 harg6 (callSkip t w68 h8 w71 h7) a b) Q ⊢ W c bd (callSkip t w68 h8 w71 h7 a b) Q)
    {β : Type} {init : BitVec 32} {kk : BitVec 32 → PR F β} {Q : β → SP F} :
    WI i arg3 arg4 arg5 arg6 arg8 arg9 arg10 arg11 arg13 arg15 arg16 arg17 arg18 arg19 C L c X8 X9 PD (L.P (4 * stp i + σ))
      ⊢ iprop((∀ acc, WI i arg3 arg4 arg5 arg6 arg8 arg9 arg10 arg11 arg13 arg15 arg16 arg17 arg18 arg19 C L c X8 X9 PD (L.P (4 * stp i + (σ + 1))) -∗ W c none (kk acc) Q)
        -∗ W c none (Scf.Loop.for l hok init (fun t _ => widen arg3 arg8 arg9 arg10 harg10 arg11 arg13 arg15 harg15 arg16 arg17 arg18 arg19 (off t) (hoff t)
            (nw (Lists.top (stp i))) (callSkip t) (callCan t)) >>= kk) Q) := by
  have h := Scf.wp_for_bind frame (wpE (defs₀ (F := F)) VN (c : Thread nD τ) none) Set.univ l.lb l.ub l.st hok init
    (fun t _ => widen arg3 arg8 arg9 arg10 harg10 arg11 arg13 arg15 harg15 arg16 arg17 arg18 arg19 (off t) (hoff t) (nw (Lists.top (stp i))) (callSkip t) (callCan t))
    (fun n _ => WI i arg3 arg4 arg5 arg6 arg8 arg9 arg10 arg11 arg13 arg15 arg16 arg17 arg18 arg19 C L c X8 X9 PD (L.P (4 * stp i + σ) + n))
    (fun k acc => ?_) (kk := kk) (Q := Q)
  · have eP : L.P (4 * stp i + (σ + 1)) = L.P (4 * stp i + σ) + Scf.trips l.lb l.ub l.st := by
      rw [← add_assoc, L.P_succ]; exact congrArg _ hl.symm
    iintro H HK
    iapply h $$ H
    iintro %acc H
    iapply HK
    rw [eP]
    iexact H
  · have hk : k.val < L.cnt (4 * stp i + σ) := lt_of_lt_of_eq k.isLt hl
    have hE' := L.ent_lt _ _ hk
    have hi := L.item_at hk
    have hent : ∀ y, C.X3 ((Rect.unit (s := S1x4x128) (off k) S1x1x1.size (hoff k)).idx y) = nw (L.ent (4 * stp i + σ) k.val) := by
      intro y
      have e1 : ((Rect.unit (s := S1x4x128) (off k) S1x1x1.size (hoff k)).idx y 1).val = σ := by
        show off k 1 + 1 * (y 1).val = σ
        have : (y 1).val < 1 := (y 1).isLt
        have e : off k 1 = σ := congrFun (hoffe k) 1
        omega
      have e2 : ((Rect.unit (s := S1x4x128) (off k) S1x1x1.size (hoff k)).idx y 2).val = k.val := by
        show off k 2 + 1 * (y 2).val = k.val
        have : (y 2).val < 1 := (y 2).isLt
        have e : off k 2 = k.val := congrFun (hoffe k) 2
        omega
      have := hE.cur ((Rect.unit (s := S1x4x128) (off k) S1x1x1.size (hoff k)).idx y) (by rw [e1, e2]; exact hk)
      rw [e1, e2] at this
      exact this
    unfold WI
    iintro ⟨%I, %s, %j, %X, %hF, HQ, H8, H9, H13, HO⟩
    obtain ⟨hF, hX⟩ := hF
    have hDI : L.P (4 * stp i + σ) + k.val < I := by
      refine hF.lt ?_
      have := L.P_mono (show 4 * stp i + σ + 1 ≤ 4 * stp i + 4 by omega)
      rw [L.P_succ] at this
      omega
    iapply (widen_spec i arg3 harg3 arg4 harg4 arg5 harg5 arg6 harg6 arg8 arg9 arg10 harg10 arg11 harg11 arg13 arg15 harg15 arg16 harg16 arg17 arg18 arg19 harg19 C L c hE hC
      (cs2 k) (hcs2 k) (callCan k) (hcan k) (callSkip k) (hskip k) hent hE' hi hF hDI)
    isplitl [HQ H8 H9 H13 HO]
    · isplitl [HQ]; · iexact HQ
      isplitl [H8]; · iexact H8
      isplitl [H9]; · iexact H9
      isplitl [H13]; · iexact H13
      iexact HO
    iintro %I' %s' %j' %hF' ⟨HQ, H8, H9, H13, HO⟩
    iexists I', s', j', _
    isplitr
    · ipureintro
      exact ⟨hF', hPD _ _ hE' _ hi hX⟩
    isplitl [HQ]; · iexact HQ
    isplitl [H8]; · iexact H8
    isplitl [H9]; · iexact H9
    isplitl [H13]; · iexact H13
    iexact HO

end

end Cert.Kernel.M
-- ==== Proof.K.MirrorEq.lean ====
module

public import proofs.«01_k».proof.Proof.K.Mirror
public import Idealize.ShloMosaic.Lib.Pipeline.Regions

@[expose] public section

set_option synthInstance.maxSize 4096

noncomputable section

namespace Cert.Kernel.M

open Idealize.ShloMosaic Idealize.SL.Sem

variable {F : FTy → Type} [FloatOps F]
variable [Facts]
open Facts₀ Facts
variable (i : grid0.Coords) (arg1 : Memref sig .tc .smem S8x128 .i32) (harg1 : arg1.IsWhole) (arg2 : Memref sig .tc .smem S8x128 .f32) (harg2 : arg2.IsWhole) (arg3 : Memref sig .tc .smem S1x4x128 .i32) (harg3 : arg3.IsWhole) (arg4 : Memref sig .tc .smem S1x4x128 .i32) (harg4 : arg4.IsWhole) (arg5 : Memref sig .tc .smem S1x1x4 .i32) (harg5 : arg5.IsWhole) (arg6 : Memref sig .tc .smem S1x1x4 .i32) (harg6 : arg6.IsWhole) (arg7 : Memref sig .tc .vmem S128x3072 .bf16) (harg7 : arg7.IsWhole) (arg8 : Memref sig .tc .vmem S32x3072 .fp8e4m3) (harg8 : arg8.IsWhole) (arg9 : Memref sig .tc .vmem S32x24 .f32) (harg9 : arg9.IsWhole) (arg10 : Memref sig .tc .hbm S249037x3072 .fp8e4m3) (harg10 : arg10.IsWhole) (arg11 : Memref sig .tc .hbm S249037x24 .f32) (harg11 : arg11.IsWhole) (arg12 : Memref sig .tc .vmem S128x3072 .bf16) (harg12 : arg12.IsWhole) (arg13 : Memref sig .tc .vmem S102432x128 .f32) (harg13 : arg13.IsWhole) (arg14 : Memref sig .tc .vmem S3200x128 .f32) (harg14 : arg14.IsWhole) (arg15 : Memref sig .tc .vmem S16x32x3072 .fp8e4m3) (harg15 : arg15.IsWhole) (arg16 : Memref sig .tc .vmem S16x32x24 .f32) (harg16 : arg16.IsWhole) (arg17 : DmaSems sig S16) (arg18 : DmaSems sig S16) (arg19 : Memref sig .tc .smem S4 .i32) (harg19 : arg19.IsWhole)

theorem comb_eq : cc0_combine (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19 = comb i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19 := by chain_rfl

end Cert.Kernel.M
-- ==== Proof.K.Open.lean ====
module

public import proofs.«01_k».proof.Proof.K.Loops
public import proofs.«01_k».proof.Proof.K.MirrorEq

@[expose] public section

noncomputable section

/-
  One grid step.
-/
namespace Cert.Kernel.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]
open Facts₀ Facts

omit [Facts] in
theorem first_step : ∀ n : Fin 256, n.val = 0 → Scalar.cmpi .ne (Scalar.extui (Scalar.cmpi .eq (BitVec.ofNat 32 n.val) 0#32) : BitVec 32) 0#32 = 1#1
    ∧ ¬ Scalar.cmpi .ne (Scalar.extui (Scalar.cmpi .sgt (BitVec.ofNat 32 n.val) 0#32) : BitVec 32) 0#32 = 1#1 := by decide +kernel
omit [Facts] in
theorem later_step : ∀ n : Fin 256, n.val ≠ 0 → ¬ Scalar.cmpi .ne (Scalar.extui (Scalar.cmpi .eq (BitVec.ofNat 32 n.val) 0#32) : BitVec 32) 0#32 = 1#1
    ∧ Scalar.cmpi .ne (Scalar.extui (Scalar.cmpi .sgt (BitVec.ofNat 32 n.val) 0#32) : BitVec 32) 0#32 = 1#1 := by decide +kernel

/-- The row numbers of a store of eight rows. -/
def vI (n : BitVec 32) : IVec S8x128 32 := addi (iota .tc S8x128 32 [0] iota_S8x128_d0_w32) (broadcast S8x128 n)

/-- What the opening of a step yields. -/
abbrev Opened (F : FTy → Type) [FloatOps F] : Type := Σ' (v5 : BitVec 32) (v23 : IVec S8x128 32) (v26 : IVec S8x128 32) (v29 : IVec S8x128 32) (v30 : Elt F .i32) (k0_hw6 : k0_chk6 v30) (c0_i32_11 : BitVec 32), BitVec 32

section
variable (i : grid0.Coords)
  (arg1 : Memref sig .tc .smem S8x128 .i32) (harg1 : arg1.IsWhole)
  (arg2 : Memref sig .tc .smem S8x128 .f32) (harg2 : arg2.IsWhole)
  (arg3 : Memref sig .tc .smem S1x4x128 .i32) (harg3 : arg3.IsWhole)
  (arg4 : Memref sig .tc .smem S1x4x128 .i32) (harg4 : arg4.IsWhole)
  (arg5 : Memref sig .tc .smem S1x1x4 .i32) (harg5 : arg5.IsWhole)
  (arg6 : Memref sig .tc .smem S1x1x4 .i32) (harg6 : arg6.IsWhole)
  (arg7 : Memref sig .tc .vmem S128x3072 .bf16) (harg7 : arg7.IsWhole)
  (arg8 : Memref sig .tc .vmem S32x3072 .fp8e4m3) (harg8 : arg8.IsWhole)
  (arg9 : Memref sig .tc .vmem S32x24 .f32) (harg9 : arg9.IsWhole)
  (arg10 : Memref sig .tc .hbm S249037x3072 .fp8e4m3) (harg10 : arg10.IsWhole)
  (arg11 : Memref sig .tc .hbm S249037x24 .f32) (harg11 : arg11.IsWhole)
  (arg12 : Memref sig .tc .vmem S128x3072 .bf16) (harg12 : arg12.IsWhole)
  (arg13 : Memref sig .tc .vmem S102432x128 .f32) (harg13 : arg13.IsWhole)
  (arg14 : Memref sig .tc .vmem S3200x128 .f32) (harg14 : arg14.IsWhole)
  (arg15 : Memref sig .tc .vmem S16x32x3072 .fp8e4m3) (harg15 : arg15.IsWhole)
  (arg16 : Memref sig .tc .vmem S16x32x24 .f32) (harg16 : arg16.IsWhole)
  (arg17 arg18 : DmaSems sig S16) (arg19 : Memref sig .tc .smem S4 .i32) (harg19 : arg19.IsWhole)

/-- The opening of a step after the counters are set: the queue filled, the first count read. -/
def open2 (v5 : BitVec 32) : PR F (Opened F) :=
  topUp arg19 v5 (fun s j => Prog.lift (.call (1 : (Λ₀ F).Label) ⟨i, arg5, harg5, arg6, harg6, s, j⟩))
    (fun b => Prog.lift (.call (2 : (Λ₀ F).Label) ⟨i, arg19, harg19, arg3, harg3, arg4, harg4, arg17, arg15, harg15, arg10, harg10, arg18, arg16, harg16, arg11, harg11, arg5, harg5, arg6, harg6, b⟩)) (do
    let v30 : Elt F .i32 ← smemLoad arg5 (Rect.unit (s := S1x1x4) ![0, 0, 0] S1x1x1.size inb_S1x1x4_S1x1x1_0_0_0) numel1_S1x1x1 rfl
    have k0_hw6 : k0_chk6 v30 := (← Prog.lift (TpuEff.assume (k0_chk6 v30) (k0_chk6.dec v30))).down
    pure ⟨v5, vI 0#32, vI 8#32, vI 16#32, v30, k0_hw6, 0#32, 0#32⟩)

theorem part496_first (h : (i 0).val = 0) : (k0_part496 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19 : PR F (Opened F)) =
    (wrS arg19 0 0#32 <| wrS arg19 1 0#32 <| wrS arg19 2 0#32 <| wrS arg19 3 0#32 <| do
      let v72 : Vec F S32x128 .f32 ← Prog.lift (.load arg13 (Rect.unit (s := S102432x128) ![102400, 0] S32x128.size inb_S102432x128_S32x128_102400_0).toLoadRect (View.loadsAt_vmem h_S32x128))
      Prog.lift (.store arg13 (Rect.unit (s := S102432x128) ![102400, 0] S32x128.size inb_S102432x128_S32x128_102400_0) (shapeCast S32x128 (broadcast S32x128 (Scalar.ofBits .f32 0x00000000#32 : F .f32)) shapeCasts_S32x128_S32x128) Finset.univ (View.stores_vmem_bits_univ h_S32x128 rfl) (.inl rfl))
      open2 i arg3 harg3 arg4 harg4 arg5 harg5 arg6 harg6 arg10 harg10 arg11 harg11 arg15 harg15 arg16 harg16 arg17 arg18 arg19 harg19 (Scalar.select (Scalar.cmpi .slt (Scalar.addi (BitVec.ofNat 32 (i 0).val) 1#32) 256#32) 8#32 4#32)) := by
  have h1 := first_step ⟨(i 0).val, stp_lt i⟩ h
  unfold k0_part496
  rw [dif_pos h1.1, dif_neg h1.2]
  show _ = _
  chain_rfl

theorem part496_later (h : (i 0).val ≠ 0) : (k0_part496 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19 : PR F (Opened F)) =
    (rdS arg19 2 fun s => wrS arg19 2 (Scalar.subi s 4#32) <|
      open2 i arg3 harg3 arg4 harg4 arg5 harg5 arg6 harg6 arg10 harg10 arg11 harg11 arg15 harg15 arg16 harg16 arg17 arg18 arg19 harg19 (Scalar.select (Scalar.cmpi .slt (Scalar.addi (BitVec.ofNat 32 (i 0).val) 1#32) 256#32) 8#32 4#32)) := by
  have h1 := later_step ⟨(i 0).val, stp_lt i⟩ h
  unfold k0_part496
  rw [dif_neg h1.1, dif_pos h1.2]
  show _ = _
  chain_rfl

variable (C : Cts F) (L : Lists) (c : Dev nD) (hE : Ents L (stp i) C.X3 C.X4) (hC : Counts L (stp i) C.X5 C.X6)

include hE hC in
theorem W_open2 {I D s j : ℕ} (hQ : L.Que (stp i) I D s j) {Q : Opened F → SP F} :
    iprop(QR arg3 arg4 arg5 arg6 arg10 arg11 arg15 arg16 arg17 arg18 arg19 C L c I D s j
      ∗ (∀ I', ∀ s', ∀ j', ⌜L.Full (stp i) I' D s' j'⌝
          -∗ QR arg3 arg4 arg5 arg6 arg10 arg11 arg15 arg16 arg17 arg18 arg19 C L c I' D s' j' -∗ Q ⟨nw (Lists.top (stp i)), vI 0#32, vI 8#32, vI 16#32, nw (L.cnt (4 * stp i + 0)), chk6_ok (L.cnt_le _), 0#32, 0#32⟩))
      ⊢ W c none (open2 i arg3 harg3 arg4 harg4 arg5 harg5 arg6 harg6 arg10 harg10 arg11 harg11 arg15 harg15 arg16 harg16 arg17 arg18 arg19 harg19 (nw (Lists.top (stp i)))) Q := by
  unfold open2
  iintro ⟨HR, HQ⟩
  iapply (topUp_spec i arg3 harg3 arg4 harg4 arg5 harg5 arg6 harg6 arg10 harg10 arg11 harg11 arg15 harg15 arg16 harg16 arg17 arg18 arg19 harg19 C L c hE hC
    (fun v67 v68 h2 v73 v78 h3 v81 h4 s j => Prog.lift (.call (3 : (Λ₀ F).Label) ⟨i, v67, v68, h2, v73, v78, h3, v81, h4, arg5, harg5, arg6, harg6, s, j⟩))
    (r3 i arg5 harg5 arg6 harg6) _ (r2 i arg3 harg3 arg4 harg4 arg5 harg5 arg6 harg6 arg10 harg10 arg11 harg11 arg15 harg15 arg16 harg16 arg19 harg19 arg17 arg18) _
    (r1 i arg5 harg5 arg6 harg6) hQ)
  isplitl [HR]; · iexact HR
  iintro %I' %s' %j' %hF HR
  unfold QR
  icases HR with ⟨H3, H4, H5, H6, HR⟩
  iapply (W_smem c none) $$ H5
  iintro H5
  rw [show C.X5 ((Rect.unit (s := S1x1x4) ![0, 0, 0] S1x1x1.size inb_S1x1x4_S1x1x1_0_0_0).idx (Shape.Idx.first (numel1_S1x1x1.symm ▸ Nat.one_pos))) = nw (L.cnt (4 * stp i + 0)) from hC.cur _]
  iapply (W_assume c none (chk6_ok (L.cnt_le _)))
  iapply (W_ret c none)
  iapply HQ $$ %I' %s' %j' %hF
  isplitl [H3]; · iexact H3
  isplitl [H4]; · iexact H4
  isplitl [H5]; · iexact H5
  isplitl [H6]; · iexact H6
  iexact HR

end

end Cert.Kernel.M
-- ==== Proof.K.Step.lean ====
module

public import proofs.«01_k».proof.Proof.K.Open

@[expose] public section

noncomputable section

/-
  One grid step.
-/
namespace Cert.Kernel.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]
open Facts₀ Facts

section
variable (i : grid0.Coords)
  (arg1 : Memref sig .tc .smem S8x128 .i32) (harg1 : arg1.IsWhole)
  (arg2 : Memref sig .tc .smem S8x128 .f32) (harg2 : arg2.IsWhole)
  (arg3 : Memref sig .tc .smem S1x4x128 .i32) (harg3 : arg3.IsWhole)
  (arg4 : Memref sig .tc .smem S1x4x128 .i32) (harg4 : arg4.IsWhole)
  (arg5 : Memref sig .tc .smem S1x1x4 .i32) (harg5 : arg5.IsWhole)
  (arg6 : Memref sig .tc .smem S1x1x4 .i32) (harg6 : arg6.IsWhole)
  (arg7 : Memref sig .tc .vmem S128x3072 .bf16) (harg7 : arg7.IsWhole)
  (arg8 : Memref sig .tc .vmem S32x3072 .fp8e4m3) (harg8 : arg8.IsWhole)
  (arg9 : Memref sig .tc .vmem S32x24 .f32) (harg9 : arg9.IsWhole)
  (arg10 : Memref sig .tc .hbm S249037x3072 .fp8e4m3) (harg10 : arg10.IsWhole)
  (arg11 : Memref sig .tc .hbm S249037x24 .f32) (harg11 : arg11.IsWhole)
  (arg12 : Memref sig .tc .vmem S128x3072 .bf16) (harg12 : arg12.IsWhole)
  (arg13 : Memref sig .tc .vmem S102432x128 .f32) (harg13 : arg13.IsWhole)
  (arg14 : Memref sig .tc .vmem S3200x128 .f32) (harg14 : arg14.IsWhole)
  (arg15 : Memref sig .tc .vmem S16x32x3072 .fp8e4m3) (harg15 : arg15.IsWhole)
  (arg16 : Memref sig .tc .vmem S16x32x24 .f32) (harg16 : arg16.IsWhole)
  (arg17 arg18 : DmaSems sig S16) (arg19 : Memref sig .tc .smem S4 .i32) (harg19 : arg19.IsWhole)
variable (C : Cts F) (L : Lists) (c : Dev nD) (X8 : S32x3072.Idx → Elt F .fp8e4m3) (X9 : S32x24.Idx → Elt F .f32)
  (PD : ℕ → (S102432x128.Idx → Elt F .f32) → Prop)
  (hE : Ents L (stp i) C.X3 C.X4) (hC : Counts L (stp i) C.X5 C.X6)
  (hPD : ∀ D E (hE : E < 498112) X, L.item D = E → PD D X → PD (D + 1) (widX (nw E) (chk8_ok hE) (codesOf C X8 (E / 64)) (scalesOf C X9 (E / 64)) X))
  (hP0 : ∀ X, PD 0 X)

/-- The state a step finds. -/
def StOk (t : ℕ) (v : Fin 4 → ℕ) (I D s j : ℕ) : Prop :=
  ((t = 0 ∧ I = 0) ∨ (0 < t ∧ v = ![I, D, s, j] ∧ L.Full (t - 1) I D s j)) ∧ D = L.P (4 * t)

include hE hC hP0 in
theorem W_open {v : Fin 4 → ℕ} {I D s j : ℕ} (hS : StOk L (stp i) v I D s j) {X : S102432x128.Idx → Elt F .f32} (hX : PD D X) {Q : Opened F → SP F} :
    iprop((owns (c : Thread nD τ) arg3 fullShare C.X3 ∗ owns (c : Thread nD τ) arg4 fullShare C.X4 ∗ owns (c : Thread nD τ) arg5 fullShare C.X5
        ∗ owns (c : Thread nD τ) arg6 fullShare C.X6 ∗ owns (c : Thread nD τ) arg19 fullShare (stV v : S4.Idx → Elt F .i32)
        ∗ (∃ f, ⌜L.Slots I D f⌝ ∗ ring arg10 arg11 arg15 arg16 arg17 arg18 C c f) ∗ owns (c : Thread nD τ) arg8 fullShare X8 ∗ owns (c : Thread nD τ) arg9 fullShare X9 ∗ owns (c : Thread nD τ) arg13 fullShare X ∗ ow c)
      ∗ (WI i arg3 arg4 arg5 arg6 arg8 arg9 arg10 arg11 arg13 arg15 arg16 arg17 arg18 arg19 C L c X8 X9 PD (L.P (4 * stp i + 0)) -∗ Q ⟨nw (Lists.top (stp i)), vI 0#32, vI 8#32, vI 16#32, nw (L.cnt (4 * stp i + 0)), chk6_ok (L.cnt_le _), 0#32, 0#32⟩))
      ⊢ W c none (k0_part496 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19 : PR F (Opened F)) Q := by
  obtain ⟨hS, hD⟩ := hS
  by_cases h0 : (i 0).val = 0
  · have hs0 : stp i = 0 := h0
    rcases hS with ⟨-, rfl⟩ | ⟨h, -⟩
    swap; · omega
    have hD0 : D = 0 := by rw [hD, hs0]; rfl
    subst hD0
    rw [part496_first i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19 h0, top_word]
    iintro ⟨⟨H3, H4, H5, H6, H19, HR, H8, H9, H13, HO⟩, HQ⟩
    unfold wrS
    iapply (W_rdw c _ 0 rfl) $$ H19
    iintro H19
    iapply (W_wrn c _ 0 0 _ rfl rfl rfl) $$ H19
    iintro H19
    iapply (W_rdw c _ 1 rfl) $$ H19
    iintro H19
    iapply (W_wrn c _ 1 0 _ rfl rfl rfl) $$ H19
    iintro H19
    iapply (W_rdw c _ 2 rfl) $$ H19
    iintro H19
    iapply (W_wrn c _ 2 0 _ rfl rfl rfl) $$ H19
    iintro H19
    iapply (W_rdw c _ 3 rfl) $$ H19
    iintro H19
    iapply (W_wrn c _ 3 0 ![0, 0, 0, 0] rfl (by funext x; fin_cases x <;> rfl) rfl) $$ H19
    iintro H19
    iapply (W_loadb c none) $$ H13
    iintro H13
    iapply (W_storeb c none) $$ H13
    iintro H13
    have hQ : L.Que (stp i) 0 0 0 0 := by
      rw [hs0]
      exact ⟨le_rfl, by omega, .inl ⟨by decide, Nat.zero_le _⟩, rfl⟩
    iapply (W_open2 i arg3 harg3 arg4 harg4 arg5 harg5 arg6 harg6 arg10 harg10 arg11 harg11 arg15 harg15 arg16 harg16 arg17 arg18 arg19 harg19 C L c hE hC hQ)
    isplitl [H3 H4 H5 H6 H19 HR]
    · unfold QR
      isplitl [H3]; · iexact H3
      isplitl [H4]; · iexact H4
      isplitl [H5]; · iexact H5
      isplitl [H6]; · iexact H6
      isplitl [H19]; · iexact H19
      iexact HR
    iintro %I' %s' %j' %hF HR
    iapply HQ
    unfold WI
    iexists I', s', j', _
    isplitr
    swap
    · isplitl [HR]
      · rw [hs0, show L.P (4 * 0 + 0) = 0 from rfl]
        iexact HR
      isplitl [H8]; · iexact H8
      isplitl [H9]; · iexact H9
      isplitl [H13]; · iexact H13
      iexact HO
    ipureintro
    exact ⟨by rw [hs0, show L.P (4 * 0 + 0) = 0 from rfl]; rw [hs0] at hF; exact hF, by rw [hs0]; exact hP0 _⟩
  · have h0' : stp i ≠ 0 := h0
    rcases hS with ⟨h, -⟩ | ⟨hp, rfl, hF⟩
    · omega
    have e4 : 4 * (stp i - 1) + 4 = 4 * stp i := by omega
    have hD' : D = L.P (4 * (stp i - 1) + 4) := by rw [e4]; exact hD
    have hlt := stp_lt i
    have hQ := hF.next hD' (by omega)
    rw [show stp i - 1 + 1 = stp i by omega] at hQ
    have h4 := hF.four hD'
    obtain ⟨-, -, hs8, -⟩ := hF.que.lt31
    rw [part496_later i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19 h0, top_word]
    iintro ⟨⟨H3, H4, H5, H6, H19, HR, H8, H9, H13, HO⟩, HQ⟩
    unfold rdS wrS
    iapply (W_rdn c _ 2 s rfl rfl) $$ H19
    iintro H19
    iapply (W_rdn c _ 2 s rfl rfl) $$ H19
    iintro H19
    iapply (W_wrn c _ 2 (s - 4) _ rfl (upd2 _ _ _ _ _) (s_subi h4 (by omega))) $$ H19
    iintro H19
    iapply (W_open2 i arg3 harg3 arg4 harg4 arg5 harg5 arg6 harg6 arg10 harg10 arg11 harg11 arg15 harg15 arg16 harg16 arg17 arg18 arg19 harg19 C L c hE hC hQ)
    isplitl [H3 H4 H5 H6 H19 HR]
    · unfold QR
      isplitl [H3]; · iexact H3
      isplitl [H4]; · iexact H4
      isplitl [H5]; · iexact H5
      isplitl [H6]; · iexact H6
      isplitl [H19]; · iexact H19
      iexact HR
    iintro %I' %s' %j' %hF HR
    iapply HQ
    unfold WI
    iexists I', s', j', _
    isplitr
    · ipureintro
      exact ⟨by rw [add_zero, ← hD]; exact hF, by rw [add_zero, ← hD]; exact hX⟩
    isplitl [HR]
    · rw [add_zero, ← hD]
      iexact HR
    isplitl [H8]; · iexact H8
    isplitl [H9]; · iexact H9
    isplitl [H13]; · iexact H13
    iexact HO

include hE hC hPD in
theorem W_wl2 {σ : ℕ} (hσ : σ < 4) {l : Scf.Loop 32} (hl : l.trips = L.cnt (4 * stp i + σ)) (hok : l.OK)
    {off : Fin l.trips → Fin 3 → ℕ} {hoff : ∀ k, ∀ a, off k a + S1x1x1.size a ≤ S1x4x128.size a} (hoffe : ∀ k, off k = ![0, σ, k.val])
    {cs2 : Fin l.trips → (v68 : BitVec 32) → k0_chk8 v68 → (v71 : BitVec 32) → k0_chk7 v68 v71 →
      (v67 v68 : Elt F .i32) → k0_chk2 v67 v68 → (v73 v78 : Elt F .i32) → k0_chk3 v67 v73 v78 → (v81 : Elt F .i32) → k0_chk4 v67 v73 v78 v81 → BitVec 32 → BitVec 32 → PR F (BitVec 32 × BitVec 32)}
    (hcs2 : ∀ t w68 h8 w71 h7 v67 v68 h2 v73 v78 h3 v81 h4 (c : Dev nD) (bd : Option ℕ) (v : ℕ), (∀ u ∈ bd, v < u) → ∀ (a b : BitVec 32) (Q : BitVec 32 × BitVec 32 → SP F),
      W c (some v) (skipBody i arg5 harg5 arg6 harg6 (cs2 t w68 h8 w71 h7 v67 v68 h2 v73 v78 h3 v81 h4) a b) Q ⊢ W c bd (cs2 t w68 h8 w71 h7 v67 v68 h2 v73 v78 h3 v81 h4 a b) Q)
    {callCan : Fin l.trips → (v68 : BitVec 32) → k0_chk8 v68 → (v71 : BitVec 32) → k0_chk7 v68 v71 → BitVec 1 → PR F (BitVec 1)}
    (hcan : ∀ t w68 h8 w71 h7 (c : Dev nD) (bd : Option ℕ) (v : ℕ), (∀ u ∈ bd, v < u) → ∀ (a : BitVec 1) (Q : BitVec 1 → SP F),
      W c (some v) (canBody i arg19 harg19 arg3 harg3 arg4 harg4 arg17 arg15 harg15 arg10 harg10 arg18 arg16 harg16 arg11 harg11 arg5 harg5 arg6 harg6 a (cs2 t w68 h8 w71 h7) (callCan t w68 h8 w71 h7)) Q
        ⊢ W c bd (callCan t w68 h8 w71 h7 a) Q)
    {callSkip : Fin l.trips → (v68 : BitVec 32) → k0_chk8 v68 → (v71 : BitVec 32) → k0_chk7 v68 v71 → BitVec 32 → BitVec 32 → PR F (BitVec 32 × BitVec 32)}
    (hskip : ∀ t w68 h8 w71 h7 (c : Dev nD) (bd : Option ℕ) (v : ℕ), (∀ u ∈ bd, v < u) → ∀ (a b : BitVec 32) (Q : BitVec 32 × BitVec 32 → SP F),
      W c (some v) (skipBody i arg5 harg5 arg6 harg6 (callSkip t w68 h8 w71 h7) a b) Q ⊢ W c bd (callSkip t w68 h8 w71 h7 a b) Q)
    {l2 : Scf.Loop 32} (hl2 : l2.trips = 0) (hok2 : l2.OK) {body2 : Fin l2.trips → BitVec 32 → PR F (BitVec 32)}
    {β : Type} {init : BitVec 32} {kk : BitVec 32 → PR F β} {Q : β → SP F} :
    WI i arg3 arg4 arg5 arg6 arg8 arg9 arg10 arg11 arg13 arg15 arg16 arg17 arg18 arg19 C L c X8 X9 PD (L.P (4 * stp i + σ))
      ⊢ iprop((WI i arg3 arg4 arg5 arg6 arg8 arg9 arg10 arg11 arg13 arg15 arg16 arg17 arg18 arg19 C L c X8 X9 PD (L.P (4 * stp i + (σ + 1))) -∗ ∀ acc, W c none (kk acc) Q)
        -∗ W c none (Scf.Loop.for l hok init (fun t _ => widen arg3 arg8 arg9 arg10 harg10 arg11 arg13 arg15 harg15 arg16 arg17 arg18 arg19 (off t) (hoff t)
            (nw (Lists.top (stp i))) (callSkip t) (callCan t)) >>= fun a => Scf.Loop.for l2 hok2 a body2 >>= kk) Q) := by
  iintro H HK
  iapply (W_wloop i arg3 harg3 arg4 harg4 arg5 harg5 arg6 harg6 arg8 arg9 arg10 harg10 arg11 harg11 arg13 arg15 harg15 arg16 harg16 arg17 arg18 arg19 harg19 C L c X8 X9 PD hE hC hPD hσ hl hok hoffe hcs2 hcan hskip) $$ H
  iintro %acc H
  iapply (W_none c hl2 hok2)
  iapply HK $$ H

variable (X1 : S8x128.Idx → Elt F .i32) (X2 : S8x128.Idx → Elt F .f32) (hX1 : ∀ x, k0_chk21 (X1 x))

/-- What the tokens use besides the rows. -/
def TI (A : S3200x128.Idx → Elt F .f32) : SP F :=
  iprop(owns (c : Thread nD τ) arg1 fullShare X1 ∗ owns (c : Thread nD τ) arg2 fullShare X2 ∗ owns (c : Thread nD τ) arg14 fullShare A)

theorem W_tk {s : Fin 4} {D : ℕ} {A : S3200x128.Idx → Elt F .f32} {β : Type} {Q : β → SP F} {l : Scf.Loop 32} (hl : l.trips = 4) (hok : l.OK) {kk : PUnit → PR F β} :
    iprop(WI i arg3 arg4 arg5 arg6 arg8 arg9 arg10 arg11 arg13 arg15 arg16 arg17 arg18 arg19 C L c X8 X9 PD D ∗ TI arg1 arg2 arg14 c X1 X2 A)
      ⊢ iprop((∀ X, ⌜PD D X⌝ -∗ (WI i arg3 arg4 arg5 arg6 arg8 arg9 arg10 arg11 arg13 arg15 arg16 arg17 arg18 arg19 C L c X8 X9 PD D ∗ TI arg1 arg2 arg14 c X1 X2 (subX X1 X2 X hX1 (vI 0#32) (vI 8#32) (vI 16#32) s A 4)) -∗ W c none (kk ⟨⟩) Q)
        -∗ W c none (Scf.Loop.for l hok ⟨⟩ (fun t _ => tokens arg1 arg2 arg13 arg14 (vI 0#32) (vI 8#32) (vI 16#32) s (Fin.cast hl t) 8 (by decide)) >>= kk) Q) := by
  unfold WI TI
  iintro ⟨⟨%I, %s', %j, %X, %hF, HR, H8, H9, H13, HO⟩, H1, H2, H14⟩ HK
  iapply (W_sub arg1 arg2 arg13 arg14 X1 X2 X hX1 (vI 0#32) (vI 8#32) (vI 16#32) c hl hok) $$ [H1 H2 H13 H14]
  · unfold TR
    isplitl [H1]; · iexact H1
    isplitl [H2]; · iexact H2
    isplitl [H13]; · iexact H13
    iexact H14
  unfold TR
  iintro ⟨H1, H2, H13, H14⟩
  iapply HK $$ %X %hF.2
  isplitl [HR H8 H9 H13 HO]
  · iexists I, s', j, X
    isplitr; · ipureintro; exact hF
    isplitl [HR]; · iexact HR
    isplitl [H8]; · iexact H8
    isplitl [H9]; · iexact H9
    isplitl [H13]; · iexact H13
    iexact HO
  isplitl [H1]; · iexact H1
  isplitl [H2]; · iexact H2
  iexact H14

include hC in
theorem W_count {D n : ℕ} {off : Fin 3 → ℕ} {hoff : ∀ a, off a + S1x1x1.size a ≤ S1x1x4.size a} (hn : n < 4) (ho : off = ![0, 0, n]) {β : Type} {Q : β → SP F} {kk : BitVec 32 → PR F β} :
    WI i arg3 arg4 arg5 arg6 arg8 arg9 arg10 arg11 arg13 arg15 arg16 arg17 arg18 arg19 C L c X8 X9 PD D ⊢ iprop((WI i arg3 arg4 arg5 arg6 arg8 arg9 arg10 arg11 arg13 arg15 arg16 arg17 arg18 arg19 C L c X8 X9 PD D -∗ W c none (kk (nw (L.cnt (4 * stp i + n)))) Q)
      -∗ W c none ((smemLoad arg5 (Rect.unit (s := S1x1x4) off S1x1x1.size hoff) numel1_S1x1x1 rfl : PR F (Elt F .i32)) >>= kk) Q) := by
  subst ho
  unfold WI QR
  iintro ⟨%I, %s', %j, %X, %hF, ⟨H3, H4, H5, HR⟩, HW⟩ HK
  iapply (W_smem c none) $$ H5
  iintro H5
  rw [show C.X5 ((Rect.unit (s := S1x1x4) ![0, 0, n] S1x1x1.size hoff).idx (Shape.Idx.first (numel1_S1x1x1.symm ▸ Nat.one_pos))) = nw (L.cnt (4 * stp i + n)) from hC.cur _]
  iapply HK
  iexists I, s', j, X
  isplitr; · ipureintro; exact hF
  isplitl [H3 H4 H5 HR]
  · isplitl [H3]; · iexact H3
    isplitl [H4]; · iexact H4
    isplitl [H5]; · iexact H5
    iexact HR
  iexact HW

/-- `acc` at the end of a step. -/
def accF (Y0 Y1 Y2 Y3 : S102432x128.Idx → Elt F .f32) (A : S3200x128.Idx → Elt F .f32) : S3200x128.Idx → Elt F .f32 :=
  subX X1 X2 Y3 hX1 (vI 0#32) (vI 8#32) (vI 16#32) 3 (subX X1 X2 Y2 hX1 (vI 0#32) (vI 8#32) (vI 16#32) 2
    (subX X1 X2 Y1 hX1 (vI 0#32) (vI 8#32) (vI 16#32) 1 (subX X1 X2 Y0 hX1 (vI 0#32) (vI 8#32) (vI 16#32) 0 A 4) 4) 4) 4

include hE hC hPD in
theorem W_497 {A : S3200x128.Idx → Elt F .f32}
    {Q : (Σ' (v39 : Elt F .i32) (k0_hw85 : k0_chk85 v39) (v48 : Elt F .i32) (k0_hw164 : k0_chk164 v48) (c0_i32_40 : BitVec 32), BitVec 32) → SP F} :
    iprop(WI i arg3 arg4 arg5 arg6 arg8 arg9 arg10 arg11 arg13 arg15 arg16 arg17 arg18 arg19 C L c X8 X9 PD (L.P (4 * stp i + 0)) ∗ TI arg1 arg2 arg14 c X1 X2 A)
      ⊢ iprop((∀ Y0, ∀ Y1, ⌜PD (L.P (4 * stp i + 1)) Y0 ∧ PD (L.P (4 * stp i + 2)) Y1⌝ -∗ WI i arg3 arg4 arg5 arg6 arg8 arg9 arg10 arg11 arg13 arg15 arg16 arg17 arg18 arg19 C L c X8 X9 PD (L.P (4 * stp i + 3))
          -∗ TI arg1 arg2 arg14 c X1 X2 (subX X1 X2 Y1 hX1 (vI 0#32) (vI 8#32) (vI 16#32) 1 (subX X1 X2 Y0 hX1 (vI 0#32) (vI 8#32) (vI 16#32) 0 A 4) 4)
          -∗ Q ⟨nw (L.cnt (4 * stp i + 1)), chk85_ok (L.cnt_le _), nw (L.cnt (4 * stp i + 2)), chk164_ok (L.cnt_le _), 0#32, 1#32⟩)
        -∗ W c none (comb497 i arg1 arg2 arg3 harg3 arg4 harg4 arg5 harg5 arg6 harg6 arg8 arg9 arg10 harg10 arg11 harg11 arg13 arg14 arg15 harg15 arg16 harg16 arg17 arg18 arg19 harg19
            (nw (Lists.top (stp i))) (vI 0#32) (vI 8#32) (vI 16#32) (nw (L.cnt (4 * stp i + 0))) (chk6_ok (L.cnt_le _)) 0#32 0#32) Q) := by
  unfold comb497
  iintro ⟨HW, HT⟩ HK
  iapply (W_wl2 i arg3 harg3 arg4 harg4 arg5 harg5 arg6 harg6 arg8 arg9 arg10 harg10 arg11 harg11 arg13 arg15 harg15 arg16 harg16 arg17 arg18 arg19 harg19 C L c X8 X9 PD hE hC hPD (σ := 0) (by decide) (t1_trips (L.cnt_le _)) _ (off12_eq (L.cnt_le _))
    (r6 i arg5 harg5 arg6 harg6 _ _) (r5 i arg3 harg3 arg4 harg4 arg5 harg5 arg6 harg6 arg10 harg10 arg11 harg11 arg15 harg15 arg16 harg16 arg19 harg19 arg17 arg18 _ _) (r4 i arg5 harg5 arg6 harg6 _ _) (t2_trips (L.cnt_le _)) _) $$ HW
  iintro HW %acc0
  iapply (W_tk i arg1 arg2 arg3 arg4 arg5 arg6 arg8 arg9 arg10 arg11 arg13 arg14 arg15 arg16 arg17 arg18 arg19 C L c X8 X9 PD X1 X2 hX1 (s := 0) _ _) $$ [HW HT]
  · isplitl [HW]; · iexact HW
    iexact HT
  iintro %Y0 %hY0 ⟨HW, HT⟩
  iapply (W_count i arg3 arg4 arg5 arg6 arg8 arg9 arg10 arg11 arg13 arg15 arg16 arg17 arg18 arg19 C L c X8 X9 PD hC (n := 1) (by decide) rfl) $$ HW
  iintro HW
  iapply (W_assume c none (chk85_ok (L.cnt_le _)))
  iapply (W_wl2 i arg3 harg3 arg4 harg4 arg5 harg5 arg6 harg6 arg8 arg9 arg10 harg10 arg11 harg11 arg13 arg15 harg15 arg16 harg16 arg17 arg18 arg19 harg19 C L c X8 X9 PD hE hC hPD (σ := 1) (by decide) (t1_trips (L.cnt_le _)) _ (off368_eq (L.cnt_le _))
    (r12 i arg5 harg5 arg6 harg6 _ _ _ _) (r11 i arg3 harg3 arg4 harg4 arg5 harg5 arg6 harg6 arg10 harg10 arg11 harg11 arg15 harg15 arg16 harg16 arg19 harg19 arg17 arg18 _ _ _ _) (r10 i arg5 harg5 arg6 harg6 _ _ _ _) (t2_trips (L.cnt_le _)) _) $$ HW
  iintro HW %acc1
  iapply (W_tk i arg1 arg2 arg3 arg4 arg5 arg6 arg8 arg9 arg10 arg11 arg13 arg14 arg15 arg16 arg17 arg18 arg19 C L c X8 X9 PD X1 X2 hX1 (s := 1) _ _) $$ [HW HT]
  · isplitl [HW]; · iexact HW
    iexact HT
  iintro %Y1 %hY1 ⟨HW, HT⟩
  iapply (W_count i arg3 arg4 arg5 arg6 arg8 arg9 arg10 arg11 arg13 arg15 arg16 arg17 arg18 arg19 C L c X8 X9 PD hC (n := 2) (by decide) rfl) $$ HW
  iintro HW
  iapply (W_assume c none (chk164_ok (L.cnt_le _)))
  iapply (W_wl2 i arg3 harg3 arg4 harg4 arg5 harg5 arg6 harg6 arg8 arg9 arg10 harg10 arg11 harg11 arg13 arg15 harg15 arg16 harg16 arg17 arg18 arg19 harg19 C L c X8 X9 PD hE hC hPD (σ := 2) (by decide) (t1_trips (L.cnt_le _)) _ (off724_eq (L.cnt_le _))
    (r18 i arg5 harg5 arg6 harg6 _ _ _ _ _ _) (r17 i arg3 harg3 arg4 harg4 arg5 harg5 arg6 harg6 arg10 harg10 arg11 harg11 arg15 harg15 arg16 harg16 arg19 harg19 arg17 arg18 _ _ _ _ _ _) (r16 i arg5 harg5 arg6 harg6 _ _ _ _ _ _) (t2_trips (L.cnt_le _)) _) $$ HW
  iintro HW %acc2
  iapply (W_ret c none)
  iapply HK $$ %Y0 %Y1 %⟨hY0, hY1⟩ HW HT

include hE hC hPD hP0 in
/-- One grid step. -/
theorem comb_spec {v : Fin 4 → ℕ} {I D s j : ℕ} (hS : StOk L (stp i) v I D s j) {X : S102432x128.Idx → Elt F .f32} (hX : PD D X) {A : S3200x128.Idx → Elt F .f32}
    {X7 O : S128x3072.Idx → Elt F .bf16} {Q : PUnit → SP F} :
    iprop((owns (c : Thread nD τ) arg3 fullShare C.X3 ∗ owns (c : Thread nD τ) arg4 fullShare C.X4 ∗ owns (c : Thread nD τ) arg5 fullShare C.X5
        ∗ owns (c : Thread nD τ) arg6 fullShare C.X6 ∗ owns (c : Thread nD τ) arg19 fullShare (stV v : S4.Idx → Elt F .i32)
        ∗ (∃ f, ⌜L.Slots I D f⌝ ∗ ring arg10 arg11 arg15 arg16 arg17 arg18 C c f) ∗ owns (c : Thread nD τ) arg8 fullShare X8 ∗ owns (c : Thread nD τ) arg9 fullShare X9 ∗ owns (c : Thread nD τ) arg13 fullShare X ∗ ow c)
      ∗ TI arg1 arg2 arg14 c X1 X2 A ∗ owns (c : Thread nD τ) arg7 fullShare X7 ∗ owns (c : Thread nD τ) arg12 fullShare O
      ∗ (∀ Y0, ∀ Y1, ∀ Y2, ∀ Y3, ⌜PD (L.P (4 * stp i + 1)) Y0 ∧ PD (L.P (4 * stp i + 2)) Y1 ∧ PD (L.P (4 * stp i + 3)) Y2 ∧ PD (L.P (4 * stp i + 4)) Y3⌝
          -∗ WI i arg3 arg4 arg5 arg6 arg8 arg9 arg10 arg11 arg13 arg15 arg16 arg17 arg18 arg19 C L c X8 X9 PD (L.P (4 * stp i + 4)) -∗ TI arg1 arg2 arg14 c X1 X2 (accF X1 X2 hX1 Y0 Y1 Y2 Y3 A)
          -∗ owns (c : Thread nD τ) arg7 fullShare X7 -∗ owns (c : Thread nD τ) arg12 fullShare (finX (accF X1 X2 hX1 Y0 Y1 Y2 Y3 A) X7 O 8) -∗ Q ⟨⟩))
      ⊢ W c none (cc0_combine i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19) Q := by
  rw [comb_eq i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19]
  unfold comb
  rw [W_bind]
  iintro ⟨HP, HT, H7, H12, HK⟩
  iapply (W_open i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19 C L c X8 X9 PD hE hC hP0 hS hX)
  isplitl [HP]; · iexact HP
  iintro HW
  rw [W_bind]
  iapply (W_497 i arg1 arg2 arg3 harg3 arg4 harg4 arg5 harg5 arg6 harg6 arg8 arg9 arg10 harg10 arg11 harg11 arg13 arg14 arg15 harg15 arg16 harg16 arg17 arg18 arg19 harg19 C L c X8 X9 PD hE hC hPD X1 X2 hX1) $$ [HW HT]
  · isplitl [HW]; · iexact HW
    iexact HT
  iintro %Y0 %Y1 %hY HW HT
  iapply (W_tk i arg1 arg2 arg3 arg4 arg5 arg6 arg8 arg9 arg10 arg11 arg13 arg14 arg15 arg16 arg17 arg18 arg19 C L c X8 X9 PD X1 X2 hX1 (s := 2) _ _) $$ [HW HT]
  · isplitl [HW]; · iexact HW
    iexact HT
  iintro %Y2 %hY2 ⟨HW, HT⟩
  iapply (W_count i arg3 arg4 arg5 arg6 arg8 arg9 arg10 arg11 arg13 arg15 arg16 arg17 arg18 arg19 C L c X8 X9 PD hC (n := 3) (by decide) rfl) $$ HW
  iintro HW
  iapply (W_assume c none (chk243_ok (L.cnt_le _)))
  iapply (W_wl2 i arg3 harg3 arg4 harg4 arg5 harg5 arg6 harg6 arg8 arg9 arg10 harg10 arg11 harg11 arg13 arg15 harg15 arg16 harg16 arg17 arg18 arg19 harg19 C L c X8 X9 PD hE hC hPD (σ := 3) (by decide) (t1_trips (L.cnt_le _)) _ (off1080_eq (L.cnt_le _))
    (r24 i arg5 harg5 arg6 harg6 _ _ _ _ _ _ _ _) (r23 i arg3 harg3 arg4 harg4 arg5 harg5 arg6 harg6 arg10 harg10 arg11 harg11 arg15 harg15 arg16 harg16 arg19 harg19 arg17 arg18 _ _ _ _ _ _ _ _) (r22 i arg5 harg5 arg6 harg6 _ _ _ _ _ _ _ _) (t2_trips (L.cnt_le _)) _) $$ HW
  iintro HW %acc3
  iapply (W_tk i arg1 arg2 arg3 arg4 arg5 arg6 arg8 arg9 arg10 arg11 arg13 arg14 arg15 arg16 arg17 arg18 arg19 C L c X8 X9 PD X1 X2 hX1 (s := 3) _ _) $$ [HW HT]
  · isplitl [HW]; · iexact HW
    iexact HT
  iintro %Y3 %hY3 ⟨HW, HT⟩
  unfold TI
  icases HT with ⟨H1, H2, H14⟩
  iapply (W_fin arg7 arg12 harg12 arg14 c _ _) $$ [H7 H12 H14]
  · unfold FR
    isplitl [H7]; · iexact H7
    isplitl [H12]; · iexact H12
    iexact H14
  unfold FR
  iintro ⟨H7, H12, H14⟩
  iapply (W_ret c none)
  unfold accF
  iapply HK $$ %Y0 %Y1 %Y2 %Y3 %⟨hY.1, hY.2, hY2, hY3⟩ HW [H1 H2 H14] H7 H12
  isplitl [H1]; · iexact H1
  isplitl [H2]; · iexact H2
  iexact H14

end

end Cert.Kernel.M
-- ==== Proof.K.Ring.lean ====
module

public import proofs.«01_k».proof.Proof.K.Step
public import Idealize.ShloMosaic.Lib.Ring
public import proofs.«01_k».proof.Proof.Gen.Kernel.Launch

@[expose] public section

noncomputable section

/-
  The ring of landing slots, made of the scratch buffers and taken apart again.
-/
namespace Cert.Kernel.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
open Facts₀ Facts

section
variable {N R : ℕ} {e : EltTy} (m : Memref sig .tc .vmem ⟨3, ![16, 32, N]⟩ e) (hq : (⟨3, ![1, 32, N]⟩ : Shape).Squeezes ⟨2, ![32, N]⟩)
  (hm : m.IsWhole) (c : Dev nD)

/-- The slots' parts of a ring buffer. -/
def slotI (k : Fin 16) : Finset m.view.ty.Idx := (slotM m hq k).view.set

theorem slotI_disj (k k' : Fin 16) (h : k ≠ k') : Disjoint (slotI m hq k) (slotI m hq k') := by
  rw [Finset.disjoint_left]
  intro x h1 h2
  unfold slotI at h1 h2
  rw [slot_set] at h1 h2
  obtain ⟨y, hy, rfl⟩ := Finset.mem_map.mp h1
  rw [View.mem_setOn, mem_slot] at h2
  rw [mem_slot] at hy
  exact h (Fin.ext (hy.symm.trans h2))

include hm in
theorem slotI_cover : Finset.univ.biUnion (slotI m hq) = Finset.univ := by
  refine Finset.eq_univ_iff_forall.mpr fun x => ?_
  have hx : x ∈ m.view.set := by rw [Memref.IsWhole.set_eq_univ hm]; exact Finset.mem_univ x
  obtain ⟨y, -, rfl⟩ := Finset.mem_map.mp hx
  refine Finset.mem_biUnion.mpr ⟨⟨(y 0).val, (y 0).isLt⟩, Finset.mem_univ _, ?_⟩
  unfold slotI
  rw [slot_set, View.mem_setOn, mem_slot]

include hm in
/-- A ring buffer taken apart into its slots. -/
theorem slots_split (f : Buf (Elt F) (m.view.loc (c : Thread nD τ))) :
    (m.view.loc (c : Thread nD τ) ↦{fullShare} f : SP F)
      ⊢ bigSep Finset.univ fun k : Fin 16 => iprop(∃ X, owns (c : Thread nD τ) (slotM m hq k) fullShare X) := by
  rw [Ring.pointsTo_blocks (slotI m hq) (slotI_disj m hq) (slotI_cover m hq hm) f]
  refine bigSep_mono fun k _ => ?_
  show (m.view.loc (c : Thread nD τ) ↦[slotI m hq k]{fullShare} f : SP F) ⊢ iprop(∃ X, owns (c : Thread nD τ) (slotM m hq k) fullShare X)
  iintro H
  iexists _
  rw [slot_owns]
  iexists f
  isplitr
  · ipureintro; rfl
  iexact H

include hm in
/-- And put together again. -/
theorem slots_join (f₀ : Buf (Elt F) (m.view.loc (c : Thread nD τ))) :
    (bigSep Finset.univ fun k : Fin 16 => iprop(∃ X, owns (c : Thread nD τ) (slotM m hq k) fullShare X))
      ⊢ (iprop(∃ f, m.view.loc (c : Thread nD τ) ↦{fullShare} f) : SP F) := by
  refine .trans (bigSep_mono fun k _ => ?_) (Ring.pointsTo_blocks_join_exists (slotI m hq) (slotI_disj m hq) (slotI_cover m hq hm) f₀)
  show (iprop(∃ X, owns (c : Thread nD τ) (slotM m hq k) fullShare X) : SP F) ⊢ iprop(∃ f : Buf (Elt F) (m.view.loc (c : Thread nD τ)), m.view.loc (c : Thread nD τ) ↦[slotI m hq k]{fullShare} f)
  simp only [slot_owns]
  iintro ⟨%X, %f, -, H⟩
  iexists f
  iexact H
end

/-- The ring's semaphores. -/
def osem : Fin 16 ⊕ Fin 16 → SemLoc sig := Sum.elim (fun k => .dma (semM cc0_scratch4 k)) (fun k => .dma (semM cc0_scratch5 k))

theorem ownSemFacts : Pipeline.OwnSemFacts spec0 osem := by decide

variable (C : Cts F) (c : Dev nD)

/-- The ring of the program's own buffers. -/
abbrev ringW (f : Fin 16 → Option ℕ) : SP F :=
  ring (Memref.whole main_arg5) (Memref.whole main_arg6) (Memref.whole cc0_scratch2) (Memref.whole cc0_scratch3) cc0_scratch4 cc0_scratch5 C c f

theorem ownSems0_eq' : (Pipeline.ownSems0 (Ix := Unit) (Name := ℕ) (U := Pipeline.UD sig nD τ) (Lvl := ℕ) (Val := Elt F) (τ := τ) osem c : SP F)
    = iprop((bigSep Finset.univ fun k : Fin 16 => semVal ((c : Thread nD τ), .dma (semM cc0_scratch4 k)) 0)
      ∗ bigSep Finset.univ fun k : Fin 16 => semVal ((c : Thread nD τ), .dma (semM cc0_scratch5 k)) 0) := by
  unfold Pipeline.ownSems0
  rw [bigSep_univ_sum]
  rfl

/-- The empty ring, its parts gathered. -/
theorem ring_none : (ringW C c fun _ => none)
    = iprop(((bigSep Finset.univ fun k : Fin 16 => iprop(∃ X, owns (c : Thread nD τ) (slotM (Memref.whole cc0_scratch2) squeezes_S1x32x3072_S32x3072 k) fullShare X))
          ∗ (bigSep Finset.univ fun k : Fin 16 => semVal ((c : Thread nD τ), .dma (semM cc0_scratch4 k)) 0)
          ∗ bigSep Finset.univ fun k : Fin 16 => owns (c : Thread nD τ) (Memref.whole main_arg5) (C.q k) C.Y)
        ∗ ((bigSep Finset.univ fun k : Fin 16 => iprop(∃ X, owns (c : Thread nD τ) (slotM (Memref.whole cc0_scratch3) squeezes_S1x32x24_S32x24 k) fullShare X))
          ∗ (bigSep Finset.univ fun k : Fin 16 => semVal ((c : Thread nD τ), .dma (semM cc0_scratch5 k)) 0)
          ∗ bigSep Finset.univ fun k : Fin 16 => owns (c : Thread nD τ) (Memref.whole main_arg6) (C.q k) C.Sc)) := by
  unfold ringW ring slotR idle1
  simp only [bigSep_sep']
  rfl

/-- The ring's slots after the first point hold the same shares, whatever the scanned blocks. -/
theorem ring_congr (C' : Cts F) (hY : C'.Y = C.Y) (hSc : C'.Sc = C.Sc) (hq : C'.q = C.q) (f : Fin 16 → Option ℕ) : ringW C' c f = ringW C c f := by
  unfold ringW ring
  refine congrArg (bigSep Finset.univ) (funext fun k => ?_)
  unfold slotR
  rw [hY, hSc, hq]

end Cert.Kernel.M

end
-- ==== Proof.K.Blocks.lean ====
module

public import proofs.«01_k».proof.Proof.K.Ring
public import proofs.«01_k».proof.Proof.Gen.Kernel.Points
public import Idealize.ShloMosaic.Lib.Pipeline.Frame
public import Idealize.ShloMosaic.Lib.Pipeline.FrameBody

@[expose] public section

noncomputable section

/-
  The proof data of the pipeline, and what the body finds in each window.
-/
namespace Cert.Kernel.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Kernel.Gen

variable {F : FTy → Type} [FloatOps F]
open Facts₀ Facts

variable (V : (c : Dev nD) → (b : Ref sig .tc) → Buf (Elt F) ((c : Thread nD τ).loc b))
  (aft : Dev nD → ℕ → (S128x3072.Idx → Elt F .bf16) → Prop) (Φ : Dev nD → ℕ → SP F)

/-- The pipeline's proof data: the arrays at their entry contents, the inputs kept, the result block as `aft` allows. -/
def rdat (c : Dev nD) : Pipeline.RDat τ (Elt F) Unit ℕ (Pipeline.UD sig nD τ) ℕ (cfg0 (F := F)) c where
  A w := V c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun _ X => aft c t.val X
  Φ t := Φ c t.val
  q w := match w with
    | ⟨8, _⟩ => fullShare.left
    | w => Pipeline.shareOf spec0 w
  owed _ := 0

variable (c : Dev nD) (t : Fin (cfg0 (F := F)).N)

theorem found0 {Y} (h : (rdat V aft Φ c).Finds 0 t Y) : ∃ d, Y = (rdat V aft Φ c).fetched 0 t d :=
  (rdat V aft Φ c).finds_in_eq_fetched 0 rfl (fun _ _ _ => rfl) (fun _ _ _ h => h) t Y h
theorem found1 {Y} (h : (rdat V aft Φ c).Finds 1 t Y) : ∃ d, Y = (rdat V aft Φ c).fetched 1 t d :=
  (rdat V aft Φ c).finds_in_eq_fetched 1 rfl (fun _ _ _ => rfl) (fun _ _ _ h => h) t Y h
theorem found2 {Y} (h : (rdat V aft Φ c).Finds 2 t Y) : ∃ d, Y = (rdat V aft Φ c).fetched 2 t d :=
  (rdat V aft Φ c).finds_in_eq_fetched 2 rfl (fun _ _ _ => rfl) (fun _ _ _ h => h) t Y h
theorem found8 {Y} (h : (rdat V aft Φ c).Finds 8 t Y) : ∃ d, Y = (rdat V aft Φ c).fetched 8 t d :=
  (rdat V aft Φ c).finds_in_eq_fetched 8 rfl (fun _ _ _ => rfl) (fun _ _ _ h => h) t Y h

theorem found3 {Y} (h : (rdat V aft Φ c).Finds 3 t Y) : ∃ d, Y = (rdat V aft Φ c).fetched 3 t d :=
  (rdat V aft Φ c).finds_in_eq_fetched 3 rfl (fun _ _ _ => rfl) (fun _ _ _ h => h) t Y h
theorem found4 {Y} (h : (rdat V aft Φ c).Finds 4 t Y) : ∃ d, Y = (rdat V aft Φ c).fetched 4 t d :=
  (rdat V aft Φ c).finds_in_eq_fetched 4 rfl (fun _ _ _ => rfl) (fun _ _ _ h => h) t Y h
theorem found5 {Y} (h : (rdat V aft Φ c).Finds 5 t Y) : ∃ d, Y = (rdat V aft Φ c).fetched 5 t d :=
  (rdat V aft Φ c).finds_in_eq_fetched 5 rfl (fun _ _ _ => rfl) (fun _ _ _ h => h) t Y h
theorem found6 {Y} (h : (rdat V aft Φ c).Finds 6 t Y) : ∃ d, Y = (rdat V aft Φ c).fetched 6 t d :=
  (rdat V aft Φ c).finds_in_eq_fetched 6 rfl (fun _ _ _ => rfl) (fun _ _ _ h => h) t Y h
theorem found7 {Y} (h : (rdat V aft Φ c).Finds 7 t Y) : ∃ d, Y = (rdat V aft Φ c).fetched 7 t d :=
  (rdat V aft Φ c).finds_in_eq_fetched 7 rfl (fun _ _ _ => rfl) (fun _ _ _ h => h) t Y h

omit [FloatOps F] in
theorem coord0 : ((grid0.coords t) 0).val = t.val := by
  have h : t.val < 256 := lt_of_lt_of_eq t.isLt N_0
  rw [Pipeline.Grid.coords_val (G := grid0) t 0 (S := 1) (B := 256) (by decide) rfl]
  omega

omit [FloatOps F] in
theorem now_word : (BitVec.ofNat 32 ((grid0.coords t) 0).val).toNat = t.val := by
  have h : t.val < 256 := lt_of_lt_of_eq t.isLt N_0
  rw [coord0, BitVec.toNat_ofNat, Nat.mod_eq_of_lt (by omega)]

theorem next_all : ∀ n : Fin 256, (Scalar.minsi (Scalar.addi (BitVec.ofNat 32 n.val) 1#32) 255#32).toNat = min (n.val + 1) 255 := by decide +kernel

omit [FloatOps F] in
theorem next_word (h : t.val + 1 < 256) : (Scalar.minsi (Scalar.addi (BitVec.ofNat 32 ((grid0.coords t) 0).val) 1#32) 255#32).toNat = t.val + 1 := by
  rw [coord0, next_all ⟨t.val, by omega⟩]
  show min (t.val + 1) 255 = t.val + 1
  omega

abbrev tI : Fin 256 := ⟨t.val, lt_of_lt_of_eq t.isLt N_0⟩

/-- Token `y` of the step. -/
def tok (y : Fin 128) : Fin 32768 := ⟨128 * t.val + y.val, by have := lt_of_lt_of_eq t.isLt N_0; omega⟩

theorem blk0 (d) (x : S8x128.Idx) : (rdat V aft Φ c).fetched 0 t d x = V c main_arg0 (ValueIdx.ix2 (x 0) (tok t (x 1))) := by
  unfold Pipeline.RDat.fetched Pipeline.Window.fill
  rw [dif_pos (show ((cfg0 (F := F)).win 0).moved (grid0.coords t) x = true from rfl)]
  refine congrArg (V c main_arg0) (funext fun a => Fin.ext ?_)
  fin_cases a
  · show 0 * 8 + 1 * (x 0).val = (x 0).val; omega
  · show (BitVec.ofNat 32 ((grid0.coords t) 0).val).toNat * 128 + 1 * (x 1).val = _; rw [now_word]; show t.val * 128 + 1 * (x 1).val = 128 * t.val + (x 1).val; omega

theorem blk1 (d) (x : S8x128.Idx) : (rdat V aft Φ c).fetched 1 t d x = V c main_arg1 (ValueIdx.ix2 (x 0) (tok t (x 1))) := by
  unfold Pipeline.RDat.fetched Pipeline.Window.fill
  rw [dif_pos (show ((cfg0 (F := F)).win 1).moved (grid0.coords t) x = true from rfl)]
  refine congrArg (V c main_arg1) (funext fun a => Fin.ext ?_)
  fin_cases a
  · show 0 * 8 + 1 * (x 0).val = (x 0).val; omega
  · show (BitVec.ofNat 32 ((grid0.coords t) 0).val).toNat * 128 + 1 * (x 1).val = _; rw [now_word]; show t.val * 128 + 1 * (x 1).val = 128 * t.val + (x 1).val; omega

theorem blk2 (d) (x : S1x4x128.Idx) : (rdat V aft Φ c).fetched 2 t d x = V c main_arg2 (ValueIdx.ix3 (tI t) (x 1) (x 2)) := by
  unfold Pipeline.RDat.fetched Pipeline.Window.fill
  rw [dif_pos (show ((cfg0 (F := F)).win 2).moved (grid0.coords t) x = true from rfl)]
  refine congrArg (V c main_arg2) (funext fun a => Fin.ext ?_)
  fin_cases a
  · show (BitVec.ofNat 32 ((grid0.coords t) 0).val).toNat * 1 + 1 * (x 0).val = _; rw [now_word]; have := (x 0).isLt; show t.val * 1 + 1 * (x 0).val = t.val; have : (x 0).val < 1 := (x 0).isLt; omega
  · show 0 * 4 + 1 * (x 1).val = (x 1).val; omega
  · show 0 * 128 + 1 * (x 2).val = (x 2).val; omega

theorem blk3 (h : t.val + 1 < 256) (d) (x : S1x4x128.Idx) : (rdat V aft Φ c).fetched 3 t d x = V c main_arg2 (ValueIdx.ix3 ⟨t.val + 1, h⟩ (x 1) (x 2)) := by
  unfold Pipeline.RDat.fetched Pipeline.Window.fill
  rw [dif_pos (show ((cfg0 (F := F)).win 3).moved (grid0.coords t) x = true from rfl)]
  refine congrArg (V c main_arg2) (funext fun a => Fin.ext ?_)
  fin_cases a
  · show (Scalar.minsi (Scalar.addi (BitVec.ofNat 32 ((grid0.coords t) 0).val) 1#32) 255#32).toNat * 1 + 1 * (x 0).val = _; rw [next_word t h]; have := (x 0).isLt; show (t.val + 1) * 1 + 1 * (x 0).val = (t.val + 1); have : (x 0).val < 1 := (x 0).isLt; omega
  · show 0 * 4 + 1 * (x 1).val = (x 1).val; omega
  · show 0 * 128 + 1 * (x 2).val = (x 2).val; omega

theorem blk4 (d) (x : S1x1x4.Idx) : (rdat V aft Φ c).fetched 4 t d x = V c main_arg3 (ValueIdx.ix3 (tI t) (x 1) (x 2)) := by
  unfold Pipeline.RDat.fetched Pipeline.Window.fill
  rw [dif_pos (show ((cfg0 (F := F)).win 4).moved (grid0.coords t) x = true from rfl)]
  refine congrArg (V c main_arg3) (funext fun a => Fin.ext ?_)
  fin_cases a
  · show (BitVec.ofNat 32 ((grid0.coords t) 0).val).toNat * 1 + 1 * (x 0).val = _; rw [now_word]; have := (x 0).isLt; show t.val * 1 + 1 * (x 0).val = t.val; have : (x 0).val < 1 := (x 0).isLt; omega
  · show 0 * 1 + 1 * (x 1).val = (x 1).val; omega
  · show 0 * 4 + 1 * (x 2).val = (x 2).val; omega

theorem blk5 (h : t.val + 1 < 256) (d) (x : S1x1x4.Idx) : (rdat V aft Φ c).fetched 5 t d x = V c main_arg3 (ValueIdx.ix3 ⟨t.val + 1, h⟩ (x 1) (x 2)) := by
  unfold Pipeline.RDat.fetched Pipeline.Window.fill
  rw [dif_pos (show ((cfg0 (F := F)).win 5).moved (grid0.coords t) x = true from rfl)]
  refine congrArg (V c main_arg3) (funext fun a => Fin.ext ?_)
  fin_cases a
  · show (Scalar.minsi (Scalar.addi (BitVec.ofNat 32 ((grid0.coords t) 0).val) 1#32) 255#32).toNat * 1 + 1 * (x 0).val = _; rw [next_word t h]; have := (x 0).isLt; show (t.val + 1) * 1 + 1 * (x 0).val = (t.val + 1); have : (x 0).val < 1 := (x 0).isLt; omega
  · show 0 * 1 + 1 * (x 1).val = (x 1).val; omega
  · show 0 * 4 + 1 * (x 2).val = (x 2).val; omega

theorem blk6 (d) (x : S128x3072.Idx) : (rdat V aft Φ c).fetched 6 t d x = V c main_arg4 (ValueIdx.ix2 (tok t (x 0)) (x 1)) := by
  unfold Pipeline.RDat.fetched Pipeline.Window.fill
  rw [dif_pos (show ((cfg0 (F := F)).win 6).moved (grid0.coords t) x = true from rfl)]
  refine congrArg (V c main_arg4) (funext fun a => Fin.ext ?_)
  fin_cases a
  · show (BitVec.ofNat 32 ((grid0.coords t) 0).val).toNat * 128 + 1 * (x 0).val = _; rw [now_word]; show t.val * 128 + 1 * (x 0).val = 128 * t.val + (x 0).val; omega
  · show 0 * 3072 + 1 * (x 1).val = (x 1).val; omega

theorem blk7 (d) (x : S32x3072.Idx) : (rdat V aft Φ c).fetched 7 t d x = V c main_v2 (ValueIdx.ix2 (x 0) (x 1)) := by
  unfold Pipeline.RDat.fetched Pipeline.Window.fill
  rw [dif_pos (show ((cfg0 (F := F)).win 7).moved (grid0.coords t) x = true from rfl)]
  refine congrArg (V c main_v2) (funext fun a => Fin.ext ?_)
  fin_cases a
  · show 0 * 32 + 1 * (x 0).val = (x 0).val; omega
  · show 0 * 3072 + 1 * (x 1).val = (x 1).val; omega

theorem tail_rows (i : grid0.Coords) : win0_8.xsize i 0 = 13 := by
  have h : ∀ i : grid0.Coords, win0_8.xsize i 0 = 13 := by decide +kernel
  exact h i

theorem blk8 (d) (x : S32x24.Idx) (hx : (x 0).val < 13) : (rdat V aft Φ c).fetched 8 t d x = V c main_arg6 (ValueIdx.ix2 ⟨249024 + (x 0).val, by omega⟩ (x 1)) := by
  unfold Pipeline.RDat.fetched Pipeline.Window.fill
  have hm : ((cfg0 (F := F)).win 8).moved (grid0.coords t) x = true := by
    refine (Pipeline.Window.moved_iff _ _ _).mpr ?_
    intro a
    fin_cases a
    · exact lt_of_lt_of_eq hx (tail_rows (grid0.coords t)).symm
    · exact (x 1).isLt
  rw [dif_pos hm]
  refine congrArg (V c main_arg6) (funext fun a => Fin.ext ?_)
  fin_cases a
  · show 7782 * 32 + 1 * (x 0).val = 249024 + (x 0).val; omega
  · show 0 * 24 + 1 * (x 1).val = (x 1).val; omega

end Cert.Kernel.M

end
-- ==== Proof.K.Body.lean ====
module

public import proofs.«01_k».proof.Proof.K.Blocks

@[expose] public section

noncomputable section

/-
  The body obligation: a step keeps the invariant and leaves the result block as allowed.
-/
namespace Cert.Kernel.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Kernel.Gen

variable {F : FTy → Type} [FloatOps F]
open Facts₀ Facts

variable (V : (c : Dev nD) → (b : Ref sig .tc) → Buf (Elt F) ((c : Thread nD τ).loc b))
  (aft : Dev nD → ℕ → (S128x3072.Idx → Elt F .bf16) → Prop) (L : Dev nD → Lists) (PD : Dev nD → ℕ → (S102432x128.Idx → Elt F .f32) → Prop)

/-- The share of the two streamed arrays that the ring reads with. -/
abbrev rq : PosShare TreeShare := (fullShare : PosShare TreeShare).right

/-- The ring's arrays and shares, with the scanned blocks. -/
def ctsOf (c : Dev nD) (X3 X4 : S1x4x128.Idx → Elt F .i32) (X5 X6 : S1x1x4.Idx → Elt F .i32) : Cts F :=
  ⟨X3, X4, X5, X6, V c main_arg5, V c main_arg6, fun k => Transfers.shareTok rq 16 k⟩

/-- With no scanned blocks. -/
def cts0 (c : Dev nD) : Cts F :=
  ctsOf V c (fun _ => (0 : BitVec 32)) (fun _ => (0 : BitVec 32)) (fun _ => (0 : BitVec 32)) (fun _ => (0 : BitVec 32))

/-- What the launch's arrays say of the lists, and what is kept true of the widened rows and of the result blocks. -/
structure Hyp : Prop where
  ent : ∀ c (t : Fin 256) (s : Fin 4) (j : Fin 128), j.val < (L c).cnt (4 * t.val + s.val) → V c main_arg2 (ValueIdx.ix3 t s j) = nw ((L c).ent (4 * t.val + s.val) j.val)
  cnt : ∀ c (t : Fin 256) (z : Fin 1) (s : Fin 4), V c main_arg3 (ValueIdx.ix3 t z s) = nw ((L c).cnt (4 * t.val + s.val))
  loc : ∀ c (x : S8x32768.Idx), k0_chk21 (V c main_arg0 x)
  first : ∀ c X, PD c 0 X
  step : ∀ c (C : Cts F) (X8 : S32x3072.Idx → Elt F .fp8e4m3) (X9 : S32x24.Idx → Elt F .f32) D E (hE : E < 498112) X, C.Y = V c main_arg5 → C.Sc = V c main_arg6
    → (∀ x, X8 x = V c main_v2 (ValueIdx.ix2 (x 0) (x 1)))
    → (∀ (x : S32x24.Idx) (hx : (x 0).val < 13), X9 x = V c main_arg6 (ValueIdx.ix2 ⟨249024 + (x 0).val, by omega⟩ (x 1)))
    → (L c).item D = E → PD c D X → PD c (D + 1) (widX (nw E) (chk8_ok hE) (codesOf C X8 (E / 64)) (scalesOf C X9 (E / 64)) X)
  out : ∀ c (t : Fin (cfg0 (F := F)).N) (X1 : S8x128.Idx → Elt F .i32) (X2 : S8x128.Idx → Elt F .f32) hX1 (X7 : S128x3072.Idx → Elt F .bf16) Y0 Y1 Y2 Y3 A O,
    (∀ x, X1 x = V c main_arg0 (ValueIdx.ix2 (x 0) (tok t (x 1)))) → (∀ x, X2 x = V c main_arg1 (ValueIdx.ix2 (x 0) (tok t (x 1))))
    → (∀ x, X7 x = V c main_arg4 (ValueIdx.ix2 (tok t (x 0)) (x 1)))
    → PD c ((L c).P (4 * t.val + 1)) Y0 → PD c ((L c).P (4 * t.val + 2)) Y1 → PD c ((L c).P (4 * t.val + 3)) Y2 → PD c ((L c).P (4 * t.val + 4)) Y3
    → aft c t.val (finX (accF X1 X2 hX1 Y0 Y1 Y2 Y3 A) X7 O 8)

/-- The invariant before step `t`. -/
def Inv (c : Dev nD) (t : ℕ) : SP F :=
  iprop(∃ v I D s j, ∃ X : S102432x128.Idx → Elt F .f32, ∃ A : S3200x128.Idx → Elt F .f32, ⌜StOk (L c) t v I D s j ∧ PD c D X⌝
    ∗ owns (c : Thread nD τ) (Memref.whole cc0_scratch6) fullShare (stV v : S4.Idx → Elt F .i32)
    ∗ owns (c : Thread nD τ) (Memref.whole cc0_scratch0) fullShare X
    ∗ owns (c : Thread nD τ) (Memref.whole cc0_scratch1) fullShare A
    ∗ ∃ f, ⌜(L c).Slots I D f⌝ ∗ ringW (cts0 V c) c f)

variable {V aft L PD} (H : Hyp V aft L PD) (c : Dev nD) (t : Fin (cfg0 (F := F)).N)

include H in
theorem ents_ok {Y3 Y4} (h2 : (rdat V aft (Inv V L PD) c).Finds 2 t Y3) (h3 : (rdat V aft (Inv V L PD) c).Finds 3 t Y4) : Ents (L c) t.val Y3 Y4 := by
  obtain ⟨d, rfl⟩ := found2 V aft _ c t h2
  obtain ⟨d', rfl⟩ := found3 V aft _ c t h3
  refine ⟨fun x hx => ?_, fun ht x hx => ?_⟩
  · exact (blk2 V aft _ c t d x).trans (H.ent c (tI t) (x 1) (x 2) hx)
  · refine (blk3 V aft _ c t ht d' x).trans ((H.ent c ⟨t.val + 1, ht⟩ (x 1) (x 2) ?_).trans ?_)
    · rw [show 4 * (t.val + 1) + (x 1).val = 4 * t.val + 4 + (x 1).val by omega]; exact hx
    · show nw ((L c).ent (4 * (t.val + 1) + (x 1).val) (x 2).val) = _
      rw [show 4 * (t.val + 1) + (x 1).val = 4 * t.val + 4 + (x 1).val by omega]

include H in
theorem counts_ok {Y5 Y6} (h4 : (rdat V aft (Inv V L PD) c).Finds 4 t Y5) (h5 : (rdat V aft (Inv V L PD) c).Finds 5 t Y6) : Counts (L c) t.val Y5 Y6 := by
  obtain ⟨d, rfl⟩ := found4 V aft _ c t h4
  obtain ⟨d', rfl⟩ := found5 V aft _ c t h5
  refine ⟨fun x => ?_, fun ht x => ?_⟩
  · exact (blk4 V aft _ c t d x).trans (H.cnt c (tI t) (x 1) (x 2))
  · refine (blk5 V aft _ c t ht d' x).trans ((H.cnt c ⟨t.val + 1, ht⟩ (x 1) (x 2)).trans ?_)
    show nw ((L c).cnt (4 * (t.val + 1) + (x 2).val)) = _
    rw [show 4 * (t.val + 1) + (x 2).val = 4 * t.val + 4 + (x 2).val by omega]

theorem body_row : defs₀ (F := F) .tc (cfg0 (F := F)).body ((cfg0 (F := F)).bodyArgs t ((cfg0 (F := F)).slots t)) = bodyAt0 t := by
  unfold defs₀; rw [Defs.onTc_tc]

set_option backward.isDefEq.respectTransparency.types false in
include H in
theorem body_core (Y0 : S8x128.Idx → Elt F .i32) (Y1 : S8x128.Idx → Elt F .f32) (Y2 : S1x4x128.Idx → Elt F .i32) (Y3 : S1x4x128.Idx → Elt F .i32) (Y4 : S1x1x4.Idx → Elt F .i32) (Y5 : S1x1x4.Idx → Elt F .i32) (Y6 : S128x3072.Idx → Elt F .bf16) (Y7 : S32x3072.Idx → Elt F .fp8e4m3) (Y8 : S32x24.Idx → Elt F .f32) (Y9 : S128x3072.Idx → Elt F .bf16)
    (hE : Ents (L c) (stp (grid0.coords t)) Y2 Y3) (hC : Counts (L c) (stp (grid0.coords t)) Y4 Y5)
    (k0 : ∀ x : S8x128.Idx, Y0 x = V c main_arg0 (ValueIdx.ix2 (x 0) (tok t (x 1))))
    (k1 : ∀ x : S8x128.Idx, Y1 x = V c main_arg1 (ValueIdx.ix2 (x 0) (tok t (x 1))))
    (k6 : ∀ x : S128x3072.Idx, Y6 x = V c main_arg4 (ValueIdx.ix2 (tok t (x 0)) (x 1)))
    (k7 : ∀ x : S32x3072.Idx, Y7 x = V c main_v2 (ValueIdx.ix2 (x 0) (x 1)))
    (k8 : ∀ (x : S32x24.Idx) (hx : (x 0).val < 13), Y8 x = V c main_arg6 (ValueIdx.ix2 ⟨249024 + (x 0).val, by omega⟩ (x 1))) :
    iprop(Inv V L PD c t.val ∗ ow c ∗ owns (c : Thread nD τ) (st0_0 t) fullShare Y0 ∗ owns (c : Thread nD τ) (st0_1 t) fullShare Y1 ∗ owns (c : Thread nD τ) (st0_2 t) fullShare Y2 ∗ owns (c : Thread nD τ) (st0_3 t) fullShare Y3 ∗ owns (c : Thread nD τ) (st0_4 t) fullShare Y4 ∗ owns (c : Thread nD τ) (st0_5 t) fullShare Y5 ∗ owns (c : Thread nD τ) (st0_6 t) fullShare Y6 ∗ owns (c : Thread nD τ) (st0_7 t) fullShare Y7 ∗ owns (c : Thread nD τ) (st0_8 t) fullShare Y8 ∗ owns (c : Thread nD τ) (st0_9 t) fullShare Y9)
      ⊢ W c none (bodyAt0 t) fun _ => iprop(Inv V L PD c (t.val + 1) ∗ ow c ∗ owns (c : Thread nD τ) (st0_0 t) fullShare Y0 ∗ owns (c : Thread nD τ) (st0_1 t) fullShare Y1 ∗ owns (c : Thread nD τ) (st0_2 t) fullShare Y2 ∗ owns (c : Thread nD τ) (st0_3 t) fullShare Y3 ∗ owns (c : Thread nD τ) (st0_4 t) fullShare Y4 ∗ owns (c : Thread nD τ) (st0_5 t) fullShare Y5 ∗ owns (c : Thread nD τ) (st0_6 t) fullShare Y6 ∗ owns (c : Thread nD τ) (st0_7 t) fullShare Y7 ∗ owns (c : Thread nD τ) (st0_8 t) fullShare Y8 ∗ ∃ X, ⌜aft c t.val X⌝ ∗ owns (c : Thread nD τ) (st0_9 t) fullShare X) := by
  have e : stp (grid0.coords t) = t.val := coord0 t
  have hX1 : ∀ x : S8x128.Idx, k0_chk21 (Y0 x) := fun x => by rw [k0 x]; exact H.loc c _
  unfold Inv
  iintro ⟨⟨%v, %I, %D, %s, %j, %X, %A, %hS, H19, H13, H14, HR⟩, HO, H1, H2, H3, H4, H5, H6, H7, H8, H9, H12⟩
  obtain ⟨hS, hX⟩ := hS
  rw [← e] at hS
  iapply (comb_spec (grid0.coords t) _ _ _ _ _ _ _ _ _ _ _ _ _ _ _ _ _ _ _ _ _ _ _ _ _ _ _ _ _ _ _ _ _ _ _ _ (ctsOf V c Y2 Y3 Y4 Y5) (L c) c Y7 Y8 (PD c) hE hC
    (fun D E hE X h1 h2 => H.step c (ctsOf V c Y2 Y3 Y4 Y5) Y7 Y8 D E hE X rfl rfl k7 k8 h1 h2) (H.first c) Y0 Y1 hX1 hS hX)
  unfold TI
  isplitl [H3 H4 H5 H6 H19 HR H8 H9 H13 HO]
  · isplitl [H3]; · iexact H3
    isplitl [H4]; · iexact H4
    isplitl [H5]; · iexact H5
    isplitl [H6]; · iexact H6
    isplitl [H19]; · iexact H19
    isplitl [HR]
    · icases HR with ⟨%f, %hf, HR⟩
      iexists f
      isplitr; · ipureintro; exact hf
      iapply (Entails.of_eq (ring_congr (cts0 V c) c (ctsOf V c Y2 Y3 Y4 Y5) rfl rfl rfl f).symm)
      iexact HR
    isplitl [H8]; · iexact H8
    isplitl [H9]; · iexact H9
    isplitl [H13]; · iexact H13
    iexact HO
  isplitl [H1 H2 H14]
  · isplitl [H1]; · iexact H1
    isplitl [H2]; · iexact H2
    iexact H14
  isplitl [H7]; · iexact H7
  isplitl [H12]; · iexact H12
  iintro %Z0 %Z1 %Z2 %Z3 %hZ HW ⟨H1, H2, H14⟩ H7 H12
  unfold WI QR
  icases HW with ⟨%I', %s', %j', %X', %hF, ⟨H3, H4, H5, H6, H19, HR⟩, H8, H9, H13, HO⟩
  obtain ⟨z0, z1, z2, z3⟩ := hZ
  rw [e] at z0 z1 z2 z3
  isplitl [H19 H13 H14 HR]
  · iexists (![I', (L c).P (4 * stp (grid0.coords t) + 4), s', j'] : Fin 4 → ℕ)
    iexists I'
    iexists ((L c).P (4 * stp (grid0.coords t) + 4))
    iexists s'
    iexists j'
    iexists X'
    iexists _
    isplitr; swap
    · isplitl [H19]; · iexact H19
      isplitl [H13]; · iexact H13
      isplitl [H14]; · iexact H14
      icases HR with ⟨%f, %hf, HR⟩
      iexists f
      isplitr; · ipureintro; exact hf
      iapply (Entails.of_eq (ring_congr (cts0 V c) c (ctsOf V c Y2 Y3 Y4 Y5) rfl rfl rfl f))
      iexact HR
    · ipureintro
      rw [e] at hF
      refine ⟨⟨Or.inr ⟨by omega, rfl, ?_⟩, ?_⟩, by rw [e]; exact hF.2⟩
      · rw [e]; exact hF.1
      · rw [e]; rfl
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _
  isplitr; swap; · iexact H12
  ipureintro
  exact H.out c t Y0 Y1 hX1 Y6 Z0 Z1 Z2 Z3 A Y9 k0 k1 k6 z0 z1 z2 z3

set_option backward.isDefEq.respectTransparency.types false in
include H in
theorem body_ok : (rdat V aft (Inv V L PD) c).BodyObligation (defs₀ (F := F)) VN () Set.univ := fun t Y hY => by
  have e : stp (grid0.coords t) = t.val := coord0 t
  have hE : Ents (L c) (stp (grid0.coords t)) (Y 2) (Y 3) := by rw [e]; exact ents_ok H c t (hY 2) (hY 3)
  have hC : Counts (L c) (stp (grid0.coords t)) (Y 4) (Y 5) := by rw [e]; exact counts_ok H c t (hY 4) (hY 5)
  obtain ⟨d0, h0⟩ := found0 V aft _ c t (hY 0)
  obtain ⟨d1, h1⟩ := found1 V aft _ c t (hY 1)
  obtain ⟨d6, h6⟩ := found6 V aft _ c t (hY 6)
  obtain ⟨d7, h7⟩ := found7 V aft _ c t (hY 7)
  obtain ⟨d8, h8⟩ := found8 V aft _ c t (hY 8)
  have hb := body_core H c t (Y 0) (Y 1) (Y 2) (Y 3) (Y 4) (Y 5) (Y 6) (Y 7) (Y 8) (Y 9) hE hC
    (fun x => by rw [h0]; exact blk0 V aft _ c t d0 x) (fun x => by rw [h1]; exact blk1 V aft _ c t d1 x) (fun x => by rw [h6]; exact blk6 V aft _ c t d6 x)
    (fun x => by rw [h7]; exact blk7 V aft _ c t d7 x) (fun x hx => by rw [h8]; exact blk8 V aft _ c t d8 x hx)
  rw [bigSep_W0, body_row t]
  rw [show (rdat V aft (Inv V L PD) c).Φ t.castSucc = Inv V L PD c t.val from rfl]
  unfold Pipeline.RDat.owesAt Pipeline.owesWithin
  rw [show (rdat V aft (Inv V L PD) c).owed t.castSucc = 0 from rfl]
  generalize hQ : (fun _ : PUnit => iprop((rdat V aft (Inv V L PD) c).Φ t.succ ∗ _)) = Q
  refine .trans ?_ (hb.trans (W_mono c none _ fun _ => ?_))
  · iintro ⟨HI, ⟨%W, -, HO⟩, HB⟩
    isplitl [HI]; · iexact HI
    isplitl [HO]; · unfold ow; iexists W; iexact HO
    iexact HB
  · subst hQ
    rw [bigSep_W0]
    rw [show (rdat V aft (Inv V L PD) c).Φ t.succ = Inv V L PD c (t.val + 1) from rfl, show (rdat V aft (Inv V L PD) c).owed t.succ = 0 from rfl]
    generalize Inv V L PD c (t.val + 1) = J
    unfold ow
    iintro ⟨HI, ⟨%W, HO⟩, H1, H2, H3, H4, H5, H6, H7, H8, H9, %X, %hX, H12⟩
    isplitl [HI]; · iexact HI
    isplitl [HO]
    · iexists W
      isplitr; · ipureintro; exact fun _ _ => Or.inl trivial
      iexact HO
    isplitl [H1]; · iexists _; isplitr; swap; (· iexact H1); ipureintro; rfl
    isplitl [H2]; · iexists _; isplitr; swap; (· iexact H2); ipureintro; rfl
    isplitl [H3]; · iexists _; isplitr; swap; (· iexact H3); ipureintro; rfl
    isplitl [H4]; · iexists _; isplitr; swap; (· iexact H4); ipureintro; rfl
    isplitl [H5]; · iexists _; isplitr; swap; (· iexact H5); ipureintro; rfl
    isplitl [H6]; · iexists _; isplitr; swap; (· iexact H6); ipureintro; rfl
    isplitl [H7]; · iexists _; isplitr; swap; (· iexact H7); ipureintro; rfl
    isplitl [H8]; · iexists _; isplitr; swap; (· iexact H8); ipureintro; rfl
    isplitl [H9]; · iexists _; isplitr; swap; (· iexact H9); ipureintro; rfl
    iexists X
    isplitr; · ipureintro; exact hX
    iexact H12

end Cert.Kernel.M

end
-- ==== Proof.K.Ends.lean ====
module

public import proofs.«01_k».proof.Proof.K.Body

@[expose] public section

noncomputable section

/-
  The two ends of the region: the invariant made of what the launch deals, and given back.
-/
namespace Cert.Kernel.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Kernel.Gen

variable {F : FTy → Type} [FloatOps F]
open Facts₀ Facts

variable (V : (c : Dev nD) → (b : Ref sig .tc) → Buf (Elt F) ((c : Thread nD τ).loc b))
  (aft : Dev nD → ℕ → (S128x3072.Idx → Elt F .bf16) → Prop) (L : Dev nD → Lists) (PD : Dev nD → ℕ → (S102432x128.Idx → Elt F .f32) → Prop)

/-- A buffer of the core, whole, at a share. -/
abbrev ptq (c : Dev nD) (b : Ref sig .tc) (q : PosShare TreeShare) (f : Buf (Elt F) ((c : Thread nD τ).loc b)) : SP F := ((c : Thread nD τ).loc b) ↦{q} f

/-- The ring's read shares of an array. -/
def toks (c : Dev nD) (b : Ref sig .tc) : SP F := bigSep Finset.univ fun k : Fin 16 => ptq c b (Transfers.shareTok rq 16 k) (V c b)

/-- What of the two streamed arrays stays outside the ring, and the routing table. -/
def rests (c : Dev nD) : SP F :=
  iprop(ptq c main_arg5 (fullShare : PosShare TreeShare).left (V c main_arg5) ∗ ptq c main_arg5 (Transfers.shareDrop rq 16) (V c main_arg5)
    ∗ ptq c main_arg7 fullShare (V c main_arg7))

theorem share8 : Pipeline.shareOf spec0 8 = fullShare := Pipeline.shareOf_eq_fullShare spec0 (by decide)

/-- The proof data with every window at the share its array's windows leave it. -/
def rdShared (Φ : Dev nD → ℕ → SP F) (c : Dev nD) : Pipeline.RDat τ (Elt F) Unit ℕ (Pipeline.UD sig nD τ) ℕ (cfg0 (F := F)) c :=
  { rdat V aft Φ c with q := Pipeline.shareOf spec0 }

theorem share8' (Φ : Dev nD → ℕ → SP F) (c : Dev nD) : (rdShared V aft Φ c).share 8 = fullShare := by
  unfold Pipeline.RDat.share
  exact (if_neg Bool.false_ne_true).trans share8

theorem owns_some (c : Dev nD) (b : Ref sig .tc) (X : b.ty.Contents (Elt F)) :
    (owns (c : Thread nD τ) (Memref.whole b) fullShare X : SP F) ⊢ iprop(∃ f : Buf (Elt F) ((c : Thread nD τ).loc b), ((c : Thread nD τ).loc b) ↦{fullShare} f) := by
  rw [owns_whole_eq]
  iintro ⟨%g, -, H⟩
  iexists g
  iexact H

/-- The scales' window keeps half of its array, the ring takes the other half. -/
theorem split8 (Φ : Dev nD → ℕ → SP F) (c : Dev nD) (w : Fin (cfg0 (F := F)).W) (q : PosShare TreeShare) (hq : q = fullShare) (A : Buf (Elt F) (((cfg0 (F := F)).win w).arr.view.loc (c : Thread nD τ))) :
    (((cfg0 (F := F)).win w).arr.view.loc (c : Thread nD τ) ↦[((cfg0 (F := F)).win w).arr.view.set]{q} A : SP F)
    ⊢ iprop((((cfg0 (F := F)).win w).arr.view.loc (c : Thread nD τ) ↦[((cfg0 (F := F)).win w).arr.view.set]{(fullShare : PosShare TreeShare).left} A)
      ∗ (((cfg0 (F := F)).win w).arr.view.loc (c : Thread nD τ) ↦[((cfg0 (F := F)).win w).arr.view.set]{rq} A)) := by
  subst hq
  exact (pointsTo_share (PosShare.mem_left_op_right (fullShare : PosShare TreeShare))).1

set_option backward.isDefEq.respectTransparency.types false in
theorem entry_arrays (Φ : Dev nD → ℕ → SP F) (c : Dev nD) :
    (unscopedBufs c (V c) : SP F) ⊢ iprop((rdat V aft Φ c).arrays (rdat V aft Φ c).A ∗ (toks V c main_arg5 ∗ toks V c main_arg6) ∗ rests V c) := by
  have h1 : (unscopedBufs c (V c) : SP F) = iprop(Pipeline.arrBufs spec0 c (V c) ∗ Pipeline.unscopedRest spec0 c (V c)) :=
    Pipeline.unscopedBufs_split₀ (fun p => (cfgs (F := F) p)) 0 launch₀0.win.arr_unscoped c (V c)
  have h2 : (Pipeline.arrBufs spec0 c (V c) : SP F) ⊢ (rdShared V aft Φ c).arrays (rdat V aft Φ c).A :=
    (rdShared V aft Φ c).arrays_split_shared sharedIn0 arr_whole0 (fun _ _ => rfl) (V c) _ (fun _ => rfl)
  rw [h1, unscopedRest0_eq]
  unfold Pipeline.RDat.arrays at h2 ⊢
  rw [bigSep_W0] at h2 ⊢
  iintro ⟨HA, H5, H7, -, -⟩
  ihave HB := h2 $$ HA
  icases HB with ⟨A0, A1, A2, A3, A4, A5, A6, A7, A8, A9⟩
  ihave A8'' := (split8 Φ c _ _ (share8' V aft Φ c) _) $$ A8
  icases A8'' with ⟨A8, B8⟩
  ihave B8' := (show ((((cfg0 (F := F)).win (8 : Fin 10)).arr.view.loc (c : Thread nD τ) ↦[((cfg0 (F := F)).win (8 : Fin 10)).arr.view.set]{rq} (rdat V aft Φ c).A (8 : Fin 10)) : SP F)
    ⊢ iprop(ptq c main_arg6 (Transfers.shareDrop rq 16) (V c main_arg6) ∗ toks V c main_arg6) from by
      rw [show ((cfg0 (F := F)).win (8 : Fin 10)).arr.view.set = Finset.univ from Memref.IsWhole.set_eq_univ (arr_whole0 (8 : Fin 10))]
      exact Transfers.pointsTo_toks_split rq 16) $$ B8
  icases B8' with ⟨-, B8⟩
  ihave H5' := (pointsTo_share (PosShare.mem_left_op_right (fullShare : PosShare TreeShare))).1 $$ H5
  icases H5' with ⟨H5, B5⟩
  ihave B5' := (show (ptq c main_arg5 rq (V c main_arg5) : SP F)
    ⊢ iprop(ptq c main_arg5 (Transfers.shareDrop rq 16) (V c main_arg5) ∗ toks V c main_arg5) from Transfers.pointsTo_toks_split rq 16) $$ B5
  icases B5' with ⟨D5, B5⟩
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [B5 B8]
  · isplitl [B5]; · iexact B5
    iexact B8
  unfold rests
  isplitl [H5]; · iexact H5
  isplitl [D5]; · iexact D5
  iexact H7

theorem toks_owns (c : Dev nD) (b : Ref sig .tc) : toks V c b = bigSep Finset.univ fun k : Fin 16 => owns (c : Thread nD τ) (Memref.whole b) (Transfers.shareTok rq 16 k) (V c b) := by
  unfold toks
  refine congrArg (bigSep Finset.univ) (funext fun k => ?_)
  rw [owns_whole_eq]
  refine BI.Entails.antisymm ?_ ?_
  · show (ptq c b _ _ : SP F) ⊢ iprop(∃ f : Buf (Elt F) ((c : Thread nD τ).loc b), ⌜f = V c b⌝ ∗ (((c : Thread nD τ).loc b) ↦{Transfers.shareTok rq 16 k} f))
    iintro H
    iexists _
    isplitr; swap; · iexact H
    ipureintro; rfl
  · show (iprop(∃ f : Buf (Elt F) ((c : Thread nD τ).loc b), ⌜f = V c b⌝ ∗ (((c : Thread nD τ).loc b) ↦{Transfers.shareTok rq 16 k} f)) : SP F) ⊢ ptq c b _ _
    iintro ⟨%f, %hf, H⟩
    subst hf
    iexact H

/-- The invariant before the first step. -/
theorem inv_first (c : Dev nD) (h0 : ∀ X, PD c 0 X) :
    iprop((toks V c main_arg5 ∗ toks V c main_arg6) ∗ Pipeline.ownSems0 (Ix := Unit) (Name := ℕ) (U := Pipeline.UD sig nD τ) (Lvl := ℕ) (Val := Elt F) (τ := τ) osem c
      ∗ Pipeline.scopedRest (Ix := Unit) (Name := ℕ) (U := Pipeline.UD sig nD τ) (Lvl := ℕ) (Val := Elt F) spec0 c) ⊢ Inv V L PD c 0 := by
  rw [scopedRest0_eq, ownSems0_eq', toks_owns, toks_owns]
  unfold Inv
  iintro ⟨⟨T5, T6⟩, ⟨S4, S5⟩, ⟨%f0, H0⟩, ⟨%f1, H1⟩, ⟨%f2, H2⟩, ⟨%f3, H3⟩, ⟨%f6, H6⟩⟩
  iexists (fun a => BitVec.toNat (f6 (ValueIdx.ix1 a) : BitVec 32))
  iexists 0
  iexists 0
  iexists 0
  iexists 0
  iexists f0
  iexists f1
  isplitr; · ipureintro; exact ⟨⟨Or.inl ⟨rfl, rfl⟩, rfl⟩, h0 _⟩
  isplitl [H6]
  · rw [owns_whole_eq]
    iexists f6
    isplitr; swap; · iexact H6
    ipureintro
    funext x
    unfold stV nw
    rw [BitVec.ofNat_toNat, BitVec.setWidth_eq]
    refine congrArg f6 (funext fun a => ?_)
    fin_cases a
    rfl
  isplitl [H0]
  · rw [owns_whole_eq]
    iexists f0
    isplitr; · ipureintro; rfl
    iexact H0
  isplitl [H1]
  · rw [owns_whole_eq]
    iexists f1
    isplitr; · ipureintro; rfl
    iexact H1
  iexists (fun _ => none)
  isplitr; · ipureintro; exact ⟨fun n h1 h2 => absurd h2 (Nat.not_lt_zero n), fun _ _ => rfl⟩
  iapply (Entails.of_eq (ring_none (cts0 V c) c).symm)
  isplitl [H2 S4 T5]
  · isplitl [H2]
    · iapply (slots_split (Memref.whole cc0_scratch2) _ (Memref.isWhole_whole _) c f2)
      iexact H2
    isplitl [S4]; · iexact S4
    iexact T5
  · isplitl [H3]
    · iapply (slots_split (Memref.whole cc0_scratch3) _ (Memref.isWhole_whole _) c f3)
      iexact H3
    isplitl [S5]; · iexact S5
    iexact T6

/-- The invariant after the last step. -/
theorem inv_last (c : Dev nD) :
    Inv V L PD c 256 ⊢ iprop((toks V c main_arg5 ∗ toks V c main_arg6) ∗ Pipeline.ownSems0 (Ix := Unit) (Name := ℕ) (U := Pipeline.UD sig nD τ) (Lvl := ℕ) (Val := Elt F) (τ := τ) osem c
      ∗ Pipeline.scopedRest (Ix := Unit) (Name := ℕ) (U := Pipeline.UD sig nD τ) (Lvl := ℕ) (Val := Elt F) spec0 c) := by
  rw [scopedRest0_eq, ownSems0_eq', toks_owns, toks_owns]
  unfold Inv
  iintro ⟨%v, %I, %D, %s, %j, %X, %A, %hS, H6, H0, H1, %f, %hf, HR⟩
  obtain ⟨⟨hS, hD⟩, -⟩ := hS
  have hI : I = D := by
    rcases hS with hS | hS
    · exact absurd hS.1 (by decide)
    · exact Lists.Full.end_ (t := 255) rfl hS.2.2 hD
  have hn : f = fun _ => none := funext fun k => hf.2 k fun n h1 h2 => absurd h2 (by omega)
  subst hn
  ihave HR' := (Entails.of_eq (ring_none (cts0 V c) c)) $$ HR
  icases HR' with ⟨⟨R2, S4, T5⟩, R3, S5, T6⟩
  isplitl [T5 T6]
  · isplitl [T5]; · iexact T5
    iexact T6
  isplitl [S4 S5]
  · isplitl [S4]; · iexact S4
    iexact S5
  isplitl [H0]
  · iapply (owns_some c cc0_scratch0 _)
    iexact H0
  isplitl [H1]
  · iapply (owns_some c cc0_scratch1 _)
    iexact H1
  isplitl [R2]
  · iapply (slots_join (Memref.whole cc0_scratch2) _ (Memref.isWhole_whole _) c (fun _ => (Classical.arbitrary _)))
    iexact R2
  isplitl [R3]
  · iapply (slots_join (Memref.whole cc0_scratch3) _ (Memref.isWhole_whole _) c (fun _ => (Classical.arbitrary _)))
    iexact R3
  iapply (owns_some c cc0_scratch6 _)
  iexact H6

end Cert.Kernel.M

end
-- ==== Proof.K.Launch.lean ====
module

public import proofs.«01_k».proof.Proof.K.Ends
public import Idealize.ShloMosaic.Lib.Pipeline.Regions

@[expose] public section

noncomputable section

/-
  The launch: the host operations, then the kernel's region.
-/
namespace Cert.Kernel.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Kernel.Gen

variable {F : FTy → Type} [FloatOps F]
open Facts₀ Facts

variable (m : (ℓ : Loc nD τ sig) → Buf (Elt F) ℓ) (ρ : Dev nD → PrngReg)
  (aft : Dev nD → ℕ → (S128x3072.Idx → Elt F .bf16) → Prop) (L : Dev nD → Lists) (PD : Dev nD → ℕ → (S102432x128.Idx → Elt F .f32) → Prop)

/-- Each core's buffers when the host operations start, -/
abbrev V₀ (c : Dev nD) : Valuation τ sig (Elt F) := fun b => m ((c : Dev nD), b)
/-- and when the region is entered. -/
abbrev VE (c : Dev nD) (b : Ref sig .tc) : Buf (Elt F) ((c : Thread nD τ).loc b) := StableHlo.after hostOps0 (V₀ m c) b

theorem not_written (b : Ref sig .tc) (hb : b ≠ main_v0 ∧ b ≠ main_v1 ∧ b ≠ main_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.unary_writes, StableHlo.binary_writes, Finset.mem_singleton] <;>
    exact StableHlo.devRef_ne_of_ne ‹_›

theorem VE_eq (c : Dev nD) (b : Ref sig .tc) (hb : b ≠ main_v0 ∧ b ≠ main_v1 ∧ b ≠ main_v2) :
    VE m c b = m ((c : Thread nD τ).loc b) :=
  StableHlo.after_of_forall_not_mem (b := Proc.devRef .tc b) hostOps0 (V₀ m c) (not_written b hb)

/-- No core owes another anything: no level is assigned. -/
abbrev LL : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers. -/
abbrev RW (c : Dev nD) : SP F := iprop(∃ W, owes (c : Thread nD τ) (0 : CellTallies nD τ sig Unit) W)

/-- The region's proof data. -/
abbrev rds (_ : Fin 1) (c : Dev nD) : Pipeline.RDat τ (Elt F) Unit ℕ (Pipeline.UD sig nD τ) ℕ (cfg0 (F := F)) c :=
  rdat (VE m) aft (Inv (VE m) L PD) c

/-- The host operations. -/
def hseg : Pipeline.HostSeg (Name := ℕ) (U := Pipeline.UD sig nD τ) (pcfgs (F := F)) defs₀ VN LL lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) RW

/-- What the region leaves. -/
abbrev TN (c : Dev nD) : SP F :=
  iprop((rds m aft L PD 0 c).arraysAt (cfg0 (F := F)).N ∗ ptq c main_arg5 fullShare (VE m c main_arg5) ∗ ptq c main_arg7 fullShare (VE m c main_arg7))

variable {m L PD aft}

set_option backward.isDefEq.respectTransparency.types false in
/-- The region. -/
def rseg (H : Hyp (VE m) aft L PD) :
    Pipeline.RDat.RegionSeg (pcfgs (F := F)) adm (rds m aft L PD) () defs₀ VN LL lv 0 where
  win := launch₀0.win
  block_pos := launch₀0.block_pos
  stage_whole := launch₀0.stage_whole
  K := Fin 16 ⊕ Fin 16
  osem := osem
  ho := ownSemFacts
  hbody c := body_ok H c
  hwaits := Pipeline.RDat.hwaits_of_owed_zero _ _ _ _ LL lv 0 fun _ _ => rfl
  pre c := iprop(StableHlo.held (c : Thread nD τ) (Pipeline.ucRefs τ sig) (StableHlo.after hostOps0 (V₀ m c)) ∗ RW c)
  post c := iprop(TN m aft L PD c ∗ RW c)
  X c := iprop((toks (VE m) c main_arg5 ∗ toks (VE m) c main_arg6) ∗ Pipeline.ownSems0 (Ix := Unit) (Name := ℕ) (U := Pipeline.UD sig nD τ) (Lvl := ℕ) (Val := Elt F) (τ := τ) osem c)
  Y c := iprop(toks (VE m) c main_arg5 ∗ toks (VE m) c main_arg6)
  Z c := rests (VE m) c
  hentry c := by
    rw [show StableHlo.held (c : Thread nD τ) (Pipeline.ucRefs τ sig) (StableHlo.after hostOps0 (V₀ m c)) = unscopedBufs c (VE m c) from (Pipeline.unscopedBufs_held c _).symm]
    iintro ⟨⟨Hub, HO⟩, Hos, -⟩
    ihave H := (entry_arrays (VE m) aft (Inv (VE m) L PD) c) $$ Hub
    icases H with ⟨Ha, Ht, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Ht Hos]
    · isplitl [Ht]; · iexact Ht
      iexact Hos
    iexact Hz
  hin c := by
    rw [show (rds m aft L PD 0 c).Φ 0 = Inv (VE m) L PD c 0 from rfl]
    iintro ⟨⟨Ht, Hos⟩, -, Hr⟩
    iapply (inv_first (VE m) L PD c (H.first c))
    isplitl [Ht]; · iexact Ht
    isplitl [Hos] <;> iassumption
  hout c := by
    rw [show (rds m aft L PD 0 c).Φ (Fin.last (cfg0 (F := F)).N) = Inv (VE m) L PD c 256 from congrArg (Inv (VE m) L PD c) N_0]
    exact inv_last (VE m) L PD c
  hexit c := by
    unfold rests toks
    iintro ⟨Ha, HO, ⟨H5, -⟩, ⟨A5, D5, H7⟩⟩
    imodintro
    isplitr [HO]
    · isplitl [Ha]; · iexact Ha
      isplitr [H7]
      · iapply (pointsTo_share (PosShare.mem_left_op_right (fullShare : PosShare TreeShare))).2
        isplitl [A5]; · iexact A5
        iapply (Transfers.pointsTo_toks_join rq 16)
        isplitl [D5]; · iexact D5
        iexact H5
      iexact H7
    · unfold Pipeline.RDat.owesAt Pipeline.owesWithin
      icases HO with ⟨%W, -, HO⟩; iexists W; iexact HO

/-- @main as the two segments. -/
abbrev segs (H : Hyp (VE m) aft L PD) : List (Pipeline.RDat.Seg (pcfgs (F := F)) adm (rds m aft L PD) () defs₀ VN LL lv) :=
  [.host (hseg m), .region (rseg H)]

theorem main_run (H : Hyp (VE m) aft L PD) (c : Dev nD) : main (F := F) c = Pipeline.RDat.Seg.run (segs H) := by
  simp only [Pipeline.RDat.Seg.run]
  rw [show (hseg m).prog = StableHlo.seq hostOps0 from rfl]
  rfl

/-- The launch element. -/
def u₀ : Pipeline.UD sig nD τ :=
  (initOf (Pipeline.cells (Pipeline.pin (pcfgs (F := F)) adm) cellOf_inj) (Pipeline.launchToks (Pipeline.pin (pcfgs (F := F)) adm) cellOf_inj), 1)

/-- What a final memory satisfies. -/
def QY (m : (ℓ : Loc nD τ sig) → Buf (Elt F) ℓ) (aft : Dev nD → ℕ → (S128x3072.Idx → Elt F .bf16) → Prop) (L : Dev nD → Lists) (PD : Dev nD → ℕ → (S102432x128.Idx → Elt F .f32) → Prop)
    (c : Dev nD) (s : MemSt nD τ sig (Elt F)) : Prop :=
  (∀ w, (rds m aft L PD 0 c).ArrAt w (cfg0 (F := F)).N (s.mem (((cfg0 (F := F)).win w).arr.view.loc (c : Thread nD τ))))
    ∧ s.mem ((c : Thread nD τ).loc main_arg5) = m ((c : Thread nD τ).loc main_arg5)
    ∧ s.mem ((c : Thread nD τ).loc main_arg7) = m ((c : Thread nD τ).loc main_arg7)

set_option maxRecDepth 100000 in
set_option backward.isDefEq.respectTransparency.types false in
/-- Every run of @main ends, every semaphore at zero and the memory as `QY` says. -/
theorem run_main (H : Hyp (VE m) aft L PD) :
    θ_run defs (onTc (τ := τ) (main (F := F))) ⟨m, fun _ => 0, ρ⟩ (fun r => (∀ c, QY m aft L PD c r.2) ∧ r.2.sem = fun _ => 0) :=
  Pipeline.RDat.θ_run_regions_kit_sems (pcfgs (F := F)) adm (rds m aft L PD) () cellOf_inj embL defs₀ VN LL lv m ρ main (segs H)
    (fun c Q => by rw [main_run H c])
    (by simp only [Pipeline.RDat.Seg.pipes_host, Pipeline.RDat.Seg.pipes_region, Pipeline.RDat.Seg.pipes_nil]; decide) (O₀ := 0) (hL := fun _ _ => rfl) (G := fun _ => iprop(emp)) (u₀ := u₀ (F := F))
    (hu₀ := by
      unfold u₀
      iintro Hu
      ihave H := (ownU_pair _ _) $$ Hu
      icases H with ⟨HP, -⟩
      imodintro
      isplitl [HP]; · iexact HP
      iapply (show (BI.emp : SP F) ⊢ bigSep Finset.univ (fun _ : Dev nD => (BI.emp : SP F)) from by rw [BI.bigSep_emp_const])
      iempintro)
    (T₀ := fun c => iprop(StableHlo.held (c : Thread nD τ) (Pipeline.ucRefs τ sig) (V₀ m c) ∗ RW c)) (Tₙ := TN m aft L PD)
    (hch := ⟨fun _ => .rfl, fun _ => .rfl, fun _ => .rfl⟩)
    (hinit := by
      refine Pipeline.initEach LL lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := QY m aft L PD)
    (hfin := fun c s' => by
      dsimp only [TN]; rw [VE_eq m c main_arg5 (by decide), VE_eq m c main_arg7 (by decide)]
      iintro ⟨⟨Ha, H5, H7⟩, HSI⟩
      icombine HSI H5 gives %h5
      icombine HSI H7 gives %h7
      ihave Hr := (Pipeline.RDat.arrays_read (pcfgs (F := F)) adm (rds m aft L PD) (p := 0) arr_whole0 c _ s') $$ [Ha HSI]
      · isplitl [Ha] <;> iassumption
      icases Hr with ⟨%ha, HSI⟩
      imodintro
      isplitr; · ipureintro; exact ⟨ha, Buf.eq_of_forall_mem_univ h5, Buf.eq_of_forall_mem_univ h7⟩
      iexact HSI)
    (hQ := fun _ h hz => ⟨h, funext fun g => hz g (.inr (by revert g; decide))⟩)

/-- The run leaves every argument as it was. -/
theorem args_kept (c : Dev nD) (s : MemSt nD τ sig (Elt F)) (h : QY m aft L PD c s) :
    s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7) := by
  have k : ∀ (w : Fin (cfg0 (F := F)).W), ((cfg0 (F := F)).win w).isOut = false → s.mem (((cfg0 (F := F)).win w).arr.view.loc (c : Thread nD τ)) = VE m c (Pipeline.arrRef spec0 w) := fun w hw => by
    have hk := h.1 w
    rw [Pipeline.RDat.ArrAt_in _ _ hw] at hk
    exact hk
  refine ⟨(k 0 rfl).trans (VE_eq m c main_arg0 (by decide)), (k 1 rfl).trans (VE_eq m c main_arg1 (by decide)), (k 2 rfl).trans (VE_eq m c main_arg2 (by decide)),
    (k 4 rfl).trans (VE_eq m c main_arg3 (by decide)), (k 6 rfl).trans (VE_eq m c main_arg4 (by decide)), h.2.1, (k 8 rfl).trans (VE_eq m c main_arg6 (by decide)), h.2.2⟩

end Cert.Kernel.M

end
-- ==== Proof.Pre.lean ====
module

public import proofs.«01_k».proof.Pre_routed
public import Idealize.ShloMosaic.Lib.Pointwise.Tactic
public import Idealize.ShloMosaic.Lib.Affine
public import Idealize.ShloMosaic.Lib.ValueIdx
public import Idealize.ShloMosaic.Lib.Pipeline.Value

@[expose] public section

noncomputable section

/-
  What the precondition says, word by word.
-/
namespace Cert.Pre_routed.M

open Idealize.ShloMosaic
open Cert.Pre_routed
variable {F : FTy → Type} [FloatOps F] [Facts]
open Facts

/-- The list part of the precondition. -/
def listsOk (lists : IVec S256x4x128 32) (counts : IVec S256x1x4 32) : IVec S1x256x4x1x128 1 :=
  let main_v0 : IVec S1x256x4x1x1 32 := shapeCast S1x256x4x1x1 counts shapeCasts_S256x1x4_S1x256x4x1x1
  let main_v1 : IVec S1x256x4x1x128 32 := shapeCast S1x256x4x1x128 lists shapeCasts_S256x4x128_S1x256x4x1x128
  let main_v2 : IVec S1x256x4x1x128 32 := iotaInDim S1x256x4x1x128 32 4
  let main_c : IVec S_ 32 := constantI S_ 32 0#32
  let main_v3 : IVec S1x256x4x1x1 32 := broadcastInDim S1x256x4x1x1 ![] bcast_S_S1x256x4x1x1 main_c
  let main_v4 : IVec S1x256x4x1x1 1 := cmpi .sge main_v0 main_v3
  let main_c_0 : IVec S_ 32 := constantI S_ 32 128#32
  let main_v5 : IVec S1x256x4x1x1 32 := broadcastInDim S1x256x4x1x1 ![] bcast_S_S1x256x4x1x1 main_c_0
  let main_v6 : IVec S1x256x4x1x1 1 := cmpi .sle main_v0 main_v5
  let main_v7 : IVec S1x256x4x1x1 1 := andi main_v4 main_v6
  let main_v8 : IVec S1x256x4x1x128 32 := broadcastInDim S1x256x4x1x128 ![0, 1, 2, 3, 4] bcast_S1x256x4x1x1_S1x256x4x1x128_0_1_2_3_4 main_v0
  let main_v9 : IVec S1x256x4x1x128 1 := cmpi .sge main_v2 main_v8
  let main_c_1 : IVec S_ 32 := constantI S_ 32 0#32
  let main_v10 : IVec S1x256x4x1x128 32 := broadcastInDim S1x256x4x1x128 ![] bcast_S_S1x256x4x1x128 main_c_1
  let main_v11 : IVec S1x256x4x1x128 1 := cmpi .sge main_v1 main_v10
  let main_c_2 : IVec S_ 32 := constantI S_ 32 498112#32
  let main_v12 : IVec S1x256x4x1x128 32 := broadcastInDim S1x256x4x1x128 ![] bcast_S_S1x256x4x1x128 main_c_2
  let main_v13 : IVec S1x256x4x1x128 1 := cmpi .slt main_v1 main_v12
  let main_v14 : IVec S1x256x4x1x128 1 := andi main_v11 main_v13
  let main_v15 : IVec S1x256x4x1x128 1 := ori main_v9 main_v14
  let main_v16 : IVec S1x256x4x1x128 1 := broadcastInDim S1x256x4x1x128 ![0, 1, 2, 3, 4] bcast_S1x256x4x1x1_S1x256x4x1x128_0_1_2_3_4 main_v7
  andi main_v16 main_v15

/-- Per step and half window, the stamp of the last entry put there in that step's list; -1 if none. -/
def stamps (lists : IVec S256x4x128 32) (counts : IVec S256x1x4 32) : IVec S1024x128x128 32 :=
  let main_v18 : IVec S1024x128 32 := shapeCast S1024x128 lists shapeCasts_S256x4x128_S1024x128
  let main_v19 : IVec S1024x128 32 := iotaInDim S1024x128 32 1
  let main_v20 : IVec S1024x128 32 := iotaInDim S1024x128 32 0
  let main_c_3 : IVec S_ 32 := constantI S_ 32 6#32
  let main_v21 : IVec S1024x128 32 := broadcastInDim S1024x128 ![] bcast_S_S1024x128 main_c_3
  let main_v22 : IVec S1024x128 32 := Host.shrsi main_v18 main_v21
  let main_v23 : IVec S1024x1 32 := shapeCast S1024x1 counts shapeCasts_S256x1x4_S1024x1
  let main_v24 : IVec S1024x128 32 := broadcastInDim S1024x128 ![0, 1] bcast_S1024x1_S1024x128_0_1 main_v23
  let main_v25 : IVec S1024x128 1 := cmpi .slt main_v19 main_v24
  let main_c_4 : IVec S_ 32 := constantI S_ 32 63#32
  let main_v26 : IVec S1024x128 32 := broadcastInDim S1024x128 ![] bcast_S_S1024x128 main_c_4
  let main_v27 : IVec S1024x128 32 := andi main_v18 main_v26
  let main_c_5 : IVec S_ 32 := constantI S_ 32 2#32
  let main_v28 : IVec S1024x128 32 := broadcastInDim S1024x128 ![] bcast_S_S1024x128 main_c_5
  let main_v29 : IVec S1024x128 32 := muli main_v27 main_v28
  let main_c_6 : IVec S_ 32 := constantI S_ 32 1#32
  let main_v30 : IVec S1024x128 32 := broadcastInDim S1024x128 ![] bcast_S_S1024x128 main_c_6
  let main_v31 : IVec S1024x128 32 := andi main_v22 main_v30
  let main_v32 : IVec S1024x128 32 := addi main_v29 main_v31
  let main_c_7 : IVec S_ 32 := constantI S_ 32 4294967295#32
  let main_v33 : IVec S1024x128 32 := fn_where (F := F) main_v25 main_v32 main_c_7
  let main_c_8 : IVec S_ 32 := constantI S_ 32 128#32
  let main_v34 : IVec S1024x128 32 := broadcastInDim S1024x128 ![] bcast_S_S1024x128 main_c_8
  let main_v35 : IVec S1024x128 32 := muli main_v20 main_v34
  let main_v36 : IVec S1024x128 32 := addi main_v35 main_v19
  let main_c_9 : IVec S_ 32 := constantI S_ 32 8192#32
  let main_v37 : IVec S1024x128 32 := broadcastInDim S1024x128 ![] bcast_S_S1024x128 main_c_9
  let main_v38 : IVec S1024x128 32 := muli main_v36 main_v37
  let main_v39 : IVec S1024x128 32 := addi main_v38 main_v22
  let main_v40 : IVec S1024x128x128 32 := iotaInDim S1024x128x128 32 2
  let main_v41 : IVec S1024x128x1 32 := broadcastInDim S1024x128x1 ![0, 1] bcast_S1024x128_S1024x128x1_0_1 main_v33
  let main_v42 : IVec S1024x128x128 32 := broadcastInDim S1024x128x128 ![0, 1, 2] bcast_S1024x128x1_S1024x128x128_0_1_2 main_v41
  let main_v43 : IVec S1024x128x128 1 := cmpi .eq main_v42 main_v40
  let main_v44 : IVec S1024x128x1 32 := broadcastInDim S1024x128x1 ![0, 1] bcast_S1024x128_S1024x128x1_0_1 main_v39
  let main_c_10 : IVec S_ 32 := constantI S_ 32 4294967295#32
  fn_where_0 (F := F) main_v43 main_v44 main_c_10

/-- The last of each step's own stamps. -/
def own (lists : IVec S256x4x128 32) (counts : IVec S256x1x4 32) : IVec S1024x128 32 :=
  Host.reduce IntOp.maxsi (stamps (F := F) lists counts) (constantI S_ 32 2147483648#32) reducesTo_S1024x128x128_S1024x128_d1 h_S_

/-- The last stamp up to each step. -/
def newest (lists : IVec S256x4x128 32) (counts : IVec S256x1x4 32) : IVec S1024x128 32 :=
  Host.reduce IntOp.maxsi (fn_where_1 (F := F) (cmpi .sle (iotaInDim S1024x1024x128 32 1) (iotaInDim S1024x1024x128 32 0))
    (broadcastInDim S1x1024x128 ![1, 2] bcast_S1024x128_S1x1024x128_1_2 (own (F := F) lists counts)) (constantI S_ 32 4294967295#32))
    (constantI S_ 32 2147483648#32) reducesTo_S1024x1024x128_S1024x128_d1 h_S_

theorem fn_eq (loc : IVec S8x32768 32) (w : FVec F S8x32768 .f32) (lists : IVec S256x4x128 32) (counts : IVec S256x1x4 32) (x : FVec F S32768x3072 .bf16)
    (yc : FVec F S249037x3072 .fp8e4m3) (ys : FVec F S249037x24 .f32) (rr : IVec S32768x8 32) :
    fn (F := F) loc w lists counts x yc ys rr
      = fn_part3 (F := F) (listsOk lists counts) (newest (F := F) lists counts) (shapeCast S8x256x4x32x1 loc shapeCasts_S8x32768_S8x256x4x32x1)
          (shapeCast S8x256x4x32x1 w shapeCasts_S8x32768_S8x256x4x32x1)
          (shapeCast S8x256x4x32x1 ((transpose S8x32768 [1, 0] · transposes_S32768x8_S8x32768_1_0) rr) shapeCasts_S8x32768_S8x256x4x32x1) := rfl

theorem sc_counts (h) (X : S256x1x4.Idx → BitVec 32) (t : Fin 256) (s : Fin 4) :
    shapeCast S1x256x4x1x1 X h (ix5 (0 : Fin 1) t s (0 : Fin 1) (0 : Fin 1)) = X (ValueIdx.ix3 t (0 : Fin 1) s) :=
  congrArg X (Shape.reshapeEquiv_eq_of_rowMajor _ (by
    rw [Shape.rowMajor_val_three, Shape.rowMajor_val_five]
    show ((t.val * 1 + 0) * 4 + s.val) = ((((0 * 256 + t.val) * 4 + s.val) * 1 + 0) * 1 + 0); omega))

theorem sc_lists (h) (X : S256x4x128.Idx → BitVec 32) (t : Fin 256) (s : Fin 4) (q : Fin 128) :
    shapeCast S1x256x4x1x128 X h (ix5 (0 : Fin 1) t s (0 : Fin 1) q) = X (ValueIdx.ix3 t s q) :=
  congrArg X (Shape.reshapeEquiv_eq_of_rowMajor _ (by
    rw [Shape.rowMajor_val_three, Shape.rowMajor_val_five]
    show ((t.val * 4 + s.val) * 128 + q.val) = ((((0 * 256 + t.val) * 4 + s.val) * 1 + 0) * 128 + q.val); omega))

/-- The token of a step, a quarter and a place in it. -/
abbrev tokOf (t : Fin 256) (s : Fin 4) (y : Fin 32) : Fin 32768 := ⟨(t.val * 4 + s.val) * 32 + y.val, by omega⟩

theorem sc_r {α : Type} (h) (X : S8x32768.Idx → α) (k : Fin 8) (t : Fin 256) (s : Fin 4) (y : Fin 32) :
    shapeCast S8x256x4x32x1 X h (ix5 k t s y (0 : Fin 1)) = X (ValueIdx.ix2 k (tokOf t s y)) :=
  congrArg X (Shape.reshapeEquiv_eq_of_rowMajor _ (by
    rw [Shape.rowMajor_val_two, Shape.rowMajor_val_five]
    show (k.val * 32768 + ((t.val * 4 + s.val) * 32 + y.val)) = ((((k.val * 256 + t.val) * 4 + s.val) * 32 + y.val) * 1 + 0); omega))

/-- The step of the lists. -/
abbrev sub (t : Fin 256) (s : Fin 4) : Fin 1024 := ⟨t.val * 4 + s.val, by omega⟩

theorem sc_new (h) (X : S1024x128.Idx → BitVec 32) (t : Fin 256) (s : Fin 4) (q : Fin 128) :
    shapeCast S1x256x4x1x128 X h (ix5 (0 : Fin 1) t s (0 : Fin 1) q) = X (ValueIdx.ix2 (sub t s) q) :=
  congrArg X (Shape.reshapeEquiv_eq_of_rowMajor _ (by
    rw [Shape.rowMajor_val_two, Shape.rowMajor_val_five]
    show ((t.val * 4 + s.val) * 128 + q.val) = ((((0 * 256 + t.val) * 4 + s.val) * 1 + 0) * 128 + q.val); omega))

theorem sc_rr (rr : S32768x8.Idx → BitVec 32) (h) (k : Fin 8) (n : Fin 32768) :
    transpose S8x32768 [1, 0] rr h (ValueIdx.ix2 k n) = rr (ValueIdx.ix2 n k) := by
  show transpose S8x32768 [1, 0] rr h (ix2 k n) = _
  pointwise
  rfl

theorem nn {v : BitVec 32} {b : ℕ} (h0 : 0 ≤ v.toInt) (h1 : v.toInt ≤ (b : ℤ)) : v.toNat ≤ b ∧ v.toInt = (v.toNat : ℤ) := by
  have := BitVec.toInt_eq_toNat_cond v
  split at this <;> omega

/-- The list part at an index. -/
theorem listsOk_at (lists : IVec S256x4x128 32) (counts : IVec S256x1x4 32) (t : Fin 256) (s : Fin 4) (q : Fin 128)
    (h : listsOk lists counts (ix5 (0 : Fin 1) t s (0 : Fin 1) q) = 1#1) :
    (counts (ValueIdx.ix3 t (0 : Fin 1) s) : BitVec 32).toNat ≤ 128
      ∧ (q.val < (counts (ValueIdx.ix3 t (0 : Fin 1) s) : BitVec 32).toNat → (lists (ValueIdx.ix3 t s q) : BitVec 32).toNat < 498112) := by
  unfold listsOk at h
  pointwise at h
  rw [sc_counts, sc_lists] at h
  simp only [IntOp.andi_eq_one, IntOp.ori_eq_one, IntOp.cmpi_sge, IntOp.cmpi_sle, IntOp.cmpi_slt] at h
  obtain ⟨⟨h0, h1⟩, h2⟩ := h
  have hz : (0#32 : BitVec 32).toInt = 0 := by decide
  have h128 : (128#32 : BitVec 32).toInt = 128 := by decide
  have hN : (498112#32 : BitVec 32).toInt = 498112 := by decide
  have hq : (BitVec.ofNat 32 q.val).toInt = q.val := by
    rw [BitVec.toInt_eq_toNat_cond, BitVec.toNat_ofNat, Nat.mod_eq_of_lt (by omega), if_pos (by omega)]
  rw [hz] at h0; rw [h128] at h1
  have hc := nn (b := 128) h0 h1
  refine ⟨hc.1, fun hlt => ?_⟩
  rcases h2 with h2 | ⟨h2, h3⟩
  · rw [hq] at h2; omega
  · rw [hz] at h2; rw [hN] at h3
    have := nn (b := 498111) h2 (by omega)
    omega

/-- What the precondition says of one route, about one half window: the word is a row's place or the spare one; a route
    whose weight is not zero reads an expert's slice of the ring at its own row, and that row's tile is the last one put
    there up to the token's step. -/
structure Route (at_ row new : BitVec 32) (wz : Prop) (q : Fin 128) : Prop where
  le : at_.toNat ≤ 102400
  live : ¬ wz → row.toNat < 249037 ∧ at_.toNat < 102400 ∧ at_.toNat = at_.toNat / 1600 * 1600 + row.toNat % 64 * 25
    ∧ (q.val = at_.toNat / 1600 * 2 + row.toNat / 32 % 2 → 0 ≤ new.toInt ∧ new.toNat % 8192 = row.toNat / 32)

theorem part3_at (v17 : IVec S1x256x4x1x128 1) (v52 : IVec S1024x128 32) (loc : IVec S8x32768 32) (w : FVec F S8x32768 .f32) (rr : IVec S32768x8 32)
    (k : Fin 8) (t : Fin 256) (s : Fin 4) (y : Fin 32) (q : Fin 128)
    (h : fn_part3 (F := F) v17 v52 (shapeCast S8x256x4x32x1 loc shapeCasts_S8x32768_S8x256x4x32x1)
          (shapeCast S8x256x4x32x1 w shapeCasts_S8x32768_S8x256x4x32x1)
          (shapeCast S8x256x4x32x1 ((transpose S8x32768 [1, 0] · transposes_S32768x8_S8x32768_1_0) rr) shapeCasts_S8x32768_S8x256x4x32x1) (ix5 k t s y q) = 1#1) :
    v17 (ix5 (0 : Fin 1) t s (0 : Fin 1) q) = 1#1
    ∧ Route (loc (ValueIdx.ix2 k (tokOf t s y))) (rr (ValueIdx.ix2 (tokOf t s y) k)) (v52 (ValueIdx.ix2 (sub t s) q))
        (FloatOps.cmpf CmpFPredicate.oeq (w (ValueIdx.ix2 k (tokOf t s y))) (FloatOps.ofBits FTy.f32 0#32) = 1#1) q := by
  unfold fn_part3 fn_part4 fn_part5 fn_part6 at h
  pointwise at h
  rw [sc_r, sc_r, sc_r, sc_new, sc_rr] at h
  generalize loc (ValueIdx.ix2 k (tokOf t s y)) = a at h ⊢
  generalize rr (ValueIdx.ix2 (tokOf t s y) k) = r at h ⊢
  generalize v52 (ValueIdx.ix2 (sub t s) q) = n at h ⊢
  generalize w (ValueIdx.ix2 k (tokOf t s y)) = x at h ⊢
  have hnot : ∀ b : BitVec 1, ~~~b = 1#1 ↔ ¬ b = 1#1 := by decide
  simp only [IntOp.andi_eq_one, IntOp.ori_eq_one, IntOp.cmpi_sge, IntOp.cmpi_sle, IntOp.cmpi_slt, hnot, IntOp.cmpi_eq] at h
  obtain ⟨⟨⟨h17, h0⟩, h1⟩, h2⟩ := h
  have hz : (0#32 : BitVec 32).toInt = 0 := by decide
  have hA : (102400#32 : BitVec 32).toInt = 102400 := by decide
  have hK : (249037#32 : BitVec 32).toInt = 249037 := by decide
  rw [hz] at h0; rw [hA] at h1
  have ha := nn (b := 102400) h0 h1
  refine ⟨h17, ha.1, fun hw => ?_⟩
  rcases h2 with h2 | ⟨⟨⟨⟨h3, h4⟩, h5⟩, h6⟩, h7⟩
  · exact absurd h2 hw
  rw [hz] at h3; rw [hK] at h4; rw [hA] at h5
  have hr := nn (b := 249036) h3 (by omega)
  have hd : (IntOp.divsi ArithUnit.host a 1600#32).toNat = a.toNat / 1600 := by
    unfold IntOp.divsi
    rw [if_neg (IntOp.not_corner_of_pos (by decide)), BitVec.sdiv_eq, show a.msb = false from BitVec.msb_eq_false_iff_two_mul_lt.mpr (by omega), show (1600#32 : BitVec 32).msb = false from by decide]
    rfl
  have hs : (IntOp.shrsi ArithUnit.host r 5#32).toNat = r.toNat / 32 := by
    unfold IntOp.shrsi
    rw [if_pos (by decide)]
    show (r.sshiftRight 5).toNat = _
    rw [BitVec.sshiftRight_eq_of_msb_false (BitVec.msb_eq_false_iff_two_mul_lt.mpr (by omega)), BitVec.toNat_ushiftRight, Nat.shiftRight_eq_div_pow]
  have hm : (IntOp.andi r 63#32).toNat = r.toNat % 64 := by
    show (r &&& 63#32).toNat = _
    rw [BitVec.toNat_and]; exact Nat.and_two_pow_sub_one_eq_mod _ 6
  have hm1 : ∀ v : BitVec 32, (IntOp.andi v 1#32).toNat = v.toNat % 2 := fun v => by
    show (v &&& 1#32).toNat = _
    rw [BitVec.toNat_and]; exact Nat.and_two_pow_sub_one_eq_mod _ 1
  have hm2 : ∀ v : BitVec 32, (IntOp.andi v 8191#32).toNat = v.toNat % 8192 := fun v => by
    show (v &&& 8191#32).toNat = _
    rw [BitVec.toNat_and]; exact Nat.and_two_pow_sub_one_eq_mod _ 13
  refine ⟨by omega, by omega, ?_, fun hq => ?_⟩
  · have := congrArg BitVec.toNat h6
    simp only [IntOp.addi, IntOp.muli, BitVec.toNat_add, BitVec.toNat_mul, hd, hm, BitVec.toNat_ofNat] at this
    omega
  · rcases h7 with h7 | ⟨h7, h8⟩
    · refine absurd ?_ h7
      apply BitVec.eq_of_toNat_eq
      simp only [IntOp.addi, IntOp.muli, BitVec.toNat_add, BitVec.toNat_mul, hd, hm1, hs, BitVec.toNat_ofNat]
      omega
    · rw [hz] at h7
      have := congrArg BitVec.toNat h8
      rw [hm2, hs] at this
      exact ⟨h7, this⟩

end Cert.Pre_routed.M

end
-- ==== Proof.K.Frame.lean ====
module

public import proofs.«01_k».proof.Proof.K.Launch
public import proofs.«01_k».proof.Proof.Pre

@[expose] public section

noncomputable section

/-
  The lists as the precondition has them.
-/
namespace Cert.Kernel.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Kernel.Gen

variable {F : FTy → Type} [FloatOps F]
open Facts₀ Facts

variable [Cert.Pre_routed.Facts] (m : (ℓ : Loc nD τ sig) → Buf (Elt F) ℓ)

/-- The precondition, at a core's arguments. -/
abbrev Routed (c : Dev nD) : Prop :=
  Cert.Pre_routed.fn (F := F) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) = fun _ => 1#1

/-- An entry's word. -/
abbrev entW (c : Dev nD) (t : Fin 256) (s : Fin 4) (j : Fin 128) : BitVec 32 := m ((c : Thread nD τ).loc main_arg2) (ValueIdx.ix3 t s j)
/-- A count's word. -/
abbrev cntW (c : Dev nD) (t : Fin 256) (s : Fin 4) : BitVec 32 := m ((c : Thread nD τ).loc main_arg3) (ValueIdx.ix3 t (0 : Fin 1) s)

/-- The core's lists. -/
def listsOf (c : Dev nD) : Lists where
  cnt σ := if h : σ < 1024 then min (cntW m c ⟨σ / 4, by omega⟩ ⟨σ % 4, by omega⟩).toNat 128 else 0
  ent σ j := if h : σ < 1024 ∧ j < 128 then (entW m c ⟨σ / 4, by omega⟩ ⟨σ % 4, by omega⟩ ⟨j, h.2⟩).toNat % 498112 else 0
  cnt_le σ := by split <;> omega
  cnt_end σ h := dif_neg (by omega)
  ent_lt σ j _ := by split <;> omega

variable {m} (hm : ∀ c, Routed m c)

include hm in
theorem pre_at (c : Dev nD) (k : Fin 8) (t : Fin 256) (s : Fin 4) (y : Fin 32) (q : Fin 128) :
    Cert.Pre_routed.M.listsOk (m ((c : Thread nD τ).loc main_arg2)) (m ((c : Thread nD τ).loc main_arg3)) (Idealize.ShloMosaic.ix5 (0 : Fin 1) t s (0 : Fin 1) q) = 1#1
    ∧ Cert.Pre_routed.M.Route (m ((c : Thread nD τ).loc main_arg0) (ValueIdx.ix2 k (Cert.Pre_routed.M.tokOf t s y))) (m ((c : Thread nD τ).loc main_arg7) (ValueIdx.ix2 (Cert.Pre_routed.M.tokOf t s y) k))
        (Cert.Pre_routed.M.newest (F := F) (m ((c : Thread nD τ).loc main_arg2)) (m ((c : Thread nD τ).loc main_arg3)) (ValueIdx.ix2 (Cert.Pre_routed.M.sub t s) q))
        (FloatOps.cmpf CmpFPredicate.oeq (m ((c : Thread nD τ).loc main_arg1) (ValueIdx.ix2 k (Cert.Pre_routed.M.tokOf t s y)) : F .f32) (FloatOps.ofBits FTy.f32 0#32) = 1#1) q :=
  Cert.Pre_routed.M.part3_at (F := F) _ _ _ _ _ k t s y q ((congrFun (Cert.Pre_routed.M.fn_eq (F := F) _ _ _ _ _ _ _ _).symm _).trans (congrFun (hm c) (Idealize.ShloMosaic.ix5 k t s y q)))

include hm in
theorem lists_at (c : Dev nD) (t : Fin 256) (s : Fin 4) (q : Fin 128) :
    (cntW m c t s).toNat ≤ 128 ∧ (q.val < (cntW m c t s).toNat → (entW m c t s q).toNat < 498112) :=
  Cert.Pre_routed.M.listsOk_at _ _ t s q (pre_at hm c 0 t s 0 q).1

theorem cnt_at (c : Dev nD) (t : Fin 256) (s : Fin 4) : (listsOf m c).cnt (4 * t.val + s.val) = min (cntW m c t s).toNat 128 := by
  show (if h : 4 * t.val + s.val < 1024 then _ else 0) = _
  rw [dif_pos (by omega)]
  have e1 : (⟨(4 * t.val + s.val) / 4, by omega⟩ : Fin 256) = t := Fin.ext (by show (4 * t.val + s.val) / 4 = t.val; omega)
  have e2 : (⟨(4 * t.val + s.val) % 4, by omega⟩ : Fin 4) = s := Fin.ext (by show (4 * t.val + s.val) % 4 = s.val; omega)
  rw [e1, e2]

theorem ent_at (c : Dev nD) (t : Fin 256) (s : Fin 4) (j : Fin 128) : (listsOf m c).ent (4 * t.val + s.val) j.val = (entW m c t s j).toNat % 498112 := by
  show (if h : 4 * t.val + s.val < 1024 ∧ j.val < 128 then _ else 0) = _
  rw [dif_pos ⟨by omega, j.isLt⟩]
  have e1 : (⟨(4 * t.val + s.val) / 4, by omega⟩ : Fin 256) = t := Fin.ext (by show (4 * t.val + s.val) / 4 = t.val; omega)
  have e2 : (⟨(4 * t.val + s.val) % 4, by omega⟩ : Fin 4) = s := Fin.ext (by show (4 * t.val + s.val) % 4 = s.val; omega)
  rw [e1, e2]

include hm in
theorem loc_at (c : Dev nD) (k : Fin 8) (n : Fin 32768) : (m ((c : Thread nD τ).loc main_arg0) (ValueIdx.ix2 k n) : BitVec 32).toNat ≤ 102400 := by
  have h := (pre_at hm c k ⟨n.val / 128, by omega⟩ ⟨n.val / 32 % 4, by omega⟩ ⟨n.val % 32, by omega⟩ 0).2.le
  have e : Cert.Pre_routed.M.tokOf ⟨n.val / 128, by omega⟩ ⟨n.val / 32 % 4, by omega⟩ ⟨n.val % 32, by omega⟩ = n := Fin.ext (by
    show (n.val / 128 * 4 + n.val / 32 % 4) * 32 + n.val % 32 = n.val; omega)
  rw [e] at h
  exact h

include hm in
/-- What the region's proof takes, given what is to be kept of the ring of rows and of the result. -/
theorem hyp_of {aft PD} (first : ∀ c X, PD c 0 X)
    (step : ∀ c (C : Cts F) (X8 : S32x3072.Idx → Elt F .fp8e4m3) (X9 : S32x24.Idx → Elt F .f32) D E (hE : E < 498112) X, C.Y = VE m c main_arg5 → C.Sc = VE m c main_arg6
      → (∀ x, X8 x = VE m c main_v2 (ValueIdx.ix2 (x 0) (x 1)))
      → (∀ (x : S32x24.Idx) (hx : (x 0).val < 13), X9 x = VE m c main_arg6 (ValueIdx.ix2 ⟨249024 + (x 0).val, by omega⟩ (x 1)))
      → (listsOf m c).item D = E → PD c D X → PD c (D + 1) (widX (nw E) (chk8_ok hE) (codesOf C X8 (E / 64)) (scalesOf C X9 (E / 64)) X))
    (out : ∀ c (t : Fin (cfg0 (F := F)).N) (X1 : S8x128.Idx → Elt F .i32) (X2 : S8x128.Idx → Elt F .f32) hX1 (X7 : S128x3072.Idx → Elt F .bf16) Y0 Y1 Y2 Y3 A O,
      (∀ x, X1 x = VE m c main_arg0 (ValueIdx.ix2 (x 0) (tok t (x 1)))) → (∀ x, X2 x = VE m c main_arg1 (ValueIdx.ix2 (x 0) (tok t (x 1))))
      → (∀ x, X7 x = VE m c main_arg4 (ValueIdx.ix2 (tok t (x 0)) (x 1)))
      → PD c ((listsOf m c).P (4 * t.val + 1)) Y0 → PD c ((listsOf m c).P (4 * t.val + 2)) Y1 → PD c ((listsOf m c).P (4 * t.val + 3)) Y2 → PD c ((listsOf m c).P (4 * t.val + 4)) Y3
      → aft c t.val (finX (accF X1 X2 hX1 Y0 Y1 Y2 Y3 A) X7 O 8)) : Hyp (VE m) aft (listsOf m) PD where
  ent c t s j hj := by
    rw [VE_eq m c main_arg2 (by decide), ent_at]
    rw [cnt_at] at hj
    have h := lists_at hm c t s j
    rw [Nat.mod_eq_of_lt (h.2 (by omega))]
    exact nw_of _
  cnt c t z s := by
    rw [VE_eq m c main_arg3 (by decide), cnt_at]
    have h := lists_at hm c t s 0
    rw [min_eq_left h.1]
    obtain rfl : z = 0 := Subsingleton.elim _ _
    exact nw_of _
  loc c x := by
    rw [VE_eq m c main_arg0 (by decide), ValueIdx.eq_ix2 x]
    exact chk21_ok (loc_at hm c (x 0) (x 1))
  first := first
  step := step
  out := out

include hm in
/-- Every run ends, with every semaphore at zero and the arguments as they were. -/
theorem frame (ρ : Dev nD → PrngReg) :
    θ_run (defs (F := F)) (onTc (τ := τ) (main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)) ∧ r.2.sem = fun _ => 0) :=
  (θ_run _ _ _).mono (fun r h => ⟨fun c => args_kept c r.2 (h.1 c), h.2⟩)
    (run_main ρ (hyp_of hm (aft := fun _ _ _ => True) (PD := fun _ _ _ => True) (fun _ _ => trivial) (by intros; trivial) (by intros; trivial)))

end Cert.Kernel.M

end
-- ==== Proof.KI.Mirror.lean ====
module

public import proofs.«01_k».proof.KernelIdeal

@[expose] public section

set_option synthInstance.maxSize 4096

noncomputable section

/-
  The kernel body of `KernelIdeal` written with its repetitions as recursions: the two scanning loops, the widening of one
  tile, the eight routed sums of one token, and the finish. The equations at the end say that the printed body is this one.
-/
namespace Cert.KernelIdeal.M

open Idealize.ShloMosaic Idealize.SL.Sem
open Idealize.ShloMosaic.RefSig (ofTc tcTables tileCredit tileCredit_eq_zero tileCredit_pos)

variable {F : FTy → Type} [FloatOps F]
variable [Facts]
open Facts₀ Facts

/-- A program of the kernel's signature. -/
abbrev PR (F : FTy → Type) (α : Type) := Prog (TpuEff nD τ sig (Elt F) (Λ₀ F) .tc) α

/-- One round of the scan past exhausted lists. -/
def skipBody (i : grid0.Coords) (arg5 : Memref sig .tc .smem S1x1x4 .i32) (harg5 : arg5.IsWhole) (arg6 : Memref sig .tc .smem S1x1x4 .i32) (harg6 : arg6.IsWhole)
    (call : BitVec 32 → BitVec 32 → PR F (BitVec 32 × BitVec 32)) (arg20 : BitVec 32) (arg21 : BitVec 32) : PR F (BitVec 32 × BitVec 32) := do
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  have k0_hw1 : k0_chk1 i arg20 := (← Prog.lift (TpuEff.assume (k0_chk1 i arg20) (k0_chk1.dec i arg20))).down
  let v67 : BitVec 1 := Scalar.cmpi .slt arg20 v5
  let c1_i32_60 : BitVec 32 := 1#32
  let v68 : BitVec 32 := Scalar.subi v5 c1_i32_60
  let v69 : BitVec 32 := Scalar.minsi arg20 v68
  let c4_i32_61 : BitVec 32 := 4#32
  let v70 : BitVec 1 := Scalar.cmpi .slt v69 c4_i32_61
  let c0_i32_62 : BitVec 32 := 0#32
  let v71 : BitVec 32 := Scalar.select v70 v69 c0_i32_62
  let c0_63 : Index := 0#32
  let c0_64 : Index := 0#32
  let v72 : Index := Scalar.indexCast v71
  let v73 : Elt F .i32 ← smemLoad arg5 (Rect.unit (s := S1x1x4) (k0_off1 i arg20) S1x1x1.size (k0_off1_inb i arg20 k0_hw1)) numel1_S1x1x1 rfl
  let c4_i32_65 : BitVec 32 := 4#32
  let v74 : BitVec 32 := Scalar.subi v69 c4_i32_65
  let c0_i32_66 : BitVec 32 := 0#32
  let v75 : BitVec 32 := Scalar.select v70 c0_i32_66 v74
  let c0_67 : Index := 0#32
  let c0_68 : Index := 0#32
  let v76 : Index := Scalar.indexCast v75
  let v77 : Elt F .i32 ← smemLoad arg6 (Rect.unit (s := S1x1x4) (k0_off2 i arg20) S1x1x1.size (k0_off2_inb i arg20 k0_hw1)) numel1_S1x1x1 rfl
  let v78 : BitVec 32 := Scalar.select v70 v73 v77
  let v79 : BitVec 1 := Scalar.cmpi .sge arg21 v78
  let v80 : BitVec 1 := Scalar.andi v67 v79
  if v80 = 1#1 then do
    let c1_i32_60 : BitVec 32 := 1#32
    let v67 : BitVec 32 := Scalar.addi arg20 c1_i32_60
    let c0_i32_61 : BitVec 32 := 0#32
    call v67 c0_i32_61
  else pure (arg20, arg21)

/-- Issuing one tile: its copies when it is a full tile, the counters, and the scan past the list it ended. -/
def canWin (i : grid0.Coords) (arg19 : Memref sig .tc .smem S4 .i32) (harg19 : arg19.IsWhole) (arg3 : Memref sig .tc .smem S1x4x128 .i32) (harg3 : arg3.IsWhole) (arg4 : Memref sig .tc .smem S1x4x128 .i32) (harg4 : arg4.IsWhole) (arg17 : DmaSems sig S16) (arg15 : Memref sig .tc .vmem S16x32x3072 .fp8e4m3) (harg15 : arg15.IsWhole) (arg10 : Memref sig .tc .hbm S249037x3072 .fp8e4m3) (harg10 : arg10.IsWhole) (arg18 : DmaSems sig S16) (arg16 : Memref sig .tc .vmem S16x32x24 .f32) (harg16 : arg16.IsWhole) (arg11 : Memref sig .tc .hbm S249037x24 .f32) (harg11 : arg11.IsWhole) (arg5 : Memref sig .tc .smem S1x1x4 .i32) (harg5 : arg5.IsWhole) (arg6 : Memref sig .tc .smem S1x1x4 .i32) (harg6 : arg6.IsWhole) (arg20 : BitVec 1)
    (callSkip : (v67 v68 : Elt F .i32) → k0_chk2 v67 v68 → (v73 v78 : Elt F .i32) → k0_chk3 v67 v73 v78 → (v81 : Elt F .i32) → k0_chk4 v67 v73 v78 v81 → BitVec 32 → BitVec 32 → PR F (BitVec 32 × BitVec 32)) : PR F (Σ' (v94 : BitVec 1) (v97_0 : BitVec 32), BitVec 32) := do
  let c2_60 : Index := 2#32
  let v67 : Elt F .i32 ← smemLoad arg19 (Rect.unit (s := S4) ![2] S1.size inb_S4_S1_2) numel1_S1 rfl
  let c3_61 : Index := 3#32
  let v68 : Elt F .i32 ← smemLoad arg19 (Rect.unit (s := S4) ![3] S1.size inb_S4_S1_3) numel1_S1 rfl
  have k0_hw2 : k0_chk2 v67 v68 := (← Prog.lift (TpuEff.assume (k0_chk2 v67 v68) (k0_chk2.dec v67 v68))).down
  let c4_i32_62 : BitVec 32 := 4#32
  let v69 : BitVec 1 := Scalar.cmpi .slt v67 c4_i32_62
  let c0_i32_63 : BitVec 32 := 0#32
  let v70 : BitVec 32 := Scalar.select v69 v67 c0_i32_63
  let c0_64 : Index := 0#32
  let v71 : Index := Scalar.indexCast v70
  let v72 : Index := Scalar.indexCast v68
  let v73 : Elt F .i32 ← smemLoad arg3 (Rect.unit (s := S1x4x128) (k0_off3 v67 v68) S1x1x1.size (k0_off3_inb v67 v68 k0_hw2)) numel1_S1x1x1 rfl
  let c4_i32_65 : BitVec 32 := 4#32
  let v74 : BitVec 32 := Scalar.subi v67 c4_i32_65
  let c0_i32_66 : BitVec 32 := 0#32
  let v75 : BitVec 32 := Scalar.select v69 c0_i32_66 v74
  let c0_67 : Index := 0#32
  let v76 : Index := Scalar.indexCast v75
  let v77 : Index := Scalar.indexCast v68
  let v78 : Elt F .i32 ← smemLoad arg4 (Rect.unit (s := S1x4x128) (k0_off4 v67 v68) S1x1x1.size (k0_off4_inb v67 v68 k0_hw2)) numel1_S1x1x1 rfl
  have k0_hw3 : k0_chk3 v67 v73 v78 := (← Prog.lift (TpuEff.assume (k0_chk3 v67 v73 v78) (k0_chk3.dec v67 v73 v78))).down
  let v79 : BitVec 32 := Scalar.select v69 v73 v78
  let c6_i32 : BitVec 32 := 6#32
  let v80 : BitVec 32 := Scalar.shrsi v79 c6_i32
  let c0_68 : Index := 0#32
  let v81 : Elt F .i32 ← smemLoad arg19 (Rect.unit (s := S4) ![0] S1.size inb_S4_S1_0) numel1_S1 rfl
  have k0_hw4 : k0_chk4 v67 v73 v78 v81 := (← Prog.lift (TpuEff.assume (k0_chk4 v67 v73 v78 v81) (k0_chk4.dec v67 v73 v78 v81))).down
  let c16_i32_69 : BitVec 32 := 16#32
  let v82 : BitVec 32 := Scalar.remsi v81 c16_i32_69
  let c7782_i32 : BitVec 32 := 7782#32
  let v83 : BitVec 1 := Scalar.cmpi .slt v80 c7782_i32
  let v84 : BitVec 32 := Scalar.extui v83
  let c0_i32_70 : BitVec 32 := 0#32
  let v85 : BitVec 1 := Scalar.cmpi .ne v84 c0_i32_70
  if k0_h3 : k0_cond3 v67 v73 v78 = 1#1 then do
    let c32_i32 : BitVec 32 := 32#32
    let v102 : BitVec 32 := Scalar.muli v80 c32_i32
    let v103 : BitVec 32 := v102
    let v104 : DmaSems sig S1 := arg17.slice (Rect.unit (s := S16) (k0_off5 v81) S1.size (k0_off5_inb v67 v73 v78 v81 k0_hw4 k0_h3))
    let v105 : DmaSems sig S_ := v104.squeeze S_ squeezes_S1_S_
    let c0_i32_83 : BitVec 32 := 0#32
    let c0_i32_84 : BitVec 32 := 0#32
    let v106 : Memref sig .tc .vmem S1x32x3072 .fp8e4m3 := arg15.slice (Rect.unit (s := S16x32x3072) (k0_off6 v81) S1x32x3072.size (k0_off6_inb v67 v73 v78 v81 k0_hw4 k0_h3)) (fun _ => rfl)
    let v107 : Memref sig .tc .vmem S32x3072 .fp8e4m3 := v106.squeeze S32x3072 squeezes_S1x32x3072_S32x3072
    let c0_i32_85 : BitVec 32 := 0#32
    let v108 : Memref sig .tc .hbm S32x3072 .fp8e4m3 := arg10.slice (Rect.unit (s := S249037x3072) (k0_off7 v67 v73 v78) S32x3072.size (k0_off7_inb v67 v73 v78 k0_hw3 k0_h3)) (fun _ => rfl)
    Prog.lift (.enqueueDma v108 (.here v107) (.dma v105.sem) (harg10.wordExact_slice rfl _ (k0_off7_wordsfp8e4m3 v67 v73 v78 k0_hw3 k0_h3)) ((harg15.wordExact_slice rfl _ (k0_off6_wordsfp8e4m3 v67 v73 v78 v81 k0_hw4 k0_h3)).reshape _ _) ⟨Or.inl rfl, trivial⟩)
    let v109 : DmaSems sig S1 := arg18.slice (Rect.unit (s := S16) (k0_off5 v81) S1.size (k0_off5_inb v67 v73 v78 v81 k0_hw4 k0_h3))
    let v110 : DmaSems sig S_ := v109.squeeze S_ squeezes_S1_S_
    let c0_i32_86 : BitVec 32 := 0#32
    let c0_i32_87 : BitVec 32 := 0#32
    let v111 : Memref sig .tc .vmem S1x32x24 .f32 := arg16.slice (Rect.unit (s := S16x32x24) (k0_off8 v81) S1x32x24.size (k0_off8_inb v67 v73 v78 v81 k0_hw4 k0_h3)) (fun _ => rfl)
    let v112 : Memref sig .tc .vmem S32x24 .f32 := v111.squeeze S32x24 squeezes_S1x32x24_S32x24
    let c0_i32_88 : BitVec 32 := 0#32
    let v113 : Memref sig .tc .hbm S32x24 .f32 := arg11.slice (Rect.unit (s := S249037x24) (k0_off9 v67 v73 v78) S32x24.size (k0_off9_inb v67 v73 v78 k0_hw3 k0_h3)) (fun _ => rfl)
    Prog.lift (.enqueueDma v113 (.here v112) (.dma v110.sem) (View.wordExact_bits rfl) ((View.wordExact_bits rfl).reshape _ _) ⟨Or.inl rfl, trivial⟩)
    pure ⟨⟩
  else do
    pure ⟨⟩
  let c0_71 : Index := 0#32
  let v86 : Elt F .i32 ← smemLoad arg19 (Rect.unit (s := S4) ![0] S1.size inb_S4_S1_0) numel1_S1 rfl
  let c1_i32_72 : BitVec 32 := 1#32
  let v87 : BitVec 32 := Scalar.addi v86 c1_i32_72
  let c0_73 : Index := 0#32
  let v88 : Elt F .i32 ← smemLoad arg19 (Rect.unit (s := S4) ![0] S1.size inb_S4_S1_0) numel1_S1 rfl
  Prog.lift (.store arg19 (Rect.unit (s := S4) ![0] S1.size inb_S4_S1_0) (fun _ => v87) Finset.univ (View.stores_smem_one rfl numel1_S1) (.inl rfl))
  let c1_i32_74 : BitVec 32 := 1#32
  let v89 : BitVec 32 := Scalar.addi v68 c1_i32_74
  let c3_75 : Index := 3#32
  let v90 : Elt F .i32 ← smemLoad arg19 (Rect.unit (s := S4) ![3] S1.size inb_S4_S1_3) numel1_S1 rfl
  Prog.lift (.store arg19 (Rect.unit (s := S4) ![3] S1.size inb_S4_S1_3) (fun _ => v89) Finset.univ (View.stores_smem_one rfl numel1_S1) (.inl rfl))
  let c0_76 : Index := 0#32
  let v91 : Elt F .i32 ← smemLoad arg19 (Rect.unit (s := S4) ![0] S1.size inb_S4_S1_0) numel1_S1 rfl
  let c1_77 : Index := 1#32
  let v92 : Elt F .i32 ← smemLoad arg19 (Rect.unit (s := S4) ![1] S1.size inb_S4_S1_1) numel1_S1 rfl
  let v93 : BitVec 32 := Scalar.subi v91 v92
  let c16_i32_78 : BitVec 32 := 16#32
  let v94 : BitVec 1 := Scalar.cmpi .slt v93 c16_i32_78
  let c2_79 : Index := 2#32
  let v95 : Elt F .i32 ← smemLoad arg19 (Rect.unit (s := S4) ![2] S1.size inb_S4_S1_2) numel1_S1 rfl
  let c3_80 : Index := 3#32
  let v96 : Elt F .i32 ← smemLoad arg19 (Rect.unit (s := S4) ![3] S1.size inb_S4_S1_3) numel1_S1 rfl
  let (v97_0, v97_1) : BitVec 32 × BitVec 32 ← callSkip v67 v68 k0_hw2 v73 v78 k0_hw3 v81 k0_hw4 v95 v96
  pure ⟨v94, v97_0, v97_1⟩

/-- One round of the issuing loop. -/
def canBody (i : grid0.Coords) (arg19 : Memref sig .tc .smem S4 .i32) (harg19 : arg19.IsWhole) (arg3 : Memref sig .tc .smem S1x4x128 .i32) (harg3 : arg3.IsWhole) (arg4 : Memref sig .tc .smem S1x4x128 .i32) (harg4 : arg4.IsWhole) (arg17 : DmaSems sig S16) (arg15 : Memref sig .tc .vmem S16x32x3072 .fp8e4m3) (harg15 : arg15.IsWhole) (arg10 : Memref sig .tc .hbm S249037x3072 .fp8e4m3) (harg10 : arg10.IsWhole) (arg18 : DmaSems sig S16) (arg16 : Memref sig .tc .vmem S16x32x24 .f32) (harg16 : arg16.IsWhole) (arg11 : Memref sig .tc .hbm S249037x24 .f32) (harg11 : arg11.IsWhole) (arg5 : Memref sig .tc .smem S1x1x4 .i32) (harg5 : arg5.IsWhole) (arg6 : Memref sig .tc .smem S1x1x4 .i32) (harg6 : arg6.IsWhole) (arg20 : BitVec 1)
    (callSkip : (v67 v68 : Elt F .i32) → k0_chk2 v67 v68 → (v73 v78 : Elt F .i32) → k0_chk3 v67 v73 v78 → (v81 : Elt F .i32) → k0_chk4 v67 v73 v78 v81 → BitVec 32 → BitVec 32 → PR F (BitVec 32 × BitVec 32)) (call : BitVec 1 → PR F (BitVec 1))  : PR F (BitVec 1) := do
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let c8_i32 : BitVec 32 := 8#32
  let c4_i32 : BitVec 32 := 4#32
  let v5 : BitVec 32 := Scalar.select v4 c8_i32 c4_i32
  if arg20 = 1#1 then do
    let ⟨v94, v97_0, v97_1⟩ : Σ' (v94 : BitVec 1) (v97_0 : BitVec 32), BitVec 32 ← canWin i arg19 harg19 arg3 harg3 arg4 harg4 arg17 arg15 harg15 arg10 harg10 arg18 arg16 harg16 arg11 harg11 arg5 harg5 arg6 harg6 arg20 callSkip
    let c2_81 : Index := 2#32
    let v98 : Elt F .i32 ← smemLoad arg19 (Rect.unit (s := S4) ![2] S1.size inb_S4_S1_2) numel1_S1 rfl
    Prog.lift (.store arg19 (Rect.unit (s := S4) ![2] S1.size inb_S4_S1_2) (fun _ => v97_0) Finset.univ (View.stores_smem_one rfl numel1_S1) (.inl rfl))
    let c3_82 : Index := 3#32
    let v99 : Elt F .i32 ← smemLoad arg19 (Rect.unit (s := S4) ![3] S1.size inb_S4_S1_3) numel1_S1 rfl
    Prog.lift (.store arg19 (Rect.unit (s := S4) ![3] S1.size inb_S4_S1_3) (fun _ => v97_1) Finset.univ (View.stores_smem_one rfl numel1_S1) (.inl rfl))
    let v100 : BitVec 1 := Scalar.cmpi .slt v97_0 v5
    let v101 : BitVec 1 := Scalar.andi v94 v100
    call v101
  else pure arg20

variable (i : grid0.Coords) (arg1 : Memref sig .tc .smem S8x128 .i32) (harg1 : arg1.IsWhole) (arg2 : Memref sig .tc .smem S8x128 .f32) (harg2 : arg2.IsWhole) (arg3 : Memref sig .tc .smem S1x4x128 .i32) (harg3 : arg3.IsWhole) (arg4 : Memref sig .tc .smem S1x4x128 .i32) (harg4 : arg4.IsWhole) (arg5 : Memref sig .tc .smem S1x1x4 .i32) (harg5 : arg5.IsWhole) (arg6 : Memref sig .tc .smem S1x1x4 .i32) (harg6 : arg6.IsWhole) (arg7 : Memref sig .tc .vmem S128x3072 .bf16) (harg7 : arg7.IsWhole) (arg8 : Memref sig .tc .vmem S32x3072 .fp8e4m3) (harg8 : arg8.IsWhole) (arg9 : Memref sig .tc .vmem S32x24 .f32) (harg9 : arg9.IsWhole) (arg10 : Memref sig .tc .hbm S249037x3072 .fp8e4m3) (harg10 : arg10.IsWhole) (arg11 : Memref sig .tc .hbm S249037x24 .f32) (harg11 : arg11.IsWhole) (arg12 : Memref sig .tc .vmem S128x3072 .bf16) (harg12 : arg12.IsWhole) (arg13 : Memref sig .tc .vmem S102432x128 .f32) (harg13 : arg13.IsWhole) (arg14 : Memref sig .tc .vmem S3200x128 .f32) (harg14 : arg14.IsWhole) (arg15 : Memref sig .tc .vmem S16x32x3072 .fp8e4m3) (harg15 : arg15.IsWhole) (arg16 : Memref sig .tc .vmem S16x32x24 .f32) (harg16 : arg16.IsWhole) (arg17 : DmaSems sig S16) (arg18 : DmaSems sig S16) (arg19 : Memref sig .tc .smem S4 .i32) (harg19 : arg19.IsWhole)

/-- The head of a widening: the entry, the waits or the tail copy, and the first eight rows of the first group. -/
def wOpen (off : Fin 3 → ℕ) (hoff : ∀ a, off a + S1x1x1.size a ≤ S1x4x128.size a) : PR F (Σ' (v68 : Elt F .i32) (k0_hw8 : k0_chk8 v68) (v71 : Elt F .i32) (k0_hw7 : k0_chk7 v68 v71) (v72 : BitVec 32) (v83 : BitVec 32) (v87 : FVec F S32x128 .f32), FVec F S8x128 .f32) := do
  let c0_60 : Index := 0#32
  let c0_61 : Index := 0#32
  let v68 : Elt F .i32 ← smemLoad arg3 (Rect.unit (s := S1x4x128) off S1x1x1.size hoff) numel1_S1x1x1 rfl
  have k0_hw8 : k0_chk8 v68 := (← Prog.lift (TpuEff.assume (k0_chk8 v68) (k0_chk8.dec v68))).down
  let c6_i32 : BitVec 32 := 6#32
  let v69 : BitVec 32 := Scalar.shrsi v68 c6_i32
  let c63_i32 : BitVec 32 := 63#32
  let v70 : BitVec 32 := Scalar.andi v68 c63_i32
  let c1_62 : Index := 1#32
  let v71 : Elt F .i32 ← smemLoad arg19 (Rect.unit (s := S4) ![1] S1.size inb_S4_S1_1) numel1_S1 rfl
  have k0_hw7 : k0_chk7 v68 v71 := (← Prog.lift (TpuEff.assume (k0_chk7 v68 v71) (k0_chk7.dec v68 v71))).down
  let c16_i32_63 : BitVec 32 := 16#32
  let v72 : BitVec 32 := Scalar.remsi v71 c16_i32_63
  let c7782_i32 : BitVec 32 := 7782#32
  let v73 : BitVec 1 := Scalar.cmpi .slt v69 c7782_i32
  let v74 : BitVec 32 := Scalar.extui v73
  let c0_i32_64 : BitVec 32 := 0#32
  let v75 : BitVec 1 := Scalar.cmpi .ne v74 c0_i32_64
  if k0_h4 : k0_cond4 v68 = 1#1 then do
    let c0_i32_391 : BitVec 32 := 0#32
    let v915 : BitVec 32 := c0_i32_391
    let v916 : DmaSems sig S1 := arg17.slice (Rect.unit (s := S16) (k0_off13 v71) S1.size (k0_off13_inb v68 v71 k0_hw7 k0_h4))
    let v917 : DmaSems sig S_ := v916.squeeze S_ squeezes_S1_S_
    let c0_i32_392 : BitVec 32 := 0#32
    let c0_i32_393 : BitVec 32 := 0#32
    let v918 : Memref sig .tc .vmem S1x32x3072 .fp8e4m3 := arg15.slice (Rect.unit (s := S16x32x3072) (k0_off14 v71) S1x32x3072.size (k0_off14_inb v68 v71 k0_hw7 k0_h4)) (fun _ => rfl)
    let v919 : Memref sig .tc .vmem S32x3072 .fp8e4m3 := v918.squeeze S32x3072 squeezes_S1x32x3072_S32x3072
    let c0_i32_394 : BitVec 32 := 0#32
    let v920 : Memref sig .tc .hbm S32x3072 .fp8e4m3 := arg10.slice (Rect.unit (s := S249037x3072) ![0, 0] S32x3072.size inb_S249037x3072_S32x3072_0_0) (fun _ => rfl)
    Prog.lift (.waitDma2 v917.sem v920 v919 (harg10.wordExact_slice rfl _ wordsfp8e4m3_S249037x3072_S32x3072_0_0) ((harg15.wordExact_slice rfl _ (k0_off14_wordsfp8e4m3 v68 v71 k0_hw7 k0_h4)).reshape _ _))
    let v921 : DmaSems sig S1 := arg18.slice (Rect.unit (s := S16) (k0_off13 v71) S1.size (k0_off13_inb v68 v71 k0_hw7 k0_h4))
    let v922 : DmaSems sig S_ := v921.squeeze S_ squeezes_S1_S_
    let c0_i32_395 : BitVec 32 := 0#32
    let c0_i32_396 : BitVec 32 := 0#32
    let v923 : Memref sig .tc .vmem S1x32x24 .f32 := arg16.slice (Rect.unit (s := S16x32x24) (k0_off15 v71) S1x32x24.size (k0_off15_inb v68 v71 k0_hw7 k0_h4)) (fun _ => rfl)
    let v924 : Memref sig .tc .vmem S32x24 .f32 := v923.squeeze S32x24 squeezes_S1x32x24_S32x24
    let c0_i32_397 : BitVec 32 := 0#32
    let v925 : Memref sig .tc .hbm S32x24 .f32 := arg11.slice (Rect.unit (s := S249037x24) ![0, 0] S32x24.size inb_S249037x24_S32x24_0_0) (fun _ => rfl)
    Prog.lift (.waitDma2 v922.sem v925 v924 (View.wordExact_bits rfl) ((View.wordExact_bits rfl).reshape _ _))
    pure ⟨⟩
  else do
    pure ⟨⟩
  let c7782_i32_65 : BitVec 32 := 7782#32
  let v76 : BitVec 1 := Scalar.cmpi .sge v69 c7782_i32_65
  let v77 : BitVec 32 := Scalar.extui v76
  let c0_i32_66 : BitVec 32 := 0#32
  let v78 : BitVec 1 := Scalar.cmpi .ne v77 c0_i32_66
  if k0_h5 : k0_cond5 v68 = 1#1 then do
    let c0_391 : Index := 0#32
    let c0_392 : Index := 0#32
    let v915 : Vec F S32x3072 .fp8e4m3 ← Prog.lift (.load arg8 (Rect.unit (s := S32x3072) ![0, 0] S32x3072.size inb_S32x3072_S32x3072_0_0).toLoadRect (View.loadsAt_vmem h_S32x3072))
    have v916 : FVec F S32x3072 .fp8e4m3 := shapeCast S32x3072 v915 shapeCasts_S32x3072_S32x3072
    let v917 : Index := Scalar.indexCast v72
    let c0_393 : Index := 0#32
    let c0_394 : Index := 0#32
    let v918 : Vec F S1x32x3072 .fp8e4m3 ← Prog.lift (.load arg15 (Rect.unit (s := S16x32x3072) (k0_off16 v71) S1x32x3072.size (k0_off16_inb v68 v71 k0_hw7 k0_h5)).toLoadRect (View.loadsAt_vmem h_S1x32x3072))
    have v919 : FVec F S32x3072 .fp8e4m3 := shapeCast S32x3072 v918 shapeCasts_S1x32x3072_S32x3072
    have v920 : FVec F S1x32x3072 .fp8e4m3 := shapeCast S1x32x3072 v916 shapeCasts_S32x3072_S1x32x3072
    Prog.lift (.store arg15 (Rect.unit (s := S16x32x3072) (k0_off16 v71) S1x32x3072.size (k0_off16_inb v68 v71 k0_hw7 k0_h5)) v920 Finset.univ (View.stores_vmem h_S1x32x3072 (harg15.storeExact_slice rfl _ (k0_off16_packedfp8e4m3 v68 v71 k0_hw7 k0_h5)) (fun _ => rfl)) (.inl rfl))
    let c0_395 : Index := 0#32
    let c0_396 : Index := 0#32
    let v921 : Vec F S32x24 .f32 ← Prog.lift (.load arg9 (Rect.unit (s := S32x24) ![0, 0] S32x24.size inb_S32x24_S32x24_0_0).toLoadRect (View.loadsAt_vmem h_S32x24))
    let v922 : Index := Scalar.indexCast v72
    let c0_397 : Index := 0#32
    let c0_398 : Index := 0#32
    let v923 : Vec F S1x32x24 .f32 ← Prog.lift (.load arg16 (Rect.unit (s := S16x32x24) (k0_off17 v71) S1x32x24.size (k0_off17_inb v68 v71 k0_hw7 k0_h5)).toLoadRect (View.loadsAt_vmem h_S1x32x24))
    have v924 : FVec F S32x24 .f32 := shapeCast S32x24 v923 shapeCasts_S1x32x24_S32x24
    have v925 : FVec F S1x32x24 .f32 := shapeCast S1x32x24 v921 shapeCasts_S32x24_S1x32x24
    Prog.lift (.store arg16 (Rect.unit (s := S16x32x24) (k0_off17 v71) S1x32x24.size (k0_off17_inb v68 v71 k0_hw7 k0_h5)) v925 Finset.univ (View.stores_vmem_bits_univ h_S1x32x24 rfl) (.inl rfl))
    pure ⟨⟩
  else do
    pure ⟨⟩
  let c64_i32 : BitVec 32 := 64#32
  let v79 : BitVec 32 := Scalar.muli v70 c64_i32
  let c1_i32_67 : BitVec 32 := 1#32
  let v80 : BitVec 32 := Scalar.andi v69 c1_i32_67
  let c32_i32 : BitVec 32 := 32#32
  let v81 : BitVec 32 := Scalar.muli v80 c32_i32
  let v82 : BitVec 32 := Scalar.addi v79 v81
  let c25_i32 : BitVec 32 := 25#32
  let v83 : BitVec 32 := Scalar.muli v82 c25_i32
  let v84 : Index := Scalar.indexCast v72
  let c0_68 : Index := 0#32
  let c0_69 : Index := 0#32
  let v85 : Vec F S1x32x128 .fp8e4m3 ← Prog.lift (.load arg15 (Rect.unit (s := S16x32x3072) (k0_off18 v71) S1x32x128.size (k0_off18_inb v68 v71 k0_hw7)).toLoadRect (View.loadsAt_vmem h_S1x32x128))
  have v86 : FVec F S32x128 .fp8e4m3 := shapeCast S32x128 v85 shapeCasts_S1x32x128_S32x128
  have v87 : FVec F S32x128 .f32 := extf .f32 v86 bitsLt_fp8e4m3_f32
  have v88 : FVec F S8x128 .f32 := extractStridedSlice S8x128 ![0, 0] v87 slices_S32x128_o0_0_S8x128
  let c0_i32_70 : BitVec 32 := 0#32
  let v89 : BitVec 32 := Scalar.addi v83 c0_i32_70
  let c0_i32_71 : BitVec 32 := 0#32
  let v90 : BitVec 32 := Scalar.addi v89 c0_i32_71
  let v91 : Index := Scalar.indexCast v90
  let c0_72 : Index := 0#32
  let v92 : Vec F S8x128 .f32 ← Prog.lift (.load arg13 (⟨k0_off19 v68 0#32 0#32, S8x128.size, ![25, 1], (k0_off19_inb v68 k0_hw8 0 0)⟩ : LoadRect S102432x128) (View.loadsAt_vmem h_S8x128))
  have v93 : FVec F S8x128 .f32 := shapeCast S8x128 v92 shapeCasts_S8x128_S8x128
  have v94 : FVec F S8x128 .f32 := shapeCast S8x128 v88 shapeCasts_S8x128_S8x128
  Prog.lift (.store arg13 ⟨(⟨k0_off19 v68 0#32 0#32, S8x128.size, ![25, 1], (k0_off19_inb v68 k0_hw8 0 0)⟩ : LoadRect S102432x128), spos_25_1⟩ v94 Finset.univ (View.stores_vmem_bits_univ h_S8x128 rfl) (.inl rfl))
  have v95 : FVec F S8x128 .f32 := extractStridedSlice S8x128 ![8, 0] v87 slices_S32x128_o8_0_S8x128
  let c200_i32 : BitVec 32 := 200#32
  let v96 : BitVec 32 := Scalar.addi v83 c200_i32
  let c0_i32_73 : BitVec 32 := 0#32
  let v97 : BitVec 32 := Scalar.addi v96 c0_i32_73
  let v98 : Index := Scalar.indexCast v97
  let c0_74 : Index := 0#32
  pure ⟨v68, k0_hw8, v71, k0_hw7, v72, v83, v87, v95⟩

omit [Facts] in
theorem inb_S4 : ∀ (a : Fin 4), ∀ b, (![a.val] : Fin 1 → ℕ) b + S1.size b ≤ S4.size b := by decide

/-- The offsets of group `g` of a ring slot. -/
def offG (g : ℕ) (v71 : BitVec 32) : Fin 3 → ℕ := ![(Scalar.indexCast (Scalar.remsi v71 16#32)).toNat, 0, 128 * g]

theorem offG_inb {v68 v71 : BitVec 32} (h : k0_chk7 v68 v71) (g : Fin 24) : ∀ a, offG g.val v71 a + S1x32x128.size a ≤ S16x32x3072.size a := by
  have h0 := k0_off18_inb v68 v71 h
  intro a
  fin_cases a
  · exact h0 0
  · exact h0 1
  · have := g.isLt
    show 128 * g.val + 128 ≤ 3072
    omega

/-- The offsets of rows `8 q …` of a scale ring slot. -/
def offS (q : ℕ) (v71 : BitVec 32) : Fin 3 → ℕ := ![(Scalar.indexCast (Scalar.remsi v71 16#32)).toNat, 8 * q, 0]

theorem offS_inb {v68 v71 : BitVec 32} (h : k0_chk7 v68 v71) (q : Fin 4) : ∀ a, offS q.val v71 a + S1x8x24.size a ≤ S16x32x24.size a := by
  have h0 := k0_off43_inb v68 v71 h
  intro a
  fin_cases a
  · exact h0 0
  · have := q.isLt
    show 8 * q.val + 8 ≤ 32
    omega
  · exact h0 2

/-- One store of eight rows, a pitch apart, into `rows`. -/
def wStore {α : Type} (v68 : BitVec 32) (h8 : k0_chk8 v68) (q : Fin 4) (g : Fin 25) (v : FVec F S8x128 .f32) (K : PR F α) : PR F α := do
  let _ : Vec F S8x128 .f32 ← Prog.lift (.load arg13 (⟨k0_off19 v68 (BitVec.ofNat 32 (200 * q.val)) (BitVec.ofNat 32 g.val), S8x128.size, ![25, 1], (k0_off19_inb v68 h8 q g)⟩ : LoadRect S102432x128) (View.loadsAt_vmem h_S8x128))
  Prog.lift (.store arg13 ⟨(⟨k0_off19 v68 (BitVec.ofNat 32 (200 * q.val)) (BitVec.ofNat 32 g.val), S8x128.size, ![25, 1], (k0_off19_inb v68 h8 q g)⟩ : LoadRect S102432x128), spos_25_1⟩ (shapeCast S8x128 v shapeCasts_S8x128_S8x128) Finset.univ (View.stores_vmem_bits_univ h_S8x128 rfl) (.inl rfl))
  K

/-- The four stores of one group of codes from `q = 1` on, and then the groups after it. -/
def wRows {α : Type} (v68 : BitVec 32) (h8 : k0_chk8 v68) (g : Fin 25) (ext : FVec F S32x128 .f32) (v0 : FVec F S8x128 .f32) (K : PR F α) : PR F α :=
  wStore arg13 v68 h8 1 g v0 <|
  wStore arg13 v68 h8 2 g (extractStridedSlice S8x128 ![16, 0] ext slices_S32x128_o16_0_S8x128) <|
  wStore arg13 v68 h8 3 g (extractStridedSlice S8x128 ![24, 0] ext slices_S32x128_o24_0_S8x128) K

/-- The last `n` groups of codes. -/
def wGroups {α : Type} (v68 : BitVec 32) (h8 : k0_chk8 v68) (v71 : BitVec 32) (h7 : k0_chk7 v68 v71) (K : PR F α) : (n : ℕ) → n < 24 → PR F α
  | 0, _ => K
  | n + 1, hn => do
    let v ← Prog.lift (.load arg15 (Rect.unit (s := S16x32x3072) (offG (24 - (n + 1)) v71) S1x32x128.size (offG_inb h7 ⟨24 - (n + 1), by omega⟩)).toLoadRect (View.loadsAt_vmem h_S1x32x128))
    let ext : FVec F S32x128 .f32 := extf .f32 (shapeCast S32x128 v shapeCasts_S1x32x128_S32x128) bitsLt_fp8e4m3_f32
    wStore arg13 v68 h8 0 ⟨24 - (n + 1), by omega⟩ (extractStridedSlice S8x128 ![0, 0] ext slices_S32x128_o0_0_S8x128) <|
      wRows arg13 v68 h8 ⟨24 - (n + 1), by omega⟩ ext (extractStridedSlice S8x128 ![8, 0] ext slices_S32x128_o8_0_S8x128) <|
      wGroups v68 h8 v71 h7 K n (by omega)

/-- The scales of eight rows. -/
def wScale {α : Type} (v68 : BitVec 32) (h8 : k0_chk8 v68) (v71 : BitVec 32) (h7 : k0_chk7 v68 v71) (q : Fin 4) (K : PR F α) : PR F α := do
  let v ← Prog.lift (.load arg16 (Rect.unit (s := S16x32x24) (offS q.val v71) S1x8x24.size (offS_inb h7 q)).toLoadRect (View.loadsAt_vmem h_S1x8x24))
  wStore arg13 v68 h8 q 24 (concatenate S8x128 1 [⟨S8x24, shapeCast S8x24 v shapeCasts_S1x8x24_S8x24⟩, ⟨S8x104, broadcast S8x104 (Scalar.sitofp .f32 (0#32 : BitVec 32) : F .f32)⟩] concatenates_S8x24_S8x104_S8x128_d1) K

/-- Word `a` of the counters. -/
def rdS {α : Type} (a : Fin 4) (K : BitVec 32 → PR F α) : PR F α := do
  let v : Elt F .i32 ← smemLoad arg19 (Rect.unit (s := S4) ![a.val] S1.size (inb_S4 a)) numel1_S1 rfl
  K v

/-- A store to word `a` of the counters, after the load the printer leaves before it. -/
def wrS {α : Type} (a : Fin 4) (v : BitVec 32) (K : PR F α) : PR F α := do
  let _ : Elt F .i32 ← smemLoad arg19 (Rect.unit (s := S4) ![a.val] S1.size (inb_S4 a)) numel1_S1 rfl
  Prog.lift (.store arg19 (Rect.unit (s := S4) ![a.val] S1.size (inb_S4 a)) (fun _ => v) Finset.univ (View.stores_smem_one rfl numel1_S1) (.inl rfl))
  K

/-- Filling the queue. -/
def topUp {α : Type} (v5 : BitVec 32) (callSkip : BitVec 32 → BitVec 32 → PR F (BitVec 32 × BitVec 32)) (callCan : BitVec 1 → PR F (BitVec 1)) (K : PR F α) : PR F α :=
  rdS arg19 0 fun a => rdS arg19 1 fun b => rdS arg19 2 fun s => rdS arg19 3 fun j => do
  let (s', j') ← callSkip s j
  wrS arg19 2 s' <| wrS arg19 3 j' <| do
  let _ ← callCan (Scalar.andi (Scalar.cmpi .slt (Scalar.subi a b) 16#32) (Scalar.cmpi .slt s' v5))
  K

/-- Widening one item, and filling the queue after it. -/
def widen (off : Fin 3 → ℕ) (hoff : ∀ a, off a + S1x1x1.size a ≤ S1x4x128.size a) (v5 : BitVec 32)
    (callSkip : (v68 : BitVec 32) → k0_chk8 v68 → (v71 : BitVec 32) → k0_chk7 v68 v71 → BitVec 32 → BitVec 32 → PR F (BitVec 32 × BitVec 32))
    (callCan : (v68 : BitVec 32) → k0_chk8 v68 → (v71 : BitVec 32) → k0_chk7 v68 v71 → BitVec 1 → PR F (BitVec 1)) : PR F (BitVec 32) := do
  let ⟨v68, h8, v71, h7, _, _, v87, v95⟩ ← wOpen arg3 arg8 arg9 arg10 harg10 arg11 arg13 arg15 harg15 arg16 arg17 arg18 arg19 off hoff
  wRows arg13 v68 h8 0 v87 v95 <| wGroups arg13 arg15 v68 h8 v71 h7
    (wScale arg13 arg16 v68 h8 v71 h7 0 <| wScale arg13 arg16 v68 h8 v71 h7 1 <| wScale arg13 arg16 v68 h8 v71 h7 2 <| wScale arg13 arg16 v68 h8 v71 h7 3 <|
    rdS arg19 1 fun d => wrS arg19 1 (Scalar.addi d 1#32) <|
    topUp arg19 v5 (callSkip v68 h8 v71 h7) (callCan v68 h8 v71 h7) (pure 0#32)) 23 (by decide)

/-- The token number of step `u` of trip `t` of the tokens' loop after sub-list `s`. -/
def tokBV (s t u : ℕ) : BitVec 32 := Scalar.addi (Scalar.addi (BitVec.ofNat 32 (32 * s)) (Scalar.muli (Scf.iv 0#32 1#32 t) 8#32)) (BitVec.ofNat 32 u)

def tokOff (s t u k : ℕ) : Fin 2 → ℕ := ![k, (Scalar.indexCast (tokBV s t u)).toNat]

omit [Facts] in
theorem tokOff_inb : ∀ (s t : Fin 4) (u k : Fin 8), ∀ a, tokOff s.val t.val u.val k.val a + S1x1.size a ≤ S8x128.size a := by decide +kernel

def accOff (s t u m : ℕ) : Fin 2 → ℕ := ![(Scalar.indexCast (Scalar.addi (Scalar.muli (tokBV s t u) 25#32) (BitVec.ofNat 32 (8 * m)))).toNat, 0]

omit [Facts] in
theorem accOff_inb : ∀ (s t : Fin 4) (u : Fin 8) (m : Fin 3), ∀ a, accOff s.val t.val u.val m.val a + S8x128.size a ≤ S3200x128.size a := by decide +kernel

/-- The eight lanes of a factor row, one to a row. -/
def gth (row : FVec F S8x128 .f32) (v : IVec S8x128 32) : FVec F S8x128 .f32 :=
  dynamicGather 1 row (shapeCast S8x128 (shapeCast S8x128x1 (select (cmpi .slt v (broadcast S8x128 0#32)) (addi v (broadcast S8x128 128#32)) v) shapeCasts_S8x128_S8x128x1) shapeCasts_S8x128x1_S8x128)

/-- One route of one token. -/
def route {α : Type} (v23 v26 v29 : IVec S8x128 32) (s t : Fin 4) (u k : Fin 8) (K : FVec F S8x128 .f32 → FVec F S8x128 .f32 → FVec F S8x128 .f32 → PR F α) : PR F α := do
  let v71 : Elt F .i32 ← smemLoad arg1 (Rect.unit (s := S8x128) (tokOff s.val t.val u.val k.val) S1x1.size (tokOff_inb s t u k)) numel1_S1x1 rfl
  have hw : k0_chk21 v71 := (← Prog.lift (TpuEff.assume (k0_chk21 v71) (k0_chk21.dec v71))).down
  let v74 : Vec F S1x128 .f32 ← Prog.lift (.load arg13 (Rect.unit (s := S102432x128) (k0_off105 v71) S1x128.size (k0_off105_inb v71 hw)).toLoadRect (View.loadsAt_vmem h_S1x128))
  let v76 : Elt F .f32 ← smemLoad arg2 (Rect.unit (s := S8x128) (tokOff s.val t.val u.val k.val) S1x1.size (tokOff_inb s t u k)) numel1_S1x1 rfl
  let v80 : FVec F S8x128 .f32 := broadcastTo S8x128 (shapeCast S1x128 (mulf v74 (broadcast S1x128 v76)) shapeCasts_S1x128_S1x128) broadcasts_S1x128_S8x128
  let a : Vec F S8x128 .f32 ← Prog.lift (.load arg13 (Rect.unit (s := S102432x128) (k0_off107 v71 0#32) S8x128.size (k0_off107_inb v71 hw 0)).toLoadRect (View.loadsAt_vmem h_S8x128))
  let b : Vec F S8x128 .f32 ← Prog.lift (.load arg13 (Rect.unit (s := S102432x128) (k0_off107 v71 8#32) S8x128.size (k0_off107_inb v71 hw 1)).toLoadRect (View.loadsAt_vmem h_S8x128))
  let c : Vec F S8x128 .f32 ← Prog.lift (.load arg13 (Rect.unit (s := S102432x128) (k0_off107 v71 16#32) S8x128.size (k0_off107_inb v71 hw 2)).toLoadRect (View.loadsAt_vmem h_S8x128))
  K (mulf a (gth v80 v23)) (mulf b (gth v80 v26)) (mulf c (gth v80 v29))

/-- The last `n` routes of a token, added to what the ones before came to. -/
def routes {α : Type} (v23 v26 v29 : IVec S8x128 32) (s t : Fin 4) (u : Fin 8) (K : FVec F S8x128 .f32 → FVec F S8x128 .f32 → FVec F S8x128 .f32 → PR F α) : (n : ℕ) → n < 8 → FVec F S8x128 .f32 → FVec F S8x128 .f32 → FVec F S8x128 .f32 → PR F α
  | 0, _, a, b, c => K a b c
  | n + 1, hn, a, b, c => route arg1 arg2 arg13 v23 v26 v29 s t u ⟨8 - (n + 1), by omega⟩ fun a' b' c' =>
      routes v23 v26 v29 s t u K n (by omega) (addf a a') (addf b b') (addf c c')

/-- A store of eight rows of `acc`. -/
def accStore {α : Type} (s t : Fin 4) (u : Fin 8) (m : Fin 3) (v : FVec F S8x128 .f32) (K : PR F α) : PR F α := do
  let _ : Vec F S8x128 .f32 ← Prog.lift (.load arg14 (Rect.unit (s := S3200x128) (accOff s.val t.val u.val m.val) S8x128.size (accOff_inb s t u m)).toLoadRect (View.loadsAt_vmem h_S8x128))
  Prog.lift (.store arg14 (Rect.unit (s := S3200x128) (accOff s.val t.val u.val m.val) S8x128.size (accOff_inb s t u m)) (shapeCast S8x128 v shapeCasts_S8x128_S8x128) Finset.univ (View.stores_vmem_bits_univ h_S8x128 rfl) (.inl rfl))
  K

/-- One token. -/
def token {α : Type} (v23 v26 v29 : IVec S8x128 32) (s t : Fin 4) (u : Fin 8) (K : PR F α) : PR F α :=
  route arg1 arg2 arg13 v23 v26 v29 s t u 0 fun a b c => routes arg1 arg2 arg13 v23 v26 v29 s t u (fun a b c =>
    accStore arg14 s t u 0 a <| accStore arg14 s t u 1 b <| accStore arg14 s t u 2 c K) 7 (by decide) a b c

/-- The last `n` tokens of a trip. -/
def tokens (v23 v26 v29 : IVec S8x128 32) (s t : Fin 4) : (n : ℕ) → n ≤ 8 → PR F PUnit
  | 0, _ => pure ⟨⟩
  | n + 1, hn => token arg1 arg2 arg13 arg14 v23 v26 v29 s t ⟨8 - (n + 1), by omega⟩ (tokens v23 v26 v29 s t n (by omega))

def finOff (t g : ℕ) : Fin 2 → ℕ := ![(Scalar.indexCast (Scalar.muli (Scf.iv 0#32 1#32 t) 16#32)).toNat, 128 * g]

omit [Facts] in
theorem finOff_inb : ∀ (t : Fin 8) (g : Fin 24), ∀ a, finOff t.val g.val a + S16x128.size a ≤ S128x3072.size a := by decide +kernel

omit [Facts] in
theorem finOff_packed : ∀ (t : Fin 8) (g : Fin 24), (Rect.unit (s := S128x3072) (finOff t.val g.val) S16x128.size (finOff_inb t g)).PackedRows (EltTy.packing .bf16) := by decide +kernel

def finAcc (t h g : ℕ) : Fin 2 → ℕ := ![(Scalar.indexCast (Scalar.addi (Scalar.muli (Scalar.addi (Scalar.muli (Scf.iv 0#32 1#32 t) 16#32) (BitVec.ofNat 32 (8 * h))) 25#32) (BitVec.ofNat 32 g))).toNat, 0]

omit [Facts] in
theorem finAcc_inb : ∀ (t : Fin 8) (h : Fin 2) (g : Fin 24), ∀ a, S8x128.size a = 0 ∨ finAcc t.val h.val g.val a + (![25, 1] : Fin 2 → ℕ) a * (S8x128.size a - 1) < S3200x128.size a := by decide +kernel

/-- One group of sixteen tokens' results. -/
def finG {α : Type} (t : Fin 8) (g : Fin 24) (K : PR F α) : PR F α := do
  let v73 : Vec F S8x128 .f32 ← Prog.lift (.load arg14 (⟨finAcc t.val 0 g.val, S8x128.size, ![25, 1], finAcc_inb t 0 g⟩ : LoadRect S3200x128) (View.loadsAt_vmem h_S8x128))
  let v78 : Vec F S8x128 .f32 ← Prog.lift (.load arg14 (⟨finAcc t.val 1 g.val, S8x128.size, ![25, 1], finAcc_inb t 1 g⟩ : LoadRect S3200x128) (View.loadsAt_vmem h_S8x128))
  let v81 : Vec F S16x128 .bf16 ← Prog.lift (.load arg7 (Rect.unit (s := S128x3072) (finOff t.val g.val) S16x128.size (finOff_inb t g)).toLoadRect (View.loadsAt_vmem h_S16x128))
  let _ : Vec F S16x128 .bf16 ← Prog.lift (.load arg12 (Rect.unit (s := S128x3072) (finOff t.val g.val) S16x128.size (finOff_inb t g)).toLoadRect (View.loadsAt_vmem h_S16x128))
  Prog.lift (.store arg12 (Rect.unit (s := S128x3072) (finOff t.val g.val) S16x128.size (finOff_inb t g)) (truncf .bf16 (addf (extf .f32 v81 bitsLt_bf16_f32) (concatenate S16x128 0 [⟨S8x128, v73⟩, ⟨S8x128, v78⟩] concatenates_S8x128_S8x128_S16x128_d0)) bitsLt_bf16_f32) Finset.univ (View.stores_vmem h_S16x128 (harg12.storeExact_slice rfl _ (finOff_packed t g)) (fun _ => rfl)) (.inl rfl))
  K

/-- The last `n` groups of a trip of the finish. -/
def finGs (t : Fin 8) : (n : ℕ) → n ≤ 24 → PR F PUnit
  | 0, _ => pure ⟨⟩
  | n + 1, hn => finG arg7 arg12 harg12 arg14 t ⟨24 - (n + 1), by omega⟩ (finGs t n (by omega))

/-- The sub-lists 0 to 2. -/
def comb497 (v5 : BitVec 32) (v23 : IVec S8x128 32) (v26 : IVec S8x128 32) (v29 : IVec S8x128 32) (v30 : Elt F .i32) (k0_hw6 : k0_chk6 v30) (c0_i32_11 : BitVec 32) (c0_i32_12 : BitVec 32) :
    PR F (Σ' (v39 : Elt F .i32) (k0_hw85 : k0_chk85 v39) (v48 : Elt F .i32) (k0_hw164 : k0_chk164 v48) (c0_i32_40 : BitVec 32), BitVec 32) := do
  let v31 : BitVec 32 := Scalar.subi v30 c0_i32_11
  let v32 : BitVec 32 := Scalar.addi c0_i32_11 v31
  let c1_i32_13 : BitVec 32 := 1#32
  let v33 : BitVec 32 := Scalar.divsi v31 c1_i32_13
  let v34 : BitVec 32 := Scalar.muli v33 c1_i32_13
  let v35 : BitVec 32 := Scalar.addi c0_i32_11 v34
  let c1_i32_14 : BitVec 32 := 1#32
  let v36 : BitVec 32 ← Scf.Loop.for (k0_t1_loop v30) (k0_t1_ok v30 k0_hw6) c0_i32_12 fun k0_t1 arg21 =>
    widen arg3 arg8 arg9 arg10 harg10 arg11 arg13 arg15 harg15 arg16 arg17 arg18 arg19 (k0_off12 v30 k0_t1) (k0_off12_inb v30 k0_hw6 k0_t1) v5 (fun v68 h8 v71 h7 s j => Prog.lift (.call (4 : (Λ₀ F).Label) ⟨i, v30, k0_hw6, k0_t1, v68, h8, v71, h7, arg5, harg5, arg6, harg6, s, j⟩)) (fun v68 h8 v71 h7 b => Prog.lift (.call (5 : (Λ₀ F).Label) ⟨i, v30, k0_hw6, k0_t1, v68, h8, v71, h7, arg19, harg19, arg3, harg3, arg4, harg4, arg17, arg15, harg15, arg10, harg10, arg18, arg16, harg16, arg11, harg11, arg5, harg5, arg6, harg6, b⟩))
  let c1_i32_15 : BitVec 32 := 1#32
  let v37 : BitVec 32 ← Scf.Loop.for (k0_t2_loop v30) (k0_t2_ok v30 k0_hw6) v36 fun k0_t2 arg21 =>
    widen arg3 arg8 arg9 arg10 harg10 arg11 arg13 arg15 harg15 arg16 arg17 arg18 arg19 (k0_off58 v30 k0_t2) (k0_off58_inb v30 k0_hw6 k0_t2) v5 (fun v68 h8 v71 h7 s j => Prog.lift (.call (7 : (Λ₀ F).Label) ⟨i, v30, k0_hw6, k0_t2, v68, h8, v71, h7, arg5, harg5, arg6, harg6, s, j⟩)) (fun v68 h8 v71 h7 b => Prog.lift (.call (8 : (Λ₀ F).Label) ⟨i, v30, k0_hw6, k0_t2, v68, h8, v71, h7, arg19, harg19, arg3, harg3, arg4, harg4, arg17, arg15, harg15, arg10, harg10, arg18, arg16, harg16, arg11, harg11, arg5, harg5, arg6, harg6, b⟩))
  let c0_i32_16 : BitVec 32 := 0#32
  let c4_i32_17 : BitVec 32 := 4#32
  let v38 : BitVec 32 := Scalar.addi c0_i32_16 c4_i32_17
  let c1_i32_18 : BitVec 32 := 1#32
  Scf.Loop.for k0_t3_loop k0_t3_ok ⟨⟩ fun k0_t3 _ =>
    tokens arg1 arg2 arg13 arg14 v23 v26 v29 0 (Fin.cast (by decide) k0_t3) 8 (by decide)
  let c4_i32_19 : BitVec 32 := 4#32
  let c0_20 : Index := 0#32
  let c0_21 : Index := 0#32
  let c1_22 : Index := 1#32
  let v39 : Elt F .i32 ← smemLoad arg5 (Rect.unit (s := S1x1x4) ![0, 0, 1] S1x1x1.size inb_S1x1x4_S1x1x1_0_0_1) numel1_S1x1x1 rfl
  have k0_hw85 : k0_chk85 v39 := (← Prog.lift (TpuEff.assume (k0_chk85 v39) (k0_chk85.dec v39))).down
  let c0_i32_23 : BitVec 32 := 0#32
  let c0_i32_24 : BitVec 32 := 0#32
  let v40 : BitVec 32 := Scalar.subi v39 c0_i32_23
  let v41 : BitVec 32 := Scalar.addi c0_i32_23 v40
  let c1_i32_25 : BitVec 32 := 1#32
  let v42 : BitVec 32 := Scalar.divsi v40 c1_i32_25
  let v43 : BitVec 32 := Scalar.muli v42 c1_i32_25
  let v44 : BitVec 32 := Scalar.addi c0_i32_23 v43
  let c1_i32_26 : BitVec 32 := 1#32
  let v45 : BitVec 32 ← Scf.Loop.for (k0_t4_loop v39) (k0_t4_ok v39 k0_hw85) c0_i32_24 fun k0_t4 arg21 =>
    widen arg3 arg8 arg9 arg10 harg10 arg11 arg13 arg15 harg15 arg16 arg17 arg18 arg19 (k0_off368 v39 k0_t4) (k0_off368_inb v39 k0_hw85 k0_t4) v5 (fun v68 h8 v71 h7 s j => Prog.lift (.call (10 : (Λ₀ F).Label) ⟨i, v30, k0_hw6, v39, k0_hw85, k0_t4, v68, h8, v71, h7, arg5, harg5, arg6, harg6, s, j⟩)) (fun v68 h8 v71 h7 b => Prog.lift (.call (11 : (Λ₀ F).Label) ⟨i, v30, k0_hw6, v39, k0_hw85, k0_t4, v68, h8, v71, h7, arg19, harg19, arg3, harg3, arg4, harg4, arg17, arg15, harg15, arg10, harg10, arg18, arg16, harg16, arg11, harg11, arg5, harg5, arg6, harg6, b⟩))
  let c1_i32_27 : BitVec 32 := 1#32
  let v46 : BitVec 32 ← Scf.Loop.for (k0_t5_loop v39) (k0_t5_ok v39 k0_hw85) v45 fun k0_t5 arg21 =>
    widen arg3 arg8 arg9 arg10 harg10 arg11 arg13 arg15 harg15 arg16 arg17 arg18 arg19 (k0_off414 v39 k0_t5) (k0_off414_inb v39 k0_hw85 k0_t5) v5 (fun v68 h8 v71 h7 s j => Prog.lift (.call (13 : (Λ₀ F).Label) ⟨i, v30, k0_hw6, v39, k0_hw85, k0_t5, v68, h8, v71, h7, arg5, harg5, arg6, harg6, s, j⟩)) (fun v68 h8 v71 h7 b => Prog.lift (.call (14 : (Λ₀ F).Label) ⟨i, v30, k0_hw6, v39, k0_hw85, k0_t5, v68, h8, v71, h7, arg19, harg19, arg3, harg3, arg4, harg4, arg17, arg15, harg15, arg10, harg10, arg18, arg16, harg16, arg11, harg11, arg5, harg5, arg6, harg6, b⟩))
  let c0_i32_28 : BitVec 32 := 0#32
  let c4_i32_29 : BitVec 32 := 4#32
  let v47 : BitVec 32 := Scalar.addi c0_i32_28 c4_i32_29
  let c1_i32_30 : BitVec 32 := 1#32
  Scf.Loop.for k0_t6_loop k0_t6_ok ⟨⟩ fun k0_t6 _ =>
    tokens arg1 arg2 arg13 arg14 v23 v26 v29 1 (Fin.cast (by decide) k0_t6) 8 (by decide)
  let c4_i32_31 : BitVec 32 := 4#32
  let c0_32 : Index := 0#32
  let c0_33 : Index := 0#32
  let c2_34 : Index := 2#32
  let v48 : Elt F .i32 ← smemLoad arg5 (Rect.unit (s := S1x1x4) ![0, 0, 2] S1x1x1.size inb_S1x1x4_S1x1x1_0_0_2) numel1_S1x1x1 rfl
  have k0_hw164 : k0_chk164 v48 := (← Prog.lift (TpuEff.assume (k0_chk164 v48) (k0_chk164.dec v48))).down
  let c0_i32_35 : BitVec 32 := 0#32
  let c0_i32_36 : BitVec 32 := 0#32
  let v49 : BitVec 32 := Scalar.subi v48 c0_i32_35
  let v50 : BitVec 32 := Scalar.addi c0_i32_35 v49
  let c1_i32_37 : BitVec 32 := 1#32
  let v51 : BitVec 32 := Scalar.divsi v49 c1_i32_37
  let v52 : BitVec 32 := Scalar.muli v51 c1_i32_37
  let v53 : BitVec 32 := Scalar.addi c0_i32_35 v52
  let c1_i32_38 : BitVec 32 := 1#32
  let v54 : BitVec 32 ← Scf.Loop.for (k0_t7_loop v48) (k0_t7_ok v48 k0_hw164) c0_i32_36 fun k0_t7 arg21 =>
    widen arg3 arg8 arg9 arg10 harg10 arg11 arg13 arg15 harg15 arg16 arg17 arg18 arg19 (k0_off724 v48 k0_t7) (k0_off724_inb v48 k0_hw164 k0_t7) v5 (fun v68 h8 v71 h7 s j => Prog.lift (.call (16 : (Λ₀ F).Label) ⟨i, v30, k0_hw6, v39, k0_hw85, v48, k0_hw164, k0_t7, v68, h8, v71, h7, arg5, harg5, arg6, harg6, s, j⟩)) (fun v68 h8 v71 h7 b => Prog.lift (.call (17 : (Λ₀ F).Label) ⟨i, v30, k0_hw6, v39, k0_hw85, v48, k0_hw164, k0_t7, v68, h8, v71, h7, arg19, harg19, arg3, harg3, arg4, harg4, arg17, arg15, harg15, arg10, harg10, arg18, arg16, harg16, arg11, harg11, arg5, harg5, arg6, harg6, b⟩))
  let c1_i32_39 : BitVec 32 := 1#32
  let v55 : BitVec 32 ← Scf.Loop.for (k0_t8_loop v48) (k0_t8_ok v48 k0_hw164) v54 fun k0_t8 arg21 =>
    widen arg3 arg8 arg9 arg10 harg10 arg11 arg13 arg15 harg15 arg16 arg17 arg18 arg19 (k0_off770 v48 k0_t8) (k0_off770_inb v48 k0_hw164 k0_t8) v5 (fun v68 h8 v71 h7 s j => Prog.lift (.call (19 : (Λ₀ F).Label) ⟨i, v30, k0_hw6, v39, k0_hw85, v48, k0_hw164, k0_t8, v68, h8, v71, h7, arg5, harg5, arg6, harg6, s, j⟩)) (fun v68 h8 v71 h7 b => Prog.lift (.call (20 : (Λ₀ F).Label) ⟨i, v30, k0_hw6, v39, k0_hw85, v48, k0_hw164, k0_t8, v68, h8, v71, h7, arg19, harg19, arg3, harg3, arg4, harg4, arg17, arg15, harg15, arg10, harg10, arg18, arg16, harg16, arg11, harg11, arg5, harg5, arg6, harg6, b⟩))
  let c0_i32_40 : BitVec 32 := 0#32
  let c4_i32_41 : BitVec 32 := 4#32
  let v56 : BitVec 32 := Scalar.addi c0_i32_40 c4_i32_41
  let c1_i32_42 : BitVec 32 := 1#32
  pure ⟨v39, k0_hw85, v48, k0_hw164, c0_i32_40, c1_i32_42⟩

/-- The body of one grid step. -/
def comb : PR F PUnit := do
  let ⟨v5, v23, v26, v29, v30, k0_hw6, c0_i32_11, c0_i32_12⟩ : Σ' (v5 : BitVec 32) (v23 : IVec S8x128 32) (v26 : IVec S8x128 32) (v29 : IVec S8x128 32) (v30 : Elt F .i32) (k0_hw6 : k0_chk6 v30) (c0_i32_11 : BitVec 32), BitVec 32 ← k0_part496 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19
  let ⟨v39, k0_hw85, v48, k0_hw164, c0_i32_40, c1_i32_42⟩ : Σ' (v39 : Elt F .i32) (k0_hw85 : k0_chk85 v39) (v48 : Elt F .i32) (k0_hw164 : k0_chk164 v48) (c0_i32_40 : BitVec 32), BitVec 32 ← comb497 i arg1 arg2 arg3 harg3 arg4 harg4 arg5 harg5 arg6 harg6 arg8 arg9 arg10 harg10 arg11 harg11 arg13 arg14 arg15 harg15 arg16 harg16 arg17 arg18 arg19 harg19 v5 v23 v26 v29 v30 k0_hw6 c0_i32_11 c0_i32_12
  Scf.Loop.for k0_t9_loop k0_t9_ok ⟨⟩ fun k0_t9 _ =>
    tokens arg1 arg2 arg13 arg14 v23 v26 v29 2 (Fin.cast (by decide) k0_t9) 8 (by decide)
  let c4_i32_43 : BitVec 32 := 4#32
  let c0_44 : Index := 0#32
  let c0_45 : Index := 0#32
  let c3_46 : Index := 3#32
  let v57 : Elt F .i32 ← smemLoad arg5 (Rect.unit (s := S1x1x4) ![0, 0, 3] S1x1x1.size inb_S1x1x4_S1x1x1_0_0_3) numel1_S1x1x1 rfl
  have k0_hw243 : k0_chk243 v57 := (← Prog.lift (TpuEff.assume (k0_chk243 v57) (k0_chk243.dec v57))).down
  let c0_i32_47 : BitVec 32 := 0#32
  let c0_i32_48 : BitVec 32 := 0#32
  let v58 : BitVec 32 := Scalar.subi v57 c0_i32_47
  let v59 : BitVec 32 := Scalar.addi c0_i32_47 v58
  let c1_i32_49 : BitVec 32 := 1#32
  let v60 : BitVec 32 := Scalar.divsi v58 c1_i32_49
  let v61 : BitVec 32 := Scalar.muli v60 c1_i32_49
  let v62 : BitVec 32 := Scalar.addi c0_i32_47 v61
  let c1_i32_50 : BitVec 32 := 1#32
  let v63 : BitVec 32 ← Scf.Loop.for (k0_t10_loop v57) (k0_t10_ok v57 k0_hw243) c0_i32_48 fun k0_t10 arg21 =>
    widen arg3 arg8 arg9 arg10 harg10 arg11 arg13 arg15 harg15 arg16 arg17 arg18 arg19 (k0_off1080 v57 k0_t10) (k0_off1080_inb v57 k0_hw243 k0_t10) v5 (fun v68 h8 v71 h7 s j => Prog.lift (.call (22 : (Λ₀ F).Label) ⟨i, v30, k0_hw6, v39, k0_hw85, v48, k0_hw164, v57, k0_hw243, k0_t10, v68, h8, v71, h7, arg5, harg5, arg6, harg6, s, j⟩)) (fun v68 h8 v71 h7 b => Prog.lift (.call (23 : (Λ₀ F).Label) ⟨i, v30, k0_hw6, v39, k0_hw85, v48, k0_hw164, v57, k0_hw243, k0_t10, v68, h8, v71, h7, arg19, harg19, arg3, harg3, arg4, harg4, arg17, arg15, harg15, arg10, harg10, arg18, arg16, harg16, arg11, harg11, arg5, harg5, arg6, harg6, b⟩))
  let c1_i32_51 : BitVec 32 := 1#32
  let v64 : BitVec 32 ← Scf.Loop.for (k0_t11_loop v57) (k0_t11_ok v57 k0_hw243) v63 fun k0_t11 arg21 =>
    widen arg3 arg8 arg9 arg10 harg10 arg11 arg13 arg15 harg15 arg16 arg17 arg18 arg19 (k0_off1126 v57 k0_t11) (k0_off1126_inb v57 k0_hw243 k0_t11) v5 (fun v68 h8 v71 h7 s j => Prog.lift (.call (25 : (Λ₀ F).Label) ⟨i, v30, k0_hw6, v39, k0_hw85, v48, k0_hw164, v57, k0_hw243, k0_t11, v68, h8, v71, h7, arg5, harg5, arg6, harg6, s, j⟩)) (fun v68 h8 v71 h7 b => Prog.lift (.call (26 : (Λ₀ F).Label) ⟨i, v30, k0_hw6, v39, k0_hw85, v48, k0_hw164, v57, k0_hw243, k0_t11, v68, h8, v71, h7, arg19, harg19, arg3, harg3, arg4, harg4, arg17, arg15, harg15, arg10, harg10, arg18, arg16, harg16, arg11, harg11, arg5, harg5, arg6, harg6, b⟩))
  let c0_i32_52 : BitVec 32 := 0#32
  let c4_i32_53 : BitVec 32 := 4#32
  let v65 : BitVec 32 := Scalar.addi c0_i32_52 c4_i32_53
  let c1_i32_54 : BitVec 32 := 1#32
  Scf.Loop.for k0_t12_loop k0_t12_ok ⟨⟩ fun k0_t12 _ =>
    tokens arg1 arg2 arg13 arg14 v23 v26 v29 3 (Fin.cast (by decide) k0_t12) 8 (by decide)
  let c4_i32_55 : BitVec 32 := 4#32
  let c0_i32_56 : BitVec 32 := 0#32
  let c8_i32_57 : BitVec 32 := 8#32
  let v66 : BitVec 32 := Scalar.addi c0_i32_56 c8_i32_57
  let c1_i32_58 : BitVec 32 := 1#32
  Scf.Loop.for k0_t13_loop k0_t13_ok ⟨⟩ fun k0_t13 _ =>
    finGs arg7 arg12 harg12 arg14 (Fin.cast (by decide) k0_t13) 24 (by decide)
  let c8_i32_59 : BitVec 32 := 8#32
  pure ⟨⟩

end Cert.KernelIdeal.M
-- ==== Proof.KI.Base.lean ====
module

public import proofs.«01_k».proof.Proof.KI.Mirror
public import Idealize.ShloMosaic.Lib.Transfers
public import Idealize.ShloMosaic.Lib.Memref
public import Idealize.ShloMosaic.Lib.Scf
public import Idealize.ShloMosaic.Lib.WholeRead
public import Idealize.ShloMosaic.Lib.Pipeline.FrameBody
public import Idealize.ShloMosaic.Lib.Tactic

@[expose] public section

noncomputable section

/-
  The rules of one step of the body, over memrefs owned at contents named by multi-indices.
-/
namespace Cert.KernelIdeal.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resources. -/
abbrev SP (F : FTy → Type) : Type := sProp (MT nD τ sig Unit (Elt F) ℕ (Pipeline.UD sig nD τ) ℕ)

/-- The variants of the scanning labels. -/
abbrev VN : Variants := Variants.nat

variable [Facts]

/-- The weakest precondition of a piece of the body. -/
abbrev W (c : Dev nD) (bd : Option ℕ) {α : Type} (p : PR F α) (Q : α → SP F) : SP F :=
  wp frame (wpE (defs₀ (F := F)) VN (c : Thread nD τ) bd) Set.univ p Q

variable (c : Dev nD) (bd : Option ℕ) {α β : Type} {Q : α → SP F}

theorem W_bind (p : PR F β) (k : β → PR F α) : W c bd (p >>= k) Q = W c bd p (fun x => W c bd (k x) Q) := by
  unfold W; rw [wp_bind]

theorem W_ret (x : α) : Q x ⊢ W c bd (pure x : PR F α) Q := le_wp_ret _ _ _ x Q

theorem W_mono (p : PR F α) {Q' : α → SP F} (h : ∀ x, Q x ⊢ Q' x) : W c bd p Q ⊢ W c bd p Q' := wp_mono _ _ _ h

theorem W_frame (p : PR F α) (R : SP F) {Q' : α → SP F} (h : ∀ x, iprop(Q x ∗ R) ⊢ Q' x) : iprop(W c bd p Q ∗ R) ⊢ W c bd p Q' :=
  (wp_frame_r _ _ _).trans (wp_mono _ _ _ h)

section
variable {sp : Space} {s : Shape} {e : EltTy}

/-- A load from a memref owned at `X` continues at what `X` holds there. -/
theorem W_load {cs : CoreSpace} {m : Memref sig .tc cs s e} {r : LoadRect s} {hl : m.view.LoadsAt r} {k : (r.shape.Idx → Elt F e) → PR F α}
    {q : PosShare TreeShare} {X : s.Idx → Elt F e} :
    owns (c : Thread nD τ) m q X ⊢ iprop((owns (c : Thread nD τ) m q X -∗ W c bd (k (fun x => X (r.idx x))) Q) -∗ W c bd (.op (.load m r hl) k) Q) := by
  unfold owns
  iintro ⟨%f, %hf, H⟩ HK
  have hS : m.view.setOn r.set ⊆ m.view.set := by
    rw [← View.setOn_univ]; exact Finset.map_subset_map.mpr (Finset.subset_univ _)
  iapply (wp_load VN (c : Thread nD τ) bd Set.univ hS) $$ H
  iintro H
  have e1 : m.view.readAt (Elt F) r f = fun x => X (r.idx x) := by
    subst hf; rfl
  rw [e1]
  iapply HK
  iexists f
  isplitr
  · ipureintro; exact hf
  · iexact H

theorem read_write_slice {κ : Kind} (v : View sig κ sp s e) (r : Rect s) (f : v.ty.Contents (Elt F)) (w : r.shape.Idx → Elt F e) :
    v.read (Elt F) ((v.slice r).write (Elt F) f w Finset.univ) = r.overlay (v.read (Elt F) f) w := by
  funext j
  by_cases hj : j ∈ r.set
  · obtain ⟨i, rfl⟩ := r.exists_idx_of_mem hj
    change v.read (Elt F) _ (r.emb i) = r.overlay _ w (r.emb i)
    rw [Rect.overlay_emb]
    have h := congrFun (View.read_write_univ (Val := Elt F) (v := v.slice r) f w) i
    exact h
  · rw [Rect.overlay_of_not_mem _ _ _ hj, View.read_apply, View.read_apply]
    rw [View.write_of_not_mem]
    rw [View.setOn_univ, View.set_slice, Finset.mem_map' v.emb]; exact hj

/-- A store of a whole rectangle leaves the memref owned with that rectangle replaced. -/
theorem W_store {cs : CoreSpace} {m : Memref sig .tc cs s e} {r : Rect s} {w : r.shape.Idx → Elt F e} {hx : (m.access r).Stores Finset.univ}
    {hm : (Finset.univ : Finset r.shape.Idx) = Finset.univ ∨ ∀ a, r.stride a = 1} {k : PUnit → PR F α} {X : s.Idx → Elt F e} :
    owns (c : Thread nD τ) m fullShare X
      ⊢ iprop((owns (c : Thread nD τ) m fullShare (r.overlay X w) -∗ W c bd (k ⟨⟩) Q) -∗ W c bd (.op (.store m r w Finset.univ hx hm) k) Q) := by
  unfold owns
  iintro ⟨%f, %hf, H⟩ HK
  have hS : (m.access r).setOn Finset.univ ⊆ m.view.set := by
    rw [View.setOn_univ]; exact View.set_slice_subset _ r
  iapply (wp_store VN (c : Thread nD τ) bd Set.univ (hx := hx) (hm := hm) hS) $$ H
  iintro H
  iapply HK
  iexists ((m.access r).write (Elt F) f w Finset.univ)
  isplitr
  · ipureintro
    rw [← hf]
    exact read_write_slice m.view r f w
  · iexact H

/-- A load of one word. -/
theorem W_smem {m : Memref sig .tc .smem s e} {r : Rect s} {h1 : r.shape.numel = 1} {hp : e.packing = 1} {k : Elt F e → PR F α}
    {q : PosShare TreeShare} {X : s.Idx → Elt F e} :
    owns (c : Thread nD τ) m q X ⊢ iprop((owns (c : Thread nD τ) m q X -∗
        W c bd (k (X (r.idx (Shape.Idx.first (h1.symm ▸ Nat.one_pos))))) Q) -∗ W c bd ((smemLoad m r h1 hp : PR F (Elt F e)) >>= k) Q) := by
  exact W_load c bd (m := m) (r := r.toLoadRect) (k := fun f => k (f (Shape.Idx.first (h1.symm ▸ Nat.one_pos))))

theorem W_assume {P : Prop} {d : Decidable P} {k : PLift P → PR F α} (h : P) :
    W c bd (k ⟨h⟩) Q ⊢ W c bd (Prog.lift (.assume P d) >>= k) Q := wp_assume VN (c : Thread nD τ) bd Set.univ h

theorem W_loadb {cs : CoreSpace} {m : Memref sig .tc cs s e} {r : LoadRect s} {hl : m.view.LoadsAt r} {k : (r.shape.Idx → Elt F e) → PR F α}
    {q : PosShare TreeShare} {X : s.Idx → Elt F e} :
    owns (c : Thread nD τ) m q X ⊢ iprop((owns (c : Thread nD τ) m q X -∗ W c bd (k (fun x => X (r.idx x))) Q) -∗ W c bd (Prog.lift (.load m r hl) >>= k) Q) :=
  W_load c bd

theorem W_storeb {cs : CoreSpace} {m : Memref sig .tc cs s e} {r : Rect s} {w : r.shape.Idx → Elt F e} {hx : (m.access r).Stores Finset.univ}
    {hm : (Finset.univ : Finset r.shape.Idx) = Finset.univ ∨ ∀ a, r.stride a = 1} {k : PUnit → PR F α} {X : s.Idx → Elt F e} :
    owns (c : Thread nD τ) m fullShare X
      ⊢ iprop((owns (c : Thread nD τ) m fullShare (r.overlay X w) -∗ W c bd (k ⟨⟩) Q) -∗ W c bd (Prog.lift (.store m r w Finset.univ hx hm) >>= k) Q) :=
  W_store c bd

end

/-- A call of a label whose body is `body`, at a smaller variant. -/
theorem W_call {ℓ : (Λ₀ F).Label} {a : (Λ₀ F).Args ℓ} (v : ℕ) (hv : ∀ u ∈ bd, v < u) {Q : (Λ₀ F).Result ℓ → SP F} :
    W c (some v) (defs₀ (F := F) .tc ℓ a) Q ⊢ W c bd (Prog.lift (.call ℓ a) : PR F _) Q := by
  refine BIBase.Entails.trans ?_ (wp_call (defs := defs₀ (F := F)) VN (c : Thread nD τ) bd Set.univ (Γ := .empty) (k := .ret) (Q := Q) v hv)
  exact wp_mono _ _ _ fun x => le_wp_ret _ _ _ x Q

/-- What a label's call is worth: its body at any smaller variant. -/
def CallRule {A B : Type} (call body : A → PR F B) : Prop :=
  ∀ (c : Dev nD) (bd : Option ℕ) (v : ℕ), (∀ u ∈ bd, v < u) → ∀ (a : A) (Q : B → SP F), W c (some v) (body a) Q ⊢ W c bd (call a) Q

end Cert.KernelIdeal.M
-- ==== Proof.KI.Model.lean ====
module

public import proofs.«01_k».proof.Proof.KI.Base
public import Idealize.ShloMosaic.Lib.WordCmp

@[expose] public section

noncomputable section

/-
  The queue of items as natural numbers: how many a list holds, what its entries are, how many came before; and
  the word arithmetic of the body at natural numbers below two to the thirty-first.
-/
namespace Cert.KernelIdeal.M

open Idealize.ShloMosaic Idealize.ShloMosaic.TcCoe

/-- A word. -/
abbrev nw (n : ℕ) : BitVec 32 := BitVec.ofNat 32 n

theorem nw_toNat {n : ℕ} (h : n < 2 ^ 31) : (nw n).toNat = n := by
  rw [BitVec.toNat_ofNat, Nat.mod_eq_of_lt (by omega)]

theorem nw_toInt {n : ℕ} (h : n < 2 ^ 31) : (nw n).toInt = n := by
  rw [BitVec.toInt_eq_toNat_of_lt (by rw [nw_toNat h]; omega), nw_toNat h]

theorem nw_of (x : BitVec 32) : x = nw x.toNat := by
  apply BitVec.eq_of_toNat_eq; rw [BitVec.toNat_ofNat, Nat.mod_eq_of_lt x.isLt]

theorem s_slt {a b : ℕ} (ha : a < 2 ^ 31) (hb : b < 2 ^ 31) : Scalar.cmpi .slt (nw a) (nw b) = BitVec.ofBool (decide (a < b)) :=
  WordCmp.cmpi_slt_ofNat (w := 32) ha hb
theorem s_sge {a b : ℕ} (ha : a < 2 ^ 31) (hb : b < 2 ^ 31) : Scalar.cmpi .sge (nw a) (nw b) = BitVec.ofBool (decide (b ≤ a)) :=
  WordCmp.cmpi_sge_ofNat (w := 32) ha hb
theorem s_addi (a b : ℕ) : Scalar.addi (nw a) (nw b) = nw (a + b) := (BitVec.ofNat_add a b).symm
theorem s_muli (a b : ℕ) : Scalar.muli (nw a) (nw b) = nw (a * b) := (BitVec.ofNat_mul a b).symm
theorem s_subi {a b : ℕ} (h : b ≤ a) (ha : a < 2 ^ 31) : Scalar.subi (nw a) (nw b) = nw (a - b) := by
  apply BitVec.eq_of_toNat_eq
  show (nw a - nw b).toNat = _
  rw [BitVec.toNat_sub, nw_toNat ha, nw_toNat (show b < 2 ^ 31 by omega), nw_toNat (show a - b < 2 ^ 31 by omega)]
  omega
theorem s_minsi {a b : ℕ} (ha : a < 2 ^ 31) (hb : b < 2 ^ 31) : Scalar.minsi (nw a) (nw b) = nw (min a b) := by
  show (if (nw a).slt (nw b) then nw a else nw b) = _
  have : (nw a).slt (nw b) = decide (a < b) := by
    show decide ((nw a).toInt < (nw b).toInt) = _
    rw [nw_toInt ha, nw_toInt hb]; simp
  rw [this]
  by_cases h : a < b
  · rw [min_eq_left (by omega)]; simp [h]
  · rw [min_eq_right (by omega)]; simp [h]
theorem s_select {α : Type} (p : Prop) [Decidable p] (x y : α) : Scalar.select (BitVec.ofBool (decide p)) x y = if p then x else y := by
  by_cases h : p <;> simp [h, Scalar.select]
theorem s_select' (p : Prop) [Decidable p] (x y : ℕ) : Scalar.select (BitVec.ofBool (decide p)) (nw x) (nw y) = nw (if p then x else y) := by
  rw [s_select]; split <;> rfl
theorem s_andi (p q : Prop) [Decidable p] [Decidable q] :
    Scalar.andi (BitVec.ofBool (decide p)) (BitVec.ofBool (decide q)) = BitVec.ofBool (decide (p ∧ q)) := by
  by_cases h : p <;> by_cases h' : q <;> simp [h, h', Scalar.andi, IntOp.andi]
theorem ofBool_eq_one (p : Prop) [Decidable p] : BitVec.ofBool (decide p) = 1#1 ↔ p := by
  by_cases h : p <;> simp [h]
theorem s_remsi16 {a : ℕ} (ha : a < 2 ^ 31) : Scalar.remsi (nw a) 16#32 = nw (a % 16) := by
  have h16 : (16#32 : BitVec 32) = nw 16 := rfl
  show (if IntOp.SDivCorner (nw a) 16#32 then _ else (nw a).srem 16#32) = _
  rw [if_neg (by rintro (h | h) <;> simp at h)]
  apply BitVec.eq_of_toNat_eq
  rw [BitVec.toNat_srem]
  have m1 : (nw a).msb = false := by rw [BitVec.msb_eq_false_iff_two_mul_lt, nw_toNat ha]; omega
  have m2 : (16#32 : BitVec 32).msb = false := by decide
  simp only [m1, m2, BitVec.toNat_umod, nw_toNat ha]
  rw [nw_toNat (show a % 16 < 2 ^ 31 by omega)]; rfl
theorem s_shrsi6 {a : ℕ} (ha : a < 2 ^ 31) : Scalar.shrsi (nw a) 6#32 = nw (a / 64) := by
  unfold Scalar.shrsi IntOp.shrsi
  rw [if_pos (by decide)]
  have m1 : (nw a).msb = false := by rw [BitVec.msb_eq_false_iff_two_mul_lt, nw_toNat ha]; omega
  apply BitVec.eq_of_toNat_eq
  show ((nw a).sshiftRight 6).toNat = _
  rw [BitVec.sshiftRight_eq_of_msb_false m1, BitVec.toNat_ushiftRight, nw_toNat ha, nw_toNat (by omega), Nat.shiftRight_eq_div_pow]
theorem s_ext_ne (p : Prop) [Decidable p] : Scalar.cmpi .ne (Scalar.extui (BitVec.ofBool (decide p))) 0#32 = BitVec.ofBool (decide p) := by
  by_cases h : p <;> simp [h] <;> decide

/-- What the lists hold: the number of entries of each sub-list and the entries. -/
structure Lists where
  cnt : ℕ → ℕ
  ent : ℕ → ℕ → ℕ
  cnt_le : ∀ σ, cnt σ ≤ 128
  cnt_end : ∀ σ, 1024 ≤ σ → cnt σ = 0
  ent_lt : ∀ σ j, j < cnt σ → ent σ j < 498112

namespace Lists

variable (L : Lists)

/-- The number of sub-lists. -/
@[irreducible] def subs : ℕ := 1024

theorem subs_eq : subs = 1024 := by unfold subs; rfl

/-- The items before sub-list `σ`. -/
def P (σ : ℕ) : ℕ := ∑ s ∈ Finset.range σ, L.cnt s

theorem P_succ (σ : ℕ) : L.P (σ + 1) = L.P σ + L.cnt σ := by unfold P; rw [Finset.sum_range_succ]

theorem P_zero : L.P 0 = 0 := rfl

theorem P_mono {a b : ℕ} (h : a ≤ b) : L.P a ≤ L.P b := by
  induction h with
  | refl => exact le_rfl
  | step _ ih => rw [Nat.succ_eq_add_one, P_succ]; omega

theorem P_le (σ : ℕ) : L.P σ ≤ 131072 := by
  have h1 : ∀ n, L.P n ≤ 128 * n := by
    intro n
    induction n with
    | zero => simp [P_zero]
    | succ n ih => rw [P_succ]; have := L.cnt_le n; omega
  have h2 : ∀ N n, 1024 ≤ N → L.P (N + n) = L.P N := by
    intro N n hN
    induction n with
    | zero => rw [add_zero]
    | succ n ih => rw [← add_assoc, P_succ, ih, L.cnt_end _ (by omega), add_zero]
  obtain ⟨N, hN⟩ : ∃ N, N = 1024 := ⟨_, rfl⟩
  rcases le_total σ N with h | h
  · have := h1 σ; omega
  · obtain ⟨n, rfl⟩ := Nat.exists_eq_add_of_le h
    rw [h2 N n (by omega)]; have := h1 N; omega

/-- Item `n`'s entry. -/
def item (n : ℕ) : ℕ :=
  let σ := Nat.findGreatest (fun s => L.P s ≤ n) subs
  L.ent σ (n - L.P σ)

theorem item_at {σ j : ℕ} (hj : j < L.cnt σ) : L.item (L.P σ + j) = L.ent σ j := by
  have hσ : σ < 1024 := by
    by_contra h
    rw [L.cnt_end σ (by omega)] at hj; omega
  have : Nat.findGreatest (fun s => L.P s ≤ L.P σ + j) subs = σ := by
    rw [Nat.findGreatest_eq_iff]
    refine ⟨by rw [subs_eq]; omega, fun _ => Nat.le_add_right _ _, fun n h1 h2 h3 => ?_⟩
    have h4 := L.P_mono (show σ + 1 ≤ n from h1)
    rw [P_succ] at h4
    omega
  unfold item
  simp only [this]
  congr 1; omega

/-- Item `n`'s tile. -/
def tile (n : ℕ) : ℕ := L.item n / 64

/-- The tile item `n` has in flight, if it is a full one. -/
def tl (n : ℕ) : Option ℕ := if L.tile n < 7782 then some (L.tile n) else none

theorem item_lt {σ j : ℕ} (hj : j < L.cnt σ) : L.item (L.P σ + j) < 498112 := by
  rw [L.item_at hj]; exact L.ent_lt σ j hj

/-- The sub-lists a step may scan: its own four, and the next step's when there is one. -/
def top (t : ℕ) : ℕ := if t + 1 < 256 then 8 else 4

/-- The scan of step `t` at entry `j` of sub-list `s` of its eight. -/
def Ok (t s j : ℕ) : Prop := (s < top t ∧ j ≤ L.cnt (4 * t + s)) ∨ (s = top t ∧ j = 0)

/-- The scan at an entry, or at its end. -/
def At (t s j : ℕ) : Prop := (s < top t ∧ j < L.cnt (4 * t + s)) ∨ (s = top t ∧ j = 0)

theorem At.ok {L : Lists} {t s j : ℕ} (h : L.At t s j) : L.Ok t s j := by
  rcases h with h | h
  · exact .inl ⟨h.1, h.2.le⟩
  · exact .inr h

/-- The queue at `D` processed and `I` issued items, the scan of step `t` standing at `(s, j)`. -/
def Que (t I D s j : ℕ) : Prop := D ≤ I ∧ I ≤ D + 16 ∧ L.Ok t s j ∧ I = L.P (4 * t + s) + j

/-- The queue as a filling leaves it. -/
def Full (t I D s j : ℕ) : Prop := D ≤ I ∧ I ≤ D + 16 ∧ L.At t s j ∧ I = L.P (4 * t + s) + j ∧ (I = D + 16 ∨ s = top t)

/-- What a slot holds in flight. -/
def Slots (I D : ℕ) (f : Fin 16 → Option ℕ) : Prop :=
  (∀ n, D ≤ n → n < I → f ⟨n % 16, Nat.mod_lt _ (by decide)⟩ = L.tl n)
    ∧ ∀ k : Fin 16, (∀ n, D ≤ n → n < I → n % 16 ≠ k.val) → f k = none

theorem Slots.issue {L : Lists} {I D : ℕ} {f : Fin 16 → Option ℕ} (h : L.Slots I D f) (hI : I < D + 16) (hD : D ≤ I) :
    f ⟨I % 16, Nat.mod_lt _ (by decide)⟩ = none
      ∧ L.Slots (I + 1) D (Function.update f ⟨I % 16, Nat.mod_lt _ (by decide)⟩ (L.tl I)) := by
  refine ⟨h.2 _ fun n h1 h2 => by simp only; omega, fun n h1 h2 => ?_, fun k hk => ?_⟩
  · rcases Nat.lt_succ_iff_lt_or_eq.mp h2 with h3 | rfl
    · rw [Function.update_of_ne (by intro e; have := congrArg Fin.val e; simp only at this; omega)]
      exact h.1 n h1 h3
    · rw [Function.update_self]
  · rw [Function.update_of_ne (by rintro rfl; exact hk I hD (by omega) rfl)]
    exact h.2 k fun n h1 h2 => hk n h1 (by omega)

theorem Slots.done {L : Lists} {I D : ℕ} {f : Fin 16 → Option ℕ} (h : L.Slots I D f) (hI : I ≤ D + 16) (hD : D < I) :
    f ⟨D % 16, Nat.mod_lt _ (by decide)⟩ = L.tl D
      ∧ L.Slots I (D + 1) (Function.update f ⟨D % 16, Nat.mod_lt _ (by decide)⟩ none) := by
  refine ⟨h.1 D le_rfl hD, fun n h1 h2 => ?_, fun k hk => ?_⟩
  · rw [Function.update_of_ne (by intro e; have := congrArg Fin.val e; simp only at this; omega)]
    exact h.1 n (by omega) h2
  · by_cases e : k = ⟨D % 16, Nat.mod_lt _ (by decide)⟩
    · rw [e, Function.update_self]
    · rw [Function.update_of_ne e]
      refine h.2 k fun n h1 h2 => ?_
      rcases Nat.eq_or_lt_of_le h1 with rfl | h3
      · intro e'; exact e (Fin.ext e'.symm)
      · exact hk n h3 h2

theorem Que.lt31 {L : Lists} {t I D s j : ℕ} (h : L.Que t I D s j) : I ≤ 131072 ∧ D ≤ 131072 ∧ s ≤ 8 ∧ j ≤ 128 := by
  obtain ⟨h1, h2, h3, h4⟩ := h
  have ht : top t ≤ 8 := by unfold top; split <;> omega
  have hP := L.P_le (4 * t + s + 1)
  rw [P_succ] at hP
  rcases h3 with h3 | h3
  · have := L.cnt_le (4 * t + s); exact ⟨by omega, by omega, by omega, by omega⟩
  · exact ⟨by omega, by omega, by omega, by omega⟩

/-- While an item of the step's own sub-lists is left, the filled queue holds it. -/
theorem Full.lt {L : Lists} {t I D s j : ℕ} (h : L.Full t I D s j) (hD : D < L.P (4 * t + 4)) : D < I := by
  obtain ⟨h1, h2, h3, h4, h5⟩ := h
  rcases h5 with h5 | h5
  · omega
  · have : 4 ≤ top t := by unfold top; split <;> omega
    have := L.P_mono (show 4 * t + 4 ≤ 4 * t + s by omega)
    omega

theorem Full.que {L : Lists} {t I D s j : ℕ} (h : L.Full t I D s j) : L.Que t I D s j := ⟨h.1, h.2.1, h.2.2.1.ok, h.2.2.2.1⟩

/-- After a step's own items the scan has left its own sub-lists. -/
theorem Full.four {L : Lists} {t I D s j : ℕ} (h : L.Full t I D s j) (hD : D = L.P (4 * t + 4)) : 4 ≤ s := by
  obtain ⟨h1, h2, h3, h4, h5⟩ := h
  by_contra hs
  have ht : 4 ≤ top t := by unfold top; split <;> omega
  rcases h3 with h3 | h3
  · have := L.P_mono (show 4 * t + s + 1 ≤ 4 * t + 4 by omega)
    rw [P_succ] at this
    omega
  · omega

/-- The queue at the next step. -/
theorem Full.next {L : Lists} {t I D s j : ℕ} (h : L.Full t I D s j) (hD : D = L.P (4 * t + 4)) (ht : t + 1 < 256) :
    L.Que (t + 1) I D (s - 4) j := by
  have h4 := h.four hD
  obtain ⟨h1, h2, h3, h6, h5⟩ := h
  have e : 4 * (t + 1) + (s - 4) = 4 * t + s := by omega
  have e8 : top t = 8 := by unfold top; rw [if_pos ht]
  refine ⟨h1, h2, ?_, by rw [e]; exact h6⟩
  unfold Ok
  rw [e]
  have : 4 ≤ top (t + 1) ∧ top (t + 1) ≤ 8 := by unfold top; split <;> omega
  rcases h3 with h3 | h3
  · exact .inl ⟨by omega, h3.2.le⟩
  · by_cases h9 : s - 4 < top (t + 1)
    · exact .inl ⟨h9, by omega⟩
    · exact .inr ⟨by omega, h3.2⟩

/-- At the end nothing is in flight. -/
theorem Full.end_ {L : Lists} {t I D s j : ℕ} (ht : t = 255) (h : L.Full t I D s j) (hD : D = L.P (4 * t + 4)) : I = D := by
  have h4 := h.four hD
  obtain ⟨h1, h2, h3, h6, h5⟩ := h
  have e : top t = 4 := by rw [ht]; decide
  rcases h3 with h3 | h3
  · omega
  · rw [h3.1, e, h3.2] at h6; rw [hD, h6, add_zero]

end Lists

end Cert.KernelIdeal.M
-- ==== Proof.KI.Skip.lean ====
module

public import proofs.«01_k».proof.Proof.KI.Model

@[expose] public section

noncomputable section

/-
  The scan past the exhausted sub-lists, and the four counters.
-/
namespace Cert.KernelIdeal.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]
open Facts₀ Facts

/-- The four counters at four numbers. -/
def stV (v : Fin 4 → ℕ) : S4.Idx → BitVec 32 := fun x => nw (v ⟨(x 0).val, (x 0).isLt⟩)

theorem stV_store (v : Fin 4 → ℕ) (a : Fin 4) (off : Fin 1 → ℕ) (ho : off 0 = a.val) (hoff : ∀ b, off b + S1.size b ≤ S4.size b) (n : ℕ) :
    (Rect.unit (s := S4) off S1.size hoff).overlay (stV v) (fun _ => nw n) = stV (Function.update v a n) := by
  funext x
  by_cases hx : x ∈ (Rect.unit (s := S4) off S1.size hoff).set
  · obtain ⟨y, rfl⟩ := LoadRect.exists_idx_of_mem _ hx
    change (Rect.unit (s := S4) off S1.size hoff).overlay _ _ ((Rect.unit (s := S4) off S1.size hoff).emb y) = _
    rw [Rect.overlay_emb]
    have e : (⟨(((Rect.unit (s := S4) off S1.size hoff).idx y) 0).val, (((Rect.unit (s := S4) off S1.size hoff).idx y) 0).isLt⟩ : Fin 4) = a := by
      apply Fin.ext
      rw [LoadRect.idx_apply]
      have : (y 0).val < 1 := (y 0).isLt
      show off 0 + 1 * (y 0).val = a.val
      omega
    show nw n = nw (Function.update v a n ⟨(((Rect.unit (s := S4) off S1.size hoff).idx y) 0).val, (((Rect.unit (s := S4) off S1.size hoff).idx y) 0).isLt⟩)
    rw [e, Function.update_self]
  · rw [Rect.overlay_of_not_mem _ _ _ hx]
    show nw (v ⟨(x 0).val, (x 0).isLt⟩) = nw (Function.update v a n ⟨(x 0).val, (x 0).isLt⟩)
    rw [Function.update_of_ne]
    intro e
    have e := congrArg Fin.val e
    simp only at e
    apply hx
    rw [LoadRect.mem_set]
    intro b
    have hb : b = (0 : Fin 1) := Subsingleton.elim (α := Fin 1) _ _
    subst hb
    refine ⟨0, Nat.one_pos, ?_⟩
    show (x 0).val = off 0 + 1 * 0
    rw [e, ho]; rfl

theorem stV_load (v : Fin 4 → ℕ) (a : Fin 4) (off : Fin 1 → ℕ) (ho : off 0 = a.val) (hoff : ∀ b, off b + S1.size b ≤ S4.size b) (y : S1.Idx) :
    stV v ((Rect.unit (s := S4) off S1.size hoff).idx y) = nw (v a) := by
  have e : (⟨(((Rect.unit (s := S4) off S1.size hoff).idx y) 0).val, (((Rect.unit (s := S4) off S1.size hoff).idx y) 0).isLt⟩ : Fin 4) = a := by
    apply Fin.ext
    rw [LoadRect.idx_apply]
    have : (y 0).val < 1 := (y 0).isLt
    show off 0 + 1 * (y 0).val = a.val
    omega
  show nw (v _) = _
  rw [e]

section
variable (c : Dev nD) (bd : Option ℕ) {α : Type} {Q : α → SP F} {arg19 : Memref sig .tc .smem S4 .i32}

theorem W_rdw {off : Fin 1 → ℕ} {hoff : ∀ b, off b + S1.size b ≤ S4.size b} {k : BitVec 32 → PR F α} {v : Fin 4 → ℕ} (a : Fin 4) (ho : off 0 = a.val) :
    owns (c : Thread nD τ) arg19 fullShare (stV v : S4.Idx → Elt F .i32)
      ⊢ iprop((owns (c : Thread nD τ) arg19 fullShare (stV v : S4.Idx → Elt F .i32) -∗ W c bd (k (nw (v a))) Q)
        -∗ W c bd ((smemLoad arg19 (Rect.unit (s := S4) off S1.size hoff) numel1_S1 rfl : PR F (Elt F .i32)) >>= k) Q) := by
  have h := W_smem (F := F) c bd (m := arg19) (r := Rect.unit (s := S4) off S1.size hoff) (h1 := numel1_S1) (hp := rfl) (k := k) (q := fullShare) (X := stV v) (Q := Q)
  rw [stV_load v a off ho hoff] at h
  exact h

theorem W_wrw {off : Fin 1 → ℕ} {hoff : ∀ b, off b + S1.size b ≤ S4.size b} {k : PUnit → PR F α} {v : Fin 4 → ℕ} {n : ℕ} (a : Fin 4) (ho : off 0 = a.val)
    {hx : (arg19.access (Rect.unit (s := S4) off S1.size hoff)).Stores Finset.univ} {hm} :
    owns (c : Thread nD τ) arg19 fullShare (stV v : S4.Idx → Elt F .i32)
      ⊢ iprop((owns (c : Thread nD τ) arg19 fullShare (stV (Function.update v a n) : S4.Idx → Elt F .i32) -∗ W c bd (k ⟨⟩) Q)
        -∗ W c bd (Prog.lift (.store arg19 (Rect.unit (s := S4) off S1.size hoff) (fun _ => nw n) Finset.univ hx hm) >>= k) Q) := by
  have h := W_storeb (F := F) c bd (m := arg19) (r := Rect.unit (s := S4) off S1.size hoff) (w := fun _ => nw n) (hx := hx) (hm := hm) (k := k) (X := stV v) (Q := Q)
  rw [stV_store v a off ho hoff] at h
  exact h

theorem W_rdS {K : BitVec 32 → PR F α} {v : Fin 4 → ℕ} (a : Fin 4) :
    owns (c : Thread nD τ) arg19 fullShare (stV v : S4.Idx → Elt F .i32)
      ⊢ iprop((owns (c : Thread nD τ) arg19 fullShare (stV v : S4.Idx → Elt F .i32) -∗ W c bd (K (nw (v a))) Q) -∗ W c bd (rdS arg19 a K) Q) :=
  W_rdw c bd a rfl

theorem W_wrS {K : PR F α} {v : Fin 4 → ℕ} {n : ℕ} (a : Fin 4) :
    owns (c : Thread nD τ) arg19 fullShare (stV v : S4.Idx → Elt F .i32)
      ⊢ iprop((owns (c : Thread nD τ) arg19 fullShare (stV (Function.update v a n) : S4.Idx → Elt F .i32) -∗ W c bd K Q) -∗ W c bd (wrS arg19 a (nw n) K) Q) := by
  iintro H HK
  unfold wrS
  iapply (W_rdw c bd a rfl) $$ H
  iintro H
  iapply (W_wrw c bd (n := n) a rfl) $$ H
  iexact HK

end

/-- The step number. -/
abbrev stp (i : grid0.Coords) : ℕ := (i 0).val

theorem stp_lt (i : grid0.Coords) : stp i < 256 := (i 0).isLt

/-- How many sub-lists the step may scan, as the body computes it. -/
theorem top_word (i : grid0.Coords) :
    Scalar.select (Scalar.cmpi .slt (Scalar.addi (BitVec.ofNat 32 (i 0).val) 1#32) 256#32) 8#32 4#32 = nw (Lists.top (stp i)) := by
  have h : (i 0).val < 256 := stp_lt i
  rw [show (1#32 : BitVec 32) = nw 1 from rfl, show (256#32 : BitVec 32) = nw 256 from rfl, show (8#32 : BitVec 32) = nw 8 from rfl,
    show (4#32 : BitVec 32) = nw 4 from rfl, s_addi, s_slt (by omega) (by omega), s_select']
  rfl

theorem top_le (t : ℕ) : 4 ≤ Lists.top t ∧ Lists.top t ≤ 8 := by unfold Lists.top; split <;> omega

/-- The sub-list whose count the scan reads at `s`. -/
abbrev clp (t s : ℕ) : ℕ := min s (Lists.top t - 1)

theorem off1_eq (i : grid0.Coords) {s : ℕ} (hs : s ≤ 8) : k0_off1 i (nw s) = ![0, 0, if clp (stp i) s < 4 then clp (stp i) s else 0] := by
  have h := top_le (stp i)
  unfold k0_off1
  simp only [top_word, Scalar.indexCast]
  rw [show (1#32 : BitVec 32) = nw 1 from rfl, show (4#32 : BitVec 32) = nw 4 from rfl, show (0#32 : BitVec 32) = nw 0 from rfl, s_subi (by omega) (by omega),
    s_minsi (by omega) (by omega), s_slt (by omega) (by omega), s_select', nw_toNat (by split <;> omega)]

theorem off2_eq (i : grid0.Coords) {s : ℕ} (hs : s ≤ 8) : k0_off2 i (nw s) = ![0, 0, if clp (stp i) s < 4 then 0 else clp (stp i) s - 4] := by
  have h := top_le (stp i)
  unfold k0_off2
  simp only [top_word, Scalar.indexCast]
  rw [show (1#32 : BitVec 32) = nw 1 from rfl, show (4#32 : BitVec 32) = nw 4 from rfl, show (0#32 : BitVec 32) = nw 0 from rfl, s_subi (by omega) (by omega),
    s_minsi (by omega) (by omega), s_slt (by omega) (by omega)]
  rw [s_select]
  split
  · rw [nw_toNat (by omega)]
  · rw [s_subi (by omega) (by omega), nw_toNat (by omega)]

theorem chk1_ok (i : grid0.Coords) {s : ℕ} (hs : s ≤ 8) : k0_chk1 i (nw s) := by
  have h := top_le (stp i)
  refine ⟨fun a => ?_, fun a => ?_⟩
  · rw [off1_eq i hs]
    fin_cases a
    · show 0 + 1 ≤ 1; decide
    · show 0 + 1 ≤ 1; decide
    · show (if clp (stp i) s < 4 then clp (stp i) s else 0) + 1 ≤ 4
      unfold clp; split <;> omega
  · rw [off2_eq i hs]
    fin_cases a
    · show 0 + 1 ≤ 1; decide
    · show 0 + 1 ≤ 1; decide
    · show (if clp (stp i) s < 4 then 0 else clp (stp i) s - 4) + 1 ≤ 4
      unfold clp; split <;> omega

/-- What the counts' two blocks hold at a step. -/
structure Counts (L : Lists) (t : ℕ) (X5 X6 : S1x1x4.Idx → BitVec 32) : Prop where
  cur : ∀ x, X5 x = nw (L.cnt (4 * t + (x 2).val))
  nxt : t + 1 < 256 → ∀ x, X6 x = nw (L.cnt (4 * t + 4 + (x 2).val))

section
variable {L : Lists} (i : grid0.Coords) (arg5 : Memref sig .tc .smem S1x1x4 .i32) (harg5 : arg5.IsWhole) (arg6 : Memref sig .tc .smem S1x1x4 .i32) (harg6 : arg6.IsWhole)
  {X5 X6 : S1x1x4.Idx → Elt F .i32} (hC : Counts L (stp i) X5 X6)

include hC in
/-- The count the scan reads. -/
theorem count_read {s : ℕ} (hs : s < Lists.top (stp i)) {o1 o2 : Fin 3 → ℕ} {ho1 ho2} (e1 : o1 = ![0, 0, if clp (stp i) s < 4 then clp (stp i) s else 0])
    (e2 : o2 = ![0, 0, if clp (stp i) s < 4 then 0 else clp (stp i) s - 4]) (y : S1x1x1.Idx) :
    (Scalar.select (BitVec.ofBool (decide (clp (stp i) s < 4))) (X5 ((Rect.unit (s := S1x1x4) o1 S1x1x1.size ho1).idx y) : BitVec 32)
      (X6 ((Rect.unit (s := S1x1x4) o2 S1x1x1.size ho2).idx y))) = nw (L.cnt (4 * stp i + s)) := by
  have h := top_le (stp i)
  have hy : (y 2).val < 1 := (y 2).isLt
  have hc : clp (stp i) s = s := by unfold clp; omega
  rw [hc] at e1 e2 ⊢
  rw [s_select]
  by_cases h4 : s < 4
  · rw [if_pos h4, hC.cur]
    congr 2
    rw [LoadRect.idx_apply]
    subst e1
    show 4 * stp i + ((if s < 4 then s else 0) + 1 * (y 2).val) = _
    rw [if_pos h4]; omega
  · have ht : stp i + 1 < 256 := by
      by_contra hn; unfold Lists.top at hs; rw [if_neg hn] at hs; omega
    rw [if_neg h4, hC.nxt ht]
    congr 2
    rw [LoadRect.idx_apply]
    subst e2
    show 4 * stp i + 4 + ((if s < 4 then 0 else s - 4) + 1 * (y 2).val) = _
    rw [if_neg h4]; omega

variable (call : BitVec 32 → BitVec 32 → PR F (BitVec 32 × BitVec 32))
  (hcall : ∀ (c : Dev nD) (bd : Option ℕ) (v : ℕ), (∀ u ∈ bd, v < u) → ∀ (a b : BitVec 32) (Q : BitVec 32 × BitVec 32 → SP F),
    W c (some v) (skipBody i arg5 harg5 arg6 harg6 call a b) Q ⊢ W c bd (call a b) Q)

include hC hcall in
/-- The scan stops at an entry or at the end, having passed no item. -/
theorem skip_spec (c : Dev nD) : ∀ (n s j : ℕ) (bd : Option ℕ), Lists.top (stp i) - s ≤ n → (∀ u ∈ bd, n < u) → L.Ok (stp i) s j → ∀ Q : BitVec 32 × BitVec 32 → SP F,
    iprop(owns (c : Thread nD τ) arg5 fullShare X5 ∗ owns (c : Thread nD τ) arg6 fullShare X6
      ∗ (∀ s', ∀ j', ⌜L.At (stp i) s' j' ∧ L.P (4 * stp i + s') + j' = L.P (4 * stp i + s) + j⌝
          -∗ owns (c : Thread nD τ) arg5 fullShare X5 -∗ owns (c : Thread nD τ) arg6 fullShare X6 -∗ Q (nw s', nw j')))
      ⊢ W c bd (call (nw s) (nw j)) Q := by
  intro n
  induction n with
  | zero =>
    intro s j bd hn hbd hok Q
    have ht := top_le (stp i)
    have hs : s = Lists.top (stp i) ∧ j = 0 := by rcases hok with h | h <;> omega
    refine .trans ?_ (hcall c bd 0 hbd _ _ Q)
    unfold skipBody
    iintro ⟨H5, H6, HQ⟩
    iapply (W_assume c (some 0) (chk1_ok i (by omega)))
    iapply (W_smem c (some 0)) $$ H5
    iintro H5
    iapply (W_smem c (some 0)) $$ H6
    iintro H6
    simp only [top_word]
    rw [s_slt (by omega) (by omega), show Scalar.andi (BitVec.ofBool (decide (s < Lists.top (stp i)))) _ = 0#1 from by
      rw [decide_eq_false (by omega)]; exact BitVec.zero_and, if_neg (by decide)]
    iapply (W_ret c (some 0))
    iapply HQ $$ %s %j %⟨.inr hs, rfl⟩ H5 H6
  | succ n ih =>
    intro s j bd hn hbd hok Q
    have ht := top_le (stp i)
    have hs8 : s ≤ 8 := by rcases hok with h | h <;> omega
    have hj : j ≤ 128 := by
      rcases hok with h | h
      · have := L.cnt_le (4 * stp i + s); omega
      · omega
    refine .trans ?_ (hcall c bd (n + 1) hbd _ _ Q)
    unfold skipBody
    iintro ⟨H5, H6, HQ⟩
    iapply (W_assume c (some (n + 1)) (chk1_ok i hs8))
    iapply (W_smem c (some (n + 1))) $$ H5
    iintro H5
    iapply (W_smem c (some (n + 1))) $$ H6
    iintro H6
    simp only [top_word]
    rw [show (1#32 : BitVec 32) = nw 1 from rfl, show (4#32 : BitVec 32) = nw 4 from rfl, show (0#32 : BitVec 32) = nw 0 from rfl,
      s_subi (by omega) (by omega), s_minsi (by omega) (by omega), s_slt (a := s) (by omega) (by omega), s_slt (by omega) (by omega)]
    by_cases hs : s < Lists.top (stp i)
    · rw [count_read i hC hs (off1_eq i hs8) (off2_eq i hs8), s_sge (by omega) (by have := L.cnt_le (4 * stp i + s); omega), s_andi]
      have hok' : j ≤ L.cnt (4 * stp i + s) := by rcases hok with h | h <;> omega
      by_cases hc : L.cnt (4 * stp i + s) ≤ j
      · rw [if_pos ((ofBool_eq_one _).mpr ⟨hs, hc⟩), s_addi]
        have hP := L.P_succ (4 * stp i + s)
        have hok2 : L.Ok (stp i) (s + 1) 0 := by
          by_cases h1 : s + 1 < Lists.top (stp i)
          · exact .inl ⟨h1, by omega⟩
          · exact .inr ⟨by omega, rfl⟩
        iapply (ih (s + 1) 0 (some (n + 1)) (by omega) (fun u hu => by cases hu; omega) hok2 Q)
        isplitl [H5]; · iexact H5
        isplitl [H6]; · iexact H6
        iintro %s' %j' %h H5 H6
        iapply HQ $$ %s' %j' %⟨h.1, by rw [h.2, ← add_assoc, hP]; omega⟩ H5 H6
      · rw [if_neg (by rw [ofBool_eq_one]; omega)]
        iapply (W_ret c (some (n + 1)))
        iapply HQ $$ %s %j %⟨.inl ⟨hs, by omega⟩, rfl⟩ H5 H6
    · have hs' : s = Lists.top (stp i) ∧ j = 0 := by rcases hok with h | h <;> omega
      rw [show ∀ x, Scalar.andi (BitVec.ofBool (decide (s < Lists.top (stp i)))) x = 0#1 from by
        intro x; rw [decide_eq_false (by omega)]; exact BitVec.zero_and, if_neg (by decide)]
      iapply (W_ret c (some (n + 1)))
      iapply HQ $$ %s %j %⟨.inr hs', rfl⟩ H5 H6

end

end Cert.KernelIdeal.M
-- ==== Proof.KI.Slots.lean ====
module

public import proofs.«01_k».proof.Proof.KI.Skip
public import Idealize.ShloMosaic.Lib.ValueLayout

@[expose] public section

noncomputable section

/-
  The ring's slots: what a slot holds idle and in flight, and the rules for issuing, waiting, reading and rewriting one.
-/
namespace Cert.KernelIdeal.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Facts]
open Facts₀ Facts

/-- Where the flights are recorded. -/
abbrev EC : UEmb Counters (MT nD τ sig Unit (Elt F) ℕ (Pipeline.UD sig nD τ) ℕ) := countersEmb (Ix := Unit) (Lvl := ℕ) (Name := ℕ) (U := Pipeline.UD sig nD τ)

/-- The waits the core has made. -/
def ow (c : Dev nD) : SP F := iprop(∃ W, owes (c : Thread nD τ) 0 W)

section
variable (c : Dev nD) (bd : Option ℕ) {α : Type} {Q : α → SP F}

/-- Issuing a copy: the core holds its flight. -/
theorem W_dma {sp sp' : Space} {s : Shape} {e : EltTy} {src : Memref sig .tc sp s e} {dst : Memref sig .tc sp' s e} {sem : DmaSem sig}
    {h1 h2 h3} {k : PUnit → PR F α} {q : PosShare TreeShare} {X X' : s.Idx → Elt F e} (hs : 0 < s.numel) :
    iprop(owns (c : Thread nD τ) src q X ∗ owns (c : Thread nD τ) dst fullShare X' ∗ semVal ((c : Thread nD τ), .dma sem) 0)
      ⊢ iprop((Transfers.Flight EC (c : Thread nD τ) (.dma sem) () dst.view.dmaCredit iprop(owns (c : Thread nD τ) dst fullShare X ∗ owns (c : Thread nD τ) src q X)
          -∗ W c bd (k ⟨⟩) Q) -∗ W c bd (Prog.lift (.enqueueDma src (.here dst) (.dma sem) h1 h2 h3) >>= k) Q) := by
  unfold owns
  iintro ⟨⟨%fs, %hfs, Hs⟩, ⟨%fd, %hfd, Hd⟩, Hv⟩ HK
  iapply (Transfers.wp_dmaLocal EC VN (c : Thread nD τ) bd (Sd := dst.view.set) () dst.view.dmaCredit rfl (View.dmaCredit_pos _ hs) (Finset.Subset.refl _)) $$ [Hs Hd Hv]
  · isplitl [Hs]; · iexact Hs
    isplitl [Hd]; · iexact Hd
    iexact Hv
  iintro HF
  iapply HK
  iapply (Transfers.Flight_mono EC (c : Thread nD τ) (D := _) ?_) $$ HF
  iintro ⟨Hd, Hs⟩
  isplitl [Hd]
  · iexists _
    isplitr
    · ipureintro
      exact (View.read_write_univ (v := dst.view) fd _).trans hfs
    · iexact Hd
  · iexists fs
    isplitr
    · ipureintro; exact hfs
    · iexact Hs

/-- Waiting for a copy. -/
theorem W_wait {sp sp' : Space} {s s' : Shape} {e e' : EltTy} {srcw : Memref sig .tc sp' s' e'} {dstw : Memref sig .tc sp s e} {sem : DmaSem sig}
    {h1 h2} {k : PUnit → PR F α} {D : SP F} :
    iprop(Transfers.Flight EC (c : Thread nD τ) (.dma sem) () dstw.view.dmaCredit D ∗ ow c)
      ⊢ iprop((iprop(D ∗ semVal ((c : Thread nD τ), .dma sem) 0 ∗ ow c) -∗ W c bd (k ⟨⟩) Q)
          -∗ W c bd (Prog.lift (.waitDma2 sem srcw dstw h1 h2) >>= k) Q) := by
  unfold ow
  iintro ⟨HF, ⟨%w, HO⟩⟩ HK
  iapply (Transfers.wp_waitLocal EC VN (c : Thread nD τ) bd () rfl) $$ [HF HO]
  · isplitl [HF]; · iexact HF
    iexact HO
  iintro ⟨HD, Hv, HO⟩
  iapply HK
  isplitl [HD]; · iexact HD
  isplitl [Hv]; · iexact Hv
  iexists _
  iexact HO

end

section
variable {N : ℕ} {e : EltTy} (m : Memref sig .tc .vmem ⟨3, ![16, 32, N]⟩ e) (hq : (⟨3, ![1, 32, N]⟩ : Shape).Squeezes ⟨2, ![32, N]⟩) (k : Fin 16)

omit [Facts] in
theorem slot_inb (N : ℕ) (k : Fin 16) : ∀ a, (![k.val, 0, 0] : Fin 3 → ℕ) a + (⟨3, ![1, 32, N]⟩ : Shape).size a ≤ (⟨3, ![16, 32, N]⟩ : Shape).size a := by
  intro a
  have := k.isLt
  fin_cases a
  · show k.val + 1 ≤ 16; omega
  · show 0 + 32 ≤ 32; decide
  · show 0 + N ≤ N; omega

/-- Slot `k` of a ring. -/
def slotM : Memref sig .tc .vmem ⟨2, ![32, N]⟩ e :=
  (m.slice (Rect.unit (s := ⟨3, ![16, 32, N]⟩) ![k.val, 0, 0] (⟨3, ![1, 32, N]⟩ : Shape).size (slot_inb N k)) (fun _ => rfl)).squeeze ⟨2, ![32, N]⟩ hq

omit [Facts] in
/-- A slot's element, read of the ring. -/
theorem slot_read (f : m.view.ty.Contents (Elt F)) (a : Fin 32) (b : Fin N) :
    (slotM m hq k).view.read (Elt F) f (ix2 a b) = m.view.read (Elt F) f (ix3 k a b) := by
  have e1 : ((slotM m hq k).view.read (Elt F) f) (ix2 a b)
      = m.view.read (Elt F) f ((Rect.unit (s := ⟨3, ![16, 32, N]⟩) ![k.val, 0, 0] (⟨3, ![1, 32, N]⟩ : Shape).size (slot_inb N k)).idx
          (Shape.reshapeEquiv hq.numel_eq (ix2 a b))) := rfl
  rw [e1]
  congr 1
  rw [reshapeEquiv_ix2_1ab (a := 32) (b := N) hq.numel_eq a b]
  funext d
  apply Fin.ext
  match d with
  | ⟨0, _⟩ => show k.val + 1 * 0 = k.val; omega
  | ⟨1, _⟩ => show 0 + 1 * a.val = a.val; omega
  | ⟨2, _⟩ => show 0 + 1 * b.val = b.val; omega

omit [Facts] in
theorem slot_set : (slotM m hq k).view.set
    = m.view.setOn (Rect.unit (s := ⟨3, ![16, 32, N]⟩) ![k.val, 0, 0] (⟨3, ![1, 32, N]⟩ : Shape).size (slot_inb N k)).set := by
  exact (View.set_reshape _ _).trans (View.set_slice _ _)

omit [Facts] in
theorem mem_slot (x : (⟨3, ![16, 32, N]⟩ : Shape).Idx) :
    x ∈ (Rect.unit (s := ⟨3, ![16, 32, N]⟩) ![k.val, 0, 0] (⟨3, ![1, 32, N]⟩ : Shape).size (slot_inb N k)).set ↔ (x 0).val = k.val := by
  rw [LoadRect.mem_set]
  constructor
  · intro h
    obtain ⟨j, hj, e⟩ := h 0
    have hj : j < 1 := hj
    have e : (x 0).val = k.val + 1 * j := e
    omega
  · intro h a
    match a with
    | ⟨0, _⟩ => exact ⟨0, Nat.one_pos, by show (x 0).val = k.val + 1 * 0; omega⟩
    | ⟨1, _⟩ => exact ⟨(x 1).val, (x 1).isLt, by show (x 1).val = 0 + 1 * (x 1).val; omega⟩
    | ⟨2, _⟩ => exact ⟨(x 2).val, (x 2).isLt, by show (x 2).val = 0 + 1 * (x 2).val; omega⟩

variable (c : Dev nD) (bd : Option ℕ) {α : Type} {Q : α → SP F}

theorem slot_owns (q : PosShare TreeShare) (X : (⟨2, ![32, N]⟩ : Shape).Idx → Elt F e) :
    (owns (c : Thread nD τ) (slotM m hq k) q X : SP F)
      = iprop(∃ f : m.view.ty.Contents (Elt F), ⌜(slotM m hq k).view.read (Elt F) f = X⌝
          ∗ (m.view.loc (c : Thread nD τ)) ↦[(slotM m hq k).view.set]{q} f) := rfl

/-- A load inside a slot. -/
theorem W_slot_load {off : Fin 3 → ℕ} {A B : ℕ} {hoff : ∀ a, off a + (⟨3, ![1, A, B]⟩ : Shape).size a ≤ (⟨3, ![16, 32, N]⟩ : Shape).size a}
    {hl : m.view.LoadsAt (Rect.unit (s := ⟨3, ![16, 32, N]⟩) off (⟨3, ![1, A, B]⟩ : Shape).size hoff).toLoadRect}
    (a0 b0 : ℕ) (ho : off = ![k.val, a0, b0]) (ha : ∀ i : Fin A, a0 + i.val < 32) (hb : ∀ i : Fin B, b0 + i.val < N)
    {K : ((⟨3, ![1, A, B]⟩ : Shape).Idx → Elt F e) → PR F α} {q : PosShare TreeShare} {X : (⟨2, ![32, N]⟩ : Shape).Idx → Elt F e} :
    owns (c : Thread nD τ) (slotM m hq k) q X ⊢ iprop((owns (c : Thread nD τ) (slotM m hq k) q X
        -∗ W c bd (K (fun x => X (ix2 ⟨a0 + (x 1).val, ha (x 1)⟩ ⟨b0 + (x 2).val, hb (x 2)⟩))) Q)
      -∗ W c bd (Prog.lift (.load m (Rect.unit (s := ⟨3, ![16, 32, N]⟩) off (⟨3, ![1, A, B]⟩ : Shape).size hoff).toLoadRect hl) >>= K) Q) := by
  subst ho
  rw [slot_owns]
  iintro ⟨%f, %hf, H⟩ HK
  have hS : m.view.setOn (Rect.unit (s := ⟨3, ![16, 32, N]⟩) ![k.val, a0, b0] (⟨3, ![1, A, B]⟩ : Shape).size hoff).toLoadRect.set ⊆ (slotM m hq k).view.set := by
    rw [slot_set]
    refine Finset.map_subset_map.mpr fun x hx => ?_
    rw [mem_slot]
    rw [LoadRect.mem_set] at hx
    obtain ⟨j, hj, e⟩ := hx 0
    have hj : j < 1 := hj
    have e : (x 0).val = k.val + 1 * j := e
    omega
  iapply (wp_load VN (c : Thread nD τ) bd Set.univ hS) $$ H
  iintro H
  have e1 : m.view.readAt (Elt F) (Rect.unit (s := ⟨3, ![16, 32, N]⟩) ![k.val, a0, b0] (⟨3, ![1, A, B]⟩ : Shape).size hoff).toLoadRect f
      = fun x => X (ix2 ⟨a0 + (x 1).val, ha (x 1)⟩ ⟨b0 + (x 2).val, hb (x 2)⟩) := by
    funext x
    subst hf
    rw [slot_read]
    show m.view.read (Elt F) f _ = _
    congr 1
    funext d
    apply Fin.ext
    match d with
    | ⟨0, _⟩ => have : (x 0).val < 1 := (x 0).isLt
                show k.val + 1 * (x 0).val = k.val; omega
    | ⟨1, _⟩ => show a0 + 1 * (x 1).val = a0 + (x 1).val; omega
    | ⟨2, _⟩ => show b0 + 1 * (x 2).val = b0 + (x 2).val; omega
  rw [e1]
  iapply HK
  iexists f
  isplitr
  · ipureintro; exact hf
  · iexact H

/-- A store of a whole slot. -/
theorem W_slot_store {off : Fin 3 → ℕ} {hoff : ∀ a, off a + (⟨3, ![1, 32, N]⟩ : Shape).size a ≤ (⟨3, ![16, 32, N]⟩ : Shape).size a} (ho : off = ![k.val, 0, 0])
    {w : (⟨3, ![1, 32, N]⟩ : Shape).Idx → Elt F e} {hx hm} {K : PUnit → PR F α} {X : (⟨2, ![32, N]⟩ : Shape).Idx → Elt F e} :
    owns (c : Thread nD τ) (slotM m hq k) fullShare X ⊢ iprop((owns (c : Thread nD τ) (slotM m hq k) fullShare (fun x => w (ix3 (0 : Fin 1) (x 0) (x 1))) -∗ W c bd (K ⟨⟩) Q)
      -∗ W c bd (Prog.lift (.store m (Rect.unit (s := ⟨3, ![16, 32, N]⟩) off (⟨3, ![1, 32, N]⟩ : Shape).size hoff) w Finset.univ hx hm) >>= K) Q) := by
  subst ho
  simp only [slot_owns]
  iintro ⟨%f, %hf, H⟩ HK
  have hS : (m.access (Rect.unit (s := ⟨3, ![16, 32, N]⟩) ![k.val, 0, 0] (⟨3, ![1, 32, N]⟩ : Shape).size hoff)).setOn Finset.univ ⊆ (slotM m hq k).view.set := by
    rw [View.setOn_univ, slot_set]
    exact (View.set_slice _ _).le
  iapply (wp_store VN (c : Thread nD τ) bd Set.univ (hx := hx) (hm := hm) hS) $$ H
  iintro H
  iapply HK
  iexists _
  isplitr
  · ipureintro
    swap
    · exact (m.access (Rect.unit (s := ⟨3, ![16, 32, N]⟩) ![k.val, 0, 0] (⟨3, ![1, 32, N]⟩ : Shape).size hoff)).write (Elt F) f w Finset.univ
    funext x
    rw [eq_ix2 x]
    refine (slot_read m hq k _ (x 0) (x 1)).trans ?_
    have e2 : (ix3 k (x 0) (x 1) : (⟨3, ![16, 32, N]⟩ : Shape).Idx)
        = (Rect.unit (s := ⟨3, ![16, 32, N]⟩) ![k.val, 0, 0] (⟨3, ![1, 32, N]⟩ : Shape).size hoff).emb (ix3 (0 : Fin 1) (x 0) (x 1)) := by
      funext d
      apply Fin.ext
      match d with
      | ⟨0, _⟩ => show k.val = k.val + 1 * 0; omega
      | ⟨1, _⟩ => show (x 0).val = 0 + 1 * (x 0).val; omega
      | ⟨2, _⟩ => show (x 1).val = 0 + 1 * (x 1).val; omega
    rw [e2]
    exact View.read_slice_write_emb (v := m.view) (Rect.unit (s := ⟨3, ![16, 32, N]⟩) ![k.val, 0, 0] (⟨3, ![1, 32, N]⟩ : Shape).size hoff) f w (Finset.mem_univ _)
  · iexact H

end

section
variable {N R : ℕ} {e : EltTy} (m : Memref sig .tc .vmem ⟨3, ![16, 32, N]⟩ e) (hq : (⟨3, ![1, 32, N]⟩ : Shape).Squeezes ⟨2, ![32, N]⟩)
  (big : Memref sig .tc .hbm ⟨2, ![R, N]⟩ e) (sems : DmaSems sig S16) (k : Fin 16)

/-- Slot `k`'s semaphore. -/
def semM : DmaSem sig :=
  ((sems.slice (Rect.unit (s := S16) ![k.val] S1.size (by intro a; have := k.isLt; fin_cases a; show k.val + 1 ≤ 16; omega))).squeeze S_ squeezes_S1_S_).sem

omit [Facts] in
theorem tile_inb {T : ℕ} (hT : T * 32 + 32 ≤ R) : ∀ a, (![T * 32, 0] : Fin 2 → ℕ) a + (⟨2, ![32, N]⟩ : Shape).size a ≤ (⟨2, ![R, N]⟩ : Shape).size a := by
  intro a
  fin_cases a
  · exact hT
  · show 0 + N ≤ N; omega

/-- Tile `T` of an array. -/
def tileM {T : ℕ} (hT : T * 32 + 32 ≤ R) : Memref sig .tc .hbm ⟨2, ![32, N]⟩ e :=
  big.slice (Rect.unit (s := ⟨2, ![R, N]⟩) ![T * 32, 0] (⟨2, ![32, N]⟩ : Shape).size (tile_inb hT)) (fun _ => rfl)

/-- Tile `T` of the array's contents. -/
def tileC {α : Type} (Y : (⟨2, ![R, N]⟩ : Shape).Idx → α) {T : ℕ} (hT : T * 32 + 32 ≤ R) : (⟨2, ![32, N]⟩ : Shape).Idx → α :=
  fun i => Y ((Rect.unit (s := ⟨2, ![R, N]⟩) ![T * 32, 0] (⟨2, ![32, N]⟩ : Shape).size (tile_inb hT)).emb i)

variable (c : Dev nD) (q : PosShare TreeShare) (Y : (⟨2, ![R, N]⟩ : Shape).Idx → Elt F e)

/-- An idle slot of one ring: its buffer, its semaphore, and its share of the array it is filled from. -/
def idle1 : SP F := iprop((∃ X, owns (c : Thread nD τ) (slotM m hq k) fullShare X) ∗ semVal ((c : Thread nD τ), .dma (semM sems k)) 0 ∗ owns (c : Thread nD τ) big q Y)

/-- A slot with tile `T` in flight. -/
def busy1 {T : ℕ} (hT : T * 32 + 32 ≤ R) : SP F :=
  iprop(Transfers.Flight EC (c : Thread nD τ) (.dma (semM sems k)) () (slotM m hq k).view.dmaCredit
      iprop(owns (c : Thread nD τ) (slotM m hq k) fullShare (tileC Y hT) ∗ owns (c : Thread nD τ) (tileM big hT) q (tileC Y hT))
    ∗ (∃ f, ⌜big.view.read (Elt F) f = Y⌝ ∗ big.view.loc (c : Thread nD τ) ↦[big.view.set \ (tileM big hT).view.set]{q} f))

variable (bd : Option ℕ) {α : Type} {Q : α → SP F}

theorem W_issue (hN : 0 < N) {T : ℕ} (hT : T * 32 + 32 ≤ R) {o5 : Fin 1 → ℕ} {o6 : Fin 3 → ℕ} {o7 : Fin 2 → ℕ} {i5 : ∀ a, o5 a + S1.size a ≤ S16.size a}
    {i6 : ∀ a, o6 a + (⟨3, ![1, 32, N]⟩ : Shape).size a ≤ (⟨3, ![16, 32, N]⟩ : Shape).size a}
    {i7 : ∀ a, o7 a + (⟨2, ![32, N]⟩ : Shape).size a ≤ (⟨2, ![R, N]⟩ : Shape).size a}
    (e5 : o5 = ![k.val]) (e6 : o6 = ![k.val, 0, 0]) (e7 : o7 = ![T * 32, 0]) {s6 s7 h1 h2 h3} {K : PUnit → PR F α} :
    idle1 m hq big sems k c q Y
      ⊢ iprop((busy1 m hq big sems k c q Y hT -∗ W c bd (K ⟨⟩) Q)
        -∗ W c bd (Prog.lift (.enqueueDma (big.slice (Rect.unit (s := ⟨2, ![R, N]⟩) o7 (⟨2, ![32, N]⟩ : Shape).size i7) s7)
            (.here ((m.slice (Rect.unit (s := ⟨3, ![16, 32, N]⟩) o6 (⟨3, ![1, 32, N]⟩ : Shape).size i6) s6).squeeze ⟨2, ![32, N]⟩ hq))
            (.dma ((sems.slice (Rect.unit (s := S16) o5 S1.size i5)).squeeze S_ squeezes_S1_S_).sem) h1 h2 h3) >>= K) Q) := by
  subst e5 e6 e7
  unfold idle1
  iintro ⟨⟨%X, Hd⟩, Hv, Hb⟩ HK
  ihave ⟨Hs, Hr⟩ := (owns_slice_split (c : Thread nD τ) big q
    (Rect.unit (s := ⟨2, ![R, N]⟩) ![T * 32, 0] (⟨2, ![32, N]⟩ : Shape).size (tile_inb hT)) (fun _ => rfl) Y) $$ Hb
  iapply (W_dma c bd (src := tileM big hT) (dst := slotM m hq k) (sem := semM sems k) (X := tileC Y hT) (X' := X) ?_) $$ [Hs Hd Hv]
  · show 0 < (⟨2, ![32, N]⟩ : Shape).numel
    apply Nat.pos_of_ne_zero
    simp [Shape.numel, Fin.prod_univ_two]
    omega
  · isplitl [Hs]; · iexact Hs
    isplitl [Hd]; · iexact Hd
    iexact Hv
  iintro HF
  iapply HK
  unfold busy1
  isplitl [HF]; · iexact HF
  iexact Hr

theorem W_waitS {T : ℕ} (hT : T * 32 + 32 ≤ R) {o5 : Fin 1 → ℕ} {o6 : Fin 3 → ℕ} {i5 : ∀ a, o5 a + S1.size a ≤ S16.size a}
    {i6 : ∀ a, o6 a + (⟨3, ![1, 32, N]⟩ : Shape).size a ≤ (⟨3, ![16, 32, N]⟩ : Shape).size a}
    (e5 : o5 = ![k.val]) (e6 : o6 = ![k.val, 0, 0]) {sp' : Space} {s' : Shape} {e' : EltTy} {srcw : Memref sig .tc sp' s' e'} {s6 h1 h2} {K : PUnit → PR F α} :
    iprop(busy1 m hq big sems k c q Y hT ∗ ow c)
      ⊢ iprop((iprop(owns (c : Thread nD τ) (slotM m hq k) fullShare (tileC Y hT) ∗ semVal ((c : Thread nD τ), .dma (semM sems k)) 0
            ∗ owns (c : Thread nD τ) big q Y ∗ ow c) -∗ W c bd (K ⟨⟩) Q)
        -∗ W c bd (Prog.lift (.waitDma2 ((sems.slice (Rect.unit (s := S16) o5 S1.size i5)).squeeze S_ squeezes_S1_S_).sem srcw
            ((m.slice (Rect.unit (s := ⟨3, ![16, 32, N]⟩) o6 (⟨3, ![1, 32, N]⟩ : Shape).size i6) s6).squeeze ⟨2, ![32, N]⟩ hq) h1 h2) >>= K) Q) := by
  subst e5 e6
  unfold busy1
  iintro ⟨⟨HF, ⟨%f, %hf, Hr⟩⟩, HO⟩ HK
  iapply (W_wait c bd (dstw := slotM m hq k) (sem := semM sems k)) $$ [HF HO]
  · isplitl [HF]; · iexact HF
    iexact HO
  iintro ⟨⟨Hd, Hs⟩, Hv, HO⟩
  iapply HK
  isplitl [Hd]; · iexact Hd
  isplitl [Hv]; · iexact Hv
  isplitl [Hs Hr]
  · have e1 : Y = (Rect.unit (s := ⟨2, ![R, N]⟩) ![T * 32, 0] (⟨2, ![32, N]⟩ : Shape).size (tile_inb hT)).overlay (big.view.read (Elt F) f) (tileC Y hT) := by
      funext x
      by_cases hx : x ∈ (Rect.unit (s := ⟨2, ![R, N]⟩) ![T * 32, 0] (⟨2, ![32, N]⟩ : Shape).size (tile_inb hT)).set
      · obtain ⟨y, rfl⟩ := LoadRect.exists_idx_of_mem _ hx
        exact (Rect.overlay_emb (Rect.unit (s := ⟨2, ![R, N]⟩) ![T * 32, 0] (⟨2, ![32, N]⟩ : Shape).size (tile_inb hT)) (big.view.read (Elt F) f) (tileC Y hT) y).symm
      · rw [Rect.overlay_of_not_mem _ _ _ hx, hf]
    conv_rhs => rw [e1]
    iapply (owns_slice_join (c : Thread nD τ) big q
      (Rect.unit (s := ⟨2, ![R, N]⟩) ![T * 32, 0] (⟨2, ![32, N]⟩ : Shape).size (tile_inb hT)) (fun _ => rfl) (tileC Y hT) f)
    isplitl [Hs]; · iexact Hs
    iexact Hr
  · iexact HO

end

end Cert.KernelIdeal.M
-- ==== Proof.KI.TopUp.lean ====
module

public import proofs.«01_k».proof.Proof.KI.Slots

@[expose] public section

noncomputable section

/-
  Issuing: one item, the issuing loop, and filling the queue.
-/
namespace Cert.KernelIdeal.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]
open Facts₀ Facts

/-- What the lists' two blocks hold at a step. -/
structure Ents (L : Lists) (t : ℕ) (X3 X4 : S1x4x128.Idx → BitVec 32) : Prop where
  cur : ∀ x, (x 2).val < L.cnt (4 * t + (x 1).val) → X3 x = nw (L.ent (4 * t + (x 1).val) (x 2).val)
  nxt : t + 1 < 256 → ∀ x, (x 2).val < L.cnt (4 * t + 4 + (x 1).val) → X4 x = nw (L.ent (4 * t + 4 + (x 1).val) (x 2).val)

theorem off3_eq {s j : ℕ} (hs : s ≤ 8) (hj : j ≤ 128) : k0_off3 (nw s) (nw j) = ![0, if s < 4 then s else 0, j] := by
  unfold k0_off3
  simp only [Scalar.indexCast]
  rw [show (4#32 : BitVec 32) = nw 4 from rfl, show (0#32 : BitVec 32) = nw 0 from rfl, s_slt (by omega) (by omega), s_select', nw_toNat (by split <;> omega),
    nw_toNat (by omega)]

theorem off4_eq {s j : ℕ} (hs : s ≤ 8) (hj : j ≤ 128) : k0_off4 (nw s) (nw j) = ![0, if s < 4 then 0 else s - 4, j] := by
  unfold k0_off4
  simp only [Scalar.indexCast]
  rw [show (4#32 : BitVec 32) = nw 4 from rfl, show (0#32 : BitVec 32) = nw 0 from rfl, s_slt (by omega) (by omega), s_select, nw_toNat (n := j) (by omega)]
  split
  · rw [nw_toNat (by omega)]
  · rw [s_subi (by omega) (by omega), nw_toNat (by omega)]

theorem chk2_ok {s j : ℕ} (hs : s < 8) (hj : j < 128) : k0_chk2 (nw s) (nw j) := by
  refine ⟨fun a => ?_, fun a => ?_⟩
  · rw [off3_eq (by omega) (by omega)]
    fin_cases a
    · show 0 + 1 ≤ 1; decide
    · show (if s < 4 then s else 0) + 1 ≤ 4; split <;> omega
    · show j + 1 ≤ 128; omega
  · rw [off4_eq (by omega) (by omega)]
    fin_cases a
    · show 0 + 1 ≤ 1; decide
    · show (if s < 4 then 0 else s - 4) + 1 ≤ 4; split <;> omega
    · show j + 1 ≤ 128; omega

section
variable {L : Lists} {t : ℕ} {X3 X4 : S1x4x128.Idx → BitVec 32} (hE : Ents L t X3 X4)

include hE in
/-- The entry the scan stands at. -/
theorem entry_read {s j : ℕ} (hs : s < Lists.top t) (hj : j < L.cnt (4 * t + s)) {o1 o2 : Fin 3 → ℕ} {ho1 ho2}
    (e1 : o1 = ![0, if s < 4 then s else 0, j]) (e2 : o2 = ![0, if s < 4 then 0 else s - 4, j]) (y : S1x1x1.Idx) :
    (Scalar.select (Scalar.cmpi .slt (nw s) 4#32) (X3 ((Rect.unit (s := S1x4x128) o1 S1x1x1.size ho1).idx y) : BitVec 32)
      (X4 ((Rect.unit (s := S1x4x128) o2 S1x1x1.size ho2).idx y))) = nw (L.ent (4 * t + s) j) := by
  have h := top_le t
  have hy1 : (y 1).val < 1 := (y 1).isLt
  have hy2 : (y 2).val < 1 := (y 2).isLt
  rw [show (4#32 : BitVec 32) = nw 4 from rfl, s_slt (by omega) (by omega), s_select]
  by_cases h4 : s < 4
  · have c1 : ((Rect.unit (s := S1x4x128) o1 S1x1x1.size ho1).idx y 1).val = s := by
      rw [LoadRect.idx_apply]; subst e1
      show (if s < 4 then s else 0) + 1 * (y 1).val = s
      rw [if_pos h4]; omega
    have c2 : ((Rect.unit (s := S1x4x128) o1 S1x1x1.size ho1).idx y 2).val = j := by
      rw [LoadRect.idx_apply]; subst e1
      show j + 1 * (y 2).val = j
      omega
    rw [if_pos h4, hE.cur _ (by rw [c1, c2]; exact hj), c1, c2]
  · have ht : t + 1 < 256 := by
      by_contra hn; unfold Lists.top at hs; rw [if_neg hn] at hs; omega
    have c1 : ((Rect.unit (s := S1x4x128) o2 S1x1x1.size ho2).idx y 1).val = s - 4 := by
      rw [LoadRect.idx_apply]; subst e2
      show (if s < 4 then 0 else s - 4) + 1 * (y 1).val = s - 4
      rw [if_neg h4]; omega
    have c2 : ((Rect.unit (s := S1x4x128) o2 S1x1x1.size ho2).idx y 2).val = j := by
      rw [LoadRect.idx_apply]; subst e2
      show j + 1 * (y 2).val = j
      omega
    have e4 : 4 * t + 4 + (s - 4) = 4 * t + s := by omega
    rw [if_neg h4, hE.nxt ht _ (by rw [c1, c2, e4]; exact hj), c1, c2, e4]

end

/-- The words of an entry the scan has read. -/
theorem cond3_eq {v67 v73 v78 : BitVec 32} {E : ℕ} (h : Scalar.select (Scalar.cmpi .slt v67 4#32) v73 v78 = nw E) (hE : E < 498112) :
    k0_cond3 v67 v73 v78 = BitVec.ofBool (decide (E / 64 < 7782)) := by
  unfold k0_cond3
  simp only [h]
  rw [s_shrsi6 (by omega), show (7782#32 : BitVec 32) = nw 7782 from rfl, s_slt (by omega) (by omega), s_ext_ne]

theorem off7_eq {v67 v73 v78 : BitVec 32} {E : ℕ} (h : Scalar.select (Scalar.cmpi .slt v67 4#32) v73 v78 = nw E) (hE : E < 498112) :
    k0_off7 v67 v73 v78 = ![E / 64 * 32, 0] := by
  unfold k0_off7
  simp only [h]
  rw [s_shrsi6 (by omega), show (32#32 : BitVec 32) = nw 32 from rfl, s_muli, nw_toNat (by omega)]

theorem off9_eq {v67 v73 v78 : BitVec 32} {E : ℕ} (h : Scalar.select (Scalar.cmpi .slt v67 4#32) v73 v78 = nw E) (hE : E < 498112) :
    k0_off9 v67 v73 v78 = ![E / 64 * 32, 0] := off7_eq h hE

theorem mult1_eq {v67 v73 v78 : BitVec 32} {E : ℕ} (h : Scalar.select (Scalar.cmpi .slt v67 4#32) v73 v78 = nw E) (hE : E < 498112) :
    (k0_mult1 v67 v73 v78).toNat = E / 64 * 32 := by
  unfold k0_mult1
  simp only [h]
  rw [s_shrsi6 (by omega), show (32#32 : BitVec 32) = nw 32 from rfl, s_muli, nw_toNat (by omega)]

theorem off5_eq {I : ℕ} (hI : I < 2 ^ 31) : k0_off5 (nw I) = ![I % 16] := by
  unfold k0_off5
  simp only
  rw [s_remsi16 hI, nw_toNat (by omega)]
theorem off6_eq {I : ℕ} (hI : I < 2 ^ 31) : k0_off6 (nw I) = ![I % 16, 0, 0] := by
  unfold k0_off6
  simp only
  rw [s_remsi16 hI, nw_toNat (by omega)]
theorem off8_eq {I : ℕ} (hI : I < 2 ^ 31) : k0_off8 (nw I) = ![I % 16, 0, 0] := off6_eq hI

theorem chk3_ok {v67 v73 v78 : BitVec 32} {E : ℕ} (h : Scalar.select (Scalar.cmpi .slt v67 4#32) v73 v78 = nw E) (hE : E < 498112) : k0_chk3 v67 v73 v78 := by
  have hc : k0_cond3 v67 v73 v78 = 1#1 → E / 64 < 7782 := fun hc => by rwa [cond3_eq h hE, ofBool_eq_one] at hc
  refine ⟨fun h3 => ?_, fun h3 a => ?_, fun h3 hinb => ?_, fun h3 a => ?_⟩
  · rw [mult1_eq h hE]; exact Nat.dvd_mul_left _ _
  · have := hc h3
    rw [off7_eq h hE]
    fin_cases a
    · show E / 64 * 32 + 32 ≤ 249037; omega
    · show 0 + 3072 ≤ 3072; decide
  · have := hc h3
    refine .inl (.inr ⟨by decide, rfl, .inl ⟨?_, by show (4 : ℕ) ∣ 32; decide⟩⟩)
    show EltTy.packing .fp8e4m3 ∣ k0_off7 v67 v73 v78 0
    rw [off7_eq h hE]
    show 4 ∣ E / 64 * 32
    omega
  · have := hc h3
    rw [off9_eq h hE]
    fin_cases a
    · show E / 64 * 32 + 32 ≤ 249037; omega
    · show 0 + 24 ≤ 24; decide

theorem rows_words {o : Fin 3 → ℕ} {n : ℕ} (ho : o = ![n, 0, 0]) (hinb : ∀ a, o a + S1x32x3072.size a ≤ S16x32x3072.size a) :
    (Rect.unit (s := S16x32x3072) o S1x32x3072.size hinb).PackedRows (EltTy.packing .fp8e4m3) := by
  subst ho
  exact .inr ⟨by decide, rfl, .inl ⟨Nat.dvd_zero _, by show (4 : ℕ) ∣ 32; decide⟩⟩

theorem chk4_ok {v67 v73 v78 : BitVec 32} {I : ℕ} (hI : I < 2 ^ 31) : k0_chk4 v67 v73 v78 (nw I) := by
  have : I % 16 < 16 := Nat.mod_lt _ (by decide)
  refine ⟨fun h3 a => ?_, fun h3 a => ?_, fun h3 hinb => (rows_words (off6_eq hI) hinb).wholeWords, fun h3 a => ?_⟩
  · rw [off5_eq hI]
    fin_cases a
    show I % 16 + 1 ≤ 16; omega
  · rw [off6_eq hI]
    fin_cases a
    · show I % 16 + 1 ≤ 16; omega
    · show 0 + 32 ≤ 32; decide
    · show 0 + 3072 ≤ 3072; decide
  · rw [off8_eq hI]
    fin_cases a
    · show I % 16 + 1 ≤ 16; omega
    · show 0 + 32 ≤ 32; decide
    · show 0 + 24 ≤ 24; decide

theorem W_rdn (c : Dev nD) (bd : Option ℕ) {α : Type} {Q : α → SP F} {arg19 : Memref sig .tc .smem S4 .i32} {off : Fin 1 → ℕ} {hoff : ∀ b, off b + S1.size b ≤ S4.size b}
    {k : BitVec 32 → PR F α} {v : Fin 4 → ℕ} (a : Fin 4) (n : ℕ) (ho : off 0 = a.val) (hv : v a = n) :
    owns (c : Thread nD τ) arg19 fullShare (stV v : S4.Idx → Elt F .i32)
      ⊢ iprop((owns (c : Thread nD τ) arg19 fullShare (stV v : S4.Idx → Elt F .i32) -∗ W c bd (k (nw n)) Q)
        -∗ W c bd ((smemLoad arg19 (Rect.unit (s := S4) off S1.size hoff) numel1_S1 rfl : PR F (Elt F .i32)) >>= k) Q) := by
  subst hv; exact W_rdw c bd a ho

theorem W_wrn (c : Dev nD) (bd : Option ℕ) {α : Type} {Q : α → SP F} {arg19 : Memref sig .tc .smem S4 .i32} {off : Fin 1 → ℕ} {hoff : ∀ b, off b + S1.size b ≤ S4.size b}
    {k : PUnit → PR F α} {v : Fin 4 → ℕ} (a : Fin 4) (n : ℕ) (v' : Fin 4 → ℕ) (ho : off 0 = a.val) (hv : Function.update v a n = v') {w : BitVec 32} (hw : w = nw n)
    {hx : (arg19.access (Rect.unit (s := S4) off S1.size hoff)).Stores Finset.univ} {hm} :
    owns (c : Thread nD τ) arg19 fullShare (stV v : S4.Idx → Elt F .i32)
      ⊢ iprop((owns (c : Thread nD τ) arg19 fullShare (stV v' : S4.Idx → Elt F .i32) -∗ W c bd (k ⟨⟩) Q)
        -∗ W c bd (Prog.lift (.store arg19 (Rect.unit (s := S4) off S1.size hoff) (fun _ => w) Finset.univ hx hm) >>= k) Q) := by
  subst hv hw; exact W_wrw c bd (n := n) a ho

theorem upd0 (a b d e n : ℕ) : Function.update ![a, b, d, e] (0 : Fin 4) n = ![n, b, d, e] := by funext x; fin_cases x <;> rfl
theorem upd1 (a b d e n : ℕ) : Function.update ![a, b, d, e] (1 : Fin 4) n = ![a, n, d, e] := by funext x; fin_cases x <;> rfl
theorem upd2 (a b d e n : ℕ) : Function.update ![a, b, d, e] (2 : Fin 4) n = ![a, b, n, e] := by funext x; fin_cases x <;> rfl
theorem upd3 (a b d e n : ℕ) : Function.update ![a, b, d, e] (3 : Fin 4) n = ![a, b, d, n] := by funext x; fin_cases x <;> rfl

section
variable (i : grid0.Coords) (arg3 : Memref sig .tc .smem S1x4x128 .i32) (harg3 : arg3.IsWhole) (arg4 : Memref sig .tc .smem S1x4x128 .i32) (harg4 : arg4.IsWhole)
  (arg5 : Memref sig .tc .smem S1x1x4 .i32) (harg5 : arg5.IsWhole) (arg6 : Memref sig .tc .smem S1x1x4 .i32) (harg6 : arg6.IsWhole)
  (arg10 : Memref sig .tc .hbm S249037x3072 .fp8e4m3) (harg10 : arg10.IsWhole) (arg11 : Memref sig .tc .hbm S249037x24 .f32) (harg11 : arg11.IsWhole)
  (arg15 : Memref sig .tc .vmem S16x32x3072 .fp8e4m3) (harg15 : arg15.IsWhole) (arg16 : Memref sig .tc .vmem S16x32x24 .f32) (harg16 : arg16.IsWhole)
  (arg17 arg18 : DmaSems sig S16) (arg19 : Memref sig .tc .smem S4 .i32) (harg19 : arg19.IsWhole)

/-- What the fixed operands hold. -/
structure Cts (F : FTy → Type) where
  X3 : S1x4x128.Idx → Elt F .i32
  X4 : S1x4x128.Idx → Elt F .i32
  X5 : S1x1x4.Idx → Elt F .i32
  X6 : S1x1x4.Idx → Elt F .i32
  Y : S249037x3072.Idx → Elt F .fp8e4m3
  Sc : S249037x24.Idx → Elt F .f32
  q : Fin 16 → PosShare TreeShare

variable (C : Cts F) (L : Lists) (c : Dev nD)

/-- A slot with what it has in flight. -/
def slotR (k : Fin 16) (o : Option ℕ) : SP F :=
  match o with
  | none => iprop(idle1 arg15 squeezes_S1x32x3072_S32x3072 arg10 arg17 k c (C.q k) C.Y ∗ idle1 arg16 squeezes_S1x32x24_S32x24 arg11 arg18 k c (C.q k) C.Sc)
  | some T => iprop(∃ hT : T * 32 + 32 ≤ 249037, busy1 arg15 squeezes_S1x32x3072_S32x3072 arg10 arg17 k c (C.q k) C.Y hT
      ∗ busy1 arg16 squeezes_S1x32x24_S32x24 arg11 arg18 k c (C.q k) C.Sc hT)

/-- The ring. -/
def ring (f : Fin 16 → Option ℕ) : SP F := bigSep Finset.univ fun k => slotR arg10 arg11 arg15 arg16 arg17 arg18 C c k (f k)

/-- The scanned blocks and the queue. -/
def QR (I D s j : ℕ) : SP F :=
  iprop(owns (c : Thread nD τ) arg3 fullShare C.X3 ∗ owns (c : Thread nD τ) arg4 fullShare C.X4 ∗ owns (c : Thread nD τ) arg5 fullShare C.X5
    ∗ owns (c : Thread nD τ) arg6 fullShare C.X6 ∗ owns (c : Thread nD τ) arg19 fullShare (stV ![I, D, s, j] : S4.Idx → Elt F .i32)
    ∗ ∃ f, ⌜L.Slots I D f⌝ ∗ ring arg10 arg11 arg15 arg16 arg17 arg18 C c f)

omit [Facts] in
theorem ring_take (P : Fin 16 → Option ℕ → SP F) (f : Fin 16 → Option ℕ) (k : Fin 16) :
    bigSep Finset.univ (fun x => P x (f x)) ⊢ iprop(P k (f k) ∗ ∀ o, P k o -∗ bigSep Finset.univ (fun x => P x (Function.update f k o x))) := by
  have e1 : ∀ g : Fin 16 → SP F, bigSep Finset.univ g = iprop(g k ∗ bigSep (Finset.univ.erase k) g) := by
    intro g
    conv_lhs => rw [← Finset.insert_erase (Finset.mem_univ k)]
    exact bigSep_insert (Finset.notMem_erase _ _)
  rw [e1]
  iintro ⟨H1, H2⟩
  isplitl [H1]; · iexact H1
  iintro %o Ho
  rw [e1, Function.update_self, show bigSep (Finset.univ.erase k) (fun x => P x (Function.update f k o x)) = bigSep (Finset.univ.erase k) (fun x => P x (f x)) from
    bigSep_congr fun x hx => by rw [Function.update_of_ne (Finset.ne_of_mem_erase hx)]]
  isplitl [Ho]; · iexact Ho
  iexact H2

variable (hE : Ents L (stp i) C.X3 C.X4) (hC : Counts L (stp i) C.X5 C.X6)
  (callSkip : (v67 v68 : Elt F .i32) → k0_chk2 v67 v68 → (v73 v78 : Elt F .i32) → k0_chk3 v67 v73 v78 → (v81 : Elt F .i32) → k0_chk4 v67 v73 v78 v81 → BitVec 32 → BitVec 32 → PR F (BitVec 32 × BitVec 32))
  (hskip : ∀ v67 v68 h2 v73 v78 h3 v81 h4 (c : Dev nD) (bd : Option ℕ) (v : ℕ), (∀ u ∈ bd, v < u) → ∀ (a b : BitVec 32) (Q : BitVec 32 × BitVec 32 → SP F),
    W c (some v) (skipBody i arg5 harg5 arg6 harg6 (callSkip v67 v68 h2 v73 v78 h3 v81 h4) a b) Q ⊢ W c bd (callSkip v67 v68 h2 v73 v78 h3 v81 h4 a b) Q)

include hE hC hskip in
theorem canWin_spec {arg20 : BitVec 1} {I D s j : ℕ} (bd : Option ℕ) (hbd : ∀ u ∈ bd, 8 < u) (hD : D ≤ I) (hI : I < D + 16) (hs : s < Lists.top (stp i))
    (hj : j < L.cnt (4 * stp i + s)) (hIe : I = L.P (4 * stp i + s) + j) (Q : (Σ' (v94 : BitVec 1) (v97_0 : BitVec 32), BitVec 32) → SP F) :
    iprop(QR arg3 arg4 arg5 arg6 arg10 arg11 arg15 arg16 arg17 arg18 arg19 C L c I D s j
      ∗ (∀ s', ∀ j', ⌜L.At (stp i) s' j' ∧ L.P (4 * stp i + s') + j' = I + 1⌝
          -∗ QR arg3 arg4 arg5 arg6 arg10 arg11 arg15 arg16 arg17 arg18 arg19 C L c (I + 1) D s (j + 1)
          -∗ Q ⟨BitVec.ofBool (decide (I + 1 - D < 16)), nw s', nw j'⟩))
      ⊢ W c bd (canWin i arg19 harg19 arg3 harg3 arg4 harg4 arg17 arg15 harg15 arg10 harg10 arg18 arg16 harg16 arg11 harg11 arg5 harg5 arg6 harg6 arg20 callSkip) Q := by
  have htop := top_le (stp i)
  have hcnt := L.cnt_le (4 * stp i + s)
  have hP := L.P_le (4 * stp i + s)
  have hitem : L.item I = L.ent (4 * stp i + s) j := by rw [hIe]; exact L.item_at hj
  have hlt := L.ent_lt _ _ hj
  unfold QR canWin
  iintro ⟨⟨H3, H4, H5, H6, H19, ⟨%f, %hf, HR⟩⟩, HQ⟩
  iapply (W_rdn c bd 2 s rfl rfl) $$ H19
  iintro H19
  iapply (W_rdn c bd 3 j rfl rfl) $$ H19
  iintro H19
  iapply (W_assume c bd (chk2_ok (by omega) (by omega)))
  iapply (W_smem c bd) $$ H3
  iintro H3
  iapply (W_smem c bd) $$ H4
  iintro H4
  have hent := fun ho1 ho2 y => entry_read hE hs hj (ho1 := ho1) (ho2 := ho2) (off3_eq (s := s) (j := j) (by omega) (by omega)) (off4_eq (by omega) (by omega)) y
  iapply (W_assume c bd (chk3_ok (hent _ _ _) hlt))
  iapply (W_rdn c bd 0 I rfl rfl) $$ H19
  iintro H19
  iapply (W_assume c bd (chk4_ok (I := I) (by omega)))
  have hiss := Lists.Slots.issue hf hI hD
  unfold ring
  ihave ⟨Hk, HR⟩ := (ring_take (slotR arg10 arg11 arg15 arg16 arg17 arg18 C c) f ⟨I % 16, Nat.mod_lt _ (by decide)⟩) $$ HR
  ispecialize HR $$ %(L.tl I)
  rw [hiss.1]
  unfold slotR
  icases Hk with ⟨Hk1, Hk2⟩
  by_cases hT : L.ent (4 * stp i + s) j / 64 < 7782
  · have htl : L.tl I = some (L.ent (4 * stp i + s) j / 64) := by unfold Lists.tl Lists.tile; rw [hitem, if_pos hT]
    rw [dif_pos (show k0_cond3 _ _ _ = 1#1 by rw [cond3_eq (hent _ _ _) hlt, ofBool_eq_one]; exact hT)]
    have hT' : L.ent (4 * stp i + s) j / 64 * 32 + 32 ≤ 249037 := by omega
    iapply (W_issue arg15 squeezes_S1x32x3072_S32x3072 arg10 arg17 ⟨I % 16, Nat.mod_lt _ (by decide)⟩ c (C.q _) C.Y bd (by decide) hT' (off5_eq (by omega)) (off6_eq (by omega))
      (off7_eq (hent _ _ _) hlt)) $$ Hk1
    iintro Hk1
    iapply (W_issue arg16 squeezes_S1x32x24_S32x24 arg11 arg18 ⟨I % 16, Nat.mod_lt _ (by decide)⟩ c (C.q _) C.Sc bd (by decide) hT' (off5_eq (by omega)) (off8_eq (by omega))
      (off9_eq (hent _ _ _) hlt)) $$ Hk2
    iintro Hk2
    rw [htl] at hiss
    rw [htl]
    ihave HR := HR $$ [Hk1 Hk2]
    · iexists hT'
      isplitl [Hk1]; · iexact Hk1
      iexact Hk2
    iapply (W_rdn c bd 0 I rfl rfl) $$ H19
    iintro H19
    iapply (W_rdn c bd 0 I rfl rfl) $$ H19
    iintro H19
    iapply (W_wrn c bd 0 (I + 1) _ rfl (upd0 _ _ _ _ _) (s_addi I 1)) $$ H19
    iintro H19
    iapply (W_rdn c bd 3 j rfl rfl) $$ H19
    iintro H19
    iapply (W_wrn c bd 3 (j + 1) _ rfl (upd3 _ _ _ _ _) (s_addi j 1)) $$ H19
    iintro H19
    iapply (W_rdn c bd 0 (I + 1) rfl rfl) $$ H19
    iintro H19
    iapply (W_rdn c bd 1 D rfl rfl) $$ H19
    iintro H19
    iapply (W_rdn c bd 2 s rfl rfl) $$ H19
    iintro H19
    iapply (W_rdn c bd 3 (j + 1) rfl rfl) $$ H19
    iintro H19
    rw [W_bind]
    iapply (skip_spec i arg5 harg5 arg6 harg6 hC _ (hskip _ _ _ _ _ _ _ _) c 8 s (j + 1) bd (by omega) hbd (.inl ⟨hs, hj⟩))
    isplitl [H5]; · iexact H5
    isplitl [H6]; · iexact H6
    iintro %s' %j' %h H5 H6
    iapply (W_ret c bd)
    rw [show (16#32 : BitVec 32) = nw 16 from rfl, s_subi (by omega) (by omega), s_slt (by omega) (by omega)]
    iapply HQ $$ %s' %j' %⟨h.1, by rw [h.2]; omega⟩
    isplitl [H3]; · iexact H3
    isplitl [H4]; · iexact H4
    isplitl [H5]; · iexact H5
    isplitl [H6]; · iexact H6
    isplitl [H19]; · iexact H19
    iexists _
    isplitr
    · ipureintro; exact hiss.2
    · iexact HR
  · have htl : L.tl I = none := by unfold Lists.tl Lists.tile; rw [hitem, if_neg hT]
    rw [dif_neg (show ¬ k0_cond3 _ _ _ = 1#1 by rw [cond3_eq (hent _ _ _) hlt, ofBool_eq_one]; exact hT)]
    rw [htl] at hiss
    rw [htl]
    ihave HR := HR $$ [Hk1 Hk2]
    · isplitl [Hk1]; · iexact Hk1
      iexact Hk2
    iapply (W_rdn c bd 0 I rfl rfl) $$ H19
    iintro H19
    iapply (W_rdn c bd 0 I rfl rfl) $$ H19
    iintro H19
    iapply (W_wrn c bd 0 (I + 1) _ rfl (upd0 _ _ _ _ _) (s_addi I 1)) $$ H19
    iintro H19
    iapply (W_rdn c bd 3 j rfl rfl) $$ H19
    iintro H19
    iapply (W_wrn c bd 3 (j + 1) _ rfl (upd3 _ _ _ _ _) (s_addi j 1)) $$ H19
    iintro H19
    iapply (W_rdn c bd 0 (I + 1) rfl rfl) $$ H19
    iintro H19
    iapply (W_rdn c bd 1 D rfl rfl) $$ H19
    iintro H19
    iapply (W_rdn c bd 2 s rfl rfl) $$ H19
    iintro H19
    iapply (W_rdn c bd 3 (j + 1) rfl rfl) $$ H19
    iintro H19
    rw [W_bind]
    iapply (skip_spec i arg5 harg5 arg6 harg6 hC _ (hskip _ _ _ _ _ _ _ _) c 8 s (j + 1) bd (by omega) hbd (.inl ⟨hs, hj⟩))
    isplitl [H5]; · iexact H5
    isplitl [H6]; · iexact H6
    iintro %s' %j' %h H5 H6
    iapply (W_ret c bd)
    rw [show (16#32 : BitVec 32) = nw 16 from rfl, s_subi (by omega) (by omega), s_slt (by omega) (by omega)]
    iapply HQ $$ %s' %j' %⟨h.1, by rw [h.2]; omega⟩
    isplitl [H3]; · iexact H3
    isplitl [H4]; · iexact H4
    isplitl [H5]; · iexact H5
    isplitl [H6]; · iexact H6
    isplitl [H19]; · iexact H19
    iexists _
    isplitr
    · ipureintro; exact hiss.2
    · iexact HR

variable (call : BitVec 1 → PR F (BitVec 1))
  (hcan : ∀ (c : Dev nD) (bd : Option ℕ) (v : ℕ), (∀ u ∈ bd, v < u) → ∀ (a : BitVec 1) (Q : BitVec 1 → SP F),
    W c (some v) (canBody i arg19 harg19 arg3 harg3 arg4 harg4 arg17 arg15 harg15 arg10 harg10 arg18 arg16 harg16 arg11 harg11 arg5 harg5 arg6 harg6 a callSkip call) Q ⊢ W c bd (call a) Q)

include hE hC hskip hcan in
/-- The issuing loop fills the queue. -/
theorem can_spec : ∀ (n : ℕ) (I D s j : ℕ) (bd : Option ℕ), D + 16 - I ≤ n → (∀ u ∈ bd, 20 + n < u) → D ≤ I → I ≤ D + 16 → L.At (stp i) s j →
    I = L.P (4 * stp i + s) + j → ∀ Q : BitVec 1 → SP F,
    iprop(QR arg3 arg4 arg5 arg6 arg10 arg11 arg15 arg16 arg17 arg18 arg19 C L c I D s j
      ∗ (∀ I', ∀ s', ∀ j', ∀ a, ⌜L.Full (stp i) I' D s' j'⌝
          -∗ QR arg3 arg4 arg5 arg6 arg10 arg11 arg15 arg16 arg17 arg18 arg19 C L c I' D s' j' -∗ Q a))
      ⊢ W c bd (call (BitVec.ofBool (decide (I - D < 16 ∧ s < Lists.top (stp i))))) Q := by
  intro n
  induction n with
  | zero =>
    intro I D s j bd hn hbd hD hI hA hIe Q
    refine .trans ?_ (hcan c bd 20 hbd _ Q)
    unfold canBody
    rw [decide_eq_false (by omega)]
    iintro ⟨HR, HQ⟩
    iapply (W_ret c (some 20))
    iapply HQ $$ %I %s %j %_ %⟨hD, hI, hA, hIe, .inl (by omega)⟩ HR
  | succ n ih =>
    intro I D s j bd hn hbd hD hI hA hIe Q
    refine .trans ?_ (hcan c bd (20 + (n + 1)) hbd _ Q)
    have htop := top_le (stp i)
    by_cases hg : I - D < 16 ∧ s < Lists.top (stp i)
    · rw [decide_eq_true hg]
      unfold canBody
      refine .trans ?_ (Entails.of_eq (congrArg (fun p => W c (some (20 + (n + 1))) p Q) (if_pos rfl).symm))
      rw [W_bind]
      have hj : j < L.cnt (4 * stp i + s) := by rcases hA with h | h <;> omega
      iintro ⟨HR, HQ⟩
      iapply (canWin_spec i arg3 harg3 arg4 harg4 arg5 harg5 arg6 harg6 arg10 harg10 arg11 harg11 arg15 harg15 arg16 harg16 arg17 arg18 arg19 harg19 C L c hE hC callSkip hskip
        (some (20 + (n + 1))) (fun u hu => by cases hu; omega) hD (by omega) hg.2 hj hIe)
      isplitl [HR]; · iexact HR
      iintro %s' %j' %h HR
      have hs' : s' ≤ 8 := by rcases h.1 with h | h <;> omega
      unfold QR
      icases HR with ⟨H3, H4, H5, H6, H19, HR⟩
      iapply (W_rdn c _ 2 s rfl rfl) $$ H19
      iintro H19
      iapply (W_wrn c _ 2 s' _ rfl (upd2 _ _ _ _ _) rfl) $$ H19
      iintro H19
      iapply (W_rdn c _ 3 (j + 1) rfl rfl) $$ H19
      iintro H19
      iapply (W_wrn c _ 3 j' _ rfl (upd3 _ _ _ _ _) rfl) $$ H19
      iintro H19
      rw [top_word, s_slt (by omega) (by omega)]
      have ih' := ih (I + 1) D s' j' (some (20 + (n + 1))) (by omega) (fun u hu => by cases hu; omega) (by omega) (by omega) h.1 h.2.symm Q
      rw [← s_andi] at ih'
      unfold QR at ih'
      iapply ih'
      isplitl [H3 H4 H5 H6 H19 HR]
      · isplitl [H3]; · iexact H3
        isplitl [H4]; · iexact H4
        isplitl [H5]; · iexact H5
        isplitl [H6]; · iexact H6
        isplitl [H19]; · iexact H19
        iexact HR
      · iexact HQ
    · unfold canBody
      rw [decide_eq_false hg]
      iintro ⟨HR, HQ⟩
      iapply (W_ret c (some (20 + (n + 1))))
      have : I = D + 16 ∨ s = Lists.top (stp i) := by
        rcases hA with h | h
        · left; omega
        · right; exact h.1
      iapply HQ $$ %I %s %j %_ %⟨hD, hI, hA, hIe, this⟩ HR

variable (callSkip0 : BitVec 32 → BitVec 32 → PR F (BitVec 32 × BitVec 32))
  (hskip0 : ∀ (c : Dev nD) (bd : Option ℕ) (v : ℕ), (∀ u ∈ bd, v < u) → ∀ (a b : BitVec 32) (Q : BitVec 32 × BitVec 32 → SP F),
    W c (some v) (skipBody i arg5 harg5 arg6 harg6 callSkip0 a b) Q ⊢ W c bd (callSkip0 a b) Q)

include hE hC hskip hcan hskip0 in
/-- Filling the queue. -/
theorem topUp_spec {I D s j : ℕ} (hQ : L.Que (stp i) I D s j) {α : Type} (K : PR F α) (Q : α → SP F) :
    iprop(QR arg3 arg4 arg5 arg6 arg10 arg11 arg15 arg16 arg17 arg18 arg19 C L c I D s j
      ∗ (∀ I', ∀ s', ∀ j', ⌜L.Full (stp i) I' D s' j'⌝
          -∗ QR arg3 arg4 arg5 arg6 arg10 arg11 arg15 arg16 arg17 arg18 arg19 C L c I' D s' j' -∗ W c none K Q))
      ⊢ W c none (topUp arg19 (nw (Lists.top (stp i))) callSkip0 call K) Q := by
  obtain ⟨hI31, hD31, hs8, hj128⟩ := hQ.lt31
  obtain ⟨hD, hI, hok, hIe⟩ := hQ
  have htop := top_le (stp i)
  unfold topUp QR rdS wrS
  iintro ⟨⟨H3, H4, H5, H6, H19, HR⟩, HQ⟩
  iapply (W_rdn c _ 0 I rfl rfl) $$ H19
  iintro H19
  iapply (W_rdn c _ 1 D rfl rfl) $$ H19
  iintro H19
  iapply (W_rdn c _ 2 s rfl rfl) $$ H19
  iintro H19
  iapply (W_rdn c _ 3 j rfl rfl) $$ H19
  iintro H19
  rw [W_bind]
  iapply (skip_spec i arg5 harg5 arg6 harg6 hC _ hskip0 c 8 s j none (by omega) (fun u hu => by cases hu) hok)
  isplitl [H5]; · iexact H5
  isplitl [H6]; · iexact H6
  iintro %s' %j' %h H5 H6
  have hs' : s' ≤ 8 := by rcases h.1 with h | h <;> omega
  iapply (W_rdn c _ 2 s rfl rfl) $$ H19
  iintro H19
  iapply (W_wrn c _ 2 s' _ rfl (upd2 _ _ _ _ _) rfl) $$ H19
  iintro H19
  iapply (W_rdn c _ 3 j rfl rfl) $$ H19
  iintro H19
  iapply (W_wrn c _ 3 j' _ rfl (upd3 _ _ _ _ _) rfl) $$ H19
  iintro H19
  rw [W_bind, show (16#32 : BitVec 32) = nw 16 from rfl, s_subi hD (by omega), s_slt (by omega) (by omega), s_slt (by omega) (by omega)]
  have h2 := can_spec i arg3 harg3 arg4 harg4 arg5 harg5 arg6 harg6 arg10 harg10 arg11 harg11 arg15 harg15 arg16 harg16 arg17 arg18 arg19 harg19 C L c hE hC callSkip hskip call hcan
    16 I D s' j' none (by omega) (fun u hu => by cases hu) hD hI h.1 (by rw [h.2]; exact hIe)
  rw [← s_andi] at h2
  unfold QR at h2
  iapply h2
  isplitl [H3 H4 H5 H6 H19 HR]
  · isplitl [H3]; · iexact H3
    isplitl [H4]; · iexact H4
    isplitl [H5]; · iexact H5
    isplitl [H6]; · iexact H6
    isplitl [H19]; · iexact H19
    iexact HR
  iintro %I' %s2 %j2 %a %hF HR
  iapply HQ $$ %I' %s2 %j2 %hF HR

end

end Cert.KernelIdeal.M
-- ==== Proof.KI.Widen.lean ====
module

public import proofs.«01_k».proof.Proof.KI.TopUp

@[expose] public section

noncomputable section

/-
  Widening one item into `rows`.
-/
namespace Cert.KernelIdeal.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Facts]
open Facts₀ Facts

omit [Facts] in
theorem s_andi63 (E : ℕ) (hE : E < 2 ^ 31) : Scalar.andi (nw E) 63#32 = nw (E % 64) := by
  apply BitVec.eq_of_toNat_eq
  show (nw E &&& 63#32).toNat = _
  rw [BitVec.toNat_and, nw_toNat (by omega), nw_toNat (by omega), show (63 : ℕ) = 2 ^ 6 - 1 from rfl, Nat.and_two_pow_sub_one_eq_mod, nw_toNat (by omega)]

omit [Facts] in
theorem s_andi1 (E : ℕ) (hE : E < 2 ^ 31) : Scalar.andi (nw E) 1#32 = nw (E % 2) := by
  apply BitVec.eq_of_toNat_eq
  show (nw E &&& 1#32).toNat = _
  rw [BitVec.toNat_and, nw_toNat (by omega), nw_toNat (by omega), Nat.and_one_is_mod, nw_toNat (by omega)]

/-- The first row of the window item `E` is widened into. -/
def wbase (E : ℕ) : ℕ := (E % 64 * 64 + E / 64 % 2 * 32) * 25

theorem off19_eq {E : ℕ} (hE : E < 498112) (a b : ℕ) (ha : a ≤ 600) (hb : b < 25) : k0_off19 (nw E) (BitVec.ofNat 32 a) (BitVec.ofNat 32 b) = ![wbase E + a + b, 0] := by
  unfold k0_off19
  simp only [Scalar.indexCast]
  rw [s_andi63 _ (by omega), s_shrsi6 (by omega), s_andi1 _ (by omega), show (64#32 : BitVec 32) = nw 64 from rfl, show (32#32 : BitVec 32) = nw 32 from rfl,
    show (25#32 : BitVec 32) = nw 25 from rfl, show BitVec.ofNat 32 a = nw a from rfl, show BitVec.ofNat 32 b = nw b from rfl,
    s_muli, s_muli, s_addi, s_muli, s_addi, s_addi, nw_toNat (by omega)]
  rfl

theorem chk8_ok {E : ℕ} (hE : E < 498112) : k0_chk8 (nw E) := by
  intro r1 r2 a
  right
  have h1 := r1.isLt
  have h2 := r2.isLt
  rw [off19_eq hE _ _ (by omega) h2]
  unfold wbase
  fin_cases a
  · show (E % 64 * 64 + E / 64 % 2 * 32) * 25 + 200 * r1.val + r2.val + 25 * (8 - 1) < 102432
    omega
  · show 0 + 1 * (128 - 1) < 128
    decide

theorem cond4_eq {E : ℕ} (hE : E < 498112) : k0_cond4 (nw E) = BitVec.ofBool (decide (E / 64 < 7782)) := by
  unfold k0_cond4
  simp only
  rw [s_shrsi6 (by omega), show (7782#32 : BitVec 32) = nw 7782 from rfl, s_slt (by omega) (by omega), s_ext_ne]

theorem cond5_eq {E : ℕ} (hE : E < 498112) : k0_cond5 (nw E) = BitVec.ofBool (decide (7782 ≤ E / 64)) := by
  unfold k0_cond5
  simp only
  rw [s_shrsi6 (by omega), show (7782#32 : BitVec 32) = nw 7782 from rfl, s_sge (by omega) (by omega), s_ext_ne]

theorem off13_eq {D : ℕ} (hD : D < 2 ^ 31) : k0_off13 (nw D) = ![D % 16] := by
  unfold k0_off13
  simp only
  rw [s_remsi16 hD, nw_toNat (by omega)]
theorem off14_eq {D : ℕ} (hD : D < 2 ^ 31) : k0_off14 (nw D) = ![D % 16, 0, 0] := by
  unfold k0_off14
  simp only
  rw [s_remsi16 hD, nw_toNat (by omega)]
theorem off15_eq {D : ℕ} (hD : D < 2 ^ 31) : k0_off15 (nw D) = ![D % 16, 0, 0] := off14_eq hD
theorem off16_eq {D : ℕ} (hD : D < 2 ^ 31) : k0_off16 (nw D) = ![D % 16, 0, 0] := off14_eq hD
theorem off17_eq {D : ℕ} (hD : D < 2 ^ 31) : k0_off17 (nw D) = ![D % 16, 0, 0] := off14_eq hD
theorem off18_eq {D : ℕ} (hD : D < 2 ^ 31) : k0_off18 (nw D) = ![D % 16, 0, 0] := off14_eq hD
theorem offG_eq {D : ℕ} (hD : D < 2 ^ 31) (g : ℕ) : offG g (nw D) = ![D % 16, 0, 128 * g] := by
  unfold offG
  simp only [Scalar.indexCast]
  rw [s_remsi16 hD, nw_toNat (by omega)]
theorem offS_eq {D : ℕ} (hD : D < 2 ^ 31) (q : ℕ) : offS q (nw D) = ![D % 16, 8 * q, 0] := by
  unfold offS
  simp only [Scalar.indexCast]
  rw [s_remsi16 hD, nw_toNat (by omega)]

theorem inb3 {o : Fin 3 → ℕ} {n g A B N : ℕ} {g' : ℕ} (ho : o = ![n, g', g]) (hn : n < 16) (hA : g' + A ≤ 32) (hB : g + B ≤ N) :
    ∀ a, o a + (⟨3, ![1, A, B]⟩ : Shape).size a ≤ (⟨3, ![16, 32, N]⟩ : Shape).size a := by
  subst ho
  intro a
  fin_cases a
  · show n + 1 ≤ 16; omega
  · exact hA
  · exact hB

theorem chk7_ok {E D : ℕ} (hD : D < 2 ^ 31) : k0_chk7 (nw E) (nw D) := by
  have h16 : D % 16 < 16 := Nat.mod_lt _ (by decide)
  have hg : ∀ (g : ℕ) (o : Fin 3 → ℕ), o = offG g (nw D) → g < 24 → ∀ a, o a + S1x32x128.size a ≤ S16x32x3072.size a := fun g o ho hg =>
    inb3 (A := 32) (B := 128) (N := 3072) (ho.trans (offG_eq hD g)) h16 (by decide) (by omega)
  have hs : ∀ (g : ℕ) (o : Fin 3 → ℕ), o = offS g (nw D) → g < 4 → ∀ a, o a + S1x8x24.size a ≤ S16x32x24.size a := fun g o ho hg =>
    inb3 (A := 8) (B := 24) (N := 24) (ho.trans (offS_eq hD g)) h16 (by omega) (by decide)
  refine ⟨⟨fun _ a => ?_, fun _ => inb3 (A := 32) (B := 3072) (N := 3072) (off14_eq hD) h16 (by decide) (by decide), fun _ hinb => (rows_words (off14_eq hD) hinb).wholeWords,
    fun _ => inb3 (A := 32) (B := 24) (N := 24) (off15_eq hD) h16 (by decide) (by decide),
    fun _ => inb3 (A := 32) (B := 3072) (N := 3072) (off16_eq hD) h16 (by decide) (by decide), fun _ hinb => rows_words (off16_eq hD) hinb,
    fun _ => inb3 (A := 32) (B := 24) (N := 24) (off17_eq hD) h16 (by decide) (by decide),
    hg 0 _ rfl (by decide), hg 1 _ rfl (by decide), hg 2 _ rfl (by decide), hg 3 _ rfl (by decide), hg 4 _ rfl (by decide), hg 5 _ rfl (by decide),
    hg 6 _ rfl (by decide), hg 7 _ rfl (by decide), hg 8 _ rfl (by decide), hg 9 _ rfl (by decide), hg 10 _ rfl (by decide), hg 11 _ rfl (by decide),
    hg 12 _ rfl (by decide), hg 13 _ rfl (by decide), hg 14 _ rfl (by decide), hg 15 _ rfl (by decide), hg 16 _ rfl (by decide), hg 17 _ rfl (by decide),
    hg 18 _ rfl (by decide), hg 19 _ rfl (by decide), hg 20 _ rfl (by decide), hg 21 _ rfl (by decide), hg 22 _ rfl (by decide), hg 23 _ rfl (by decide),
    hs 0 _ rfl (by decide)⟩, hs 1 _ rfl (by decide), hs 2 _ rfl (by decide), hs 3 _ rfl (by decide)⟩
  rw [off13_eq hD]
  fin_cases a
  show D % 16 + 1 ≤ 16; omega

/-- `rows` after one store of eight rows. -/
def wst (v68 : BitVec 32) (h8 : k0_chk8 v68) (q : Fin 4) (g : Fin 25) (v : FVec F S8x128 .f32) (X : S102432x128.Idx → Elt F .f32) : S102432x128.Idx → Elt F .f32 :=
  Rect.overlay ⟨(⟨k0_off19 v68 (BitVec.ofNat 32 (200 * q.val)) (BitVec.ofNat 32 g.val), S8x128.size, ![25, 1], (k0_off19_inb v68 h8 q g)⟩ : LoadRect S102432x128), spos_25_1⟩ X
    (shapeCast S8x128 v shapeCasts_S8x128_S8x128)

/-- Group `g` of a tile's codes, widened. -/
def extG (A : S32x3072.Idx → Elt F .fp8e4m3) (g : Fin 24) : FVec F S32x128 .f32 :=
  extf .f32 (shapeCast S32x128 (fun x : S1x32x128.Idx => A (ix2 (⟨0 + (x 1).val, by have : (x 1).val < 32 := (x 1).isLt; omega⟩ : Fin 32)
    (⟨128 * g.val + (x 2).val, by have : (x 2).val < 128 := (x 2).isLt; have := g.isLt; omega⟩ : Fin 3072))) shapeCasts_S1x32x128_S32x128) bitsLt_fp8e4m3_f32

/-- Scales of rows `8 q …`, padded to whole rows. -/
def sclQ (S : S32x24.Idx → Elt F .f32) (q : Fin 4) : FVec F S8x128 .f32 :=
  concatenate S8x128 1 [⟨S8x24, shapeCast S8x24 (fun x : S1x8x24.Idx => S (ix2 (⟨8 * q.val + (x 1).val, by have : (x 1).val < 8 := (x 1).isLt; have := q.isLt; omega⟩ : Fin 32)
    (⟨0 + (x 2).val, by have : (x 2).val < 24 := (x 2).isLt; omega⟩ : Fin 24))) shapeCasts_S1x8x24_S8x24⟩,
    ⟨S8x104, broadcast S8x104 (Scalar.sitofp .f32 (0#32 : BitVec 32) : F .f32)⟩] concatenates_S8x24_S8x104_S8x128_d1

/-- `rows` after the last three stores of a group. -/
def rowsX (v68 : BitVec 32) (h8 : k0_chk8 v68) (g : Fin 25) (ext : FVec F S32x128 .f32) (v0 : FVec F S8x128 .f32) (X : S102432x128.Idx → Elt F .f32) : S102432x128.Idx → Elt F .f32 :=
  wst v68 h8 3 g (extractStridedSlice S8x128 ![24, 0] ext slices_S32x128_o24_0_S8x128) <|
  wst v68 h8 2 g (extractStridedSlice S8x128 ![16, 0] ext slices_S32x128_o16_0_S8x128) <|
  wst v68 h8 1 g v0 X

/-- `rows` after the last `n` groups. -/
def groupsX (v68 : BitVec 32) (h8 : k0_chk8 v68) (A : S32x3072.Idx → Elt F .fp8e4m3) : (n : ℕ) → n < 24 → (S102432x128.Idx → Elt F .f32) → S102432x128.Idx → Elt F .f32
  | 0, _, X => X
  | n + 1, hn, X => groupsX v68 h8 A n (by omega) <|
      rowsX v68 h8 ⟨24 - (n + 1), by omega⟩ (extG A ⟨24 - (n + 1), by omega⟩) (extractStridedSlice S8x128 ![8, 0] (extG A ⟨24 - (n + 1), by omega⟩) slices_S32x128_o8_0_S8x128) <|
      wst v68 h8 0 ⟨24 - (n + 1), by omega⟩ (extractStridedSlice S8x128 ![0, 0] (extG A ⟨24 - (n + 1), by omega⟩) slices_S32x128_o0_0_S8x128) X

/-- `rows` after a tile is widened into it. -/
def widX (v68 : BitVec 32) (h8 : k0_chk8 v68) (A : S32x3072.Idx → Elt F .fp8e4m3) (S : S32x24.Idx → Elt F .f32) (X : S102432x128.Idx → Elt F .f32) : S102432x128.Idx → Elt F .f32 :=
  wst v68 h8 3 24 (sclQ S 3) <| wst v68 h8 2 24 (sclQ S 2) <| wst v68 h8 1 24 (sclQ S 1) <| wst v68 h8 0 24 (sclQ S 0) <|
  groupsX v68 h8 A 23 (by decide) <|
  rowsX v68 h8 0 (extG A 0) (extractStridedSlice S8x128 ![8, 0] (extG A 0) slices_S32x128_o8_0_S8x128) <|
  wst v68 h8 0 0 (extractStridedSlice S8x128 ![0, 0] (extG A 0) slices_S32x128_o0_0_S8x128) X

section
variable (c : Dev nD) (bd : Option ℕ) {α : Type} {Q : α → SP F}
  (arg13 : Memref sig .tc .vmem S102432x128 .f32) (arg15 : Memref sig .tc .vmem S16x32x3072 .fp8e4m3) (arg16 : Memref sig .tc .vmem S16x32x24 .f32)

theorem W_wStore {v68 : BitVec 32} {h8 : k0_chk8 v68} {q : Fin 4} {g : Fin 25} {v : FVec F S8x128 .f32} {K : PR F α} {X : S102432x128.Idx → Elt F .f32} :
    owns (c : Thread nD τ) arg13 fullShare X ⊢ iprop((owns (c : Thread nD τ) arg13 fullShare (wst v68 h8 q g v X) -∗ W c bd K Q)
      -∗ W c bd (wStore arg13 v68 h8 q g v K) Q) := by
  unfold wStore
  iintro H HK
  iapply (W_loadb c bd) $$ H
  iintro H
  iapply (W_storeb c bd) $$ H
  iintro H
  iapply HK
  iexact H

theorem W_wRows {v68 : BitVec 32} {h8 : k0_chk8 v68} {g : Fin 25} {ext : FVec F S32x128 .f32} {v0 : FVec F S8x128 .f32} {K : PR F α} {X : S102432x128.Idx → Elt F .f32} :
    owns (c : Thread nD τ) arg13 fullShare X ⊢ iprop((owns (c : Thread nD τ) arg13 fullShare (rowsX v68 h8 g ext v0 X) -∗ W c bd K Q)
      -∗ W c bd (wRows arg13 v68 h8 g ext v0 K) Q) := by
  unfold wRows
  iintro H HK
  iapply (W_wStore c bd arg13) $$ H
  iintro H
  iapply (W_wStore c bd arg13) $$ H
  iintro H
  iapply (W_wStore c bd arg13) $$ H
  iintro H
  iapply HK
  iexact H

theorem W_wGroups {v68 : BitVec 32} {h8 : k0_chk8 v68} {D : ℕ} (hD : D < 2 ^ 31) {h7 : k0_chk7 v68 (nw D)} {A : S32x3072.Idx → Elt F .fp8e4m3} {K : PR F α} {sh : PosShare TreeShare} :
    ∀ (n : ℕ) (hn : n < 24) (X : S102432x128.Idx → Elt F .f32),
    iprop(owns (c : Thread nD τ) arg13 fullShare X ∗ owns (c : Thread nD τ) (slotM arg15 squeezes_S1x32x3072_S32x3072 ⟨D % 16, Nat.mod_lt _ (by decide)⟩) sh A)
      ⊢ iprop((owns (c : Thread nD τ) arg13 fullShare (groupsX v68 h8 A n hn X)
          -∗ owns (c : Thread nD τ) (slotM arg15 squeezes_S1x32x3072_S32x3072 ⟨D % 16, Nat.mod_lt _ (by decide)⟩) sh A -∗ W c bd K Q)
      -∗ W c bd (wGroups arg13 arg15 v68 h8 (nw D) h7 K n hn) Q) := by
  intro n
  induction n with
  | zero =>
    intro hn X
    unfold wGroups groupsX
    iintro ⟨H, HS⟩ HK
    iapply HK $$ H HS
  | succ n ih =>
    intro hn X
    unfold wGroups groupsX extG
    iintro ⟨H, HS⟩ HK
    iapply (W_slot_load (N := 3072) arg15 squeezes_S1x32x3072_S32x3072 ⟨D % 16, Nat.mod_lt _ (by decide)⟩ c bd (A := 32) (B := 128) 0 (128 * (24 - (n + 1))) (offG_eq hD _)
      (fun i => by have := i.isLt; omega) (fun i => by have := i.isLt; omega)) $$ HS
    iintro HS
    iapply (W_wStore c bd arg13) $$ H
    iintro H
    iapply (W_wRows c bd arg13) $$ H
    iintro H
    iapply (ih _ _) $$ [H HS]
    · isplitl [H]; · iexact H
      iexact HS
    iexact HK

theorem W_wScale {v68 : BitVec 32} {h8 : k0_chk8 v68} {D : ℕ} (hD : D < 2 ^ 31) {h7 : k0_chk7 v68 (nw D)} {S : S32x24.Idx → Elt F .f32} {K : PR F α} {sh : PosShare TreeShare}
    {q : Fin 4} {X : S102432x128.Idx → Elt F .f32} :
    iprop(owns (c : Thread nD τ) arg13 fullShare X ∗ owns (c : Thread nD τ) (slotM arg16 squeezes_S1x32x24_S32x24 ⟨D % 16, Nat.mod_lt _ (by decide)⟩) sh S)
      ⊢ iprop((owns (c : Thread nD τ) arg13 fullShare (wst v68 h8 q 24 (sclQ S q) X)
          -∗ owns (c : Thread nD τ) (slotM arg16 squeezes_S1x32x24_S32x24 ⟨D % 16, Nat.mod_lt _ (by decide)⟩) sh S -∗ W c bd K Q)
      -∗ W c bd (wScale arg13 arg16 v68 h8 (nw D) h7 q K) Q) := by
  unfold wScale sclQ
  iintro ⟨H, HS⟩ HK
  iapply (W_slot_load (N := 24) arg16 squeezes_S1x32x24_S32x24 ⟨D % 16, Nat.mod_lt _ (by decide)⟩ c bd (A := 8) (B := 24) (8 * q.val) 0 (offS_eq hD _)
    (fun i => by have := i.isLt; have := q.isLt; omega) (fun i => by have := i.isLt; omega)) $$ HS
  iintro HS
  iapply (W_wStore c bd arg13) $$ H
  iintro H
  iapply HK $$ H HS

end

/-- What the tail's codes come to in a slot. -/
def tailA (X8 : S32x3072.Idx → Elt F .fp8e4m3) : S32x3072.Idx → Elt F .fp8e4m3 :=
  fun x => shapeCast S1x32x3072 (shapeCast S32x3072 (fun y => X8 ((Rect.unit (s := S32x3072) ![0, 0] S32x3072.size inb_S32x3072_S32x3072_0_0).toLoadRect.idx y)) shapeCasts_S32x3072_S32x3072)
    shapeCasts_S32x3072_S1x32x3072 (ix3 (0 : Fin 1) (x 0) (x 1))

/-- What the tail's scales come to in a slot. -/
def tailS (X9 : S32x24.Idx → Elt F .f32) : S32x24.Idx → Elt F .f32 :=
  fun x => shapeCast S1x32x24 (fun y => X9 ((Rect.unit (s := S32x24) ![0, 0] S32x24.size inb_S32x24_S32x24_0_0).toLoadRect.idx y)) shapeCasts_S32x24_S1x32x24 (ix3 (0 : Fin 1) (x 0) (x 1))

/-- Tile `T`'s codes. -/
def codesOf (C : Cts F) (X8 : S32x3072.Idx → Elt F .fp8e4m3) (T : ℕ) : S32x3072.Idx → Elt F .fp8e4m3 :=
  if hT : T * 32 + 32 ≤ 249037 then tileC C.Y hT else tailA X8

/-- Tile `T`'s scales. -/
def scalesOf (C : Cts F) (X9 : S32x24.Idx → Elt F .f32) (T : ℕ) : S32x24.Idx → Elt F .f32 :=
  if hT : T * 32 + 32 ≤ 249037 then tileC C.Sc hT else tailS X9

section
variable (i : grid0.Coords)
    (arg3 : Memref sig .tc .smem S1x4x128 .i32) (harg3 : arg3.IsWhole) (arg4 : Memref sig .tc .smem S1x4x128 .i32) (harg4 : arg4.IsWhole)
    (arg5 : Memref sig .tc .smem S1x1x4 .i32) (harg5 : arg5.IsWhole) (arg6 : Memref sig .tc .smem S1x1x4 .i32) (harg6 : arg6.IsWhole)
    (arg8 : Memref sig .tc .vmem S32x3072 .fp8e4m3) (arg9 : Memref sig .tc .vmem S32x24 .f32)
    (arg10 : Memref sig .tc .hbm S249037x3072 .fp8e4m3) (harg10 : arg10.IsWhole) (arg11 : Memref sig .tc .hbm S249037x24 .f32) (harg11 : arg11.IsWhole)
    (arg13 : Memref sig .tc .vmem S102432x128 .f32)
    (arg15 : Memref sig .tc .vmem S16x32x3072 .fp8e4m3) (harg15 : arg15.IsWhole) (arg16 : Memref sig .tc .vmem S16x32x24 .f32) (harg16 : arg16.IsWhole)
    (arg17 arg18 : DmaSems sig S16) (arg19 : Memref sig .tc .smem S4 .i32) (harg19 : arg19.IsWhole)
    (C : Cts F) (L : Lists) (c : Dev nD)

/-- A slot holding a tile. -/
def slotD (k : Fin 16) (A : S32x3072.Idx → Elt F .fp8e4m3) (S : S32x24.Idx → Elt F .f32) : SP F :=
  iprop((owns (c : Thread nD τ) (slotM arg15 squeezes_S1x32x3072_S32x3072 k) fullShare A ∗ semVal ((c : Thread nD τ), .dma (semM arg17 k)) 0 ∗ owns (c : Thread nD τ) arg10 (C.q k) C.Y)
    ∗ (owns (c : Thread nD τ) (slotM arg16 squeezes_S1x32x24_S32x24 k) fullShare S ∗ semVal ((c : Thread nD τ), .dma (semM arg18 k)) 0 ∗ owns (c : Thread nD τ) arg11 (C.q k) C.Sc))

theorem wOpen_spec {off : Fin 3 → ℕ} {hoff : ∀ a, off a + S1x1x1.size a ≤ S1x4x128.size a} {E D : ℕ} (hent : ∀ y, C.X3 ((Rect.unit (s := S1x4x128) off S1x1x1.size hoff).idx y) = nw E)
    (hE : E < 498112) (hD : D < 2 ^ 31) {v : Fin 4 → ℕ} (hv : v 1 = D) {X8 : S32x3072.Idx → Elt F .fp8e4m3} {X9 : S32x24.Idx → Elt F .f32} {q8 q9 : PosShare TreeShare}
    {X : S102432x128.Idx → Elt F .f32} (Q : (Σ' (v68 : Elt F .i32) (k0_hw8 : k0_chk8 v68) (v71 : Elt F .i32) (k0_hw7 : k0_chk7 v68 v71) (v72 : BitVec 32) (v83 : BitVec 32) (v87 : FVec F S32x128 .f32), FVec F S8x128 .f32) → SP F) :
    iprop((owns (c : Thread nD τ) arg3 fullShare C.X3 ∗ owns (c : Thread nD τ) arg19 fullShare (stV v : S4.Idx → Elt F .i32) ∗ owns (c : Thread nD τ) arg8 q8 X8
        ∗ owns (c : Thread nD τ) arg9 q9 X9 ∗ owns (c : Thread nD τ) arg13 fullShare X
        ∗ slotR arg10 arg11 arg15 arg16 arg17 arg18 C c ⟨D % 16, Nat.mod_lt _ (by decide)⟩ (if E / 64 < 7782 then some (E / 64) else none) ∗ ow c)
      ∗ (∀ v72, ∀ v83,
          (owns (c : Thread nD τ) arg3 fullShare C.X3 ∗ owns (c : Thread nD τ) arg19 fullShare (stV v : S4.Idx → Elt F .i32) ∗ owns (c : Thread nD τ) arg8 q8 X8
            ∗ owns (c : Thread nD τ) arg9 q9 X9
            ∗ owns (c : Thread nD τ) arg13 fullShare (wst (nw E) (chk8_ok hE) 0 0 (extractStridedSlice S8x128 ![0, 0] (extG (codesOf C X8 (E / 64)) 0) slices_S32x128_o0_0_S8x128) X)
            ∗ slotD arg10 arg11 arg15 arg16 arg17 arg18 C c ⟨D % 16, Nat.mod_lt _ (by decide)⟩ (codesOf C X8 (E / 64)) (scalesOf C X9 (E / 64)) ∗ ow c)
          -∗ Q ⟨nw E, chk8_ok hE, nw D, chk7_ok hD, v72, v83, extG (codesOf C X8 (E / 64)) 0, extractStridedSlice S8x128 ![8, 0] (extG (codesOf C X8 (E / 64)) 0) slices_S32x128_o8_0_S8x128⟩))
      ⊢ W c none (wOpen arg3 arg8 arg9 arg10 harg10 arg11 arg13 arg15 harg15 arg16 arg17 arg18 arg19 off hoff) Q := by
  unfold wOpen
  iintro ⟨⟨H3, H19, H8, H9, H13, HS, HO⟩, HQ⟩
  iapply (W_smem c none) $$ H3
  iintro H3
  rw [hent]
  iapply (W_assume c none (chk8_ok hE))
  iapply (W_rdn c none 1 D rfl hv) $$ H19
  iintro H19
  iapply (W_assume c none (chk7_ok hD))
  by_cases hT : E / 64 < 7782
  · rw [if_pos hT]
    rw [dif_pos (show k0_cond4 _ = 1#1 by rw [cond4_eq hE, ofBool_eq_one]; exact hT)]
    have hT' : E / 64 * 32 + 32 ≤ 249037 := by omega
    rw [show codesOf C X8 (E / 64) = tileC C.Y hT' from dif_pos hT', show scalesOf C X9 (E / 64) = tileC C.Sc hT' from dif_pos hT']
    unfold slotR
    icases HS with ⟨%hT2, HS1, HS2⟩
    iapply (W_waitS (N := 3072) (R := 249037) arg15 squeezes_S1x32x3072_S32x3072 arg10 arg17 ⟨D % 16, Nat.mod_lt _ (by decide)⟩ c (C.q _) C.Y none hT' (off13_eq hD) (off14_eq hD)) $$ [HS1 HO]
    · isplitl [HS1]; · iexact HS1
      iexact HO
    iintro ⟨HA, HvA, HY, HO⟩
    iapply (W_waitS (N := 24) (R := 249037) arg16 squeezes_S1x32x24_S32x24 arg11 arg18 ⟨D % 16, Nat.mod_lt _ (by decide)⟩ c (C.q _) C.Sc none hT' (off13_eq hD) (off15_eq hD)) $$ [HS2 HO]
    · isplitl [HS2]; · iexact HS2
      iexact HO
    iintro ⟨HB, HvB, HSc, HO⟩
    rw [dif_neg (show ¬ k0_cond5 _ = 1#1 by rw [cond5_eq hE, ofBool_eq_one]; omega)]
    iapply (W_slot_load (N := 3072) arg15 squeezes_S1x32x3072_S32x3072 ⟨D % 16, Nat.mod_lt _ (by decide)⟩ c none (A := 32) (B := 128) 0 (128 * (0 : Fin 24).val) (off18_eq hD)
      (fun i => by have := i.isLt; omega) (fun i => by have := i.isLt; show 128 * 0 + _ < _; omega)) $$ HA
    iintro HA
    iapply (W_loadb c none) $$ H13
    iintro H13
    iapply (W_storeb c none) $$ H13
    iintro H13
    iapply (W_ret c none)
    unfold extG
    iapply HQ
    isplitl [H3]; · iexact H3
    isplitl [H19]; · iexact H19
    isplitl [H8]; · iexact H8
    isplitl [H9]; · iexact H9
    isplitl [H13]; · iexact H13
    isplitl [HA HvA HY HB HvB HSc]
    · unfold slotD
      isplitl [HA HvA HY]
      · isplitl [HA]; · iexact HA
        isplitl [HvA]; · iexact HvA
        iexact HY
      · isplitl [HB]; · iexact HB
        isplitl [HvB]; · iexact HvB
        iexact HSc
    iexact HO
  · rw [if_neg hT]
    rw [dif_neg (show ¬ k0_cond4 _ = 1#1 by rw [cond4_eq hE, ofBool_eq_one]; exact hT)]
    have hT' : ¬ E / 64 * 32 + 32 ≤ 249037 := by omega
    rw [show codesOf C X8 (E / 64) = tailA X8 from dif_neg hT', show scalesOf C X9 (E / 64) = tailS X9 from dif_neg hT']
    generalize hA' : tailA X8 = A'
    generalize hS' : tailS X9 = S'
    unfold slotR idle1
    icases HS with ⟨⟨⟨%A0, HA⟩, HvA, HY⟩, ⟨⟨%S0, HB⟩, HvB, HSc⟩⟩
    rw [dif_pos (show k0_cond5 _ = 1#1 by rw [cond5_eq hE, ofBool_eq_one]; omega)]
    iapply (W_loadb c none) $$ H8
    iintro H8
    iapply (W_slot_load (N := 3072) arg15 squeezes_S1x32x3072_S32x3072 ⟨D % 16, Nat.mod_lt _ (by decide)⟩ c none (A := 32) (B := 3072) 0 0 (off16_eq hD)
      (fun i => by have := i.isLt; omega) (fun i => by have := i.isLt; omega)) $$ HA
    iintro HA
    iapply (W_slot_store (N := 3072) arg15 squeezes_S1x32x3072_S32x3072 ⟨D % 16, Nat.mod_lt _ (by decide)⟩ c none (off16_eq hD)) $$ HA
    iintro HA
    ihave HA : owns (c : Thread nD τ) (slotM arg15 squeezes_S1x32x3072_S32x3072 ⟨D % 16, Nat.mod_lt _ (by decide)⟩) fullShare A' $$ [HA]
    · rw [← hA']; iexact HA
    iapply (W_loadb c none) $$ H9
    iintro H9
    iapply (W_slot_load (N := 24) arg16 squeezes_S1x32x24_S32x24 ⟨D % 16, Nat.mod_lt _ (by decide)⟩ c none (A := 32) (B := 24) 0 0 (off17_eq hD)
      (fun i => by have := i.isLt; omega) (fun i => by have := i.isLt; omega)) $$ HB
    iintro HB
    iapply (W_slot_store (N := 24) arg16 squeezes_S1x32x24_S32x24 ⟨D % 16, Nat.mod_lt _ (by decide)⟩ c none (off17_eq hD)) $$ HB
    iintro HB
    ihave HB : owns (c : Thread nD τ) (slotM arg16 squeezes_S1x32x24_S32x24 ⟨D % 16, Nat.mod_lt _ (by decide)⟩) fullShare S' $$ [HB]
    · rw [← hS']; iexact HB
    iapply (W_slot_load (N := 3072) arg15 squeezes_S1x32x3072_S32x3072 ⟨D % 16, Nat.mod_lt _ (by decide)⟩ c none (A := 32) (B := 128) 0 (128 * (0 : Fin 24).val) (off18_eq hD)
      (fun i => by have := i.isLt; omega) (fun i => by have := i.isLt; show 128 * 0 + _ < _; omega)) $$ HA
    iintro HA
    iapply (W_loadb c none) $$ H13
    iintro H13
    iapply (W_storeb c none) $$ H13
    iintro H13
    iapply (W_ret c none)
    unfold extG
    iapply HQ
    isplitl [H3]; · iexact H3
    isplitl [H19]; · iexact H19
    isplitl [H8]; · iexact H8
    isplitl [H9]; · iexact H9
    isplitl [H13]; · iexact H13
    isplitl [HA HvA HY HB HvB HSc]
    · unfold slotD
      isplitl [HA HvA HY]
      · isplitl [HA]; · iexact HA
        isplitl [HvA]; · iexact HvA
        iexact HY
      · isplitl [HB]; · iexact HB
        isplitl [HvB]; · iexact HvB
        iexact HSc
    iexact HO

variable (hE : Ents L (stp i) C.X3 C.X4) (hC : Counts L (stp i) C.X5 C.X6)
  (cs2 : (v68 : BitVec 32) → k0_chk8 v68 → (v71 : BitVec 32) → k0_chk7 v68 v71 →
    (v67 v68 : Elt F .i32) → k0_chk2 v67 v68 → (v73 v78 : Elt F .i32) → k0_chk3 v67 v73 v78 → (v81 : Elt F .i32) → k0_chk4 v67 v73 v78 v81 → BitVec 32 → BitVec 32 → PR F (BitVec 32 × BitVec 32))
  (hcs2 : ∀ w68 h8 w71 h7 v67 v68 h2 v73 v78 h3 v81 h4 (c : Dev nD) (bd : Option ℕ) (v : ℕ), (∀ u ∈ bd, v < u) → ∀ (a b : BitVec 32) (Q : BitVec 32 × BitVec 32 → SP F),
    W c (some v) (skipBody i arg5 harg5 arg6 harg6 (cs2 w68 h8 w71 h7 v67 v68 h2 v73 v78 h3 v81 h4) a b) Q ⊢ W c bd (cs2 w68 h8 w71 h7 v67 v68 h2 v73 v78 h3 v81 h4 a b) Q)
  (callCan : (v68 : BitVec 32) → k0_chk8 v68 → (v71 : BitVec 32) → k0_chk7 v68 v71 → BitVec 1 → PR F (BitVec 1))
  (hcan : ∀ w68 h8 w71 h7 (c : Dev nD) (bd : Option ℕ) (v : ℕ), (∀ u ∈ bd, v < u) → ∀ (a : BitVec 1) (Q : BitVec 1 → SP F),
    W c (some v) (canBody i arg19 harg19 arg3 harg3 arg4 harg4 arg17 arg15 harg15 arg10 harg10 arg18 arg16 harg16 arg11 harg11 arg5 harg5 arg6 harg6 a (cs2 w68 h8 w71 h7) (callCan w68 h8 w71 h7)) Q
      ⊢ W c bd (callCan w68 h8 w71 h7 a) Q)
  (callSkip : (v68 : BitVec 32) → k0_chk8 v68 → (v71 : BitVec 32) → k0_chk7 v68 v71 → BitVec 32 → BitVec 32 → PR F (BitVec 32 × BitVec 32))
  (hskip : ∀ w68 h8 w71 h7 (c : Dev nD) (bd : Option ℕ) (v : ℕ), (∀ u ∈ bd, v < u) → ∀ (a b : BitVec 32) (Q : BitVec 32 × BitVec 32 → SP F),
    W c (some v) (skipBody i arg5 harg5 arg6 harg6 (callSkip w68 h8 w71 h7) a b) Q ⊢ W c bd (callSkip w68 h8 w71 h7 a b) Q)

include hE hC hcs2 hcan hskip in
theorem widen_spec {off : Fin 3 → ℕ} {hoff : ∀ a, off a + S1x1x1.size a ≤ S1x4x128.size a} {E D I s j : ℕ} (hent : ∀ y, C.X3 ((Rect.unit (s := S1x4x128) off S1x1x1.size hoff).idx y) = nw E)
    (hE' : E < 498112) (hED : L.item D = E) (hF : L.Full (stp i) I D s j) (hDI : D < I)
    {X8 : S32x3072.Idx → Elt F .fp8e4m3} {X9 : S32x24.Idx → Elt F .f32} {q8 q9 : PosShare TreeShare} {X : S102432x128.Idx → Elt F .f32} (Q : BitVec 32 → SP F) :
    iprop((QR arg3 arg4 arg5 arg6 arg10 arg11 arg15 arg16 arg17 arg18 arg19 C L c I D s j ∗ owns (c : Thread nD τ) arg8 q8 X8
        ∗ owns (c : Thread nD τ) arg9 q9 X9 ∗ owns (c : Thread nD τ) arg13 fullShare X ∗ ow c)
      ∗ (∀ I', ∀ s', ∀ j', ⌜L.Full (stp i) I' (D + 1) s' j'⌝
          -∗ (QR arg3 arg4 arg5 arg6 arg10 arg11 arg15 arg16 arg17 arg18 arg19 C L c I' (D + 1) s' j' ∗ owns (c : Thread nD τ) arg8 q8 X8
              ∗ owns (c : Thread nD τ) arg9 q9 X9
              ∗ owns (c : Thread nD τ) arg13 fullShare (widX (nw E) (chk8_ok hE') (codesOf C X8 (E / 64)) (scalesOf C X9 (E / 64)) X) ∗ ow c)
          -∗ Q 0#32))
      ⊢ W c none (widen arg3 arg8 arg9 arg10 harg10 arg11 arg13 arg15 harg15 arg16 arg17 arg18 arg19 off hoff (nw (Lists.top (stp i))) callSkip callCan) Q := by
  obtain ⟨hI31, hD31, hs8, hj128⟩ := hF.que.lt31
  have hD : D < 2 ^ 31 := by omega
  have htl : L.tl D = if E / 64 < 7782 then some (E / 64) else none := by unfold Lists.tl Lists.tile; rw [hED]
  unfold widen
  rw [W_bind]
  iintro ⟨⟨HQR, H8, H9, H13, HO⟩, HQ⟩
  unfold QR
  icases HQR with ⟨H3, H4, H5, H6, H19, ⟨%f, %hf, HR⟩⟩
  have hdone := Lists.Slots.done hf hF.2.1 hDI
  unfold ring
  ihave ⟨Hk, HR⟩ := (ring_take (slotR arg10 arg11 arg15 arg16 arg17 arg18 C c) f ⟨D % 16, Nat.mod_lt _ (by decide)⟩) $$ HR
  ispecialize HR $$ %(none : Option ℕ)
  rw [hdone.1, htl]
  iapply (wOpen_spec arg3 arg8 arg9 arg10 harg10 arg11 arg13 arg15 harg15 arg16 arg17 arg18 arg19 C c hent hE' hD (v := ![I, D, s, j]) rfl)
  isplitl [H3 H19 H8 H9 H13 Hk HO]
  · isplitl [H3]; · iexact H3
    isplitl [H19]; · iexact H19
    isplitl [H8]; · iexact H8
    isplitl [H9]; · iexact H9
    isplitl [H13]; · iexact H13
    isplitl [Hk]; · iexact Hk
    iexact HO
  iintro %v72 %v83 ⟨H3, H19, H8, H9, H13, HS, HO⟩
  unfold slotD
  icases HS with ⟨⟨HA, HvA, HY⟩, ⟨HB, HvB, HSc⟩⟩
  iapply (W_wRows c none arg13) $$ H13
  iintro H13
  iapply (W_wGroups c none arg13 arg15 hD 23 _) $$ [H13 HA]
  · isplitl [H13]; · iexact H13
    iexact HA
  iintro H13 HA
  iapply (W_wScale c none arg13 arg16 hD) $$ [H13 HB]
  · isplitl [H13]; · iexact H13
    iexact HB
  iintro H13 HB
  iapply (W_wScale c none arg13 arg16 hD) $$ [H13 HB]
  · isplitl [H13]; · iexact H13
    iexact HB
  iintro H13 HB
  iapply (W_wScale c none arg13 arg16 hD) $$ [H13 HB]
  · isplitl [H13]; · iexact H13
    iexact HB
  iintro H13 HB
  iapply (W_wScale c none arg13 arg16 hD) $$ [H13 HB]
  · isplitl [H13]; · iexact H13
    iexact HB
  iintro H13 HB
  ihave HR := HR $$ [HA HvA HY HB HvB HSc]
  · unfold slotR idle1
    simp only
    isplitl [HA HvA HY]
    · isplitl [HA]; · iexists _; iexact HA
      isplitl [HvA]; · iexact HvA
      iexact HY
    · isplitl [HB]; · iexists _; iexact HB
      isplitl [HvB]; · iexact HvB
      iexact HSc
  unfold rdS wrS
  iapply (W_rdn c _ 1 D rfl rfl) $$ H19
  iintro H19
  iapply (W_rdn c _ 1 D rfl rfl) $$ H19
  iintro H19
  iapply (W_wrn c _ 1 (D + 1) _ rfl (upd1 _ _ _ _ _) (s_addi D 1)) $$ H19
  iintro H19
  have hQ : L.Que (stp i) I (D + 1) s j := ⟨hDI, by have := hF.2.1; omega, hF.2.2.1.ok, hF.2.2.2.1⟩
  iapply (topUp_spec i arg3 harg3 arg4 harg4 arg5 harg5 arg6 harg6 arg10 harg10 arg11 harg11 arg15 harg15 arg16 harg16 arg17 arg18 arg19 harg19 C L c hE hC
    (cs2 (nw E) (chk8_ok hE') (nw D) (chk7_ok hD)) (hcs2 (nw E) (chk8_ok hE') (nw D) (chk7_ok hD)) (callCan (nw E) (chk8_ok hE') (nw D) (chk7_ok hD)) (hcan (nw E) (chk8_ok hE') (nw D) (chk7_ok hD))
    (callSkip (nw E) (chk8_ok hE') (nw D) (chk7_ok hD)) (hskip (nw E) (chk8_ok hE') (nw D) (chk7_ok hD)) hQ)
  isplitl [H3 H4 H5 H6 H19 HR]
  · unfold QR ring
    isplitl [H3]; · iexact H3
    isplitl [H4]; · iexact H4
    isplitl [H5]; · iexact H5
    isplitl [H6]; · iexact H6
    isplitl [H19]; · iexact H19
    iexists _
    isplitr
    · ipureintro; exact hdone.2
    · iexact HR
  iintro %I' %s' %j' %hF' HR
  iapply (W_ret c none)
  iapply HQ $$ %I' %s' %j' %hF'
  unfold QR
  isplitl [HR]; · iexact HR
  isplitl [H8]; · iexact H8
  isplitl [H9]; · iexact H9
  isplitl [H13]; · iexact H13
  iexact HO

end

end Cert.KernelIdeal.M
-- ==== Proof.KI.Tokens.lean ====
module

public import proofs.«01_k».proof.Proof.KI.Base
public import proofs.«01_k».proof.Proof.KI.Model

@[expose] public section

noncomputable section

/-
  The tokens' sums, and the finish.
-/
namespace Cert.KernelIdeal.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]
open Facts₀ Facts

/-- A window address a route may name. -/
theorem chk21_ok {v : BitVec 32} (h : v.toNat ≤ 102400) : k0_chk21 v := by
  have e : ∀ n : ℕ, n ≤ 24 → (Scalar.indexCast (Scalar.addi v (BitVec.ofNat 32 n))).toNat = v.toNat + n := by
    intro n hn
    show (v + BitVec.ofNat 32 n).toNat = _
    rw [BitVec.toNat_add, BitVec.toNat_ofNat]
    omega
  refine ⟨fun a => ?_, fun r a => ?_⟩
  · fin_cases a
    · show (Scalar.indexCast (Scalar.addi v (BitVec.ofNat 32 24))).toNat + 1 ≤ 102432
      rw [e 24 (by decide)]; omega
    · show 0 + 128 ≤ 128; decide
  · have := r.isLt
    fin_cases a
    · show (Scalar.indexCast (Scalar.addi v (BitVec.ofNat 32 (8 * r.val)))).toNat + 8 ≤ 102432
      rw [e (8 * r.val) (by omega)]; omega
    · show 0 + 128 ≤ 128; decide

/-- The word of a token's route. -/
def wd {e : EltTy} (X : S8x128.Idx → Elt F e) (s t : Fin 4) (u k : Fin 8) : Elt F e :=
  X ((Rect.unit (s := S8x128) (tokOff s.val t.val u.val k.val) S1x1.size (tokOff_inb s t u k)).idx (Shape.Idx.first (numel1_S1x1.symm ▸ Nat.one_pos)))

/-- A route's factors, one row to each of its rows. -/
def facR (X : S102432x128.Idx → Elt F .f32) (a : BitVec 32) (h : k0_chk21 a) (w : F .f32) : FVec F S8x128 .f32 :=
  broadcastTo S8x128 (shapeCast S1x128 (mulf (fun x => X ((Rect.unit (s := S102432x128) (k0_off105 a) S1x128.size (k0_off105_inb a h)).toLoadRect.idx x) : FVec F S1x128 .f32) (broadcast S1x128 w)) shapeCasts_S1x128_S1x128) broadcasts_S1x128_S8x128

/-- Rows `8 m …` of a route, times their factors. -/
def rowR (X : S102432x128.Idx → Elt F .f32) (a : BitVec 32) (h : k0_chk21 a) (w : F .f32) (m : Fin 3) (v : IVec S8x128 32) : FVec F S8x128 .f32 :=
  mulf (fun x => X ((Rect.unit (s := S102432x128) (k0_off107 a (BitVec.ofNat 32 (8 * m.val))) S8x128.size (k0_off107_inb a h m)).toLoadRect.idx x) : FVec F S8x128 .f32) (gth (facR X a h w) v)

section
variable (arg1 : Memref sig .tc .smem S8x128 .i32) (arg2 : Memref sig .tc .smem S8x128 .f32) (arg7 : Memref sig .tc .vmem S128x3072 .bf16)
  (arg12 : Memref sig .tc .vmem S128x3072 .bf16) (harg12 : arg12.IsWhole) (arg13 : Memref sig .tc .vmem S102432x128 .f32) (arg14 : Memref sig .tc .vmem S3200x128 .f32)
  (X1 : S8x128.Idx → Elt F .i32) (X2 : S8x128.Idx → Elt F .f32) (X13 : S102432x128.Idx → Elt F .f32) (hX1 : ∀ x, k0_chk21 (X1 x))
  (v23 v26 v29 : IVec S8x128 32) (c : Dev nD)

/-- One route's rows. -/
def rt (s t : Fin 4) (u k : Fin 8) (m : Fin 3) (v : IVec S8x128 32) : FVec F S8x128 .f32 := rowR X13 (wd X1 s t u k) (hX1 _) (wd X2 s t u k) m v

/-- The last `n` routes added. -/
def rts (s t : Fin 4) (u : Fin 8) (m : Fin 3) (v : IVec S8x128 32) : (n : ℕ) → n < 8 → FVec F S8x128 .f32 → FVec F S8x128 .f32
  | 0, _, a => a
  | n + 1, hn, a => rts s t u m v n (by omega) (addf a (rt X1 X2 X13 hX1 s t u ⟨8 - (n + 1), by omega⟩ m v))

/-- `acc` after a store of eight rows. -/
def accW (s t : Fin 4) (u : Fin 8) (m : Fin 3) (v : FVec F S8x128 .f32) (A : S3200x128.Idx → Elt F .f32) : S3200x128.Idx → Elt F .f32 :=
  (Rect.unit (s := S3200x128) (accOff s.val t.val u.val m.val) S8x128.size (accOff_inb s t u m)).overlay A (shapeCast S8x128 v shapeCasts_S8x128_S8x128)

/-- A token's sum. -/
def tokV (s t : Fin 4) (u : Fin 8) (m : Fin 3) (v : IVec S8x128 32) : FVec F S8x128 .f32 :=
  rts X1 X2 X13 hX1 s t u m v 7 (by decide) (rt X1 X2 X13 hX1 s t u 0 m v)

/-- `acc` after a token. -/
def tokX (s t : Fin 4) (u : Fin 8) (A : S3200x128.Idx → Elt F .f32) : S3200x128.Idx → Elt F .f32 :=
  accW s t u 2 (tokV X1 X2 X13 hX1 s t u 2 v29) <| accW s t u 1 (tokV X1 X2 X13 hX1 s t u 1 v26) <| accW s t u 0 (tokV X1 X2 X13 hX1 s t u 0 v23) A

/-- `acc` after the last `n` tokens of a trip. -/
def toksX (s t : Fin 4) : (n : ℕ) → n ≤ 8 → (S3200x128.Idx → Elt F .f32) → S3200x128.Idx → Elt F .f32
  | 0, _, A => A
  | n + 1, hn, A => toksX s t n (by omega) (tokX X1 X2 X13 hX1 v23 v26 v29 s t ⟨8 - (n + 1), by omega⟩ A)

/-- `acc` after the first `n` trips of a sub-list's tokens. -/
def subX (s : Fin 4) (A : S3200x128.Idx → Elt F .f32) : ℕ → S3200x128.Idx → Elt F .f32
  | 0 => A
  | n + 1 => if h : n < 4 then toksX X1 X2 X13 hX1 v23 v26 v29 s ⟨n, h⟩ 8 le_rfl (subX s A n) else subX s A n

/-- What the tokens' loops use. -/
def TR (q1 q2 : PosShare TreeShare) (A : S3200x128.Idx → Elt F .f32) : SP F :=
  iprop(owns (c : Thread nD τ) arg1 q1 X1 ∗ owns (c : Thread nD τ) arg2 q2 X2 ∗ owns (c : Thread nD τ) arg13 fullShare X13 ∗ owns (c : Thread nD τ) arg14 fullShare A)

variable {q1 q2 : PosShare TreeShare} {α : Type} {Q : α → SP F}

theorem W_route {s t : Fin 4} {u k : Fin 8} {A : S3200x128.Idx → Elt F .f32} {K : FVec F S8x128 .f32 → FVec F S8x128 .f32 → FVec F S8x128 .f32 → PR F α} :
    TR arg1 arg2 arg13 arg14 X1 X2 X13 c q1 q2 A ⊢ iprop((TR arg1 arg2 arg13 arg14 X1 X2 X13 c q1 q2 A
        -∗ W c none (K (rt X1 X2 X13 hX1 s t u k 0 v23) (rt X1 X2 X13 hX1 s t u k 1 v26) (rt X1 X2 X13 hX1 s t u k 2 v29)) Q)
      -∗ W c none (route arg1 arg2 arg13 v23 v26 v29 s t u k K) Q) := by
  unfold TR route
  iintro ⟨H1, H2, H13, H14⟩ HK
  iapply (W_smem c none) $$ H1
  iintro H1
  iapply (W_assume c none (hX1 _))
  iapply (W_loadb c none) $$ H13
  iintro H13
  iapply (W_smem c none) $$ H2
  iintro H2
  iapply (W_loadb c none) $$ H13
  iintro H13
  iapply (W_loadb c none) $$ H13
  iintro H13
  iapply (W_loadb c none) $$ H13
  iintro H13
  unfold rt rowR facR wd
  iapply HK
  isplitl [H1]; · iexact H1
  isplitl [H2]; · iexact H2
  isplitl [H13]; · iexact H13
  iexact H14

theorem W_routes {s t : Fin 4} {u : Fin 8} {A : S3200x128.Idx → Elt F .f32} {K : FVec F S8x128 .f32 → FVec F S8x128 .f32 → FVec F S8x128 .f32 → PR F α} :
    ∀ (n : ℕ) (hn : n < 8) (a b d : FVec F S8x128 .f32),
    TR arg1 arg2 arg13 arg14 X1 X2 X13 c q1 q2 A ⊢ iprop((TR arg1 arg2 arg13 arg14 X1 X2 X13 c q1 q2 A
        -∗ W c none (K (rts X1 X2 X13 hX1 s t u 0 v23 n hn a) (rts X1 X2 X13 hX1 s t u 1 v26 n hn b) (rts X1 X2 X13 hX1 s t u 2 v29 n hn d)) Q)
      -∗ W c none (routes arg1 arg2 arg13 v23 v26 v29 s t u K n hn a b d) Q) := by
  intro n
  induction n with
  | zero =>
    intro hn a b d
    unfold routes rts
    iintro H HK
    iapply HK $$ H
  | succ n ih =>
    intro hn a b d
    unfold routes rts
    iintro H HK
    iapply (W_route arg1 arg2 arg13 arg14 X1 X2 X13 hX1 v23 v26 v29 c) $$ H
    iintro H
    iapply (ih _ _ _ _) $$ H
    iexact HK

theorem W_accStore {s t : Fin 4} {u : Fin 8} {m : Fin 3} {v : FVec F S8x128 .f32} {A : S3200x128.Idx → Elt F .f32} {K : PR F α} :
    TR arg1 arg2 arg13 arg14 X1 X2 X13 c q1 q2 A ⊢ iprop((TR arg1 arg2 arg13 arg14 X1 X2 X13 c q1 q2 (accW s t u m v A) -∗ W c none K Q)
      -∗ W c none (accStore arg14 s t u m v K) Q) := by
  unfold TR accStore accW
  iintro ⟨H1, H2, H13, H14⟩ HK
  iapply (W_loadb c none) $$ H14
  iintro H14
  iapply (W_storeb c none) $$ H14
  iintro H14
  iapply HK
  isplitl [H1]; · iexact H1
  isplitl [H2]; · iexact H2
  isplitl [H13]; · iexact H13
  iexact H14

theorem W_token {s t : Fin 4} {u : Fin 8} {A : S3200x128.Idx → Elt F .f32} {K : PR F α} :
    TR arg1 arg2 arg13 arg14 X1 X2 X13 c q1 q2 A ⊢ iprop((TR arg1 arg2 arg13 arg14 X1 X2 X13 c q1 q2 (tokX X1 X2 X13 hX1 v23 v26 v29 s t u A) -∗ W c none K Q)
      -∗ W c none (token arg1 arg2 arg13 arg14 v23 v26 v29 s t u K) Q) := by
  unfold token tokX
  iintro H HK
  iapply (W_route arg1 arg2 arg13 arg14 X1 X2 X13 hX1 v23 v26 v29 c) $$ H
  iintro H
  iapply (W_routes arg1 arg2 arg13 arg14 X1 X2 X13 hX1 v23 v26 v29 c 7 _ _ _ _) $$ H
  iintro H
  iapply (W_accStore arg1 arg2 arg13 arg14 X1 X2 X13 c) $$ H
  iintro H
  iapply (W_accStore arg1 arg2 arg13 arg14 X1 X2 X13 c) $$ H
  iintro H
  iapply (W_accStore arg1 arg2 arg13 arg14 X1 X2 X13 c) $$ H
  iintro H
  unfold tokV
  iapply HK $$ H

theorem W_tokens {s t : Fin 4} {Q : PUnit → SP F} : ∀ (n : ℕ) (hn : n ≤ 8) (A : S3200x128.Idx → Elt F .f32),
    TR arg1 arg2 arg13 arg14 X1 X2 X13 c q1 q2 A ⊢ iprop((TR arg1 arg2 arg13 arg14 X1 X2 X13 c q1 q2 (toksX X1 X2 X13 hX1 v23 v26 v29 s t n hn A) -∗ Q ⟨⟩)
      -∗ W c none (tokens arg1 arg2 arg13 arg14 v23 v26 v29 s t n hn) Q) := by
  intro n
  induction n with
  | zero =>
    intro hn A
    unfold tokens toksX
    iintro H HK
    iapply (W_ret c none)
    iapply HK $$ H
  | succ n ih =>
    intro hn A
    unfold tokens toksX
    iintro H HK
    iapply (W_token arg1 arg2 arg13 arg14 X1 X2 X13 hX1 v23 v26 v29 c) $$ H
    iintro H
    iapply (ih _ _) $$ H
    iexact HK

theorem W_sub {s : Fin 4} {A : S3200x128.Idx → Elt F .f32} {β : Type} {Q : β → SP F} {l : Scf.Loop 32} (hl : l.trips = 4) (hok : l.OK) {kk : PUnit → PR F β} :
    TR arg1 arg2 arg13 arg14 X1 X2 X13 c q1 q2 A ⊢ iprop((TR arg1 arg2 arg13 arg14 X1 X2 X13 c q1 q2 (subX X1 X2 X13 hX1 v23 v26 v29 s A 4) -∗ W c none (kk ⟨⟩) Q)
      -∗ W c none (Scf.Loop.for l hok ⟨⟩ (fun t _ => tokens arg1 arg2 arg13 arg14 v23 v26 v29 s (Fin.cast hl t) 8 (by decide)) >>= kk) Q) := by
  refine .trans (Entails.of_eq (show TR arg1 arg2 arg13 arg14 X1 X2 X13 c q1 q2 A = TR arg1 arg2 arg13 arg14 X1 X2 X13 c q1 q2 (subX X1 X2 X13 hX1 v23 v26 v29 s A 0) from rfl)) ?_
  iintro H HK
  iapply (Scf.wp_for_bind frame (wpE (defs₀ (F := F)) VN (c : Thread nD τ) none) Set.univ l.lb l.ub l.st hok ⟨⟩ _
    (fun n _ => TR arg1 arg2 arg13 arg14 X1 X2 X13 c q1 q2 (subX X1 X2 X13 hX1 v23 v26 v29 s A n)) ?_) $$ H
  · intro k acc
    iintro H
    iapply (W_tokens arg1 arg2 arg13 arg14 X1 X2 X13 hX1 v23 v26 v29 c 8 _ _) $$ H
    iintro H
    have hk : k.val < 4 := lt_of_lt_of_eq k.isLt hl
    rw [show subX X1 X2 X13 hX1 v23 v26 v29 s A (k.val + 1) = toksX X1 X2 X13 hX1 v23 v26 v29 s (Fin.cast hl k) 8 (by decide) (subX X1 X2 X13 hX1 v23 v26 v29 s A k.val) from dif_pos hk]
    iexact H
  · iintro %acc H
    rw [show Scf.trips l.lb l.ub l.st = 4 from hl]
    iapply HK $$ H

/-- The out block after one group of sixteen tokens. -/
def finW (A : S3200x128.Idx → Elt F .f32) (X7 : S128x3072.Idx → Elt F .bf16) (t : Fin 8) (g : Fin 24) (O : S128x3072.Idx → Elt F .bf16) : S128x3072.Idx → Elt F .bf16 :=
  (Rect.unit (s := S128x3072) (finOff t.val g.val) S16x128.size (finOff_inb t g)).overlay O
    (truncf .bf16 (addf (extf .f32 (fun x => X7 ((Rect.unit (s := S128x3072) (finOff t.val g.val) S16x128.size (finOff_inb t g)).toLoadRect.idx x) : FVec F S16x128 .bf16) bitsLt_bf16_f32)
      (concatenate S16x128 0 [⟨S8x128, fun x => A ((⟨finAcc t.val 0 g.val, S8x128.size, ![25, 1], finAcc_inb t 0 g⟩ : LoadRect S3200x128).idx x)⟩,
        ⟨S8x128, fun x => A ((⟨finAcc t.val 1 g.val, S8x128.size, ![25, 1], finAcc_inb t 1 g⟩ : LoadRect S3200x128).idx x)⟩] concatenates_S8x128_S8x128_S16x128_d0)) bitsLt_bf16_f32)

/-- The out block after the last `n` groups of a trip. -/
def finWs (A : S3200x128.Idx → Elt F .f32) (X7 : S128x3072.Idx → Elt F .bf16) (t : Fin 8) : (n : ℕ) → n ≤ 24 → (S128x3072.Idx → Elt F .bf16) → S128x3072.Idx → Elt F .bf16
  | 0, _, O => O
  | n + 1, hn, O => finWs A X7 t n (by omega) (finW A X7 t ⟨24 - (n + 1), by omega⟩ O)

/-- The out block after the first `n` trips. -/
def finX (A : S3200x128.Idx → Elt F .f32) (X7 : S128x3072.Idx → Elt F .bf16) (O : S128x3072.Idx → Elt F .bf16) : ℕ → S128x3072.Idx → Elt F .bf16
  | 0 => O
  | n + 1 => if h : n < 8 then finWs A X7 ⟨n, h⟩ 24 le_rfl (finX A X7 O n) else finX A X7 O n

/-- What the finish uses. -/
def FR (q7 : PosShare TreeShare) (A : S3200x128.Idx → Elt F .f32) (X7 O : S128x3072.Idx → Elt F .bf16) : SP F :=
  iprop(owns (c : Thread nD τ) arg7 q7 X7 ∗ owns (c : Thread nD τ) arg12 fullShare O ∗ owns (c : Thread nD τ) arg14 fullShare A)

variable {q7 : PosShare TreeShare} {A : S3200x128.Idx → Elt F .f32} {X7 : S128x3072.Idx → Elt F .bf16}

theorem W_finG {t : Fin 8} {g : Fin 24} {O : S128x3072.Idx → Elt F .bf16} {K : PR F α} :
    FR arg7 arg12 arg14 c q7 A X7 O ⊢ iprop((FR arg7 arg12 arg14 c q7 A X7 (finW A X7 t g O) -∗ W c none K Q) -∗ W c none (finG arg7 arg12 harg12 arg14 t g K) Q) := by
  unfold FR finG finW
  iintro ⟨H7, H12, H14⟩ HK
  iapply (W_loadb c none) $$ H14
  iintro H14
  iapply (W_loadb c none) $$ H14
  iintro H14
  iapply (W_loadb c none) $$ H7
  iintro H7
  iapply (W_loadb c none) $$ H12
  iintro H12
  iapply (W_storeb c none) $$ H12
  iintro H12
  iapply HK
  isplitl [H7]; · iexact H7
  isplitl [H12]; · iexact H12
  iexact H14

theorem W_finGs {t : Fin 8} {Q : PUnit → SP F} : ∀ (n : ℕ) (hn : n ≤ 24) (O : S128x3072.Idx → Elt F .bf16),
    FR arg7 arg12 arg14 c q7 A X7 O ⊢ iprop((FR arg7 arg12 arg14 c q7 A X7 (finWs A X7 t n hn O) -∗ Q ⟨⟩) -∗ W c none (finGs arg7 arg12 harg12 arg14 t n hn) Q) := by
  intro n
  induction n with
  | zero =>
    intro hn O
    unfold finGs finWs
    iintro H HK
    iapply (W_ret c none)
    iapply HK $$ H
  | succ n ih =>
    intro hn O
    unfold finGs finWs
    iintro H HK
    iapply (W_finG arg7 arg12 harg12 arg14 c) $$ H
    iintro H
    iapply (ih _ _) $$ H
    iexact HK

theorem W_fin {O : S128x3072.Idx → Elt F .bf16} {β : Type} {Q : β → SP F} {l : Scf.Loop 32} (hl : l.trips = 8) (hok : l.OK) {kk : PUnit → PR F β} :
    FR arg7 arg12 arg14 c q7 A X7 O ⊢ iprop((FR arg7 arg12 arg14 c q7 A X7 (finX A X7 O 8) -∗ W c none (kk ⟨⟩) Q)
      -∗ W c none (Scf.Loop.for l hok ⟨⟩ (fun t _ => finGs arg7 arg12 harg12 arg14 (Fin.cast hl t) 24 (by decide)) >>= kk) Q) := by
  refine .trans (Entails.of_eq (show FR arg7 arg12 arg14 c q7 A X7 O = FR arg7 arg12 arg14 c q7 A X7 (finX A X7 O 0) from rfl)) ?_
  iintro H HK
  iapply (Scf.wp_for_bind frame (wpE (defs₀ (F := F)) VN (c : Thread nD τ) none) Set.univ l.lb l.ub l.st hok ⟨⟩ _
    (fun n _ => FR arg7 arg12 arg14 c q7 A X7 (finX A X7 O n)) ?_) $$ H
  · intro k acc
    iintro H
    iapply (W_finGs arg7 arg12 harg12 arg14 c 24 _ _) $$ H
    iintro H
    have hk : k.val < 8 := lt_of_lt_of_eq k.isLt hl
    rw [show finX A X7 O (k.val + 1) = finWs A X7 (Fin.cast hl k) 24 le_rfl (finX A X7 O k.val) from dif_pos hk]
    iexact H
  · iintro %acc H
    rw [show Scf.trips l.lb l.ub l.st = 8 from hl]
    iapply HK $$ H

end

end Cert.KernelIdeal.M
-- ==== Proof.KI.Calls.lean ====
module
public import proofs.«01_k».proof.Proof.KI.Base
@[expose] public section
noncomputable section
namespace Cert.KernelIdeal.M
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Facts]
open Facts₀ Facts

variable (i : grid0.Coords)
  (arg3 : Memref sig .tc .smem S1x4x128 .i32) (harg3 : arg3.IsWhole)
  (arg4 : Memref sig .tc .smem S1x4x128 .i32) (harg4 : arg4.IsWhole)
  (arg5 : Memref sig .tc .smem S1x1x4 .i32) (harg5 : arg5.IsWhole)
  (arg6 : Memref sig .tc .smem S1x1x4 .i32) (harg6 : arg6.IsWhole)
  (arg10 : Memref sig .tc .hbm S249037x3072 .fp8e4m3) (harg10 : arg10.IsWhole)
  (arg11 : Memref sig .tc .hbm S249037x24 .f32) (harg11 : arg11.IsWhole)
  (arg15 : Memref sig .tc .vmem S16x32x3072 .fp8e4m3) (harg15 : arg15.IsWhole)
  (arg16 : Memref sig .tc .vmem S16x32x24 .f32) (harg16 : arg16.IsWhole)
  (arg19 : Memref sig .tc .smem S4 .i32) (harg19 : arg19.IsWhole)
  (arg17 arg18 : DmaSems sig S16)
  (v30 : BitVec 32) (hw6 : k0_chk6 v30) (v39 : BitVec 32) (hw85 : k0_chk85 v39) (v48 : BitVec 32) (hw164 : k0_chk164 v48) (v57 : BitVec 32) (hw243 : k0_chk243 v57)

theorem r1  (c : Dev nD) (bd : Option ℕ) (v : ℕ) (hv : ∀ u ∈ bd, v < u) (a b : BitVec 32) (Q : BitVec 32 × BitVec 32 → SP F) :
    W c (some v) (skipBody i arg5 harg5 arg6 harg6 (fun s j => (Prog.lift (.call (1 : (Λ₀ F).Label) ⟨i, arg5, harg5, arg6, harg6, s, j⟩) : PR F (BitVec 32 × BitVec 32))) a b) Q
      ⊢ W c bd (Prog.lift (.call (1 : (Λ₀ F).Label) ⟨i, arg5, harg5, arg6, harg6, a, b⟩) : PR F (BitVec 32 × BitVec 32)) Q :=
  (Entails.of_eq (congrArg (fun p => W c (some v) p Q) (by chain_rfl))).trans (W_call (ℓ := (1 : (Λ₀ F).Label)) c bd v hv)

theorem r2  (c : Dev nD) (bd : Option ℕ) (v : ℕ) (hv : ∀ u ∈ bd, v < u) (a : BitVec 1) (Q : BitVec 1 → SP F) :
    W c (some v) (canBody i arg19 harg19 arg3 harg3 arg4 harg4 arg17 arg15 harg15 arg10 harg10 arg18 arg16 harg16 arg11 harg11 arg5 harg5 arg6 harg6 a
        (fun v67 v68 h2 v73 v78 h3 v81 h4 s j => Prog.lift (.call (3 : (Λ₀ F).Label) ⟨i, v67, v68, h2, v73, v78, h3, v81, h4, arg5, harg5, arg6, harg6, s, j⟩)) (fun b => (Prog.lift (.call (2 : (Λ₀ F).Label) ⟨i, arg19, harg19, arg3, harg3, arg4, harg4, arg17, arg15, harg15, arg10, harg10, arg18, arg16, harg16, arg11, harg11, arg5, harg5, arg6, harg6, b⟩) : PR F (BitVec 1)))) Q
      ⊢ W c bd (Prog.lift (.call (2 : (Λ₀ F).Label) ⟨i, arg19, harg19, arg3, harg3, arg4, harg4, arg17, arg15, harg15, arg10, harg10, arg18, arg16, harg16, arg11, harg11, arg5, harg5, arg6, harg6, a⟩) : PR F (BitVec 1)) Q :=
  (Entails.of_eq (congrArg (fun p => W c (some v) p Q) (by chain_rfl))).trans (W_call (ℓ := (2 : (Λ₀ F).Label)) c bd v hv)

theorem r3 (v67 v68 : BitVec 32) (h2 : k0_chk2 v67 v68) (v73 v78 : BitVec 32) (h3 : k0_chk3 v67 v73 v78) (v81 : BitVec 32) (h4 : k0_chk4 v67 v73 v78 v81) (c : Dev nD) (bd : Option ℕ) (v : ℕ) (hv : ∀ u ∈ bd, v < u) (a b : BitVec 32) (Q : BitVec 32 × BitVec 32 → SP F) :
    W c (some v) (skipBody i arg5 harg5 arg6 harg6 (fun s j => (Prog.lift (.call (3 : (Λ₀ F).Label) ⟨i, v67, v68, h2, v73, v78, h3, v81, h4, arg5, harg5, arg6, harg6, s, j⟩) : PR F (BitVec 32 × BitVec 32))) a b) Q
      ⊢ W c bd (Prog.lift (.call (3 : (Λ₀ F).Label) ⟨i, v67, v68, h2, v73, v78, h3, v81, h4, arg5, harg5, arg6, harg6, a, b⟩) : PR F (BitVec 32 × BitVec 32)) Q :=
  (Entails.of_eq (congrArg (fun p => W c (some v) p Q) (by chain_rfl))).trans (W_call (ℓ := (3 : (Λ₀ F).Label)) c bd v hv)

theorem r4 (t : Fin (k0_t1_loop v30).trips) (w68 : BitVec 32) (h8 : k0_chk8 w68) (w71 : BitVec 32) (h7 : k0_chk7 w68 w71) (c : Dev nD) (bd : Option ℕ) (v : ℕ) (hv : ∀ u ∈ bd, v < u) (a b : BitVec 32) (Q : BitVec 32 × BitVec 32 → SP F) :
    W c (some v) (skipBody i arg5 harg5 arg6 harg6 (fun s j => (Prog.lift (.call (4 : (Λ₀ F).Label) ⟨i, v30, hw6, t, w68, h8, w71, h7, arg5, harg5, arg6, harg6, s, j⟩) : PR F (BitVec 32 × BitVec 32))) a b) Q
      ⊢ W c bd (Prog.lift (.call (4 : (Λ₀ F).Label) ⟨i, v30, hw6, t, w68, h8, w71, h7, arg5, harg5, arg6, harg6, a, b⟩) : PR F (BitVec 32 × BitVec 32)) Q :=
  (Entails.of_eq (congrArg (fun p => W c (some v) p Q) (by chain_rfl))).trans (W_call (ℓ := (4 : (Λ₀ F).Label)) c bd v hv)

theorem r5 (t : Fin (k0_t1_loop v30).trips) (w68 : BitVec 32) (h8 : k0_chk8 w68) (w71 : BitVec 32) (h7 : k0_chk7 w68 w71) (c : Dev nD) (bd : Option ℕ) (v : ℕ) (hv : ∀ u ∈ bd, v < u) (a : BitVec 1) (Q : BitVec 1 → SP F) :
    W c (some v) (canBody i arg19 harg19 arg3 harg3 arg4 harg4 arg17 arg15 harg15 arg10 harg10 arg18 arg16 harg16 arg11 harg11 arg5 harg5 arg6 harg6 a
        (fun v67 v68 h2 v73 v78 h3 v81 h4 s j => Prog.lift (.call (6 : (Λ₀ F).Label) ⟨i, v30, hw6, t, w68, h8, w71, h7, v67, v68, h2, v73, v78, h3, v81, h4, arg5, harg5, arg6, harg6, s, j⟩)) (fun b => (Prog.lift (.call (5 : (Λ₀ F).Label) ⟨i, v30, hw6, t, w68, h8, w71, h7, arg19, harg19, arg3, harg3, arg4, harg4, arg17, arg15, harg15, arg10, harg10, arg18, arg16, harg16, arg11, harg11, arg5, harg5, arg6, harg6, b⟩) : PR F (BitVec 1)))) Q
      ⊢ W c bd (Prog.lift (.call (5 : (Λ₀ F).Label) ⟨i, v30, hw6, t, w68, h8, w71, h7, arg19, harg19, arg3, harg3, arg4, harg4, arg17, arg15, harg15, arg10, harg10, arg18, arg16, harg16, arg11, harg11, arg5, harg5, arg6, harg6, a⟩) : PR F (BitVec 1)) Q :=
  (Entails.of_eq (congrArg (fun p => W c (some v) p Q) (by chain_rfl))).trans (W_call (ℓ := (5 : (Λ₀ F).Label)) c bd v hv)

theorem r6 (t : Fin (k0_t1_loop v30).trips) (w68 : BitVec 32) (h8 : k0_chk8 w68) (w71 : BitVec 32) (h7 : k0_chk7 w68 w71) (v67 v68 : BitVec 32) (h2 : k0_chk2 v67 v68) (v73 v78 : BitVec 32) (h3 : k0_chk3 v67 v73 v78) (v81 : BitVec 32) (h4 : k0_chk4 v67 v73 v78 v81) (c : Dev nD) (bd : Option ℕ) (v : ℕ) (hv : ∀ u ∈ bd, v < u) (a b : BitVec 32) (Q : BitVec 32 × BitVec 32 → SP F) :
    W c (some v) (skipBody i arg5 harg5 arg6 harg6 (fun s j => (Prog.lift (.call (6 : (Λ₀ F).Label) ⟨i, v30, hw6, t, w68, h8, w71, h7, v67, v68, h2, v73, v78, h3, v81, h4, arg5, harg5, arg6, harg6, s, j⟩) : PR F (BitVec 32 × BitVec 32))) a b) Q
      ⊢ W c bd (Prog.lift (.call (6 : (Λ₀ F).Label) ⟨i, v30, hw6, t, w68, h8, w71, h7, v67, v68, h2, v73, v78, h3, v81, h4, arg5, harg5, arg6, harg6, a, b⟩) : PR F (BitVec 32 × BitVec 32)) Q :=
  (Entails.of_eq (congrArg (fun p => W c (some v) p Q) (by chain_rfl))).trans (W_call (ℓ := (6 : (Λ₀ F).Label)) c bd v hv)

theorem r10 (t : Fin (k0_t4_loop v39).trips) (w68 : BitVec 32) (h8 : k0_chk8 w68) (w71 : BitVec 32) (h7 : k0_chk7 w68 w71) (c : Dev nD) (bd : Option ℕ) (v : ℕ) (hv : ∀ u ∈ bd, v < u) (a b : BitVec 32) (Q : BitVec 32 × BitVec 32 → SP F) :
    W c (some v) (skipBody i arg5 harg5 arg6 harg6 (fun s j => (Prog.lift (.call (10 : (Λ₀ F).Label) ⟨i, v30, hw6, v39, hw85, t, w68, h8, w71, h7, arg5, harg5, arg6, harg6, s, j⟩) : PR F (BitVec 32 × BitVec 32))) a b) Q
      ⊢ W c bd (Prog.lift (.call (10 : (Λ₀ F).Label) ⟨i, v30, hw6, v39, hw85, t, w68, h8, w71, h7, arg5, harg5, arg6, harg6, a, b⟩) : PR F (BitVec 32 × BitVec 32)) Q :=
  (Entails.of_eq (congrArg (fun p => W c (some v) p Q) (by chain_rfl))).trans (W_call (ℓ := (10 : (Λ₀ F).Label)) c bd v hv)

theorem r11 (t : Fin (k0_t4_loop v39).trips) (w68 : BitVec 32) (h8 : k0_chk8 w68) (w71 : BitVec 32) (h7 : k0_chk7 w68 w71) (c : Dev nD) (bd : Option ℕ) (v : ℕ) (hv : ∀ u ∈ bd, v < u) (a : BitVec 1) (Q : BitVec 1 → SP F) :
    W c (some v) (canBody i arg19 harg19 arg3 harg3 arg4 harg4 arg17 arg15 harg15 arg10 harg10 arg18 arg16 harg16 arg11 harg11 arg5 harg5 arg6 harg6 a
        (fun v67 v68 h2 v73 v78 h3 v81 h4 s j => Prog.lift (.call (12 : (Λ₀ F).Label) ⟨i, v30, hw6, v39, hw85, t, w68, h8, w71, h7, v67, v68, h2, v73, v78, h3, v81, h4, arg5, harg5, arg6, harg6, s, j⟩)) (fun b => (Prog.lift (.call (11 : (Λ₀ F).Label) ⟨i, v30, hw6, v39, hw85, t, w68, h8, w71, h7, arg19, harg19, arg3, harg3, arg4, harg4, arg17, arg15, harg15, arg10, harg10, arg18, arg16, harg16, arg11, harg11, arg5, harg5, arg6, harg6, b⟩) : PR F (BitVec 1)))) Q
      ⊢ W c bd (Prog.lift (.call (11 : (Λ₀ F).Label) ⟨i, v30, hw6, v39, hw85, t, w68, h8, w71, h7, arg19, harg19, arg3, harg3, arg4, harg4, arg17, arg15, harg15, arg10, harg10, arg18, arg16, harg16, arg11, harg11, arg5, harg5, arg6, harg6, a⟩) : PR F (BitVec 1)) Q :=
  (Entails.of_eq (congrArg (fun p => W c (some v) p Q) (by chain_rfl))).trans (W_call (ℓ := (11 : (Λ₀ F).Label)) c bd v hv)

theorem r12 (t : Fin (k0_t4_loop v39).trips) (w68 : BitVec 32) (h8 : k0_chk8 w68) (w71 : BitVec 32) (h7 : k0_chk7 w68 w71) (v67 v68 : BitVec 32) (h2 : k0_chk2 v67 v68) (v73 v78 : BitVec 32) (h3 : k0_chk3 v67 v73 v78) (v81 : BitVec 32) (h4 : k0_chk4 v67 v73 v78 v81) (c : Dev nD) (bd : Option ℕ) (v : ℕ) (hv : ∀ u ∈ bd, v < u) (a b : BitVec 32) (Q : BitVec 32 × BitVec 32 → SP F) :
    W c (some v) (skipBody i arg5 harg5 arg6 harg6 (fun s j => (Prog.lift (.call (12 : (Λ₀ F).Label) ⟨i, v30, hw6, v39, hw85, t, w68, h8, w71, h7, v67, v68, h2, v73, v78, h3, v81, h4, arg5, harg5, arg6, harg6, s, j⟩) : PR F (BitVec 32 × BitVec 32))) a b) Q
      ⊢ W c bd (Prog.lift (.call (12 : (Λ₀ F).Label) ⟨i, v30, hw6, v39, hw85, t, w68, h8, w71, h7, v67, v68, h2, v73, v78, h3, v81, h4, arg5, harg5, arg6, harg6, a, b⟩) : PR F (BitVec 32 × BitVec 32)) Q :=
  (Entails.of_eq (congrArg (fun p => W c (some v) p Q) (by chain_rfl))).trans (W_call (ℓ := (12 : (Λ₀ F).Label)) c bd v hv)

theorem r16 (t : Fin (k0_t7_loop v48).trips) (w68 : BitVec 32) (h8 : k0_chk8 w68) (w71 : BitVec 32) (h7 : k0_chk7 w68 w71) (c : Dev nD) (bd : Option ℕ) (v : ℕ) (hv : ∀ u ∈ bd, v < u) (a b : BitVec 32) (Q : BitVec 32 × BitVec 32 → SP F) :
    W c (some v) (skipBody i arg5 harg5 arg6 harg6 (fun s j => (Prog.lift (.call (16 : (Λ₀ F).Label) ⟨i, v30, hw6, v39, hw85, v48, hw164, t, w68, h8, w71, h7, arg5, harg5, arg6, harg6, s, j⟩) : PR F (BitVec 32 × BitVec 32))) a b) Q
      ⊢ W c bd (Prog.lift (.call (16 : (Λ₀ F).Label) ⟨i, v30, hw6, v39, hw85, v48, hw164, t, w68, h8, w71, h7, arg5, harg5, arg6, harg6, a, b⟩) : PR F (BitVec 32 × BitVec 32)) Q :=
  (Entails.of_eq (congrArg (fun p => W c (some v) p Q) (by chain_rfl))).trans (W_call (ℓ := (16 : (Λ₀ F).Label)) c bd v hv)

theorem r17 (t : Fin (k0_t7_loop v48).trips) (w68 : BitVec 32) (h8 : k0_chk8 w68) (w71 : BitVec 32) (h7 : k0_chk7 w68 w71) (c : Dev nD) (bd : Option ℕ) (v : ℕ) (hv : ∀ u ∈ bd, v < u) (a : BitVec 1) (Q : BitVec 1 → SP F) :
    W c (some v) (canBody i arg19 harg19 arg3 harg3 arg4 harg4 arg17 arg15 harg15 arg10 harg10 arg18 arg16 harg16 arg11 harg11 arg5 harg5 arg6 harg6 a
        (fun v67 v68 h2 v73 v78 h3 v81 h4 s j => Prog.lift (.call (18 : (Λ₀ F).Label) ⟨i, v30, hw6, v39, hw85, v48, hw164, t, w68, h8, w71, h7, v67, v68, h2, v73, v78, h3, v81, h4, arg5, harg5, arg6, harg6, s, j⟩)) (fun b => (Prog.lift (.call (17 : (Λ₀ F).Label) ⟨i, v30, hw6, v39, hw85, v48, hw164, t, w68, h8, w71, h7, arg19, harg19, arg3, harg3, arg4, harg4, arg17, arg15, harg15, arg10, harg10, arg18, arg16, harg16, arg11, harg11, arg5, harg5, arg6, harg6, b⟩) : PR F (BitVec 1)))) Q
      ⊢ W c bd (Prog.lift (.call (17 : (Λ₀ F).Label) ⟨i, v30, hw6, v39, hw85, v48, hw164, t, w68, h8, w71, h7, arg19, harg19, arg3, harg3, arg4, harg4, arg17, arg15, harg15, arg10, harg10, arg18, arg16, harg16, arg11, harg11, arg5, harg5, arg6, harg6, a⟩) : PR F (BitVec 1)) Q :=
  (Entails.of_eq (congrArg (fun p => W c (some v) p Q) (by chain_rfl))).trans (W_call (ℓ := (17 : (Λ₀ F).Label)) c bd v hv)

theorem r18 (t : Fin (k0_t7_loop v48).trips) (w68 : BitVec 32) (h8 : k0_chk8 w68) (w71 : BitVec 32) (h7 : k0_chk7 w68 w71) (v67 v68 : BitVec 32) (h2 : k0_chk2 v67 v68) (v73 v78 : BitVec 32) (h3 : k0_chk3 v67 v73 v78) (v81 : BitVec 32) (h4 : k0_chk4 v67 v73 v78 v81) (c : Dev nD) (bd : Option ℕ) (v : ℕ) (hv : ∀ u ∈ bd, v < u) (a b : BitVec 32) (Q : BitVec 32 × BitVec 32 → SP F) :
    W c (some v) (skipBody i arg5 harg5 arg6 harg6 (fun s j => (Prog.lift (.call (18 : (Λ₀ F).Label) ⟨i, v30, hw6, v39, hw85, v48, hw164, t, w68, h8, w71, h7, v67, v68, h2, v73, v78, h3, v81, h4, arg5, harg5, arg6, harg6, s, j⟩) : PR F (BitVec 32 × BitVec 32))) a b) Q
      ⊢ W c bd (Prog.lift (.call (18 : (Λ₀ F).Label) ⟨i, v30, hw6, v39, hw85, v48, hw164, t, w68, h8, w71, h7, v67, v68, h2, v73, v78, h3, v81, h4, arg5, harg5, arg6, harg6, a, b⟩) : PR F (BitVec 32 × BitVec 32)) Q :=
  (Entails.of_eq (congrArg (fun p => W c (some v) p Q) (by chain_rfl))).trans (W_call (ℓ := (18 : (Λ₀ F).Label)) c bd v hv)

theorem r22 (t : Fin (k0_t10_loop v57).trips) (w68 : BitVec 32) (h8 : k0_chk8 w68) (w71 : BitVec 32) (h7 : k0_chk7 w68 w71) (c : Dev nD) (bd : Option ℕ) (v : ℕ) (hv : ∀ u ∈ bd, v < u) (a b : BitVec 32) (Q : BitVec 32 × BitVec 32 → SP F) :
    W c (some v) (skipBody i arg5 harg5 arg6 harg6 (fun s j => (Prog.lift (.call (22 : (Λ₀ F).Label) ⟨i, v30, hw6, v39, hw85, v48, hw164, v57, hw243, t, w68, h8, w71, h7, arg5, harg5, arg6, harg6, s, j⟩) : PR F (BitVec 32 × BitVec 32))) a b) Q
      ⊢ W c bd (Prog.lift (.call (22 : (Λ₀ F).Label) ⟨i, v30, hw6, v39, hw85, v48, hw164, v57, hw243, t, w68, h8, w71, h7, arg5, harg5, arg6, harg6, a, b⟩) : PR F (BitVec 32 × BitVec 32)) Q :=
  (Entails.of_eq (congrArg (fun p => W c (some v) p Q) (by chain_rfl))).trans (W_call (ℓ := (22 : (Λ₀ F).Label)) c bd v hv)

theorem r23 (t : Fin (k0_t10_loop v57).trips) (w68 : BitVec 32) (h8 : k0_chk8 w68) (w71 : BitVec 32) (h7 : k0_chk7 w68 w71) (c : Dev nD) (bd : Option ℕ) (v : ℕ) (hv : ∀ u ∈ bd, v < u) (a : BitVec 1) (Q : BitVec 1 → SP F) :
    W c (some v) (canBody i arg19 harg19 arg3 harg3 arg4 harg4 arg17 arg15 harg15 arg10 harg10 arg18 arg16 harg16 arg11 harg11 arg5 harg5 arg6 harg6 a
        (fun v67 v68 h2 v73 v78 h3 v81 h4 s j => Prog.lift (.call (24 : (Λ₀ F).Label) ⟨i, v30, hw6, v39, hw85, v48, hw164, v57, hw243, t, w68, h8, w71, h7, v67, v68, h2, v73, v78, h3, v81, h4, arg5, harg5, arg6, harg6, s, j⟩)) (fun b => (Prog.lift (.call (23 : (Λ₀ F).Label) ⟨i, v30, hw6, v39, hw85, v48, hw164, v57, hw243, t, w68, h8, w71, h7, arg19, harg19, arg3, harg3, arg4, harg4, arg17, arg15, harg15, arg10, harg10, arg18, arg16, harg16, arg11, harg11, arg5, harg5, arg6, harg6, b⟩) : PR F (BitVec 1)))) Q
      ⊢ W c bd (Prog.lift (.call (23 : (Λ₀ F).Label) ⟨i, v30, hw6, v39, hw85, v48, hw164, v57, hw243, t, w68, h8, w71, h7, arg19, harg19, arg3, harg3, arg4, harg4, arg17, arg15, harg15, arg10, harg10, arg18, arg16, harg16, arg11, harg11, arg5, harg5, arg6, harg6, a⟩) : PR F (BitVec 1)) Q :=
  (Entails.of_eq (congrArg (fun p => W c (some v) p Q) (by chain_rfl))).trans (W_call (ℓ := (23 : (Λ₀ F).Label)) c bd v hv)

theorem r24 (t : Fin (k0_t10_loop v57).trips) (w68 : BitVec 32) (h8 : k0_chk8 w68) (w71 : BitVec 32) (h7 : k0_chk7 w68 w71) (v67 v68 : BitVec 32) (h2 : k0_chk2 v67 v68) (v73 v78 : BitVec 32) (h3 : k0_chk3 v67 v73 v78) (v81 : BitVec 32) (h4 : k0_chk4 v67 v73 v78 v81) (c : Dev nD) (bd : Option ℕ) (v : ℕ) (hv : ∀ u ∈ bd, v < u) (a b : BitVec 32) (Q : BitVec 32 × BitVec 32 → SP F) :
    W c (some v) (skipBody i arg5 harg5 arg6 harg6 (fun s j => (Prog.lift (.call (24 : (Λ₀ F).Label) ⟨i, v30, hw6, v39, hw85, v48, hw164, v57, hw243, t, w68, h8, w71, h7, v67, v68, h2, v73, v78, h3, v81, h4, arg5, harg5, arg6, harg6, s, j⟩) : PR F (BitVec 32 × BitVec 32))) a b) Q
      ⊢ W c bd (Prog.lift (.call (24 : (Λ₀ F).Label) ⟨i, v30, hw6, v39, hw85, v48, hw164, v57, hw243, t, w68, h8, w71, h7, v67, v68, h2, v73, v78, h3, v81, h4, arg5, harg5, arg6, harg6, a, b⟩) : PR F (BitVec 32 × BitVec 32)) Q :=
  (Entails.of_eq (congrArg (fun p => W c (some v) p Q) (by chain_rfl))).trans (W_call (ℓ := (24 : (Λ₀ F).Label)) c bd v hv)

end Cert.KernelIdeal.M
-- ==== Proof.KI.Loops.lean ====
module

public import proofs.«01_k».proof.Proof.KI.Widen
public import proofs.«01_k».proof.Proof.KI.Tokens
public import proofs.«01_k».proof.Proof.KI.Calls

@[expose] public section

noncomputable section

/-
  The widening of one sub-list.
-/
namespace Cert.KernelIdeal.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]
open Facts₀ Facts

omit [Facts] in
theorem cnt_loop : ∀ n : Fin 129, (k0_t1_loop (nw n.val)).OK ∧ (k0_t1_loop (nw n.val)).trips = n.val ∧ (k0_t2_loop (nw n.val)).OK ∧ (k0_t2_loop (nw n.val)).trips = 0 := by
  decide +kernel

omit [Facts] in
theorem iv_word : ∀ k : Fin 128, (Scalar.indexCast (Scf.iv (0#32 : BitVec 32) 1#32 k.val)).toNat = k.val := by decide +kernel

section
variable {n : ℕ} (hn : n ≤ 128)
include hn

omit [Facts] in
theorem t1_ok : (k0_t1_loop (nw n)).OK := (cnt_loop ⟨n, by omega⟩).1
omit [Facts] in
theorem t1_trips : (k0_t1_loop (nw n)).trips = n := (cnt_loop ⟨n, by omega⟩).2.1
omit [Facts] in
theorem t2_ok : (k0_t2_loop (nw n)).OK := (cnt_loop ⟨n, by omega⟩).2.2.1
omit [Facts] in
theorem t2_trips : (k0_t2_loop (nw n)).trips = 0 := (cnt_loop ⟨n, by omega⟩).2.2.2

omit [Facts] in
theorem iv_lt (k : Fin (k0_t1_loop (nw n)).trips) : k.val < 128 := lt_of_lt_of_le (lt_of_lt_of_eq k.isLt (t1_trips hn)) hn

omit [Facts] in
theorem off12_eq (k : Fin (k0_t1_loop (nw n)).trips) : k0_off12 (nw n) k = ![0, 0, k.val] := by
  unfold k0_off12
  simp only
  rw [iv_word ⟨k.val, iv_lt hn k⟩]
omit [Facts] in
theorem off368_eq (k : Fin (k0_t1_loop (nw n)).trips) : k0_off368 (nw n) k = ![0, 1, k.val] := by
  unfold k0_off368
  simp only
  rw [iv_word ⟨k.val, iv_lt hn k⟩]
omit [Facts] in
theorem off724_eq (k : Fin (k0_t1_loop (nw n)).trips) : k0_off724 (nw n) k = ![0, 2, k.val] := by
  unfold k0_off724
  simp only
  rw [iv_word ⟨k.val, iv_lt hn k⟩]
omit [Facts] in
theorem off1080_eq (k : Fin (k0_t1_loop (nw n)).trips) : k0_off1080 (nw n) k = ![0, 3, k.val] := by
  unfold k0_off1080
  simp only
  rw [iv_word ⟨k.val, iv_lt hn k⟩]

omit [Facts] hn in
theorem ent_inb {σ k : ℕ} (hσ : σ < 4) (hk : k < 128) : ∀ a, (![0, σ, k] : Fin 3 → ℕ) a + S1x1x1.size a ≤ S1x4x128.size a := by
  intro a
  fin_cases a
  · show 0 + 1 ≤ 1; omega
  · show σ + 1 ≤ 4; omega
  · show k + 1 ≤ 128; omega

omit [Facts] in
theorem chk6_ok : k0_chk6 (nw n) :=
  ⟨t1_ok hn, fun k => by rw [off12_eq hn k]; exact ent_inb (by decide) (iv_lt hn k), t2_ok hn, fun k => Fin.elim0 (Fin.cast (t2_trips hn) k)⟩
omit [Facts] in
theorem chk85_ok : k0_chk85 (nw n) :=
  ⟨t1_ok hn, fun k => by rw [off368_eq hn k]; exact ent_inb (by decide) (iv_lt hn k), t2_ok hn, fun k => Fin.elim0 (Fin.cast (t2_trips hn) k)⟩
omit [Facts] in
theorem chk164_ok : k0_chk164 (nw n) :=
  ⟨t1_ok hn, fun k => by rw [off724_eq hn k]; exact ent_inb (by decide) (iv_lt hn k), t2_ok hn, fun k => Fin.elim0 (Fin.cast (t2_trips hn) k)⟩
omit [Facts] in
theorem chk243_ok : k0_chk243 (nw n) :=
  ⟨t1_ok hn, fun k => by rw [off1080_eq hn k]; exact ent_inb (by decide) (iv_lt hn k), t2_ok hn, fun k => Fin.elim0 (Fin.cast (t2_trips hn) k)⟩
end

/-- A loop of no trips, its carried word forgotten. -/
theorem W_none (c : Dev nD) {l : Scf.Loop 32} (hl : l.trips = 0) (hok : l.OK) {β : Type} {init : BitVec 32} {body : Fin l.trips → BitVec 32 → PR F (BitVec 32)}
    {kk : BitVec 32 → PR F β} {Q : β → SP F} : (iprop(∀ acc, W c none (kk acc) Q)) ⊢ W c none (Scf.Loop.for l hok init body >>= kk) Q := by
  have h := Scf.wp_for_bind frame (wpE (defs₀ (F := F)) VN (c : Thread nD τ) none) Set.univ l.lb l.ub l.st hok init body
    (fun _ _ => (iprop(∀ acc, W c none (kk acc) Q))) (fun k acc => absurd (lt_of_lt_of_eq k.isLt hl) (by omega)) (kk := kk) (Q := Q)
  iintro H
  iapply h $$ H
  iintro %acc H
  iapply H

section
variable (i : grid0.Coords) (arg3 : Memref sig .tc .smem S1x4x128 .i32) (harg3 : arg3.IsWhole) (arg4 : Memref sig .tc .smem S1x4x128 .i32) (harg4 : arg4.IsWhole)
  (arg5 : Memref sig .tc .smem S1x1x4 .i32) (harg5 : arg5.IsWhole) (arg6 : Memref sig .tc .smem S1x1x4 .i32) (harg6 : arg6.IsWhole)
  (arg8 : Memref sig .tc .vmem S32x3072 .fp8e4m3) (arg9 : Memref sig .tc .vmem S32x24 .f32)
  (arg10 : Memref sig .tc .hbm S249037x3072 .fp8e4m3) (harg10 : arg10.IsWhole) (arg11 : Memref sig .tc .hbm S249037x24 .f32) (harg11 : arg11.IsWhole)
  (arg13 : Memref sig .tc .vmem S102432x128 .f32)
  (arg15 : Memref sig .tc .vmem S16x32x3072 .fp8e4m3) (harg15 : arg15.IsWhole) (arg16 : Memref sig .tc .vmem S16x32x24 .f32) (harg16 : arg16.IsWhole)
  (arg17 : DmaSems sig S16) (arg18 : DmaSems sig S16) (arg19 : Memref sig .tc .smem S4 .i32) (harg19 : arg19.IsWhole)
  (C : Cts F) (L : Lists) (c : Dev nD) (X8 : S32x3072.Idx → Elt F .fp8e4m3) (X9 : S32x24.Idx → Elt F .f32)
  (PD : ℕ → (S102432x128.Idx → Elt F .f32) → Prop)

/-- What widening keeps, `D` items done. -/
def WI (D : ℕ) : SP F :=
  iprop(∃ I, ∃ s, ∃ j, ∃ X, ⌜L.Full (stp i) I D s j ∧ PD D X⌝ ∗ QR arg3 arg4 arg5 arg6 arg10 arg11 arg15 arg16 arg17 arg18 arg19 C L c I D s j
    ∗ owns (c : Thread nD τ) arg8 fullShare X8 ∗ owns (c : Thread nD τ) arg9 fullShare X9 ∗ owns (c : Thread nD τ) arg13 fullShare X ∗ ow c)

variable (hE : Ents L (stp i) C.X3 C.X4) (hC : Counts L (stp i) C.X5 C.X6)
  (hPD : ∀ D E (hE : E < 498112) X, L.item D = E → PD D X → PD (D + 1) (widX (nw E) (chk8_ok hE) (codesOf C X8 (E / 64)) (scalesOf C X9 (E / 64)) X))

include hE hC hPD in
theorem W_wloop {σ : ℕ} (hσ : σ < 4) {l : Scf.Loop 32} (hl : l.trips = L.cnt (4 * stp i + σ)) (hok : l.OK)
    {off : Fin l.trips → Fin 3 → ℕ} {hoff : ∀ k, ∀ a, off k a + S1x1x1.size a ≤ S1x4x128.size a} (hoffe : ∀ k, off k = ![0, σ, k.val])
    {cs2 : Fin l.trips → (v68 : BitVec 32) → k0_chk8 v68 → (v71 : BitVec 32) → k0_chk7 v68 v71 →
      (v67 v68 : Elt F .i32) → k0_chk2 v67 v68 → (v73 v78 : Elt F .i32) → k0_chk3 v67 v73 v78 → (v81 : Elt F .i32) → k0_chk4 v67 v73 v78 v81 → BitVec 32 → BitVec 32 → PR F (BitVec 32 × BitVec 32)}
    (hcs2 : ∀ t w68 h8 w71 h7 v67 v68 h2 v73 v78 h3 v81 h4 (c : Dev nD) (bd : Option ℕ) (v : ℕ), (∀ u ∈ bd, v < u) → ∀ (a b : BitVec 32) (Q : BitVec 32 × BitVec 32 → SP F),
      W c (some v) (skipBody i arg5 harg5 arg6 harg6 (cs2 t w68 h8 w71 h7 v67 v68 h2 v73 v78 h3 v81 h4) a b) Q ⊢ W c bd (cs2 t w68 h8 w71 h7 v67 v68 h2 v73 v78 h3 v81 h4 a b) Q)
    {callCan : Fin l.trips → (v68 : BitVec 32) → k0_chk8 v68 → (v71 : BitVec 32) → k0_chk7 v68 v71 → BitVec 1 → PR F (BitVec 1)}
    (hcan : ∀ t w68 h8 w71 h7 (c : Dev nD) (bd : Option ℕ) (v : ℕ), (∀ u ∈ bd, v < u) → ∀ (a : BitVec 1) (Q : BitVec 1 → SP F),
      W c (some v) (canBody i arg19 harg19 arg3 harg3 arg4 harg4 arg17 arg15 harg15 arg10 harg10 arg18 arg16 harg16 arg11 harg11 arg5 harg5 arg6 harg6 a (cs2 t w68 h8 w71 h7) (callCan t w68 h8 w71 h7)) Q
        ⊢ W c bd (callCan t w68 h8 w71 h7 a) Q)
    {callSkip : Fin l.trips → (v68 : BitVec 32) → k0_chk8 v68 → (v71 : BitVec 32) → k0_chk7 v68 v71 → BitVec 32 → BitVec 32 → PR F (BitVec 32 × BitVec 32)}
    (hskip : ∀ t w68 h8 w71 h7 (c : Dev nD) (bd : Option ℕ) (v : ℕ), (∀ u ∈ bd, v < u) → ∀ (a b : BitVec 32) (Q : BitVec 32 × BitVec 32 → SP F),
      W c (some v) (skipBody i arg5 harg5 arg6 harg6 (callSkip t w68 h8 w71 h7) a b) Q ⊢ W c bd (callSkip t w68 h8 w71 h7 a b) Q)
    {β : Type} {init : BitVec 32} {kk : BitVec 32 → PR F β} {Q : β → SP F} :
    WI i arg3 arg4 arg5 arg6 arg8 arg9 arg10 arg11 arg13 arg15 arg16 arg17 arg18 arg19 C L c X8 X9 PD (L.P (4 * stp i + σ))
      ⊢ iprop((∀ acc, WI i arg3 arg4 arg5 arg6 arg8 arg9 arg10 arg11 arg13 arg15 arg16 arg17 arg18 arg19 C L c X8 X9 PD (L.P (4 * stp i + (σ + 1))) -∗ W c none (kk acc) Q)
        -∗ W c none (Scf.Loop.for l hok init (fun t _ => widen arg3 arg8 arg9 arg10 harg10 arg11 arg13 arg15 harg15 arg16 arg17 arg18 arg19 (off t) (hoff t)
            (nw (Lists.top (stp i))) (callSkip t) (callCan t)) >>= kk) Q) := by
  have h := Scf.wp_for_bind frame (wpE (defs₀ (F := F)) VN (c : Thread nD τ) none) Set.univ l.lb l.ub l.st hok init
    (fun t _ => widen arg3 arg8 arg9 arg10 harg10 arg11 arg13 arg15 harg15 arg16 arg17 arg18 arg19 (off t) (hoff t) (nw (Lists.top (stp i))) (callSkip t) (callCan t))
    (fun n _ => WI i arg3 arg4 arg5 arg6 arg8 arg9 arg10 arg11 arg13 arg15 arg16 arg17 arg18 arg19 C L c X8 X9 PD (L.P (4 * stp i + σ) + n))
    (fun k acc => ?_) (kk := kk) (Q := Q)
  · have eP : L.P (4 * stp i + (σ + 1)) = L.P (4 * stp i + σ) + Scf.trips l.lb l.ub l.st := by
      rw [← add_assoc, L.P_succ]; exact congrArg _ hl.symm
    iintro H HK
    iapply h $$ H
    iintro %acc H
    iapply HK
    rw [eP]
    iexact H
  · have hk : k.val < L.cnt (4 * stp i + σ) := lt_of_lt_of_eq k.isLt hl
    have hE' := L.ent_lt _ _ hk
    have hi := L.item_at hk
    have hent : ∀ y, C.X3 ((Rect.unit (s := S1x4x128) (off k) S1x1x1.size (hoff k)).idx y) = nw (L.ent (4 * stp i + σ) k.val) := by
      intro y
      have e1 : ((Rect.unit (s := S1x4x128) (off k) S1x1x1.size (hoff k)).idx y 1).val = σ := by
        show off k 1 + 1 * (y 1).val = σ
        have : (y 1).val < 1 := (y 1).isLt
        have e : off k 1 = σ := congrFun (hoffe k) 1
        omega
      have e2 : ((Rect.unit (s := S1x4x128) (off k) S1x1x1.size (hoff k)).idx y 2).val = k.val := by
        show off k 2 + 1 * (y 2).val = k.val
        have : (y 2).val < 1 := (y 2).isLt
        have e : off k 2 = k.val := congrFun (hoffe k) 2
        omega
      have := hE.cur ((Rect.unit (s := S1x4x128) (off k) S1x1x1.size (hoff k)).idx y) (by rw [e1, e2]; exact hk)
      rw [e1, e2] at this
      exact this
    unfold WI
    iintro ⟨%I, %s, %j, %X, %hF, HQ, H8, H9, H13, HO⟩
    obtain ⟨hF, hX⟩ := hF
    have hDI : L.P (4 * stp i + σ) + k.val < I := by
      refine hF.lt ?_
      have := L.P_mono (show 4 * stp i + σ + 1 ≤ 4 * stp i + 4 by omega)
      rw [L.P_succ] at this
      omega
    iapply (widen_spec i arg3 harg3 arg4 harg4 arg5 harg5 arg6 harg6 arg8 arg9 arg10 harg10 arg11 harg11 arg13 arg15 harg15 arg16 harg16 arg17 arg18 arg19 harg19 C L c hE hC
      (cs2 k) (hcs2 k) (callCan k) (hcan k) (callSkip k) (hskip k) hent hE' hi hF hDI)
    isplitl [HQ H8 H9 H13 HO]
    · isplitl [HQ]; · iexact HQ
      isplitl [H8]; · iexact H8
      isplitl [H9]; · iexact H9
      isplitl [H13]; · iexact H13
      iexact HO
    iintro %I' %s' %j' %hF' ⟨HQ, H8, H9, H13, HO⟩
    iexists I', s', j', _
    isplitr
    · ipureintro
      exact ⟨hF', hPD _ _ hE' _ hi hX⟩
    isplitl [HQ]; · iexact HQ
    isplitl [H8]; · iexact H8
    isplitl [H9]; · iexact H9
    isplitl [H13]; · iexact H13
    iexact HO

end

end Cert.KernelIdeal.M
-- ==== Proof.KI.MirrorEq.lean ====
module

public import proofs.«01_k».proof.Proof.KI.Mirror
public import Idealize.ShloMosaic.Lib.Pipeline.Regions

@[expose] public section

set_option synthInstance.maxSize 4096

noncomputable section

namespace Cert.KernelIdeal.M

open Idealize.ShloMosaic Idealize.SL.Sem

variable {F : FTy → Type} [FloatOps F]
variable [Facts]
open Facts₀ Facts
variable (i : grid0.Coords) (arg1 : Memref sig .tc .smem S8x128 .i32) (harg1 : arg1.IsWhole) (arg2 : Memref sig .tc .smem S8x128 .f32) (harg2 : arg2.IsWhole) (arg3 : Memref sig .tc .smem S1x4x128 .i32) (harg3 : arg3.IsWhole) (arg4 : Memref sig .tc .smem S1x4x128 .i32) (harg4 : arg4.IsWhole) (arg5 : Memref sig .tc .smem S1x1x4 .i32) (harg5 : arg5.IsWhole) (arg6 : Memref sig .tc .smem S1x1x4 .i32) (harg6 : arg6.IsWhole) (arg7 : Memref sig .tc .vmem S128x3072 .bf16) (harg7 : arg7.IsWhole) (arg8 : Memref sig .tc .vmem S32x3072 .fp8e4m3) (harg8 : arg8.IsWhole) (arg9 : Memref sig .tc .vmem S32x24 .f32) (harg9 : arg9.IsWhole) (arg10 : Memref sig .tc .hbm S249037x3072 .fp8e4m3) (harg10 : arg10.IsWhole) (arg11 : Memref sig .tc .hbm S249037x24 .f32) (harg11 : arg11.IsWhole) (arg12 : Memref sig .tc .vmem S128x3072 .bf16) (harg12 : arg12.IsWhole) (arg13 : Memref sig .tc .vmem S102432x128 .f32) (harg13 : arg13.IsWhole) (arg14 : Memref sig .tc .vmem S3200x128 .f32) (harg14 : arg14.IsWhole) (arg15 : Memref sig .tc .vmem S16x32x3072 .fp8e4m3) (harg15 : arg15.IsWhole) (arg16 : Memref sig .tc .vmem S16x32x24 .f32) (harg16 : arg16.IsWhole) (arg17 : DmaSems sig S16) (arg18 : DmaSems sig S16) (arg19 : Memref sig .tc .smem S4 .i32) (harg19 : arg19.IsWhole)

theorem comb_eq : cc0_combine (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19 = comb i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19 := by chain_rfl

end Cert.KernelIdeal.M
-- ==== Proof.KI.Open.lean ====
module

public import proofs.«01_k».proof.Proof.KI.Loops
public import proofs.«01_k».proof.Proof.KI.MirrorEq

@[expose] public section

noncomputable section

/-
  One grid step.
-/
namespace Cert.KernelIdeal.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]
open Facts₀ Facts

omit [Facts] in
theorem first_step : ∀ n : Fin 256, n.val = 0 → Scalar.cmpi .ne (Scalar.extui (Scalar.cmpi .eq (BitVec.ofNat 32 n.val) 0#32) : BitVec 32) 0#32 = 1#1
    ∧ ¬ Scalar.cmpi .ne (Scalar.extui (Scalar.cmpi .sgt (BitVec.ofNat 32 n.val) 0#32) : BitVec 32) 0#32 = 1#1 := by decide +kernel
omit [Facts] in
theorem later_step : ∀ n : Fin 256, n.val ≠ 0 → ¬ Scalar.cmpi .ne (Scalar.extui (Scalar.cmpi .eq (BitVec.ofNat 32 n.val) 0#32) : BitVec 32) 0#32 = 1#1
    ∧ Scalar.cmpi .ne (Scalar.extui (Scalar.cmpi .sgt (BitVec.ofNat 32 n.val) 0#32) : BitVec 32) 0#32 = 1#1 := by decide +kernel

/-- The row numbers of a store of eight rows. -/
def vI (n : BitVec 32) : IVec S8x128 32 := addi (iota .tc S8x128 32 [0] iota_S8x128_d0_w32) (broadcast S8x128 n)

/-- What the opening of a step yields. -/
abbrev Opened (F : FTy → Type) [FloatOps F] : Type := Σ' (v5 : BitVec 32) (v23 : IVec S8x128 32) (v26 : IVec S8x128 32) (v29 : IVec S8x128 32) (v30 : Elt F .i32) (k0_hw6 : k0_chk6 v30) (c0_i32_11 : BitVec 32), BitVec 32

section
variable (i : grid0.Coords)
  (arg1 : Memref sig .tc .smem S8x128 .i32) (harg1 : arg1.IsWhole)
  (arg2 : Memref sig .tc .smem S8x128 .f32) (harg2 : arg2.IsWhole)
  (arg3 : Memref sig .tc .smem S1x4x128 .i32) (harg3 : arg3.IsWhole)
  (arg4 : Memref sig .tc .smem S1x4x128 .i32) (harg4 : arg4.IsWhole)
  (arg5 : Memref sig .tc .smem S1x1x4 .i32) (harg5 : arg5.IsWhole)
  (arg6 : Memref sig .tc .smem S1x1x4 .i32) (harg6 : arg6.IsWhole)
  (arg7 : Memref sig .tc .vmem S128x3072 .bf16) (harg7 : arg7.IsWhole)
  (arg8 : Memref sig .tc .vmem S32x3072 .fp8e4m3) (harg8 : arg8.IsWhole)
  (arg9 : Memref sig .tc .vmem S32x24 .f32) (harg9 : arg9.IsWhole)
  (arg10 : Memref sig .tc .hbm S249037x3072 .fp8e4m3) (harg10 : arg10.IsWhole)
  (arg11 : Memref sig .tc .hbm S249037x24 .f32) (harg11 : arg11.IsWhole)
  (arg12 : Memref sig .tc .vmem S128x3072 .bf16) (harg12 : arg12.IsWhole)
  (arg13 : Memref sig .tc .vmem S102432x128 .f32) (harg13 : arg13.IsWhole)
  (arg14 : Memref sig .tc .vmem S3200x128 .f32) (harg14 : arg14.IsWhole)
  (arg15 : Memref sig .tc .vmem S16x32x3072 .fp8e4m3) (harg15 : arg15.IsWhole)
  (arg16 : Memref sig .tc .vmem S16x32x24 .f32) (harg16 : arg16.IsWhole)
  (arg17 arg18 : DmaSems sig S16) (arg19 : Memref sig .tc .smem S4 .i32) (harg19 : arg19.IsWhole)

/-- The opening of a step after the counters are set: the queue filled, the first count read. -/
def open2 (v5 : BitVec 32) : PR F (Opened F) :=
  topUp arg19 v5 (fun s j => Prog.lift (.call (1 : (Λ₀ F).Label) ⟨i, arg5, harg5, arg6, harg6, s, j⟩))
    (fun b => Prog.lift (.call (2 : (Λ₀ F).Label) ⟨i, arg19, harg19, arg3, harg3, arg4, harg4, arg17, arg15, harg15, arg10, harg10, arg18, arg16, harg16, arg11, harg11, arg5, harg5, arg6, harg6, b⟩)) (do
    let v30 : Elt F .i32 ← smemLoad arg5 (Rect.unit (s := S1x1x4) ![0, 0, 0] S1x1x1.size inb_S1x1x4_S1x1x1_0_0_0) numel1_S1x1x1 rfl
    have k0_hw6 : k0_chk6 v30 := (← Prog.lift (TpuEff.assume (k0_chk6 v30) (k0_chk6.dec v30))).down
    pure ⟨v5, vI 0#32, vI 8#32, vI 16#32, v30, k0_hw6, 0#32, 0#32⟩)

theorem part496_first (h : (i 0).val = 0) : (k0_part496 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19 : PR F (Opened F)) =
    (wrS arg19 0 0#32 <| wrS arg19 1 0#32 <| wrS arg19 2 0#32 <| wrS arg19 3 0#32 <| do
      let v72 : Vec F S32x128 .f32 ← Prog.lift (.load arg13 (Rect.unit (s := S102432x128) ![102400, 0] S32x128.size inb_S102432x128_S32x128_102400_0).toLoadRect (View.loadsAt_vmem h_S32x128))
      Prog.lift (.store arg13 (Rect.unit (s := S102432x128) ![102400, 0] S32x128.size inb_S102432x128_S32x128_102400_0) (shapeCast S32x128 (broadcast S32x128 (Scalar.ofBits .f32 0x00000000#32 : F .f32)) shapeCasts_S32x128_S32x128) Finset.univ (View.stores_vmem_bits_univ h_S32x128 rfl) (.inl rfl))
      open2 i arg3 harg3 arg4 harg4 arg5 harg5 arg6 harg6 arg10 harg10 arg11 harg11 arg15 harg15 arg16 harg16 arg17 arg18 arg19 harg19 (Scalar.select (Scalar.cmpi .slt (Scalar.addi (BitVec.ofNat 32 (i 0).val) 1#32) 256#32) 8#32 4#32)) := by
  have h1 := first_step ⟨(i 0).val, stp_lt i⟩ h
  unfold k0_part496
  rw [dif_pos h1.1, dif_neg h1.2]
  show _ = _
  chain_rfl

theorem part496_later (h : (i 0).val ≠ 0) : (k0_part496 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19 : PR F (Opened F)) =
    (rdS arg19 2 fun s => wrS arg19 2 (Scalar.subi s 4#32) <|
      open2 i arg3 harg3 arg4 harg4 arg5 harg5 arg6 harg6 arg10 harg10 arg11 harg11 arg15 harg15 arg16 harg16 arg17 arg18 arg19 harg19 (Scalar.select (Scalar.cmpi .slt (Scalar.addi (BitVec.ofNat 32 (i 0).val) 1#32) 256#32) 8#32 4#32)) := by
  have h1 := later_step ⟨(i 0).val, stp_lt i⟩ h
  unfold k0_part496
  rw [dif_neg h1.1, dif_pos h1.2]
  show _ = _
  chain_rfl

variable (C : Cts F) (L : Lists) (c : Dev nD) (hE : Ents L (stp i) C.X3 C.X4) (hC : Counts L (stp i) C.X5 C.X6)

include hE hC in
theorem W_open2 {I D s j : ℕ} (hQ : L.Que (stp i) I D s j) {Q : Opened F → SP F} :
    iprop(QR arg3 arg4 arg5 arg6 arg10 arg11 arg15 arg16 arg17 arg18 arg19 C L c I D s j
      ∗ (∀ I', ∀ s', ∀ j', ⌜L.Full (stp i) I' D s' j'⌝
          -∗ QR arg3 arg4 arg5 arg6 arg10 arg11 arg15 arg16 arg17 arg18 arg19 C L c I' D s' j' -∗ Q ⟨nw (Lists.top (stp i)), vI 0#32, vI 8#32, vI 16#32, nw (L.cnt (4 * stp i + 0)), chk6_ok (L.cnt_le _), 0#32, 0#32⟩))
      ⊢ W c none (open2 i arg3 harg3 arg4 harg4 arg5 harg5 arg6 harg6 arg10 harg10 arg11 harg11 arg15 harg15 arg16 harg16 arg17 arg18 arg19 harg19 (nw (Lists.top (stp i)))) Q := by
  unfold open2
  iintro ⟨HR, HQ⟩
  iapply (topUp_spec i arg3 harg3 arg4 harg4 arg5 harg5 arg6 harg6 arg10 harg10 arg11 harg11 arg15 harg15 arg16 harg16 arg17 arg18 arg19 harg19 C L c hE hC
    (fun v67 v68 h2 v73 v78 h3 v81 h4 s j => Prog.lift (.call (3 : (Λ₀ F).Label) ⟨i, v67, v68, h2, v73, v78, h3, v81, h4, arg5, harg5, arg6, harg6, s, j⟩))
    (r3 i arg5 harg5 arg6 harg6) _ (r2 i arg3 harg3 arg4 harg4 arg5 harg5 arg6 harg6 arg10 harg10 arg11 harg11 arg15 harg15 arg16 harg16 arg19 harg19 arg17 arg18) _
    (r1 i arg5 harg5 arg6 harg6) hQ)
  isplitl [HR]; · iexact HR
  iintro %I' %s' %j' %hF HR
  unfold QR
  icases HR with ⟨H3, H4, H5, H6, HR⟩
  iapply (W_smem c none) $$ H5
  iintro H5
  rw [show C.X5 ((Rect.unit (s := S1x1x4) ![0, 0, 0] S1x1x1.size inb_S1x1x4_S1x1x1_0_0_0).idx (Shape.Idx.first (numel1_S1x1x1.symm ▸ Nat.one_pos))) = nw (L.cnt (4 * stp i + 0)) from hC.cur _]
  iapply (W_assume c none (chk6_ok (L.cnt_le _)))
  iapply (W_ret c none)
  iapply HQ $$ %I' %s' %j' %hF
  isplitl [H3]; · iexact H3
  isplitl [H4]; · iexact H4
  isplitl [H5]; · iexact H5
  isplitl [H6]; · iexact H6
  iexact HR

end

end Cert.KernelIdeal.M
-- ==== Proof.KI.Step.lean ====
module

public import proofs.«01_k».proof.Proof.KI.Open

@[expose] public section

noncomputable section

/-
  One grid step.
-/
namespace Cert.KernelIdeal.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]
open Facts₀ Facts

section
variable (i : grid0.Coords)
  (arg1 : Memref sig .tc .smem S8x128 .i32) (harg1 : arg1.IsWhole)
  (arg2 : Memref sig .tc .smem S8x128 .f32) (harg2 : arg2.IsWhole)
  (arg3 : Memref sig .tc .smem S1x4x128 .i32) (harg3 : arg3.IsWhole)
  (arg4 : Memref sig .tc .smem S1x4x128 .i32) (harg4 : arg4.IsWhole)
  (arg5 : Memref sig .tc .smem S1x1x4 .i32) (harg5 : arg5.IsWhole)
  (arg6 : Memref sig .tc .smem S1x1x4 .i32) (harg6 : arg6.IsWhole)
  (arg7 : Memref sig .tc .vmem S128x3072 .bf16) (harg7 : arg7.IsWhole)
  (arg8 : Memref sig .tc .vmem S32x3072 .fp8e4m3) (harg8 : arg8.IsWhole)
  (arg9 : Memref sig .tc .vmem S32x24 .f32) (harg9 : arg9.IsWhole)
  (arg10 : Memref sig .tc .hbm S249037x3072 .fp8e4m3) (harg10 : arg10.IsWhole)
  (arg11 : Memref sig .tc .hbm S249037x24 .f32) (harg11 : arg11.IsWhole)
  (arg12 : Memref sig .tc .vmem S128x3072 .bf16) (harg12 : arg12.IsWhole)
  (arg13 : Memref sig .tc .vmem S102432x128 .f32) (harg13 : arg13.IsWhole)
  (arg14 : Memref sig .tc .vmem S3200x128 .f32) (harg14 : arg14.IsWhole)
  (arg15 : Memref sig .tc .vmem S16x32x3072 .fp8e4m3) (harg15 : arg15.IsWhole)
  (arg16 : Memref sig .tc .vmem S16x32x24 .f32) (harg16 : arg16.IsWhole)
  (arg17 arg18 : DmaSems sig S16) (arg19 : Memref sig .tc .smem S4 .i32) (harg19 : arg19.IsWhole)
variable (C : Cts F) (L : Lists) (c : Dev nD) (X8 : S32x3072.Idx → Elt F .fp8e4m3) (X9 : S32x24.Idx → Elt F .f32)
  (PD : ℕ → (S102432x128.Idx → Elt F .f32) → Prop)
  (hE : Ents L (stp i) C.X3 C.X4) (hC : Counts L (stp i) C.X5 C.X6)
  (hPD : ∀ D E (hE : E < 498112) X, L.item D = E → PD D X → PD (D + 1) (widX (nw E) (chk8_ok hE) (codesOf C X8 (E / 64)) (scalesOf C X9 (E / 64)) X))
  (hP0 : ∀ X, PD 0 X)

/-- The state a step finds. -/
def StOk (t : ℕ) (v : Fin 4 → ℕ) (I D s j : ℕ) : Prop :=
  ((t = 0 ∧ I = 0) ∨ (0 < t ∧ v = ![I, D, s, j] ∧ L.Full (t - 1) I D s j)) ∧ D = L.P (4 * t)

include hE hC hP0 in
theorem W_open {v : Fin 4 → ℕ} {I D s j : ℕ} (hS : StOk L (stp i) v I D s j) {X : S102432x128.Idx → Elt F .f32} (hX : PD D X) {Q : Opened F → SP F} :
    iprop((owns (c : Thread nD τ) arg3 fullShare C.X3 ∗ owns (c : Thread nD τ) arg4 fullShare C.X4 ∗ owns (c : Thread nD τ) arg5 fullShare C.X5
        ∗ owns (c : Thread nD τ) arg6 fullShare C.X6 ∗ owns (c : Thread nD τ) arg19 fullShare (stV v : S4.Idx → Elt F .i32)
        ∗ (∃ f, ⌜L.Slots I D f⌝ ∗ ring arg10 arg11 arg15 arg16 arg17 arg18 C c f) ∗ owns (c : Thread nD τ) arg8 fullShare X8 ∗ owns (c : Thread nD τ) arg9 fullShare X9 ∗ owns (c : Thread nD τ) arg13 fullShare X ∗ ow c)
      ∗ (WI i arg3 arg4 arg5 arg6 arg8 arg9 arg10 arg11 arg13 arg15 arg16 arg17 arg18 arg19 C L c X8 X9 PD (L.P (4 * stp i + 0)) -∗ Q ⟨nw (Lists.top (stp i)), vI 0#32, vI 8#32, vI 16#32, nw (L.cnt (4 * stp i + 0)), chk6_ok (L.cnt_le _), 0#32, 0#32⟩))
      ⊢ W c none (k0_part496 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19 : PR F (Opened F)) Q := by
  obtain ⟨hS, hD⟩ := hS
  by_cases h0 : (i 0).val = 0
  · have hs0 : stp i = 0 := h0
    rcases hS with ⟨-, rfl⟩ | ⟨h, -⟩
    swap; · omega
    have hD0 : D = 0 := by rw [hD, hs0]; rfl
    subst hD0
    rw [part496_first i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19 h0, top_word]
    iintro ⟨⟨H3, H4, H5, H6, H19, HR, H8, H9, H13, HO⟩, HQ⟩
    unfold wrS
    iapply (W_rdw c _ 0 rfl) $$ H19
    iintro H19
    iapply (W_wrn c _ 0 0 _ rfl rfl rfl) $$ H19
    iintro H19
    iapply (W_rdw c _ 1 rfl) $$ H19
    iintro H19
    iapply (W_wrn c _ 1 0 _ rfl rfl rfl) $$ H19
    iintro H19
    iapply (W_rdw c _ 2 rfl) $$ H19
    iintro H19
    iapply (W_wrn c _ 2 0 _ rfl rfl rfl) $$ H19
    iintro H19
    iapply (W_rdw c _ 3 rfl) $$ H19
    iintro H19
    iapply (W_wrn c _ 3 0 ![0, 0, 0, 0] rfl (by funext x; fin_cases x <;> rfl) rfl) $$ H19
    iintro H19
    iapply (W_loadb c none) $$ H13
    iintro H13
    iapply (W_storeb c none) $$ H13
    iintro H13
    have hQ : L.Que (stp i) 0 0 0 0 := by
      rw [hs0]
      exact ⟨le_rfl, by omega, .inl ⟨by decide, Nat.zero_le _⟩, rfl⟩
    iapply (W_open2 i arg3 harg3 arg4 harg4 arg5 harg5 arg6 harg6 arg10 harg10 arg11 harg11 arg15 harg15 arg16 harg16 arg17 arg18 arg19 harg19 C L c hE hC hQ)
    isplitl [H3 H4 H5 H6 H19 HR]
    · unfold QR
      isplitl [H3]; · iexact H3
      isplitl [H4]; · iexact H4
      isplitl [H5]; · iexact H5
      isplitl [H6]; · iexact H6
      isplitl [H19]; · iexact H19
      iexact HR
    iintro %I' %s' %j' %hF HR
    iapply HQ
    unfold WI
    iexists I', s', j', _
    isplitr
    swap
    · isplitl [HR]
      · rw [hs0, show L.P (4 * 0 + 0) = 0 from rfl]
        iexact HR
      isplitl [H8]; · iexact H8
      isplitl [H9]; · iexact H9
      isplitl [H13]; · iexact H13
      iexact HO
    ipureintro
    exact ⟨by rw [hs0, show L.P (4 * 0 + 0) = 0 from rfl]; rw [hs0] at hF; exact hF, by rw [hs0]; exact hP0 _⟩
  · have h0' : stp i ≠ 0 := h0
    rcases hS with ⟨h, -⟩ | ⟨hp, rfl, hF⟩
    · omega
    have e4 : 4 * (stp i - 1) + 4 = 4 * stp i := by omega
    have hD' : D = L.P (4 * (stp i - 1) + 4) := by rw [e4]; exact hD
    have hlt := stp_lt i
    have hQ := hF.next hD' (by omega)
    rw [show stp i - 1 + 1 = stp i by omega] at hQ
    have h4 := hF.four hD'
    obtain ⟨-, -, hs8, -⟩ := hF.que.lt31
    rw [part496_later i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19 h0, top_word]
    iintro ⟨⟨H3, H4, H5, H6, H19, HR, H8, H9, H13, HO⟩, HQ⟩
    unfold rdS wrS
    iapply (W_rdn c _ 2 s rfl rfl) $$ H19
    iintro H19
    iapply (W_rdn c _ 2 s rfl rfl) $$ H19
    iintro H19
    iapply (W_wrn c _ 2 (s - 4) _ rfl (upd2 _ _ _ _ _) (s_subi h4 (by omega))) $$ H19
    iintro H19
    iapply (W_open2 i arg3 harg3 arg4 harg4 arg5 harg5 arg6 harg6 arg10 harg10 arg11 harg11 arg15 harg15 arg16 harg16 arg17 arg18 arg19 harg19 C L c hE hC hQ)
    isplitl [H3 H4 H5 H6 H19 HR]
    · unfold QR
      isplitl [H3]; · iexact H3
      isplitl [H4]; · iexact H4
      isplitl [H5]; · iexact H5
      isplitl [H6]; · iexact H6
      isplitl [H19]; · iexact H19
      iexact HR
    iintro %I' %s' %j' %hF HR
    iapply HQ
    unfold WI
    iexists I', s', j', _
    isplitr
    · ipureintro
      exact ⟨by rw [add_zero, ← hD]; exact hF, by rw [add_zero, ← hD]; exact hX⟩
    isplitl [HR]
    · rw [add_zero, ← hD]
      iexact HR
    isplitl [H8]; · iexact H8
    isplitl [H9]; · iexact H9
    isplitl [H13]; · iexact H13
    iexact HO

include hE hC hPD in
theorem W_wl2 {σ : ℕ} (hσ : σ < 4) {l : Scf.Loop 32} (hl : l.trips = L.cnt (4 * stp i + σ)) (hok : l.OK)
    {off : Fin l.trips → Fin 3 → ℕ} {hoff : ∀ k, ∀ a, off k a + S1x1x1.size a ≤ S1x4x128.size a} (hoffe : ∀ k, off k = ![0, σ, k.val])
    {cs2 : Fin l.trips → (v68 : BitVec 32) → k0_chk8 v68 → (v71 : BitVec 32) → k0_chk7 v68 v71 →
      (v67 v68 : Elt F .i32) → k0_chk2 v67 v68 → (v73 v78 : Elt F .i32) → k0_chk3 v67 v73 v78 → (v81 : Elt F .i32) → k0_chk4 v67 v73 v78 v81 → BitVec 32 → BitVec 32 → PR F (BitVec 32 × BitVec 32)}
    (hcs2 : ∀ t w68 h8 w71 h7 v67 v68 h2 v73 v78 h3 v81 h4 (c : Dev nD) (bd : Option ℕ) (v : ℕ), (∀ u ∈ bd, v < u) → ∀ (a b : BitVec 32) (Q : BitVec 32 × BitVec 32 → SP F),
      W c (some v) (skipBody i arg5 harg5 arg6 harg6 (cs2 t w68 h8 w71 h7 v67 v68 h2 v73 v78 h3 v81 h4) a b) Q ⊢ W c bd (cs2 t w68 h8 w71 h7 v67 v68 h2 v73 v78 h3 v81 h4 a b) Q)
    {callCan : Fin l.trips → (v68 : BitVec 32) → k0_chk8 v68 → (v71 : BitVec 32) → k0_chk7 v68 v71 → BitVec 1 → PR F (BitVec 1)}
    (hcan : ∀ t w68 h8 w71 h7 (c : Dev nD) (bd : Option ℕ) (v : ℕ), (∀ u ∈ bd, v < u) → ∀ (a : BitVec 1) (Q : BitVec 1 → SP F),
      W c (some v) (canBody i arg19 harg19 arg3 harg3 arg4 harg4 arg17 arg15 harg15 arg10 harg10 arg18 arg16 harg16 arg11 harg11 arg5 harg5 arg6 harg6 a (cs2 t w68 h8 w71 h7) (callCan t w68 h8 w71 h7)) Q
        ⊢ W c bd (callCan t w68 h8 w71 h7 a) Q)
    {callSkip : Fin l.trips → (v68 : BitVec 32) → k0_chk8 v68 → (v71 : BitVec 32) → k0_chk7 v68 v71 → BitVec 32 → BitVec 32 → PR F (BitVec 32 × BitVec 32)}
    (hskip : ∀ t w68 h8 w71 h7 (c : Dev nD) (bd : Option ℕ) (v : ℕ), (∀ u ∈ bd, v < u) → ∀ (a b : BitVec 32) (Q : BitVec 32 × BitVec 32 → SP F),
      W c (some v) (skipBody i arg5 harg5 arg6 harg6 (callSkip t w68 h8 w71 h7) a b) Q ⊢ W c bd (callSkip t w68 h8 w71 h7 a b) Q)
    {l2 : Scf.Loop 32} (hl2 : l2.trips = 0) (hok2 : l2.OK) {body2 : Fin l2.trips → BitVec 32 → PR F (BitVec 32)}
    {β : Type} {init : BitVec 32} {kk : BitVec 32 → PR F β} {Q : β → SP F} :
    WI i arg3 arg4 arg5 arg6 arg8 arg9 arg10 arg11 arg13 arg15 arg16 arg17 arg18 arg19 C L c X8 X9 PD (L.P (4 * stp i + σ))
      ⊢ iprop((WI i arg3 arg4 arg5 arg6 arg8 arg9 arg10 arg11 arg13 arg15 arg16 arg17 arg18 arg19 C L c X8 X9 PD (L.P (4 * stp i + (σ + 1))) -∗ ∀ acc, W c none (kk acc) Q)
        -∗ W c none (Scf.Loop.for l hok init (fun t _ => widen arg3 arg8 arg9 arg10 harg10 arg11 arg13 arg15 harg15 arg16 arg17 arg18 arg19 (off t) (hoff t)
            (nw (Lists.top (stp i))) (callSkip t) (callCan t)) >>= fun a => Scf.Loop.for l2 hok2 a body2 >>= kk) Q) := by
  iintro H HK
  iapply (W_wloop i arg3 harg3 arg4 harg4 arg5 harg5 arg6 harg6 arg8 arg9 arg10 harg10 arg11 harg11 arg13 arg15 harg15 arg16 harg16 arg17 arg18 arg19 harg19 C L c X8 X9 PD hE hC hPD hσ hl hok hoffe hcs2 hcan hskip) $$ H
  iintro %acc H
  iapply (W_none c hl2 hok2)
  iapply HK $$ H

variable (X1 : S8x128.Idx → Elt F .i32) (X2 : S8x128.Idx → Elt F .f32) (hX1 : ∀ x, k0_chk21 (X1 x))

/-- What the tokens use besides the rows. -/
def TI (A : S3200x128.Idx → Elt F .f32) : SP F :=
  iprop(owns (c : Thread nD τ) arg1 fullShare X1 ∗ owns (c : Thread nD τ) arg2 fullShare X2 ∗ owns (c : Thread nD τ) arg14 fullShare A)

theorem W_tk {s : Fin 4} {D : ℕ} {A : S3200x128.Idx → Elt F .f32} {β : Type} {Q : β → SP F} {l : Scf.Loop 32} (hl : l.trips = 4) (hok : l.OK) {kk : PUnit → PR F β} :
    iprop(WI i arg3 arg4 arg5 arg6 arg8 arg9 arg10 arg11 arg13 arg15 arg16 arg17 arg18 arg19 C L c X8 X9 PD D ∗ TI arg1 arg2 arg14 c X1 X2 A)
      ⊢ iprop((∀ X, ⌜PD D X⌝ -∗ (WI i arg3 arg4 arg5 arg6 arg8 arg9 arg10 arg11 arg13 arg15 arg16 arg17 arg18 arg19 C L c X8 X9 PD D ∗ TI arg1 arg2 arg14 c X1 X2 (subX X1 X2 X hX1 (vI 0#32) (vI 8#32) (vI 16#32) s A 4)) -∗ W c none (kk ⟨⟩) Q)
        -∗ W c none (Scf.Loop.for l hok ⟨⟩ (fun t _ => tokens arg1 arg2 arg13 arg14 (vI 0#32) (vI 8#32) (vI 16#32) s (Fin.cast hl t) 8 (by decide)) >>= kk) Q) := by
  unfold WI TI
  iintro ⟨⟨%I, %s', %j, %X, %hF, HR, H8, H9, H13, HO⟩, H1, H2, H14⟩ HK
  iapply (W_sub arg1 arg2 arg13 arg14 X1 X2 X hX1 (vI 0#32) (vI 8#32) (vI 16#32) c hl hok) $$ [H1 H2 H13 H14]
  · unfold TR
    isplitl [H1]; · iexact H1
    isplitl [H2]; · iexact H2
    isplitl [H13]; · iexact H13
    iexact H14
  unfold TR
  iintro ⟨H1, H2, H13, H14⟩
  iapply HK $$ %X %hF.2
  isplitl [HR H8 H9 H13 HO]
  · iexists I, s', j, X
    isplitr; · ipureintro; exact hF
    isplitl [HR]; · iexact HR
    isplitl [H8]; · iexact H8
    isplitl [H9]; · iexact H9
    isplitl [H13]; · iexact H13
    iexact HO
  isplitl [H1]; · iexact H1
  isplitl [H2]; · iexact H2
  iexact H14

include hC in
theorem W_count {D n : ℕ} {off : Fin 3 → ℕ} {hoff : ∀ a, off a + S1x1x1.size a ≤ S1x1x4.size a} (hn : n < 4) (ho : off = ![0, 0, n]) {β : Type} {Q : β → SP F} {kk : BitVec 32 → PR F β} :
    WI i arg3 arg4 arg5 arg6 arg8 arg9 arg10 arg11 arg13 arg15 arg16 arg17 arg18 arg19 C L c X8 X9 PD D ⊢ iprop((WI i arg3 arg4 arg5 arg6 arg8 arg9 arg10 arg11 arg13 arg15 arg16 arg17 arg18 arg19 C L c X8 X9 PD D -∗ W c none (kk (nw (L.cnt (4 * stp i + n)))) Q)
      -∗ W c none ((smemLoad arg5 (Rect.unit (s := S1x1x4) off S1x1x1.size hoff) numel1_S1x1x1 rfl : PR F (Elt F .i32)) >>= kk) Q) := by
  subst ho
  unfold WI QR
  iintro ⟨%I, %s', %j, %X, %hF, ⟨H3, H4, H5, HR⟩, HW⟩ HK
  iapply (W_smem c none) $$ H5
  iintro H5
  rw [show C.X5 ((Rect.unit (s := S1x1x4) ![0, 0, n] S1x1x1.size hoff).idx (Shape.Idx.first (numel1_S1x1x1.symm ▸ Nat.one_pos))) = nw (L.cnt (4 * stp i + n)) from hC.cur _]
  iapply HK
  iexists I, s', j, X
  isplitr; · ipureintro; exact hF
  isplitl [H3 H4 H5 HR]
  · isplitl [H3]; · iexact H3
    isplitl [H4]; · iexact H4
    isplitl [H5]; · iexact H5
    iexact HR
  iexact HW

/-- `acc` at the end of a step. -/
def accF (Y0 Y1 Y2 Y3 : S102432x128.Idx → Elt F .f32) (A : S3200x128.Idx → Elt F .f32) : S3200x128.Idx → Elt F .f32 :=
  subX X1 X2 Y3 hX1 (vI 0#32) (vI 8#32) (vI 16#32) 3 (subX X1 X2 Y2 hX1 (vI 0#32) (vI 8#32) (vI 16#32) 2
    (subX X1 X2 Y1 hX1 (vI 0#32) (vI 8#32) (vI 16#32) 1 (subX X1 X2 Y0 hX1 (vI 0#32) (vI 8#32) (vI 16#32) 0 A 4) 4) 4) 4

include hE hC hPD in
theorem W_497 {A : S3200x128.Idx → Elt F .f32}
    {Q : (Σ' (v39 : Elt F .i32) (k0_hw85 : k0_chk85 v39) (v48 : Elt F .i32) (k0_hw164 : k0_chk164 v48) (c0_i32_40 : BitVec 32), BitVec 32) → SP F} :
    iprop(WI i arg3 arg4 arg5 arg6 arg8 arg9 arg10 arg11 arg13 arg15 arg16 arg17 arg18 arg19 C L c X8 X9 PD (L.P (4 * stp i + 0)) ∗ TI arg1 arg2 arg14 c X1 X2 A)
      ⊢ iprop((∀ Y0, ∀ Y1, ⌜PD (L.P (4 * stp i + 1)) Y0 ∧ PD (L.P (4 * stp i + 2)) Y1⌝ -∗ WI i arg3 arg4 arg5 arg6 arg8 arg9 arg10 arg11 arg13 arg15 arg16 arg17 arg18 arg19 C L c X8 X9 PD (L.P (4 * stp i + 3))
          -∗ TI arg1 arg2 arg14 c X1 X2 (subX X1 X2 Y1 hX1 (vI 0#32) (vI 8#32) (vI 16#32) 1 (subX X1 X2 Y0 hX1 (vI 0#32) (vI 8#32) (vI 16#32) 0 A 4) 4)
          -∗ Q ⟨nw (L.cnt (4 * stp i + 1)), chk85_ok (L.cnt_le _), nw (L.cnt (4 * stp i + 2)), chk164_ok (L.cnt_le _), 0#32, 1#32⟩)
        -∗ W c none (comb497 i arg1 arg2 arg3 harg3 arg4 harg4 arg5 harg5 arg6 harg6 arg8 arg9 arg10 harg10 arg11 harg11 arg13 arg14 arg15 harg15 arg16 harg16 arg17 arg18 arg19 harg19
            (nw (Lists.top (stp i))) (vI 0#32) (vI 8#32) (vI 16#32) (nw (L.cnt (4 * stp i + 0))) (chk6_ok (L.cnt_le _)) 0#32 0#32) Q) := by
  unfold comb497
  iintro ⟨HW, HT⟩ HK
  iapply (W_wl2 i arg3 harg3 arg4 harg4 arg5 harg5 arg6 harg6 arg8 arg9 arg10 harg10 arg11 harg11 arg13 arg15 harg15 arg16 harg16 arg17 arg18 arg19 harg19 C L c X8 X9 PD hE hC hPD (σ := 0) (by decide) (t1_trips (L.cnt_le _)) _ (off12_eq (L.cnt_le _))
    (r6 i arg5 harg5 arg6 harg6 _ _) (r5 i arg3 harg3 arg4 harg4 arg5 harg5 arg6 harg6 arg10 harg10 arg11 harg11 arg15 harg15 arg16 harg16 arg19 harg19 arg17 arg18 _ _) (r4 i arg5 harg5 arg6 harg6 _ _) (t2_trips (L.cnt_le _)) _) $$ HW
  iintro HW %acc0
  iapply (W_tk i arg1 arg2 arg3 arg4 arg5 arg6 arg8 arg9 arg10 arg11 arg13 arg14 arg15 arg16 arg17 arg18 arg19 C L c X8 X9 PD X1 X2 hX1 (s := 0) _ _) $$ [HW HT]
  · isplitl [HW]; · iexact HW
    iexact HT
  iintro %Y0 %hY0 ⟨HW, HT⟩
  iapply (W_count i arg3 arg4 arg5 arg6 arg8 arg9 arg10 arg11 arg13 arg15 arg16 arg17 arg18 arg19 C L c X8 X9 PD hC (n := 1) (by decide) rfl) $$ HW
  iintro HW
  iapply (W_assume c none (chk85_ok (L.cnt_le _)))
  iapply (W_wl2 i arg3 harg3 arg4 harg4 arg5 harg5 arg6 harg6 arg8 arg9 arg10 harg10 arg11 harg11 arg13 arg15 harg15 arg16 harg16 arg17 arg18 arg19 harg19 C L c X8 X9 PD hE hC hPD (σ := 1) (by decide) (t1_trips (L.cnt_le _)) _ (off368_eq (L.cnt_le _))
    (r12 i arg5 harg5 arg6 harg6 _ _ _ _) (r11 i arg3 harg3 arg4 harg4 arg5 harg5 arg6 harg6 arg10 harg10 arg11 harg11 arg15 harg15 arg16 harg16 arg19 harg19 arg17 arg18 _ _ _ _) (r10 i arg5 harg5 arg6 harg6 _ _ _ _) (t2_trips (L.cnt_le _)) _) $$ HW
  iintro HW %acc1
  iapply (W_tk i arg1 arg2 arg3 arg4 arg5 arg6 arg8 arg9 arg10 arg11 arg13 arg14 arg15 arg16 arg17 arg18 arg19 C L c X8 X9 PD X1 X2 hX1 (s := 1) _ _) $$ [HW HT]
  · isplitl [HW]; · iexact HW
    iexact HT
  iintro %Y1 %hY1 ⟨HW, HT⟩
  iapply (W_count i arg3 arg4 arg5 arg6 arg8 arg9 arg10 arg11 arg13 arg15 arg16 arg17 arg18 arg19 C L c X8 X9 PD hC (n := 2) (by decide) rfl) $$ HW
  iintro HW
  iapply (W_assume c none (chk164_ok (L.cnt_le _)))
  iapply (W_wl2 i arg3 harg3 arg4 harg4 arg5 harg5 arg6 harg6 arg8 arg9 arg10 harg10 arg11 harg11 arg13 arg15 harg15 arg16 harg16 arg17 arg18 arg19 harg19 C L c X8 X9 PD hE hC hPD (σ := 2) (by decide) (t1_trips (L.cnt_le _)) _ (off724_eq (L.cnt_le _))
    (r18 i arg5 harg5 arg6 harg6 _ _ _ _ _ _) (r17 i arg3 harg3 arg4 harg4 arg5 harg5 arg6 harg6 arg10 harg10 arg11 harg11 arg15 harg15 arg16 harg16 arg19 harg19 arg17 arg18 _ _ _ _ _ _) (r16 i arg5 harg5 arg6 harg6 _ _ _ _ _ _) (t2_trips (L.cnt_le _)) _) $$ HW
  iintro HW %acc2
  iapply (W_ret c none)
  iapply HK $$ %Y0 %Y1 %⟨hY0, hY1⟩ HW HT

include hE hC hPD hP0 in
/-- One grid step. -/
theorem comb_spec {v : Fin 4 → ℕ} {I D s j : ℕ} (hS : StOk L (stp i) v I D s j) {X : S102432x128.Idx → Elt F .f32} (hX : PD D X) {A : S3200x128.Idx → Elt F .f32}
    {X7 O : S128x3072.Idx → Elt F .bf16} {Q : PUnit → SP F} :
    iprop((owns (c : Thread nD τ) arg3 fullShare C.X3 ∗ owns (c : Thread nD τ) arg4 fullShare C.X4 ∗ owns (c : Thread nD τ) arg5 fullShare C.X5
        ∗ owns (c : Thread nD τ) arg6 fullShare C.X6 ∗ owns (c : Thread nD τ) arg19 fullShare (stV v : S4.Idx → Elt F .i32)
        ∗ (∃ f, ⌜L.Slots I D f⌝ ∗ ring arg10 arg11 arg15 arg16 arg17 arg18 C c f) ∗ owns (c : Thread nD τ) arg8 fullShare X8 ∗ owns (c : Thread nD τ) arg9 fullShare X9 ∗ owns (c : Thread nD τ) arg13 fullShare X ∗ ow c)
      ∗ TI arg1 arg2 arg14 c X1 X2 A ∗ owns (c : Thread nD τ) arg7 fullShare X7 ∗ owns (c : Thread nD τ) arg12 fullShare O
      ∗ (∀ Y0, ∀ Y1, ∀ Y2, ∀ Y3, ⌜PD (L.P (4 * stp i + 1)) Y0 ∧ PD (L.P (4 * stp i + 2)) Y1 ∧ PD (L.P (4 * stp i + 3)) Y2 ∧ PD (L.P (4 * stp i + 4)) Y3⌝
          -∗ WI i arg3 arg4 arg5 arg6 arg8 arg9 arg10 arg11 arg13 arg15 arg16 arg17 arg18 arg19 C L c X8 X9 PD (L.P (4 * stp i + 4)) -∗ TI arg1 arg2 arg14 c X1 X2 (accF X1 X2 hX1 Y0 Y1 Y2 Y3 A)
          -∗ owns (c : Thread nD τ) arg7 fullShare X7 -∗ owns (c : Thread nD τ) arg12 fullShare (finX (accF X1 X2 hX1 Y0 Y1 Y2 Y3 A) X7 O 8) -∗ Q ⟨⟩))
      ⊢ W c none (cc0_combine i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19) Q := by
  rw [comb_eq i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19]
  unfold comb
  rw [W_bind]
  iintro ⟨HP, HT, H7, H12, HK⟩
  iapply (W_open i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 harg19 C L c X8 X9 PD hE hC hP0 hS hX)
  isplitl [HP]; · iexact HP
  iintro HW
  rw [W_bind]
  iapply (W_497 i arg1 arg2 arg3 harg3 arg4 harg4 arg5 harg5 arg6 harg6 arg8 arg9 arg10 harg10 arg11 harg11 arg13 arg14 arg15 harg15 arg16 harg16 arg17 arg18 arg19 harg19 C L c X8 X9 PD hE hC hPD X1 X2 hX1) $$ [HW HT]
  · isplitl [HW]; · iexact HW
    iexact HT
  iintro %Y0 %Y1 %hY HW HT
  iapply (W_tk i arg1 arg2 arg3 arg4 arg5 arg6 arg8 arg9 arg10 arg11 arg13 arg14 arg15 arg16 arg17 arg18 arg19 C L c X8 X9 PD X1 X2 hX1 (s := 2) _ _) $$ [HW HT]
  · isplitl [HW]; · iexact HW
    iexact HT
  iintro %Y2 %hY2 ⟨HW, HT⟩
  iapply (W_count i arg3 arg4 arg5 arg6 arg8 arg9 arg10 arg11 arg13 arg15 arg16 arg17 arg18 arg19 C L c X8 X9 PD hC (n := 3) (by decide) rfl) $$ HW
  iintro HW
  iapply (W_assume c none (chk243_ok (L.cnt_le _)))
  iapply (W_wl2 i arg3 harg3 arg4 harg4 arg5 harg5 arg6 harg6 arg8 arg9 arg10 harg10 arg11 harg11 arg13 arg15 harg15 arg16 harg16 arg17 arg18 arg19 harg19 C L c X8 X9 PD hE hC hPD (σ := 3) (by decide) (t1_trips (L.cnt_le _)) _ (off1080_eq (L.cnt_le _))
    (r24 i arg5 harg5 arg6 harg6 _ _ _ _ _ _ _ _) (r23 i arg3 harg3 arg4 harg4 arg5 harg5 arg6 harg6 arg10 harg10 arg11 harg11 arg15 harg15 arg16 harg16 arg19 harg19 arg17 arg18 _ _ _ _ _ _ _ _) (r22 i arg5 harg5 arg6 harg6 _ _ _ _ _ _ _ _) (t2_trips (L.cnt_le _)) _) $$ HW
  iintro HW %acc3
  iapply (W_tk i arg1 arg2 arg3 arg4 arg5 arg6 arg8 arg9 arg10 arg11 arg13 arg14 arg15 arg16 arg17 arg18 arg19 C L c X8 X9 PD X1 X2 hX1 (s := 3) _ _) $$ [HW HT]
  · isplitl [HW]; · iexact HW
    iexact HT
  iintro %Y3 %hY3 ⟨HW, HT⟩
  unfold TI
  icases HT with ⟨H1, H2, H14⟩
  iapply (W_fin arg7 arg12 harg12 arg14 c _ _) $$ [H7 H12 H14]
  · unfold FR
    isplitl [H7]; · iexact H7
    isplitl [H12]; · iexact H12
    iexact H14
  unfold FR
  iintro ⟨H7, H12, H14⟩
  iapply (W_ret c none)
  unfold accF
  iapply HK $$ %Y0 %Y1 %Y2 %Y3 %⟨hY.1, hY.2, hY2, hY3⟩ HW [H1 H2 H14] H7 H12
  isplitl [H1]; · iexact H1
  isplitl [H2]; · iexact H2
  iexact H14

end

end Cert.KernelIdeal.M
-- ==== Proof.KI.Ring.lean ====
module

public import proofs.«01_k».proof.Proof.KI.Step
public import Idealize.ShloMosaic.Lib.Ring
public import proofs.«01_k».proof.Proof.Gen.KernelIdeal.Launch

@[expose] public section

noncomputable section

/-
  The ring of landing slots, made of the scratch buffers and taken apart again.
-/
namespace Cert.KernelIdeal.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
open Facts₀ Facts

section
variable {N R : ℕ} {e : EltTy} (m : Memref sig .tc .vmem ⟨3, ![16, 32, N]⟩ e) (hq : (⟨3, ![1, 32, N]⟩ : Shape).Squeezes ⟨2, ![32, N]⟩)
  (hm : m.IsWhole) (c : Dev nD)

/-- The slots' parts of a ring buffer. -/
def slotI (k : Fin 16) : Finset m.view.ty.Idx := (slotM m hq k).view.set

theorem slotI_disj (k k' : Fin 16) (h : k ≠ k') : Disjoint (slotI m hq k) (slotI m hq k') := by
  rw [Finset.disjoint_left]
  intro x h1 h2
  unfold slotI at h1 h2
  rw [slot_set] at h1 h2
  obtain ⟨y, hy, rfl⟩ := Finset.mem_map.mp h1
  rw [View.mem_setOn, mem_slot] at h2
  rw [mem_slot] at hy
  exact h (Fin.ext (hy.symm.trans h2))

include hm in
theorem slotI_cover : Finset.univ.biUnion (slotI m hq) = Finset.univ := by
  refine Finset.eq_univ_iff_forall.mpr fun x => ?_
  have hx : x ∈ m.view.set := by rw [Memref.IsWhole.set_eq_univ hm]; exact Finset.mem_univ x
  obtain ⟨y, -, rfl⟩ := Finset.mem_map.mp hx
  refine Finset.mem_biUnion.mpr ⟨⟨(y 0).val, (y 0).isLt⟩, Finset.mem_univ _, ?_⟩
  unfold slotI
  rw [slot_set, View.mem_setOn, mem_slot]

include hm in
/-- A ring buffer taken apart into its slots. -/
theorem slots_split (f : Buf (Elt F) (m.view.loc (c : Thread nD τ))) :
    (m.view.loc (c : Thread nD τ) ↦{fullShare} f : SP F)
      ⊢ bigSep Finset.univ fun k : Fin 16 => iprop(∃ X, owns (c : Thread nD τ) (slotM m hq k) fullShare X) := by
  rw [Ring.pointsTo_blocks (slotI m hq) (slotI_disj m hq) (slotI_cover m hq hm) f]
  refine bigSep_mono fun k _ => ?_
  show (m.view.loc (c : Thread nD τ) ↦[slotI m hq k]{fullShare} f : SP F) ⊢ iprop(∃ X, owns (c : Thread nD τ) (slotM m hq k) fullShare X)
  iintro H
  iexists _
  rw [slot_owns]
  iexists f
  isplitr
  · ipureintro; rfl
  iexact H

include hm in
/-- And put together again. -/
theorem slots_join (f₀ : Buf (Elt F) (m.view.loc (c : Thread nD τ))) :
    (bigSep Finset.univ fun k : Fin 16 => iprop(∃ X, owns (c : Thread nD τ) (slotM m hq k) fullShare X))
      ⊢ (iprop(∃ f, m.view.loc (c : Thread nD τ) ↦{fullShare} f) : SP F) := by
  refine .trans (bigSep_mono fun k _ => ?_) (Ring.pointsTo_blocks_join_exists (slotI m hq) (slotI_disj m hq) (slotI_cover m hq hm) f₀)
  show (iprop(∃ X, owns (c : Thread nD τ) (slotM m hq k) fullShare X) : SP F) ⊢ iprop(∃ f : Buf (Elt F) (m.view.loc (c : Thread nD τ)), m.view.loc (c : Thread nD τ) ↦[slotI m hq k]{fullShare} f)
  simp only [slot_owns]
  iintro ⟨%X, %f, -, H⟩
  iexists f
  iexact H
end

/-- The ring's semaphores. -/
def osem : Fin 16 ⊕ Fin 16 → SemLoc sig := Sum.elim (fun k => .dma (semM cc0_scratch4 k)) (fun k => .dma (semM cc0_scratch5 k))

theorem ownSemFacts : Pipeline.OwnSemFacts spec0 osem := by decide

variable (C : Cts F) (c : Dev nD)

/-- The ring of the program's own buffers. -/
abbrev ringW (f : Fin 16 → Option ℕ) : SP F :=
  ring (Memref.whole main_arg5) (Memref.whole main_arg6) (Memref.whole cc0_scratch2) (Memref.whole cc0_scratch3) cc0_scratch4 cc0_scratch5 C c f

theorem ownSems0_eq' : (Pipeline.ownSems0 (Ix := Unit) (Name := ℕ) (U := Pipeline.UD sig nD τ) (Lvl := ℕ) (Val := Elt F) (τ := τ) osem c : SP F)
    = iprop((bigSep Finset.univ fun k : Fin 16 => semVal ((c : Thread nD τ), .dma (semM cc0_scratch4 k)) 0)
      ∗ bigSep Finset.univ fun k : Fin 16 => semVal ((c : Thread nD τ), .dma (semM cc0_scratch5 k)) 0) := by
  unfold Pipeline.ownSems0
  rw [bigSep_univ_sum]
  rfl

/-- The empty ring, its parts gathered. -/
theorem ring_none : (ringW C c fun _ => none)
    = iprop(((bigSep Finset.univ fun k : Fin 16 => iprop(∃ X, owns (c : Thread nD τ) (slotM (Memref.whole cc0_scratch2) squeezes_S1x32x3072_S32x3072 k) fullShare X))
          ∗ (bigSep Finset.univ fun k : Fin 16 => semVal ((c : Thread nD τ), .dma (semM cc0_scratch4 k)) 0)
          ∗ bigSep Finset.univ fun k : Fin 16 => owns (c : Thread nD τ) (Memref.whole main_arg5) (C.q k) C.Y)
        ∗ ((bigSep Finset.univ fun k : Fin 16 => iprop(∃ X, owns (c : Thread nD τ) (slotM (Memref.whole cc0_scratch3) squeezes_S1x32x24_S32x24 k) fullShare X))
          ∗ (bigSep Finset.univ fun k : Fin 16 => semVal ((c : Thread nD τ), .dma (semM cc0_scratch5 k)) 0)
          ∗ bigSep Finset.univ fun k : Fin 16 => owns (c : Thread nD τ) (Memref.whole main_arg6) (C.q k) C.Sc)) := by
  unfold ringW ring slotR idle1
  simp only [bigSep_sep']
  rfl

/-- The ring's slots after the first point hold the same shares, whatever the scanned blocks. -/
theorem ring_congr (C' : Cts F) (hY : C'.Y = C.Y) (hSc : C'.Sc = C.Sc) (hq : C'.q = C.q) (f : Fin 16 → Option ℕ) : ringW C' c f = ringW C c f := by
  unfold ringW ring
  refine congrArg (bigSep Finset.univ) (funext fun k => ?_)
  unfold slotR
  rw [hY, hSc, hq]

end Cert.KernelIdeal.M

end
-- ==== Proof.KI.Blocks.lean ====
module

public import proofs.«01_k».proof.Proof.KI.Ring
public import proofs.«01_k».proof.Proof.Gen.KernelIdeal.Points
public import Idealize.ShloMosaic.Lib.Pipeline.Frame
public import Idealize.ShloMosaic.Lib.Pipeline.FrameBody

@[expose] public section

noncomputable section

/-
  The proof data of the pipeline, and what the body finds in each window.
-/
namespace Cert.KernelIdeal.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]
open Facts₀ Facts

variable (V : (c : Dev nD) → (b : Ref sig .tc) → Buf (Elt F) ((c : Thread nD τ).loc b))
  (aft : Dev nD → ℕ → (S128x3072.Idx → Elt F .bf16) → Prop) (Φ : Dev nD → ℕ → SP F)

/-- The pipeline's proof data: the arrays at their entry contents, the inputs kept, the result block as `aft` allows. -/
def rdat (c : Dev nD) : Pipeline.RDat τ (Elt F) Unit ℕ (Pipeline.UD sig nD τ) ℕ (cfg0 (F := F)) c where
  A w := V c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun _ X => aft c t.val X
  Φ t := Φ c t.val
  q w := match w with
    | ⟨8, _⟩ => fullShare.left
    | w => Pipeline.shareOf spec0 w
  owed _ := 0

variable (c : Dev nD) (t : Fin (cfg0 (F := F)).N)

theorem found0 {Y} (h : (rdat V aft Φ c).Finds 0 t Y) : ∃ d, Y = (rdat V aft Φ c).fetched 0 t d :=
  (rdat V aft Φ c).finds_in_eq_fetched 0 rfl (fun _ _ _ => rfl) (fun _ _ _ h => h) t Y h
theorem found1 {Y} (h : (rdat V aft Φ c).Finds 1 t Y) : ∃ d, Y = (rdat V aft Φ c).fetched 1 t d :=
  (rdat V aft Φ c).finds_in_eq_fetched 1 rfl (fun _ _ _ => rfl) (fun _ _ _ h => h) t Y h
theorem found2 {Y} (h : (rdat V aft Φ c).Finds 2 t Y) : ∃ d, Y = (rdat V aft Φ c).fetched 2 t d :=
  (rdat V aft Φ c).finds_in_eq_fetched 2 rfl (fun _ _ _ => rfl) (fun _ _ _ h => h) t Y h
theorem found8 {Y} (h : (rdat V aft Φ c).Finds 8 t Y) : ∃ d, Y = (rdat V aft Φ c).fetched 8 t d :=
  (rdat V aft Φ c).finds_in_eq_fetched 8 rfl (fun _ _ _ => rfl) (fun _ _ _ h => h) t Y h

theorem found3 {Y} (h : (rdat V aft Φ c).Finds 3 t Y) : ∃ d, Y = (rdat V aft Φ c).fetched 3 t d :=
  (rdat V aft Φ c).finds_in_eq_fetched 3 rfl (fun _ _ _ => rfl) (fun _ _ _ h => h) t Y h
theorem found4 {Y} (h : (rdat V aft Φ c).Finds 4 t Y) : ∃ d, Y = (rdat V aft Φ c).fetched 4 t d :=
  (rdat V aft Φ c).finds_in_eq_fetched 4 rfl (fun _ _ _ => rfl) (fun _ _ _ h => h) t Y h
theorem found5 {Y} (h : (rdat V aft Φ c).Finds 5 t Y) : ∃ d, Y = (rdat V aft Φ c).fetched 5 t d :=
  (rdat V aft Φ c).finds_in_eq_fetched 5 rfl (fun _ _ _ => rfl) (fun _ _ _ h => h) t Y h
theorem found6 {Y} (h : (rdat V aft Φ c).Finds 6 t Y) : ∃ d, Y = (rdat V aft Φ c).fetched 6 t d :=
  (rdat V aft Φ c).finds_in_eq_fetched 6 rfl (fun _ _ _ => rfl) (fun _ _ _ h => h) t Y h
theorem found7 {Y} (h : (rdat V aft Φ c).Finds 7 t Y) : ∃ d, Y = (rdat V aft Φ c).fetched 7 t d :=
  (rdat V aft Φ c).finds_in_eq_fetched 7 rfl (fun _ _ _ => rfl) (fun _ _ _ h => h) t Y h

omit [FloatOps F] in
theorem coord0 : ((grid0.coords t) 0).val = t.val := by
  have h : t.val < 256 := lt_of_lt_of_eq t.isLt N_0
  rw [Pipeline.Grid.coords_val (G := grid0) t 0 (S := 1) (B := 256) (by decide) rfl]
  omega

omit [FloatOps F] in
theorem now_word : (BitVec.ofNat 32 ((grid0.coords t) 0).val).toNat = t.val := by
  have h : t.val < 256 := lt_of_lt_of_eq t.isLt N_0
  rw [coord0, BitVec.toNat_ofNat, Nat.mod_eq_of_lt (by omega)]

theorem next_all : ∀ n : Fin 256, (Scalar.minsi (Scalar.addi (BitVec.ofNat 32 n.val) 1#32) 255#32).toNat = min (n.val + 1) 255 := by decide +kernel

omit [FloatOps F] in
theorem next_word (h : t.val + 1 < 256) : (Scalar.minsi (Scalar.addi (BitVec.ofNat 32 ((grid0.coords t) 0).val) 1#32) 255#32).toNat = t.val + 1 := by
  rw [coord0, next_all ⟨t.val, by omega⟩]
  show min (t.val + 1) 255 = t.val + 1
  omega

abbrev tI : Fin 256 := ⟨t.val, lt_of_lt_of_eq t.isLt N_0⟩

/-- Token `y` of the step. -/
def tok (y : Fin 128) : Fin 32768 := ⟨128 * t.val + y.val, by have := lt_of_lt_of_eq t.isLt N_0; omega⟩

theorem blk0 (d) (x : S8x128.Idx) : (rdat V aft Φ c).fetched 0 t d x = V c main_arg0 (ValueIdx.ix2 (x 0) (tok t (x 1))) := by
  unfold Pipeline.RDat.fetched Pipeline.Window.fill
  rw [dif_pos (show ((cfg0 (F := F)).win 0).moved (grid0.coords t) x = true from rfl)]
  refine congrArg (V c main_arg0) (funext fun a => Fin.ext ?_)
  fin_cases a
  · show 0 * 8 + 1 * (x 0).val = (x 0).val; omega
  · show (BitVec.ofNat 32 ((grid0.coords t) 0).val).toNat * 128 + 1 * (x 1).val = _; rw [now_word]; show t.val * 128 + 1 * (x 1).val = 128 * t.val + (x 1).val; omega

theorem blk1 (d) (x : S8x128.Idx) : (rdat V aft Φ c).fetched 1 t d x = V c main_arg1 (ValueIdx.ix2 (x 0) (tok t (x 1))) := by
  unfold Pipeline.RDat.fetched Pipeline.Window.fill
  rw [dif_pos (show ((cfg0 (F := F)).win 1).moved (grid0.coords t) x = true from rfl)]
  refine congrArg (V c main_arg1) (funext fun a => Fin.ext ?_)
  fin_cases a
  · show 0 * 8 + 1 * (x 0).val = (x 0).val; omega
  · show (BitVec.ofNat 32 ((grid0.coords t) 0).val).toNat * 128 + 1 * (x 1).val = _; rw [now_word]; show t.val * 128 + 1 * (x 1).val = 128 * t.val + (x 1).val; omega

theorem blk2 (d) (x : S1x4x128.Idx) : (rdat V aft Φ c).fetched 2 t d x = V c main_arg2 (ValueIdx.ix3 (tI t) (x 1) (x 2)) := by
  unfold Pipeline.RDat.fetched Pipeline.Window.fill
  rw [dif_pos (show ((cfg0 (F := F)).win 2).moved (grid0.coords t) x = true from rfl)]
  refine congrArg (V c main_arg2) (funext fun a => Fin.ext ?_)
  fin_cases a
  · show (BitVec.ofNat 32 ((grid0.coords t) 0).val).toNat * 1 + 1 * (x 0).val = _; rw [now_word]; have := (x 0).isLt; show t.val * 1 + 1 * (x 0).val = t.val; have : (x 0).val < 1 := (x 0).isLt; omega
  · show 0 * 4 + 1 * (x 1).val = (x 1).val; omega
  · show 0 * 128 + 1 * (x 2).val = (x 2).val; omega

theorem blk3 (h : t.val + 1 < 256) (d) (x : S1x4x128.Idx) : (rdat V aft Φ c).fetched 3 t d x = V c main_arg2 (ValueIdx.ix3 ⟨t.val + 1, h⟩ (x 1) (x 2)) := by
  unfold Pipeline.RDat.fetched Pipeline.Window.fill
  rw [dif_pos (show ((cfg0 (F := F)).win 3).moved (grid0.coords t) x = true from rfl)]
  refine congrArg (V c main_arg2) (funext fun a => Fin.ext ?_)
  fin_cases a
  · show (Scalar.minsi (Scalar.addi (BitVec.ofNat 32 ((grid0.coords t) 0).val) 1#32) 255#32).toNat * 1 + 1 * (x 0).val = _; rw [next_word t h]; have := (x 0).isLt; show (t.val + 1) * 1 + 1 * (x 0).val = (t.val + 1); have : (x 0).val < 1 := (x 0).isLt; omega
  · show 0 * 4 + 1 * (x 1).val = (x 1).val; omega
  · show 0 * 128 + 1 * (x 2).val = (x 2).val; omega

theorem blk4 (d) (x : S1x1x4.Idx) : (rdat V aft Φ c).fetched 4 t d x = V c main_arg3 (ValueIdx.ix3 (tI t) (x 1) (x 2)) := by
  unfold Pipeline.RDat.fetched Pipeline.Window.fill
  rw [dif_pos (show ((cfg0 (F := F)).win 4).moved (grid0.coords t) x = true from rfl)]
  refine congrArg (V c main_arg3) (funext fun a => Fin.ext ?_)
  fin_cases a
  · show (BitVec.ofNat 32 ((grid0.coords t) 0).val).toNat * 1 + 1 * (x 0).val = _; rw [now_word]; have := (x 0).isLt; show t.val * 1 + 1 * (x 0).val = t.val; have : (x 0).val < 1 := (x 0).isLt; omega
  · show 0 * 1 + 1 * (x 1).val = (x 1).val; omega
  · show 0 * 4 + 1 * (x 2).val = (x 2).val; omega

theorem blk5 (h : t.val + 1 < 256) (d) (x : S1x1x4.Idx) : (rdat V aft Φ c).fetched 5 t d x = V c main_arg3 (ValueIdx.ix3 ⟨t.val + 1, h⟩ (x 1) (x 2)) := by
  unfold Pipeline.RDat.fetched Pipeline.Window.fill
  rw [dif_pos (show ((cfg0 (F := F)).win 5).moved (grid0.coords t) x = true from rfl)]
  refine congrArg (V c main_arg3) (funext fun a => Fin.ext ?_)
  fin_cases a
  · show (Scalar.minsi (Scalar.addi (BitVec.ofNat 32 ((grid0.coords t) 0).val) 1#32) 255#32).toNat * 1 + 1 * (x 0).val = _; rw [next_word t h]; have := (x 0).isLt; show (t.val + 1) * 1 + 1 * (x 0).val = (t.val + 1); have : (x 0).val < 1 := (x 0).isLt; omega
  · show 0 * 1 + 1 * (x 1).val = (x 1).val; omega
  · show 0 * 4 + 1 * (x 2).val = (x 2).val; omega

theorem blk6 (d) (x : S128x3072.Idx) : (rdat V aft Φ c).fetched 6 t d x = V c main_arg4 (ValueIdx.ix2 (tok t (x 0)) (x 1)) := by
  unfold Pipeline.RDat.fetched Pipeline.Window.fill
  rw [dif_pos (show ((cfg0 (F := F)).win 6).moved (grid0.coords t) x = true from rfl)]
  refine congrArg (V c main_arg4) (funext fun a => Fin.ext ?_)
  fin_cases a
  · show (BitVec.ofNat 32 ((grid0.coords t) 0).val).toNat * 128 + 1 * (x 0).val = _; rw [now_word]; show t.val * 128 + 1 * (x 0).val = 128 * t.val + (x 0).val; omega
  · show 0 * 3072 + 1 * (x 1).val = (x 1).val; omega

theorem blk7 (d) (x : S32x3072.Idx) : (rdat V aft Φ c).fetched 7 t d x = V c main_v2 (ValueIdx.ix2 (x 0) (x 1)) := by
  unfold Pipeline.RDat.fetched Pipeline.Window.fill
  rw [dif_pos (show ((cfg0 (F := F)).win 7).moved (grid0.coords t) x = true from rfl)]
  refine congrArg (V c main_v2) (funext fun a => Fin.ext ?_)
  fin_cases a
  · show 0 * 32 + 1 * (x 0).val = (x 0).val; omega
  · show 0 * 3072 + 1 * (x 1).val = (x 1).val; omega

theorem tail_rows (i : grid0.Coords) : win0_8.xsize i 0 = 13 := by
  have h : ∀ i : grid0.Coords, win0_8.xsize i 0 = 13 := by decide +kernel
  exact h i

theorem blk8 (d) (x : S32x24.Idx) (hx : (x 0).val < 13) : (rdat V aft Φ c).fetched 8 t d x = V c main_arg6 (ValueIdx.ix2 ⟨249024 + (x 0).val, by omega⟩ (x 1)) := by
  unfold Pipeline.RDat.fetched Pipeline.Window.fill
  have hm : ((cfg0 (F := F)).win 8).moved (grid0.coords t) x = true := by
    refine (Pipeline.Window.moved_iff _ _ _).mpr ?_
    intro a
    fin_cases a
    · exact lt_of_lt_of_eq hx (tail_rows (grid0.coords t)).symm
    · exact (x 1).isLt
  rw [dif_pos hm]
  refine congrArg (V c main_arg6) (funext fun a => Fin.ext ?_)
  fin_cases a
  · show 7782 * 32 + 1 * (x 0).val = 249024 + (x 0).val; omega
  · show 0 * 24 + 1 * (x 1).val = (x 1).val; omega

end Cert.KernelIdeal.M

end
-- ==== Proof.KI.Body.lean ====
module

public import proofs.«01_k».proof.Proof.KI.Blocks

@[expose] public section

noncomputable section

/-
  The body obligation: a step keeps the invariant and leaves the result block as allowed.
-/
namespace Cert.KernelIdeal.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]
open Facts₀ Facts

variable (V : (c : Dev nD) → (b : Ref sig .tc) → Buf (Elt F) ((c : Thread nD τ).loc b))
  (aft : Dev nD → ℕ → (S128x3072.Idx → Elt F .bf16) → Prop) (L : Dev nD → Lists) (PD : Dev nD → ℕ → (S102432x128.Idx → Elt F .f32) → Prop)

/-- The share of the two streamed arrays that the ring reads with. -/
abbrev rq : PosShare TreeShare := (fullShare : PosShare TreeShare).right

/-- The ring's arrays and shares, with the scanned blocks. -/
def ctsOf (c : Dev nD) (X3 X4 : S1x4x128.Idx → Elt F .i32) (X5 X6 : S1x1x4.Idx → Elt F .i32) : Cts F :=
  ⟨X3, X4, X5, X6, V c main_arg5, V c main_arg6, fun k => Transfers.shareTok rq 16 k⟩

/-- With no scanned blocks. -/
def cts0 (c : Dev nD) : Cts F :=
  ctsOf V c (fun _ => (0 : BitVec 32)) (fun _ => (0 : BitVec 32)) (fun _ => (0 : BitVec 32)) (fun _ => (0 : BitVec 32))

/-- What the launch's arrays say of the lists, and what is kept true of the widened rows and of the result blocks. -/
structure Hyp : Prop where
  ent : ∀ c (t : Fin 256) (s : Fin 4) (j : Fin 128), j.val < (L c).cnt (4 * t.val + s.val) → V c main_arg2 (ValueIdx.ix3 t s j) = nw ((L c).ent (4 * t.val + s.val) j.val)
  cnt : ∀ c (t : Fin 256) (z : Fin 1) (s : Fin 4), V c main_arg3 (ValueIdx.ix3 t z s) = nw ((L c).cnt (4 * t.val + s.val))
  loc : ∀ c (x : S8x32768.Idx), k0_chk21 (V c main_arg0 x)
  first : ∀ c X, PD c 0 X
  step : ∀ c (C : Cts F) (X8 : S32x3072.Idx → Elt F .fp8e4m3) (X9 : S32x24.Idx → Elt F .f32) D E (hE : E < 498112) X, C.Y = V c main_arg5 → C.Sc = V c main_arg6
    → (∀ x, X8 x = V c main_v2 (ValueIdx.ix2 (x 0) (x 1)))
    → (∀ (x : S32x24.Idx) (hx : (x 0).val < 13), X9 x = V c main_arg6 (ValueIdx.ix2 ⟨249024 + (x 0).val, by omega⟩ (x 1)))
    → (L c).item D = E → PD c D X → PD c (D + 1) (widX (nw E) (chk8_ok hE) (codesOf C X8 (E / 64)) (scalesOf C X9 (E / 64)) X)
  out : ∀ c (t : Fin (cfg0 (F := F)).N) (X1 : S8x128.Idx → Elt F .i32) (X2 : S8x128.Idx → Elt F .f32) hX1 (X7 : S128x3072.Idx → Elt F .bf16) Y0 Y1 Y2 Y3 A O,
    (∀ x, X1 x = V c main_arg0 (ValueIdx.ix2 (x 0) (tok t (x 1)))) → (∀ x, X2 x = V c main_arg1 (ValueIdx.ix2 (x 0) (tok t (x 1))))
    → (∀ x, X7 x = V c main_arg4 (ValueIdx.ix2 (tok t (x 0)) (x 1)))
    → PD c ((L c).P (4 * t.val + 1)) Y0 → PD c ((L c).P (4 * t.val + 2)) Y1 → PD c ((L c).P (4 * t.val + 3)) Y2 → PD c ((L c).P (4 * t.val + 4)) Y3
    → aft c t.val (finX (accF X1 X2 hX1 Y0 Y1 Y2 Y3 A) X7 O 8)

/-- The invariant before step `t`. -/
def Inv (c : Dev nD) (t : ℕ) : SP F :=
  iprop(∃ v I D s j, ∃ X : S102432x128.Idx → Elt F .f32, ∃ A : S3200x128.Idx → Elt F .f32, ⌜StOk (L c) t v I D s j ∧ PD c D X⌝
    ∗ owns (c : Thread nD τ) (Memref.whole cc0_scratch6) fullShare (stV v : S4.Idx → Elt F .i32)
    ∗ owns (c : Thread nD τ) (Memref.whole cc0_scratch0) fullShare X
    ∗ owns (c : Thread nD τ) (Memref.whole cc0_scratch1) fullShare A
    ∗ ∃ f, ⌜(L c).Slots I D f⌝ ∗ ringW (cts0 V c) c f)

variable {V aft L PD} (H : Hyp V aft L PD) (c : Dev nD) (t : Fin (cfg0 (F := F)).N)

include H in
theorem ents_ok {Y3 Y4} (h2 : (rdat V aft (Inv V L PD) c).Finds 2 t Y3) (h3 : (rdat V aft (Inv V L PD) c).Finds 3 t Y4) : Ents (L c) t.val Y3 Y4 := by
  obtain ⟨d, rfl⟩ := found2 V aft _ c t h2
  obtain ⟨d', rfl⟩ := found3 V aft _ c t h3
  refine ⟨fun x hx => ?_, fun ht x hx => ?_⟩
  · exact (blk2 V aft _ c t d x).trans (H.ent c (tI t) (x 1) (x 2) hx)
  · refine (blk3 V aft _ c t ht d' x).trans ((H.ent c ⟨t.val + 1, ht⟩ (x 1) (x 2) ?_).trans ?_)
    · rw [show 4 * (t.val + 1) + (x 1).val = 4 * t.val + 4 + (x 1).val by omega]; exact hx
    · show nw ((L c).ent (4 * (t.val + 1) + (x 1).val) (x 2).val) = _
      rw [show 4 * (t.val + 1) + (x 1).val = 4 * t.val + 4 + (x 1).val by omega]

include H in
theorem counts_ok {Y5 Y6} (h4 : (rdat V aft (Inv V L PD) c).Finds 4 t Y5) (h5 : (rdat V aft (Inv V L PD) c).Finds 5 t Y6) : Counts (L c) t.val Y5 Y6 := by
  obtain ⟨d, rfl⟩ := found4 V aft _ c t h4
  obtain ⟨d', rfl⟩ := found5 V aft _ c t h5
  refine ⟨fun x => ?_, fun ht x => ?_⟩
  · exact (blk4 V aft _ c t d x).trans (H.cnt c (tI t) (x 1) (x 2))
  · refine (blk5 V aft _ c t ht d' x).trans ((H.cnt c ⟨t.val + 1, ht⟩ (x 1) (x 2)).trans ?_)
    show nw ((L c).cnt (4 * (t.val + 1) + (x 2).val)) = _
    rw [show 4 * (t.val + 1) + (x 2).val = 4 * t.val + 4 + (x 2).val by omega]

theorem body_row : defs₀ (F := F) .tc (cfg0 (F := F)).body ((cfg0 (F := F)).bodyArgs t ((cfg0 (F := F)).slots t)) = bodyAt0 t := by
  unfold defs₀; rw [Defs.onTc_tc]

set_option backward.isDefEq.respectTransparency.types false in
include H in
theorem body_core (Y0 : S8x128.Idx → Elt F .i32) (Y1 : S8x128.Idx → Elt F .f32) (Y2 : S1x4x128.Idx → Elt F .i32) (Y3 : S1x4x128.Idx → Elt F .i32) (Y4 : S1x1x4.Idx → Elt F .i32) (Y5 : S1x1x4.Idx → Elt F .i32) (Y6 : S128x3072.Idx → Elt F .bf16) (Y7 : S32x3072.Idx → Elt F .fp8e4m3) (Y8 : S32x24.Idx → Elt F .f32) (Y9 : S128x3072.Idx → Elt F .bf16)
    (hE : Ents (L c) (stp (grid0.coords t)) Y2 Y3) (hC : Counts (L c) (stp (grid0.coords t)) Y4 Y5)
    (k0 : ∀ x : S8x128.Idx, Y0 x = V c main_arg0 (ValueIdx.ix2 (x 0) (tok t (x 1))))
    (k1 : ∀ x : S8x128.Idx, Y1 x = V c main_arg1 (ValueIdx.ix2 (x 0) (tok t (x 1))))
    (k6 : ∀ x : S128x3072.Idx, Y6 x = V c main_arg4 (ValueIdx.ix2 (tok t (x 0)) (x 1)))
    (k7 : ∀ x : S32x3072.Idx, Y7 x = V c main_v2 (ValueIdx.ix2 (x 0) (x 1)))
    (k8 : ∀ (x : S32x24.Idx) (hx : (x 0).val < 13), Y8 x = V c main_arg6 (ValueIdx.ix2 ⟨249024 + (x 0).val, by omega⟩ (x 1))) :
    iprop(Inv V L PD c t.val ∗ ow c ∗ owns (c : Thread nD τ) (st0_0 t) fullShare Y0 ∗ owns (c : Thread nD τ) (st0_1 t) fullShare Y1 ∗ owns (c : Thread nD τ) (st0_2 t) fullShare Y2 ∗ owns (c : Thread nD τ) (st0_3 t) fullShare Y3 ∗ owns (c : Thread nD τ) (st0_4 t) fullShare Y4 ∗ owns (c : Thread nD τ) (st0_5 t) fullShare Y5 ∗ owns (c : Thread nD τ) (st0_6 t) fullShare Y6 ∗ owns (c : Thread nD τ) (st0_7 t) fullShare Y7 ∗ owns (c : Thread nD τ) (st0_8 t) fullShare Y8 ∗ owns (c : Thread nD τ) (st0_9 t) fullShare Y9)
      ⊢ W c none (bodyAt0 t) fun _ => iprop(Inv V L PD c (t.val + 1) ∗ ow c ∗ owns (c : Thread nD τ) (st0_0 t) fullShare Y0 ∗ owns (c : Thread nD τ) (st0_1 t) fullShare Y1 ∗ owns (c : Thread nD τ) (st0_2 t) fullShare Y2 ∗ owns (c : Thread nD τ) (st0_3 t) fullShare Y3 ∗ owns (c : Thread nD τ) (st0_4 t) fullShare Y4 ∗ owns (c : Thread nD τ) (st0_5 t) fullShare Y5 ∗ owns (c : Thread nD τ) (st0_6 t) fullShare Y6 ∗ owns (c : Thread nD τ) (st0_7 t) fullShare Y7 ∗ owns (c : Thread nD τ) (st0_8 t) fullShare Y8 ∗ ∃ X, ⌜aft c t.val X⌝ ∗ owns (c : Thread nD τ) (st0_9 t) fullShare X) := by
  have e : stp (grid0.coords t) = t.val := coord0 t
  have hX1 : ∀ x : S8x128.Idx, k0_chk21 (Y0 x) := fun x => by rw [k0 x]; exact H.loc c _
  unfold Inv
  iintro ⟨⟨%v, %I, %D, %s, %j, %X, %A, %hS, H19, H13, H14, HR⟩, HO, H1, H2, H3, H4, H5, H6, H7, H8, H9, H12⟩
  obtain ⟨hS, hX⟩ := hS
  rw [← e] at hS
  iapply (comb_spec (grid0.coords t) _ _ _ _ _ _ _ _ _ _ _ _ _ _ _ _ _ _ _ _ _ _ _ _ _ _ _ _ _ _ _ _ _ _ _ _ (ctsOf V c Y2 Y3 Y4 Y5) (L c) c Y7 Y8 (PD c) hE hC
    (fun D E hE X h1 h2 => H.step c (ctsOf V c Y2 Y3 Y4 Y5) Y7 Y8 D E hE X rfl rfl k7 k8 h1 h2) (H.first c) Y0 Y1 hX1 hS hX)
  unfold TI
  isplitl [H3 H4 H5 H6 H19 HR H8 H9 H13 HO]
  · isplitl [H3]; · iexact H3
    isplitl [H4]; · iexact H4
    isplitl [H5]; · iexact H5
    isplitl [H6]; · iexact H6
    isplitl [H19]; · iexact H19
    isplitl [HR]
    · icases HR with ⟨%f, %hf, HR⟩
      iexists f
      isplitr; · ipureintro; exact hf
      iapply (Entails.of_eq (ring_congr (cts0 V c) c (ctsOf V c Y2 Y3 Y4 Y5) rfl rfl rfl f).symm)
      iexact HR
    isplitl [H8]; · iexact H8
    isplitl [H9]; · iexact H9
    isplitl [H13]; · iexact H13
    iexact HO
  isplitl [H1 H2 H14]
  · isplitl [H1]; · iexact H1
    isplitl [H2]; · iexact H2
    iexact H14
  isplitl [H7]; · iexact H7
  isplitl [H12]; · iexact H12
  iintro %Z0 %Z1 %Z2 %Z3 %hZ HW ⟨H1, H2, H14⟩ H7 H12
  unfold WI QR
  icases HW with ⟨%I', %s', %j', %X', %hF, ⟨H3, H4, H5, H6, H19, HR⟩, H8, H9, H13, HO⟩
  obtain ⟨z0, z1, z2, z3⟩ := hZ
  rw [e] at z0 z1 z2 z3
  isplitl [H19 H13 H14 HR]
  · iexists (![I', (L c).P (4 * stp (grid0.coords t) + 4), s', j'] : Fin 4 → ℕ)
    iexists I'
    iexists ((L c).P (4 * stp (grid0.coords t) + 4))
    iexists s'
    iexists j'
    iexists X'
    iexists _
    isplitr; swap
    · isplitl [H19]; · iexact H19
      isplitl [H13]; · iexact H13
      isplitl [H14]; · iexact H14
      icases HR with ⟨%f, %hf, HR⟩
      iexists f
      isplitr; · ipureintro; exact hf
      iapply (Entails.of_eq (ring_congr (cts0 V c) c (ctsOf V c Y2 Y3 Y4 Y5) rfl rfl rfl f))
      iexact HR
    · ipureintro
      rw [e] at hF
      refine ⟨⟨Or.inr ⟨by omega, rfl, ?_⟩, ?_⟩, by rw [e]; exact hF.2⟩
      · rw [e]; exact hF.1
      · rw [e]; rfl
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _
  isplitr; swap; · iexact H12
  ipureintro
  exact H.out c t Y0 Y1 hX1 Y6 Z0 Z1 Z2 Z3 A Y9 k0 k1 k6 z0 z1 z2 z3

set_option backward.isDefEq.respectTransparency.types false in
include H in
theorem body_ok : (rdat V aft (Inv V L PD) c).BodyObligation (defs₀ (F := F)) VN () Set.univ := fun t Y hY => by
  have e : stp (grid0.coords t) = t.val := coord0 t
  have hE : Ents (L c) (stp (grid0.coords t)) (Y 2) (Y 3) := by rw [e]; exact ents_ok H c t (hY 2) (hY 3)
  have hC : Counts (L c) (stp (grid0.coords t)) (Y 4) (Y 5) := by rw [e]; exact counts_ok H c t (hY 4) (hY 5)
  obtain ⟨d0, h0⟩ := found0 V aft _ c t (hY 0)
  obtain ⟨d1, h1⟩ := found1 V aft _ c t (hY 1)
  obtain ⟨d6, h6⟩ := found6 V aft _ c t (hY 6)
  obtain ⟨d7, h7⟩ := found7 V aft _ c t (hY 7)
  obtain ⟨d8, h8⟩ := found8 V aft _ c t (hY 8)
  have hb := body_core H c t (Y 0) (Y 1) (Y 2) (Y 3) (Y 4) (Y 5) (Y 6) (Y 7) (Y 8) (Y 9) hE hC
    (fun x => by rw [h0]; exact blk0 V aft _ c t d0 x) (fun x => by rw [h1]; exact blk1 V aft _ c t d1 x) (fun x => by rw [h6]; exact blk6 V aft _ c t d6 x)
    (fun x => by rw [h7]; exact blk7 V aft _ c t d7 x) (fun x hx => by rw [h8]; exact blk8 V aft _ c t d8 x hx)
  rw [bigSep_W0, body_row t]
  rw [show (rdat V aft (Inv V L PD) c).Φ t.castSucc = Inv V L PD c t.val from rfl]
  unfold Pipeline.RDat.owesAt Pipeline.owesWithin
  rw [show (rdat V aft (Inv V L PD) c).owed t.castSucc = 0 from rfl]
  generalize hQ : (fun _ : PUnit => iprop((rdat V aft (Inv V L PD) c).Φ t.succ ∗ _)) = Q
  refine .trans ?_ (hb.trans (W_mono c none _ fun _ => ?_))
  · iintro ⟨HI, ⟨%W, -, HO⟩, HB⟩
    isplitl [HI]; · iexact HI
    isplitl [HO]; · unfold ow; iexists W; iexact HO
    iexact HB
  · subst hQ
    rw [bigSep_W0]
    rw [show (rdat V aft (Inv V L PD) c).Φ t.succ = Inv V L PD c (t.val + 1) from rfl, show (rdat V aft (Inv V L PD) c).owed t.succ = 0 from rfl]
    generalize Inv V L PD c (t.val + 1) = J
    unfold ow
    iintro ⟨HI, ⟨%W, HO⟩, H1, H2, H3, H4, H5, H6, H7, H8, H9, %X, %hX, H12⟩
    isplitl [HI]; · iexact HI
    isplitl [HO]
    · iexists W
      isplitr; · ipureintro; exact fun _ _ => Or.inl trivial
      iexact HO
    isplitl [H1]; · iexists _; isplitr; swap; (· iexact H1); ipureintro; rfl
    isplitl [H2]; · iexists _; isplitr; swap; (· iexact H2); ipureintro; rfl
    isplitl [H3]; · iexists _; isplitr; swap; (· iexact H3); ipureintro; rfl
    isplitl [H4]; · iexists _; isplitr; swap; (· iexact H4); ipureintro; rfl
    isplitl [H5]; · iexists _; isplitr; swap; (· iexact H5); ipureintro; rfl
    isplitl [H6]; · iexists _; isplitr; swap; (· iexact H6); ipureintro; rfl
    isplitl [H7]; · iexists _; isplitr; swap; (· iexact H7); ipureintro; rfl
    isplitl [H8]; · iexists _; isplitr; swap; (· iexact H8); ipureintro; rfl
    isplitl [H9]; · iexists _; isplitr; swap; (· iexact H9); ipureintro; rfl
    iexists X
    isplitr; · ipureintro; exact hX
    iexact H12

end Cert.KernelIdeal.M

end
-- ==== Proof.KI.Ends.lean ====
module

public import proofs.«01_k».proof.Proof.KI.Body

@[expose] public section

noncomputable section

/-
  The two ends of the region: the invariant made of what the launch deals, and given back.
-/
namespace Cert.KernelIdeal.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]
open Facts₀ Facts

variable (V : (c : Dev nD) → (b : Ref sig .tc) → Buf (Elt F) ((c : Thread nD τ).loc b))
  (aft : Dev nD → ℕ → (S128x3072.Idx → Elt F .bf16) → Prop) (L : Dev nD → Lists) (PD : Dev nD → ℕ → (S102432x128.Idx → Elt F .f32) → Prop)

/-- A buffer of the core, whole, at a share. -/
abbrev ptq (c : Dev nD) (b : Ref sig .tc) (q : PosShare TreeShare) (f : Buf (Elt F) ((c : Thread nD τ).loc b)) : SP F := ((c : Thread nD τ).loc b) ↦{q} f

/-- The ring's read shares of an array. -/
def toks (c : Dev nD) (b : Ref sig .tc) : SP F := bigSep Finset.univ fun k : Fin 16 => ptq c b (Transfers.shareTok rq 16 k) (V c b)

/-- What of the two streamed arrays stays outside the ring, and the routing table. -/
def rests (c : Dev nD) : SP F :=
  iprop(ptq c main_arg5 (fullShare : PosShare TreeShare).left (V c main_arg5) ∗ ptq c main_arg5 (Transfers.shareDrop rq 16) (V c main_arg5)
    ∗ ptq c main_arg7 fullShare (V c main_arg7))

theorem share8 : Pipeline.shareOf spec0 8 = fullShare := Pipeline.shareOf_eq_fullShare spec0 (by decide)

/-- The proof data with every window at the share its array's windows leave it. -/
def rdShared (Φ : Dev nD → ℕ → SP F) (c : Dev nD) : Pipeline.RDat τ (Elt F) Unit ℕ (Pipeline.UD sig nD τ) ℕ (cfg0 (F := F)) c :=
  { rdat V aft Φ c with q := Pipeline.shareOf spec0 }

theorem share8' (Φ : Dev nD → ℕ → SP F) (c : Dev nD) : (rdShared V aft Φ c).share 8 = fullShare := by
  unfold Pipeline.RDat.share
  exact (if_neg Bool.false_ne_true).trans share8

theorem owns_some (c : Dev nD) (b : Ref sig .tc) (X : b.ty.Contents (Elt F)) :
    (owns (c : Thread nD τ) (Memref.whole b) fullShare X : SP F) ⊢ iprop(∃ f : Buf (Elt F) ((c : Thread nD τ).loc b), ((c : Thread nD τ).loc b) ↦{fullShare} f) := by
  rw [owns_whole_eq]
  iintro ⟨%g, -, H⟩
  iexists g
  iexact H

/-- The scales' window keeps half of its array, the ring takes the other half. -/
theorem split8 (Φ : Dev nD → ℕ → SP F) (c : Dev nD) (w : Fin (cfg0 (F := F)).W) (q : PosShare TreeShare) (hq : q = fullShare) (A : Buf (Elt F) (((cfg0 (F := F)).win w).arr.view.loc (c : Thread nD τ))) :
    (((cfg0 (F := F)).win w).arr.view.loc (c : Thread nD τ) ↦[((cfg0 (F := F)).win w).arr.view.set]{q} A : SP F)
    ⊢ iprop((((cfg0 (F := F)).win w).arr.view.loc (c : Thread nD τ) ↦[((cfg0 (F := F)).win w).arr.view.set]{(fullShare : PosShare TreeShare).left} A)
      ∗ (((cfg0 (F := F)).win w).arr.view.loc (c : Thread nD τ) ↦[((cfg0 (F := F)).win w).arr.view.set]{rq} A)) := by
  subst hq
  exact (pointsTo_share (PosShare.mem_left_op_right (fullShare : PosShare TreeShare))).1

set_option backward.isDefEq.respectTransparency.types false in
theorem entry_arrays (Φ : Dev nD → ℕ → SP F) (c : Dev nD) :
    (unscopedBufs c (V c) : SP F) ⊢ iprop((rdat V aft Φ c).arrays (rdat V aft Φ c).A ∗ (toks V c main_arg5 ∗ toks V c main_arg6) ∗ rests V c) := by
  have h1 : (unscopedBufs c (V c) : SP F) = iprop(Pipeline.arrBufs spec0 c (V c) ∗ Pipeline.unscopedRest spec0 c (V c)) :=
    Pipeline.unscopedBufs_split₀ (fun p => (cfgs (F := F) p)) 0 launch₀0.win.arr_unscoped c (V c)
  have h2 : (Pipeline.arrBufs spec0 c (V c) : SP F) ⊢ (rdShared V aft Φ c).arrays (rdat V aft Φ c).A :=
    (rdShared V aft Φ c).arrays_split_shared sharedIn0 arr_whole0 (fun _ _ => rfl) (V c) _ (fun _ => rfl)
  rw [h1, unscopedRest0_eq]
  unfold Pipeline.RDat.arrays at h2 ⊢
  rw [bigSep_W0] at h2 ⊢
  iintro ⟨HA, H5, H7, -, -⟩
  ihave HB := h2 $$ HA
  icases HB with ⟨A0, A1, A2, A3, A4, A5, A6, A7, A8, A9⟩
  ihave A8'' := (split8 Φ c _ _ (share8' V aft Φ c) _) $$ A8
  icases A8'' with ⟨A8, B8⟩
  ihave B8' := (show ((((cfg0 (F := F)).win (8 : Fin 10)).arr.view.loc (c : Thread nD τ) ↦[((cfg0 (F := F)).win (8 : Fin 10)).arr.view.set]{rq} (rdat V aft Φ c).A (8 : Fin 10)) : SP F)
    ⊢ iprop(ptq c main_arg6 (Transfers.shareDrop rq 16) (V c main_arg6) ∗ toks V c main_arg6) from by
      rw [show ((cfg0 (F := F)).win (8 : Fin 10)).arr.view.set = Finset.univ from Memref.IsWhole.set_eq_univ (arr_whole0 (8 : Fin 10))]
      exact Transfers.pointsTo_toks_split rq 16) $$ B8
  icases B8' with ⟨-, B8⟩
  ihave H5' := (pointsTo_share (PosShare.mem_left_op_right (fullShare : PosShare TreeShare))).1 $$ H5
  icases H5' with ⟨H5, B5⟩
  ihave B5' := (show (ptq c main_arg5 rq (V c main_arg5) : SP F)
    ⊢ iprop(ptq c main_arg5 (Transfers.shareDrop rq 16) (V c main_arg5) ∗ toks V c main_arg5) from Transfers.pointsTo_toks_split rq 16) $$ B5
  icases B5' with ⟨D5, B5⟩
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [B5 B8]
  · isplitl [B5]; · iexact B5
    iexact B8
  unfold rests
  isplitl [H5]; · iexact H5
  isplitl [D5]; · iexact D5
  iexact H7

theorem toks_owns (c : Dev nD) (b : Ref sig .tc) : toks V c b = bigSep Finset.univ fun k : Fin 16 => owns (c : Thread nD τ) (Memref.whole b) (Transfers.shareTok rq 16 k) (V c b) := by
  unfold toks
  refine congrArg (bigSep Finset.univ) (funext fun k => ?_)
  rw [owns_whole_eq]
  refine BI.Entails.antisymm ?_ ?_
  · show (ptq c b _ _ : SP F) ⊢ iprop(∃ f : Buf (Elt F) ((c : Thread nD τ).loc b), ⌜f = V c b⌝ ∗ (((c : Thread nD τ).loc b) ↦{Transfers.shareTok rq 16 k} f))
    iintro H
    iexists _
    isplitr; swap; · iexact H
    ipureintro; rfl
  · show (iprop(∃ f : Buf (Elt F) ((c : Thread nD τ).loc b), ⌜f = V c b⌝ ∗ (((c : Thread nD τ).loc b) ↦{Transfers.shareTok rq 16 k} f)) : SP F) ⊢ ptq c b _ _
    iintro ⟨%f, %hf, H⟩
    subst hf
    iexact H

/-- The invariant before the first step. -/
theorem inv_first (c : Dev nD) (h0 : ∀ X, PD c 0 X) :
    iprop((toks V c main_arg5 ∗ toks V c main_arg6) ∗ Pipeline.ownSems0 (Ix := Unit) (Name := ℕ) (U := Pipeline.UD sig nD τ) (Lvl := ℕ) (Val := Elt F) (τ := τ) osem c
      ∗ Pipeline.scopedRest (Ix := Unit) (Name := ℕ) (U := Pipeline.UD sig nD τ) (Lvl := ℕ) (Val := Elt F) spec0 c) ⊢ Inv V L PD c 0 := by
  rw [scopedRest0_eq, ownSems0_eq', toks_owns, toks_owns]
  unfold Inv
  iintro ⟨⟨T5, T6⟩, ⟨S4, S5⟩, ⟨%f0, H0⟩, ⟨%f1, H1⟩, ⟨%f2, H2⟩, ⟨%f3, H3⟩, ⟨%f6, H6⟩⟩
  iexists (fun a => BitVec.toNat (f6 (ValueIdx.ix1 a) : BitVec 32))
  iexists 0
  iexists 0
  iexists 0
  iexists 0
  iexists f0
  iexists f1
  isplitr; · ipureintro; exact ⟨⟨Or.inl ⟨rfl, rfl⟩, rfl⟩, h0 _⟩
  isplitl [H6]
  · rw [owns_whole_eq]
    iexists f6
    isplitr; swap; · iexact H6
    ipureintro
    funext x
    unfold stV nw
    rw [BitVec.ofNat_toNat, BitVec.setWidth_eq]
    refine congrArg f6 (funext fun a => ?_)
    fin_cases a
    rfl
  isplitl [H0]
  · rw [owns_whole_eq]
    iexists f0
    isplitr; · ipureintro; rfl
    iexact H0
  isplitl [H1]
  · rw [owns_whole_eq]
    iexists f1
    isplitr; · ipureintro; rfl
    iexact H1
  iexists (fun _ => none)
  isplitr; · ipureintro; exact ⟨fun n h1 h2 => absurd h2 (Nat.not_lt_zero n), fun _ _ => rfl⟩
  iapply (Entails.of_eq (ring_none (cts0 V c) c).symm)
  isplitl [H2 S4 T5]
  · isplitl [H2]
    · iapply (slots_split (Memref.whole cc0_scratch2) _ (Memref.isWhole_whole _) c f2)
      iexact H2
    isplitl [S4]; · iexact S4
    iexact T5
  · isplitl [H3]
    · iapply (slots_split (Memref.whole cc0_scratch3) _ (Memref.isWhole_whole _) c f3)
      iexact H3
    isplitl [S5]; · iexact S5
    iexact T6

/-- The invariant after the last step. -/
theorem inv_last (c : Dev nD) :
    Inv V L PD c 256 ⊢ iprop((toks V c main_arg5 ∗ toks V c main_arg6) ∗ Pipeline.ownSems0 (Ix := Unit) (Name := ℕ) (U := Pipeline.UD sig nD τ) (Lvl := ℕ) (Val := Elt F) (τ := τ) osem c
      ∗ Pipeline.scopedRest (Ix := Unit) (Name := ℕ) (U := Pipeline.UD sig nD τ) (Lvl := ℕ) (Val := Elt F) spec0 c) := by
  rw [scopedRest0_eq, ownSems0_eq', toks_owns, toks_owns]
  unfold Inv
  iintro ⟨%v, %I, %D, %s, %j, %X, %A, %hS, H6, H0, H1, %f, %hf, HR⟩
  obtain ⟨⟨hS, hD⟩, -⟩ := hS
  have hI : I = D := by
    rcases hS with hS | hS
    · exact absurd hS.1 (by decide)
    · exact Lists.Full.end_ (t := 255) rfl hS.2.2 hD
  have hn : f = fun _ => none := funext fun k => hf.2 k fun n h1 h2 => absurd h2 (by omega)
  subst hn
  ihave HR' := (Entails.of_eq (ring_none (cts0 V c) c)) $$ HR
  icases HR' with ⟨⟨R2, S4, T5⟩, R3, S5, T6⟩
  isplitl [T5 T6]
  · isplitl [T5]; · iexact T5
    iexact T6
  isplitl [S4 S5]
  · isplitl [S4]; · iexact S4
    iexact S5
  isplitl [H0]
  · iapply (owns_some c cc0_scratch0 _)
    iexact H0
  isplitl [H1]
  · iapply (owns_some c cc0_scratch1 _)
    iexact H1
  isplitl [R2]
  · iapply (slots_join (Memref.whole cc0_scratch2) _ (Memref.isWhole_whole _) c (fun _ => (Classical.arbitrary _)))
    iexact R2
  isplitl [R3]
  · iapply (slots_join (Memref.whole cc0_scratch3) _ (Memref.isWhole_whole _) c (fun _ => (Classical.arbitrary _)))
    iexact R3
  iapply (owns_some c cc0_scratch6 _)
  iexact H6

end Cert.KernelIdeal.M

end
-- ==== Proof.KI.Launch.lean ====
module

public import proofs.«01_k».proof.Proof.KI.Ends
public import Idealize.ShloMosaic.Lib.Pipeline.Regions

@[expose] public section

noncomputable section

/-
  The launch: the host operations, then the kernel's region.
-/
namespace Cert.KernelIdeal.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]
open Facts₀ Facts

variable (m : (ℓ : Loc nD τ sig) → Buf (Elt F) ℓ) (ρ : Dev nD → PrngReg)
  (aft : Dev nD → ℕ → (S128x3072.Idx → Elt F .bf16) → Prop) (L : Dev nD → Lists) (PD : Dev nD → ℕ → (S102432x128.Idx → Elt F .f32) → Prop)

/-- Each core's buffers when the host operations start, -/
abbrev V₀ (c : Dev nD) : Valuation τ sig (Elt F) := fun b => m ((c : Dev nD), b)
/-- and when the region is entered. -/
abbrev VE (c : Dev nD) (b : Ref sig .tc) : Buf (Elt F) ((c : Thread nD τ).loc b) := StableHlo.after hostOps0 (V₀ m c) b

theorem not_written (b : Ref sig .tc) (hb : b ≠ main_v0 ∧ b ≠ main_v1 ∧ b ≠ main_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.unary_writes, StableHlo.binary_writes, Finset.mem_singleton] <;>
    exact StableHlo.devRef_ne_of_ne ‹_›

theorem VE_eq (c : Dev nD) (b : Ref sig .tc) (hb : b ≠ main_v0 ∧ b ≠ main_v1 ∧ b ≠ main_v2) :
    VE m c b = m ((c : Thread nD τ).loc b) :=
  StableHlo.after_of_forall_not_mem (b := Proc.devRef .tc b) hostOps0 (V₀ m c) (not_written b hb)

/-- No core owes another anything: no level is assigned. -/
abbrev LL : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers. -/
abbrev RW (c : Dev nD) : SP F := iprop(∃ W, owes (c : Thread nD τ) (0 : CellTallies nD τ sig Unit) W)

/-- The region's proof data. -/
abbrev rds (_ : Fin 1) (c : Dev nD) : Pipeline.RDat τ (Elt F) Unit ℕ (Pipeline.UD sig nD τ) ℕ (cfg0 (F := F)) c :=
  rdat (VE m) aft (Inv (VE m) L PD) c

/-- The host operations. -/
def hseg : Pipeline.HostSeg (Name := ℕ) (U := Pipeline.UD sig nD τ) (pcfgs (F := F)) defs₀ VN LL lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) RW

/-- What the region leaves. -/
abbrev TN (c : Dev nD) : SP F :=
  iprop((rds m aft L PD 0 c).arraysAt (cfg0 (F := F)).N ∗ ptq c main_arg5 fullShare (VE m c main_arg5) ∗ ptq c main_arg7 fullShare (VE m c main_arg7))

variable {m L PD aft}

set_option backward.isDefEq.respectTransparency.types false in
/-- The region. -/
def rseg (H : Hyp (VE m) aft L PD) :
    Pipeline.RDat.RegionSeg (pcfgs (F := F)) adm (rds m aft L PD) () defs₀ VN LL lv 0 where
  win := launch₀0.win
  block_pos := launch₀0.block_pos
  stage_whole := launch₀0.stage_whole
  K := Fin 16 ⊕ Fin 16
  osem := osem
  ho := ownSemFacts
  hbody c := body_ok H c
  hwaits := Pipeline.RDat.hwaits_of_owed_zero _ _ _ _ LL lv 0 fun _ _ => rfl
  pre c := iprop(StableHlo.held (c : Thread nD τ) (Pipeline.ucRefs τ sig) (StableHlo.after hostOps0 (V₀ m c)) ∗ RW c)
  post c := iprop(TN m aft L PD c ∗ RW c)
  X c := iprop((toks (VE m) c main_arg5 ∗ toks (VE m) c main_arg6) ∗ Pipeline.ownSems0 (Ix := Unit) (Name := ℕ) (U := Pipeline.UD sig nD τ) (Lvl := ℕ) (Val := Elt F) (τ := τ) osem c)
  Y c := iprop(toks (VE m) c main_arg5 ∗ toks (VE m) c main_arg6)
  Z c := rests (VE m) c
  hentry c := by
    rw [show StableHlo.held (c : Thread nD τ) (Pipeline.ucRefs τ sig) (StableHlo.after hostOps0 (V₀ m c)) = unscopedBufs c (VE m c) from (Pipeline.unscopedBufs_held c _).symm]
    iintro ⟨⟨Hub, HO⟩, Hos, -⟩
    ihave H := (entry_arrays (VE m) aft (Inv (VE m) L PD) c) $$ Hub
    icases H with ⟨Ha, Ht, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Ht Hos]
    · isplitl [Ht]; · iexact Ht
      iexact Hos
    iexact Hz
  hin c := by
    rw [show (rds m aft L PD 0 c).Φ 0 = Inv (VE m) L PD c 0 from rfl]
    iintro ⟨⟨Ht, Hos⟩, -, Hr⟩
    iapply (inv_first (VE m) L PD c (H.first c))
    isplitl [Ht]; · iexact Ht
    isplitl [Hos] <;> iassumption
  hout c := by
    rw [show (rds m aft L PD 0 c).Φ (Fin.last (cfg0 (F := F)).N) = Inv (VE m) L PD c 256 from congrArg (Inv (VE m) L PD c) N_0]
    exact inv_last (VE m) L PD c
  hexit c := by
    unfold rests toks
    iintro ⟨Ha, HO, ⟨H5, -⟩, ⟨A5, D5, H7⟩⟩
    imodintro
    isplitr [HO]
    · isplitl [Ha]; · iexact Ha
      isplitr [H7]
      · iapply (pointsTo_share (PosShare.mem_left_op_right (fullShare : PosShare TreeShare))).2
        isplitl [A5]; · iexact A5
        iapply (Transfers.pointsTo_toks_join rq 16)
        isplitl [D5]; · iexact D5
        iexact H5
      iexact H7
    · unfold Pipeline.RDat.owesAt Pipeline.owesWithin
      icases HO with ⟨%W, -, HO⟩; iexists W; iexact HO

/-- @main as the two segments. -/
abbrev segs (H : Hyp (VE m) aft L PD) : List (Pipeline.RDat.Seg (pcfgs (F := F)) adm (rds m aft L PD) () defs₀ VN LL lv) :=
  [.host (hseg m), .region (rseg H)]

theorem main_run (H : Hyp (VE m) aft L PD) (c : Dev nD) : main (F := F) c = Pipeline.RDat.Seg.run (segs H) := by
  simp only [Pipeline.RDat.Seg.run]
  rw [show (hseg m).prog = StableHlo.seq hostOps0 from rfl]
  rfl

/-- The launch element. -/
def u₀ : Pipeline.UD sig nD τ :=
  (initOf (Pipeline.cells (Pipeline.pin (pcfgs (F := F)) adm) cellOf_inj) (Pipeline.launchToks (Pipeline.pin (pcfgs (F := F)) adm) cellOf_inj), 1)

/-- What a final memory satisfies. -/
def QY (m : (ℓ : Loc nD τ sig) → Buf (Elt F) ℓ) (aft : Dev nD → ℕ → (S128x3072.Idx → Elt F .bf16) → Prop) (L : Dev nD → Lists) (PD : Dev nD → ℕ → (S102432x128.Idx → Elt F .f32) → Prop)
    (c : Dev nD) (s : MemSt nD τ sig (Elt F)) : Prop :=
  (∀ w, (rds m aft L PD 0 c).ArrAt w (cfg0 (F := F)).N (s.mem (((cfg0 (F := F)).win w).arr.view.loc (c : Thread nD τ))))
    ∧ s.mem ((c : Thread nD τ).loc main_arg5) = m ((c : Thread nD τ).loc main_arg5)
    ∧ s.mem ((c : Thread nD τ).loc main_arg7) = m ((c : Thread nD τ).loc main_arg7)

set_option maxRecDepth 100000 in
set_option backward.isDefEq.respectTransparency.types false in
/-- Every run of @main ends, every semaphore at zero and the memory as `QY` says. -/
theorem run_main (H : Hyp (VE m) aft L PD) :
    θ_run defs (onTc (τ := τ) (main (F := F))) ⟨m, fun _ => 0, ρ⟩ (fun r => (∀ c, QY m aft L PD c r.2) ∧ r.2.sem = fun _ => 0) :=
  Pipeline.RDat.θ_run_regions_kit_sems (pcfgs (F := F)) adm (rds m aft L PD) () cellOf_inj embL defs₀ VN LL lv m ρ main (segs H)
    (fun c Q => by rw [main_run H c])
    (by simp only [Pipeline.RDat.Seg.pipes_host, Pipeline.RDat.Seg.pipes_region, Pipeline.RDat.Seg.pipes_nil]; decide) (O₀ := 0) (hL := fun _ _ => rfl) (G := fun _ => iprop(emp)) (u₀ := u₀ (F := F))
    (hu₀ := by
      unfold u₀
      iintro Hu
      ihave H := (ownU_pair _ _) $$ Hu
      icases H with ⟨HP, -⟩
      imodintro
      isplitl [HP]; · iexact HP
      iapply (show (BI.emp : SP F) ⊢ bigSep Finset.univ (fun _ : Dev nD => (BI.emp : SP F)) from by rw [BI.bigSep_emp_const])
      iempintro)
    (T₀ := fun c => iprop(StableHlo.held (c : Thread nD τ) (Pipeline.ucRefs τ sig) (V₀ m c) ∗ RW c)) (Tₙ := TN m aft L PD)
    (hch := ⟨fun _ => .rfl, fun _ => .rfl, fun _ => .rfl⟩)
    (hinit := by
      refine Pipeline.initEach LL lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := QY m aft L PD)
    (hfin := fun c s' => by
      dsimp only [TN]; rw [VE_eq m c main_arg5 (by decide), VE_eq m c main_arg7 (by decide)]
      iintro ⟨⟨Ha, H5, H7⟩, HSI⟩
      icombine HSI H5 gives %h5
      icombine HSI H7 gives %h7
      ihave Hr := (Pipeline.RDat.arrays_read (pcfgs (F := F)) adm (rds m aft L PD) (p := 0) arr_whole0 c _ s') $$ [Ha HSI]
      · isplitl [Ha] <;> iassumption
      icases Hr with ⟨%ha, HSI⟩
      imodintro
      isplitr; · ipureintro; exact ⟨ha, Buf.eq_of_forall_mem_univ h5, Buf.eq_of_forall_mem_univ h7⟩
      iexact HSI)
    (hQ := fun _ h hz => ⟨h, funext fun g => hz g (.inr (by revert g; decide))⟩)

/-- The run leaves every argument as it was. -/
theorem args_kept (c : Dev nD) (s : MemSt nD τ sig (Elt F)) (h : QY m aft L PD c s) :
    s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7) := by
  have k : ∀ (w : Fin (cfg0 (F := F)).W), ((cfg0 (F := F)).win w).isOut = false → s.mem (((cfg0 (F := F)).win w).arr.view.loc (c : Thread nD τ)) = VE m c (Pipeline.arrRef spec0 w) := fun w hw => by
    have hk := h.1 w
    rw [Pipeline.RDat.ArrAt_in _ _ hw] at hk
    exact hk
  refine ⟨(k 0 rfl).trans (VE_eq m c main_arg0 (by decide)), (k 1 rfl).trans (VE_eq m c main_arg1 (by decide)), (k 2 rfl).trans (VE_eq m c main_arg2 (by decide)),
    (k 4 rfl).trans (VE_eq m c main_arg3 (by decide)), (k 6 rfl).trans (VE_eq m c main_arg4 (by decide)), h.2.1, (k 8 rfl).trans (VE_eq m c main_arg6 (by decide)), h.2.2⟩

end Cert.KernelIdeal.M

end
-- ==== Proof.KI.Frame.lean ====
module

public import proofs.«01_k».proof.Proof.KI.Launch
public import proofs.«01_k».proof.Proof.Pre

@[expose] public section

noncomputable section

/-
  The lists as the precondition has them.
-/
namespace Cert.KernelIdeal.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]
open Facts₀ Facts

variable [Cert.Pre_routed.Facts] (m : (ℓ : Loc nD τ sig) → Buf (Elt F) ℓ)

/-- The precondition, at a core's arguments. -/
abbrev Routed (c : Dev nD) : Prop :=
  Cert.Pre_routed.fn (F := F) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) = fun _ => 1#1

/-- An entry's word. -/
abbrev entW (c : Dev nD) (t : Fin 256) (s : Fin 4) (j : Fin 128) : BitVec 32 := m ((c : Thread nD τ).loc main_arg2) (ValueIdx.ix3 t s j)
/-- A count's word. -/
abbrev cntW (c : Dev nD) (t : Fin 256) (s : Fin 4) : BitVec 32 := m ((c : Thread nD τ).loc main_arg3) (ValueIdx.ix3 t (0 : Fin 1) s)

/-- The core's lists. -/
def listsOf (c : Dev nD) : Lists where
  cnt σ := if h : σ < 1024 then min (cntW m c ⟨σ / 4, by omega⟩ ⟨σ % 4, by omega⟩).toNat 128 else 0
  ent σ j := if h : σ < 1024 ∧ j < 128 then (entW m c ⟨σ / 4, by omega⟩ ⟨σ % 4, by omega⟩ ⟨j, h.2⟩).toNat % 498112 else 0
  cnt_le σ := by split <;> omega
  cnt_end σ h := dif_neg (by omega)
  ent_lt σ j _ := by split <;> omega

variable {m} (hm : ∀ c, Routed m c)

include hm in
theorem pre_at (c : Dev nD) (k : Fin 8) (t : Fin 256) (s : Fin 4) (y : Fin 32) (q : Fin 128) :
    Cert.Pre_routed.M.listsOk (m ((c : Thread nD τ).loc main_arg2)) (m ((c : Thread nD τ).loc main_arg3)) (Idealize.ShloMosaic.ix5 (0 : Fin 1) t s (0 : Fin 1) q) = 1#1
    ∧ Cert.Pre_routed.M.Route (m ((c : Thread nD τ).loc main_arg0) (ValueIdx.ix2 k (Cert.Pre_routed.M.tokOf t s y))) (m ((c : Thread nD τ).loc main_arg7) (ValueIdx.ix2 (Cert.Pre_routed.M.tokOf t s y) k))
        (Cert.Pre_routed.M.newest (F := F) (m ((c : Thread nD τ).loc main_arg2)) (m ((c : Thread nD τ).loc main_arg3)) (ValueIdx.ix2 (Cert.Pre_routed.M.sub t s) q))
        (FloatOps.cmpf CmpFPredicate.oeq (m ((c : Thread nD τ).loc main_arg1) (ValueIdx.ix2 k (Cert.Pre_routed.M.tokOf t s y)) : F .f32) (FloatOps.ofBits FTy.f32 0#32) = 1#1) q :=
  Cert.Pre_routed.M.part3_at (F := F) _ _ _ _ _ k t s y q ((congrFun (Cert.Pre_routed.M.fn_eq (F := F) _ _ _ _ _ _ _ _).symm _).trans (congrFun (hm c) (Idealize.ShloMosaic.ix5 k t s y q)))

include hm in
theorem lists_at (c : Dev nD) (t : Fin 256) (s : Fin 4) (q : Fin 128) :
    (cntW m c t s).toNat ≤ 128 ∧ (q.val < (cntW m c t s).toNat → (entW m c t s q).toNat < 498112) :=
  Cert.Pre_routed.M.listsOk_at _ _ t s q (pre_at hm c 0 t s 0 q).1

theorem cnt_at (c : Dev nD) (t : Fin 256) (s : Fin 4) : (listsOf m c).cnt (4 * t.val + s.val) = min (cntW m c t s).toNat 128 := by
  show (if h : 4 * t.val + s.val < 1024 then _ else 0) = _
  rw [dif_pos (by omega)]
  have e1 : (⟨(4 * t.val + s.val) / 4, by omega⟩ : Fin 256) = t := Fin.ext (by show (4 * t.val + s.val) / 4 = t.val; omega)
  have e2 : (⟨(4 * t.val + s.val) % 4, by omega⟩ : Fin 4) = s := Fin.ext (by show (4 * t.val + s.val) % 4 = s.val; omega)
  rw [e1, e2]

theorem ent_at (c : Dev nD) (t : Fin 256) (s : Fin 4) (j : Fin 128) : (listsOf m c).ent (4 * t.val + s.val) j.val = (entW m c t s j).toNat % 498112 := by
  show (if h : 4 * t.val + s.val < 1024 ∧ j.val < 128 then _ else 0) = _
  rw [dif_pos ⟨by omega, j.isLt⟩]
  have e1 : (⟨(4 * t.val + s.val) / 4, by omega⟩ : Fin 256) = t := Fin.ext (by show (4 * t.val + s.val) / 4 = t.val; omega)
  have e2 : (⟨(4 * t.val + s.val) % 4, by omega⟩ : Fin 4) = s := Fin.ext (by show (4 * t.val + s.val) % 4 = s.val; omega)
  rw [e1, e2]

include hm in
theorem loc_at (c : Dev nD) (k : Fin 8) (n : Fin 32768) : (m ((c : Thread nD τ).loc main_arg0) (ValueIdx.ix2 k n) : BitVec 32).toNat ≤ 102400 := by
  have h := (pre_at hm c k ⟨n.val / 128, by omega⟩ ⟨n.val / 32 % 4, by omega⟩ ⟨n.val % 32, by omega⟩ 0).2.le
  have e : Cert.Pre_routed.M.tokOf ⟨n.val / 128, by omega⟩ ⟨n.val / 32 % 4, by omega⟩ ⟨n.val % 32, by omega⟩ = n := Fin.ext (by
    show (n.val / 128 * 4 + n.val / 32 % 4) * 32 + n.val % 32 = n.val; omega)
  rw [e] at h
  exact h

include hm in
/-- What the region's proof takes, given what is to be kept of the ring of rows and of the result. -/
theorem hyp_of {aft PD} (first : ∀ c X, PD c 0 X)
    (step : ∀ c (C : Cts F) (X8 : S32x3072.Idx → Elt F .fp8e4m3) (X9 : S32x24.Idx → Elt F .f32) D E (hE : E < 498112) X, C.Y = VE m c main_arg5 → C.Sc = VE m c main_arg6
      → (∀ x, X8 x = VE m c main_v2 (ValueIdx.ix2 (x 0) (x 1)))
      → (∀ (x : S32x24.Idx) (hx : (x 0).val < 13), X9 x = VE m c main_arg6 (ValueIdx.ix2 ⟨249024 + (x 0).val, by omega⟩ (x 1)))
      → (listsOf m c).item D = E → PD c D X → PD c (D + 1) (widX (nw E) (chk8_ok hE) (codesOf C X8 (E / 64)) (scalesOf C X9 (E / 64)) X))
    (out : ∀ c (t : Fin (cfg0 (F := F)).N) (X1 : S8x128.Idx → Elt F .i32) (X2 : S8x128.Idx → Elt F .f32) hX1 (X7 : S128x3072.Idx → Elt F .bf16) Y0 Y1 Y2 Y3 A O,
      (∀ x, X1 x = VE m c main_arg0 (ValueIdx.ix2 (x 0) (tok t (x 1)))) → (∀ x, X2 x = VE m c main_arg1 (ValueIdx.ix2 (x 0) (tok t (x 1))))
      → (∀ x, X7 x = VE m c main_arg4 (ValueIdx.ix2 (tok t (x 0)) (x 1)))
      → PD c ((listsOf m c).P (4 * t.val + 1)) Y0 → PD c ((listsOf m c).P (4 * t.val + 2)) Y1 → PD c ((listsOf m c).P (4 * t.val + 3)) Y2 → PD c ((listsOf m c).P (4 * t.val + 4)) Y3
      → aft c t.val (finX (accF X1 X2 hX1 Y0 Y1 Y2 Y3 A) X7 O 8)) : Hyp (VE m) aft (listsOf m) PD where
  ent c t s j hj := by
    rw [VE_eq m c main_arg2 (by decide), ent_at]
    rw [cnt_at] at hj
    have h := lists_at hm c t s j
    rw [Nat.mod_eq_of_lt (h.2 (by omega))]
    exact nw_of _
  cnt c t z s := by
    rw [VE_eq m c main_arg3 (by decide), cnt_at]
    have h := lists_at hm c t s 0
    rw [min_eq_left h.1]
    obtain rfl : z = 0 := Subsingleton.elim _ _
    exact nw_of _
  loc c x := by
    rw [VE_eq m c main_arg0 (by decide), ValueIdx.eq_ix2 x]
    exact chk21_ok (loc_at hm c (x 0) (x 1))
  first := first
  step := step
  out := out

include hm in
/-- Every run ends, with every semaphore at zero and the arguments as they were. -/
theorem frame (ρ : Dev nD → PrngReg) :
    θ_run (defs (F := F)) (onTc (τ := τ) (main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)) ∧ r.2.sem = fun _ => 0) :=
  (θ_run _ _ _).mono (fun r h => ⟨fun c => args_kept c r.2 (h.1 c), h.2⟩)
    (run_main ρ (hyp_of hm (aft := fun _ _ _ => True) (PD := fun _ _ _ => True) (fun _ _ => trivial) (by intros; trivial) (by intros; trivial)))

end Cert.KernelIdeal.M

end
-- ==== Proof.KI.Rows.lean ====
module

public import proofs.«01_k».proof.Proof.KI.Step
public import Idealize.ShloMosaic.Lib.Pointwise.Tactic

@[expose] public section

noncomputable section

/-
  What the ring of rows holds.
-/
namespace Cert.KernelIdeal.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
open Facts₀ Facts

variable [Facts]

theorem sc_self {α : Type} {s : Shape} (h : s.ShapeCasts s) (X : s.Idx → α) : shapeCast s X h = X := by
  funext i
  exact congrArg X (Shape.reshapeEquiv_eq_of_rowMajor _ rfl)

theorem wst_hit {E : ℕ} (hE : E < 498112) (h8) (q : Fin 4) (g : Fin 25) (v : FVec F S8x128 .f32) (Z : S102432x128.Idx → Elt F .f32) (r : Fin 102432) (l : Fin 128) (j : Fin 8)
    (hr : r.val = wbase E + 200 * q.val + g.val + 25 * j.val) : wst (nw E) h8 q g v Z (ValueIdx.ix2 r l) = v (ValueIdx.ix2 j l) := by
  unfold wst
  rw [sc_self]
  have e : (⟨(⟨k0_off19 (nw E) (BitVec.ofNat 32 (200 * q.val)) (BitVec.ofNat 32 g.val), S8x128.size, ![25, 1], (k0_off19_inb (nw E) h8 q g)⟩ : LoadRect S102432x128), spos_25_1⟩ : Rect S102432x128).emb (ValueIdx.ix2 j l)
      = ValueIdx.ix2 r l := by
    funext a
    apply Fin.ext
    rw [Rect.emb_apply]
    have h1 := off19_eq hE (200 * q.val) g.val (by omega) g.isLt
    match a with
    | ⟨0, _⟩ =>
      show k0_off19 (nw E) (BitVec.ofNat 32 (200 * q.val)) (BitVec.ofNat 32 g.val) 0 + 25 * j.val = r.val
      rw [congrFun h1 0, hr]; rfl
    | ⟨1, _⟩ =>
      show k0_off19 (nw E) (BitVec.ofNat 32 (200 * q.val)) (BitVec.ofNat 32 g.val) 1 + 1 * l.val = l.val
      rw [congrFun h1 1]; show 0 + 1 * l.val = _; omega
  exact (congrArg _ e.symm).trans (Rect.overlay_emb _ _ _ _)

theorem wst_miss {E : ℕ} (hE : E < 498112) (h8) (q : Fin 4) (g : Fin 25) (v : FVec F S8x128 .f32) (Z : S102432x128.Idx → Elt F .f32) (r : Fin 102432) (l : Fin 128)
    (hr : ∀ j : Fin 8, r.val ≠ wbase E + 200 * q.val + g.val + 25 * j.val) : wst (nw E) h8 q g v Z (ValueIdx.ix2 r l) = Z (ValueIdx.ix2 r l) := by
  unfold wst
  refine Rect.overlay_of_not_mem _ _ _ ?_
  rw [← Rect.map_emb_univ, Finset.mem_map]
  rintro ⟨x, -, hx⟩
  have h := congrArg Fin.val (congrFun hx 0)
  rw [Rect.emb_apply] at h
  have h1 := off19_eq hE (200 * q.val) g.val (by omega) g.isLt
  have h2 : k0_off19 (nw E) (BitVec.ofNat 32 (200 * q.val)) (BitVec.ofNat 32 g.val) 0 + 25 * (x 0).val = r.val := h
  rw [congrFun h1 0] at h2
  have h3 : wbase E + 200 * q.val + g.val + 25 * (x 0).val = r.val := h2
  exact hr (x 0) h3.symm

/-- What a tile's rows are to hold: row `a`'s group `g`, and its scales as group 24. -/
def nv (A : S32x3072.Idx → Elt F .fp8e4m3) (S : S32x24.Idx → Elt F .f32) (a : Fin 32) (g : ℕ) (l : Fin 128) : Elt F .f32 :=
  if hg : g < 24 then FloatOps.extf .f32 bitsLt_fp8e4m3_f32 (A (ValueIdx.ix2 a ⟨128 * g + l.val, by omega⟩)) else S (ValueIdx.ix2 a ⟨l.val % 24, Nat.mod_lt _ (by decide)⟩)

/-- The first `n` stores of a tile are made. -/
def Good (E : ℕ) (A : S32x3072.Idx → Elt F .fp8e4m3) (S : S32x24.Idx → Elt F .f32) (X : S102432x128.Idx → Elt F .f32) (n : ℕ) (Z : S102432x128.Idx → Elt F .f32) : Prop :=
  ∀ (r : Fin 102432) (l : Fin 128), ((r.val < wbase E ∨ wbase E + 800 ≤ r.val) → Z (ValueIdx.ix2 r l) = X (ValueIdx.ix2 r l))
    ∧ ∀ (a : Fin 32) (g : ℕ), g < 25 → r.val = wbase E + 25 * a.val + g → 4 * g + a.val / 8 < n → (g < 24 ∨ l.val < 24) → Z (ValueIdx.ix2 r l) = nv A S a g l

variable {A : S32x3072.Idx → Elt F .fp8e4m3} {S : S32x24.Idx → Elt F .f32} {X : S102432x128.Idx → Elt F .f32}

theorem extG_at (g : Fin 24) (a : Fin 32) (l : Fin 128) : extG A g (ValueIdx.ix2 a l) = nv A S a g.val l := by
  unfold extG nv
  rw [dif_pos g.isLt]
  show FloatOps.extf FTy.f32 _ (shapeCast S32x128 _ _ _) = _
  congr 1
  have e : Shape.reshapeEquiv shapeCasts_S1x32x128_S32x128 (ValueIdx.ix2 a l) = ValueIdx.ix3 (0 : Fin 1) a l := Shape.reshapeEquiv_eq_of_rowMajor _ (by
    rw [Shape.rowMajor_val_two, Shape.rowMajor_val_three]
    show (0 * 32 + a.val) * 128 + l.val = a.val * 128 + l.val; omega)
  unfold shapeCast
  dsimp only
  rw [e]
  refine congrArg A ?_
  funext b
  apply Fin.ext
  match b with
  | ⟨0, _⟩ => show 0 + a.val = a.val; omega
  | ⟨1, _⟩ => rfl

theorem slc_at {o : ℕ} (q : Fin 4) (ho : o = 8 * q.val) (g : Fin 24) (h) (j : Fin 8) (l : Fin 128) :
    extractStridedSlice S8x128 ![o, 0] (extG A g) h (ValueIdx.ix2 j l) = nv A S ⟨8 * q.val + j.val, by omega⟩ g.val l := by
  subst ho
  rw [← extG_at]
  unfold extractStridedSlice
  refine congrArg (extG A g) ?_
  funext b
  apply Fin.ext
  match b with
  | ⟨0, _⟩ => rfl
  | ⟨1, _⟩ => show 0 + l.val = l.val; omega

theorem sclQ_at (q : Fin 4) (j : Fin 8) (l : Fin 128) (hl : l.val < 24) : sclQ S q (ValueIdx.ix2 j l) = nv A S ⟨8 * q.val + j.val, by omega⟩ 24 l := by
  unfold sclQ nv
  rw [dif_neg (by decide)]
  refine (concatenate_pair_apply_left (t := S8x128) (s₁ := S8x24) (s₂ := S8x104) 1 _ _ _ (ValueIdx.ix2 j l) rfl (ValueIdx.ix2 j ⟨l.val, hl⟩)
    (fun b => by match b with | ⟨0, _⟩ => rfl | ⟨1, _⟩ => rfl)).trans ?_
  have e : Shape.reshapeEquiv shapeCasts_S1x8x24_S8x24 (ValueIdx.ix2 j ⟨l.val, hl⟩) = ValueIdx.ix3 (0 : Fin 1) j ⟨l.val, hl⟩ := Shape.reshapeEquiv_eq_of_rowMajor _ (by
    rw [Shape.rowMajor_val_two, Shape.rowMajor_val_three]
    show (0 * 8 + j.val) * 24 + l.val = j.val * 24 + l.val; omega)
  unfold shapeCast
  dsimp only
  rw [e]
  refine congrArg S ?_
  funext b
  apply Fin.ext
  match b with
  | ⟨0, _⟩ => rfl
  | ⟨1, _⟩ => show 0 + l.val = l.val % 24; omega

/-- The half of a window an item is for. -/
def half (E : ℕ) : ℕ := E % 64 * 2 + E / 64 % 2

theorem wbase_eq (E : ℕ) : wbase E = 800 * half E := by unfold wbase half; omega

/-- The half of an item holds the item's tile. -/
def RowsAt (Y : S249037x3072.Idx → Elt F .fp8e4m3) (Sc : S249037x24.Idx → Elt F .f32) (X : S102432x128.Idx → Elt F .f32) (E : ℕ) : Prop :=
  ∀ (a : Fin 32) (h : E / 64 * 32 + a.val < 249037) (r : Fin 102432) (l : Fin 128) (g : ℕ), r.val = wbase E + 25 * a.val + g →
    (∀ hg : g < 24, X (ValueIdx.ix2 r l) = FloatOps.extf .f32 bitsLt_fp8e4m3_f32 (Y (ValueIdx.ix2 ⟨E / 64 * 32 + a.val, h⟩ ⟨128 * g + l.val, by omega⟩)))
    ∧ (g = 24 → ∀ hl : l.val < 24, X (ValueIdx.ix2 r l) = Sc (ValueIdx.ix2 ⟨E / 64 * 32 + a.val, h⟩ ⟨l.val, hl⟩))

/-- The last item of every half, of the first `D` items, is there. -/
def Kept (L : Lists) (Y : S249037x3072.Idx → Elt F .fp8e4m3) (Sc : S249037x24.Idx → Elt F .f32) (D : ℕ) (X : S102432x128.Idx → Elt F .f32) : Prop :=
  ∀ n, n < D → (∀ n', n < n' → n' < D → half (L.item n') ≠ half (L.item n)) → RowsAt Y Sc X (L.item n)

theorem tailA_at (X8 : S32x3072.Idx → Elt F .fp8e4m3) (a : Fin 32) (d : Fin 3072) : tailA X8 (ValueIdx.ix2 a d) = X8 (ValueIdx.ix2 a d) := by
  unfold tailA
  show shapeCast S1x32x3072 (shapeCast S32x3072 _ shapeCasts_S32x3072_S32x3072) _ (ValueIdx.ix3 (0 : Fin 1) a d) = _
  rw [sc_self]
  have e : Shape.reshapeEquiv shapeCasts_S32x3072_S1x32x3072 (ValueIdx.ix3 (0 : Fin 1) a d) = ValueIdx.ix2 a d := Shape.reshapeEquiv_eq_of_rowMajor _ (by
    rw [Shape.rowMajor_val_two, Shape.rowMajor_val_three]
    show a.val * 3072 + d.val = (0 * 32 + a.val) * 3072 + d.val; omega)
  show X8 ((Rect.unit (s := S32x3072) ![0, 0] S32x3072.size inb_S32x3072_S32x3072_0_0).toLoadRect.idx (Shape.reshapeEquiv shapeCasts_S32x3072_S1x32x3072 (ValueIdx.ix3 (0 : Fin 1) a d))) = _
  rw [e]
  refine congrArg X8 ?_
  funext b
  apply Fin.ext
  match b with
  | ⟨0, _⟩ => show 0 + 1 * a.val = a.val; omega
  | ⟨1, _⟩ => show 0 + 1 * d.val = d.val; omega

theorem tailS_at (X9 : S32x24.Idx → Elt F .f32) (a : Fin 32) (d : Fin 24) : tailS X9 (ValueIdx.ix2 a d) = X9 (ValueIdx.ix2 a d) := by
  unfold tailS
  have e : Shape.reshapeEquiv shapeCasts_S32x24_S1x32x24 (ValueIdx.ix3 (0 : Fin 1) a d) = ValueIdx.ix2 a d := Shape.reshapeEquiv_eq_of_rowMajor _ (by
    rw [Shape.rowMajor_val_two, Shape.rowMajor_val_three]
    show a.val * 24 + d.val = (0 * 32 + a.val) * 24 + d.val; omega)
  show X9 ((Rect.unit (s := S32x24) ![0, 0] S32x24.size inb_S32x24_S32x24_0_0).toLoadRect.idx (Shape.reshapeEquiv shapeCasts_S32x24_S1x32x24 (ValueIdx.ix3 (0 : Fin 1) a d))) = _
  rw [e]
  refine congrArg X9 ?_
  funext b
  apply Fin.ext
  match b with
  | ⟨0, _⟩ => show 0 + 1 * a.val = a.val; omega
  | ⟨1, _⟩ => show 0 + 1 * d.val = d.val; omega

theorem tileC_at {α : Type} {R N : ℕ} (Y : (⟨2, ![R, N]⟩ : Shape).Idx → α) {T : ℕ} (hT : T * 32 + 32 ≤ R) (a : Fin 32) (d : Fin N) :
    tileC Y hT (ValueIdx.ix2 a d) = Y (ValueIdx.ix2 ⟨T * 32 + a.val, by omega⟩ d) := by
  unfold tileC
  refine congrArg Y ?_
  funext b
  apply Fin.ext
  rw [Rect.emb_apply]
  match b with
  | ⟨0, _⟩ => show T * 32 + 1 * a.val = T * 32 + a.val; omega
  | ⟨1, _⟩ => show 0 + 1 * d.val = d.val; omega

variable {E : ℕ} (hE : E < 498112) (h8 : k0_chk8 (nw E))

include hE in
theorem good_wst {n : ℕ} (q : Fin 4) (g : Fin 25) (hn : n = 4 * g.val + q.val) {v : FVec F S8x128 .f32} {Z : S102432x128.Idx → Elt F .f32} (h : Good E A S X n Z)
    (hv : ∀ (j : Fin 8) (l : Fin 128), (g.val < 24 ∨ l.val < 24) → v (ValueIdx.ix2 j l) = nv A S ⟨8 * q.val + j.val, by omega⟩ g.val l) :
    Good E A S X (n + 1) (wst (nw E) h8 q g v Z) := by
  intro r l
  obtain ⟨k1, k2⟩ := h r l
  by_cases hj : ∃ j : Fin 8, r.val = wbase E + 200 * q.val + g.val + 25 * j.val
  · obtain ⟨j, hj⟩ := hj
    refine ⟨fun ho => absurd ho (by omega), fun a g' hg' hr hlt hgl => ?_⟩
    rw [wst_hit hE h8 q g v Z r l j hj]
    obtain rfl : g' = g.val := by omega
    rw [hv j l hgl]
    congr 1
    apply Fin.ext
    show 8 * q.val + j.val = a.val
    omega
  · rw [wst_miss hE h8 q g v Z r l (fun j e => hj ⟨j, e⟩)]
    refine ⟨k1, fun a g' hg' hr hlt hgl => k2 a g' hg' hr ?_ hgl⟩
    by_contra hc
    exact hj ⟨⟨a.val % 8, by omega⟩, by show r.val = wbase E + 200 * q.val + g.val + 25 * (a.val % 8); omega⟩

include hE in
theorem good_rows {n : ℕ} (g : Fin 24) (hn : n = 4 * g.val) {Z : S102432x128.Idx → Elt F .f32} (h : Good E A S X n Z) :
    Good E A S X (n + 4) (rowsX (nw E) h8 ⟨g.val, by omega⟩ (extG A g) (extractStridedSlice S8x128 ![8, 0] (extG A g) slices_S32x128_o8_0_S8x128)
      (wst (nw E) h8 0 ⟨g.val, by omega⟩ (extractStridedSlice S8x128 ![0, 0] (extG A g) slices_S32x128_o0_0_S8x128) Z)) := by
  subst hn
  unfold rowsX
  refine good_wst hE h8 3 ⟨g.val, by omega⟩ rfl (good_wst hE h8 2 ⟨g.val, by omega⟩ rfl (good_wst hE h8 1 ⟨g.val, by omega⟩ rfl (good_wst hE h8 0 ⟨g.val, by omega⟩ rfl h ?_) ?_) ?_) ?_
  · exact fun j l _ => slc_at 0 rfl g _ j l
  · exact fun j l _ => slc_at 1 rfl g _ j l
  · exact fun j l _ => slc_at 2 rfl g _ j l
  · exact fun j l _ => slc_at 3 rfl g _ j l

include hE in
theorem good_groups : ∀ (n : ℕ) (hn : n < 24) {Z : S102432x128.Idx → Elt F .f32}, Good E A S X (4 * (24 - n)) Z → Good E A S X 96 (groupsX (nw E) h8 A n hn Z)
  | 0, _, Z, h => h
  | n + 1, hn, Z, h => by
    unfold groupsX
    refine good_groups n (by omega) ?_
    have h2 := good_rows hE h8 (⟨24 - (n + 1), by omega⟩ : Fin 24) rfl h
    rw [show 4 * (24 - n) = 4 * (24 - (n + 1)) + 4 from by omega]
    exact h2

include hE in
theorem good_wid : Good E A S X 100 (widX (nw E) h8 A S X) := by
  unfold widX
  have h0 : Good E A S X 0 X := fun r l => ⟨fun _ => rfl, fun a g _ _ h => absurd h (by omega)⟩
  have h1 := good_groups (A := A) (S := S) (X := X) hE h8 23 (by decide) (good_rows hE h8 (0 : Fin 24) rfl h0)
  refine good_wst hE h8 3 24 rfl (good_wst hE h8 2 24 rfl (good_wst hE h8 1 24 rfl (good_wst hE h8 0 24 rfl h1 ?_) ?_) ?_) ?_
  all_goals exact fun j l hl => sclQ_at _ j l (hl.resolve_left (by decide))

include hE in
theorem kept_step {L : Lists} {D : ℕ} {C : Cts F} {X8 : S32x3072.Idx → Elt F .fp8e4m3} {X9 : S32x24.Idx → Elt F .f32} {Y : S249037x3072.Idx → Elt F .fp8e4m3} {Sc : S249037x24.Idx → Elt F .f32}
    (hY : C.Y = Y) (hSc : C.Sc = Sc)
    (h8' : ∀ (a : Fin 32) (d : Fin 3072) (ha : a.val < 13), X8 (ValueIdx.ix2 a d) = Y (ValueIdx.ix2 ⟨249024 + a.val, by omega⟩ d))
    (h9' : ∀ (a : Fin 32) (d : Fin 24) (ha : a.val < 13), X9 (ValueIdx.ix2 a d) = Sc (ValueIdx.ix2 ⟨249024 + a.val, by omega⟩ d))
    (hD : L.item D = E) (h : Kept L Y Sc D X) : Kept L Y Sc (D + 1) (widX (nw E) h8 (codesOf C X8 (E / 64)) (scalesOf C X9 (E / 64)) X) := by
  have hg := good_wid (A := codesOf C X8 (E / 64)) (S := scalesOf C X9 (E / 64)) (X := X) hE h8
  intro n hn hlast
  rcases Nat.lt_succ_iff_lt_or_eq.mp hn with hn | rfl
  · have hne := hlast D hn (Nat.lt_succ_self _)
    rw [hD] at hne
    intro a ha r l g hr
    have h1 := h n hn (fun n' h1 h2 => hlast n' h1 (by omega)) a ha r l g hr
    have hb1 := wbase_eq E
    have hb2 := wbase_eq (L.item n)
    have key : (g < 24 ∨ g = 24) → widX (nw E) h8 (codesOf C X8 (E / 64)) (scalesOf C X9 (E / 64)) X (ValueIdx.ix2 r l) = X (ValueIdx.ix2 r l) := fun hg' => (hg r l).1 (by omega)
    exact ⟨fun hg' => (key (.inl hg')).trans (h1.1 hg'), fun hg' hl => (key (.inr hg')).trans (h1.2 hg' hl)⟩
  · rw [hD]
    intro a ha r l g hr
    refine ⟨fun hg' => ((hg r l).2 a g (by omega) hr (by omega) (.inl hg')).trans ?_, fun hg' hl => ((hg r l).2 a g (by omega) hr (by omega) (.inr hl)).trans ?_⟩
    · unfold nv
      rw [dif_pos hg']
      congr 1
      unfold codesOf
      by_cases hT : E / 64 * 32 + 32 ≤ 249037
      · rw [dif_pos hT, tileC_at, hY]
      · rw [dif_neg hT, tailA_at, h8' _ _ (by omega)]
        refine congrArg Y ?_
        congr 1
        apply Fin.ext
        show 249024 + a.val = E / 64 * 32 + a.val
        omega
    · subst hg'
      unfold nv
      rw [dif_neg (by decide)]
      have el : (⟨l.val % 24, Nat.mod_lt _ (by decide)⟩ : Fin 24) = ⟨l.val, hl⟩ := Fin.ext (Nat.mod_eq_of_lt hl)
      rw [el]
      unfold scalesOf
      by_cases hT : E / 64 * 32 + 32 ≤ 249037
      · rw [dif_pos hT, tileC_at, hSc]
      · rw [dif_neg hT, tailS_at, h9' _ _ (by omega)]
        refine congrArg Sc ?_
        congr 1
        apply Fin.ext
        show 249024 + a.val = E / 64 * 32 + a.val
        omega

end Cert.KernelIdeal.M

end
-- ==== Proof.Newest.lean ====
module

public import proofs.«01_k».proof.Proof.Pre
public import Idealize.ShloMosaic.Lib.Pointwise
public import Idealize.ShloMosaic.Lib.WordCmp

@[expose] public section

noncomputable section

/-
  The last stamp of a half window, among the lists up to a step.
-/
namespace Cert.Pre_routed.M

open Idealize.ShloMosaic
open Cert.Pre_routed
variable {F : FTy → Type} [FloatOps F] [Facts]
open Facts

theorem fold_max {ι : Type} [DecidableEq ι] (s : Finset ι) (b : BitVec 32) (f : ι → BitVec 32) :
    (s.fold IntOp.maxsi b f = b ∨ ∃ i ∈ s, s.fold IntOp.maxsi b f = f i) ∧ ∀ i ∈ s, (f i).toInt ≤ (s.fold IntOp.maxsi b f).toInt := by
  induction s using Finset.induction_on with
  | empty => exact ⟨.inl rfl, fun i hi => absurd hi (Finset.notMem_empty i)⟩
  | insert a s ha ih =>
    rw [Finset.fold_insert ha]
    have hm : ∀ x y : BitVec 32, (IntOp.maxsi x y = x ∧ y.toInt ≤ x.toInt) ∨ (IntOp.maxsi x y = y ∧ x.toInt ≤ y.toInt) := fun x y => by
      unfold IntOp.maxsi
      by_cases h : y.slt x = true
      · rw [if_pos h]; rw [BitVec.slt_iff_toInt_lt] at h; exact .inl ⟨rfl, h.le⟩
      · rw [if_neg h]; rw [BitVec.slt_iff_toInt_lt] at h; exact .inr ⟨rfl, by omega⟩
    rcases hm (f a) (s.fold IntOp.maxsi b f) with ⟨h1, h2⟩ | ⟨h1, h2⟩
    · rw [h1]
      refine ⟨.inr ⟨a, Finset.mem_insert_self _ _, rfl⟩, fun i hi => ?_⟩
      rcases Finset.mem_insert.mp hi with rfl | hi
      · exact le_rfl
      · exact (ih.2 i hi).trans h2
    · rw [h1]
      refine ⟨ih.1.imp id fun ⟨i, hi, e⟩ => ⟨i, Finset.mem_insert_of_mem hi, e⟩, fun i hi => ?_⟩
      rcases Finset.mem_insert.mp hi with rfl | hi
      · exact h2
      · exact ih.2 i hi

theorem red1 : S1024x128x128.Reduces [1] S1024x128 := by decide
theorem red2 : S1024x1024x128.Reduces [1] S1024x128 := by decide

theorem own_spec (lists : IVec S256x4x128 32) (counts : IVec S256x1x4 32) (σ : Fin 1024) (q : Fin 128) :
    (own (F := F) lists counts (ValueIdx.ix2 σ q) = 2147483648#32 ∨ ∃ j, own (F := F) lists counts (ValueIdx.ix2 σ q) = stamps (F := F) lists counts (ix3 σ j q))
    ∧ ∀ j, (stamps (F := F) lists counts (ix3 σ j q)).toInt ≤ (own (F := F) lists counts (ValueIdx.ix2 σ q)).toInt := by
  have h := Host.reduce_eq_fold_single IntOp.maxsi (stamps (F := F) lists counts) (constantI S_ 32 2147483648#32) reducesTo_S1024x128x128_S1024x128_d1 red1 h_S_ (ValueIdx.ix2 σ q)
  have hl : ∀ k : Fin 128, red1.lift (ValueIdx.ix2 σ q) k = ix3 σ k q := fun k => by
    funext a; apply Fin.ext
    match a with
    | ⟨0, _⟩ => rfl
    | ⟨1, _⟩ => rfl
    | ⟨2, _⟩ => rfl
  have hf := fold_max (Finset.univ : Finset (Fin 128)) (2147483648#32) (fun k => stamps (F := F) lists counts (ix3 σ k q))
  have e : own (F := F) lists counts (ValueIdx.ix2 σ q) = (Finset.univ : Finset (Fin 128)).fold IntOp.maxsi (2147483648#32) (fun k => stamps (F := F) lists counts (ix3 σ k q)) := by
    refine h.trans ?_
    refine Finset.fold_congr fun k _ => ?_
    exact congrArg (stamps (F := F) lists counts) (hl k)
  rw [e]
  exact ⟨hf.1.imp id fun ⟨j, _, hj⟩ => ⟨j, hj⟩, fun j => hf.2 j (Finset.mem_univ _)⟩

theorem newest_spec (lists : IVec S256x4x128 32) (counts : IVec S256x1x4 32) (σ : Fin 1024) (q : Fin 128)
    (h0 : 0 ≤ (newest (F := F) lists counts (ValueIdx.ix2 σ q)).toInt) :
    (∃ τ j, τ.val ≤ σ.val ∧ newest (F := F) lists counts (ValueIdx.ix2 σ q) = stamps (F := F) lists counts (ix3 τ j q))
    ∧ ∀ τ j, τ.val ≤ σ.val → (stamps (F := F) lists counts (ix3 τ j q)).toInt ≤ (newest (F := F) lists counts (ValueIdx.ix2 σ q)).toInt := by
  have hl : ∀ k : Fin 1024, red2.lift (ValueIdx.ix2 σ q) k = ix3 σ k q := fun k => by
    funext a; apply Fin.ext
    match a with
    | ⟨0, _⟩ => rfl
    | ⟨1, _⟩ => rfl
    | ⟨2, _⟩ => rfl
  have hv : ∀ k : Fin 1024, (fn_where_1 (F := F) (cmpi .sle (iotaInDim S1024x1024x128 32 1) (iotaInDim S1024x1024x128 32 0))
      (broadcastInDim S1x1024x128 ![1, 2] bcast_S1024x128_S1x1024x128_1_2 (own (F := F) lists counts)) (constantI S_ 32 4294967295#32)) (ix3 σ k q)
        = if k.val ≤ σ.val then own (F := F) lists counts (ValueIdx.ix2 k q) else 4294967295#32 := fun k => by
    unfold fn_where_1
    pointwise
    have hk : (BitVec.ofNat 32 k.val).toInt = k.val := by rw [BitVec.toInt_eq_toNat_cond, BitVec.toNat_ofNat, Nat.mod_eq_of_lt (by omega), if_pos (by omega)]
    have hs : (BitVec.ofNat 32 σ.val).toInt = σ.val := by rw [BitVec.toInt_eq_toNat_cond, BitVec.toNat_ofNat, Nat.mod_eq_of_lt (by omega), if_pos (by omega)]
    rw [show IntOp.cmpi CmpIPredicate.sle (BitVec.ofNat 32 k.val) (BitVec.ofNat 32 σ.val) = BitVec.ofBool (decide (k.val ≤ σ.val)) from by
      rw [WordCmp.cmpi_sle_eq, hk, hs]; simp only [Nat.cast_le]]
    unfold Scalar.select
    by_cases h : k.val ≤ σ.val
    · rw [decide_eq_true h, if_pos h]; rfl
    · rw [decide_eq_false h, if_neg h]; rfl
  have hf := fold_max (Finset.univ : Finset (Fin 1024)) (2147483648#32) (fun k => if k.val ≤ σ.val then own (F := F) lists counts (ValueIdx.ix2 k q) else 4294967295#32)
  have e : newest (F := F) lists counts (ValueIdx.ix2 σ q) = (Finset.univ : Finset (Fin 1024)).fold IntOp.maxsi (2147483648#32) (fun k => if k.val ≤ σ.val then own (F := F) lists counts (ValueIdx.ix2 k q) else 4294967295#32) := by
    refine (Host.reduce_eq_fold_single IntOp.maxsi _ (constantI S_ 32 2147483648#32) reducesTo_S1024x1024x128_S1024x128_d1 red2 h_S_ (ValueIdx.ix2 σ q)).trans ?_
    refine Finset.fold_congr fun k _ => ?_
    exact (congrArg (fn_where_1 (F := F) _ _ _) (hl k)).trans (hv k)
  rw [← e] at hf
  have hmin : (2147483648#32 : BitVec 32).toInt < 0 := by decide
  have hneg : (4294967295#32 : BitVec 32).toInt < 0 := by decide
  constructor
  · rcases hf.1 with h | ⟨k, -, h⟩
    · rw [h] at h0; omega
    · split at h
      · rename_i hk
        rcases (own_spec (F := F) lists counts k q).1 with h' | ⟨j, h'⟩
        · rw [h, h'] at h0; omega
        · exact ⟨k, j, hk, h.trans h'⟩
      · rw [h] at h0; omega
  · intro τ j hτ
    have h1 := hf.2 τ (Finset.mem_univ _)
    rw [if_pos hτ] at h1
    exact ((own_spec (F := F) lists counts τ q).2 j).trans h1

theorem sc_l2 (h) (X : S256x4x128.Idx → BitVec 32) (t : Fin 256) (s : Fin 4) (j : Fin 128) :
    shapeCast S1024x128 X h (ix2 (sub t s) j) = X (ValueIdx.ix3 t s j) :=
  congrArg X (Shape.reshapeEquiv_eq_of_rowMajor _ (by
    rw [Shape.rowMajor_val_two, Shape.rowMajor_val_three]
    show ((t.val * 4 + s.val) * 128 + j.val) = (t.val * 4 + s.val) * 128 + j.val; omega))

theorem sc_c2 (h) (X : S256x1x4.Idx → BitVec 32) (t : Fin 256) (s : Fin 4) :
    shapeCast S1024x1 X h (ix2 (sub t s) (0 : Fin 1)) = X (ValueIdx.ix3 t (0 : Fin 1) s) :=
  congrArg X (Shape.reshapeEquiv_eq_of_rowMajor _ (by
    rw [Shape.rowMajor_val_two, Shape.rowMajor_val_three]
    show ((t.val * 1 + 0) * 4 + s.val) = (t.val * 4 + s.val) * 1 + 0; omega))

theorem stamp_word (e c : BitVec 32) (σ : Fin 1024) (j q : Fin 128) (hc : c.toNat ≤ 128) (he : j.val < c.toNat → e.toNat < 498112) :
    (Scalar.select
        (IntOp.cmpi CmpIPredicate.eq
          (Scalar.select (IntOp.cmpi CmpIPredicate.slt (BitVec.ofNat 32 j.val) c)
            (IntOp.addi (IntOp.muli (IntOp.andi e 63#32) 2#32) (IntOp.andi (IntOp.shrsi ArithUnit.host e 6#32) 1#32))
            4294967295#32)
          (BitVec.ofNat 32 q.val))
        (IntOp.addi (IntOp.muli (IntOp.addi (IntOp.muli (BitVec.ofNat 32 σ.val) 128#32) (BitVec.ofNat 32 j.val)) 8192#32)
          (IntOp.shrsi ArithUnit.host e 6#32))
        4294967295#32).toInt
      = if j.val < c.toNat ∧ e.toNat % 64 * 2 + e.toNat / 64 % 2 = q.val then (((σ.val * 128 + j.val) * 8192 + e.toNat / 64 : ℕ) : ℤ) else -1 := by
  rw [WordCmp.cmpi_slt_of_lt (by rw [BitVec.toNat_ofNat]; omega) (by omega), BitVec.toNat_ofNat, Nat.mod_eq_of_lt (by omega : j.val < 2 ^ 32)]
  by_cases hj : j.val < c.toNat
  · have he' := he hj
    rw [decide_eq_true hj, show Scalar.select (BitVec.ofBool true) (IntOp.addi (IntOp.muli (IntOp.andi e 63#32) 2#32) (IntOp.andi (IntOp.shrsi ArithUnit.host e 6#32) 1#32)) 4294967295#32 = (IntOp.addi (IntOp.muli (IntOp.andi e 63#32) 2#32) (IntOp.andi (IntOp.shrsi ArithUnit.host e 6#32) 1#32)) from rfl]
    have hs : (IntOp.shrsi ArithUnit.host e 6#32).toNat = e.toNat / 64 := by
      unfold IntOp.shrsi
      rw [if_pos (by decide)]
      show (e.sshiftRight 6).toNat = _
      rw [BitVec.sshiftRight_eq_of_msb_false (BitVec.msb_eq_false_iff_two_mul_lt.mpr (by omega)), BitVec.toNat_ushiftRight, Nat.shiftRight_eq_div_pow]
    have ha : (IntOp.andi e 63#32).toNat = e.toNat % 64 := by
      show (e &&& 63#32).toNat = _
      rw [BitVec.toNat_and]
      exact Nat.and_two_pow_sub_one_eq_mod e.toNat 6
    have hb : (IntOp.andi (IntOp.shrsi ArithUnit.host e 6#32) 1#32).toNat = e.toNat / 64 % 2 := by
      show ((IntOp.shrsi ArithUnit.host e 6#32) &&& 1#32).toNat = _
      rw [BitVec.toNat_and, hs]
      exact Nat.and_two_pow_sub_one_eq_mod _ 1
    have hw : (IntOp.addi (IntOp.muli (IntOp.andi e 63#32) 2#32) (IntOp.andi (IntOp.shrsi ArithUnit.host e 6#32) 1#32)).toNat = e.toNat % 64 * 2 + e.toNat / 64 % 2 := by
      show ((IntOp.andi e 63#32) * 2#32 + (IntOp.andi (IntOp.shrsi ArithUnit.host e 6#32) 1#32)).toNat = _
      rw [BitVec.toNat_add, BitVec.toNat_mul, ha, hb, show (2#32 : BitVec 32).toNat = 2 from rfl]
      omega
    have hv : (IntOp.addi (IntOp.muli (IntOp.addi (IntOp.muli (BitVec.ofNat 32 σ.val) 128#32) (BitVec.ofNat 32 j.val)) 8192#32) (IntOp.shrsi ArithUnit.host e 6#32)).toNat
        = (σ.val * 128 + j.val) * 8192 + e.toNat / 64 := by
      show (((BitVec.ofNat 32 σ.val) * 128#32 + (BitVec.ofNat 32 j.val)) * 8192#32 + IntOp.shrsi ArithUnit.host e 6#32).toNat = _
      rw [BitVec.toNat_add, BitVec.toNat_mul, BitVec.toNat_add, BitVec.toNat_mul, hs]
      simp only [BitVec.toNat_ofNat]
      omega
    rw [WordCmp.cmpi_eq_eq_toNat, hw, BitVec.toNat_ofNat, Nat.mod_eq_of_lt (by omega : q.val < 2 ^ 32)]
    by_cases hq : e.toNat % 64 * 2 + e.toNat / 64 % 2 = q.val
    · rw [decide_eq_true hq, if_pos ⟨hj, hq⟩]
      show BitVec.toInt (IntOp.addi _ _) = _
      rw [BitVec.toInt_eq_toNat_cond, hv, if_pos (by omega)]
    · rw [decide_eq_false hq, if_neg (fun h => hq h.2)]
      rfl
  · rw [decide_eq_false hj, if_neg (fun h => hj h.1), show ∀ x : BitVec 32, Scalar.select (BitVec.ofBool false) x 4294967295#32 = 4294967295#32 from fun _ => rfl,
      WordCmp.cmpi_eq_eq_toNat,
      decide_eq_false (by simp only [BitVec.toNat_ofNat]; omega)]
    rfl

/-- A stamp: the entry's place among all, and its tile. -/
theorem stamps_at (lists : IVec S256x4x128 32) (counts : IVec S256x1x4 32) (t : Fin 256) (s : Fin 4) (j q : Fin 128)
    (hc : (counts (ValueIdx.ix3 t (0 : Fin 1) s) : BitVec 32).toNat ≤ 128)
    (he : j.val < (counts (ValueIdx.ix3 t (0 : Fin 1) s) : BitVec 32).toNat → (lists (ValueIdx.ix3 t s j) : BitVec 32).toNat < 498112) :
    (stamps (F := F) lists counts (ix3 (sub t s) j q)).toInt
      = if j.val < (counts (ValueIdx.ix3 t (0 : Fin 1) s) : BitVec 32).toNat
          ∧ (lists (ValueIdx.ix3 t s j) : BitVec 32).toNat % 64 * 2 + (lists (ValueIdx.ix3 t s j) : BitVec 32).toNat / 64 % 2 = q.val then
          ((((t.val * 4 + s.val) * 128 + j.val) * 8192 + (lists (ValueIdx.ix3 t s j) : BitVec 32).toNat / 64 : ℕ) : ℤ) else -1 := by
  unfold stamps fn_where fn_where_0
  pointwise
  exact stamp_word _ _ (sub t s) j q hc he

end Cert.Pre_routed.M

end
-- ==== Proof.KI.Live.lean ====
module

public import proofs.«01_k».proof.Proof.KI.Frame
public import proofs.«01_k».proof.Proof.KI.Rows
public import proofs.«01_k».proof.Proof.Newest

@[expose] public section

noncomputable section

/-
  The rows a live route finds.
-/
namespace Cert.KernelIdeal.M

open Idealize.ShloMosaic Idealize.ShloMosaic.TcCoe Idealize.ShloMosaic.Tactic
open Idealize.SL Idealize.SL.RA Idealize.SL.BI
open Cert.KernelIdeal.Gen

variable {F : FTy → Type} [FloatOps F]
open Facts₀ Facts

/-- Every item is an entry of a list. -/
theorem item_split (L : Lists) : ∀ (D n : ℕ), n < L.P D → ∃ σ j, σ < D ∧ j < L.cnt σ ∧ n = L.P σ + j
  | 0, n, h => absurd h (by rw [L.P_zero]; omega)
  | D + 1, n, h => by
    by_cases h' : n < L.P D
    · obtain ⟨σ, j, h1, h2, h3⟩ := item_split L D n h'
      exact ⟨σ, j, by omega, h2, h3⟩
    · rw [L.P_succ] at h
      exact ⟨D, n - L.P D, by omega, by omega, by omega⟩

variable [Cert.Pre_routed.Facts] {m : (ℓ : Loc nD τ sig) → Buf (Elt F) ℓ} (hm : ∀ c, Routed m c)

theorem four (σ : ℕ) (h : σ < 1024) : ∃ (t : Fin 256) (s : Fin 4), σ = 4 * t.val + s.val :=
  ⟨⟨σ / 4, by omega⟩, ⟨σ % 4, by omega⟩, by show σ = 4 * (σ / 4) + σ % 4; omega⟩

include hm in
/-- A stamp, by the lists. -/
theorem stamp_at (c : Dev nD) (t : Fin 256) (s : Fin 4) (j q : Fin 128) :
    (Cert.Pre_routed.M.stamps (F := F) (m ((c : Thread nD τ).loc main_arg2)) (m ((c : Thread nD τ).loc main_arg3)) (Idealize.ShloMosaic.ix3 (Cert.Pre_routed.M.sub t s) j q)).toInt
      = if j.val < (listsOf m c).cnt (4 * t.val + s.val) ∧ half ((listsOf m c).ent (4 * t.val + s.val) j.val) = q.val then
          ((((4 * t.val + s.val) * 128 + j.val) * 8192 + (listsOf m c).ent (4 * t.val + s.val) j.val / 64 : ℕ) : ℤ) else -1 := by
  have hc := lists_at hm c t s j
  rw [Cert.Pre_routed.M.stamps_at (F := F) _ _ t s j q hc.1 hc.2, cnt_at, ent_at, min_eq_left hc.1]
  by_cases hj : j.val < (cntW m c t s).toNat
  · have he := hc.2 hj
    rw [Nat.mod_eq_of_lt he, show t.val * 4 + s.val = 4 * t.val + s.val by omega]
    rfl
  · rw [if_neg (fun h => hj h.1), if_neg (fun h => hj h.1)]

include hm in
/-- A live route's window holds its row. -/
theorem live_rows (c : Dev nD) (k : Fin 8) (t : Fin 256) (s : Fin 4) (y : Fin 32) (Y : S249037x3072.Idx → Elt F .fp8e4m3) (Sc : S249037x24.Idx → Elt F .f32)
    (X : S102432x128.Idx → Elt F .f32) (hX : Kept (listsOf m c) Y Sc ((listsOf m c).P (4 * t.val + s.val + 1)) X)
    (a R : BitVec 32) (ha : m ((c : Thread nD τ).loc main_arg0) (ValueIdx.ix2 k (Cert.Pre_routed.M.tokOf t s y)) = a)
    (hR : m ((c : Thread nD τ).loc main_arg7) (ValueIdx.ix2 (Cert.Pre_routed.M.tokOf t s y) k) = R)
    (hw : ¬ FloatOps.cmpf CmpFPredicate.oeq (m ((c : Thread nD τ).loc main_arg1) (ValueIdx.ix2 k (Cert.Pre_routed.M.tokOf t s y)) : F .f32) (FloatOps.ofBits FTy.f32 0#32) = 1#1) :
    ∃ (h : R.toNat < 249037), ∀ (r : Fin 102432) (l : Fin 128) (g : ℕ), r.val = a.toNat + g →
      (∀ hg : g < 24, X (ValueIdx.ix2 r l) = FloatOps.extf .f32 Facts₀.bitsLt_fp8e4m3_f32 (Y (ValueIdx.ix2 ⟨R.toNat, h⟩ ⟨128 * g + l.val, by omega⟩)))
      ∧ (g = 24 → ∀ hl : l.val < 24, X (ValueIdx.ix2 r l) = Sc (ValueIdx.ix2 ⟨R.toNat, h⟩ ⟨l.val, hl⟩)) := by
  have hp := fun q => (pre_at hm c k t s y q).2.live hw
  rw [ha, hR] at hp
  obtain ⟨hR1, ha1, ha2, -⟩ := hp 0
  refine ⟨hR1, ?_⟩
  obtain ⟨q, hq⟩ : ∃ q : Fin 128, q.val = a.toNat / 1600 * 2 + R.toNat / 32 % 2 := ⟨⟨a.toNat / 1600 * 2 + R.toNat / 32 % 2, by omega⟩, rfl⟩
  obtain ⟨-, -, -, hnew⟩ := hp q
  obtain ⟨hn0, hn1⟩ := hnew hq
  obtain ⟨⟨τ', j, hτ, hval⟩, hmax⟩ := Cert.Pre_routed.M.newest_spec (F := F) _ _ _ q hn0
  generalize Cert.Pre_routed.M.newest (F := F) (m ((c : Thread nD τ).loc main_arg2)) (m ((c : Thread nD τ).loc main_arg3)) (ValueIdx.ix2 (Cert.Pre_routed.M.sub t s) q) = new at hn0 hn1 hval hmax
  have hsub : ∀ (t : Fin 256) (s : Fin 4), (Cert.Pre_routed.M.sub t s).val = 4 * t.val + s.val := fun t s => by
    show t.val * 4 + s.val = _; omega
  rw [hsub] at hτ
  obtain ⟨t', s', hts⟩ := four τ'.val τ'.isLt
  obtain rfl : τ' = Cert.Pre_routed.M.sub t' s' := Fin.ext (by rw [hsub]; exact hts)
  rw [hsub] at hτ
  have hs := stamp_at hm c t' s' j q
  rw [← hval] at hs
  have hlt := (listsOf m c).ent_lt (4 * t'.val + s'.val) j.val
  split at hs
  swap
  · omega
  rename_i hcond
  have hlt := hlt hcond.1
  have hitem := (listsOf m c).item_at hcond.1
  generalize hE : (listsOf m c).ent (4 * t'.val + s'.val) j.val = E at *
  have hnat : (new.toNat : ℤ) = ((4 * t'.val + s'.val) * 128 + j.val) * 8192 + E / 64 := by
    rw [BitVec.toInt_eq_toNat_cond] at hs hn0
    have := new.isLt
    split at hs
    · rw [hs]; push_cast; rfl
    · split at hn0 <;> omega
  have htile : E / 64 = R.toNat / 32 := by omega
  have hP := (listsOf m c).P_succ (4 * t'.val + s'.val)
  have hPm := (listsOf m c).P_mono (show 4 * t'.val + s'.val + 1 ≤ 4 * t.val + s.val + 1 by omega)
  have hrow := hX ((listsOf m c).P (4 * t'.val + s'.val) + j.val) (by omega) (fun n' h1 h2 h3 => by
    obtain ⟨σ, i, hσ, hi, rfl⟩ := item_split _ _ _ h2
    have hi128 := (listsOf m c).cnt_le σ
    obtain ⟨t2, s2, rfl⟩ := four σ (by omega)
    rw [(listsOf m c).item_at hi, hitem] at h3
    have hst := stamp_at hm c t2 s2 ⟨i, by omega⟩ q
    rw [if_pos ⟨hi, h3.trans hcond.2⟩] at hst
    have hle := hmax (Cert.Pre_routed.M.sub t2 s2) ⟨i, by omega⟩ (by rw [hsub, hsub]; omega)
    rw [hst, hs] at hle
    have hle' := Int.ofNat_le.mp hle
    dsimp only at hle'
    have hj := j.isLt
    have hPs := (listsOf m c).P_succ (4 * t2.val + s2.val)
    rcases Nat.lt_trichotomy (4 * t2.val + s2.val) (4 * t'.val + s'.val) with hlt2 | heq | hgt
    · have := (listsOf m c).P_mono (show 4 * t2.val + s2.val + 1 ≤ 4 * t'.val + s'.val by omega)
      omega
    · rw [heq] at h1 hle'
      omega
    · omega)
  rw [hitem] at hrow
  intro r l g hr
  have hrow' := hrow ⟨R.toNat % 32, by omega⟩ (by show E / 64 * 32 + R.toNat % 32 < 249037; omega) r l g (by
    rw [wbase_eq, hcond.2, hq]
    show r.val = 800 * _ + 25 * (R.toNat % 32) + g
    omega)
  have e : (⟨E / 64 * 32 + (⟨R.toNat % 32, by omega⟩ : Fin 32).val, by show E / 64 * 32 + R.toNat % 32 < 249037; omega⟩ : Fin 249037) = ⟨R.toNat, hR1⟩ :=
    Fin.ext (by show E / 64 * 32 + R.toNat % 32 = R.toNat; omega)
  rw [e] at hrow'
  exact hrow'

end Cert.KernelIdeal.M

end
-- ==== Proof.KI.Sums.lean ====
module

public import proofs.«01_k».proof.Proof.KI.Rows
public import Idealize.ShloMosaic.Lib.Pointwise.Tactic

@[expose] public section

noncomputable section

/-
  The sums a step leaves, and the block it writes.
-/
namespace Cert.KernelIdeal.M

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
open Facts₀ Facts

variable [Facts]

theorem tokOff_one : ∀ (s t : Fin 4) (u k : Fin 8), tokOff s.val t.val u.val k.val 1 = 32 * s.val + 8 * t.val + u.val := by decide +kernel
theorem accOff_zero : ∀ (s t : Fin 4) (u : Fin 8) (m : Fin 3), accOff s.val t.val u.val m.val 0 = 25 * (32 * s.val + 8 * t.val + u.val) + 8 * m.val := by decide +kernel
theorem finOff_zero : ∀ (t : Fin 8) (g : Fin 24), finOff t.val g.val 0 = 16 * t.val := by decide +kernel
theorem finAcc_zero : ∀ (t : Fin 8) (h : Fin 2) (g : Fin 24), finAcc t.val h.val g.val 0 = 25 * (16 * t.val + 8 * h.val) + g.val := by decide +kernel
theorem off105_zero {a : BitVec 32} (h : a.toNat ≤ 102400) : k0_off105 a 0 = a.toNat + 24 := by
  show (a + 24#32).toNat = _
  rw [BitVec.toNat_add, show (24#32 : BitVec 32).toNat = 24 from rfl]; omega
theorem off107_zero {a : BitVec 32} (h : a.toNat ≤ 102400) (m : Fin 3) : k0_off107 a (BitVec.ofNat 32 (8 * m.val)) 0 = a.toNat + 8 * m.val := by
  show (a + BitVec.ofNat 32 (8 * m.val)).toNat = _
  rw [BitVec.toNat_add, BitVec.toNat_ofNat]; omega

theorem wd_at {e : EltTy} (X : S8x128.Idx → Elt F e) (s t : Fin 4) (u k : Fin 8) :
    wd X s t u k = X (ValueIdx.ix2 k ⟨32 * s.val + 8 * t.val + u.val, by omega⟩) := by
  unfold wd
  refine congrArg X ?_
  funext a
  apply Fin.ext
  match a with
  | ⟨0, _⟩ => show k.val + _ * 0 = k.val; omega
  | ⟨1, _⟩ => show tokOff s.val t.val u.val k.val 1 + _ * 0 = 32 * s.val + 8 * t.val + u.val; rw [tokOff_one]; omega

theorem sc_sc {α : Type} (Y : S8x128.Idx → α) (h1) (h2) : shapeCast S8x128 (shapeCast S8x128x1 Y h1) h2 = Y := by
  funext i
  refine congrArg Y ?_
  apply S8x128.rowMajor.injective
  apply Fin.ext
  simp [Shape.reshapeEquiv]

theorem vI_at : ∀ (m : Fin 3) (i : Fin 8), (Scalar.select (IntOp.cmpi .slt (IntOp.addi (BitVec.ofNat 32 i.val) (BitVec.ofNat 32 (8 * m.val))) 0#32)
    (IntOp.addi (IntOp.addi (BitVec.ofNat 32 i.val) (BitVec.ofNat 32 (8 * m.val))) 128#32) (IntOp.addi (BitVec.ofNat 32 i.val) (BitVec.ofNat 32 (8 * m.val)))).toNat % 128 = 8 * m.val + i.val := by decide +kernel

theorem gth_at (row : FVec F S8x128 .f32) (m : Fin 3) (i : Fin 8) (l : Fin 128) :
    gth row (vI (BitVec.ofNat 32 (8 * m.val))) (ValueIdx.ix2 i l) = row (ValueIdx.ix2 i ⟨8 * m.val + i.val, by omega⟩) := by
  unfold gth
  rw [sc_sc]
  refine congrArg row ?_
  funext a
  apply Fin.ext
  match a with
  | ⟨0, _⟩ => rfl
  | ⟨1, _⟩ =>
    refine Eq.trans ?_ (vI_at m i)
    show BitVec.toNat (select _ _ _ (ValueIdx.ix2 i l)) % 128 = _
    have hv : vI (BitVec.ofNat 32 (8 * m.val)) (ValueIdx.ix2 i l) = IntOp.addi (BitVec.ofNat 32 i.val) (BitVec.ofNat 32 (8 * m.val)) := by
      show vI (BitVec.ofNat 32 (8 * m.val)) (Idealize.ShloMosaic.ix2 i l) = _
      unfold vI
      pointwise
    rw [← hv]
    rfl

variable (X1 : S8x128.Idx → Elt F .i32) (X2 : S8x128.Idx → Elt F .f32) (hX1 : ∀ x, k0_chk21 (X1 x)) (hle : ∀ x, (X1 x : BitVec 32).toNat ≤ 102400)

/-- A route's row. -/
def rowIx (k : Fin 8) (N : Fin 128) (g : ℕ) (hg : g ≤ 24) : Fin 102432 := ⟨(X1 (ValueIdx.ix2 k N) : BitVec 32).toNat + g, by have := hle (ValueIdx.ix2 k N); omega⟩

/-- One route's term. -/
def trm (X : S102432x128.Idx → Elt F .f32) (N : Fin 128) (g : Fin 24) (l : Fin 128) (k : Fin 8) : F .f32 :=
  FloatOps.mulf (X (ValueIdx.ix2 (rowIx X1 hle k N g.val (by omega)) l)) (FloatOps.mulf (X (ValueIdx.ix2 (rowIx X1 hle k N 24 le_rfl) ⟨g.val, by omega⟩)) (X2 (ValueIdx.ix2 k N)))

/-- A token's sum, at a place. -/
def sm (X : S102432x128.Idx → Elt F .f32) (N : Fin 128) (g : Fin 24) (l : Fin 128) : F .f32 :=
  FloatOps.addf (FloatOps.addf (FloatOps.addf (FloatOps.addf (FloatOps.addf (FloatOps.addf (FloatOps.addf (trm X1 X2 hle X N g l 0) (trm X1 X2 hle X N g l 1)) (trm X1 X2 hle X N g l 2))
    (trm X1 X2 hle X N g l 3)) (trm X1 X2 hle X N g l 4)) (trm X1 X2 hle X N g l 5)) (trm X1 X2 hle X N g l 6)) (trm X1 X2 hle X N g l 7)

theorem facR_at (X : S102432x128.Idx → Elt F .f32) (a : BitVec 32) (h : k0_chk21 a) (ha : a.toNat ≤ 102400) (w : F .f32) (i : Fin 8) (p : Fin 128) :
    facR X a h w (ValueIdx.ix2 i p) = FloatOps.mulf (X (ValueIdx.ix2 (⟨a.toNat + 24, by omega⟩ : Fin 102432) p)) w := by
  unfold facR
  rw [sc_self]
  show FloatOps.mulf (X _) w = _
  refine congrArg (fun z => FloatOps.mulf (X z) w) ?_
  funext b
  apply Fin.ext
  match b with
  | ⟨0, _⟩ => show k0_off105 a 0 + 1 * 0 = a.toNat + 24; rw [off105_zero ha]
  | ⟨1, _⟩ => show 0 + 1 * p.val = p.val; omega

theorem rowR_at (X : S102432x128.Idx → Elt F .f32) (a : BitVec 32) (h : k0_chk21 a) (ha : a.toNat ≤ 102400) (w : F .f32) (m : Fin 3) (i : Fin 8) (l : Fin 128) :
    rowR X a h w m (vI (BitVec.ofNat 32 (8 * m.val))) (ValueIdx.ix2 i l)
      = FloatOps.mulf (X (ValueIdx.ix2 (⟨a.toNat + (8 * m.val + i.val), by omega⟩ : Fin 102432) l)) (FloatOps.mulf (X (ValueIdx.ix2 (⟨a.toNat + 24, by omega⟩ : Fin 102432) ⟨8 * m.val + i.val, by omega⟩)) w) := by
  unfold rowR
  show FloatOps.mulf (X _) (gth _ _ (ValueIdx.ix2 i l)) = _
  rw [gth_at, facR_at _ _ _ ha]
  refine congrArg (fun z => FloatOps.mulf (X z) _) ?_
  funext b
  apply Fin.ext
  match b with
  | ⟨0, _⟩ =>
    show k0_off107 a (BitVec.ofNat 32 (8 * m.val)) 0 + 1 * i.val = a.toNat + (8 * m.val + i.val)
    rw [off107_zero ha]; omega
  | ⟨1, _⟩ => show 0 + 1 * l.val = l.val; omega

theorem rt_at (X : S102432x128.Idx → Elt F .f32) (s t : Fin 4) (u k : Fin 8) (m : Fin 3) (i : Fin 8) (l : Fin 128) :
    rt X1 X2 X hX1 s t u k m (vI (BitVec.ofNat 32 (8 * m.val))) (ValueIdx.ix2 i l)
      = trm X1 X2 hle X ⟨32 * s.val + 8 * t.val + u.val, by omega⟩ ⟨8 * m.val + i.val, by omega⟩ l k := by
  have e1 := wd_at X1 s t u k
  have e2 := wd_at X2 s t u k
  refine (rowR_at X (wd X1 s t u k) (hX1 _) (by rw [e1]; exact hle _) (wd X2 s t u k) m i l).trans ?_
  unfold trm rowIx
  rw [e2]
  congr 1
  · refine congrArg (fun z => X (ValueIdx.ix2 z l)) (Fin.ext ?_)
    show BitVec.toNat (wd X1 s t u k) + _ = _; rw [e1]
  · refine congrArg (fun z => FloatOps.mulf (X (ValueIdx.ix2 z _)) _) (Fin.ext ?_)
    show BitVec.toNat (wd X1 s t u k) + 24 = _; rw [e1]

theorem tokV_at (X : S102432x128.Idx → Elt F .f32) (s t : Fin 4) (u : Fin 8) (m : Fin 3) (i : Fin 8) (l : Fin 128) :
    tokV X1 X2 X hX1 s t u m (vI (BitVec.ofNat 32 (8 * m.val))) (ValueIdx.ix2 i l)
      = sm X1 X2 hle X ⟨32 * s.val + 8 * t.val + u.val, by omega⟩ ⟨8 * m.val + i.val, by omega⟩ l := by
  unfold tokV sm
  simp only [rts, addf_apply, rt_at X1 X2 hX1 hle]
  rfl

theorem accW_hit (s t : Fin 4) (u : Fin 8) (m : Fin 3) (v : FVec F S8x128 .f32) (A : S3200x128.Idx → Elt F .f32) (r : Fin 3200) (l : Fin 128) (i : Fin 8)
    (hr : r.val = 25 * (32 * s.val + 8 * t.val + u.val) + 8 * m.val + i.val) : accW s t u m v A (ValueIdx.ix2 r l) = v (ValueIdx.ix2 i l) := by
  unfold accW
  rw [sc_self]
  have e : (Rect.unit (s := S3200x128) (accOff s.val t.val u.val m.val) S8x128.size (accOff_inb s t u m)).emb (ValueIdx.ix2 i l) = ValueIdx.ix2 r l := by
    funext a
    apply Fin.ext
    rw [Rect.emb_apply]
    match a with
    | ⟨0, _⟩ => show accOff s.val t.val u.val m.val 0 + 1 * i.val = r.val; rw [accOff_zero, hr]; omega
    | ⟨1, _⟩ => show 0 + 1 * l.val = l.val; omega
  exact (congrArg _ e.symm).trans (Rect.overlay_emb _ _ _ _)

theorem accW_miss (s t : Fin 4) (u : Fin 8) (m : Fin 3) (v : FVec F S8x128 .f32) (A : S3200x128.Idx → Elt F .f32) (r : Fin 3200) (l : Fin 128)
    (hr : ∀ i : Fin 8, r.val ≠ 25 * (32 * s.val + 8 * t.val + u.val) + 8 * m.val + i.val) : accW s t u m v A (ValueIdx.ix2 r l) = A (ValueIdx.ix2 r l) := by
  unfold accW
  refine Rect.overlay_of_not_mem _ _ _ ?_
  rw [← Rect.map_emb_univ, Finset.mem_map]
  rintro ⟨x, -, hx⟩
  have h := congrArg Fin.val (congrFun hx 0)
  rw [Rect.emb_apply] at h
  refine hr (x 0) ?_
  rw [← accOff_zero]
  exact (h.symm.trans (by show accOff s.val t.val u.val m.val 0 + 1 * (x 0).val = _; omega))

theorem tokX_at (X : S102432x128.Idx → Elt F .f32) (s t : Fin 4) (u : Fin 8) (A : S3200x128.Idx → Elt F .f32) (N : Fin 128) (g : Fin 24) (l : Fin 128) (r : Fin 3200) (hr : r.val = 25 * N.val + g.val) :
    tokX X1 X2 X hX1 (vI 0#32) (vI 8#32) (vI 16#32) s t u A (ValueIdx.ix2 r l)
      = if N.val = 32 * s.val + 8 * t.val + u.val then sm X1 X2 hle X N g l else A (ValueIdx.ix2 r l) := by
  unfold tokX
  split
  · rename_i hN
    rcases N with ⟨n, hn⟩
    dsimp only at hr hN
    subst hN
    by_cases h2 : 16 ≤ g.val
    · rw [accW_hit s t u 2 _ _ r l ⟨g.val - 16, by omega⟩ (by rw [hr]; show _ = _ + 8 * 2 + (g.val - 16); omega)]
      refine (tokV_at X1 X2 hX1 hle X s t u 2 ⟨g.val - 16, by omega⟩ l).trans ?_
      exact congrArg (fun z => sm X1 X2 hle X _ z l) (Fin.ext (by show 8 * 2 + (g.val - 16) = g.val; omega))
    rw [accW_miss s t u 2 _ _ r l (fun i => by rw [hr]; show _ ≠ _ + 8 * 2 + i.val; omega)]
    by_cases h1 : 8 ≤ g.val
    · rw [accW_hit s t u 1 _ _ r l ⟨g.val - 8, by omega⟩ (by rw [hr]; show _ = _ + 8 * 1 + (g.val - 8); omega)]
      refine (tokV_at X1 X2 hX1 hle X s t u 1 ⟨g.val - 8, by omega⟩ l).trans ?_
      exact congrArg (fun z => sm X1 X2 hle X _ z l) (Fin.ext (by show 8 * 1 + (g.val - 8) = g.val; omega))
    rw [accW_miss s t u 1 _ _ r l (fun i => by rw [hr]; show _ ≠ _ + 8 * 1 + i.val; omega)]
    rw [accW_hit s t u 0 _ _ r l ⟨g.val, by omega⟩ (by rw [hr]; show _ = _ + 8 * 0 + g.val; omega)]
    refine (tokV_at X1 X2 hX1 hle X s t u 0 ⟨g.val, by omega⟩ l).trans ?_
    exact congrArg (fun z => sm X1 X2 hle X _ z l) (Fin.ext (by show 8 * 0 + g.val = g.val; omega))
  · rename_i hN
    rw [accW_miss s t u 2 _ _ r l (fun i => by rw [hr]; show _ ≠ _ + 8 * 2 + i.val; omega),
      accW_miss s t u 1 _ _ r l (fun i => by rw [hr]; show _ ≠ _ + 8 * 1 + i.val; omega),
      accW_miss s t u 0 _ _ r l (fun i => by rw [hr]; show _ ≠ _ + 8 * 0 + i.val; omega)]

theorem toksX_at (X : S102432x128.Idx → Elt F .f32) (s t : Fin 4) (N : Fin 128) (g : Fin 24) (l : Fin 128) (r : Fin 3200) (hr : r.val = 25 * N.val + g.val) :
    ∀ (n : ℕ) (hn : n ≤ 8) (A : S3200x128.Idx → Elt F .f32), toksX X1 X2 X hX1 (vI 0#32) (vI 8#32) (vI 16#32) s t n hn A (ValueIdx.ix2 r l)
      = if 32 * s.val + 8 * t.val + 8 ≤ N.val + n ∧ N.val < 32 * s.val + 8 * t.val + 8 then sm X1 X2 hle X N g l else A (ValueIdx.ix2 r l)
  | 0, hn, A => by rw [if_neg (by omega)]; rfl
  | n + 1, hn, A => by
    show toksX X1 X2 X hX1 (vI 0#32) (vI 8#32) (vI 16#32) s t n (by omega) (tokX X1 X2 X hX1 (vI 0#32) (vI 8#32) (vI 16#32) s t ⟨8 - (n + 1), by omega⟩ A) (ValueIdx.ix2 r l) = _
    rw [toksX_at X s t N g l r hr n (by omega), tokX_at X1 X2 hX1 hle X s t _ A N g l r hr]
    dsimp only
    by_cases h1 : 32 * s.val + 8 * t.val + 8 ≤ N.val + n ∧ N.val < 32 * s.val + 8 * t.val + 8
    · rw [if_pos h1, if_pos (by omega)]
    · rw [if_neg h1]
      by_cases h2 : N.val = 32 * s.val + 8 * t.val + (8 - (n + 1))
      · rw [if_pos h2, if_pos (by omega)]
      · rw [if_neg h2, if_neg (by omega)]

theorem subX_at (X : S102432x128.Idx → Elt F .f32) (s : Fin 4) (N : Fin 128) (g : Fin 24) (l : Fin 128) (r : Fin 3200) (hr : r.val = 25 * N.val + g.val) (A : S3200x128.Idx → Elt F .f32) :
    ∀ (n : ℕ) (hn : n ≤ 4), subX X1 X2 X hX1 (vI 0#32) (vI 8#32) (vI 16#32) s A n (ValueIdx.ix2 r l)
      = if 32 * s.val ≤ N.val ∧ N.val < 32 * s.val + 8 * n then sm X1 X2 hle X N g l else A (ValueIdx.ix2 r l)
  | 0, hn => by rw [if_neg (by omega)]; rfl
  | n + 1, hn => by
    show (if h : n < 4 then toksX X1 X2 X hX1 (vI 0#32) (vI 8#32) (vI 16#32) s ⟨n, h⟩ 8 le_rfl (subX X1 X2 X hX1 (vI 0#32) (vI 8#32) (vI 16#32) s A n) else _) (ValueIdx.ix2 r l) = _
    rw [dif_pos (by omega : n < 4), toksX_at X1 X2 hX1 hle X s _ N g l r hr, subX_at X s N g l r hr A n (by omega)]
    dsimp only
    by_cases h1 : 32 * s.val + 8 * n + 8 ≤ N.val + 8 ∧ N.val < 32 * s.val + 8 * n + 8
    · rw [if_pos h1, if_pos (by omega)]
    · rw [if_neg h1]
      by_cases h2 : 32 * s.val ≤ N.val ∧ N.val < 32 * s.val + 8 * n
      · rw [if_pos h2, if_pos (by omega)]
      · rw [if_neg h2, if_neg (by omega)]

theorem accF_at (Y : Fin 4 → S102432x128.Idx → Elt F .f32) (A : S3200x128.Idx → Elt F .f32) (N : Fin 128) (g : Fin 24) (l : Fin 128) (r : Fin 3200) (hr : r.val = 25 * N.val + g.val) :
    accF X1 X2 hX1 (Y 0) (Y 1) (Y 2) (Y 3) A (ValueIdx.ix2 r l) = sm X1 X2 hle (Y ⟨N.val / 32, by omega⟩) N g l := by
  unfold accF
  rw [subX_at X1 X2 hX1 hle _ 3 N g l r hr _ 4 le_rfl, subX_at X1 X2 hX1 hle _ 2 N g l r hr _ 4 le_rfl, subX_at X1 X2 hX1 hle _ 1 N g l r hr _ 4 le_rfl, subX_at X1 X2 hX1 hle _ 0 N g l r hr _ 4 le_rfl]
  have h4 : ∀ q : Fin 4, N.val / 32 = q.val → Y ⟨N.val / 32, by omega⟩ = Y q := fun q h => congrArg Y (Fin.ext h)
  rcases (by omega : N.val / 32 = 3 ∨ N.val / 32 = 2 ∨ N.val / 32 = 1 ∨ N.val / 32 = 0) with h | h | h | h
  · rw [if_pos (by show 32 * 3 ≤ _ ∧ _ < 32 * 3 + _; omega), h4 3 h]
  · rw [if_neg (by show ¬(32 * 3 ≤ _ ∧ _ < 32 * 3 + _); omega), if_pos (by show 32 * 2 ≤ _ ∧ _ < 32 * 2 + _; omega), h4 2 h]
  · rw [if_neg (by show ¬(32 * 3 ≤ _ ∧ _ < 32 * 3 + _); omega), if_neg (by show ¬(32 * 2 ≤ _ ∧ _ < 32 * 2 + _); omega), if_pos (by show 32 * 1 ≤ _ ∧ _ < 32 * 1 + _; omega), h4 1 h]
  · rw [if_neg (by show ¬(32 * 3 ≤ _ ∧ _ < 32 * 3 + _); omega), if_neg (by show ¬(32 * 2 ≤ _ ∧ _ < 32 * 2 + _); omega), if_neg (by show ¬(32 * 1 ≤ _ ∧ _ < 32 * 1 + _); omega),
      if_pos (by show 32 * 0 ≤ _ ∧ _ < 32 * 0 + _; omega), h4 0 h]

/-- A place of the block. -/
def fv (A : S3200x128.Idx → Elt F .f32) (X7 : S128x3072.Idx → Elt F .bf16) (n : Fin 128) (d : Fin 3072) : F .bf16 :=
  FloatOps.truncf .bf16 bitsLt_bf16_f32 (FloatOps.addf (FloatOps.extf .f32 bitsLt_bf16_f32 (X7 (ValueIdx.ix2 n d))) (A (ValueIdx.ix2 (⟨25 * n.val + d.val / 128, by omega⟩ : Fin 3200) (⟨d.val % 128, by omega⟩ : Fin 128))))

theorem finW_at (A : S3200x128.Idx → Elt F .f32) (X7 : S128x3072.Idx → Elt F .bf16) (t : Fin 8) (g : Fin 24) (O : S128x3072.Idx → Elt F .bf16) (n : Fin 128) (d : Fin 3072) :
    finW A X7 t g O (ValueIdx.ix2 n d) = if n.val / 16 = t.val ∧ d.val / 128 = g.val then fv A X7 n d else O (ValueIdx.ix2 n d) := by
  unfold finW
  split
  · rename_i h
    have e : (Rect.unit (s := S128x3072) (finOff t.val g.val) S16x128.size (finOff_inb t g)).emb (ValueIdx.ix2 (⟨n.val % 16, by omega⟩ : Fin 16) (⟨d.val % 128, by omega⟩ : Fin 128)) = ValueIdx.ix2 n d := by
      funext a
      apply Fin.ext
      rw [Rect.emb_apply]
      match a with
      | ⟨0, _⟩ => show finOff t.val g.val 0 + 1 * (n.val % 16) = n.val; rw [finOff_zero]; omega
      | ⟨1, _⟩ => show 128 * g.val + 1 * (d.val % 128) = d.val; omega
    refine ((congrArg _ e.symm).trans (Rect.overlay_emb _ _ _ _)).trans ?_
    unfold fv
    show FloatOps.truncf .bf16 bitsLt_bf16_f32 (FloatOps.addf (FloatOps.extf .f32 bitsLt_bf16_f32 (X7 _)) (concatenate S16x128 0 _ _ _)) = _
    refine congrArg _ (congr (congrArg _ (congrArg _ (congrArg X7 ?_))) ?_)
    · exact e
    · by_cases h8 : n.val % 16 < 8
      · refine (concatenate_pair_apply_left (t := S16x128) (s₁ := S8x128) (s₂ := S8x128) 0 _ _ _ _ rfl (ValueIdx.ix2 (⟨n.val % 16, h8⟩ : Fin 8) (⟨d.val % 128, by omega⟩ : Fin 128)) (fun b => by match b with | ⟨0, _⟩ => rfl | ⟨1, _⟩ => rfl)).trans ?_
        refine congrArg A ?_
        funext a
        apply Fin.ext
        match a with
        | ⟨0, _⟩ => show finAcc t.val (0 : Fin 2).val g.val 0 + 25 * (n.val % 16) = _; rw [finAcc_zero]; show 25 * (16 * t.val + 8 * 0) + g.val + 25 * (n.val % 16) = 25 * n.val + d.val / 128; omega
        | ⟨1, _⟩ => show 0 + 1 * (d.val % 128) = d.val % 128; omega
      · refine (concatenate_pair_apply_right (t := S16x128) (s₁ := S8x128) (s₂ := S8x128) 0 _ _ _ _ rfl rfl (ValueIdx.ix2 (⟨n.val % 16 - 8, by omega⟩ : Fin 8) (⟨d.val % 128, by omega⟩ : Fin 128))
          (fun b hb => by match b with | ⟨0, _⟩ => exact absurd rfl hb | ⟨1, _⟩ => rfl) (by show n.val % 16 - 8 + 8 = n.val % 16; omega)).trans ?_
        refine congrArg A ?_
        funext a
        apply Fin.ext
        match a with
        | ⟨0, _⟩ => show finAcc t.val (1 : Fin 2).val g.val 0 + 25 * (n.val % 16 - 8) = _; rw [finAcc_zero]; show 25 * (16 * t.val + 8 * 1) + g.val + 25 * (n.val % 16 - 8) = 25 * n.val + d.val / 128; omega
        | ⟨1, _⟩ => show 0 + 1 * (d.val % 128) = d.val % 128; omega
  · rename_i h
    refine Rect.overlay_of_not_mem _ _ _ ?_
    rw [← Rect.map_emb_univ, Finset.mem_map]
    rintro ⟨x, -, hx⟩
    have h0 := congrArg Fin.val (congrFun hx 0)
    have h1 := congrArg Fin.val (congrFun hx 1)
    rw [Rect.emb_apply] at h0 h1
    have h0' : finOff t.val g.val 0 + 1 * (x 0).val = n.val := h0
    have h1' : 128 * g.val + 1 * (x 1).val = d.val := h1
    have x0 : (x 0).val < 16 := (x 0).isLt
    have x1 : (x 1).val < 128 := (x 1).isLt
    rw [finOff_zero] at h0'
    exact h ⟨by omega, by omega⟩

theorem finWs_at (A : S3200x128.Idx → Elt F .f32) (X7 : S128x3072.Idx → Elt F .bf16) (t : Fin 8) (n : Fin 128) (d : Fin 3072) :
    ∀ (k : ℕ) (hk : k ≤ 24) (O : S128x3072.Idx → Elt F .bf16), finWs A X7 t k hk O (ValueIdx.ix2 n d) = if n.val / 16 = t.val ∧ 24 ≤ d.val / 128 + k then fv A X7 n d else O (ValueIdx.ix2 n d)
  | 0, hk, O => by rw [if_neg (by omega)]; rfl
  | k + 1, hk, O => by
    show finWs A X7 t k (by omega) (finW A X7 t ⟨24 - (k + 1), by omega⟩ O) (ValueIdx.ix2 n d) = _
    rw [finWs_at A X7 t n d k (by omega), finW_at]
    dsimp only
    by_cases h1 : n.val / 16 = t.val ∧ 24 ≤ d.val / 128 + k
    · rw [if_pos h1, if_pos (by omega)]
    · rw [if_neg h1]
      by_cases h2 : n.val / 16 = t.val ∧ d.val / 128 = 24 - (k + 1)
      · rw [if_pos h2, if_pos (by omega)]
      · rw [if_neg h2, if_neg (by omega)]

theorem finX_at (A : S3200x128.Idx → Elt F .f32) (X7 : S128x3072.Idx → Elt F .bf16) (O : S128x3072.Idx → Elt F .bf16) (n : Fin 128) (d : Fin 3072) :
    ∀ (k : ℕ) (hk : k ≤ 8), finX A X7 O k (ValueIdx.ix2 n d) = if n.val / 16 < k then fv A X7 n d else O (ValueIdx.ix2 n d)
  | 0, hk => by rw [if_neg (by omega)]; rfl
  | k + 1, hk => by
    show (if h : k < 8 then finWs A X7 ⟨k, h⟩ 24 le_rfl (finX A X7 O k) else _) (ValueIdx.ix2 n d) = _
    rw [dif_pos (by omega : k < 8), finWs_at, finX_at A X7 O n d k (by omega)]
    dsimp only
    by_cases h1 : n.val / 16 = k ∧ 24 ≤ d.val / 128 + 24
    · rw [if_pos h1, if_pos (by omega)]
    · rw [if_neg h1]
      by_cases h2 : n.val / 16 < k
      · rw [if_pos h2, if_pos (by omega)]
      · rw [if_neg h2, if_neg (by omega)]

end Cert.KernelIdeal.M

end
-- ==== Proof.RefVal.lean ====
module

public import proofs.«01_k».proof.Proof.Gen.ReferenceIdeal.Run
public import Idealize.ShloMosaic.Lib.Pipeline.ValueKit.Acc
public import Idealize.ShloMosaic.Lib.Pipeline.ValueKit.Geometry
public import Idealize.ShloMosaic.Lib.Pointwise.Tactic
public import Idealize.ShloMosaic.Lib.IdealHost
public import Idealize.ShloMosaic.Lib.KernelVsHost

@[expose] public section

noncomputable section

/-
  The reference's result at a place.
-/
namespace Cert.ReferenceIdeal.M

open Cert.ReferenceIdeal Cert.ReferenceIdeal.Gen Idealize.ShloMosaic Idealize.ShloMosaic.TcCoe Idealize.SL.Sem Idealize.ShloMosaic.StableHlo

/-- Rows taken by number. -/
abbrev rowsDims (N D : Nat) (wf : GatherDims.WF ⟨2, ![N, D]⟩ ⟨3, ![32768, 8, 1]⟩ ⟨3, ![32768, 8, D]⟩ [2] [0] [] [0] [] 2 ![1, D]) :
    GatherDims ⟨2, ![N, D]⟩ ⟨3, ![32768, 8, 1]⟩ ⟨3, ![32768, 8, D]⟩ where
  offsetDims := [2]
  collapsedSliceDims := [0]
  operandBatchingDims := []
  startIndicesBatchingDims := []
  startIndexMap := [0]
  indexVectorDim := 2
  sliceSizes := ![1, D]
  wf := wf

theorem gather_rows {α : Type} {N D : Nat} (hN : 0 < N) (wf) (x : (⟨2, ![N, D]⟩ : Shape).Idx → α) (idx : IVec ⟨3, ![32768, 8, 1]⟩ 32) (n : Fin 32768) (k : Fin 8) (d : Fin D) :
    Host.gather (rowsDims N D wf) x idx (ValueIdx.ix3 n k d) = x (ValueIdx.ix2 ⟨min (idx (ValueIdx.ix3 n k (0 : Fin 1)) : BitVec 32).toInt.toNat (N - 1), by omega⟩ d) := by
  unfold Host.gather
  refine congrArg x (funext fun a => Fin.ext ?_)
  match a with
  | ⟨0, _⟩ =>
    show (rowsDims N D wf).start (ValueIdx.ix3 n k d) idx 0 + (rowsDims N D wf).batchCoord (ValueIdx.ix3 n k d) 0 + (rowsDims N D wf).offCoord (ValueIdx.ix3 n k d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D wf).startIndexMap from List.mem_singleton.mpr rfl)]
    have hsi : (rowsDims N D wf).siIdx (ValueIdx.ix3 n k d) ⟨List.idxOf (0 : Fin 2) (rowsDims N D wf).startIndexMap,
        List.idxOf_lt_length_iff.2 (List.mem_singleton.mpr rfl)⟩ = ValueIdx.ix3 n k (0 : Fin 1) := by
      funext b; refine Fin.ext ?_
      match b with
      | ⟨0, _⟩ => rfl
      | ⟨1, _⟩ => rfl
      | ⟨2, _⟩ => rfl
    rw [hsi]
    rfl
  | ⟨1, _⟩ =>
    have hk : (1 : Fin 2) ∈ (rowsDims N D wf).sKept := (GatherDims.mem_sKept _ 1).2 ⟨fun h => absurd (congrArg Fin.val (List.mem_singleton.mp h)) Nat.one_ne_zero, List.not_mem_nil⟩
    have hm : (1 : Fin 2) ∉ (rowsDims N D wf).startIndexMap := fun h => absurd (congrArg Fin.val (List.mem_singleton.mp h)) Nat.one_ne_zero
    show (rowsDims N D wf).start (ValueIdx.ix3 n k d) idx 1 + (rowsDims N D wf).batchCoord (ValueIdx.ix3 n k d) 1 + (rowsDims N D wf).offCoord (ValueIdx.ix3 n k d) 1 = d.val
    rw [GatherDims.batchCoord_eq_zero _ _ _ List.not_mem_nil, Nat.add_zero]
    unfold GatherDims.start GatherDims.offCoord
    rw [dif_neg hm, dif_pos hk, Nat.zero_add]
    rfl

theorem sc_self {α : Type} {s : Shape} (h : s.ShapeCasts s) (X : s.Idx → α) : shapeCast s X h = X := by
  funext i
  exact congrArg X (Shape.reshapeEquiv_eq_of_rowMajor _ rfl)

section
variable {F : FTy → Type} [FloatOps F] (m : (ℓ : Loc nD τ sig) → Buf (Elt F) ℓ)

set_option maxHeartbeats 2000000 in
theorem v18_eq (c : Dev nD) : V m c main_v18 = shapeCast _ (Host.gather gather_S249037x3072_S32768x8x1_S32768x8x3072_2_0_n_n_0_2_13072 (m ((c.tc : Thread nD τ).loc main_arg5)) (broadcastInDim S32768x8x1 ![0, 1] bcast_S32768x8_S32768x8x1_0_1 (select (cmpi .slt (m ((c.tc : Thread nD τ).loc main_arg7)) (broadcastInDim S32768x8 ![] bcast_S_S32768x8 (constantI S_ 32 0#32))) (addi (m ((c.tc : Thread nD τ).loc main_arg7)) (broadcastInDim S32768x8 ![] bcast_S_S32768x8 (constantI S_ 32 249037#32))) (m ((c.tc : Thread nD τ).loc main_arg7))))) shapeCasts_S32768x8x3072_S262144x3072 := by
  show Gen.V0 m c (Proc.devRef .tc main_v18) = _
  simp only [Gen.V0, Gen.hostOps0, List.flatten_cons, List.flatten_nil, List.append_nil, List.cons_append, List.nil_append]
  after_results <;> rfl

theorem reg_eq (c : Dev nD) : Value.reg_main_v19 m c = extf .f32 (V m c main_v18) bitsLt_fp8e4m3_f32 := by
  unfold Value.reg_main_v19
  refine (dats m 0 c).arrAt_eq_of_covers 1 _ (by decide +kernel) fun t hf y => ?_
  blk_simp
  rw [after0_1]
  frame_out
  unfold k0_pay1
  show FloatOps.extf .f32 bitsLt_fp8e4m3_f32 _ = FloatOps.extf .f32 bitsLt_fp8e4m3_f32 _
  refine congrArg _ ?_
  rw [sc_self]
  unfold iblk
  rw [View.read_apply]
  refine congrArg (V m c main_v18) ?_
  funext a
  apply Fin.ext
  match a with
  | ⟨0, _⟩ => rfl
  | ⟨1, _⟩ => rfl
end

/-- The row a route's number reads. -/
def rowOf (R : S32768x8.Idx → BitVec 32) (n : Fin 32768) (k : Fin 8) : Fin 249037 :=
  ⟨min (Scalar.select (IntOp.cmpi .slt (R (ValueIdx.ix2 n k)) 0#32) (IntOp.addi (R (ValueIdx.ix2 n k)) 249037#32) (R (ValueIdx.ix2 n k)) : BitVec 32).toInt.toNat 249036, by omega⟩

theorem red4 : S32768x8x24x128.Reduces [1] S32768x24x128 := by decide

theorem lift4 (n : Fin 32768) (g : Fin 24) (l : Fin 128) (k : Fin 8) : red4.lift (ValueIdx.ix3 n g l) k = ValueIdx.ix4 n k g l := by
  funext a; apply Fin.ext
  match a with
  | ⟨0, _⟩ => rfl
  | ⟨1, _⟩ => rfl
  | ⟨2, _⟩ => rfl
  | ⟨3, _⟩ => rfl

theorem sum_at (P : FVec Ideal S32768x8x24x128 .f32) (X : S32768x3072.Idx → Ideal .bf16) (n : Fin 32768) (d : Fin 3072) :
    (truncf .bf16 (addf (extf .f32 X bitsLt_bf16_f32) (shapeCast S32768x3072 (Host.reduceAdd P (constant S_ .f32 0x00000000#32) reducesTo_S32768x8x24x128_S32768x24x128_d1 h_S_) shapeCasts_S32768x24x128_S32768x3072)) bitsLt_bf16_f32 : FVec Ideal S32768x3072 .bf16) (ValueIdx.ix2 n d)
      = X (ValueIdx.ix2 n d) + ∑ k : Fin 8, P (ValueIdx.ix4 n k (⟨d.val / 128, by omega⟩ : Fin 24) (⟨d.val % 128, by omega⟩ : Fin 128)) := by
  have e1 : ∀ Z : FVec Ideal S32768x24x128 .f32, shapeCast S32768x3072 Z shapeCasts_S32768x24x128_S32768x3072 (ValueIdx.ix2 n d) = Z (ValueIdx.ix3 n (⟨d.val / 128, by omega⟩ : Fin 24) (⟨d.val % 128, by omega⟩ : Fin 128)) := fun Z =>
    congrArg Z (Shape.reshapeEquiv_eq_of_rowMajor _ (by
      rw [Shape.rowMajor_val_two, Shape.rowMajor_val_three]
      show (n.val * 24 + d.val / 128) * 128 + d.val % 128 = n.val * 3072 + d.val; omega))
  have hz : (constant (F := Ideal) S_ .f32 0x00000000#32) (Shape.Idx.first h_S_) = (0 : EReal) := Ideal.ofBits_zero_f32
  have e2 : Host.reduceAdd P (constant (F := Ideal) S_ .f32 0x00000000#32) reducesTo_S32768x8x24x128_S32768x24x128_d1 h_S_ (ValueIdx.ix3 n (⟨d.val / 128, by omega⟩ : Fin 24) (⟨d.val % 128, by omega⟩ : Fin 128))
      = ∑ k : Fin 8, P (ValueIdx.ix4 n k (⟨d.val / 128, by omega⟩ : Fin 24) (⟨d.val % 128, by omega⟩ : Fin 128)) := by
    show Ideal.hostReduceAdd _ _ _ _ = _
    rw [Ideal.hostReduceAdd_single reducesTo_S32768x8x24x128_S32768x24x128_d1 red4, hz, zero_add]
    exact Finset.sum_congr rfl fun k _ => congrArg P (lift4 n _ _ k)
  exact congrArg (X (ValueIdx.ix2 n d) + ·) ((e1 _).trans e2)

theorem prod_at (REG : S262144x3072.Idx → Ideal .f32) (W : S8x32768.Idx → Ideal .f32) (Y : S249037x3072.Idx → Ideal .fp8e4m3) (Sc : S249037x24.Idx → Ideal .f32) (R : S32768x8.Idx → BitVec 32)
    (hR : ∀ (n : Fin 32768) (k : Fin 8) (d : Fin 3072), REG (ValueIdx.ix2 (⟨n.val * 8 + k.val, by omega⟩ : Fin 262144) d) = FloatOps.extf (F := Ideal) .f32 bitsLt_fp8e4m3_f32 (Y (ValueIdx.ix2 (rowOf R n k) d)))
    (n : Fin 32768) (k : Fin 8) (d : Fin 3072) :
    (mulf (shapeCast S32768x8x24x128 REG shapeCasts_S262144x3072_S32768x8x24x128) (broadcastInDim S32768x8x24x128 ![0, 1, 2, 3] bcast_S32768x8x24x1_S32768x8x24x128_0_1_2_3 (broadcastInDim S32768x8x24x1 ![0, 1, 2] bcast_S32768x8x24_S32768x8x24x1_0_1_2 (mulf (Host.gather gather_S249037x24_S32768x8x1_S32768x8x24_2_0_n_n_0_2_124 Sc (broadcastInDim S32768x8x1 ![0, 1] bcast_S32768x8_S32768x8x1_0_1 (select (cmpi .slt R (broadcastInDim S32768x8 ![] bcast_S_S32768x8 (constantI S_ 32 0#32))) (addi R (broadcastInDim S32768x8 ![] bcast_S_S32768x8 (constantI S_ 32 249037#32))) R))) (broadcastInDim S32768x8x24 ![0, 1, 2] bcast_S32768x8x1_S32768x8x24_0_1_2 (broadcastInDim S32768x8x1 ![0, 1] bcast_S32768x8_S32768x8x1_0_1 (transpose S32768x8 [1, 0] W transposes_S8x32768_S32768x8_1_0)))))) : FVec Ideal S32768x8x24x128 .f32)
      (ValueIdx.ix4 n k (⟨d.val / 128, by omega⟩ : Fin 24) (⟨d.val % 128, by omega⟩ : Fin 128))
      = Y (ValueIdx.ix2 (rowOf R n k) d) * (Sc (ValueIdx.ix2 (rowOf R n k) (⟨d.val / 128, by omega⟩ : Fin 24)) * W (ValueIdx.ix2 k n)) := by
  have e2 : shapeCast S32768x8x24x128 REG shapeCasts_S262144x3072_S32768x8x24x128 (ValueIdx.ix4 n k (⟨d.val / 128, by omega⟩ : Fin 24) (⟨d.val % 128, by omega⟩ : Fin 128)) = Y (ValueIdx.ix2 (rowOf R n k) d) :=
    (congrArg REG (Shape.reshapeEquiv_eq_of_rowMajor _ (by
      rw [Shape.rowMajor_val_two, Shape.rowMajor_val_four]
      show (n.val * 8 + k.val) * 3072 + d.val = ((n.val * 8 + k.val) * 24 + d.val / 128) * 128 + d.val % 128; omega))).trans (hR n k d)
  have e3 := gather_rows (by decide) gather_S249037x24_S32768x8x1_S32768x8x24_2_0_n_n_0_2_124_wf Sc (broadcastInDim S32768x8x1 ![0, 1] bcast_S32768x8_S32768x8x1_0_1 (select (cmpi .slt R (broadcastInDim S32768x8 ![] bcast_S_S32768x8 (constantI S_ 32 0#32))) (addi R (broadcastInDim S32768x8 ![] bcast_S_S32768x8 (constantI S_ 32 249037#32))) R)) n k (⟨d.val / 128, by omega⟩ : Fin 24)
  have e4 : (ValueIdx.ix2 (⟨min ((broadcastInDim S32768x8x1 ![0, 1] bcast_S32768x8_S32768x8x1_0_1 (select (cmpi .slt R (broadcastInDim S32768x8 ![] bcast_S_S32768x8 (constantI S_ 32 0#32))) (addi R (broadcastInDim S32768x8 ![] bcast_S_S32768x8 (constantI S_ 32 249037#32))) R)) (ValueIdx.ix3 n k (0 : Fin 1)) : BitVec 32).toInt.toNat (249037 - 1), by omega⟩ : Fin 249037) (⟨d.val / 128, by omega⟩ : Fin 24)) = ValueIdx.ix2 (rowOf R n k) (⟨d.val / 128, by omega⟩ : Fin 24) := by
    refine congrArg (fun z => ValueIdx.ix2 z _) (Fin.ext ?_)
    have h : (broadcastInDim S32768x8x1 ![0, 1] bcast_S32768x8_S32768x8x1_0_1 (select (cmpi .slt R (broadcastInDim S32768x8 ![] bcast_S_S32768x8 (constantI S_ 32 0#32))) (addi R (broadcastInDim S32768x8 ![] bcast_S_S32768x8 (constantI S_ 32 249037#32))) R)) (Idealize.ShloMosaic.ix3 n k (0 : Fin 1))
        = (Scalar.select (IntOp.cmpi .slt (R (Idealize.ShloMosaic.ix2 n k)) 0#32) (IntOp.addi (R (Idealize.ShloMosaic.ix2 n k)) 249037#32) (R (Idealize.ShloMosaic.ix2 n k)) : BitVec 32) := by
      pointwise
    exact congrArg (fun z : BitVec 32 => min z.toInt.toNat 249036) h
  have e5 : ∀ G : FVec Ideal S32768x8x24 .f32, (broadcastInDim S32768x8x24x128 ![0, 1, 2, 3] bcast_S32768x8x24x1_S32768x8x24x128_0_1_2_3 (broadcastInDim S32768x8x24x1 ![0, 1, 2] bcast_S32768x8x24_S32768x8x24x1_0_1_2 G)) (Idealize.ShloMosaic.ix4 n k (⟨d.val / 128, by omega⟩ : Fin 24) (⟨d.val % 128, by omega⟩ : Fin 128))
      = G (Idealize.ShloMosaic.ix3 n k (⟨d.val / 128, by omega⟩ : Fin 24)) := fun G => by
    pointwise
  have e6 : (broadcastInDim S32768x8x24 ![0, 1, 2] bcast_S32768x8x1_S32768x8x24_0_1_2 (broadcastInDim S32768x8x1 ![0, 1] bcast_S32768x8_S32768x8x1_0_1 (transpose S32768x8 [1, 0] W transposes_S8x32768_S32768x8_1_0))) (Idealize.ShloMosaic.ix3 n k (⟨d.val / 128, by omega⟩ : Fin 24))
      = W (Idealize.ShloMosaic.ix2 k n) := by
    pointwise
  refine congr (congrArg (fun a b : EReal => a * b) e2) ((e5 _).trans ?_)
  exact congr (congrArg (fun a b : EReal => a * b) (e3.trans (congrArg Sc e4))) e6

theorem out_at (REG : S262144x3072.Idx → Ideal .f32) (W : S8x32768.Idx → Ideal .f32) (X : S32768x3072.Idx → Ideal .bf16) (Y : S249037x3072.Idx → Ideal .fp8e4m3) (Sc : S249037x24.Idx → Ideal .f32) (R : S32768x8.Idx → BitVec 32)
    (hR : ∀ (n : Fin 32768) (k : Fin 8) (d : Fin 3072), REG (ValueIdx.ix2 (⟨n.val * 8 + k.val, by omega⟩ : Fin 262144) d) = FloatOps.extf (F := Ideal) .f32 bitsLt_fp8e4m3_f32 (Y (ValueIdx.ix2 (rowOf R n k) d)))
    (n : Fin 32768) (d : Fin 3072) :
    (truncf .bf16 (addf (extf .f32 X bitsLt_bf16_f32) (shapeCast S32768x3072 (Host.reduceAdd (mulf (shapeCast S32768x8x24x128 REG shapeCasts_S262144x3072_S32768x8x24x128) (broadcastInDim S32768x8x24x128 ![0, 1, 2, 3] bcast_S32768x8x24x1_S32768x8x24x128_0_1_2_3 (broadcastInDim S32768x8x24x1 ![0, 1, 2] bcast_S32768x8x24_S32768x8x24x1_0_1_2 (mulf (Host.gather gather_S249037x24_S32768x8x1_S32768x8x24_2_0_n_n_0_2_124 Sc (broadcastInDim S32768x8x1 ![0, 1] bcast_S32768x8_S32768x8x1_0_1 (select (cmpi .slt R (broadcastInDim S32768x8 ![] bcast_S_S32768x8 (constantI S_ 32 0#32))) (addi R (broadcastInDim S32768x8 ![] bcast_S_S32768x8 (constantI S_ 32 249037#32))) R))) (broadcastInDim S32768x8x24 ![0, 1, 2] bcast_S32768x8x1_S32768x8x24_0_1_2 (broadcastInDim S32768x8x1 ![0, 1] bcast_S32768x8_S32768x8x1_0_1 (transpose S32768x8 [1, 0] W transposes_S8x32768_S32768x8_1_0))))))) (constant S_ .f32 0x00000000#32) reducesTo_S32768x8x24x128_S32768x24x128_d1 h_S_) shapeCasts_S32768x24x128_S32768x3072)) bitsLt_bf16_f32 : FVec Ideal S32768x3072 .bf16) (ValueIdx.ix2 n d)
      = X (ValueIdx.ix2 n d) + ∑ k : Fin 8, Y (ValueIdx.ix2 (rowOf R n k) d) * (Sc (ValueIdx.ix2 (rowOf R n k) (⟨d.val / 128, by omega⟩ : Fin 24)) * W (ValueIdx.ix2 k n)) := by
  exact (sum_at _ X n d).trans (congrArg (X (ValueIdx.ix2 n d) + ·) (Finset.sum_congr rfl fun k _ => prod_at REG W Y Sc R hR n k d))

/-- The reference's result. -/
def refv (W : S8x32768.Idx → Ideal .f32) (X : S32768x3072.Idx → Ideal .bf16) (Y : S249037x3072.Idx → Ideal .fp8e4m3) (Sc : S249037x24.Idx → Ideal .f32) (R : S32768x8.Idx → BitVec 32) (n : Fin 32768) (d : Fin 3072) : Ideal .bf16 :=
  X (ValueIdx.ix2 n d) + ∑ k : Fin 8, Y (ValueIdx.ix2 (rowOf R n k) d) * (Sc (ValueIdx.ix2 (rowOf R n k) (⟨d.val / 128, by omega⟩ : Fin 24)) * W (ValueIdx.ix2 k n))

variable (m : (ℓ : Loc nD τ sig) → Buf (Elt Ideal) ℓ)

theorem reg_at (c : Dev nD) (n : Fin 32768) (k : Fin 8) (d : Fin 3072) :
    Value.reg_main_v19 m c (ValueIdx.ix2 (⟨n.val * 8 + k.val, by omega⟩ : Fin 262144) d) = FloatOps.extf (F := Ideal) .f32 bitsLt_fp8e4m3_f32 (m ((c.tc : Thread nD τ).loc main_arg5) (ValueIdx.ix2 (rowOf (m ((c.tc : Thread nD τ).loc main_arg7)) n k) d)) := by
  rw [reg_eq]
  show FloatOps.extf (F := Ideal) .f32 bitsLt_fp8e4m3_f32 (V m c main_v18 _) = _
  refine congrArg (FloatOps.extf (F := Ideal) .f32 bitsLt_fp8e4m3_f32) ?_
  rw [v18_eq]
  have e1 : ∀ Z : S32768x8x3072.Idx → Elt Ideal .fp8e4m3, shapeCast S262144x3072 Z shapeCasts_S32768x8x3072_S262144x3072 (ValueIdx.ix2 (⟨n.val * 8 + k.val, by omega⟩ : Fin 262144) d) = Z (ValueIdx.ix3 n k d) := fun Z =>
    congrArg Z (Shape.reshapeEquiv_eq_of_rowMajor _ (by
      rw [Shape.rowMajor_val_two, Shape.rowMajor_val_three]; rfl))
  refine (e1 _).trans ?_
  refine (gather_rows (by decide) gather_S249037x3072_S32768x8x1_S32768x8x3072_2_0_n_n_0_2_13072_wf (m ((c.tc : Thread nD τ).loc main_arg5)) _ n k d).trans ?_
  refine congrArg (fun z => m ((c.tc : Thread nD τ).loc main_arg5) (ValueIdx.ix2 z d)) (Fin.ext ?_)
  have h : ∀ R : S32768x8.Idx → BitVec 32, (broadcastInDim S32768x8x1 ![0, 1] bcast_S32768x8_S32768x8x1_0_1 (select (cmpi .slt R (broadcastInDim S32768x8 ![] bcast_S_S32768x8 (constantI S_ 32 0#32))) (addi R (broadcastInDim S32768x8 ![] bcast_S_S32768x8 (constantI S_ 32 249037#32))) R)) (Idealize.ShloMosaic.ix3 n k (0 : Fin 1))
      = (Scalar.select (IntOp.cmpi .slt (R (Idealize.ShloMosaic.ix2 n k)) 0#32) (IntOp.addi (R (Idealize.ShloMosaic.ix2 n k)) 249037#32) (R (Idealize.ShloMosaic.ix2 n k)) : BitVec 32) := fun R => by
    pointwise
  exact congrArg (fun z : BitVec 32 => min z.toInt.toNat 249036) (h (m ((c.tc : Thread nD τ).loc main_arg7)))

/-- Every run of the reference leaves that result, and the arguments as they were. -/
theorem run_val (ρ : Dev nD → PrngReg) :
    θ_run defs (onTc (τ := τ) (main (F := Ideal))) ⟨m, fun _ => 0, ρ⟩ fun r => ∀ c : Dev nD,
      (∀ (n : Fin 32768) (d : Fin 3072), r.2.mem ((c.tc : Thread nD τ).loc main_v28) (ValueIdx.ix2 n d) = refv (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) n d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨fun n d => (congrFun (h c).1 (ValueIdx.ix2 n d)).trans (out_at (Value.reg_main_v19 m c) _ _ _ _ _ (reg_at m c) n d), (h c).2⟩) (Value.run m ρ)

end Cert.ReferenceIdeal.M

end
-- ==== Proof.KI.Final.lean ====
module

public import proofs.«01_k».proof.Proof.KI.Live
public import proofs.«01_k».proof.Proof.KI.Sums
public import proofs.«01_k».proof.Proof.RefVal
public import Idealize.ShloMosaic.Lib.Pipeline.ArrRel
public import Idealize.ShloMosaic.Lib.Pipeline.ValueKit.Acc
public import Idealize.ShloMosaic.Lib.Pipeline.ValueKit.Geometry

@[expose] public section

noncomputable section

/-
  The kernel's result at a place, over the reals.
-/
namespace Cert.KernelIdeal.M

open Idealize.ShloMosaic Idealize.ShloMosaic.TcCoe Idealize.ShloMosaic.Tactic
open Idealize.SL Idealize.SL.RA Idealize.SL.BI Idealize.SL.Sem
open Cert.KernelIdeal.Gen
open Facts₀ Facts
open Cert.ReferenceIdeal.M (rowOf refv)
open Cert.Pre_routed.M (tokOf)

theorem rowOf_lt (R : S32768x8.Idx → BitVec 32) (n : Fin 32768) (k : Fin 8) (w : BitVec 32) (hw : R (ValueIdx.ix2 n k) = w) (h : w.toNat < 249037) : rowOf R n k = ⟨w.toNat, h⟩ := by
  apply Fin.ext
  have e : (rowOf R n k).val = min (Scalar.select (IntOp.cmpi .slt w 0#32) (IntOp.addi w 249037#32) w : BitVec 32).toInt.toNat 249036 := by
    rw [← hw]; rfl
  rw [e]
  have hs : w.slt 0#32 = false := by
    rw [Bool.eq_false_iff]; intro h'
    rw [BitVec.slt_iff_toInt_lt, BitVec.toInt_eq_toNat_cond, if_pos (by omega)] at h'
    simp only [BitVec.ofNat_eq_ofNat, BitVec.toInt_zero] at h'
    omega
  have e2 : (Scalar.select (IntOp.cmpi .slt w 0#32) (IntOp.addi w 249037#32) w : BitVec 32) = w := by
    show (if (BitVec.ofBool (w.slt 0#32)) = 1#1 then _ else _) = _
    rw [hs]; exact if_neg (by decide)
  rw [e2, BitVec.toInt_eq_toNat_cond, if_pos (by omega)]
  show min ((w.toNat : ℤ)).toNat 249036 = w.toNat
  rw [Int.toNat_natCast]; omega

theorem zero_of_cmp (w : Ideal .f32) (h : FloatOps.cmpf CmpFPredicate.oeq w (FloatOps.ofBits FTy.f32 0#32) = 1#1) : w = (0 : EReal) := by
  have h0 : (FloatOps.ofBits FTy.f32 0#32 : Ideal .f32) = (0 : EReal) := Ideal.ofBits_zero_f32
  rw [h0] at h
  have h' : BitVec.ofBool (decide ((w : EReal) = 0)) = 1#1 := h
  by_contra hne
  have hd : decide ((w : EReal) = 0) = false := decide_eq_false hne
  rw [hd] at h'
  exact absurd h' (by decide)

variable [Cert.Pre_routed.Facts] {m : (ℓ : Loc nD τ sig) → Buf (Elt Ideal) ℓ} (hm : ∀ c, Routed m c)

/-- A code's product with its scale's and the weight's. -/
def tri (a b w : EReal) : EReal := a * (b * w)

theorem tri_zero (a b : EReal) : tri a b 0 = 0 := by unfold tri; rw [mul_zero, mul_zero]

/-- The result of token `n` at feature `d`. -/
def kv (m : (ℓ : Loc nD τ sig) → Buf (Elt Ideal) ℓ) (c : Dev nD) (n : Fin 32768) (d : Fin 3072) : Ideal .bf16 :=
  refv (m ((c : Thread nD τ).loc main_arg1)) (m ((c : Thread nD τ).loc main_arg4)) (m ((c : Thread nD τ).loc main_arg5)) (m ((c : Thread nD τ).loc main_arg6)) (m ((c : Thread nD τ).loc main_arg7)) n d

include hm in
/-- A route's term is the reference's. -/
theorem trm_val (c : Dev nD) (t : Fin 256) (s : Fin 4) (y : Fin 32) (X1 : S8x128.Idx → Elt Ideal .i32) (X2 : S8x128.Idx → Elt Ideal .f32)
    (hle : ∀ x, (X1 x : BitVec 32).toNat ≤ 102400) (X : S102432x128.Idx → Elt Ideal .f32)
    (hX : Kept (listsOf m c) (m ((c : Thread nD τ).loc main_arg5)) (m ((c : Thread nD τ).loc main_arg6)) ((listsOf m c).P (4 * t.val + s.val + 1)) X)
    (N : Fin 128) (n : Fin 32768) (hn : tokOf t s y = n) (k : Fin 8) (h1 : X1 (ValueIdx.ix2 k N) = m ((c : Thread nD τ).loc main_arg0) (ValueIdx.ix2 k n))
    (h2 : X2 (ValueIdx.ix2 k N) = m ((c : Thread nD τ).loc main_arg1) (ValueIdx.ix2 k n)) (g : Fin 24) (l : Fin 128) (d : Fin 3072) (hd : d.val = 128 * g.val + l.val) :
    trm X1 X2 hle X N g l k
      = tri (m ((c : Thread nD τ).loc main_arg5) (ValueIdx.ix2 (rowOf (m ((c : Thread nD τ).loc main_arg7)) n k) d))
        (m ((c : Thread nD τ).loc main_arg6) (ValueIdx.ix2 (rowOf (m ((c : Thread nD τ).loc main_arg7)) n k) g)) (m ((c : Thread nD τ).loc main_arg1) (ValueIdx.ix2 k n)) := by
  have e : trm X1 X2 hle X N g l k = tri (X (ValueIdx.ix2 (rowIx X1 hle k N g.val (by omega)) l))
      (X (ValueIdx.ix2 (rowIx X1 hle k N 24 le_rfl) ⟨g.val, by omega⟩)) (X2 (ValueIdx.ix2 k N)) := rfl
  rw [e, h2]
  by_cases hw : FloatOps.cmpf (F := Ideal) (φ := .f32) CmpFPredicate.oeq (m ((c : Thread nD τ).loc main_arg1) (ValueIdx.ix2 k n)) (FloatOps.ofBits FTy.f32 0#32) = 1#1
  · have hz : m ((c : Thread nD τ).loc main_arg1) (ValueIdx.ix2 k n) = (0 : EReal) := zero_of_cmp _ hw
    rw [hz]
    exact (tri_zero _ _).trans (tri_zero _ _).symm
  · subst hn
    obtain ⟨hR, hrow⟩ := live_rows hm c k t s y _ _ X hX _ _ rfl rfl hw
    have a1 := (hrow (rowIx X1 hle k N g.val (by omega)) l g.val (by rw [← h1]; rfl)).1 g.isLt
    have a2 := (hrow (rowIx X1 hle k N 24 le_rfl) ⟨g.val, by omega⟩ 24 (by rw [← h1]; rfl)).2 rfl g.isLt
    rw [rowOf_lt _ _ _ _ rfl hR]
    have ed : (⟨128 * g.val + l.val, by omega⟩ : Fin 3072) = d := Fin.ext hd.symm
    rw [ed] at a1
    exact congrArg (fun z => z (m ((c : Thread nD τ).loc main_arg1) (ValueIdx.ix2 k (tokOf t s y)))) (congr (congrArg tri a1) a2)

/-- What a block of the result holds. -/
def aftV (m : (ℓ : Loc nD τ sig) → Buf (Elt Ideal) ℓ) (c : Dev nD) (t : ℕ) (Z : S128x3072.Idx → Elt Ideal .bf16) : Prop :=
  ∀ (n : Fin 128) (d : Fin 3072) (h : 128 * t + n.val < 32768), Z (ValueIdx.ix2 n d) = kv m c ⟨128 * t + n.val, h⟩ d

include hm in
theorem out_val (c : Dev nD) (t : Fin (cfg0 (F := Ideal)).N) (X1 : S8x128.Idx → Elt Ideal .i32) (X2 : S8x128.Idx → Elt Ideal .f32) (hX1) (X7 : S128x3072.Idx → Elt Ideal .bf16) (Y : Fin 4 → S102432x128.Idx → Elt Ideal .f32)
    (A : S3200x128.Idx → Elt Ideal .f32) (O : S128x3072.Idx → Elt Ideal .bf16)
    (h1 : ∀ x, X1 x = VE m c main_arg0 (ValueIdx.ix2 (x 0) (tok t (x 1)))) (h2 : ∀ x, X2 x = VE m c main_arg1 (ValueIdx.ix2 (x 0) (tok t (x 1))))
    (h7 : ∀ x, X7 x = VE m c main_arg4 (ValueIdx.ix2 (tok t (x 0)) (x 1)))
    (hY : ∀ s : Fin 4, Kept (listsOf m c) (m ((c : Thread nD τ).loc main_arg5)) (m ((c : Thread nD τ).loc main_arg6)) ((listsOf m c).P (4 * t.val + s.val + 1)) (Y s)) :
    aftV m c t.val (finX (accF X1 X2 hX1 (Y 0) (Y 1) (Y 2) (Y 3) A) X7 O 8) := by
  intro n d h
  rw [VE_eq m c main_arg0 (by decide)] at h1
  rw [VE_eq m c main_arg1 (by decide)] at h2
  rw [VE_eq m c main_arg4 (by decide)] at h7
  have hle : ∀ x, (X1 x : BitVec 32).toNat ≤ 102400 := fun x => by rw [h1]; exact loc_at hm c _ _
  have ht : t.val < 256 := lt_of_lt_of_eq t.isLt N_0
  rw [finX_at _ _ _ n d 8 le_rfl, if_pos (by omega)]
  unfold fv
  rw [accF_at X1 X2 hX1 hle Y A n ⟨d.val / 128, by omega⟩ ⟨d.val % 128, by omega⟩ ⟨25 * n.val + d.val / 128, by omega⟩ rfl]
  have hk := fun k => trm_val hm c ⟨t.val, ht⟩ ⟨n.val / 32, by omega⟩ ⟨n.val % 32, by omega⟩ X1 X2 hle (Y ⟨n.val / 32, by omega⟩) (hY _) n ⟨128 * t.val + n.val, h⟩
    (Fin.ext (by show (t.val * 4 + n.val / 32) * 32 + n.val % 32 = 128 * t.val + n.val; omega)) k (h1 _) (h2 _) ⟨d.val / 128, by omega⟩ ⟨d.val % 128, by omega⟩ d
    (by show d.val = 128 * (d.val / 128) + d.val % 128; omega)
  have hs := (Fin.sum_univ_eight (fun k => (trm X1 X2 hle (Y ⟨n.val / 32, by omega⟩) n ⟨d.val / 128, by omega⟩ ⟨d.val % 128, by omega⟩ k : EReal))).symm.trans (Finset.sum_congr rfl fun k _ => hk k)
  rw [h7]
  exact congrArg (fun z : EReal => HAdd.hAdd (α := EReal) (m ((c : Thread nD τ).loc main_arg4) (ValueIdx.ix2 (tok t n) d)) z) hs

set_option maxHeartbeats 1000000 in
theorem v2_eq (m : (ℓ : Loc nD τ sig) → Buf (Elt Ideal) ℓ) (c : Dev nD) : VE m c main_v2
    = concatenate S32x3072 0 [⟨S13x3072, extractStridedSlice S13x3072 ![249024, 0] (m ((c : Thread nD τ).loc main_arg5)) Facts₀.slices_S249037x3072_S13x3072_249024_0⟩, ⟨S19x3072, extractStridedSlice S19x3072 ![0, 0] (m ((c : Thread nD τ).loc main_arg5)) Facts₀.slices_S249037x3072_S19x3072_0_0⟩] Facts₀.concatenates_S13x3072_S19x3072_S32x3072_d0 := by
  show StableHlo.after hostOps0 (V₀ m c) (Proc.devRef .tc main_v2) = _
  after_results <;> rfl

theorem v2_at (m : (ℓ : Loc nD τ sig) → Buf (Elt Ideal) ℓ) (c : Dev nD) (a : Fin 32) (d : Fin 3072) (ha : a.val < 13) :
    VE m c main_v2 (ValueIdx.ix2 a d) = m ((c : Thread nD τ).loc main_arg5) (ValueIdx.ix2 ⟨249024 + a.val, by omega⟩ d) := by
  rw [v2_eq]
  refine (concatenate_pair_apply_left (t := S32x3072) (s₁ := S13x3072) (s₂ := S19x3072) 0 _ _ _ _ rfl (ValueIdx.ix2 (⟨a.val, ha⟩ : Fin 13) d) (fun b => by
    match b with
    | ⟨0, _⟩ => rfl
    | ⟨1, _⟩ => rfl)).trans ?_
  refine congrArg (m ((c : Thread nD τ).loc main_arg5)) ?_
  funext b; apply Fin.ext
  match b with
  | ⟨0, _⟩ => show 249024 + a.val = _; rfl
  | ⟨1, _⟩ => show 0 + d.val = d.val; omega

include hm in
theorem hypV : Hyp (VE m) (aftV m) (listsOf m) (fun c D X => Kept (listsOf m c) (m ((c : Thread nD τ).loc main_arg5)) (m ((c : Thread nD τ).loc main_arg6)) D X) :=
  hyp_of hm (fun c X n hn => absurd hn (Nat.not_lt_zero n))
    (fun c C X8 X9 D E hE X hY hSc h8 h9 hD hK => by
      rw [VE_eq m c main_arg5 (by decide)] at hY
      rw [VE_eq m c main_arg6 (by decide)] at hSc h9
      exact kept_step hE (chk8_ok hE) hY hSc (fun a d ha => (h8 _).trans (v2_at m c a d ha)) (fun a d ha => h9 _ ha) hD hK)
    (fun c t X1 X2 hX1 X7 Y0 Y1 Y2 Y3 A O h1 h2 h7 k0 k1 k2 k3 =>
      out_val hm c t X1 X2 hX1 X7 ![Y0, Y1, Y2, Y3] A O h1 h2 h7 (fun s => by
        match s with
        | ⟨0, _⟩ => exact k0
        | ⟨1, _⟩ => exact k1
        | ⟨2, _⟩ => exact k2
        | ⟨3, _⟩ => exact k3))

theorem nonempty_elt (e : EltTy) : Nonempty (Elt Ideal e) := by
  cases e
  iterate 6 exact ⟨(0 : BitVec _)⟩
  iterate 5 exact ⟨(0 : EReal)⟩

theorem covers9 : ((cfg0 (F := Ideal)).win 9).Covers := by decide +kernel

/-- The result's array holds the values. -/
theorem res_val (c : Dev nD) (s : MemSt nD τ sig (Elt Ideal)) (h : QY m (aftV m) (listsOf m) (fun c D X => Kept (listsOf m c) (m ((c : Thread nD τ).loc main_arg5)) (m ((c : Thread nD τ).loc main_arg6)) D X) c s)
    (n : Fin 32768) (d : Fin 3072) : s.mem ((c : Thread nD τ).loc main_v3) (ValueIdx.ix2 n d) = kv m c n d := by
  haveI := nonempty_elt
  obtain ⟨after, hL, hA⟩ := Pipeline.RDat.ArrAt.exists_exact_all h.1
  have hA9 : s.mem ((c : Thread nD τ).loc main_v3) = _ := hA 9
  rw [hA9]
  refine Pipeline.Dat.arrAt_forall_of_covers (cfg := cfg0 (F := Ideal)) (c := c)
    ((rds m (aftV m) (listsOf m) (fun c D X => Kept (listsOf m c) (m ((c : Thread nD τ).loc main_arg5)) (m ((c : Thread nD τ).loc main_arg6)) D X) 0 c).withAfter after) 9 (fun i v => v = kv m c (i 0) (i 1)) covers9 (fun t hf y => ?_) (ValueIdx.ix2 n d)
  obtain ⟨Y, -, hY⟩ := hL 9 t t.isLt hf
  have hY' : aftV m c t.val (after 9 t) := hY
  have ht : t.val < 256 := lt_of_lt_of_eq t.isLt N_0
  have h0 : (y 0).val < 128 := (y 0).isLt
  have h1 : (y 1).val < 3072 := (y 1).isLt
  have hv := hY' ⟨(y 0).val, h0⟩ ⟨(y 1).val, h1⟩ (by show 128 * t.val + (y 0).val < 32768; omega)
  refine Eq.trans ?_ (hv.trans ?_)
  · refine congrArg (after 9 t) (funext fun a => Fin.ext ?_)
    fin_cases a <;> rfl
  · refine congr (congrArg (kv m c) (Fin.ext ?_)) (Fin.ext ?_)
    · show 128 * t.val + (y 0).val = (BitVec.ofNat 32 ((grid0.coords t) 0).val).toNat * 128 + 1 * (y 0).val
      rw [now_word]; show 128 * t.val + (y 0).val = t.val * 128 + 1 * (y 0).val; omega
    · show (y 1).val = 0 * 3072 + 1 * (y 1).val; omega

include hm in
/-- Every run of the kernel leaves those values, and the arguments as they were. -/
theorem run_val (ρ : Dev nD → PrngReg) :
    θ_run (defs (F := Ideal)) (onTc (τ := τ) (main (F := Ideal))) ⟨m, fun _ => 0, ρ⟩ (fun r => ∀ c : Dev nD,
      r.2.mem ((c : Thread nD τ).loc main_v3) = (fun i => kv m c (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run _ _ _).mono (fun r h c => ⟨funext fun i => (congrArg (r.2.mem ((c : Thread nD τ).loc main_v3)) (ValueIdx.eq_ix2 i)).trans (res_val c r.2 (h.1 c) (i 0) (i 1)), args_kept c r.2 (h.1 c)⟩) (run_main ρ (hypV hm))

end Cert.KernelIdeal.M

end
-- ==== Proof.lean ====
module

public import proofs.«01_k».proof.Defs
public import proofs.«01_k».proof.Proof.PreFacts
public import proofs.«01_k».proof.Proof.Gen.ReferenceIdeal
public import proofs.«01_k».proof.Proof.Gen.ReferenceIdeal.Run
public import proofs.«01_k».proof.Proof.K.Frame
public import proofs.«01_k».proof.Proof.KI.Frame
public import proofs.«01_k».proof.Proof.KI.Final
public import proofs.«01_k».proof.Proof.RefVal

@[expose] public section

noncomputable section

namespace Cert.Proof

open Idealize.ShloMosaic Idealize.SL.Sem Cert.Kernel

/-- The kernel's result is the reference's, over the reals. -/
theorem same_result [Cert.Pre_routed.Facts] : Cert.algebraic_KernelIdeal_ReferenceIdeal := fun m g m' g' h ha =>
  ⟨fun c i => Cert.KernelIdeal.M.kv m c (i 0) (i 1), Cert.KernelIdeal.M.run_val h g,
    (θ_run _ _ _).mono (fun r hr c => ⟨by
      obtain ⟨-, h1, -, -, h4, h5, h6, h7⟩ := ha c
      refine funext fun i => (congrArg (r.2.mem ((c.tc : Thread Cert.ReferenceIdeal.nD Cert.ReferenceIdeal.τ).loc Cert.ReferenceIdeal.main_v28)) (ValueIdx.eq_ix2 i)).trans (((hr c).1 (i 0) (i 1)).trans ?_)
      rw [h1, h4, h5, h6, h7]
      rfl, (hr c).2⟩) (Cert.ReferenceIdeal.M.run_val m' g')⟩

/-- The combine's runs, and the runs of its reference. -/
theorem claim : Cert.Claim :=
  ⟨Cert.Kernel.Gen.facts, Cert.KernelIdeal.Gen.facts, Cert.ReferenceIdeal.Gen.facts, Cert.Pre_routed.M.facts,
    fun m g h => Cert.Kernel.M.frame h g, fun m g h => Cert.KernelIdeal.M.frame h g,
    fun m g _ => Cert.ReferenceIdeal.Gen.frame m g, fun m g _ => Cert.ReferenceIdeal.Gen.frame m g, trivial,
    @same_result Cert.Pre_routed.M.facts⟩

end Cert.Proof

end
